-- ==== Defs.lean ====
def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernelIdeal : Cert.KernelIdeal.Facts) (hReferenceIdeal : Cert.ReferenceIdeal.Facts) (hPre_pre : Cert.Pre_pre.Facts),
    quiescent_KernelIdeal (hKernelIdeal := hKernelIdeal) (hPre_pre := hPre_pre)
    ∧ quiescent_ReferenceIdeal (hReferenceIdeal := hReferenceIdeal) (hPre_pre := hPre_pre)
    ∧ algebraic_KernelIdeal_ReferenceIdeal (hKernelIdeal := hKernelIdeal) (hReferenceIdeal := hReferenceIdeal) (hPre_pre := hPre_pre)
-- ==== Pre_pre.lean ====
abbrev S320x128 : Shape := ⟨2, ![320, 128]⟩
abbrev S1x1 : Shape := ⟨2, ![1, 1]⟩
abbrev S40960x1536 : Shape := ⟨2, ![40960, 1536]⟩
abbrev S1536x8960 : Shape := ⟨2, ![1536, 8960]⟩
abbrev S_ : Shape := ⟨0, ![]⟩

class Facts : Prop where
  bcast_S_S320x128 : S_.BroadcastsInDim S320x128 (![] : Fin 0 → Fin S320x128.rank)
  reducesTo_S320x128_S_d0_1 : S320x128.ReducesTo [0, 1] S_
  h_S_ : 0 < S_.numel

variable [Facts]

def fn {F : FTy → Type} [FloatOps F] (main_arg0 : FVec F S320x128 .f32) (main_arg1 : FVec F S1x1 .f32) (main_arg2 : FVec F S40960x1536 .bf16) (main_arg3 : FVec F S1536x8960 .fp8e4m3) : IVec S_ 1 :=
  let main_cst : FVec F S_ .f32 := constant S_ .f32 0x00000000#32
  let main_v0 : FVec F S320x128 .f32 := broadcastInDim S320x128 ![] bcast_S_S320x128 main_cst
  let main_v1 : IVec S320x128 1 := cmpf .oge main_arg0 main_v0
  let main_c : IVec S_ 1 := constantI S_ 1 1#1
  let main_v2 : IVec S_ 1 := (fun x v => Host.reduce IntOp.andi x v reducesTo_S320x128_S_d0_1 h_S_) main_v1 main_c
  main_v2
-- ==== KernelIdeal.lean ====
abbrev S320x128 : Shape := ⟨2, ![320, 128]⟩
abbrev S1x1 : Shape := ⟨2, ![1, 1]⟩
abbrev S40960x1536 : Shape := ⟨2, ![40960, 1536]⟩
abbrev S1536x8960 : Shape := ⟨2, ![1536, 8960]⟩
abbrev S40960x8960 : Shape := ⟨2, ![40960, 8960]⟩
abbrev S2x1024x1536 : Shape := ⟨3, ![2, 1024, 1536]⟩
abbrev S2x1024x8960 : Shape := ⟨3, ![2, 1024, 8960]⟩
abbrev S8x128 : Shape := ⟨2, ![8, 128]⟩
abbrev S40 : Shape := ⟨1, ![40]⟩
abbrev S_ : Shape := ⟨0, ![]⟩
abbrev S2 : Shape := ⟨1, ![2]⟩
abbrev S320 : Shape := ⟨1, ![320]⟩
abbrev S320x1 : Shape := ⟨2, ![320, 1]⟩
abbrev S1 : Shape := ⟨1, ![1]⟩
abbrev S2x128 : Shape := ⟨2, ![2, 128]⟩
abbrev S2x1 : Shape := ⟨2, ![2, 1]⟩
abbrev S1x1x1 : Shape := ⟨3, ![1, 1, 1]⟩
abbrev S128 : Shape := ⟨1, ![128]⟩
abbrev S1x128 : Shape := ⟨2, ![1, 128]⟩
abbrev S1x128x1536 : Shape := ⟨3, ![1, 128, 1536]⟩
abbrev S128x1536 : Shape := ⟨2, ![128, 1536]⟩
abbrev S1x32x1536 : Shape := ⟨3, ![1, 32, 1536]⟩
abbrev S32x1536 : Shape := ⟨2, ![32, 1536]⟩
abbrev S128x8960 : Shape := ⟨2, ![128, 8960]⟩
abbrev S1x128x8960 : Shape := ⟨3, ![1, 128, 8960]⟩
abbrev S8 : Shape := ⟨1, ![8]⟩
abbrev S8x1 : Shape := ⟨2, ![8, 1]⟩
abbrev S1x1024x1536 : Shape := ⟨3, ![1, 1024, 1536]⟩
abbrev S1024x1536 : Shape := ⟨2, ![1024, 1536]⟩
abbrev S1536x256 : Shape := ⟨2, ![1536, 256]⟩
abbrev S1024x256 : Shape := ⟨2, ![1024, 256]⟩
abbrev S128x8x256 : Shape := ⟨3, ![128, 8, 256]⟩
abbrev S8x256 : Shape := ⟨2, ![8, 256]⟩
abbrev S1x1024x256 : Shape := ⟨3, ![1, 1024, 256]⟩

abbrev nBuf : Space → Nat
  | .hbm => 9
  | .vmem => 7
  | .smem => 7
  | _ => 0

abbrev bufTy : (tb : Table) → Fin (tcTables nBuf tb) → BufTy
  | .hbm, ⟨0, _⟩ => ⟨S320x128, .f32⟩
  | .hbm, ⟨1, _⟩ => ⟨S1x1, .f32⟩
  | .hbm, ⟨2, _⟩ => ⟨S40960x1536, .bf16⟩
  | .hbm, ⟨3, _⟩ => ⟨S1536x8960, .fp8e4m3⟩
  | .hbm, ⟨4, _⟩ => ⟨S40960x8960, .fp8e4m3⟩
  | .hbm, ⟨5, _⟩ => ⟨S40960x1536, .fp8e4m3⟩
  | .hbm, ⟨6, _⟩ => ⟨S1x1, .f32⟩
  | .hbm, ⟨7, _⟩ => ⟨S1x1, .f32⟩
  | .hbm, ⟨8, _⟩ => ⟨S1x1, .f32⟩
  | .local _ .vmem, ⟨0, _⟩ => ⟨S320x128, .f32⟩
  | .local _ .vmem, ⟨1, _⟩ => ⟨S1536x8960, .fp8e4m3⟩
  | .local _ .vmem, ⟨2, _⟩ => ⟨S2x1024x1536, .bf16⟩
  | .local _ .vmem, ⟨3, _⟩ => ⟨S2x1024x1536, .fp8e4m3⟩
  | .local _ .vmem, ⟨4, _⟩ => ⟨S2x1024x8960, .fp8e4m3⟩
  | .local _ .vmem, ⟨5, _⟩ => ⟨S8x128, .f32⟩
  | .local _ .vmem, ⟨6, _⟩ => ⟨S8x128, .i32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S8x128, .i32⟩
  | .local _ .smem, ⟨5, _⟩ => ⟨S40, .i32⟩
  | .local _ .smem, ⟨6, _⟩ => ⟨S40, .i32⟩
  | _, _ => ⟨S320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_stg1_0 : Ref sig .tc := ⟨.smem, 0, rfl⟩
abbrev cc0_stg2_0 : Ref sig .tc := ⟨.smem, 1, rfl⟩
abbrev cc0_stg3_0 : Ref sig .tc := ⟨.smem, 2, rfl⟩
abbrev cc0_stg4_0 : Ref sig .tc := ⟨.smem, 3, rfl⟩
abbrev cc0_scratch6 : Ref sig .tc := ⟨.smem, 4, rfl⟩
abbrev cc0_scratch7 : Ref sig .tc := ⟨.smem, 5, rfl⟩
abbrev cc0_scratch8 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32_57 : BitVec 32 := 0#32
  let c2_i32_58 : BitVec 32 := 2#32
  let v200 : BitVec 32 := Scalar.addi c0_i32_57 c2_i32_58
  let c1_i32_59 : BitVec 32 := 1#32
  ⟨c0_i32_57, v200, c1_i32_59⟩
def k0_off1 (v270 : BitVec 32) : Fin 2 → Nat :=
  let c8_i32_100 : BitVec 32 := 8#32
  let v271 : BitVec 32 := Scalar.muli v270 c8_i32_100
  let c0_i32_101 : BitVec 32 := 0#32
  let v272 : BitVec 32 := Scalar.addi v271 c0_i32_101
  let c7_i32_102 : BitVec 32 := 7#32
  let v273 : BitVec 32 := Scalar.shrui v272 c7_i32_102
  let v275 : Index := Scalar.indexCast v273
  let c127_i32_103 : BitVec 32 := 127#32
  let v274 : BitVec 32 := Scalar.andi v272 c127_i32_103
  let v276 : Index := Scalar.indexCast v274
  ![v275.toNat, v276.toNat]
def k0_cond1 (arg24 : BitVec 32) : BitVec 1 :=
  let c0_i32_60 : BitVec 32 := 0#32
  let v202 : BitVec 1 := Scalar.cmpi .sgt arg24 c0_i32_60
  let v203 : BitVec 32 := Scalar.extui v202
  let c0_i32_61 : BitVec 32 := 0#32
  let v204 : BitVec 1 := Scalar.cmpi .ne v203 c0_i32_61
  v204

def k0_chk1 (arg24 : BitVec 32) (v270 : BitVec 32) : Prop :=
  (∀ (k0_h1 : k0_cond1 arg24 = 1#1), ∀ a, (k0_off1 v270) a + S1x1.size a ≤ S8x128.size a)
theorem k0_off1_inb : ∀ (arg24 : BitVec 32) (v270 : BitVec 32) (k0_hw1 : k0_chk1 arg24 v270), ∀ (k0_h1 : k0_cond1 arg24 = 1#1), ∀ a, (k0_off1 v270) a + S1x1.size a ≤ S8x128.size a := fun arg24 v270 k0_hw1 k0_h1 => k0_hw1 k0_h1

def k0_off2 (v277 : BitVec 32) : Fin 2 → Nat :=
  let c128_i32_104 : BitVec 32 := 128#32
  let v278 : BitVec 32 := Scalar.muli v277 c128_i32_104
  let c0_i32_109 : BitVec 32 := 0#32
  ![v278.toNat, 0]

def k0_chk2 (arg24 : BitVec 32) (v277 : BitVec 32) : Prop :=
  (∀ (k0_h1 : k0_cond1 arg24 = 1#1), ∀ a, (k0_off2 v277) a + S128x1536.size a ≤ S40960x1536.size a) ∧
  (∀ (k0_h1 : k0_cond1 arg24 = 1#1), ∀ (hinb : ∀ a, (k0_off2 v277) a + S128x1536.size a ≤ S40960x1536.size a), (Rect.unit (s := S40960x1536) (k0_off2 v277) S128x1536.size hinb).WholeWords (EltTy.packing .bf16))
theorem k0_off2_inb : ∀ (arg24 : BitVec 32) (v277 : BitVec 32) (k0_hw2 : k0_chk2 arg24 v277), ∀ (k0_h1 : k0_cond1 arg24 = 1#1), ∀ a, (k0_off2 v277) a + S128x1536.size a ≤ S40960x1536.size a := fun arg24 v277 k0_hw2 k0_h1 => k0_hw2.1 k0_h1
theorem k0_off2_wordsbf16 : ∀ (arg24 : BitVec 32) (v277 : BitVec 32) (k0_hw2 : k0_chk2 arg24 v277), ∀ (k0_h1 : k0_cond1 arg24 = 1#1), (Rect.unit (s := S40960x1536) (k0_off2 v277) S128x1536.size (k0_off2_inb arg24 v277 k0_hw2 k0_h1)).WholeWords (EltTy.packing .bf16) := fun arg24 v277 k0_hw2 k0_h1 => k0_hw2.2 k0_h1 (k0_off2_inb arg24 v277 k0_hw2 k0_h1)

def k0_off3 (v284 : BitVec 32) : Fin 2 → Nat :=
  let c8_i32_111 : BitVec 32 := 8#32
  let v285 : BitVec 32 := Scalar.muli v284 c8_i32_111
  let c1_i32_112 : BitVec 32 := 1#32
  let v286 : BitVec 32 := Scalar.addi v285 c1_i32_112
  let c7_i32_113 : BitVec 32 := 7#32
  let v287 : BitVec 32 := Scalar.shrui v286 c7_i32_113
  let v289 : Index := Scalar.indexCast v287
  let c127_i32_114 : BitVec 32 := 127#32
  let v288 : BitVec 32 := Scalar.andi v286 c127_i32_114
  let v290 : Index := Scalar.indexCast v288
  ![v289.toNat, v290.toNat]

def k0_chk3 (arg24 : BitVec 32) (v284 : BitVec 32) : Prop :=
  (∀ (k0_h1 : k0_cond1 arg24 = 1#1), ∀ a, (k0_off3 v284) a + S1x1.size a ≤ S8x128.size a)
theorem k0_off3_inb : ∀ (arg24 : BitVec 32) (v284 : BitVec 32) (k0_hw3 : k0_chk3 arg24 v284), ∀ (k0_h1 : k0_cond1 arg24 = 1#1), ∀ a, (k0_off3 v284) a + S1x1.size a ≤ S8x128.size a := fun arg24 v284 k0_hw3 k0_h1 => k0_hw3 k0_h1

def k0_off4 (v291 : BitVec 32) : Fin 2 → Nat :=
  let c128_i32_115 : BitVec 32 := 128#32
  let v292 : BitVec 32 := Scalar.muli v291 c128_i32_115
  let c0_i32_120 : BitVec 32 := 0#32
  ![v292.toNat, 0]

def k0_chk4 (arg24 : BitVec 32) (v291 : BitVec 32) : Prop :=
  (∀ (k0_h1 : k0_cond1 arg24 = 1#1), ∀ a, (k0_off4 v291) a + S128x1536.size a ≤ S40960x1536.size a) ∧
  (∀ (k0_h1 : k0_cond1 arg24 = 1#1), ∀ (hinb : ∀ a, (k0_off4 v291) a + S128x1536.size a ≤ S40960x1536.size a), (Rect.unit (s := S40960x1536) (k0_off4 v291) S128x1536.size hinb).WholeWords (EltTy.packing .bf16))
theorem k0_off4_inb : ∀ (arg24 : BitVec 32) (v291 : BitVec 32) (k0_hw4 : k0_chk4 arg24 v291), ∀ (k0_h1 : k0_cond1 arg24 = 1#1), ∀ a, (k0_off4 v291) a + S128x1536.size a ≤ S40960x1536.size a := fun arg24 v291 k0_hw4 k0_h1 => k0_hw4.1 k0_h1
theorem k0_off4_wordsbf16 : ∀ (arg24 : BitVec 32) (v291 : BitVec 32) (k0_hw4 : k0_chk4 arg24 v291), ∀ (k0_h1 : k0_cond1 arg24 = 1#1), (Rect.unit (s := S40960x1536) (k0_off4 v291) S128x1536.size (k0_off4_inb arg24 v291 k0_hw4 k0_h1)).WholeWords (EltTy.packing .bf16) := fun arg24 v291 k0_hw4 k0_h1 => k0_hw4.2 k0_h1 (k0_off4_inb arg24 v291 k0_hw4 k0_h1)

def k0_off5 (v298 : BitVec 32) : Fin 2 → Nat :=
  let c8_i32_122 : BitVec 32 := 8#32
  let v299 : BitVec 32 := Scalar.muli v298 c8_i32_122
  let c2_i32_123 : BitVec 32 := 2#32
  let v300 : BitVec 32 := Scalar.addi v299 c2_i32_123
  let c7_i32_124 : BitVec 32 := 7#32
  let v301 : BitVec 32 := Scalar.shrui v300 c7_i32_124
  let v303 : Index := Scalar.indexCast v301
  let c127_i32_125 : BitVec 32 := 127#32
  let v302 : BitVec 32 := Scalar.andi v300 c127_i32_125
  let v304 : Index := Scalar.indexCast v302
  ![v303.toNat, v304.toNat]

def k0_chk5 (arg24 : BitVec 32) (v298 : BitVec 32) : Prop :=
  (∀ (k0_h1 : k0_cond1 arg24 = 1#1), ∀ a, (k0_off5 v298) a + S1x1.size a ≤ S8x128.size a)
theorem k0_off5_inb : ∀ (arg24 : BitVec 32) (v298 : BitVec 32) (k0_hw5 : k0_chk5 arg24 v298), ∀ (k0_h1 : k0_cond1 arg24 = 1#1), ∀ a, (k0_off5 v298) a + S1x1.size a ≤ S8x128.size a := fun arg24 v298 k0_hw5 k0_h1 => k0_hw5 k0_h1

def k0_off6 (v305 : BitVec 32) : Fin 2 → Nat :=
  let c128_i32_126 : BitVec 32 := 128#32
  let v306 : BitVec 32 := Scalar.muli v305 c128_i32_126
  let c0_i32_131 : BitVec 32 := 0#32
  ![v306.toNat, 0]

def k0_chk6 (arg24 : BitVec 32) (v305 : BitVec 32) : Prop :=
  (∀ (k0_h1 : k0_cond1 arg24 = 1#1), ∀ a, (k0_off6 v305) a + S128x1536.size a ≤ S40960x1536.size a) ∧
  (∀ (k0_h1 : k0_cond1 arg24 = 1#1), ∀ (hinb : ∀ a, (k0_off6 v305) a + S128x1536.size a ≤ S40960x1536.size a), (Rect.unit (s := S40960x1536) (k0_off6 v305) S128x1536.size hinb).WholeWords (EltTy.packing .bf16))
theorem k0_off6_inb : ∀ (arg24 : BitVec 32) (v305 : BitVec 32) (k0_hw6 : k0_chk6 arg24 v305), ∀ (k0_h1 : k0_cond1 arg24 = 1#1), ∀ a, (k0_off6 v305) a + S128x1536.size a ≤ S40960x1536.size a := fun arg24 v305 k0_hw6 k0_h1 => k0_hw6.1 k0_h1
theorem k0_off6_wordsbf16 : ∀ (arg24 : BitVec 32) (v305 : BitVec 32) (k0_hw6 : k0_chk6 arg24 v305), ∀ (k0_h1 : k0_cond1 arg24 = 1#1), (Rect.unit (s := S40960x1536) (k0_off6 v305) S128x1536.size (k0_off6_inb arg24 v305 k0_hw6 k0_h1)).WholeWords (EltTy.packing .bf16) := fun arg24 v305 k0_hw6 k0_h1 => k0_hw6.2 k0_h1 (k0_off6_inb arg24 v305 k0_hw6 k0_h1)

def k0_off7 (v312 : BitVec 32) : Fin 2 → Nat :=
  let c8_i32_133 : BitVec 32 := 8#32
  let v313 : BitVec 32 := Scalar.muli v312 c8_i32_133
  let c3_i32_134 : BitVec 32 := 3#32
  let v314 : BitVec 32 := Scalar.addi v313 c3_i32_134
  let c7_i32_135 : BitVec 32 := 7#32
  let v315 : BitVec 32 := Scalar.shrui v314 c7_i32_135
  let v317 : Index := Scalar.indexCast v315
  let c127_i32_136 : BitVec 32 := 127#32
  let v316 : BitVec 32 := Scalar.andi v314 c127_i32_136
  let v318 : Index := Scalar.indexCast v316
  ![v317.toNat, v318.toNat]

def k0_chk7 (arg24 : BitVec 32) (v312 : BitVec 32) : Prop :=
  (∀ (k0_h1 : k0_cond1 arg24 = 1#1), ∀ a, (k0_off7 v312) a + S1x1.size a ≤ S8x128.size a)
theorem k0_off7_inb : ∀ (arg24 : BitVec 32) (v312 : BitVec 32) (k0_hw7 : k0_chk7 arg24 v312), ∀ (k0_h1 : k0_cond1 arg24 = 1#1), ∀ a, (k0_off7 v312) a + S1x1.size a ≤ S8x128.size a := fun arg24 v312 k0_hw7 k0_h1 => k0_hw7 k0_h1

def k0_off8 (v319 : BitVec 32) : Fin 2 → Nat :=
  let c128_i32_137 : BitVec 32 := 128#32
  let v320 : BitVec 32 := Scalar.muli v319 c128_i32_137
  let c0_i32_141 : BitVec 32 := 0#32
  ![v320.toNat, 0]

def k0_chk8 (arg24 : BitVec 32) (v319 : BitVec 32) : Prop :=
  (∀ (k0_h1 : k0_cond1 arg24 = 1#1), ∀ a, (k0_off8 v319) a + S128x1536.size a ≤ S40960x1536.size a) ∧
  (∀ (k0_h1 : k0_cond1 arg24 = 1#1), ∀ (hinb : ∀ a, (k0_off8 v319) a + S128x1536.size a ≤ S40960x1536.size a), (Rect.unit (s := S40960x1536) (k0_off8 v319) S128x1536.size hinb).WholeWords (EltTy.packing .bf16))
theorem k0_off8_inb : ∀ (arg24 : BitVec 32) (v319 : BitVec 32) (k0_hw8 : k0_chk8 arg24 v319), ∀ (k0_h1 : k0_cond1 arg24 = 1#1), ∀ a, (k0_off8 v319) a + S128x1536.size a ≤ S40960x1536.size a := fun arg24 v319 k0_hw8 k0_h1 => k0_hw8.1 k0_h1
theorem k0_off8_wordsbf16 : ∀ (arg24 : BitVec 32) (v319 : BitVec 32) (k0_hw8 : k0_chk8 arg24 v319), ∀ (k0_h1 : k0_cond1 arg24 = 1#1), (Rect.unit (s := S40960x1536) (k0_off8 v319) S128x1536.size (k0_off8_inb arg24 v319 k0_hw8 k0_h1)).WholeWords (EltTy.packing .bf16) := fun arg24 v319 k0_hw8 k0_h1 => k0_hw8.2 k0_h1 (k0_off8_inb arg24 v319 k0_hw8 k0_h1)

def k0_off9 (v326 : BitVec 32) : Fin 2 → Nat :=
  let c8_i32_143 : BitVec 32 := 8#32
  let v327 : BitVec 32 := Scalar.muli v326 c8_i32_143
  let c4_i32_144 : BitVec 32 := 4#32
  let v328 : BitVec 32 := Scalar.addi v327 c4_i32_144
  let c7_i32_145 : BitVec 32 := 7#32
  let v329 : BitVec 32 := Scalar.shrui v328 c7_i32_145
  let v331 : Index := Scalar.indexCast v329
  let c127_i32_146 : BitVec 32 := 127#32
  let v330 : BitVec 32 := Scalar.andi v328 c127_i32_146
  let v332 : Index := Scalar.indexCast v330
  ![v331.toNat, v332.toNat]

def k0_chk9 (arg24 : BitVec 32) (v326 : BitVec 32) : Prop :=
  (∀ (k0_h1 : k0_cond1 arg24 = 1#1), ∀ a, (k0_off9 v326) a + S1x1.size a ≤ S8x128.size a)
theorem k0_off9_inb : ∀ (arg24 : BitVec 32) (v326 : BitVec 32) (k0_hw9 : k0_chk9 arg24 v326), ∀ (k0_h1 : k0_cond1 arg24 = 1#1), ∀ a, (k0_off9 v326) a + S1x1.size a ≤ S8x128.size a := fun arg24 v326 k0_hw9 k0_h1 => k0_hw9 k0_h1

def k0_off10 (v333 : BitVec 32) : Fin 2 → Nat :=
  let c128_i32_147 : BitVec 32 := 128#32
  let v334 : BitVec 32 := Scalar.muli v333 c128_i32_147
  let c0_i32_151 : BitVec 32 := 0#32
  ![v334.toNat, 0]

def k0_chk10 (arg24 : BitVec 32) (v333 : BitVec 32) : Prop :=
  (∀ (k0_h1 : k0_cond1 arg24 = 1#1), ∀ a, (k0_off10 v333) a + S128x1536.size a ≤ S40960x1536.size a) ∧
  (∀ (k0_h1 : k0_cond1 arg24 = 1#1), ∀ (hinb : ∀ a, (k0_off10 v333) a + S128x1536.size a ≤ S40960x1536.size a), (Rect.unit (s := S40960x1536) (k0_off10 v333) S128x1536.size hinb).WholeWords (EltTy.packing .bf16))
theorem k0_off10_inb : ∀ (arg24 : BitVec 32) (v333 : BitVec 32) (k0_hw10 : k0_chk10 arg24 v333), ∀ (k0_h1 : k0_cond1 arg24 = 1#1), ∀ a, (k0_off10 v333) a + S128x1536.size a ≤ S40960x1536.size a := fun arg24 v333 k0_hw10 k0_h1 => k0_hw10.1 k0_h1
theorem k0_off10_wordsbf16 : ∀ (arg24 : BitVec 32) (v333 : BitVec 32) (k0_hw10 : k0_chk10 arg24 v333), ∀ (k0_h1 : k0_cond1 arg24 = 1#1), (Rect.unit (s := S40960x1536) (k0_off10 v333) S128x1536.size (k0_off10_inb arg24 v333 k0_hw10 k0_h1)).WholeWords (EltTy.packing .bf16) := fun arg24 v333 k0_hw10 k0_h1 => k0_hw10.2 k0_h1 (k0_off10_inb arg24 v333 k0_hw10 k0_h1)

def k0_off11 (v340 : BitVec 32) : Fin 2 → Nat :=
  let c8_i32_153 : BitVec 32 := 8#32
  let v341 : BitVec 32 := Scalar.muli v340 c8_i32_153
  let c5_i32_154 : BitVec 32 := 5#32
  let v342 : BitVec 32 := Scalar.addi v341 c5_i32_154
  let c7_i32_155 : BitVec 32 := 7#32
  let v343 : BitVec 32 := Scalar.shrui v342 c7_i32_155
  let v345 : Index := Scalar.indexCast v343
  let c127_i32_156 : BitVec 32 := 127#32
  let v344 : BitVec 32 := Scalar.andi v342 c127_i32_156
  let v346 : Index := Scalar.indexCast v344
  ![v345.toNat, v346.toNat]

def k0_chk11 (arg24 : BitVec 32) (v340 : BitVec 32) : Prop :=
  (∀ (k0_h1 : k0_cond1 arg24 = 1#1), ∀ a, (k0_off11 v340) a + S1x1.size a ≤ S8x128.size a)
theorem k0_off11_inb : ∀ (arg24 : BitVec 32) (v340 : BitVec 32) (k0_hw11 : k0_chk11 arg24 v340), ∀ (k0_h1 : k0_cond1 arg24 = 1#1), ∀ a, (k0_off11 v340) a + S1x1.size a ≤ S8x128.size a := fun arg24 v340 k0_hw11 k0_h1 => k0_hw11 k0_h1

def k0_off12 (v347 : BitVec 32) : Fin 2 → Nat :=
  let c128_i32_157 : BitVec 32 := 128#32
  let v348 : BitVec 32 := Scalar.muli v347 c128_i32_157
  let c0_i32_161 : BitVec 32 := 0#32
  ![v348.toNat, 0]

def k0_chk12 (arg24 : BitVec 32) (v347 : BitVec 32) : Prop :=
  (∀ (k0_h1 : k0_cond1 arg24 = 1#1), ∀ a, (k0_off12 v347) a + S128x1536.size a ≤ S40960x1536.size a) ∧
  (∀ (k0_h1 : k0_cond1 arg24 = 1#1), ∀ (hinb : ∀ a, (k0_off12 v347) a + S128x1536.size a ≤ S40960x1536.size a), (Rect.unit (s := S40960x1536) (k0_off12 v347) S128x1536.size hinb).WholeWords (EltTy.packing .bf16))
theorem k0_off12_inb : ∀ (arg24 : BitVec 32) (v347 : BitVec 32) (k0_hw12 : k0_chk12 arg24 v347), ∀ (k0_h1 : k0_cond1 arg24 = 1#1), ∀ a, (k0_off12 v347) a + S128x1536.size a ≤ S40960x1536.size a := fun arg24 v347 k0_hw12 k0_h1 => k0_hw12.1 k0_h1
theorem k0_off12_wordsbf16 : ∀ (arg24 : BitVec 32) (v347 : BitVec 32) (k0_hw12 : k0_chk12 arg24 v347), ∀ (k0_h1 : k0_cond1 arg24 = 1#1), (Rect.unit (s := S40960x1536) (k0_off12 v347) S128x1536.size (k0_off12_inb arg24 v347 k0_hw12 k0_h1)).WholeWords (EltTy.packing .bf16) := fun arg24 v347 k0_hw12 k0_h1 => k0_hw12.2 k0_h1 (k0_off12_inb arg24 v347 k0_hw12 k0_h1)

def k0_off13 (v354 : BitVec 32) : Fin 2 → Nat :=
  let c8_i32_163 : BitVec 32 := 8#32
  let v355 : BitVec 32 := Scalar.muli v354 c8_i32_163
  let c6_i32_164 : BitVec 32 := 6#32
  let v356 : BitVec 32 := Scalar.addi v355 c6_i32_164
  let c7_i32_165 : BitVec 32 := 7#32
  let v357 : BitVec 32 := Scalar.shrui v356 c7_i32_165
  let v359 : Index := Scalar.indexCast v357
  let c127_i32_166 : BitVec 32 := 127#32
  let v358 : BitVec 32 := Scalar.andi v356 c127_i32_166
  let v360 : Index := Scalar.indexCast v358
  ![v359.toNat, v360.toNat]

def k0_chk13 (arg24 : BitVec 32) (v354 : BitVec 32) : Prop :=
  (∀ (k0_h1 : k0_cond1 arg24 = 1#1), ∀ a, (k0_off13 v354) a + S1x1.size a ≤ S8x128.size a)
theorem k0_off13_inb : ∀ (arg24 : BitVec 32) (v354 : BitVec 32) (k0_hw13 : k0_chk13 arg24 v354), ∀ (k0_h1 : k0_cond1 arg24 = 1#1), ∀ a, (k0_off13 v354) a + S1x1.size a ≤ S8x128.size a := fun arg24 v354 k0_hw13 k0_h1 => k0_hw13 k0_h1

def k0_off14 (v361 : BitVec 32) : Fin 2 → Nat :=
  let c128_i32_167 : BitVec 32 := 128#32
  let v362 : BitVec 32 := Scalar.muli v361 c128_i32_167
  let c0_i32_171 : BitVec 32 := 0#32
  ![v362.toNat, 0]

def k0_chk14 (arg24 : BitVec 32) (v361 : BitVec 32) : Prop :=
  (∀ (k0_h1 : k0_cond1 arg24 = 1#1), ∀ a, (k0_off14 v361) a + S128x1536.size a ≤ S40960x1536.size a) ∧
  (∀ (k0_h1 : k0_cond1 arg24 = 1#1), ∀ (hinb : ∀ a, (k0_off14 v361) a + S128x1536.size a ≤ S40960x1536.size a), (Rect.unit (s := S40960x1536) (k0_off14 v361) S128x1536.size hinb).WholeWords (EltTy.packing .bf16))
theorem k0_off14_inb : ∀ (arg24 : BitVec 32) (v361 : BitVec 32) (k0_hw14 : k0_chk14 arg24 v361), ∀ (k0_h1 : k0_cond1 arg24 = 1#1), ∀ a, (k0_off14 v361) a + S128x1536.size a ≤ S40960x1536.size a := fun arg24 v361 k0_hw14 k0_h1 => k0_hw14.1 k0_h1
theorem k0_off14_wordsbf16 : ∀ (arg24 : BitVec 32) (v361 : BitVec 32) (k0_hw14 : k0_chk14 arg24 v361), ∀ (k0_h1 : k0_cond1 arg24 = 1#1), (Rect.unit (s := S40960x1536) (k0_off14 v361) S128x1536.size (k0_off14_inb arg24 v361 k0_hw14 k0_h1)).WholeWords (EltTy.packing .bf16) := fun arg24 v361 k0_hw14 k0_h1 => k0_hw14.2 k0_h1 (k0_off14_inb arg24 v361 k0_hw14 k0_h1)

def k0_off15 (v368 : BitVec 32) : Fin 2 → Nat :=
  let c8_i32_173 : BitVec 32 := 8#32
  let v369 : BitVec 32 := Scalar.muli v368 c8_i32_173
  let c7_i32_174 : BitVec 32 := 7#32
  let v370 : BitVec 32 := Scalar.addi v369 c7_i32_174
  let c7_i32_175 : BitVec 32 := 7#32
  let v371 : BitVec 32 := Scalar.shrui v370 c7_i32_175
  let v373 : Index := Scalar.indexCast v371
  let c127_i32_176 : BitVec 32 := 127#32
  let v372 : BitVec 32 := Scalar.andi v370 c127_i32_176
  let v374 : Index := Scalar.indexCast v372
  ![v373.toNat, v374.toNat]

def k0_chk15 (arg24 : BitVec 32) (v368 : BitVec 32) : Prop :=
  (∀ (k0_h1 : k0_cond1 arg24 = 1#1), ∀ a, (k0_off15 v368) a + S1x1.size a ≤ S8x128.size a)
theorem k0_off15_inb : ∀ (arg24 : BitVec 32) (v368 : BitVec 32) (k0_hw15 : k0_chk15 arg24 v368), ∀ (k0_h1 : k0_cond1 arg24 = 1#1), ∀ a, (k0_off15 v368) a + S1x1.size a ≤ S8x128.size a := fun arg24 v368 k0_hw15 k0_h1 => k0_hw15 k0_h1

def k0_off16 (v375 : BitVec 32) : Fin 2 → Nat :=
  let c128_i32_177 : BitVec 32 := 128#32
  let v376 : BitVec 32 := Scalar.muli v375 c128_i32_177
  let c0_i32_181 : BitVec 32 := 0#32
  ![v376.toNat, 0]

def k0_chk16 (arg24 : BitVec 32) (v375 : BitVec 32) : Prop :=
  (∀ (k0_h1 : k0_cond1 arg24 = 1#1), ∀ a, (k0_off16 v375) a + S128x1536.size a ≤ S40960x1536.size a) ∧
  (∀ (k0_h1 : k0_cond1 arg24 = 1#1), ∀ (hinb : ∀ a, (k0_off16 v375) a + S128x1536.size a ≤ S40960x1536.size a), (Rect.unit (s := S40960x1536) (k0_off16 v375) S128x1536.size hinb).WholeWords (EltTy.packing .bf16))
theorem k0_off16_inb : ∀ (arg24 : BitVec 32) (v375 : BitVec 32) (k0_hw16 : k0_chk16 arg24 v375), ∀ (k0_h1 : k0_cond1 arg24 = 1#1), ∀ a, (k0_off16 v375) a + S128x1536.size a ≤ S40960x1536.size a := fun arg24 v375 k0_hw16 k0_h1 => k0_hw16.1 k0_h1
theorem k0_off16_wordsbf16 : ∀ (arg24 : BitVec 32) (v375 : BitVec 32) (k0_hw16 : k0_chk16 arg24 v375), ∀ (k0_h1 : k0_cond1 arg24 = 1#1), (Rect.unit (s := S40960x1536) (k0_off16 v375) S128x1536.size (k0_off16_inb arg24 v375 k0_hw16 k0_h1)).WholeWords (EltTy.packing .bf16) := fun arg24 v375 k0_hw16 k0_h1 => k0_hw16.2 k0_h1 (k0_off16_inb arg24 v375 k0_hw16 k0_h1)

def k0_off17 (v945 : BitVec 32) : Fin 2 → Nat :=
  let c8_i32_499 : BitVec 32 := 8#32
  let v946 : BitVec 32 := Scalar.muli v945 c8_i32_499
  let c0_i32_500 : BitVec 32 := 0#32
  let v947 : BitVec 32 := Scalar.addi v946 c0_i32_500
  let c7_i32_501 : BitVec 32 := 7#32
  let v948 : BitVec 32 := Scalar.shrui v947 c7_i32_501
  let v950 : Index := Scalar.indexCast v948
  let c127_i32_502 : BitVec 32 := 127#32
  let v949 : BitVec 32 := Scalar.andi v947 c127_i32_502
  let v951 : Index := Scalar.indexCast v949
  ![v950.toNat, v951.toNat]
def k0_cond2 (arg24 : BitVec 32) : BitVec 1 :=
  let c1_i32_182 : BitVec 32 := 1#32
  let v382 : BitVec 1 := Scalar.cmpi .sgt arg24 c1_i32_182
  let v383 : BitVec 32 := Scalar.extui v382
  let c0_i32_183 : BitVec 32 := 0#32
  let v384 : BitVec 1 := Scalar.cmpi .ne v383 c0_i32_183
  v384

def k0_chk17 (arg24 : BitVec 32) (v945 : BitVec 32) : Prop :=
  (∀ (k0_h1 : k0_cond1 arg24 = 1#1), ∀ (k0_h2 : k0_cond2 arg24 = 1#1), ∀ a, (k0_off17 v945) a + S1x1.size a ≤ S8x128.size a)
theorem k0_off17_inb : ∀ (arg24 : BitVec 32) (v945 : BitVec 32) (k0_hw17 : k0_chk17 arg24 v945), ∀ (k0_h1 : k0_cond1 arg24 = 1#1), ∀ (k0_h2 : k0_cond2 arg24 = 1#1), ∀ a, (k0_off17 v945) a + S1x1.size a ≤ S8x128.size a := fun arg24 v945 k0_hw17 k0_h1 k0_h2 => k0_hw17 k0_h1 k0_h2

def k0_off18 (v952 : BitVec 32) : Fin 2 → Nat :=
  let c128_i32_503 : BitVec 32 := 128#32
  let v953 : BitVec 32 := Scalar.muli v952 c128_i32_503
  let c0_i32_508 : BitVec 32 := 0#32
  ![v953.toNat, 0]

def k0_chk18 (arg24 : BitVec 32) (v952 : BitVec 32) : Prop :=
  (∀ (k0_h1 : k0_cond1 arg24 = 1#1), ∀ (k0_h2 : k0_cond2 arg24 = 1#1), ∀ a, (k0_off18 v952) a + S128x1536.size a ≤ S40960x1536.size a) ∧
  (∀ (k0_h1 : k0_cond1 arg24 = 1#1), ∀ (k0_h2 : k0_cond2 arg24 = 1#1), ∀ (hinb : ∀ a, (k0_off18 v952) a + S128x1536.size a ≤ S40960x1536.size a), (Rect.unit (s := S40960x1536) (k0_off18 v952) S128x1536.size hinb).WholeWords (EltTy.packing .bf16))
theorem k0_off18_inb : ∀ (arg24 : BitVec 32) (v952 : BitVec 32) (k0_hw18 : k0_chk18 arg24 v952), ∀ (k0_h1 : k0_cond1 arg24 = 1#1), ∀ (k0_h2 : k0_cond2 arg24 = 1#1), ∀ a, (k0_off18 v952) a + S128x1536.size a ≤ S40960x1536.size a := fun arg24 v952 k0_hw18 k0_h1 k0_h2 => k0_hw18.1 k0_h1 k0_h2
theorem k0_off18_wordsbf16 : ∀ (arg24 : BitVec 32) (v952 : BitVec 32) (k0_hw18 : k0_chk18 arg24 v952), ∀ (k0_h1 : k0_cond1 arg24 = 1#1), ∀ (k0_h2 : k0_cond2 arg24 = 1#1), (Rect.unit (s := S40960x1536) (k0_off18 v952) S128x1536.size (k0_off18_inb arg24 v952 k0_hw18 k0_h1 k0_h2)).WholeWords (EltTy.packing .bf16) := fun arg24 v952 k0_hw18 k0_h1 k0_h2 => k0_hw18.2 k0_h1 k0_h2 (k0_off18_inb arg24 v952 k0_hw18 k0_h1 k0_h2)

def k0_off19 (v959 : BitVec 32) : Fin 2 → Nat :=
  let c8_i32_510 : BitVec 32 := 8#32
  let v960 : BitVec 32 := Scalar.muli v959 c8_i32_510
  let c1_i32_511 : BitVec 32 := 1#32
  let v961 : BitVec 32 := Scalar.addi v960 c1_i32_511
  let c7_i32_512 : BitVec 32 := 7#32
  let v962 : BitVec 32 := Scalar.shrui v961 c7_i32_512
  let v964 : Index := Scalar.indexCast v962
  let c127_i32_513 : BitVec 32 := 127#32
  let v963 : BitVec 32 := Scalar.andi v961 c127_i32_513
  let v965 : Index := Scalar.indexCast v963
  ![v964.toNat, v965.toNat]

def k0_chk19 (arg24 : BitVec 32) (v959 : BitVec 32) : Prop :=
  (∀ (k0_h1 : k0_cond1 arg24 = 1#1), ∀ (k0_h2 : k0_cond2 arg24 = 1#1), ∀ a, (k0_off19 v959) a + S1x1.size a ≤ S8x128.size a)
theorem k0_off19_inb : ∀ (arg24 : BitVec 32) (v959 : BitVec 32) (k0_hw19 : k0_chk19 arg24 v959), ∀ (k0_h1 : k0_cond1 arg24 = 1#1), ∀ (k0_h2 : k0_cond2 arg24 = 1#1), ∀ a, (k0_off19 v959) a + S1x1.size a ≤ S8x128.size a := fun arg24 v959 k0_hw19 k0_h1 k0_h2 => k0_hw19 k0_h1 k0_h2

def k0_off20 (v966 : BitVec 32) : Fin 2 → Nat :=
  let c128_i32_514 : BitVec 32 := 128#32
  let v967 : BitVec 32 := Scalar.muli v966 c128_i32_514
  let c0_i32_519 : BitVec 32 := 0#32
  ![v967.toNat, 0]

def k0_chk20 (arg24 : BitVec 32) (v966 : BitVec 32) : Prop :=
  (∀ (k0_h1 : k0_cond1 arg24 = 1#1), ∀ (k0_h2 : k0_cond2 arg24 = 1#1), ∀ a, (k0_off20 v966) a + S128x1536.size a ≤ S40960x1536.size a) ∧
  (∀ (k0_h1 : k0_cond1 arg24 = 1#1), ∀ (k0_h2 : k0_cond2 arg24 = 1#1), ∀ (hinb : ∀ a, (k0_off20 v966) a + S128x1536.size a ≤ S40960x1536.size a), (Rect.unit (s := S40960x1536) (k0_off20 v966) S128x1536.size hinb).WholeWords (EltTy.packing .bf16))
theorem k0_off20_inb : ∀ (arg24 : BitVec 32) (v966 : BitVec 32) (k0_hw20 : k0_chk20 arg24 v966), ∀ (k0_h1 : k0_cond1 arg24 = 1#1), ∀ (k0_h2 : k0_cond2 arg24 = 1#1), ∀ a, (k0_off20 v966) a + S128x1536.size a ≤ S40960x1536.size a := fun arg24 v966 k0_hw20 k0_h1 k0_h2 => k0_hw20.1 k0_h1 k0_h2
theorem k0_off20_wordsbf16 : ∀ (arg24 : BitVec 32) (v966 : BitVec 32) (k0_hw20 : k0_chk20 arg24 v966), ∀ (k0_h1 : k0_cond1 arg24 = 1#1), ∀ (k0_h2 : k0_cond2 arg24 = 1#1), (Rect.unit (s := S40960x1536) (k0_off20 v966) S128x1536.size (k0_off20_inb arg24 v966 k0_hw20 k0_h1 k0_h2)).WholeWords (EltTy.packing .bf16) := fun arg24 v966 k0_hw20 k0_h1 k0_h2 => k0_hw20.2 k0_h1 k0_h2 (k0_off20_inb arg24 v966 k0_hw20 k0_h1 k0_h2)

def k0_off21 (v973 : BitVec 32) : Fin 2 → Nat :=
  let c8_i32_521 : BitVec 32 := 8#32
  let v974 : BitVec 32 := Scalar.muli v973 c8_i32_521
  let c2_i32_522 : BitVec 32 := 2#32
  let v975 : BitVec 32 := Scalar.addi v974 c2_i32_522
  let c7_i32_523 : BitVec 32 := 7#32
  let v976 : BitVec 32 := Scalar.shrui v975 c7_i32_523
  let v978 : Index := Scalar.indexCast v976
  let c127_i32_524 : BitVec 32 := 127#32
  let v977 : BitVec 32 := Scalar.andi v975 c127_i32_524
  let v979 : Index := Scalar.indexCast v977
  ![v978.toNat, v979.toNat]

def k0_chk21 (arg24 : BitVec 32) (v973 : BitVec 32) : Prop :=
  (∀ (k0_h1 : k0_cond1 arg24 = 1#1), ∀ (k0_h2 : k0_cond2 arg24 = 1#1), ∀ a, (k0_off21 v973) a + S1x1.size a ≤ S8x128.size a)
theorem k0_off21_inb : ∀ (arg24 : BitVec 32) (v973 : BitVec 32) (k0_hw21 : k0_chk21 arg24 v973), ∀ (k0_h1 : k0_cond1 arg24 = 1#1), ∀ (k0_h2 : k0_cond2 arg24 = 1#1), ∀ a, (k0_off21 v973) a + S1x1.size a ≤ S8x128.size a := fun arg24 v973 k0_hw21 k0_h1 k0_h2 => k0_hw21 k0_h1 k0_h2

def k0_off22 (v980 : BitVec 32) : Fin 2 → Nat :=
  let c128_i32_525 : BitVec 32 := 128#32
  let v981 : BitVec 32 := Scalar.muli v980 c128_i32_525
  let c0_i32_530 : BitVec 32 := 0#32
  ![v981.toNat, 0]

def k0_chk22 (arg24 : BitVec 32) (v980 : BitVec 32) : Prop :=
  (∀ (k0_h1 : k0_cond1 arg24 = 1#1), ∀ (k0_h2 : k0_cond2 arg24 = 1#1), ∀ a, (k0_off22 v980) a + S128x1536.size a ≤ S40960x1536.size a) ∧
  (∀ (k0_h1 : k0_cond1 arg24 = 1#1), ∀ (k0_h2 : k0_cond2 arg24 = 1#1), ∀ (hinb : ∀ a, (k0_off22 v980) a + S128x1536.size a ≤ S40960x1536.size a), (Rect.unit (s := S40960x1536) (k0_off22 v980) S128x1536.size hinb).WholeWords (EltTy.packing .bf16))
theorem k0_off22_inb : ∀ (arg24 : BitVec 32) (v980 : BitVec 32) (k0_hw22 : k0_chk22 arg24 v980), ∀ (k0_h1 : k0_cond1 arg24 = 1#1), ∀ (k0_h2 : k0_cond2 arg24 = 1#1), ∀ a, (k0_off22 v980) a + S128x1536.size a ≤ S40960x1536.size a := fun arg24 v980 k0_hw22 k0_h1 k0_h2 => k0_hw22.1 k0_h1 k0_h2
theorem k0_off22_wordsbf16 : ∀ (arg24 : BitVec 32) (v980 : BitVec 32) (k0_hw22 : k0_chk22 arg24 v980), ∀ (k0_h1 : k0_cond1 arg24 = 1#1), ∀ (k0_h2 : k0_cond2 arg24 = 1#1), (Rect.unit (s := S40960x1536) (k0_off22 v980) S128x1536.size (k0_off22_inb arg24 v980 k0_hw22 k0_h1 k0_h2)).WholeWords (EltTy.packing .bf16) := fun arg24 v980 k0_hw22 k0_h1 k0_h2 => k0_hw22.2 k0_h1 k0_h2 (k0_off22_inb arg24 v980 k0_hw22 k0_h1 k0_h2)

def k0_off23 (v987 : BitVec 32) : Fin 2 → Nat :=
  let c8_i32_532 : BitVec 32 := 8#32
  let v988 : BitVec 32 := Scalar.muli v987 c8_i32_532
  let c3_i32_533 : BitVec 32 := 3#32
  let v989 : BitVec 32 := Scalar.addi v988 c3_i32_533
  let c7_i32_534 : BitVec 32 := 7#32
  let v990 : BitVec 32 := Scalar.shrui v989 c7_i32_534
  let v992 : Index := Scalar.indexCast v990
  let c127_i32_535 : BitVec 32 := 127#32
  let v991 : BitVec 32 := Scalar.andi v989 c127_i32_535
  let v993 : Index := Scalar.indexCast v991
  ![v992.toNat, v993.toNat]

def k0_chk23 (arg24 : BitVec 32) (v987 : BitVec 32) : Prop :=
  (∀ (k0_h1 : k0_cond1 arg24 = 1#1), ∀ (k0_h2 : k0_cond2 arg24 = 1#1), ∀ a, (k0_off23 v987) a + S1x1.size a ≤ S8x128.size a)
theorem k0_off23_inb : ∀ (arg24 : BitVec 32) (v987 : BitVec 32) (k0_hw23 : k0_chk23 arg24 v987), ∀ (k0_h1 : k0_cond1 arg24 = 1#1), ∀ (k0_h2 : k0_cond2 arg24 = 1#1), ∀ a, (k0_off23 v987) a + S1x1.size a ≤ S8x128.size a := fun arg24 v987 k0_hw23 k0_h1 k0_h2 => k0_hw23 k0_h1 k0_h2

def k0_off24 (v994 : BitVec 32) : Fin 2 → Nat :=
  let c128_i32_536 : BitVec 32 := 128#32
  let v995 : BitVec 32 := Scalar.muli v994 c128_i32_536
  let c0_i32_541 : BitVec 32 := 0#32
  ![v995.toNat, 0]

def k0_chk24 (arg24 : BitVec 32) (v994 : BitVec 32) : Prop :=
  (∀ (k0_h1 : k0_cond1 arg24 = 1#1), ∀ (k0_h2 : k0_cond2 arg24 = 1#1), ∀ a, (k0_off24 v994) a + S128x1536.size a ≤ S40960x1536.size a) ∧
  (∀ (k0_h1 : k0_cond1 arg24 = 1#1), ∀ (k0_h2 : k0_cond2 arg24 = 1#1), ∀ (hinb : ∀ a, (k0_off24 v994) a + S128x1536.size a ≤ S40960x1536.size a), (Rect.unit (s := S40960x1536) (k0_off24 v994) S128x1536.size hinb).WholeWords (EltTy.packing .bf16))
theorem k0_off24_inb : ∀ (arg24 : BitVec 32) (v994 : BitVec 32) (k0_hw24 : k0_chk24 arg24 v994), ∀ (k0_h1 : k0_cond1 arg24 = 1#1), ∀ (k0_h2 : k0_cond2 arg24 = 1#1), ∀ a, (k0_off24 v994) a + S128x1536.size a ≤ S40960x1536.size a := fun arg24 v994 k0_hw24 k0_h1 k0_h2 => k0_hw24.1 k0_h1 k0_h2
theorem k0_off24_wordsbf16 : ∀ (arg24 : BitVec 32) (v994 : BitVec 32) (k0_hw24 : k0_chk24 arg24 v994), ∀ (k0_h1 : k0_cond1 arg24 = 1#1), ∀ (k0_h2 : k0_cond2 arg24 = 1#1), (Rect.unit (s := S40960x1536) (k0_off24 v994) S128x1536.size (k0_off24_inb arg24 v994 k0_hw24 k0_h1 k0_h2)).WholeWords (EltTy.packing .bf16) := fun arg24 v994 k0_hw24 k0_h1 k0_h2 => k0_hw24.2 k0_h1 k0_h2 (k0_off24_inb arg24 v994 k0_hw24 k0_h1 k0_h2)

def k0_off25 (v1001 : BitVec 32) : Fin 2 → Nat :=
  let c8_i32_543 : BitVec 32 := 8#32
  let v1002 : BitVec 32 := Scalar.muli v1001 c8_i32_543
  let c4_i32_544 : BitVec 32 := 4#32
  let v1003 : BitVec 32 := Scalar.addi v1002 c4_i32_544
  let c7_i32_545 : BitVec 32 := 7#32
  let v1004 : BitVec 32 := Scalar.shrui v1003 c7_i32_545
  let v1006 : Index := Scalar.indexCast v1004
  let c127_i32_546 : BitVec 32 := 127#32
  let v1005 : BitVec 32 := Scalar.andi v1003 c127_i32_546
  let v1007 : Index := Scalar.indexCast v1005
  ![v1006.toNat, v1007.toNat]

def k0_chk25 (arg24 : BitVec 32) (v1001 : BitVec 32) : Prop :=
  (∀ (k0_h1 : k0_cond1 arg24 = 1#1), ∀ (k0_h2 : k0_cond2 arg24 = 1#1), ∀ a, (k0_off25 v1001) a + S1x1.size a ≤ S8x128.size a)
theorem k0_off25_inb : ∀ (arg24 : BitVec 32) (v1001 : BitVec 32) (k0_hw25 : k0_chk25 arg24 v1001), ∀ (k0_h1 : k0_cond1 arg24 = 1#1), ∀ (k0_h2 : k0_cond2 arg24 = 1#1), ∀ a, (k0_off25 v1001) a + S1x1.size a ≤ S8x128.size a := fun arg24 v1001 k0_hw25 k0_h1 k0_h2 => k0_hw25 k0_h1 k0_h2

def k0_off26 (v1008 : BitVec 32) : Fin 2 → Nat :=
  let c128_i32_547 : BitVec 32 := 128#32
  let v1009 : BitVec 32 := Scalar.muli v1008 c128_i32_547
  let c0_i32_552 : BitVec 32 := 0#32
  ![v1009.toNat, 0]

def k0_chk26 (arg24 : BitVec 32) (v1008 : BitVec 32) : Prop :=
  (∀ (k0_h1 : k0_cond1 arg24 = 1#1), ∀ (k0_h2 : k0_cond2 arg24 = 1#1), ∀ a, (k0_off26 v1008) a + S128x1536.size a ≤ S40960x1536.size a) ∧
  (∀ (k0_h1 : k0_cond1 arg24 = 1#1), ∀ (k0_h2 : k0_cond2 arg24 = 1#1), ∀ (hinb : ∀ a, (k0_off26 v1008) a + S128x1536.size a ≤ S40960x1536.size a), (Rect.unit (s := S40960x1536) (k0_off26 v1008) S128x1536.size hinb).WholeWords (EltTy.packing .bf16))
theorem k0_off26_inb : ∀ (arg24 : BitVec 32) (v1008 : BitVec 32) (k0_hw26 : k0_chk26 arg24 v1008), ∀ (k0_h1 : k0_cond1 arg24 = 1#1), ∀ (k0_h2 : k0_cond2 arg24 = 1#1), ∀ a, (k0_off26 v1008) a + S128x1536.size a ≤ S40960x1536.size a := fun arg24 v1008 k0_hw26 k0_h1 k0_h2 => k0_hw26.1 k0_h1 k0_h2
theorem k0_off26_wordsbf16 : ∀ (arg24 : BitVec 32) (v1008 : BitVec 32) (k0_hw26 : k0_chk26 arg24 v1008), ∀ (k0_h1 : k0_cond1 arg24 = 1#1), ∀ (k0_h2 : k0_cond2 arg24 = 1#1), (Rect.unit (s := S40960x1536) (k0_off26 v1008) S128x1536.size (k0_off26_inb arg24 v1008 k0_hw26 k0_h1 k0_h2)).WholeWords (EltTy.packing .bf16) := fun arg24 v1008 k0_hw26 k0_h1 k0_h2 => k0_hw26.2 k0_h1 k0_h2 (k0_off26_inb arg24 v1008 k0_hw26 k0_h1 k0_h2)

def k0_off27 (v1015 : BitVec 32) : Fin 2 → Nat :=
  let c8_i32_554 : BitVec 32 := 8#32
  let v1016 : BitVec 32 := Scalar.muli v1015 c8_i32_554
  let c5_i32_555 : BitVec 32 := 5#32
  let v1017 : BitVec 32 := Scalar.addi v1016 c5_i32_555
  let c7_i32_556 : BitVec 32 := 7#32
  let v1018 : BitVec 32 := Scalar.shrui v1017 c7_i32_556
  let v1020 : Index := Scalar.indexCast v1018
  let c127_i32_557 : BitVec 32 := 127#32
  let v1019 : BitVec 32 := Scalar.andi v1017 c127_i32_557
  let v1021 : Index := Scalar.indexCast v1019
  ![v1020.toNat, v1021.toNat]

def k0_chk27 (arg24 : BitVec 32) (v1015 : BitVec 32) : Prop :=
  (∀ (k0_h1 : k0_cond1 arg24 = 1#1), ∀ (k0_h2 : k0_cond2 arg24 = 1#1), ∀ a, (k0_off27 v1015) a + S1x1.size a ≤ S8x128.size a)
theorem k0_off27_inb : ∀ (arg24 : BitVec 32) (v1015 : BitVec 32) (k0_hw27 : k0_chk27 arg24 v1015), ∀ (k0_h1 : k0_cond1 arg24 = 1#1), ∀ (k0_h2 : k0_cond2 arg24 = 1#1), ∀ a, (k0_off27 v1015) a + S1x1.size a ≤ S8x128.size a := fun arg24 v1015 k0_hw27 k0_h1 k0_h2 => k0_hw27 k0_h1 k0_h2

def k0_off28 (v1022 : BitVec 32) : Fin 2 → Nat :=
  let c128_i32_558 : BitVec 32 := 128#32
  let v1023 : BitVec 32 := Scalar.muli v1022 c128_i32_558
  let c0_i32_563 : BitVec 32 := 0#32
  ![v1023.toNat, 0]

def k0_chk28 (arg24 : BitVec 32) (v1022 : BitVec 32) : Prop :=
  (∀ (k0_h1 : k0_cond1 arg24 = 1#1), ∀ (k0_h2 : k0_cond2 arg24 = 1#1), ∀ a, (k0_off28 v1022) a + S128x1536.size a ≤ S40960x1536.size a) ∧
  (∀ (k0_h1 : k0_cond1 arg24 = 1#1), ∀ (k0_h2 : k0_cond2 arg24 = 1#1), ∀ (hinb : ∀ a, (k0_off28 v1022) a + S128x1536.size a ≤ S40960x1536.size a), (Rect.unit (s := S40960x1536) (k0_off28 v1022) S128x1536.size hinb).WholeWords (EltTy.packing .bf16))
theorem k0_off28_inb : ∀ (arg24 : BitVec 32) (v1022 : BitVec 32) (k0_hw28 : k0_chk28 arg24 v1022), ∀ (k0_h1 : k0_cond1 arg24 = 1#1), ∀ (k0_h2 : k0_cond2 arg24 = 1#1), ∀ a, (k0_off28 v1022) a + S128x1536.size a ≤ S40960x1536.size a := fun arg24 v1022 k0_hw28 k0_h1 k0_h2 => k0_hw28.1 k0_h1 k0_h2
theorem k0_off28_wordsbf16 : ∀ (arg24 : BitVec 32) (v1022 : BitVec 32) (k0_hw28 : k0_chk28 arg24 v1022), ∀ (k0_h1 : k0_cond1 arg24 = 1#1), ∀ (k0_h2 : k0_cond2 arg24 = 1#1), (Rect.unit (s := S40960x1536) (k0_off28 v1022) S128x1536.size (k0_off28_inb arg24 v1022 k0_hw28 k0_h1 k0_h2)).WholeWords (EltTy.packing .bf16) := fun arg24 v1022 k0_hw28 k0_h1 k0_h2 => k0_hw28.2 k0_h1 k0_h2 (k0_off28_inb arg24 v1022 k0_hw28 k0_h1 k0_h2)

def k0_off29 (v1029 : BitVec 32) : Fin 2 → Nat :=
  let c8_i32_565 : BitVec 32 := 8#32
  let v1030 : BitVec 32 := Scalar.muli v1029 c8_i32_565
  let c6_i32_566 : BitVec 32 := 6#32
  let v1031 : BitVec 32 := Scalar.addi v1030 c6_i32_566
  let c7_i32_567 : BitVec 32 := 7#32
  let v1032 : BitVec 32 := Scalar.shrui v1031 c7_i32_567
  let v1034 : Index := Scalar.indexCast v1032
  let c127_i32_568 : BitVec 32 := 127#32
  let v1033 : BitVec 32 := Scalar.andi v1031 c127_i32_568
  let v1035 : Index := Scalar.indexCast v1033
  ![v1034.toNat, v1035.toNat]

def k0_chk29 (arg24 : BitVec 32) (v1029 : BitVec 32) : Prop :=
  (∀ (k0_h1 : k0_cond1 arg24 = 1#1), ∀ (k0_h2 : k0_cond2 arg24 = 1#1), ∀ a, (k0_off29 v1029) a + S1x1.size a ≤ S8x128.size a)
theorem k0_off29_inb : ∀ (arg24 : BitVec 32) (v1029 : BitVec 32) (k0_hw29 : k0_chk29 arg24 v1029), ∀ (k0_h1 : k0_cond1 arg24 = 1#1), ∀ (k0_h2 : k0_cond2 arg24 = 1#1), ∀ a, (k0_off29 v1029) a + S1x1.size a ≤ S8x128.size a := fun arg24 v1029 k0_hw29 k0_h1 k0_h2 => k0_hw29 k0_h1 k0_h2

def k0_off30 (v1036 : BitVec 32) : Fin 2 → Nat :=
  let c128_i32_569 : BitVec 32 := 128#32
  let v1037 : BitVec 32 := Scalar.muli v1036 c128_i32_569
  let c0_i32_574 : BitVec 32 := 0#32
  ![v1037.toNat, 0]

def k0_chk30 (arg24 : BitVec 32) (v1036 : BitVec 32) : Prop :=
  (∀ (k0_h1 : k0_cond1 arg24 = 1#1), ∀ (k0_h2 : k0_cond2 arg24 = 1#1), ∀ a, (k0_off30 v1036) a + S128x1536.size a ≤ S40960x1536.size a) ∧
  (∀ (k0_h1 : k0_cond1 arg24 = 1#1), ∀ (k0_h2 : k0_cond2 arg24 = 1#1), ∀ (hinb : ∀ a, (k0_off30 v1036) a + S128x1536.size a ≤ S40960x1536.size a), (Rect.unit (s := S40960x1536) (k0_off30 v1036) S128x1536.size hinb).WholeWords (EltTy.packing .bf16))
theorem k0_off30_inb : ∀ (arg24 : BitVec 32) (v1036 : BitVec 32) (k0_hw30 : k0_chk30 arg24 v1036), ∀ (k0_h1 : k0_cond1 arg24 = 1#1), ∀ (k0_h2 : k0_cond2 arg24 = 1#1), ∀ a, (k0_off30 v1036) a + S128x1536.size a ≤ S40960x1536.size a := fun arg24 v1036 k0_hw30 k0_h1 k0_h2 => k0_hw30.1 k0_h1 k0_h2
theorem k0_off30_wordsbf16 : ∀ (arg24 : BitVec 32) (v1036 : BitVec 32) (k0_hw30 : k0_chk30 arg24 v1036), ∀ (k0_h1 : k0_cond1 arg24 = 1#1), ∀ (k0_h2 : k0_cond2 arg24 = 1#1), (Rect.unit (s := S40960x1536) (k0_off30 v1036) S128x1536.size (k0_off30_inb arg24 v1036 k0_hw30 k0_h1 k0_h2)).WholeWords (EltTy.packing .bf16) := fun arg24 v1036 k0_hw30 k0_h1 k0_h2 => k0_hw30.2 k0_h1 k0_h2 (k0_off30_inb arg24 v1036 k0_hw30 k0_h1 k0_h2)

def k0_off31 (v1043 : BitVec 32) : Fin 2 → Nat :=
  let c8_i32_576 : BitVec 32 := 8#32
  let v1044 : BitVec 32 := Scalar.muli v1043 c8_i32_576
  let c7_i32_577 : BitVec 32 := 7#32
  let v1045 : BitVec 32 := Scalar.addi v1044 c7_i32_577
  let c7_i32_578 : BitVec 32 := 7#32
  let v1046 : BitVec 32 := Scalar.shrui v1045 c7_i32_578
  let v1048 : Index := Scalar.indexCast v1046
  let c127_i32_579 : BitVec 32 := 127#32
  let v1047 : BitVec 32 := Scalar.andi v1045 c127_i32_579
  let v1049 : Index := Scalar.indexCast v1047
  ![v1048.toNat, v1049.toNat]

def k0_chk31 (arg24 : BitVec 32) (v1043 : BitVec 32) : Prop :=
  (∀ (k0_h1 : k0_cond1 arg24 = 1#1), ∀ (k0_h2 : k0_cond2 arg24 = 1#1), ∀ a, (k0_off31 v1043) a + S1x1.size a ≤ S8x128.size a)
theorem k0_off31_inb : ∀ (arg24 : BitVec 32) (v1043 : BitVec 32) (k0_hw31 : k0_chk31 arg24 v1043), ∀ (k0_h1 : k0_cond1 arg24 = 1#1), ∀ (k0_h2 : k0_cond2 arg24 = 1#1), ∀ a, (k0_off31 v1043) a + S1x1.size a ≤ S8x128.size a := fun arg24 v1043 k0_hw31 k0_h1 k0_h2 => k0_hw31 k0_h1 k0_h2

def k0_off32 (v1050 : BitVec 32) : Fin 2 → Nat :=
  let c128_i32_580 : BitVec 32 := 128#32
  let v1051 : BitVec 32 := Scalar.muli v1050 c128_i32_580
  let c0_i32_585 : BitVec 32 := 0#32
  ![v1051.toNat, 0]

def k0_chk32 (arg24 : BitVec 32) (v1050 : BitVec 32) : Prop :=
  (∀ (k0_h1 : k0_cond1 arg24 = 1#1), ∀ (k0_h2 : k0_cond2 arg24 = 1#1), ∀ a, (k0_off32 v1050) a + S128x1536.size a ≤ S40960x1536.size a) ∧
  (∀ (k0_h1 : k0_cond1 arg24 = 1#1), ∀ (k0_h2 : k0_cond2 arg24 = 1#1), ∀ (hinb : ∀ a, (k0_off32 v1050) a + S128x1536.size a ≤ S40960x1536.size a), (Rect.unit (s := S40960x1536) (k0_off32 v1050) S128x1536.size hinb).WholeWords (EltTy.packing .bf16))
theorem k0_off32_inb : ∀ (arg24 : BitVec 32) (v1050 : BitVec 32) (k0_hw32 : k0_chk32 arg24 v1050), ∀ (k0_h1 : k0_cond1 arg24 = 1#1), ∀ (k0_h2 : k0_cond2 arg24 = 1#1), ∀ a, (k0_off32 v1050) a + S128x1536.size a ≤ S40960x1536.size a := fun arg24 v1050 k0_hw32 k0_h1 k0_h2 => k0_hw32.1 k0_h1 k0_h2
theorem k0_off32_wordsbf16 : ∀ (arg24 : BitVec 32) (v1050 : BitVec 32) (k0_hw32 : k0_chk32 arg24 v1050), ∀ (k0_h1 : k0_cond1 arg24 = 1#1), ∀ (k0_h2 : k0_cond2 arg24 = 1#1), (Rect.unit (s := S40960x1536) (k0_off32 v1050) S128x1536.size (k0_off32_inb arg24 v1050 k0_hw32 k0_h1 k0_h2)).WholeWords (EltTy.packing .bf16) := fun arg24 v1050 k0_hw32 k0_h1 k0_h2 => k0_hw32.2 k0_h1 k0_h2 (k0_off32_inb arg24 v1050 k0_hw32 k0_h1 k0_h2)

def k0_off33 (v385 : BitVec 32) : Fin 2 → Nat :=
  let c8_i32_185 : BitVec 32 := 8#32
  let v386 : BitVec 32 := Scalar.muli v385 c8_i32_185
  let c0_i32_186 : BitVec 32 := 0#32
  let v387 : BitVec 32 := Scalar.addi v386 c0_i32_186
  let c7_i32_187 : BitVec 32 := 7#32
  let v388 : BitVec 32 := Scalar.shrui v387 c7_i32_187
  let v390 : Index := Scalar.indexCast v388
  let c127_i32_188 : BitVec 32 := 127#32
  let v389 : BitVec 32 := Scalar.andi v387 c127_i32_188
  let v391 : Index := Scalar.indexCast v389
  ![v390.toNat, v391.toNat]

def k0_chk33 (arg24 : BitVec 32) (v385 : BitVec 32) : Prop :=
  (∀ (k0_h1 : k0_cond1 arg24 = 1#1), ∀ a, (k0_off33 v385) a + S1x1.size a ≤ S8x128.size a)
theorem k0_off33_inb : ∀ (arg24 : BitVec 32) (v385 : BitVec 32) (k0_hw33 : k0_chk33 arg24 v385), ∀ (k0_h1 : k0_cond1 arg24 = 1#1), ∀ a, (k0_off33 v385) a + S1x1.size a ≤ S8x128.size a := fun arg24 v385 k0_hw33 k0_h1 => k0_hw33 k0_h1

def k0_off34 (v392 : BitVec 32) : Fin 2 → Nat :=
  let c128_i32_189 : BitVec 32 := 128#32
  let v393 : BitVec 32 := Scalar.muli v392 c128_i32_189
  let c0_i32_194 : BitVec 32 := 0#32
  ![v393.toNat, 0]

def k0_chk34 (arg24 : BitVec 32) (v392 : BitVec 32) : Prop :=
  (∀ (k0_h1 : k0_cond1 arg24 = 1#1), ∀ a, (k0_off34 v392) a + S128x1536.size a ≤ S40960x1536.size a) ∧
  (∀ (k0_h1 : k0_cond1 arg24 = 1#1), ∀ (hinb : ∀ a, (k0_off34 v392) a + S128x1536.size a ≤ S40960x1536.size a), (Rect.unit (s := S40960x1536) (k0_off34 v392) S128x1536.size hinb).WholeWords (EltTy.packing .bf16))
theorem k0_off34_inb : ∀ (arg24 : BitVec 32) (v392 : BitVec 32) (k0_hw34 : k0_chk34 arg24 v392), ∀ (k0_h1 : k0_cond1 arg24 = 1#1), ∀ a, (k0_off34 v392) a + S128x1536.size a ≤ S40960x1536.size a := fun arg24 v392 k0_hw34 k0_h1 => k0_hw34.1 k0_h1
theorem k0_off34_wordsbf16 : ∀ (arg24 : BitVec 32) (v392 : BitVec 32) (k0_hw34 : k0_chk34 arg24 v392), ∀ (k0_h1 : k0_cond1 arg24 = 1#1), (Rect.unit (s := S40960x1536) (k0_off34 v392) S128x1536.size (k0_off34_inb arg24 v392 k0_hw34 k0_h1)).WholeWords (EltTy.packing .bf16) := fun arg24 v392 k0_hw34 k0_h1 => k0_hw34.2 k0_h1 (k0_off34_inb arg24 v392 k0_hw34 k0_h1)

def k0_off35 (v399 : BitVec 32) : Fin 2 → Nat :=
  let c8_i32_196 : BitVec 32 := 8#32
  let v400 : BitVec 32 := Scalar.muli v399 c8_i32_196
  let c1_i32_197 : BitVec 32 := 1#32
  let v401 : BitVec 32 := Scalar.addi v400 c1_i32_197
  let c7_i32_198 : BitVec 32 := 7#32
  let v402 : BitVec 32 := Scalar.shrui v401 c7_i32_198
  let v404 : Index := Scalar.indexCast v402
  let c127_i32_199 : BitVec 32 := 127#32
  let v403 : BitVec 32 := Scalar.andi v401 c127_i32_199
  let v405 : Index := Scalar.indexCast v403
  ![v404.toNat, v405.toNat]

def k0_chk35 (arg24 : BitVec 32) (v399 : BitVec 32) : Prop :=
  (∀ (k0_h1 : k0_cond1 arg24 = 1#1), ∀ a, (k0_off35 v399) a + S1x1.size a ≤ S8x128.size a)
theorem k0_off35_inb : ∀ (arg24 : BitVec 32) (v399 : BitVec 32) (k0_hw35 : k0_chk35 arg24 v399), ∀ (k0_h1 : k0_cond1 arg24 = 1#1), ∀ a, (k0_off35 v399) a + S1x1.size a ≤ S8x128.size a := fun arg24 v399 k0_hw35 k0_h1 => k0_hw35 k0_h1

def k0_off36 (v406 : BitVec 32) : Fin 2 → Nat :=
  let c128_i32_200 : BitVec 32 := 128#32
  let v407 : BitVec 32 := Scalar.muli v406 c128_i32_200
  let c0_i32_205 : BitVec 32 := 0#32
  ![v407.toNat, 0]

def k0_chk36 (arg24 : BitVec 32) (v406 : BitVec 32) : Prop :=
  (∀ (k0_h1 : k0_cond1 arg24 = 1#1), ∀ a, (k0_off36 v406) a + S128x1536.size a ≤ S40960x1536.size a) ∧
  (∀ (k0_h1 : k0_cond1 arg24 = 1#1), ∀ (hinb : ∀ a, (k0_off36 v406) a + S128x1536.size a ≤ S40960x1536.size a), (Rect.unit (s := S40960x1536) (k0_off36 v406) S128x1536.size hinb).WholeWords (EltTy.packing .bf16))
theorem k0_off36_inb : ∀ (arg24 : BitVec 32) (v406 : BitVec 32) (k0_hw36 : k0_chk36 arg24 v406), ∀ (k0_h1 : k0_cond1 arg24 = 1#1), ∀ a, (k0_off36 v406) a + S128x1536.size a ≤ S40960x1536.size a := fun arg24 v406 k0_hw36 k0_h1 => k0_hw36.1 k0_h1
theorem k0_off36_wordsbf16 : ∀ (arg24 : BitVec 32) (v406 : BitVec 32) (k0_hw36 : k0_chk36 arg24 v406), ∀ (k0_h1 : k0_cond1 arg24 = 1#1), (Rect.unit (s := S40960x1536) (k0_off36 v406) S128x1536.size (k0_off36_inb arg24 v406 k0_hw36 k0_h1)).WholeWords (EltTy.packing .bf16) := fun arg24 v406 k0_hw36 k0_h1 => k0_hw36.2 k0_h1 (k0_off36_inb arg24 v406 k0_hw36 k0_h1)

def k0_off37 (v413 : BitVec 32) : Fin 2 → Nat :=
  let c8_i32_207 : BitVec 32 := 8#32
  let v414 : BitVec 32 := Scalar.muli v413 c8_i32_207
  let c2_i32_208 : BitVec 32 := 2#32
  let v415 : BitVec 32 := Scalar.addi v414 c2_i32_208
  let c7_i32_209 : BitVec 32 := 7#32
  let v416 : BitVec 32 := Scalar.shrui v415 c7_i32_209
  let v418 : Index := Scalar.indexCast v416
  let c127_i32_210 : BitVec 32 := 127#32
  let v417 : BitVec 32 := Scalar.andi v415 c127_i32_210
  let v419 : Index := Scalar.indexCast v417
  ![v418.toNat, v419.toNat]

def k0_chk37 (arg24 : BitVec 32) (v413 : BitVec 32) : Prop :=
  (∀ (k0_h1 : k0_cond1 arg24 = 1#1), ∀ a, (k0_off37 v413) a + S1x1.size a ≤ S8x128.size a)
theorem k0_off37_inb : ∀ (arg24 : BitVec 32) (v413 : BitVec 32) (k0_hw37 : k0_chk37 arg24 v413), ∀ (k0_h1 : k0_cond1 arg24 = 1#1), ∀ a, (k0_off37 v413) a + S1x1.size a ≤ S8x128.size a := fun arg24 v413 k0_hw37 k0_h1 => k0_hw37 k0_h1

def k0_off38 (v420 : BitVec 32) : Fin 2 → Nat :=
  let c128_i32_211 : BitVec 32 := 128#32
  let v421 : BitVec 32 := Scalar.muli v420 c128_i32_211
  let c0_i32_216 : BitVec 32 := 0#32
  ![v421.toNat, 0]

def k0_chk38 (arg24 : BitVec 32) (v420 : BitVec 32) : Prop :=
  (∀ (k0_h1 : k0_cond1 arg24 = 1#1), ∀ a, (k0_off38 v420) a + S128x1536.size a ≤ S40960x1536.size a) ∧
  (∀ (k0_h1 : k0_cond1 arg24 = 1#1), ∀ (hinb : ∀ a, (k0_off38 v420) a + S128x1536.size a ≤ S40960x1536.size a), (Rect.unit (s := S40960x1536) (k0_off38 v420) S128x1536.size hinb).WholeWords (EltTy.packing .bf16))
theorem k0_off38_inb : ∀ (arg24 : BitVec 32) (v420 : BitVec 32) (k0_hw38 : k0_chk38 arg24 v420), ∀ (k0_h1 : k0_cond1 arg24 = 1#1), ∀ a, (k0_off38 v420) a + S128x1536.size a ≤ S40960x1536.size a := fun arg24 v420 k0_hw38 k0_h1 => k0_hw38.1 k0_h1
theorem k0_off38_wordsbf16 : ∀ (arg24 : BitVec 32) (v420 : BitVec 32) (k0_hw38 : k0_chk38 arg24 v420), ∀ (k0_h1 : k0_cond1 arg24 = 1#1), (Rect.unit (s := S40960x1536) (k0_off38 v420) S128x1536.size (k0_off38_inb arg24 v420 k0_hw38 k0_h1)).WholeWords (EltTy.packing .bf16) := fun arg24 v420 k0_hw38 k0_h1 => k0_hw38.2 k0_h1 (k0_off38_inb arg24 v420 k0_hw38 k0_h1)

def k0_off39 (v427 : BitVec 32) : Fin 2 → Nat :=
  let c8_i32_218 : BitVec 32 := 8#32
  let v428 : BitVec 32 := Scalar.muli v427 c8_i32_218
  let c3_i32_219 : BitVec 32 := 3#32
  let v429 : BitVec 32 := Scalar.addi v428 c3_i32_219
  let c7_i32_220 : BitVec 32 := 7#32
  let v430 : BitVec 32 := Scalar.shrui v429 c7_i32_220
  let v432 : Index := Scalar.indexCast v430
  let c127_i32_221 : BitVec 32 := 127#32
  let v431 : BitVec 32 := Scalar.andi v429 c127_i32_221
  let v433 : Index := Scalar.indexCast v431
  ![v432.toNat, v433.toNat]

def k0_chk39 (arg24 : BitVec 32) (v427 : BitVec 32) : Prop :=
  (∀ (k0_h1 : k0_cond1 arg24 = 1#1), ∀ a, (k0_off39 v427) a + S1x1.size a ≤ S8x128.size a)
theorem k0_off39_inb : ∀ (arg24 : BitVec 32) (v427 : BitVec 32) (k0_hw39 : k0_chk39 arg24 v427), ∀ (k0_h1 : k0_cond1 arg24 = 1#1), ∀ a, (k0_off39 v427) a + S1x1.size a ≤ S8x128.size a := fun arg24 v427 k0_hw39 k0_h1 => k0_hw39 k0_h1

def k0_off40 (v434 : BitVec 32) : Fin 2 → Nat :=
  let c128_i32_222 : BitVec 32 := 128#32
  let v435 : BitVec 32 := Scalar.muli v434 c128_i32_222
  let c0_i32_227 : BitVec 32 := 0#32
  ![v435.toNat, 0]

def k0_chk40 (arg24 : BitVec 32) (v434 : BitVec 32) : Prop :=
  (∀ (k0_h1 : k0_cond1 arg24 = 1#1), ∀ a, (k0_off40 v434) a + S128x1536.size a ≤ S40960x1536.size a) ∧
  (∀ (k0_h1 : k0_cond1 arg24 = 1#1), ∀ (hinb : ∀ a, (k0_off40 v434) a + S128x1536.size a ≤ S40960x1536.size a), (Rect.unit (s := S40960x1536) (k0_off40 v434) S128x1536.size hinb).WholeWords (EltTy.packing .bf16))
theorem k0_off40_inb : ∀ (arg24 : BitVec 32) (v434 : BitVec 32) (k0_hw40 : k0_chk40 arg24 v434), ∀ (k0_h1 : k0_cond1 arg24 = 1#1), ∀ a, (k0_off40 v434) a + S128x1536.size a ≤ S40960x1536.size a := fun arg24 v434 k0_hw40 k0_h1 => k0_hw40.1 k0_h1
theorem k0_off40_wordsbf16 : ∀ (arg24 : BitVec 32) (v434 : BitVec 32) (k0_hw40 : k0_chk40 arg24 v434), ∀ (k0_h1 : k0_cond1 arg24 = 1#1), (Rect.unit (s := S40960x1536) (k0_off40 v434) S128x1536.size (k0_off40_inb arg24 v434 k0_hw40 k0_h1)).WholeWords (EltTy.packing .bf16) := fun arg24 v434 k0_hw40 k0_h1 => k0_hw40.2 k0_h1 (k0_off40_inb arg24 v434 k0_hw40 k0_h1)

def k0_off41 (v441 : BitVec 32) : Fin 2 → Nat :=
  let c8_i32_229 : BitVec 32 := 8#32
  let v442 : BitVec 32 := Scalar.muli v441 c8_i32_229
  let c4_i32_230 : BitVec 32 := 4#32
  let v443 : BitVec 32 := Scalar.addi v442 c4_i32_230
  let c7_i32_231 : BitVec 32 := 7#32
  let v444 : BitVec 32 := Scalar.shrui v443 c7_i32_231
  let v446 : Index := Scalar.indexCast v444
  let c127_i32_232 : BitVec 32 := 127#32
  let v445 : BitVec 32 := Scalar.andi v443 c127_i32_232
  let v447 : Index := Scalar.indexCast v445
  ![v446.toNat, v447.toNat]

def k0_chk41 (arg24 : BitVec 32) (v441 : BitVec 32) : Prop :=
  (∀ (k0_h1 : k0_cond1 arg24 = 1#1), ∀ a, (k0_off41 v441) a + S1x1.size a ≤ S8x128.size a)
theorem k0_off41_inb : ∀ (arg24 : BitVec 32) (v441 : BitVec 32) (k0_hw41 : k0_chk41 arg24 v441), ∀ (k0_h1 : k0_cond1 arg24 = 1#1), ∀ a, (k0_off41 v441) a + S1x1.size a ≤ S8x128.size a := fun arg24 v441 k0_hw41 k0_h1 => k0_hw41 k0_h1

def k0_off42 (v448 : BitVec 32) : Fin 2 → Nat :=
  let c128_i32_233 : BitVec 32 := 128#32
  let v449 : BitVec 32 := Scalar.muli v448 c128_i32_233
  let c0_i32_238 : BitVec 32 := 0#32
  ![v449.toNat, 0]

def k0_chk42 (arg24 : BitVec 32) (v448 : BitVec 32) : Prop :=
  (∀ (k0_h1 : k0_cond1 arg24 = 1#1), ∀ a, (k0_off42 v448) a + S128x1536.size a ≤ S40960x1536.size a) ∧
  (∀ (k0_h1 : k0_cond1 arg24 = 1#1), ∀ (hinb : ∀ a, (k0_off42 v448) a + S128x1536.size a ≤ S40960x1536.size a), (Rect.unit (s := S40960x1536) (k0_off42 v448) S128x1536.size hinb).WholeWords (EltTy.packing .bf16))
theorem k0_off42_inb : ∀ (arg24 : BitVec 32) (v448 : BitVec 32) (k0_hw42 : k0_chk42 arg24 v448), ∀ (k0_h1 : k0_cond1 arg24 = 1#1), ∀ a, (k0_off42 v448) a + S128x1536.size a ≤ S40960x1536.size a := fun arg24 v448 k0_hw42 k0_h1 => k0_hw42.1 k0_h1
theorem k0_off42_wordsbf16 : ∀ (arg24 : BitVec 32) (v448 : BitVec 32) (k0_hw42 : k0_chk42 arg24 v448), ∀ (k0_h1 : k0_cond1 arg24 = 1#1), (Rect.unit (s := S40960x1536) (k0_off42 v448) S128x1536.size (k0_off42_inb arg24 v448 k0_hw42 k0_h1)).WholeWords (EltTy.packing .bf16) := fun arg24 v448 k0_hw42 k0_h1 => k0_hw42.2 k0_h1 (k0_off42_inb arg24 v448 k0_hw42 k0_h1)

def k0_off43 (v455 : BitVec 32) : Fin 2 → Nat :=
  let c8_i32_240 : BitVec 32 := 8#32
  let v456 : BitVec 32 := Scalar.muli v455 c8_i32_240
  let c5_i32_241 : BitVec 32 := 5#32
  let v457 : BitVec 32 := Scalar.addi v456 c5_i32_241
  let c7_i32_242 : BitVec 32 := 7#32
  let v458 : BitVec 32 := Scalar.shrui v457 c7_i32_242
  let v460 : Index := Scalar.indexCast v458
  let c127_i32_243 : BitVec 32 := 127#32
  let v459 : BitVec 32 := Scalar.andi v457 c127_i32_243
  let v461 : Index := Scalar.indexCast v459
  ![v460.toNat, v461.toNat]

def k0_chk43 (arg24 : BitVec 32) (v455 : BitVec 32) : Prop :=
  (∀ (k0_h1 : k0_cond1 arg24 = 1#1), ∀ a, (k0_off43 v455) a + S1x1.size a ≤ S8x128.size a)
theorem k0_off43_inb : ∀ (arg24 : BitVec 32) (v455 : BitVec 32) (k0_hw43 : k0_chk43 arg24 v455), ∀ (k0_h1 : k0_cond1 arg24 = 1#1), ∀ a, (k0_off43 v455) a + S1x1.size a ≤ S8x128.size a := fun arg24 v455 k0_hw43 k0_h1 => k0_hw43 k0_h1

def k0_off44 (v462 : BitVec 32) : Fin 2 → Nat :=
  let c128_i32_244 : BitVec 32 := 128#32
  let v463 : BitVec 32 := Scalar.muli v462 c128_i32_244
  let c0_i32_249 : BitVec 32 := 0#32
  ![v463.toNat, 0]

def k0_chk44 (arg24 : BitVec 32) (v462 : BitVec 32) : Prop :=
  (∀ (k0_h1 : k0_cond1 arg24 = 1#1), ∀ a, (k0_off44 v462) a + S128x1536.size a ≤ S40960x1536.size a) ∧
  (∀ (k0_h1 : k0_cond1 arg24 = 1#1), ∀ (hinb : ∀ a, (k0_off44 v462) a + S128x1536.size a ≤ S40960x1536.size a), (Rect.unit (s := S40960x1536) (k0_off44 v462) S128x1536.size hinb).WholeWords (EltTy.packing .bf16))
theorem k0_off44_inb : ∀ (arg24 : BitVec 32) (v462 : BitVec 32) (k0_hw44 : k0_chk44 arg24 v462), ∀ (k0_h1 : k0_cond1 arg24 = 1#1), ∀ a, (k0_off44 v462) a + S128x1536.size a ≤ S40960x1536.size a := fun arg24 v462 k0_hw44 k0_h1 => k0_hw44.1 k0_h1
theorem k0_off44_wordsbf16 : ∀ (arg24 : BitVec 32) (v462 : BitVec 32) (k0_hw44 : k0_chk44 arg24 v462), ∀ (k0_h1 : k0_cond1 arg24 = 1#1), (Rect.unit (s := S40960x1536) (k0_off44 v462) S128x1536.size (k0_off44_inb arg24 v462 k0_hw44 k0_h1)).WholeWords (EltTy.packing .bf16) := fun arg24 v462 k0_hw44 k0_h1 => k0_hw44.2 k0_h1 (k0_off44_inb arg24 v462 k0_hw44 k0_h1)

def k0_off45 (v469 : BitVec 32) : Fin 2 → Nat :=
  let c8_i32_251 : BitVec 32 := 8#32
  let v470 : BitVec 32 := Scalar.muli v469 c8_i32_251
  let c6_i32_252 : BitVec 32 := 6#32
  let v471 : BitVec 32 := Scalar.addi v470 c6_i32_252
  let c7_i32_253 : BitVec 32 := 7#32
  let v472 : BitVec 32 := Scalar.shrui v471 c7_i32_253
  let v474 : Index := Scalar.indexCast v472
  let c127_i32_254 : BitVec 32 := 127#32
  let v473 : BitVec 32 := Scalar.andi v471 c127_i32_254
  let v475 : Index := Scalar.indexCast v473
  ![v474.toNat, v475.toNat]

def k0_chk45 (arg24 : BitVec 32) (v469 : BitVec 32) : Prop :=
  (∀ (k0_h1 : k0_cond1 arg24 = 1#1), ∀ a, (k0_off45 v469) a + S1x1.size a ≤ S8x128.size a)
theorem k0_off45_inb : ∀ (arg24 : BitVec 32) (v469 : BitVec 32) (k0_hw45 : k0_chk45 arg24 v469), ∀ (k0_h1 : k0_cond1 arg24 = 1#1), ∀ a, (k0_off45 v469) a + S1x1.size a ≤ S8x128.size a := fun arg24 v469 k0_hw45 k0_h1 => k0_hw45 k0_h1

def k0_off46 (v476 : BitVec 32) : Fin 2 → Nat :=
  let c128_i32_255 : BitVec 32 := 128#32
  let v477 : BitVec 32 := Scalar.muli v476 c128_i32_255
  let c0_i32_260 : BitVec 32 := 0#32
  ![v477.toNat, 0]

def k0_chk46 (arg24 : BitVec 32) (v476 : BitVec 32) : Prop :=
  (∀ (k0_h1 : k0_cond1 arg24 = 1#1), ∀ a, (k0_off46 v476) a + S128x1536.size a ≤ S40960x1536.size a) ∧
  (∀ (k0_h1 : k0_cond1 arg24 = 1#1), ∀ (hinb : ∀ a, (k0_off46 v476) a + S128x1536.size a ≤ S40960x1536.size a), (Rect.unit (s := S40960x1536) (k0_off46 v476) S128x1536.size hinb).WholeWords (EltTy.packing .bf16))
theorem k0_off46_inb : ∀ (arg24 : BitVec 32) (v476 : BitVec 32) (k0_hw46 : k0_chk46 arg24 v476), ∀ (k0_h1 : k0_cond1 arg24 = 1#1), ∀ a, (k0_off46 v476) a + S128x1536.size a ≤ S40960x1536.size a := fun arg24 v476 k0_hw46 k0_h1 => k0_hw46.1 k0_h1
theorem k0_off46_wordsbf16 : ∀ (arg24 : BitVec 32) (v476 : BitVec 32) (k0_hw46 : k0_chk46 arg24 v476), ∀ (k0_h1 : k0_cond1 arg24 = 1#1), (Rect.unit (s := S40960x1536) (k0_off46 v476) S128x1536.size (k0_off46_inb arg24 v476 k0_hw46 k0_h1)).WholeWords (EltTy.packing .bf16) := fun arg24 v476 k0_hw46 k0_h1 => k0_hw46.2 k0_h1 (k0_off46_inb arg24 v476 k0_hw46 k0_h1)

def k0_off47 (v483 : BitVec 32) : Fin 2 → Nat :=
  let c8_i32_262 : BitVec 32 := 8#32
  let v484 : BitVec 32 := Scalar.muli v483 c8_i32_262
  let c7_i32_263 : BitVec 32 := 7#32
  let v485 : BitVec 32 := Scalar.addi v484 c7_i32_263
  let c7_i32_264 : BitVec 32 := 7#32
  let v486 : BitVec 32 := Scalar.shrui v485 c7_i32_264
  let v488 : Index := Scalar.indexCast v486
  let c127_i32_265 : BitVec 32 := 127#32
  let v487 : BitVec 32 := Scalar.andi v485 c127_i32_265
  let v489 : Index := Scalar.indexCast v487
  ![v488.toNat, v489.toNat]

def k0_chk47 (arg24 : BitVec 32) (v483 : BitVec 32) : Prop :=
  (∀ (k0_h1 : k0_cond1 arg24 = 1#1), ∀ a, (k0_off47 v483) a + S1x1.size a ≤ S8x128.size a)
theorem k0_off47_inb : ∀ (arg24 : BitVec 32) (v483 : BitVec 32) (k0_hw47 : k0_chk47 arg24 v483), ∀ (k0_h1 : k0_cond1 arg24 = 1#1), ∀ a, (k0_off47 v483) a + S1x1.size a ≤ S8x128.size a := fun arg24 v483 k0_hw47 k0_h1 => k0_hw47 k0_h1

def k0_off48 (v490 : BitVec 32) : Fin 2 → Nat :=
  let c128_i32_266 : BitVec 32 := 128#32
  let v491 : BitVec 32 := Scalar.muli v490 c128_i32_266
  let c0_i32_271 : BitVec 32 := 0#32
  ![v491.toNat, 0]

def k0_chk48 (arg24 : BitVec 32) (v490 : BitVec 32) : Prop :=
  (∀ (k0_h1 : k0_cond1 arg24 = 1#1), ∀ a, (k0_off48 v490) a + S128x1536.size a ≤ S40960x1536.size a) ∧
  (∀ (k0_h1 : k0_cond1 arg24 = 1#1), ∀ (hinb : ∀ a, (k0_off48 v490) a + S128x1536.size a ≤ S40960x1536.size a), (Rect.unit (s := S40960x1536) (k0_off48 v490) S128x1536.size hinb).WholeWords (EltTy.packing .bf16))
theorem k0_off48_inb : ∀ (arg24 : BitVec 32) (v490 : BitVec 32) (k0_hw48 : k0_chk48 arg24 v490), ∀ (k0_h1 : k0_cond1 arg24 = 1#1), ∀ a, (k0_off48 v490) a + S128x1536.size a ≤ S40960x1536.size a := fun arg24 v490 k0_hw48 k0_h1 => k0_hw48.1 k0_h1
theorem k0_off48_wordsbf16 : ∀ (arg24 : BitVec 32) (v490 : BitVec 32) (k0_hw48 : k0_chk48 arg24 v490), ∀ (k0_h1 : k0_cond1 arg24 = 1#1), (Rect.unit (s := S40960x1536) (k0_off48 v490) S128x1536.size (k0_off48_inb arg24 v490 k0_hw48 k0_h1)).WholeWords (EltTy.packing .bf16) := fun arg24 v490 k0_hw48 k0_h1 => k0_hw48.2 k0_h1 (k0_off48_inb arg24 v490 k0_hw48 k0_h1)

@[reducible] def k0_t2_loop (arg24 : BitVec 32) : Scf.Loop 32 :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_65 : BitVec 32 := 1#32
  ⟨c0_i32_63, v209, c1_i32_65⟩

def k0_off49 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let v2032 : Index := Scalar.indexCast v2031
  ![v2032.toNat]
def k0_cond3 (arg24 : BitVec 32) (k0_t2 : Fin (k0_t2_loop arg24).trips) : BitVec 1 :=
  let c0_i32_63 : BitVec 32 := 0#32
  let c1_i32_65 : BitVec 32 := 1#32
  let arg25 : BitVec 32 := Scf.iv c0_i32_63 c1_i32_65 k0_t2
  let c1_i32_99 : BitVec 32 := 1#32
  let v270 : BitVec 32 := Scalar.addi arg25 c1_i32_99
  let v271 : BitVec 1 := Scalar.cmpi .slt v270 arg24
  let v272 : BitVec 32 := Scalar.extui v271
  let c0_i32_100 : BitVec 32 := 0#32
  let v273 : BitVec 1 := Scalar.cmpi .ne v272 c0_i32_100
  v273

def k0_off50 (v2033 : BitVec 32) : Fin 2 → Nat :=
  let c8_i32_855 : BitVec 32 := 8#32
  let v2034 : BitVec 32 := Scalar.muli v2033 c8_i32_855
  let c0_i32_856 : BitVec 32 := 0#32
  let v2035 : BitVec 32 := Scalar.addi v2034 c0_i32_856
  let c7_i32_857 : BitVec 32 := 7#32
  let v2036 : BitVec 32 := Scalar.shrui v2035 c7_i32_857
  let v2038 : Index := Scalar.indexCast v2036
  let c127_i32_858 : BitVec 32 := 127#32
  let v2037 : BitVec 32 := Scalar.andi v2035 c127_i32_858
  let v2039 : Index := Scalar.indexCast v2037
  ![v2038.toNat, v2039.toNat]

def k0_chk50 (arg24 : BitVec 32) (k0_t2 : Fin (k0_t2_loop arg24).trips) (v2033 : BitVec 32) : Prop :=
  (∀ (k0_h3 : k0_cond3 arg24 k0_t2 = 1#1), ∀ a, (k0_off50 v2033) a + S1x1.size a ≤ S8x128.size a)
theorem k0_off50_inb : ∀ (arg24 : BitVec 32) (k0_t2 : Fin (k0_t2_loop arg24).trips) (v2033 : BitVec 32) (k0_hw50 : k0_chk50 arg24 k0_t2 v2033), ∀ (k0_h3 : k0_cond3 arg24 k0_t2 = 1#1), ∀ a, (k0_off50 v2033) a + S1x1.size a ≤ S8x128.size a := fun arg24 k0_t2 v2033 k0_hw50 k0_h3 => k0_hw50 k0_h3

def k0_off51 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_861 : BitVec 32 := 1#32
  let v2043 : BitVec 32 := Scalar.andi v2031 c1_i32_861
  ![v2043.toNat]
def k0_off52 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_860 : BitVec 32 := 1#32
  let v2042 : BitVec 32 := Scalar.andi v2031 c1_i32_860
  let c0_i32_862 : BitVec 32 := 0#32
  let c0_i32_863 : BitVec 32 := 0#32
  ![v2042.toNat, 0, 0]
def k0_off53 (v2040 : BitVec 32) : Fin 2 → Nat :=
  let c128_i32_859 : BitVec 32 := 128#32
  let v2041 : BitVec 32 := Scalar.muli v2040 c128_i32_859
  let c0_i32_864 : BitVec 32 := 0#32
  ![v2041.toNat, 0]

def k0_chk51 (arg24 : BitVec 32) (k0_t2 : Fin (k0_t2_loop arg24).trips) (v2040 : BitVec 32) : Prop :=
  (∀ (k0_h3 : k0_cond3 arg24 k0_t2 = 1#1), ∀ a, (k0_off53 v2040) a + S128x1536.size a ≤ S40960x1536.size a) ∧
  (∀ (k0_h3 : k0_cond3 arg24 k0_t2 = 1#1), ∀ (hinb : ∀ a, (k0_off53 v2040) a + S128x1536.size a ≤ S40960x1536.size a), (Rect.unit (s := S40960x1536) (k0_off53 v2040) S128x1536.size hinb).WholeWords (EltTy.packing .bf16))
theorem k0_off53_inb : ∀ (arg24 : BitVec 32) (k0_t2 : Fin (k0_t2_loop arg24).trips) (v2040 : BitVec 32) (k0_hw51 : k0_chk51 arg24 k0_t2 v2040), ∀ (k0_h3 : k0_cond3 arg24 k0_t2 = 1#1), ∀ a, (k0_off53 v2040) a + S128x1536.size a ≤ S40960x1536.size a := fun arg24 k0_t2 v2040 k0_hw51 k0_h3 => k0_hw51.1 k0_h3
theorem k0_off53_wordsbf16 : ∀ (arg24 : BitVec 32) (k0_t2 : Fin (k0_t2_loop arg24).trips) (v2040 : BitVec 32) (k0_hw51 : k0_chk51 arg24 k0_t2 v2040), ∀ (k0_h3 : k0_cond3 arg24 k0_t2 = 1#1), (Rect.unit (s := S40960x1536) (k0_off53 v2040) S128x1536.size (k0_off53_inb arg24 k0_t2 v2040 k0_hw51 k0_h3)).WholeWords (EltTy.packing .bf16) := fun arg24 k0_t2 v2040 k0_hw51 k0_h3 => k0_hw51.2 k0_h3 (k0_off53_inb arg24 k0_t2 v2040 k0_hw51 k0_h3)

def k0_off54 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let v2049 : Index := Scalar.indexCast v2031
  ![v2049.toNat]
def k0_off55 (v2050 : BitVec 32) : Fin 2 → Nat :=
  let c8_i32_865 : BitVec 32 := 8#32
  let v2051 : BitVec 32 := Scalar.muli v2050 c8_i32_865
  let c1_i32_866 : BitVec 32 := 1#32
  let v2052 : BitVec 32 := Scalar.addi v2051 c1_i32_866
  let c7_i32_867 : BitVec 32 := 7#32
  let v2053 : BitVec 32 := Scalar.shrui v2052 c7_i32_867
  let v2055 : Index := Scalar.indexCast v2053
  let c127_i32_868 : BitVec 32 := 127#32
  let v2054 : BitVec 32 := Scalar.andi v2052 c127_i32_868
  let v2056 : Index := Scalar.indexCast v2054
  ![v2055.toNat, v2056.toNat]

def k0_chk52 (arg24 : BitVec 32) (k0_t2 : Fin (k0_t2_loop arg24).trips) (v2050 : BitVec 32) : Prop :=
  (∀ (k0_h3 : k0_cond3 arg24 k0_t2 = 1#1), ∀ a, (k0_off55 v2050) a + S1x1.size a ≤ S8x128.size a)
theorem k0_off55_inb : ∀ (arg24 : BitVec 32) (k0_t2 : Fin (k0_t2_loop arg24).trips) (v2050 : BitVec 32) (k0_hw52 : k0_chk52 arg24 k0_t2 v2050), ∀ (k0_h3 : k0_cond3 arg24 k0_t2 = 1#1), ∀ a, (k0_off55 v2050) a + S1x1.size a ≤ S8x128.size a := fun arg24 k0_t2 v2050 k0_hw52 k0_h3 => k0_hw52 k0_h3

def k0_off56 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_871 : BitVec 32 := 1#32
  let v2060 : BitVec 32 := Scalar.andi v2031 c1_i32_871
  ![v2060.toNat]
def k0_off57 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_870 : BitVec 32 := 1#32
  let v2059 : BitVec 32 := Scalar.andi v2031 c1_i32_870
  let c128_i32_872 : BitVec 32 := 128#32
  let c0_i32_873 : BitVec 32 := 0#32
  ![v2059.toNat, 128, 0]
def k0_off58 (v2057 : BitVec 32) : Fin 2 → Nat :=
  let c128_i32_869 : BitVec 32 := 128#32
  let v2058 : BitVec 32 := Scalar.muli v2057 c128_i32_869
  let c0_i32_874 : BitVec 32 := 0#32
  ![v2058.toNat, 0]

def k0_chk53 (arg24 : BitVec 32) (k0_t2 : Fin (k0_t2_loop arg24).trips) (v2057 : BitVec 32) : Prop :=
  (∀ (k0_h3 : k0_cond3 arg24 k0_t2 = 1#1), ∀ a, (k0_off58 v2057) a + S128x1536.size a ≤ S40960x1536.size a) ∧
  (∀ (k0_h3 : k0_cond3 arg24 k0_t2 = 1#1), ∀ (hinb : ∀ a, (k0_off58 v2057) a + S128x1536.size a ≤ S40960x1536.size a), (Rect.unit (s := S40960x1536) (k0_off58 v2057) S128x1536.size hinb).WholeWords (EltTy.packing .bf16))
theorem k0_off58_inb : ∀ (arg24 : BitVec 32) (k0_t2 : Fin (k0_t2_loop arg24).trips) (v2057 : BitVec 32) (k0_hw53 : k0_chk53 arg24 k0_t2 v2057), ∀ (k0_h3 : k0_cond3 arg24 k0_t2 = 1#1), ∀ a, (k0_off58 v2057) a + S128x1536.size a ≤ S40960x1536.size a := fun arg24 k0_t2 v2057 k0_hw53 k0_h3 => k0_hw53.1 k0_h3
theorem k0_off58_wordsbf16 : ∀ (arg24 : BitVec 32) (k0_t2 : Fin (k0_t2_loop arg24).trips) (v2057 : BitVec 32) (k0_hw53 : k0_chk53 arg24 k0_t2 v2057), ∀ (k0_h3 : k0_cond3 arg24 k0_t2 = 1#1), (Rect.unit (s := S40960x1536) (k0_off58 v2057) S128x1536.size (k0_off58_inb arg24 k0_t2 v2057 k0_hw53 k0_h3)).WholeWords (EltTy.packing .bf16) := fun arg24 k0_t2 v2057 k0_hw53 k0_h3 => k0_hw53.2 k0_h3 (k0_off58_inb arg24 k0_t2 v2057 k0_hw53 k0_h3)

def k0_off59 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let v2066 : Index := Scalar.indexCast v2031
  ![v2066.toNat]
def k0_off60 (v2067 : BitVec 32) : Fin 2 → Nat :=
  let c8_i32_875 : BitVec 32 := 8#32
  let v2068 : BitVec 32 := Scalar.muli v2067 c8_i32_875
  let c2_i32_876 : BitVec 32 := 2#32
  let v2069 : BitVec 32 := Scalar.addi v2068 c2_i32_876
  let c7_i32_877 : BitVec 32 := 7#32
  let v2070 : BitVec 32 := Scalar.shrui v2069 c7_i32_877
  let v2072 : Index := Scalar.indexCast v2070
  let c127_i32_878 : BitVec 32 := 127#32
  let v2071 : BitVec 32 := Scalar.andi v2069 c127_i32_878
  let v2073 : Index := Scalar.indexCast v2071
  ![v2072.toNat, v2073.toNat]

def k0_chk54 (arg24 : BitVec 32) (k0_t2 : Fin (k0_t2_loop arg24).trips) (v2067 : BitVec 32) : Prop :=
  (∀ (k0_h3 : k0_cond3 arg24 k0_t2 = 1#1), ∀ a, (k0_off60 v2067) a + S1x1.size a ≤ S8x128.size a)
theorem k0_off60_inb : ∀ (arg24 : BitVec 32) (k0_t2 : Fin (k0_t2_loop arg24).trips) (v2067 : BitVec 32) (k0_hw54 : k0_chk54 arg24 k0_t2 v2067), ∀ (k0_h3 : k0_cond3 arg24 k0_t2 = 1#1), ∀ a, (k0_off60 v2067) a + S1x1.size a ≤ S8x128.size a := fun arg24 k0_t2 v2067 k0_hw54 k0_h3 => k0_hw54 k0_h3

def k0_off61 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_881 : BitVec 32 := 1#32
  let v2077 : BitVec 32 := Scalar.andi v2031 c1_i32_881
  ![v2077.toNat]
def k0_off62 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_880 : BitVec 32 := 1#32
  let v2076 : BitVec 32 := Scalar.andi v2031 c1_i32_880
  let c256_i32_882 : BitVec 32 := 256#32
  let c0_i32_883 : BitVec 32 := 0#32
  ![v2076.toNat, 256, 0]
def k0_off63 (v2074 : BitVec 32) : Fin 2 → Nat :=
  let c128_i32_879 : BitVec 32 := 128#32
  let v2075 : BitVec 32 := Scalar.muli v2074 c128_i32_879
  let c0_i32_884 : BitVec 32 := 0#32
  ![v2075.toNat, 0]

def k0_chk55 (arg24 : BitVec 32) (k0_t2 : Fin (k0_t2_loop arg24).trips) (v2074 : BitVec 32) : Prop :=
  (∀ (k0_h3 : k0_cond3 arg24 k0_t2 = 1#1), ∀ a, (k0_off63 v2074) a + S128x1536.size a ≤ S40960x1536.size a) ∧
  (∀ (k0_h3 : k0_cond3 arg24 k0_t2 = 1#1), ∀ (hinb : ∀ a, (k0_off63 v2074) a + S128x1536.size a ≤ S40960x1536.size a), (Rect.unit (s := S40960x1536) (k0_off63 v2074) S128x1536.size hinb).WholeWords (EltTy.packing .bf16))
theorem k0_off63_inb : ∀ (arg24 : BitVec 32) (k0_t2 : Fin (k0_t2_loop arg24).trips) (v2074 : BitVec 32) (k0_hw55 : k0_chk55 arg24 k0_t2 v2074), ∀ (k0_h3 : k0_cond3 arg24 k0_t2 = 1#1), ∀ a, (k0_off63 v2074) a + S128x1536.size a ≤ S40960x1536.size a := fun arg24 k0_t2 v2074 k0_hw55 k0_h3 => k0_hw55.1 k0_h3
theorem k0_off63_wordsbf16 : ∀ (arg24 : BitVec 32) (k0_t2 : Fin (k0_t2_loop arg24).trips) (v2074 : BitVec 32) (k0_hw55 : k0_chk55 arg24 k0_t2 v2074), ∀ (k0_h3 : k0_cond3 arg24 k0_t2 = 1#1), (Rect.unit (s := S40960x1536) (k0_off63 v2074) S128x1536.size (k0_off63_inb arg24 k0_t2 v2074 k0_hw55 k0_h3)).WholeWords (EltTy.packing .bf16) := fun arg24 k0_t2 v2074 k0_hw55 k0_h3 => k0_hw55.2 k0_h3 (k0_off63_inb arg24 k0_t2 v2074 k0_hw55 k0_h3)

def k0_off64 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let v2083 : Index := Scalar.indexCast v2031
  ![v2083.toNat]
def k0_off65 (v2084 : BitVec 32) : Fin 2 → Nat :=
  let c8_i32_885 : BitVec 32 := 8#32
  let v2085 : BitVec 32 := Scalar.muli v2084 c8_i32_885
  let c3_i32_886 : BitVec 32 := 3#32
  let v2086 : BitVec 32 := Scalar.addi v2085 c3_i32_886
  let c7_i32_887 : BitVec 32 := 7#32
  let v2087 : BitVec 32 := Scalar.shrui v2086 c7_i32_887
  let v2089 : Index := Scalar.indexCast v2087
  let c127_i32_888 : BitVec 32 := 127#32
  let v2088 : BitVec 32 := Scalar.andi v2086 c127_i32_888
  let v2090 : Index := Scalar.indexCast v2088
  ![v2089.toNat, v2090.toNat]

def k0_chk56 (arg24 : BitVec 32) (k0_t2 : Fin (k0_t2_loop arg24).trips) (v2084 : BitVec 32) : Prop :=
  (∀ (k0_h3 : k0_cond3 arg24 k0_t2 = 1#1), ∀ a, (k0_off65 v2084) a + S1x1.size a ≤ S8x128.size a)
theorem k0_off65_inb : ∀ (arg24 : BitVec 32) (k0_t2 : Fin (k0_t2_loop arg24).trips) (v2084 : BitVec 32) (k0_hw56 : k0_chk56 arg24 k0_t2 v2084), ∀ (k0_h3 : k0_cond3 arg24 k0_t2 = 1#1), ∀ a, (k0_off65 v2084) a + S1x1.size a ≤ S8x128.size a := fun arg24 k0_t2 v2084 k0_hw56 k0_h3 => k0_hw56 k0_h3

def k0_off66 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_891 : BitVec 32 := 1#32
  let v2094 : BitVec 32 := Scalar.andi v2031 c1_i32_891
  ![v2094.toNat]
def k0_off67 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_890 : BitVec 32 := 1#32
  let v2093 : BitVec 32 := Scalar.andi v2031 c1_i32_890
  let c384_i32_892 : BitVec 32 := 384#32
  let c0_i32_893 : BitVec 32 := 0#32
  ![v2093.toNat, 384, 0]
def k0_off68 (v2091 : BitVec 32) : Fin 2 → Nat :=
  let c128_i32_889 : BitVec 32 := 128#32
  let v2092 : BitVec 32 := Scalar.muli v2091 c128_i32_889
  let c0_i32_894 : BitVec 32 := 0#32
  ![v2092.toNat, 0]

def k0_chk57 (arg24 : BitVec 32) (k0_t2 : Fin (k0_t2_loop arg24).trips) (v2091 : BitVec 32) : Prop :=
  (∀ (k0_h3 : k0_cond3 arg24 k0_t2 = 1#1), ∀ a, (k0_off68 v2091) a + S128x1536.size a ≤ S40960x1536.size a) ∧
  (∀ (k0_h3 : k0_cond3 arg24 k0_t2 = 1#1), ∀ (hinb : ∀ a, (k0_off68 v2091) a + S128x1536.size a ≤ S40960x1536.size a), (Rect.unit (s := S40960x1536) (k0_off68 v2091) S128x1536.size hinb).WholeWords (EltTy.packing .bf16))
theorem k0_off68_inb : ∀ (arg24 : BitVec 32) (k0_t2 : Fin (k0_t2_loop arg24).trips) (v2091 : BitVec 32) (k0_hw57 : k0_chk57 arg24 k0_t2 v2091), ∀ (k0_h3 : k0_cond3 arg24 k0_t2 = 1#1), ∀ a, (k0_off68 v2091) a + S128x1536.size a ≤ S40960x1536.size a := fun arg24 k0_t2 v2091 k0_hw57 k0_h3 => k0_hw57.1 k0_h3
theorem k0_off68_wordsbf16 : ∀ (arg24 : BitVec 32) (k0_t2 : Fin (k0_t2_loop arg24).trips) (v2091 : BitVec 32) (k0_hw57 : k0_chk57 arg24 k0_t2 v2091), ∀ (k0_h3 : k0_cond3 arg24 k0_t2 = 1#1), (Rect.unit (s := S40960x1536) (k0_off68 v2091) S128x1536.size (k0_off68_inb arg24 k0_t2 v2091 k0_hw57 k0_h3)).WholeWords (EltTy.packing .bf16) := fun arg24 k0_t2 v2091 k0_hw57 k0_h3 => k0_hw57.2 k0_h3 (k0_off68_inb arg24 k0_t2 v2091 k0_hw57 k0_h3)

def k0_off69 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let v2100 : Index := Scalar.indexCast v2031
  ![v2100.toNat]
def k0_off70 (v2101 : BitVec 32) : Fin 2 → Nat :=
  let c8_i32_895 : BitVec 32 := 8#32
  let v2102 : BitVec 32 := Scalar.muli v2101 c8_i32_895
  let c4_i32_896 : BitVec 32 := 4#32
  let v2103 : BitVec 32 := Scalar.addi v2102 c4_i32_896
  let c7_i32_897 : BitVec 32 := 7#32
  let v2104 : BitVec 32 := Scalar.shrui v2103 c7_i32_897
  let v2106 : Index := Scalar.indexCast v2104
  let c127_i32_898 : BitVec 32 := 127#32
  let v2105 : BitVec 32 := Scalar.andi v2103 c127_i32_898
  let v2107 : Index := Scalar.indexCast v2105
  ![v2106.toNat, v2107.toNat]

def k0_chk58 (arg24 : BitVec 32) (k0_t2 : Fin (k0_t2_loop arg24).trips) (v2101 : BitVec 32) : Prop :=
  (∀ (k0_h3 : k0_cond3 arg24 k0_t2 = 1#1), ∀ a, (k0_off70 v2101) a + S1x1.size a ≤ S8x128.size a)
theorem k0_off70_inb : ∀ (arg24 : BitVec 32) (k0_t2 : Fin (k0_t2_loop arg24).trips) (v2101 : BitVec 32) (k0_hw58 : k0_chk58 arg24 k0_t2 v2101), ∀ (k0_h3 : k0_cond3 arg24 k0_t2 = 1#1), ∀ a, (k0_off70 v2101) a + S1x1.size a ≤ S8x128.size a := fun arg24 k0_t2 v2101 k0_hw58 k0_h3 => k0_hw58 k0_h3

def k0_off71 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_901 : BitVec 32 := 1#32
  let v2111 : BitVec 32 := Scalar.andi v2031 c1_i32_901
  ![v2111.toNat]
def k0_off72 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_900 : BitVec 32 := 1#32
  let v2110 : BitVec 32 := Scalar.andi v2031 c1_i32_900
  let c512_i32_902 : BitVec 32 := 512#32
  let c0_i32_903 : BitVec 32 := 0#32
  ![v2110.toNat, 512, 0]
def k0_off73 (v2108 : BitVec 32) : Fin 2 → Nat :=
  let c128_i32_899 : BitVec 32 := 128#32
  let v2109 : BitVec 32 := Scalar.muli v2108 c128_i32_899
  let c0_i32_904 : BitVec 32 := 0#32
  ![v2109.toNat, 0]

def k0_chk59 (arg24 : BitVec 32) (k0_t2 : Fin (k0_t2_loop arg24).trips) (v2108 : BitVec 32) : Prop :=
  (∀ (k0_h3 : k0_cond3 arg24 k0_t2 = 1#1), ∀ a, (k0_off73 v2108) a + S128x1536.size a ≤ S40960x1536.size a) ∧
  (∀ (k0_h3 : k0_cond3 arg24 k0_t2 = 1#1), ∀ (hinb : ∀ a, (k0_off73 v2108) a + S128x1536.size a ≤ S40960x1536.size a), (Rect.unit (s := S40960x1536) (k0_off73 v2108) S128x1536.size hinb).WholeWords (EltTy.packing .bf16))
theorem k0_off73_inb : ∀ (arg24 : BitVec 32) (k0_t2 : Fin (k0_t2_loop arg24).trips) (v2108 : BitVec 32) (k0_hw59 : k0_chk59 arg24 k0_t2 v2108), ∀ (k0_h3 : k0_cond3 arg24 k0_t2 = 1#1), ∀ a, (k0_off73 v2108) a + S128x1536.size a ≤ S40960x1536.size a := fun arg24 k0_t2 v2108 k0_hw59 k0_h3 => k0_hw59.1 k0_h3
theorem k0_off73_wordsbf16 : ∀ (arg24 : BitVec 32) (k0_t2 : Fin (k0_t2_loop arg24).trips) (v2108 : BitVec 32) (k0_hw59 : k0_chk59 arg24 k0_t2 v2108), ∀ (k0_h3 : k0_cond3 arg24 k0_t2 = 1#1), (Rect.unit (s := S40960x1536) (k0_off73 v2108) S128x1536.size (k0_off73_inb arg24 k0_t2 v2108 k0_hw59 k0_h3)).WholeWords (EltTy.packing .bf16) := fun arg24 k0_t2 v2108 k0_hw59 k0_h3 => k0_hw59.2 k0_h3 (k0_off73_inb arg24 k0_t2 v2108 k0_hw59 k0_h3)

def k0_off74 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let v2117 : Index := Scalar.indexCast v2031
  ![v2117.toNat]
def k0_off75 (v2118 : BitVec 32) : Fin 2 → Nat :=
  let c8_i32_905 : BitVec 32 := 8#32
  let v2119 : BitVec 32 := Scalar.muli v2118 c8_i32_905
  let c5_i32_906 : BitVec 32 := 5#32
  let v2120 : BitVec 32 := Scalar.addi v2119 c5_i32_906
  let c7_i32_907 : BitVec 32 := 7#32
  let v2121 : BitVec 32 := Scalar.shrui v2120 c7_i32_907
  let v2123 : Index := Scalar.indexCast v2121
  let c127_i32_908 : BitVec 32 := 127#32
  let v2122 : BitVec 32 := Scalar.andi v2120 c127_i32_908
  let v2124 : Index := Scalar.indexCast v2122
  ![v2123.toNat, v2124.toNat]

def k0_chk60 (arg24 : BitVec 32) (k0_t2 : Fin (k0_t2_loop arg24).trips) (v2118 : BitVec 32) : Prop :=
  (∀ (k0_h3 : k0_cond3 arg24 k0_t2 = 1#1), ∀ a, (k0_off75 v2118) a + S1x1.size a ≤ S8x128.size a)
theorem k0_off75_inb : ∀ (arg24 : BitVec 32) (k0_t2 : Fin (k0_t2_loop arg24).trips) (v2118 : BitVec 32) (k0_hw60 : k0_chk60 arg24 k0_t2 v2118), ∀ (k0_h3 : k0_cond3 arg24 k0_t2 = 1#1), ∀ a, (k0_off75 v2118) a + S1x1.size a ≤ S8x128.size a := fun arg24 k0_t2 v2118 k0_hw60 k0_h3 => k0_hw60 k0_h3

def k0_off76 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_911 : BitVec 32 := 1#32
  let v2128 : BitVec 32 := Scalar.andi v2031 c1_i32_911
  ![v2128.toNat]
def k0_off77 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_910 : BitVec 32 := 1#32
  let v2127 : BitVec 32 := Scalar.andi v2031 c1_i32_910
  let c640_i32_912 : BitVec 32 := 640#32
  let c0_i32_913 : BitVec 32 := 0#32
  ![v2127.toNat, 640, 0]
def k0_off78 (v2125 : BitVec 32) : Fin 2 → Nat :=
  let c128_i32_909 : BitVec 32 := 128#32
  let v2126 : BitVec 32 := Scalar.muli v2125 c128_i32_909
  let c0_i32_914 : BitVec 32 := 0#32
  ![v2126.toNat, 0]

def k0_chk61 (arg24 : BitVec 32) (k0_t2 : Fin (k0_t2_loop arg24).trips) (v2125 : BitVec 32) : Prop :=
  (∀ (k0_h3 : k0_cond3 arg24 k0_t2 = 1#1), ∀ a, (k0_off78 v2125) a + S128x1536.size a ≤ S40960x1536.size a) ∧
  (∀ (k0_h3 : k0_cond3 arg24 k0_t2 = 1#1), ∀ (hinb : ∀ a, (k0_off78 v2125) a + S128x1536.size a ≤ S40960x1536.size a), (Rect.unit (s := S40960x1536) (k0_off78 v2125) S128x1536.size hinb).WholeWords (EltTy.packing .bf16))
theorem k0_off78_inb : ∀ (arg24 : BitVec 32) (k0_t2 : Fin (k0_t2_loop arg24).trips) (v2125 : BitVec 32) (k0_hw61 : k0_chk61 arg24 k0_t2 v2125), ∀ (k0_h3 : k0_cond3 arg24 k0_t2 = 1#1), ∀ a, (k0_off78 v2125) a + S128x1536.size a ≤ S40960x1536.size a := fun arg24 k0_t2 v2125 k0_hw61 k0_h3 => k0_hw61.1 k0_h3
theorem k0_off78_wordsbf16 : ∀ (arg24 : BitVec 32) (k0_t2 : Fin (k0_t2_loop arg24).trips) (v2125 : BitVec 32) (k0_hw61 : k0_chk61 arg24 k0_t2 v2125), ∀ (k0_h3 : k0_cond3 arg24 k0_t2 = 1#1), (Rect.unit (s := S40960x1536) (k0_off78 v2125) S128x1536.size (k0_off78_inb arg24 k0_t2 v2125 k0_hw61 k0_h3)).WholeWords (EltTy.packing .bf16) := fun arg24 k0_t2 v2125 k0_hw61 k0_h3 => k0_hw61.2 k0_h3 (k0_off78_inb arg24 k0_t2 v2125 k0_hw61 k0_h3)

def k0_off79 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let v2134 : Index := Scalar.indexCast v2031
  ![v2134.toNat]
def k0_off80 (v2135 : BitVec 32) : Fin 2 → Nat :=
  let c8_i32_915 : BitVec 32 := 8#32
  let v2136 : BitVec 32 := Scalar.muli v2135 c8_i32_915
  let c6_i32_916 : BitVec 32 := 6#32
  let v2137 : BitVec 32 := Scalar.addi v2136 c6_i32_916
  let c7_i32_917 : BitVec 32 := 7#32
  let v2138 : BitVec 32 := Scalar.shrui v2137 c7_i32_917
  let v2140 : Index := Scalar.indexCast v2138
  let c127_i32_918 : BitVec 32 := 127#32
  let v2139 : BitVec 32 := Scalar.andi v2137 c127_i32_918
  let v2141 : Index := Scalar.indexCast v2139
  ![v2140.toNat, v2141.toNat]

def k0_chk62 (arg24 : BitVec 32) (k0_t2 : Fin (k0_t2_loop arg24).trips) (v2135 : BitVec 32) : Prop :=
  (∀ (k0_h3 : k0_cond3 arg24 k0_t2 = 1#1), ∀ a, (k0_off80 v2135) a + S1x1.size a ≤ S8x128.size a)
theorem k0_off80_inb : ∀ (arg24 : BitVec 32) (k0_t2 : Fin (k0_t2_loop arg24).trips) (v2135 : BitVec 32) (k0_hw62 : k0_chk62 arg24 k0_t2 v2135), ∀ (k0_h3 : k0_cond3 arg24 k0_t2 = 1#1), ∀ a, (k0_off80 v2135) a + S1x1.size a ≤ S8x128.size a := fun arg24 k0_t2 v2135 k0_hw62 k0_h3 => k0_hw62 k0_h3

def k0_off81 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_921 : BitVec 32 := 1#32
  let v2145 : BitVec 32 := Scalar.andi v2031 c1_i32_921
  ![v2145.toNat]
def k0_off82 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_920 : BitVec 32 := 1#32
  let v2144 : BitVec 32 := Scalar.andi v2031 c1_i32_920
  let c768_i32_922 : BitVec 32 := 768#32
  let c0_i32_923 : BitVec 32 := 0#32
  ![v2144.toNat, 768, 0]
def k0_off83 (v2142 : BitVec 32) : Fin 2 → Nat :=
  let c128_i32_919 : BitVec 32 := 128#32
  let v2143 : BitVec 32 := Scalar.muli v2142 c128_i32_919
  let c0_i32_924 : BitVec 32 := 0#32
  ![v2143.toNat, 0]

def k0_chk63 (arg24 : BitVec 32) (k0_t2 : Fin (k0_t2_loop arg24).trips) (v2142 : BitVec 32) : Prop :=
  (∀ (k0_h3 : k0_cond3 arg24 k0_t2 = 1#1), ∀ a, (k0_off83 v2142) a + S128x1536.size a ≤ S40960x1536.size a) ∧
  (∀ (k0_h3 : k0_cond3 arg24 k0_t2 = 1#1), ∀ (hinb : ∀ a, (k0_off83 v2142) a + S128x1536.size a ≤ S40960x1536.size a), (Rect.unit (s := S40960x1536) (k0_off83 v2142) S128x1536.size hinb).WholeWords (EltTy.packing .bf16))
theorem k0_off83_inb : ∀ (arg24 : BitVec 32) (k0_t2 : Fin (k0_t2_loop arg24).trips) (v2142 : BitVec 32) (k0_hw63 : k0_chk63 arg24 k0_t2 v2142), ∀ (k0_h3 : k0_cond3 arg24 k0_t2 = 1#1), ∀ a, (k0_off83 v2142) a + S128x1536.size a ≤ S40960x1536.size a := fun arg24 k0_t2 v2142 k0_hw63 k0_h3 => k0_hw63.1 k0_h3
theorem k0_off83_wordsbf16 : ∀ (arg24 : BitVec 32) (k0_t2 : Fin (k0_t2_loop arg24).trips) (v2142 : BitVec 32) (k0_hw63 : k0_chk63 arg24 k0_t2 v2142), ∀ (k0_h3 : k0_cond3 arg24 k0_t2 = 1#1), (Rect.unit (s := S40960x1536) (k0_off83 v2142) S128x1536.size (k0_off83_inb arg24 k0_t2 v2142 k0_hw63 k0_h3)).WholeWords (EltTy.packing .bf16) := fun arg24 k0_t2 v2142 k0_hw63 k0_h3 => k0_hw63.2 k0_h3 (k0_off83_inb arg24 k0_t2 v2142 k0_hw63 k0_h3)

def k0_off84 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let v2151 : Index := Scalar.indexCast v2031
  ![v2151.toNat]
def k0_off85 (v2152 : BitVec 32) : Fin 2 → Nat :=
  let c8_i32_925 : BitVec 32 := 8#32
  let v2153 : BitVec 32 := Scalar.muli v2152 c8_i32_925
  let c7_i32_926 : BitVec 32 := 7#32
  let v2154 : BitVec 32 := Scalar.addi v2153 c7_i32_926
  let c7_i32_927 : BitVec 32 := 7#32
  let v2155 : BitVec 32 := Scalar.shrui v2154 c7_i32_927
  let v2157 : Index := Scalar.indexCast v2155
  let c127_i32_928 : BitVec 32 := 127#32
  let v2156 : BitVec 32 := Scalar.andi v2154 c127_i32_928
  let v2158 : Index := Scalar.indexCast v2156
  ![v2157.toNat, v2158.toNat]

def k0_chk64 (arg24 : BitVec 32) (k0_t2 : Fin (k0_t2_loop arg24).trips) (v2152 : BitVec 32) : Prop :=
  (∀ (k0_h3 : k0_cond3 arg24 k0_t2 = 1#1), ∀ a, (k0_off85 v2152) a + S1x1.size a ≤ S8x128.size a)
theorem k0_off85_inb : ∀ (arg24 : BitVec 32) (k0_t2 : Fin (k0_t2_loop arg24).trips) (v2152 : BitVec 32) (k0_hw64 : k0_chk64 arg24 k0_t2 v2152), ∀ (k0_h3 : k0_cond3 arg24 k0_t2 = 1#1), ∀ a, (k0_off85 v2152) a + S1x1.size a ≤ S8x128.size a := fun arg24 k0_t2 v2152 k0_hw64 k0_h3 => k0_hw64 k0_h3

def k0_off86 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_931 : BitVec 32 := 1#32
  let v2162 : BitVec 32 := Scalar.andi v2031 c1_i32_931
  ![v2162.toNat]
def k0_off87 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.addi arg25 c1_i32_854
  let c1_i32_930 : BitVec 32 := 1#32
  let v2161 : BitVec 32 := Scalar.andi v2031 c1_i32_930
  let c896_i32_932 : BitVec 32 := 896#32
  let c0_i32_933 : BitVec 32 := 0#32
  ![v2161.toNat, 896, 0]
def k0_off88 (v2159 : BitVec 32) : Fin 2 → Nat :=
  let c128_i32_929 : BitVec 32 := 128#32
  let v2160 : BitVec 32 := Scalar.muli v2159 c128_i32_929
  let c0_i32_934 : BitVec 32 := 0#32
  ![v2160.toNat, 0]

def k0_chk65 (arg24 : BitVec 32) (k0_t2 : Fin (k0_t2_loop arg24).trips) (v2159 : BitVec 32) : Prop :=
  (∀ (k0_h3 : k0_cond3 arg24 k0_t2 = 1#1), ∀ a, (k0_off88 v2159) a + S128x1536.size a ≤ S40960x1536.size a) ∧
  (∀ (k0_h3 : k0_cond3 arg24 k0_t2 = 1#1), ∀ (hinb : ∀ a, (k0_off88 v2159) a + S128x1536.size a ≤ S40960x1536.size a), (Rect.unit (s := S40960x1536) (k0_off88 v2159) S128x1536.size hinb).WholeWords (EltTy.packing .bf16))
theorem k0_off88_inb : ∀ (arg24 : BitVec 32) (k0_t2 : Fin (k0_t2_loop arg24).trips) (v2159 : BitVec 32) (k0_hw65 : k0_chk65 arg24 k0_t2 v2159), ∀ (k0_h3 : k0_cond3 arg24 k0_t2 = 1#1), ∀ a, (k0_off88 v2159) a + S128x1536.size a ≤ S40960x1536.size a := fun arg24 k0_t2 v2159 k0_hw65 k0_h3 => k0_hw65.1 k0_h3
theorem k0_off88_wordsbf16 : ∀ (arg24 : BitVec 32) (k0_t2 : Fin (k0_t2_loop arg24).trips) (v2159 : BitVec 32) (k0_hw65 : k0_chk65 arg24 k0_t2 v2159), ∀ (k0_h3 : k0_cond3 arg24 k0_t2 = 1#1), (Rect.unit (s := S40960x1536) (k0_off88 v2159) S128x1536.size (k0_off88_inb arg24 k0_t2 v2159 k0_hw65 k0_h3)).WholeWords (EltTy.packing .bf16) := fun arg24 k0_t2 v2159 k0_hw65 k0_h3 => k0_hw65.2 k0_h3 (k0_off88_inb arg24 k0_t2 v2159 k0_hw65 k0_h3)

def k0_cond4 (arg24 : BitVec 32) (k0_t2 : Fin (k0_t2_loop arg24).trips) : BitVec 1 :=
  let c0_i32_63 : BitVec 32 := 0#32
  let c1_i32_65 : BitVec 32 := 1#32
  let arg25 : BitVec 32 := Scf.iv c0_i32_63 c1_i32_65 k0_t2
  let c0_i32_101 : BitVec 32 := 0#32
  let v274 : BitVec 1 := Scalar.cmpi .sgt arg25 c0_i32_101
  let v275 : BitVec 32 := Scalar.extui v274
  let c0_i32_102 : BitVec 32 := 0#32
  let v276 : BitVec 1 := Scalar.cmpi .ne v275 c0_i32_102
  v276

def k0_off89 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let v2032 : Index := Scalar.indexCast v2031
  ![v2032.toNat]
def k0_off90 (v2033 : BitVec 32) : Fin 2 → Nat :=
  let c8_i32_855 : BitVec 32 := 8#32
  let v2034 : BitVec 32 := Scalar.muli v2033 c8_i32_855
  let c0_i32_856 : BitVec 32 := 0#32
  let v2035 : BitVec 32 := Scalar.addi v2034 c0_i32_856
  let c7_i32_857 : BitVec 32 := 7#32
  let v2036 : BitVec 32 := Scalar.shrui v2035 c7_i32_857
  let v2038 : Index := Scalar.indexCast v2036
  let c127_i32_858 : BitVec 32 := 127#32
  let v2037 : BitVec 32 := Scalar.andi v2035 c127_i32_858
  let v2039 : Index := Scalar.indexCast v2037
  ![v2038.toNat, v2039.toNat]

def k0_chk66 (arg24 : BitVec 32) (k0_t2 : Fin (k0_t2_loop arg24).trips) (v2033 : BitVec 32) : Prop :=
  (∀ (k0_h4 : k0_cond4 arg24 k0_t2 = 1#1), ∀ a, (k0_off90 v2033) a + S1x1.size a ≤ S8x128.size a)
theorem k0_off90_inb : ∀ (arg24 : BitVec 32) (k0_t2 : Fin (k0_t2_loop arg24).trips) (v2033 : BitVec 32) (k0_hw66 : k0_chk66 arg24 k0_t2 v2033), ∀ (k0_h4 : k0_cond4 arg24 k0_t2 = 1#1), ∀ a, (k0_off90 v2033) a + S1x1.size a ≤ S8x128.size a := fun arg24 k0_t2 v2033 k0_hw66 k0_h4 => k0_hw66 k0_h4

def k0_off91 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_861 : BitVec 32 := 1#32
  let v2043 : BitVec 32 := Scalar.andi v2031 c1_i32_861
  ![v2043.toNat]
def k0_off92 (v2040 : BitVec 32) : Fin 2 → Nat :=
  let c128_i32_859 : BitVec 32 := 128#32
  let v2041 : BitVec 32 := Scalar.muli v2040 c128_i32_859
  let c0_i32_862 : BitVec 32 := 0#32
  ![v2041.toNat, 0]

def k0_off93 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_860 : BitVec 32 := 1#32
  let v2042 : BitVec 32 := Scalar.andi v2031 c1_i32_860
  let c0_i32_863 : BitVec 32 := 0#32
  let c0_i32_864 : BitVec 32 := 0#32
  ![v2042.toNat, 0, 0]

def k0_chk67 (arg24 : BitVec 32) (k0_t2 : Fin (k0_t2_loop arg24).trips) (v2040 : BitVec 32) : Prop :=
  (∀ (k0_h4 : k0_cond4 arg24 k0_t2 = 1#1), ∀ a, (k0_off92 v2040) a + S128x1536.size a ≤ S40960x1536.size a) ∧
  (∀ (k0_h4 : k0_cond4 arg24 k0_t2 = 1#1), ∀ (hinb : ∀ a, (k0_off92 v2040) a + S128x1536.size a ≤ S40960x1536.size a), (Rect.unit (s := S40960x1536) (k0_off92 v2040) S128x1536.size hinb).WholeWords (EltTy.packing .fp8e4m3))
theorem k0_off92_inb : ∀ (arg24 : BitVec 32) (k0_t2 : Fin (k0_t2_loop arg24).trips) (v2040 : BitVec 32) (k0_hw67 : k0_chk67 arg24 k0_t2 v2040), ∀ (k0_h4 : k0_cond4 arg24 k0_t2 = 1#1), ∀ a, (k0_off92 v2040) a + S128x1536.size a ≤ S40960x1536.size a := fun arg24 k0_t2 v2040 k0_hw67 k0_h4 => k0_hw67.1 k0_h4
theorem k0_off92_wordsfp8e4m3 : ∀ (arg24 : BitVec 32) (k0_t2 : Fin (k0_t2_loop arg24).trips) (v2040 : BitVec 32) (k0_hw67 : k0_chk67 arg24 k0_t2 v2040), ∀ (k0_h4 : k0_cond4 arg24 k0_t2 = 1#1), (Rect.unit (s := S40960x1536) (k0_off92 v2040) S128x1536.size (k0_off92_inb arg24 k0_t2 v2040 k0_hw67 k0_h4)).WholeWords (EltTy.packing .fp8e4m3) := fun arg24 k0_t2 v2040 k0_hw67 k0_h4 => k0_hw67.2 k0_h4 (k0_off92_inb arg24 k0_t2 v2040 k0_hw67 k0_h4)

def k0_off94 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let v2049 : Index := Scalar.indexCast v2031
  ![v2049.toNat]
def k0_off95 (v2050 : BitVec 32) : Fin 2 → Nat :=
  let c8_i32_865 : BitVec 32 := 8#32
  let v2051 : BitVec 32 := Scalar.muli v2050 c8_i32_865
  let c1_i32_866 : BitVec 32 := 1#32
  let v2052 : BitVec 32 := Scalar.addi v2051 c1_i32_866
  let c7_i32_867 : BitVec 32 := 7#32
  let v2053 : BitVec 32 := Scalar.shrui v2052 c7_i32_867
  let v2055 : Index := Scalar.indexCast v2053
  let c127_i32_868 : BitVec 32 := 127#32
  let v2054 : BitVec 32 := Scalar.andi v2052 c127_i32_868
  let v2056 : Index := Scalar.indexCast v2054
  ![v2055.toNat, v2056.toNat]

def k0_chk68 (arg24 : BitVec 32) (k0_t2 : Fin (k0_t2_loop arg24).trips) (v2050 : BitVec 32) : Prop :=
  (∀ (k0_h4 : k0_cond4 arg24 k0_t2 = 1#1), ∀ a, (k0_off95 v2050) a + S1x1.size a ≤ S8x128.size a)
theorem k0_off95_inb : ∀ (arg24 : BitVec 32) (k0_t2 : Fin (k0_t2_loop arg24).trips) (v2050 : BitVec 32) (k0_hw68 : k0_chk68 arg24 k0_t2 v2050), ∀ (k0_h4 : k0_cond4 arg24 k0_t2 = 1#1), ∀ a, (k0_off95 v2050) a + S1x1.size a ≤ S8x128.size a := fun arg24 k0_t2 v2050 k0_hw68 k0_h4 => k0_hw68 k0_h4

def k0_off96 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_871 : BitVec 32 := 1#32
  let v2060 : BitVec 32 := Scalar.andi v2031 c1_i32_871
  ![v2060.toNat]
def k0_off97 (v2057 : BitVec 32) : Fin 2 → Nat :=
  let c128_i32_869 : BitVec 32 := 128#32
  let v2058 : BitVec 32 := Scalar.muli v2057 c128_i32_869
  let c0_i32_872 : BitVec 32 := 0#32
  ![v2058.toNat, 0]

def k0_off98 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_870 : BitVec 32 := 1#32
  let v2059 : BitVec 32 := Scalar.andi v2031 c1_i32_870
  let c128_i32_873 : BitVec 32 := 128#32
  let c0_i32_874 : BitVec 32 := 0#32
  ![v2059.toNat, 128, 0]

def k0_chk69 (arg24 : BitVec 32) (k0_t2 : Fin (k0_t2_loop arg24).trips) (v2057 : BitVec 32) : Prop :=
  (∀ (k0_h4 : k0_cond4 arg24 k0_t2 = 1#1), ∀ a, (k0_off97 v2057) a + S128x1536.size a ≤ S40960x1536.size a) ∧
  (∀ (k0_h4 : k0_cond4 arg24 k0_t2 = 1#1), ∀ (hinb : ∀ a, (k0_off97 v2057) a + S128x1536.size a ≤ S40960x1536.size a), (Rect.unit (s := S40960x1536) (k0_off97 v2057) S128x1536.size hinb).WholeWords (EltTy.packing .fp8e4m3))
theorem k0_off97_inb : ∀ (arg24 : BitVec 32) (k0_t2 : Fin (k0_t2_loop arg24).trips) (v2057 : BitVec 32) (k0_hw69 : k0_chk69 arg24 k0_t2 v2057), ∀ (k0_h4 : k0_cond4 arg24 k0_t2 = 1#1), ∀ a, (k0_off97 v2057) a + S128x1536.size a ≤ S40960x1536.size a := fun arg24 k0_t2 v2057 k0_hw69 k0_h4 => k0_hw69.1 k0_h4
theorem k0_off97_wordsfp8e4m3 : ∀ (arg24 : BitVec 32) (k0_t2 : Fin (k0_t2_loop arg24).trips) (v2057 : BitVec 32) (k0_hw69 : k0_chk69 arg24 k0_t2 v2057), ∀ (k0_h4 : k0_cond4 arg24 k0_t2 = 1#1), (Rect.unit (s := S40960x1536) (k0_off97 v2057) S128x1536.size (k0_off97_inb arg24 k0_t2 v2057 k0_hw69 k0_h4)).WholeWords (EltTy.packing .fp8e4m3) := fun arg24 k0_t2 v2057 k0_hw69 k0_h4 => k0_hw69.2 k0_h4 (k0_off97_inb arg24 k0_t2 v2057 k0_hw69 k0_h4)

def k0_off99 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let v2066 : Index := Scalar.indexCast v2031
  ![v2066.toNat]
def k0_off100 (v2067 : BitVec 32) : Fin 2 → Nat :=
  let c8_i32_875 : BitVec 32 := 8#32
  let v2068 : BitVec 32 := Scalar.muli v2067 c8_i32_875
  let c2_i32_876 : BitVec 32 := 2#32
  let v2069 : BitVec 32 := Scalar.addi v2068 c2_i32_876
  let c7_i32_877 : BitVec 32 := 7#32
  let v2070 : BitVec 32 := Scalar.shrui v2069 c7_i32_877
  let v2072 : Index := Scalar.indexCast v2070
  let c127_i32_878 : BitVec 32 := 127#32
  let v2071 : BitVec 32 := Scalar.andi v2069 c127_i32_878
  let v2073 : Index := Scalar.indexCast v2071
  ![v2072.toNat, v2073.toNat]

def k0_chk70 (arg24 : BitVec 32) (k0_t2 : Fin (k0_t2_loop arg24).trips) (v2067 : BitVec 32) : Prop :=
  (∀ (k0_h4 : k0_cond4 arg24 k0_t2 = 1#1), ∀ a, (k0_off100 v2067) a + S1x1.size a ≤ S8x128.size a)
theorem k0_off100_inb : ∀ (arg24 : BitVec 32) (k0_t2 : Fin (k0_t2_loop arg24).trips) (v2067 : BitVec 32) (k0_hw70 : k0_chk70 arg24 k0_t2 v2067), ∀ (k0_h4 : k0_cond4 arg24 k0_t2 = 1#1), ∀ a, (k0_off100 v2067) a + S1x1.size a ≤ S8x128.size a := fun arg24 k0_t2 v2067 k0_hw70 k0_h4 => k0_hw70 k0_h4

def k0_off101 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_881 : BitVec 32 := 1#32
  let v2077 : BitVec 32 := Scalar.andi v2031 c1_i32_881
  ![v2077.toNat]
def k0_off102 (v2074 : BitVec 32) : Fin 2 → Nat :=
  let c128_i32_879 : BitVec 32 := 128#32
  let v2075 : BitVec 32 := Scalar.muli v2074 c128_i32_879
  let c0_i32_882 : BitVec 32 := 0#32
  ![v2075.toNat, 0]

def k0_off103 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_880 : BitVec 32 := 1#32
  let v2076 : BitVec 32 := Scalar.andi v2031 c1_i32_880
  let c256_i32_883 : BitVec 32 := 256#32
  let c0_i32_884 : BitVec 32 := 0#32
  ![v2076.toNat, 256, 0]

def k0_chk71 (arg24 : BitVec 32) (k0_t2 : Fin (k0_t2_loop arg24).trips) (v2074 : BitVec 32) : Prop :=
  (∀ (k0_h4 : k0_cond4 arg24 k0_t2 = 1#1), ∀ a, (k0_off102 v2074) a + S128x1536.size a ≤ S40960x1536.size a) ∧
  (∀ (k0_h4 : k0_cond4 arg24 k0_t2 = 1#1), ∀ (hinb : ∀ a, (k0_off102 v2074) a + S128x1536.size a ≤ S40960x1536.size a), (Rect.unit (s := S40960x1536) (k0_off102 v2074) S128x1536.size hinb).WholeWords (EltTy.packing .fp8e4m3))
theorem k0_off102_inb : ∀ (arg24 : BitVec 32) (k0_t2 : Fin (k0_t2_loop arg24).trips) (v2074 : BitVec 32) (k0_hw71 : k0_chk71 arg24 k0_t2 v2074), ∀ (k0_h4 : k0_cond4 arg24 k0_t2 = 1#1), ∀ a, (k0_off102 v2074) a + S128x1536.size a ≤ S40960x1536.size a := fun arg24 k0_t2 v2074 k0_hw71 k0_h4 => k0_hw71.1 k0_h4
theorem k0_off102_wordsfp8e4m3 : ∀ (arg24 : BitVec 32) (k0_t2 : Fin (k0_t2_loop arg24).trips) (v2074 : BitVec 32) (k0_hw71 : k0_chk71 arg24 k0_t2 v2074), ∀ (k0_h4 : k0_cond4 arg24 k0_t2 = 1#1), (Rect.unit (s := S40960x1536) (k0_off102 v2074) S128x1536.size (k0_off102_inb arg24 k0_t2 v2074 k0_hw71 k0_h4)).WholeWords (EltTy.packing .fp8e4m3) := fun arg24 k0_t2 v2074 k0_hw71 k0_h4 => k0_hw71.2 k0_h4 (k0_off102_inb arg24 k0_t2 v2074 k0_hw71 k0_h4)

def k0_off104 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let v2083 : Index := Scalar.indexCast v2031
  ![v2083.toNat]
def k0_off105 (v2084 : BitVec 32) : Fin 2 → Nat :=
  let c8_i32_885 : BitVec 32 := 8#32
  let v2085 : BitVec 32 := Scalar.muli v2084 c8_i32_885
  let c3_i32_886 : BitVec 32 := 3#32
  let v2086 : BitVec 32 := Scalar.addi v2085 c3_i32_886
  let c7_i32_887 : BitVec 32 := 7#32
  let v2087 : BitVec 32 := Scalar.shrui v2086 c7_i32_887
  let v2089 : Index := Scalar.indexCast v2087
  let c127_i32_888 : BitVec 32 := 127#32
  let v2088 : BitVec 32 := Scalar.andi v2086 c127_i32_888
  let v2090 : Index := Scalar.indexCast v2088
  ![v2089.toNat, v2090.toNat]

def k0_chk72 (arg24 : BitVec 32) (k0_t2 : Fin (k0_t2_loop arg24).trips) (v2084 : BitVec 32) : Prop :=
  (∀ (k0_h4 : k0_cond4 arg24 k0_t2 = 1#1), ∀ a, (k0_off105 v2084) a + S1x1.size a ≤ S8x128.size a)
theorem k0_off105_inb : ∀ (arg24 : BitVec 32) (k0_t2 : Fin (k0_t2_loop arg24).trips) (v2084 : BitVec 32) (k0_hw72 : k0_chk72 arg24 k0_t2 v2084), ∀ (k0_h4 : k0_cond4 arg24 k0_t2 = 1#1), ∀ a, (k0_off105 v2084) a + S1x1.size a ≤ S8x128.size a := fun arg24 k0_t2 v2084 k0_hw72 k0_h4 => k0_hw72 k0_h4

def k0_off106 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_891 : BitVec 32 := 1#32
  let v2094 : BitVec 32 := Scalar.andi v2031 c1_i32_891
  ![v2094.toNat]
def k0_off107 (v2091 : BitVec 32) : Fin 2 → Nat :=
  let c128_i32_889 : BitVec 32 := 128#32
  let v2092 : BitVec 32 := Scalar.muli v2091 c128_i32_889
  let c0_i32_892 : BitVec 32 := 0#32
  ![v2092.toNat, 0]

def k0_off108 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_890 : BitVec 32 := 1#32
  let v2093 : BitVec 32 := Scalar.andi v2031 c1_i32_890
  let c384_i32_893 : BitVec 32 := 384#32
  let c0_i32_894 : BitVec 32 := 0#32
  ![v2093.toNat, 384, 0]

def k0_chk73 (arg24 : BitVec 32) (k0_t2 : Fin (k0_t2_loop arg24).trips) (v2091 : BitVec 32) : Prop :=
  (∀ (k0_h4 : k0_cond4 arg24 k0_t2 = 1#1), ∀ a, (k0_off107 v2091) a + S128x1536.size a ≤ S40960x1536.size a) ∧
  (∀ (k0_h4 : k0_cond4 arg24 k0_t2 = 1#1), ∀ (hinb : ∀ a, (k0_off107 v2091) a + S128x1536.size a ≤ S40960x1536.size a), (Rect.unit (s := S40960x1536) (k0_off107 v2091) S128x1536.size hinb).WholeWords (EltTy.packing .fp8e4m3))
theorem k0_off107_inb : ∀ (arg24 : BitVec 32) (k0_t2 : Fin (k0_t2_loop arg24).trips) (v2091 : BitVec 32) (k0_hw73 : k0_chk73 arg24 k0_t2 v2091), ∀ (k0_h4 : k0_cond4 arg24 k0_t2 = 1#1), ∀ a, (k0_off107 v2091) a + S128x1536.size a ≤ S40960x1536.size a := fun arg24 k0_t2 v2091 k0_hw73 k0_h4 => k0_hw73.1 k0_h4
theorem k0_off107_wordsfp8e4m3 : ∀ (arg24 : BitVec 32) (k0_t2 : Fin (k0_t2_loop arg24).trips) (v2091 : BitVec 32) (k0_hw73 : k0_chk73 arg24 k0_t2 v2091), ∀ (k0_h4 : k0_cond4 arg24 k0_t2 = 1#1), (Rect.unit (s := S40960x1536) (k0_off107 v2091) S128x1536.size (k0_off107_inb arg24 k0_t2 v2091 k0_hw73 k0_h4)).WholeWords (EltTy.packing .fp8e4m3) := fun arg24 k0_t2 v2091 k0_hw73 k0_h4 => k0_hw73.2 k0_h4 (k0_off107_inb arg24 k0_t2 v2091 k0_hw73 k0_h4)

def k0_off109 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let v2100 : Index := Scalar.indexCast v2031
  ![v2100.toNat]
def k0_off110 (v2101 : BitVec 32) : Fin 2 → Nat :=
  let c8_i32_895 : BitVec 32 := 8#32
  let v2102 : BitVec 32 := Scalar.muli v2101 c8_i32_895
  let c4_i32_896 : BitVec 32 := 4#32
  let v2103 : BitVec 32 := Scalar.addi v2102 c4_i32_896
  let c7_i32_897 : BitVec 32 := 7#32
  let v2104 : BitVec 32 := Scalar.shrui v2103 c7_i32_897
  let v2106 : Index := Scalar.indexCast v2104
  let c127_i32_898 : BitVec 32 := 127#32
  let v2105 : BitVec 32 := Scalar.andi v2103 c127_i32_898
  let v2107 : Index := Scalar.indexCast v2105
  ![v2106.toNat, v2107.toNat]

def k0_chk74 (arg24 : BitVec 32) (k0_t2 : Fin (k0_t2_loop arg24).trips) (v2101 : BitVec 32) : Prop :=
  (∀ (k0_h4 : k0_cond4 arg24 k0_t2 = 1#1), ∀ a, (k0_off110 v2101) a + S1x1.size a ≤ S8x128.size a)
theorem k0_off110_inb : ∀ (arg24 : BitVec 32) (k0_t2 : Fin (k0_t2_loop arg24).trips) (v2101 : BitVec 32) (k0_hw74 : k0_chk74 arg24 k0_t2 v2101), ∀ (k0_h4 : k0_cond4 arg24 k0_t2 = 1#1), ∀ a, (k0_off110 v2101) a + S1x1.size a ≤ S8x128.size a := fun arg24 k0_t2 v2101 k0_hw74 k0_h4 => k0_hw74 k0_h4

def k0_off111 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_901 : BitVec 32 := 1#32
  let v2111 : BitVec 32 := Scalar.andi v2031 c1_i32_901
  ![v2111.toNat]
def k0_off112 (v2108 : BitVec 32) : Fin 2 → Nat :=
  let c128_i32_899 : BitVec 32 := 128#32
  let v2109 : BitVec 32 := Scalar.muli v2108 c128_i32_899
  let c0_i32_902 : BitVec 32 := 0#32
  ![v2109.toNat, 0]

def k0_off113 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_900 : BitVec 32 := 1#32
  let v2110 : BitVec 32 := Scalar.andi v2031 c1_i32_900
  let c512_i32_903 : BitVec 32 := 512#32
  let c0_i32_904 : BitVec 32 := 0#32
  ![v2110.toNat, 512, 0]

def k0_chk75 (arg24 : BitVec 32) (k0_t2 : Fin (k0_t2_loop arg24).trips) (v2108 : BitVec 32) : Prop :=
  (∀ (k0_h4 : k0_cond4 arg24 k0_t2 = 1#1), ∀ a, (k0_off112 v2108) a + S128x1536.size a ≤ S40960x1536.size a) ∧
  (∀ (k0_h4 : k0_cond4 arg24 k0_t2 = 1#1), ∀ (hinb : ∀ a, (k0_off112 v2108) a + S128x1536.size a ≤ S40960x1536.size a), (Rect.unit (s := S40960x1536) (k0_off112 v2108) S128x1536.size hinb).WholeWords (EltTy.packing .fp8e4m3))
theorem k0_off112_inb : ∀ (arg24 : BitVec 32) (k0_t2 : Fin (k0_t2_loop arg24).trips) (v2108 : BitVec 32) (k0_hw75 : k0_chk75 arg24 k0_t2 v2108), ∀ (k0_h4 : k0_cond4 arg24 k0_t2 = 1#1), ∀ a, (k0_off112 v2108) a + S128x1536.size a ≤ S40960x1536.size a := fun arg24 k0_t2 v2108 k0_hw75 k0_h4 => k0_hw75.1 k0_h4
theorem k0_off112_wordsfp8e4m3 : ∀ (arg24 : BitVec 32) (k0_t2 : Fin (k0_t2_loop arg24).trips) (v2108 : BitVec 32) (k0_hw75 : k0_chk75 arg24 k0_t2 v2108), ∀ (k0_h4 : k0_cond4 arg24 k0_t2 = 1#1), (Rect.unit (s := S40960x1536) (k0_off112 v2108) S128x1536.size (k0_off112_inb arg24 k0_t2 v2108 k0_hw75 k0_h4)).WholeWords (EltTy.packing .fp8e4m3) := fun arg24 k0_t2 v2108 k0_hw75 k0_h4 => k0_hw75.2 k0_h4 (k0_off112_inb arg24 k0_t2 v2108 k0_hw75 k0_h4)

def k0_off114 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let v2117 : Index := Scalar.indexCast v2031
  ![v2117.toNat]
def k0_off115 (v2118 : BitVec 32) : Fin 2 → Nat :=
  let c8_i32_905 : BitVec 32 := 8#32
  let v2119 : BitVec 32 := Scalar.muli v2118 c8_i32_905
  let c5_i32_906 : BitVec 32 := 5#32
  let v2120 : BitVec 32 := Scalar.addi v2119 c5_i32_906
  let c7_i32_907 : BitVec 32 := 7#32
  let v2121 : BitVec 32 := Scalar.shrui v2120 c7_i32_907
  let v2123 : Index := Scalar.indexCast v2121
  let c127_i32_908 : BitVec 32 := 127#32
  let v2122 : BitVec 32 := Scalar.andi v2120 c127_i32_908
  let v2124 : Index := Scalar.indexCast v2122
  ![v2123.toNat, v2124.toNat]

def k0_chk76 (arg24 : BitVec 32) (k0_t2 : Fin (k0_t2_loop arg24).trips) (v2118 : BitVec 32) : Prop :=
  (∀ (k0_h4 : k0_cond4 arg24 k0_t2 = 1#1), ∀ a, (k0_off115 v2118) a + S1x1.size a ≤ S8x128.size a)
theorem k0_off115_inb : ∀ (arg24 : BitVec 32) (k0_t2 : Fin (k0_t2_loop arg24).trips) (v2118 : BitVec 32) (k0_hw76 : k0_chk76 arg24 k0_t2 v2118), ∀ (k0_h4 : k0_cond4 arg24 k0_t2 = 1#1), ∀ a, (k0_off115 v2118) a + S1x1.size a ≤ S8x128.size a := fun arg24 k0_t2 v2118 k0_hw76 k0_h4 => k0_hw76 k0_h4

def k0_off116 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_911 : BitVec 32 := 1#32
  let v2128 : BitVec 32 := Scalar.andi v2031 c1_i32_911
  ![v2128.toNat]
def k0_off117 (v2125 : BitVec 32) : Fin 2 → Nat :=
  let c128_i32_909 : BitVec 32 := 128#32
  let v2126 : BitVec 32 := Scalar.muli v2125 c128_i32_909
  let c0_i32_912 : BitVec 32 := 0#32
  ![v2126.toNat, 0]

def k0_off118 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_910 : BitVec 32 := 1#32
  let v2127 : BitVec 32 := Scalar.andi v2031 c1_i32_910
  let c640_i32_913 : BitVec 32 := 640#32
  let c0_i32_914 : BitVec 32 := 0#32
  ![v2127.toNat, 640, 0]

def k0_chk77 (arg24 : BitVec 32) (k0_t2 : Fin (k0_t2_loop arg24).trips) (v2125 : BitVec 32) : Prop :=
  (∀ (k0_h4 : k0_cond4 arg24 k0_t2 = 1#1), ∀ a, (k0_off117 v2125) a + S128x1536.size a ≤ S40960x1536.size a) ∧
  (∀ (k0_h4 : k0_cond4 arg24 k0_t2 = 1#1), ∀ (hinb : ∀ a, (k0_off117 v2125) a + S128x1536.size a ≤ S40960x1536.size a), (Rect.unit (s := S40960x1536) (k0_off117 v2125) S128x1536.size hinb).WholeWords (EltTy.packing .fp8e4m3))
theorem k0_off117_inb : ∀ (arg24 : BitVec 32) (k0_t2 : Fin (k0_t2_loop arg24).trips) (v2125 : BitVec 32) (k0_hw77 : k0_chk77 arg24 k0_t2 v2125), ∀ (k0_h4 : k0_cond4 arg24 k0_t2 = 1#1), ∀ a, (k0_off117 v2125) a + S128x1536.size a ≤ S40960x1536.size a := fun arg24 k0_t2 v2125 k0_hw77 k0_h4 => k0_hw77.1 k0_h4
theorem k0_off117_wordsfp8e4m3 : ∀ (arg24 : BitVec 32) (k0_t2 : Fin (k0_t2_loop arg24).trips) (v2125 : BitVec 32) (k0_hw77 : k0_chk77 arg24 k0_t2 v2125), ∀ (k0_h4 : k0_cond4 arg24 k0_t2 = 1#1), (Rect.unit (s := S40960x1536) (k0_off117 v2125) S128x1536.size (k0_off117_inb arg24 k0_t2 v2125 k0_hw77 k0_h4)).WholeWords (EltTy.packing .fp8e4m3) := fun arg24 k0_t2 v2125 k0_hw77 k0_h4 => k0_hw77.2 k0_h4 (k0_off117_inb arg24 k0_t2 v2125 k0_hw77 k0_h4)

def k0_off119 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let v2134 : Index := Scalar.indexCast v2031
  ![v2134.toNat]
def k0_off120 (v2135 : BitVec 32) : Fin 2 → Nat :=
  let c8_i32_915 : BitVec 32 := 8#32
  let v2136 : BitVec 32 := Scalar.muli v2135 c8_i32_915
  let c6_i32_916 : BitVec 32 := 6#32
  let v2137 : BitVec 32 := Scalar.addi v2136 c6_i32_916
  let c7_i32_917 : BitVec 32 := 7#32
  let v2138 : BitVec 32 := Scalar.shrui v2137 c7_i32_917
  let v2140 : Index := Scalar.indexCast v2138
  let c127_i32_918 : BitVec 32 := 127#32
  let v2139 : BitVec 32 := Scalar.andi v2137 c127_i32_918
  let v2141 : Index := Scalar.indexCast v2139
  ![v2140.toNat, v2141.toNat]

def k0_chk78 (arg24 : BitVec 32) (k0_t2 : Fin (k0_t2_loop arg24).trips) (v2135 : BitVec 32) : Prop :=
  (∀ (k0_h4 : k0_cond4 arg24 k0_t2 = 1#1), ∀ a, (k0_off120 v2135) a + S1x1.size a ≤ S8x128.size a)
theorem k0_off120_inb : ∀ (arg24 : BitVec 32) (k0_t2 : Fin (k0_t2_loop arg24).trips) (v2135 : BitVec 32) (k0_hw78 : k0_chk78 arg24 k0_t2 v2135), ∀ (k0_h4 : k0_cond4 arg24 k0_t2 = 1#1), ∀ a, (k0_off120 v2135) a + S1x1.size a ≤ S8x128.size a := fun arg24 k0_t2 v2135 k0_hw78 k0_h4 => k0_hw78 k0_h4

def k0_off121 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_921 : BitVec 32 := 1#32
  let v2145 : BitVec 32 := Scalar.andi v2031 c1_i32_921
  ![v2145.toNat]
def k0_off122 (v2142 : BitVec 32) : Fin 2 → Nat :=
  let c128_i32_919 : BitVec 32 := 128#32
  let v2143 : BitVec 32 := Scalar.muli v2142 c128_i32_919
  let c0_i32_922 : BitVec 32 := 0#32
  ![v2143.toNat, 0]

def k0_off123 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_920 : BitVec 32 := 1#32
  let v2144 : BitVec 32 := Scalar.andi v2031 c1_i32_920
  let c768_i32_923 : BitVec 32 := 768#32
  let c0_i32_924 : BitVec 32 := 0#32
  ![v2144.toNat, 768, 0]

def k0_chk79 (arg24 : BitVec 32) (k0_t2 : Fin (k0_t2_loop arg24).trips) (v2142 : BitVec 32) : Prop :=
  (∀ (k0_h4 : k0_cond4 arg24 k0_t2 = 1#1), ∀ a, (k0_off122 v2142) a + S128x1536.size a ≤ S40960x1536.size a) ∧
  (∀ (k0_h4 : k0_cond4 arg24 k0_t2 = 1#1), ∀ (hinb : ∀ a, (k0_off122 v2142) a + S128x1536.size a ≤ S40960x1536.size a), (Rect.unit (s := S40960x1536) (k0_off122 v2142) S128x1536.size hinb).WholeWords (EltTy.packing .fp8e4m3))
theorem k0_off122_inb : ∀ (arg24 : BitVec 32) (k0_t2 : Fin (k0_t2_loop arg24).trips) (v2142 : BitVec 32) (k0_hw79 : k0_chk79 arg24 k0_t2 v2142), ∀ (k0_h4 : k0_cond4 arg24 k0_t2 = 1#1), ∀ a, (k0_off122 v2142) a + S128x1536.size a ≤ S40960x1536.size a := fun arg24 k0_t2 v2142 k0_hw79 k0_h4 => k0_hw79.1 k0_h4
theorem k0_off122_wordsfp8e4m3 : ∀ (arg24 : BitVec 32) (k0_t2 : Fin (k0_t2_loop arg24).trips) (v2142 : BitVec 32) (k0_hw79 : k0_chk79 arg24 k0_t2 v2142), ∀ (k0_h4 : k0_cond4 arg24 k0_t2 = 1#1), (Rect.unit (s := S40960x1536) (k0_off122 v2142) S128x1536.size (k0_off122_inb arg24 k0_t2 v2142 k0_hw79 k0_h4)).WholeWords (EltTy.packing .fp8e4m3) := fun arg24 k0_t2 v2142 k0_hw79 k0_h4 => k0_hw79.2 k0_h4 (k0_off122_inb arg24 k0_t2 v2142 k0_hw79 k0_h4)

def k0_off124 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let v2151 : Index := Scalar.indexCast v2031
  ![v2151.toNat]
def k0_off125 (v2152 : BitVec 32) : Fin 2 → Nat :=
  let c8_i32_925 : BitVec 32 := 8#32
  let v2153 : BitVec 32 := Scalar.muli v2152 c8_i32_925
  let c7_i32_926 : BitVec 32 := 7#32
  let v2154 : BitVec 32 := Scalar.addi v2153 c7_i32_926
  let c7_i32_927 : BitVec 32 := 7#32
  let v2155 : BitVec 32 := Scalar.shrui v2154 c7_i32_927
  let v2157 : Index := Scalar.indexCast v2155
  let c127_i32_928 : BitVec 32 := 127#32
  let v2156 : BitVec 32 := Scalar.andi v2154 c127_i32_928
  let v2158 : Index := Scalar.indexCast v2156
  ![v2157.toNat, v2158.toNat]

def k0_chk80 (arg24 : BitVec 32) (k0_t2 : Fin (k0_t2_loop arg24).trips) (v2152 : BitVec 32) : Prop :=
  (∀ (k0_h4 : k0_cond4 arg24 k0_t2 = 1#1), ∀ a, (k0_off125 v2152) a + S1x1.size a ≤ S8x128.size a)
theorem k0_off125_inb : ∀ (arg24 : BitVec 32) (k0_t2 : Fin (k0_t2_loop arg24).trips) (v2152 : BitVec 32) (k0_hw80 : k0_chk80 arg24 k0_t2 v2152), ∀ (k0_h4 : k0_cond4 arg24 k0_t2 = 1#1), ∀ a, (k0_off125 v2152) a + S1x1.size a ≤ S8x128.size a := fun arg24 k0_t2 v2152 k0_hw80 k0_h4 => k0_hw80 k0_h4

def k0_off126 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_931 : BitVec 32 := 1#32
  let v2162 : BitVec 32 := Scalar.andi v2031 c1_i32_931
  ![v2162.toNat]
def k0_off127 (v2159 : BitVec 32) : Fin 2 → Nat :=
  let c128_i32_929 : BitVec 32 := 128#32
  let v2160 : BitVec 32 := Scalar.muli v2159 c128_i32_929
  let c0_i32_932 : BitVec 32 := 0#32
  ![v2160.toNat, 0]

def k0_off128 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_854 : BitVec 32 := 1#32
  let v2031 : BitVec 32 := Scalar.subi arg25 c1_i32_854
  let c1_i32_930 : BitVec 32 := 1#32
  let v2161 : BitVec 32 := Scalar.andi v2031 c1_i32_930
  let c896_i32_933 : BitVec 32 := 896#32
  let c0_i32_934 : BitVec 32 := 0#32
  ![v2161.toNat, 896, 0]

def k0_chk81 (arg24 : BitVec 32) (k0_t2 : Fin (k0_t2_loop arg24).trips) (v2159 : BitVec 32) : Prop :=
  (∀ (k0_h4 : k0_cond4 arg24 k0_t2 = 1#1), ∀ a, (k0_off127 v2159) a + S128x1536.size a ≤ S40960x1536.size a) ∧
  (∀ (k0_h4 : k0_cond4 arg24 k0_t2 = 1#1), ∀ (hinb : ∀ a, (k0_off127 v2159) a + S128x1536.size a ≤ S40960x1536.size a), (Rect.unit (s := S40960x1536) (k0_off127 v2159) S128x1536.size hinb).WholeWords (EltTy.packing .fp8e4m3))
theorem k0_off127_inb : ∀ (arg24 : BitVec 32) (k0_t2 : Fin (k0_t2_loop arg24).trips) (v2159 : BitVec 32) (k0_hw81 : k0_chk81 arg24 k0_t2 v2159), ∀ (k0_h4 : k0_cond4 arg24 k0_t2 = 1#1), ∀ a, (k0_off127 v2159) a + S128x1536.size a ≤ S40960x1536.size a := fun arg24 k0_t2 v2159 k0_hw81 k0_h4 => k0_hw81.1 k0_h4
theorem k0_off127_wordsfp8e4m3 : ∀ (arg24 : BitVec 32) (k0_t2 : Fin (k0_t2_loop arg24).trips) (v2159 : BitVec 32) (k0_hw81 : k0_chk81 arg24 k0_t2 v2159), ∀ (k0_h4 : k0_cond4 arg24 k0_t2 = 1#1), (Rect.unit (s := S40960x1536) (k0_off127 v2159) S128x1536.size (k0_off127_inb arg24 k0_t2 v2159 k0_hw81 k0_h4)).WholeWords (EltTy.packing .fp8e4m3) := fun arg24 k0_t2 v2159 k0_hw81 k0_h4 => k0_hw81.2 k0_h4 (k0_off127_inb arg24 k0_t2 v2159 k0_hw81 k0_h4)

def k0_off129 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let v2169 : Index := Scalar.indexCast v2168
  ![v2169.toNat]
def k0_off130 (v2170 : BitVec 32) : Fin 2 → Nat :=
  let c8_i32_936 : BitVec 32 := 8#32
  let v2171 : BitVec 32 := Scalar.muli v2170 c8_i32_936
  let c0_i32_937 : BitVec 32 := 0#32
  let v2172 : BitVec 32 := Scalar.addi v2171 c0_i32_937
  let c7_i32_938 : BitVec 32 := 7#32
  let v2173 : BitVec 32 := Scalar.shrui v2172 c7_i32_938
  let v2175 : Index := Scalar.indexCast v2173
  let c127_i32_939 : BitVec 32 := 127#32
  let v2174 : BitVec 32 := Scalar.andi v2172 c127_i32_939
  let v2176 : Index := Scalar.indexCast v2174
  ![v2175.toNat, v2176.toNat]

def k0_chk82 (arg24 : BitVec 32) (k0_t2 : Fin (k0_t2_loop arg24).trips) (v2170 : BitVec 32) : Prop :=
  (∀ (k0_h4 : k0_cond4 arg24 k0_t2 = 1#1), ∀ a, (k0_off130 v2170) a + S1x1.size a ≤ S8x128.size a)
theorem k0_off130_inb : ∀ (arg24 : BitVec 32) (k0_t2 : Fin (k0_t2_loop arg24).trips) (v2170 : BitVec 32) (k0_hw82 : k0_chk82 arg24 k0_t2 v2170), ∀ (k0_h4 : k0_cond4 arg24 k0_t2 = 1#1), ∀ a, (k0_off130 v2170) a + S1x1.size a ≤ S8x128.size a := fun arg24 k0_t2 v2170 k0_hw82 k0_h4 => k0_hw82 k0_h4

def k0_off131 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_942 : BitVec 32 := 1#32
  let v2180 : BitVec 32 := Scalar.andi v2168 c1_i32_942
  ![v2180.toNat]
def k0_off132 (v2177 : BitVec 32) : Fin 2 → Nat :=
  let c128_i32_940 : BitVec 32 := 128#32
  let v2178 : BitVec 32 := Scalar.muli v2177 c128_i32_940
  let c0_i32_943 : BitVec 32 := 0#32
  ![v2178.toNat, 0]

def k0_off133 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_941 : BitVec 32 := 1#32
  let v2179 : BitVec 32 := Scalar.andi v2168 c1_i32_941
  let c0_i32_944 : BitVec 32 := 0#32
  let c0_i32_945 : BitVec 32 := 0#32
  ![v2179.toNat, 0, 0]

def k0_chk83 (arg24 : BitVec 32) (k0_t2 : Fin (k0_t2_loop arg24).trips) (v2177 : BitVec 32) : Prop :=
  (∀ (k0_h4 : k0_cond4 arg24 k0_t2 = 1#1), ∀ a, (k0_off132 v2177) a + S128x8960.size a ≤ S40960x8960.size a) ∧
  (∀ (k0_h4 : k0_cond4 arg24 k0_t2 = 1#1), ∀ (hinb : ∀ a, (k0_off132 v2177) a + S128x8960.size a ≤ S40960x8960.size a), (Rect.unit (s := S40960x8960) (k0_off132 v2177) S128x8960.size hinb).WholeWords (EltTy.packing .fp8e4m3))
theorem k0_off132_inb : ∀ (arg24 : BitVec 32) (k0_t2 : Fin (k0_t2_loop arg24).trips) (v2177 : BitVec 32) (k0_hw83 : k0_chk83 arg24 k0_t2 v2177), ∀ (k0_h4 : k0_cond4 arg24 k0_t2 = 1#1), ∀ a, (k0_off132 v2177) a + S128x8960.size a ≤ S40960x8960.size a := fun arg24 k0_t2 v2177 k0_hw83 k0_h4 => k0_hw83.1 k0_h4
theorem k0_off132_wordsfp8e4m3 : ∀ (arg24 : BitVec 32) (k0_t2 : Fin (k0_t2_loop arg24).trips) (v2177 : BitVec 32) (k0_hw83 : k0_chk83 arg24 k0_t2 v2177), ∀ (k0_h4 : k0_cond4 arg24 k0_t2 = 1#1), (Rect.unit (s := S40960x8960) (k0_off132 v2177) S128x8960.size (k0_off132_inb arg24 k0_t2 v2177 k0_hw83 k0_h4)).WholeWords (EltTy.packing .fp8e4m3) := fun arg24 k0_t2 v2177 k0_hw83 k0_h4 => k0_hw83.2 k0_h4 (k0_off132_inb arg24 k0_t2 v2177 k0_hw83 k0_h4)

def k0_off134 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let v2186 : Index := Scalar.indexCast v2168
  ![v2186.toNat]
def k0_off135 (v2187 : BitVec 32) : Fin 2 → Nat :=
  let c8_i32_946 : BitVec 32 := 8#32
  let v2188 : BitVec 32 := Scalar.muli v2187 c8_i32_946
  let c1_i32_947 : BitVec 32 := 1#32
  let v2189 : BitVec 32 := Scalar.addi v2188 c1_i32_947
  let c7_i32_948 : BitVec 32 := 7#32
  let v2190 : BitVec 32 := Scalar.shrui v2189 c7_i32_948
  let v2192 : Index := Scalar.indexCast v2190
  let c127_i32_949 : BitVec 32 := 127#32
  let v2191 : BitVec 32 := Scalar.andi v2189 c127_i32_949
  let v2193 : Index := Scalar.indexCast v2191
  ![v2192.toNat, v2193.toNat]

def k0_chk84 (arg24 : BitVec 32) (k0_t2 : Fin (k0_t2_loop arg24).trips) (v2187 : BitVec 32) : Prop :=
  (∀ (k0_h4 : k0_cond4 arg24 k0_t2 = 1#1), ∀ a, (k0_off135 v2187) a + S1x1.size a ≤ S8x128.size a)
theorem k0_off135_inb : ∀ (arg24 : BitVec 32) (k0_t2 : Fin (k0_t2_loop arg24).trips) (v2187 : BitVec 32) (k0_hw84 : k0_chk84 arg24 k0_t2 v2187), ∀ (k0_h4 : k0_cond4 arg24 k0_t2 = 1#1), ∀ a, (k0_off135 v2187) a + S1x1.size a ≤ S8x128.size a := fun arg24 k0_t2 v2187 k0_hw84 k0_h4 => k0_hw84 k0_h4

def k0_off136 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_952 : BitVec 32 := 1#32
  let v2197 : BitVec 32 := Scalar.andi v2168 c1_i32_952
  ![v2197.toNat]
def k0_off137 (v2194 : BitVec 32) : Fin 2 → Nat :=
  let c128_i32_950 : BitVec 32 := 128#32
  let v2195 : BitVec 32 := Scalar.muli v2194 c128_i32_950
  let c0_i32_953 : BitVec 32 := 0#32
  ![v2195.toNat, 0]

def k0_off138 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_951 : BitVec 32 := 1#32
  let v2196 : BitVec 32 := Scalar.andi v2168 c1_i32_951
  let c128_i32_954 : BitVec 32 := 128#32
  let c0_i32_955 : BitVec 32 := 0#32
  ![v2196.toNat, 128, 0]

def k0_chk85 (arg24 : BitVec 32) (k0_t2 : Fin (k0_t2_loop arg24).trips) (v2194 : BitVec 32) : Prop :=
  (∀ (k0_h4 : k0_cond4 arg24 k0_t2 = 1#1), ∀ a, (k0_off137 v2194) a + S128x8960.size a ≤ S40960x8960.size a) ∧
  (∀ (k0_h4 : k0_cond4 arg24 k0_t2 = 1#1), ∀ (hinb : ∀ a, (k0_off137 v2194) a + S128x8960.size a ≤ S40960x8960.size a), (Rect.unit (s := S40960x8960) (k0_off137 v2194) S128x8960.size hinb).WholeWords (EltTy.packing .fp8e4m3))
theorem k0_off137_inb : ∀ (arg24 : BitVec 32) (k0_t2 : Fin (k0_t2_loop arg24).trips) (v2194 : BitVec 32) (k0_hw85 : k0_chk85 arg24 k0_t2 v2194), ∀ (k0_h4 : k0_cond4 arg24 k0_t2 = 1#1), ∀ a, (k0_off137 v2194) a + S128x8960.size a ≤ S40960x8960.size a := fun arg24 k0_t2 v2194 k0_hw85 k0_h4 => k0_hw85.1 k0_h4
theorem k0_off137_wordsfp8e4m3 : ∀ (arg24 : BitVec 32) (k0_t2 : Fin (k0_t2_loop arg24).trips) (v2194 : BitVec 32) (k0_hw85 : k0_chk85 arg24 k0_t2 v2194), ∀ (k0_h4 : k0_cond4 arg24 k0_t2 = 1#1), (Rect.unit (s := S40960x8960) (k0_off137 v2194) S128x8960.size (k0_off137_inb arg24 k0_t2 v2194 k0_hw85 k0_h4)).WholeWords (EltTy.packing .fp8e4m3) := fun arg24 k0_t2 v2194 k0_hw85 k0_h4 => k0_hw85.2 k0_h4 (k0_off137_inb arg24 k0_t2 v2194 k0_hw85 k0_h4)

def k0_off139 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let v2203 : Index := Scalar.indexCast v2168
  ![v2203.toNat]
def k0_off140 (v2204 : BitVec 32) : Fin 2 → Nat :=
  let c8_i32_956 : BitVec 32 := 8#32
  let v2205 : BitVec 32 := Scalar.muli v2204 c8_i32_956
  let c2_i32_957 : BitVec 32 := 2#32
  let v2206 : BitVec 32 := Scalar.addi v2205 c2_i32_957
  let c7_i32_958 : BitVec 32 := 7#32
  let v2207 : BitVec 32 := Scalar.shrui v2206 c7_i32_958
  let v2209 : Index := Scalar.indexCast v2207
  let c127_i32_959 : BitVec 32 := 127#32
  let v2208 : BitVec 32 := Scalar.andi v2206 c127_i32_959
  let v2210 : Index := Scalar.indexCast v2208
  ![v2209.toNat, v2210.toNat]

def k0_chk86 (arg24 : BitVec 32) (k0_t2 : Fin (k0_t2_loop arg24).trips) (v2204 : BitVec 32) : Prop :=
  (∀ (k0_h4 : k0_cond4 arg24 k0_t2 = 1#1), ∀ a, (k0_off140 v2204) a + S1x1.size a ≤ S8x128.size a)
theorem k0_off140_inb : ∀ (arg24 : BitVec 32) (k0_t2 : Fin (k0_t2_loop arg24).trips) (v2204 : BitVec 32) (k0_hw86 : k0_chk86 arg24 k0_t2 v2204), ∀ (k0_h4 : k0_cond4 arg24 k0_t2 = 1#1), ∀ a, (k0_off140 v2204) a + S1x1.size a ≤ S8x128.size a := fun arg24 k0_t2 v2204 k0_hw86 k0_h4 => k0_hw86 k0_h4

def k0_off141 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_962 : BitVec 32 := 1#32
  let v2214 : BitVec 32 := Scalar.andi v2168 c1_i32_962
  ![v2214.toNat]
def k0_off142 (v2211 : BitVec 32) : Fin 2 → Nat :=
  let c128_i32_960 : BitVec 32 := 128#32
  let v2212 : BitVec 32 := Scalar.muli v2211 c128_i32_960
  let c0_i32_963 : BitVec 32 := 0#32
  ![v2212.toNat, 0]

def k0_off143 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_961 : BitVec 32 := 1#32
  let v2213 : BitVec 32 := Scalar.andi v2168 c1_i32_961
  let c256_i32_964 : BitVec 32 := 256#32
  let c0_i32_965 : BitVec 32 := 0#32
  ![v2213.toNat, 256, 0]

def k0_chk87 (arg24 : BitVec 32) (k0_t2 : Fin (k0_t2_loop arg24).trips) (v2211 : BitVec 32) : Prop :=
  (∀ (k0_h4 : k0_cond4 arg24 k0_t2 = 1#1), ∀ a, (k0_off142 v2211) a + S128x8960.size a ≤ S40960x8960.size a) ∧
  (∀ (k0_h4 : k0_cond4 arg24 k0_t2 = 1#1), ∀ (hinb : ∀ a, (k0_off142 v2211) a + S128x8960.size a ≤ S40960x8960.size a), (Rect.unit (s := S40960x8960) (k0_off142 v2211) S128x8960.size hinb).WholeWords (EltTy.packing .fp8e4m3))
theorem k0_off142_inb : ∀ (arg24 : BitVec 32) (k0_t2 : Fin (k0_t2_loop arg24).trips) (v2211 : BitVec 32) (k0_hw87 : k0_chk87 arg24 k0_t2 v2211), ∀ (k0_h4 : k0_cond4 arg24 k0_t2 = 1#1), ∀ a, (k0_off142 v2211) a + S128x8960.size a ≤ S40960x8960.size a := fun arg24 k0_t2 v2211 k0_hw87 k0_h4 => k0_hw87.1 k0_h4
theorem k0_off142_wordsfp8e4m3 : ∀ (arg24 : BitVec 32) (k0_t2 : Fin (k0_t2_loop arg24).trips) (v2211 : BitVec 32) (k0_hw87 : k0_chk87 arg24 k0_t2 v2211), ∀ (k0_h4 : k0_cond4 arg24 k0_t2 = 1#1), (Rect.unit (s := S40960x8960) (k0_off142 v2211) S128x8960.size (k0_off142_inb arg24 k0_t2 v2211 k0_hw87 k0_h4)).WholeWords (EltTy.packing .fp8e4m3) := fun arg24 k0_t2 v2211 k0_hw87 k0_h4 => k0_hw87.2 k0_h4 (k0_off142_inb arg24 k0_t2 v2211 k0_hw87 k0_h4)

def k0_off144 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let v2220 : Index := Scalar.indexCast v2168
  ![v2220.toNat]
def k0_off145 (v2221 : BitVec 32) : Fin 2 → Nat :=
  let c8_i32_966 : BitVec 32 := 8#32
  let v2222 : BitVec 32 := Scalar.muli v2221 c8_i32_966
  let c3_i32_967 : BitVec 32 := 3#32
  let v2223 : BitVec 32 := Scalar.addi v2222 c3_i32_967
  let c7_i32_968 : BitVec 32 := 7#32
  let v2224 : BitVec 32 := Scalar.shrui v2223 c7_i32_968
  let v2226 : Index := Scalar.indexCast v2224
  let c127_i32_969 : BitVec 32 := 127#32
  let v2225 : BitVec 32 := Scalar.andi v2223 c127_i32_969
  let v2227 : Index := Scalar.indexCast v2225
  ![v2226.toNat, v2227.toNat]

def k0_chk88 (arg24 : BitVec 32) (k0_t2 : Fin (k0_t2_loop arg24).trips) (v2221 : BitVec 32) : Prop :=
  (∀ (k0_h4 : k0_cond4 arg24 k0_t2 = 1#1), ∀ a, (k0_off145 v2221) a + S1x1.size a ≤ S8x128.size a)
theorem k0_off145_inb : ∀ (arg24 : BitVec 32) (k0_t2 : Fin (k0_t2_loop arg24).trips) (v2221 : BitVec 32) (k0_hw88 : k0_chk88 arg24 k0_t2 v2221), ∀ (k0_h4 : k0_cond4 arg24 k0_t2 = 1#1), ∀ a, (k0_off145 v2221) a + S1x1.size a ≤ S8x128.size a := fun arg24 k0_t2 v2221 k0_hw88 k0_h4 => k0_hw88 k0_h4

def k0_off146 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_972 : BitVec 32 := 1#32
  let v2231 : BitVec 32 := Scalar.andi v2168 c1_i32_972
  ![v2231.toNat]
def k0_off147 (v2228 : BitVec 32) : Fin 2 → Nat :=
  let c128_i32_970 : BitVec 32 := 128#32
  let v2229 : BitVec 32 := Scalar.muli v2228 c128_i32_970
  let c0_i32_973 : BitVec 32 := 0#32
  ![v2229.toNat, 0]

def k0_off148 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_971 : BitVec 32 := 1#32
  let v2230 : BitVec 32 := Scalar.andi v2168 c1_i32_971
  let c384_i32_974 : BitVec 32 := 384#32
  let c0_i32_975 : BitVec 32 := 0#32
  ![v2230.toNat, 384, 0]

def k0_chk89 (arg24 : BitVec 32) (k0_t2 : Fin (k0_t2_loop arg24).trips) (v2228 : BitVec 32) : Prop :=
  (∀ (k0_h4 : k0_cond4 arg24 k0_t2 = 1#1), ∀ a, (k0_off147 v2228) a + S128x8960.size a ≤ S40960x8960.size a) ∧
  (∀ (k0_h4 : k0_cond4 arg24 k0_t2 = 1#1), ∀ (hinb : ∀ a, (k0_off147 v2228) a + S128x8960.size a ≤ S40960x8960.size a), (Rect.unit (s := S40960x8960) (k0_off147 v2228) S128x8960.size hinb).WholeWords (EltTy.packing .fp8e4m3))
theorem k0_off147_inb : ∀ (arg24 : BitVec 32) (k0_t2 : Fin (k0_t2_loop arg24).trips) (v2228 : BitVec 32) (k0_hw89 : k0_chk89 arg24 k0_t2 v2228), ∀ (k0_h4 : k0_cond4 arg24 k0_t2 = 1#1), ∀ a, (k0_off147 v2228) a + S128x8960.size a ≤ S40960x8960.size a := fun arg24 k0_t2 v2228 k0_hw89 k0_h4 => k0_hw89.1 k0_h4
theorem k0_off147_wordsfp8e4m3 : ∀ (arg24 : BitVec 32) (k0_t2 : Fin (k0_t2_loop arg24).trips) (v2228 : BitVec 32) (k0_hw89 : k0_chk89 arg24 k0_t2 v2228), ∀ (k0_h4 : k0_cond4 arg24 k0_t2 = 1#1), (Rect.unit (s := S40960x8960) (k0_off147 v2228) S128x8960.size (k0_off147_inb arg24 k0_t2 v2228 k0_hw89 k0_h4)).WholeWords (EltTy.packing .fp8e4m3) := fun arg24 k0_t2 v2228 k0_hw89 k0_h4 => k0_hw89.2 k0_h4 (k0_off147_inb arg24 k0_t2 v2228 k0_hw89 k0_h4)

def k0_off149 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let v2237 : Index := Scalar.indexCast v2168
  ![v2237.toNat]
def k0_off150 (v2238 : BitVec 32) : Fin 2 → Nat :=
  let c8_i32_976 : BitVec 32 := 8#32
  let v2239 : BitVec 32 := Scalar.muli v2238 c8_i32_976
  let c4_i32_977 : BitVec 32 := 4#32
  let v2240 : BitVec 32 := Scalar.addi v2239 c4_i32_977
  let c7_i32_978 : BitVec 32 := 7#32
  let v2241 : BitVec 32 := Scalar.shrui v2240 c7_i32_978
  let v2243 : Index := Scalar.indexCast v2241
  let c127_i32_979 : BitVec 32 := 127#32
  let v2242 : BitVec 32 := Scalar.andi v2240 c127_i32_979
  let v2244 : Index := Scalar.indexCast v2242
  ![v2243.toNat, v2244.toNat]

def k0_chk90 (arg24 : BitVec 32) (k0_t2 : Fin (k0_t2_loop arg24).trips) (v2238 : BitVec 32) : Prop :=
  (∀ (k0_h4 : k0_cond4 arg24 k0_t2 = 1#1), ∀ a, (k0_off150 v2238) a + S1x1.size a ≤ S8x128.size a)
theorem k0_off150_inb : ∀ (arg24 : BitVec 32) (k0_t2 : Fin (k0_t2_loop arg24).trips) (v2238 : BitVec 32) (k0_hw90 : k0_chk90 arg24 k0_t2 v2238), ∀ (k0_h4 : k0_cond4 arg24 k0_t2 = 1#1), ∀ a, (k0_off150 v2238) a + S1x1.size a ≤ S8x128.size a := fun arg24 k0_t2 v2238 k0_hw90 k0_h4 => k0_hw90 k0_h4

def k0_off151 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_982 : BitVec 32 := 1#32
  let v2248 : BitVec 32 := Scalar.andi v2168 c1_i32_982
  ![v2248.toNat]
def k0_off152 (v2245 : BitVec 32) : Fin 2 → Nat :=
  let c128_i32_980 : BitVec 32 := 128#32
  let v2246 : BitVec 32 := Scalar.muli v2245 c128_i32_980
  let c0_i32_983 : BitVec 32 := 0#32
  ![v2246.toNat, 0]

def k0_off153 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_981 : BitVec 32 := 1#32
  let v2247 : BitVec 32 := Scalar.andi v2168 c1_i32_981
  let c512_i32_984 : BitVec 32 := 512#32
  let c0_i32_985 : BitVec 32 := 0#32
  ![v2247.toNat, 512, 0]

def k0_chk91 (arg24 : BitVec 32) (k0_t2 : Fin (k0_t2_loop arg24).trips) (v2245 : BitVec 32) : Prop :=
  (∀ (k0_h4 : k0_cond4 arg24 k0_t2 = 1#1), ∀ a, (k0_off152 v2245) a + S128x8960.size a ≤ S40960x8960.size a) ∧
  (∀ (k0_h4 : k0_cond4 arg24 k0_t2 = 1#1), ∀ (hinb : ∀ a, (k0_off152 v2245) a + S128x8960.size a ≤ S40960x8960.size a), (Rect.unit (s := S40960x8960) (k0_off152 v2245) S128x8960.size hinb).WholeWords (EltTy.packing .fp8e4m3))
theorem k0_off152_inb : ∀ (arg24 : BitVec 32) (k0_t2 : Fin (k0_t2_loop arg24).trips) (v2245 : BitVec 32) (k0_hw91 : k0_chk91 arg24 k0_t2 v2245), ∀ (k0_h4 : k0_cond4 arg24 k0_t2 = 1#1), ∀ a, (k0_off152 v2245) a + S128x8960.size a ≤ S40960x8960.size a := fun arg24 k0_t2 v2245 k0_hw91 k0_h4 => k0_hw91.1 k0_h4
theorem k0_off152_wordsfp8e4m3 : ∀ (arg24 : BitVec 32) (k0_t2 : Fin (k0_t2_loop arg24).trips) (v2245 : BitVec 32) (k0_hw91 : k0_chk91 arg24 k0_t2 v2245), ∀ (k0_h4 : k0_cond4 arg24 k0_t2 = 1#1), (Rect.unit (s := S40960x8960) (k0_off152 v2245) S128x8960.size (k0_off152_inb arg24 k0_t2 v2245 k0_hw91 k0_h4)).WholeWords (EltTy.packing .fp8e4m3) := fun arg24 k0_t2 v2245 k0_hw91 k0_h4 => k0_hw91.2 k0_h4 (k0_off152_inb arg24 k0_t2 v2245 k0_hw91 k0_h4)

def k0_off154 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let v2254 : Index := Scalar.indexCast v2168
  ![v2254.toNat]
def k0_off155 (v2255 : BitVec 32) : Fin 2 → Nat :=
  let c8_i32_986 : BitVec 32 := 8#32
  let v2256 : BitVec 32 := Scalar.muli v2255 c8_i32_986
  let c5_i32_987 : BitVec 32 := 5#32
  let v2257 : BitVec 32 := Scalar.addi v2256 c5_i32_987
  let c7_i32_988 : BitVec 32 := 7#32
  let v2258 : BitVec 32 := Scalar.shrui v2257 c7_i32_988
  let v2260 : Index := Scalar.indexCast v2258
  let c127_i32_989 : BitVec 32 := 127#32
  let v2259 : BitVec 32 := Scalar.andi v2257 c127_i32_989
  let v2261 : Index := Scalar.indexCast v2259
  ![v2260.toNat, v2261.toNat]

def k0_chk92 (arg24 : BitVec 32) (k0_t2 : Fin (k0_t2_loop arg24).trips) (v2255 : BitVec 32) : Prop :=
  (∀ (k0_h4 : k0_cond4 arg24 k0_t2 = 1#1), ∀ a, (k0_off155 v2255) a + S1x1.size a ≤ S8x128.size a)
theorem k0_off155_inb : ∀ (arg24 : BitVec 32) (k0_t2 : Fin (k0_t2_loop arg24).trips) (v2255 : BitVec 32) (k0_hw92 : k0_chk92 arg24 k0_t2 v2255), ∀ (k0_h4 : k0_cond4 arg24 k0_t2 = 1#1), ∀ a, (k0_off155 v2255) a + S1x1.size a ≤ S8x128.size a := fun arg24 k0_t2 v2255 k0_hw92 k0_h4 => k0_hw92 k0_h4

def k0_off156 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_992 : BitVec 32 := 1#32
  let v2265 : BitVec 32 := Scalar.andi v2168 c1_i32_992
  ![v2265.toNat]
def k0_off157 (v2262 : BitVec 32) : Fin 2 → Nat :=
  let c128_i32_990 : BitVec 32 := 128#32
  let v2263 : BitVec 32 := Scalar.muli v2262 c128_i32_990
  let c0_i32_993 : BitVec 32 := 0#32
  ![v2263.toNat, 0]

def k0_off158 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_991 : BitVec 32 := 1#32
  let v2264 : BitVec 32 := Scalar.andi v2168 c1_i32_991
  let c640_i32_994 : BitVec 32 := 640#32
  let c0_i32_995 : BitVec 32 := 0#32
  ![v2264.toNat, 640, 0]

def k0_chk93 (arg24 : BitVec 32) (k0_t2 : Fin (k0_t2_loop arg24).trips) (v2262 : BitVec 32) : Prop :=
  (∀ (k0_h4 : k0_cond4 arg24 k0_t2 = 1#1), ∀ a, (k0_off157 v2262) a + S128x8960.size a ≤ S40960x8960.size a) ∧
  (∀ (k0_h4 : k0_cond4 arg24 k0_t2 = 1#1), ∀ (hinb : ∀ a, (k0_off157 v2262) a + S128x8960.size a ≤ S40960x8960.size a), (Rect.unit (s := S40960x8960) (k0_off157 v2262) S128x8960.size hinb).WholeWords (EltTy.packing .fp8e4m3))
theorem k0_off157_inb : ∀ (arg24 : BitVec 32) (k0_t2 : Fin (k0_t2_loop arg24).trips) (v2262 : BitVec 32) (k0_hw93 : k0_chk93 arg24 k0_t2 v2262), ∀ (k0_h4 : k0_cond4 arg24 k0_t2 = 1#1), ∀ a, (k0_off157 v2262) a + S128x8960.size a ≤ S40960x8960.size a := fun arg24 k0_t2 v2262 k0_hw93 k0_h4 => k0_hw93.1 k0_h4
theorem k0_off157_wordsfp8e4m3 : ∀ (arg24 : BitVec 32) (k0_t2 : Fin (k0_t2_loop arg24).trips) (v2262 : BitVec 32) (k0_hw93 : k0_chk93 arg24 k0_t2 v2262), ∀ (k0_h4 : k0_cond4 arg24 k0_t2 = 1#1), (Rect.unit (s := S40960x8960) (k0_off157 v2262) S128x8960.size (k0_off157_inb arg24 k0_t2 v2262 k0_hw93 k0_h4)).WholeWords (EltTy.packing .fp8e4m3) := fun arg24 k0_t2 v2262 k0_hw93 k0_h4 => k0_hw93.2 k0_h4 (k0_off157_inb arg24 k0_t2 v2262 k0_hw93 k0_h4)

def k0_off159 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let v2271 : Index := Scalar.indexCast v2168
  ![v2271.toNat]
def k0_off160 (v2272 : BitVec 32) : Fin 2 → Nat :=
  let c8_i32_996 : BitVec 32 := 8#32
  let v2273 : BitVec 32 := Scalar.muli v2272 c8_i32_996
  let c6_i32_997 : BitVec 32 := 6#32
  let v2274 : BitVec 32 := Scalar.addi v2273 c6_i32_997
  let c7_i32_998 : BitVec 32 := 7#32
  let v2275 : BitVec 32 := Scalar.shrui v2274 c7_i32_998
  let v2277 : Index := Scalar.indexCast v2275
  let c127_i32_999 : BitVec 32 := 127#32
  let v2276 : BitVec 32 := Scalar.andi v2274 c127_i32_999
  let v2278 : Index := Scalar.indexCast v2276
  ![v2277.toNat, v2278.toNat]

def k0_chk94 (arg24 : BitVec 32) (k0_t2 : Fin (k0_t2_loop arg24).trips) (v2272 : BitVec 32) : Prop :=
  (∀ (k0_h4 : k0_cond4 arg24 k0_t2 = 1#1), ∀ a, (k0_off160 v2272) a + S1x1.size a ≤ S8x128.size a)
theorem k0_off160_inb : ∀ (arg24 : BitVec 32) (k0_t2 : Fin (k0_t2_loop arg24).trips) (v2272 : BitVec 32) (k0_hw94 : k0_chk94 arg24 k0_t2 v2272), ∀ (k0_h4 : k0_cond4 arg24 k0_t2 = 1#1), ∀ a, (k0_off160 v2272) a + S1x1.size a ≤ S8x128.size a := fun arg24 k0_t2 v2272 k0_hw94 k0_h4 => k0_hw94 k0_h4

def k0_off161 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_1002 : BitVec 32 := 1#32
  let v2282 : BitVec 32 := Scalar.andi v2168 c1_i32_1002
  ![v2282.toNat]
def k0_off162 (v2279 : BitVec 32) : Fin 2 → Nat :=
  let c128_i32_1000 : BitVec 32 := 128#32
  let v2280 : BitVec 32 := Scalar.muli v2279 c128_i32_1000
  let c0_i32_1003 : BitVec 32 := 0#32
  ![v2280.toNat, 0]

def k0_off163 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_1001 : BitVec 32 := 1#32
  let v2281 : BitVec 32 := Scalar.andi v2168 c1_i32_1001
  let c768_i32_1004 : BitVec 32 := 768#32
  let c0_i32_1005 : BitVec 32 := 0#32
  ![v2281.toNat, 768, 0]

def k0_chk95 (arg24 : BitVec 32) (k0_t2 : Fin (k0_t2_loop arg24).trips) (v2279 : BitVec 32) : Prop :=
  (∀ (k0_h4 : k0_cond4 arg24 k0_t2 = 1#1), ∀ a, (k0_off162 v2279) a + S128x8960.size a ≤ S40960x8960.size a) ∧
  (∀ (k0_h4 : k0_cond4 arg24 k0_t2 = 1#1), ∀ (hinb : ∀ a, (k0_off162 v2279) a + S128x8960.size a ≤ S40960x8960.size a), (Rect.unit (s := S40960x8960) (k0_off162 v2279) S128x8960.size hinb).WholeWords (EltTy.packing .fp8e4m3))
theorem k0_off162_inb : ∀ (arg24 : BitVec 32) (k0_t2 : Fin (k0_t2_loop arg24).trips) (v2279 : BitVec 32) (k0_hw95 : k0_chk95 arg24 k0_t2 v2279), ∀ (k0_h4 : k0_cond4 arg24 k0_t2 = 1#1), ∀ a, (k0_off162 v2279) a + S128x8960.size a ≤ S40960x8960.size a := fun arg24 k0_t2 v2279 k0_hw95 k0_h4 => k0_hw95.1 k0_h4
theorem k0_off162_wordsfp8e4m3 : ∀ (arg24 : BitVec 32) (k0_t2 : Fin (k0_t2_loop arg24).trips) (v2279 : BitVec 32) (k0_hw95 : k0_chk95 arg24 k0_t2 v2279), ∀ (k0_h4 : k0_cond4 arg24 k0_t2 = 1#1), (Rect.unit (s := S40960x8960) (k0_off162 v2279) S128x8960.size (k0_off162_inb arg24 k0_t2 v2279 k0_hw95 k0_h4)).WholeWords (EltTy.packing .fp8e4m3) := fun arg24 k0_t2 v2279 k0_hw95 k0_h4 => k0_hw95.2 k0_h4 (k0_off162_inb arg24 k0_t2 v2279 k0_hw95 k0_h4)

def k0_off164 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let v2288 : Index := Scalar.indexCast v2168
  ![v2288.toNat]
def k0_off165 (v2289 : BitVec 32) : Fin 2 → Nat :=
  let c8_i32_1006 : BitVec 32 := 8#32
  let v2290 : BitVec 32 := Scalar.muli v2289 c8_i32_1006
  let c7_i32_1007 : BitVec 32 := 7#32
  let v2291 : BitVec 32 := Scalar.addi v2290 c7_i32_1007
  let c7_i32_1008 : BitVec 32 := 7#32
  let v2292 : BitVec 32 := Scalar.shrui v2291 c7_i32_1008
  let v2294 : Index := Scalar.indexCast v2292
  let c127_i32_1009 : BitVec 32 := 127#32
  let v2293 : BitVec 32 := Scalar.andi v2291 c127_i32_1009
  let v2295 : Index := Scalar.indexCast v2293
  ![v2294.toNat, v2295.toNat]

def k0_chk96 (arg24 : BitVec 32) (k0_t2 : Fin (k0_t2_loop arg24).trips) (v2289 : BitVec 32) : Prop :=
  (∀ (k0_h4 : k0_cond4 arg24 k0_t2 = 1#1), ∀ a, (k0_off165 v2289) a + S1x1.size a ≤ S8x128.size a)
theorem k0_off165_inb : ∀ (arg24 : BitVec 32) (k0_t2 : Fin (k0_t2_loop arg24).trips) (v2289 : BitVec 32) (k0_hw96 : k0_chk96 arg24 k0_t2 v2289), ∀ (k0_h4 : k0_cond4 arg24 k0_t2 = 1#1), ∀ a, (k0_off165 v2289) a + S1x1.size a ≤ S8x128.size a := fun arg24 k0_t2 v2289 k0_hw96 k0_h4 => k0_hw96 k0_h4

def k0_off166 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_1012 : BitVec 32 := 1#32
  let v2299 : BitVec 32 := Scalar.andi v2168 c1_i32_1012
  ![v2299.toNat]
def k0_off167 (v2296 : BitVec 32) : Fin 2 → Nat :=
  let c128_i32_1010 : BitVec 32 := 128#32
  let v2297 : BitVec 32 := Scalar.muli v2296 c128_i32_1010
  let c0_i32_1013 : BitVec 32 := 0#32
  ![v2297.toNat, 0]

def k0_off168 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_935 : BitVec 32 := 1#32
  let v2168 : BitVec 32 := Scalar.subi arg25 c1_i32_935
  let c1_i32_1011 : BitVec 32 := 1#32
  let v2298 : BitVec 32 := Scalar.andi v2168 c1_i32_1011
  let c896_i32_1014 : BitVec 32 := 896#32
  let c0_i32_1015 : BitVec 32 := 0#32
  ![v2298.toNat, 896, 0]

def k0_chk97 (arg24 : BitVec 32) (k0_t2 : Fin (k0_t2_loop arg24).trips) (v2296 : BitVec 32) : Prop :=
  (∀ (k0_h4 : k0_cond4 arg24 k0_t2 = 1#1), ∀ a, (k0_off167 v2296) a + S128x8960.size a ≤ S40960x8960.size a) ∧
  (∀ (k0_h4 : k0_cond4 arg24 k0_t2 = 1#1), ∀ (hinb : ∀ a, (k0_off167 v2296) a + S128x8960.size a ≤ S40960x8960.size a), (Rect.unit (s := S40960x8960) (k0_off167 v2296) S128x8960.size hinb).WholeWords (EltTy.packing .fp8e4m3))
theorem k0_off167_inb : ∀ (arg24 : BitVec 32) (k0_t2 : Fin (k0_t2_loop arg24).trips) (v2296 : BitVec 32) (k0_hw97 : k0_chk97 arg24 k0_t2 v2296), ∀ (k0_h4 : k0_cond4 arg24 k0_t2 = 1#1), ∀ a, (k0_off167 v2296) a + S128x8960.size a ≤ S40960x8960.size a := fun arg24 k0_t2 v2296 k0_hw97 k0_h4 => k0_hw97.1 k0_h4
theorem k0_off167_wordsfp8e4m3 : ∀ (arg24 : BitVec 32) (k0_t2 : Fin (k0_t2_loop arg24).trips) (v2296 : BitVec 32) (k0_hw97 : k0_chk97 arg24 k0_t2 v2296), ∀ (k0_h4 : k0_cond4 arg24 k0_t2 = 1#1), (Rect.unit (s := S40960x8960) (k0_off167 v2296) S128x8960.size (k0_off167_inb arg24 k0_t2 v2296 k0_hw97 k0_h4)).WholeWords (EltTy.packing .fp8e4m3) := fun arg24 k0_t2 v2296 k0_hw97 k0_h4 => k0_hw97.2 k0_h4 (k0_off167_inb arg24 k0_t2 v2296 k0_hw97 k0_h4)

def k0_off169 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let v2032 : Index := Scalar.indexCast v2031
  ![v2032.toNat]
def k0_cond5 (arg24 : BitVec 32) (k0_t2 : Fin (k0_t2_loop arg24).trips) : BitVec 1 :=
  let c0_i32_63 : BitVec 32 := 0#32
  let c1_i32_65 : BitVec 32 := 1#32
  let arg25 : BitVec 32 := Scf.iv c0_i32_63 c1_i32_65 k0_t2
  let c2_i32_103 : BitVec 32 := 2#32
  let v277 : BitVec 32 := Scalar.addi arg25 c2_i32_103
  let v278 : BitVec 1 := Scalar.cmpi .slt v277 arg24
  let v279 : BitVec 32 := Scalar.extui v278
  let c0_i32_104 : BitVec 32 := 0#32
  let v280 : BitVec 1 := Scalar.cmpi .ne v279 c0_i32_104
  v280

def k0_off170 (v2033 : BitVec 32) : Fin 2 → Nat :=
  let c8_i32_855 : BitVec 32 := 8#32
  let v2034 : BitVec 32 := Scalar.muli v2033 c8_i32_855
  let c0_i32_856 : BitVec 32 := 0#32
  let v2035 : BitVec 32 := Scalar.addi v2034 c0_i32_856
  let c7_i32_857 : BitVec 32 := 7#32
  let v2036 : BitVec 32 := Scalar.shrui v2035 c7_i32_857
  let v2038 : Index := Scalar.indexCast v2036
  let c127_i32_858 : BitVec 32 := 127#32
  let v2037 : BitVec 32 := Scalar.andi v2035 c127_i32_858
  let v2039 : Index := Scalar.indexCast v2037
  ![v2038.toNat, v2039.toNat]

def k0_chk98 (arg24 : BitVec 32) (k0_t2 : Fin (k0_t2_loop arg24).trips) (v2033 : BitVec 32) : Prop :=
  (∀ (k0_h5 : k0_cond5 arg24 k0_t2 = 1#1), ∀ a, (k0_off170 v2033) a + S1x1.size a ≤ S8x128.size a)
theorem k0_off170_inb : ∀ (arg24 : BitVec 32) (k0_t2 : Fin (k0_t2_loop arg24).trips) (v2033 : BitVec 32) (k0_hw98 : k0_chk98 arg24 k0_t2 v2033), ∀ (k0_h5 : k0_cond5 arg24 k0_t2 = 1#1), ∀ a, (k0_off170 v2033) a + S1x1.size a ≤ S8x128.size a := fun arg24 k0_t2 v2033 k0_hw98 k0_h5 => k0_hw98 k0_h5

def k0_off171 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_861 : BitVec 32 := 1#32
  let v2043 : BitVec 32 := Scalar.andi v2031 c1_i32_861
  ![v2043.toNat]
def k0_off172 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_860 : BitVec 32 := 1#32
  let v2042 : BitVec 32 := Scalar.andi v2031 c1_i32_860
  let c0_i32_862 : BitVec 32 := 0#32
  let c0_i32_863 : BitVec 32 := 0#32
  ![v2042.toNat, 0, 0]
def k0_off173 (v2040 : BitVec 32) : Fin 2 → Nat :=
  let c128_i32_859 : BitVec 32 := 128#32
  let v2041 : BitVec 32 := Scalar.muli v2040 c128_i32_859
  let c0_i32_864 : BitVec 32 := 0#32
  ![v2041.toNat, 0]

def k0_chk99 (arg24 : BitVec 32) (k0_t2 : Fin (k0_t2_loop arg24).trips) (v2040 : BitVec 32) : Prop :=
  (∀ (k0_h5 : k0_cond5 arg24 k0_t2 = 1#1), ∀ a, (k0_off173 v2040) a + S128x1536.size a ≤ S40960x1536.size a) ∧
  (∀ (k0_h5 : k0_cond5 arg24 k0_t2 = 1#1), ∀ (hinb : ∀ a, (k0_off173 v2040) a + S128x1536.size a ≤ S40960x1536.size a), (Rect.unit (s := S40960x1536) (k0_off173 v2040) S128x1536.size hinb).WholeWords (EltTy.packing .bf16))
theorem k0_off173_inb : ∀ (arg24 : BitVec 32) (k0_t2 : Fin (k0_t2_loop arg24).trips) (v2040 : BitVec 32) (k0_hw99 : k0_chk99 arg24 k0_t2 v2040), ∀ (k0_h5 : k0_cond5 arg24 k0_t2 = 1#1), ∀ a, (k0_off173 v2040) a + S128x1536.size a ≤ S40960x1536.size a := fun arg24 k0_t2 v2040 k0_hw99 k0_h5 => k0_hw99.1 k0_h5
theorem k0_off173_wordsbf16 : ∀ (arg24 : BitVec 32) (k0_t2 : Fin (k0_t2_loop arg24).trips) (v2040 : BitVec 32) (k0_hw99 : k0_chk99 arg24 k0_t2 v2040), ∀ (k0_h5 : k0_cond5 arg24 k0_t2 = 1#1), (Rect.unit (s := S40960x1536) (k0_off173 v2040) S128x1536.size (k0_off173_inb arg24 k0_t2 v2040 k0_hw99 k0_h5)).WholeWords (EltTy.packing .bf16) := fun arg24 k0_t2 v2040 k0_hw99 k0_h5 => k0_hw99.2 k0_h5 (k0_off173_inb arg24 k0_t2 v2040 k0_hw99 k0_h5)

def k0_off174 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let v2049 : Index := Scalar.indexCast v2031
  ![v2049.toNat]
def k0_off175 (v2050 : BitVec 32) : Fin 2 → Nat :=
  let c8_i32_865 : BitVec 32 := 8#32
  let v2051 : BitVec 32 := Scalar.muli v2050 c8_i32_865
  let c1_i32_866 : BitVec 32 := 1#32
  let v2052 : BitVec 32 := Scalar.addi v2051 c1_i32_866
  let c7_i32_867 : BitVec 32 := 7#32
  let v2053 : BitVec 32 := Scalar.shrui v2052 c7_i32_867
  let v2055 : Index := Scalar.indexCast v2053
  let c127_i32_868 : BitVec 32 := 127#32
  let v2054 : BitVec 32 := Scalar.andi v2052 c127_i32_868
  let v2056 : Index := Scalar.indexCast v2054
  ![v2055.toNat, v2056.toNat]

def k0_chk100 (arg24 : BitVec 32) (k0_t2 : Fin (k0_t2_loop arg24).trips) (v2050 : BitVec 32) : Prop :=
  (∀ (k0_h5 : k0_cond5 arg24 k0_t2 = 1#1), ∀ a, (k0_off175 v2050) a + S1x1.size a ≤ S8x128.size a)
theorem k0_off175_inb : ∀ (arg24 : BitVec 32) (k0_t2 : Fin (k0_t2_loop arg24).trips) (v2050 : BitVec 32) (k0_hw100 : k0_chk100 arg24 k0_t2 v2050), ∀ (k0_h5 : k0_cond5 arg24 k0_t2 = 1#1), ∀ a, (k0_off175 v2050) a + S1x1.size a ≤ S8x128.size a := fun arg24 k0_t2 v2050 k0_hw100 k0_h5 => k0_hw100 k0_h5

def k0_off176 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_871 : BitVec 32 := 1#32
  let v2060 : BitVec 32 := Scalar.andi v2031 c1_i32_871
  ![v2060.toNat]
def k0_off177 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_870 : BitVec 32 := 1#32
  let v2059 : BitVec 32 := Scalar.andi v2031 c1_i32_870
  let c128_i32_872 : BitVec 32 := 128#32
  let c0_i32_873 : BitVec 32 := 0#32
  ![v2059.toNat, 128, 0]
def k0_off178 (v2057 : BitVec 32) : Fin 2 → Nat :=
  let c128_i32_869 : BitVec 32 := 128#32
  let v2058 : BitVec 32 := Scalar.muli v2057 c128_i32_869
  let c0_i32_874 : BitVec 32 := 0#32
  ![v2058.toNat, 0]

def k0_chk101 (arg24 : BitVec 32) (k0_t2 : Fin (k0_t2_loop arg24).trips) (v2057 : BitVec 32) : Prop :=
  (∀ (k0_h5 : k0_cond5 arg24 k0_t2 = 1#1), ∀ a, (k0_off178 v2057) a + S128x1536.size a ≤ S40960x1536.size a) ∧
  (∀ (k0_h5 : k0_cond5 arg24 k0_t2 = 1#1), ∀ (hinb : ∀ a, (k0_off178 v2057) a + S128x1536.size a ≤ S40960x1536.size a), (Rect.unit (s := S40960x1536) (k0_off178 v2057) S128x1536.size hinb).WholeWords (EltTy.packing .bf16))
theorem k0_off178_inb : ∀ (arg24 : BitVec 32) (k0_t2 : Fin (k0_t2_loop arg24).trips) (v2057 : BitVec 32) (k0_hw101 : k0_chk101 arg24 k0_t2 v2057), ∀ (k0_h5 : k0_cond5 arg24 k0_t2 = 1#1), ∀ a, (k0_off178 v2057) a + S128x1536.size a ≤ S40960x1536.size a := fun arg24 k0_t2 v2057 k0_hw101 k0_h5 => k0_hw101.1 k0_h5
theorem k0_off178_wordsbf16 : ∀ (arg24 : BitVec 32) (k0_t2 : Fin (k0_t2_loop arg24).trips) (v2057 : BitVec 32) (k0_hw101 : k0_chk101 arg24 k0_t2 v2057), ∀ (k0_h5 : k0_cond5 arg24 k0_t2 = 1#1), (Rect.unit (s := S40960x1536) (k0_off178 v2057) S128x1536.size (k0_off178_inb arg24 k0_t2 v2057 k0_hw101 k0_h5)).WholeWords (EltTy.packing .bf16) := fun arg24 k0_t2 v2057 k0_hw101 k0_h5 => k0_hw101.2 k0_h5 (k0_off178_inb arg24 k0_t2 v2057 k0_hw101 k0_h5)

def k0_off179 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let v2066 : Index := Scalar.indexCast v2031
  ![v2066.toNat]
def k0_off180 (v2067 : BitVec 32) : Fin 2 → Nat :=
  let c8_i32_875 : BitVec 32 := 8#32
  let v2068 : BitVec 32 := Scalar.muli v2067 c8_i32_875
  let c2_i32_876 : BitVec 32 := 2#32
  let v2069 : BitVec 32 := Scalar.addi v2068 c2_i32_876
  let c7_i32_877 : BitVec 32 := 7#32
  let v2070 : BitVec 32 := Scalar.shrui v2069 c7_i32_877
  let v2072 : Index := Scalar.indexCast v2070
  let c127_i32_878 : BitVec 32 := 127#32
  let v2071 : BitVec 32 := Scalar.andi v2069 c127_i32_878
  let v2073 : Index := Scalar.indexCast v2071
  ![v2072.toNat, v2073.toNat]

def k0_chk102 (arg24 : BitVec 32) (k0_t2 : Fin (k0_t2_loop arg24).trips) (v2067 : BitVec 32) : Prop :=
  (∀ (k0_h5 : k0_cond5 arg24 k0_t2 = 1#1), ∀ a, (k0_off180 v2067) a + S1x1.size a ≤ S8x128.size a)
theorem k0_off180_inb : ∀ (arg24 : BitVec 32) (k0_t2 : Fin (k0_t2_loop arg24).trips) (v2067 : BitVec 32) (k0_hw102 : k0_chk102 arg24 k0_t2 v2067), ∀ (k0_h5 : k0_cond5 arg24 k0_t2 = 1#1), ∀ a, (k0_off180 v2067) a + S1x1.size a ≤ S8x128.size a := fun arg24 k0_t2 v2067 k0_hw102 k0_h5 => k0_hw102 k0_h5

def k0_off181 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_881 : BitVec 32 := 1#32
  let v2077 : BitVec 32 := Scalar.andi v2031 c1_i32_881
  ![v2077.toNat]
def k0_off182 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_880 : BitVec 32 := 1#32
  let v2076 : BitVec 32 := Scalar.andi v2031 c1_i32_880
  let c256_i32_882 : BitVec 32 := 256#32
  let c0_i32_883 : BitVec 32 := 0#32
  ![v2076.toNat, 256, 0]
def k0_off183 (v2074 : BitVec 32) : Fin 2 → Nat :=
  let c128_i32_879 : BitVec 32 := 128#32
  let v2075 : BitVec 32 := Scalar.muli v2074 c128_i32_879
  let c0_i32_884 : BitVec 32 := 0#32
  ![v2075.toNat, 0]

def k0_chk103 (arg24 : BitVec 32) (k0_t2 : Fin (k0_t2_loop arg24).trips) (v2074 : BitVec 32) : Prop :=
  (∀ (k0_h5 : k0_cond5 arg24 k0_t2 = 1#1), ∀ a, (k0_off183 v2074) a + S128x1536.size a ≤ S40960x1536.size a) ∧
  (∀ (k0_h5 : k0_cond5 arg24 k0_t2 = 1#1), ∀ (hinb : ∀ a, (k0_off183 v2074) a + S128x1536.size a ≤ S40960x1536.size a), (Rect.unit (s := S40960x1536) (k0_off183 v2074) S128x1536.size hinb).WholeWords (EltTy.packing .bf16))
theorem k0_off183_inb : ∀ (arg24 : BitVec 32) (k0_t2 : Fin (k0_t2_loop arg24).trips) (v2074 : BitVec 32) (k0_hw103 : k0_chk103 arg24 k0_t2 v2074), ∀ (k0_h5 : k0_cond5 arg24 k0_t2 = 1#1), ∀ a, (k0_off183 v2074) a + S128x1536.size a ≤ S40960x1536.size a := fun arg24 k0_t2 v2074 k0_hw103 k0_h5 => k0_hw103.1 k0_h5
theorem k0_off183_wordsbf16 : ∀ (arg24 : BitVec 32) (k0_t2 : Fin (k0_t2_loop arg24).trips) (v2074 : BitVec 32) (k0_hw103 : k0_chk103 arg24 k0_t2 v2074), ∀ (k0_h5 : k0_cond5 arg24 k0_t2 = 1#1), (Rect.unit (s := S40960x1536) (k0_off183 v2074) S128x1536.size (k0_off183_inb arg24 k0_t2 v2074 k0_hw103 k0_h5)).WholeWords (EltTy.packing .bf16) := fun arg24 k0_t2 v2074 k0_hw103 k0_h5 => k0_hw103.2 k0_h5 (k0_off183_inb arg24 k0_t2 v2074 k0_hw103 k0_h5)

def k0_off184 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let v2083 : Index := Scalar.indexCast v2031
  ![v2083.toNat]
def k0_off185 (v2084 : BitVec 32) : Fin 2 → Nat :=
  let c8_i32_885 : BitVec 32 := 8#32
  let v2085 : BitVec 32 := Scalar.muli v2084 c8_i32_885
  let c3_i32_886 : BitVec 32 := 3#32
  let v2086 : BitVec 32 := Scalar.addi v2085 c3_i32_886
  let c7_i32_887 : BitVec 32 := 7#32
  let v2087 : BitVec 32 := Scalar.shrui v2086 c7_i32_887
  let v2089 : Index := Scalar.indexCast v2087
  let c127_i32_888 : BitVec 32 := 127#32
  let v2088 : BitVec 32 := Scalar.andi v2086 c127_i32_888
  let v2090 : Index := Scalar.indexCast v2088
  ![v2089.toNat, v2090.toNat]

def k0_chk104 (arg24 : BitVec 32) (k0_t2 : Fin (k0_t2_loop arg24).trips) (v2084 : BitVec 32) : Prop :=
  (∀ (k0_h5 : k0_cond5 arg24 k0_t2 = 1#1), ∀ a, (k0_off185 v2084) a + S1x1.size a ≤ S8x128.size a)
theorem k0_off185_inb : ∀ (arg24 : BitVec 32) (k0_t2 : Fin (k0_t2_loop arg24).trips) (v2084 : BitVec 32) (k0_hw104 : k0_chk104 arg24 k0_t2 v2084), ∀ (k0_h5 : k0_cond5 arg24 k0_t2 = 1#1), ∀ a, (k0_off185 v2084) a + S1x1.size a ≤ S8x128.size a := fun arg24 k0_t2 v2084 k0_hw104 k0_h5 => k0_hw104 k0_h5

def k0_off186 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_891 : BitVec 32 := 1#32
  let v2094 : BitVec 32 := Scalar.andi v2031 c1_i32_891
  ![v2094.toNat]
def k0_off187 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_890 : BitVec 32 := 1#32
  let v2093 : BitVec 32 := Scalar.andi v2031 c1_i32_890
  let c384_i32_892 : BitVec 32 := 384#32
  let c0_i32_893 : BitVec 32 := 0#32
  ![v2093.toNat, 384, 0]
def k0_off188 (v2091 : BitVec 32) : Fin 2 → Nat :=
  let c128_i32_889 : BitVec 32 := 128#32
  let v2092 : BitVec 32 := Scalar.muli v2091 c128_i32_889
  let c0_i32_894 : BitVec 32 := 0#32
  ![v2092.toNat, 0]

def k0_chk105 (arg24 : BitVec 32) (k0_t2 : Fin (k0_t2_loop arg24).trips) (v2091 : BitVec 32) : Prop :=
  (∀ (k0_h5 : k0_cond5 arg24 k0_t2 = 1#1), ∀ a, (k0_off188 v2091) a + S128x1536.size a ≤ S40960x1536.size a) ∧
  (∀ (k0_h5 : k0_cond5 arg24 k0_t2 = 1#1), ∀ (hinb : ∀ a, (k0_off188 v2091) a + S128x1536.size a ≤ S40960x1536.size a), (Rect.unit (s := S40960x1536) (k0_off188 v2091) S128x1536.size hinb).WholeWords (EltTy.packing .bf16))
theorem k0_off188_inb : ∀ (arg24 : BitVec 32) (k0_t2 : Fin (k0_t2_loop arg24).trips) (v2091 : BitVec 32) (k0_hw105 : k0_chk105 arg24 k0_t2 v2091), ∀ (k0_h5 : k0_cond5 arg24 k0_t2 = 1#1), ∀ a, (k0_off188 v2091) a + S128x1536.size a ≤ S40960x1536.size a := fun arg24 k0_t2 v2091 k0_hw105 k0_h5 => k0_hw105.1 k0_h5
theorem k0_off188_wordsbf16 : ∀ (arg24 : BitVec 32) (k0_t2 : Fin (k0_t2_loop arg24).trips) (v2091 : BitVec 32) (k0_hw105 : k0_chk105 arg24 k0_t2 v2091), ∀ (k0_h5 : k0_cond5 arg24 k0_t2 = 1#1), (Rect.unit (s := S40960x1536) (k0_off188 v2091) S128x1536.size (k0_off188_inb arg24 k0_t2 v2091 k0_hw105 k0_h5)).WholeWords (EltTy.packing .bf16) := fun arg24 k0_t2 v2091 k0_hw105 k0_h5 => k0_hw105.2 k0_h5 (k0_off188_inb arg24 k0_t2 v2091 k0_hw105 k0_h5)

def k0_off189 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let v2100 : Index := Scalar.indexCast v2031
  ![v2100.toNat]
def k0_off190 (v2101 : BitVec 32) : Fin 2 → Nat :=
  let c8_i32_895 : BitVec 32 := 8#32
  let v2102 : BitVec 32 := Scalar.muli v2101 c8_i32_895
  let c4_i32_896 : BitVec 32 := 4#32
  let v2103 : BitVec 32 := Scalar.addi v2102 c4_i32_896
  let c7_i32_897 : BitVec 32 := 7#32
  let v2104 : BitVec 32 := Scalar.shrui v2103 c7_i32_897
  let v2106 : Index := Scalar.indexCast v2104
  let c127_i32_898 : BitVec 32 := 127#32
  let v2105 : BitVec 32 := Scalar.andi v2103 c127_i32_898
  let v2107 : Index := Scalar.indexCast v2105
  ![v2106.toNat, v2107.toNat]

def k0_chk106 (arg24 : BitVec 32) (k0_t2 : Fin (k0_t2_loop arg24).trips) (v2101 : BitVec 32) : Prop :=
  (∀ (k0_h5 : k0_cond5 arg24 k0_t2 = 1#1), ∀ a, (k0_off190 v2101) a + S1x1.size a ≤ S8x128.size a)
theorem k0_off190_inb : ∀ (arg24 : BitVec 32) (k0_t2 : Fin (k0_t2_loop arg24).trips) (v2101 : BitVec 32) (k0_hw106 : k0_chk106 arg24 k0_t2 v2101), ∀ (k0_h5 : k0_cond5 arg24 k0_t2 = 1#1), ∀ a, (k0_off190 v2101) a + S1x1.size a ≤ S8x128.size a := fun arg24 k0_t2 v2101 k0_hw106 k0_h5 => k0_hw106 k0_h5

def k0_off191 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_901 : BitVec 32 := 1#32
  let v2111 : BitVec 32 := Scalar.andi v2031 c1_i32_901
  ![v2111.toNat]
def k0_off192 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_900 : BitVec 32 := 1#32
  let v2110 : BitVec 32 := Scalar.andi v2031 c1_i32_900
  let c512_i32_902 : BitVec 32 := 512#32
  let c0_i32_903 : BitVec 32 := 0#32
  ![v2110.toNat, 512, 0]
def k0_off193 (v2108 : BitVec 32) : Fin 2 → Nat :=
  let c128_i32_899 : BitVec 32 := 128#32
  let v2109 : BitVec 32 := Scalar.muli v2108 c128_i32_899
  let c0_i32_904 : BitVec 32 := 0#32
  ![v2109.toNat, 0]

def k0_chk107 (arg24 : BitVec 32) (k0_t2 : Fin (k0_t2_loop arg24).trips) (v2108 : BitVec 32) : Prop :=
  (∀ (k0_h5 : k0_cond5 arg24 k0_t2 = 1#1), ∀ a, (k0_off193 v2108) a + S128x1536.size a ≤ S40960x1536.size a) ∧
  (∀ (k0_h5 : k0_cond5 arg24 k0_t2 = 1#1), ∀ (hinb : ∀ a, (k0_off193 v2108) a + S128x1536.size a ≤ S40960x1536.size a), (Rect.unit (s := S40960x1536) (k0_off193 v2108) S128x1536.size hinb).WholeWords (EltTy.packing .bf16))
theorem k0_off193_inb : ∀ (arg24 : BitVec 32) (k0_t2 : Fin (k0_t2_loop arg24).trips) (v2108 : BitVec 32) (k0_hw107 : k0_chk107 arg24 k0_t2 v2108), ∀ (k0_h5 : k0_cond5 arg24 k0_t2 = 1#1), ∀ a, (k0_off193 v2108) a + S128x1536.size a ≤ S40960x1536.size a := fun arg24 k0_t2 v2108 k0_hw107 k0_h5 => k0_hw107.1 k0_h5
theorem k0_off193_wordsbf16 : ∀ (arg24 : BitVec 32) (k0_t2 : Fin (k0_t2_loop arg24).trips) (v2108 : BitVec 32) (k0_hw107 : k0_chk107 arg24 k0_t2 v2108), ∀ (k0_h5 : k0_cond5 arg24 k0_t2 = 1#1), (Rect.unit (s := S40960x1536) (k0_off193 v2108) S128x1536.size (k0_off193_inb arg24 k0_t2 v2108 k0_hw107 k0_h5)).WholeWords (EltTy.packing .bf16) := fun arg24 k0_t2 v2108 k0_hw107 k0_h5 => k0_hw107.2 k0_h5 (k0_off193_inb arg24 k0_t2 v2108 k0_hw107 k0_h5)

def k0_off194 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let v2117 : Index := Scalar.indexCast v2031
  ![v2117.toNat]
def k0_off195 (v2118 : BitVec 32) : Fin 2 → Nat :=
  let c8_i32_905 : BitVec 32 := 8#32
  let v2119 : BitVec 32 := Scalar.muli v2118 c8_i32_905
  let c5_i32_906 : BitVec 32 := 5#32
  let v2120 : BitVec 32 := Scalar.addi v2119 c5_i32_906
  let c7_i32_907 : BitVec 32 := 7#32
  let v2121 : BitVec 32 := Scalar.shrui v2120 c7_i32_907
  let v2123 : Index := Scalar.indexCast v2121
  let c127_i32_908 : BitVec 32 := 127#32
  let v2122 : BitVec 32 := Scalar.andi v2120 c127_i32_908
  let v2124 : Index := Scalar.indexCast v2122
  ![v2123.toNat, v2124.toNat]

def k0_chk108 (arg24 : BitVec 32) (k0_t2 : Fin (k0_t2_loop arg24).trips) (v2118 : BitVec 32) : Prop :=
  (∀ (k0_h5 : k0_cond5 arg24 k0_t2 = 1#1), ∀ a, (k0_off195 v2118) a + S1x1.size a ≤ S8x128.size a)
theorem k0_off195_inb : ∀ (arg24 : BitVec 32) (k0_t2 : Fin (k0_t2_loop arg24).trips) (v2118 : BitVec 32) (k0_hw108 : k0_chk108 arg24 k0_t2 v2118), ∀ (k0_h5 : k0_cond5 arg24 k0_t2 = 1#1), ∀ a, (k0_off195 v2118) a + S1x1.size a ≤ S8x128.size a := fun arg24 k0_t2 v2118 k0_hw108 k0_h5 => k0_hw108 k0_h5

def k0_off196 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_911 : BitVec 32 := 1#32
  let v2128 : BitVec 32 := Scalar.andi v2031 c1_i32_911
  ![v2128.toNat]
def k0_off197 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_910 : BitVec 32 := 1#32
  let v2127 : BitVec 32 := Scalar.andi v2031 c1_i32_910
  let c640_i32_912 : BitVec 32 := 640#32
  let c0_i32_913 : BitVec 32 := 0#32
  ![v2127.toNat, 640, 0]
def k0_off198 (v2125 : BitVec 32) : Fin 2 → Nat :=
  let c128_i32_909 : BitVec 32 := 128#32
  let v2126 : BitVec 32 := Scalar.muli v2125 c128_i32_909
  let c0_i32_914 : BitVec 32 := 0#32
  ![v2126.toNat, 0]

def k0_chk109 (arg24 : BitVec 32) (k0_t2 : Fin (k0_t2_loop arg24).trips) (v2125 : BitVec 32) : Prop :=
  (∀ (k0_h5 : k0_cond5 arg24 k0_t2 = 1#1), ∀ a, (k0_off198 v2125) a + S128x1536.size a ≤ S40960x1536.size a) ∧
  (∀ (k0_h5 : k0_cond5 arg24 k0_t2 = 1#1), ∀ (hinb : ∀ a, (k0_off198 v2125) a + S128x1536.size a ≤ S40960x1536.size a), (Rect.unit (s := S40960x1536) (k0_off198 v2125) S128x1536.size hinb).WholeWords (EltTy.packing .bf16))
theorem k0_off198_inb : ∀ (arg24 : BitVec 32) (k0_t2 : Fin (k0_t2_loop arg24).trips) (v2125 : BitVec 32) (k0_hw109 : k0_chk109 arg24 k0_t2 v2125), ∀ (k0_h5 : k0_cond5 arg24 k0_t2 = 1#1), ∀ a, (k0_off198 v2125) a + S128x1536.size a ≤ S40960x1536.size a := fun arg24 k0_t2 v2125 k0_hw109 k0_h5 => k0_hw109.1 k0_h5
theorem k0_off198_wordsbf16 : ∀ (arg24 : BitVec 32) (k0_t2 : Fin (k0_t2_loop arg24).trips) (v2125 : BitVec 32) (k0_hw109 : k0_chk109 arg24 k0_t2 v2125), ∀ (k0_h5 : k0_cond5 arg24 k0_t2 = 1#1), (Rect.unit (s := S40960x1536) (k0_off198 v2125) S128x1536.size (k0_off198_inb arg24 k0_t2 v2125 k0_hw109 k0_h5)).WholeWords (EltTy.packing .bf16) := fun arg24 k0_t2 v2125 k0_hw109 k0_h5 => k0_hw109.2 k0_h5 (k0_off198_inb arg24 k0_t2 v2125 k0_hw109 k0_h5)

def k0_off199 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let v2134 : Index := Scalar.indexCast v2031
  ![v2134.toNat]
def k0_off200 (v2135 : BitVec 32) : Fin 2 → Nat :=
  let c8_i32_915 : BitVec 32 := 8#32
  let v2136 : BitVec 32 := Scalar.muli v2135 c8_i32_915
  let c6_i32_916 : BitVec 32 := 6#32
  let v2137 : BitVec 32 := Scalar.addi v2136 c6_i32_916
  let c7_i32_917 : BitVec 32 := 7#32
  let v2138 : BitVec 32 := Scalar.shrui v2137 c7_i32_917
  let v2140 : Index := Scalar.indexCast v2138
  let c127_i32_918 : BitVec 32 := 127#32
  let v2139 : BitVec 32 := Scalar.andi v2137 c127_i32_918
  let v2141 : Index := Scalar.indexCast v2139
  ![v2140.toNat, v2141.toNat]

def k0_chk110 (arg24 : BitVec 32) (k0_t2 : Fin (k0_t2_loop arg24).trips) (v2135 : BitVec 32) : Prop :=
  (∀ (k0_h5 : k0_cond5 arg24 k0_t2 = 1#1), ∀ a, (k0_off200 v2135) a + S1x1.size a ≤ S8x128.size a)
theorem k0_off200_inb : ∀ (arg24 : BitVec 32) (k0_t2 : Fin (k0_t2_loop arg24).trips) (v2135 : BitVec 32) (k0_hw110 : k0_chk110 arg24 k0_t2 v2135), ∀ (k0_h5 : k0_cond5 arg24 k0_t2 = 1#1), ∀ a, (k0_off200 v2135) a + S1x1.size a ≤ S8x128.size a := fun arg24 k0_t2 v2135 k0_hw110 k0_h5 => k0_hw110 k0_h5

def k0_off201 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_921 : BitVec 32 := 1#32
  let v2145 : BitVec 32 := Scalar.andi v2031 c1_i32_921
  ![v2145.toNat]
def k0_off202 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_920 : BitVec 32 := 1#32
  let v2144 : BitVec 32 := Scalar.andi v2031 c1_i32_920
  let c768_i32_922 : BitVec 32 := 768#32
  let c0_i32_923 : BitVec 32 := 0#32
  ![v2144.toNat, 768, 0]
def k0_off203 (v2142 : BitVec 32) : Fin 2 → Nat :=
  let c128_i32_919 : BitVec 32 := 128#32
  let v2143 : BitVec 32 := Scalar.muli v2142 c128_i32_919
  let c0_i32_924 : BitVec 32 := 0#32
  ![v2143.toNat, 0]

def k0_chk111 (arg24 : BitVec 32) (k0_t2 : Fin (k0_t2_loop arg24).trips) (v2142 : BitVec 32) : Prop :=
  (∀ (k0_h5 : k0_cond5 arg24 k0_t2 = 1#1), ∀ a, (k0_off203 v2142) a + S128x1536.size a ≤ S40960x1536.size a) ∧
  (∀ (k0_h5 : k0_cond5 arg24 k0_t2 = 1#1), ∀ (hinb : ∀ a, (k0_off203 v2142) a + S128x1536.size a ≤ S40960x1536.size a), (Rect.unit (s := S40960x1536) (k0_off203 v2142) S128x1536.size hinb).WholeWords (EltTy.packing .bf16))
theorem k0_off203_inb : ∀ (arg24 : BitVec 32) (k0_t2 : Fin (k0_t2_loop arg24).trips) (v2142 : BitVec 32) (k0_hw111 : k0_chk111 arg24 k0_t2 v2142), ∀ (k0_h5 : k0_cond5 arg24 k0_t2 = 1#1), ∀ a, (k0_off203 v2142) a + S128x1536.size a ≤ S40960x1536.size a := fun arg24 k0_t2 v2142 k0_hw111 k0_h5 => k0_hw111.1 k0_h5
theorem k0_off203_wordsbf16 : ∀ (arg24 : BitVec 32) (k0_t2 : Fin (k0_t2_loop arg24).trips) (v2142 : BitVec 32) (k0_hw111 : k0_chk111 arg24 k0_t2 v2142), ∀ (k0_h5 : k0_cond5 arg24 k0_t2 = 1#1), (Rect.unit (s := S40960x1536) (k0_off203 v2142) S128x1536.size (k0_off203_inb arg24 k0_t2 v2142 k0_hw111 k0_h5)).WholeWords (EltTy.packing .bf16) := fun arg24 k0_t2 v2142 k0_hw111 k0_h5 => k0_hw111.2 k0_h5 (k0_off203_inb arg24 k0_t2 v2142 k0_hw111 k0_h5)

def k0_off204 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let v2151 : Index := Scalar.indexCast v2031
  ![v2151.toNat]
def k0_off205 (v2152 : BitVec 32) : Fin 2 → Nat :=
  let c8_i32_925 : BitVec 32 := 8#32
  let v2153 : BitVec 32 := Scalar.muli v2152 c8_i32_925
  let c7_i32_926 : BitVec 32 := 7#32
  let v2154 : BitVec 32 := Scalar.addi v2153 c7_i32_926
  let c7_i32_927 : BitVec 32 := 7#32
  let v2155 : BitVec 32 := Scalar.shrui v2154 c7_i32_927
  let v2157 : Index := Scalar.indexCast v2155
  let c127_i32_928 : BitVec 32 := 127#32
  let v2156 : BitVec 32 := Scalar.andi v2154 c127_i32_928
  let v2158 : Index := Scalar.indexCast v2156
  ![v2157.toNat, v2158.toNat]

def k0_chk112 (arg24 : BitVec 32) (k0_t2 : Fin (k0_t2_loop arg24).trips) (v2152 : BitVec 32) : Prop :=
  (∀ (k0_h5 : k0_cond5 arg24 k0_t2 = 1#1), ∀ a, (k0_off205 v2152) a + S1x1.size a ≤ S8x128.size a)
theorem k0_off205_inb : ∀ (arg24 : BitVec 32) (k0_t2 : Fin (k0_t2_loop arg24).trips) (v2152 : BitVec 32) (k0_hw112 : k0_chk112 arg24 k0_t2 v2152), ∀ (k0_h5 : k0_cond5 arg24 k0_t2 = 1#1), ∀ a, (k0_off205 v2152) a + S1x1.size a ≤ S8x128.size a := fun arg24 k0_t2 v2152 k0_hw112 k0_h5 => k0_hw112 k0_h5

def k0_off206 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_931 : BitVec 32 := 1#32
  let v2162 : BitVec 32 := Scalar.andi v2031 c1_i32_931
  ![v2162.toNat]
def k0_off207 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.addi arg25 c2_i32_854
  let c1_i32_930 : BitVec 32 := 1#32
  let v2161 : BitVec 32 := Scalar.andi v2031 c1_i32_930
  let c896_i32_932 : BitVec 32 := 896#32
  let c0_i32_933 : BitVec 32 := 0#32
  ![v2161.toNat, 896, 0]
def k0_off208 (v2159 : BitVec 32) : Fin 2 → Nat :=
  let c128_i32_929 : BitVec 32 := 128#32
  let v2160 : BitVec 32 := Scalar.muli v2159 c128_i32_929
  let c0_i32_934 : BitVec 32 := 0#32
  ![v2160.toNat, 0]

def k0_chk113 (arg24 : BitVec 32) (k0_t2 : Fin (k0_t2_loop arg24).trips) (v2159 : BitVec 32) : Prop :=
  (∀ (k0_h5 : k0_cond5 arg24 k0_t2 = 1#1), ∀ a, (k0_off208 v2159) a + S128x1536.size a ≤ S40960x1536.size a) ∧
  (∀ (k0_h5 : k0_cond5 arg24 k0_t2 = 1#1), ∀ (hinb : ∀ a, (k0_off208 v2159) a + S128x1536.size a ≤ S40960x1536.size a), (Rect.unit (s := S40960x1536) (k0_off208 v2159) S128x1536.size hinb).WholeWords (EltTy.packing .bf16))
theorem k0_off208_inb : ∀ (arg24 : BitVec 32) (k0_t2 : Fin (k0_t2_loop arg24).trips) (v2159 : BitVec 32) (k0_hw113 : k0_chk113 arg24 k0_t2 v2159), ∀ (k0_h5 : k0_cond5 arg24 k0_t2 = 1#1), ∀ a, (k0_off208 v2159) a + S128x1536.size a ≤ S40960x1536.size a := fun arg24 k0_t2 v2159 k0_hw113 k0_h5 => k0_hw113.1 k0_h5
theorem k0_off208_wordsbf16 : ∀ (arg24 : BitVec 32) (k0_t2 : Fin (k0_t2_loop arg24).trips) (v2159 : BitVec 32) (k0_hw113 : k0_chk113 arg24 k0_t2 v2159), ∀ (k0_h5 : k0_cond5 arg24 k0_t2 = 1#1), (Rect.unit (s := S40960x1536) (k0_off208 v2159) S128x1536.size (k0_off208_inb arg24 k0_t2 v2159 k0_hw113 k0_h5)).WholeWords (EltTy.packing .bf16) := fun arg24 k0_t2 v2159 k0_hw113 k0_h5 => k0_hw113.2 k0_h5 (k0_off208_inb arg24 k0_t2 v2159 k0_hw113 k0_h5)

def k0_off209 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let v281 : Index := Scalar.indexCast arg25
  ![v281.toNat]
def k0_off210 (v282 : BitVec 32) : Fin 2 → Nat :=
  let c8_i32_105 : BitVec 32 := 8#32
  let v283 : BitVec 32 := Scalar.muli v282 c8_i32_105
  let c0_i32_106 : BitVec 32 := 0#32
  let v284 : BitVec 32 := Scalar.addi v283 c0_i32_106
  let c7_i32_107 : BitVec 32 := 7#32
  let v285 : BitVec 32 := Scalar.shrui v284 c7_i32_107
  let v287 : Index := Scalar.indexCast v285
  let c127_i32_108 : BitVec 32 := 127#32
  let v286 : BitVec 32 := Scalar.andi v284 c127_i32_108
  let v288 : Index := Scalar.indexCast v286
  ![v287.toNat, v288.toNat]

def k0_chk114 (v282 : BitVec 32) : Prop :=
  (∀ a, (k0_off210 v282) a + S1x1.size a ≤ S8x128.size a)
theorem k0_off210_inb : ∀ (v282 : BitVec 32) (k0_hw114 : k0_chk114 v282), ∀ a, (k0_off210 v282) a + S1x1.size a ≤ S8x128.size a := fun v282 k0_hw114 => k0_hw114

def k0_off211 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_111 : BitVec 32 := 1#32
  let v292 : BitVec 32 := Scalar.andi arg25 c1_i32_111
  ![v292.toNat]
def k0_off212 (v289 : BitVec 32) : Fin 2 → Nat :=
  let c128_i32_109 : BitVec 32 := 128#32
  let v290 : BitVec 32 := Scalar.muli v289 c128_i32_109
  let c0_i32_112 : BitVec 32 := 0#32
  ![v290.toNat, 0]

def k0_off213 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_110 : BitVec 32 := 1#32
  let v291 : BitVec 32 := Scalar.andi arg25 c1_i32_110
  let c0_i32_113 : BitVec 32 := 0#32
  let c0_i32_114 : BitVec 32 := 0#32
  ![v291.toNat, 0, 0]

def k0_chk115 (v289 : BitVec 32) : Prop :=
  (∀ a, (k0_off212 v289) a + S128x1536.size a ≤ S40960x1536.size a) ∧
  (∀ (hinb : ∀ a, (k0_off212 v289) a + S128x1536.size a ≤ S40960x1536.size a), (Rect.unit (s := S40960x1536) (k0_off212 v289) S128x1536.size hinb).WholeWords (EltTy.packing .fp8e4m3))
theorem k0_off212_inb : ∀ (v289 : BitVec 32) (k0_hw115 : k0_chk115 v289), ∀ a, (k0_off212 v289) a + S128x1536.size a ≤ S40960x1536.size a := fun v289 k0_hw115 => k0_hw115.1
theorem k0_off212_wordsfp8e4m3 : ∀ (v289 : BitVec 32) (k0_hw115 : k0_chk115 v289), (Rect.unit (s := S40960x1536) (k0_off212 v289) S128x1536.size (k0_off212_inb v289 k0_hw115)).WholeWords (EltTy.packing .fp8e4m3) := fun v289 k0_hw115 => k0_hw115.2 (k0_off212_inb v289 k0_hw115)

def k0_off214 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let v298 : Index := Scalar.indexCast arg25
  ![v298.toNat]
def k0_off215 (v299 : BitVec 32) : Fin 2 → Nat :=
  let c8_i32_115 : BitVec 32 := 8#32
  let v300 : BitVec 32 := Scalar.muli v299 c8_i32_115
  let c1_i32_116 : BitVec 32 := 1#32
  let v301 : BitVec 32 := Scalar.addi v300 c1_i32_116
  let c7_i32_117 : BitVec 32 := 7#32
  let v302 : BitVec 32 := Scalar.shrui v301 c7_i32_117
  let v304 : Index := Scalar.indexCast v302
  let c127_i32_118 : BitVec 32 := 127#32
  let v303 : BitVec 32 := Scalar.andi v301 c127_i32_118
  let v305 : Index := Scalar.indexCast v303
  ![v304.toNat, v305.toNat]

def k0_chk116 (v299 : BitVec 32) : Prop :=
  (∀ a, (k0_off215 v299) a + S1x1.size a ≤ S8x128.size a)
theorem k0_off215_inb : ∀ (v299 : BitVec 32) (k0_hw116 : k0_chk116 v299), ∀ a, (k0_off215 v299) a + S1x1.size a ≤ S8x128.size a := fun v299 k0_hw116 => k0_hw116

def k0_off216 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_121 : BitVec 32 := 1#32
  let v309 : BitVec 32 := Scalar.andi arg25 c1_i32_121
  ![v309.toNat]
def k0_off217 (v306 : BitVec 32) : Fin 2 → Nat :=
  let c128_i32_119 : BitVec 32 := 128#32
  let v307 : BitVec 32 := Scalar.muli v306 c128_i32_119
  let c0_i32_122 : BitVec 32 := 0#32
  ![v307.toNat, 0]

def k0_off218 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_120 : BitVec 32 := 1#32
  let v308 : BitVec 32 := Scalar.andi arg25 c1_i32_120
  let c128_i32_123 : BitVec 32 := 128#32
  let c0_i32_124 : BitVec 32 := 0#32
  ![v308.toNat, 128, 0]

def k0_chk117 (v306 : BitVec 32) : Prop :=
  (∀ a, (k0_off217 v306) a + S128x1536.size a ≤ S40960x1536.size a) ∧
  (∀ (hinb : ∀ a, (k0_off217 v306) a + S128x1536.size a ≤ S40960x1536.size a), (Rect.unit (s := S40960x1536) (k0_off217 v306) S128x1536.size hinb).WholeWords (EltTy.packing .fp8e4m3))
theorem k0_off217_inb : ∀ (v306 : BitVec 32) (k0_hw117 : k0_chk117 v306), ∀ a, (k0_off217 v306) a + S128x1536.size a ≤ S40960x1536.size a := fun v306 k0_hw117 => k0_hw117.1
theorem k0_off217_wordsfp8e4m3 : ∀ (v306 : BitVec 32) (k0_hw117 : k0_chk117 v306), (Rect.unit (s := S40960x1536) (k0_off217 v306) S128x1536.size (k0_off217_inb v306 k0_hw117)).WholeWords (EltTy.packing .fp8e4m3) := fun v306 k0_hw117 => k0_hw117.2 (k0_off217_inb v306 k0_hw117)

def k0_off219 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let v315 : Index := Scalar.indexCast arg25
  ![v315.toNat]
def k0_off220 (v316 : BitVec 32) : Fin 2 → Nat :=
  let c8_i32_125 : BitVec 32 := 8#32
  let v317 : BitVec 32 := Scalar.muli v316 c8_i32_125
  let c2_i32_126 : BitVec 32 := 2#32
  let v318 : BitVec 32 := Scalar.addi v317 c2_i32_126
  let c7_i32_127 : BitVec 32 := 7#32
  let v319 : BitVec 32 := Scalar.shrui v318 c7_i32_127
  let v321 : Index := Scalar.indexCast v319
  let c127_i32_128 : BitVec 32 := 127#32
  let v320 : BitVec 32 := Scalar.andi v318 c127_i32_128
  let v322 : Index := Scalar.indexCast v320
  ![v321.toNat, v322.toNat]

def k0_chk118 (v316 : BitVec 32) : Prop :=
  (∀ a, (k0_off220 v316) a + S1x1.size a ≤ S8x128.size a)
theorem k0_off220_inb : ∀ (v316 : BitVec 32) (k0_hw118 : k0_chk118 v316), ∀ a, (k0_off220 v316) a + S1x1.size a ≤ S8x128.size a := fun v316 k0_hw118 => k0_hw118

def k0_off221 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_131 : BitVec 32 := 1#32
  let v326 : BitVec 32 := Scalar.andi arg25 c1_i32_131
  ![v326.toNat]
def k0_off222 (v323 : BitVec 32) : Fin 2 → Nat :=
  let c128_i32_129 : BitVec 32 := 128#32
  let v324 : BitVec 32 := Scalar.muli v323 c128_i32_129
  let c0_i32_132 : BitVec 32 := 0#32
  ![v324.toNat, 0]

def k0_off223 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_130 : BitVec 32 := 1#32
  let v325 : BitVec 32 := Scalar.andi arg25 c1_i32_130
  let c256_i32_133 : BitVec 32 := 256#32
  let c0_i32_134 : BitVec 32 := 0#32
  ![v325.toNat, 256, 0]

def k0_chk119 (v323 : BitVec 32) : Prop :=
  (∀ a, (k0_off222 v323) a + S128x1536.size a ≤ S40960x1536.size a) ∧
  (∀ (hinb : ∀ a, (k0_off222 v323) a + S128x1536.size a ≤ S40960x1536.size a), (Rect.unit (s := S40960x1536) (k0_off222 v323) S128x1536.size hinb).WholeWords (EltTy.packing .fp8e4m3))
theorem k0_off222_inb : ∀ (v323 : BitVec 32) (k0_hw119 : k0_chk119 v323), ∀ a, (k0_off222 v323) a + S128x1536.size a ≤ S40960x1536.size a := fun v323 k0_hw119 => k0_hw119.1
theorem k0_off222_wordsfp8e4m3 : ∀ (v323 : BitVec 32) (k0_hw119 : k0_chk119 v323), (Rect.unit (s := S40960x1536) (k0_off222 v323) S128x1536.size (k0_off222_inb v323 k0_hw119)).WholeWords (EltTy.packing .fp8e4m3) := fun v323 k0_hw119 => k0_hw119.2 (k0_off222_inb v323 k0_hw119)

def k0_off224 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let v332 : Index := Scalar.indexCast arg25
  ![v332.toNat]
def k0_off225 (v333 : BitVec 32) : Fin 2 → Nat :=
  let c8_i32_135 : BitVec 32 := 8#32
  let v334 : BitVec 32 := Scalar.muli v333 c8_i32_135
  let c3_i32_136 : BitVec 32 := 3#32
  let v335 : BitVec 32 := Scalar.addi v334 c3_i32_136
  let c7_i32_137 : BitVec 32 := 7#32
  let v336 : BitVec 32 := Scalar.shrui v335 c7_i32_137
  let v338 : Index := Scalar.indexCast v336
  let c127_i32_138 : BitVec 32 := 127#32
  let v337 : BitVec 32 := Scalar.andi v335 c127_i32_138
  let v339 : Index := Scalar.indexCast v337
  ![v338.toNat, v339.toNat]

def k0_chk120 (v333 : BitVec 32) : Prop :=
  (∀ a, (k0_off225 v333) a + S1x1.size a ≤ S8x128.size a)
theorem k0_off225_inb : ∀ (v333 : BitVec 32) (k0_hw120 : k0_chk120 v333), ∀ a, (k0_off225 v333) a + S1x1.size a ≤ S8x128.size a := fun v333 k0_hw120 => k0_hw120

def k0_off226 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_141 : BitVec 32 := 1#32
  let v343 : BitVec 32 := Scalar.andi arg25 c1_i32_141
  ![v343.toNat]
def k0_off227 (v340 : BitVec 32) : Fin 2 → Nat :=
  let c128_i32_139 : BitVec 32 := 128#32
  let v341 : BitVec 32 := Scalar.muli v340 c128_i32_139
  let c0_i32_142 : BitVec 32 := 0#32
  ![v341.toNat, 0]

def k0_off228 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_140 : BitVec 32 := 1#32
  let v342 : BitVec 32 := Scalar.andi arg25 c1_i32_140
  let c384_i32 : BitVec 32 := 384#32
  let c0_i32_143 : BitVec 32 := 0#32
  ![v342.toNat, 384, 0]

def k0_chk121 (v340 : BitVec 32) : Prop :=
  (∀ a, (k0_off227 v340) a + S128x1536.size a ≤ S40960x1536.size a) ∧
  (∀ (hinb : ∀ a, (k0_off227 v340) a + S128x1536.size a ≤ S40960x1536.size a), (Rect.unit (s := S40960x1536) (k0_off227 v340) S128x1536.size hinb).WholeWords (EltTy.packing .fp8e4m3))
theorem k0_off227_inb : ∀ (v340 : BitVec 32) (k0_hw121 : k0_chk121 v340), ∀ a, (k0_off227 v340) a + S128x1536.size a ≤ S40960x1536.size a := fun v340 k0_hw121 => k0_hw121.1
theorem k0_off227_wordsfp8e4m3 : ∀ (v340 : BitVec 32) (k0_hw121 : k0_chk121 v340), (Rect.unit (s := S40960x1536) (k0_off227 v340) S128x1536.size (k0_off227_inb v340 k0_hw121)).WholeWords (EltTy.packing .fp8e4m3) := fun v340 k0_hw121 => k0_hw121.2 (k0_off227_inb v340 k0_hw121)

def k0_off229 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let v349 : Index := Scalar.indexCast arg25
  ![v349.toNat]
def k0_off230 (v350 : BitVec 32) : Fin 2 → Nat :=
  let c8_i32_144 : BitVec 32 := 8#32
  let v351 : BitVec 32 := Scalar.muli v350 c8_i32_144
  let c4_i32_145 : BitVec 32 := 4#32
  let v352 : BitVec 32 := Scalar.addi v351 c4_i32_145
  let c7_i32_146 : BitVec 32 := 7#32
  let v353 : BitVec 32 := Scalar.shrui v352 c7_i32_146
  let v355 : Index := Scalar.indexCast v353
  let c127_i32_147 : BitVec 32 := 127#32
  let v354 : BitVec 32 := Scalar.andi v352 c127_i32_147
  let v356 : Index := Scalar.indexCast v354
  ![v355.toNat, v356.toNat]

def k0_chk122 (v350 : BitVec 32) : Prop :=
  (∀ a, (k0_off230 v350) a + S1x1.size a ≤ S8x128.size a)
theorem k0_off230_inb : ∀ (v350 : BitVec 32) (k0_hw122 : k0_chk122 v350), ∀ a, (k0_off230 v350) a + S1x1.size a ≤ S8x128.size a := fun v350 k0_hw122 => k0_hw122

def k0_off231 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_150 : BitVec 32 := 1#32
  let v360 : BitVec 32 := Scalar.andi arg25 c1_i32_150
  ![v360.toNat]
def k0_off232 (v357 : BitVec 32) : Fin 2 → Nat :=
  let c128_i32_148 : BitVec 32 := 128#32
  let v358 : BitVec 32 := Scalar.muli v357 c128_i32_148
  let c0_i32_151 : BitVec 32 := 0#32
  ![v358.toNat, 0]

def k0_off233 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_149 : BitVec 32 := 1#32
  let v359 : BitVec 32 := Scalar.andi arg25 c1_i32_149
  let c512_i32 : BitVec 32 := 512#32
  let c0_i32_152 : BitVec 32 := 0#32
  ![v359.toNat, 512, 0]

def k0_chk123 (v357 : BitVec 32) : Prop :=
  (∀ a, (k0_off232 v357) a + S128x1536.size a ≤ S40960x1536.size a) ∧
  (∀ (hinb : ∀ a, (k0_off232 v357) a + S128x1536.size a ≤ S40960x1536.size a), (Rect.unit (s := S40960x1536) (k0_off232 v357) S128x1536.size hinb).WholeWords (EltTy.packing .fp8e4m3))
theorem k0_off232_inb : ∀ (v357 : BitVec 32) (k0_hw123 : k0_chk123 v357), ∀ a, (k0_off232 v357) a + S128x1536.size a ≤ S40960x1536.size a := fun v357 k0_hw123 => k0_hw123.1
theorem k0_off232_wordsfp8e4m3 : ∀ (v357 : BitVec 32) (k0_hw123 : k0_chk123 v357), (Rect.unit (s := S40960x1536) (k0_off232 v357) S128x1536.size (k0_off232_inb v357 k0_hw123)).WholeWords (EltTy.packing .fp8e4m3) := fun v357 k0_hw123 => k0_hw123.2 (k0_off232_inb v357 k0_hw123)

def k0_off234 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let v366 : Index := Scalar.indexCast arg25
  ![v366.toNat]
def k0_off235 (v367 : BitVec 32) : Fin 2 → Nat :=
  let c8_i32_153 : BitVec 32 := 8#32
  let v368 : BitVec 32 := Scalar.muli v367 c8_i32_153
  let c5_i32_154 : BitVec 32 := 5#32
  let v369 : BitVec 32 := Scalar.addi v368 c5_i32_154
  let c7_i32_155 : BitVec 32 := 7#32
  let v370 : BitVec 32 := Scalar.shrui v369 c7_i32_155
  let v372 : Index := Scalar.indexCast v370
  let c127_i32_156 : BitVec 32 := 127#32
  let v371 : BitVec 32 := Scalar.andi v369 c127_i32_156
  let v373 : Index := Scalar.indexCast v371
  ![v372.toNat, v373.toNat]

def k0_chk124 (v367 : BitVec 32) : Prop :=
  (∀ a, (k0_off235 v367) a + S1x1.size a ≤ S8x128.size a)
theorem k0_off235_inb : ∀ (v367 : BitVec 32) (k0_hw124 : k0_chk124 v367), ∀ a, (k0_off235 v367) a + S1x1.size a ≤ S8x128.size a := fun v367 k0_hw124 => k0_hw124

def k0_off236 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_159 : BitVec 32 := 1#32
  let v377 : BitVec 32 := Scalar.andi arg25 c1_i32_159
  ![v377.toNat]
def k0_off237 (v374 : BitVec 32) : Fin 2 → Nat :=
  let c128_i32_157 : BitVec 32 := 128#32
  let v375 : BitVec 32 := Scalar.muli v374 c128_i32_157
  let c0_i32_160 : BitVec 32 := 0#32
  ![v375.toNat, 0]

def k0_off238 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_158 : BitVec 32 := 1#32
  let v376 : BitVec 32 := Scalar.andi arg25 c1_i32_158
  let c640_i32 : BitVec 32 := 640#32
  let c0_i32_161 : BitVec 32 := 0#32
  ![v376.toNat, 640, 0]

def k0_chk125 (v374 : BitVec 32) : Prop :=
  (∀ a, (k0_off237 v374) a + S128x1536.size a ≤ S40960x1536.size a) ∧
  (∀ (hinb : ∀ a, (k0_off237 v374) a + S128x1536.size a ≤ S40960x1536.size a), (Rect.unit (s := S40960x1536) (k0_off237 v374) S128x1536.size hinb).WholeWords (EltTy.packing .fp8e4m3))
theorem k0_off237_inb : ∀ (v374 : BitVec 32) (k0_hw125 : k0_chk125 v374), ∀ a, (k0_off237 v374) a + S128x1536.size a ≤ S40960x1536.size a := fun v374 k0_hw125 => k0_hw125.1
theorem k0_off237_wordsfp8e4m3 : ∀ (v374 : BitVec 32) (k0_hw125 : k0_chk125 v374), (Rect.unit (s := S40960x1536) (k0_off237 v374) S128x1536.size (k0_off237_inb v374 k0_hw125)).WholeWords (EltTy.packing .fp8e4m3) := fun v374 k0_hw125 => k0_hw125.2 (k0_off237_inb v374 k0_hw125)

def k0_off239 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let v383 : Index := Scalar.indexCast arg25
  ![v383.toNat]
def k0_off240 (v384 : BitVec 32) : Fin 2 → Nat :=
  let c8_i32_162 : BitVec 32 := 8#32
  let v385 : BitVec 32 := Scalar.muli v384 c8_i32_162
  let c6_i32_163 : BitVec 32 := 6#32
  let v386 : BitVec 32 := Scalar.addi v385 c6_i32_163
  let c7_i32_164 : BitVec 32 := 7#32
  let v387 : BitVec 32 := Scalar.shrui v386 c7_i32_164
  let v389 : Index := Scalar.indexCast v387
  let c127_i32_165 : BitVec 32 := 127#32
  let v388 : BitVec 32 := Scalar.andi v386 c127_i32_165
  let v390 : Index := Scalar.indexCast v388
  ![v389.toNat, v390.toNat]

def k0_chk126 (v384 : BitVec 32) : Prop :=
  (∀ a, (k0_off240 v384) a + S1x1.size a ≤ S8x128.size a)
theorem k0_off240_inb : ∀ (v384 : BitVec 32) (k0_hw126 : k0_chk126 v384), ∀ a, (k0_off240 v384) a + S1x1.size a ≤ S8x128.size a := fun v384 k0_hw126 => k0_hw126

def k0_off241 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_168 : BitVec 32 := 1#32
  let v394 : BitVec 32 := Scalar.andi arg25 c1_i32_168
  ![v394.toNat]
def k0_off242 (v391 : BitVec 32) : Fin 2 → Nat :=
  let c128_i32_166 : BitVec 32 := 128#32
  let v392 : BitVec 32 := Scalar.muli v391 c128_i32_166
  let c0_i32_169 : BitVec 32 := 0#32
  ![v392.toNat, 0]

def k0_off243 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_167 : BitVec 32 := 1#32
  let v393 : BitVec 32 := Scalar.andi arg25 c1_i32_167
  let c768_i32 : BitVec 32 := 768#32
  let c0_i32_170 : BitVec 32 := 0#32
  ![v393.toNat, 768, 0]

def k0_chk127 (v391 : BitVec 32) : Prop :=
  (∀ a, (k0_off242 v391) a + S128x1536.size a ≤ S40960x1536.size a) ∧
  (∀ (hinb : ∀ a, (k0_off242 v391) a + S128x1536.size a ≤ S40960x1536.size a), (Rect.unit (s := S40960x1536) (k0_off242 v391) S128x1536.size hinb).WholeWords (EltTy.packing .fp8e4m3))
theorem k0_off242_inb : ∀ (v391 : BitVec 32) (k0_hw127 : k0_chk127 v391), ∀ a, (k0_off242 v391) a + S128x1536.size a ≤ S40960x1536.size a := fun v391 k0_hw127 => k0_hw127.1
theorem k0_off242_wordsfp8e4m3 : ∀ (v391 : BitVec 32) (k0_hw127 : k0_chk127 v391), (Rect.unit (s := S40960x1536) (k0_off242 v391) S128x1536.size (k0_off242_inb v391 k0_hw127)).WholeWords (EltTy.packing .fp8e4m3) := fun v391 k0_hw127 => k0_hw127.2 (k0_off242_inb v391 k0_hw127)

def k0_off244 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let v400 : Index := Scalar.indexCast arg25
  ![v400.toNat]
def k0_off245 (v401 : BitVec 32) : Fin 2 → Nat :=
  let c8_i32_171 : BitVec 32 := 8#32
  let v402 : BitVec 32 := Scalar.muli v401 c8_i32_171
  let c7_i32_172 : BitVec 32 := 7#32
  let v403 : BitVec 32 := Scalar.addi v402 c7_i32_172
  let c7_i32_173 : BitVec 32 := 7#32
  let v404 : BitVec 32 := Scalar.shrui v403 c7_i32_173
  let v406 : Index := Scalar.indexCast v404
  let c127_i32_174 : BitVec 32 := 127#32
  let v405 : BitVec 32 := Scalar.andi v403 c127_i32_174
  let v407 : Index := Scalar.indexCast v405
  ![v406.toNat, v407.toNat]

def k0_chk128 (v401 : BitVec 32) : Prop :=
  (∀ a, (k0_off245 v401) a + S1x1.size a ≤ S8x128.size a)
theorem k0_off245_inb : ∀ (v401 : BitVec 32) (k0_hw128 : k0_chk128 v401), ∀ a, (k0_off245 v401) a + S1x1.size a ≤ S8x128.size a := fun v401 k0_hw128 => k0_hw128

def k0_off246 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c1_i32_177 : BitVec 32 := 1#32
  let v411 : BitVec 32 := Scalar.andi arg25 c1_i32_177
  ![v411.toNat]
def k0_off247 (v408 : BitVec 32) : Fin 2 → Nat :=
  let c128_i32_175 : BitVec 32 := 128#32
  let v409 : BitVec 32 := Scalar.muli v408 c128_i32_175
  let c0_i32_178 : BitVec 32 := 0#32
  ![v409.toNat, 0]

def k0_off248 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_176 : BitVec 32 := 1#32
  let v410 : BitVec 32 := Scalar.andi arg25 c1_i32_176
  let c896_i32 : BitVec 32 := 896#32
  let c0_i32_179 : BitVec 32 := 0#32
  ![v410.toNat, 896, 0]

def k0_chk129 (v408 : BitVec 32) : Prop :=
  (∀ a, (k0_off247 v408) a + S128x1536.size a ≤ S40960x1536.size a) ∧
  (∀ (hinb : ∀ a, (k0_off247 v408) a + S128x1536.size a ≤ S40960x1536.size a), (Rect.unit (s := S40960x1536) (k0_off247 v408) S128x1536.size hinb).WholeWords (EltTy.packing .fp8e4m3))
theorem k0_off247_inb : ∀ (v408 : BitVec 32) (k0_hw129 : k0_chk129 v408), ∀ a, (k0_off247 v408) a + S128x1536.size a ≤ S40960x1536.size a := fun v408 k0_hw129 => k0_hw129.1
theorem k0_off247_wordsfp8e4m3 : ∀ (v408 : BitVec 32) (k0_hw129 : k0_chk129 v408), (Rect.unit (s := S40960x1536) (k0_off247 v408) S128x1536.size (k0_off247_inb v408 k0_hw129)).WholeWords (EltTy.packing .fp8e4m3) := fun v408 k0_hw129 => k0_hw129.2 (k0_off247_inb v408 k0_hw129)

def k0_cond6 (arg24 : BitVec 32) (k0_t2 : Fin (k0_t2_loop arg24).trips) : BitVec 1 :=
  let c0_i32_63 : BitVec 32 := 0#32
  let c1_i32_65 : BitVec 32 := 1#32
  let arg25 : BitVec 32 := Scf.iv c0_i32_63 c1_i32_65 k0_t2
  let c1_i32_180 : BitVec 32 := 1#32
  let v417 : BitVec 1 := Scalar.cmpi .sgt arg25 c1_i32_180
  let v418 : BitVec 32 := Scalar.extui v417
  let c0_i32_181 : BitVec 32 := 0#32
  let v419 : BitVec 1 := Scalar.cmpi .ne v418 c0_i32_181
  v419

def k0_off249 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let v2032 : Index := Scalar.indexCast v2031
  ![v2032.toNat]
def k0_off250 (v2033 : BitVec 32) : Fin 2 → Nat :=
  let c8_i32_855 : BitVec 32 := 8#32
  let v2034 : BitVec 32 := Scalar.muli v2033 c8_i32_855
  let c0_i32_856 : BitVec 32 := 0#32
  let v2035 : BitVec 32 := Scalar.addi v2034 c0_i32_856
  let c7_i32_857 : BitVec 32 := 7#32
  let v2036 : BitVec 32 := Scalar.shrui v2035 c7_i32_857
  let v2038 : Index := Scalar.indexCast v2036
  let c127_i32_858 : BitVec 32 := 127#32
  let v2037 : BitVec 32 := Scalar.andi v2035 c127_i32_858
  let v2039 : Index := Scalar.indexCast v2037
  ![v2038.toNat, v2039.toNat]

def k0_chk130 (arg24 : BitVec 32) (k0_t2 : Fin (k0_t2_loop arg24).trips) (v2033 : BitVec 32) : Prop :=
  (∀ (k0_h6 : k0_cond6 arg24 k0_t2 = 1#1), ∀ a, (k0_off250 v2033) a + S1x1.size a ≤ S8x128.size a)
theorem k0_off250_inb : ∀ (arg24 : BitVec 32) (k0_t2 : Fin (k0_t2_loop arg24).trips) (v2033 : BitVec 32) (k0_hw130 : k0_chk130 arg24 k0_t2 v2033), ∀ (k0_h6 : k0_cond6 arg24 k0_t2 = 1#1), ∀ a, (k0_off250 v2033) a + S1x1.size a ≤ S8x128.size a := fun arg24 k0_t2 v2033 k0_hw130 k0_h6 => k0_hw130 k0_h6

def k0_off251 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_861 : BitVec 32 := 1#32
  let v2043 : BitVec 32 := Scalar.andi v2031 c1_i32_861
  ![v2043.toNat]
def k0_off252 (v2040 : BitVec 32) : Fin 2 → Nat :=
  let c128_i32_859 : BitVec 32 := 128#32
  let v2041 : BitVec 32 := Scalar.muli v2040 c128_i32_859
  let c0_i32_862 : BitVec 32 := 0#32
  ![v2041.toNat, 0]

def k0_off253 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_860 : BitVec 32 := 1#32
  let v2042 : BitVec 32 := Scalar.andi v2031 c1_i32_860
  let c0_i32_863 : BitVec 32 := 0#32
  let c0_i32_864 : BitVec 32 := 0#32
  ![v2042.toNat, 0, 0]

def k0_chk131 (arg24 : BitVec 32) (k0_t2 : Fin (k0_t2_loop arg24).trips) (v2040 : BitVec 32) : Prop :=
  (∀ (k0_h6 : k0_cond6 arg24 k0_t2 = 1#1), ∀ a, (k0_off252 v2040) a + S128x8960.size a ≤ S40960x8960.size a) ∧
  (∀ (k0_h6 : k0_cond6 arg24 k0_t2 = 1#1), ∀ (hinb : ∀ a, (k0_off252 v2040) a + S128x8960.size a ≤ S40960x8960.size a), (Rect.unit (s := S40960x8960) (k0_off252 v2040) S128x8960.size hinb).WholeWords (EltTy.packing .fp8e4m3))
theorem k0_off252_inb : ∀ (arg24 : BitVec 32) (k0_t2 : Fin (k0_t2_loop arg24).trips) (v2040 : BitVec 32) (k0_hw131 : k0_chk131 arg24 k0_t2 v2040), ∀ (k0_h6 : k0_cond6 arg24 k0_t2 = 1#1), ∀ a, (k0_off252 v2040) a + S128x8960.size a ≤ S40960x8960.size a := fun arg24 k0_t2 v2040 k0_hw131 k0_h6 => k0_hw131.1 k0_h6
theorem k0_off252_wordsfp8e4m3 : ∀ (arg24 : BitVec 32) (k0_t2 : Fin (k0_t2_loop arg24).trips) (v2040 : BitVec 32) (k0_hw131 : k0_chk131 arg24 k0_t2 v2040), ∀ (k0_h6 : k0_cond6 arg24 k0_t2 = 1#1), (Rect.unit (s := S40960x8960) (k0_off252 v2040) S128x8960.size (k0_off252_inb arg24 k0_t2 v2040 k0_hw131 k0_h6)).WholeWords (EltTy.packing .fp8e4m3) := fun arg24 k0_t2 v2040 k0_hw131 k0_h6 => k0_hw131.2 k0_h6 (k0_off252_inb arg24 k0_t2 v2040 k0_hw131 k0_h6)

def k0_off254 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let v2049 : Index := Scalar.indexCast v2031
  ![v2049.toNat]
def k0_off255 (v2050 : BitVec 32) : Fin 2 → Nat :=
  let c8_i32_865 : BitVec 32 := 8#32
  let v2051 : BitVec 32 := Scalar.muli v2050 c8_i32_865
  let c1_i32_866 : BitVec 32 := 1#32
  let v2052 : BitVec 32 := Scalar.addi v2051 c1_i32_866
  let c7_i32_867 : BitVec 32 := 7#32
  let v2053 : BitVec 32 := Scalar.shrui v2052 c7_i32_867
  let v2055 : Index := Scalar.indexCast v2053
  let c127_i32_868 : BitVec 32 := 127#32
  let v2054 : BitVec 32 := Scalar.andi v2052 c127_i32_868
  let v2056 : Index := Scalar.indexCast v2054
  ![v2055.toNat, v2056.toNat]

def k0_chk132 (arg24 : BitVec 32) (k0_t2 : Fin (k0_t2_loop arg24).trips) (v2050 : BitVec 32) : Prop :=
  (∀ (k0_h6 : k0_cond6 arg24 k0_t2 = 1#1), ∀ a, (k0_off255 v2050) a + S1x1.size a ≤ S8x128.size a)
theorem k0_off255_inb : ∀ (arg24 : BitVec 32) (k0_t2 : Fin (k0_t2_loop arg24).trips) (v2050 : BitVec 32) (k0_hw132 : k0_chk132 arg24 k0_t2 v2050), ∀ (k0_h6 : k0_cond6 arg24 k0_t2 = 1#1), ∀ a, (k0_off255 v2050) a + S1x1.size a ≤ S8x128.size a := fun arg24 k0_t2 v2050 k0_hw132 k0_h6 => k0_hw132 k0_h6

def k0_off256 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_871 : BitVec 32 := 1#32
  let v2060 : BitVec 32 := Scalar.andi v2031 c1_i32_871
  ![v2060.toNat]
def k0_off257 (v2057 : BitVec 32) : Fin 2 → Nat :=
  let c128_i32_869 : BitVec 32 := 128#32
  let v2058 : BitVec 32 := Scalar.muli v2057 c128_i32_869
  let c0_i32_872 : BitVec 32 := 0#32
  ![v2058.toNat, 0]

def k0_off258 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_870 : BitVec 32 := 1#32
  let v2059 : BitVec 32 := Scalar.andi v2031 c1_i32_870
  let c128_i32_873 : BitVec 32 := 128#32
  let c0_i32_874 : BitVec 32 := 0#32
  ![v2059.toNat, 128, 0]

def k0_chk133 (arg24 : BitVec 32) (k0_t2 : Fin (k0_t2_loop arg24).trips) (v2057 : BitVec 32) : Prop :=
  (∀ (k0_h6 : k0_cond6 arg24 k0_t2 = 1#1), ∀ a, (k0_off257 v2057) a + S128x8960.size a ≤ S40960x8960.size a) ∧
  (∀ (k0_h6 : k0_cond6 arg24 k0_t2 = 1#1), ∀ (hinb : ∀ a, (k0_off257 v2057) a + S128x8960.size a ≤ S40960x8960.size a), (Rect.unit (s := S40960x8960) (k0_off257 v2057) S128x8960.size hinb).WholeWords (EltTy.packing .fp8e4m3))
theorem k0_off257_inb : ∀ (arg24 : BitVec 32) (k0_t2 : Fin (k0_t2_loop arg24).trips) (v2057 : BitVec 32) (k0_hw133 : k0_chk133 arg24 k0_t2 v2057), ∀ (k0_h6 : k0_cond6 arg24 k0_t2 = 1#1), ∀ a, (k0_off257 v2057) a + S128x8960.size a ≤ S40960x8960.size a := fun arg24 k0_t2 v2057 k0_hw133 k0_h6 => k0_hw133.1 k0_h6
theorem k0_off257_wordsfp8e4m3 : ∀ (arg24 : BitVec 32) (k0_t2 : Fin (k0_t2_loop arg24).trips) (v2057 : BitVec 32) (k0_hw133 : k0_chk133 arg24 k0_t2 v2057), ∀ (k0_h6 : k0_cond6 arg24 k0_t2 = 1#1), (Rect.unit (s := S40960x8960) (k0_off257 v2057) S128x8960.size (k0_off257_inb arg24 k0_t2 v2057 k0_hw133 k0_h6)).WholeWords (EltTy.packing .fp8e4m3) := fun arg24 k0_t2 v2057 k0_hw133 k0_h6 => k0_hw133.2 k0_h6 (k0_off257_inb arg24 k0_t2 v2057 k0_hw133 k0_h6)

def k0_off259 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let v2066 : Index := Scalar.indexCast v2031
  ![v2066.toNat]
def k0_off260 (v2067 : BitVec 32) : Fin 2 → Nat :=
  let c8_i32_875 : BitVec 32 := 8#32
  let v2068 : BitVec 32 := Scalar.muli v2067 c8_i32_875
  let c2_i32_876 : BitVec 32 := 2#32
  let v2069 : BitVec 32 := Scalar.addi v2068 c2_i32_876
  let c7_i32_877 : BitVec 32 := 7#32
  let v2070 : BitVec 32 := Scalar.shrui v2069 c7_i32_877
  let v2072 : Index := Scalar.indexCast v2070
  let c127_i32_878 : BitVec 32 := 127#32
  let v2071 : BitVec 32 := Scalar.andi v2069 c127_i32_878
  let v2073 : Index := Scalar.indexCast v2071
  ![v2072.toNat, v2073.toNat]

def k0_chk134 (arg24 : BitVec 32) (k0_t2 : Fin (k0_t2_loop arg24).trips) (v2067 : BitVec 32) : Prop :=
  (∀ (k0_h6 : k0_cond6 arg24 k0_t2 = 1#1), ∀ a, (k0_off260 v2067) a + S1x1.size a ≤ S8x128.size a)
theorem k0_off260_inb : ∀ (arg24 : BitVec 32) (k0_t2 : Fin (k0_t2_loop arg24).trips) (v2067 : BitVec 32) (k0_hw134 : k0_chk134 arg24 k0_t2 v2067), ∀ (k0_h6 : k0_cond6 arg24 k0_t2 = 1#1), ∀ a, (k0_off260 v2067) a + S1x1.size a ≤ S8x128.size a := fun arg24 k0_t2 v2067 k0_hw134 k0_h6 => k0_hw134 k0_h6

def k0_off261 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_881 : BitVec 32 := 1#32
  let v2077 : BitVec 32 := Scalar.andi v2031 c1_i32_881
  ![v2077.toNat]
def k0_off262 (v2074 : BitVec 32) : Fin 2 → Nat :=
  let c128_i32_879 : BitVec 32 := 128#32
  let v2075 : BitVec 32 := Scalar.muli v2074 c128_i32_879
  let c0_i32_882 : BitVec 32 := 0#32
  ![v2075.toNat, 0]

def k0_off263 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_880 : BitVec 32 := 1#32
  let v2076 : BitVec 32 := Scalar.andi v2031 c1_i32_880
  let c256_i32_883 : BitVec 32 := 256#32
  let c0_i32_884 : BitVec 32 := 0#32
  ![v2076.toNat, 256, 0]

def k0_chk135 (arg24 : BitVec 32) (k0_t2 : Fin (k0_t2_loop arg24).trips) (v2074 : BitVec 32) : Prop :=
  (∀ (k0_h6 : k0_cond6 arg24 k0_t2 = 1#1), ∀ a, (k0_off262 v2074) a + S128x8960.size a ≤ S40960x8960.size a) ∧
  (∀ (k0_h6 : k0_cond6 arg24 k0_t2 = 1#1), ∀ (hinb : ∀ a, (k0_off262 v2074) a + S128x8960.size a ≤ S40960x8960.size a), (Rect.unit (s := S40960x8960) (k0_off262 v2074) S128x8960.size hinb).WholeWords (EltTy.packing .fp8e4m3))
theorem k0_off262_inb : ∀ (arg24 : BitVec 32) (k0_t2 : Fin (k0_t2_loop arg24).trips) (v2074 : BitVec 32) (k0_hw135 : k0_chk135 arg24 k0_t2 v2074), ∀ (k0_h6 : k0_cond6 arg24 k0_t2 = 1#1), ∀ a, (k0_off262 v2074) a + S128x8960.size a ≤ S40960x8960.size a := fun arg24 k0_t2 v2074 k0_hw135 k0_h6 => k0_hw135.1 k0_h6
theorem k0_off262_wordsfp8e4m3 : ∀ (arg24 : BitVec 32) (k0_t2 : Fin (k0_t2_loop arg24).trips) (v2074 : BitVec 32) (k0_hw135 : k0_chk135 arg24 k0_t2 v2074), ∀ (k0_h6 : k0_cond6 arg24 k0_t2 = 1#1), (Rect.unit (s := S40960x8960) (k0_off262 v2074) S128x8960.size (k0_off262_inb arg24 k0_t2 v2074 k0_hw135 k0_h6)).WholeWords (EltTy.packing .fp8e4m3) := fun arg24 k0_t2 v2074 k0_hw135 k0_h6 => k0_hw135.2 k0_h6 (k0_off262_inb arg24 k0_t2 v2074 k0_hw135 k0_h6)

def k0_off264 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let v2083 : Index := Scalar.indexCast v2031
  ![v2083.toNat]
def k0_off265 (v2084 : BitVec 32) : Fin 2 → Nat :=
  let c8_i32_885 : BitVec 32 := 8#32
  let v2085 : BitVec 32 := Scalar.muli v2084 c8_i32_885
  let c3_i32_886 : BitVec 32 := 3#32
  let v2086 : BitVec 32 := Scalar.addi v2085 c3_i32_886
  let c7_i32_887 : BitVec 32 := 7#32
  let v2087 : BitVec 32 := Scalar.shrui v2086 c7_i32_887
  let v2089 : Index := Scalar.indexCast v2087
  let c127_i32_888 : BitVec 32 := 127#32
  let v2088 : BitVec 32 := Scalar.andi v2086 c127_i32_888
  let v2090 : Index := Scalar.indexCast v2088
  ![v2089.toNat, v2090.toNat]

def k0_chk136 (arg24 : BitVec 32) (k0_t2 : Fin (k0_t2_loop arg24).trips) (v2084 : BitVec 32) : Prop :=
  (∀ (k0_h6 : k0_cond6 arg24 k0_t2 = 1#1), ∀ a, (k0_off265 v2084) a + S1x1.size a ≤ S8x128.size a)
theorem k0_off265_inb : ∀ (arg24 : BitVec 32) (k0_t2 : Fin (k0_t2_loop arg24).trips) (v2084 : BitVec 32) (k0_hw136 : k0_chk136 arg24 k0_t2 v2084), ∀ (k0_h6 : k0_cond6 arg24 k0_t2 = 1#1), ∀ a, (k0_off265 v2084) a + S1x1.size a ≤ S8x128.size a := fun arg24 k0_t2 v2084 k0_hw136 k0_h6 => k0_hw136 k0_h6

def k0_off266 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_891 : BitVec 32 := 1#32
  let v2094 : BitVec 32 := Scalar.andi v2031 c1_i32_891
  ![v2094.toNat]
def k0_off267 (v2091 : BitVec 32) : Fin 2 → Nat :=
  let c128_i32_889 : BitVec 32 := 128#32
  let v2092 : BitVec 32 := Scalar.muli v2091 c128_i32_889
  let c0_i32_892 : BitVec 32 := 0#32
  ![v2092.toNat, 0]

def k0_off268 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_890 : BitVec 32 := 1#32
  let v2093 : BitVec 32 := Scalar.andi v2031 c1_i32_890
  let c384_i32_893 : BitVec 32 := 384#32
  let c0_i32_894 : BitVec 32 := 0#32
  ![v2093.toNat, 384, 0]

def k0_chk137 (arg24 : BitVec 32) (k0_t2 : Fin (k0_t2_loop arg24).trips) (v2091 : BitVec 32) : Prop :=
  (∀ (k0_h6 : k0_cond6 arg24 k0_t2 = 1#1), ∀ a, (k0_off267 v2091) a + S128x8960.size a ≤ S40960x8960.size a) ∧
  (∀ (k0_h6 : k0_cond6 arg24 k0_t2 = 1#1), ∀ (hinb : ∀ a, (k0_off267 v2091) a + S128x8960.size a ≤ S40960x8960.size a), (Rect.unit (s := S40960x8960) (k0_off267 v2091) S128x8960.size hinb).WholeWords (EltTy.packing .fp8e4m3))
theorem k0_off267_inb : ∀ (arg24 : BitVec 32) (k0_t2 : Fin (k0_t2_loop arg24).trips) (v2091 : BitVec 32) (k0_hw137 : k0_chk137 arg24 k0_t2 v2091), ∀ (k0_h6 : k0_cond6 arg24 k0_t2 = 1#1), ∀ a, (k0_off267 v2091) a + S128x8960.size a ≤ S40960x8960.size a := fun arg24 k0_t2 v2091 k0_hw137 k0_h6 => k0_hw137.1 k0_h6
theorem k0_off267_wordsfp8e4m3 : ∀ (arg24 : BitVec 32) (k0_t2 : Fin (k0_t2_loop arg24).trips) (v2091 : BitVec 32) (k0_hw137 : k0_chk137 arg24 k0_t2 v2091), ∀ (k0_h6 : k0_cond6 arg24 k0_t2 = 1#1), (Rect.unit (s := S40960x8960) (k0_off267 v2091) S128x8960.size (k0_off267_inb arg24 k0_t2 v2091 k0_hw137 k0_h6)).WholeWords (EltTy.packing .fp8e4m3) := fun arg24 k0_t2 v2091 k0_hw137 k0_h6 => k0_hw137.2 k0_h6 (k0_off267_inb arg24 k0_t2 v2091 k0_hw137 k0_h6)

def k0_off269 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let v2100 : Index := Scalar.indexCast v2031
  ![v2100.toNat]
def k0_off270 (v2101 : BitVec 32) : Fin 2 → Nat :=
  let c8_i32_895 : BitVec 32 := 8#32
  let v2102 : BitVec 32 := Scalar.muli v2101 c8_i32_895
  let c4_i32_896 : BitVec 32 := 4#32
  let v2103 : BitVec 32 := Scalar.addi v2102 c4_i32_896
  let c7_i32_897 : BitVec 32 := 7#32
  let v2104 : BitVec 32 := Scalar.shrui v2103 c7_i32_897
  let v2106 : Index := Scalar.indexCast v2104
  let c127_i32_898 : BitVec 32 := 127#32
  let v2105 : BitVec 32 := Scalar.andi v2103 c127_i32_898
  let v2107 : Index := Scalar.indexCast v2105
  ![v2106.toNat, v2107.toNat]

def k0_chk138 (arg24 : BitVec 32) (k0_t2 : Fin (k0_t2_loop arg24).trips) (v2101 : BitVec 32) : Prop :=
  (∀ (k0_h6 : k0_cond6 arg24 k0_t2 = 1#1), ∀ a, (k0_off270 v2101) a + S1x1.size a ≤ S8x128.size a)
theorem k0_off270_inb : ∀ (arg24 : BitVec 32) (k0_t2 : Fin (k0_t2_loop arg24).trips) (v2101 : BitVec 32) (k0_hw138 : k0_chk138 arg24 k0_t2 v2101), ∀ (k0_h6 : k0_cond6 arg24 k0_t2 = 1#1), ∀ a, (k0_off270 v2101) a + S1x1.size a ≤ S8x128.size a := fun arg24 k0_t2 v2101 k0_hw138 k0_h6 => k0_hw138 k0_h6

def k0_off271 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_901 : BitVec 32 := 1#32
  let v2111 : BitVec 32 := Scalar.andi v2031 c1_i32_901
  ![v2111.toNat]
def k0_off272 (v2108 : BitVec 32) : Fin 2 → Nat :=
  let c128_i32_899 : BitVec 32 := 128#32
  let v2109 : BitVec 32 := Scalar.muli v2108 c128_i32_899
  let c0_i32_902 : BitVec 32 := 0#32
  ![v2109.toNat, 0]

def k0_off273 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_900 : BitVec 32 := 1#32
  let v2110 : BitVec 32 := Scalar.andi v2031 c1_i32_900
  let c512_i32_903 : BitVec 32 := 512#32
  let c0_i32_904 : BitVec 32 := 0#32
  ![v2110.toNat, 512, 0]

def k0_chk139 (arg24 : BitVec 32) (k0_t2 : Fin (k0_t2_loop arg24).trips) (v2108 : BitVec 32) : Prop :=
  (∀ (k0_h6 : k0_cond6 arg24 k0_t2 = 1#1), ∀ a, (k0_off272 v2108) a + S128x8960.size a ≤ S40960x8960.size a) ∧
  (∀ (k0_h6 : k0_cond6 arg24 k0_t2 = 1#1), ∀ (hinb : ∀ a, (k0_off272 v2108) a + S128x8960.size a ≤ S40960x8960.size a), (Rect.unit (s := S40960x8960) (k0_off272 v2108) S128x8960.size hinb).WholeWords (EltTy.packing .fp8e4m3))
theorem k0_off272_inb : ∀ (arg24 : BitVec 32) (k0_t2 : Fin (k0_t2_loop arg24).trips) (v2108 : BitVec 32) (k0_hw139 : k0_chk139 arg24 k0_t2 v2108), ∀ (k0_h6 : k0_cond6 arg24 k0_t2 = 1#1), ∀ a, (k0_off272 v2108) a + S128x8960.size a ≤ S40960x8960.size a := fun arg24 k0_t2 v2108 k0_hw139 k0_h6 => k0_hw139.1 k0_h6
theorem k0_off272_wordsfp8e4m3 : ∀ (arg24 : BitVec 32) (k0_t2 : Fin (k0_t2_loop arg24).trips) (v2108 : BitVec 32) (k0_hw139 : k0_chk139 arg24 k0_t2 v2108), ∀ (k0_h6 : k0_cond6 arg24 k0_t2 = 1#1), (Rect.unit (s := S40960x8960) (k0_off272 v2108) S128x8960.size (k0_off272_inb arg24 k0_t2 v2108 k0_hw139 k0_h6)).WholeWords (EltTy.packing .fp8e4m3) := fun arg24 k0_t2 v2108 k0_hw139 k0_h6 => k0_hw139.2 k0_h6 (k0_off272_inb arg24 k0_t2 v2108 k0_hw139 k0_h6)

def k0_off274 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let v2117 : Index := Scalar.indexCast v2031
  ![v2117.toNat]
def k0_off275 (v2118 : BitVec 32) : Fin 2 → Nat :=
  let c8_i32_905 : BitVec 32 := 8#32
  let v2119 : BitVec 32 := Scalar.muli v2118 c8_i32_905
  let c5_i32_906 : BitVec 32 := 5#32
  let v2120 : BitVec 32 := Scalar.addi v2119 c5_i32_906
  let c7_i32_907 : BitVec 32 := 7#32
  let v2121 : BitVec 32 := Scalar.shrui v2120 c7_i32_907
  let v2123 : Index := Scalar.indexCast v2121
  let c127_i32_908 : BitVec 32 := 127#32
  let v2122 : BitVec 32 := Scalar.andi v2120 c127_i32_908
  let v2124 : Index := Scalar.indexCast v2122
  ![v2123.toNat, v2124.toNat]

def k0_chk140 (arg24 : BitVec 32) (k0_t2 : Fin (k0_t2_loop arg24).trips) (v2118 : BitVec 32) : Prop :=
  (∀ (k0_h6 : k0_cond6 arg24 k0_t2 = 1#1), ∀ a, (k0_off275 v2118) a + S1x1.size a ≤ S8x128.size a)
theorem k0_off275_inb : ∀ (arg24 : BitVec 32) (k0_t2 : Fin (k0_t2_loop arg24).trips) (v2118 : BitVec 32) (k0_hw140 : k0_chk140 arg24 k0_t2 v2118), ∀ (k0_h6 : k0_cond6 arg24 k0_t2 = 1#1), ∀ a, (k0_off275 v2118) a + S1x1.size a ≤ S8x128.size a := fun arg24 k0_t2 v2118 k0_hw140 k0_h6 => k0_hw140 k0_h6

def k0_off276 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_911 : BitVec 32 := 1#32
  let v2128 : BitVec 32 := Scalar.andi v2031 c1_i32_911
  ![v2128.toNat]
def k0_off277 (v2125 : BitVec 32) : Fin 2 → Nat :=
  let c128_i32_909 : BitVec 32 := 128#32
  let v2126 : BitVec 32 := Scalar.muli v2125 c128_i32_909
  let c0_i32_912 : BitVec 32 := 0#32
  ![v2126.toNat, 0]

def k0_off278 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_910 : BitVec 32 := 1#32
  let v2127 : BitVec 32 := Scalar.andi v2031 c1_i32_910
  let c640_i32_913 : BitVec 32 := 640#32
  let c0_i32_914 : BitVec 32 := 0#32
  ![v2127.toNat, 640, 0]

def k0_chk141 (arg24 : BitVec 32) (k0_t2 : Fin (k0_t2_loop arg24).trips) (v2125 : BitVec 32) : Prop :=
  (∀ (k0_h6 : k0_cond6 arg24 k0_t2 = 1#1), ∀ a, (k0_off277 v2125) a + S128x8960.size a ≤ S40960x8960.size a) ∧
  (∀ (k0_h6 : k0_cond6 arg24 k0_t2 = 1#1), ∀ (hinb : ∀ a, (k0_off277 v2125) a + S128x8960.size a ≤ S40960x8960.size a), (Rect.unit (s := S40960x8960) (k0_off277 v2125) S128x8960.size hinb).WholeWords (EltTy.packing .fp8e4m3))
theorem k0_off277_inb : ∀ (arg24 : BitVec 32) (k0_t2 : Fin (k0_t2_loop arg24).trips) (v2125 : BitVec 32) (k0_hw141 : k0_chk141 arg24 k0_t2 v2125), ∀ (k0_h6 : k0_cond6 arg24 k0_t2 = 1#1), ∀ a, (k0_off277 v2125) a + S128x8960.size a ≤ S40960x8960.size a := fun arg24 k0_t2 v2125 k0_hw141 k0_h6 => k0_hw141.1 k0_h6
theorem k0_off277_wordsfp8e4m3 : ∀ (arg24 : BitVec 32) (k0_t2 : Fin (k0_t2_loop arg24).trips) (v2125 : BitVec 32) (k0_hw141 : k0_chk141 arg24 k0_t2 v2125), ∀ (k0_h6 : k0_cond6 arg24 k0_t2 = 1#1), (Rect.unit (s := S40960x8960) (k0_off277 v2125) S128x8960.size (k0_off277_inb arg24 k0_t2 v2125 k0_hw141 k0_h6)).WholeWords (EltTy.packing .fp8e4m3) := fun arg24 k0_t2 v2125 k0_hw141 k0_h6 => k0_hw141.2 k0_h6 (k0_off277_inb arg24 k0_t2 v2125 k0_hw141 k0_h6)

def k0_off279 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let v2134 : Index := Scalar.indexCast v2031
  ![v2134.toNat]
def k0_off280 (v2135 : BitVec 32) : Fin 2 → Nat :=
  let c8_i32_915 : BitVec 32 := 8#32
  let v2136 : BitVec 32 := Scalar.muli v2135 c8_i32_915
  let c6_i32_916 : BitVec 32 := 6#32
  let v2137 : BitVec 32 := Scalar.addi v2136 c6_i32_916
  let c7_i32_917 : BitVec 32 := 7#32
  let v2138 : BitVec 32 := Scalar.shrui v2137 c7_i32_917
  let v2140 : Index := Scalar.indexCast v2138
  let c127_i32_918 : BitVec 32 := 127#32
  let v2139 : BitVec 32 := Scalar.andi v2137 c127_i32_918
  let v2141 : Index := Scalar.indexCast v2139
  ![v2140.toNat, v2141.toNat]

def k0_chk142 (arg24 : BitVec 32) (k0_t2 : Fin (k0_t2_loop arg24).trips) (v2135 : BitVec 32) : Prop :=
  (∀ (k0_h6 : k0_cond6 arg24 k0_t2 = 1#1), ∀ a, (k0_off280 v2135) a + S1x1.size a ≤ S8x128.size a)
theorem k0_off280_inb : ∀ (arg24 : BitVec 32) (k0_t2 : Fin (k0_t2_loop arg24).trips) (v2135 : BitVec 32) (k0_hw142 : k0_chk142 arg24 k0_t2 v2135), ∀ (k0_h6 : k0_cond6 arg24 k0_t2 = 1#1), ∀ a, (k0_off280 v2135) a + S1x1.size a ≤ S8x128.size a := fun arg24 k0_t2 v2135 k0_hw142 k0_h6 => k0_hw142 k0_h6

def k0_off281 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_921 : BitVec 32 := 1#32
  let v2145 : BitVec 32 := Scalar.andi v2031 c1_i32_921
  ![v2145.toNat]
def k0_off282 (v2142 : BitVec 32) : Fin 2 → Nat :=
  let c128_i32_919 : BitVec 32 := 128#32
  let v2143 : BitVec 32 := Scalar.muli v2142 c128_i32_919
  let c0_i32_922 : BitVec 32 := 0#32
  ![v2143.toNat, 0]

def k0_off283 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_920 : BitVec 32 := 1#32
  let v2144 : BitVec 32 := Scalar.andi v2031 c1_i32_920
  let c768_i32_923 : BitVec 32 := 768#32
  let c0_i32_924 : BitVec 32 := 0#32
  ![v2144.toNat, 768, 0]

def k0_chk143 (arg24 : BitVec 32) (k0_t2 : Fin (k0_t2_loop arg24).trips) (v2142 : BitVec 32) : Prop :=
  (∀ (k0_h6 : k0_cond6 arg24 k0_t2 = 1#1), ∀ a, (k0_off282 v2142) a + S128x8960.size a ≤ S40960x8960.size a) ∧
  (∀ (k0_h6 : k0_cond6 arg24 k0_t2 = 1#1), ∀ (hinb : ∀ a, (k0_off282 v2142) a + S128x8960.size a ≤ S40960x8960.size a), (Rect.unit (s := S40960x8960) (k0_off282 v2142) S128x8960.size hinb).WholeWords (EltTy.packing .fp8e4m3))
theorem k0_off282_inb : ∀ (arg24 : BitVec 32) (k0_t2 : Fin (k0_t2_loop arg24).trips) (v2142 : BitVec 32) (k0_hw143 : k0_chk143 arg24 k0_t2 v2142), ∀ (k0_h6 : k0_cond6 arg24 k0_t2 = 1#1), ∀ a, (k0_off282 v2142) a + S128x8960.size a ≤ S40960x8960.size a := fun arg24 k0_t2 v2142 k0_hw143 k0_h6 => k0_hw143.1 k0_h6
theorem k0_off282_wordsfp8e4m3 : ∀ (arg24 : BitVec 32) (k0_t2 : Fin (k0_t2_loop arg24).trips) (v2142 : BitVec 32) (k0_hw143 : k0_chk143 arg24 k0_t2 v2142), ∀ (k0_h6 : k0_cond6 arg24 k0_t2 = 1#1), (Rect.unit (s := S40960x8960) (k0_off282 v2142) S128x8960.size (k0_off282_inb arg24 k0_t2 v2142 k0_hw143 k0_h6)).WholeWords (EltTy.packing .fp8e4m3) := fun arg24 k0_t2 v2142 k0_hw143 k0_h6 => k0_hw143.2 k0_h6 (k0_off282_inb arg24 k0_t2 v2142 k0_hw143 k0_h6)

def k0_off284 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let v2151 : Index := Scalar.indexCast v2031
  ![v2151.toNat]
def k0_off285 (v2152 : BitVec 32) : Fin 2 → Nat :=
  let c8_i32_925 : BitVec 32 := 8#32
  let v2153 : BitVec 32 := Scalar.muli v2152 c8_i32_925
  let c7_i32_926 : BitVec 32 := 7#32
  let v2154 : BitVec 32 := Scalar.addi v2153 c7_i32_926
  let c7_i32_927 : BitVec 32 := 7#32
  let v2155 : BitVec 32 := Scalar.shrui v2154 c7_i32_927
  let v2157 : Index := Scalar.indexCast v2155
  let c127_i32_928 : BitVec 32 := 127#32
  let v2156 : BitVec 32 := Scalar.andi v2154 c127_i32_928
  let v2158 : Index := Scalar.indexCast v2156
  ![v2157.toNat, v2158.toNat]

def k0_chk144 (arg24 : BitVec 32) (k0_t2 : Fin (k0_t2_loop arg24).trips) (v2152 : BitVec 32) : Prop :=
  (∀ (k0_h6 : k0_cond6 arg24 k0_t2 = 1#1), ∀ a, (k0_off285 v2152) a + S1x1.size a ≤ S8x128.size a)
theorem k0_off285_inb : ∀ (arg24 : BitVec 32) (k0_t2 : Fin (k0_t2_loop arg24).trips) (v2152 : BitVec 32) (k0_hw144 : k0_chk144 arg24 k0_t2 v2152), ∀ (k0_h6 : k0_cond6 arg24 k0_t2 = 1#1), ∀ a, (k0_off285 v2152) a + S1x1.size a ≤ S8x128.size a := fun arg24 k0_t2 v2152 k0_hw144 k0_h6 => k0_hw144 k0_h6

def k0_off286 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_931 : BitVec 32 := 1#32
  let v2162 : BitVec 32 := Scalar.andi v2031 c1_i32_931
  ![v2162.toNat]
def k0_off287 (v2159 : BitVec 32) : Fin 2 → Nat :=
  let c128_i32_929 : BitVec 32 := 128#32
  let v2160 : BitVec 32 := Scalar.muli v2159 c128_i32_929
  let c0_i32_932 : BitVec 32 := 0#32
  ![v2160.toNat, 0]

def k0_off288 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c2_i32_854 : BitVec 32 := 2#32
  let v2031 : BitVec 32 := Scalar.subi arg25 c2_i32_854
  let c1_i32_930 : BitVec 32 := 1#32
  let v2161 : BitVec 32 := Scalar.andi v2031 c1_i32_930
  let c896_i32_933 : BitVec 32 := 896#32
  let c0_i32_934 : BitVec 32 := 0#32
  ![v2161.toNat, 896, 0]

def k0_chk145 (arg24 : BitVec 32) (k0_t2 : Fin (k0_t2_loop arg24).trips) (v2159 : BitVec 32) : Prop :=
  (∀ (k0_h6 : k0_cond6 arg24 k0_t2 = 1#1), ∀ a, (k0_off287 v2159) a + S128x8960.size a ≤ S40960x8960.size a) ∧
  (∀ (k0_h6 : k0_cond6 arg24 k0_t2 = 1#1), ∀ (hinb : ∀ a, (k0_off287 v2159) a + S128x8960.size a ≤ S40960x8960.size a), (Rect.unit (s := S40960x8960) (k0_off287 v2159) S128x8960.size hinb).WholeWords (EltTy.packing .fp8e4m3))
theorem k0_off287_inb : ∀ (arg24 : BitVec 32) (k0_t2 : Fin (k0_t2_loop arg24).trips) (v2159 : BitVec 32) (k0_hw145 : k0_chk145 arg24 k0_t2 v2159), ∀ (k0_h6 : k0_cond6 arg24 k0_t2 = 1#1), ∀ a, (k0_off287 v2159) a + S128x8960.size a ≤ S40960x8960.size a := fun arg24 k0_t2 v2159 k0_hw145 k0_h6 => k0_hw145.1 k0_h6
theorem k0_off287_wordsfp8e4m3 : ∀ (arg24 : BitVec 32) (k0_t2 : Fin (k0_t2_loop arg24).trips) (v2159 : BitVec 32) (k0_hw145 : k0_chk145 arg24 k0_t2 v2159), ∀ (k0_h6 : k0_cond6 arg24 k0_t2 = 1#1), (Rect.unit (s := S40960x8960) (k0_off287 v2159) S128x8960.size (k0_off287_inb arg24 k0_t2 v2159 k0_hw145 k0_h6)).WholeWords (EltTy.packing .fp8e4m3) := fun arg24 k0_t2 v2159 k0_hw145 k0_h6 => k0_hw145.2 k0_h6 (k0_off287_inb arg24 k0_t2 v2159 k0_hw145 k0_h6)

def k0_off289 (arg24 : BitVec 32) (k0_t2 : Fin (k0_t2_loop arg24).trips) : Fin 1 → Nat :=
  let c0_i32_63 : BitVec 32 := 0#32
  let c1_i32_65 : BitVec 32 := 1#32
  let arg25 : BitVec 32 := Scf.iv c0_i32_63 c1_i32_65 k0_t2
  let v470 : Index := Scalar.indexCast arg25
  ![v470.toNat]
def k0_off290 (v471 : BitVec 32) : Fin 1 → Nat :=
  let v472 : Index := Scalar.indexCast v471
  ![v472.toNat]

def k0_chk146 (v471 : BitVec 32) : Prop :=
  (∀ a, (k0_off290 v471) a + S1.size a ≤ S40.size a)
theorem k0_off290_inb : ∀ (v471 : BitVec 32) (k0_hw146 : k0_chk146 v471), ∀ a, (k0_off290 v471) a + S1.size a ≤ S40.size a := fun v471 k0_hw146 => k0_hw146

def k0_off291 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_205 : BitVec 32 := 1#32
  let v475 : BitVec 32 := Scalar.andi arg25 c1_i32_205
  let v476 : Index := Scalar.indexCast v475
  let c0_206 : Index := 0#32
  let c0_207 : Index := 0#32
  ![v476.toNat, 0, 0]
def k0_off292 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_214 : BitVec 32 := 1#32
  let v497 : BitVec 32 := Scalar.andi arg25 c1_i32_214
  let v498 : Index := Scalar.indexCast v497
  let c0_215 : Index := 0#32
  let c0_216 : Index := 0#32
  ![v498.toNat, 0, 0]
def k0_off293 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_217 : BitVec 32 := 1#32
  let v502 : BitVec 32 := Scalar.addi arg25 c1_i32_217
  let c1_i32_218 : BitVec 32 := 1#32
  let v503 : BitVec 32 := Scalar.andi v502 c1_i32_218
  let v504 : Index := Scalar.indexCast v503
  let c0_219 : Index := 0#32
  let c0_220 : Index := 0#32
  ![v504.toNat, 0, 0]
def k0_off294 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_234 : BitVec 32 := 1#32
  let v543 : BitVec 32 := Scalar.andi arg25 c1_i32_234
  let v544 : Index := Scalar.indexCast v543
  let c0_235 : Index := 0#32
  let c256_236 : Index := 256#32
  ![v544.toNat, 0, 256]
def k0_off295 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_237 : BitVec 32 := 1#32
  let v548 : BitVec 32 := Scalar.addi arg25 c1_i32_237
  let c1_i32_238 : BitVec 32 := 1#32
  let v549 : BitVec 32 := Scalar.andi v548 c1_i32_238
  let v550 : Index := Scalar.indexCast v549
  let c32_239 : Index := 32#32
  let c0_240 : Index := 0#32
  ![v550.toNat, 32, 0]
def k0_off296 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_254 : BitVec 32 := 1#32
  let v589 : BitVec 32 := Scalar.andi arg25 c1_i32_254
  let v590 : Index := Scalar.indexCast v589
  let c0_255 : Index := 0#32
  let c512_256 : Index := 512#32
  ![v590.toNat, 0, 512]
def k0_off297 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_257 : BitVec 32 := 1#32
  let v594 : BitVec 32 := Scalar.addi arg25 c1_i32_257
  let c1_i32_258 : BitVec 32 := 1#32
  let v595 : BitVec 32 := Scalar.andi v594 c1_i32_258
  let v596 : Index := Scalar.indexCast v595
  let c64 : Index := 64#32
  let c0_259 : Index := 0#32
  ![v596.toNat, 64, 0]
def k0_off298 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_273 : BitVec 32 := 1#32
  let v635 : BitVec 32 := Scalar.andi arg25 c1_i32_273
  let v636 : Index := Scalar.indexCast v635
  let c0_274 : Index := 0#32
  let c768_275 : Index := 768#32
  ![v636.toNat, 0, 768]
def k0_off299 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_276 : BitVec 32 := 1#32
  let v640 : BitVec 32 := Scalar.addi arg25 c1_i32_276
  let c1_i32_277 : BitVec 32 := 1#32
  let v641 : BitVec 32 := Scalar.andi v640 c1_i32_277
  let v642 : Index := Scalar.indexCast v641
  let c96 : Index := 96#32
  let c0_278 : Index := 0#32
  ![v642.toNat, 96, 0]
def k0_off300 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_292 : BitVec 32 := 1#32
  let v681 : BitVec 32 := Scalar.andi arg25 c1_i32_292
  let v682 : Index := Scalar.indexCast v681
  let c0_293 : Index := 0#32
  let c1024_294 : Index := 1024#32
  ![v682.toNat, 0, 1024]
def k0_off301 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_295 : BitVec 32 := 1#32
  let v686 : BitVec 32 := Scalar.addi arg25 c1_i32_295
  let c1_i32_296 : BitVec 32 := 1#32
  let v687 : BitVec 32 := Scalar.andi v686 c1_i32_296
  let v688 : Index := Scalar.indexCast v687
  let c128 : Index := 128#32
  let c0_297 : Index := 0#32
  ![v688.toNat, 128, 0]
def k0_off302 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_311 : BitVec 32 := 1#32
  let v727 : BitVec 32 := Scalar.andi arg25 c1_i32_311
  let v728 : Index := Scalar.indexCast v727
  let c0_312 : Index := 0#32
  let c1280_313 : Index := 1280#32
  ![v728.toNat, 0, 1280]
def k0_off303 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_314 : BitVec 32 := 1#32
  let v732 : BitVec 32 := Scalar.addi arg25 c1_i32_314
  let c1_i32_315 : BitVec 32 := 1#32
  let v733 : BitVec 32 := Scalar.andi v732 c1_i32_315
  let v734 : Index := Scalar.indexCast v733
  let c160 : Index := 160#32
  let c0_316 : Index := 0#32
  ![v734.toNat, 160, 0]
def k0_off304 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_330 : BitVec 32 := 1#32
  let v773 : BitVec 32 := Scalar.andi arg25 c1_i32_330
  let v774 : Index := Scalar.indexCast v773
  let c0_331 : Index := 0#32
  let c1536_332 : Index := 1536#32
  ![v774.toNat, 0, 1536]
def k0_off305 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_333 : BitVec 32 := 1#32
  let v778 : BitVec 32 := Scalar.addi arg25 c1_i32_333
  let c1_i32_334 : BitVec 32 := 1#32
  let v779 : BitVec 32 := Scalar.andi v778 c1_i32_334
  let v780 : Index := Scalar.indexCast v779
  let c192 : Index := 192#32
  let c0_335 : Index := 0#32
  ![v780.toNat, 192, 0]
def k0_off306 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_349 : BitVec 32 := 1#32
  let v819 : BitVec 32 := Scalar.andi arg25 c1_i32_349
  let v820 : Index := Scalar.indexCast v819
  let c0_350 : Index := 0#32
  let c1792_351 : Index := 1792#32
  ![v820.toNat, 0, 1792]
def k0_off307 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_352 : BitVec 32 := 1#32
  let v824 : BitVec 32 := Scalar.addi arg25 c1_i32_352
  let c1_i32_353 : BitVec 32 := 1#32
  let v825 : BitVec 32 := Scalar.andi v824 c1_i32_353
  let v826 : Index := Scalar.indexCast v825
  let c224 : Index := 224#32
  let c0_354 : Index := 0#32
  ![v826.toNat, 224, 0]
def k0_off308 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_368 : BitVec 32 := 1#32
  let v865 : BitVec 32 := Scalar.andi arg25 c1_i32_368
  let v866 : Index := Scalar.indexCast v865
  let c0_369 : Index := 0#32
  let c2048_370 : Index := 2048#32
  ![v866.toNat, 0, 2048]
def k0_off309 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_371 : BitVec 32 := 1#32
  let v870 : BitVec 32 := Scalar.addi arg25 c1_i32_371
  let c1_i32_372 : BitVec 32 := 1#32
  let v871 : BitVec 32 := Scalar.andi v870 c1_i32_372
  let v872 : Index := Scalar.indexCast v871
  let c256_373 : Index := 256#32
  let c0_374 : Index := 0#32
  ![v872.toNat, 256, 0]
def k0_off310 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_388 : BitVec 32 := 1#32
  let v911 : BitVec 32 := Scalar.andi arg25 c1_i32_388
  let v912 : Index := Scalar.indexCast v911
  let c0_389 : Index := 0#32
  let c2304_390 : Index := 2304#32
  ![v912.toNat, 0, 2304]
def k0_off311 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_391 : BitVec 32 := 1#32
  let v916 : BitVec 32 := Scalar.addi arg25 c1_i32_391
  let c1_i32_392 : BitVec 32 := 1#32
  let v917 : BitVec 32 := Scalar.andi v916 c1_i32_392
  let v918 : Index := Scalar.indexCast v917
  let c288 : Index := 288#32
  let c0_393 : Index := 0#32
  ![v918.toNat, 288, 0]
def k0_off312 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_407 : BitVec 32 := 1#32
  let v957 : BitVec 32 := Scalar.andi arg25 c1_i32_407
  let v958 : Index := Scalar.indexCast v957
  let c0_408 : Index := 0#32
  let c2560_409 : Index := 2560#32
  ![v958.toNat, 0, 2560]
def k0_off313 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_410 : BitVec 32 := 1#32
  let v962 : BitVec 32 := Scalar.addi arg25 c1_i32_410
  let c1_i32_411 : BitVec 32 := 1#32
  let v963 : BitVec 32 := Scalar.andi v962 c1_i32_411
  let v964 : Index := Scalar.indexCast v963
  let c320 : Index := 320#32
  let c0_412 : Index := 0#32
  ![v964.toNat, 320, 0]
def k0_off314 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_426 : BitVec 32 := 1#32
  let v1003 : BitVec 32 := Scalar.andi arg25 c1_i32_426
  let v1004 : Index := Scalar.indexCast v1003
  let c0_427 : Index := 0#32
  let c2816_428 : Index := 2816#32
  ![v1004.toNat, 0, 2816]
def k0_off315 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_429 : BitVec 32 := 1#32
  let v1008 : BitVec 32 := Scalar.addi arg25 c1_i32_429
  let c1_i32_430 : BitVec 32 := 1#32
  let v1009 : BitVec 32 := Scalar.andi v1008 c1_i32_430
  let v1010 : Index := Scalar.indexCast v1009
  let c352 : Index := 352#32
  let c0_431 : Index := 0#32
  ![v1010.toNat, 352, 0]
def k0_off316 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_445 : BitVec 32 := 1#32
  let v1049 : BitVec 32 := Scalar.andi arg25 c1_i32_445
  let v1050 : Index := Scalar.indexCast v1049
  let c0_446 : Index := 0#32
  let c3072_447 : Index := 3072#32
  ![v1050.toNat, 0, 3072]
def k0_off317 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_448 : BitVec 32 := 1#32
  let v1054 : BitVec 32 := Scalar.addi arg25 c1_i32_448
  let c1_i32_449 : BitVec 32 := 1#32
  let v1055 : BitVec 32 := Scalar.andi v1054 c1_i32_449
  let v1056 : Index := Scalar.indexCast v1055
  let c384 : Index := 384#32
  let c0_450 : Index := 0#32
  ![v1056.toNat, 384, 0]
def k0_off318 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_464 : BitVec 32 := 1#32
  let v1095 : BitVec 32 := Scalar.andi arg25 c1_i32_464
  let v1096 : Index := Scalar.indexCast v1095
  let c0_465 : Index := 0#32
  let c3328_466 : Index := 3328#32
  ![v1096.toNat, 0, 3328]
def k0_off319 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_467 : BitVec 32 := 1#32
  let v1100 : BitVec 32 := Scalar.addi arg25 c1_i32_467
  let c1_i32_468 : BitVec 32 := 1#32
  let v1101 : BitVec 32 := Scalar.andi v1100 c1_i32_468
  let v1102 : Index := Scalar.indexCast v1101
  let c416 : Index := 416#32
  let c0_469 : Index := 0#32
  ![v1102.toNat, 416, 0]
def k0_off320 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_483 : BitVec 32 := 1#32
  let v1141 : BitVec 32 := Scalar.andi arg25 c1_i32_483
  let v1142 : Index := Scalar.indexCast v1141
  let c0_484 : Index := 0#32
  let c3584_485 : Index := 3584#32
  ![v1142.toNat, 0, 3584]
def k0_off321 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_486 : BitVec 32 := 1#32
  let v1146 : BitVec 32 := Scalar.addi arg25 c1_i32_486
  let c1_i32_487 : BitVec 32 := 1#32
  let v1147 : BitVec 32 := Scalar.andi v1146 c1_i32_487
  let v1148 : Index := Scalar.indexCast v1147
  let c448 : Index := 448#32
  let c0_488 : Index := 0#32
  ![v1148.toNat, 448, 0]
def k0_off322 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_502 : BitVec 32 := 1#32
  let v1187 : BitVec 32 := Scalar.andi arg25 c1_i32_502
  let v1188 : Index := Scalar.indexCast v1187
  let c0_503 : Index := 0#32
  let c3840_504 : Index := 3840#32
  ![v1188.toNat, 0, 3840]
def k0_off323 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_505 : BitVec 32 := 1#32
  let v1192 : BitVec 32 := Scalar.addi arg25 c1_i32_505
  let c1_i32_506 : BitVec 32 := 1#32
  let v1193 : BitVec 32 := Scalar.andi v1192 c1_i32_506
  let v1194 : Index := Scalar.indexCast v1193
  let c480 : Index := 480#32
  let c0_507 : Index := 0#32
  ![v1194.toNat, 480, 0]
def k0_off324 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_521 : BitVec 32 := 1#32
  let v1233 : BitVec 32 := Scalar.andi arg25 c1_i32_521
  let v1234 : Index := Scalar.indexCast v1233
  let c0_522 : Index := 0#32
  let c4096_523 : Index := 4096#32
  ![v1234.toNat, 0, 4096]
def k0_off325 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_524 : BitVec 32 := 1#32
  let v1238 : BitVec 32 := Scalar.addi arg25 c1_i32_524
  let c1_i32_525 : BitVec 32 := 1#32
  let v1239 : BitVec 32 := Scalar.andi v1238 c1_i32_525
  let v1240 : Index := Scalar.indexCast v1239
  let c512_526 : Index := 512#32
  let c0_527 : Index := 0#32
  ![v1240.toNat, 512, 0]
def k0_off326 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_541 : BitVec 32 := 1#32
  let v1279 : BitVec 32 := Scalar.andi arg25 c1_i32_541
  let v1280 : Index := Scalar.indexCast v1279
  let c0_542 : Index := 0#32
  let c4352_543 : Index := 4352#32
  ![v1280.toNat, 0, 4352]
def k0_off327 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_544 : BitVec 32 := 1#32
  let v1284 : BitVec 32 := Scalar.addi arg25 c1_i32_544
  let c1_i32_545 : BitVec 32 := 1#32
  let v1285 : BitVec 32 := Scalar.andi v1284 c1_i32_545
  let v1286 : Index := Scalar.indexCast v1285
  let c544 : Index := 544#32
  let c0_546 : Index := 0#32
  ![v1286.toNat, 544, 0]
def k0_off328 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_560 : BitVec 32 := 1#32
  let v1325 : BitVec 32 := Scalar.andi arg25 c1_i32_560
  let v1326 : Index := Scalar.indexCast v1325
  let c0_561 : Index := 0#32
  let c4608_562 : Index := 4608#32
  ![v1326.toNat, 0, 4608]
def k0_off329 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_563 : BitVec 32 := 1#32
  let v1330 : BitVec 32 := Scalar.addi arg25 c1_i32_563
  let c1_i32_564 : BitVec 32 := 1#32
  let v1331 : BitVec 32 := Scalar.andi v1330 c1_i32_564
  let v1332 : Index := Scalar.indexCast v1331
  let c576 : Index := 576#32
  let c0_565 : Index := 0#32
  ![v1332.toNat, 576, 0]
def k0_off330 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_579 : BitVec 32 := 1#32
  let v1371 : BitVec 32 := Scalar.andi arg25 c1_i32_579
  let v1372 : Index := Scalar.indexCast v1371
  let c0_580 : Index := 0#32
  let c4864_581 : Index := 4864#32
  ![v1372.toNat, 0, 4864]
def k0_off331 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_582 : BitVec 32 := 1#32
  let v1376 : BitVec 32 := Scalar.addi arg25 c1_i32_582
  let c1_i32_583 : BitVec 32 := 1#32
  let v1377 : BitVec 32 := Scalar.andi v1376 c1_i32_583
  let v1378 : Index := Scalar.indexCast v1377
  let c608 : Index := 608#32
  let c0_584 : Index := 0#32
  ![v1378.toNat, 608, 0]
def k0_off332 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_598 : BitVec 32 := 1#32
  let v1417 : BitVec 32 := Scalar.andi arg25 c1_i32_598
  let v1418 : Index := Scalar.indexCast v1417
  let c0_599 : Index := 0#32
  let c5120_600 : Index := 5120#32
  ![v1418.toNat, 0, 5120]
def k0_off333 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_601 : BitVec 32 := 1#32
  let v1422 : BitVec 32 := Scalar.addi arg25 c1_i32_601
  let c1_i32_602 : BitVec 32 := 1#32
  let v1423 : BitVec 32 := Scalar.andi v1422 c1_i32_602
  let v1424 : Index := Scalar.indexCast v1423
  let c640 : Index := 640#32
  let c0_603 : Index := 0#32
  ![v1424.toNat, 640, 0]
def k0_off334 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_617 : BitVec 32 := 1#32
  let v1463 : BitVec 32 := Scalar.andi arg25 c1_i32_617
  let v1464 : Index := Scalar.indexCast v1463
  let c0_618 : Index := 0#32
  let c5376_619 : Index := 5376#32
  ![v1464.toNat, 0, 5376]
def k0_off335 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_620 : BitVec 32 := 1#32
  let v1468 : BitVec 32 := Scalar.addi arg25 c1_i32_620
  let c1_i32_621 : BitVec 32 := 1#32
  let v1469 : BitVec 32 := Scalar.andi v1468 c1_i32_621
  let v1470 : Index := Scalar.indexCast v1469
  let c672 : Index := 672#32
  let c0_622 : Index := 0#32
  ![v1470.toNat, 672, 0]
def k0_off336 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_636 : BitVec 32 := 1#32
  let v1509 : BitVec 32 := Scalar.andi arg25 c1_i32_636
  let v1510 : Index := Scalar.indexCast v1509
  let c0_637 : Index := 0#32
  let c5632_638 : Index := 5632#32
  ![v1510.toNat, 0, 5632]
def k0_off337 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_639 : BitVec 32 := 1#32
  let v1514 : BitVec 32 := Scalar.addi arg25 c1_i32_639
  let c1_i32_640 : BitVec 32 := 1#32
  let v1515 : BitVec 32 := Scalar.andi v1514 c1_i32_640
  let v1516 : Index := Scalar.indexCast v1515
  let c704 : Index := 704#32
  let c0_641 : Index := 0#32
  ![v1516.toNat, 704, 0]
def k0_off338 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_655 : BitVec 32 := 1#32
  let v1555 : BitVec 32 := Scalar.andi arg25 c1_i32_655
  let v1556 : Index := Scalar.indexCast v1555
  let c0_656 : Index := 0#32
  let c5888_657 : Index := 5888#32
  ![v1556.toNat, 0, 5888]
def k0_off339 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_658 : BitVec 32 := 1#32
  let v1560 : BitVec 32 := Scalar.addi arg25 c1_i32_658
  let c1_i32_659 : BitVec 32 := 1#32
  let v1561 : BitVec 32 := Scalar.andi v1560 c1_i32_659
  let v1562 : Index := Scalar.indexCast v1561
  let c736 : Index := 736#32
  let c0_660 : Index := 0#32
  ![v1562.toNat, 736, 0]
def k0_off340 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_674 : BitVec 32 := 1#32
  let v1601 : BitVec 32 := Scalar.andi arg25 c1_i32_674
  let v1602 : Index := Scalar.indexCast v1601
  let c0_675 : Index := 0#32
  let c6144_676 : Index := 6144#32
  ![v1602.toNat, 0, 6144]
def k0_off341 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_677 : BitVec 32 := 1#32
  let v1606 : BitVec 32 := Scalar.addi arg25 c1_i32_677
  let c1_i32_678 : BitVec 32 := 1#32
  let v1607 : BitVec 32 := Scalar.andi v1606 c1_i32_678
  let v1608 : Index := Scalar.indexCast v1607
  let c768_679 : Index := 768#32
  let c0_680 : Index := 0#32
  ![v1608.toNat, 768, 0]
def k0_off342 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_694 : BitVec 32 := 1#32
  let v1647 : BitVec 32 := Scalar.andi arg25 c1_i32_694
  let v1648 : Index := Scalar.indexCast v1647
  let c0_695 : Index := 0#32
  let c6400_696 : Index := 6400#32
  ![v1648.toNat, 0, 6400]
def k0_off343 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_697 : BitVec 32 := 1#32
  let v1652 : BitVec 32 := Scalar.addi arg25 c1_i32_697
  let c1_i32_698 : BitVec 32 := 1#32
  let v1653 : BitVec 32 := Scalar.andi v1652 c1_i32_698
  let v1654 : Index := Scalar.indexCast v1653
  let c800 : Index := 800#32
  let c0_699 : Index := 0#32
  ![v1654.toNat, 800, 0]
def k0_off344 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_713 : BitVec 32 := 1#32
  let v1693 : BitVec 32 := Scalar.andi arg25 c1_i32_713
  let v1694 : Index := Scalar.indexCast v1693
  let c0_714 : Index := 0#32
  let c6656_715 : Index := 6656#32
  ![v1694.toNat, 0, 6656]
def k0_off345 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_716 : BitVec 32 := 1#32
  let v1698 : BitVec 32 := Scalar.addi arg25 c1_i32_716
  let c1_i32_717 : BitVec 32 := 1#32
  let v1699 : BitVec 32 := Scalar.andi v1698 c1_i32_717
  let v1700 : Index := Scalar.indexCast v1699
  let c832 : Index := 832#32
  let c0_718 : Index := 0#32
  ![v1700.toNat, 832, 0]
def k0_off346 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_732 : BitVec 32 := 1#32
  let v1739 : BitVec 32 := Scalar.andi arg25 c1_i32_732
  let v1740 : Index := Scalar.indexCast v1739
  let c0_733 : Index := 0#32
  let c6912_734 : Index := 6912#32
  ![v1740.toNat, 0, 6912]
def k0_off347 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_735 : BitVec 32 := 1#32
  let v1744 : BitVec 32 := Scalar.addi arg25 c1_i32_735
  let c1_i32_736 : BitVec 32 := 1#32
  let v1745 : BitVec 32 := Scalar.andi v1744 c1_i32_736
  let v1746 : Index := Scalar.indexCast v1745
  let c864 : Index := 864#32
  let c0_737 : Index := 0#32
  ![v1746.toNat, 864, 0]
def k0_off348 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_751 : BitVec 32 := 1#32
  let v1785 : BitVec 32 := Scalar.andi arg25 c1_i32_751
  let v1786 : Index := Scalar.indexCast v1785
  let c0_752 : Index := 0#32
  let c7168_753 : Index := 7168#32
  ![v1786.toNat, 0, 7168]
def k0_off349 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_754 : BitVec 32 := 1#32
  let v1790 : BitVec 32 := Scalar.addi arg25 c1_i32_754
  let c1_i32_755 : BitVec 32 := 1#32
  let v1791 : BitVec 32 := Scalar.andi v1790 c1_i32_755
  let v1792 : Index := Scalar.indexCast v1791
  let c896 : Index := 896#32
  let c0_756 : Index := 0#32
  ![v1792.toNat, 896, 0]
def k0_off350 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_770 : BitVec 32 := 1#32
  let v1831 : BitVec 32 := Scalar.andi arg25 c1_i32_770
  let v1832 : Index := Scalar.indexCast v1831
  let c0_771 : Index := 0#32
  let c7424_772 : Index := 7424#32
  ![v1832.toNat, 0, 7424]
def k0_off351 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_773 : BitVec 32 := 1#32
  let v1836 : BitVec 32 := Scalar.addi arg25 c1_i32_773
  let c1_i32_774 : BitVec 32 := 1#32
  let v1837 : BitVec 32 := Scalar.andi v1836 c1_i32_774
  let v1838 : Index := Scalar.indexCast v1837
  let c928 : Index := 928#32
  let c0_775 : Index := 0#32
  ![v1838.toNat, 928, 0]
def k0_off352 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_789 : BitVec 32 := 1#32
  let v1877 : BitVec 32 := Scalar.andi arg25 c1_i32_789
  let v1878 : Index := Scalar.indexCast v1877
  let c0_790 : Index := 0#32
  let c7680_791 : Index := 7680#32
  ![v1878.toNat, 0, 7680]
def k0_off353 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_792 : BitVec 32 := 1#32
  let v1882 : BitVec 32 := Scalar.addi arg25 c1_i32_792
  let c1_i32_793 : BitVec 32 := 1#32
  let v1883 : BitVec 32 := Scalar.andi v1882 c1_i32_793
  let v1884 : Index := Scalar.indexCast v1883
  let c960 : Index := 960#32
  let c0_794 : Index := 0#32
  ![v1884.toNat, 960, 0]
def k0_off354 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_808 : BitVec 32 := 1#32
  let v1923 : BitVec 32 := Scalar.andi arg25 c1_i32_808
  let v1924 : Index := Scalar.indexCast v1923
  let c0_809 : Index := 0#32
  let c7936_810 : Index := 7936#32
  ![v1924.toNat, 0, 7936]
def k0_off355 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_811 : BitVec 32 := 1#32
  let v1928 : BitVec 32 := Scalar.addi arg25 c1_i32_811
  let c1_i32_812 : BitVec 32 := 1#32
  let v1929 : BitVec 32 := Scalar.andi v1928 c1_i32_812
  let v1930 : Index := Scalar.indexCast v1929
  let c992 : Index := 992#32
  let c0_813 : Index := 0#32
  ![v1930.toNat, 992, 0]
def k0_off356 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_827 : BitVec 32 := 1#32
  let v1969 : BitVec 32 := Scalar.andi arg25 c1_i32_827
  let v1970 : Index := Scalar.indexCast v1969
  let c0_828 : Index := 0#32
  let c8192_829 : Index := 8192#32
  ![v1970.toNat, 0, 8192]
def k0_off357 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_838 : BitVec 32 := 1#32
  let v1996 : BitVec 32 := Scalar.andi arg25 c1_i32_838
  let v1997 : Index := Scalar.indexCast v1996
  let c0_839 : Index := 0#32
  let c8448_840 : Index := 8448#32
  ![v1997.toNat, 0, 8448]
def k0_off358 (arg24 : BitVec 32) (k0_t2 : Fin (k0_t2_loop arg24).trips) : Fin 3 → Nat :=
  let c0_i32_63 : BitVec 32 := 0#32
  let c1_i32_65 : BitVec 32 := 1#32
  let arg25 : BitVec 32 := Scf.iv c0_i32_63 c1_i32_65 k0_t2
  let c1_i32_849 : BitVec 32 := 1#32
  let v2023 : BitVec 32 := Scalar.andi arg25 c1_i32_849
  let v2024 : Index := Scalar.indexCast v2023
  let c0_850 : Index := 0#32
  let c8704_851 : Index := 8704#32
  ![v2024.toNat, 0, 8704]
@[reducible] def k0_t3_loop (arg24 : BitVec 32) : Scf.Loop 32 :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let v206 : BitVec 32 := Scalar.addi c0_i32_63 v205
  let c1_i32_66 : BitVec 32 := 1#32
  ⟨v209, v206, c1_i32_66⟩
def k0_off359 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let v2032 : Index := Scalar.indexCast v2031
  ![v2032.toNat]
def k0_cond7 (arg24 : BitVec 32) (k0_t3 : Fin (k0_t3_loop arg24).trips) : BitVec 1 :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_99 : BitVec 32 := 1#32
  let v270 : BitVec 32 := Scalar.addi arg25 c1_i32_99
  let v271 : BitVec 1 := Scalar.cmpi .slt v270 arg24
  let v272 : BitVec 32 := Scalar.extui v271
  let c0_i32_100 : BitVec 32 := 0#32
  let v273 : BitVec 1 := Scalar.cmpi .ne v272 c0_i32_100
  v273

def k0_off360 (v2033 : BitVec 32) : Fin 2 → Nat :=
  let c8_i32_855 : BitVec 32 := 8#32
  let v2034 : BitVec 32 := Scalar.muli v2033 c8_i32_855
  let c0_i32_856 : BitVec 32 := 0#32
  let v2035 : BitVec 32 := Scalar.addi v2034 c0_i32_856
  let c7_i32_857 : BitVec 32 := 7#32
  let v2036 : BitVec 32 := Scalar.shrui v2035 c7_i32_857
  let v2038 : Index := Scalar.indexCast v2036
  let c127_i32_858 : BitVec 32 := 127#32
  let v2037 : BitVec 32 := Scalar.andi v2035 c127_i32_858
  let v2039 : Index := Scalar.indexCast v2037
  ![v2038.toNat, v2039.toNat]

def k0_chk147 (arg24 : BitVec 32) (k0_t3 : Fin (k0_t3_loop arg24).trips) (v2033 : BitVec 32) : Prop :=
  (∀ (k0_h7 : k0_cond7 arg24 k0_t3 = 1#1), ∀ a, (k0_off360 v2033) a + S1x1.size a ≤ S8x128.size a)
theorem k0_off360_inb : ∀ (arg24 : BitVec 32) (k0_t3 : Fin (k0_t3_loop arg24).trips) (v2033 : BitVec 32) (k0_hw147 : k0_chk147 arg24 k0_t3 v2033), ∀ (k0_h7 : k0_cond7 arg24 k0_t3 = 1#1), ∀ a, (k0_off360 v2033) a + S1x1.size a ≤ S8x128.size a := fun arg24 k0_t3 v2033 k0_hw147 k0_h7 => k0_hw147 k0_h7

def k0_off361 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_861 : BitVec 32 := 1#32
  let v2043 : BitVec 32 := Scalar.andi v2031 c1_i32_861
  ![v2043.toNat]
def k0_off362 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_860 : BitVec 32 := 1#32
  let v2042 : BitVec 32 := Scalar.andi v2031 c1_i32_860
  let c0_i32_862 : BitVec 32 := 0#32
  let c0_i32_863 : BitVec 32 := 0#32
  ![v2042.toNat, 0, 0]
def k0_off363 (v2040 : BitVec 32) : Fin 2 → Nat :=
  let c128_i32_859 : BitVec 32 := 128#32
  let v2041 : BitVec 32 := Scalar.muli v2040 c128_i32_859
  let c0_i32_864 : BitVec 32 := 0#32
  ![v2041.toNat, 0]

def k0_chk148 (arg24 : BitVec 32) (k0_t3 : Fin (k0_t3_loop arg24).trips) (v2040 : BitVec 32) : Prop :=
  (∀ (k0_h7 : k0_cond7 arg24 k0_t3 = 1#1), ∀ a, (k0_off363 v2040) a + S128x1536.size a ≤ S40960x1536.size a) ∧
  (∀ (k0_h7 : k0_cond7 arg24 k0_t3 = 1#1), ∀ (hinb : ∀ a, (k0_off363 v2040) a + S128x1536.size a ≤ S40960x1536.size a), (Rect.unit (s := S40960x1536) (k0_off363 v2040) S128x1536.size hinb).WholeWords (EltTy.packing .bf16))
theorem k0_off363_inb : ∀ (arg24 : BitVec 32) (k0_t3 : Fin (k0_t3_loop arg24).trips) (v2040 : BitVec 32) (k0_hw148 : k0_chk148 arg24 k0_t3 v2040), ∀ (k0_h7 : k0_cond7 arg24 k0_t3 = 1#1), ∀ a, (k0_off363 v2040) a + S128x1536.size a ≤ S40960x1536.size a := fun arg24 k0_t3 v2040 k0_hw148 k0_h7 => k0_hw148.1 k0_h7
theorem k0_off363_wordsbf16 : ∀ (arg24 : BitVec 32) (k0_t3 : Fin (k0_t3_loop arg24).trips) (v2040 : BitVec 32) (k0_hw148 : k0_chk148 arg24 k0_t3 v2040), ∀ (k0_h7 : k0_cond7 arg24 k0_t3 = 1#1), (Rect.unit (s := S40960x1536) (k0_off363 v2040) S128x1536.size (k0_off363_inb arg24 k0_t3 v2040 k0_hw148 k0_h7)).WholeWords (EltTy.packing .bf16) := fun arg24 k0_t3 v2040 k0_hw148 k0_h7 => k0_hw148.2 k0_h7 (k0_off363_inb arg24 k0_t3 v2040 k0_hw148 k0_h7)

def k0_off364 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let v2049 : Index := Scalar.indexCast v2031
  ![v2049.toNat]
def k0_off365 (v2050 : BitVec 32) : Fin 2 → Nat :=
  let c8_i32_865 : BitVec 32 := 8#32
  let v2051 : BitVec 32 := Scalar.muli v2050 c8_i32_865
  let c1_i32_866 : BitVec 32 := 1#32
  let v2052 : BitVec 32 := Scalar.addi v2051 c1_i32_866
  let c7_i32_867 : BitVec 32 := 7#32
  let v2053 : BitVec 32 := Scalar.shrui v2052 c7_i32_867
  let v2055 : Index := Scalar.indexCast v2053
  let c127_i32_868 : BitVec 32 := 127#32
  let v2054 : BitVec 32 := Scalar.andi v2052 c127_i32_868
  let v2056 : Index := Scalar.indexCast v2054
  ![v2055.toNat, v2056.toNat]

def k0_chk149 (arg24 : BitVec 32) (k0_t3 : Fin (k0_t3_loop arg24).trips) (v2050 : BitVec 32) : Prop :=
  (∀ (k0_h7 : k0_cond7 arg24 k0_t3 = 1#1), ∀ a, (k0_off365 v2050) a + S1x1.size a ≤ S8x128.size a)
theorem k0_off365_inb : ∀ (arg24 : BitVec 32) (k0_t3 : Fin (k0_t3_loop arg24).trips) (v2050 : BitVec 32) (k0_hw149 : k0_chk149 arg24 k0_t3 v2050), ∀ (k0_h7 : k0_cond7 arg24 k0_t3 = 1#1), ∀ a, (k0_off365 v2050) a + S1x1.size a ≤ S8x128.size a := fun arg24 k0_t3 v2050 k0_hw149 k0_h7 => k0_hw149 k0_h7

def k0_off366 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_871 : BitVec 32 := 1#32
  let v2060 : BitVec 32 := Scalar.andi v2031 c1_i32_871
  ![v2060.toNat]
def k0_off367 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_870 : BitVec 32 := 1#32
  let v2059 : BitVec 32 := Scalar.andi v2031 c1_i32_870
  let c128_i32_872 : BitVec 32 := 128#32
  let c0_i32_873 : BitVec 32 := 0#32
  ![v2059.toNat, 128, 0]
def k0_off368 (v2057 : BitVec 32) : Fin 2 → Nat :=
  let c128_i32_869 : BitVec 32 := 128#32
  let v2058 : BitVec 32 := Scalar.muli v2057 c128_i32_869
  let c0_i32_874 : BitVec 32 := 0#32
  ![v2058.toNat, 0]

def k0_chk150 (arg24 : BitVec 32) (k0_t3 : Fin (k0_t3_loop arg24).trips) (v2057 : BitVec 32) : Prop :=
  (∀ (k0_h7 : k0_cond7 arg24 k0_t3 = 1#1), ∀ a, (k0_off368 v2057) a + S128x1536.size a ≤ S40960x1536.size a) ∧
  (∀ (k0_h7 : k0_cond7 arg24 k0_t3 = 1#1), ∀ (hinb : ∀ a, (k0_off368 v2057) a + S128x1536.size a ≤ S40960x1536.size a), (Rect.unit (s := S40960x1536) (k0_off368 v2057) S128x1536.size hinb).WholeWords (EltTy.packing .bf16))
theorem k0_off368_inb : ∀ (arg24 : BitVec 32) (k0_t3 : Fin (k0_t3_loop arg24).trips) (v2057 : BitVec 32) (k0_hw150 : k0_chk150 arg24 k0_t3 v2057), ∀ (k0_h7 : k0_cond7 arg24 k0_t3 = 1#1), ∀ a, (k0_off368 v2057) a + S128x1536.size a ≤ S40960x1536.size a := fun arg24 k0_t3 v2057 k0_hw150 k0_h7 => k0_hw150.1 k0_h7
theorem k0_off368_wordsbf16 : ∀ (arg24 : BitVec 32) (k0_t3 : Fin (k0_t3_loop arg24).trips) (v2057 : BitVec 32) (k0_hw150 : k0_chk150 arg24 k0_t3 v2057), ∀ (k0_h7 : k0_cond7 arg24 k0_t3 = 1#1), (Rect.unit (s := S40960x1536) (k0_off368 v2057) S128x1536.size (k0_off368_inb arg24 k0_t3 v2057 k0_hw150 k0_h7)).WholeWords (EltTy.packing .bf16) := fun arg24 k0_t3 v2057 k0_hw150 k0_h7 => k0_hw150.2 k0_h7 (k0_off368_inb arg24 k0_t3 v2057 k0_hw150 k0_h7)

def k0_off369 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let v2066 : Index := Scalar.indexCast v2031
  ![v2066.toNat]
def k0_off370 (v2067 : BitVec 32) : Fin 2 → Nat :=
  let c8_i32_875 : BitVec 32 := 8#32
  let v2068 : BitVec 32 := Scalar.muli v2067 c8_i32_875
  let c2_i32_876 : BitVec 32 := 2#32
  let v2069 : BitVec 32 := Scalar.addi v2068 c2_i32_876
  let c7_i32_877 : BitVec 32 := 7#32
  let v2070 : BitVec 32 := Scalar.shrui v2069 c7_i32_877
  let v2072 : Index := Scalar.indexCast v2070
  let c127_i32_878 : BitVec 32 := 127#32
  let v2071 : BitVec 32 := Scalar.andi v2069 c127_i32_878
  let v2073 : Index := Scalar.indexCast v2071
  ![v2072.toNat, v2073.toNat]

def k0_chk151 (arg24 : BitVec 32) (k0_t3 : Fin (k0_t3_loop arg24).trips) (v2067 : BitVec 32) : Prop :=
  (∀ (k0_h7 : k0_cond7 arg24 k0_t3 = 1#1), ∀ a, (k0_off370 v2067) a + S1x1.size a ≤ S8x128.size a)
theorem k0_off370_inb : ∀ (arg24 : BitVec 32) (k0_t3 : Fin (k0_t3_loop arg24).trips) (v2067 : BitVec 32) (k0_hw151 : k0_chk151 arg24 k0_t3 v2067), ∀ (k0_h7 : k0_cond7 arg24 k0_t3 = 1#1), ∀ a, (k0_off370 v2067) a + S1x1.size a ≤ S8x128.size a := fun arg24 k0_t3 v2067 k0_hw151 k0_h7 => k0_hw151 k0_h7

def k0_off371 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_881 : BitVec 32 := 1#32
  let v2077 : BitVec 32 := Scalar.andi v2031 c1_i32_881
  ![v2077.toNat]
def k0_off372 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_880 : BitVec 32 := 1#32
  let v2076 : BitVec 32 := Scalar.andi v2031 c1_i32_880
  let c256_i32_882 : BitVec 32 := 256#32
  let c0_i32_883 : BitVec 32 := 0#32
  ![v2076.toNat, 256, 0]
def k0_off373 (v2074 : BitVec 32) : Fin 2 → Nat :=
  let c128_i32_879 : BitVec 32 := 128#32
  let v2075 : BitVec 32 := Scalar.muli v2074 c128_i32_879
  let c0_i32_884 : BitVec 32 := 0#32
  ![v2075.toNat, 0]

def k0_chk152 (arg24 : BitVec 32) (k0_t3 : Fin (k0_t3_loop arg24).trips) (v2074 : BitVec 32) : Prop :=
  (∀ (k0_h7 : k0_cond7 arg24 k0_t3 = 1#1), ∀ a, (k0_off373 v2074) a + S128x1536.size a ≤ S40960x1536.size a) ∧
  (∀ (k0_h7 : k0_cond7 arg24 k0_t3 = 1#1), ∀ (hinb : ∀ a, (k0_off373 v2074) a + S128x1536.size a ≤ S40960x1536.size a), (Rect.unit (s := S40960x1536) (k0_off373 v2074) S128x1536.size hinb).WholeWords (EltTy.packing .bf16))
theorem k0_off373_inb : ∀ (arg24 : BitVec 32) (k0_t3 : Fin (k0_t3_loop arg24).trips) (v2074 : BitVec 32) (k0_hw152 : k0_chk152 arg24 k0_t3 v2074), ∀ (k0_h7 : k0_cond7 arg24 k0_t3 = 1#1), ∀ a, (k0_off373 v2074) a + S128x1536.size a ≤ S40960x1536.size a := fun arg24 k0_t3 v2074 k0_hw152 k0_h7 => k0_hw152.1 k0_h7
theorem k0_off373_wordsbf16 : ∀ (arg24 : BitVec 32) (k0_t3 : Fin (k0_t3_loop arg24).trips) (v2074 : BitVec 32) (k0_hw152 : k0_chk152 arg24 k0_t3 v2074), ∀ (k0_h7 : k0_cond7 arg24 k0_t3 = 1#1), (Rect.unit (s := S40960x1536) (k0_off373 v2074) S128x1536.size (k0_off373_inb arg24 k0_t3 v2074 k0_hw152 k0_h7)).WholeWords (EltTy.packing .bf16) := fun arg24 k0_t3 v2074 k0_hw152 k0_h7 => k0_hw152.2 k0_h7 (k0_off373_inb arg24 k0_t3 v2074 k0_hw152 k0_h7)

def k0_off374 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let v2083 : Index := Scalar.indexCast v2031
  ![v2083.toNat]
def k0_off375 (v2084 : BitVec 32) : Fin 2 → Nat :=
  let c8_i32_885 : BitVec 32 := 8#32
  let v2085 : BitVec 32 := Scalar.muli v2084 c8_i32_885
  let c3_i32_886 : BitVec 32 := 3#32
  let v2086 : BitVec 32 := Scalar.addi v2085 c3_i32_886
  let c7_i32_887 : BitVec 32 := 7#32
  let v2087 : BitVec 32 := Scalar.shrui v2086 c7_i32_887
  let v2089 : Index := Scalar.indexCast v2087
  let c127_i32_888 : BitVec 32 := 127#32
  let v2088 : BitVec 32 := Scalar.andi v2086 c127_i32_888
  let v2090 : Index := Scalar.indexCast v2088
  ![v2089.toNat, v2090.toNat]

def k0_chk153 (arg24 : BitVec 32) (k0_t3 : Fin (k0_t3_loop arg24).trips) (v2084 : BitVec 32) : Prop :=
  (∀ (k0_h7 : k0_cond7 arg24 k0_t3 = 1#1), ∀ a, (k0_off375 v2084) a + S1x1.size a ≤ S8x128.size a)
theorem k0_off375_inb : ∀ (arg24 : BitVec 32) (k0_t3 : Fin (k0_t3_loop arg24).trips) (v2084 : BitVec 32) (k0_hw153 : k0_chk153 arg24 k0_t3 v2084), ∀ (k0_h7 : k0_cond7 arg24 k0_t3 = 1#1), ∀ a, (k0_off375 v2084) a + S1x1.size a ≤ S8x128.size a := fun arg24 k0_t3 v2084 k0_hw153 k0_h7 => k0_hw153 k0_h7

def k0_off376 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_891 : BitVec 32 := 1#32
  let v2094 : BitVec 32 := Scalar.andi v2031 c1_i32_891
  ![v2094.toNat]
def k0_off377 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_890 : BitVec 32 := 1#32
  let v2093 : BitVec 32 := Scalar.andi v2031 c1_i32_890
  let c384_i32_892 : BitVec 32 := 384#32
  let c0_i32_893 : BitVec 32 := 0#32
  ![v2093.toNat, 384, 0]
def k0_off378 (v2091 : BitVec 32) : Fin 2 → Nat :=
  let c128_i32_889 : BitVec 32 := 128#32
  let v2092 : BitVec 32 := Scalar.muli v2091 c128_i32_889
  let c0_i32_894 : BitVec 32 := 0#32
  ![v2092.toNat, 0]

def k0_chk154 (arg24 : BitVec 32) (k0_t3 : Fin (k0_t3_loop arg24).trips) (v2091 : BitVec 32) : Prop :=
  (∀ (k0_h7 : k0_cond7 arg24 k0_t3 = 1#1), ∀ a, (k0_off378 v2091) a + S128x1536.size a ≤ S40960x1536.size a) ∧
  (∀ (k0_h7 : k0_cond7 arg24 k0_t3 = 1#1), ∀ (hinb : ∀ a, (k0_off378 v2091) a + S128x1536.size a ≤ S40960x1536.size a), (Rect.unit (s := S40960x1536) (k0_off378 v2091) S128x1536.size hinb).WholeWords (EltTy.packing .bf16))
theorem k0_off378_inb : ∀ (arg24 : BitVec 32) (k0_t3 : Fin (k0_t3_loop arg24).trips) (v2091 : BitVec 32) (k0_hw154 : k0_chk154 arg24 k0_t3 v2091), ∀ (k0_h7 : k0_cond7 arg24 k0_t3 = 1#1), ∀ a, (k0_off378 v2091) a + S128x1536.size a ≤ S40960x1536.size a := fun arg24 k0_t3 v2091 k0_hw154 k0_h7 => k0_hw154.1 k0_h7
theorem k0_off378_wordsbf16 : ∀ (arg24 : BitVec 32) (k0_t3 : Fin (k0_t3_loop arg24).trips) (v2091 : BitVec 32) (k0_hw154 : k0_chk154 arg24 k0_t3 v2091), ∀ (k0_h7 : k0_cond7 arg24 k0_t3 = 1#1), (Rect.unit (s := S40960x1536) (k0_off378 v2091) S128x1536.size (k0_off378_inb arg24 k0_t3 v2091 k0_hw154 k0_h7)).WholeWords (EltTy.packing .bf16) := fun arg24 k0_t3 v2091 k0_hw154 k0_h7 => k0_hw154.2 k0_h7 (k0_off378_inb arg24 k0_t3 v2091 k0_hw154 k0_h7)

def k0_off379 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let v2100 : Index := Scalar.indexCast v2031
  ![v2100.toNat]
def k0_off380 (v2101 : BitVec 32) : Fin 2 → Nat :=
  let c8_i32_895 : BitVec 32 := 8#32
  let v2102 : BitVec 32 := Scalar.muli v2101 c8_i32_895
  let c4_i32_896 : BitVec 32 := 4#32
  let v2103 : BitVec 32 := Scalar.addi v2102 c4_i32_896
  let c7_i32_897 : BitVec 32 := 7#32
  let v2104 : BitVec 32 := Scalar.shrui v2103 c7_i32_897
  let v2106 : Index := Scalar.indexCast v2104
  let c127_i32_898 : BitVec 32 := 127#32
  let v2105 : BitVec 32 := Scalar.andi v2103 c127_i32_898
  let v2107 : Index := Scalar.indexCast v2105
  ![v2106.toNat, v2107.toNat]

def k0_chk155 (arg24 : BitVec 32) (k0_t3 : Fin (k0_t3_loop arg24).trips) (v2101 : BitVec 32) : Prop :=
  (∀ (k0_h7 : k0_cond7 arg24 k0_t3 = 1#1), ∀ a, (k0_off380 v2101) a + S1x1.size a ≤ S8x128.size a)
theorem k0_off380_inb : ∀ (arg24 : BitVec 32) (k0_t3 : Fin (k0_t3_loop arg24).trips) (v2101 : BitVec 32) (k0_hw155 : k0_chk155 arg24 k0_t3 v2101), ∀ (k0_h7 : k0_cond7 arg24 k0_t3 = 1#1), ∀ a, (k0_off380 v2101) a + S1x1.size a ≤ S8x128.size a := fun arg24 k0_t3 v2101 k0_hw155 k0_h7 => k0_hw155 k0_h7

def k0_off381 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_901 : BitVec 32 := 1#32
  let v2111 : BitVec 32 := Scalar.andi v2031 c1_i32_901
  ![v2111.toNat]
def k0_off382 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_900 : BitVec 32 := 1#32
  let v2110 : BitVec 32 := Scalar.andi v2031 c1_i32_900
  let c512_i32_902 : BitVec 32 := 512#32
  let c0_i32_903 : BitVec 32 := 0#32
  ![v2110.toNat, 512, 0]
def k0_off383 (v2108 : BitVec 32) : Fin 2 → Nat :=
  let c128_i32_899 : BitVec 32 := 128#32
  let v2109 : BitVec 32 := Scalar.muli v2108 c128_i32_899
  let c0_i32_904 : BitVec 32 := 0#32
  ![v2109.toNat, 0]

def k0_chk156 (arg24 : BitVec 32) (k0_t3 : Fin (k0_t3_loop arg24).trips) (v2108 : BitVec 32) : Prop :=
  (∀ (k0_h7 : k0_cond7 arg24 k0_t3 = 1#1), ∀ a, (k0_off383 v2108) a + S128x1536.size a ≤ S40960x1536.size a) ∧
  (∀ (k0_h7 : k0_cond7 arg24 k0_t3 = 1#1), ∀ (hinb : ∀ a, (k0_off383 v2108) a + S128x1536.size a ≤ S40960x1536.size a), (Rect.unit (s := S40960x1536) (k0_off383 v2108) S128x1536.size hinb).WholeWords (EltTy.packing .bf16))
theorem k0_off383_inb : ∀ (arg24 : BitVec 32) (k0_t3 : Fin (k0_t3_loop arg24).trips) (v2108 : BitVec 32) (k0_hw156 : k0_chk156 arg24 k0_t3 v2108), ∀ (k0_h7 : k0_cond7 arg24 k0_t3 = 1#1), ∀ a, (k0_off383 v2108) a + S128x1536.size a ≤ S40960x1536.size a := fun arg24 k0_t3 v2108 k0_hw156 k0_h7 => k0_hw156.1 k0_h7
theorem k0_off383_wordsbf16 : ∀ (arg24 : BitVec 32) (k0_t3 : Fin (k0_t3_loop arg24).trips) (v2108 : BitVec 32) (k0_hw156 : k0_chk156 arg24 k0_t3 v2108), ∀ (k0_h7 : k0_cond7 arg24 k0_t3 = 1#1), (Rect.unit (s := S40960x1536) (k0_off383 v2108) S128x1536.size (k0_off383_inb arg24 k0_t3 v2108 k0_hw156 k0_h7)).WholeWords (EltTy.packing .bf16) := fun arg24 k0_t3 v2108 k0_hw156 k0_h7 => k0_hw156.2 k0_h7 (k0_off383_inb arg24 k0_t3 v2108 k0_hw156 k0_h7)

def k0_off384 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let v2117 : Index := Scalar.indexCast v2031
  ![v2117.toNat]
def k0_off385 (v2118 : BitVec 32) : Fin 2 → Nat :=
  let c8_i32_905 : BitVec 32 := 8#32
  let v2119 : BitVec 32 := Scalar.muli v2118 c8_i32_905
  let c5_i32_906 : BitVec 32 := 5#32
  let v2120 : BitVec 32 := Scalar.addi v2119 c5_i32_906
  let c7_i32_907 : BitVec 32 := 7#32
  let v2121 : BitVec 32 := Scalar.shrui v2120 c7_i32_907
  let v2123 : Index := Scalar.indexCast v2121
  let c127_i32_908 : BitVec 32 := 127#32
  let v2122 : BitVec 32 := Scalar.andi v2120 c127_i32_908
  let v2124 : Index := Scalar.indexCast v2122
  ![v2123.toNat, v2124.toNat]

def k0_chk157 (arg24 : BitVec 32) (k0_t3 : Fin (k0_t3_loop arg24).trips) (v2118 : BitVec 32) : Prop :=
  (∀ (k0_h7 : k0_cond7 arg24 k0_t3 = 1#1), ∀ a, (k0_off385 v2118) a + S1x1.size a ≤ S8x128.size a)
theorem k0_off385_inb : ∀ (arg24 : BitVec 32) (k0_t3 : Fin (k0_t3_loop arg24).trips) (v2118 : BitVec 32) (k0_hw157 : k0_chk157 arg24 k0_t3 v2118), ∀ (k0_h7 : k0_cond7 arg24 k0_t3 = 1#1), ∀ a, (k0_off385 v2118) a + S1x1.size a ≤ S8x128.size a := fun arg24 k0_t3 v2118 k0_hw157 k0_h7 => k0_hw157 k0_h7

def k0_off386 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_911 : BitVec 32 := 1#32
  let v2128 : BitVec 32 := Scalar.andi v2031 c1_i32_911
  ![v2128.toNat]
def k0_off387 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_910 : BitVec 32 := 1#32
  let v2127 : BitVec 32 := Scalar.andi v2031 c1_i32_910
  let c640_i32_912 : BitVec 32 := 640#32
  let c0_i32_913 : BitVec 32 := 0#32
  ![v2127.toNat, 640, 0]
def k0_off388 (v2125 : BitVec 32) : Fin 2 → Nat :=
  let c128_i32_909 : BitVec 32 := 128#32
  let v2126 : BitVec 32 := Scalar.muli v2125 c128_i32_909
  let c0_i32_914 : BitVec 32 := 0#32
  ![v2126.toNat, 0]

def k0_chk158 (arg24 : BitVec 32) (k0_t3 : Fin (k0_t3_loop arg24).trips) (v2125 : BitVec 32) : Prop :=
  (∀ (k0_h7 : k0_cond7 arg24 k0_t3 = 1#1), ∀ a, (k0_off388 v2125) a + S128x1536.size a ≤ S40960x1536.size a) ∧
  (∀ (k0_h7 : k0_cond7 arg24 k0_t3 = 1#1), ∀ (hinb : ∀ a, (k0_off388 v2125) a + S128x1536.size a ≤ S40960x1536.size a), (Rect.unit (s := S40960x1536) (k0_off388 v2125) S128x1536.size hinb).WholeWords (EltTy.packing .bf16))
theorem k0_off388_inb : ∀ (arg24 : BitVec 32) (k0_t3 : Fin (k0_t3_loop arg24).trips) (v2125 : BitVec 32) (k0_hw158 : k0_chk158 arg24 k0_t3 v2125), ∀ (k0_h7 : k0_cond7 arg24 k0_t3 = 1#1), ∀ a, (k0_off388 v2125) a + S128x1536.size a ≤ S40960x1536.size a := fun arg24 k0_t3 v2125 k0_hw158 k0_h7 => k0_hw158.1 k0_h7
theorem k0_off388_wordsbf16 : ∀ (arg24 : BitVec 32) (k0_t3 : Fin (k0_t3_loop arg24).trips) (v2125 : BitVec 32) (k0_hw158 : k0_chk158 arg24 k0_t3 v2125), ∀ (k0_h7 : k0_cond7 arg24 k0_t3 = 1#1), (Rect.unit (s := S40960x1536) (k0_off388 v2125) S128x1536.size (k0_off388_inb arg24 k0_t3 v2125 k0_hw158 k0_h7)).WholeWords (EltTy.packing .bf16) := fun arg24 k0_t3 v2125 k0_hw158 k0_h7 => k0_hw158.2 k0_h7 (k0_off388_inb arg24 k0_t3 v2125 k0_hw158 k0_h7)

def k0_off389 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let v2134 : Index := Scalar.indexCast v2031
  ![v2134.toNat]
def k0_off390 (v2135 : BitVec 32) : Fin 2 → Nat :=
  let c8_i32_915 : BitVec 32 := 8#32
  let v2136 : BitVec 32 := Scalar.muli v2135 c8_i32_915
  let c6_i32_916 : BitVec 32 := 6#32
  let v2137 : BitVec 32 := Scalar.addi v2136 c6_i32_916
  let c7_i32_917 : BitVec 32 := 7#32
  let v2138 : BitVec 32 := Scalar.shrui v2137 c7_i32_917
  let v2140 : Index := Scalar.indexCast v2138
  let c127_i32_918 : BitVec 32 := 127#32
  let v2139 : BitVec 32 := Scalar.andi v2137 c127_i32_918
  let v2141 : Index := Scalar.indexCast v2139
  ![v2140.toNat, v2141.toNat]

def k0_chk159 (arg24 : BitVec 32) (k0_t3 : Fin (k0_t3_loop arg24).trips) (v2135 : BitVec 32) : Prop :=
  (∀ (k0_h7 : k0_cond7 arg24 k0_t3 = 1#1), ∀ a, (k0_off390 v2135) a + S1x1.size a ≤ S8x128.size a)
theorem k0_off390_inb : ∀ (arg24 : BitVec 32) (k0_t3 : Fin (k0_t3_loop arg24).trips) (v2135 : BitVec 32) (k0_hw159 : k0_chk159 arg24 k0_t3 v2135), ∀ (k0_h7 : k0_cond7 arg24 k0_t3 = 1#1), ∀ a, (k0_off390 v2135) a + S1x1.size a ≤ S8x128.size a := fun arg24 k0_t3 v2135 k0_hw159 k0_h7 => k0_hw159 k0_h7

def k0_off391 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_921 : BitVec 32 := 1#32
  let v2145 : BitVec 32 := Scalar.andi v2031 c1_i32_921
  ![v2145.toNat]
def k0_off392 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_920 : BitVec 32 := 1#32
  let v2144 : BitVec 32 := Scalar.andi v2031 c1_i32_920
  let c768_i32_922 : BitVec 32 := 768#32
  let c0_i32_923 : BitVec 32 := 0#32
  ![v2144.toNat, 768, 0]
def k0_off393 (v2142 : BitVec 32) : Fin 2 → Nat :=
  let c128_i32_919 : BitVec 32 := 128#32
  let v2143 : BitVec 32 := Scalar.muli v2142 c128_i32_919
  let c0_i32_924 : BitVec 32 := 0#32
  ![v2143.toNat, 0]

def k0_chk160 (arg24 : BitVec 32) (k0_t3 : Fin (k0_t3_loop arg24).trips) (v2142 : BitVec 32) : Prop :=
  (∀ (k0_h7 : k0_cond7 arg24 k0_t3 = 1#1), ∀ a, (k0_off393 v2142) a + S128x1536.size a ≤ S40960x1536.size a) ∧
  (∀ (k0_h7 : k0_cond7 arg24 k0_t3 = 1#1), ∀ (hinb : ∀ a, (k0_off393 v2142) a + S128x1536.size a ≤ S40960x1536.size a), (Rect.unit (s := S40960x1536) (k0_off393 v2142) S128x1536.size hinb).WholeWords (EltTy.packing .bf16))
theorem k0_off393_inb : ∀ (arg24 : BitVec 32) (k0_t3 : Fin (k0_t3_loop arg24).trips) (v2142 : BitVec 32) (k0_hw160 : k0_chk160 arg24 k0_t3 v2142), ∀ (k0_h7 : k0_cond7 arg24 k0_t3 = 1#1), ∀ a, (k0_off393 v2142) a + S128x1536.size a ≤ S40960x1536.size a := fun arg24 k0_t3 v2142 k0_hw160 k0_h7 => k0_hw160.1 k0_h7
theorem k0_off393_wordsbf16 : ∀ (arg24 : BitVec 32) (k0_t3 : Fin (k0_t3_loop arg24).trips) (v2142 : BitVec 32) (k0_hw160 : k0_chk160 arg24 k0_t3 v2142), ∀ (k0_h7 : k0_cond7 arg24 k0_t3 = 1#1), (Rect.unit (s := S40960x1536) (k0_off393 v2142) S128x1536.size (k0_off393_inb arg24 k0_t3 v2142 k0_hw160 k0_h7)).WholeWords (EltTy.packing .bf16) := fun arg24 k0_t3 v2142 k0_hw160 k0_h7 => k0_hw160.2 k0_h7 (k0_off393_inb arg24 k0_t3 v2142 k0_hw160 k0_h7)

def k0_off394 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let v2151 : Index := Scalar.indexCast v2031
  ![v2151.toNat]
def k0_off395 (v2152 : BitVec 32) : Fin 2 → Nat :=
  let c8_i32_925 : BitVec 32 := 8#32
  let v2153 : BitVec 32 := Scalar.muli v2152 c8_i32_925
  let c7_i32_926 : BitVec 32 := 7#32
  let v2154 : BitVec 32 := Scalar.addi v2153 c7_i32_926
  let c7_i32_927 : BitVec 32 := 7#32
  let v2155 : BitVec 32 := Scalar.shrui v2154 c7_i32_927
  let v2157 : Index := Scalar.indexCast v2155
  let c127_i32_928 : BitVec 32 := 127#32
  let v2156 : BitVec 32 := Scalar.andi v2154 c127_i32_928
  let v2158 : Index := Scalar.indexCast v2156
  ![v2157.toNat, v2158.toNat]

def k0_chk161 (arg24 : BitVec 32) (k0_t3 : Fin (k0_t3_loop arg24).trips) (v2152 : BitVec 32) : Prop :=
  (∀ (k0_h7 : k0_cond7 arg24 k0_t3 = 1#1), ∀ a, (k0_off395 v2152) a + S1x1.size a ≤ S8x128.size a)
theorem k0_off395_inb : ∀ (arg24 : BitVec 32) (k0_t3 : Fin (k0_t3_loop arg24).trips) (v2152 : BitVec 32) (k0_hw161 : k0_chk161 arg24 k0_t3 v2152), ∀ (k0_h7 : k0_cond7 arg24 k0_t3 = 1#1), ∀ a, (k0_off395 v2152) a + S1x1.size a ≤ S8x128.size a := fun arg24 k0_t3 v2152 k0_hw161 k0_h7 => k0_hw161 k0_h7

def k0_off396 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_931 : BitVec 32 := 1#32
  let v2162 : BitVec 32 := Scalar.andi v2031 c1_i32_931
  ![v2162.toNat]
def k0_off397 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.addi arg25 c1_i32_854
  let c1_i32_930 : BitVec 32 := 1#32
  let v2161 : BitVec 32 := Scalar.andi v2031 c1_i32_930
  let c896_i32_932 : BitVec 32 := 896#32
  let c0_i32_933 : BitVec 32 := 0#32
  ![v2161.toNat, 896, 0]
def k0_off398 (v2159 : BitVec 32) : Fin 2 → Nat :=
  let c128_i32_929 : BitVec 32 := 128#32
  let v2160 : BitVec 32 := Scalar.muli v2159 c128_i32_929
  let c0_i32_934 : BitVec 32 := 0#32
  ![v2160.toNat, 0]

def k0_chk162 (arg24 : BitVec 32) (k0_t3 : Fin (k0_t3_loop arg24).trips) (v2159 : BitVec 32) : Prop :=
  (∀ (k0_h7 : k0_cond7 arg24 k0_t3 = 1#1), ∀ a, (k0_off398 v2159) a + S128x1536.size a ≤ S40960x1536.size a) ∧
  (∀ (k0_h7 : k0_cond7 arg24 k0_t3 = 1#1), ∀ (hinb : ∀ a, (k0_off398 v2159) a + S128x1536.size a ≤ S40960x1536.size a), (Rect.unit (s := S40960x1536) (k0_off398 v2159) S128x1536.size hinb).WholeWords (EltTy.packing .bf16))
theorem k0_off398_inb : ∀ (arg24 : BitVec 32) (k0_t3 : Fin (k0_t3_loop arg24).trips) (v2159 : BitVec 32) (k0_hw162 : k0_chk162 arg24 k0_t3 v2159), ∀ (k0_h7 : k0_cond7 arg24 k0_t3 = 1#1), ∀ a, (k0_off398 v2159) a + S128x1536.size a ≤ S40960x1536.size a := fun arg24 k0_t3 v2159 k0_hw162 k0_h7 => k0_hw162.1 k0_h7
theorem k0_off398_wordsbf16 : ∀ (arg24 : BitVec 32) (k0_t3 : Fin (k0_t3_loop arg24).trips) (v2159 : BitVec 32) (k0_hw162 : k0_chk162 arg24 k0_t3 v2159), ∀ (k0_h7 : k0_cond7 arg24 k0_t3 = 1#1), (Rect.unit (s := S40960x1536) (k0_off398 v2159) S128x1536.size (k0_off398_inb arg24 k0_t3 v2159 k0_hw162 k0_h7)).WholeWords (EltTy.packing .bf16) := fun arg24 k0_t3 v2159 k0_hw162 k0_h7 => k0_hw162.2 k0_h7 (k0_off398_inb arg24 k0_t3 v2159 k0_hw162 k0_h7)

def k0_off399 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let v2032 : Index := Scalar.indexCast v2031
  ![v2032.toNat]
def k0_cond8 (arg24 : BitVec 32) (k0_t3 : Fin (k0_t3_loop arg24).trips) : BitVec 1 :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c0_i32_101 : BitVec 32 := 0#32
  let v274 : BitVec 1 := Scalar.cmpi .sgt arg25 c0_i32_101
  let v275 : BitVec 32 := Scalar.extui v274
  let c0_i32_102 : BitVec 32 := 0#32
  let v276 : BitVec 1 := Scalar.cmpi .ne v275 c0_i32_102
  v276

def k0_off400 (v2033 : BitVec 32) : Fin 2 → Nat :=
  let c8_i32_855 : BitVec 32 := 8#32
  let v2034 : BitVec 32 := Scalar.muli v2033 c8_i32_855
  let c0_i32_856 : BitVec 32 := 0#32
  let v2035 : BitVec 32 := Scalar.addi v2034 c0_i32_856
  let c7_i32_857 : BitVec 32 := 7#32
  let v2036 : BitVec 32 := Scalar.shrui v2035 c7_i32_857
  let v2038 : Index := Scalar.indexCast v2036
  let c127_i32_858 : BitVec 32 := 127#32
  let v2037 : BitVec 32 := Scalar.andi v2035 c127_i32_858
  let v2039 : Index := Scalar.indexCast v2037
  ![v2038.toNat, v2039.toNat]

def k0_chk163 (arg24 : BitVec 32) (k0_t3 : Fin (k0_t3_loop arg24).trips) (v2033 : BitVec 32) : Prop :=
  (∀ (k0_h8 : k0_cond8 arg24 k0_t3 = 1#1), ∀ a, (k0_off400 v2033) a + S1x1.size a ≤ S8x128.size a)
theorem k0_off400_inb : ∀ (arg24 : BitVec 32) (k0_t3 : Fin (k0_t3_loop arg24).trips) (v2033 : BitVec 32) (k0_hw163 : k0_chk163 arg24 k0_t3 v2033), ∀ (k0_h8 : k0_cond8 arg24 k0_t3 = 1#1), ∀ a, (k0_off400 v2033) a + S1x1.size a ≤ S8x128.size a := fun arg24 k0_t3 v2033 k0_hw163 k0_h8 => k0_hw163 k0_h8

def k0_off401 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_861 : BitVec 32 := 1#32
  let v2043 : BitVec 32 := Scalar.andi v2031 c1_i32_861
  ![v2043.toNat]
def k0_off402 (v2040 : BitVec 32) : Fin 2 → Nat :=
  let c128_i32_859 : BitVec 32 := 128#32
  let v2041 : BitVec 32 := Scalar.muli v2040 c128_i32_859
  let c0_i32_862 : BitVec 32 := 0#32
  ![v2041.toNat, 0]

def k0_off403 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_860 : BitVec 32 := 1#32
  let v2042 : BitVec 32 := Scalar.andi v2031 c1_i32_860
  let c0_i32_863 : BitVec 32 := 0#32
  let c0_i32_864 : BitVec 32 := 0#32
  ![v2042.toNat, 0, 0]

def k0_chk164 (arg24 : BitVec 32) (k0_t3 : Fin (k0_t3_loop arg24).trips) (v2040 : BitVec 32) : Prop :=
  (∀ (k0_h8 : k0_cond8 arg24 k0_t3 = 1#1), ∀ a, (k0_off402 v2040) a + S128x1536.size a ≤ S40960x1536.size a) ∧
  (∀ (k0_h8 : k0_cond8 arg24 k0_t3 = 1#1), ∀ (hinb : ∀ a, (k0_off402 v2040) a + S128x1536.size a ≤ S40960x1536.size a), (Rect.unit (s := S40960x1536) (k0_off402 v2040) S128x1536.size hinb).WholeWords (EltTy.packing .fp8e4m3))
theorem k0_off402_inb : ∀ (arg24 : BitVec 32) (k0_t3 : Fin (k0_t3_loop arg24).trips) (v2040 : BitVec 32) (k0_hw164 : k0_chk164 arg24 k0_t3 v2040), ∀ (k0_h8 : k0_cond8 arg24 k0_t3 = 1#1), ∀ a, (k0_off402 v2040) a + S128x1536.size a ≤ S40960x1536.size a := fun arg24 k0_t3 v2040 k0_hw164 k0_h8 => k0_hw164.1 k0_h8
theorem k0_off402_wordsfp8e4m3 : ∀ (arg24 : BitVec 32) (k0_t3 : Fin (k0_t3_loop arg24).trips) (v2040 : BitVec 32) (k0_hw164 : k0_chk164 arg24 k0_t3 v2040), ∀ (k0_h8 : k0_cond8 arg24 k0_t3 = 1#1), (Rect.unit (s := S40960x1536) (k0_off402 v2040) S128x1536.size (k0_off402_inb arg24 k0_t3 v2040 k0_hw164 k0_h8)).WholeWords (EltTy.packing .fp8e4m3) := fun arg24 k0_t3 v2040 k0_hw164 k0_h8 => k0_hw164.2 k0_h8 (k0_off402_inb arg24 k0_t3 v2040 k0_hw164 k0_h8)

def k0_off404 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let v2049 : Index := Scalar.indexCast v2031
  ![v2049.toNat]
def k0_off405 (v2050 : BitVec 32) : Fin 2 → Nat :=
  let c8_i32_865 : BitVec 32 := 8#32
  let v2051 : BitVec 32 := Scalar.muli v2050 c8_i32_865
  let c1_i32_866 : BitVec 32 := 1#32
  let v2052 : BitVec 32 := Scalar.addi v2051 c1_i32_866
  let c7_i32_867 : BitVec 32 := 7#32
  let v2053 : BitVec 32 := Scalar.shrui v2052 c7_i32_867
  let v2055 : Index := Scalar.indexCast v2053
  let c127_i32_868 : BitVec 32 := 127#32
  let v2054 : BitVec 32 := Scalar.andi v2052 c127_i32_868
  let v2056 : Index := Scalar.indexCast v2054
  ![v2055.toNat, v2056.toNat]

def k0_chk165 (arg24 : BitVec 32) (k0_t3 : Fin (k0_t3_loop arg24).trips) (v2050 : BitVec 32) : Prop :=
  (∀ (k0_h8 : k0_cond8 arg24 k0_t3 = 1#1), ∀ a, (k0_off405 v2050) a + S1x1.size a ≤ S8x128.size a)
theorem k0_off405_inb : ∀ (arg24 : BitVec 32) (k0_t3 : Fin (k0_t3_loop arg24).trips) (v2050 : BitVec 32) (k0_hw165 : k0_chk165 arg24 k0_t3 v2050), ∀ (k0_h8 : k0_cond8 arg24 k0_t3 = 1#1), ∀ a, (k0_off405 v2050) a + S1x1.size a ≤ S8x128.size a := fun arg24 k0_t3 v2050 k0_hw165 k0_h8 => k0_hw165 k0_h8

def k0_off406 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_871 : BitVec 32 := 1#32
  let v2060 : BitVec 32 := Scalar.andi v2031 c1_i32_871
  ![v2060.toNat]
def k0_off407 (v2057 : BitVec 32) : Fin 2 → Nat :=
  let c128_i32_869 : BitVec 32 := 128#32
  let v2058 : BitVec 32 := Scalar.muli v2057 c128_i32_869
  let c0_i32_872 : BitVec 32 := 0#32
  ![v2058.toNat, 0]

def k0_off408 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_870 : BitVec 32 := 1#32
  let v2059 : BitVec 32 := Scalar.andi v2031 c1_i32_870
  let c128_i32_873 : BitVec 32 := 128#32
  let c0_i32_874 : BitVec 32 := 0#32
  ![v2059.toNat, 128, 0]

def k0_chk166 (arg24 : BitVec 32) (k0_t3 : Fin (k0_t3_loop arg24).trips) (v2057 : BitVec 32) : Prop :=
  (∀ (k0_h8 : k0_cond8 arg24 k0_t3 = 1#1), ∀ a, (k0_off407 v2057) a + S128x1536.size a ≤ S40960x1536.size a) ∧
  (∀ (k0_h8 : k0_cond8 arg24 k0_t3 = 1#1), ∀ (hinb : ∀ a, (k0_off407 v2057) a + S128x1536.size a ≤ S40960x1536.size a), (Rect.unit (s := S40960x1536) (k0_off407 v2057) S128x1536.size hinb).WholeWords (EltTy.packing .fp8e4m3))
theorem k0_off407_inb : ∀ (arg24 : BitVec 32) (k0_t3 : Fin (k0_t3_loop arg24).trips) (v2057 : BitVec 32) (k0_hw166 : k0_chk166 arg24 k0_t3 v2057), ∀ (k0_h8 : k0_cond8 arg24 k0_t3 = 1#1), ∀ a, (k0_off407 v2057) a + S128x1536.size a ≤ S40960x1536.size a := fun arg24 k0_t3 v2057 k0_hw166 k0_h8 => k0_hw166.1 k0_h8
theorem k0_off407_wordsfp8e4m3 : ∀ (arg24 : BitVec 32) (k0_t3 : Fin (k0_t3_loop arg24).trips) (v2057 : BitVec 32) (k0_hw166 : k0_chk166 arg24 k0_t3 v2057), ∀ (k0_h8 : k0_cond8 arg24 k0_t3 = 1#1), (Rect.unit (s := S40960x1536) (k0_off407 v2057) S128x1536.size (k0_off407_inb arg24 k0_t3 v2057 k0_hw166 k0_h8)).WholeWords (EltTy.packing .fp8e4m3) := fun arg24 k0_t3 v2057 k0_hw166 k0_h8 => k0_hw166.2 k0_h8 (k0_off407_inb arg24 k0_t3 v2057 k0_hw166 k0_h8)

def k0_off409 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let v2066 : Index := Scalar.indexCast v2031
  ![v2066.toNat]
def k0_off410 (v2067 : BitVec 32) : Fin 2 → Nat :=
  let c8_i32_875 : BitVec 32 := 8#32
  let v2068 : BitVec 32 := Scalar.muli v2067 c8_i32_875
  let c2_i32_876 : BitVec 32 := 2#32
  let v2069 : BitVec 32 := Scalar.addi v2068 c2_i32_876
  let c7_i32_877 : BitVec 32 := 7#32
  let v2070 : BitVec 32 := Scalar.shrui v2069 c7_i32_877
  let v2072 : Index := Scalar.indexCast v2070
  let c127_i32_878 : BitVec 32 := 127#32
  let v2071 : BitVec 32 := Scalar.andi v2069 c127_i32_878
  let v2073 : Index := Scalar.indexCast v2071
  ![v2072.toNat, v2073.toNat]

def k0_chk167 (arg24 : BitVec 32) (k0_t3 : Fin (k0_t3_loop arg24).trips) (v2067 : BitVec 32) : Prop :=
  (∀ (k0_h8 : k0_cond8 arg24 k0_t3 = 1#1), ∀ a, (k0_off410 v2067) a + S1x1.size a ≤ S8x128.size a)
theorem k0_off410_inb : ∀ (arg24 : BitVec 32) (k0_t3 : Fin (k0_t3_loop arg24).trips) (v2067 : BitVec 32) (k0_hw167 : k0_chk167 arg24 k0_t3 v2067), ∀ (k0_h8 : k0_cond8 arg24 k0_t3 = 1#1), ∀ a, (k0_off410 v2067) a + S1x1.size a ≤ S8x128.size a := fun arg24 k0_t3 v2067 k0_hw167 k0_h8 => k0_hw167 k0_h8

def k0_off411 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_881 : BitVec 32 := 1#32
  let v2077 : BitVec 32 := Scalar.andi v2031 c1_i32_881
  ![v2077.toNat]
def k0_off412 (v2074 : BitVec 32) : Fin 2 → Nat :=
  let c128_i32_879 : BitVec 32 := 128#32
  let v2075 : BitVec 32 := Scalar.muli v2074 c128_i32_879
  let c0_i32_882 : BitVec 32 := 0#32
  ![v2075.toNat, 0]

def k0_off413 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_880 : BitVec 32 := 1#32
  let v2076 : BitVec 32 := Scalar.andi v2031 c1_i32_880
  let c256_i32_883 : BitVec 32 := 256#32
  let c0_i32_884 : BitVec 32 := 0#32
  ![v2076.toNat, 256, 0]

def k0_chk168 (arg24 : BitVec 32) (k0_t3 : Fin (k0_t3_loop arg24).trips) (v2074 : BitVec 32) : Prop :=
  (∀ (k0_h8 : k0_cond8 arg24 k0_t3 = 1#1), ∀ a, (k0_off412 v2074) a + S128x1536.size a ≤ S40960x1536.size a) ∧
  (∀ (k0_h8 : k0_cond8 arg24 k0_t3 = 1#1), ∀ (hinb : ∀ a, (k0_off412 v2074) a + S128x1536.size a ≤ S40960x1536.size a), (Rect.unit (s := S40960x1536) (k0_off412 v2074) S128x1536.size hinb).WholeWords (EltTy.packing .fp8e4m3))
theorem k0_off412_inb : ∀ (arg24 : BitVec 32) (k0_t3 : Fin (k0_t3_loop arg24).trips) (v2074 : BitVec 32) (k0_hw168 : k0_chk168 arg24 k0_t3 v2074), ∀ (k0_h8 : k0_cond8 arg24 k0_t3 = 1#1), ∀ a, (k0_off412 v2074) a + S128x1536.size a ≤ S40960x1536.size a := fun arg24 k0_t3 v2074 k0_hw168 k0_h8 => k0_hw168.1 k0_h8
theorem k0_off412_wordsfp8e4m3 : ∀ (arg24 : BitVec 32) (k0_t3 : Fin (k0_t3_loop arg24).trips) (v2074 : BitVec 32) (k0_hw168 : k0_chk168 arg24 k0_t3 v2074), ∀ (k0_h8 : k0_cond8 arg24 k0_t3 = 1#1), (Rect.unit (s := S40960x1536) (k0_off412 v2074) S128x1536.size (k0_off412_inb arg24 k0_t3 v2074 k0_hw168 k0_h8)).WholeWords (EltTy.packing .fp8e4m3) := fun arg24 k0_t3 v2074 k0_hw168 k0_h8 => k0_hw168.2 k0_h8 (k0_off412_inb arg24 k0_t3 v2074 k0_hw168 k0_h8)

def k0_off414 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let v2083 : Index := Scalar.indexCast v2031
  ![v2083.toNat]
def k0_off415 (v2084 : BitVec 32) : Fin 2 → Nat :=
  let c8_i32_885 : BitVec 32 := 8#32
  let v2085 : BitVec 32 := Scalar.muli v2084 c8_i32_885
  let c3_i32_886 : BitVec 32 := 3#32
  let v2086 : BitVec 32 := Scalar.addi v2085 c3_i32_886
  let c7_i32_887 : BitVec 32 := 7#32
  let v2087 : BitVec 32 := Scalar.shrui v2086 c7_i32_887
  let v2089 : Index := Scalar.indexCast v2087
  let c127_i32_888 : BitVec 32 := 127#32
  let v2088 : BitVec 32 := Scalar.andi v2086 c127_i32_888
  let v2090 : Index := Scalar.indexCast v2088
  ![v2089.toNat, v2090.toNat]

def k0_chk169 (arg24 : BitVec 32) (k0_t3 : Fin (k0_t3_loop arg24).trips) (v2084 : BitVec 32) : Prop :=
  (∀ (k0_h8 : k0_cond8 arg24 k0_t3 = 1#1), ∀ a, (k0_off415 v2084) a + S1x1.size a ≤ S8x128.size a)
theorem k0_off415_inb : ∀ (arg24 : BitVec 32) (k0_t3 : Fin (k0_t3_loop arg24).trips) (v2084 : BitVec 32) (k0_hw169 : k0_chk169 arg24 k0_t3 v2084), ∀ (k0_h8 : k0_cond8 arg24 k0_t3 = 1#1), ∀ a, (k0_off415 v2084) a + S1x1.size a ≤ S8x128.size a := fun arg24 k0_t3 v2084 k0_hw169 k0_h8 => k0_hw169 k0_h8

def k0_off416 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_891 : BitVec 32 := 1#32
  let v2094 : BitVec 32 := Scalar.andi v2031 c1_i32_891
  ![v2094.toNat]
def k0_off417 (v2091 : BitVec 32) : Fin 2 → Nat :=
  let c128_i32_889 : BitVec 32 := 128#32
  let v2092 : BitVec 32 := Scalar.muli v2091 c128_i32_889
  let c0_i32_892 : BitVec 32 := 0#32
  ![v2092.toNat, 0]

def k0_off418 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_890 : BitVec 32 := 1#32
  let v2093 : BitVec 32 := Scalar.andi v2031 c1_i32_890
  let c384_i32_893 : BitVec 32 := 384#32
  let c0_i32_894 : BitVec 32 := 0#32
  ![v2093.toNat, 384, 0]

def k0_chk170 (arg24 : BitVec 32) (k0_t3 : Fin (k0_t3_loop arg24).trips) (v2091 : BitVec 32) : Prop :=
  (∀ (k0_h8 : k0_cond8 arg24 k0_t3 = 1#1), ∀ a, (k0_off417 v2091) a + S128x1536.size a ≤ S40960x1536.size a) ∧
  (∀ (k0_h8 : k0_cond8 arg24 k0_t3 = 1#1), ∀ (hinb : ∀ a, (k0_off417 v2091) a + S128x1536.size a ≤ S40960x1536.size a), (Rect.unit (s := S40960x1536) (k0_off417 v2091) S128x1536.size hinb).WholeWords (EltTy.packing .fp8e4m3))
theorem k0_off417_inb : ∀ (arg24 : BitVec 32) (k0_t3 : Fin (k0_t3_loop arg24).trips) (v2091 : BitVec 32) (k0_hw170 : k0_chk170 arg24 k0_t3 v2091), ∀ (k0_h8 : k0_cond8 arg24 k0_t3 = 1#1), ∀ a, (k0_off417 v2091) a + S128x1536.size a ≤ S40960x1536.size a := fun arg24 k0_t3 v2091 k0_hw170 k0_h8 => k0_hw170.1 k0_h8
theorem k0_off417_wordsfp8e4m3 : ∀ (arg24 : BitVec 32) (k0_t3 : Fin (k0_t3_loop arg24).trips) (v2091 : BitVec 32) (k0_hw170 : k0_chk170 arg24 k0_t3 v2091), ∀ (k0_h8 : k0_cond8 arg24 k0_t3 = 1#1), (Rect.unit (s := S40960x1536) (k0_off417 v2091) S128x1536.size (k0_off417_inb arg24 k0_t3 v2091 k0_hw170 k0_h8)).WholeWords (EltTy.packing .fp8e4m3) := fun arg24 k0_t3 v2091 k0_hw170 k0_h8 => k0_hw170.2 k0_h8 (k0_off417_inb arg24 k0_t3 v2091 k0_hw170 k0_h8)

def k0_off419 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let v2100 : Index := Scalar.indexCast v2031
  ![v2100.toNat]
def k0_off420 (v2101 : BitVec 32) : Fin 2 → Nat :=
  let c8_i32_895 : BitVec 32 := 8#32
  let v2102 : BitVec 32 := Scalar.muli v2101 c8_i32_895
  let c4_i32_896 : BitVec 32 := 4#32
  let v2103 : BitVec 32 := Scalar.addi v2102 c4_i32_896
  let c7_i32_897 : BitVec 32 := 7#32
  let v2104 : BitVec 32 := Scalar.shrui v2103 c7_i32_897
  let v2106 : Index := Scalar.indexCast v2104
  let c127_i32_898 : BitVec 32 := 127#32
  let v2105 : BitVec 32 := Scalar.andi v2103 c127_i32_898
  let v2107 : Index := Scalar.indexCast v2105
  ![v2106.toNat, v2107.toNat]

def k0_chk171 (arg24 : BitVec 32) (k0_t3 : Fin (k0_t3_loop arg24).trips) (v2101 : BitVec 32) : Prop :=
  (∀ (k0_h8 : k0_cond8 arg24 k0_t3 = 1#1), ∀ a, (k0_off420 v2101) a + S1x1.size a ≤ S8x128.size a)
theorem k0_off420_inb : ∀ (arg24 : BitVec 32) (k0_t3 : Fin (k0_t3_loop arg24).trips) (v2101 : BitVec 32) (k0_hw171 : k0_chk171 arg24 k0_t3 v2101), ∀ (k0_h8 : k0_cond8 arg24 k0_t3 = 1#1), ∀ a, (k0_off420 v2101) a + S1x1.size a ≤ S8x128.size a := fun arg24 k0_t3 v2101 k0_hw171 k0_h8 => k0_hw171 k0_h8

def k0_off421 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_901 : BitVec 32 := 1#32
  let v2111 : BitVec 32 := Scalar.andi v2031 c1_i32_901
  ![v2111.toNat]
def k0_off422 (v2108 : BitVec 32) : Fin 2 → Nat :=
  let c128_i32_899 : BitVec 32 := 128#32
  let v2109 : BitVec 32 := Scalar.muli v2108 c128_i32_899
  let c0_i32_902 : BitVec 32 := 0#32
  ![v2109.toNat, 0]

def k0_off423 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_900 : BitVec 32 := 1#32
  let v2110 : BitVec 32 := Scalar.andi v2031 c1_i32_900
  let c512_i32_903 : BitVec 32 := 512#32
  let c0_i32_904 : BitVec 32 := 0#32
  ![v2110.toNat, 512, 0]

def k0_chk172 (arg24 : BitVec 32) (k0_t3 : Fin (k0_t3_loop arg24).trips) (v2108 : BitVec 32) : Prop :=
  (∀ (k0_h8 : k0_cond8 arg24 k0_t3 = 1#1), ∀ a, (k0_off422 v2108) a + S128x1536.size a ≤ S40960x1536.size a) ∧
  (∀ (k0_h8 : k0_cond8 arg24 k0_t3 = 1#1), ∀ (hinb : ∀ a, (k0_off422 v2108) a + S128x1536.size a ≤ S40960x1536.size a), (Rect.unit (s := S40960x1536) (k0_off422 v2108) S128x1536.size hinb).WholeWords (EltTy.packing .fp8e4m3))
theorem k0_off422_inb : ∀ (arg24 : BitVec 32) (k0_t3 : Fin (k0_t3_loop arg24).trips) (v2108 : BitVec 32) (k0_hw172 : k0_chk172 arg24 k0_t3 v2108), ∀ (k0_h8 : k0_cond8 arg24 k0_t3 = 1#1), ∀ a, (k0_off422 v2108) a + S128x1536.size a ≤ S40960x1536.size a := fun arg24 k0_t3 v2108 k0_hw172 k0_h8 => k0_hw172.1 k0_h8
theorem k0_off422_wordsfp8e4m3 : ∀ (arg24 : BitVec 32) (k0_t3 : Fin (k0_t3_loop arg24).trips) (v2108 : BitVec 32) (k0_hw172 : k0_chk172 arg24 k0_t3 v2108), ∀ (k0_h8 : k0_cond8 arg24 k0_t3 = 1#1), (Rect.unit (s := S40960x1536) (k0_off422 v2108) S128x1536.size (k0_off422_inb arg24 k0_t3 v2108 k0_hw172 k0_h8)).WholeWords (EltTy.packing .fp8e4m3) := fun arg24 k0_t3 v2108 k0_hw172 k0_h8 => k0_hw172.2 k0_h8 (k0_off422_inb arg24 k0_t3 v2108 k0_hw172 k0_h8)

def k0_off424 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let v2117 : Index := Scalar.indexCast v2031
  ![v2117.toNat]
def k0_off425 (v2118 : BitVec 32) : Fin 2 → Nat :=
  let c8_i32_905 : BitVec 32 := 8#32
  let v2119 : BitVec 32 := Scalar.muli v2118 c8_i32_905
  let c5_i32_906 : BitVec 32 := 5#32
  let v2120 : BitVec 32 := Scalar.addi v2119 c5_i32_906
  let c7_i32_907 : BitVec 32 := 7#32
  let v2121 : BitVec 32 := Scalar.shrui v2120 c7_i32_907
  let v2123 : Index := Scalar.indexCast v2121
  let c127_i32_908 : BitVec 32 := 127#32
  let v2122 : BitVec 32 := Scalar.andi v2120 c127_i32_908
  let v2124 : Index := Scalar.indexCast v2122
  ![v2123.toNat, v2124.toNat]

def k0_chk173 (arg24 : BitVec 32) (k0_t3 : Fin (k0_t3_loop arg24).trips) (v2118 : BitVec 32) : Prop :=
  (∀ (k0_h8 : k0_cond8 arg24 k0_t3 = 1#1), ∀ a, (k0_off425 v2118) a + S1x1.size a ≤ S8x128.size a)
theorem k0_off425_inb : ∀ (arg24 : BitVec 32) (k0_t3 : Fin (k0_t3_loop arg24).trips) (v2118 : BitVec 32) (k0_hw173 : k0_chk173 arg24 k0_t3 v2118), ∀ (k0_h8 : k0_cond8 arg24 k0_t3 = 1#1), ∀ a, (k0_off425 v2118) a + S1x1.size a ≤ S8x128.size a := fun arg24 k0_t3 v2118 k0_hw173 k0_h8 => k0_hw173 k0_h8

def k0_off426 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_911 : BitVec 32 := 1#32
  let v2128 : BitVec 32 := Scalar.andi v2031 c1_i32_911
  ![v2128.toNat]
def k0_off427 (v2125 : BitVec 32) : Fin 2 → Nat :=
  let c128_i32_909 : BitVec 32 := 128#32
  let v2126 : BitVec 32 := Scalar.muli v2125 c128_i32_909
  let c0_i32_912 : BitVec 32 := 0#32
  ![v2126.toNat, 0]

def k0_off428 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_910 : BitVec 32 := 1#32
  let v2127 : BitVec 32 := Scalar.andi v2031 c1_i32_910
  let c640_i32_913 : BitVec 32 := 640#32
  let c0_i32_914 : BitVec 32 := 0#32
  ![v2127.toNat, 640, 0]

def k0_chk174 (arg24 : BitVec 32) (k0_t3 : Fin (k0_t3_loop arg24).trips) (v2125 : BitVec 32) : Prop :=
  (∀ (k0_h8 : k0_cond8 arg24 k0_t3 = 1#1), ∀ a, (k0_off427 v2125) a + S128x1536.size a ≤ S40960x1536.size a) ∧
  (∀ (k0_h8 : k0_cond8 arg24 k0_t3 = 1#1), ∀ (hinb : ∀ a, (k0_off427 v2125) a + S128x1536.size a ≤ S40960x1536.size a), (Rect.unit (s := S40960x1536) (k0_off427 v2125) S128x1536.size hinb).WholeWords (EltTy.packing .fp8e4m3))
theorem k0_off427_inb : ∀ (arg24 : BitVec 32) (k0_t3 : Fin (k0_t3_loop arg24).trips) (v2125 : BitVec 32) (k0_hw174 : k0_chk174 arg24 k0_t3 v2125), ∀ (k0_h8 : k0_cond8 arg24 k0_t3 = 1#1), ∀ a, (k0_off427 v2125) a + S128x1536.size a ≤ S40960x1536.size a := fun arg24 k0_t3 v2125 k0_hw174 k0_h8 => k0_hw174.1 k0_h8
theorem k0_off427_wordsfp8e4m3 : ∀ (arg24 : BitVec 32) (k0_t3 : Fin (k0_t3_loop arg24).trips) (v2125 : BitVec 32) (k0_hw174 : k0_chk174 arg24 k0_t3 v2125), ∀ (k0_h8 : k0_cond8 arg24 k0_t3 = 1#1), (Rect.unit (s := S40960x1536) (k0_off427 v2125) S128x1536.size (k0_off427_inb arg24 k0_t3 v2125 k0_hw174 k0_h8)).WholeWords (EltTy.packing .fp8e4m3) := fun arg24 k0_t3 v2125 k0_hw174 k0_h8 => k0_hw174.2 k0_h8 (k0_off427_inb arg24 k0_t3 v2125 k0_hw174 k0_h8)

def k0_off429 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let v2134 : Index := Scalar.indexCast v2031
  ![v2134.toNat]
def k0_off430 (v2135 : BitVec 32) : Fin 2 → Nat :=
  let c8_i32_915 : BitVec 32 := 8#32
  let v2136 : BitVec 32 := Scalar.muli v2135 c8_i32_915
  let c6_i32_916 : BitVec 32 := 6#32
  let v2137 : BitVec 32 := Scalar.addi v2136 c6_i32_916
  let c7_i32_917 : BitVec 32 := 7#32
  let v2138 : BitVec 32 := Scalar.shrui v2137 c7_i32_917
  let v2140 : Index := Scalar.indexCast v2138
  let c127_i32_918 : BitVec 32 := 127#32
  let v2139 : BitVec 32 := Scalar.andi v2137 c127_i32_918
  let v2141 : Index := Scalar.indexCast v2139
  ![v2140.toNat, v2141.toNat]

def k0_chk175 (arg24 : BitVec 32) (k0_t3 : Fin (k0_t3_loop arg24).trips) (v2135 : BitVec 32) : Prop :=
  (∀ (k0_h8 : k0_cond8 arg24 k0_t3 = 1#1), ∀ a, (k0_off430 v2135) a + S1x1.size a ≤ S8x128.size a)
theorem k0_off430_inb : ∀ (arg24 : BitVec 32) (k0_t3 : Fin (k0_t3_loop arg24).trips) (v2135 : BitVec 32) (k0_hw175 : k0_chk175 arg24 k0_t3 v2135), ∀ (k0_h8 : k0_cond8 arg24 k0_t3 = 1#1), ∀ a, (k0_off430 v2135) a + S1x1.size a ≤ S8x128.size a := fun arg24 k0_t3 v2135 k0_hw175 k0_h8 => k0_hw175 k0_h8

def k0_off431 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_921 : BitVec 32 := 1#32
  let v2145 : BitVec 32 := Scalar.andi v2031 c1_i32_921
  ![v2145.toNat]
def k0_off432 (v2142 : BitVec 32) : Fin 2 → Nat :=
  let c128_i32_919 : BitVec 32 := 128#32
  let v2143 : BitVec 32 := Scalar.muli v2142 c128_i32_919
  let c0_i32_922 : BitVec 32 := 0#32
  ![v2143.toNat, 0]

def k0_off433 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_920 : BitVec 32 := 1#32
  let v2144 : BitVec 32 := Scalar.andi v2031 c1_i32_920
  let c768_i32_923 : BitVec 32 := 768#32
  let c0_i32_924 : BitVec 32 := 0#32
  ![v2144.toNat, 768, 0]

def k0_chk176 (arg24 : BitVec 32) (k0_t3 : Fin (k0_t3_loop arg24).trips) (v2142 : BitVec 32) : Prop :=
  (∀ (k0_h8 : k0_cond8 arg24 k0_t3 = 1#1), ∀ a, (k0_off432 v2142) a + S128x1536.size a ≤ S40960x1536.size a) ∧
  (∀ (k0_h8 : k0_cond8 arg24 k0_t3 = 1#1), ∀ (hinb : ∀ a, (k0_off432 v2142) a + S128x1536.size a ≤ S40960x1536.size a), (Rect.unit (s := S40960x1536) (k0_off432 v2142) S128x1536.size hinb).WholeWords (EltTy.packing .fp8e4m3))
theorem k0_off432_inb : ∀ (arg24 : BitVec 32) (k0_t3 : Fin (k0_t3_loop arg24).trips) (v2142 : BitVec 32) (k0_hw176 : k0_chk176 arg24 k0_t3 v2142), ∀ (k0_h8 : k0_cond8 arg24 k0_t3 = 1#1), ∀ a, (k0_off432 v2142) a + S128x1536.size a ≤ S40960x1536.size a := fun arg24 k0_t3 v2142 k0_hw176 k0_h8 => k0_hw176.1 k0_h8
theorem k0_off432_wordsfp8e4m3 : ∀ (arg24 : BitVec 32) (k0_t3 : Fin (k0_t3_loop arg24).trips) (v2142 : BitVec 32) (k0_hw176 : k0_chk176 arg24 k0_t3 v2142), ∀ (k0_h8 : k0_cond8 arg24 k0_t3 = 1#1), (Rect.unit (s := S40960x1536) (k0_off432 v2142) S128x1536.size (k0_off432_inb arg24 k0_t3 v2142 k0_hw176 k0_h8)).WholeWords (EltTy.packing .fp8e4m3) := fun arg24 k0_t3 v2142 k0_hw176 k0_h8 => k0_hw176.2 k0_h8 (k0_off432_inb arg24 k0_t3 v2142 k0_hw176 k0_h8)

def k0_off434 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let v2151 : Index := Scalar.indexCast v2031
  ![v2151.toNat]
def k0_off435 (v2152 : BitVec 32) : Fin 2 → Nat :=
  let c8_i32_925 : BitVec 32 := 8#32
  let v2153 : BitVec 32 := Scalar.muli v2152 c8_i32_925
  let c7_i32_926 : BitVec 32 := 7#32
  let v2154 : BitVec 32 := Scalar.addi v2153 c7_i32_926
  let c7_i32_927 : BitVec 32 := 7#32
  let v2155 : BitVec 32 := Scalar.shrui v2154 c7_i32_927
  let v2157 : Index := Scalar.indexCast v2155
  let c127_i32_928 : BitVec 32 := 127#32
  let v2156 : BitVec 32 := Scalar.andi v2154 c127_i32_928
  let v2158 : Index := Scalar.indexCast v2156
  ![v2157.toNat, v2158.toNat]

def k0_chk177 (arg24 : BitVec 32) (k0_t3 : Fin (k0_t3_loop arg24).trips) (v2152 : BitVec 32) : Prop :=
  (∀ (k0_h8 : k0_cond8 arg24 k0_t3 = 1#1), ∀ a, (k0_off435 v2152) a + S1x1.size a ≤ S8x128.size a)
theorem k0_off435_inb : ∀ (arg24 : BitVec 32) (k0_t3 : Fin (k0_t3_loop arg24).trips) (v2152 : BitVec 32) (k0_hw177 : k0_chk177 arg24 k0_t3 v2152), ∀ (k0_h8 : k0_cond8 arg24 k0_t3 = 1#1), ∀ a, (k0_off435 v2152) a + S1x1.size a ≤ S8x128.size a := fun arg24 k0_t3 v2152 k0_hw177 k0_h8 => k0_hw177 k0_h8

def k0_off436 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_931 : BitVec 32 := 1#32
  let v2162 : BitVec 32 := Scalar.andi v2031 c1_i32_931
  ![v2162.toNat]
def k0_off437 (v2159 : BitVec 32) : Fin 2 → Nat :=
  let c128_i32_929 : BitVec 32 := 128#32
  let v2160 : BitVec 32 := Scalar.muli v2159 c128_i32_929
  let c0_i32_932 : BitVec 32 := 0#32
  ![v2160.toNat, 0]

def k0_off438 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_854 : BitVec 32 := 1#32
  let v2031 : BitVec 32 := Scalar.subi arg25 c1_i32_854
  let c1_i32_930 : BitVec 32 := 1#32
  let v2161 : BitVec 32 := Scalar.andi v2031 c1_i32_930
  let c896_i32_933 : BitVec 32 := 896#32
  let c0_i32_934 : BitVec 32 := 0#32
  ![v2161.toNat, 896, 0]

def k0_chk178 (arg24 : BitVec 32) (k0_t3 : Fin (k0_t3_loop arg24).trips) (v2159 : BitVec 32) : Prop :=
  (∀ (k0_h8 : k0_cond8 arg24 k0_t3 = 1#1), ∀ a, (k0_off437 v2159) a + S128x1536.size a ≤ S40960x1536.size a) ∧
  (∀ (k0_h8 : k0_cond8 arg24 k0_t3 = 1#1), ∀ (hinb : ∀ a, (k0_off437 v2159) a + S128x1536.size a ≤ S40960x1536.size a), (Rect.unit (s := S40960x1536) (k0_off437 v2159) S128x1536.size hinb).WholeWords (EltTy.packing .fp8e4m3))
theorem k0_off437_inb : ∀ (arg24 : BitVec 32) (k0_t3 : Fin (k0_t3_loop arg24).trips) (v2159 : BitVec 32) (k0_hw178 : k0_chk178 arg24 k0_t3 v2159), ∀ (k0_h8 : k0_cond8 arg24 k0_t3 = 1#1), ∀ a, (k0_off437 v2159) a + S128x1536.size a ≤ S40960x1536.size a := fun arg24 k0_t3 v2159 k0_hw178 k0_h8 => k0_hw178.1 k0_h8
theorem k0_off437_wordsfp8e4m3 : ∀ (arg24 : BitVec 32) (k0_t3 : Fin (k0_t3_loop arg24).trips) (v2159 : BitVec 32) (k0_hw178 : k0_chk178 arg24 k0_t3 v2159), ∀ (k0_h8 : k0_cond8 arg24 k0_t3 = 1#1), (Rect.unit (s := S40960x1536) (k0_off437 v2159) S128x1536.size (k0_off437_inb arg24 k0_t3 v2159 k0_hw178 k0_h8)).WholeWords (EltTy.packing .fp8e4m3) := fun arg24 k0_t3 v2159 k0_hw178 k0_h8 => k0_hw178.2 k0_h8 (k0_off437_inb arg24 k0_t3 v2159 k0_hw178 k0_h8)

def k0_off439 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let v2169 : Index := Scalar.indexCast v2168
  ![v2169.toNat]
def k0_off440 (v2170 : BitVec 32) : Fin 2 → Nat :=
  let c8_i32_936 : BitVec 32 := 8#32
  let v2171 : BitVec 32 := Scalar.muli v2170 c8_i32_936
  let c0_i32_937 : BitVec 32 := 0#32
  let v2172 : BitVec 32 := Scalar.addi v2171 c0_i32_937
  let c7_i32_938 : BitVec 32 := 7#32
  let v2173 : BitVec 32 := Scalar.shrui v2172 c7_i32_938
  let v2175 : Index := Scalar.indexCast v2173
  let c127_i32_939 : BitVec 32 := 127#32
  let v2174 : BitVec 32 := Scalar.andi v2172 c127_i32_939
  let v2176 : Index := Scalar.indexCast v2174
  ![v2175.toNat, v2176.toNat]

def k0_chk179 (arg24 : BitVec 32) (k0_t3 : Fin (k0_t3_loop arg24).trips) (v2170 : BitVec 32) : Prop :=
  (∀ (k0_h8 : k0_cond8 arg24 k0_t3 = 1#1), ∀ a, (k0_off440 v2170) a + S1x1.size a ≤ S8x128.size a)
theorem k0_off440_inb : ∀ (arg24 : BitVec 32) (k0_t3 : Fin (k0_t3_loop arg24).trips) (v2170 : BitVec 32) (k0_hw179 : k0_chk179 arg24 k0_t3 v2170), ∀ (k0_h8 : k0_cond8 arg24 k0_t3 = 1#1), ∀ a, (k0_off440 v2170) a + S1x1.size a ≤ S8x128.size a := fun arg24 k0_t3 v2170 k0_hw179 k0_h8 => k0_hw179 k0_h8

def k0_off441 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_942 : BitVec 32 := 1#32
  let v2180 : BitVec 32 := Scalar.andi v2168 c1_i32_942
  ![v2180.toNat]
def k0_off442 (v2177 : BitVec 32) : Fin 2 → Nat :=
  let c128_i32_940 : BitVec 32 := 128#32
  let v2178 : BitVec 32 := Scalar.muli v2177 c128_i32_940
  let c0_i32_943 : BitVec 32 := 0#32
  ![v2178.toNat, 0]

def k0_off443 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_941 : BitVec 32 := 1#32
  let v2179 : BitVec 32 := Scalar.andi v2168 c1_i32_941
  let c0_i32_944 : BitVec 32 := 0#32
  let c0_i32_945 : BitVec 32 := 0#32
  ![v2179.toNat, 0, 0]

def k0_chk180 (arg24 : BitVec 32) (k0_t3 : Fin (k0_t3_loop arg24).trips) (v2177 : BitVec 32) : Prop :=
  (∀ (k0_h8 : k0_cond8 arg24 k0_t3 = 1#1), ∀ a, (k0_off442 v2177) a + S128x8960.size a ≤ S40960x8960.size a) ∧
  (∀ (k0_h8 : k0_cond8 arg24 k0_t3 = 1#1), ∀ (hinb : ∀ a, (k0_off442 v2177) a + S128x8960.size a ≤ S40960x8960.size a), (Rect.unit (s := S40960x8960) (k0_off442 v2177) S128x8960.size hinb).WholeWords (EltTy.packing .fp8e4m3))
theorem k0_off442_inb : ∀ (arg24 : BitVec 32) (k0_t3 : Fin (k0_t3_loop arg24).trips) (v2177 : BitVec 32) (k0_hw180 : k0_chk180 arg24 k0_t3 v2177), ∀ (k0_h8 : k0_cond8 arg24 k0_t3 = 1#1), ∀ a, (k0_off442 v2177) a + S128x8960.size a ≤ S40960x8960.size a := fun arg24 k0_t3 v2177 k0_hw180 k0_h8 => k0_hw180.1 k0_h8
theorem k0_off442_wordsfp8e4m3 : ∀ (arg24 : BitVec 32) (k0_t3 : Fin (k0_t3_loop arg24).trips) (v2177 : BitVec 32) (k0_hw180 : k0_chk180 arg24 k0_t3 v2177), ∀ (k0_h8 : k0_cond8 arg24 k0_t3 = 1#1), (Rect.unit (s := S40960x8960) (k0_off442 v2177) S128x8960.size (k0_off442_inb arg24 k0_t3 v2177 k0_hw180 k0_h8)).WholeWords (EltTy.packing .fp8e4m3) := fun arg24 k0_t3 v2177 k0_hw180 k0_h8 => k0_hw180.2 k0_h8 (k0_off442_inb arg24 k0_t3 v2177 k0_hw180 k0_h8)

def k0_off444 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let v2186 : Index := Scalar.indexCast v2168
  ![v2186.toNat]
def k0_off445 (v2187 : BitVec 32) : Fin 2 → Nat :=
  let c8_i32_946 : BitVec 32 := 8#32
  let v2188 : BitVec 32 := Scalar.muli v2187 c8_i32_946
  let c1_i32_947 : BitVec 32 := 1#32
  let v2189 : BitVec 32 := Scalar.addi v2188 c1_i32_947
  let c7_i32_948 : BitVec 32 := 7#32
  let v2190 : BitVec 32 := Scalar.shrui v2189 c7_i32_948
  let v2192 : Index := Scalar.indexCast v2190
  let c127_i32_949 : BitVec 32 := 127#32
  let v2191 : BitVec 32 := Scalar.andi v2189 c127_i32_949
  let v2193 : Index := Scalar.indexCast v2191
  ![v2192.toNat, v2193.toNat]

def k0_chk181 (arg24 : BitVec 32) (k0_t3 : Fin (k0_t3_loop arg24).trips) (v2187 : BitVec 32) : Prop :=
  (∀ (k0_h8 : k0_cond8 arg24 k0_t3 = 1#1), ∀ a, (k0_off445 v2187) a + S1x1.size a ≤ S8x128.size a)
theorem k0_off445_inb : ∀ (arg24 : BitVec 32) (k0_t3 : Fin (k0_t3_loop arg24).trips) (v2187 : BitVec 32) (k0_hw181 : k0_chk181 arg24 k0_t3 v2187), ∀ (k0_h8 : k0_cond8 arg24 k0_t3 = 1#1), ∀ a, (k0_off445 v2187) a + S1x1.size a ≤ S8x128.size a := fun arg24 k0_t3 v2187 k0_hw181 k0_h8 => k0_hw181 k0_h8

def k0_off446 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_952 : BitVec 32 := 1#32
  let v2197 : BitVec 32 := Scalar.andi v2168 c1_i32_952
  ![v2197.toNat]
def k0_off447 (v2194 : BitVec 32) : Fin 2 → Nat :=
  let c128_i32_950 : BitVec 32 := 128#32
  let v2195 : BitVec 32 := Scalar.muli v2194 c128_i32_950
  let c0_i32_953 : BitVec 32 := 0#32
  ![v2195.toNat, 0]

def k0_off448 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_951 : BitVec 32 := 1#32
  let v2196 : BitVec 32 := Scalar.andi v2168 c1_i32_951
  let c128_i32_954 : BitVec 32 := 128#32
  let c0_i32_955 : BitVec 32 := 0#32
  ![v2196.toNat, 128, 0]

def k0_chk182 (arg24 : BitVec 32) (k0_t3 : Fin (k0_t3_loop arg24).trips) (v2194 : BitVec 32) : Prop :=
  (∀ (k0_h8 : k0_cond8 arg24 k0_t3 = 1#1), ∀ a, (k0_off447 v2194) a + S128x8960.size a ≤ S40960x8960.size a) ∧
  (∀ (k0_h8 : k0_cond8 arg24 k0_t3 = 1#1), ∀ (hinb : ∀ a, (k0_off447 v2194) a + S128x8960.size a ≤ S40960x8960.size a), (Rect.unit (s := S40960x8960) (k0_off447 v2194) S128x8960.size hinb).WholeWords (EltTy.packing .fp8e4m3))
theorem k0_off447_inb : ∀ (arg24 : BitVec 32) (k0_t3 : Fin (k0_t3_loop arg24).trips) (v2194 : BitVec 32) (k0_hw182 : k0_chk182 arg24 k0_t3 v2194), ∀ (k0_h8 : k0_cond8 arg24 k0_t3 = 1#1), ∀ a, (k0_off447 v2194) a + S128x8960.size a ≤ S40960x8960.size a := fun arg24 k0_t3 v2194 k0_hw182 k0_h8 => k0_hw182.1 k0_h8
theorem k0_off447_wordsfp8e4m3 : ∀ (arg24 : BitVec 32) (k0_t3 : Fin (k0_t3_loop arg24).trips) (v2194 : BitVec 32) (k0_hw182 : k0_chk182 arg24 k0_t3 v2194), ∀ (k0_h8 : k0_cond8 arg24 k0_t3 = 1#1), (Rect.unit (s := S40960x8960) (k0_off447 v2194) S128x8960.size (k0_off447_inb arg24 k0_t3 v2194 k0_hw182 k0_h8)).WholeWords (EltTy.packing .fp8e4m3) := fun arg24 k0_t3 v2194 k0_hw182 k0_h8 => k0_hw182.2 k0_h8 (k0_off447_inb arg24 k0_t3 v2194 k0_hw182 k0_h8)

def k0_off449 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let v2203 : Index := Scalar.indexCast v2168
  ![v2203.toNat]
def k0_off450 (v2204 : BitVec 32) : Fin 2 → Nat :=
  let c8_i32_956 : BitVec 32 := 8#32
  let v2205 : BitVec 32 := Scalar.muli v2204 c8_i32_956
  let c2_i32_957 : BitVec 32 := 2#32
  let v2206 : BitVec 32 := Scalar.addi v2205 c2_i32_957
  let c7_i32_958 : BitVec 32 := 7#32
  let v2207 : BitVec 32 := Scalar.shrui v2206 c7_i32_958
  let v2209 : Index := Scalar.indexCast v2207
  let c127_i32_959 : BitVec 32 := 127#32
  let v2208 : BitVec 32 := Scalar.andi v2206 c127_i32_959
  let v2210 : Index := Scalar.indexCast v2208
  ![v2209.toNat, v2210.toNat]

def k0_chk183 (arg24 : BitVec 32) (k0_t3 : Fin (k0_t3_loop arg24).trips) (v2204 : BitVec 32) : Prop :=
  (∀ (k0_h8 : k0_cond8 arg24 k0_t3 = 1#1), ∀ a, (k0_off450 v2204) a + S1x1.size a ≤ S8x128.size a)
theorem k0_off450_inb : ∀ (arg24 : BitVec 32) (k0_t3 : Fin (k0_t3_loop arg24).trips) (v2204 : BitVec 32) (k0_hw183 : k0_chk183 arg24 k0_t3 v2204), ∀ (k0_h8 : k0_cond8 arg24 k0_t3 = 1#1), ∀ a, (k0_off450 v2204) a + S1x1.size a ≤ S8x128.size a := fun arg24 k0_t3 v2204 k0_hw183 k0_h8 => k0_hw183 k0_h8

def k0_off451 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_962 : BitVec 32 := 1#32
  let v2214 : BitVec 32 := Scalar.andi v2168 c1_i32_962
  ![v2214.toNat]
def k0_off452 (v2211 : BitVec 32) : Fin 2 → Nat :=
  let c128_i32_960 : BitVec 32 := 128#32
  let v2212 : BitVec 32 := Scalar.muli v2211 c128_i32_960
  let c0_i32_963 : BitVec 32 := 0#32
  ![v2212.toNat, 0]

def k0_off453 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_961 : BitVec 32 := 1#32
  let v2213 : BitVec 32 := Scalar.andi v2168 c1_i32_961
  let c256_i32_964 : BitVec 32 := 256#32
  let c0_i32_965 : BitVec 32 := 0#32
  ![v2213.toNat, 256, 0]

def k0_chk184 (arg24 : BitVec 32) (k0_t3 : Fin (k0_t3_loop arg24).trips) (v2211 : BitVec 32) : Prop :=
  (∀ (k0_h8 : k0_cond8 arg24 k0_t3 = 1#1), ∀ a, (k0_off452 v2211) a + S128x8960.size a ≤ S40960x8960.size a) ∧
  (∀ (k0_h8 : k0_cond8 arg24 k0_t3 = 1#1), ∀ (hinb : ∀ a, (k0_off452 v2211) a + S128x8960.size a ≤ S40960x8960.size a), (Rect.unit (s := S40960x8960) (k0_off452 v2211) S128x8960.size hinb).WholeWords (EltTy.packing .fp8e4m3))
theorem k0_off452_inb : ∀ (arg24 : BitVec 32) (k0_t3 : Fin (k0_t3_loop arg24).trips) (v2211 : BitVec 32) (k0_hw184 : k0_chk184 arg24 k0_t3 v2211), ∀ (k0_h8 : k0_cond8 arg24 k0_t3 = 1#1), ∀ a, (k0_off452 v2211) a + S128x8960.size a ≤ S40960x8960.size a := fun arg24 k0_t3 v2211 k0_hw184 k0_h8 => k0_hw184.1 k0_h8
theorem k0_off452_wordsfp8e4m3 : ∀ (arg24 : BitVec 32) (k0_t3 : Fin (k0_t3_loop arg24).trips) (v2211 : BitVec 32) (k0_hw184 : k0_chk184 arg24 k0_t3 v2211), ∀ (k0_h8 : k0_cond8 arg24 k0_t3 = 1#1), (Rect.unit (s := S40960x8960) (k0_off452 v2211) S128x8960.size (k0_off452_inb arg24 k0_t3 v2211 k0_hw184 k0_h8)).WholeWords (EltTy.packing .fp8e4m3) := fun arg24 k0_t3 v2211 k0_hw184 k0_h8 => k0_hw184.2 k0_h8 (k0_off452_inb arg24 k0_t3 v2211 k0_hw184 k0_h8)

def k0_off454 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let v2220 : Index := Scalar.indexCast v2168
  ![v2220.toNat]
def k0_off455 (v2221 : BitVec 32) : Fin 2 → Nat :=
  let c8_i32_966 : BitVec 32 := 8#32
  let v2222 : BitVec 32 := Scalar.muli v2221 c8_i32_966
  let c3_i32_967 : BitVec 32 := 3#32
  let v2223 : BitVec 32 := Scalar.addi v2222 c3_i32_967
  let c7_i32_968 : BitVec 32 := 7#32
  let v2224 : BitVec 32 := Scalar.shrui v2223 c7_i32_968
  let v2226 : Index := Scalar.indexCast v2224
  let c127_i32_969 : BitVec 32 := 127#32
  let v2225 : BitVec 32 := Scalar.andi v2223 c127_i32_969
  let v2227 : Index := Scalar.indexCast v2225
  ![v2226.toNat, v2227.toNat]

def k0_chk185 (arg24 : BitVec 32) (k0_t3 : Fin (k0_t3_loop arg24).trips) (v2221 : BitVec 32) : Prop :=
  (∀ (k0_h8 : k0_cond8 arg24 k0_t3 = 1#1), ∀ a, (k0_off455 v2221) a + S1x1.size a ≤ S8x128.size a)
theorem k0_off455_inb : ∀ (arg24 : BitVec 32) (k0_t3 : Fin (k0_t3_loop arg24).trips) (v2221 : BitVec 32) (k0_hw185 : k0_chk185 arg24 k0_t3 v2221), ∀ (k0_h8 : k0_cond8 arg24 k0_t3 = 1#1), ∀ a, (k0_off455 v2221) a + S1x1.size a ≤ S8x128.size a := fun arg24 k0_t3 v2221 k0_hw185 k0_h8 => k0_hw185 k0_h8

def k0_off456 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_972 : BitVec 32 := 1#32
  let v2231 : BitVec 32 := Scalar.andi v2168 c1_i32_972
  ![v2231.toNat]
def k0_off457 (v2228 : BitVec 32) : Fin 2 → Nat :=
  let c128_i32_970 : BitVec 32 := 128#32
  let v2229 : BitVec 32 := Scalar.muli v2228 c128_i32_970
  let c0_i32_973 : BitVec 32 := 0#32
  ![v2229.toNat, 0]

def k0_off458 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_971 : BitVec 32 := 1#32
  let v2230 : BitVec 32 := Scalar.andi v2168 c1_i32_971
  let c384_i32_974 : BitVec 32 := 384#32
  let c0_i32_975 : BitVec 32 := 0#32
  ![v2230.toNat, 384, 0]

def k0_chk186 (arg24 : BitVec 32) (k0_t3 : Fin (k0_t3_loop arg24).trips) (v2228 : BitVec 32) : Prop :=
  (∀ (k0_h8 : k0_cond8 arg24 k0_t3 = 1#1), ∀ a, (k0_off457 v2228) a + S128x8960.size a ≤ S40960x8960.size a) ∧
  (∀ (k0_h8 : k0_cond8 arg24 k0_t3 = 1#1), ∀ (hinb : ∀ a, (k0_off457 v2228) a + S128x8960.size a ≤ S40960x8960.size a), (Rect.unit (s := S40960x8960) (k0_off457 v2228) S128x8960.size hinb).WholeWords (EltTy.packing .fp8e4m3))
theorem k0_off457_inb : ∀ (arg24 : BitVec 32) (k0_t3 : Fin (k0_t3_loop arg24).trips) (v2228 : BitVec 32) (k0_hw186 : k0_chk186 arg24 k0_t3 v2228), ∀ (k0_h8 : k0_cond8 arg24 k0_t3 = 1#1), ∀ a, (k0_off457 v2228) a + S128x8960.size a ≤ S40960x8960.size a := fun arg24 k0_t3 v2228 k0_hw186 k0_h8 => k0_hw186.1 k0_h8
theorem k0_off457_wordsfp8e4m3 : ∀ (arg24 : BitVec 32) (k0_t3 : Fin (k0_t3_loop arg24).trips) (v2228 : BitVec 32) (k0_hw186 : k0_chk186 arg24 k0_t3 v2228), ∀ (k0_h8 : k0_cond8 arg24 k0_t3 = 1#1), (Rect.unit (s := S40960x8960) (k0_off457 v2228) S128x8960.size (k0_off457_inb arg24 k0_t3 v2228 k0_hw186 k0_h8)).WholeWords (EltTy.packing .fp8e4m3) := fun arg24 k0_t3 v2228 k0_hw186 k0_h8 => k0_hw186.2 k0_h8 (k0_off457_inb arg24 k0_t3 v2228 k0_hw186 k0_h8)

def k0_off459 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let v2237 : Index := Scalar.indexCast v2168
  ![v2237.toNat]
def k0_off460 (v2238 : BitVec 32) : Fin 2 → Nat :=
  let c8_i32_976 : BitVec 32 := 8#32
  let v2239 : BitVec 32 := Scalar.muli v2238 c8_i32_976
  let c4_i32_977 : BitVec 32 := 4#32
  let v2240 : BitVec 32 := Scalar.addi v2239 c4_i32_977
  let c7_i32_978 : BitVec 32 := 7#32
  let v2241 : BitVec 32 := Scalar.shrui v2240 c7_i32_978
  let v2243 : Index := Scalar.indexCast v2241
  let c127_i32_979 : BitVec 32 := 127#32
  let v2242 : BitVec 32 := Scalar.andi v2240 c127_i32_979
  let v2244 : Index := Scalar.indexCast v2242
  ![v2243.toNat, v2244.toNat]

def k0_chk187 (arg24 : BitVec 32) (k0_t3 : Fin (k0_t3_loop arg24).trips) (v2238 : BitVec 32) : Prop :=
  (∀ (k0_h8 : k0_cond8 arg24 k0_t3 = 1#1), ∀ a, (k0_off460 v2238) a + S1x1.size a ≤ S8x128.size a)
theorem k0_off460_inb : ∀ (arg24 : BitVec 32) (k0_t3 : Fin (k0_t3_loop arg24).trips) (v2238 : BitVec 32) (k0_hw187 : k0_chk187 arg24 k0_t3 v2238), ∀ (k0_h8 : k0_cond8 arg24 k0_t3 = 1#1), ∀ a, (k0_off460 v2238) a + S1x1.size a ≤ S8x128.size a := fun arg24 k0_t3 v2238 k0_hw187 k0_h8 => k0_hw187 k0_h8

def k0_off461 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_982 : BitVec 32 := 1#32
  let v2248 : BitVec 32 := Scalar.andi v2168 c1_i32_982
  ![v2248.toNat]
def k0_off462 (v2245 : BitVec 32) : Fin 2 → Nat :=
  let c128_i32_980 : BitVec 32 := 128#32
  let v2246 : BitVec 32 := Scalar.muli v2245 c128_i32_980
  let c0_i32_983 : BitVec 32 := 0#32
  ![v2246.toNat, 0]

def k0_off463 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_981 : BitVec 32 := 1#32
  let v2247 : BitVec 32 := Scalar.andi v2168 c1_i32_981
  let c512_i32_984 : BitVec 32 := 512#32
  let c0_i32_985 : BitVec 32 := 0#32
  ![v2247.toNat, 512, 0]

def k0_chk188 (arg24 : BitVec 32) (k0_t3 : Fin (k0_t3_loop arg24).trips) (v2245 : BitVec 32) : Prop :=
  (∀ (k0_h8 : k0_cond8 arg24 k0_t3 = 1#1), ∀ a, (k0_off462 v2245) a + S128x8960.size a ≤ S40960x8960.size a) ∧
  (∀ (k0_h8 : k0_cond8 arg24 k0_t3 = 1#1), ∀ (hinb : ∀ a, (k0_off462 v2245) a + S128x8960.size a ≤ S40960x8960.size a), (Rect.unit (s := S40960x8960) (k0_off462 v2245) S128x8960.size hinb).WholeWords (EltTy.packing .fp8e4m3))
theorem k0_off462_inb : ∀ (arg24 : BitVec 32) (k0_t3 : Fin (k0_t3_loop arg24).trips) (v2245 : BitVec 32) (k0_hw188 : k0_chk188 arg24 k0_t3 v2245), ∀ (k0_h8 : k0_cond8 arg24 k0_t3 = 1#1), ∀ a, (k0_off462 v2245) a + S128x8960.size a ≤ S40960x8960.size a := fun arg24 k0_t3 v2245 k0_hw188 k0_h8 => k0_hw188.1 k0_h8
theorem k0_off462_wordsfp8e4m3 : ∀ (arg24 : BitVec 32) (k0_t3 : Fin (k0_t3_loop arg24).trips) (v2245 : BitVec 32) (k0_hw188 : k0_chk188 arg24 k0_t3 v2245), ∀ (k0_h8 : k0_cond8 arg24 k0_t3 = 1#1), (Rect.unit (s := S40960x8960) (k0_off462 v2245) S128x8960.size (k0_off462_inb arg24 k0_t3 v2245 k0_hw188 k0_h8)).WholeWords (EltTy.packing .fp8e4m3) := fun arg24 k0_t3 v2245 k0_hw188 k0_h8 => k0_hw188.2 k0_h8 (k0_off462_inb arg24 k0_t3 v2245 k0_hw188 k0_h8)

def k0_off464 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let v2254 : Index := Scalar.indexCast v2168
  ![v2254.toNat]
def k0_off465 (v2255 : BitVec 32) : Fin 2 → Nat :=
  let c8_i32_986 : BitVec 32 := 8#32
  let v2256 : BitVec 32 := Scalar.muli v2255 c8_i32_986
  let c5_i32_987 : BitVec 32 := 5#32
  let v2257 : BitVec 32 := Scalar.addi v2256 c5_i32_987
  let c7_i32_988 : BitVec 32 := 7#32
  let v2258 : BitVec 32 := Scalar.shrui v2257 c7_i32_988
  let v2260 : Index := Scalar.indexCast v2258
  let c127_i32_989 : BitVec 32 := 127#32
  let v2259 : BitVec 32 := Scalar.andi v2257 c127_i32_989
  let v2261 : Index := Scalar.indexCast v2259
  ![v2260.toNat, v2261.toNat]

def k0_chk189 (arg24 : BitVec 32) (k0_t3 : Fin (k0_t3_loop arg24).trips) (v2255 : BitVec 32) : Prop :=
  (∀ (k0_h8 : k0_cond8 arg24 k0_t3 = 1#1), ∀ a, (k0_off465 v2255) a + S1x1.size a ≤ S8x128.size a)
theorem k0_off465_inb : ∀ (arg24 : BitVec 32) (k0_t3 : Fin (k0_t3_loop arg24).trips) (v2255 : BitVec 32) (k0_hw189 : k0_chk189 arg24 k0_t3 v2255), ∀ (k0_h8 : k0_cond8 arg24 k0_t3 = 1#1), ∀ a, (k0_off465 v2255) a + S1x1.size a ≤ S8x128.size a := fun arg24 k0_t3 v2255 k0_hw189 k0_h8 => k0_hw189 k0_h8

def k0_off466 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_992 : BitVec 32 := 1#32
  let v2265 : BitVec 32 := Scalar.andi v2168 c1_i32_992
  ![v2265.toNat]
def k0_off467 (v2262 : BitVec 32) : Fin 2 → Nat :=
  let c128_i32_990 : BitVec 32 := 128#32
  let v2263 : BitVec 32 := Scalar.muli v2262 c128_i32_990
  let c0_i32_993 : BitVec 32 := 0#32
  ![v2263.toNat, 0]

def k0_off468 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_991 : BitVec 32 := 1#32
  let v2264 : BitVec 32 := Scalar.andi v2168 c1_i32_991
  let c640_i32_994 : BitVec 32 := 640#32
  let c0_i32_995 : BitVec 32 := 0#32
  ![v2264.toNat, 640, 0]

def k0_chk190 (arg24 : BitVec 32) (k0_t3 : Fin (k0_t3_loop arg24).trips) (v2262 : BitVec 32) : Prop :=
  (∀ (k0_h8 : k0_cond8 arg24 k0_t3 = 1#1), ∀ a, (k0_off467 v2262) a + S128x8960.size a ≤ S40960x8960.size a) ∧
  (∀ (k0_h8 : k0_cond8 arg24 k0_t3 = 1#1), ∀ (hinb : ∀ a, (k0_off467 v2262) a + S128x8960.size a ≤ S40960x8960.size a), (Rect.unit (s := S40960x8960) (k0_off467 v2262) S128x8960.size hinb).WholeWords (EltTy.packing .fp8e4m3))
theorem k0_off467_inb : ∀ (arg24 : BitVec 32) (k0_t3 : Fin (k0_t3_loop arg24).trips) (v2262 : BitVec 32) (k0_hw190 : k0_chk190 arg24 k0_t3 v2262), ∀ (k0_h8 : k0_cond8 arg24 k0_t3 = 1#1), ∀ a, (k0_off467 v2262) a + S128x8960.size a ≤ S40960x8960.size a := fun arg24 k0_t3 v2262 k0_hw190 k0_h8 => k0_hw190.1 k0_h8
theorem k0_off467_wordsfp8e4m3 : ∀ (arg24 : BitVec 32) (k0_t3 : Fin (k0_t3_loop arg24).trips) (v2262 : BitVec 32) (k0_hw190 : k0_chk190 arg24 k0_t3 v2262), ∀ (k0_h8 : k0_cond8 arg24 k0_t3 = 1#1), (Rect.unit (s := S40960x8960) (k0_off467 v2262) S128x8960.size (k0_off467_inb arg24 k0_t3 v2262 k0_hw190 k0_h8)).WholeWords (EltTy.packing .fp8e4m3) := fun arg24 k0_t3 v2262 k0_hw190 k0_h8 => k0_hw190.2 k0_h8 (k0_off467_inb arg24 k0_t3 v2262 k0_hw190 k0_h8)

def k0_off469 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let v2271 : Index := Scalar.indexCast v2168
  ![v2271.toNat]
def k0_off470 (v2272 : BitVec 32) : Fin 2 → Nat :=
  let c8_i32_996 : BitVec 32 := 8#32
  let v2273 : BitVec 32 := Scalar.muli v2272 c8_i32_996
  let c6_i32_997 : BitVec 32 := 6#32
  let v2274 : BitVec 32 := Scalar.addi v2273 c6_i32_997
  let c7_i32_998 : BitVec 32 := 7#32
  let v2275 : BitVec 32 := Scalar.shrui v2274 c7_i32_998
  let v2277 : Index := Scalar.indexCast v2275
  let c127_i32_999 : BitVec 32 := 127#32
  let v2276 : BitVec 32 := Scalar.andi v2274 c127_i32_999
  let v2278 : Index := Scalar.indexCast v2276
  ![v2277.toNat, v2278.toNat]

def k0_chk191 (arg24 : BitVec 32) (k0_t3 : Fin (k0_t3_loop arg24).trips) (v2272 : BitVec 32) : Prop :=
  (∀ (k0_h8 : k0_cond8 arg24 k0_t3 = 1#1), ∀ a, (k0_off470 v2272) a + S1x1.size a ≤ S8x128.size a)
theorem k0_off470_inb : ∀ (arg24 : BitVec 32) (k0_t3 : Fin (k0_t3_loop arg24).trips) (v2272 : BitVec 32) (k0_hw191 : k0_chk191 arg24 k0_t3 v2272), ∀ (k0_h8 : k0_cond8 arg24 k0_t3 = 1#1), ∀ a, (k0_off470 v2272) a + S1x1.size a ≤ S8x128.size a := fun arg24 k0_t3 v2272 k0_hw191 k0_h8 => k0_hw191 k0_h8

def k0_off471 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_1002 : BitVec 32 := 1#32
  let v2282 : BitVec 32 := Scalar.andi v2168 c1_i32_1002
  ![v2282.toNat]
def k0_off472 (v2279 : BitVec 32) : Fin 2 → Nat :=
  let c128_i32_1000 : BitVec 32 := 128#32
  let v2280 : BitVec 32 := Scalar.muli v2279 c128_i32_1000
  let c0_i32_1003 : BitVec 32 := 0#32
  ![v2280.toNat, 0]

def k0_off473 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_1001 : BitVec 32 := 1#32
  let v2281 : BitVec 32 := Scalar.andi v2168 c1_i32_1001
  let c768_i32_1004 : BitVec 32 := 768#32
  let c0_i32_1005 : BitVec 32 := 0#32
  ![v2281.toNat, 768, 0]

def k0_chk192 (arg24 : BitVec 32) (k0_t3 : Fin (k0_t3_loop arg24).trips) (v2279 : BitVec 32) : Prop :=
  (∀ (k0_h8 : k0_cond8 arg24 k0_t3 = 1#1), ∀ a, (k0_off472 v2279) a + S128x8960.size a ≤ S40960x8960.size a) ∧
  (∀ (k0_h8 : k0_cond8 arg24 k0_t3 = 1#1), ∀ (hinb : ∀ a, (k0_off472 v2279) a + S128x8960.size a ≤ S40960x8960.size a), (Rect.unit (s := S40960x8960) (k0_off472 v2279) S128x8960.size hinb).WholeWords (EltTy.packing .fp8e4m3))
theorem k0_off472_inb : ∀ (arg24 : BitVec 32) (k0_t3 : Fin (k0_t3_loop arg24).trips) (v2279 : BitVec 32) (k0_hw192 : k0_chk192 arg24 k0_t3 v2279), ∀ (k0_h8 : k0_cond8 arg24 k0_t3 = 1#1), ∀ a, (k0_off472 v2279) a + S128x8960.size a ≤ S40960x8960.size a := fun arg24 k0_t3 v2279 k0_hw192 k0_h8 => k0_hw192.1 k0_h8
theorem k0_off472_wordsfp8e4m3 : ∀ (arg24 : BitVec 32) (k0_t3 : Fin (k0_t3_loop arg24).trips) (v2279 : BitVec 32) (k0_hw192 : k0_chk192 arg24 k0_t3 v2279), ∀ (k0_h8 : k0_cond8 arg24 k0_t3 = 1#1), (Rect.unit (s := S40960x8960) (k0_off472 v2279) S128x8960.size (k0_off472_inb arg24 k0_t3 v2279 k0_hw192 k0_h8)).WholeWords (EltTy.packing .fp8e4m3) := fun arg24 k0_t3 v2279 k0_hw192 k0_h8 => k0_hw192.2 k0_h8 (k0_off472_inb arg24 k0_t3 v2279 k0_hw192 k0_h8)

def k0_off474 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let v2288 : Index := Scalar.indexCast v2168
  ![v2288.toNat]
def k0_off475 (v2289 : BitVec 32) : Fin 2 → Nat :=
  let c8_i32_1006 : BitVec 32 := 8#32
  let v2290 : BitVec 32 := Scalar.muli v2289 c8_i32_1006
  let c7_i32_1007 : BitVec 32 := 7#32
  let v2291 : BitVec 32 := Scalar.addi v2290 c7_i32_1007
  let c7_i32_1008 : BitVec 32 := 7#32
  let v2292 : BitVec 32 := Scalar.shrui v2291 c7_i32_1008
  let v2294 : Index := Scalar.indexCast v2292
  let c127_i32_1009 : BitVec 32 := 127#32
  let v2293 : BitVec 32 := Scalar.andi v2291 c127_i32_1009
  let v2295 : Index := Scalar.indexCast v2293
  ![v2294.toNat, v2295.toNat]

def k0_chk193 (arg24 : BitVec 32) (k0_t3 : Fin (k0_t3_loop arg24).trips) (v2289 : BitVec 32) : Prop :=
  (∀ (k0_h8 : k0_cond8 arg24 k0_t3 = 1#1), ∀ a, (k0_off475 v2289) a + S1x1.size a ≤ S8x128.size a)
theorem k0_off475_inb : ∀ (arg24 : BitVec 32) (k0_t3 : Fin (k0_t3_loop arg24).trips) (v2289 : BitVec 32) (k0_hw193 : k0_chk193 arg24 k0_t3 v2289), ∀ (k0_h8 : k0_cond8 arg24 k0_t3 = 1#1), ∀ a, (k0_off475 v2289) a + S1x1.size a ≤ S8x128.size a := fun arg24 k0_t3 v2289 k0_hw193 k0_h8 => k0_hw193 k0_h8

def k0_off476 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_1012 : BitVec 32 := 1#32
  let v2299 : BitVec 32 := Scalar.andi v2168 c1_i32_1012
  ![v2299.toNat]
def k0_off477 (v2296 : BitVec 32) : Fin 2 → Nat :=
  let c128_i32_1010 : BitVec 32 := 128#32
  let v2297 : BitVec 32 := Scalar.muli v2296 c128_i32_1010
  let c0_i32_1013 : BitVec 32 := 0#32
  ![v2297.toNat, 0]

def k0_off478 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_935 : BitVec 32 := 1#32
  let v2168 : BitVec 32 := Scalar.subi arg25 c1_i32_935
  let c1_i32_1011 : BitVec 32 := 1#32
  let v2298 : BitVec 32 := Scalar.andi v2168 c1_i32_1011
  let c896_i32_1014 : BitVec 32 := 896#32
  let c0_i32_1015 : BitVec 32 := 0#32
  ![v2298.toNat, 896, 0]

def k0_chk194 (arg24 : BitVec 32) (k0_t3 : Fin (k0_t3_loop arg24).trips) (v2296 : BitVec 32) : Prop :=
  (∀ (k0_h8 : k0_cond8 arg24 k0_t3 = 1#1), ∀ a, (k0_off477 v2296) a + S128x8960.size a ≤ S40960x8960.size a) ∧
  (∀ (k0_h8 : k0_cond8 arg24 k0_t3 = 1#1), ∀ (hinb : ∀ a, (k0_off477 v2296) a + S128x8960.size a ≤ S40960x8960.size a), (Rect.unit (s := S40960x8960) (k0_off477 v2296) S128x8960.size hinb).WholeWords (EltTy.packing .fp8e4m3))
theorem k0_off477_inb : ∀ (arg24 : BitVec 32) (k0_t3 : Fin (k0_t3_loop arg24).trips) (v2296 : BitVec 32) (k0_hw194 : k0_chk194 arg24 k0_t3 v2296), ∀ (k0_h8 : k0_cond8 arg24 k0_t3 = 1#1), ∀ a, (k0_off477 v2296) a + S128x8960.size a ≤ S40960x8960.size a := fun arg24 k0_t3 v2296 k0_hw194 k0_h8 => k0_hw194.1 k0_h8
theorem k0_off477_wordsfp8e4m3 : ∀ (arg24 : BitVec 32) (k0_t3 : Fin (k0_t3_loop arg24).trips) (v2296 : BitVec 32) (k0_hw194 : k0_chk194 arg24 k0_t3 v2296), ∀ (k0_h8 : k0_cond8 arg24 k0_t3 = 1#1), (Rect.unit (s := S40960x8960) (k0_off477 v2296) S128x8960.size (k0_off477_inb arg24 k0_t3 v2296 k0_hw194 k0_h8)).WholeWords (EltTy.packing .fp8e4m3) := fun arg24 k0_t3 v2296 k0_hw194 k0_h8 => k0_hw194.2 k0_h8 (k0_off477_inb arg24 k0_t3 v2296 k0_hw194 k0_h8)

def k0_off479 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let v2032 : Index := Scalar.indexCast v2031
  ![v2032.toNat]
def k0_cond9 (arg24 : BitVec 32) (k0_t3 : Fin (k0_t3_loop arg24).trips) : BitVec 1 :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_103 : BitVec 32 := 2#32
  let v277 : BitVec 32 := Scalar.addi arg25 c2_i32_103
  let v278 : BitVec 1 := Scalar.cmpi .slt v277 arg24
  let v279 : BitVec 32 := Scalar.extui v278
  let c0_i32_104 : BitVec 32 := 0#32
  let v280 : BitVec 1 := Scalar.cmpi .ne v279 c0_i32_104
  v280

def k0_off480 (v2033 : BitVec 32) : Fin 2 → Nat :=
  let c8_i32_855 : BitVec 32 := 8#32
  let v2034 : BitVec 32 := Scalar.muli v2033 c8_i32_855
  let c0_i32_856 : BitVec 32 := 0#32
  let v2035 : BitVec 32 := Scalar.addi v2034 c0_i32_856
  let c7_i32_857 : BitVec 32 := 7#32
  let v2036 : BitVec 32 := Scalar.shrui v2035 c7_i32_857
  let v2038 : Index := Scalar.indexCast v2036
  let c127_i32_858 : BitVec 32 := 127#32
  let v2037 : BitVec 32 := Scalar.andi v2035 c127_i32_858
  let v2039 : Index := Scalar.indexCast v2037
  ![v2038.toNat, v2039.toNat]

def k0_chk195 (arg24 : BitVec 32) (k0_t3 : Fin (k0_t3_loop arg24).trips) (v2033 : BitVec 32) : Prop :=
  (∀ (k0_h9 : k0_cond9 arg24 k0_t3 = 1#1), ∀ a, (k0_off480 v2033) a + S1x1.size a ≤ S8x128.size a)
theorem k0_off480_inb : ∀ (arg24 : BitVec 32) (k0_t3 : Fin (k0_t3_loop arg24).trips) (v2033 : BitVec 32) (k0_hw195 : k0_chk195 arg24 k0_t3 v2033), ∀ (k0_h9 : k0_cond9 arg24 k0_t3 = 1#1), ∀ a, (k0_off480 v2033) a + S1x1.size a ≤ S8x128.size a := fun arg24 k0_t3 v2033 k0_hw195 k0_h9 => k0_hw195 k0_h9

def k0_off481 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_861 : BitVec 32 := 1#32
  let v2043 : BitVec 32 := Scalar.andi v2031 c1_i32_861
  ![v2043.toNat]
def k0_off482 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_860 : BitVec 32 := 1#32
  let v2042 : BitVec 32 := Scalar.andi v2031 c1_i32_860
  let c0_i32_862 : BitVec 32 := 0#32
  let c0_i32_863 : BitVec 32 := 0#32
  ![v2042.toNat, 0, 0]
def k0_off483 (v2040 : BitVec 32) : Fin 2 → Nat :=
  let c128_i32_859 : BitVec 32 := 128#32
  let v2041 : BitVec 32 := Scalar.muli v2040 c128_i32_859
  let c0_i32_864 : BitVec 32 := 0#32
  ![v2041.toNat, 0]

def k0_chk196 (arg24 : BitVec 32) (k0_t3 : Fin (k0_t3_loop arg24).trips) (v2040 : BitVec 32) : Prop :=
  (∀ (k0_h9 : k0_cond9 arg24 k0_t3 = 1#1), ∀ a, (k0_off483 v2040) a + S128x1536.size a ≤ S40960x1536.size a) ∧
  (∀ (k0_h9 : k0_cond9 arg24 k0_t3 = 1#1), ∀ (hinb : ∀ a, (k0_off483 v2040) a + S128x1536.size a ≤ S40960x1536.size a), (Rect.unit (s := S40960x1536) (k0_off483 v2040) S128x1536.size hinb).WholeWords (EltTy.packing .bf16))
theorem k0_off483_inb : ∀ (arg24 : BitVec 32) (k0_t3 : Fin (k0_t3_loop arg24).trips) (v2040 : BitVec 32) (k0_hw196 : k0_chk196 arg24 k0_t3 v2040), ∀ (k0_h9 : k0_cond9 arg24 k0_t3 = 1#1), ∀ a, (k0_off483 v2040) a + S128x1536.size a ≤ S40960x1536.size a := fun arg24 k0_t3 v2040 k0_hw196 k0_h9 => k0_hw196.1 k0_h9
theorem k0_off483_wordsbf16 : ∀ (arg24 : BitVec 32) (k0_t3 : Fin (k0_t3_loop arg24).trips) (v2040 : BitVec 32) (k0_hw196 : k0_chk196 arg24 k0_t3 v2040), ∀ (k0_h9 : k0_cond9 arg24 k0_t3 = 1#1), (Rect.unit (s := S40960x1536) (k0_off483 v2040) S128x1536.size (k0_off483_inb arg24 k0_t3 v2040 k0_hw196 k0_h9)).WholeWords (EltTy.packing .bf16) := fun arg24 k0_t3 v2040 k0_hw196 k0_h9 => k0_hw196.2 k0_h9 (k0_off483_inb arg24 k0_t3 v2040 k0_hw196 k0_h9)

def k0_off484 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let v2049 : Index := Scalar.indexCast v2031
  ![v2049.toNat]
def k0_off485 (v2050 : BitVec 32) : Fin 2 → Nat :=
  let c8_i32_865 : BitVec 32 := 8#32
  let v2051 : BitVec 32 := Scalar.muli v2050 c8_i32_865
  let c1_i32_866 : BitVec 32 := 1#32
  let v2052 : BitVec 32 := Scalar.addi v2051 c1_i32_866
  let c7_i32_867 : BitVec 32 := 7#32
  let v2053 : BitVec 32 := Scalar.shrui v2052 c7_i32_867
  let v2055 : Index := Scalar.indexCast v2053
  let c127_i32_868 : BitVec 32 := 127#32
  let v2054 : BitVec 32 := Scalar.andi v2052 c127_i32_868
  let v2056 : Index := Scalar.indexCast v2054
  ![v2055.toNat, v2056.toNat]

def k0_chk197 (arg24 : BitVec 32) (k0_t3 : Fin (k0_t3_loop arg24).trips) (v2050 : BitVec 32) : Prop :=
  (∀ (k0_h9 : k0_cond9 arg24 k0_t3 = 1#1), ∀ a, (k0_off485 v2050) a + S1x1.size a ≤ S8x128.size a)
theorem k0_off485_inb : ∀ (arg24 : BitVec 32) (k0_t3 : Fin (k0_t3_loop arg24).trips) (v2050 : BitVec 32) (k0_hw197 : k0_chk197 arg24 k0_t3 v2050), ∀ (k0_h9 : k0_cond9 arg24 k0_t3 = 1#1), ∀ a, (k0_off485 v2050) a + S1x1.size a ≤ S8x128.size a := fun arg24 k0_t3 v2050 k0_hw197 k0_h9 => k0_hw197 k0_h9

def k0_off486 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_871 : BitVec 32 := 1#32
  let v2060 : BitVec 32 := Scalar.andi v2031 c1_i32_871
  ![v2060.toNat]
def k0_off487 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_870 : BitVec 32 := 1#32
  let v2059 : BitVec 32 := Scalar.andi v2031 c1_i32_870
  let c128_i32_872 : BitVec 32 := 128#32
  let c0_i32_873 : BitVec 32 := 0#32
  ![v2059.toNat, 128, 0]
def k0_off488 (v2057 : BitVec 32) : Fin 2 → Nat :=
  let c128_i32_869 : BitVec 32 := 128#32
  let v2058 : BitVec 32 := Scalar.muli v2057 c128_i32_869
  let c0_i32_874 : BitVec 32 := 0#32
  ![v2058.toNat, 0]

def k0_chk198 (arg24 : BitVec 32) (k0_t3 : Fin (k0_t3_loop arg24).trips) (v2057 : BitVec 32) : Prop :=
  (∀ (k0_h9 : k0_cond9 arg24 k0_t3 = 1#1), ∀ a, (k0_off488 v2057) a + S128x1536.size a ≤ S40960x1536.size a) ∧
  (∀ (k0_h9 : k0_cond9 arg24 k0_t3 = 1#1), ∀ (hinb : ∀ a, (k0_off488 v2057) a + S128x1536.size a ≤ S40960x1536.size a), (Rect.unit (s := S40960x1536) (k0_off488 v2057) S128x1536.size hinb).WholeWords (EltTy.packing .bf16))
theorem k0_off488_inb : ∀ (arg24 : BitVec 32) (k0_t3 : Fin (k0_t3_loop arg24).trips) (v2057 : BitVec 32) (k0_hw198 : k0_chk198 arg24 k0_t3 v2057), ∀ (k0_h9 : k0_cond9 arg24 k0_t3 = 1#1), ∀ a, (k0_off488 v2057) a + S128x1536.size a ≤ S40960x1536.size a := fun arg24 k0_t3 v2057 k0_hw198 k0_h9 => k0_hw198.1 k0_h9
theorem k0_off488_wordsbf16 : ∀ (arg24 : BitVec 32) (k0_t3 : Fin (k0_t3_loop arg24).trips) (v2057 : BitVec 32) (k0_hw198 : k0_chk198 arg24 k0_t3 v2057), ∀ (k0_h9 : k0_cond9 arg24 k0_t3 = 1#1), (Rect.unit (s := S40960x1536) (k0_off488 v2057) S128x1536.size (k0_off488_inb arg24 k0_t3 v2057 k0_hw198 k0_h9)).WholeWords (EltTy.packing .bf16) := fun arg24 k0_t3 v2057 k0_hw198 k0_h9 => k0_hw198.2 k0_h9 (k0_off488_inb arg24 k0_t3 v2057 k0_hw198 k0_h9)

def k0_off489 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let v2066 : Index := Scalar.indexCast v2031
  ![v2066.toNat]
def k0_off490 (v2067 : BitVec 32) : Fin 2 → Nat :=
  let c8_i32_875 : BitVec 32 := 8#32
  let v2068 : BitVec 32 := Scalar.muli v2067 c8_i32_875
  let c2_i32_876 : BitVec 32 := 2#32
  let v2069 : BitVec 32 := Scalar.addi v2068 c2_i32_876
  let c7_i32_877 : BitVec 32 := 7#32
  let v2070 : BitVec 32 := Scalar.shrui v2069 c7_i32_877
  let v2072 : Index := Scalar.indexCast v2070
  let c127_i32_878 : BitVec 32 := 127#32
  let v2071 : BitVec 32 := Scalar.andi v2069 c127_i32_878
  let v2073 : Index := Scalar.indexCast v2071
  ![v2072.toNat, v2073.toNat]

def k0_chk199 (arg24 : BitVec 32) (k0_t3 : Fin (k0_t3_loop arg24).trips) (v2067 : BitVec 32) : Prop :=
  (∀ (k0_h9 : k0_cond9 arg24 k0_t3 = 1#1), ∀ a, (k0_off490 v2067) a + S1x1.size a ≤ S8x128.size a)
theorem k0_off490_inb : ∀ (arg24 : BitVec 32) (k0_t3 : Fin (k0_t3_loop arg24).trips) (v2067 : BitVec 32) (k0_hw199 : k0_chk199 arg24 k0_t3 v2067), ∀ (k0_h9 : k0_cond9 arg24 k0_t3 = 1#1), ∀ a, (k0_off490 v2067) a + S1x1.size a ≤ S8x128.size a := fun arg24 k0_t3 v2067 k0_hw199 k0_h9 => k0_hw199 k0_h9

def k0_off491 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_881 : BitVec 32 := 1#32
  let v2077 : BitVec 32 := Scalar.andi v2031 c1_i32_881
  ![v2077.toNat]
def k0_off492 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_880 : BitVec 32 := 1#32
  let v2076 : BitVec 32 := Scalar.andi v2031 c1_i32_880
  let c256_i32_882 : BitVec 32 := 256#32
  let c0_i32_883 : BitVec 32 := 0#32
  ![v2076.toNat, 256, 0]
def k0_off493 (v2074 : BitVec 32) : Fin 2 → Nat :=
  let c128_i32_879 : BitVec 32 := 128#32
  let v2075 : BitVec 32 := Scalar.muli v2074 c128_i32_879
  let c0_i32_884 : BitVec 32 := 0#32
  ![v2075.toNat, 0]

def k0_chk200 (arg24 : BitVec 32) (k0_t3 : Fin (k0_t3_loop arg24).trips) (v2074 : BitVec 32) : Prop :=
  (∀ (k0_h9 : k0_cond9 arg24 k0_t3 = 1#1), ∀ a, (k0_off493 v2074) a + S128x1536.size a ≤ S40960x1536.size a) ∧
  (∀ (k0_h9 : k0_cond9 arg24 k0_t3 = 1#1), ∀ (hinb : ∀ a, (k0_off493 v2074) a + S128x1536.size a ≤ S40960x1536.size a), (Rect.unit (s := S40960x1536) (k0_off493 v2074) S128x1536.size hinb).WholeWords (EltTy.packing .bf16))
theorem k0_off493_inb : ∀ (arg24 : BitVec 32) (k0_t3 : Fin (k0_t3_loop arg24).trips) (v2074 : BitVec 32) (k0_hw200 : k0_chk200 arg24 k0_t3 v2074), ∀ (k0_h9 : k0_cond9 arg24 k0_t3 = 1#1), ∀ a, (k0_off493 v2074) a + S128x1536.size a ≤ S40960x1536.size a := fun arg24 k0_t3 v2074 k0_hw200 k0_h9 => k0_hw200.1 k0_h9
theorem k0_off493_wordsbf16 : ∀ (arg24 : BitVec 32) (k0_t3 : Fin (k0_t3_loop arg24).trips) (v2074 : BitVec 32) (k0_hw200 : k0_chk200 arg24 k0_t3 v2074), ∀ (k0_h9 : k0_cond9 arg24 k0_t3 = 1#1), (Rect.unit (s := S40960x1536) (k0_off493 v2074) S128x1536.size (k0_off493_inb arg24 k0_t3 v2074 k0_hw200 k0_h9)).WholeWords (EltTy.packing .bf16) := fun arg24 k0_t3 v2074 k0_hw200 k0_h9 => k0_hw200.2 k0_h9 (k0_off493_inb arg24 k0_t3 v2074 k0_hw200 k0_h9)

def k0_off494 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let v2083 : Index := Scalar.indexCast v2031
  ![v2083.toNat]
def k0_off495 (v2084 : BitVec 32) : Fin 2 → Nat :=
  let c8_i32_885 : BitVec 32 := 8#32
  let v2085 : BitVec 32 := Scalar.muli v2084 c8_i32_885
  let c3_i32_886 : BitVec 32 := 3#32
  let v2086 : BitVec 32 := Scalar.addi v2085 c3_i32_886
  let c7_i32_887 : BitVec 32 := 7#32
  let v2087 : BitVec 32 := Scalar.shrui v2086 c7_i32_887
  let v2089 : Index := Scalar.indexCast v2087
  let c127_i32_888 : BitVec 32 := 127#32
  let v2088 : BitVec 32 := Scalar.andi v2086 c127_i32_888
  let v2090 : Index := Scalar.indexCast v2088
  ![v2089.toNat, v2090.toNat]

def k0_chk201 (arg24 : BitVec 32) (k0_t3 : Fin (k0_t3_loop arg24).trips) (v2084 : BitVec 32) : Prop :=
  (∀ (k0_h9 : k0_cond9 arg24 k0_t3 = 1#1), ∀ a, (k0_off495 v2084) a + S1x1.size a ≤ S8x128.size a)
theorem k0_off495_inb : ∀ (arg24 : BitVec 32) (k0_t3 : Fin (k0_t3_loop arg24).trips) (v2084 : BitVec 32) (k0_hw201 : k0_chk201 arg24 k0_t3 v2084), ∀ (k0_h9 : k0_cond9 arg24 k0_t3 = 1#1), ∀ a, (k0_off495 v2084) a + S1x1.size a ≤ S8x128.size a := fun arg24 k0_t3 v2084 k0_hw201 k0_h9 => k0_hw201 k0_h9

def k0_off496 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_891 : BitVec 32 := 1#32
  let v2094 : BitVec 32 := Scalar.andi v2031 c1_i32_891
  ![v2094.toNat]
def k0_off497 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_890 : BitVec 32 := 1#32
  let v2093 : BitVec 32 := Scalar.andi v2031 c1_i32_890
  let c384_i32_892 : BitVec 32 := 384#32
  let c0_i32_893 : BitVec 32 := 0#32
  ![v2093.toNat, 384, 0]
def k0_off498 (v2091 : BitVec 32) : Fin 2 → Nat :=
  let c128_i32_889 : BitVec 32 := 128#32
  let v2092 : BitVec 32 := Scalar.muli v2091 c128_i32_889
  let c0_i32_894 : BitVec 32 := 0#32
  ![v2092.toNat, 0]

def k0_chk202 (arg24 : BitVec 32) (k0_t3 : Fin (k0_t3_loop arg24).trips) (v2091 : BitVec 32) : Prop :=
  (∀ (k0_h9 : k0_cond9 arg24 k0_t3 = 1#1), ∀ a, (k0_off498 v2091) a + S128x1536.size a ≤ S40960x1536.size a) ∧
  (∀ (k0_h9 : k0_cond9 arg24 k0_t3 = 1#1), ∀ (hinb : ∀ a, (k0_off498 v2091) a + S128x1536.size a ≤ S40960x1536.size a), (Rect.unit (s := S40960x1536) (k0_off498 v2091) S128x1536.size hinb).WholeWords (EltTy.packing .bf16))
theorem k0_off498_inb : ∀ (arg24 : BitVec 32) (k0_t3 : Fin (k0_t3_loop arg24).trips) (v2091 : BitVec 32) (k0_hw202 : k0_chk202 arg24 k0_t3 v2091), ∀ (k0_h9 : k0_cond9 arg24 k0_t3 = 1#1), ∀ a, (k0_off498 v2091) a + S128x1536.size a ≤ S40960x1536.size a := fun arg24 k0_t3 v2091 k0_hw202 k0_h9 => k0_hw202.1 k0_h9
theorem k0_off498_wordsbf16 : ∀ (arg24 : BitVec 32) (k0_t3 : Fin (k0_t3_loop arg24).trips) (v2091 : BitVec 32) (k0_hw202 : k0_chk202 arg24 k0_t3 v2091), ∀ (k0_h9 : k0_cond9 arg24 k0_t3 = 1#1), (Rect.unit (s := S40960x1536) (k0_off498 v2091) S128x1536.size (k0_off498_inb arg24 k0_t3 v2091 k0_hw202 k0_h9)).WholeWords (EltTy.packing .bf16) := fun arg24 k0_t3 v2091 k0_hw202 k0_h9 => k0_hw202.2 k0_h9 (k0_off498_inb arg24 k0_t3 v2091 k0_hw202 k0_h9)

def k0_off499 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let v2100 : Index := Scalar.indexCast v2031
  ![v2100.toNat]
def k0_off500 (v2101 : BitVec 32) : Fin 2 → Nat :=
  let c8_i32_895 : BitVec 32 := 8#32
  let v2102 : BitVec 32 := Scalar.muli v2101 c8_i32_895
  let c4_i32_896 : BitVec 32 := 4#32
  let v2103 : BitVec 32 := Scalar.addi v2102 c4_i32_896
  let c7_i32_897 : BitVec 32 := 7#32
  let v2104 : BitVec 32 := Scalar.shrui v2103 c7_i32_897
  let v2106 : Index := Scalar.indexCast v2104
  let c127_i32_898 : BitVec 32 := 127#32
  let v2105 : BitVec 32 := Scalar.andi v2103 c127_i32_898
  let v2107 : Index := Scalar.indexCast v2105
  ![v2106.toNat, v2107.toNat]

def k0_chk203 (arg24 : BitVec 32) (k0_t3 : Fin (k0_t3_loop arg24).trips) (v2101 : BitVec 32) : Prop :=
  (∀ (k0_h9 : k0_cond9 arg24 k0_t3 = 1#1), ∀ a, (k0_off500 v2101) a + S1x1.size a ≤ S8x128.size a)
theorem k0_off500_inb : ∀ (arg24 : BitVec 32) (k0_t3 : Fin (k0_t3_loop arg24).trips) (v2101 : BitVec 32) (k0_hw203 : k0_chk203 arg24 k0_t3 v2101), ∀ (k0_h9 : k0_cond9 arg24 k0_t3 = 1#1), ∀ a, (k0_off500 v2101) a + S1x1.size a ≤ S8x128.size a := fun arg24 k0_t3 v2101 k0_hw203 k0_h9 => k0_hw203 k0_h9

def k0_off501 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_901 : BitVec 32 := 1#32
  let v2111 : BitVec 32 := Scalar.andi v2031 c1_i32_901
  ![v2111.toNat]
def k0_off502 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_900 : BitVec 32 := 1#32
  let v2110 : BitVec 32 := Scalar.andi v2031 c1_i32_900
  let c512_i32_902 : BitVec 32 := 512#32
  let c0_i32_903 : BitVec 32 := 0#32
  ![v2110.toNat, 512, 0]
def k0_off503 (v2108 : BitVec 32) : Fin 2 → Nat :=
  let c128_i32_899 : BitVec 32 := 128#32
  let v2109 : BitVec 32 := Scalar.muli v2108 c128_i32_899
  let c0_i32_904 : BitVec 32 := 0#32
  ![v2109.toNat, 0]

def k0_chk204 (arg24 : BitVec 32) (k0_t3 : Fin (k0_t3_loop arg24).trips) (v2108 : BitVec 32) : Prop :=
  (∀ (k0_h9 : k0_cond9 arg24 k0_t3 = 1#1), ∀ a, (k0_off503 v2108) a + S128x1536.size a ≤ S40960x1536.size a) ∧
  (∀ (k0_h9 : k0_cond9 arg24 k0_t3 = 1#1), ∀ (hinb : ∀ a, (k0_off503 v2108) a + S128x1536.size a ≤ S40960x1536.size a), (Rect.unit (s := S40960x1536) (k0_off503 v2108) S128x1536.size hinb).WholeWords (EltTy.packing .bf16))
theorem k0_off503_inb : ∀ (arg24 : BitVec 32) (k0_t3 : Fin (k0_t3_loop arg24).trips) (v2108 : BitVec 32) (k0_hw204 : k0_chk204 arg24 k0_t3 v2108), ∀ (k0_h9 : k0_cond9 arg24 k0_t3 = 1#1), ∀ a, (k0_off503 v2108) a + S128x1536.size a ≤ S40960x1536.size a := fun arg24 k0_t3 v2108 k0_hw204 k0_h9 => k0_hw204.1 k0_h9
theorem k0_off503_wordsbf16 : ∀ (arg24 : BitVec 32) (k0_t3 : Fin (k0_t3_loop arg24).trips) (v2108 : BitVec 32) (k0_hw204 : k0_chk204 arg24 k0_t3 v2108), ∀ (k0_h9 : k0_cond9 arg24 k0_t3 = 1#1), (Rect.unit (s := S40960x1536) (k0_off503 v2108) S128x1536.size (k0_off503_inb arg24 k0_t3 v2108 k0_hw204 k0_h9)).WholeWords (EltTy.packing .bf16) := fun arg24 k0_t3 v2108 k0_hw204 k0_h9 => k0_hw204.2 k0_h9 (k0_off503_inb arg24 k0_t3 v2108 k0_hw204 k0_h9)

def k0_off504 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let v2117 : Index := Scalar.indexCast v2031
  ![v2117.toNat]
def k0_off505 (v2118 : BitVec 32) : Fin 2 → Nat :=
  let c8_i32_905 : BitVec 32 := 8#32
  let v2119 : BitVec 32 := Scalar.muli v2118 c8_i32_905
  let c5_i32_906 : BitVec 32 := 5#32
  let v2120 : BitVec 32 := Scalar.addi v2119 c5_i32_906
  let c7_i32_907 : BitVec 32 := 7#32
  let v2121 : BitVec 32 := Scalar.shrui v2120 c7_i32_907
  let v2123 : Index := Scalar.indexCast v2121
  let c127_i32_908 : BitVec 32 := 127#32
  let v2122 : BitVec 32 := Scalar.andi v2120 c127_i32_908
  let v2124 : Index := Scalar.indexCast v2122
  ![v2123.toNat, v2124.toNat]

def k0_chk205 (arg24 : BitVec 32) (k0_t3 : Fin (k0_t3_loop arg24).trips) (v2118 : BitVec 32) : Prop :=
  (∀ (k0_h9 : k0_cond9 arg24 k0_t3 = 1#1), ∀ a, (k0_off505 v2118) a + S1x1.size a ≤ S8x128.size a)
theorem k0_off505_inb : ∀ (arg24 : BitVec 32) (k0_t3 : Fin (k0_t3_loop arg24).trips) (v2118 : BitVec 32) (k0_hw205 : k0_chk205 arg24 k0_t3 v2118), ∀ (k0_h9 : k0_cond9 arg24 k0_t3 = 1#1), ∀ a, (k0_off505 v2118) a + S1x1.size a ≤ S8x128.size a := fun arg24 k0_t3 v2118 k0_hw205 k0_h9 => k0_hw205 k0_h9

def k0_off506 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_911 : BitVec 32 := 1#32
  let v2128 : BitVec 32 := Scalar.andi v2031 c1_i32_911
  ![v2128.toNat]
def k0_off507 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_910 : BitVec 32 := 1#32
  let v2127 : BitVec 32 := Scalar.andi v2031 c1_i32_910
  let c640_i32_912 : BitVec 32 := 640#32
  let c0_i32_913 : BitVec 32 := 0#32
  ![v2127.toNat, 640, 0]
def k0_off508 (v2125 : BitVec 32) : Fin 2 → Nat :=
  let c128_i32_909 : BitVec 32 := 128#32
  let v2126 : BitVec 32 := Scalar.muli v2125 c128_i32_909
  let c0_i32_914 : BitVec 32 := 0#32
  ![v2126.toNat, 0]

def k0_chk206 (arg24 : BitVec 32) (k0_t3 : Fin (k0_t3_loop arg24).trips) (v2125 : BitVec 32) : Prop :=
  (∀ (k0_h9 : k0_cond9 arg24 k0_t3 = 1#1), ∀ a, (k0_off508 v2125) a + S128x1536.size a ≤ S40960x1536.size a) ∧
  (∀ (k0_h9 : k0_cond9 arg24 k0_t3 = 1#1), ∀ (hinb : ∀ a, (k0_off508 v2125) a + S128x1536.size a ≤ S40960x1536.size a), (Rect.unit (s := S40960x1536) (k0_off508 v2125) S128x1536.size hinb).WholeWords (EltTy.packing .bf16))
theorem k0_off508_inb : ∀ (arg24 : BitVec 32) (k0_t3 : Fin (k0_t3_loop arg24).trips) (v2125 : BitVec 32) (k0_hw206 : k0_chk206 arg24 k0_t3 v2125), ∀ (k0_h9 : k0_cond9 arg24 k0_t3 = 1#1), ∀ a, (k0_off508 v2125) a + S128x1536.size a ≤ S40960x1536.size a := fun arg24 k0_t3 v2125 k0_hw206 k0_h9 => k0_hw206.1 k0_h9
theorem k0_off508_wordsbf16 : ∀ (arg24 : BitVec 32) (k0_t3 : Fin (k0_t3_loop arg24).trips) (v2125 : BitVec 32) (k0_hw206 : k0_chk206 arg24 k0_t3 v2125), ∀ (k0_h9 : k0_cond9 arg24 k0_t3 = 1#1), (Rect.unit (s := S40960x1536) (k0_off508 v2125) S128x1536.size (k0_off508_inb arg24 k0_t3 v2125 k0_hw206 k0_h9)).WholeWords (EltTy.packing .bf16) := fun arg24 k0_t3 v2125 k0_hw206 k0_h9 => k0_hw206.2 k0_h9 (k0_off508_inb arg24 k0_t3 v2125 k0_hw206 k0_h9)

def k0_off509 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let v2134 : Index := Scalar.indexCast v2031
  ![v2134.toNat]
def k0_off510 (v2135 : BitVec 32) : Fin 2 → Nat :=
  let c8_i32_915 : BitVec 32 := 8#32
  let v2136 : BitVec 32 := Scalar.muli v2135 c8_i32_915
  let c6_i32_916 : BitVec 32 := 6#32
  let v2137 : BitVec 32 := Scalar.addi v2136 c6_i32_916
  let c7_i32_917 : BitVec 32 := 7#32
  let v2138 : BitVec 32 := Scalar.shrui v2137 c7_i32_917
  let v2140 : Index := Scalar.indexCast v2138
  let c127_i32_918 : BitVec 32 := 127#32
  let v2139 : BitVec 32 := Scalar.andi v2137 c127_i32_918
  let v2141 : Index := Scalar.indexCast v2139
  ![v2140.toNat, v2141.toNat]

def k0_chk207 (arg24 : BitVec 32) (k0_t3 : Fin (k0_t3_loop arg24).trips) (v2135 : BitVec 32) : Prop :=
  (∀ (k0_h9 : k0_cond9 arg24 k0_t3 = 1#1), ∀ a, (k0_off510 v2135) a + S1x1.size a ≤ S8x128.size a)
theorem k0_off510_inb : ∀ (arg24 : BitVec 32) (k0_t3 : Fin (k0_t3_loop arg24).trips) (v2135 : BitVec 32) (k0_hw207 : k0_chk207 arg24 k0_t3 v2135), ∀ (k0_h9 : k0_cond9 arg24 k0_t3 = 1#1), ∀ a, (k0_off510 v2135) a + S1x1.size a ≤ S8x128.size a := fun arg24 k0_t3 v2135 k0_hw207 k0_h9 => k0_hw207 k0_h9

def k0_off511 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_921 : BitVec 32 := 1#32
  let v2145 : BitVec 32 := Scalar.andi v2031 c1_i32_921
  ![v2145.toNat]
def k0_off512 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_920 : BitVec 32 := 1#32
  let v2144 : BitVec 32 := Scalar.andi v2031 c1_i32_920
  let c768_i32_922 : BitVec 32 := 768#32
  let c0_i32_923 : BitVec 32 := 0#32
  ![v2144.toNat, 768, 0]
def k0_off513 (v2142 : BitVec 32) : Fin 2 → Nat :=
  let c128_i32_919 : BitVec 32 := 128#32
  let v2143 : BitVec 32 := Scalar.muli v2142 c128_i32_919
  let c0_i32_924 : BitVec 32 := 0#32
  ![v2143.toNat, 0]

def k0_chk208 (arg24 : BitVec 32) (k0_t3 : Fin (k0_t3_loop arg24).trips) (v2142 : BitVec 32) : Prop :=
  (∀ (k0_h9 : k0_cond9 arg24 k0_t3 = 1#1), ∀ a, (k0_off513 v2142) a + S128x1536.size a ≤ S40960x1536.size a) ∧
  (∀ (k0_h9 : k0_cond9 arg24 k0_t3 = 1#1), ∀ (hinb : ∀ a, (k0_off513 v2142) a + S128x1536.size a ≤ S40960x1536.size a), (Rect.unit (s := S40960x1536) (k0_off513 v2142) S128x1536.size hinb).WholeWords (EltTy.packing .bf16))
theorem k0_off513_inb : ∀ (arg24 : BitVec 32) (k0_t3 : Fin (k0_t3_loop arg24).trips) (v2142 : BitVec 32) (k0_hw208 : k0_chk208 arg24 k0_t3 v2142), ∀ (k0_h9 : k0_cond9 arg24 k0_t3 = 1#1), ∀ a, (k0_off513 v2142) a + S128x1536.size a ≤ S40960x1536.size a := fun arg24 k0_t3 v2142 k0_hw208 k0_h9 => k0_hw208.1 k0_h9
theorem k0_off513_wordsbf16 : ∀ (arg24 : BitVec 32) (k0_t3 : Fin (k0_t3_loop arg24).trips) (v2142 : BitVec 32) (k0_hw208 : k0_chk208 arg24 k0_t3 v2142), ∀ (k0_h9 : k0_cond9 arg24 k0_t3 = 1#1), (Rect.unit (s := S40960x1536) (k0_off513 v2142) S128x1536.size (k0_off513_inb arg24 k0_t3 v2142 k0_hw208 k0_h9)).WholeWords (EltTy.packing .bf16) := fun arg24 k0_t3 v2142 k0_hw208 k0_h9 => k0_hw208.2 k0_h9 (k0_off513_inb arg24 k0_t3 v2142 k0_hw208 k0_h9)

def k0_off514 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let v2151 : Index := Scalar.indexCast v2031
  ![v2151.toNat]
def k0_off515 (v2152 : BitVec 32) : Fin 2 → Nat :=
  let c8_i32_925 : BitVec 32 := 8#32
  let v2153 : BitVec 32 := Scalar.muli v2152 c8_i32_925
  let c7_i32_926 : BitVec 32 := 7#32
  let v2154 : BitVec 32 := Scalar.addi v2153 c7_i32_926
  let c7_i32_927 : BitVec 32 := 7#32
  let v2155 : BitVec 32 := Scalar.shrui v2154 c7_i32_927
  let v2157 : Index := Scalar.indexCast v2155
  let c127_i32_928 : BitVec 32 := 127#32
  let v2156 : BitVec 32 := Scalar.andi v2154 c127_i32_928
  let v2158 : Index := Scalar.indexCast v2156
  ![v2157.toNat, v2158.toNat]

def k0_chk209 (arg24 : BitVec 32) (k0_t3 : Fin (k0_t3_loop arg24).trips) (v2152 : BitVec 32) : Prop :=
  (∀ (k0_h9 : k0_cond9 arg24 k0_t3 = 1#1), ∀ a, (k0_off515 v2152) a + S1x1.size a ≤ S8x128.size a)
theorem k0_off515_inb : ∀ (arg24 : BitVec 32) (k0_t3 : Fin (k0_t3_loop arg24).trips) (v2152 : BitVec 32) (k0_hw209 : k0_chk209 arg24 k0_t3 v2152), ∀ (k0_h9 : k0_cond9 arg24 k0_t3 = 1#1), ∀ a, (k0_off515 v2152) a + S1x1.size a ≤ S8x128.size a := fun arg24 k0_t3 v2152 k0_hw209 k0_h9 => k0_hw209 k0_h9

def k0_off516 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_931 : BitVec 32 := 1#32
  let v2162 : BitVec 32 := Scalar.andi v2031 c1_i32_931
  ![v2162.toNat]
def k0_off517 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.addi arg25 c2_i32_854
  let c1_i32_930 : BitVec 32 := 1#32
  let v2161 : BitVec 32 := Scalar.andi v2031 c1_i32_930
  let c896_i32_932 : BitVec 32 := 896#32
  let c0_i32_933 : BitVec 32 := 0#32
  ![v2161.toNat, 896, 0]
def k0_off518 (v2159 : BitVec 32) : Fin 2 → Nat :=
  let c128_i32_929 : BitVec 32 := 128#32
  let v2160 : BitVec 32 := Scalar.muli v2159 c128_i32_929
  let c0_i32_934 : BitVec 32 := 0#32
  ![v2160.toNat, 0]

def k0_chk210 (arg24 : BitVec 32) (k0_t3 : Fin (k0_t3_loop arg24).trips) (v2159 : BitVec 32) : Prop :=
  (∀ (k0_h9 : k0_cond9 arg24 k0_t3 = 1#1), ∀ a, (k0_off518 v2159) a + S128x1536.size a ≤ S40960x1536.size a) ∧
  (∀ (k0_h9 : k0_cond9 arg24 k0_t3 = 1#1), ∀ (hinb : ∀ a, (k0_off518 v2159) a + S128x1536.size a ≤ S40960x1536.size a), (Rect.unit (s := S40960x1536) (k0_off518 v2159) S128x1536.size hinb).WholeWords (EltTy.packing .bf16))
theorem k0_off518_inb : ∀ (arg24 : BitVec 32) (k0_t3 : Fin (k0_t3_loop arg24).trips) (v2159 : BitVec 32) (k0_hw210 : k0_chk210 arg24 k0_t3 v2159), ∀ (k0_h9 : k0_cond9 arg24 k0_t3 = 1#1), ∀ a, (k0_off518 v2159) a + S128x1536.size a ≤ S40960x1536.size a := fun arg24 k0_t3 v2159 k0_hw210 k0_h9 => k0_hw210.1 k0_h9
theorem k0_off518_wordsbf16 : ∀ (arg24 : BitVec 32) (k0_t3 : Fin (k0_t3_loop arg24).trips) (v2159 : BitVec 32) (k0_hw210 : k0_chk210 arg24 k0_t3 v2159), ∀ (k0_h9 : k0_cond9 arg24 k0_t3 = 1#1), (Rect.unit (s := S40960x1536) (k0_off518 v2159) S128x1536.size (k0_off518_inb arg24 k0_t3 v2159 k0_hw210 k0_h9)).WholeWords (EltTy.packing .bf16) := fun arg24 k0_t3 v2159 k0_hw210 k0_h9 => k0_hw210.2 k0_h9 (k0_off518_inb arg24 k0_t3 v2159 k0_hw210 k0_h9)

def k0_off519 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let v281 : Index := Scalar.indexCast arg25
  ![v281.toNat]
def k0_off520 (v282 : BitVec 32) : Fin 2 → Nat :=
  let c8_i32_105 : BitVec 32 := 8#32
  let v283 : BitVec 32 := Scalar.muli v282 c8_i32_105
  let c0_i32_106 : BitVec 32 := 0#32
  let v284 : BitVec 32 := Scalar.addi v283 c0_i32_106
  let c7_i32_107 : BitVec 32 := 7#32
  let v285 : BitVec 32 := Scalar.shrui v284 c7_i32_107
  let v287 : Index := Scalar.indexCast v285
  let c127_i32_108 : BitVec 32 := 127#32
  let v286 : BitVec 32 := Scalar.andi v284 c127_i32_108
  let v288 : Index := Scalar.indexCast v286
  ![v287.toNat, v288.toNat]

def k0_chk211 (v282 : BitVec 32) : Prop :=
  (∀ a, (k0_off520 v282) a + S1x1.size a ≤ S8x128.size a)
theorem k0_off520_inb : ∀ (v282 : BitVec 32) (k0_hw211 : k0_chk211 v282), ∀ a, (k0_off520 v282) a + S1x1.size a ≤ S8x128.size a := fun v282 k0_hw211 => k0_hw211

def k0_off521 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_111 : BitVec 32 := 1#32
  let v292 : BitVec 32 := Scalar.andi arg25 c1_i32_111
  ![v292.toNat]
def k0_off522 (v289 : BitVec 32) : Fin 2 → Nat :=
  let c128_i32_109 : BitVec 32 := 128#32
  let v290 : BitVec 32 := Scalar.muli v289 c128_i32_109
  let c0_i32_112 : BitVec 32 := 0#32
  ![v290.toNat, 0]

def k0_off523 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_110 : BitVec 32 := 1#32
  let v291 : BitVec 32 := Scalar.andi arg25 c1_i32_110
  let c0_i32_113 : BitVec 32 := 0#32
  let c0_i32_114 : BitVec 32 := 0#32
  ![v291.toNat, 0, 0]

def k0_chk212 (v289 : BitVec 32) : Prop :=
  (∀ a, (k0_off522 v289) a + S128x1536.size a ≤ S40960x1536.size a) ∧
  (∀ (hinb : ∀ a, (k0_off522 v289) a + S128x1536.size a ≤ S40960x1536.size a), (Rect.unit (s := S40960x1536) (k0_off522 v289) S128x1536.size hinb).WholeWords (EltTy.packing .fp8e4m3))
theorem k0_off522_inb : ∀ (v289 : BitVec 32) (k0_hw212 : k0_chk212 v289), ∀ a, (k0_off522 v289) a + S128x1536.size a ≤ S40960x1536.size a := fun v289 k0_hw212 => k0_hw212.1
theorem k0_off522_wordsfp8e4m3 : ∀ (v289 : BitVec 32) (k0_hw212 : k0_chk212 v289), (Rect.unit (s := S40960x1536) (k0_off522 v289) S128x1536.size (k0_off522_inb v289 k0_hw212)).WholeWords (EltTy.packing .fp8e4m3) := fun v289 k0_hw212 => k0_hw212.2 (k0_off522_inb v289 k0_hw212)

def k0_off524 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let v298 : Index := Scalar.indexCast arg25
  ![v298.toNat]
def k0_off525 (v299 : BitVec 32) : Fin 2 → Nat :=
  let c8_i32_115 : BitVec 32 := 8#32
  let v300 : BitVec 32 := Scalar.muli v299 c8_i32_115
  let c1_i32_116 : BitVec 32 := 1#32
  let v301 : BitVec 32 := Scalar.addi v300 c1_i32_116
  let c7_i32_117 : BitVec 32 := 7#32
  let v302 : BitVec 32 := Scalar.shrui v301 c7_i32_117
  let v304 : Index := Scalar.indexCast v302
  let c127_i32_118 : BitVec 32 := 127#32
  let v303 : BitVec 32 := Scalar.andi v301 c127_i32_118
  let v305 : Index := Scalar.indexCast v303
  ![v304.toNat, v305.toNat]

def k0_chk213 (v299 : BitVec 32) : Prop :=
  (∀ a, (k0_off525 v299) a + S1x1.size a ≤ S8x128.size a)
theorem k0_off525_inb : ∀ (v299 : BitVec 32) (k0_hw213 : k0_chk213 v299), ∀ a, (k0_off525 v299) a + S1x1.size a ≤ S8x128.size a := fun v299 k0_hw213 => k0_hw213

def k0_off526 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_121 : BitVec 32 := 1#32
  let v309 : BitVec 32 := Scalar.andi arg25 c1_i32_121
  ![v309.toNat]
def k0_off527 (v306 : BitVec 32) : Fin 2 → Nat :=
  let c128_i32_119 : BitVec 32 := 128#32
  let v307 : BitVec 32 := Scalar.muli v306 c128_i32_119
  let c0_i32_122 : BitVec 32 := 0#32
  ![v307.toNat, 0]

def k0_off528 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_120 : BitVec 32 := 1#32
  let v308 : BitVec 32 := Scalar.andi arg25 c1_i32_120
  let c128_i32_123 : BitVec 32 := 128#32
  let c0_i32_124 : BitVec 32 := 0#32
  ![v308.toNat, 128, 0]

def k0_chk214 (v306 : BitVec 32) : Prop :=
  (∀ a, (k0_off527 v306) a + S128x1536.size a ≤ S40960x1536.size a) ∧
  (∀ (hinb : ∀ a, (k0_off527 v306) a + S128x1536.size a ≤ S40960x1536.size a), (Rect.unit (s := S40960x1536) (k0_off527 v306) S128x1536.size hinb).WholeWords (EltTy.packing .fp8e4m3))
theorem k0_off527_inb : ∀ (v306 : BitVec 32) (k0_hw214 : k0_chk214 v306), ∀ a, (k0_off527 v306) a + S128x1536.size a ≤ S40960x1536.size a := fun v306 k0_hw214 => k0_hw214.1
theorem k0_off527_wordsfp8e4m3 : ∀ (v306 : BitVec 32) (k0_hw214 : k0_chk214 v306), (Rect.unit (s := S40960x1536) (k0_off527 v306) S128x1536.size (k0_off527_inb v306 k0_hw214)).WholeWords (EltTy.packing .fp8e4m3) := fun v306 k0_hw214 => k0_hw214.2 (k0_off527_inb v306 k0_hw214)

def k0_off529 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let v315 : Index := Scalar.indexCast arg25
  ![v315.toNat]
def k0_off530 (v316 : BitVec 32) : Fin 2 → Nat :=
  let c8_i32_125 : BitVec 32 := 8#32
  let v317 : BitVec 32 := Scalar.muli v316 c8_i32_125
  let c2_i32_126 : BitVec 32 := 2#32
  let v318 : BitVec 32 := Scalar.addi v317 c2_i32_126
  let c7_i32_127 : BitVec 32 := 7#32
  let v319 : BitVec 32 := Scalar.shrui v318 c7_i32_127
  let v321 : Index := Scalar.indexCast v319
  let c127_i32_128 : BitVec 32 := 127#32
  let v320 : BitVec 32 := Scalar.andi v318 c127_i32_128
  let v322 : Index := Scalar.indexCast v320
  ![v321.toNat, v322.toNat]

def k0_chk215 (v316 : BitVec 32) : Prop :=
  (∀ a, (k0_off530 v316) a + S1x1.size a ≤ S8x128.size a)
theorem k0_off530_inb : ∀ (v316 : BitVec 32) (k0_hw215 : k0_chk215 v316), ∀ a, (k0_off530 v316) a + S1x1.size a ≤ S8x128.size a := fun v316 k0_hw215 => k0_hw215

def k0_off531 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_131 : BitVec 32 := 1#32
  let v326 : BitVec 32 := Scalar.andi arg25 c1_i32_131
  ![v326.toNat]
def k0_off532 (v323 : BitVec 32) : Fin 2 → Nat :=
  let c128_i32_129 : BitVec 32 := 128#32
  let v324 : BitVec 32 := Scalar.muli v323 c128_i32_129
  let c0_i32_132 : BitVec 32 := 0#32
  ![v324.toNat, 0]

def k0_off533 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_130 : BitVec 32 := 1#32
  let v325 : BitVec 32 := Scalar.andi arg25 c1_i32_130
  let c256_i32_133 : BitVec 32 := 256#32
  let c0_i32_134 : BitVec 32 := 0#32
  ![v325.toNat, 256, 0]

def k0_chk216 (v323 : BitVec 32) : Prop :=
  (∀ a, (k0_off532 v323) a + S128x1536.size a ≤ S40960x1536.size a) ∧
  (∀ (hinb : ∀ a, (k0_off532 v323) a + S128x1536.size a ≤ S40960x1536.size a), (Rect.unit (s := S40960x1536) (k0_off532 v323) S128x1536.size hinb).WholeWords (EltTy.packing .fp8e4m3))
theorem k0_off532_inb : ∀ (v323 : BitVec 32) (k0_hw216 : k0_chk216 v323), ∀ a, (k0_off532 v323) a + S128x1536.size a ≤ S40960x1536.size a := fun v323 k0_hw216 => k0_hw216.1
theorem k0_off532_wordsfp8e4m3 : ∀ (v323 : BitVec 32) (k0_hw216 : k0_chk216 v323), (Rect.unit (s := S40960x1536) (k0_off532 v323) S128x1536.size (k0_off532_inb v323 k0_hw216)).WholeWords (EltTy.packing .fp8e4m3) := fun v323 k0_hw216 => k0_hw216.2 (k0_off532_inb v323 k0_hw216)

def k0_off534 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let v332 : Index := Scalar.indexCast arg25
  ![v332.toNat]
def k0_off535 (v333 : BitVec 32) : Fin 2 → Nat :=
  let c8_i32_135 : BitVec 32 := 8#32
  let v334 : BitVec 32 := Scalar.muli v333 c8_i32_135
  let c3_i32_136 : BitVec 32 := 3#32
  let v335 : BitVec 32 := Scalar.addi v334 c3_i32_136
  let c7_i32_137 : BitVec 32 := 7#32
  let v336 : BitVec 32 := Scalar.shrui v335 c7_i32_137
  let v338 : Index := Scalar.indexCast v336
  let c127_i32_138 : BitVec 32 := 127#32
  let v337 : BitVec 32 := Scalar.andi v335 c127_i32_138
  let v339 : Index := Scalar.indexCast v337
  ![v338.toNat, v339.toNat]

def k0_chk217 (v333 : BitVec 32) : Prop :=
  (∀ a, (k0_off535 v333) a + S1x1.size a ≤ S8x128.size a)
theorem k0_off535_inb : ∀ (v333 : BitVec 32) (k0_hw217 : k0_chk217 v333), ∀ a, (k0_off535 v333) a + S1x1.size a ≤ S8x128.size a := fun v333 k0_hw217 => k0_hw217

def k0_off536 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_141 : BitVec 32 := 1#32
  let v343 : BitVec 32 := Scalar.andi arg25 c1_i32_141
  ![v343.toNat]
def k0_off537 (v340 : BitVec 32) : Fin 2 → Nat :=
  let c128_i32_139 : BitVec 32 := 128#32
  let v341 : BitVec 32 := Scalar.muli v340 c128_i32_139
  let c0_i32_142 : BitVec 32 := 0#32
  ![v341.toNat, 0]

def k0_off538 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_140 : BitVec 32 := 1#32
  let v342 : BitVec 32 := Scalar.andi arg25 c1_i32_140
  let c384_i32 : BitVec 32 := 384#32
  let c0_i32_143 : BitVec 32 := 0#32
  ![v342.toNat, 384, 0]

def k0_chk218 (v340 : BitVec 32) : Prop :=
  (∀ a, (k0_off537 v340) a + S128x1536.size a ≤ S40960x1536.size a) ∧
  (∀ (hinb : ∀ a, (k0_off537 v340) a + S128x1536.size a ≤ S40960x1536.size a), (Rect.unit (s := S40960x1536) (k0_off537 v340) S128x1536.size hinb).WholeWords (EltTy.packing .fp8e4m3))
theorem k0_off537_inb : ∀ (v340 : BitVec 32) (k0_hw218 : k0_chk218 v340), ∀ a, (k0_off537 v340) a + S128x1536.size a ≤ S40960x1536.size a := fun v340 k0_hw218 => k0_hw218.1
theorem k0_off537_wordsfp8e4m3 : ∀ (v340 : BitVec 32) (k0_hw218 : k0_chk218 v340), (Rect.unit (s := S40960x1536) (k0_off537 v340) S128x1536.size (k0_off537_inb v340 k0_hw218)).WholeWords (EltTy.packing .fp8e4m3) := fun v340 k0_hw218 => k0_hw218.2 (k0_off537_inb v340 k0_hw218)

def k0_off539 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let v349 : Index := Scalar.indexCast arg25
  ![v349.toNat]
def k0_off540 (v350 : BitVec 32) : Fin 2 → Nat :=
  let c8_i32_144 : BitVec 32 := 8#32
  let v351 : BitVec 32 := Scalar.muli v350 c8_i32_144
  let c4_i32_145 : BitVec 32 := 4#32
  let v352 : BitVec 32 := Scalar.addi v351 c4_i32_145
  let c7_i32_146 : BitVec 32 := 7#32
  let v353 : BitVec 32 := Scalar.shrui v352 c7_i32_146
  let v355 : Index := Scalar.indexCast v353
  let c127_i32_147 : BitVec 32 := 127#32
  let v354 : BitVec 32 := Scalar.andi v352 c127_i32_147
  let v356 : Index := Scalar.indexCast v354
  ![v355.toNat, v356.toNat]

def k0_chk219 (v350 : BitVec 32) : Prop :=
  (∀ a, (k0_off540 v350) a + S1x1.size a ≤ S8x128.size a)
theorem k0_off540_inb : ∀ (v350 : BitVec 32) (k0_hw219 : k0_chk219 v350), ∀ a, (k0_off540 v350) a + S1x1.size a ≤ S8x128.size a := fun v350 k0_hw219 => k0_hw219

def k0_off541 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_150 : BitVec 32 := 1#32
  let v360 : BitVec 32 := Scalar.andi arg25 c1_i32_150
  ![v360.toNat]
def k0_off542 (v357 : BitVec 32) : Fin 2 → Nat :=
  let c128_i32_148 : BitVec 32 := 128#32
  let v358 : BitVec 32 := Scalar.muli v357 c128_i32_148
  let c0_i32_151 : BitVec 32 := 0#32
  ![v358.toNat, 0]

def k0_off543 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_149 : BitVec 32 := 1#32
  let v359 : BitVec 32 := Scalar.andi arg25 c1_i32_149
  let c512_i32 : BitVec 32 := 512#32
  let c0_i32_152 : BitVec 32 := 0#32
  ![v359.toNat, 512, 0]

def k0_chk220 (v357 : BitVec 32) : Prop :=
  (∀ a, (k0_off542 v357) a + S128x1536.size a ≤ S40960x1536.size a) ∧
  (∀ (hinb : ∀ a, (k0_off542 v357) a + S128x1536.size a ≤ S40960x1536.size a), (Rect.unit (s := S40960x1536) (k0_off542 v357) S128x1536.size hinb).WholeWords (EltTy.packing .fp8e4m3))
theorem k0_off542_inb : ∀ (v357 : BitVec 32) (k0_hw220 : k0_chk220 v357), ∀ a, (k0_off542 v357) a + S128x1536.size a ≤ S40960x1536.size a := fun v357 k0_hw220 => k0_hw220.1
theorem k0_off542_wordsfp8e4m3 : ∀ (v357 : BitVec 32) (k0_hw220 : k0_chk220 v357), (Rect.unit (s := S40960x1536) (k0_off542 v357) S128x1536.size (k0_off542_inb v357 k0_hw220)).WholeWords (EltTy.packing .fp8e4m3) := fun v357 k0_hw220 => k0_hw220.2 (k0_off542_inb v357 k0_hw220)

def k0_off544 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let v366 : Index := Scalar.indexCast arg25
  ![v366.toNat]
def k0_off545 (v367 : BitVec 32) : Fin 2 → Nat :=
  let c8_i32_153 : BitVec 32 := 8#32
  let v368 : BitVec 32 := Scalar.muli v367 c8_i32_153
  let c5_i32_154 : BitVec 32 := 5#32
  let v369 : BitVec 32 := Scalar.addi v368 c5_i32_154
  let c7_i32_155 : BitVec 32 := 7#32
  let v370 : BitVec 32 := Scalar.shrui v369 c7_i32_155
  let v372 : Index := Scalar.indexCast v370
  let c127_i32_156 : BitVec 32 := 127#32
  let v371 : BitVec 32 := Scalar.andi v369 c127_i32_156
  let v373 : Index := Scalar.indexCast v371
  ![v372.toNat, v373.toNat]

def k0_chk221 (v367 : BitVec 32) : Prop :=
  (∀ a, (k0_off545 v367) a + S1x1.size a ≤ S8x128.size a)
theorem k0_off545_inb : ∀ (v367 : BitVec 32) (k0_hw221 : k0_chk221 v367), ∀ a, (k0_off545 v367) a + S1x1.size a ≤ S8x128.size a := fun v367 k0_hw221 => k0_hw221

def k0_off546 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_159 : BitVec 32 := 1#32
  let v377 : BitVec 32 := Scalar.andi arg25 c1_i32_159
  ![v377.toNat]
def k0_off547 (v374 : BitVec 32) : Fin 2 → Nat :=
  let c128_i32_157 : BitVec 32 := 128#32
  let v375 : BitVec 32 := Scalar.muli v374 c128_i32_157
  let c0_i32_160 : BitVec 32 := 0#32
  ![v375.toNat, 0]

def k0_off548 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_158 : BitVec 32 := 1#32
  let v376 : BitVec 32 := Scalar.andi arg25 c1_i32_158
  let c640_i32 : BitVec 32 := 640#32
  let c0_i32_161 : BitVec 32 := 0#32
  ![v376.toNat, 640, 0]

def k0_chk222 (v374 : BitVec 32) : Prop :=
  (∀ a, (k0_off547 v374) a + S128x1536.size a ≤ S40960x1536.size a) ∧
  (∀ (hinb : ∀ a, (k0_off547 v374) a + S128x1536.size a ≤ S40960x1536.size a), (Rect.unit (s := S40960x1536) (k0_off547 v374) S128x1536.size hinb).WholeWords (EltTy.packing .fp8e4m3))
theorem k0_off547_inb : ∀ (v374 : BitVec 32) (k0_hw222 : k0_chk222 v374), ∀ a, (k0_off547 v374) a + S128x1536.size a ≤ S40960x1536.size a := fun v374 k0_hw222 => k0_hw222.1
theorem k0_off547_wordsfp8e4m3 : ∀ (v374 : BitVec 32) (k0_hw222 : k0_chk222 v374), (Rect.unit (s := S40960x1536) (k0_off547 v374) S128x1536.size (k0_off547_inb v374 k0_hw222)).WholeWords (EltTy.packing .fp8e4m3) := fun v374 k0_hw222 => k0_hw222.2 (k0_off547_inb v374 k0_hw222)

def k0_off549 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let v383 : Index := Scalar.indexCast arg25
  ![v383.toNat]
def k0_off550 (v384 : BitVec 32) : Fin 2 → Nat :=
  let c8_i32_162 : BitVec 32 := 8#32
  let v385 : BitVec 32 := Scalar.muli v384 c8_i32_162
  let c6_i32_163 : BitVec 32 := 6#32
  let v386 : BitVec 32 := Scalar.addi v385 c6_i32_163
  let c7_i32_164 : BitVec 32 := 7#32
  let v387 : BitVec 32 := Scalar.shrui v386 c7_i32_164
  let v389 : Index := Scalar.indexCast v387
  let c127_i32_165 : BitVec 32 := 127#32
  let v388 : BitVec 32 := Scalar.andi v386 c127_i32_165
  let v390 : Index := Scalar.indexCast v388
  ![v389.toNat, v390.toNat]

def k0_chk223 (v384 : BitVec 32) : Prop :=
  (∀ a, (k0_off550 v384) a + S1x1.size a ≤ S8x128.size a)
theorem k0_off550_inb : ∀ (v384 : BitVec 32) (k0_hw223 : k0_chk223 v384), ∀ a, (k0_off550 v384) a + S1x1.size a ≤ S8x128.size a := fun v384 k0_hw223 => k0_hw223

def k0_off551 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_168 : BitVec 32 := 1#32
  let v394 : BitVec 32 := Scalar.andi arg25 c1_i32_168
  ![v394.toNat]
def k0_off552 (v391 : BitVec 32) : Fin 2 → Nat :=
  let c128_i32_166 : BitVec 32 := 128#32
  let v392 : BitVec 32 := Scalar.muli v391 c128_i32_166
  let c0_i32_169 : BitVec 32 := 0#32
  ![v392.toNat, 0]

def k0_off553 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_167 : BitVec 32 := 1#32
  let v393 : BitVec 32 := Scalar.andi arg25 c1_i32_167
  let c768_i32 : BitVec 32 := 768#32
  let c0_i32_170 : BitVec 32 := 0#32
  ![v393.toNat, 768, 0]

def k0_chk224 (v391 : BitVec 32) : Prop :=
  (∀ a, (k0_off552 v391) a + S128x1536.size a ≤ S40960x1536.size a) ∧
  (∀ (hinb : ∀ a, (k0_off552 v391) a + S128x1536.size a ≤ S40960x1536.size a), (Rect.unit (s := S40960x1536) (k0_off552 v391) S128x1536.size hinb).WholeWords (EltTy.packing .fp8e4m3))
theorem k0_off552_inb : ∀ (v391 : BitVec 32) (k0_hw224 : k0_chk224 v391), ∀ a, (k0_off552 v391) a + S128x1536.size a ≤ S40960x1536.size a := fun v391 k0_hw224 => k0_hw224.1
theorem k0_off552_wordsfp8e4m3 : ∀ (v391 : BitVec 32) (k0_hw224 : k0_chk224 v391), (Rect.unit (s := S40960x1536) (k0_off552 v391) S128x1536.size (k0_off552_inb v391 k0_hw224)).WholeWords (EltTy.packing .fp8e4m3) := fun v391 k0_hw224 => k0_hw224.2 (k0_off552_inb v391 k0_hw224)

def k0_off554 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let v400 : Index := Scalar.indexCast arg25
  ![v400.toNat]
def k0_off555 (v401 : BitVec 32) : Fin 2 → Nat :=
  let c8_i32_171 : BitVec 32 := 8#32
  let v402 : BitVec 32 := Scalar.muli v401 c8_i32_171
  let c7_i32_172 : BitVec 32 := 7#32
  let v403 : BitVec 32 := Scalar.addi v402 c7_i32_172
  let c7_i32_173 : BitVec 32 := 7#32
  let v404 : BitVec 32 := Scalar.shrui v403 c7_i32_173
  let v406 : Index := Scalar.indexCast v404
  let c127_i32_174 : BitVec 32 := 127#32
  let v405 : BitVec 32 := Scalar.andi v403 c127_i32_174
  let v407 : Index := Scalar.indexCast v405
  ![v406.toNat, v407.toNat]

def k0_chk225 (v401 : BitVec 32) : Prop :=
  (∀ a, (k0_off555 v401) a + S1x1.size a ≤ S8x128.size a)
theorem k0_off555_inb : ∀ (v401 : BitVec 32) (k0_hw225 : k0_chk225 v401), ∀ a, (k0_off555 v401) a + S1x1.size a ≤ S8x128.size a := fun v401 k0_hw225 => k0_hw225

def k0_off556 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_177 : BitVec 32 := 1#32
  let v411 : BitVec 32 := Scalar.andi arg25 c1_i32_177
  ![v411.toNat]
def k0_off557 (v408 : BitVec 32) : Fin 2 → Nat :=
  let c128_i32_175 : BitVec 32 := 128#32
  let v409 : BitVec 32 := Scalar.muli v408 c128_i32_175
  let c0_i32_178 : BitVec 32 := 0#32
  ![v409.toNat, 0]

def k0_off558 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_176 : BitVec 32 := 1#32
  let v410 : BitVec 32 := Scalar.andi arg25 c1_i32_176
  let c896_i32 : BitVec 32 := 896#32
  let c0_i32_179 : BitVec 32 := 0#32
  ![v410.toNat, 896, 0]

def k0_chk226 (v408 : BitVec 32) : Prop :=
  (∀ a, (k0_off557 v408) a + S128x1536.size a ≤ S40960x1536.size a) ∧
  (∀ (hinb : ∀ a, (k0_off557 v408) a + S128x1536.size a ≤ S40960x1536.size a), (Rect.unit (s := S40960x1536) (k0_off557 v408) S128x1536.size hinb).WholeWords (EltTy.packing .fp8e4m3))
theorem k0_off557_inb : ∀ (v408 : BitVec 32) (k0_hw226 : k0_chk226 v408), ∀ a, (k0_off557 v408) a + S128x1536.size a ≤ S40960x1536.size a := fun v408 k0_hw226 => k0_hw226.1
theorem k0_off557_wordsfp8e4m3 : ∀ (v408 : BitVec 32) (k0_hw226 : k0_chk226 v408), (Rect.unit (s := S40960x1536) (k0_off557 v408) S128x1536.size (k0_off557_inb v408 k0_hw226)).WholeWords (EltTy.packing .fp8e4m3) := fun v408 k0_hw226 => k0_hw226.2 (k0_off557_inb v408 k0_hw226)

def k0_off559 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let v2032 : Index := Scalar.indexCast v2031
  ![v2032.toNat]
def k0_cond10 (arg24 : BitVec 32) (k0_t3 : Fin (k0_t3_loop arg24).trips) : BitVec 1 :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_180 : BitVec 32 := 1#32
  let v417 : BitVec 1 := Scalar.cmpi .sgt arg25 c1_i32_180
  let v418 : BitVec 32 := Scalar.extui v417
  let c0_i32_181 : BitVec 32 := 0#32
  let v419 : BitVec 1 := Scalar.cmpi .ne v418 c0_i32_181
  v419

def k0_off560 (v2033 : BitVec 32) : Fin 2 → Nat :=
  let c8_i32_855 : BitVec 32 := 8#32
  let v2034 : BitVec 32 := Scalar.muli v2033 c8_i32_855
  let c0_i32_856 : BitVec 32 := 0#32
  let v2035 : BitVec 32 := Scalar.addi v2034 c0_i32_856
  let c7_i32_857 : BitVec 32 := 7#32
  let v2036 : BitVec 32 := Scalar.shrui v2035 c7_i32_857
  let v2038 : Index := Scalar.indexCast v2036
  let c127_i32_858 : BitVec 32 := 127#32
  let v2037 : BitVec 32 := Scalar.andi v2035 c127_i32_858
  let v2039 : Index := Scalar.indexCast v2037
  ![v2038.toNat, v2039.toNat]

def k0_chk227 (arg24 : BitVec 32) (k0_t3 : Fin (k0_t3_loop arg24).trips) (v2033 : BitVec 32) : Prop :=
  (∀ (k0_h10 : k0_cond10 arg24 k0_t3 = 1#1), ∀ a, (k0_off560 v2033) a + S1x1.size a ≤ S8x128.size a)
theorem k0_off560_inb : ∀ (arg24 : BitVec 32) (k0_t3 : Fin (k0_t3_loop arg24).trips) (v2033 : BitVec 32) (k0_hw227 : k0_chk227 arg24 k0_t3 v2033), ∀ (k0_h10 : k0_cond10 arg24 k0_t3 = 1#1), ∀ a, (k0_off560 v2033) a + S1x1.size a ≤ S8x128.size a := fun arg24 k0_t3 v2033 k0_hw227 k0_h10 => k0_hw227 k0_h10

def k0_off561 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_861 : BitVec 32 := 1#32
  let v2043 : BitVec 32 := Scalar.andi v2031 c1_i32_861
  ![v2043.toNat]
def k0_off562 (v2040 : BitVec 32) : Fin 2 → Nat :=
  let c128_i32_859 : BitVec 32 := 128#32
  let v2041 : BitVec 32 := Scalar.muli v2040 c128_i32_859
  let c0_i32_862 : BitVec 32 := 0#32
  ![v2041.toNat, 0]

def k0_off563 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_860 : BitVec 32 := 1#32
  let v2042 : BitVec 32 := Scalar.andi v2031 c1_i32_860
  let c0_i32_863 : BitVec 32 := 0#32
  let c0_i32_864 : BitVec 32 := 0#32
  ![v2042.toNat, 0, 0]

def k0_chk228 (arg24 : BitVec 32) (k0_t3 : Fin (k0_t3_loop arg24).trips) (v2040 : BitVec 32) : Prop :=
  (∀ (k0_h10 : k0_cond10 arg24 k0_t3 = 1#1), ∀ a, (k0_off562 v2040) a + S128x8960.size a ≤ S40960x8960.size a) ∧
  (∀ (k0_h10 : k0_cond10 arg24 k0_t3 = 1#1), ∀ (hinb : ∀ a, (k0_off562 v2040) a + S128x8960.size a ≤ S40960x8960.size a), (Rect.unit (s := S40960x8960) (k0_off562 v2040) S128x8960.size hinb).WholeWords (EltTy.packing .fp8e4m3))
theorem k0_off562_inb : ∀ (arg24 : BitVec 32) (k0_t3 : Fin (k0_t3_loop arg24).trips) (v2040 : BitVec 32) (k0_hw228 : k0_chk228 arg24 k0_t3 v2040), ∀ (k0_h10 : k0_cond10 arg24 k0_t3 = 1#1), ∀ a, (k0_off562 v2040) a + S128x8960.size a ≤ S40960x8960.size a := fun arg24 k0_t3 v2040 k0_hw228 k0_h10 => k0_hw228.1 k0_h10
theorem k0_off562_wordsfp8e4m3 : ∀ (arg24 : BitVec 32) (k0_t3 : Fin (k0_t3_loop arg24).trips) (v2040 : BitVec 32) (k0_hw228 : k0_chk228 arg24 k0_t3 v2040), ∀ (k0_h10 : k0_cond10 arg24 k0_t3 = 1#1), (Rect.unit (s := S40960x8960) (k0_off562 v2040) S128x8960.size (k0_off562_inb arg24 k0_t3 v2040 k0_hw228 k0_h10)).WholeWords (EltTy.packing .fp8e4m3) := fun arg24 k0_t3 v2040 k0_hw228 k0_h10 => k0_hw228.2 k0_h10 (k0_off562_inb arg24 k0_t3 v2040 k0_hw228 k0_h10)

def k0_off564 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let v2049 : Index := Scalar.indexCast v2031
  ![v2049.toNat]
def k0_off565 (v2050 : BitVec 32) : Fin 2 → Nat :=
  let c8_i32_865 : BitVec 32 := 8#32
  let v2051 : BitVec 32 := Scalar.muli v2050 c8_i32_865
  let c1_i32_866 : BitVec 32 := 1#32
  let v2052 : BitVec 32 := Scalar.addi v2051 c1_i32_866
  let c7_i32_867 : BitVec 32 := 7#32
  let v2053 : BitVec 32 := Scalar.shrui v2052 c7_i32_867
  let v2055 : Index := Scalar.indexCast v2053
  let c127_i32_868 : BitVec 32 := 127#32
  let v2054 : BitVec 32 := Scalar.andi v2052 c127_i32_868
  let v2056 : Index := Scalar.indexCast v2054
  ![v2055.toNat, v2056.toNat]

def k0_chk229 (arg24 : BitVec 32) (k0_t3 : Fin (k0_t3_loop arg24).trips) (v2050 : BitVec 32) : Prop :=
  (∀ (k0_h10 : k0_cond10 arg24 k0_t3 = 1#1), ∀ a, (k0_off565 v2050) a + S1x1.size a ≤ S8x128.size a)
theorem k0_off565_inb : ∀ (arg24 : BitVec 32) (k0_t3 : Fin (k0_t3_loop arg24).trips) (v2050 : BitVec 32) (k0_hw229 : k0_chk229 arg24 k0_t3 v2050), ∀ (k0_h10 : k0_cond10 arg24 k0_t3 = 1#1), ∀ a, (k0_off565 v2050) a + S1x1.size a ≤ S8x128.size a := fun arg24 k0_t3 v2050 k0_hw229 k0_h10 => k0_hw229 k0_h10

def k0_off566 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_871 : BitVec 32 := 1#32
  let v2060 : BitVec 32 := Scalar.andi v2031 c1_i32_871
  ![v2060.toNat]
def k0_off567 (v2057 : BitVec 32) : Fin 2 → Nat :=
  let c128_i32_869 : BitVec 32 := 128#32
  let v2058 : BitVec 32 := Scalar.muli v2057 c128_i32_869
  let c0_i32_872 : BitVec 32 := 0#32
  ![v2058.toNat, 0]

def k0_off568 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_870 : BitVec 32 := 1#32
  let v2059 : BitVec 32 := Scalar.andi v2031 c1_i32_870
  let c128_i32_873 : BitVec 32 := 128#32
  let c0_i32_874 : BitVec 32 := 0#32
  ![v2059.toNat, 128, 0]

def k0_chk230 (arg24 : BitVec 32) (k0_t3 : Fin (k0_t3_loop arg24).trips) (v2057 : BitVec 32) : Prop :=
  (∀ (k0_h10 : k0_cond10 arg24 k0_t3 = 1#1), ∀ a, (k0_off567 v2057) a + S128x8960.size a ≤ S40960x8960.size a) ∧
  (∀ (k0_h10 : k0_cond10 arg24 k0_t3 = 1#1), ∀ (hinb : ∀ a, (k0_off567 v2057) a + S128x8960.size a ≤ S40960x8960.size a), (Rect.unit (s := S40960x8960) (k0_off567 v2057) S128x8960.size hinb).WholeWords (EltTy.packing .fp8e4m3))
theorem k0_off567_inb : ∀ (arg24 : BitVec 32) (k0_t3 : Fin (k0_t3_loop arg24).trips) (v2057 : BitVec 32) (k0_hw230 : k0_chk230 arg24 k0_t3 v2057), ∀ (k0_h10 : k0_cond10 arg24 k0_t3 = 1#1), ∀ a, (k0_off567 v2057) a + S128x8960.size a ≤ S40960x8960.size a := fun arg24 k0_t3 v2057 k0_hw230 k0_h10 => k0_hw230.1 k0_h10
theorem k0_off567_wordsfp8e4m3 : ∀ (arg24 : BitVec 32) (k0_t3 : Fin (k0_t3_loop arg24).trips) (v2057 : BitVec 32) (k0_hw230 : k0_chk230 arg24 k0_t3 v2057), ∀ (k0_h10 : k0_cond10 arg24 k0_t3 = 1#1), (Rect.unit (s := S40960x8960) (k0_off567 v2057) S128x8960.size (k0_off567_inb arg24 k0_t3 v2057 k0_hw230 k0_h10)).WholeWords (EltTy.packing .fp8e4m3) := fun arg24 k0_t3 v2057 k0_hw230 k0_h10 => k0_hw230.2 k0_h10 (k0_off567_inb arg24 k0_t3 v2057 k0_hw230 k0_h10)

def k0_off569 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let v2066 : Index := Scalar.indexCast v2031
  ![v2066.toNat]
def k0_off570 (v2067 : BitVec 32) : Fin 2 → Nat :=
  let c8_i32_875 : BitVec 32 := 8#32
  let v2068 : BitVec 32 := Scalar.muli v2067 c8_i32_875
  let c2_i32_876 : BitVec 32 := 2#32
  let v2069 : BitVec 32 := Scalar.addi v2068 c2_i32_876
  let c7_i32_877 : BitVec 32 := 7#32
  let v2070 : BitVec 32 := Scalar.shrui v2069 c7_i32_877
  let v2072 : Index := Scalar.indexCast v2070
  let c127_i32_878 : BitVec 32 := 127#32
  let v2071 : BitVec 32 := Scalar.andi v2069 c127_i32_878
  let v2073 : Index := Scalar.indexCast v2071
  ![v2072.toNat, v2073.toNat]

def k0_chk231 (arg24 : BitVec 32) (k0_t3 : Fin (k0_t3_loop arg24).trips) (v2067 : BitVec 32) : Prop :=
  (∀ (k0_h10 : k0_cond10 arg24 k0_t3 = 1#1), ∀ a, (k0_off570 v2067) a + S1x1.size a ≤ S8x128.size a)
theorem k0_off570_inb : ∀ (arg24 : BitVec 32) (k0_t3 : Fin (k0_t3_loop arg24).trips) (v2067 : BitVec 32) (k0_hw231 : k0_chk231 arg24 k0_t3 v2067), ∀ (k0_h10 : k0_cond10 arg24 k0_t3 = 1#1), ∀ a, (k0_off570 v2067) a + S1x1.size a ≤ S8x128.size a := fun arg24 k0_t3 v2067 k0_hw231 k0_h10 => k0_hw231 k0_h10

def k0_off571 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_881 : BitVec 32 := 1#32
  let v2077 : BitVec 32 := Scalar.andi v2031 c1_i32_881
  ![v2077.toNat]
def k0_off572 (v2074 : BitVec 32) : Fin 2 → Nat :=
  let c128_i32_879 : BitVec 32 := 128#32
  let v2075 : BitVec 32 := Scalar.muli v2074 c128_i32_879
  let c0_i32_882 : BitVec 32 := 0#32
  ![v2075.toNat, 0]

def k0_off573 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_880 : BitVec 32 := 1#32
  let v2076 : BitVec 32 := Scalar.andi v2031 c1_i32_880
  let c256_i32_883 : BitVec 32 := 256#32
  let c0_i32_884 : BitVec 32 := 0#32
  ![v2076.toNat, 256, 0]

def k0_chk232 (arg24 : BitVec 32) (k0_t3 : Fin (k0_t3_loop arg24).trips) (v2074 : BitVec 32) : Prop :=
  (∀ (k0_h10 : k0_cond10 arg24 k0_t3 = 1#1), ∀ a, (k0_off572 v2074) a + S128x8960.size a ≤ S40960x8960.size a) ∧
  (∀ (k0_h10 : k0_cond10 arg24 k0_t3 = 1#1), ∀ (hinb : ∀ a, (k0_off572 v2074) a + S128x8960.size a ≤ S40960x8960.size a), (Rect.unit (s := S40960x8960) (k0_off572 v2074) S128x8960.size hinb).WholeWords (EltTy.packing .fp8e4m3))
theorem k0_off572_inb : ∀ (arg24 : BitVec 32) (k0_t3 : Fin (k0_t3_loop arg24).trips) (v2074 : BitVec 32) (k0_hw232 : k0_chk232 arg24 k0_t3 v2074), ∀ (k0_h10 : k0_cond10 arg24 k0_t3 = 1#1), ∀ a, (k0_off572 v2074) a + S128x8960.size a ≤ S40960x8960.size a := fun arg24 k0_t3 v2074 k0_hw232 k0_h10 => k0_hw232.1 k0_h10
theorem k0_off572_wordsfp8e4m3 : ∀ (arg24 : BitVec 32) (k0_t3 : Fin (k0_t3_loop arg24).trips) (v2074 : BitVec 32) (k0_hw232 : k0_chk232 arg24 k0_t3 v2074), ∀ (k0_h10 : k0_cond10 arg24 k0_t3 = 1#1), (Rect.unit (s := S40960x8960) (k0_off572 v2074) S128x8960.size (k0_off572_inb arg24 k0_t3 v2074 k0_hw232 k0_h10)).WholeWords (EltTy.packing .fp8e4m3) := fun arg24 k0_t3 v2074 k0_hw232 k0_h10 => k0_hw232.2 k0_h10 (k0_off572_inb arg24 k0_t3 v2074 k0_hw232 k0_h10)

def k0_off574 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let v2083 : Index := Scalar.indexCast v2031
  ![v2083.toNat]
def k0_off575 (v2084 : BitVec 32) : Fin 2 → Nat :=
  let c8_i32_885 : BitVec 32 := 8#32
  let v2085 : BitVec 32 := Scalar.muli v2084 c8_i32_885
  let c3_i32_886 : BitVec 32 := 3#32
  let v2086 : BitVec 32 := Scalar.addi v2085 c3_i32_886
  let c7_i32_887 : BitVec 32 := 7#32
  let v2087 : BitVec 32 := Scalar.shrui v2086 c7_i32_887
  let v2089 : Index := Scalar.indexCast v2087
  let c127_i32_888 : BitVec 32 := 127#32
  let v2088 : BitVec 32 := Scalar.andi v2086 c127_i32_888
  let v2090 : Index := Scalar.indexCast v2088
  ![v2089.toNat, v2090.toNat]

def k0_chk233 (arg24 : BitVec 32) (k0_t3 : Fin (k0_t3_loop arg24).trips) (v2084 : BitVec 32) : Prop :=
  (∀ (k0_h10 : k0_cond10 arg24 k0_t3 = 1#1), ∀ a, (k0_off575 v2084) a + S1x1.size a ≤ S8x128.size a)
theorem k0_off575_inb : ∀ (arg24 : BitVec 32) (k0_t3 : Fin (k0_t3_loop arg24).trips) (v2084 : BitVec 32) (k0_hw233 : k0_chk233 arg24 k0_t3 v2084), ∀ (k0_h10 : k0_cond10 arg24 k0_t3 = 1#1), ∀ a, (k0_off575 v2084) a + S1x1.size a ≤ S8x128.size a := fun arg24 k0_t3 v2084 k0_hw233 k0_h10 => k0_hw233 k0_h10

def k0_off576 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_891 : BitVec 32 := 1#32
  let v2094 : BitVec 32 := Scalar.andi v2031 c1_i32_891
  ![v2094.toNat]
def k0_off577 (v2091 : BitVec 32) : Fin 2 → Nat :=
  let c128_i32_889 : BitVec 32 := 128#32
  let v2092 : BitVec 32 := Scalar.muli v2091 c128_i32_889
  let c0_i32_892 : BitVec 32 := 0#32
  ![v2092.toNat, 0]

def k0_off578 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_890 : BitVec 32 := 1#32
  let v2093 : BitVec 32 := Scalar.andi v2031 c1_i32_890
  let c384_i32_893 : BitVec 32 := 384#32
  let c0_i32_894 : BitVec 32 := 0#32
  ![v2093.toNat, 384, 0]

def k0_chk234 (arg24 : BitVec 32) (k0_t3 : Fin (k0_t3_loop arg24).trips) (v2091 : BitVec 32) : Prop :=
  (∀ (k0_h10 : k0_cond10 arg24 k0_t3 = 1#1), ∀ a, (k0_off577 v2091) a + S128x8960.size a ≤ S40960x8960.size a) ∧
  (∀ (k0_h10 : k0_cond10 arg24 k0_t3 = 1#1), ∀ (hinb : ∀ a, (k0_off577 v2091) a + S128x8960.size a ≤ S40960x8960.size a), (Rect.unit (s := S40960x8960) (k0_off577 v2091) S128x8960.size hinb).WholeWords (EltTy.packing .fp8e4m3))
theorem k0_off577_inb : ∀ (arg24 : BitVec 32) (k0_t3 : Fin (k0_t3_loop arg24).trips) (v2091 : BitVec 32) (k0_hw234 : k0_chk234 arg24 k0_t3 v2091), ∀ (k0_h10 : k0_cond10 arg24 k0_t3 = 1#1), ∀ a, (k0_off577 v2091) a + S128x8960.size a ≤ S40960x8960.size a := fun arg24 k0_t3 v2091 k0_hw234 k0_h10 => k0_hw234.1 k0_h10
theorem k0_off577_wordsfp8e4m3 : ∀ (arg24 : BitVec 32) (k0_t3 : Fin (k0_t3_loop arg24).trips) (v2091 : BitVec 32) (k0_hw234 : k0_chk234 arg24 k0_t3 v2091), ∀ (k0_h10 : k0_cond10 arg24 k0_t3 = 1#1), (Rect.unit (s := S40960x8960) (k0_off577 v2091) S128x8960.size (k0_off577_inb arg24 k0_t3 v2091 k0_hw234 k0_h10)).WholeWords (EltTy.packing .fp8e4m3) := fun arg24 k0_t3 v2091 k0_hw234 k0_h10 => k0_hw234.2 k0_h10 (k0_off577_inb arg24 k0_t3 v2091 k0_hw234 k0_h10)

def k0_off579 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let v2100 : Index := Scalar.indexCast v2031
  ![v2100.toNat]
def k0_off580 (v2101 : BitVec 32) : Fin 2 → Nat :=
  let c8_i32_895 : BitVec 32 := 8#32
  let v2102 : BitVec 32 := Scalar.muli v2101 c8_i32_895
  let c4_i32_896 : BitVec 32 := 4#32
  let v2103 : BitVec 32 := Scalar.addi v2102 c4_i32_896
  let c7_i32_897 : BitVec 32 := 7#32
  let v2104 : BitVec 32 := Scalar.shrui v2103 c7_i32_897
  let v2106 : Index := Scalar.indexCast v2104
  let c127_i32_898 : BitVec 32 := 127#32
  let v2105 : BitVec 32 := Scalar.andi v2103 c127_i32_898
  let v2107 : Index := Scalar.indexCast v2105
  ![v2106.toNat, v2107.toNat]

def k0_chk235 (arg24 : BitVec 32) (k0_t3 : Fin (k0_t3_loop arg24).trips) (v2101 : BitVec 32) : Prop :=
  (∀ (k0_h10 : k0_cond10 arg24 k0_t3 = 1#1), ∀ a, (k0_off580 v2101) a + S1x1.size a ≤ S8x128.size a)
theorem k0_off580_inb : ∀ (arg24 : BitVec 32) (k0_t3 : Fin (k0_t3_loop arg24).trips) (v2101 : BitVec 32) (k0_hw235 : k0_chk235 arg24 k0_t3 v2101), ∀ (k0_h10 : k0_cond10 arg24 k0_t3 = 1#1), ∀ a, (k0_off580 v2101) a + S1x1.size a ≤ S8x128.size a := fun arg24 k0_t3 v2101 k0_hw235 k0_h10 => k0_hw235 k0_h10

def k0_off581 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_901 : BitVec 32 := 1#32
  let v2111 : BitVec 32 := Scalar.andi v2031 c1_i32_901
  ![v2111.toNat]
def k0_off582 (v2108 : BitVec 32) : Fin 2 → Nat :=
  let c128_i32_899 : BitVec 32 := 128#32
  let v2109 : BitVec 32 := Scalar.muli v2108 c128_i32_899
  let c0_i32_902 : BitVec 32 := 0#32
  ![v2109.toNat, 0]

def k0_off583 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_900 : BitVec 32 := 1#32
  let v2110 : BitVec 32 := Scalar.andi v2031 c1_i32_900
  let c512_i32_903 : BitVec 32 := 512#32
  let c0_i32_904 : BitVec 32 := 0#32
  ![v2110.toNat, 512, 0]

def k0_chk236 (arg24 : BitVec 32) (k0_t3 : Fin (k0_t3_loop arg24).trips) (v2108 : BitVec 32) : Prop :=
  (∀ (k0_h10 : k0_cond10 arg24 k0_t3 = 1#1), ∀ a, (k0_off582 v2108) a + S128x8960.size a ≤ S40960x8960.size a) ∧
  (∀ (k0_h10 : k0_cond10 arg24 k0_t3 = 1#1), ∀ (hinb : ∀ a, (k0_off582 v2108) a + S128x8960.size a ≤ S40960x8960.size a), (Rect.unit (s := S40960x8960) (k0_off582 v2108) S128x8960.size hinb).WholeWords (EltTy.packing .fp8e4m3))
theorem k0_off582_inb : ∀ (arg24 : BitVec 32) (k0_t3 : Fin (k0_t3_loop arg24).trips) (v2108 : BitVec 32) (k0_hw236 : k0_chk236 arg24 k0_t3 v2108), ∀ (k0_h10 : k0_cond10 arg24 k0_t3 = 1#1), ∀ a, (k0_off582 v2108) a + S128x8960.size a ≤ S40960x8960.size a := fun arg24 k0_t3 v2108 k0_hw236 k0_h10 => k0_hw236.1 k0_h10
theorem k0_off582_wordsfp8e4m3 : ∀ (arg24 : BitVec 32) (k0_t3 : Fin (k0_t3_loop arg24).trips) (v2108 : BitVec 32) (k0_hw236 : k0_chk236 arg24 k0_t3 v2108), ∀ (k0_h10 : k0_cond10 arg24 k0_t3 = 1#1), (Rect.unit (s := S40960x8960) (k0_off582 v2108) S128x8960.size (k0_off582_inb arg24 k0_t3 v2108 k0_hw236 k0_h10)).WholeWords (EltTy.packing .fp8e4m3) := fun arg24 k0_t3 v2108 k0_hw236 k0_h10 => k0_hw236.2 k0_h10 (k0_off582_inb arg24 k0_t3 v2108 k0_hw236 k0_h10)

def k0_off584 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let v2117 : Index := Scalar.indexCast v2031
  ![v2117.toNat]
def k0_off585 (v2118 : BitVec 32) : Fin 2 → Nat :=
  let c8_i32_905 : BitVec 32 := 8#32
  let v2119 : BitVec 32 := Scalar.muli v2118 c8_i32_905
  let c5_i32_906 : BitVec 32 := 5#32
  let v2120 : BitVec 32 := Scalar.addi v2119 c5_i32_906
  let c7_i32_907 : BitVec 32 := 7#32
  let v2121 : BitVec 32 := Scalar.shrui v2120 c7_i32_907
  let v2123 : Index := Scalar.indexCast v2121
  let c127_i32_908 : BitVec 32 := 127#32
  let v2122 : BitVec 32 := Scalar.andi v2120 c127_i32_908
  let v2124 : Index := Scalar.indexCast v2122
  ![v2123.toNat, v2124.toNat]

def k0_chk237 (arg24 : BitVec 32) (k0_t3 : Fin (k0_t3_loop arg24).trips) (v2118 : BitVec 32) : Prop :=
  (∀ (k0_h10 : k0_cond10 arg24 k0_t3 = 1#1), ∀ a, (k0_off585 v2118) a + S1x1.size a ≤ S8x128.size a)
theorem k0_off585_inb : ∀ (arg24 : BitVec 32) (k0_t3 : Fin (k0_t3_loop arg24).trips) (v2118 : BitVec 32) (k0_hw237 : k0_chk237 arg24 k0_t3 v2118), ∀ (k0_h10 : k0_cond10 arg24 k0_t3 = 1#1), ∀ a, (k0_off585 v2118) a + S1x1.size a ≤ S8x128.size a := fun arg24 k0_t3 v2118 k0_hw237 k0_h10 => k0_hw237 k0_h10

def k0_off586 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_911 : BitVec 32 := 1#32
  let v2128 : BitVec 32 := Scalar.andi v2031 c1_i32_911
  ![v2128.toNat]
def k0_off587 (v2125 : BitVec 32) : Fin 2 → Nat :=
  let c128_i32_909 : BitVec 32 := 128#32
  let v2126 : BitVec 32 := Scalar.muli v2125 c128_i32_909
  let c0_i32_912 : BitVec 32 := 0#32
  ![v2126.toNat, 0]

def k0_off588 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_910 : BitVec 32 := 1#32
  let v2127 : BitVec 32 := Scalar.andi v2031 c1_i32_910
  let c640_i32_913 : BitVec 32 := 640#32
  let c0_i32_914 : BitVec 32 := 0#32
  ![v2127.toNat, 640, 0]

def k0_chk238 (arg24 : BitVec 32) (k0_t3 : Fin (k0_t3_loop arg24).trips) (v2125 : BitVec 32) : Prop :=
  (∀ (k0_h10 : k0_cond10 arg24 k0_t3 = 1#1), ∀ a, (k0_off587 v2125) a + S128x8960.size a ≤ S40960x8960.size a) ∧
  (∀ (k0_h10 : k0_cond10 arg24 k0_t3 = 1#1), ∀ (hinb : ∀ a, (k0_off587 v2125) a + S128x8960.size a ≤ S40960x8960.size a), (Rect.unit (s := S40960x8960) (k0_off587 v2125) S128x8960.size hinb).WholeWords (EltTy.packing .fp8e4m3))
theorem k0_off587_inb : ∀ (arg24 : BitVec 32) (k0_t3 : Fin (k0_t3_loop arg24).trips) (v2125 : BitVec 32) (k0_hw238 : k0_chk238 arg24 k0_t3 v2125), ∀ (k0_h10 : k0_cond10 arg24 k0_t3 = 1#1), ∀ a, (k0_off587 v2125) a + S128x8960.size a ≤ S40960x8960.size a := fun arg24 k0_t3 v2125 k0_hw238 k0_h10 => k0_hw238.1 k0_h10
theorem k0_off587_wordsfp8e4m3 : ∀ (arg24 : BitVec 32) (k0_t3 : Fin (k0_t3_loop arg24).trips) (v2125 : BitVec 32) (k0_hw238 : k0_chk238 arg24 k0_t3 v2125), ∀ (k0_h10 : k0_cond10 arg24 k0_t3 = 1#1), (Rect.unit (s := S40960x8960) (k0_off587 v2125) S128x8960.size (k0_off587_inb arg24 k0_t3 v2125 k0_hw238 k0_h10)).WholeWords (EltTy.packing .fp8e4m3) := fun arg24 k0_t3 v2125 k0_hw238 k0_h10 => k0_hw238.2 k0_h10 (k0_off587_inb arg24 k0_t3 v2125 k0_hw238 k0_h10)

def k0_off589 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let v2134 : Index := Scalar.indexCast v2031
  ![v2134.toNat]
def k0_off590 (v2135 : BitVec 32) : Fin 2 → Nat :=
  let c8_i32_915 : BitVec 32 := 8#32
  let v2136 : BitVec 32 := Scalar.muli v2135 c8_i32_915
  let c6_i32_916 : BitVec 32 := 6#32
  let v2137 : BitVec 32 := Scalar.addi v2136 c6_i32_916
  let c7_i32_917 : BitVec 32 := 7#32
  let v2138 : BitVec 32 := Scalar.shrui v2137 c7_i32_917
  let v2140 : Index := Scalar.indexCast v2138
  let c127_i32_918 : BitVec 32 := 127#32
  let v2139 : BitVec 32 := Scalar.andi v2137 c127_i32_918
  let v2141 : Index := Scalar.indexCast v2139
  ![v2140.toNat, v2141.toNat]

def k0_chk239 (arg24 : BitVec 32) (k0_t3 : Fin (k0_t3_loop arg24).trips) (v2135 : BitVec 32) : Prop :=
  (∀ (k0_h10 : k0_cond10 arg24 k0_t3 = 1#1), ∀ a, (k0_off590 v2135) a + S1x1.size a ≤ S8x128.size a)
theorem k0_off590_inb : ∀ (arg24 : BitVec 32) (k0_t3 : Fin (k0_t3_loop arg24).trips) (v2135 : BitVec 32) (k0_hw239 : k0_chk239 arg24 k0_t3 v2135), ∀ (k0_h10 : k0_cond10 arg24 k0_t3 = 1#1), ∀ a, (k0_off590 v2135) a + S1x1.size a ≤ S8x128.size a := fun arg24 k0_t3 v2135 k0_hw239 k0_h10 => k0_hw239 k0_h10

def k0_off591 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_921 : BitVec 32 := 1#32
  let v2145 : BitVec 32 := Scalar.andi v2031 c1_i32_921
  ![v2145.toNat]
def k0_off592 (v2142 : BitVec 32) : Fin 2 → Nat :=
  let c128_i32_919 : BitVec 32 := 128#32
  let v2143 : BitVec 32 := Scalar.muli v2142 c128_i32_919
  let c0_i32_922 : BitVec 32 := 0#32
  ![v2143.toNat, 0]

def k0_off593 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_920 : BitVec 32 := 1#32
  let v2144 : BitVec 32 := Scalar.andi v2031 c1_i32_920
  let c768_i32_923 : BitVec 32 := 768#32
  let c0_i32_924 : BitVec 32 := 0#32
  ![v2144.toNat, 768, 0]

def k0_chk240 (arg24 : BitVec 32) (k0_t3 : Fin (k0_t3_loop arg24).trips) (v2142 : BitVec 32) : Prop :=
  (∀ (k0_h10 : k0_cond10 arg24 k0_t3 = 1#1), ∀ a, (k0_off592 v2142) a + S128x8960.size a ≤ S40960x8960.size a) ∧
  (∀ (k0_h10 : k0_cond10 arg24 k0_t3 = 1#1), ∀ (hinb : ∀ a, (k0_off592 v2142) a + S128x8960.size a ≤ S40960x8960.size a), (Rect.unit (s := S40960x8960) (k0_off592 v2142) S128x8960.size hinb).WholeWords (EltTy.packing .fp8e4m3))
theorem k0_off592_inb : ∀ (arg24 : BitVec 32) (k0_t3 : Fin (k0_t3_loop arg24).trips) (v2142 : BitVec 32) (k0_hw240 : k0_chk240 arg24 k0_t3 v2142), ∀ (k0_h10 : k0_cond10 arg24 k0_t3 = 1#1), ∀ a, (k0_off592 v2142) a + S128x8960.size a ≤ S40960x8960.size a := fun arg24 k0_t3 v2142 k0_hw240 k0_h10 => k0_hw240.1 k0_h10
theorem k0_off592_wordsfp8e4m3 : ∀ (arg24 : BitVec 32) (k0_t3 : Fin (k0_t3_loop arg24).trips) (v2142 : BitVec 32) (k0_hw240 : k0_chk240 arg24 k0_t3 v2142), ∀ (k0_h10 : k0_cond10 arg24 k0_t3 = 1#1), (Rect.unit (s := S40960x8960) (k0_off592 v2142) S128x8960.size (k0_off592_inb arg24 k0_t3 v2142 k0_hw240 k0_h10)).WholeWords (EltTy.packing .fp8e4m3) := fun arg24 k0_t3 v2142 k0_hw240 k0_h10 => k0_hw240.2 k0_h10 (k0_off592_inb arg24 k0_t3 v2142 k0_hw240 k0_h10)

def k0_off594 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let v2151 : Index := Scalar.indexCast v2031
  ![v2151.toNat]
def k0_off595 (v2152 : BitVec 32) : Fin 2 → Nat :=
  let c8_i32_925 : BitVec 32 := 8#32
  let v2153 : BitVec 32 := Scalar.muli v2152 c8_i32_925
  let c7_i32_926 : BitVec 32 := 7#32
  let v2154 : BitVec 32 := Scalar.addi v2153 c7_i32_926
  let c7_i32_927 : BitVec 32 := 7#32
  let v2155 : BitVec 32 := Scalar.shrui v2154 c7_i32_927
  let v2157 : Index := Scalar.indexCast v2155
  let c127_i32_928 : BitVec 32 := 127#32
  let v2156 : BitVec 32 := Scalar.andi v2154 c127_i32_928
  let v2158 : Index := Scalar.indexCast v2156
  ![v2157.toNat, v2158.toNat]

def k0_chk241 (arg24 : BitVec 32) (k0_t3 : Fin (k0_t3_loop arg24).trips) (v2152 : BitVec 32) : Prop :=
  (∀ (k0_h10 : k0_cond10 arg24 k0_t3 = 1#1), ∀ a, (k0_off595 v2152) a + S1x1.size a ≤ S8x128.size a)
theorem k0_off595_inb : ∀ (arg24 : BitVec 32) (k0_t3 : Fin (k0_t3_loop arg24).trips) (v2152 : BitVec 32) (k0_hw241 : k0_chk241 arg24 k0_t3 v2152), ∀ (k0_h10 : k0_cond10 arg24 k0_t3 = 1#1), ∀ a, (k0_off595 v2152) a + S1x1.size a ≤ S8x128.size a := fun arg24 k0_t3 v2152 k0_hw241 k0_h10 => k0_hw241 k0_h10

def k0_off596 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_931 : BitVec 32 := 1#32
  let v2162 : BitVec 32 := Scalar.andi v2031 c1_i32_931
  ![v2162.toNat]
def k0_off597 (v2159 : BitVec 32) : Fin 2 → Nat :=
  let c128_i32_929 : BitVec 32 := 128#32
  let v2160 : BitVec 32 := Scalar.muli v2159 c128_i32_929
  let c0_i32_932 : BitVec 32 := 0#32
  ![v2160.toNat, 0]

def k0_off598 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c2_i32_854 : BitVec 32 := 2#32
  let v2031 : BitVec 32 := Scalar.subi arg25 c2_i32_854
  let c1_i32_930 : BitVec 32 := 1#32
  let v2161 : BitVec 32 := Scalar.andi v2031 c1_i32_930
  let c896_i32_933 : BitVec 32 := 896#32
  let c0_i32_934 : BitVec 32 := 0#32
  ![v2161.toNat, 896, 0]

def k0_chk242 (arg24 : BitVec 32) (k0_t3 : Fin (k0_t3_loop arg24).trips) (v2159 : BitVec 32) : Prop :=
  (∀ (k0_h10 : k0_cond10 arg24 k0_t3 = 1#1), ∀ a, (k0_off597 v2159) a + S128x8960.size a ≤ S40960x8960.size a) ∧
  (∀ (k0_h10 : k0_cond10 arg24 k0_t3 = 1#1), ∀ (hinb : ∀ a, (k0_off597 v2159) a + S128x8960.size a ≤ S40960x8960.size a), (Rect.unit (s := S40960x8960) (k0_off597 v2159) S128x8960.size hinb).WholeWords (EltTy.packing .fp8e4m3))
theorem k0_off597_inb : ∀ (arg24 : BitVec 32) (k0_t3 : Fin (k0_t3_loop arg24).trips) (v2159 : BitVec 32) (k0_hw242 : k0_chk242 arg24 k0_t3 v2159), ∀ (k0_h10 : k0_cond10 arg24 k0_t3 = 1#1), ∀ a, (k0_off597 v2159) a + S128x8960.size a ≤ S40960x8960.size a := fun arg24 k0_t3 v2159 k0_hw242 k0_h10 => k0_hw242.1 k0_h10
theorem k0_off597_wordsfp8e4m3 : ∀ (arg24 : BitVec 32) (k0_t3 : Fin (k0_t3_loop arg24).trips) (v2159 : BitVec 32) (k0_hw242 : k0_chk242 arg24 k0_t3 v2159), ∀ (k0_h10 : k0_cond10 arg24 k0_t3 = 1#1), (Rect.unit (s := S40960x8960) (k0_off597 v2159) S128x8960.size (k0_off597_inb arg24 k0_t3 v2159 k0_hw242 k0_h10)).WholeWords (EltTy.packing .fp8e4m3) := fun arg24 k0_t3 v2159 k0_hw242 k0_h10 => k0_hw242.2 k0_h10 (k0_off597_inb arg24 k0_t3 v2159 k0_hw242 k0_h10)

def k0_off599 (arg24 : BitVec 32) (k0_t3 : Fin (k0_t3_loop arg24).trips) : Fin 1 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let v470 : Index := Scalar.indexCast arg25
  ![v470.toNat]
def k0_off600 (v471 : BitVec 32) : Fin 1 → Nat :=
  let v472 : Index := Scalar.indexCast v471
  ![v472.toNat]

def k0_chk243 (v471 : BitVec 32) : Prop :=
  (∀ a, (k0_off600 v471) a + S1.size a ≤ S40.size a)
theorem k0_off600_inb : ∀ (v471 : BitVec 32) (k0_hw243 : k0_chk243 v471), ∀ a, (k0_off600 v471) a + S1.size a ≤ S40.size a := fun v471 k0_hw243 => k0_hw243

def k0_off601 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_205 : BitVec 32 := 1#32
  let v475 : BitVec 32 := Scalar.andi arg25 c1_i32_205
  let v476 : Index := Scalar.indexCast v475
  let c0_206 : Index := 0#32
  let c0_207 : Index := 0#32
  ![v476.toNat, 0, 0]
def k0_off602 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_214 : BitVec 32 := 1#32
  let v497 : BitVec 32 := Scalar.andi arg25 c1_i32_214
  let v498 : Index := Scalar.indexCast v497
  let c0_215 : Index := 0#32
  let c0_216 : Index := 0#32
  ![v498.toNat, 0, 0]
def k0_off603 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_217 : BitVec 32 := 1#32
  let v502 : BitVec 32 := Scalar.addi arg25 c1_i32_217
  let c1_i32_218 : BitVec 32 := 1#32
  let v503 : BitVec 32 := Scalar.andi v502 c1_i32_218
  let v504 : Index := Scalar.indexCast v503
  let c0_219 : Index := 0#32
  let c0_220 : Index := 0#32
  ![v504.toNat, 0, 0]
def k0_off604 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_234 : BitVec 32 := 1#32
  let v543 : BitVec 32 := Scalar.andi arg25 c1_i32_234
  let v544 : Index := Scalar.indexCast v543
  let c0_235 : Index := 0#32
  let c256_236 : Index := 256#32
  ![v544.toNat, 0, 256]
def k0_off605 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_237 : BitVec 32 := 1#32
  let v548 : BitVec 32 := Scalar.addi arg25 c1_i32_237
  let c1_i32_238 : BitVec 32 := 1#32
  let v549 : BitVec 32 := Scalar.andi v548 c1_i32_238
  let v550 : Index := Scalar.indexCast v549
  let c32_239 : Index := 32#32
  let c0_240 : Index := 0#32
  ![v550.toNat, 32, 0]
def k0_off606 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_254 : BitVec 32 := 1#32
  let v589 : BitVec 32 := Scalar.andi arg25 c1_i32_254
  let v590 : Index := Scalar.indexCast v589
  let c0_255 : Index := 0#32
  let c512_256 : Index := 512#32
  ![v590.toNat, 0, 512]
def k0_off607 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_257 : BitVec 32 := 1#32
  let v594 : BitVec 32 := Scalar.addi arg25 c1_i32_257
  let c1_i32_258 : BitVec 32 := 1#32
  let v595 : BitVec 32 := Scalar.andi v594 c1_i32_258
  let v596 : Index := Scalar.indexCast v595
  let c64 : Index := 64#32
  let c0_259 : Index := 0#32
  ![v596.toNat, 64, 0]
def k0_off608 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_273 : BitVec 32 := 1#32
  let v635 : BitVec 32 := Scalar.andi arg25 c1_i32_273
  let v636 : Index := Scalar.indexCast v635
  let c0_274 : Index := 0#32
  let c768_275 : Index := 768#32
  ![v636.toNat, 0, 768]
def k0_off609 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_276 : BitVec 32 := 1#32
  let v640 : BitVec 32 := Scalar.addi arg25 c1_i32_276
  let c1_i32_277 : BitVec 32 := 1#32
  let v641 : BitVec 32 := Scalar.andi v640 c1_i32_277
  let v642 : Index := Scalar.indexCast v641
  let c96 : Index := 96#32
  let c0_278 : Index := 0#32
  ![v642.toNat, 96, 0]
def k0_off610 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_292 : BitVec 32 := 1#32
  let v681 : BitVec 32 := Scalar.andi arg25 c1_i32_292
  let v682 : Index := Scalar.indexCast v681
  let c0_293 : Index := 0#32
  let c1024_294 : Index := 1024#32
  ![v682.toNat, 0, 1024]
def k0_off611 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_295 : BitVec 32 := 1#32
  let v686 : BitVec 32 := Scalar.addi arg25 c1_i32_295
  let c1_i32_296 : BitVec 32 := 1#32
  let v687 : BitVec 32 := Scalar.andi v686 c1_i32_296
  let v688 : Index := Scalar.indexCast v687
  let c128 : Index := 128#32
  let c0_297 : Index := 0#32
  ![v688.toNat, 128, 0]
def k0_off612 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_311 : BitVec 32 := 1#32
  let v727 : BitVec 32 := Scalar.andi arg25 c1_i32_311
  let v728 : Index := Scalar.indexCast v727
  let c0_312 : Index := 0#32
  let c1280_313 : Index := 1280#32
  ![v728.toNat, 0, 1280]
def k0_off613 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_314 : BitVec 32 := 1#32
  let v732 : BitVec 32 := Scalar.addi arg25 c1_i32_314
  let c1_i32_315 : BitVec 32 := 1#32
  let v733 : BitVec 32 := Scalar.andi v732 c1_i32_315
  let v734 : Index := Scalar.indexCast v733
  let c160 : Index := 160#32
  let c0_316 : Index := 0#32
  ![v734.toNat, 160, 0]
def k0_off614 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_330 : BitVec 32 := 1#32
  let v773 : BitVec 32 := Scalar.andi arg25 c1_i32_330
  let v774 : Index := Scalar.indexCast v773
  let c0_331 : Index := 0#32
  let c1536_332 : Index := 1536#32
  ![v774.toNat, 0, 1536]
def k0_off615 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_333 : BitVec 32 := 1#32
  let v778 : BitVec 32 := Scalar.addi arg25 c1_i32_333
  let c1_i32_334 : BitVec 32 := 1#32
  let v779 : BitVec 32 := Scalar.andi v778 c1_i32_334
  let v780 : Index := Scalar.indexCast v779
  let c192 : Index := 192#32
  let c0_335 : Index := 0#32
  ![v780.toNat, 192, 0]
def k0_off616 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_349 : BitVec 32 := 1#32
  let v819 : BitVec 32 := Scalar.andi arg25 c1_i32_349
  let v820 : Index := Scalar.indexCast v819
  let c0_350 : Index := 0#32
  let c1792_351 : Index := 1792#32
  ![v820.toNat, 0, 1792]
def k0_off617 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_352 : BitVec 32 := 1#32
  let v824 : BitVec 32 := Scalar.addi arg25 c1_i32_352
  let c1_i32_353 : BitVec 32 := 1#32
  let v825 : BitVec 32 := Scalar.andi v824 c1_i32_353
  let v826 : Index := Scalar.indexCast v825
  let c224 : Index := 224#32
  let c0_354 : Index := 0#32
  ![v826.toNat, 224, 0]
def k0_off618 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_368 : BitVec 32 := 1#32
  let v865 : BitVec 32 := Scalar.andi arg25 c1_i32_368
  let v866 : Index := Scalar.indexCast v865
  let c0_369 : Index := 0#32
  let c2048_370 : Index := 2048#32
  ![v866.toNat, 0, 2048]
def k0_off619 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_371 : BitVec 32 := 1#32
  let v870 : BitVec 32 := Scalar.addi arg25 c1_i32_371
  let c1_i32_372 : BitVec 32 := 1#32
  let v871 : BitVec 32 := Scalar.andi v870 c1_i32_372
  let v872 : Index := Scalar.indexCast v871
  let c256_373 : Index := 256#32
  let c0_374 : Index := 0#32
  ![v872.toNat, 256, 0]
def k0_off620 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_388 : BitVec 32 := 1#32
  let v911 : BitVec 32 := Scalar.andi arg25 c1_i32_388
  let v912 : Index := Scalar.indexCast v911
  let c0_389 : Index := 0#32
  let c2304_390 : Index := 2304#32
  ![v912.toNat, 0, 2304]
def k0_off621 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_391 : BitVec 32 := 1#32
  let v916 : BitVec 32 := Scalar.addi arg25 c1_i32_391
  let c1_i32_392 : BitVec 32 := 1#32
  let v917 : BitVec 32 := Scalar.andi v916 c1_i32_392
  let v918 : Index := Scalar.indexCast v917
  let c288 : Index := 288#32
  let c0_393 : Index := 0#32
  ![v918.toNat, 288, 0]
def k0_off622 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_407 : BitVec 32 := 1#32
  let v957 : BitVec 32 := Scalar.andi arg25 c1_i32_407
  let v958 : Index := Scalar.indexCast v957
  let c0_408 : Index := 0#32
  let c2560_409 : Index := 2560#32
  ![v958.toNat, 0, 2560]
def k0_off623 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_410 : BitVec 32 := 1#32
  let v962 : BitVec 32 := Scalar.addi arg25 c1_i32_410
  let c1_i32_411 : BitVec 32 := 1#32
  let v963 : BitVec 32 := Scalar.andi v962 c1_i32_411
  let v964 : Index := Scalar.indexCast v963
  let c320 : Index := 320#32
  let c0_412 : Index := 0#32
  ![v964.toNat, 320, 0]
def k0_off624 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_426 : BitVec 32 := 1#32
  let v1003 : BitVec 32 := Scalar.andi arg25 c1_i32_426
  let v1004 : Index := Scalar.indexCast v1003
  let c0_427 : Index := 0#32
  let c2816_428 : Index := 2816#32
  ![v1004.toNat, 0, 2816]
def k0_off625 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_429 : BitVec 32 := 1#32
  let v1008 : BitVec 32 := Scalar.addi arg25 c1_i32_429
  let c1_i32_430 : BitVec 32 := 1#32
  let v1009 : BitVec 32 := Scalar.andi v1008 c1_i32_430
  let v1010 : Index := Scalar.indexCast v1009
  let c352 : Index := 352#32
  let c0_431 : Index := 0#32
  ![v1010.toNat, 352, 0]
def k0_off626 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_445 : BitVec 32 := 1#32
  let v1049 : BitVec 32 := Scalar.andi arg25 c1_i32_445
  let v1050 : Index := Scalar.indexCast v1049
  let c0_446 : Index := 0#32
  let c3072_447 : Index := 3072#32
  ![v1050.toNat, 0, 3072]
def k0_off627 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_448 : BitVec 32 := 1#32
  let v1054 : BitVec 32 := Scalar.addi arg25 c1_i32_448
  let c1_i32_449 : BitVec 32 := 1#32
  let v1055 : BitVec 32 := Scalar.andi v1054 c1_i32_449
  let v1056 : Index := Scalar.indexCast v1055
  let c384 : Index := 384#32
  let c0_450 : Index := 0#32
  ![v1056.toNat, 384, 0]
def k0_off628 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_464 : BitVec 32 := 1#32
  let v1095 : BitVec 32 := Scalar.andi arg25 c1_i32_464
  let v1096 : Index := Scalar.indexCast v1095
  let c0_465 : Index := 0#32
  let c3328_466 : Index := 3328#32
  ![v1096.toNat, 0, 3328]
def k0_off629 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_467 : BitVec 32 := 1#32
  let v1100 : BitVec 32 := Scalar.addi arg25 c1_i32_467
  let c1_i32_468 : BitVec 32 := 1#32
  let v1101 : BitVec 32 := Scalar.andi v1100 c1_i32_468
  let v1102 : Index := Scalar.indexCast v1101
  let c416 : Index := 416#32
  let c0_469 : Index := 0#32
  ![v1102.toNat, 416, 0]
def k0_off630 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_483 : BitVec 32 := 1#32
  let v1141 : BitVec 32 := Scalar.andi arg25 c1_i32_483
  let v1142 : Index := Scalar.indexCast v1141
  let c0_484 : Index := 0#32
  let c3584_485 : Index := 3584#32
  ![v1142.toNat, 0, 3584]
def k0_off631 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_486 : BitVec 32 := 1#32
  let v1146 : BitVec 32 := Scalar.addi arg25 c1_i32_486
  let c1_i32_487 : BitVec 32 := 1#32
  let v1147 : BitVec 32 := Scalar.andi v1146 c1_i32_487
  let v1148 : Index := Scalar.indexCast v1147
  let c448 : Index := 448#32
  let c0_488 : Index := 0#32
  ![v1148.toNat, 448, 0]
def k0_off632 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_502 : BitVec 32 := 1#32
  let v1187 : BitVec 32 := Scalar.andi arg25 c1_i32_502
  let v1188 : Index := Scalar.indexCast v1187
  let c0_503 : Index := 0#32
  let c3840_504 : Index := 3840#32
  ![v1188.toNat, 0, 3840]
def k0_off633 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_505 : BitVec 32 := 1#32
  let v1192 : BitVec 32 := Scalar.addi arg25 c1_i32_505
  let c1_i32_506 : BitVec 32 := 1#32
  let v1193 : BitVec 32 := Scalar.andi v1192 c1_i32_506
  let v1194 : Index := Scalar.indexCast v1193
  let c480 : Index := 480#32
  let c0_507 : Index := 0#32
  ![v1194.toNat, 480, 0]
def k0_off634 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_521 : BitVec 32 := 1#32
  let v1233 : BitVec 32 := Scalar.andi arg25 c1_i32_521
  let v1234 : Index := Scalar.indexCast v1233
  let c0_522 : Index := 0#32
  let c4096_523 : Index := 4096#32
  ![v1234.toNat, 0, 4096]
def k0_off635 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_524 : BitVec 32 := 1#32
  let v1238 : BitVec 32 := Scalar.addi arg25 c1_i32_524
  let c1_i32_525 : BitVec 32 := 1#32
  let v1239 : BitVec 32 := Scalar.andi v1238 c1_i32_525
  let v1240 : Index := Scalar.indexCast v1239
  let c512_526 : Index := 512#32
  let c0_527 : Index := 0#32
  ![v1240.toNat, 512, 0]
def k0_off636 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_541 : BitVec 32 := 1#32
  let v1279 : BitVec 32 := Scalar.andi arg25 c1_i32_541
  let v1280 : Index := Scalar.indexCast v1279
  let c0_542 : Index := 0#32
  let c4352_543 : Index := 4352#32
  ![v1280.toNat, 0, 4352]
def k0_off637 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_544 : BitVec 32 := 1#32
  let v1284 : BitVec 32 := Scalar.addi arg25 c1_i32_544
  let c1_i32_545 : BitVec 32 := 1#32
  let v1285 : BitVec 32 := Scalar.andi v1284 c1_i32_545
  let v1286 : Index := Scalar.indexCast v1285
  let c544 : Index := 544#32
  let c0_546 : Index := 0#32
  ![v1286.toNat, 544, 0]
def k0_off638 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_560 : BitVec 32 := 1#32
  let v1325 : BitVec 32 := Scalar.andi arg25 c1_i32_560
  let v1326 : Index := Scalar.indexCast v1325
  let c0_561 : Index := 0#32
  let c4608_562 : Index := 4608#32
  ![v1326.toNat, 0, 4608]
def k0_off639 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_563 : BitVec 32 := 1#32
  let v1330 : BitVec 32 := Scalar.addi arg25 c1_i32_563
  let c1_i32_564 : BitVec 32 := 1#32
  let v1331 : BitVec 32 := Scalar.andi v1330 c1_i32_564
  let v1332 : Index := Scalar.indexCast v1331
  let c576 : Index := 576#32
  let c0_565 : Index := 0#32
  ![v1332.toNat, 576, 0]
def k0_off640 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_579 : BitVec 32 := 1#32
  let v1371 : BitVec 32 := Scalar.andi arg25 c1_i32_579
  let v1372 : Index := Scalar.indexCast v1371
  let c0_580 : Index := 0#32
  let c4864_581 : Index := 4864#32
  ![v1372.toNat, 0, 4864]
def k0_off641 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_582 : BitVec 32 := 1#32
  let v1376 : BitVec 32 := Scalar.addi arg25 c1_i32_582
  let c1_i32_583 : BitVec 32 := 1#32
  let v1377 : BitVec 32 := Scalar.andi v1376 c1_i32_583
  let v1378 : Index := Scalar.indexCast v1377
  let c608 : Index := 608#32
  let c0_584 : Index := 0#32
  ![v1378.toNat, 608, 0]
def k0_off642 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_598 : BitVec 32 := 1#32
  let v1417 : BitVec 32 := Scalar.andi arg25 c1_i32_598
  let v1418 : Index := Scalar.indexCast v1417
  let c0_599 : Index := 0#32
  let c5120_600 : Index := 5120#32
  ![v1418.toNat, 0, 5120]
def k0_off643 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_601 : BitVec 32 := 1#32
  let v1422 : BitVec 32 := Scalar.addi arg25 c1_i32_601
  let c1_i32_602 : BitVec 32 := 1#32
  let v1423 : BitVec 32 := Scalar.andi v1422 c1_i32_602
  let v1424 : Index := Scalar.indexCast v1423
  let c640 : Index := 640#32
  let c0_603 : Index := 0#32
  ![v1424.toNat, 640, 0]
def k0_off644 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_617 : BitVec 32 := 1#32
  let v1463 : BitVec 32 := Scalar.andi arg25 c1_i32_617
  let v1464 : Index := Scalar.indexCast v1463
  let c0_618 : Index := 0#32
  let c5376_619 : Index := 5376#32
  ![v1464.toNat, 0, 5376]
def k0_off645 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_620 : BitVec 32 := 1#32
  let v1468 : BitVec 32 := Scalar.addi arg25 c1_i32_620
  let c1_i32_621 : BitVec 32 := 1#32
  let v1469 : BitVec 32 := Scalar.andi v1468 c1_i32_621
  let v1470 : Index := Scalar.indexCast v1469
  let c672 : Index := 672#32
  let c0_622 : Index := 0#32
  ![v1470.toNat, 672, 0]
def k0_off646 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_636 : BitVec 32 := 1#32
  let v1509 : BitVec 32 := Scalar.andi arg25 c1_i32_636
  let v1510 : Index := Scalar.indexCast v1509
  let c0_637 : Index := 0#32
  let c5632_638 : Index := 5632#32
  ![v1510.toNat, 0, 5632]
def k0_off647 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_639 : BitVec 32 := 1#32
  let v1514 : BitVec 32 := Scalar.addi arg25 c1_i32_639
  let c1_i32_640 : BitVec 32 := 1#32
  let v1515 : BitVec 32 := Scalar.andi v1514 c1_i32_640
  let v1516 : Index := Scalar.indexCast v1515
  let c704 : Index := 704#32
  let c0_641 : Index := 0#32
  ![v1516.toNat, 704, 0]
def k0_off648 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_655 : BitVec 32 := 1#32
  let v1555 : BitVec 32 := Scalar.andi arg25 c1_i32_655
  let v1556 : Index := Scalar.indexCast v1555
  let c0_656 : Index := 0#32
  let c5888_657 : Index := 5888#32
  ![v1556.toNat, 0, 5888]
def k0_off649 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_658 : BitVec 32 := 1#32
  let v1560 : BitVec 32 := Scalar.addi arg25 c1_i32_658
  let c1_i32_659 : BitVec 32 := 1#32
  let v1561 : BitVec 32 := Scalar.andi v1560 c1_i32_659
  let v1562 : Index := Scalar.indexCast v1561
  let c736 : Index := 736#32
  let c0_660 : Index := 0#32
  ![v1562.toNat, 736, 0]
def k0_off650 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_674 : BitVec 32 := 1#32
  let v1601 : BitVec 32 := Scalar.andi arg25 c1_i32_674
  let v1602 : Index := Scalar.indexCast v1601
  let c0_675 : Index := 0#32
  let c6144_676 : Index := 6144#32
  ![v1602.toNat, 0, 6144]
def k0_off651 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_677 : BitVec 32 := 1#32
  let v1606 : BitVec 32 := Scalar.addi arg25 c1_i32_677
  let c1_i32_678 : BitVec 32 := 1#32
  let v1607 : BitVec 32 := Scalar.andi v1606 c1_i32_678
  let v1608 : Index := Scalar.indexCast v1607
  let c768_679 : Index := 768#32
  let c0_680 : Index := 0#32
  ![v1608.toNat, 768, 0]
def k0_off652 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_694 : BitVec 32 := 1#32
  let v1647 : BitVec 32 := Scalar.andi arg25 c1_i32_694
  let v1648 : Index := Scalar.indexCast v1647
  let c0_695 : Index := 0#32
  let c6400_696 : Index := 6400#32
  ![v1648.toNat, 0, 6400]
def k0_off653 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_697 : BitVec 32 := 1#32
  let v1652 : BitVec 32 := Scalar.addi arg25 c1_i32_697
  let c1_i32_698 : BitVec 32 := 1#32
  let v1653 : BitVec 32 := Scalar.andi v1652 c1_i32_698
  let v1654 : Index := Scalar.indexCast v1653
  let c800 : Index := 800#32
  let c0_699 : Index := 0#32
  ![v1654.toNat, 800, 0]
def k0_off654 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_713 : BitVec 32 := 1#32
  let v1693 : BitVec 32 := Scalar.andi arg25 c1_i32_713
  let v1694 : Index := Scalar.indexCast v1693
  let c0_714 : Index := 0#32
  let c6656_715 : Index := 6656#32
  ![v1694.toNat, 0, 6656]
def k0_off655 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_716 : BitVec 32 := 1#32
  let v1698 : BitVec 32 := Scalar.addi arg25 c1_i32_716
  let c1_i32_717 : BitVec 32 := 1#32
  let v1699 : BitVec 32 := Scalar.andi v1698 c1_i32_717
  let v1700 : Index := Scalar.indexCast v1699
  let c832 : Index := 832#32
  let c0_718 : Index := 0#32
  ![v1700.toNat, 832, 0]
def k0_off656 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_732 : BitVec 32 := 1#32
  let v1739 : BitVec 32 := Scalar.andi arg25 c1_i32_732
  let v1740 : Index := Scalar.indexCast v1739
  let c0_733 : Index := 0#32
  let c6912_734 : Index := 6912#32
  ![v1740.toNat, 0, 6912]
def k0_off657 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_735 : BitVec 32 := 1#32
  let v1744 : BitVec 32 := Scalar.addi arg25 c1_i32_735
  let c1_i32_736 : BitVec 32 := 1#32
  let v1745 : BitVec 32 := Scalar.andi v1744 c1_i32_736
  let v1746 : Index := Scalar.indexCast v1745
  let c864 : Index := 864#32
  let c0_737 : Index := 0#32
  ![v1746.toNat, 864, 0]
def k0_off658 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_751 : BitVec 32 := 1#32
  let v1785 : BitVec 32 := Scalar.andi arg25 c1_i32_751
  let v1786 : Index := Scalar.indexCast v1785
  let c0_752 : Index := 0#32
  let c7168_753 : Index := 7168#32
  ![v1786.toNat, 0, 7168]
def k0_off659 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_754 : BitVec 32 := 1#32
  let v1790 : BitVec 32 := Scalar.addi arg25 c1_i32_754
  let c1_i32_755 : BitVec 32 := 1#32
  let v1791 : BitVec 32 := Scalar.andi v1790 c1_i32_755
  let v1792 : Index := Scalar.indexCast v1791
  let c896 : Index := 896#32
  let c0_756 : Index := 0#32
  ![v1792.toNat, 896, 0]
def k0_off660 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_770 : BitVec 32 := 1#32
  let v1831 : BitVec 32 := Scalar.andi arg25 c1_i32_770
  let v1832 : Index := Scalar.indexCast v1831
  let c0_771 : Index := 0#32
  let c7424_772 : Index := 7424#32
  ![v1832.toNat, 0, 7424]
def k0_off661 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_773 : BitVec 32 := 1#32
  let v1836 : BitVec 32 := Scalar.addi arg25 c1_i32_773
  let c1_i32_774 : BitVec 32 := 1#32
  let v1837 : BitVec 32 := Scalar.andi v1836 c1_i32_774
  let v1838 : Index := Scalar.indexCast v1837
  let c928 : Index := 928#32
  let c0_775 : Index := 0#32
  ![v1838.toNat, 928, 0]
def k0_off662 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_789 : BitVec 32 := 1#32
  let v1877 : BitVec 32 := Scalar.andi arg25 c1_i32_789
  let v1878 : Index := Scalar.indexCast v1877
  let c0_790 : Index := 0#32
  let c7680_791 : Index := 7680#32
  ![v1878.toNat, 0, 7680]
def k0_off663 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_792 : BitVec 32 := 1#32
  let v1882 : BitVec 32 := Scalar.addi arg25 c1_i32_792
  let c1_i32_793 : BitVec 32 := 1#32
  let v1883 : BitVec 32 := Scalar.andi v1882 c1_i32_793
  let v1884 : Index := Scalar.indexCast v1883
  let c960 : Index := 960#32
  let c0_794 : Index := 0#32
  ![v1884.toNat, 960, 0]
def k0_off664 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_808 : BitVec 32 := 1#32
  let v1923 : BitVec 32 := Scalar.andi arg25 c1_i32_808
  let v1924 : Index := Scalar.indexCast v1923
  let c0_809 : Index := 0#32
  let c7936_810 : Index := 7936#32
  ![v1924.toNat, 0, 7936]
def k0_off665 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_811 : BitVec 32 := 1#32
  let v1928 : BitVec 32 := Scalar.addi arg25 c1_i32_811
  let c1_i32_812 : BitVec 32 := 1#32
  let v1929 : BitVec 32 := Scalar.andi v1928 c1_i32_812
  let v1930 : Index := Scalar.indexCast v1929
  let c992 : Index := 992#32
  let c0_813 : Index := 0#32
  ![v1930.toNat, 992, 0]
def k0_off666 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_827 : BitVec 32 := 1#32
  let v1969 : BitVec 32 := Scalar.andi arg25 c1_i32_827
  let v1970 : Index := Scalar.indexCast v1969
  let c0_828 : Index := 0#32
  let c8192_829 : Index := 8192#32
  ![v1970.toNat, 0, 8192]
def k0_off667 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_838 : BitVec 32 := 1#32
  let v1996 : BitVec 32 := Scalar.andi arg25 c1_i32_838
  let v1997 : Index := Scalar.indexCast v1996
  let c0_839 : Index := 0#32
  let c8448_840 : Index := 8448#32
  ![v1997.toNat, 0, 8448]
def k0_off668 (arg24 : BitVec 32) (k0_t3 : Fin (k0_t3_loop arg24).trips) : Fin 3 → Nat :=
  let c0_i32_63 : BitVec 32 := 0#32
  let v205 : BitVec 32 := Scalar.subi arg24 c0_i32_63
  let c1_i32_64 : BitVec 32 := 1#32
  let v207 : BitVec 32 := Scalar.divsi v205 c1_i32_64
  let v208 : BitVec 32 := Scalar.muli v207 c1_i32_64
  let v209 : BitVec 32 := Scalar.addi c0_i32_63 v208
  let c1_i32_66 : BitVec 32 := 1#32
  let arg25 : BitVec 32 := Scf.iv v209 c1_i32_66 k0_t3
  let c1_i32_849 : BitVec 32 := 1#32
  let v2023 : BitVec 32 := Scalar.andi arg25 c1_i32_849
  let v2024 : Index := Scalar.indexCast v2023
  let c0_850 : Index := 0#32
  let c8704_851 : Index := 8704#32
  ![v2024.toNat, 0, 8704]
def k0_off669 (arg24 : BitVec 32) : Fin 1 → Nat :=
  let c1_i32_99 : BitVec 32 := 1#32
  let v270 : BitVec 32 := Scalar.subi arg24 c1_i32_99
  let v271 : Index := Scalar.indexCast v270
  ![v271.toNat]
def k0_cond11 (arg24 : BitVec 32) : BitVec 1 :=
  let c0_i32_67 : BitVec 32 := 0#32
  let v210 : BitVec 1 := Scalar.cmpi .sgt arg24 c0_i32_67
  let v211 : BitVec 32 := Scalar.extui v210
  let c0_i32_68 : BitVec 32 := 0#32
  let v212 : BitVec 1 := Scalar.cmpi .ne v211 c0_i32_68
  v212

def k0_off670 (v272 : BitVec 32) : Fin 2 → Nat :=
  let c8_i32_100 : BitVec 32 := 8#32
  let v273 : BitVec 32 := Scalar.muli v272 c8_i32_100
  let c0_i32_101 : BitVec 32 := 0#32
  let v274 : BitVec 32 := Scalar.addi v273 c0_i32_101
  let c7_i32_102 : BitVec 32 := 7#32
  let v275 : BitVec 32 := Scalar.shrui v274 c7_i32_102
  let v277 : Index := Scalar.indexCast v275
  let c127_i32_103 : BitVec 32 := 127#32
  let v276 : BitVec 32 := Scalar.andi v274 c127_i32_103
  let v278 : Index := Scalar.indexCast v276
  ![v277.toNat, v278.toNat]

def k0_chk244 (arg24 : BitVec 32) (v272 : BitVec 32) : Prop :=
  (∀ (k0_h11 : k0_cond11 arg24 = 1#1), ∀ a, (k0_off670 v272) a + S1x1.size a ≤ S8x128.size a)
theorem k0_off670_inb : ∀ (arg24 : BitVec 32) (v272 : BitVec 32) (k0_hw244 : k0_chk244 arg24 v272), ∀ (k0_h11 : k0_cond11 arg24 = 1#1), ∀ a, (k0_off670 v272) a + S1x1.size a ≤ S8x128.size a := fun arg24 v272 k0_hw244 k0_h11 => k0_hw244 k0_h11

def k0_off671 (arg24 : BitVec 32) : Fin 1 → Nat :=
  let c1_i32_99 : BitVec 32 := 1#32
  let v270 : BitVec 32 := Scalar.subi arg24 c1_i32_99
  let c1_i32_106 : BitVec 32 := 1#32
  let v282 : BitVec 32 := Scalar.andi v270 c1_i32_106
  ![v282.toNat]
def k0_off672 (v279 : BitVec 32) : Fin 2 → Nat :=
  let c128_i32_104 : BitVec 32 := 128#32
  let v280 : BitVec 32 := Scalar.muli v279 c128_i32_104
  let c0_i32_107 : BitVec 32 := 0#32
  ![v280.toNat, 0]

def k0_off673 (arg24 : BitVec 32) : Fin 3 → Nat :=
  let c1_i32_99 : BitVec 32 := 1#32
  let v270 : BitVec 32 := Scalar.subi arg24 c1_i32_99
  let c1_i32_105 : BitVec 32 := 1#32
  let v281 : BitVec 32 := Scalar.andi v270 c1_i32_105
  let c0_i32_108 : BitVec 32 := 0#32
  let c0_i32_109 : BitVec 32 := 0#32
  ![v281.toNat, 0, 0]

def k0_chk245 (arg24 : BitVec 32) (v279 : BitVec 32) : Prop :=
  (∀ (k0_h11 : k0_cond11 arg24 = 1#1), ∀ a, (k0_off672 v279) a + S128x1536.size a ≤ S40960x1536.size a) ∧
  (∀ (k0_h11 : k0_cond11 arg24 = 1#1), ∀ (hinb : ∀ a, (k0_off672 v279) a + S128x1536.size a ≤ S40960x1536.size a), (Rect.unit (s := S40960x1536) (k0_off672 v279) S128x1536.size hinb).WholeWords (EltTy.packing .fp8e4m3))
theorem k0_off672_inb : ∀ (arg24 : BitVec 32) (v279 : BitVec 32) (k0_hw245 : k0_chk245 arg24 v279), ∀ (k0_h11 : k0_cond11 arg24 = 1#1), ∀ a, (k0_off672 v279) a + S128x1536.size a ≤ S40960x1536.size a := fun arg24 v279 k0_hw245 k0_h11 => k0_hw245.1 k0_h11
theorem k0_off672_wordsfp8e4m3 : ∀ (arg24 : BitVec 32) (v279 : BitVec 32) (k0_hw245 : k0_chk245 arg24 v279), ∀ (k0_h11 : k0_cond11 arg24 = 1#1), (Rect.unit (s := S40960x1536) (k0_off672 v279) S128x1536.size (k0_off672_inb arg24 v279 k0_hw245 k0_h11)).WholeWords (EltTy.packing .fp8e4m3) := fun arg24 v279 k0_hw245 k0_h11 => k0_hw245.2 k0_h11 (k0_off672_inb arg24 v279 k0_hw245 k0_h11)

def k0_off674 (arg24 : BitVec 32) : Fin 1 → Nat :=
  let c1_i32_99 : BitVec 32 := 1#32
  let v270 : BitVec 32 := Scalar.subi arg24 c1_i32_99
  let v288 : Index := Scalar.indexCast v270
  ![v288.toNat]
def k0_off675 (v289 : BitVec 32) : Fin 2 → Nat :=
  let c8_i32_110 : BitVec 32 := 8#32
  let v290 : BitVec 32 := Scalar.muli v289 c8_i32_110
  let c1_i32_111 : BitVec 32 := 1#32
  let v291 : BitVec 32 := Scalar.addi v290 c1_i32_111
  let c7_i32_112 : BitVec 32 := 7#32
  let v292 : BitVec 32 := Scalar.shrui v291 c7_i32_112
  let v294 : Index := Scalar.indexCast v292
  let c127_i32_113 : BitVec 32 := 127#32
  let v293 : BitVec 32 := Scalar.andi v291 c127_i32_113
  let v295 : Index := Scalar.indexCast v293
  ![v294.toNat, v295.toNat]

def k0_chk246 (arg24 : BitVec 32) (v289 : BitVec 32) : Prop :=
  (∀ (k0_h11 : k0_cond11 arg24 = 1#1), ∀ a, (k0_off675 v289) a + S1x1.size a ≤ S8x128.size a)
theorem k0_off675_inb : ∀ (arg24 : BitVec 32) (v289 : BitVec 32) (k0_hw246 : k0_chk246 arg24 v289), ∀ (k0_h11 : k0_cond11 arg24 = 1#1), ∀ a, (k0_off675 v289) a + S1x1.size a ≤ S8x128.size a := fun arg24 v289 k0_hw246 k0_h11 => k0_hw246 k0_h11

def k0_off676 (arg24 : BitVec 32) : Fin 1 → Nat :=
  let c1_i32_99 : BitVec 32 := 1#32
  let v270 : BitVec 32 := Scalar.subi arg24 c1_i32_99
  let c1_i32_116 : BitVec 32 := 1#32
  let v299 : BitVec 32 := Scalar.andi v270 c1_i32_116
  ![v299.toNat]
def k0_off677 (v296 : BitVec 32) : Fin 2 → Nat :=
  let c128_i32_114 : BitVec 32 := 128#32
  let v297 : BitVec 32 := Scalar.muli v296 c128_i32_114
  let c0_i32_117 : BitVec 32 := 0#32
  ![v297.toNat, 0]

def k0_off678 (arg24 : BitVec 32) : Fin 3 → Nat :=
  let c1_i32_99 : BitVec 32 := 1#32
  let v270 : BitVec 32 := Scalar.subi arg24 c1_i32_99
  let c1_i32_115 : BitVec 32 := 1#32
  let v298 : BitVec 32 := Scalar.andi v270 c1_i32_115
  let c128_i32_118 : BitVec 32 := 128#32
  let c0_i32_119 : BitVec 32 := 0#32
  ![v298.toNat, 128, 0]

def k0_chk247 (arg24 : BitVec 32) (v296 : BitVec 32) : Prop :=
  (∀ (k0_h11 : k0_cond11 arg24 = 1#1), ∀ a, (k0_off677 v296) a + S128x1536.size a ≤ S40960x1536.size a) ∧
  (∀ (k0_h11 : k0_cond11 arg24 = 1#1), ∀ (hinb : ∀ a, (k0_off677 v296) a + S128x1536.size a ≤ S40960x1536.size a), (Rect.unit (s := S40960x1536) (k0_off677 v296) S128x1536.size hinb).WholeWords (EltTy.packing .fp8e4m3))
theorem k0_off677_inb : ∀ (arg24 : BitVec 32) (v296 : BitVec 32) (k0_hw247 : k0_chk247 arg24 v296), ∀ (k0_h11 : k0_cond11 arg24 = 1#1), ∀ a, (k0_off677 v296) a + S128x1536.size a ≤ S40960x1536.size a := fun arg24 v296 k0_hw247 k0_h11 => k0_hw247.1 k0_h11
theorem k0_off677_wordsfp8e4m3 : ∀ (arg24 : BitVec 32) (v296 : BitVec 32) (k0_hw247 : k0_chk247 arg24 v296), ∀ (k0_h11 : k0_cond11 arg24 = 1#1), (Rect.unit (s := S40960x1536) (k0_off677 v296) S128x1536.size (k0_off677_inb arg24 v296 k0_hw247 k0_h11)).WholeWords (EltTy.packing .fp8e4m3) := fun arg24 v296 k0_hw247 k0_h11 => k0_hw247.2 k0_h11 (k0_off677_inb arg24 v296 k0_hw247 k0_h11)

def k0_off679 (arg24 : BitVec 32) : Fin 1 → Nat :=
  let c1_i32_99 : BitVec 32 := 1#32
  let v270 : BitVec 32 := Scalar.subi arg24 c1_i32_99
  let v305 : Index := Scalar.indexCast v270
  ![v305.toNat]
def k0_off680 (v306 : BitVec 32) : Fin 2 → Nat :=
  let c8_i32_120 : BitVec 32 := 8#32
  let v307 : BitVec 32 := Scalar.muli v306 c8_i32_120
  let c2_i32_121 : BitVec 32 := 2#32
  let v308 : BitVec 32 := Scalar.addi v307 c2_i32_121
  let c7_i32_122 : BitVec 32 := 7#32
  let v309 : BitVec 32 := Scalar.shrui v308 c7_i32_122
  let v311 : Index := Scalar.indexCast v309
  let c127_i32_123 : BitVec 32 := 127#32
  let v310 : BitVec 32 := Scalar.andi v308 c127_i32_123
  let v312 : Index := Scalar.indexCast v310
  ![v311.toNat, v312.toNat]

def k0_chk248 (arg24 : BitVec 32) (v306 : BitVec 32) : Prop :=
  (∀ (k0_h11 : k0_cond11 arg24 = 1#1), ∀ a, (k0_off680 v306) a + S1x1.size a ≤ S8x128.size a)
theorem k0_off680_inb : ∀ (arg24 : BitVec 32) (v306 : BitVec 32) (k0_hw248 : k0_chk248 arg24 v306), ∀ (k0_h11 : k0_cond11 arg24 = 1#1), ∀ a, (k0_off680 v306) a + S1x1.size a ≤ S8x128.size a := fun arg24 v306 k0_hw248 k0_h11 => k0_hw248 k0_h11

def k0_off681 (arg24 : BitVec 32) : Fin 1 → Nat :=
  let c1_i32_99 : BitVec 32 := 1#32
  let v270 : BitVec 32 := Scalar.subi arg24 c1_i32_99
  let c1_i32_126 : BitVec 32 := 1#32
  let v316 : BitVec 32 := Scalar.andi v270 c1_i32_126
  ![v316.toNat]
def k0_off682 (v313 : BitVec 32) : Fin 2 → Nat :=
  let c128_i32_124 : BitVec 32 := 128#32
  let v314 : BitVec 32 := Scalar.muli v313 c128_i32_124
  let c0_i32_127 : BitVec 32 := 0#32
  ![v314.toNat, 0]

def k0_off683 (arg24 : BitVec 32) : Fin 3 → Nat :=
  let c1_i32_99 : BitVec 32 := 1#32
  let v270 : BitVec 32 := Scalar.subi arg24 c1_i32_99
  let c1_i32_125 : BitVec 32 := 1#32
  let v315 : BitVec 32 := Scalar.andi v270 c1_i32_125
  let c256_i32_128 : BitVec 32 := 256#32
  let c0_i32_129 : BitVec 32 := 0#32
  ![v315.toNat, 256, 0]

def k0_chk249 (arg24 : BitVec 32) (v313 : BitVec 32) : Prop :=
  (∀ (k0_h11 : k0_cond11 arg24 = 1#1), ∀ a, (k0_off682 v313) a + S128x1536.size a ≤ S40960x1536.size a) ∧
  (∀ (k0_h11 : k0_cond11 arg24 = 1#1), ∀ (hinb : ∀ a, (k0_off682 v313) a + S128x1536.size a ≤ S40960x1536.size a), (Rect.unit (s := S40960x1536) (k0_off682 v313) S128x1536.size hinb).WholeWords (EltTy.packing .fp8e4m3))
theorem k0_off682_inb : ∀ (arg24 : BitVec 32) (v313 : BitVec 32) (k0_hw249 : k0_chk249 arg24 v313), ∀ (k0_h11 : k0_cond11 arg24 = 1#1), ∀ a, (k0_off682 v313) a + S128x1536.size a ≤ S40960x1536.size a := fun arg24 v313 k0_hw249 k0_h11 => k0_hw249.1 k0_h11
theorem k0_off682_wordsfp8e4m3 : ∀ (arg24 : BitVec 32) (v313 : BitVec 32) (k0_hw249 : k0_chk249 arg24 v313), ∀ (k0_h11 : k0_cond11 arg24 = 1#1), (Rect.unit (s := S40960x1536) (k0_off682 v313) S128x1536.size (k0_off682_inb arg24 v313 k0_hw249 k0_h11)).WholeWords (EltTy.packing .fp8e4m3) := fun arg24 v313 k0_hw249 k0_h11 => k0_hw249.2 k0_h11 (k0_off682_inb arg24 v313 k0_hw249 k0_h11)

def k0_off684 (arg24 : BitVec 32) : Fin 1 → Nat :=
  let c1_i32_99 : BitVec 32 := 1#32
  let v270 : BitVec 32 := Scalar.subi arg24 c1_i32_99
  let v322 : Index := Scalar.indexCast v270
  ![v322.toNat]
def k0_off685 (v323 : BitVec 32) : Fin 2 → Nat :=
  let c8_i32_130 : BitVec 32 := 8#32
  let v324 : BitVec 32 := Scalar.muli v323 c8_i32_130
  let c3_i32_131 : BitVec 32 := 3#32
  let v325 : BitVec 32 := Scalar.addi v324 c3_i32_131
  let c7_i32_132 : BitVec 32 := 7#32
  let v326 : BitVec 32 := Scalar.shrui v325 c7_i32_132
  let v328 : Index := Scalar.indexCast v326
  let c127_i32_133 : BitVec 32 := 127#32
  let v327 : BitVec 32 := Scalar.andi v325 c127_i32_133
  let v329 : Index := Scalar.indexCast v327
  ![v328.toNat, v329.toNat]

def k0_chk250 (arg24 : BitVec 32) (v323 : BitVec 32) : Prop :=
  (∀ (k0_h11 : k0_cond11 arg24 = 1#1), ∀ a, (k0_off685 v323) a + S1x1.size a ≤ S8x128.size a)
theorem k0_off685_inb : ∀ (arg24 : BitVec 32) (v323 : BitVec 32) (k0_hw250 : k0_chk250 arg24 v323), ∀ (k0_h11 : k0_cond11 arg24 = 1#1), ∀ a, (k0_off685 v323) a + S1x1.size a ≤ S8x128.size a := fun arg24 v323 k0_hw250 k0_h11 => k0_hw250 k0_h11

def k0_off686 (arg24 : BitVec 32) : Fin 1 → Nat :=
  let c1_i32_99 : BitVec 32 := 1#32
  let v270 : BitVec 32 := Scalar.subi arg24 c1_i32_99
  let c1_i32_136 : BitVec 32 := 1#32
  let v333 : BitVec 32 := Scalar.andi v270 c1_i32_136
  ![v333.toNat]
def k0_off687 (v330 : BitVec 32) : Fin 2 → Nat :=
  let c128_i32_134 : BitVec 32 := 128#32
  let v331 : BitVec 32 := Scalar.muli v330 c128_i32_134
  let c0_i32_137 : BitVec 32 := 0#32
  ![v331.toNat, 0]

def k0_off688 (arg24 : BitVec 32) : Fin 3 → Nat :=
  let c1_i32_99 : BitVec 32 := 1#32
  let v270 : BitVec 32 := Scalar.subi arg24 c1_i32_99
  let c1_i32_135 : BitVec 32 := 1#32
  let v332 : BitVec 32 := Scalar.andi v270 c1_i32_135
  let c384_i32 : BitVec 32 := 384#32
  let c0_i32_138 : BitVec 32 := 0#32
  ![v332.toNat, 384, 0]

def k0_chk251 (arg24 : BitVec 32) (v330 : BitVec 32) : Prop :=
  (∀ (k0_h11 : k0_cond11 arg24 = 1#1), ∀ a, (k0_off687 v330) a + S128x1536.size a ≤ S40960x1536.size a) ∧
  (∀ (k0_h11 : k0_cond11 arg24 = 1#1), ∀ (hinb : ∀ a, (k0_off687 v330) a + S128x1536.size a ≤ S40960x1536.size a), (Rect.unit (s := S40960x1536) (k0_off687 v330) S128x1536.size hinb).WholeWords (EltTy.packing .fp8e4m3))
theorem k0_off687_inb : ∀ (arg24 : BitVec 32) (v330 : BitVec 32) (k0_hw251 : k0_chk251 arg24 v330), ∀ (k0_h11 : k0_cond11 arg24 = 1#1), ∀ a, (k0_off687 v330) a + S128x1536.size a ≤ S40960x1536.size a := fun arg24 v330 k0_hw251 k0_h11 => k0_hw251.1 k0_h11
theorem k0_off687_wordsfp8e4m3 : ∀ (arg24 : BitVec 32) (v330 : BitVec 32) (k0_hw251 : k0_chk251 arg24 v330), ∀ (k0_h11 : k0_cond11 arg24 = 1#1), (Rect.unit (s := S40960x1536) (k0_off687 v330) S128x1536.size (k0_off687_inb arg24 v330 k0_hw251 k0_h11)).WholeWords (EltTy.packing .fp8e4m3) := fun arg24 v330 k0_hw251 k0_h11 => k0_hw251.2 k0_h11 (k0_off687_inb arg24 v330 k0_hw251 k0_h11)

def k0_off689 (arg24 : BitVec 32) : Fin 1 → Nat :=
  let c1_i32_99 : BitVec 32 := 1#32
  let v270 : BitVec 32 := Scalar.subi arg24 c1_i32_99
  let v339 : Index := Scalar.indexCast v270
  ![v339.toNat]
def k0_off690 (v340 : BitVec 32) : Fin 2 → Nat :=
  let c8_i32_139 : BitVec 32 := 8#32
  let v341 : BitVec 32 := Scalar.muli v340 c8_i32_139
  let c4_i32_140 : BitVec 32 := 4#32
  let v342 : BitVec 32 := Scalar.addi v341 c4_i32_140
  let c7_i32_141 : BitVec 32 := 7#32
  let v343 : BitVec 32 := Scalar.shrui v342 c7_i32_141
  let v345 : Index := Scalar.indexCast v343
  let c127_i32_142 : BitVec 32 := 127#32
  let v344 : BitVec 32 := Scalar.andi v342 c127_i32_142
  let v346 : Index := Scalar.indexCast v344
  ![v345.toNat, v346.toNat]

def k0_chk252 (arg24 : BitVec 32) (v340 : BitVec 32) : Prop :=
  (∀ (k0_h11 : k0_cond11 arg24 = 1#1), ∀ a, (k0_off690 v340) a + S1x1.size a ≤ S8x128.size a)
theorem k0_off690_inb : ∀ (arg24 : BitVec 32) (v340 : BitVec 32) (k0_hw252 : k0_chk252 arg24 v340), ∀ (k0_h11 : k0_cond11 arg24 = 1#1), ∀ a, (k0_off690 v340) a + S1x1.size a ≤ S8x128.size a := fun arg24 v340 k0_hw252 k0_h11 => k0_hw252 k0_h11

def k0_off691 (arg24 : BitVec 32) : Fin 1 → Nat :=
  let c1_i32_99 : BitVec 32 := 1#32
  let v270 : BitVec 32 := Scalar.subi arg24 c1_i32_99
  let c1_i32_145 : BitVec 32 := 1#32
  let v350 : BitVec 32 := Scalar.andi v270 c1_i32_145
  ![v350.toNat]
def k0_off692 (v347 : BitVec 32) : Fin 2 → Nat :=
  let c128_i32_143 : BitVec 32 := 128#32
  let v348 : BitVec 32 := Scalar.muli v347 c128_i32_143
  let c0_i32_146 : BitVec 32 := 0#32
  ![v348.toNat, 0]

def k0_off693 (arg24 : BitVec 32) : Fin 3 → Nat :=
  let c1_i32_99 : BitVec 32 := 1#32
  let v270 : BitVec 32 := Scalar.subi arg24 c1_i32_99
  let c1_i32_144 : BitVec 32 := 1#32
  let v349 : BitVec 32 := Scalar.andi v270 c1_i32_144
  let c512_i32 : BitVec 32 := 512#32
  let c0_i32_147 : BitVec 32 := 0#32
  ![v349.toNat, 512, 0]

def k0_chk253 (arg24 : BitVec 32) (v347 : BitVec 32) : Prop :=
  (∀ (k0_h11 : k0_cond11 arg24 = 1#1), ∀ a, (k0_off692 v347) a + S128x1536.size a ≤ S40960x1536.size a) ∧
  (∀ (k0_h11 : k0_cond11 arg24 = 1#1), ∀ (hinb : ∀ a, (k0_off692 v347) a + S128x1536.size a ≤ S40960x1536.size a), (Rect.unit (s := S40960x1536) (k0_off692 v347) S128x1536.size hinb).WholeWords (EltTy.packing .fp8e4m3))
theorem k0_off692_inb : ∀ (arg24 : BitVec 32) (v347 : BitVec 32) (k0_hw253 : k0_chk253 arg24 v347), ∀ (k0_h11 : k0_cond11 arg24 = 1#1), ∀ a, (k0_off692 v347) a + S128x1536.size a ≤ S40960x1536.size a := fun arg24 v347 k0_hw253 k0_h11 => k0_hw253.1 k0_h11
theorem k0_off692_wordsfp8e4m3 : ∀ (arg24 : BitVec 32) (v347 : BitVec 32) (k0_hw253 : k0_chk253 arg24 v347), ∀ (k0_h11 : k0_cond11 arg24 = 1#1), (Rect.unit (s := S40960x1536) (k0_off692 v347) S128x1536.size (k0_off692_inb arg24 v347 k0_hw253 k0_h11)).WholeWords (EltTy.packing .fp8e4m3) := fun arg24 v347 k0_hw253 k0_h11 => k0_hw253.2 k0_h11 (k0_off692_inb arg24 v347 k0_hw253 k0_h11)

def k0_off694 (arg24 : BitVec 32) : Fin 1 → Nat :=
  let c1_i32_99 : BitVec 32 := 1#32
  let v270 : BitVec 32 := Scalar.subi arg24 c1_i32_99
  let v356 : Index := Scalar.indexCast v270
  ![v356.toNat]
def k0_off695 (v357 : BitVec 32) : Fin 2 → Nat :=
  let c8_i32_148 : BitVec 32 := 8#32
  let v358 : BitVec 32 := Scalar.muli v357 c8_i32_148
  let c5_i32_149 : BitVec 32 := 5#32
  let v359 : BitVec 32 := Scalar.addi v358 c5_i32_149
  let c7_i32_150 : BitVec 32 := 7#32
  let v360 : BitVec 32 := Scalar.shrui v359 c7_i32_150
  let v362 : Index := Scalar.indexCast v360
  let c127_i32_151 : BitVec 32 := 127#32
  let v361 : BitVec 32 := Scalar.andi v359 c127_i32_151
  let v363 : Index := Scalar.indexCast v361
  ![v362.toNat, v363.toNat]

def k0_chk254 (arg24 : BitVec 32) (v357 : BitVec 32) : Prop :=
  (∀ (k0_h11 : k0_cond11 arg24 = 1#1), ∀ a, (k0_off695 v357) a + S1x1.size a ≤ S8x128.size a)
theorem k0_off695_inb : ∀ (arg24 : BitVec 32) (v357 : BitVec 32) (k0_hw254 : k0_chk254 arg24 v357), ∀ (k0_h11 : k0_cond11 arg24 = 1#1), ∀ a, (k0_off695 v357) a + S1x1.size a ≤ S8x128.size a := fun arg24 v357 k0_hw254 k0_h11 => k0_hw254 k0_h11

def k0_off696 (arg24 : BitVec 32) : Fin 1 → Nat :=
  let c1_i32_99 : BitVec 32 := 1#32
  let v270 : BitVec 32 := Scalar.subi arg24 c1_i32_99
  let c1_i32_154 : BitVec 32 := 1#32
  let v367 : BitVec 32 := Scalar.andi v270 c1_i32_154
  ![v367.toNat]
def k0_off697 (v364 : BitVec 32) : Fin 2 → Nat :=
  let c128_i32_152 : BitVec 32 := 128#32
  let v365 : BitVec 32 := Scalar.muli v364 c128_i32_152
  let c0_i32_155 : BitVec 32 := 0#32
  ![v365.toNat, 0]

def k0_off698 (arg24 : BitVec 32) : Fin 3 → Nat :=
  let c1_i32_99 : BitVec 32 := 1#32
  let v270 : BitVec 32 := Scalar.subi arg24 c1_i32_99
  let c1_i32_153 : BitVec 32 := 1#32
  let v366 : BitVec 32 := Scalar.andi v270 c1_i32_153
  let c640_i32 : BitVec 32 := 640#32
  let c0_i32_156 : BitVec 32 := 0#32
  ![v366.toNat, 640, 0]

def k0_chk255 (arg24 : BitVec 32) (v364 : BitVec 32) : Prop :=
  (∀ (k0_h11 : k0_cond11 arg24 = 1#1), ∀ a, (k0_off697 v364) a + S128x1536.size a ≤ S40960x1536.size a) ∧
  (∀ (k0_h11 : k0_cond11 arg24 = 1#1), ∀ (hinb : ∀ a, (k0_off697 v364) a + S128x1536.size a ≤ S40960x1536.size a), (Rect.unit (s := S40960x1536) (k0_off697 v364) S128x1536.size hinb).WholeWords (EltTy.packing .fp8e4m3))
theorem k0_off697_inb : ∀ (arg24 : BitVec 32) (v364 : BitVec 32) (k0_hw255 : k0_chk255 arg24 v364), ∀ (k0_h11 : k0_cond11 arg24 = 1#1), ∀ a, (k0_off697 v364) a + S128x1536.size a ≤ S40960x1536.size a := fun arg24 v364 k0_hw255 k0_h11 => k0_hw255.1 k0_h11
theorem k0_off697_wordsfp8e4m3 : ∀ (arg24 : BitVec 32) (v364 : BitVec 32) (k0_hw255 : k0_chk255 arg24 v364), ∀ (k0_h11 : k0_cond11 arg24 = 1#1), (Rect.unit (s := S40960x1536) (k0_off697 v364) S128x1536.size (k0_off697_inb arg24 v364 k0_hw255 k0_h11)).WholeWords (EltTy.packing .fp8e4m3) := fun arg24 v364 k0_hw255 k0_h11 => k0_hw255.2 k0_h11 (k0_off697_inb arg24 v364 k0_hw255 k0_h11)

def k0_off699 (arg24 : BitVec 32) : Fin 1 → Nat :=
  let c1_i32_99 : BitVec 32 := 1#32
  let v270 : BitVec 32 := Scalar.subi arg24 c1_i32_99
  let v373 : Index := Scalar.indexCast v270
  ![v373.toNat]
def k0_off700 (v374 : BitVec 32) : Fin 2 → Nat :=
  let c8_i32_157 : BitVec 32 := 8#32
  let v375 : BitVec 32 := Scalar.muli v374 c8_i32_157
  let c6_i32_158 : BitVec 32 := 6#32
  let v376 : BitVec 32 := Scalar.addi v375 c6_i32_158
  let c7_i32_159 : BitVec 32 := 7#32
  let v377 : BitVec 32 := Scalar.shrui v376 c7_i32_159
  let v379 : Index := Scalar.indexCast v377
  let c127_i32_160 : BitVec 32 := 127#32
  let v378 : BitVec 32 := Scalar.andi v376 c127_i32_160
  let v380 : Index := Scalar.indexCast v378
  ![v379.toNat, v380.toNat]

def k0_chk256 (arg24 : BitVec 32) (v374 : BitVec 32) : Prop :=
  (∀ (k0_h11 : k0_cond11 arg24 = 1#1), ∀ a, (k0_off700 v374) a + S1x1.size a ≤ S8x128.size a)
theorem k0_off700_inb : ∀ (arg24 : BitVec 32) (v374 : BitVec 32) (k0_hw256 : k0_chk256 arg24 v374), ∀ (k0_h11 : k0_cond11 arg24 = 1#1), ∀ a, (k0_off700 v374) a + S1x1.size a ≤ S8x128.size a := fun arg24 v374 k0_hw256 k0_h11 => k0_hw256 k0_h11

def k0_off701 (arg24 : BitVec 32) : Fin 1 → Nat :=
  let c1_i32_99 : BitVec 32 := 1#32
  let v270 : BitVec 32 := Scalar.subi arg24 c1_i32_99
  let c1_i32_163 : BitVec 32 := 1#32
  let v384 : BitVec 32 := Scalar.andi v270 c1_i32_163
  ![v384.toNat]
def k0_off702 (v381 : BitVec 32) : Fin 2 → Nat :=
  let c128_i32_161 : BitVec 32 := 128#32
  let v382 : BitVec 32 := Scalar.muli v381 c128_i32_161
  let c0_i32_164 : BitVec 32 := 0#32
  ![v382.toNat, 0]

def k0_off703 (arg24 : BitVec 32) : Fin 3 → Nat :=
  let c1_i32_99 : BitVec 32 := 1#32
  let v270 : BitVec 32 := Scalar.subi arg24 c1_i32_99
  let c1_i32_162 : BitVec 32 := 1#32
  let v383 : BitVec 32 := Scalar.andi v270 c1_i32_162
  let c768_i32 : BitVec 32 := 768#32
  let c0_i32_165 : BitVec 32 := 0#32
  ![v383.toNat, 768, 0]

def k0_chk257 (arg24 : BitVec 32) (v381 : BitVec 32) : Prop :=
  (∀ (k0_h11 : k0_cond11 arg24 = 1#1), ∀ a, (k0_off702 v381) a + S128x1536.size a ≤ S40960x1536.size a) ∧
  (∀ (k0_h11 : k0_cond11 arg24 = 1#1), ∀ (hinb : ∀ a, (k0_off702 v381) a + S128x1536.size a ≤ S40960x1536.size a), (Rect.unit (s := S40960x1536) (k0_off702 v381) S128x1536.size hinb).WholeWords (EltTy.packing .fp8e4m3))
theorem k0_off702_inb : ∀ (arg24 : BitVec 32) (v381 : BitVec 32) (k0_hw257 : k0_chk257 arg24 v381), ∀ (k0_h11 : k0_cond11 arg24 = 1#1), ∀ a, (k0_off702 v381) a + S128x1536.size a ≤ S40960x1536.size a := fun arg24 v381 k0_hw257 k0_h11 => k0_hw257.1 k0_h11
theorem k0_off702_wordsfp8e4m3 : ∀ (arg24 : BitVec 32) (v381 : BitVec 32) (k0_hw257 : k0_chk257 arg24 v381), ∀ (k0_h11 : k0_cond11 arg24 = 1#1), (Rect.unit (s := S40960x1536) (k0_off702 v381) S128x1536.size (k0_off702_inb arg24 v381 k0_hw257 k0_h11)).WholeWords (EltTy.packing .fp8e4m3) := fun arg24 v381 k0_hw257 k0_h11 => k0_hw257.2 k0_h11 (k0_off702_inb arg24 v381 k0_hw257 k0_h11)

def k0_off704 (arg24 : BitVec 32) : Fin 1 → Nat :=
  let c1_i32_99 : BitVec 32 := 1#32
  let v270 : BitVec 32 := Scalar.subi arg24 c1_i32_99
  let v390 : Index := Scalar.indexCast v270
  ![v390.toNat]
def k0_off705 (v391 : BitVec 32) : Fin 2 → Nat :=
  let c8_i32_166 : BitVec 32 := 8#32
  let v392 : BitVec 32 := Scalar.muli v391 c8_i32_166
  let c7_i32_167 : BitVec 32 := 7#32
  let v393 : BitVec 32 := Scalar.addi v392 c7_i32_167
  let c7_i32_168 : BitVec 32 := 7#32
  let v394 : BitVec 32 := Scalar.shrui v393 c7_i32_168
  let v396 : Index := Scalar.indexCast v394
  let c127_i32_169 : BitVec 32 := 127#32
  let v395 : BitVec 32 := Scalar.andi v393 c127_i32_169
  let v397 : Index := Scalar.indexCast v395
  ![v396.toNat, v397.toNat]

def k0_chk258 (arg24 : BitVec 32) (v391 : BitVec 32) : Prop :=
  (∀ (k0_h11 : k0_cond11 arg24 = 1#1), ∀ a, (k0_off705 v391) a + S1x1.size a ≤ S8x128.size a)
theorem k0_off705_inb : ∀ (arg24 : BitVec 32) (v391 : BitVec 32) (k0_hw258 : k0_chk258 arg24 v391), ∀ (k0_h11 : k0_cond11 arg24 = 1#1), ∀ a, (k0_off705 v391) a + S1x1.size a ≤ S8x128.size a := fun arg24 v391 k0_hw258 k0_h11 => k0_hw258 k0_h11

def k0_off706 (arg24 : BitVec 32) : Fin 1 → Nat :=
  let c1_i32_99 : BitVec 32 := 1#32
  let v270 : BitVec 32 := Scalar.subi arg24 c1_i32_99
  let c1_i32_172 : BitVec 32 := 1#32
  let v401 : BitVec 32 := Scalar.andi v270 c1_i32_172
  ![v401.toNat]
def k0_off707 (v398 : BitVec 32) : Fin 2 → Nat :=
  let c128_i32_170 : BitVec 32 := 128#32
  let v399 : BitVec 32 := Scalar.muli v398 c128_i32_170
  let c0_i32_173 : BitVec 32 := 0#32
  ![v399.toNat, 0]

def k0_off708 (arg24 : BitVec 32) : Fin 3 → Nat :=
  let c1_i32_99 : BitVec 32 := 1#32
  let v270 : BitVec 32 := Scalar.subi arg24 c1_i32_99
  let c1_i32_171 : BitVec 32 := 1#32
  let v400 : BitVec 32 := Scalar.andi v270 c1_i32_171
  let c896_i32 : BitVec 32 := 896#32
  let c0_i32_174 : BitVec 32 := 0#32
  ![v400.toNat, 896, 0]

def k0_chk259 (arg24 : BitVec 32) (v398 : BitVec 32) : Prop :=
  (∀ (k0_h11 : k0_cond11 arg24 = 1#1), ∀ a, (k0_off707 v398) a + S128x1536.size a ≤ S40960x1536.size a) ∧
  (∀ (k0_h11 : k0_cond11 arg24 = 1#1), ∀ (hinb : ∀ a, (k0_off707 v398) a + S128x1536.size a ≤ S40960x1536.size a), (Rect.unit (s := S40960x1536) (k0_off707 v398) S128x1536.size hinb).WholeWords (EltTy.packing .fp8e4m3))
theorem k0_off707_inb : ∀ (arg24 : BitVec 32) (v398 : BitVec 32) (k0_hw259 : k0_chk259 arg24 v398), ∀ (k0_h11 : k0_cond11 arg24 = 1#1), ∀ a, (k0_off707 v398) a + S128x1536.size a ≤ S40960x1536.size a := fun arg24 v398 k0_hw259 k0_h11 => k0_hw259.1 k0_h11
theorem k0_off707_wordsfp8e4m3 : ∀ (arg24 : BitVec 32) (v398 : BitVec 32) (k0_hw259 : k0_chk259 arg24 v398), ∀ (k0_h11 : k0_cond11 arg24 = 1#1), (Rect.unit (s := S40960x1536) (k0_off707 v398) S128x1536.size (k0_off707_inb arg24 v398 k0_hw259 k0_h11)).WholeWords (EltTy.packing .fp8e4m3) := fun arg24 v398 k0_hw259 k0_h11 => k0_hw259.2 k0_h11 (k0_off707_inb arg24 v398 k0_hw259 k0_h11)

def k0_off709 (arg24 : BitVec 32) : Fin 1 → Nat :=
  let c1_i32_175 : BitVec 32 := 1#32
  let v407 : BitVec 32 := Scalar.subi arg24 c1_i32_175
  let v408 : Index := Scalar.indexCast v407
  ![v408.toNat]
def k0_off710 (v409 : BitVec 32) : Fin 2 → Nat :=
  let c8_i32_176 : BitVec 32 := 8#32
  let v410 : BitVec 32 := Scalar.muli v409 c8_i32_176
  let c0_i32_177 : BitVec 32 := 0#32
  let v411 : BitVec 32 := Scalar.addi v410 c0_i32_177
  let c7_i32_178 : BitVec 32 := 7#32
  let v412 : BitVec 32 := Scalar.shrui v411 c7_i32_178
  let v414 : Index := Scalar.indexCast v412
  let c127_i32_179 : BitVec 32 := 127#32
  let v413 : BitVec 32 := Scalar.andi v411 c127_i32_179
  let v415 : Index := Scalar.indexCast v413
  ![v414.toNat, v415.toNat]

def k0_chk260 (arg24 : BitVec 32) (v409 : BitVec 32) : Prop :=
  (∀ (k0_h11 : k0_cond11 arg24 = 1#1), ∀ a, (k0_off710 v409) a + S1x1.size a ≤ S8x128.size a)
theorem k0_off710_inb : ∀ (arg24 : BitVec 32) (v409 : BitVec 32) (k0_hw260 : k0_chk260 arg24 v409), ∀ (k0_h11 : k0_cond11 arg24 = 1#1), ∀ a, (k0_off710 v409) a + S1x1.size a ≤ S8x128.size a := fun arg24 v409 k0_hw260 k0_h11 => k0_hw260 k0_h11

def k0_off711 (arg24 : BitVec 32) : Fin 1 → Nat :=
  let c1_i32_175 : BitVec 32 := 1#32
  let v407 : BitVec 32 := Scalar.subi arg24 c1_i32_175
  let c1_i32_182 : BitVec 32 := 1#32
  let v419 : BitVec 32 := Scalar.andi v407 c1_i32_182
  ![v419.toNat]
def k0_off712 (v416 : BitVec 32) : Fin 2 → Nat :=
  let c128_i32_180 : BitVec 32 := 128#32
  let v417 : BitVec 32 := Scalar.muli v416 c128_i32_180
  let c0_i32_183 : BitVec 32 := 0#32
  ![v417.toNat, 0]

def k0_off713 (arg24 : BitVec 32) : Fin 3 → Nat :=
  let c1_i32_175 : BitVec 32 := 1#32
  let v407 : BitVec 32 := Scalar.subi arg24 c1_i32_175
  let c1_i32_181 : BitVec 32 := 1#32
  let v418 : BitVec 32 := Scalar.andi v407 c1_i32_181
  let c0_i32_184 : BitVec 32 := 0#32
  let c0_i32_185 : BitVec 32 := 0#32
  ![v418.toNat, 0, 0]

def k0_chk261 (arg24 : BitVec 32) (v416 : BitVec 32) : Prop :=
  (∀ (k0_h11 : k0_cond11 arg24 = 1#1), ∀ a, (k0_off712 v416) a + S128x8960.size a ≤ S40960x8960.size a) ∧
  (∀ (k0_h11 : k0_cond11 arg24 = 1#1), ∀ (hinb : ∀ a, (k0_off712 v416) a + S128x8960.size a ≤ S40960x8960.size a), (Rect.unit (s := S40960x8960) (k0_off712 v416) S128x8960.size hinb).WholeWords (EltTy.packing .fp8e4m3))
theorem k0_off712_inb : ∀ (arg24 : BitVec 32) (v416 : BitVec 32) (k0_hw261 : k0_chk261 arg24 v416), ∀ (k0_h11 : k0_cond11 arg24 = 1#1), ∀ a, (k0_off712 v416) a + S128x8960.size a ≤ S40960x8960.size a := fun arg24 v416 k0_hw261 k0_h11 => k0_hw261.1 k0_h11
theorem k0_off712_wordsfp8e4m3 : ∀ (arg24 : BitVec 32) (v416 : BitVec 32) (k0_hw261 : k0_chk261 arg24 v416), ∀ (k0_h11 : k0_cond11 arg24 = 1#1), (Rect.unit (s := S40960x8960) (k0_off712 v416) S128x8960.size (k0_off712_inb arg24 v416 k0_hw261 k0_h11)).WholeWords (EltTy.packing .fp8e4m3) := fun arg24 v416 k0_hw261 k0_h11 => k0_hw261.2 k0_h11 (k0_off712_inb arg24 v416 k0_hw261 k0_h11)

def k0_off714 (arg24 : BitVec 32) : Fin 1 → Nat :=
  let c1_i32_175 : BitVec 32 := 1#32
  let v407 : BitVec 32 := Scalar.subi arg24 c1_i32_175
  let v425 : Index := Scalar.indexCast v407
  ![v425.toNat]
def k0_off715 (v426 : BitVec 32) : Fin 2 → Nat :=
  let c8_i32_186 : BitVec 32 := 8#32
  let v427 : BitVec 32 := Scalar.muli v426 c8_i32_186
  let c1_i32_187 : BitVec 32 := 1#32
  let v428 : BitVec 32 := Scalar.addi v427 c1_i32_187
  let c7_i32_188 : BitVec 32 := 7#32
  let v429 : BitVec 32 := Scalar.shrui v428 c7_i32_188
  let v431 : Index := Scalar.indexCast v429
  let c127_i32_189 : BitVec 32 := 127#32
  let v430 : BitVec 32 := Scalar.andi v428 c127_i32_189
  let v432 : Index := Scalar.indexCast v430
  ![v431.toNat, v432.toNat]

def k0_chk262 (arg24 : BitVec 32) (v426 : BitVec 32) : Prop :=
  (∀ (k0_h11 : k0_cond11 arg24 = 1#1), ∀ a, (k0_off715 v426) a + S1x1.size a ≤ S8x128.size a)
theorem k0_off715_inb : ∀ (arg24 : BitVec 32) (v426 : BitVec 32) (k0_hw262 : k0_chk262 arg24 v426), ∀ (k0_h11 : k0_cond11 arg24 = 1#1), ∀ a, (k0_off715 v426) a + S1x1.size a ≤ S8x128.size a := fun arg24 v426 k0_hw262 k0_h11 => k0_hw262 k0_h11

def k0_off716 (arg24 : BitVec 32) : Fin 1 → Nat :=
  let c1_i32_175 : BitVec 32 := 1#32
  let v407 : BitVec 32 := Scalar.subi arg24 c1_i32_175
  let c1_i32_192 : BitVec 32 := 1#32
  let v436 : BitVec 32 := Scalar.andi v407 c1_i32_192
  ![v436.toNat]
def k0_off717 (v433 : BitVec 32) : Fin 2 → Nat :=
  let c128_i32_190 : BitVec 32 := 128#32
  let v434 : BitVec 32 := Scalar.muli v433 c128_i32_190
  let c0_i32_193 : BitVec 32 := 0#32
  ![v434.toNat, 0]

def k0_off718 (arg24 : BitVec 32) : Fin 3 → Nat :=
  let c1_i32_175 : BitVec 32 := 1#32
  let v407 : BitVec 32 := Scalar.subi arg24 c1_i32_175
  let c1_i32_191 : BitVec 32 := 1#32
  let v435 : BitVec 32 := Scalar.andi v407 c1_i32_191
  let c128_i32_194 : BitVec 32 := 128#32
  let c0_i32_195 : BitVec 32 := 0#32
  ![v435.toNat, 128, 0]

def k0_chk263 (arg24 : BitVec 32) (v433 : BitVec 32) : Prop :=
  (∀ (k0_h11 : k0_cond11 arg24 = 1#1), ∀ a, (k0_off717 v433) a + S128x8960.size a ≤ S40960x8960.size a) ∧
  (∀ (k0_h11 : k0_cond11 arg24 = 1#1), ∀ (hinb : ∀ a, (k0_off717 v433) a + S128x8960.size a ≤ S40960x8960.size a), (Rect.unit (s := S40960x8960) (k0_off717 v433) S128x8960.size hinb).WholeWords (EltTy.packing .fp8e4m3))
theorem k0_off717_inb : ∀ (arg24 : BitVec 32) (v433 : BitVec 32) (k0_hw263 : k0_chk263 arg24 v433), ∀ (k0_h11 : k0_cond11 arg24 = 1#1), ∀ a, (k0_off717 v433) a + S128x8960.size a ≤ S40960x8960.size a := fun arg24 v433 k0_hw263 k0_h11 => k0_hw263.1 k0_h11
theorem k0_off717_wordsfp8e4m3 : ∀ (arg24 : BitVec 32) (v433 : BitVec 32) (k0_hw263 : k0_chk263 arg24 v433), ∀ (k0_h11 : k0_cond11 arg24 = 1#1), (Rect.unit (s := S40960x8960) (k0_off717 v433) S128x8960.size (k0_off717_inb arg24 v433 k0_hw263 k0_h11)).WholeWords (EltTy.packing .fp8e4m3) := fun arg24 v433 k0_hw263 k0_h11 => k0_hw263.2 k0_h11 (k0_off717_inb arg24 v433 k0_hw263 k0_h11)

def k0_off719 (arg24 : BitVec 32) : Fin 1 → Nat :=
  let c1_i32_175 : BitVec 32 := 1#32
  let v407 : BitVec 32 := Scalar.subi arg24 c1_i32_175
  let v442 : Index := Scalar.indexCast v407
  ![v442.toNat]
def k0_off720 (v443 : BitVec 32) : Fin 2 → Nat :=
  let c8_i32_196 : BitVec 32 := 8#32
  let v444 : BitVec 32 := Scalar.muli v443 c8_i32_196
  let c2_i32_197 : BitVec 32 := 2#32
  let v445 : BitVec 32 := Scalar.addi v444 c2_i32_197
  let c7_i32_198 : BitVec 32 := 7#32
  let v446 : BitVec 32 := Scalar.shrui v445 c7_i32_198
  let v448 : Index := Scalar.indexCast v446
  let c127_i32_199 : BitVec 32 := 127#32
  let v447 : BitVec 32 := Scalar.andi v445 c127_i32_199
  let v449 : Index := Scalar.indexCast v447
  ![v448.toNat, v449.toNat]

def k0_chk264 (arg24 : BitVec 32) (v443 : BitVec 32) : Prop :=
  (∀ (k0_h11 : k0_cond11 arg24 = 1#1), ∀ a, (k0_off720 v443) a + S1x1.size a ≤ S8x128.size a)
theorem k0_off720_inb : ∀ (arg24 : BitVec 32) (v443 : BitVec 32) (k0_hw264 : k0_chk264 arg24 v443), ∀ (k0_h11 : k0_cond11 arg24 = 1#1), ∀ a, (k0_off720 v443) a + S1x1.size a ≤ S8x128.size a := fun arg24 v443 k0_hw264 k0_h11 => k0_hw264 k0_h11

def k0_off721 (arg24 : BitVec 32) : Fin 1 → Nat :=
  let c1_i32_175 : BitVec 32 := 1#32
  let v407 : BitVec 32 := Scalar.subi arg24 c1_i32_175
  let c1_i32_202 : BitVec 32 := 1#32
  let v453 : BitVec 32 := Scalar.andi v407 c1_i32_202
  ![v453.toNat]
def k0_off722 (v450 : BitVec 32) : Fin 2 → Nat :=
  let c128_i32_200 : BitVec 32 := 128#32
  let v451 : BitVec 32 := Scalar.muli v450 c128_i32_200
  let c0_i32_203 : BitVec 32 := 0#32
  ![v451.toNat, 0]

def k0_off723 (arg24 : BitVec 32) : Fin 3 → Nat :=
  let c1_i32_175 : BitVec 32 := 1#32
  let v407 : BitVec 32 := Scalar.subi arg24 c1_i32_175
  let c1_i32_201 : BitVec 32 := 1#32
  let v452 : BitVec 32 := Scalar.andi v407 c1_i32_201
  let c256_i32_204 : BitVec 32 := 256#32
  let c0_i32_205 : BitVec 32 := 0#32
  ![v452.toNat, 256, 0]

def k0_chk265 (arg24 : BitVec 32) (v450 : BitVec 32) : Prop :=
  (∀ (k0_h11 : k0_cond11 arg24 = 1#1), ∀ a, (k0_off722 v450) a + S128x8960.size a ≤ S40960x8960.size a) ∧
  (∀ (k0_h11 : k0_cond11 arg24 = 1#1), ∀ (hinb : ∀ a, (k0_off722 v450) a + S128x8960.size a ≤ S40960x8960.size a), (Rect.unit (s := S40960x8960) (k0_off722 v450) S128x8960.size hinb).WholeWords (EltTy.packing .fp8e4m3))
theorem k0_off722_inb : ∀ (arg24 : BitVec 32) (v450 : BitVec 32) (k0_hw265 : k0_chk265 arg24 v450), ∀ (k0_h11 : k0_cond11 arg24 = 1#1), ∀ a, (k0_off722 v450) a + S128x8960.size a ≤ S40960x8960.size a := fun arg24 v450 k0_hw265 k0_h11 => k0_hw265.1 k0_h11
theorem k0_off722_wordsfp8e4m3 : ∀ (arg24 : BitVec 32) (v450 : BitVec 32) (k0_hw265 : k0_chk265 arg24 v450), ∀ (k0_h11 : k0_cond11 arg24 = 1#1), (Rect.unit (s := S40960x8960) (k0_off722 v450) S128x8960.size (k0_off722_inb arg24 v450 k0_hw265 k0_h11)).WholeWords (EltTy.packing .fp8e4m3) := fun arg24 v450 k0_hw265 k0_h11 => k0_hw265.2 k0_h11 (k0_off722_inb arg24 v450 k0_hw265 k0_h11)

def k0_off724 (arg24 : BitVec 32) : Fin 1 → Nat :=
  let c1_i32_175 : BitVec 32 := 1#32
  let v407 : BitVec 32 := Scalar.subi arg24 c1_i32_175
  let v459 : Index := Scalar.indexCast v407
  ![v459.toNat]
def k0_off725 (v460 : BitVec 32) : Fin 2 → Nat :=
  let c8_i32_206 : BitVec 32 := 8#32
  let v461 : BitVec 32 := Scalar.muli v460 c8_i32_206
  let c3_i32_207 : BitVec 32 := 3#32
  let v462 : BitVec 32 := Scalar.addi v461 c3_i32_207
  let c7_i32_208 : BitVec 32 := 7#32
  let v463 : BitVec 32 := Scalar.shrui v462 c7_i32_208
  let v465 : Index := Scalar.indexCast v463
  let c127_i32_209 : BitVec 32 := 127#32
  let v464 : BitVec 32 := Scalar.andi v462 c127_i32_209
  let v466 : Index := Scalar.indexCast v464
  ![v465.toNat, v466.toNat]

def k0_chk266 (arg24 : BitVec 32) (v460 : BitVec 32) : Prop :=
  (∀ (k0_h11 : k0_cond11 arg24 = 1#1), ∀ a, (k0_off725 v460) a + S1x1.size a ≤ S8x128.size a)
theorem k0_off725_inb : ∀ (arg24 : BitVec 32) (v460 : BitVec 32) (k0_hw266 : k0_chk266 arg24 v460), ∀ (k0_h11 : k0_cond11 arg24 = 1#1), ∀ a, (k0_off725 v460) a + S1x1.size a ≤ S8x128.size a := fun arg24 v460 k0_hw266 k0_h11 => k0_hw266 k0_h11

def k0_off726 (arg24 : BitVec 32) : Fin 1 → Nat :=
  let c1_i32_175 : BitVec 32 := 1#32
  let v407 : BitVec 32 := Scalar.subi arg24 c1_i32_175
  let c1_i32_212 : BitVec 32 := 1#32
  let v470 : BitVec 32 := Scalar.andi v407 c1_i32_212
  ![v470.toNat]
def k0_off727 (v467 : BitVec 32) : Fin 2 → Nat :=
  let c128_i32_210 : BitVec 32 := 128#32
  let v468 : BitVec 32 := Scalar.muli v467 c128_i32_210
  let c0_i32_213 : BitVec 32 := 0#32
  ![v468.toNat, 0]

def k0_off728 (arg24 : BitVec 32) : Fin 3 → Nat :=
  let c1_i32_175 : BitVec 32 := 1#32
  let v407 : BitVec 32 := Scalar.subi arg24 c1_i32_175
  let c1_i32_211 : BitVec 32 := 1#32
  let v469 : BitVec 32 := Scalar.andi v407 c1_i32_211
  let c384_i32_214 : BitVec 32 := 384#32
  let c0_i32_215 : BitVec 32 := 0#32
  ![v469.toNat, 384, 0]

def k0_chk267 (arg24 : BitVec 32) (v467 : BitVec 32) : Prop :=
  (∀ (k0_h11 : k0_cond11 arg24 = 1#1), ∀ a, (k0_off727 v467) a + S128x8960.size a ≤ S40960x8960.size a) ∧
  (∀ (k0_h11 : k0_cond11 arg24 = 1#1), ∀ (hinb : ∀ a, (k0_off727 v467) a + S128x8960.size a ≤ S40960x8960.size a), (Rect.unit (s := S40960x8960) (k0_off727 v467) S128x8960.size hinb).WholeWords (EltTy.packing .fp8e4m3))
theorem k0_off727_inb : ∀ (arg24 : BitVec 32) (v467 : BitVec 32) (k0_hw267 : k0_chk267 arg24 v467), ∀ (k0_h11 : k0_cond11 arg24 = 1#1), ∀ a, (k0_off727 v467) a + S128x8960.size a ≤ S40960x8960.size a := fun arg24 v467 k0_hw267 k0_h11 => k0_hw267.1 k0_h11
theorem k0_off727_wordsfp8e4m3 : ∀ (arg24 : BitVec 32) (v467 : BitVec 32) (k0_hw267 : k0_chk267 arg24 v467), ∀ (k0_h11 : k0_cond11 arg24 = 1#1), (Rect.unit (s := S40960x8960) (k0_off727 v467) S128x8960.size (k0_off727_inb arg24 v467 k0_hw267 k0_h11)).WholeWords (EltTy.packing .fp8e4m3) := fun arg24 v467 k0_hw267 k0_h11 => k0_hw267.2 k0_h11 (k0_off727_inb arg24 v467 k0_hw267 k0_h11)

def k0_off729 (arg24 : BitVec 32) : Fin 1 → Nat :=
  let c1_i32_175 : BitVec 32 := 1#32
  let v407 : BitVec 32 := Scalar.subi arg24 c1_i32_175
  let v476 : Index := Scalar.indexCast v407
  ![v476.toNat]
def k0_off730 (v477 : BitVec 32) : Fin 2 → Nat :=
  let c8_i32_216 : BitVec 32 := 8#32
  let v478 : BitVec 32 := Scalar.muli v477 c8_i32_216
  let c4_i32_217 : BitVec 32 := 4#32
  let v479 : BitVec 32 := Scalar.addi v478 c4_i32_217
  let c7_i32_218 : BitVec 32 := 7#32
  let v480 : BitVec 32 := Scalar.shrui v479 c7_i32_218
  let v482 : Index := Scalar.indexCast v480
  let c127_i32_219 : BitVec 32 := 127#32
  let v481 : BitVec 32 := Scalar.andi v479 c127_i32_219
  let v483 : Index := Scalar.indexCast v481
  ![v482.toNat, v483.toNat]

def k0_chk268 (arg24 : BitVec 32) (v477 : BitVec 32) : Prop :=
  (∀ (k0_h11 : k0_cond11 arg24 = 1#1), ∀ a, (k0_off730 v477) a + S1x1.size a ≤ S8x128.size a)
theorem k0_off730_inb : ∀ (arg24 : BitVec 32) (v477 : BitVec 32) (k0_hw268 : k0_chk268 arg24 v477), ∀ (k0_h11 : k0_cond11 arg24 = 1#1), ∀ a, (k0_off730 v477) a + S1x1.size a ≤ S8x128.size a := fun arg24 v477 k0_hw268 k0_h11 => k0_hw268 k0_h11

def k0_off731 (arg24 : BitVec 32) : Fin 1 → Nat :=
  let c1_i32_175 : BitVec 32 := 1#32
  let v407 : BitVec 32 := Scalar.subi arg24 c1_i32_175
  let c1_i32_222 : BitVec 32 := 1#32
  let v487 : BitVec 32 := Scalar.andi v407 c1_i32_222
  ![v487.toNat]
def k0_off732 (v484 : BitVec 32) : Fin 2 → Nat :=
  let c128_i32_220 : BitVec 32 := 128#32
  let v485 : BitVec 32 := Scalar.muli v484 c128_i32_220
  let c0_i32_223 : BitVec 32 := 0#32
  ![v485.toNat, 0]

def k0_off733 (arg24 : BitVec 32) : Fin 3 → Nat :=
  let c1_i32_175 : BitVec 32 := 1#32
  let v407 : BitVec 32 := Scalar.subi arg24 c1_i32_175
  let c1_i32_221 : BitVec 32 := 1#32
  let v486 : BitVec 32 := Scalar.andi v407 c1_i32_221
  let c512_i32_224 : BitVec 32 := 512#32
  let c0_i32_225 : BitVec 32 := 0#32
  ![v486.toNat, 512, 0]

def k0_chk269 (arg24 : BitVec 32) (v484 : BitVec 32) : Prop :=
  (∀ (k0_h11 : k0_cond11 arg24 = 1#1), ∀ a, (k0_off732 v484) a + S128x8960.size a ≤ S40960x8960.size a) ∧
  (∀ (k0_h11 : k0_cond11 arg24 = 1#1), ∀ (hinb : ∀ a, (k0_off732 v484) a + S128x8960.size a ≤ S40960x8960.size a), (Rect.unit (s := S40960x8960) (k0_off732 v484) S128x8960.size hinb).WholeWords (EltTy.packing .fp8e4m3))
theorem k0_off732_inb : ∀ (arg24 : BitVec 32) (v484 : BitVec 32) (k0_hw269 : k0_chk269 arg24 v484), ∀ (k0_h11 : k0_cond11 arg24 = 1#1), ∀ a, (k0_off732 v484) a + S128x8960.size a ≤ S40960x8960.size a := fun arg24 v484 k0_hw269 k0_h11 => k0_hw269.1 k0_h11
theorem k0_off732_wordsfp8e4m3 : ∀ (arg24 : BitVec 32) (v484 : BitVec 32) (k0_hw269 : k0_chk269 arg24 v484), ∀ (k0_h11 : k0_cond11 arg24 = 1#1), (Rect.unit (s := S40960x8960) (k0_off732 v484) S128x8960.size (k0_off732_inb arg24 v484 k0_hw269 k0_h11)).WholeWords (EltTy.packing .fp8e4m3) := fun arg24 v484 k0_hw269 k0_h11 => k0_hw269.2 k0_h11 (k0_off732_inb arg24 v484 k0_hw269 k0_h11)

def k0_off734 (arg24 : BitVec 32) : Fin 1 → Nat :=
  let c1_i32_175 : BitVec 32 := 1#32
  let v407 : BitVec 32 := Scalar.subi arg24 c1_i32_175
  let v493 : Index := Scalar.indexCast v407
  ![v493.toNat]
def k0_off735 (v494 : BitVec 32) : Fin 2 → Nat :=
  let c8_i32_226 : BitVec 32 := 8#32
  let v495 : BitVec 32 := Scalar.muli v494 c8_i32_226
  let c5_i32_227 : BitVec 32 := 5#32
  let v496 : BitVec 32 := Scalar.addi v495 c5_i32_227
  let c7_i32_228 : BitVec 32 := 7#32
  let v497 : BitVec 32 := Scalar.shrui v496 c7_i32_228
  let v499 : Index := Scalar.indexCast v497
  let c127_i32_229 : BitVec 32 := 127#32
  let v498 : BitVec 32 := Scalar.andi v496 c127_i32_229
  let v500 : Index := Scalar.indexCast v498
  ![v499.toNat, v500.toNat]

def k0_chk270 (arg24 : BitVec 32) (v494 : BitVec 32) : Prop :=
  (∀ (k0_h11 : k0_cond11 arg24 = 1#1), ∀ a, (k0_off735 v494) a + S1x1.size a ≤ S8x128.size a)
theorem k0_off735_inb : ∀ (arg24 : BitVec 32) (v494 : BitVec 32) (k0_hw270 : k0_chk270 arg24 v494), ∀ (k0_h11 : k0_cond11 arg24 = 1#1), ∀ a, (k0_off735 v494) a + S1x1.size a ≤ S8x128.size a := fun arg24 v494 k0_hw270 k0_h11 => k0_hw270 k0_h11

def k0_off736 (arg24 : BitVec 32) : Fin 1 → Nat :=
  let c1_i32_175 : BitVec 32 := 1#32
  let v407 : BitVec 32 := Scalar.subi arg24 c1_i32_175
  let c1_i32_232 : BitVec 32 := 1#32
  let v504 : BitVec 32 := Scalar.andi v407 c1_i32_232
  ![v504.toNat]
def k0_off737 (v501 : BitVec 32) : Fin 2 → Nat :=
  let c128_i32_230 : BitVec 32 := 128#32
  let v502 : BitVec 32 := Scalar.muli v501 c128_i32_230
  let c0_i32_233 : BitVec 32 := 0#32
  ![v502.toNat, 0]

def k0_off738 (arg24 : BitVec 32) : Fin 3 → Nat :=
  let c1_i32_175 : BitVec 32 := 1#32
  let v407 : BitVec 32 := Scalar.subi arg24 c1_i32_175
  let c1_i32_231 : BitVec 32 := 1#32
  let v503 : BitVec 32 := Scalar.andi v407 c1_i32_231
  let c640_i32_234 : BitVec 32 := 640#32
  let c0_i32_235 : BitVec 32 := 0#32
  ![v503.toNat, 640, 0]

def k0_chk271 (arg24 : BitVec 32) (v501 : BitVec 32) : Prop :=
  (∀ (k0_h11 : k0_cond11 arg24 = 1#1), ∀ a, (k0_off737 v501) a + S128x8960.size a ≤ S40960x8960.size a) ∧
  (∀ (k0_h11 : k0_cond11 arg24 = 1#1), ∀ (hinb : ∀ a, (k0_off737 v501) a + S128x8960.size a ≤ S40960x8960.size a), (Rect.unit (s := S40960x8960) (k0_off737 v501) S128x8960.size hinb).WholeWords (EltTy.packing .fp8e4m3))
theorem k0_off737_inb : ∀ (arg24 : BitVec 32) (v501 : BitVec 32) (k0_hw271 : k0_chk271 arg24 v501), ∀ (k0_h11 : k0_cond11 arg24 = 1#1), ∀ a, (k0_off737 v501) a + S128x8960.size a ≤ S40960x8960.size a := fun arg24 v501 k0_hw271 k0_h11 => k0_hw271.1 k0_h11
theorem k0_off737_wordsfp8e4m3 : ∀ (arg24 : BitVec 32) (v501 : BitVec 32) (k0_hw271 : k0_chk271 arg24 v501), ∀ (k0_h11 : k0_cond11 arg24 = 1#1), (Rect.unit (s := S40960x8960) (k0_off737 v501) S128x8960.size (k0_off737_inb arg24 v501 k0_hw271 k0_h11)).WholeWords (EltTy.packing .fp8e4m3) := fun arg24 v501 k0_hw271 k0_h11 => k0_hw271.2 k0_h11 (k0_off737_inb arg24 v501 k0_hw271 k0_h11)

def k0_off739 (arg24 : BitVec 32) : Fin 1 → Nat :=
  let c1_i32_175 : BitVec 32 := 1#32
  let v407 : BitVec 32 := Scalar.subi arg24 c1_i32_175
  let v510 : Index := Scalar.indexCast v407
  ![v510.toNat]
def k0_off740 (v511 : BitVec 32) : Fin 2 → Nat :=
  let c8_i32_236 : BitVec 32 := 8#32
  let v512 : BitVec 32 := Scalar.muli v511 c8_i32_236
  let c6_i32_237 : BitVec 32 := 6#32
  let v513 : BitVec 32 := Scalar.addi v512 c6_i32_237
  let c7_i32_238 : BitVec 32 := 7#32
  let v514 : BitVec 32 := Scalar.shrui v513 c7_i32_238
  let v516 : Index := Scalar.indexCast v514
  let c127_i32_239 : BitVec 32 := 127#32
  let v515 : BitVec 32 := Scalar.andi v513 c127_i32_239
  let v517 : Index := Scalar.indexCast v515
  ![v516.toNat, v517.toNat]

def k0_chk272 (arg24 : BitVec 32) (v511 : BitVec 32) : Prop :=
  (∀ (k0_h11 : k0_cond11 arg24 = 1#1), ∀ a, (k0_off740 v511) a + S1x1.size a ≤ S8x128.size a)
theorem k0_off740_inb : ∀ (arg24 : BitVec 32) (v511 : BitVec 32) (k0_hw272 : k0_chk272 arg24 v511), ∀ (k0_h11 : k0_cond11 arg24 = 1#1), ∀ a, (k0_off740 v511) a + S1x1.size a ≤ S8x128.size a := fun arg24 v511 k0_hw272 k0_h11 => k0_hw272 k0_h11

def k0_off741 (arg24 : BitVec 32) : Fin 1 → Nat :=
  let c1_i32_175 : BitVec 32 := 1#32
  let v407 : BitVec 32 := Scalar.subi arg24 c1_i32_175
  let c1_i32_242 : BitVec 32 := 1#32
  let v521 : BitVec 32 := Scalar.andi v407 c1_i32_242
  ![v521.toNat]
def k0_off742 (v518 : BitVec 32) : Fin 2 → Nat :=
  let c128_i32_240 : BitVec 32 := 128#32
  let v519 : BitVec 32 := Scalar.muli v518 c128_i32_240
  let c0_i32_243 : BitVec 32 := 0#32
  ![v519.toNat, 0]

def k0_off743 (arg24 : BitVec 32) : Fin 3 → Nat :=
  let c1_i32_175 : BitVec 32 := 1#32
  let v407 : BitVec 32 := Scalar.subi arg24 c1_i32_175
  let c1_i32_241 : BitVec 32 := 1#32
  let v520 : BitVec 32 := Scalar.andi v407 c1_i32_241
  let c768_i32_244 : BitVec 32 := 768#32
  let c0_i32_245 : BitVec 32 := 0#32
  ![v520.toNat, 768, 0]

def k0_chk273 (arg24 : BitVec 32) (v518 : BitVec 32) : Prop :=
  (∀ (k0_h11 : k0_cond11 arg24 = 1#1), ∀ a, (k0_off742 v518) a + S128x8960.size a ≤ S40960x8960.size a) ∧
  (∀ (k0_h11 : k0_cond11 arg24 = 1#1), ∀ (hinb : ∀ a, (k0_off742 v518) a + S128x8960.size a ≤ S40960x8960.size a), (Rect.unit (s := S40960x8960) (k0_off742 v518) S128x8960.size hinb).WholeWords (EltTy.packing .fp8e4m3))
theorem k0_off742_inb : ∀ (arg24 : BitVec 32) (v518 : BitVec 32) (k0_hw273 : k0_chk273 arg24 v518), ∀ (k0_h11 : k0_cond11 arg24 = 1#1), ∀ a, (k0_off742 v518) a + S128x8960.size a ≤ S40960x8960.size a := fun arg24 v518 k0_hw273 k0_h11 => k0_hw273.1 k0_h11
theorem k0_off742_wordsfp8e4m3 : ∀ (arg24 : BitVec 32) (v518 : BitVec 32) (k0_hw273 : k0_chk273 arg24 v518), ∀ (k0_h11 : k0_cond11 arg24 = 1#1), (Rect.unit (s := S40960x8960) (k0_off742 v518) S128x8960.size (k0_off742_inb arg24 v518 k0_hw273 k0_h11)).WholeWords (EltTy.packing .fp8e4m3) := fun arg24 v518 k0_hw273 k0_h11 => k0_hw273.2 k0_h11 (k0_off742_inb arg24 v518 k0_hw273 k0_h11)

def k0_off744 (arg24 : BitVec 32) : Fin 1 → Nat :=
  let c1_i32_175 : BitVec 32 := 1#32
  let v407 : BitVec 32 := Scalar.subi arg24 c1_i32_175
  let v527 : Index := Scalar.indexCast v407
  ![v527.toNat]
def k0_off745 (v528 : BitVec 32) : Fin 2 → Nat :=
  let c8_i32_246 : BitVec 32 := 8#32
  let v529 : BitVec 32 := Scalar.muli v528 c8_i32_246
  let c7_i32_247 : BitVec 32 := 7#32
  let v530 : BitVec 32 := Scalar.addi v529 c7_i32_247
  let c7_i32_248 : BitVec 32 := 7#32
  let v531 : BitVec 32 := Scalar.shrui v530 c7_i32_248
  let v533 : Index := Scalar.indexCast v531
  let c127_i32_249 : BitVec 32 := 127#32
  let v532 : BitVec 32 := Scalar.andi v530 c127_i32_249
  let v534 : Index := Scalar.indexCast v532
  ![v533.toNat, v534.toNat]

def k0_chk274 (arg24 : BitVec 32) (v528 : BitVec 32) : Prop :=
  (∀ (k0_h11 : k0_cond11 arg24 = 1#1), ∀ a, (k0_off745 v528) a + S1x1.size a ≤ S8x128.size a)
theorem k0_off745_inb : ∀ (arg24 : BitVec 32) (v528 : BitVec 32) (k0_hw274 : k0_chk274 arg24 v528), ∀ (k0_h11 : k0_cond11 arg24 = 1#1), ∀ a, (k0_off745 v528) a + S1x1.size a ≤ S8x128.size a := fun arg24 v528 k0_hw274 k0_h11 => k0_hw274 k0_h11

def k0_off746 (arg24 : BitVec 32) : Fin 1 → Nat :=
  let c1_i32_175 : BitVec 32 := 1#32
  let v407 : BitVec 32 := Scalar.subi arg24 c1_i32_175
  let c1_i32_252 : BitVec 32 := 1#32
  let v538 : BitVec 32 := Scalar.andi v407 c1_i32_252
  ![v538.toNat]
def k0_off747 (v535 : BitVec 32) : Fin 2 → Nat :=
  let c128_i32_250 : BitVec 32 := 128#32
  let v536 : BitVec 32 := Scalar.muli v535 c128_i32_250
  let c0_i32_253 : BitVec 32 := 0#32
  ![v536.toNat, 0]

def k0_off748 (arg24 : BitVec 32) : Fin 3 → Nat :=
  let c1_i32_175 : BitVec 32 := 1#32
  let v407 : BitVec 32 := Scalar.subi arg24 c1_i32_175
  let c1_i32_251 : BitVec 32 := 1#32
  let v537 : BitVec 32 := Scalar.andi v407 c1_i32_251
  let c896_i32_254 : BitVec 32 := 896#32
  let c0_i32_255 : BitVec 32 := 0#32
  ![v537.toNat, 896, 0]

def k0_chk275 (arg24 : BitVec 32) (v535 : BitVec 32) : Prop :=
  (∀ (k0_h11 : k0_cond11 arg24 = 1#1), ∀ a, (k0_off747 v535) a + S128x8960.size a ≤ S40960x8960.size a) ∧
  (∀ (k0_h11 : k0_cond11 arg24 = 1#1), ∀ (hinb : ∀ a, (k0_off747 v535) a + S128x8960.size a ≤ S40960x8960.size a), (Rect.unit (s := S40960x8960) (k0_off747 v535) S128x8960.size hinb).WholeWords (EltTy.packing .fp8e4m3))
theorem k0_off747_inb : ∀ (arg24 : BitVec 32) (v535 : BitVec 32) (k0_hw275 : k0_chk275 arg24 v535), ∀ (k0_h11 : k0_cond11 arg24 = 1#1), ∀ a, (k0_off747 v535) a + S128x8960.size a ≤ S40960x8960.size a := fun arg24 v535 k0_hw275 k0_h11 => k0_hw275.1 k0_h11
theorem k0_off747_wordsfp8e4m3 : ∀ (arg24 : BitVec 32) (v535 : BitVec 32) (k0_hw275 : k0_chk275 arg24 v535), ∀ (k0_h11 : k0_cond11 arg24 = 1#1), (Rect.unit (s := S40960x8960) (k0_off747 v535) S128x8960.size (k0_off747_inb arg24 v535 k0_hw275 k0_h11)).WholeWords (EltTy.packing .fp8e4m3) := fun arg24 v535 k0_hw275 k0_h11 => k0_hw275.2 k0_h11 (k0_off747_inb arg24 v535 k0_hw275 k0_h11)

def k0_off749 (arg24 : BitVec 32) : Fin 1 → Nat :=
  let c2_i32_339 : BitVec 32 := 2#32
  let v684 : BitVec 32 := Scalar.subi arg24 c2_i32_339
  let v685 : Index := Scalar.indexCast v684
  ![v685.toNat]
def k0_cond12 (arg24 : BitVec 32) : BitVec 1 :=
  let c1_i32_256 : BitVec 32 := 1#32
  let v544 : BitVec 1 := Scalar.cmpi .sgt arg24 c1_i32_256
  let v545 : BitVec 32 := Scalar.extui v544
  let c0_i32_257 : BitVec 32 := 0#32
  let v546 : BitVec 1 := Scalar.cmpi .ne v545 c0_i32_257
  v546

def k0_off750 (v686 : BitVec 32) : Fin 2 → Nat :=
  let c8_i32_340 : BitVec 32 := 8#32
  let v687 : BitVec 32 := Scalar.muli v686 c8_i32_340
  let c0_i32_341 : BitVec 32 := 0#32
  let v688 : BitVec 32 := Scalar.addi v687 c0_i32_341
  let c7_i32_342 : BitVec 32 := 7#32
  let v689 : BitVec 32 := Scalar.shrui v688 c7_i32_342
  let v691 : Index := Scalar.indexCast v689
  let c127_i32_343 : BitVec 32 := 127#32
  let v690 : BitVec 32 := Scalar.andi v688 c127_i32_343
  let v692 : Index := Scalar.indexCast v690
  ![v691.toNat, v692.toNat]

def k0_chk276 (arg24 : BitVec 32) (v686 : BitVec 32) : Prop :=
  (∀ (k0_h11 : k0_cond11 arg24 = 1#1), ∀ (k0_h12 : k0_cond12 arg24 = 1#1), ∀ a, (k0_off750 v686) a + S1x1.size a ≤ S8x128.size a)
theorem k0_off750_inb : ∀ (arg24 : BitVec 32) (v686 : BitVec 32) (k0_hw276 : k0_chk276 arg24 v686), ∀ (k0_h11 : k0_cond11 arg24 = 1#1), ∀ (k0_h12 : k0_cond12 arg24 = 1#1), ∀ a, (k0_off750 v686) a + S1x1.size a ≤ S8x128.size a := fun arg24 v686 k0_hw276 k0_h11 k0_h12 => k0_hw276 k0_h11 k0_h12

def k0_off751 (arg24 : BitVec 32) : Fin 1 → Nat :=
  let c2_i32_339 : BitVec 32 := 2#32
  let v684 : BitVec 32 := Scalar.subi arg24 c2_i32_339
  let c1_i32_346 : BitVec 32 := 1#32
  let v696 : BitVec 32 := Scalar.andi v684 c1_i32_346
  ![v696.toNat]
def k0_off752 (v693 : BitVec 32) : Fin 2 → Nat :=
  let c128_i32_344 : BitVec 32 := 128#32
  let v694 : BitVec 32 := Scalar.muli v693 c128_i32_344
  let c0_i32_347 : BitVec 32 := 0#32
  ![v694.toNat, 0]

def k0_off753 (arg24 : BitVec 32) : Fin 3 → Nat :=
  let c2_i32_339 : BitVec 32 := 2#32
  let v684 : BitVec 32 := Scalar.subi arg24 c2_i32_339
  let c1_i32_345 : BitVec 32 := 1#32
  let v695 : BitVec 32 := Scalar.andi v684 c1_i32_345
  let c0_i32_348 : BitVec 32 := 0#32
  let c0_i32_349 : BitVec 32 := 0#32
  ![v695.toNat, 0, 0]

def k0_chk277 (arg24 : BitVec 32) (v693 : BitVec 32) : Prop :=
  (∀ (k0_h11 : k0_cond11 arg24 = 1#1), ∀ (k0_h12 : k0_cond12 arg24 = 1#1), ∀ a, (k0_off752 v693) a + S128x8960.size a ≤ S40960x8960.size a) ∧
  (∀ (k0_h11 : k0_cond11 arg24 = 1#1), ∀ (k0_h12 : k0_cond12 arg24 = 1#1), ∀ (hinb : ∀ a, (k0_off752 v693) a + S128x8960.size a ≤ S40960x8960.size a), (Rect.unit (s := S40960x8960) (k0_off752 v693) S128x8960.size hinb).WholeWords (EltTy.packing .fp8e4m3))
theorem k0_off752_inb : ∀ (arg24 : BitVec 32) (v693 : BitVec 32) (k0_hw277 : k0_chk277 arg24 v693), ∀ (k0_h11 : k0_cond11 arg24 = 1#1), ∀ (k0_h12 : k0_cond12 arg24 = 1#1), ∀ a, (k0_off752 v693) a + S128x8960.size a ≤ S40960x8960.size a := fun arg24 v693 k0_hw277 k0_h11 k0_h12 => k0_hw277.1 k0_h11 k0_h12
theorem k0_off752_wordsfp8e4m3 : ∀ (arg24 : BitVec 32) (v693 : BitVec 32) (k0_hw277 : k0_chk277 arg24 v693), ∀ (k0_h11 : k0_cond11 arg24 = 1#1), ∀ (k0_h12 : k0_cond12 arg24 = 1#1), (Rect.unit (s := S40960x8960) (k0_off752 v693) S128x8960.size (k0_off752_inb arg24 v693 k0_hw277 k0_h11 k0_h12)).WholeWords (EltTy.packing .fp8e4m3) := fun arg24 v693 k0_hw277 k0_h11 k0_h12 => k0_hw277.2 k0_h11 k0_h12 (k0_off752_inb arg24 v693 k0_hw277 k0_h11 k0_h12)

def k0_off754 (arg24 : BitVec 32) : Fin 1 → Nat :=
  let c2_i32_339 : BitVec 32 := 2#32
  let v684 : BitVec 32 := Scalar.subi arg24 c2_i32_339
  let v702 : Index := Scalar.indexCast v684
  ![v702.toNat]
def k0_off755 (v703 : BitVec 32) : Fin 2 → Nat :=
  let c8_i32_350 : BitVec 32 := 8#32
  let v704 : BitVec 32 := Scalar.muli v703 c8_i32_350
  let c1_i32_351 : BitVec 32 := 1#32
  let v705 : BitVec 32 := Scalar.addi v704 c1_i32_351
  let c7_i32_352 : BitVec 32 := 7#32
  let v706 : BitVec 32 := Scalar.shrui v705 c7_i32_352
  let v708 : Index := Scalar.indexCast v706
  let c127_i32_353 : BitVec 32 := 127#32
  let v707 : BitVec 32 := Scalar.andi v705 c127_i32_353
  let v709 : Index := Scalar.indexCast v707
  ![v708.toNat, v709.toNat]

def k0_chk278 (arg24 : BitVec 32) (v703 : BitVec 32) : Prop :=
  (∀ (k0_h11 : k0_cond11 arg24 = 1#1), ∀ (k0_h12 : k0_cond12 arg24 = 1#1), ∀ a, (k0_off755 v703) a + S1x1.size a ≤ S8x128.size a)
theorem k0_off755_inb : ∀ (arg24 : BitVec 32) (v703 : BitVec 32) (k0_hw278 : k0_chk278 arg24 v703), ∀ (k0_h11 : k0_cond11 arg24 = 1#1), ∀ (k0_h12 : k0_cond12 arg24 = 1#1), ∀ a, (k0_off755 v703) a + S1x1.size a ≤ S8x128.size a := fun arg24 v703 k0_hw278 k0_h11 k0_h12 => k0_hw278 k0_h11 k0_h12

def k0_off756 (arg24 : BitVec 32) : Fin 1 → Nat :=
  let c2_i32_339 : BitVec 32 := 2#32
  let v684 : BitVec 32 := Scalar.subi arg24 c2_i32_339
  let c1_i32_356 : BitVec 32 := 1#32
  let v713 : BitVec 32 := Scalar.andi v684 c1_i32_356
  ![v713.toNat]
def k0_off757 (v710 : BitVec 32) : Fin 2 → Nat :=
  let c128_i32_354 : BitVec 32 := 128#32
  let v711 : BitVec 32 := Scalar.muli v710 c128_i32_354
  let c0_i32_357 : BitVec 32 := 0#32
  ![v711.toNat, 0]

def k0_off758 (arg24 : BitVec 32) : Fin 3 → Nat :=
  let c2_i32_339 : BitVec 32 := 2#32
  let v684 : BitVec 32 := Scalar.subi arg24 c2_i32_339
  let c1_i32_355 : BitVec 32 := 1#32
  let v712 : BitVec 32 := Scalar.andi v684 c1_i32_355
  let c128_i32_358 : BitVec 32 := 128#32
  let c0_i32_359 : BitVec 32 := 0#32
  ![v712.toNat, 128, 0]

def k0_chk279 (arg24 : BitVec 32) (v710 : BitVec 32) : Prop :=
  (∀ (k0_h11 : k0_cond11 arg24 = 1#1), ∀ (k0_h12 : k0_cond12 arg24 = 1#1), ∀ a, (k0_off757 v710) a + S128x8960.size a ≤ S40960x8960.size a) ∧
  (∀ (k0_h11 : k0_cond11 arg24 = 1#1), ∀ (k0_h12 : k0_cond12 arg24 = 1#1), ∀ (hinb : ∀ a, (k0_off757 v710) a + S128x8960.size a ≤ S40960x8960.size a), (Rect.unit (s := S40960x8960) (k0_off757 v710) S128x8960.size hinb).WholeWords (EltTy.packing .fp8e4m3))
theorem k0_off757_inb : ∀ (arg24 : BitVec 32) (v710 : BitVec 32) (k0_hw279 : k0_chk279 arg24 v710), ∀ (k0_h11 : k0_cond11 arg24 = 1#1), ∀ (k0_h12 : k0_cond12 arg24 = 1#1), ∀ a, (k0_off757 v710) a + S128x8960.size a ≤ S40960x8960.size a := fun arg24 v710 k0_hw279 k0_h11 k0_h12 => k0_hw279.1 k0_h11 k0_h12
theorem k0_off757_wordsfp8e4m3 : ∀ (arg24 : BitVec 32) (v710 : BitVec 32) (k0_hw279 : k0_chk279 arg24 v710), ∀ (k0_h11 : k0_cond11 arg24 = 1#1), ∀ (k0_h12 : k0_cond12 arg24 = 1#1), (Rect.unit (s := S40960x8960) (k0_off757 v710) S128x8960.size (k0_off757_inb arg24 v710 k0_hw279 k0_h11 k0_h12)).WholeWords (EltTy.packing .fp8e4m3) := fun arg24 v710 k0_hw279 k0_h11 k0_h12 => k0_hw279.2 k0_h11 k0_h12 (k0_off757_inb arg24 v710 k0_hw279 k0_h11 k0_h12)

def k0_off759 (arg24 : BitVec 32) : Fin 1 → Nat :=
  let c2_i32_339 : BitVec 32 := 2#32
  let v684 : BitVec 32 := Scalar.subi arg24 c2_i32_339
  let v719 : Index := Scalar.indexCast v684
  ![v719.toNat]
def k0_off760 (v720 : BitVec 32) : Fin 2 → Nat :=
  let c8_i32_360 : BitVec 32 := 8#32
  let v721 : BitVec 32 := Scalar.muli v720 c8_i32_360
  let c2_i32_361 : BitVec 32 := 2#32
  let v722 : BitVec 32 := Scalar.addi v721 c2_i32_361
  let c7_i32_362 : BitVec 32 := 7#32
  let v723 : BitVec 32 := Scalar.shrui v722 c7_i32_362
  let v725 : Index := Scalar.indexCast v723
  let c127_i32_363 : BitVec 32 := 127#32
  let v724 : BitVec 32 := Scalar.andi v722 c127_i32_363
  let v726 : Index := Scalar.indexCast v724
  ![v725.toNat, v726.toNat]

def k0_chk280 (arg24 : BitVec 32) (v720 : BitVec 32) : Prop :=
  (∀ (k0_h11 : k0_cond11 arg24 = 1#1), ∀ (k0_h12 : k0_cond12 arg24 = 1#1), ∀ a, (k0_off760 v720) a + S1x1.size a ≤ S8x128.size a)
theorem k0_off760_inb : ∀ (arg24 : BitVec 32) (v720 : BitVec 32) (k0_hw280 : k0_chk280 arg24 v720), ∀ (k0_h11 : k0_cond11 arg24 = 1#1), ∀ (k0_h12 : k0_cond12 arg24 = 1#1), ∀ a, (k0_off760 v720) a + S1x1.size a ≤ S8x128.size a := fun arg24 v720 k0_hw280 k0_h11 k0_h12 => k0_hw280 k0_h11 k0_h12

def k0_off761 (arg24 : BitVec 32) : Fin 1 → Nat :=
  let c2_i32_339 : BitVec 32 := 2#32
  let v684 : BitVec 32 := Scalar.subi arg24 c2_i32_339
  let c1_i32_366 : BitVec 32 := 1#32
  let v730 : BitVec 32 := Scalar.andi v684 c1_i32_366
  ![v730.toNat]
def k0_off762 (v727 : BitVec 32) : Fin 2 → Nat :=
  let c128_i32_364 : BitVec 32 := 128#32
  let v728 : BitVec 32 := Scalar.muli v727 c128_i32_364
  let c0_i32_367 : BitVec 32 := 0#32
  ![v728.toNat, 0]

def k0_off763 (arg24 : BitVec 32) : Fin 3 → Nat :=
  let c2_i32_339 : BitVec 32 := 2#32
  let v684 : BitVec 32 := Scalar.subi arg24 c2_i32_339
  let c1_i32_365 : BitVec 32 := 1#32
  let v729 : BitVec 32 := Scalar.andi v684 c1_i32_365
  let c256_i32_368 : BitVec 32 := 256#32
  let c0_i32_369 : BitVec 32 := 0#32
  ![v729.toNat, 256, 0]

def k0_chk281 (arg24 : BitVec 32) (v727 : BitVec 32) : Prop :=
  (∀ (k0_h11 : k0_cond11 arg24 = 1#1), ∀ (k0_h12 : k0_cond12 arg24 = 1#1), ∀ a, (k0_off762 v727) a + S128x8960.size a ≤ S40960x8960.size a) ∧
  (∀ (k0_h11 : k0_cond11 arg24 = 1#1), ∀ (k0_h12 : k0_cond12 arg24 = 1#1), ∀ (hinb : ∀ a, (k0_off762 v727) a + S128x8960.size a ≤ S40960x8960.size a), (Rect.unit (s := S40960x8960) (k0_off762 v727) S128x8960.size hinb).WholeWords (EltTy.packing .fp8e4m3))
theorem k0_off762_inb : ∀ (arg24 : BitVec 32) (v727 : BitVec 32) (k0_hw281 : k0_chk281 arg24 v727), ∀ (k0_h11 : k0_cond11 arg24 = 1#1), ∀ (k0_h12 : k0_cond12 arg24 = 1#1), ∀ a, (k0_off762 v727) a + S128x8960.size a ≤ S40960x8960.size a := fun arg24 v727 k0_hw281 k0_h11 k0_h12 => k0_hw281.1 k0_h11 k0_h12
theorem k0_off762_wordsfp8e4m3 : ∀ (arg24 : BitVec 32) (v727 : BitVec 32) (k0_hw281 : k0_chk281 arg24 v727), ∀ (k0_h11 : k0_cond11 arg24 = 1#1), ∀ (k0_h12 : k0_cond12 arg24 = 1#1), (Rect.unit (s := S40960x8960) (k0_off762 v727) S128x8960.size (k0_off762_inb arg24 v727 k0_hw281 k0_h11 k0_h12)).WholeWords (EltTy.packing .fp8e4m3) := fun arg24 v727 k0_hw281 k0_h11 k0_h12 => k0_hw281.2 k0_h11 k0_h12 (k0_off762_inb arg24 v727 k0_hw281 k0_h11 k0_h12)

def k0_off764 (arg24 : BitVec 32) : Fin 1 → Nat :=
  let c2_i32_339 : BitVec 32 := 2#32
  let v684 : BitVec 32 := Scalar.subi arg24 c2_i32_339
  let v736 : Index := Scalar.indexCast v684
  ![v736.toNat]
def k0_off765 (v737 : BitVec 32) : Fin 2 → Nat :=
  let c8_i32_370 : BitVec 32 := 8#32
  let v738 : BitVec 32 := Scalar.muli v737 c8_i32_370
  let c3_i32_371 : BitVec 32 := 3#32
  let v739 : BitVec 32 := Scalar.addi v738 c3_i32_371
  let c7_i32_372 : BitVec 32 := 7#32
  let v740 : BitVec 32 := Scalar.shrui v739 c7_i32_372
  let v742 : Index := Scalar.indexCast v740
  let c127_i32_373 : BitVec 32 := 127#32
  let v741 : BitVec 32 := Scalar.andi v739 c127_i32_373
  let v743 : Index := Scalar.indexCast v741
  ![v742.toNat, v743.toNat]

def k0_chk282 (arg24 : BitVec 32) (v737 : BitVec 32) : Prop :=
  (∀ (k0_h11 : k0_cond11 arg24 = 1#1), ∀ (k0_h12 : k0_cond12 arg24 = 1#1), ∀ a, (k0_off765 v737) a + S1x1.size a ≤ S8x128.size a)
theorem k0_off765_inb : ∀ (arg24 : BitVec 32) (v737 : BitVec 32) (k0_hw282 : k0_chk282 arg24 v737), ∀ (k0_h11 : k0_cond11 arg24 = 1#1), ∀ (k0_h12 : k0_cond12 arg24 = 1#1), ∀ a, (k0_off765 v737) a + S1x1.size a ≤ S8x128.size a := fun arg24 v737 k0_hw282 k0_h11 k0_h12 => k0_hw282 k0_h11 k0_h12

def k0_off766 (arg24 : BitVec 32) : Fin 1 → Nat :=
  let c2_i32_339 : BitVec 32 := 2#32
  let v684 : BitVec 32 := Scalar.subi arg24 c2_i32_339
  let c1_i32_376 : BitVec 32 := 1#32
  let v747 : BitVec 32 := Scalar.andi v684 c1_i32_376
  ![v747.toNat]
def k0_off767 (v744 : BitVec 32) : Fin 2 → Nat :=
  let c128_i32_374 : BitVec 32 := 128#32
  let v745 : BitVec 32 := Scalar.muli v744 c128_i32_374
  let c0_i32_377 : BitVec 32 := 0#32
  ![v745.toNat, 0]

def k0_off768 (arg24 : BitVec 32) : Fin 3 → Nat :=
  let c2_i32_339 : BitVec 32 := 2#32
  let v684 : BitVec 32 := Scalar.subi arg24 c2_i32_339
  let c1_i32_375 : BitVec 32 := 1#32
  let v746 : BitVec 32 := Scalar.andi v684 c1_i32_375
  let c384_i32_378 : BitVec 32 := 384#32
  let c0_i32_379 : BitVec 32 := 0#32
  ![v746.toNat, 384, 0]

def k0_chk283 (arg24 : BitVec 32) (v744 : BitVec 32) : Prop :=
  (∀ (k0_h11 : k0_cond11 arg24 = 1#1), ∀ (k0_h12 : k0_cond12 arg24 = 1#1), ∀ a, (k0_off767 v744) a + S128x8960.size a ≤ S40960x8960.size a) ∧
  (∀ (k0_h11 : k0_cond11 arg24 = 1#1), ∀ (k0_h12 : k0_cond12 arg24 = 1#1), ∀ (hinb : ∀ a, (k0_off767 v744) a + S128x8960.size a ≤ S40960x8960.size a), (Rect.unit (s := S40960x8960) (k0_off767 v744) S128x8960.size hinb).WholeWords (EltTy.packing .fp8e4m3))
theorem k0_off767_inb : ∀ (arg24 : BitVec 32) (v744 : BitVec 32) (k0_hw283 : k0_chk283 arg24 v744), ∀ (k0_h11 : k0_cond11 arg24 = 1#1), ∀ (k0_h12 : k0_cond12 arg24 = 1#1), ∀ a, (k0_off767 v744) a + S128x8960.size a ≤ S40960x8960.size a := fun arg24 v744 k0_hw283 k0_h11 k0_h12 => k0_hw283.1 k0_h11 k0_h12
theorem k0_off767_wordsfp8e4m3 : ∀ (arg24 : BitVec 32) (v744 : BitVec 32) (k0_hw283 : k0_chk283 arg24 v744), ∀ (k0_h11 : k0_cond11 arg24 = 1#1), ∀ (k0_h12 : k0_cond12 arg24 = 1#1), (Rect.unit (s := S40960x8960) (k0_off767 v744) S128x8960.size (k0_off767_inb arg24 v744 k0_hw283 k0_h11 k0_h12)).WholeWords (EltTy.packing .fp8e4m3) := fun arg24 v744 k0_hw283 k0_h11 k0_h12 => k0_hw283.2 k0_h11 k0_h12 (k0_off767_inb arg24 v744 k0_hw283 k0_h11 k0_h12)

def k0_off769 (arg24 : BitVec 32) : Fin 1 → Nat :=
  let c2_i32_339 : BitVec 32 := 2#32
  let v684 : BitVec 32 := Scalar.subi arg24 c2_i32_339
  let v753 : Index := Scalar.indexCast v684
  ![v753.toNat]
def k0_off770 (v754 : BitVec 32) : Fin 2 → Nat :=
  let c8_i32_380 : BitVec 32 := 8#32
  let v755 : BitVec 32 := Scalar.muli v754 c8_i32_380
  let c4_i32_381 : BitVec 32 := 4#32
  let v756 : BitVec 32 := Scalar.addi v755 c4_i32_381
  let c7_i32_382 : BitVec 32 := 7#32
  let v757 : BitVec 32 := Scalar.shrui v756 c7_i32_382
  let v759 : Index := Scalar.indexCast v757
  let c127_i32_383 : BitVec 32 := 127#32
  let v758 : BitVec 32 := Scalar.andi v756 c127_i32_383
  let v760 : Index := Scalar.indexCast v758
  ![v759.toNat, v760.toNat]

def k0_chk284 (arg24 : BitVec 32) (v754 : BitVec 32) : Prop :=
  (∀ (k0_h11 : k0_cond11 arg24 = 1#1), ∀ (k0_h12 : k0_cond12 arg24 = 1#1), ∀ a, (k0_off770 v754) a + S1x1.size a ≤ S8x128.size a)
theorem k0_off770_inb : ∀ (arg24 : BitVec 32) (v754 : BitVec 32) (k0_hw284 : k0_chk284 arg24 v754), ∀ (k0_h11 : k0_cond11 arg24 = 1#1), ∀ (k0_h12 : k0_cond12 arg24 = 1#1), ∀ a, (k0_off770 v754) a + S1x1.size a ≤ S8x128.size a := fun arg24 v754 k0_hw284 k0_h11 k0_h12 => k0_hw284 k0_h11 k0_h12

def k0_off771 (arg24 : BitVec 32) : Fin 1 → Nat :=
  let c2_i32_339 : BitVec 32 := 2#32
  let v684 : BitVec 32 := Scalar.subi arg24 c2_i32_339
  let c1_i32_386 : BitVec 32 := 1#32
  let v764 : BitVec 32 := Scalar.andi v684 c1_i32_386
  ![v764.toNat]
def k0_off772 (v761 : BitVec 32) : Fin 2 → Nat :=
  let c128_i32_384 : BitVec 32 := 128#32
  let v762 : BitVec 32 := Scalar.muli v761 c128_i32_384
  let c0_i32_387 : BitVec 32 := 0#32
  ![v762.toNat, 0]

def k0_off773 (arg24 : BitVec 32) : Fin 3 → Nat :=
  let c2_i32_339 : BitVec 32 := 2#32
  let v684 : BitVec 32 := Scalar.subi arg24 c2_i32_339
  let c1_i32_385 : BitVec 32 := 1#32
  let v763 : BitVec 32 := Scalar.andi v684 c1_i32_385
  let c512_i32_388 : BitVec 32 := 512#32
  let c0_i32_389 : BitVec 32 := 0#32
  ![v763.toNat, 512, 0]

def k0_chk285 (arg24 : BitVec 32) (v761 : BitVec 32) : Prop :=
  (∀ (k0_h11 : k0_cond11 arg24 = 1#1), ∀ (k0_h12 : k0_cond12 arg24 = 1#1), ∀ a, (k0_off772 v761) a + S128x8960.size a ≤ S40960x8960.size a) ∧
  (∀ (k0_h11 : k0_cond11 arg24 = 1#1), ∀ (k0_h12 : k0_cond12 arg24 = 1#1), ∀ (hinb : ∀ a, (k0_off772 v761) a + S128x8960.size a ≤ S40960x8960.size a), (Rect.unit (s := S40960x8960) (k0_off772 v761) S128x8960.size hinb).WholeWords (EltTy.packing .fp8e4m3))
theorem k0_off772_inb : ∀ (arg24 : BitVec 32) (v761 : BitVec 32) (k0_hw285 : k0_chk285 arg24 v761), ∀ (k0_h11 : k0_cond11 arg24 = 1#1), ∀ (k0_h12 : k0_cond12 arg24 = 1#1), ∀ a, (k0_off772 v761) a + S128x8960.size a ≤ S40960x8960.size a := fun arg24 v761 k0_hw285 k0_h11 k0_h12 => k0_hw285.1 k0_h11 k0_h12
theorem k0_off772_wordsfp8e4m3 : ∀ (arg24 : BitVec 32) (v761 : BitVec 32) (k0_hw285 : k0_chk285 arg24 v761), ∀ (k0_h11 : k0_cond11 arg24 = 1#1), ∀ (k0_h12 : k0_cond12 arg24 = 1#1), (Rect.unit (s := S40960x8960) (k0_off772 v761) S128x8960.size (k0_off772_inb arg24 v761 k0_hw285 k0_h11 k0_h12)).WholeWords (EltTy.packing .fp8e4m3) := fun arg24 v761 k0_hw285 k0_h11 k0_h12 => k0_hw285.2 k0_h11 k0_h12 (k0_off772_inb arg24 v761 k0_hw285 k0_h11 k0_h12)

def k0_off774 (arg24 : BitVec 32) : Fin 1 → Nat :=
  let c2_i32_339 : BitVec 32 := 2#32
  let v684 : BitVec 32 := Scalar.subi arg24 c2_i32_339
  let v770 : Index := Scalar.indexCast v684
  ![v770.toNat]
def k0_off775 (v771 : BitVec 32) : Fin 2 → Nat :=
  let c8_i32_390 : BitVec 32 := 8#32
  let v772 : BitVec 32 := Scalar.muli v771 c8_i32_390
  let c5_i32_391 : BitVec 32 := 5#32
  let v773 : BitVec 32 := Scalar.addi v772 c5_i32_391
  let c7_i32_392 : BitVec 32 := 7#32
  let v774 : BitVec 32 := Scalar.shrui v773 c7_i32_392
  let v776 : Index := Scalar.indexCast v774
  let c127_i32_393 : BitVec 32 := 127#32
  let v775 : BitVec 32 := Scalar.andi v773 c127_i32_393
  let v777 : Index := Scalar.indexCast v775
  ![v776.toNat, v777.toNat]

def k0_chk286 (arg24 : BitVec 32) (v771 : BitVec 32) : Prop :=
  (∀ (k0_h11 : k0_cond11 arg24 = 1#1), ∀ (k0_h12 : k0_cond12 arg24 = 1#1), ∀ a, (k0_off775 v771) a + S1x1.size a ≤ S8x128.size a)
theorem k0_off775_inb : ∀ (arg24 : BitVec 32) (v771 : BitVec 32) (k0_hw286 : k0_chk286 arg24 v771), ∀ (k0_h11 : k0_cond11 arg24 = 1#1), ∀ (k0_h12 : k0_cond12 arg24 = 1#1), ∀ a, (k0_off775 v771) a + S1x1.size a ≤ S8x128.size a := fun arg24 v771 k0_hw286 k0_h11 k0_h12 => k0_hw286 k0_h11 k0_h12

def k0_off776 (arg24 : BitVec 32) : Fin 1 → Nat :=
  let c2_i32_339 : BitVec 32 := 2#32
  let v684 : BitVec 32 := Scalar.subi arg24 c2_i32_339
  let c1_i32_396 : BitVec 32 := 1#32
  let v781 : BitVec 32 := Scalar.andi v684 c1_i32_396
  ![v781.toNat]
def k0_off777 (v778 : BitVec 32) : Fin 2 → Nat :=
  let c128_i32_394 : BitVec 32 := 128#32
  let v779 : BitVec 32 := Scalar.muli v778 c128_i32_394
  let c0_i32_397 : BitVec 32 := 0#32
  ![v779.toNat, 0]

def k0_off778 (arg24 : BitVec 32) : Fin 3 → Nat :=
  let c2_i32_339 : BitVec 32 := 2#32
  let v684 : BitVec 32 := Scalar.subi arg24 c2_i32_339
  let c1_i32_395 : BitVec 32 := 1#32
  let v780 : BitVec 32 := Scalar.andi v684 c1_i32_395
  let c640_i32_398 : BitVec 32 := 640#32
  let c0_i32_399 : BitVec 32 := 0#32
  ![v780.toNat, 640, 0]

def k0_chk287 (arg24 : BitVec 32) (v778 : BitVec 32) : Prop :=
  (∀ (k0_h11 : k0_cond11 arg24 = 1#1), ∀ (k0_h12 : k0_cond12 arg24 = 1#1), ∀ a, (k0_off777 v778) a + S128x8960.size a ≤ S40960x8960.size a) ∧
  (∀ (k0_h11 : k0_cond11 arg24 = 1#1), ∀ (k0_h12 : k0_cond12 arg24 = 1#1), ∀ (hinb : ∀ a, (k0_off777 v778) a + S128x8960.size a ≤ S40960x8960.size a), (Rect.unit (s := S40960x8960) (k0_off777 v778) S128x8960.size hinb).WholeWords (EltTy.packing .fp8e4m3))
theorem k0_off777_inb : ∀ (arg24 : BitVec 32) (v778 : BitVec 32) (k0_hw287 : k0_chk287 arg24 v778), ∀ (k0_h11 : k0_cond11 arg24 = 1#1), ∀ (k0_h12 : k0_cond12 arg24 = 1#1), ∀ a, (k0_off777 v778) a + S128x8960.size a ≤ S40960x8960.size a := fun arg24 v778 k0_hw287 k0_h11 k0_h12 => k0_hw287.1 k0_h11 k0_h12
theorem k0_off777_wordsfp8e4m3 : ∀ (arg24 : BitVec 32) (v778 : BitVec 32) (k0_hw287 : k0_chk287 arg24 v778), ∀ (k0_h11 : k0_cond11 arg24 = 1#1), ∀ (k0_h12 : k0_cond12 arg24 = 1#1), (Rect.unit (s := S40960x8960) (k0_off777 v778) S128x8960.size (k0_off777_inb arg24 v778 k0_hw287 k0_h11 k0_h12)).WholeWords (EltTy.packing .fp8e4m3) := fun arg24 v778 k0_hw287 k0_h11 k0_h12 => k0_hw287.2 k0_h11 k0_h12 (k0_off777_inb arg24 v778 k0_hw287 k0_h11 k0_h12)

def k0_off779 (arg24 : BitVec 32) : Fin 1 → Nat :=
  let c2_i32_339 : BitVec 32 := 2#32
  let v684 : BitVec 32 := Scalar.subi arg24 c2_i32_339
  let v787 : Index := Scalar.indexCast v684
  ![v787.toNat]
def k0_off780 (v788 : BitVec 32) : Fin 2 → Nat :=
  let c8_i32_400 : BitVec 32 := 8#32
  let v789 : BitVec 32 := Scalar.muli v788 c8_i32_400
  let c6_i32_401 : BitVec 32 := 6#32
  let v790 : BitVec 32 := Scalar.addi v789 c6_i32_401
  let c7_i32_402 : BitVec 32 := 7#32
  let v791 : BitVec 32 := Scalar.shrui v790 c7_i32_402
  let v793 : Index := Scalar.indexCast v791
  let c127_i32_403 : BitVec 32 := 127#32
  let v792 : BitVec 32 := Scalar.andi v790 c127_i32_403
  let v794 : Index := Scalar.indexCast v792
  ![v793.toNat, v794.toNat]

def k0_chk288 (arg24 : BitVec 32) (v788 : BitVec 32) : Prop :=
  (∀ (k0_h11 : k0_cond11 arg24 = 1#1), ∀ (k0_h12 : k0_cond12 arg24 = 1#1), ∀ a, (k0_off780 v788) a + S1x1.size a ≤ S8x128.size a)
theorem k0_off780_inb : ∀ (arg24 : BitVec 32) (v788 : BitVec 32) (k0_hw288 : k0_chk288 arg24 v788), ∀ (k0_h11 : k0_cond11 arg24 = 1#1), ∀ (k0_h12 : k0_cond12 arg24 = 1#1), ∀ a, (k0_off780 v788) a + S1x1.size a ≤ S8x128.size a := fun arg24 v788 k0_hw288 k0_h11 k0_h12 => k0_hw288 k0_h11 k0_h12

def k0_off781 (arg24 : BitVec 32) : Fin 1 → Nat :=
  let c2_i32_339 : BitVec 32 := 2#32
  let v684 : BitVec 32 := Scalar.subi arg24 c2_i32_339
  let c1_i32_406 : BitVec 32 := 1#32
  let v798 : BitVec 32 := Scalar.andi v684 c1_i32_406
  ![v798.toNat]
def k0_off782 (v795 : BitVec 32) : Fin 2 → Nat :=
  let c128_i32_404 : BitVec 32 := 128#32
  let v796 : BitVec 32 := Scalar.muli v795 c128_i32_404
  let c0_i32_407 : BitVec 32 := 0#32
  ![v796.toNat, 0]

def k0_off783 (arg24 : BitVec 32) : Fin 3 → Nat :=
  let c2_i32_339 : BitVec 32 := 2#32
  let v684 : BitVec 32 := Scalar.subi arg24 c2_i32_339
  let c1_i32_405 : BitVec 32 := 1#32
  let v797 : BitVec 32 := Scalar.andi v684 c1_i32_405
  let c768_i32_408 : BitVec 32 := 768#32
  let c0_i32_409 : BitVec 32 := 0#32
  ![v797.toNat, 768, 0]

def k0_chk289 (arg24 : BitVec 32) (v795 : BitVec 32) : Prop :=
  (∀ (k0_h11 : k0_cond11 arg24 = 1#1), ∀ (k0_h12 : k0_cond12 arg24 = 1#1), ∀ a, (k0_off782 v795) a + S128x8960.size a ≤ S40960x8960.size a) ∧
  (∀ (k0_h11 : k0_cond11 arg24 = 1#1), ∀ (k0_h12 : k0_cond12 arg24 = 1#1), ∀ (hinb : ∀ a, (k0_off782 v795) a + S128x8960.size a ≤ S40960x8960.size a), (Rect.unit (s := S40960x8960) (k0_off782 v795) S128x8960.size hinb).WholeWords (EltTy.packing .fp8e4m3))
theorem k0_off782_inb : ∀ (arg24 : BitVec 32) (v795 : BitVec 32) (k0_hw289 : k0_chk289 arg24 v795), ∀ (k0_h11 : k0_cond11 arg24 = 1#1), ∀ (k0_h12 : k0_cond12 arg24 = 1#1), ∀ a, (k0_off782 v795) a + S128x8960.size a ≤ S40960x8960.size a := fun arg24 v795 k0_hw289 k0_h11 k0_h12 => k0_hw289.1 k0_h11 k0_h12
theorem k0_off782_wordsfp8e4m3 : ∀ (arg24 : BitVec 32) (v795 : BitVec 32) (k0_hw289 : k0_chk289 arg24 v795), ∀ (k0_h11 : k0_cond11 arg24 = 1#1), ∀ (k0_h12 : k0_cond12 arg24 = 1#1), (Rect.unit (s := S40960x8960) (k0_off782 v795) S128x8960.size (k0_off782_inb arg24 v795 k0_hw289 k0_h11 k0_h12)).WholeWords (EltTy.packing .fp8e4m3) := fun arg24 v795 k0_hw289 k0_h11 k0_h12 => k0_hw289.2 k0_h11 k0_h12 (k0_off782_inb arg24 v795 k0_hw289 k0_h11 k0_h12)

def k0_off784 (arg24 : BitVec 32) : Fin 1 → Nat :=
  let c2_i32_339 : BitVec 32 := 2#32
  let v684 : BitVec 32 := Scalar.subi arg24 c2_i32_339
  let v804 : Index := Scalar.indexCast v684
  ![v804.toNat]
def k0_off785 (v805 : BitVec 32) : Fin 2 → Nat :=
  let c8_i32_410 : BitVec 32 := 8#32
  let v806 : BitVec 32 := Scalar.muli v805 c8_i32_410
  let c7_i32_411 : BitVec 32 := 7#32
  let v807 : BitVec 32 := Scalar.addi v806 c7_i32_411
  let c7_i32_412 : BitVec 32 := 7#32
  let v808 : BitVec 32 := Scalar.shrui v807 c7_i32_412
  let v810 : Index := Scalar.indexCast v808
  let c127_i32_413 : BitVec 32 := 127#32
  let v809 : BitVec 32 := Scalar.andi v807 c127_i32_413
  let v811 : Index := Scalar.indexCast v809
  ![v810.toNat, v811.toNat]

def k0_chk290 (arg24 : BitVec 32) (v805 : BitVec 32) : Prop :=
  (∀ (k0_h11 : k0_cond11 arg24 = 1#1), ∀ (k0_h12 : k0_cond12 arg24 = 1#1), ∀ a, (k0_off785 v805) a + S1x1.size a ≤ S8x128.size a)
theorem k0_off785_inb : ∀ (arg24 : BitVec 32) (v805 : BitVec 32) (k0_hw290 : k0_chk290 arg24 v805), ∀ (k0_h11 : k0_cond11 arg24 = 1#1), ∀ (k0_h12 : k0_cond12 arg24 = 1#1), ∀ a, (k0_off785 v805) a + S1x1.size a ≤ S8x128.size a := fun arg24 v805 k0_hw290 k0_h11 k0_h12 => k0_hw290 k0_h11 k0_h12

def k0_off786 (arg24 : BitVec 32) : Fin 1 → Nat :=
  let c2_i32_339 : BitVec 32 := 2#32
  let v684 : BitVec 32 := Scalar.subi arg24 c2_i32_339
  let c1_i32_416 : BitVec 32 := 1#32
  let v815 : BitVec 32 := Scalar.andi v684 c1_i32_416
  ![v815.toNat]
def k0_off787 (v812 : BitVec 32) : Fin 2 → Nat :=
  let c128_i32_414 : BitVec 32 := 128#32
  let v813 : BitVec 32 := Scalar.muli v812 c128_i32_414
  let c0_i32_417 : BitVec 32 := 0#32
  ![v813.toNat, 0]

def k0_off788 (arg24 : BitVec 32) : Fin 3 → Nat :=
  let c2_i32_339 : BitVec 32 := 2#32
  let v684 : BitVec 32 := Scalar.subi arg24 c2_i32_339
  let c1_i32_415 : BitVec 32 := 1#32
  let v814 : BitVec 32 := Scalar.andi v684 c1_i32_415
  let c896_i32_418 : BitVec 32 := 896#32
  let c0_i32_419 : BitVec 32 := 0#32
  ![v814.toNat, 896, 0]

def k0_chk291 (arg24 : BitVec 32) (v812 : BitVec 32) : Prop :=
  (∀ (k0_h11 : k0_cond11 arg24 = 1#1), ∀ (k0_h12 : k0_cond12 arg24 = 1#1), ∀ a, (k0_off787 v812) a + S128x8960.size a ≤ S40960x8960.size a) ∧
  (∀ (k0_h11 : k0_cond11 arg24 = 1#1), ∀ (k0_h12 : k0_cond12 arg24 = 1#1), ∀ (hinb : ∀ a, (k0_off787 v812) a + S128x8960.size a ≤ S40960x8960.size a), (Rect.unit (s := S40960x8960) (k0_off787 v812) S128x8960.size hinb).WholeWords (EltTy.packing .fp8e4m3))
theorem k0_off787_inb : ∀ (arg24 : BitVec 32) (v812 : BitVec 32) (k0_hw291 : k0_chk291 arg24 v812), ∀ (k0_h11 : k0_cond11 arg24 = 1#1), ∀ (k0_h12 : k0_cond12 arg24 = 1#1), ∀ a, (k0_off787 v812) a + S128x8960.size a ≤ S40960x8960.size a := fun arg24 v812 k0_hw291 k0_h11 k0_h12 => k0_hw291.1 k0_h11 k0_h12
theorem k0_off787_wordsfp8e4m3 : ∀ (arg24 : BitVec 32) (v812 : BitVec 32) (k0_hw291 : k0_chk291 arg24 v812), ∀ (k0_h11 : k0_cond11 arg24 = 1#1), ∀ (k0_h12 : k0_cond12 arg24 = 1#1), (Rect.unit (s := S40960x8960) (k0_off787 v812) S128x8960.size (k0_off787_inb arg24 v812 k0_hw291 k0_h11 k0_h12)).WholeWords (EltTy.packing .fp8e4m3) := fun arg24 v812 k0_hw291 k0_h11 k0_h12 => k0_hw291.2 k0_h11 k0_h12 (k0_off787_inb arg24 v812 k0_hw291 k0_h11 k0_h12)

def k0_off789 (arg24 : BitVec 32) : Fin 1 → Nat :=
  let c1_i32_258 : BitVec 32 := 1#32
  let v547 : BitVec 32 := Scalar.subi arg24 c1_i32_258
  let v548 : Index := Scalar.indexCast v547
  ![v548.toNat]
def k0_off790 (v549 : BitVec 32) : Fin 2 → Nat :=
  let c8_i32_259 : BitVec 32 := 8#32
  let v550 : BitVec 32 := Scalar.muli v549 c8_i32_259
  let c0_i32_260 : BitVec 32 := 0#32
  let v551 : BitVec 32 := Scalar.addi v550 c0_i32_260
  let c7_i32_261 : BitVec 32 := 7#32
  let v552 : BitVec 32 := Scalar.shrui v551 c7_i32_261
  let v554 : Index := Scalar.indexCast v552
  let c127_i32_262 : BitVec 32 := 127#32
  let v553 : BitVec 32 := Scalar.andi v551 c127_i32_262
  let v555 : Index := Scalar.indexCast v553
  ![v554.toNat, v555.toNat]

def k0_chk292 (arg24 : BitVec 32) (v549 : BitVec 32) : Prop :=
  (∀ (k0_h11 : k0_cond11 arg24 = 1#1), ∀ a, (k0_off790 v549) a + S1x1.size a ≤ S8x128.size a)
theorem k0_off790_inb : ∀ (arg24 : BitVec 32) (v549 : BitVec 32) (k0_hw292 : k0_chk292 arg24 v549), ∀ (k0_h11 : k0_cond11 arg24 = 1#1), ∀ a, (k0_off790 v549) a + S1x1.size a ≤ S8x128.size a := fun arg24 v549 k0_hw292 k0_h11 => k0_hw292 k0_h11

def k0_off791 (arg24 : BitVec 32) : Fin 1 → Nat :=
  let c1_i32_258 : BitVec 32 := 1#32
  let v547 : BitVec 32 := Scalar.subi arg24 c1_i32_258
  let c1_i32_265 : BitVec 32 := 1#32
  let v559 : BitVec 32 := Scalar.andi v547 c1_i32_265
  ![v559.toNat]
def k0_off792 (v556 : BitVec 32) : Fin 2 → Nat :=
  let c128_i32_263 : BitVec 32 := 128#32
  let v557 : BitVec 32 := Scalar.muli v556 c128_i32_263
  let c0_i32_266 : BitVec 32 := 0#32
  ![v557.toNat, 0]

def k0_off793 (arg24 : BitVec 32) : Fin 3 → Nat :=
  let c1_i32_258 : BitVec 32 := 1#32
  let v547 : BitVec 32 := Scalar.subi arg24 c1_i32_258
  let c1_i32_264 : BitVec 32 := 1#32
  let v558 : BitVec 32 := Scalar.andi v547 c1_i32_264
  let c0_i32_267 : BitVec 32 := 0#32
  let c0_i32_268 : BitVec 32 := 0#32
  ![v558.toNat, 0, 0]

def k0_chk293 (arg24 : BitVec 32) (v556 : BitVec 32) : Prop :=
  (∀ (k0_h11 : k0_cond11 arg24 = 1#1), ∀ a, (k0_off792 v556) a + S128x8960.size a ≤ S40960x8960.size a) ∧
  (∀ (k0_h11 : k0_cond11 arg24 = 1#1), ∀ (hinb : ∀ a, (k0_off792 v556) a + S128x8960.size a ≤ S40960x8960.size a), (Rect.unit (s := S40960x8960) (k0_off792 v556) S128x8960.size hinb).WholeWords (EltTy.packing .fp8e4m3))
theorem k0_off792_inb : ∀ (arg24 : BitVec 32) (v556 : BitVec 32) (k0_hw293 : k0_chk293 arg24 v556), ∀ (k0_h11 : k0_cond11 arg24 = 1#1), ∀ a, (k0_off792 v556) a + S128x8960.size a ≤ S40960x8960.size a := fun arg24 v556 k0_hw293 k0_h11 => k0_hw293.1 k0_h11
theorem k0_off792_wordsfp8e4m3 : ∀ (arg24 : BitVec 32) (v556 : BitVec 32) (k0_hw293 : k0_chk293 arg24 v556), ∀ (k0_h11 : k0_cond11 arg24 = 1#1), (Rect.unit (s := S40960x8960) (k0_off792 v556) S128x8960.size (k0_off792_inb arg24 v556 k0_hw293 k0_h11)).WholeWords (EltTy.packing .fp8e4m3) := fun arg24 v556 k0_hw293 k0_h11 => k0_hw293.2 k0_h11 (k0_off792_inb arg24 v556 k0_hw293 k0_h11)

def k0_off794 (arg24 : BitVec 32) : Fin 1 → Nat :=
  let c1_i32_258 : BitVec 32 := 1#32
  let v547 : BitVec 32 := Scalar.subi arg24 c1_i32_258
  let v565 : Index := Scalar.indexCast v547
  ![v565.toNat]
def k0_off795 (v566 : BitVec 32) : Fin 2 → Nat :=
  let c8_i32_269 : BitVec 32 := 8#32
  let v567 : BitVec 32 := Scalar.muli v566 c8_i32_269
  let c1_i32_270 : BitVec 32 := 1#32
  let v568 : BitVec 32 := Scalar.addi v567 c1_i32_270
  let c7_i32_271 : BitVec 32 := 7#32
  let v569 : BitVec 32 := Scalar.shrui v568 c7_i32_271
  let v571 : Index := Scalar.indexCast v569
  let c127_i32_272 : BitVec 32 := 127#32
  let v570 : BitVec 32 := Scalar.andi v568 c127_i32_272
  let v572 : Index := Scalar.indexCast v570
  ![v571.toNat, v572.toNat]

def k0_chk294 (arg24 : BitVec 32) (v566 : BitVec 32) : Prop :=
  (∀ (k0_h11 : k0_cond11 arg24 = 1#1), ∀ a, (k0_off795 v566) a + S1x1.size a ≤ S8x128.size a)
theorem k0_off795_inb : ∀ (arg24 : BitVec 32) (v566 : BitVec 32) (k0_hw294 : k0_chk294 arg24 v566), ∀ (k0_h11 : k0_cond11 arg24 = 1#1), ∀ a, (k0_off795 v566) a + S1x1.size a ≤ S8x128.size a := fun arg24 v566 k0_hw294 k0_h11 => k0_hw294 k0_h11

def k0_off796 (arg24 : BitVec 32) : Fin 1 → Nat :=
  let c1_i32_258 : BitVec 32 := 1#32
  let v547 : BitVec 32 := Scalar.subi arg24 c1_i32_258
  let c1_i32_275 : BitVec 32 := 1#32
  let v576 : BitVec 32 := Scalar.andi v547 c1_i32_275
  ![v576.toNat]
def k0_off797 (v573 : BitVec 32) : Fin 2 → Nat :=
  let c128_i32_273 : BitVec 32 := 128#32
  let v574 : BitVec 32 := Scalar.muli v573 c128_i32_273
  let c0_i32_276 : BitVec 32 := 0#32
  ![v574.toNat, 0]

def k0_off798 (arg24 : BitVec 32) : Fin 3 → Nat :=
  let c1_i32_258 : BitVec 32 := 1#32
  let v547 : BitVec 32 := Scalar.subi arg24 c1_i32_258
  let c1_i32_274 : BitVec 32 := 1#32
  let v575 : BitVec 32 := Scalar.andi v547 c1_i32_274
  let c128_i32_277 : BitVec 32 := 128#32
  let c0_i32_278 : BitVec 32 := 0#32
  ![v575.toNat, 128, 0]

def k0_chk295 (arg24 : BitVec 32) (v573 : BitVec 32) : Prop :=
  (∀ (k0_h11 : k0_cond11 arg24 = 1#1), ∀ a, (k0_off797 v573) a + S128x8960.size a ≤ S40960x8960.size a) ∧
  (∀ (k0_h11 : k0_cond11 arg24 = 1#1), ∀ (hinb : ∀ a, (k0_off797 v573) a + S128x8960.size a ≤ S40960x8960.size a), (Rect.unit (s := S40960x8960) (k0_off797 v573) S128x8960.size hinb).WholeWords (EltTy.packing .fp8e4m3))
theorem k0_off797_inb : ∀ (arg24 : BitVec 32) (v573 : BitVec 32) (k0_hw295 : k0_chk295 arg24 v573), ∀ (k0_h11 : k0_cond11 arg24 = 1#1), ∀ a, (k0_off797 v573) a + S128x8960.size a ≤ S40960x8960.size a := fun arg24 v573 k0_hw295 k0_h11 => k0_hw295.1 k0_h11
theorem k0_off797_wordsfp8e4m3 : ∀ (arg24 : BitVec 32) (v573 : BitVec 32) (k0_hw295 : k0_chk295 arg24 v573), ∀ (k0_h11 : k0_cond11 arg24 = 1#1), (Rect.unit (s := S40960x8960) (k0_off797 v573) S128x8960.size (k0_off797_inb arg24 v573 k0_hw295 k0_h11)).WholeWords (EltTy.packing .fp8e4m3) := fun arg24 v573 k0_hw295 k0_h11 => k0_hw295.2 k0_h11 (k0_off797_inb arg24 v573 k0_hw295 k0_h11)

def k0_off799 (arg24 : BitVec 32) : Fin 1 → Nat :=
  let c1_i32_258 : BitVec 32 := 1#32
  let v547 : BitVec 32 := Scalar.subi arg24 c1_i32_258
  let v582 : Index := Scalar.indexCast v547
  ![v582.toNat]
def k0_off800 (v583 : BitVec 32) : Fin 2 → Nat :=
  let c8_i32_279 : BitVec 32 := 8#32
  let v584 : BitVec 32 := Scalar.muli v583 c8_i32_279
  let c2_i32_280 : BitVec 32 := 2#32
  let v585 : BitVec 32 := Scalar.addi v584 c2_i32_280
  let c7_i32_281 : BitVec 32 := 7#32
  let v586 : BitVec 32 := Scalar.shrui v585 c7_i32_281
  let v588 : Index := Scalar.indexCast v586
  let c127_i32_282 : BitVec 32 := 127#32
  let v587 : BitVec 32 := Scalar.andi v585 c127_i32_282
  let v589 : Index := Scalar.indexCast v587
  ![v588.toNat, v589.toNat]

def k0_chk296 (arg24 : BitVec 32) (v583 : BitVec 32) : Prop :=
  (∀ (k0_h11 : k0_cond11 arg24 = 1#1), ∀ a, (k0_off800 v583) a + S1x1.size a ≤ S8x128.size a)
theorem k0_off800_inb : ∀ (arg24 : BitVec 32) (v583 : BitVec 32) (k0_hw296 : k0_chk296 arg24 v583), ∀ (k0_h11 : k0_cond11 arg24 = 1#1), ∀ a, (k0_off800 v583) a + S1x1.size a ≤ S8x128.size a := fun arg24 v583 k0_hw296 k0_h11 => k0_hw296 k0_h11

def k0_off801 (arg24 : BitVec 32) : Fin 1 → Nat :=
  let c1_i32_258 : BitVec 32 := 1#32
  let v547 : BitVec 32 := Scalar.subi arg24 c1_i32_258
  let c1_i32_285 : BitVec 32 := 1#32
  let v593 : BitVec 32 := Scalar.andi v547 c1_i32_285
  ![v593.toNat]
def k0_off802 (v590 : BitVec 32) : Fin 2 → Nat :=
  let c128_i32_283 : BitVec 32 := 128#32
  let v591 : BitVec 32 := Scalar.muli v590 c128_i32_283
  let c0_i32_286 : BitVec 32 := 0#32
  ![v591.toNat, 0]

def k0_off803 (arg24 : BitVec 32) : Fin 3 → Nat :=
  let c1_i32_258 : BitVec 32 := 1#32
  let v547 : BitVec 32 := Scalar.subi arg24 c1_i32_258
  let c1_i32_284 : BitVec 32 := 1#32
  let v592 : BitVec 32 := Scalar.andi v547 c1_i32_284
  let c256_i32_287 : BitVec 32 := 256#32
  let c0_i32_288 : BitVec 32 := 0#32
  ![v592.toNat, 256, 0]

def k0_chk297 (arg24 : BitVec 32) (v590 : BitVec 32) : Prop :=
  (∀ (k0_h11 : k0_cond11 arg24 = 1#1), ∀ a, (k0_off802 v590) a + S128x8960.size a ≤ S40960x8960.size a) ∧
  (∀ (k0_h11 : k0_cond11 arg24 = 1#1), ∀ (hinb : ∀ a, (k0_off802 v590) a + S128x8960.size a ≤ S40960x8960.size a), (Rect.unit (s := S40960x8960) (k0_off802 v590) S128x8960.size hinb).WholeWords (EltTy.packing .fp8e4m3))
theorem k0_off802_inb : ∀ (arg24 : BitVec 32) (v590 : BitVec 32) (k0_hw297 : k0_chk297 arg24 v590), ∀ (k0_h11 : k0_cond11 arg24 = 1#1), ∀ a, (k0_off802 v590) a + S128x8960.size a ≤ S40960x8960.size a := fun arg24 v590 k0_hw297 k0_h11 => k0_hw297.1 k0_h11
theorem k0_off802_wordsfp8e4m3 : ∀ (arg24 : BitVec 32) (v590 : BitVec 32) (k0_hw297 : k0_chk297 arg24 v590), ∀ (k0_h11 : k0_cond11 arg24 = 1#1), (Rect.unit (s := S40960x8960) (k0_off802 v590) S128x8960.size (k0_off802_inb arg24 v590 k0_hw297 k0_h11)).WholeWords (EltTy.packing .fp8e4m3) := fun arg24 v590 k0_hw297 k0_h11 => k0_hw297.2 k0_h11 (k0_off802_inb arg24 v590 k0_hw297 k0_h11)

def k0_off804 (arg24 : BitVec 32) : Fin 1 → Nat :=
  let c1_i32_258 : BitVec 32 := 1#32
  let v547 : BitVec 32 := Scalar.subi arg24 c1_i32_258
  let v599 : Index := Scalar.indexCast v547
  ![v599.toNat]
def k0_off805 (v600 : BitVec 32) : Fin 2 → Nat :=
  let c8_i32_289 : BitVec 32 := 8#32
  let v601 : BitVec 32 := Scalar.muli v600 c8_i32_289
  let c3_i32_290 : BitVec 32 := 3#32
  let v602 : BitVec 32 := Scalar.addi v601 c3_i32_290
  let c7_i32_291 : BitVec 32 := 7#32
  let v603 : BitVec 32 := Scalar.shrui v602 c7_i32_291
  let v605 : Index := Scalar.indexCast v603
  let c127_i32_292 : BitVec 32 := 127#32
  let v604 : BitVec 32 := Scalar.andi v602 c127_i32_292
  let v606 : Index := Scalar.indexCast v604
  ![v605.toNat, v606.toNat]

def k0_chk298 (arg24 : BitVec 32) (v600 : BitVec 32) : Prop :=
  (∀ (k0_h11 : k0_cond11 arg24 = 1#1), ∀ a, (k0_off805 v600) a + S1x1.size a ≤ S8x128.size a)
theorem k0_off805_inb : ∀ (arg24 : BitVec 32) (v600 : BitVec 32) (k0_hw298 : k0_chk298 arg24 v600), ∀ (k0_h11 : k0_cond11 arg24 = 1#1), ∀ a, (k0_off805 v600) a + S1x1.size a ≤ S8x128.size a := fun arg24 v600 k0_hw298 k0_h11 => k0_hw298 k0_h11

def k0_off806 (arg24 : BitVec 32) : Fin 1 → Nat :=
  let c1_i32_258 : BitVec 32 := 1#32
  let v547 : BitVec 32 := Scalar.subi arg24 c1_i32_258
  let c1_i32_295 : BitVec 32 := 1#32
  let v610 : BitVec 32 := Scalar.andi v547 c1_i32_295
  ![v610.toNat]
def k0_off807 (v607 : BitVec 32) : Fin 2 → Nat :=
  let c128_i32_293 : BitVec 32 := 128#32
  let v608 : BitVec 32 := Scalar.muli v607 c128_i32_293
  let c0_i32_296 : BitVec 32 := 0#32
  ![v608.toNat, 0]

def k0_off808 (arg24 : BitVec 32) : Fin 3 → Nat :=
  let c1_i32_258 : BitVec 32 := 1#32
  let v547 : BitVec 32 := Scalar.subi arg24 c1_i32_258
  let c1_i32_294 : BitVec 32 := 1#32
  let v609 : BitVec 32 := Scalar.andi v547 c1_i32_294
  let c384_i32_297 : BitVec 32 := 384#32
  let c0_i32_298 : BitVec 32 := 0#32
  ![v609.toNat, 384, 0]

def k0_chk299 (arg24 : BitVec 32) (v607 : BitVec 32) : Prop :=
  (∀ (k0_h11 : k0_cond11 arg24 = 1#1), ∀ a, (k0_off807 v607) a + S128x8960.size a ≤ S40960x8960.size a) ∧
  (∀ (k0_h11 : k0_cond11 arg24 = 1#1), ∀ (hinb : ∀ a, (k0_off807 v607) a + S128x8960.size a ≤ S40960x8960.size a), (Rect.unit (s := S40960x8960) (k0_off807 v607) S128x8960.size hinb).WholeWords (EltTy.packing .fp8e4m3))
theorem k0_off807_inb : ∀ (arg24 : BitVec 32) (v607 : BitVec 32) (k0_hw299 : k0_chk299 arg24 v607), ∀ (k0_h11 : k0_cond11 arg24 = 1#1), ∀ a, (k0_off807 v607) a + S128x8960.size a ≤ S40960x8960.size a := fun arg24 v607 k0_hw299 k0_h11 => k0_hw299.1 k0_h11
theorem k0_off807_wordsfp8e4m3 : ∀ (arg24 : BitVec 32) (v607 : BitVec 32) (k0_hw299 : k0_chk299 arg24 v607), ∀ (k0_h11 : k0_cond11 arg24 = 1#1), (Rect.unit (s := S40960x8960) (k0_off807 v607) S128x8960.size (k0_off807_inb arg24 v607 k0_hw299 k0_h11)).WholeWords (EltTy.packing .fp8e4m3) := fun arg24 v607 k0_hw299 k0_h11 => k0_hw299.2 k0_h11 (k0_off807_inb arg24 v607 k0_hw299 k0_h11)

def k0_off809 (arg24 : BitVec 32) : Fin 1 → Nat :=
  let c1_i32_258 : BitVec 32 := 1#32
  let v547 : BitVec 32 := Scalar.subi arg24 c1_i32_258
  let v616 : Index := Scalar.indexCast v547
  ![v616.toNat]
def k0_off810 (v617 : BitVec 32) : Fin 2 → Nat :=
  let c8_i32_299 : BitVec 32 := 8#32
  let v618 : BitVec 32 := Scalar.muli v617 c8_i32_299
  let c4_i32_300 : BitVec 32 := 4#32
  let v619 : BitVec 32 := Scalar.addi v618 c4_i32_300
  let c7_i32_301 : BitVec 32 := 7#32
  let v620 : BitVec 32 := Scalar.shrui v619 c7_i32_301
  let v622 : Index := Scalar.indexCast v620
  let c127_i32_302 : BitVec 32 := 127#32
  let v621 : BitVec 32 := Scalar.andi v619 c127_i32_302
  let v623 : Index := Scalar.indexCast v621
  ![v622.toNat, v623.toNat]

def k0_chk300 (arg24 : BitVec 32) (v617 : BitVec 32) : Prop :=
  (∀ (k0_h11 : k0_cond11 arg24 = 1#1), ∀ a, (k0_off810 v617) a + S1x1.size a ≤ S8x128.size a)
theorem k0_off810_inb : ∀ (arg24 : BitVec 32) (v617 : BitVec 32) (k0_hw300 : k0_chk300 arg24 v617), ∀ (k0_h11 : k0_cond11 arg24 = 1#1), ∀ a, (k0_off810 v617) a + S1x1.size a ≤ S8x128.size a := fun arg24 v617 k0_hw300 k0_h11 => k0_hw300 k0_h11

def k0_off811 (arg24 : BitVec 32) : Fin 1 → Nat :=
  let c1_i32_258 : BitVec 32 := 1#32
  let v547 : BitVec 32 := Scalar.subi arg24 c1_i32_258
  let c1_i32_305 : BitVec 32 := 1#32
  let v627 : BitVec 32 := Scalar.andi v547 c1_i32_305
  ![v627.toNat]
def k0_off812 (v624 : BitVec 32) : Fin 2 → Nat :=
  let c128_i32_303 : BitVec 32 := 128#32
  let v625 : BitVec 32 := Scalar.muli v624 c128_i32_303
  let c0_i32_306 : BitVec 32 := 0#32
  ![v625.toNat, 0]

def k0_off813 (arg24 : BitVec 32) : Fin 3 → Nat :=
  let c1_i32_258 : BitVec 32 := 1#32
  let v547 : BitVec 32 := Scalar.subi arg24 c1_i32_258
  let c1_i32_304 : BitVec 32 := 1#32
  let v626 : BitVec 32 := Scalar.andi v547 c1_i32_304
  let c512_i32_307 : BitVec 32 := 512#32
  let c0_i32_308 : BitVec 32 := 0#32
  ![v626.toNat, 512, 0]

def k0_chk301 (arg24 : BitVec 32) (v624 : BitVec 32) : Prop :=
  (∀ (k0_h11 : k0_cond11 arg24 = 1#1), ∀ a, (k0_off812 v624) a + S128x8960.size a ≤ S40960x8960.size a) ∧
  (∀ (k0_h11 : k0_cond11 arg24 = 1#1), ∀ (hinb : ∀ a, (k0_off812 v624) a + S128x8960.size a ≤ S40960x8960.size a), (Rect.unit (s := S40960x8960) (k0_off812 v624) S128x8960.size hinb).WholeWords (EltTy.packing .fp8e4m3))
theorem k0_off812_inb : ∀ (arg24 : BitVec 32) (v624 : BitVec 32) (k0_hw301 : k0_chk301 arg24 v624), ∀ (k0_h11 : k0_cond11 arg24 = 1#1), ∀ a, (k0_off812 v624) a + S128x8960.size a ≤ S40960x8960.size a := fun arg24 v624 k0_hw301 k0_h11 => k0_hw301.1 k0_h11
theorem k0_off812_wordsfp8e4m3 : ∀ (arg24 : BitVec 32) (v624 : BitVec 32) (k0_hw301 : k0_chk301 arg24 v624), ∀ (k0_h11 : k0_cond11 arg24 = 1#1), (Rect.unit (s := S40960x8960) (k0_off812 v624) S128x8960.size (k0_off812_inb arg24 v624 k0_hw301 k0_h11)).WholeWords (EltTy.packing .fp8e4m3) := fun arg24 v624 k0_hw301 k0_h11 => k0_hw301.2 k0_h11 (k0_off812_inb arg24 v624 k0_hw301 k0_h11)

def k0_off814 (arg24 : BitVec 32) : Fin 1 → Nat :=
  let c1_i32_258 : BitVec 32 := 1#32
  let v547 : BitVec 32 := Scalar.subi arg24 c1_i32_258
  let v633 : Index := Scalar.indexCast v547
  ![v633.toNat]
def k0_off815 (v634 : BitVec 32) : Fin 2 → Nat :=
  let c8_i32_309 : BitVec 32 := 8#32
  let v635 : BitVec 32 := Scalar.muli v634 c8_i32_309
  let c5_i32_310 : BitVec 32 := 5#32
  let v636 : BitVec 32 := Scalar.addi v635 c5_i32_310
  let c7_i32_311 : BitVec 32 := 7#32
  let v637 : BitVec 32 := Scalar.shrui v636 c7_i32_311
  let v639 : Index := Scalar.indexCast v637
  let c127_i32_312 : BitVec 32 := 127#32
  let v638 : BitVec 32 := Scalar.andi v636 c127_i32_312
  let v640 : Index := Scalar.indexCast v638
  ![v639.toNat, v640.toNat]

def k0_chk302 (arg24 : BitVec 32) (v634 : BitVec 32) : Prop :=
  (∀ (k0_h11 : k0_cond11 arg24 = 1#1), ∀ a, (k0_off815 v634) a + S1x1.size a ≤ S8x128.size a)
theorem k0_off815_inb : ∀ (arg24 : BitVec 32) (v634 : BitVec 32) (k0_hw302 : k0_chk302 arg24 v634), ∀ (k0_h11 : k0_cond11 arg24 = 1#1), ∀ a, (k0_off815 v634) a + S1x1.size a ≤ S8x128.size a := fun arg24 v634 k0_hw302 k0_h11 => k0_hw302 k0_h11

def k0_off816 (arg24 : BitVec 32) : Fin 1 → Nat :=
  let c1_i32_258 : BitVec 32 := 1#32
  let v547 : BitVec 32 := Scalar.subi arg24 c1_i32_258
  let c1_i32_315 : BitVec 32 := 1#32
  let v644 : BitVec 32 := Scalar.andi v547 c1_i32_315
  ![v644.toNat]
def k0_off817 (v641 : BitVec 32) : Fin 2 → Nat :=
  let c128_i32_313 : BitVec 32 := 128#32
  let v642 : BitVec 32 := Scalar.muli v641 c128_i32_313
  let c0_i32_316 : BitVec 32 := 0#32
  ![v642.toNat, 0]

def k0_off818 (arg24 : BitVec 32) : Fin 3 → Nat :=
  let c1_i32_258 : BitVec 32 := 1#32
  let v547 : BitVec 32 := Scalar.subi arg24 c1_i32_258
  let c1_i32_314 : BitVec 32 := 1#32
  let v643 : BitVec 32 := Scalar.andi v547 c1_i32_314
  let c640_i32_317 : BitVec 32 := 640#32
  let c0_i32_318 : BitVec 32 := 0#32
  ![v643.toNat, 640, 0]

def k0_chk303 (arg24 : BitVec 32) (v641 : BitVec 32) : Prop :=
  (∀ (k0_h11 : k0_cond11 arg24 = 1#1), ∀ a, (k0_off817 v641) a + S128x8960.size a ≤ S40960x8960.size a) ∧
  (∀ (k0_h11 : k0_cond11 arg24 = 1#1), ∀ (hinb : ∀ a, (k0_off817 v641) a + S128x8960.size a ≤ S40960x8960.size a), (Rect.unit (s := S40960x8960) (k0_off817 v641) S128x8960.size hinb).WholeWords (EltTy.packing .fp8e4m3))
theorem k0_off817_inb : ∀ (arg24 : BitVec 32) (v641 : BitVec 32) (k0_hw303 : k0_chk303 arg24 v641), ∀ (k0_h11 : k0_cond11 arg24 = 1#1), ∀ a, (k0_off817 v641) a + S128x8960.size a ≤ S40960x8960.size a := fun arg24 v641 k0_hw303 k0_h11 => k0_hw303.1 k0_h11
theorem k0_off817_wordsfp8e4m3 : ∀ (arg24 : BitVec 32) (v641 : BitVec 32) (k0_hw303 : k0_chk303 arg24 v641), ∀ (k0_h11 : k0_cond11 arg24 = 1#1), (Rect.unit (s := S40960x8960) (k0_off817 v641) S128x8960.size (k0_off817_inb arg24 v641 k0_hw303 k0_h11)).WholeWords (EltTy.packing .fp8e4m3) := fun arg24 v641 k0_hw303 k0_h11 => k0_hw303.2 k0_h11 (k0_off817_inb arg24 v641 k0_hw303 k0_h11)

def k0_off819 (arg24 : BitVec 32) : Fin 1 → Nat :=
  let c1_i32_258 : BitVec 32 := 1#32
  let v547 : BitVec 32 := Scalar.subi arg24 c1_i32_258
  let v650 : Index := Scalar.indexCast v547
  ![v650.toNat]
def k0_off820 (v651 : BitVec 32) : Fin 2 → Nat :=
  let c8_i32_319 : BitVec 32 := 8#32
  let v652 : BitVec 32 := Scalar.muli v651 c8_i32_319
  let c6_i32_320 : BitVec 32 := 6#32
  let v653 : BitVec 32 := Scalar.addi v652 c6_i32_320
  let c7_i32_321 : BitVec 32 := 7#32
  let v654 : BitVec 32 := Scalar.shrui v653 c7_i32_321
  let v656 : Index := Scalar.indexCast v654
  let c127_i32_322 : BitVec 32 := 127#32
  let v655 : BitVec 32 := Scalar.andi v653 c127_i32_322
  let v657 : Index := Scalar.indexCast v655
  ![v656.toNat, v657.toNat]

def k0_chk304 (arg24 : BitVec 32) (v651 : BitVec 32) : Prop :=
  (∀ (k0_h11 : k0_cond11 arg24 = 1#1), ∀ a, (k0_off820 v651) a + S1x1.size a ≤ S8x128.size a)
theorem k0_off820_inb : ∀ (arg24 : BitVec 32) (v651 : BitVec 32) (k0_hw304 : k0_chk304 arg24 v651), ∀ (k0_h11 : k0_cond11 arg24 = 1#1), ∀ a, (k0_off820 v651) a + S1x1.size a ≤ S8x128.size a := fun arg24 v651 k0_hw304 k0_h11 => k0_hw304 k0_h11

def k0_off821 (arg24 : BitVec 32) : Fin 1 → Nat :=
  let c1_i32_258 : BitVec 32 := 1#32
  let v547 : BitVec 32 := Scalar.subi arg24 c1_i32_258
  let c1_i32_325 : BitVec 32 := 1#32
  let v661 : BitVec 32 := Scalar.andi v547 c1_i32_325
  ![v661.toNat]
def k0_off822 (v658 : BitVec 32) : Fin 2 → Nat :=
  let c128_i32_323 : BitVec 32 := 128#32
  let v659 : BitVec 32 := Scalar.muli v658 c128_i32_323
  let c0_i32_326 : BitVec 32 := 0#32
  ![v659.toNat, 0]

def k0_off823 (arg24 : BitVec 32) : Fin 3 → Nat :=
  let c1_i32_258 : BitVec 32 := 1#32
  let v547 : BitVec 32 := Scalar.subi arg24 c1_i32_258
  let c1_i32_324 : BitVec 32 := 1#32
  let v660 : BitVec 32 := Scalar.andi v547 c1_i32_324
  let c768_i32_327 : BitVec 32 := 768#32
  let c0_i32_328 : BitVec 32 := 0#32
  ![v660.toNat, 768, 0]

def k0_chk305 (arg24 : BitVec 32) (v658 : BitVec 32) : Prop :=
  (∀ (k0_h11 : k0_cond11 arg24 = 1#1), ∀ a, (k0_off822 v658) a + S128x8960.size a ≤ S40960x8960.size a) ∧
  (∀ (k0_h11 : k0_cond11 arg24 = 1#1), ∀ (hinb : ∀ a, (k0_off822 v658) a + S128x8960.size a ≤ S40960x8960.size a), (Rect.unit (s := S40960x8960) (k0_off822 v658) S128x8960.size hinb).WholeWords (EltTy.packing .fp8e4m3))
theorem k0_off822_inb : ∀ (arg24 : BitVec 32) (v658 : BitVec 32) (k0_hw305 : k0_chk305 arg24 v658), ∀ (k0_h11 : k0_cond11 arg24 = 1#1), ∀ a, (k0_off822 v658) a + S128x8960.size a ≤ S40960x8960.size a := fun arg24 v658 k0_hw305 k0_h11 => k0_hw305.1 k0_h11
theorem k0_off822_wordsfp8e4m3 : ∀ (arg24 : BitVec 32) (v658 : BitVec 32) (k0_hw305 : k0_chk305 arg24 v658), ∀ (k0_h11 : k0_cond11 arg24 = 1#1), (Rect.unit (s := S40960x8960) (k0_off822 v658) S128x8960.size (k0_off822_inb arg24 v658 k0_hw305 k0_h11)).WholeWords (EltTy.packing .fp8e4m3) := fun arg24 v658 k0_hw305 k0_h11 => k0_hw305.2 k0_h11 (k0_off822_inb arg24 v658 k0_hw305 k0_h11)

def k0_off824 (arg24 : BitVec 32) : Fin 1 → Nat :=
  let c1_i32_258 : BitVec 32 := 1#32
  let v547 : BitVec 32 := Scalar.subi arg24 c1_i32_258
  let v667 : Index := Scalar.indexCast v547
  ![v667.toNat]
def k0_off825 (v668 : BitVec 32) : Fin 2 → Nat :=
  let c8_i32_329 : BitVec 32 := 8#32
  let v669 : BitVec 32 := Scalar.muli v668 c8_i32_329
  let c7_i32_330 : BitVec 32 := 7#32
  let v670 : BitVec 32 := Scalar.addi v669 c7_i32_330
  let c7_i32_331 : BitVec 32 := 7#32
  let v671 : BitVec 32 := Scalar.shrui v670 c7_i32_331
  let v673 : Index := Scalar.indexCast v671
  let c127_i32_332 : BitVec 32 := 127#32
  let v672 : BitVec 32 := Scalar.andi v670 c127_i32_332
  let v674 : Index := Scalar.indexCast v672
  ![v673.toNat, v674.toNat]

def k0_chk306 (arg24 : BitVec 32) (v668 : BitVec 32) : Prop :=
  (∀ (k0_h11 : k0_cond11 arg24 = 1#1), ∀ a, (k0_off825 v668) a + S1x1.size a ≤ S8x128.size a)
theorem k0_off825_inb : ∀ (arg24 : BitVec 32) (v668 : BitVec 32) (k0_hw306 : k0_chk306 arg24 v668), ∀ (k0_h11 : k0_cond11 arg24 = 1#1), ∀ a, (k0_off825 v668) a + S1x1.size a ≤ S8x128.size a := fun arg24 v668 k0_hw306 k0_h11 => k0_hw306 k0_h11

def k0_off826 (arg24 : BitVec 32) : Fin 1 → Nat :=
  let c1_i32_258 : BitVec 32 := 1#32
  let v547 : BitVec 32 := Scalar.subi arg24 c1_i32_258
  let c1_i32_335 : BitVec 32 := 1#32
  let v678 : BitVec 32 := Scalar.andi v547 c1_i32_335
  ![v678.toNat]
def k0_off827 (v675 : BitVec 32) : Fin 2 → Nat :=
  let c128_i32_333 : BitVec 32 := 128#32
  let v676 : BitVec 32 := Scalar.muli v675 c128_i32_333
  let c0_i32_336 : BitVec 32 := 0#32
  ![v676.toNat, 0]

def k0_off828 (arg24 : BitVec 32) : Fin 3 → Nat :=
  let c1_i32_258 : BitVec 32 := 1#32
  let v547 : BitVec 32 := Scalar.subi arg24 c1_i32_258
  let c1_i32_334 : BitVec 32 := 1#32
  let v677 : BitVec 32 := Scalar.andi v547 c1_i32_334
  let c896_i32_337 : BitVec 32 := 896#32
  let c0_i32_338 : BitVec 32 := 0#32
  ![v677.toNat, 896, 0]

def k0_chk49_0 (arg24 : BitVec 32) : Prop :=
  ((k0_t2_loop arg24).OK) ∧
  (∀ k0_t2 : Fin (k0_t2_loop arg24).trips, ∀ (k0_h3 : k0_cond3 arg24 k0_t2 = 1#1), ∀ a, (k0_off49 arg24 k0_t2) a + S1.size a ≤ S40.size a) ∧
  (∀ k0_t2 : Fin (k0_t2_loop arg24).trips, ∀ (k0_h3 : k0_cond3 arg24 k0_t2 = 1#1), ∀ a, (k0_off51 arg24 k0_t2) a + S1.size a ≤ S2.size a) ∧
  (∀ k0_t2 : Fin (k0_t2_loop arg24).trips, ∀ (k0_h3 : k0_cond3 arg24 k0_t2 = 1#1), ∀ a, (k0_off52 arg24 k0_t2) a + S1x128x1536.size a ≤ S2x1024x1536.size a) ∧
  (∀ k0_t2 : Fin (k0_t2_loop arg24).trips, ∀ (k0_h3 : k0_cond3 arg24 k0_t2 = 1#1), ∀ (hinb : ∀ a, (k0_off52 arg24 k0_t2) a + S1x128x1536.size a ≤ S2x1024x1536.size a), (Rect.unit (s := S2x1024x1536) (k0_off52 arg24 k0_t2) S1x128x1536.size hinb).WholeWords (EltTy.packing .bf16)) ∧
  (∀ k0_t2 : Fin (k0_t2_loop arg24).trips, ∀ (k0_h3 : k0_cond3 arg24 k0_t2 = 1#1), ∀ a, (k0_off54 arg24 k0_t2) a + S1.size a ≤ S40.size a) ∧
  (∀ k0_t2 : Fin (k0_t2_loop arg24).trips, ∀ (k0_h3 : k0_cond3 arg24 k0_t2 = 1#1), ∀ a, (k0_off56 arg24 k0_t2) a + S1.size a ≤ S2.size a) ∧
  (∀ k0_t2 : Fin (k0_t2_loop arg24).trips, ∀ (k0_h3 : k0_cond3 arg24 k0_t2 = 1#1), ∀ a, (k0_off57 arg24 k0_t2) a + S1x128x1536.size a ≤ S2x1024x1536.size a) ∧
  (∀ k0_t2 : Fin (k0_t2_loop arg24).trips, ∀ (k0_h3 : k0_cond3 arg24 k0_t2 = 1#1), ∀ (hinb : ∀ a, (k0_off57 arg24 k0_t2) a + S1x128x1536.size a ≤ S2x1024x1536.size a), (Rect.unit (s := S2x1024x1536) (k0_off57 arg24 k0_t2) S1x128x1536.size hinb).WholeWords (EltTy.packing .bf16)) ∧
  (∀ k0_t2 : Fin (k0_t2_loop arg24).trips, ∀ (k0_h3 : k0_cond3 arg24 k0_t2 = 1#1), ∀ a, (k0_off59 arg24 k0_t2) a + S1.size a ≤ S40.size a) ∧
  (∀ k0_t2 : Fin (k0_t2_loop arg24).trips, ∀ (k0_h3 : k0_cond3 arg24 k0_t2 = 1#1), ∀ a, (k0_off61 arg24 k0_t2) a + S1.size a ≤ S2.size a) ∧
  (∀ k0_t2 : Fin (k0_t2_loop arg24).trips, ∀ (k0_h3 : k0_cond3 arg24 k0_t2 = 1#1), ∀ a, (k0_off62 arg24 k0_t2) a + S1x128x1536.size a ≤ S2x1024x1536.size a) ∧
  (∀ k0_t2 : Fin (k0_t2_loop arg24).trips, ∀ (k0_h3 : k0_cond3 arg24 k0_t2 = 1#1), ∀ (hinb : ∀ a, (k0_off62 arg24 k0_t2) a + S1x128x1536.size a ≤ S2x1024x1536.size a), (Rect.unit (s := S2x1024x1536) (k0_off62 arg24 k0_t2) S1x128x1536.size hinb).WholeWords (EltTy.packing .bf16)) ∧
  (∀ k0_t2 : Fin (k0_t2_loop arg24).trips, ∀ (k0_h3 : k0_cond3 arg24 k0_t2 = 1#1), ∀ a, (k0_off64 arg24 k0_t2) a + S1.size a ≤ S40.size a) ∧
  (∀ k0_t2 : Fin (k0_t2_loop arg24).trips, ∀ (k0_h3 : k0_cond3 arg24 k0_t2 = 1#1), ∀ a, (k0_off66 arg24 k0_t2) a + S1.size a ≤ S2.size a) ∧
  (∀ k0_t2 : Fin (k0_t2_loop arg24).trips, ∀ (k0_h3 : k0_cond3 arg24 k0_t2 = 1#1), ∀ a, (k0_off67 arg24 k0_t2) a + S1x128x1536.size a ≤ S2x1024x1536.size a) ∧
  (∀ k0_t2 : Fin (k0_t2_loop arg24).trips, ∀ (k0_h3 : k0_cond3 arg24 k0_t2 = 1#1), ∀ (hinb : ∀ a, (k0_off67 arg24 k0_t2) a + S1x128x1536.size a ≤ S2x1024x1536.size a), (Rect.unit (s := S2x1024x1536) (k0_off67 arg24 k0_t2) S1x128x1536.size hinb).WholeWords (EltTy.packing .bf16)) ∧
  (∀ k0_t2 : Fin (k0_t2_loop arg24).trips, ∀ (k0_h3 : k0_cond3 arg24 k0_t2 = 1#1), ∀ a, (k0_off69 arg24 k0_t2) a + S1.size a ≤ S40.size a) ∧
  (∀ k0_t2 : Fin (k0_t2_loop arg24).trips, ∀ (k0_h3 : k0_cond3 arg24 k0_t2 = 1#1), ∀ a, (k0_off71 arg24 k0_t2) a + S1.size a ≤ S2.size a) ∧
  (∀ k0_t2 : Fin (k0_t2_loop arg24).trips, ∀ (k0_h3 : k0_cond3 arg24 k0_t2 = 1#1), ∀ a, (k0_off72 arg24 k0_t2) a + S1x128x1536.size a ≤ S2x1024x1536.size a) ∧
  (∀ k0_t2 : Fin (k0_t2_loop arg24).trips, ∀ (k0_h3 : k0_cond3 arg24 k0_t2 = 1#1), ∀ (hinb : ∀ a, (k0_off72 arg24 k0_t2) a + S1x128x1536.size a ≤ S2x1024x1536.size a), (Rect.unit (s := S2x1024x1536) (k0_off72 arg24 k0_t2) S1x128x1536.size hinb).WholeWords (EltTy.packing .bf16)) ∧
  (∀ k0_t2 : Fin (k0_t2_loop arg24).trips, ∀ (k0_h3 : k0_cond3 arg24 k0_t2 = 1#1), ∀ a, (k0_off74 arg24 k0_t2) a + S1.size a ≤ S40.size a) ∧
  (∀ k0_t2 : Fin (k0_t2_loop arg24).trips, ∀ (k0_h3 : k0_cond3 arg24 k0_t2 = 1#1), ∀ a, (k0_off76 arg24 k0_t2) a + S1.size a ≤ S2.size a) ∧
  (∀ k0_t2 : Fin (k0_t2_loop arg24).trips, ∀ (k0_h3 : k0_cond3 arg24 k0_t2 = 1#1), ∀ a, (k0_off77 arg24 k0_t2) a + S1x128x1536.size a ≤ S2x1024x1536.size a) ∧
  (∀ k0_t2 : Fin (k0_t2_loop arg24).trips, ∀ (k0_h3 : k0_cond3 arg24 k0_t2 = 1#1), ∀ (hinb : ∀ a, (k0_off77 arg24 k0_t2) a + S1x128x1536.size a ≤ S2x1024x1536.size a), (Rect.unit (s := S2x1024x1536) (k0_off77 arg24 k0_t2) S1x128x1536.size hinb).WholeWords (EltTy.packing .bf16)) ∧
  (∀ k0_t2 : Fin (k0_t2_loop arg24).trips, ∀ (k0_h3 : k0_cond3 arg24 k0_t2 = 1#1), ∀ a, (k0_off79 arg24 k0_t2) a + S1.size a ≤ S40.size a) ∧
  (∀ k0_t2 : Fin (k0_t2_loop arg24).trips, ∀ (k0_h3 : k0_cond3 arg24 k0_t2 = 1#1), ∀ a, (k0_off81 arg24 k0_t2) a + S1.size a ≤ S2.size a) ∧
  (∀ k0_t2 : Fin (k0_t2_loop arg24).trips, ∀ (k0_h3 : k0_cond3 arg24 k0_t2 = 1#1), ∀ a, (k0_off82 arg24 k0_t2) a + S1x128x1536.size a ≤ S2x1024x1536.size a) ∧
  (∀ k0_t2 : Fin (k0_t2_loop arg24).trips, ∀ (k0_h3 : k0_cond3 arg24 k0_t2 = 1#1), ∀ (hinb : ∀ a, (k0_off82 arg24 k0_t2) a + S1x128x1536.size a ≤ S2x1024x1536.size a), (Rect.unit (s := S2x1024x1536) (k0_off82 arg24 k0_t2) S1x128x1536.size hinb).WholeWords (EltTy.packing .bf16)) ∧
  (∀ k0_t2 : Fin (k0_t2_loop arg24).trips, ∀ (k0_h3 : k0_cond3 arg24 k0_t2 = 1#1), ∀ a, (k0_off84 arg24 k0_t2) a + S1.size a ≤ S40.size a) ∧
  (∀ k0_t2 : Fin (k0_t2_loop arg24).trips, ∀ (k0_h3 : k0_cond3 arg24 k0_t2 = 1#1), ∀ a, (k0_off86 arg24 k0_t2) a + S1.size a ≤ S2.size a) ∧
  (∀ k0_t2 : Fin (k0_t2_loop arg24).trips, ∀ (k0_h3 : k0_cond3 arg24 k0_t2 = 1#1), ∀ a, (k0_off87 arg24 k0_t2) a + S1x128x1536.size a ≤ S2x1024x1536.size a)
def k0_chk49_1 (arg24 : BitVec 32) : Prop :=
  (∀ k0_t2 : Fin (k0_t2_loop arg24).trips, ∀ (k0_h3 : k0_cond3 arg24 k0_t2 = 1#1), ∀ (hinb : ∀ a, (k0_off87 arg24 k0_t2) a + S1x128x1536.size a ≤ S2x1024x1536.size a), (Rect.unit (s := S2x1024x1536) (k0_off87 arg24 k0_t2) S1x128x1536.size hinb).WholeWords (EltTy.packing .bf16)) ∧
  (∀ k0_t2 : Fin (k0_t2_loop arg24).trips, ∀ (k0_h4 : k0_cond4 arg24 k0_t2 = 1#1), ∀ a, (k0_off89 arg24 k0_t2) a + S1.size a ≤ S40.size a) ∧
  (∀ k0_t2 : Fin (k0_t2_loop arg24).trips, ∀ (k0_h4 : k0_cond4 arg24 k0_t2 = 1#1), ∀ a, (k0_off91 arg24 k0_t2) a + S1.size a ≤ S2.size a) ∧
  (∀ k0_t2 : Fin (k0_t2_loop arg24).trips, ∀ (k0_h4 : k0_cond4 arg24 k0_t2 = 1#1), ∀ a, (k0_off93 arg24 k0_t2) a + S1x128x1536.size a ≤ S2x1024x1536.size a) ∧
  (∀ k0_t2 : Fin (k0_t2_loop arg24).trips, ∀ (k0_h4 : k0_cond4 arg24 k0_t2 = 1#1), ∀ (hinb : ∀ a, (k0_off93 arg24 k0_t2) a + S1x128x1536.size a ≤ S2x1024x1536.size a), (Rect.unit (s := S2x1024x1536) (k0_off93 arg24 k0_t2) S1x128x1536.size hinb).WholeWords (EltTy.packing .fp8e4m3)) ∧
  (∀ k0_t2 : Fin (k0_t2_loop arg24).trips, ∀ (k0_h4 : k0_cond4 arg24 k0_t2 = 1#1), ∀ a, (k0_off94 arg24 k0_t2) a + S1.size a ≤ S40.size a) ∧
  (∀ k0_t2 : Fin (k0_t2_loop arg24).trips, ∀ (k0_h4 : k0_cond4 arg24 k0_t2 = 1#1), ∀ a, (k0_off96 arg24 k0_t2) a + S1.size a ≤ S2.size a) ∧
  (∀ k0_t2 : Fin (k0_t2_loop arg24).trips, ∀ (k0_h4 : k0_cond4 arg24 k0_t2 = 1#1), ∀ a, (k0_off98 arg24 k0_t2) a + S1x128x1536.size a ≤ S2x1024x1536.size a) ∧
  (∀ k0_t2 : Fin (k0_t2_loop arg24).trips, ∀ (k0_h4 : k0_cond4 arg24 k0_t2 = 1#1), ∀ (hinb : ∀ a, (k0_off98 arg24 k0_t2) a + S1x128x1536.size a ≤ S2x1024x1536.size a), (Rect.unit (s := S2x1024x1536) (k0_off98 arg24 k0_t2) S1x128x1536.size hinb).WholeWords (EltTy.packing .fp8e4m3)) ∧
  (∀ k0_t2 : Fin (k0_t2_loop arg24).trips, ∀ (k0_h4 : k0_cond4 arg24 k0_t2 = 1#1), ∀ a, (k0_off99 arg24 k0_t2) a + S1.size a ≤ S40.size a) ∧
  (∀ k0_t2 : Fin (k0_t2_loop arg24).trips, ∀ (k0_h4 : k0_cond4 arg24 k0_t2 = 1#1), ∀ a, (k0_off101 arg24 k0_t2) a + S1.size a ≤ S2.size a) ∧
  (∀ k0_t2 : Fin (k0_t2_loop arg24).trips, ∀ (k0_h4 : k0_cond4 arg24 k0_t2 = 1#1), ∀ a, (k0_off103 arg24 k0_t2) a + S1x128x1536.size a ≤ S2x1024x1536.size a) ∧
  (∀ k0_t2 : Fin (k0_t2_loop arg24).trips, ∀ (k0_h4 : k0_cond4 arg24 k0_t2 = 1#1), ∀ (hinb : ∀ a, (k0_off103 arg24 k0_t2) a + S1x128x1536.size a ≤ S2x1024x1536.size a), (Rect.unit (s := S2x1024x1536) (k0_off103 arg24 k0_t2) S1x128x1536.size hinb).WholeWords (EltTy.packing .fp8e4m3)) ∧
  (∀ k0_t2 : Fin (k0_t2_loop arg24).trips, ∀ (k0_h4 : k0_cond4 arg24 k0_t2 = 1#1), ∀ a, (k0_off104 arg24 k0_t2) a + S1.size a ≤ S40.size a) ∧
  (∀ k0_t2 : Fin (k0_t2_loop arg24).trips, ∀ (k0_h4 : k0_cond4 arg24 k0_t2 = 1#1), ∀ a, (k0_off106 arg24 k0_t2) a + S1.size a ≤ S2.size a) ∧
  (∀ k0_t2 : Fin (k0_t2_loop arg24).trips, ∀ (k0_h4 : k0_cond4 arg24 k0_t2 = 1#1), ∀ a, (k0_off108 arg24 k0_t2) a + S1x128x1536.size a ≤ S2x1024x1536.size a) ∧
  (∀ k0_t2 : Fin (k0_t2_loop arg24).trips, ∀ (k0_h4 : k0_cond4 arg24 k0_t2 = 1#1), ∀ (hinb : ∀ a, (k0_off108 arg24 k0_t2) a + S1x128x1536.size a ≤ S2x1024x1536.size a), (Rect.unit (s := S2x1024x1536) (k0_off108 arg24 k0_t2) S1x128x1536.size hinb).WholeWords (EltTy.packing .fp8e4m3)) ∧
  (∀ k0_t2 : Fin (k0_t2_loop arg24).trips, ∀ (k0_h4 : k0_cond4 arg24 k0_t2 = 1#1), ∀ a, (k0_off109 arg24 k0_t2) a + S1.size a ≤ S40.size a) ∧
  (∀ k0_t2 : Fin (k0_t2_loop arg24).trips, ∀ (k0_h4 : k0_cond4 arg24 k0_t2 = 1#1), ∀ a, (k0_off111 arg24 k0_t2) a + S1.size a ≤ S2.size a) ∧
  (∀ k0_t2 : Fin (k0_t2_loop arg24).trips, ∀ (k0_h4 : k0_cond4 arg24 k0_t2 = 1#1), ∀ a, (k0_off113 arg24 k0_t2) a + S1x128x1536.size a ≤ S2x1024x1536.size a) ∧
  (∀ k0_t2 : Fin (k0_t2_loop arg24).trips, ∀ (k0_h4 : k0_cond4 arg24 k0_t2 = 1#1), ∀ (hinb : ∀ a, (k0_off113 arg24 k0_t2) a + S1x128x1536.size a ≤ S2x1024x1536.size a), (Rect.unit (s := S2x1024x1536) (k0_off113 arg24 k0_t2) S1x128x1536.size hinb).WholeWords (EltTy.packing .fp8e4m3)) ∧
  (∀ k0_t2 : Fin (k0_t2_loop arg24).trips, ∀ (k0_h4 : k0_cond4 arg24 k0_t2 = 1#1), ∀ a, (k0_off114 arg24 k0_t2) a + S1.size a ≤ S40.size a) ∧
  (∀ k0_t2 : Fin (k0_t2_loop arg24).trips, ∀ (k0_h4 : k0_cond4 arg24 k0_t2 = 1#1), ∀ a, (k0_off116 arg24 k0_t2) a + S1.size a ≤ S2.size a) ∧
  (∀ k0_t2 : Fin (k0_t2_loop arg24).trips, ∀ (k0_h4 : k0_cond4 arg24 k0_t2 = 1#1), ∀ a, (k0_off118 arg24 k0_t2) a + S1x128x1536.size a ≤ S2x1024x1536.size a) ∧
  (∀ k0_t2 : Fin (k0_t2_loop arg24).trips, ∀ (k0_h4 : k0_cond4 arg24 k0_t2 = 1#1), ∀ (hinb : ∀ a, (k0_off118 arg24 k0_t2) a + S1x128x1536.size a ≤ S2x1024x1536.size a), (Rect.unit (s := S2x1024x1536) (k0_off118 arg24 k0_t2) S1x128x1536.size hinb).WholeWords (EltTy.packing .fp8e4m3)) ∧
  (∀ k0_t2 : Fin (k0_t2_loop arg24).trips, ∀ (k0_h4 : k0_cond4 arg24 k0_t2 = 1#1), ∀ a, (k0_off119 arg24 k0_t2) a + S1.size a ≤ S40.size a) ∧
  (∀ k0_t2 : Fin (k0_t2_loop arg24).trips, ∀ (k0_h4 : k0_cond4 arg24 k0_t2 = 1#1), ∀ a, (k0_off121 arg24 k0_t2) a + S1.size a ≤ S2.size a) ∧
  (∀ k0_t2 : Fin (k0_t2_loop arg24).trips, ∀ (k0_h4 : k0_cond4 arg24 k0_t2 = 1#1), ∀ a, (k0_off123 arg24 k0_t2) a + S1x128x1536.size a ≤ S2x1024x1536.size a) ∧
  (∀ k0_t2 : Fin (k0_t2_loop arg24).trips, ∀ (k0_h4 : k0_cond4 arg24 k0_t2 = 1#1), ∀ (hinb : ∀ a, (k0_off123 arg24 k0_t2) a + S1x128x1536.size a ≤ S2x1024x1536.size a), (Rect.unit (s := S2x1024x1536) (k0_off123 arg24 k0_t2) S1x128x1536.size hinb).WholeWords (EltTy.packing .fp8e4m3)) ∧
  (∀ k0_t2 : Fin (k0_t2_loop arg24).trips, ∀ (k0_h4 : k0_cond4 arg24 k0_t2 = 1#1), ∀ a, (k0_off124 arg24 k0_t2) a + S1.size a ≤ S40.size a) ∧
  (∀ k0_t2 : Fin (k0_t2_loop arg24).trips, ∀ (k0_h4 : k0_cond4 arg24 k0_t2 = 1#1), ∀ a, (k0_off126 arg24 k0_t2) a + S1.size a ≤ S2.size a) ∧
  (∀ k0_t2 : Fin (k0_t2_loop arg24).trips, ∀ (k0_h4 : k0_cond4 arg24 k0_t2 = 1#1), ∀ a, (k0_off128 arg24 k0_t2) a + S1x128x1536.size a ≤ S2x1024x1536.size a)
def k0_chk49_2 (arg24 : BitVec 32) : Prop :=
  (∀ k0_t2 : Fin (k0_t2_loop arg24).trips, ∀ (k0_h4 : k0_cond4 arg24 k0_t2 = 1#1), ∀ (hinb : ∀ a, (k0_off128 arg24 k0_t2) a + S1x128x1536.size a ≤ S2x1024x1536.size a), (Rect.unit (s := S2x1024x1536) (k0_off128 arg24 k0_t2) S1x128x1536.size hinb).WholeWords (EltTy.packing .fp8e4m3)) ∧
  (∀ k0_t2 : Fin (k0_t2_loop arg24).trips, ∀ (k0_h4 : k0_cond4 arg24 k0_t2 = 1#1), ∀ a, (k0_off129 arg24 k0_t2) a + S1.size a ≤ S40.size a) ∧
  (∀ k0_t2 : Fin (k0_t2_loop arg24).trips, ∀ (k0_h4 : k0_cond4 arg24 k0_t2 = 1#1), ∀ a, (k0_off131 arg24 k0_t2) a + S1.size a ≤ S2.size a) ∧
  (∀ k0_t2 : Fin (k0_t2_loop arg24).trips, ∀ (k0_h4 : k0_cond4 arg24 k0_t2 = 1#1), ∀ a, (k0_off133 arg24 k0_t2) a + S1x128x8960.size a ≤ S2x1024x8960.size a) ∧
  (∀ k0_t2 : Fin (k0_t2_loop arg24).trips, ∀ (k0_h4 : k0_cond4 arg24 k0_t2 = 1#1), ∀ (hinb : ∀ a, (k0_off133 arg24 k0_t2) a + S1x128x8960.size a ≤ S2x1024x8960.size a), (Rect.unit (s := S2x1024x8960) (k0_off133 arg24 k0_t2) S1x128x8960.size hinb).WholeWords (EltTy.packing .fp8e4m3)) ∧
  (∀ k0_t2 : Fin (k0_t2_loop arg24).trips, ∀ (k0_h4 : k0_cond4 arg24 k0_t2 = 1#1), ∀ a, (k0_off134 arg24 k0_t2) a + S1.size a ≤ S40.size a) ∧
  (∀ k0_t2 : Fin (k0_t2_loop arg24).trips, ∀ (k0_h4 : k0_cond4 arg24 k0_t2 = 1#1), ∀ a, (k0_off136 arg24 k0_t2) a + S1.size a ≤ S2.size a) ∧
  (∀ k0_t2 : Fin (k0_t2_loop arg24).trips, ∀ (k0_h4 : k0_cond4 arg24 k0_t2 = 1#1), ∀ a, (k0_off138 arg24 k0_t2) a + S1x128x8960.size a ≤ S2x1024x8960.size a) ∧
  (∀ k0_t2 : Fin (k0_t2_loop arg24).trips, ∀ (k0_h4 : k0_cond4 arg24 k0_t2 = 1#1), ∀ (hinb : ∀ a, (k0_off138 arg24 k0_t2) a + S1x128x8960.size a ≤ S2x1024x8960.size a), (Rect.unit (s := S2x1024x8960) (k0_off138 arg24 k0_t2) S1x128x8960.size hinb).WholeWords (EltTy.packing .fp8e4m3)) ∧
  (∀ k0_t2 : Fin (k0_t2_loop arg24).trips, ∀ (k0_h4 : k0_cond4 arg24 k0_t2 = 1#1), ∀ a, (k0_off139 arg24 k0_t2) a + S1.size a ≤ S40.size a) ∧
  (∀ k0_t2 : Fin (k0_t2_loop arg24).trips, ∀ (k0_h4 : k0_cond4 arg24 k0_t2 = 1#1), ∀ a, (k0_off141 arg24 k0_t2) a + S1.size a ≤ S2.size a) ∧
  (∀ k0_t2 : Fin (k0_t2_loop arg24).trips, ∀ (k0_h4 : k0_cond4 arg24 k0_t2 = 1#1), ∀ a, (k0_off143 arg24 k0_t2) a + S1x128x8960.size a ≤ S2x1024x8960.size a) ∧
  (∀ k0_t2 : Fin (k0_t2_loop arg24).trips, ∀ (k0_h4 : k0_cond4 arg24 k0_t2 = 1#1), ∀ (hinb : ∀ a, (k0_off143 arg24 k0_t2) a + S1x128x8960.size a ≤ S2x1024x8960.size a), (Rect.unit (s := S2x1024x8960) (k0_off143 arg24 k0_t2) S1x128x8960.size hinb).WholeWords (EltTy.packing .fp8e4m3)) ∧
  (∀ k0_t2 : Fin (k0_t2_loop arg24).trips, ∀ (k0_h4 : k0_cond4 arg24 k0_t2 = 1#1), ∀ a, (k0_off144 arg24 k0_t2) a + S1.size a ≤ S40.size a) ∧
  (∀ k0_t2 : Fin (k0_t2_loop arg24).trips, ∀ (k0_h4 : k0_cond4 arg24 k0_t2 = 1#1), ∀ a, (k0_off146 arg24 k0_t2) a + S1.size a ≤ S2.size a) ∧
  (∀ k0_t2 : Fin (k0_t2_loop arg24).trips, ∀ (k0_h4 : k0_cond4 arg24 k0_t2 = 1#1), ∀ a, (k0_off148 arg24 k0_t2) a + S1x128x8960.size a ≤ S2x1024x8960.size a) ∧
  (∀ k0_t2 : Fin (k0_t2_loop arg24).trips, ∀ (k0_h4 : k0_cond4 arg24 k0_t2 = 1#1), ∀ (hinb : ∀ a, (k0_off148 arg24 k0_t2) a + S1x128x8960.size a ≤ S2x1024x8960.size a), (Rect.unit (s := S2x1024x8960) (k0_off148 arg24 k0_t2) S1x128x8960.size hinb).WholeWords (EltTy.packing .fp8e4m3)) ∧
  (∀ k0_t2 : Fin (k0_t2_loop arg24).trips, ∀ (k0_h4 : k0_cond4 arg24 k0_t2 = 1#1), ∀ a, (k0_off149 arg24 k0_t2) a + S1.size a ≤ S40.size a) ∧
  (∀ k0_t2 : Fin (k0_t2_loop arg24).trips, ∀ (k0_h4 : k0_cond4 arg24 k0_t2 = 1#1), ∀ a, (k0_off151 arg24 k0_t2) a + S1.size a ≤ S2.size a) ∧
  (∀ k0_t2 : Fin (k0_t2_loop arg24).trips, ∀ (k0_h4 : k0_cond4 arg24 k0_t2 = 1#1), ∀ a, (k0_off153 arg24 k0_t2) a + S1x128x8960.size a ≤ S2x1024x8960.size a) ∧
  (∀ k0_t2 : Fin (k0_t2_loop arg24).trips, ∀ (k0_h4 : k0_cond4 arg24 k0_t2 = 1#1), ∀ (hinb : ∀ a, (k0_off153 arg24 k0_t2) a + S1x128x8960.size a ≤ S2x1024x8960.size a), (Rect.unit (s := S2x1024x8960) (k0_off153 arg24 k0_t2) S1x128x8960.size hinb).WholeWords (EltTy.packing .fp8e4m3)) ∧
  (∀ k0_t2 : Fin (k0_t2_loop arg24).trips, ∀ (k0_h4 : k0_cond4 arg24 k0_t2 = 1#1), ∀ a, (k0_off154 arg24 k0_t2) a + S1.size a ≤ S40.size a) ∧
  (∀ k0_t2 : Fin (k0_t2_loop arg24).trips, ∀ (k0_h4 : k0_cond4 arg24 k0_t2 = 1#1), ∀ a, (k0_off156 arg24 k0_t2) a + S1.size a ≤ S2.size a) ∧
  (∀ k0_t2 : Fin (k0_t2_loop arg24).trips, ∀ (k0_h4 : k0_cond4 arg24 k0_t2 = 1#1), ∀ a, (k0_off158 arg24 k0_t2) a + S1x128x8960.size a ≤ S2x1024x8960.size a) ∧
  (∀ k0_t2 : Fin (k0_t2_loop arg24).trips, ∀ (k0_h4 : k0_cond4 arg24 k0_t2 = 1#1), ∀ (hinb : ∀ a, (k0_off158 arg24 k0_t2) a + S1x128x8960.size a ≤ S2x1024x8960.size a), (Rect.unit (s := S2x1024x8960) (k0_off158 arg24 k0_t2) S1x128x8960.size hinb).WholeWords (EltTy.packing .fp8e4m3)) ∧
  (∀ k0_t2 : Fin (k0_t2_loop arg24).trips, ∀ (k0_h4 : k0_cond4 arg24 k0_t2 = 1#1), ∀ a, (k0_off159 arg24 k0_t2) a + S1.size a ≤ S40.size a) ∧
  (∀ k0_t2 : Fin (k0_t2_loop arg24).trips, ∀ (k0_h4 : k0_cond4 arg24 k0_t2 = 1#1), ∀ a, (k0_off161 arg24 k0_t2) a + S1.size a ≤ S2.size a) ∧
  (∀ k0_t2 : Fin (k0_t2_loop arg24).trips, ∀ (k0_h4 : k0_cond4 arg24 k0_t2 = 1#1), ∀ a, (k0_off163 arg24 k0_t2) a + S1x128x8960.size a ≤ S2x1024x8960.size a) ∧
  (∀ k0_t2 : Fin (k0_t2_loop arg24).trips, ∀ (k0_h4 : k0_cond4 arg24 k0_t2 = 1#1), ∀ (hinb : ∀ a, (k0_off163 arg24 k0_t2) a + S1x128x8960.size a ≤ S2x1024x8960.size a), (Rect.unit (s := S2x1024x8960) (k0_off163 arg24 k0_t2) S1x128x8960.size hinb).WholeWords (EltTy.packing .fp8e4m3)) ∧
  (∀ k0_t2 : Fin (k0_t2_loop arg24).trips, ∀ (k0_h4 : k0_cond4 arg24 k0_t2 = 1#1), ∀ a, (k0_off164 arg24 k0_t2) a + S1.size a ≤ S40.size a) ∧
  (∀ k0_t2 : Fin (k0_t2_loop arg24).trips, ∀ (k0_h4 : k0_cond4 arg24 k0_t2 = 1#1), ∀ a, (k0_off166 arg24 k0_t2) a + S1.size a ≤ S2.size a) ∧
  (∀ k0_t2 : Fin (k0_t2_loop arg24).trips, ∀ (k0_h4 : k0_cond4 arg24 k0_t2 = 1#1), ∀ a, (k0_off168 arg24 k0_t2) a + S1x128x8960.size a ≤ S2x1024x8960.size a)
def k0_chk49_3 (arg24 : BitVec 32) : Prop :=
  (∀ k0_t2 : Fin (k0_t2_loop arg24).trips, ∀ (k0_h4 : k0_cond4 arg24 k0_t2 = 1#1), ∀ (hinb : ∀ a, (k0_off168 arg24 k0_t2) a + S1x128x8960.size a ≤ S2x1024x8960.size a), (Rect.unit (s := S2x1024x8960) (k0_off168 arg24 k0_t2) S1x128x8960.size hinb).WholeWords (EltTy.packing .fp8e4m3)) ∧
  (∀ k0_t2 : Fin (k0_t2_loop arg24).trips, ∀ (k0_h5 : k0_cond5 arg24 k0_t2 = 1#1), ∀ a, (k0_off169 arg24 k0_t2) a + S1.size a ≤ S40.size a) ∧
  (∀ k0_t2 : Fin (k0_t2_loop arg24).trips, ∀ (k0_h5 : k0_cond5 arg24 k0_t2 = 1#1), ∀ a, (k0_off171 arg24 k0_t2) a + S1.size a ≤ S2.size a) ∧
  (∀ k0_t2 : Fin (k0_t2_loop arg24).trips, ∀ (k0_h5 : k0_cond5 arg24 k0_t2 = 1#1), ∀ a, (k0_off172 arg24 k0_t2) a + S1x128x1536.size a ≤ S2x1024x1536.size a) ∧
  (∀ k0_t2 : Fin (k0_t2_loop arg24).trips, ∀ (k0_h5 : k0_cond5 arg24 k0_t2 = 1#1), ∀ (hinb : ∀ a, (k0_off172 arg24 k0_t2) a + S1x128x1536.size a ≤ S2x1024x1536.size a), (Rect.unit (s := S2x1024x1536) (k0_off172 arg24 k0_t2) S1x128x1536.size hinb).WholeWords (EltTy.packing .bf16)) ∧
  (∀ k0_t2 : Fin (k0_t2_loop arg24).trips, ∀ (k0_h5 : k0_cond5 arg24 k0_t2 = 1#1), ∀ a, (k0_off174 arg24 k0_t2) a + S1.size a ≤ S40.size a) ∧
  (∀ k0_t2 : Fin (k0_t2_loop arg24).trips, ∀ (k0_h5 : k0_cond5 arg24 k0_t2 = 1#1), ∀ a, (k0_off176 arg24 k0_t2) a + S1.size a ≤ S2.size a) ∧
  (∀ k0_t2 : Fin (k0_t2_loop arg24).trips, ∀ (k0_h5 : k0_cond5 arg24 k0_t2 = 1#1), ∀ a, (k0_off177 arg24 k0_t2) a + S1x128x1536.size a ≤ S2x1024x1536.size a) ∧
  (∀ k0_t2 : Fin (k0_t2_loop arg24).trips, ∀ (k0_h5 : k0_cond5 arg24 k0_t2 = 1#1), ∀ (hinb : ∀ a, (k0_off177 arg24 k0_t2) a + S1x128x1536.size a ≤ S2x1024x1536.size a), (Rect.unit (s := S2x1024x1536) (k0_off177 arg24 k0_t2) S1x128x1536.size hinb).WholeWords (EltTy.packing .bf16)) ∧
  (∀ k0_t2 : Fin (k0_t2_loop arg24).trips, ∀ (k0_h5 : k0_cond5 arg24 k0_t2 = 1#1), ∀ a, (k0_off179 arg24 k0_t2) a + S1.size a ≤ S40.size a) ∧
  (∀ k0_t2 : Fin (k0_t2_loop arg24).trips, ∀ (k0_h5 : k0_cond5 arg24 k0_t2 = 1#1), ∀ a, (k0_off181 arg24 k0_t2) a + S1.size a ≤ S2.size a) ∧
  (∀ k0_t2 : Fin (k0_t2_loop arg24).trips, ∀ (k0_h5 : k0_cond5 arg24 k0_t2 = 1#1), ∀ a, (k0_off182 arg24 k0_t2) a + S1x128x1536.size a ≤ S2x1024x1536.size a) ∧
  (∀ k0_t2 : Fin (k0_t2_loop arg24).trips, ∀ (k0_h5 : k0_cond5 arg24 k0_t2 = 1#1), ∀ (hinb : ∀ a, (k0_off182 arg24 k0_t2) a + S1x128x1536.size a ≤ S2x1024x1536.size a), (Rect.unit (s := S2x1024x1536) (k0_off182 arg24 k0_t2) S1x128x1536.size hinb).WholeWords (EltTy.packing .bf16)) ∧
  (∀ k0_t2 : Fin (k0_t2_loop arg24).trips, ∀ (k0_h5 : k0_cond5 arg24 k0_t2 = 1#1), ∀ a, (k0_off184 arg24 k0_t2) a + S1.size a ≤ S40.size a) ∧
  (∀ k0_t2 : Fin (k0_t2_loop arg24).trips, ∀ (k0_h5 : k0_cond5 arg24 k0_t2 = 1#1), ∀ a, (k0_off186 arg24 k0_t2) a + S1.size a ≤ S2.size a) ∧
  (∀ k0_t2 : Fin (k0_t2_loop arg24).trips, ∀ (k0_h5 : k0_cond5 arg24 k0_t2 = 1#1), ∀ a, (k0_off187 arg24 k0_t2) a + S1x128x1536.size a ≤ S2x1024x1536.size a) ∧
  (∀ k0_t2 : Fin (k0_t2_loop arg24).trips, ∀ (k0_h5 : k0_cond5 arg24 k0_t2 = 1#1), ∀ (hinb : ∀ a, (k0_off187 arg24 k0_t2) a + S1x128x1536.size a ≤ S2x1024x1536.size a), (Rect.unit (s := S2x1024x1536) (k0_off187 arg24 k0_t2) S1x128x1536.size hinb).WholeWords (EltTy.packing .bf16)) ∧
  (∀ k0_t2 : Fin (k0_t2_loop arg24).trips, ∀ (k0_h5 : k0_cond5 arg24 k0_t2 = 1#1), ∀ a, (k0_off189 arg24 k0_t2) a + S1.size a ≤ S40.size a) ∧
  (∀ k0_t2 : Fin (k0_t2_loop arg24).trips, ∀ (k0_h5 : k0_cond5 arg24 k0_t2 = 1#1), ∀ a, (k0_off191 arg24 k0_t2) a + S1.size a ≤ S2.size a) ∧
  (∀ k0_t2 : Fin (k0_t2_loop arg24).trips, ∀ (k0_h5 : k0_cond5 arg24 k0_t2 = 1#1), ∀ a, (k0_off192 arg24 k0_t2) a + S1x128x1536.size a ≤ S2x1024x1536.size a) ∧
  (∀ k0_t2 : Fin (k0_t2_loop arg24).trips, ∀ (k0_h5 : k0_cond5 arg24 k0_t2 = 1#1), ∀ (hinb : ∀ a, (k0_off192 arg24 k0_t2) a + S1x128x1536.size a ≤ S2x1024x1536.size a), (Rect.unit (s := S2x1024x1536) (k0_off192 arg24 k0_t2) S1x128x1536.size hinb).WholeWords (EltTy.packing .bf16)) ∧
  (∀ k0_t2 : Fin (k0_t2_loop arg24).trips, ∀ (k0_h5 : k0_cond5 arg24 k0_t2 = 1#1), ∀ a, (k0_off194 arg24 k0_t2) a + S1.size a ≤ S40.size a) ∧
  (∀ k0_t2 : Fin (k0_t2_loop arg24).trips, ∀ (k0_h5 : k0_cond5 arg24 k0_t2 = 1#1), ∀ a, (k0_off196 arg24 k0_t2) a + S1.size a ≤ S2.size a) ∧
  (∀ k0_t2 : Fin (k0_t2_loop arg24).trips, ∀ (k0_h5 : k0_cond5 arg24 k0_t2 = 1#1), ∀ a, (k0_off197 arg24 k0_t2) a + S1x128x1536.size a ≤ S2x1024x1536.size a) ∧
  (∀ k0_t2 : Fin (k0_t2_loop arg24).trips, ∀ (k0_h5 : k0_cond5 arg24 k0_t2 = 1#1), ∀ (hinb : ∀ a, (k0_off197 arg24 k0_t2) a + S1x128x1536.size a ≤ S2x1024x1536.size a), (Rect.unit (s := S2x1024x1536) (k0_off197 arg24 k0_t2) S1x128x1536.size hinb).WholeWords (EltTy.packing .bf16)) ∧
  (∀ k0_t2 : Fin (k0_t2_loop arg24).trips, ∀ (k0_h5 : k0_cond5 arg24 k0_t2 = 1#1), ∀ a, (k0_off199 arg24 k0_t2) a + S1.size a ≤ S40.size a) ∧
  (∀ k0_t2 : Fin (k0_t2_loop arg24).trips, ∀ (k0_h5 : k0_cond5 arg24 k0_t2 = 1#1), ∀ a, (k0_off201 arg24 k0_t2) a + S1.size a ≤ S2.size a) ∧
  (∀ k0_t2 : Fin (k0_t2_loop arg24).trips, ∀ (k0_h5 : k0_cond5 arg24 k0_t2 = 1#1), ∀ a, (k0_off202 arg24 k0_t2) a + S1x128x1536.size a ≤ S2x1024x1536.size a) ∧
  (∀ k0_t2 : Fin (k0_t2_loop arg24).trips, ∀ (k0_h5 : k0_cond5 arg24 k0_t2 = 1#1), ∀ (hinb : ∀ a, (k0_off202 arg24 k0_t2) a + S1x128x1536.size a ≤ S2x1024x1536.size a), (Rect.unit (s := S2x1024x1536) (k0_off202 arg24 k0_t2) S1x128x1536.size hinb).WholeWords (EltTy.packing .bf16)) ∧
  (∀ k0_t2 : Fin (k0_t2_loop arg24).trips, ∀ (k0_h5 : k0_cond5 arg24 k0_t2 = 1#1), ∀ a, (k0_off204 arg24 k0_t2) a + S1.size a ≤ S40.size a) ∧
  (∀ k0_t2 : Fin (k0_t2_loop arg24).trips, ∀ (k0_h5 : k0_cond5 arg24 k0_t2 = 1#1), ∀ a, (k0_off206 arg24 k0_t2) a + S1.size a ≤ S2.size a) ∧
  (∀ k0_t2 : Fin (k0_t2_loop arg24).trips, ∀ (k0_h5 : k0_cond5 arg24 k0_t2 = 1#1), ∀ a, (k0_off207 arg24 k0_t2) a + S1x128x1536.size a ≤ S2x1024x1536.size a)
def k0_chk49_4 (arg24 : BitVec 32) : Prop :=
  (∀ k0_t2 : Fin (k0_t2_loop arg24).trips, ∀ (k0_h5 : k0_cond5 arg24 k0_t2 = 1#1), ∀ (hinb : ∀ a, (k0_off207 arg24 k0_t2) a + S1x128x1536.size a ≤ S2x1024x1536.size a), (Rect.unit (s := S2x1024x1536) (k0_off207 arg24 k0_t2) S1x128x1536.size hinb).WholeWords (EltTy.packing .bf16)) ∧
  (∀ k0_t2 : Fin (k0_t2_loop arg24).trips, ∀ a, (k0_off209 arg24 k0_t2) a + S1.size a ≤ S40.size a) ∧
  (∀ k0_t2 : Fin (k0_t2_loop arg24).trips, ∀ a, (k0_off211 arg24 k0_t2) a + S1.size a ≤ S2.size a) ∧
  (∀ k0_t2 : Fin (k0_t2_loop arg24).trips, ∀ a, (k0_off213 arg24 k0_t2) a + S1x128x1536.size a ≤ S2x1024x1536.size a) ∧
  (∀ k0_t2 : Fin (k0_t2_loop arg24).trips, ∀ (hinb : ∀ a, (k0_off213 arg24 k0_t2) a + S1x128x1536.size a ≤ S2x1024x1536.size a), (Rect.unit (s := S2x1024x1536) (k0_off213 arg24 k0_t2) S1x128x1536.size hinb).WholeWords (EltTy.packing .fp8e4m3)) ∧
  (∀ k0_t2 : Fin (k0_t2_loop arg24).trips, ∀ a, (k0_off214 arg24 k0_t2) a + S1.size a ≤ S40.size a) ∧
  (∀ k0_t2 : Fin (k0_t2_loop arg24).trips, ∀ a, (k0_off216 arg24 k0_t2) a + S1.size a ≤ S2.size a) ∧
  (∀ k0_t2 : Fin (k0_t2_loop arg24).trips, ∀ a, (k0_off218 arg24 k0_t2) a + S1x128x1536.size a ≤ S2x1024x1536.size a) ∧
  (∀ k0_t2 : Fin (k0_t2_loop arg24).trips, ∀ (hinb : ∀ a, (k0_off218 arg24 k0_t2) a + S1x128x1536.size a ≤ S2x1024x1536.size a), (Rect.unit (s := S2x1024x1536) (k0_off218 arg24 k0_t2) S1x128x1536.size hinb).WholeWords (EltTy.packing .fp8e4m3)) ∧
  (∀ k0_t2 : Fin (k0_t2_loop arg24).trips, ∀ a, (k0_off219 arg24 k0_t2) a + S1.size a ≤ S40.size a) ∧
  (∀ k0_t2 : Fin (k0_t2_loop arg24).trips, ∀ a, (k0_off221 arg24 k0_t2) a + S1.size a ≤ S2.size a) ∧
  (∀ k0_t2 : Fin (k0_t2_loop arg24).trips, ∀ a, (k0_off223 arg24 k0_t2) a + S1x128x1536.size a ≤ S2x1024x1536.size a) ∧
  (∀ k0_t2 : Fin (k0_t2_loop arg24).trips, ∀ (hinb : ∀ a, (k0_off223 arg24 k0_t2) a + S1x128x1536.size a ≤ S2x1024x1536.size a), (Rect.unit (s := S2x1024x1536) (k0_off223 arg24 k0_t2) S1x128x1536.size hinb).WholeWords (EltTy.packing .fp8e4m3)) ∧
  (∀ k0_t2 : Fin (k0_t2_loop arg24).trips, ∀ a, (k0_off224 arg24 k0_t2) a + S1.size a ≤ S40.size a) ∧
  (∀ k0_t2 : Fin (k0_t2_loop arg24).trips, ∀ a, (k0_off226 arg24 k0_t2) a + S1.size a ≤ S2.size a) ∧
  (∀ k0_t2 : Fin (k0_t2_loop arg24).trips, ∀ a, (k0_off228 arg24 k0_t2) a + S1x128x1536.size a ≤ S2x1024x1536.size a) ∧
  (∀ k0_t2 : Fin (k0_t2_loop arg24).trips, ∀ (hinb : ∀ a, (k0_off228 arg24 k0_t2) a + S1x128x1536.size a ≤ S2x1024x1536.size a), (Rect.unit (s := S2x1024x1536) (k0_off228 arg24 k0_t2) S1x128x1536.size hinb).WholeWords (EltTy.packing .fp8e4m3)) ∧
  (∀ k0_t2 : Fin (k0_t2_loop arg24).trips, ∀ a, (k0_off229 arg24 k0_t2) a + S1.size a ≤ S40.size a) ∧
  (∀ k0_t2 : Fin (k0_t2_loop arg24).trips, ∀ a, (k0_off231 arg24 k0_t2) a + S1.size a ≤ S2.size a) ∧
  (∀ k0_t2 : Fin (k0_t2_loop arg24).trips, ∀ a, (k0_off233 arg24 k0_t2) a + S1x128x1536.size a ≤ S2x1024x1536.size a) ∧
  (∀ k0_t2 : Fin (k0_t2_loop arg24).trips, ∀ (hinb : ∀ a, (k0_off233 arg24 k0_t2) a + S1x128x1536.size a ≤ S2x1024x1536.size a), (Rect.unit (s := S2x1024x1536) (k0_off233 arg24 k0_t2) S1x128x1536.size hinb).WholeWords (EltTy.packing .fp8e4m3)) ∧
  (∀ k0_t2 : Fin (k0_t2_loop arg24).trips, ∀ a, (k0_off234 arg24 k0_t2) a + S1.size a ≤ S40.size a) ∧
  (∀ k0_t2 : Fin (k0_t2_loop arg24).trips, ∀ a, (k0_off236 arg24 k0_t2) a + S1.size a ≤ S2.size a) ∧
  (∀ k0_t2 : Fin (k0_t2_loop arg24).trips, ∀ a, (k0_off238 arg24 k0_t2) a + S1x128x1536.size a ≤ S2x1024x1536.size a) ∧
  (∀ k0_t2 : Fin (k0_t2_loop arg24).trips, ∀ (hinb : ∀ a, (k0_off238 arg24 k0_t2) a + S1x128x1536.size a ≤ S2x1024x1536.size a), (Rect.unit (s := S2x1024x1536) (k0_off238 arg24 k0_t2) S1x128x1536.size hinb).WholeWords (EltTy.packing .fp8e4m3)) ∧
  (∀ k0_t2 : Fin (k0_t2_loop arg24).trips, ∀ a, (k0_off239 arg24 k0_t2) a + S1.size a ≤ S40.size a) ∧
  (∀ k0_t2 : Fin (k0_t2_loop arg24).trips, ∀ a, (k0_off241 arg24 k0_t2) a + S1.size a ≤ S2.size a) ∧
  (∀ k0_t2 : Fin (k0_t2_loop arg24).trips, ∀ a, (k0_off243 arg24 k0_t2) a + S1x128x1536.size a ≤ S2x1024x1536.size a) ∧
  (∀ k0_t2 : Fin (k0_t2_loop arg24).trips, ∀ (hinb : ∀ a, (k0_off243 arg24 k0_t2) a + S1x128x1536.size a ≤ S2x1024x1536.size a), (Rect.unit (s := S2x1024x1536) (k0_off243 arg24 k0_t2) S1x128x1536.size hinb).WholeWords (EltTy.packing .fp8e4m3)) ∧
  (∀ k0_t2 : Fin (k0_t2_loop arg24).trips, ∀ a, (k0_off244 arg24 k0_t2) a + S1.size a ≤ S40.size a) ∧
  (∀ k0_t2 : Fin (k0_t2_loop arg24).trips, ∀ a, (k0_off246 arg24 k0_t2) a + S1.size a ≤ S2.size a) ∧
  (∀ k0_t2 : Fin (k0_t2_loop arg24).trips, ∀ a, (k0_off248 arg24 k0_t2) a + S1x128x1536.size a ≤ S2x1024x1536.size a)
def k0_chk49_5 (arg24 : BitVec 32) : Prop :=
  (∀ k0_t2 : Fin (k0_t2_loop arg24).trips, ∀ (hinb : ∀ a, (k0_off248 arg24 k0_t2) a + S1x128x1536.size a ≤ S2x1024x1536.size a), (Rect.unit (s := S2x1024x1536) (k0_off248 arg24 k0_t2) S1x128x1536.size hinb).WholeWords (EltTy.packing .fp8e4m3)) ∧
  (∀ k0_t2 : Fin (k0_t2_loop arg24).trips, ∀ (k0_h6 : k0_cond6 arg24 k0_t2 = 1#1), ∀ a, (k0_off249 arg24 k0_t2) a + S1.size a ≤ S40.size a) ∧
  (∀ k0_t2 : Fin (k0_t2_loop arg24).trips, ∀ (k0_h6 : k0_cond6 arg24 k0_t2 = 1#1), ∀ a, (k0_off251 arg24 k0_t2) a + S1.size a ≤ S2.size a) ∧
  (∀ k0_t2 : Fin (k0_t2_loop arg24).trips, ∀ (k0_h6 : k0_cond6 arg24 k0_t2 = 1#1), ∀ a, (k0_off253 arg24 k0_t2) a + S1x128x8960.size a ≤ S2x1024x8960.size a) ∧
  (∀ k0_t2 : Fin (k0_t2_loop arg24).trips, ∀ (k0_h6 : k0_cond6 arg24 k0_t2 = 1#1), ∀ (hinb : ∀ a, (k0_off253 arg24 k0_t2) a + S1x128x8960.size a ≤ S2x1024x8960.size a), (Rect.unit (s := S2x1024x8960) (k0_off253 arg24 k0_t2) S1x128x8960.size hinb).WholeWords (EltTy.packing .fp8e4m3)) ∧
  (∀ k0_t2 : Fin (k0_t2_loop arg24).trips, ∀ (k0_h6 : k0_cond6 arg24 k0_t2 = 1#1), ∀ a, (k0_off254 arg24 k0_t2) a + S1.size a ≤ S40.size a) ∧
  (∀ k0_t2 : Fin (k0_t2_loop arg24).trips, ∀ (k0_h6 : k0_cond6 arg24 k0_t2 = 1#1), ∀ a, (k0_off256 arg24 k0_t2) a + S1.size a ≤ S2.size a) ∧
  (∀ k0_t2 : Fin (k0_t2_loop arg24).trips, ∀ (k0_h6 : k0_cond6 arg24 k0_t2 = 1#1), ∀ a, (k0_off258 arg24 k0_t2) a + S1x128x8960.size a ≤ S2x1024x8960.size a) ∧
  (∀ k0_t2 : Fin (k0_t2_loop arg24).trips, ∀ (k0_h6 : k0_cond6 arg24 k0_t2 = 1#1), ∀ (hinb : ∀ a, (k0_off258 arg24 k0_t2) a + S1x128x8960.size a ≤ S2x1024x8960.size a), (Rect.unit (s := S2x1024x8960) (k0_off258 arg24 k0_t2) S1x128x8960.size hinb).WholeWords (EltTy.packing .fp8e4m3)) ∧
  (∀ k0_t2 : Fin (k0_t2_loop arg24).trips, ∀ (k0_h6 : k0_cond6 arg24 k0_t2 = 1#1), ∀ a, (k0_off259 arg24 k0_t2) a + S1.size a ≤ S40.size a) ∧
  (∀ k0_t2 : Fin (k0_t2_loop arg24).trips, ∀ (k0_h6 : k0_cond6 arg24 k0_t2 = 1#1), ∀ a, (k0_off261 arg24 k0_t2) a + S1.size a ≤ S2.size a) ∧
  (∀ k0_t2 : Fin (k0_t2_loop arg24).trips, ∀ (k0_h6 : k0_cond6 arg24 k0_t2 = 1#1), ∀ a, (k0_off263 arg24 k0_t2) a + S1x128x8960.size a ≤ S2x1024x8960.size a) ∧
  (∀ k0_t2 : Fin (k0_t2_loop arg24).trips, ∀ (k0_h6 : k0_cond6 arg24 k0_t2 = 1#1), ∀ (hinb : ∀ a, (k0_off263 arg24 k0_t2) a + S1x128x8960.size a ≤ S2x1024x8960.size a), (Rect.unit (s := S2x1024x8960) (k0_off263 arg24 k0_t2) S1x128x8960.size hinb).WholeWords (EltTy.packing .fp8e4m3)) ∧
  (∀ k0_t2 : Fin (k0_t2_loop arg24).trips, ∀ (k0_h6 : k0_cond6 arg24 k0_t2 = 1#1), ∀ a, (k0_off264 arg24 k0_t2) a + S1.size a ≤ S40.size a) ∧
  (∀ k0_t2 : Fin (k0_t2_loop arg24).trips, ∀ (k0_h6 : k0_cond6 arg24 k0_t2 = 1#1), ∀ a, (k0_off266 arg24 k0_t2) a + S1.size a ≤ S2.size a) ∧
  (∀ k0_t2 : Fin (k0_t2_loop arg24).trips, ∀ (k0_h6 : k0_cond6 arg24 k0_t2 = 1#1), ∀ a, (k0_off268 arg24 k0_t2) a + S1x128x8960.size a ≤ S2x1024x8960.size a) ∧
  (∀ k0_t2 : Fin (k0_t2_loop arg24).trips, ∀ (k0_h6 : k0_cond6 arg24 k0_t2 = 1#1), ∀ (hinb : ∀ a, (k0_off268 arg24 k0_t2) a + S1x128x8960.size a ≤ S2x1024x8960.size a), (Rect.unit (s := S2x1024x8960) (k0_off268 arg24 k0_t2) S1x128x8960.size hinb).WholeWords (EltTy.packing .fp8e4m3)) ∧
  (∀ k0_t2 : Fin (k0_t2_loop arg24).trips, ∀ (k0_h6 : k0_cond6 arg24 k0_t2 = 1#1), ∀ a, (k0_off269 arg24 k0_t2) a + S1.size a ≤ S40.size a) ∧
  (∀ k0_t2 : Fin (k0_t2_loop arg24).trips, ∀ (k0_h6 : k0_cond6 arg24 k0_t2 = 1#1), ∀ a, (k0_off271 arg24 k0_t2) a + S1.size a ≤ S2.size a) ∧
  (∀ k0_t2 : Fin (k0_t2_loop arg24).trips, ∀ (k0_h6 : k0_cond6 arg24 k0_t2 = 1#1), ∀ a, (k0_off273 arg24 k0_t2) a + S1x128x8960.size a ≤ S2x1024x8960.size a) ∧
  (∀ k0_t2 : Fin (k0_t2_loop arg24).trips, ∀ (k0_h6 : k0_cond6 arg24 k0_t2 = 1#1), ∀ (hinb : ∀ a, (k0_off273 arg24 k0_t2) a + S1x128x8960.size a ≤ S2x1024x8960.size a), (Rect.unit (s := S2x1024x8960) (k0_off273 arg24 k0_t2) S1x128x8960.size hinb).WholeWords (EltTy.packing .fp8e4m3)) ∧
  (∀ k0_t2 : Fin (k0_t2_loop arg24).trips, ∀ (k0_h6 : k0_cond6 arg24 k0_t2 = 1#1), ∀ a, (k0_off274 arg24 k0_t2) a + S1.size a ≤ S40.size a) ∧
  (∀ k0_t2 : Fin (k0_t2_loop arg24).trips, ∀ (k0_h6 : k0_cond6 arg24 k0_t2 = 1#1), ∀ a, (k0_off276 arg24 k0_t2) a + S1.size a ≤ S2.size a) ∧
  (∀ k0_t2 : Fin (k0_t2_loop arg24).trips, ∀ (k0_h6 : k0_cond6 arg24 k0_t2 = 1#1), ∀ a, (k0_off278 arg24 k0_t2) a + S1x128x8960.size a ≤ S2x1024x8960.size a) ∧
  (∀ k0_t2 : Fin (k0_t2_loop arg24).trips, ∀ (k0_h6 : k0_cond6 arg24 k0_t2 = 1#1), ∀ (hinb : ∀ a, (k0_off278 arg24 k0_t2) a + S1x128x8960.size a ≤ S2x1024x8960.size a), (Rect.unit (s := S2x1024x8960) (k0_off278 arg24 k0_t2) S1x128x8960.size hinb).WholeWords (EltTy.packing .fp8e4m3)) ∧
  (∀ k0_t2 : Fin (k0_t2_loop arg24).trips, ∀ (k0_h6 : k0_cond6 arg24 k0_t2 = 1#1), ∀ a, (k0_off279 arg24 k0_t2) a + S1.size a ≤ S40.size a) ∧
  (∀ k0_t2 : Fin (k0_t2_loop arg24).trips, ∀ (k0_h6 : k0_cond6 arg24 k0_t2 = 1#1), ∀ a, (k0_off281 arg24 k0_t2) a + S1.size a ≤ S2.size a) ∧
  (∀ k0_t2 : Fin (k0_t2_loop arg24).trips, ∀ (k0_h6 : k0_cond6 arg24 k0_t2 = 1#1), ∀ a, (k0_off283 arg24 k0_t2) a + S1x128x8960.size a ≤ S2x1024x8960.size a) ∧
  (∀ k0_t2 : Fin (k0_t2_loop arg24).trips, ∀ (k0_h6 : k0_cond6 arg24 k0_t2 = 1#1), ∀ (hinb : ∀ a, (k0_off283 arg24 k0_t2) a + S1x128x8960.size a ≤ S2x1024x8960.size a), (Rect.unit (s := S2x1024x8960) (k0_off283 arg24 k0_t2) S1x128x8960.size hinb).WholeWords (EltTy.packing .fp8e4m3)) ∧
  (∀ k0_t2 : Fin (k0_t2_loop arg24).trips, ∀ (k0_h6 : k0_cond6 arg24 k0_t2 = 1#1), ∀ a, (k0_off284 arg24 k0_t2) a + S1.size a ≤ S40.size a) ∧
  (∀ k0_t2 : Fin (k0_t2_loop arg24).trips, ∀ (k0_h6 : k0_cond6 arg24 k0_t2 = 1#1), ∀ a, (k0_off286 arg24 k0_t2) a + S1.size a ≤ S2.size a) ∧
  (∀ k0_t2 : Fin (k0_t2_loop arg24).trips, ∀ (k0_h6 : k0_cond6 arg24 k0_t2 = 1#1), ∀ a, (k0_off288 arg24 k0_t2) a + S1x128x8960.size a ≤ S2x1024x8960.size a)
def k0_chk49_6 (arg24 : BitVec 32) : Prop :=
  (∀ k0_t2 : Fin (k0_t2_loop arg24).trips, ∀ (k0_h6 : k0_cond6 arg24 k0_t2 = 1#1), ∀ (hinb : ∀ a, (k0_off288 arg24 k0_t2) a + S1x128x8960.size a ≤ S2x1024x8960.size a), (Rect.unit (s := S2x1024x8960) (k0_off288 arg24 k0_t2) S1x128x8960.size hinb).WholeWords (EltTy.packing .fp8e4m3)) ∧
  (∀ k0_t2 : Fin (k0_t2_loop arg24).trips, ∀ a, (k0_off289 arg24 k0_t2) a + S1.size a ≤ S40.size a) ∧
  (∀ k0_t2 : Fin (k0_t2_loop arg24).trips, ∀ a, (k0_off291 arg24 k0_t2) a + S1x1024x1536.size a ≤ S2x1024x1536.size a) ∧
  (∀ k0_t2 : Fin (k0_t2_loop arg24).trips, ∀ a, (k0_off292 arg24 k0_t2) a + S1x1024x256.size a ≤ S2x1024x8960.size a) ∧
  (∀ k0_t2 : Fin (k0_t2_loop arg24).trips, ∀ (hinb : ∀ a, (k0_off292 arg24 k0_t2) a + S1x1024x256.size a ≤ S2x1024x8960.size a), (Rect.unit (s := S2x1024x8960) (k0_off292 arg24 k0_t2) S1x1024x256.size hinb).PackedRows (EltTy.packing .fp8e4m3)) ∧
  (∀ k0_t2 : Fin (k0_t2_loop arg24).trips, ∀ a, (k0_off293 arg24 k0_t2) a + S1x32x1536.size a ≤ S2x1024x1536.size a) ∧
  (∀ k0_t2 : Fin (k0_t2_loop arg24).trips, ∀ (hinb : ∀ a, (k0_off293 arg24 k0_t2) a + S1x32x1536.size a ≤ S2x1024x1536.size a), (Rect.unit (s := S2x1024x1536) (k0_off293 arg24 k0_t2) S1x32x1536.size hinb).PackedRows (EltTy.packing .fp8e4m3)) ∧
  (∀ k0_t2 : Fin (k0_t2_loop arg24).trips, ∀ a, (k0_off294 arg24 k0_t2) a + S1x1024x256.size a ≤ S2x1024x8960.size a) ∧
  (∀ k0_t2 : Fin (k0_t2_loop arg24).trips, ∀ (hinb : ∀ a, (k0_off294 arg24 k0_t2) a + S1x1024x256.size a ≤ S2x1024x8960.size a), (Rect.unit (s := S2x1024x8960) (k0_off294 arg24 k0_t2) S1x1024x256.size hinb).PackedRows (EltTy.packing .fp8e4m3)) ∧
  (∀ k0_t2 : Fin (k0_t2_loop arg24).trips, ∀ a, (k0_off295 arg24 k0_t2) a + S1x32x1536.size a ≤ S2x1024x1536.size a) ∧
  (∀ k0_t2 : Fin (k0_t2_loop arg24).trips, ∀ (hinb : ∀ a, (k0_off295 arg24 k0_t2) a + S1x32x1536.size a ≤ S2x1024x1536.size a), (Rect.unit (s := S2x1024x1536) (k0_off295 arg24 k0_t2) S1x32x1536.size hinb).PackedRows (EltTy.packing .fp8e4m3)) ∧
  (∀ k0_t2 : Fin (k0_t2_loop arg24).trips, ∀ a, (k0_off296 arg24 k0_t2) a + S1x1024x256.size a ≤ S2x1024x8960.size a) ∧
  (∀ k0_t2 : Fin (k0_t2_loop arg24).trips, ∀ (hinb : ∀ a, (k0_off296 arg24 k0_t2) a + S1x1024x256.size a ≤ S2x1024x8960.size a), (Rect.unit (s := S2x1024x8960) (k0_off296 arg24 k0_t2) S1x1024x256.size hinb).PackedRows (EltTy.packing .fp8e4m3)) ∧
  (∀ k0_t2 : Fin (k0_t2_loop arg24).trips, ∀ a, (k0_off297 arg24 k0_t2) a + S1x32x1536.size a ≤ S2x1024x1536.size a) ∧
  (∀ k0_t2 : Fin (k0_t2_loop arg24).trips, ∀ (hinb : ∀ a, (k0_off297 arg24 k0_t2) a + S1x32x1536.size a ≤ S2x1024x1536.size a), (Rect.unit (s := S2x1024x1536) (k0_off297 arg24 k0_t2) S1x32x1536.size hinb).PackedRows (EltTy.packing .fp8e4m3)) ∧
  (∀ k0_t2 : Fin (k0_t2_loop arg24).trips, ∀ a, (k0_off298 arg24 k0_t2) a + S1x1024x256.size a ≤ S2x1024x8960.size a) ∧
  (∀ k0_t2 : Fin (k0_t2_loop arg24).trips, ∀ (hinb : ∀ a, (k0_off298 arg24 k0_t2) a + S1x1024x256.size a ≤ S2x1024x8960.size a), (Rect.unit (s := S2x1024x8960) (k0_off298 arg24 k0_t2) S1x1024x256.size hinb).PackedRows (EltTy.packing .fp8e4m3)) ∧
  (∀ k0_t2 : Fin (k0_t2_loop arg24).trips, ∀ a, (k0_off299 arg24 k0_t2) a + S1x32x1536.size a ≤ S2x1024x1536.size a) ∧
  (∀ k0_t2 : Fin (k0_t2_loop arg24).trips, ∀ (hinb : ∀ a, (k0_off299 arg24 k0_t2) a + S1x32x1536.size a ≤ S2x1024x1536.size a), (Rect.unit (s := S2x1024x1536) (k0_off299 arg24 k0_t2) S1x32x1536.size hinb).PackedRows (EltTy.packing .fp8e4m3)) ∧
  (∀ k0_t2 : Fin (k0_t2_loop arg24).trips, ∀ a, (k0_off300 arg24 k0_t2) a + S1x1024x256.size a ≤ S2x1024x8960.size a) ∧
  (∀ k0_t2 : Fin (k0_t2_loop arg24).trips, ∀ (hinb : ∀ a, (k0_off300 arg24 k0_t2) a + S1x1024x256.size a ≤ S2x1024x8960.size a), (Rect.unit (s := S2x1024x8960) (k0_off300 arg24 k0_t2) S1x1024x256.size hinb).PackedRows (EltTy.packing .fp8e4m3)) ∧
  (∀ k0_t2 : Fin (k0_t2_loop arg24).trips, ∀ a, (k0_off301 arg24 k0_t2) a + S1x32x1536.size a ≤ S2x1024x1536.size a) ∧
  (∀ k0_t2 : Fin (k0_t2_loop arg24).trips, ∀ (hinb : ∀ a, (k0_off301 arg24 k0_t2) a + S1x32x1536.size a ≤ S2x1024x1536.size a), (Rect.unit (s := S2x1024x1536) (k0_off301 arg24 k0_t2) S1x32x1536.size hinb).PackedRows (EltTy.packing .fp8e4m3)) ∧
  (∀ k0_t2 : Fin (k0_t2_loop arg24).trips, ∀ a, (k0_off302 arg24 k0_t2) a + S1x1024x256.size a ≤ S2x1024x8960.size a) ∧
  (∀ k0_t2 : Fin (k0_t2_loop arg24).trips, ∀ (hinb : ∀ a, (k0_off302 arg24 k0_t2) a + S1x1024x256.size a ≤ S2x1024x8960.size a), (Rect.unit (s := S2x1024x8960) (k0_off302 arg24 k0_t2) S1x1024x256.size hinb).PackedRows (EltTy.packing .fp8e4m3)) ∧
  (∀ k0_t2 : Fin (k0_t2_loop arg24).trips, ∀ a, (k0_off303 arg24 k0_t2) a + S1x32x1536.size a ≤ S2x1024x1536.size a) ∧
  (∀ k0_t2 : Fin (k0_t2_loop arg24).trips, ∀ (hinb : ∀ a, (k0_off303 arg24 k0_t2) a + S1x32x1536.size a ≤ S2x1024x1536.size a), (Rect.unit (s := S2x1024x1536) (k0_off303 arg24 k0_t2) S1x32x1536.size hinb).PackedRows (EltTy.packing .fp8e4m3)) ∧
  (∀ k0_t2 : Fin (k0_t2_loop arg24).trips, ∀ a, (k0_off304 arg24 k0_t2) a + S1x1024x256.size a ≤ S2x1024x8960.size a) ∧
  (∀ k0_t2 : Fin (k0_t2_loop arg24).trips, ∀ (hinb : ∀ a, (k0_off304 arg24 k0_t2) a + S1x1024x256.size a ≤ S2x1024x8960.size a), (Rect.unit (s := S2x1024x8960) (k0_off304 arg24 k0_t2) S1x1024x256.size hinb).PackedRows (EltTy.packing .fp8e4m3)) ∧
  (∀ k0_t2 : Fin (k0_t2_loop arg24).trips, ∀ a, (k0_off305 arg24 k0_t2) a + S1x32x1536.size a ≤ S2x1024x1536.size a) ∧
  (∀ k0_t2 : Fin (k0_t2_loop arg24).trips, ∀ (hinb : ∀ a, (k0_off305 arg24 k0_t2) a + S1x32x1536.size a ≤ S2x1024x1536.size a), (Rect.unit (s := S2x1024x1536) (k0_off305 arg24 k0_t2) S1x32x1536.size hinb).PackedRows (EltTy.packing .fp8e4m3)) ∧
  (∀ k0_t2 : Fin (k0_t2_loop arg24).trips, ∀ a, (k0_off306 arg24 k0_t2) a + S1x1024x256.size a ≤ S2x1024x8960.size a)
def k0_chk49_7 (arg24 : BitVec 32) : Prop :=
  (∀ k0_t2 : Fin (k0_t2_loop arg24).trips, ∀ (hinb : ∀ a, (k0_off306 arg24 k0_t2) a + S1x1024x256.size a ≤ S2x1024x8960.size a), (Rect.unit (s := S2x1024x8960) (k0_off306 arg24 k0_t2) S1x1024x256.size hinb).PackedRows (EltTy.packing .fp8e4m3)) ∧
  (∀ k0_t2 : Fin (k0_t2_loop arg24).trips, ∀ a, (k0_off307 arg24 k0_t2) a + S1x32x1536.size a ≤ S2x1024x1536.size a) ∧
  (∀ k0_t2 : Fin (k0_t2_loop arg24).trips, ∀ (hinb : ∀ a, (k0_off307 arg24 k0_t2) a + S1x32x1536.size a ≤ S2x1024x1536.size a), (Rect.unit (s := S2x1024x1536) (k0_off307 arg24 k0_t2) S1x32x1536.size hinb).PackedRows (EltTy.packing .fp8e4m3)) ∧
  (∀ k0_t2 : Fin (k0_t2_loop arg24).trips, ∀ a, (k0_off308 arg24 k0_t2) a + S1x1024x256.size a ≤ S2x1024x8960.size a) ∧
  (∀ k0_t2 : Fin (k0_t2_loop arg24).trips, ∀ (hinb : ∀ a, (k0_off308 arg24 k0_t2) a + S1x1024x256.size a ≤ S2x1024x8960.size a), (Rect.unit (s := S2x1024x8960) (k0_off308 arg24 k0_t2) S1x1024x256.size hinb).PackedRows (EltTy.packing .fp8e4m3)) ∧
  (∀ k0_t2 : Fin (k0_t2_loop arg24).trips, ∀ a, (k0_off309 arg24 k0_t2) a + S1x32x1536.size a ≤ S2x1024x1536.size a) ∧
  (∀ k0_t2 : Fin (k0_t2_loop arg24).trips, ∀ (hinb : ∀ a, (k0_off309 arg24 k0_t2) a + S1x32x1536.size a ≤ S2x1024x1536.size a), (Rect.unit (s := S2x1024x1536) (k0_off309 arg24 k0_t2) S1x32x1536.size hinb).PackedRows (EltTy.packing .fp8e4m3)) ∧
  (∀ k0_t2 : Fin (k0_t2_loop arg24).trips, ∀ a, (k0_off310 arg24 k0_t2) a + S1x1024x256.size a ≤ S2x1024x8960.size a) ∧
  (∀ k0_t2 : Fin (k0_t2_loop arg24).trips, ∀ (hinb : ∀ a, (k0_off310 arg24 k0_t2) a + S1x1024x256.size a ≤ S2x1024x8960.size a), (Rect.unit (s := S2x1024x8960) (k0_off310 arg24 k0_t2) S1x1024x256.size hinb).PackedRows (EltTy.packing .fp8e4m3)) ∧
  (∀ k0_t2 : Fin (k0_t2_loop arg24).trips, ∀ a, (k0_off311 arg24 k0_t2) a + S1x32x1536.size a ≤ S2x1024x1536.size a) ∧
  (∀ k0_t2 : Fin (k0_t2_loop arg24).trips, ∀ (hinb : ∀ a, (k0_off311 arg24 k0_t2) a + S1x32x1536.size a ≤ S2x1024x1536.size a), (Rect.unit (s := S2x1024x1536) (k0_off311 arg24 k0_t2) S1x32x1536.size hinb).PackedRows (EltTy.packing .fp8e4m3)) ∧
  (∀ k0_t2 : Fin (k0_t2_loop arg24).trips, ∀ a, (k0_off312 arg24 k0_t2) a + S1x1024x256.size a ≤ S2x1024x8960.size a) ∧
  (∀ k0_t2 : Fin (k0_t2_loop arg24).trips, ∀ (hinb : ∀ a, (k0_off312 arg24 k0_t2) a + S1x1024x256.size a ≤ S2x1024x8960.size a), (Rect.unit (s := S2x1024x8960) (k0_off312 arg24 k0_t2) S1x1024x256.size hinb).PackedRows (EltTy.packing .fp8e4m3)) ∧
  (∀ k0_t2 : Fin (k0_t2_loop arg24).trips, ∀ a, (k0_off313 arg24 k0_t2) a + S1x32x1536.size a ≤ S2x1024x1536.size a) ∧
  (∀ k0_t2 : Fin (k0_t2_loop arg24).trips, ∀ (hinb : ∀ a, (k0_off313 arg24 k0_t2) a + S1x32x1536.size a ≤ S2x1024x1536.size a), (Rect.unit (s := S2x1024x1536) (k0_off313 arg24 k0_t2) S1x32x1536.size hinb).PackedRows (EltTy.packing .fp8e4m3)) ∧
  (∀ k0_t2 : Fin (k0_t2_loop arg24).trips, ∀ a, (k0_off314 arg24 k0_t2) a + S1x1024x256.size a ≤ S2x1024x8960.size a) ∧
  (∀ k0_t2 : Fin (k0_t2_loop arg24).trips, ∀ (hinb : ∀ a, (k0_off314 arg24 k0_t2) a + S1x1024x256.size a ≤ S2x1024x8960.size a), (Rect.unit (s := S2x1024x8960) (k0_off314 arg24 k0_t2) S1x1024x256.size hinb).PackedRows (EltTy.packing .fp8e4m3)) ∧
  (∀ k0_t2 : Fin (k0_t2_loop arg24).trips, ∀ a, (k0_off315 arg24 k0_t2) a + S1x32x1536.size a ≤ S2x1024x1536.size a) ∧
  (∀ k0_t2 : Fin (k0_t2_loop arg24).trips, ∀ (hinb : ∀ a, (k0_off315 arg24 k0_t2) a + S1x32x1536.size a ≤ S2x1024x1536.size a), (Rect.unit (s := S2x1024x1536) (k0_off315 arg24 k0_t2) S1x32x1536.size hinb).PackedRows (EltTy.packing .fp8e4m3)) ∧
  (∀ k0_t2 : Fin (k0_t2_loop arg24).trips, ∀ a, (k0_off316 arg24 k0_t2) a + S1x1024x256.size a ≤ S2x1024x8960.size a) ∧
  (∀ k0_t2 : Fin (k0_t2_loop arg24).trips, ∀ (hinb : ∀ a, (k0_off316 arg24 k0_t2) a + S1x1024x256.size a ≤ S2x1024x8960.size a), (Rect.unit (s := S2x1024x8960) (k0_off316 arg24 k0_t2) S1x1024x256.size hinb).PackedRows (EltTy.packing .fp8e4m3)) ∧
  (∀ k0_t2 : Fin (k0_t2_loop arg24).trips, ∀ a, (k0_off317 arg24 k0_t2) a + S1x32x1536.size a ≤ S2x1024x1536.size a) ∧
  (∀ k0_t2 : Fin (k0_t2_loop arg24).trips, ∀ (hinb : ∀ a, (k0_off317 arg24 k0_t2) a + S1x32x1536.size a ≤ S2x1024x1536.size a), (Rect.unit (s := S2x1024x1536) (k0_off317 arg24 k0_t2) S1x32x1536.size hinb).PackedRows (EltTy.packing .fp8e4m3)) ∧
  (∀ k0_t2 : Fin (k0_t2_loop arg24).trips, ∀ a, (k0_off318 arg24 k0_t2) a + S1x1024x256.size a ≤ S2x1024x8960.size a) ∧
  (∀ k0_t2 : Fin (k0_t2_loop arg24).trips, ∀ (hinb : ∀ a, (k0_off318 arg24 k0_t2) a + S1x1024x256.size a ≤ S2x1024x8960.size a), (Rect.unit (s := S2x1024x8960) (k0_off318 arg24 k0_t2) S1x1024x256.size hinb).PackedRows (EltTy.packing .fp8e4m3)) ∧
  (∀ k0_t2 : Fin (k0_t2_loop arg24).trips, ∀ a, (k0_off319 arg24 k0_t2) a + S1x32x1536.size a ≤ S2x1024x1536.size a) ∧
  (∀ k0_t2 : Fin (k0_t2_loop arg24).trips, ∀ (hinb : ∀ a, (k0_off319 arg24 k0_t2) a + S1x32x1536.size a ≤ S2x1024x1536.size a), (Rect.unit (s := S2x1024x1536) (k0_off319 arg24 k0_t2) S1x32x1536.size hinb).PackedRows (EltTy.packing .fp8e4m3)) ∧
  (∀ k0_t2 : Fin (k0_t2_loop arg24).trips, ∀ a, (k0_off320 arg24 k0_t2) a + S1x1024x256.size a ≤ S2x1024x8960.size a) ∧
  (∀ k0_t2 : Fin (k0_t2_loop arg24).trips, ∀ (hinb : ∀ a, (k0_off320 arg24 k0_t2) a + S1x1024x256.size a ≤ S2x1024x8960.size a), (Rect.unit (s := S2x1024x8960) (k0_off320 arg24 k0_t2) S1x1024x256.size hinb).PackedRows (EltTy.packing .fp8e4m3)) ∧
  (∀ k0_t2 : Fin (k0_t2_loop arg24).trips, ∀ a, (k0_off321 arg24 k0_t2) a + S1x32x1536.size a ≤ S2x1024x1536.size a) ∧
  (∀ k0_t2 : Fin (k0_t2_loop arg24).trips, ∀ (hinb : ∀ a, (k0_off321 arg24 k0_t2) a + S1x32x1536.size a ≤ S2x1024x1536.size a), (Rect.unit (s := S2x1024x1536) (k0_off321 arg24 k0_t2) S1x32x1536.size hinb).PackedRows (EltTy.packing .fp8e4m3)) ∧
  (∀ k0_t2 : Fin (k0_t2_loop arg24).trips, ∀ a, (k0_off322 arg24 k0_t2) a + S1x1024x256.size a ≤ S2x1024x8960.size a)
def k0_chk49_8 (arg24 : BitVec 32) : Prop :=
  (∀ k0_t2 : Fin (k0_t2_loop arg24).trips, ∀ (hinb : ∀ a, (k0_off322 arg24 k0_t2) a + S1x1024x256.size a ≤ S2x1024x8960.size a), (Rect.unit (s := S2x1024x8960) (k0_off322 arg24 k0_t2) S1x1024x256.size hinb).PackedRows (EltTy.packing .fp8e4m3)) ∧
  (∀ k0_t2 : Fin (k0_t2_loop arg24).trips, ∀ a, (k0_off323 arg24 k0_t2) a + S1x32x1536.size a ≤ S2x1024x1536.size a) ∧
  (∀ k0_t2 : Fin (k0_t2_loop arg24).trips, ∀ (hinb : ∀ a, (k0_off323 arg24 k0_t2) a + S1x32x1536.size a ≤ S2x1024x1536.size a), (Rect.unit (s := S2x1024x1536) (k0_off323 arg24 k0_t2) S1x32x1536.size hinb).PackedRows (EltTy.packing .fp8e4m3)) ∧
  (∀ k0_t2 : Fin (k0_t2_loop arg24).trips, ∀ a, (k0_off324 arg24 k0_t2) a + S1x1024x256.size a ≤ S2x1024x8960.size a) ∧
  (∀ k0_t2 : Fin (k0_t2_loop arg24).trips, ∀ (hinb : ∀ a, (k0_off324 arg24 k0_t2) a + S1x1024x256.size a ≤ S2x1024x8960.size a), (Rect.unit (s := S2x1024x8960) (k0_off324 arg24 k0_t2) S1x1024x256.size hinb).PackedRows (EltTy.packing .fp8e4m3)) ∧
  (∀ k0_t2 : Fin (k0_t2_loop arg24).trips, ∀ a, (k0_off325 arg24 k0_t2) a + S1x32x1536.size a ≤ S2x1024x1536.size a) ∧
  (∀ k0_t2 : Fin (k0_t2_loop arg24).trips, ∀ (hinb : ∀ a, (k0_off325 arg24 k0_t2) a + S1x32x1536.size a ≤ S2x1024x1536.size a), (Rect.unit (s := S2x1024x1536) (k0_off325 arg24 k0_t2) S1x32x1536.size hinb).PackedRows (EltTy.packing .fp8e4m3)) ∧
  (∀ k0_t2 : Fin (k0_t2_loop arg24).trips, ∀ a, (k0_off326 arg24 k0_t2) a + S1x1024x256.size a ≤ S2x1024x8960.size a) ∧
  (∀ k0_t2 : Fin (k0_t2_loop arg24).trips, ∀ (hinb : ∀ a, (k0_off326 arg24 k0_t2) a + S1x1024x256.size a ≤ S2x1024x8960.size a), (Rect.unit (s := S2x1024x8960) (k0_off326 arg24 k0_t2) S1x1024x256.size hinb).PackedRows (EltTy.packing .fp8e4m3)) ∧
  (∀ k0_t2 : Fin (k0_t2_loop arg24).trips, ∀ a, (k0_off327 arg24 k0_t2) a + S1x32x1536.size a ≤ S2x1024x1536.size a) ∧
  (∀ k0_t2 : Fin (k0_t2_loop arg24).trips, ∀ (hinb : ∀ a, (k0_off327 arg24 k0_t2) a + S1x32x1536.size a ≤ S2x1024x1536.size a), (Rect.unit (s := S2x1024x1536) (k0_off327 arg24 k0_t2) S1x32x1536.size hinb).PackedRows (EltTy.packing .fp8e4m3)) ∧
  (∀ k0_t2 : Fin (k0_t2_loop arg24).trips, ∀ a, (k0_off328 arg24 k0_t2) a + S1x1024x256.size a ≤ S2x1024x8960.size a) ∧
  (∀ k0_t2 : Fin (k0_t2_loop arg24).trips, ∀ (hinb : ∀ a, (k0_off328 arg24 k0_t2) a + S1x1024x256.size a ≤ S2x1024x8960.size a), (Rect.unit (s := S2x1024x8960) (k0_off328 arg24 k0_t2) S1x1024x256.size hinb).PackedRows (EltTy.packing .fp8e4m3)) ∧
  (∀ k0_t2 : Fin (k0_t2_loop arg24).trips, ∀ a, (k0_off329 arg24 k0_t2) a + S1x32x1536.size a ≤ S2x1024x1536.size a) ∧
  (∀ k0_t2 : Fin (k0_t2_loop arg24).trips, ∀ (hinb : ∀ a, (k0_off329 arg24 k0_t2) a + S1x32x1536.size a ≤ S2x1024x1536.size a), (Rect.unit (s := S2x1024x1536) (k0_off329 arg24 k0_t2) S1x32x1536.size hinb).PackedRows (EltTy.packing .fp8e4m3)) ∧
  (∀ k0_t2 : Fin (k0_t2_loop arg24).trips, ∀ a, (k0_off330 arg24 k0_t2) a + S1x1024x256.size a ≤ S2x1024x8960.size a) ∧
  (∀ k0_t2 : Fin (k0_t2_loop arg24).trips, ∀ (hinb : ∀ a, (k0_off330 arg24 k0_t2) a + S1x1024x256.size a ≤ S2x1024x8960.size a), (Rect.unit (s := S2x1024x8960) (k0_off330 arg24 k0_t2) S1x1024x256.size hinb).PackedRows (EltTy.packing .fp8e4m3)) ∧
  (∀ k0_t2 : Fin (k0_t2_loop arg24).trips, ∀ a, (k0_off331 arg24 k0_t2) a + S1x32x1536.size a ≤ S2x1024x1536.size a) ∧
  (∀ k0_t2 : Fin (k0_t2_loop arg24).trips, ∀ (hinb : ∀ a, (k0_off331 arg24 k0_t2) a + S1x32x1536.size a ≤ S2x1024x1536.size a), (Rect.unit (s := S2x1024x1536) (k0_off331 arg24 k0_t2) S1x32x1536.size hinb).PackedRows (EltTy.packing .fp8e4m3)) ∧
  (∀ k0_t2 : Fin (k0_t2_loop arg24).trips, ∀ a, (k0_off332 arg24 k0_t2) a + S1x1024x256.size a ≤ S2x1024x8960.size a) ∧
  (∀ k0_t2 : Fin (k0_t2_loop arg24).trips, ∀ (hinb : ∀ a, (k0_off332 arg24 k0_t2) a + S1x1024x256.size a ≤ S2x1024x8960.size a), (Rect.unit (s := S2x1024x8960) (k0_off332 arg24 k0_t2) S1x1024x256.size hinb).PackedRows (EltTy.packing .fp8e4m3)) ∧
  (∀ k0_t2 : Fin (k0_t2_loop arg24).trips, ∀ a, (k0_off333 arg24 k0_t2) a + S1x32x1536.size a ≤ S2x1024x1536.size a) ∧
  (∀ k0_t2 : Fin (k0_t2_loop arg24).trips, ∀ (hinb : ∀ a, (k0_off333 arg24 k0_t2) a + S1x32x1536.size a ≤ S2x1024x1536.size a), (Rect.unit (s := S2x1024x1536) (k0_off333 arg24 k0_t2) S1x32x1536.size hinb).PackedRows (EltTy.packing .fp8e4m3)) ∧
  (∀ k0_t2 : Fin (k0_t2_loop arg24).trips, ∀ a, (k0_off334 arg24 k0_t2) a + S1x1024x256.size a ≤ S2x1024x8960.size a) ∧
  (∀ k0_t2 : Fin (k0_t2_loop arg24).trips, ∀ (hinb : ∀ a, (k0_off334 arg24 k0_t2) a + S1x1024x256.size a ≤ S2x1024x8960.size a), (Rect.unit (s := S2x1024x8960) (k0_off334 arg24 k0_t2) S1x1024x256.size hinb).PackedRows (EltTy.packing .fp8e4m3)) ∧
  (∀ k0_t2 : Fin (k0_t2_loop arg24).trips, ∀ a, (k0_off335 arg24 k0_t2) a + S1x32x1536.size a ≤ S2x1024x1536.size a) ∧
  (∀ k0_t2 : Fin (k0_t2_loop arg24).trips, ∀ (hinb : ∀ a, (k0_off335 arg24 k0_t2) a + S1x32x1536.size a ≤ S2x1024x1536.size a), (Rect.unit (s := S2x1024x1536) (k0_off335 arg24 k0_t2) S1x32x1536.size hinb).PackedRows (EltTy.packing .fp8e4m3)) ∧
  (∀ k0_t2 : Fin (k0_t2_loop arg24).trips, ∀ a, (k0_off336 arg24 k0_t2) a + S1x1024x256.size a ≤ S2x1024x8960.size a) ∧
  (∀ k0_t2 : Fin (k0_t2_loop arg24).trips, ∀ (hinb : ∀ a, (k0_off336 arg24 k0_t2) a + S1x1024x256.size a ≤ S2x1024x8960.size a), (Rect.unit (s := S2x1024x8960) (k0_off336 arg24 k0_t2) S1x1024x256.size hinb).PackedRows (EltTy.packing .fp8e4m3)) ∧
  (∀ k0_t2 : Fin (k0_t2_loop arg24).trips, ∀ a, (k0_off337 arg24 k0_t2) a + S1x32x1536.size a ≤ S2x1024x1536.size a) ∧
  (∀ k0_t2 : Fin (k0_t2_loop arg24).trips, ∀ (hinb : ∀ a, (k0_off337 arg24 k0_t2) a + S1x32x1536.size a ≤ S2x1024x1536.size a), (Rect.unit (s := S2x1024x1536) (k0_off337 arg24 k0_t2) S1x32x1536.size hinb).PackedRows (EltTy.packing .fp8e4m3)) ∧
  (∀ k0_t2 : Fin (k0_t2_loop arg24).trips, ∀ a, (k0_off338 arg24 k0_t2) a + S1x1024x256.size a ≤ S2x1024x8960.size a)
def k0_chk49_9 (arg24 : BitVec 32) : Prop :=
  (∀ k0_t2 : Fin (k0_t2_loop arg24).trips, ∀ (hinb : ∀ a, (k0_off338 arg24 k0_t2) a + S1x1024x256.size a ≤ S2x1024x8960.size a), (Rect.unit (s := S2x1024x8960) (k0_off338 arg24 k0_t2) S1x1024x256.size hinb).PackedRows (EltTy.packing .fp8e4m3)) ∧
  (∀ k0_t2 : Fin (k0_t2_loop arg24).trips, ∀ a, (k0_off339 arg24 k0_t2) a + S1x32x1536.size a ≤ S2x1024x1536.size a) ∧
  (∀ k0_t2 : Fin (k0_t2_loop arg24).trips, ∀ (hinb : ∀ a, (k0_off339 arg24 k0_t2) a + S1x32x1536.size a ≤ S2x1024x1536.size a), (Rect.unit (s := S2x1024x1536) (k0_off339 arg24 k0_t2) S1x32x1536.size hinb).PackedRows (EltTy.packing .fp8e4m3)) ∧
  (∀ k0_t2 : Fin (k0_t2_loop arg24).trips, ∀ a, (k0_off340 arg24 k0_t2) a + S1x1024x256.size a ≤ S2x1024x8960.size a) ∧
  (∀ k0_t2 : Fin (k0_t2_loop arg24).trips, ∀ (hinb : ∀ a, (k0_off340 arg24 k0_t2) a + S1x1024x256.size a ≤ S2x1024x8960.size a), (Rect.unit (s := S2x1024x8960) (k0_off340 arg24 k0_t2) S1x1024x256.size hinb).PackedRows (EltTy.packing .fp8e4m3)) ∧
  (∀ k0_t2 : Fin (k0_t2_loop arg24).trips, ∀ a, (k0_off341 arg24 k0_t2) a + S1x32x1536.size a ≤ S2x1024x1536.size a) ∧
  (∀ k0_t2 : Fin (k0_t2_loop arg24).trips, ∀ (hinb : ∀ a, (k0_off341 arg24 k0_t2) a + S1x32x1536.size a ≤ S2x1024x1536.size a), (Rect.unit (s := S2x1024x1536) (k0_off341 arg24 k0_t2) S1x32x1536.size hinb).PackedRows (EltTy.packing .fp8e4m3)) ∧
  (∀ k0_t2 : Fin (k0_t2_loop arg24).trips, ∀ a, (k0_off342 arg24 k0_t2) a + S1x1024x256.size a ≤ S2x1024x8960.size a) ∧
  (∀ k0_t2 : Fin (k0_t2_loop arg24).trips, ∀ (hinb : ∀ a, (k0_off342 arg24 k0_t2) a + S1x1024x256.size a ≤ S2x1024x8960.size a), (Rect.unit (s := S2x1024x8960) (k0_off342 arg24 k0_t2) S1x1024x256.size hinb).PackedRows (EltTy.packing .fp8e4m3)) ∧
  (∀ k0_t2 : Fin (k0_t2_loop arg24).trips, ∀ a, (k0_off343 arg24 k0_t2) a + S1x32x1536.size a ≤ S2x1024x1536.size a) ∧
  (∀ k0_t2 : Fin (k0_t2_loop arg24).trips, ∀ (hinb : ∀ a, (k0_off343 arg24 k0_t2) a + S1x32x1536.size a ≤ S2x1024x1536.size a), (Rect.unit (s := S2x1024x1536) (k0_off343 arg24 k0_t2) S1x32x1536.size hinb).PackedRows (EltTy.packing .fp8e4m3)) ∧
  (∀ k0_t2 : Fin (k0_t2_loop arg24).trips, ∀ a, (k0_off344 arg24 k0_t2) a + S1x1024x256.size a ≤ S2x1024x8960.size a) ∧
  (∀ k0_t2 : Fin (k0_t2_loop arg24).trips, ∀ (hinb : ∀ a, (k0_off344 arg24 k0_t2) a + S1x1024x256.size a ≤ S2x1024x8960.size a), (Rect.unit (s := S2x1024x8960) (k0_off344 arg24 k0_t2) S1x1024x256.size hinb).PackedRows (EltTy.packing .fp8e4m3)) ∧
  (∀ k0_t2 : Fin (k0_t2_loop arg24).trips, ∀ a, (k0_off345 arg24 k0_t2) a + S1x32x1536.size a ≤ S2x1024x1536.size a) ∧
  (∀ k0_t2 : Fin (k0_t2_loop arg24).trips, ∀ (hinb : ∀ a, (k0_off345 arg24 k0_t2) a + S1x32x1536.size a ≤ S2x1024x1536.size a), (Rect.unit (s := S2x1024x1536) (k0_off345 arg24 k0_t2) S1x32x1536.size hinb).PackedRows (EltTy.packing .fp8e4m3)) ∧
  (∀ k0_t2 : Fin (k0_t2_loop arg24).trips, ∀ a, (k0_off346 arg24 k0_t2) a + S1x1024x256.size a ≤ S2x1024x8960.size a) ∧
  (∀ k0_t2 : Fin (k0_t2_loop arg24).trips, ∀ (hinb : ∀ a, (k0_off346 arg24 k0_t2) a + S1x1024x256.size a ≤ S2x1024x8960.size a), (Rect.unit (s := S2x1024x8960) (k0_off346 arg24 k0_t2) S1x1024x256.size hinb).PackedRows (EltTy.packing .fp8e4m3)) ∧
  (∀ k0_t2 : Fin (k0_t2_loop arg24).trips, ∀ a, (k0_off347 arg24 k0_t2) a + S1x32x1536.size a ≤ S2x1024x1536.size a) ∧
  (∀ k0_t2 : Fin (k0_t2_loop arg24).trips, ∀ (hinb : ∀ a, (k0_off347 arg24 k0_t2) a + S1x32x1536.size a ≤ S2x1024x1536.size a), (Rect.unit (s := S2x1024x1536) (k0_off347 arg24 k0_t2) S1x32x1536.size hinb).PackedRows (EltTy.packing .fp8e4m3)) ∧
  (∀ k0_t2 : Fin (k0_t2_loop arg24).trips, ∀ a, (k0_off348 arg24 k0_t2) a + S1x1024x256.size a ≤ S2x1024x8960.size a) ∧
  (∀ k0_t2 : Fin (k0_t2_loop arg24).trips, ∀ (hinb : ∀ a, (k0_off348 arg24 k0_t2) a + S1x1024x256.size a ≤ S2x1024x8960.size a), (Rect.unit (s := S2x1024x8960) (k0_off348 arg24 k0_t2) S1x1024x256.size hinb).PackedRows (EltTy.packing .fp8e4m3)) ∧
  (∀ k0_t2 : Fin (k0_t2_loop arg24).trips, ∀ a, (k0_off349 arg24 k0_t2) a + S1x32x1536.size a ≤ S2x1024x1536.size a) ∧
  (∀ k0_t2 : Fin (k0_t2_loop arg24).trips, ∀ (hinb : ∀ a, (k0_off349 arg24 k0_t2) a + S1x32x1536.size a ≤ S2x1024x1536.size a), (Rect.unit (s := S2x1024x1536) (k0_off349 arg24 k0_t2) S1x32x1536.size hinb).PackedRows (EltTy.packing .fp8e4m3)) ∧
  (∀ k0_t2 : Fin (k0_t2_loop arg24).trips, ∀ a, (k0_off350 arg24 k0_t2) a + S1x1024x256.size a ≤ S2x1024x8960.size a) ∧
  (∀ k0_t2 : Fin (k0_t2_loop arg24).trips, ∀ (hinb : ∀ a, (k0_off350 arg24 k0_t2) a + S1x1024x256.size a ≤ S2x1024x8960.size a), (Rect.unit (s := S2x1024x8960) (k0_off350 arg24 k0_t2) S1x1024x256.size hinb).PackedRows (EltTy.packing .fp8e4m3)) ∧
  (∀ k0_t2 : Fin (k0_t2_loop arg24).trips, ∀ a, (k0_off351 arg24 k0_t2) a + S1x32x1536.size a ≤ S2x1024x1536.size a) ∧
  (∀ k0_t2 : Fin (k0_t2_loop arg24).trips, ∀ (hinb : ∀ a, (k0_off351 arg24 k0_t2) a + S1x32x1536.size a ≤ S2x1024x1536.size a), (Rect.unit (s := S2x1024x1536) (k0_off351 arg24 k0_t2) S1x32x1536.size hinb).PackedRows (EltTy.packing .fp8e4m3)) ∧
  (∀ k0_t2 : Fin (k0_t2_loop arg24).trips, ∀ a, (k0_off352 arg24 k0_t2) a + S1x1024x256.size a ≤ S2x1024x8960.size a) ∧
  (∀ k0_t2 : Fin (k0_t2_loop arg24).trips, ∀ (hinb : ∀ a, (k0_off352 arg24 k0_t2) a + S1x1024x256.size a ≤ S2x1024x8960.size a), (Rect.unit (s := S2x1024x8960) (k0_off352 arg24 k0_t2) S1x1024x256.size hinb).PackedRows (EltTy.packing .fp8e4m3)) ∧
  (∀ k0_t2 : Fin (k0_t2_loop arg24).trips, ∀ a, (k0_off353 arg24 k0_t2) a + S1x32x1536.size a ≤ S2x1024x1536.size a) ∧
  (∀ k0_t2 : Fin (k0_t2_loop arg24).trips, ∀ (hinb : ∀ a, (k0_off353 arg24 k0_t2) a + S1x32x1536.size a ≤ S2x1024x1536.size a), (Rect.unit (s := S2x1024x1536) (k0_off353 arg24 k0_t2) S1x32x1536.size hinb).PackedRows (EltTy.packing .fp8e4m3)) ∧
  (∀ k0_t2 : Fin (k0_t2_loop arg24).trips, ∀ a, (k0_off354 arg24 k0_t2) a + S1x1024x256.size a ≤ S2x1024x8960.size a)
def k0_chk49_10 (arg24 : BitVec 32) : Prop :=
  (∀ k0_t2 : Fin (k0_t2_loop arg24).trips, ∀ (hinb : ∀ a, (k0_off354 arg24 k0_t2) a + S1x1024x256.size a ≤ S2x1024x8960.size a), (Rect.unit (s := S2x1024x8960) (k0_off354 arg24 k0_t2) S1x1024x256.size hinb).PackedRows (EltTy.packing .fp8e4m3)) ∧
  (∀ k0_t2 : Fin (k0_t2_loop arg24).trips, ∀ a, (k0_off355 arg24 k0_t2) a + S1x32x1536.size a ≤ S2x1024x1536.size a) ∧
  (∀ k0_t2 : Fin (k0_t2_loop arg24).trips, ∀ (hinb : ∀ a, (k0_off355 arg24 k0_t2) a + S1x32x1536.size a ≤ S2x1024x1536.size a), (Rect.unit (s := S2x1024x1536) (k0_off355 arg24 k0_t2) S1x32x1536.size hinb).PackedRows (EltTy.packing .fp8e4m3)) ∧
  (∀ k0_t2 : Fin (k0_t2_loop arg24).trips, ∀ a, (k0_off356 arg24 k0_t2) a + S1x1024x256.size a ≤ S2x1024x8960.size a) ∧
  (∀ k0_t2 : Fin (k0_t2_loop arg24).trips, ∀ (hinb : ∀ a, (k0_off356 arg24 k0_t2) a + S1x1024x256.size a ≤ S2x1024x8960.size a), (Rect.unit (s := S2x1024x8960) (k0_off356 arg24 k0_t2) S1x1024x256.size hinb).PackedRows (EltTy.packing .fp8e4m3)) ∧
  (∀ k0_t2 : Fin (k0_t2_loop arg24).trips, ∀ a, (k0_off357 arg24 k0_t2) a + S1x1024x256.size a ≤ S2x1024x8960.size a) ∧
  (∀ k0_t2 : Fin (k0_t2_loop arg24).trips, ∀ (hinb : ∀ a, (k0_off357 arg24 k0_t2) a + S1x1024x256.size a ≤ S2x1024x8960.size a), (Rect.unit (s := S2x1024x8960) (k0_off357 arg24 k0_t2) S1x1024x256.size hinb).PackedRows (EltTy.packing .fp8e4m3)) ∧
  (∀ k0_t2 : Fin (k0_t2_loop arg24).trips, ∀ a, (k0_off358 arg24 k0_t2) a + S1x1024x256.size a ≤ S2x1024x8960.size a) ∧
  (∀ k0_t2 : Fin (k0_t2_loop arg24).trips, ∀ (hinb : ∀ a, (k0_off358 arg24 k0_t2) a + S1x1024x256.size a ≤ S2x1024x8960.size a), (Rect.unit (s := S2x1024x8960) (k0_off358 arg24 k0_t2) S1x1024x256.size hinb).PackedRows (EltTy.packing .fp8e4m3)) ∧
  ((k0_t3_loop arg24).OK) ∧
  (∀ k0_t3 : Fin (k0_t3_loop arg24).trips, ∀ (k0_h7 : k0_cond7 arg24 k0_t3 = 1#1), ∀ a, (k0_off359 arg24 k0_t3) a + S1.size a ≤ S40.size a) ∧
  (∀ k0_t3 : Fin (k0_t3_loop arg24).trips, ∀ (k0_h7 : k0_cond7 arg24 k0_t3 = 1#1), ∀ a, (k0_off361 arg24 k0_t3) a + S1.size a ≤ S2.size a) ∧
  (∀ k0_t3 : Fin (k0_t3_loop arg24).trips, ∀ (k0_h7 : k0_cond7 arg24 k0_t3 = 1#1), ∀ a, (k0_off362 arg24 k0_t3) a + S1x128x1536.size a ≤ S2x1024x1536.size a) ∧
  (∀ k0_t3 : Fin (k0_t3_loop arg24).trips, ∀ (k0_h7 : k0_cond7 arg24 k0_t3 = 1#1), ∀ (hinb : ∀ a, (k0_off362 arg24 k0_t3) a + S1x128x1536.size a ≤ S2x1024x1536.size a), (Rect.unit (s := S2x1024x1536) (k0_off362 arg24 k0_t3) S1x128x1536.size hinb).WholeWords (EltTy.packing .bf16)) ∧
  (∀ k0_t3 : Fin (k0_t3_loop arg24).trips, ∀ (k0_h7 : k0_cond7 arg24 k0_t3 = 1#1), ∀ a, (k0_off364 arg24 k0_t3) a + S1.size a ≤ S40.size a) ∧
  (∀ k0_t3 : Fin (k0_t3_loop arg24).trips, ∀ (k0_h7 : k0_cond7 arg24 k0_t3 = 1#1), ∀ a, (k0_off366 arg24 k0_t3) a + S1.size a ≤ S2.size a) ∧
  (∀ k0_t3 : Fin (k0_t3_loop arg24).trips, ∀ (k0_h7 : k0_cond7 arg24 k0_t3 = 1#1), ∀ a, (k0_off367 arg24 k0_t3) a + S1x128x1536.size a ≤ S2x1024x1536.size a) ∧
  (∀ k0_t3 : Fin (k0_t3_loop arg24).trips, ∀ (k0_h7 : k0_cond7 arg24 k0_t3 = 1#1), ∀ (hinb : ∀ a, (k0_off367 arg24 k0_t3) a + S1x128x1536.size a ≤ S2x1024x1536.size a), (Rect.unit (s := S2x1024x1536) (k0_off367 arg24 k0_t3) S1x128x1536.size hinb).WholeWords (EltTy.packing .bf16)) ∧
  (∀ k0_t3 : Fin (k0_t3_loop arg24).trips, ∀ (k0_h7 : k0_cond7 arg24 k0_t3 = 1#1), ∀ a, (k0_off369 arg24 k0_t3) a + S1.size a ≤ S40.size a) ∧
  (∀ k0_t3 : Fin (k0_t3_loop arg24).trips, ∀ (k0_h7 : k0_cond7 arg24 k0_t3 = 1#1), ∀ a, (k0_off371 arg24 k0_t3) a + S1.size a ≤ S2.size a) ∧
  (∀ k0_t3 : Fin (k0_t3_loop arg24).trips, ∀ (k0_h7 : k0_cond7 arg24 k0_t3 = 1#1), ∀ a, (k0_off372 arg24 k0_t3) a + S1x128x1536.size a ≤ S2x1024x1536.size a) ∧
  (∀ k0_t3 : Fin (k0_t3_loop arg24).trips, ∀ (k0_h7 : k0_cond7 arg24 k0_t3 = 1#1), ∀ (hinb : ∀ a, (k0_off372 arg24 k0_t3) a + S1x128x1536.size a ≤ S2x1024x1536.size a), (Rect.unit (s := S2x1024x1536) (k0_off372 arg24 k0_t3) S1x128x1536.size hinb).WholeWords (EltTy.packing .bf16)) ∧
  (∀ k0_t3 : Fin (k0_t3_loop arg24).trips, ∀ (k0_h7 : k0_cond7 arg24 k0_t3 = 1#1), ∀ a, (k0_off374 arg24 k0_t3) a + S1.size a ≤ S40.size a) ∧
  (∀ k0_t3 : Fin (k0_t3_loop arg24).trips, ∀ (k0_h7 : k0_cond7 arg24 k0_t3 = 1#1), ∀ a, (k0_off376 arg24 k0_t3) a + S1.size a ≤ S2.size a) ∧
  (∀ k0_t3 : Fin (k0_t3_loop arg24).trips, ∀ (k0_h7 : k0_cond7 arg24 k0_t3 = 1#1), ∀ a, (k0_off377 arg24 k0_t3) a + S1x128x1536.size a ≤ S2x1024x1536.size a) ∧
  (∀ k0_t3 : Fin (k0_t3_loop arg24).trips, ∀ (k0_h7 : k0_cond7 arg24 k0_t3 = 1#1), ∀ (hinb : ∀ a, (k0_off377 arg24 k0_t3) a + S1x128x1536.size a ≤ S2x1024x1536.size a), (Rect.unit (s := S2x1024x1536) (k0_off377 arg24 k0_t3) S1x128x1536.size hinb).WholeWords (EltTy.packing .bf16)) ∧
  (∀ k0_t3 : Fin (k0_t3_loop arg24).trips, ∀ (k0_h7 : k0_cond7 arg24 k0_t3 = 1#1), ∀ a, (k0_off379 arg24 k0_t3) a + S1.size a ≤ S40.size a) ∧
  (∀ k0_t3 : Fin (k0_t3_loop arg24).trips, ∀ (k0_h7 : k0_cond7 arg24 k0_t3 = 1#1), ∀ a, (k0_off381 arg24 k0_t3) a + S1.size a ≤ S2.size a) ∧
  (∀ k0_t3 : Fin (k0_t3_loop arg24).trips, ∀ (k0_h7 : k0_cond7 arg24 k0_t3 = 1#1), ∀ a, (k0_off382 arg24 k0_t3) a + S1x128x1536.size a ≤ S2x1024x1536.size a) ∧
  (∀ k0_t3 : Fin (k0_t3_loop arg24).trips, ∀ (k0_h7 : k0_cond7 arg24 k0_t3 = 1#1), ∀ (hinb : ∀ a, (k0_off382 arg24 k0_t3) a + S1x128x1536.size a ≤ S2x1024x1536.size a), (Rect.unit (s := S2x1024x1536) (k0_off382 arg24 k0_t3) S1x128x1536.size hinb).WholeWords (EltTy.packing .bf16)) ∧
  (∀ k0_t3 : Fin (k0_t3_loop arg24).trips, ∀ (k0_h7 : k0_cond7 arg24 k0_t3 = 1#1), ∀ a, (k0_off384 arg24 k0_t3) a + S1.size a ≤ S40.size a) ∧
  (∀ k0_t3 : Fin (k0_t3_loop arg24).trips, ∀ (k0_h7 : k0_cond7 arg24 k0_t3 = 1#1), ∀ a, (k0_off386 arg24 k0_t3) a + S1.size a ≤ S2.size a)
def k0_chk49_11 (arg24 : BitVec 32) : Prop :=
  (∀ k0_t3 : Fin (k0_t3_loop arg24).trips, ∀ (k0_h7 : k0_cond7 arg24 k0_t3 = 1#1), ∀ a, (k0_off387 arg24 k0_t3) a + S1x128x1536.size a ≤ S2x1024x1536.size a) ∧
  (∀ k0_t3 : Fin (k0_t3_loop arg24).trips, ∀ (k0_h7 : k0_cond7 arg24 k0_t3 = 1#1), ∀ (hinb : ∀ a, (k0_off387 arg24 k0_t3) a + S1x128x1536.size a ≤ S2x1024x1536.size a), (Rect.unit (s := S2x1024x1536) (k0_off387 arg24 k0_t3) S1x128x1536.size hinb).WholeWords (EltTy.packing .bf16)) ∧
  (∀ k0_t3 : Fin (k0_t3_loop arg24).trips, ∀ (k0_h7 : k0_cond7 arg24 k0_t3 = 1#1), ∀ a, (k0_off389 arg24 k0_t3) a + S1.size a ≤ S40.size a) ∧
  (∀ k0_t3 : Fin (k0_t3_loop arg24).trips, ∀ (k0_h7 : k0_cond7 arg24 k0_t3 = 1#1), ∀ a, (k0_off391 arg24 k0_t3) a + S1.size a ≤ S2.size a) ∧
  (∀ k0_t3 : Fin (k0_t3_loop arg24).trips, ∀ (k0_h7 : k0_cond7 arg24 k0_t3 = 1#1), ∀ a, (k0_off392 arg24 k0_t3) a + S1x128x1536.size a ≤ S2x1024x1536.size a) ∧
  (∀ k0_t3 : Fin (k0_t3_loop arg24).trips, ∀ (k0_h7 : k0_cond7 arg24 k0_t3 = 1#1), ∀ (hinb : ∀ a, (k0_off392 arg24 k0_t3) a + S1x128x1536.size a ≤ S2x1024x1536.size a), (Rect.unit (s := S2x1024x1536) (k0_off392 arg24 k0_t3) S1x128x1536.size hinb).WholeWords (EltTy.packing .bf16)) ∧
  (∀ k0_t3 : Fin (k0_t3_loop arg24).trips, ∀ (k0_h7 : k0_cond7 arg24 k0_t3 = 1#1), ∀ a, (k0_off394 arg24 k0_t3) a + S1.size a ≤ S40.size a) ∧
  (∀ k0_t3 : Fin (k0_t3_loop arg24).trips, ∀ (k0_h7 : k0_cond7 arg24 k0_t3 = 1#1), ∀ a, (k0_off396 arg24 k0_t3) a + S1.size a ≤ S2.size a) ∧
  (∀ k0_t3 : Fin (k0_t3_loop arg24).trips, ∀ (k0_h7 : k0_cond7 arg24 k0_t3 = 1#1), ∀ a, (k0_off397 arg24 k0_t3) a + S1x128x1536.size a ≤ S2x1024x1536.size a) ∧
  (∀ k0_t3 : Fin (k0_t3_loop arg24).trips, ∀ (k0_h7 : k0_cond7 arg24 k0_t3 = 1#1), ∀ (hinb : ∀ a, (k0_off397 arg24 k0_t3) a + S1x128x1536.size a ≤ S2x1024x1536.size a), (Rect.unit (s := S2x1024x1536) (k0_off397 arg24 k0_t3) S1x128x1536.size hinb).WholeWords (EltTy.packing .bf16)) ∧
  (∀ k0_t3 : Fin (k0_t3_loop arg24).trips, ∀ (k0_h8 : k0_cond8 arg24 k0_t3 = 1#1), ∀ a, (k0_off399 arg24 k0_t3) a + S1.size a ≤ S40.size a) ∧
  (∀ k0_t3 : Fin (k0_t3_loop arg24).trips, ∀ (k0_h8 : k0_cond8 arg24 k0_t3 = 1#1), ∀ a, (k0_off401 arg24 k0_t3) a + S1.size a ≤ S2.size a) ∧
  (∀ k0_t3 : Fin (k0_t3_loop arg24).trips, ∀ (k0_h8 : k0_cond8 arg24 k0_t3 = 1#1), ∀ a, (k0_off403 arg24 k0_t3) a + S1x128x1536.size a ≤ S2x1024x1536.size a) ∧
  (∀ k0_t3 : Fin (k0_t3_loop arg24).trips, ∀ (k0_h8 : k0_cond8 arg24 k0_t3 = 1#1), ∀ (hinb : ∀ a, (k0_off403 arg24 k0_t3) a + S1x128x1536.size a ≤ S2x1024x1536.size a), (Rect.unit (s := S2x1024x1536) (k0_off403 arg24 k0_t3) S1x128x1536.size hinb).WholeWords (EltTy.packing .fp8e4m3)) ∧
  (∀ k0_t3 : Fin (k0_t3_loop arg24).trips, ∀ (k0_h8 : k0_cond8 arg24 k0_t3 = 1#1), ∀ a, (k0_off404 arg24 k0_t3) a + S1.size a ≤ S40.size a) ∧
  (∀ k0_t3 : Fin (k0_t3_loop arg24).trips, ∀ (k0_h8 : k0_cond8 arg24 k0_t3 = 1#1), ∀ a, (k0_off406 arg24 k0_t3) a + S1.size a ≤ S2.size a) ∧
  (∀ k0_t3 : Fin (k0_t3_loop arg24).trips, ∀ (k0_h8 : k0_cond8 arg24 k0_t3 = 1#1), ∀ a, (k0_off408 arg24 k0_t3) a + S1x128x1536.size a ≤ S2x1024x1536.size a) ∧
  (∀ k0_t3 : Fin (k0_t3_loop arg24).trips, ∀ (k0_h8 : k0_cond8 arg24 k0_t3 = 1#1), ∀ (hinb : ∀ a, (k0_off408 arg24 k0_t3) a + S1x128x1536.size a ≤ S2x1024x1536.size a), (Rect.unit (s := S2x1024x1536) (k0_off408 arg24 k0_t3) S1x128x1536.size hinb).WholeWords (EltTy.packing .fp8e4m3)) ∧
  (∀ k0_t3 : Fin (k0_t3_loop arg24).trips, ∀ (k0_h8 : k0_cond8 arg24 k0_t3 = 1#1), ∀ a, (k0_off409 arg24 k0_t3) a + S1.size a ≤ S40.size a) ∧
  (∀ k0_t3 : Fin (k0_t3_loop arg24).trips, ∀ (k0_h8 : k0_cond8 arg24 k0_t3 = 1#1), ∀ a, (k0_off411 arg24 k0_t3) a + S1.size a ≤ S2.size a) ∧
  (∀ k0_t3 : Fin (k0_t3_loop arg24).trips, ∀ (k0_h8 : k0_cond8 arg24 k0_t3 = 1#1), ∀ a, (k0_off413 arg24 k0_t3) a + S1x128x1536.size a ≤ S2x1024x1536.size a) ∧
  (∀ k0_t3 : Fin (k0_t3_loop arg24).trips, ∀ (k0_h8 : k0_cond8 arg24 k0_t3 = 1#1), ∀ (hinb : ∀ a, (k0_off413 arg24 k0_t3) a + S1x128x1536.size a ≤ S2x1024x1536.size a), (Rect.unit (s := S2x1024x1536) (k0_off413 arg24 k0_t3) S1x128x1536.size hinb).WholeWords (EltTy.packing .fp8e4m3)) ∧
  (∀ k0_t3 : Fin (k0_t3_loop arg24).trips, ∀ (k0_h8 : k0_cond8 arg24 k0_t3 = 1#1), ∀ a, (k0_off414 arg24 k0_t3) a + S1.size a ≤ S40.size a) ∧
  (∀ k0_t3 : Fin (k0_t3_loop arg24).trips, ∀ (k0_h8 : k0_cond8 arg24 k0_t3 = 1#1), ∀ a, (k0_off416 arg24 k0_t3) a + S1.size a ≤ S2.size a) ∧
  (∀ k0_t3 : Fin (k0_t3_loop arg24).trips, ∀ (k0_h8 : k0_cond8 arg24 k0_t3 = 1#1), ∀ a, (k0_off418 arg24 k0_t3) a + S1x128x1536.size a ≤ S2x1024x1536.size a) ∧
  (∀ k0_t3 : Fin (k0_t3_loop arg24).trips, ∀ (k0_h8 : k0_cond8 arg24 k0_t3 = 1#1), ∀ (hinb : ∀ a, (k0_off418 arg24 k0_t3) a + S1x128x1536.size a ≤ S2x1024x1536.size a), (Rect.unit (s := S2x1024x1536) (k0_off418 arg24 k0_t3) S1x128x1536.size hinb).WholeWords (EltTy.packing .fp8e4m3)) ∧
  (∀ k0_t3 : Fin (k0_t3_loop arg24).trips, ∀ (k0_h8 : k0_cond8 arg24 k0_t3 = 1#1), ∀ a, (k0_off419 arg24 k0_t3) a + S1.size a ≤ S40.size a) ∧
  (∀ k0_t3 : Fin (k0_t3_loop arg24).trips, ∀ (k0_h8 : k0_cond8 arg24 k0_t3 = 1#1), ∀ a, (k0_off421 arg24 k0_t3) a + S1.size a ≤ S2.size a) ∧
  (∀ k0_t3 : Fin (k0_t3_loop arg24).trips, ∀ (k0_h8 : k0_cond8 arg24 k0_t3 = 1#1), ∀ a, (k0_off423 arg24 k0_t3) a + S1x128x1536.size a ≤ S2x1024x1536.size a) ∧
  (∀ k0_t3 : Fin (k0_t3_loop arg24).trips, ∀ (k0_h8 : k0_cond8 arg24 k0_t3 = 1#1), ∀ (hinb : ∀ a, (k0_off423 arg24 k0_t3) a + S1x128x1536.size a ≤ S2x1024x1536.size a), (Rect.unit (s := S2x1024x1536) (k0_off423 arg24 k0_t3) S1x128x1536.size hinb).WholeWords (EltTy.packing .fp8e4m3)) ∧
  (∀ k0_t3 : Fin (k0_t3_loop arg24).trips, ∀ (k0_h8 : k0_cond8 arg24 k0_t3 = 1#1), ∀ a, (k0_off424 arg24 k0_t3) a + S1.size a ≤ S40.size a) ∧
  (∀ k0_t3 : Fin (k0_t3_loop arg24).trips, ∀ (k0_h8 : k0_cond8 arg24 k0_t3 = 1#1), ∀ a, (k0_off426 arg24 k0_t3) a + S1.size a ≤ S2.size a)
def k0_chk49_12 (arg24 : BitVec 32) : Prop :=
  (∀ k0_t3 : Fin (k0_t3_loop arg24).trips, ∀ (k0_h8 : k0_cond8 arg24 k0_t3 = 1#1), ∀ a, (k0_off428 arg24 k0_t3) a + S1x128x1536.size a ≤ S2x1024x1536.size a) ∧
  (∀ k0_t3 : Fin (k0_t3_loop arg24).trips, ∀ (k0_h8 : k0_cond8 arg24 k0_t3 = 1#1), ∀ (hinb : ∀ a, (k0_off428 arg24 k0_t3) a + S1x128x1536.size a ≤ S2x1024x1536.size a), (Rect.unit (s := S2x1024x1536) (k0_off428 arg24 k0_t3) S1x128x1536.size hinb).WholeWords (EltTy.packing .fp8e4m3)) ∧
  (∀ k0_t3 : Fin (k0_t3_loop arg24).trips, ∀ (k0_h8 : k0_cond8 arg24 k0_t3 = 1#1), ∀ a, (k0_off429 arg24 k0_t3) a + S1.size a ≤ S40.size a) ∧
  (∀ k0_t3 : Fin (k0_t3_loop arg24).trips, ∀ (k0_h8 : k0_cond8 arg24 k0_t3 = 1#1), ∀ a, (k0_off431 arg24 k0_t3) a + S1.size a ≤ S2.size a) ∧
  (∀ k0_t3 : Fin (k0_t3_loop arg24).trips, ∀ (k0_h8 : k0_cond8 arg24 k0_t3 = 1#1), ∀ a, (k0_off433 arg24 k0_t3) a + S1x128x1536.size a ≤ S2x1024x1536.size a) ∧
  (∀ k0_t3 : Fin (k0_t3_loop arg24).trips, ∀ (k0_h8 : k0_cond8 arg24 k0_t3 = 1#1), ∀ (hinb : ∀ a, (k0_off433 arg24 k0_t3) a + S1x128x1536.size a ≤ S2x1024x1536.size a), (Rect.unit (s := S2x1024x1536) (k0_off433 arg24 k0_t3) S1x128x1536.size hinb).WholeWords (EltTy.packing .fp8e4m3)) ∧
  (∀ k0_t3 : Fin (k0_t3_loop arg24).trips, ∀ (k0_h8 : k0_cond8 arg24 k0_t3 = 1#1), ∀ a, (k0_off434 arg24 k0_t3) a + S1.size a ≤ S40.size a) ∧
  (∀ k0_t3 : Fin (k0_t3_loop arg24).trips, ∀ (k0_h8 : k0_cond8 arg24 k0_t3 = 1#1), ∀ a, (k0_off436 arg24 k0_t3) a + S1.size a ≤ S2.size a) ∧
  (∀ k0_t3 : Fin (k0_t3_loop arg24).trips, ∀ (k0_h8 : k0_cond8 arg24 k0_t3 = 1#1), ∀ a, (k0_off438 arg24 k0_t3) a + S1x128x1536.size a ≤ S2x1024x1536.size a) ∧
  (∀ k0_t3 : Fin (k0_t3_loop arg24).trips, ∀ (k0_h8 : k0_cond8 arg24 k0_t3 = 1#1), ∀ (hinb : ∀ a, (k0_off438 arg24 k0_t3) a + S1x128x1536.size a ≤ S2x1024x1536.size a), (Rect.unit (s := S2x1024x1536) (k0_off438 arg24 k0_t3) S1x128x1536.size hinb).WholeWords (EltTy.packing .fp8e4m3)) ∧
  (∀ k0_t3 : Fin (k0_t3_loop arg24).trips, ∀ (k0_h8 : k0_cond8 arg24 k0_t3 = 1#1), ∀ a, (k0_off439 arg24 k0_t3) a + S1.size a ≤ S40.size a) ∧
  (∀ k0_t3 : Fin (k0_t3_loop arg24).trips, ∀ (k0_h8 : k0_cond8 arg24 k0_t3 = 1#1), ∀ a, (k0_off441 arg24 k0_t3) a + S1.size a ≤ S2.size a) ∧
  (∀ k0_t3 : Fin (k0_t3_loop arg24).trips, ∀ (k0_h8 : k0_cond8 arg24 k0_t3 = 1#1), ∀ a, (k0_off443 arg24 k0_t3) a + S1x128x8960.size a ≤ S2x1024x8960.size a) ∧
  (∀ k0_t3 : Fin (k0_t3_loop arg24).trips, ∀ (k0_h8 : k0_cond8 arg24 k0_t3 = 1#1), ∀ (hinb : ∀ a, (k0_off443 arg24 k0_t3) a + S1x128x8960.size a ≤ S2x1024x8960.size a), (Rect.unit (s := S2x1024x8960) (k0_off443 arg24 k0_t3) S1x128x8960.size hinb).WholeWords (EltTy.packing .fp8e4m3)) ∧
  (∀ k0_t3 : Fin (k0_t3_loop arg24).trips, ∀ (k0_h8 : k0_cond8 arg24 k0_t3 = 1#1), ∀ a, (k0_off444 arg24 k0_t3) a + S1.size a ≤ S40.size a) ∧
  (∀ k0_t3 : Fin (k0_t3_loop arg24).trips, ∀ (k0_h8 : k0_cond8 arg24 k0_t3 = 1#1), ∀ a, (k0_off446 arg24 k0_t3) a + S1.size a ≤ S2.size a) ∧
  (∀ k0_t3 : Fin (k0_t3_loop arg24).trips, ∀ (k0_h8 : k0_cond8 arg24 k0_t3 = 1#1), ∀ a, (k0_off448 arg24 k0_t3) a + S1x128x8960.size a ≤ S2x1024x8960.size a) ∧
  (∀ k0_t3 : Fin (k0_t3_loop arg24).trips, ∀ (k0_h8 : k0_cond8 arg24 k0_t3 = 1#1), ∀ (hinb : ∀ a, (k0_off448 arg24 k0_t3) a + S1x128x8960.size a ≤ S2x1024x8960.size a), (Rect.unit (s := S2x1024x8960) (k0_off448 arg24 k0_t3) S1x128x8960.size hinb).WholeWords (EltTy.packing .fp8e4m3)) ∧
  (∀ k0_t3 : Fin (k0_t3_loop arg24).trips, ∀ (k0_h8 : k0_cond8 arg24 k0_t3 = 1#1), ∀ a, (k0_off449 arg24 k0_t3) a + S1.size a ≤ S40.size a) ∧
  (∀ k0_t3 : Fin (k0_t3_loop arg24).trips, ∀ (k0_h8 : k0_cond8 arg24 k0_t3 = 1#1), ∀ a, (k0_off451 arg24 k0_t3) a + S1.size a ≤ S2.size a) ∧
  (∀ k0_t3 : Fin (k0_t3_loop arg24).trips, ∀ (k0_h8 : k0_cond8 arg24 k0_t3 = 1#1), ∀ a, (k0_off453 arg24 k0_t3) a + S1x128x8960.size a ≤ S2x1024x8960.size a) ∧
  (∀ k0_t3 : Fin (k0_t3_loop arg24).trips, ∀ (k0_h8 : k0_cond8 arg24 k0_t3 = 1#1), ∀ (hinb : ∀ a, (k0_off453 arg24 k0_t3) a + S1x128x8960.size a ≤ S2x1024x8960.size a), (Rect.unit (s := S2x1024x8960) (k0_off453 arg24 k0_t3) S1x128x8960.size hinb).WholeWords (EltTy.packing .fp8e4m3)) ∧
  (∀ k0_t3 : Fin (k0_t3_loop arg24).trips, ∀ (k0_h8 : k0_cond8 arg24 k0_t3 = 1#1), ∀ a, (k0_off454 arg24 k0_t3) a + S1.size a ≤ S40.size a) ∧
  (∀ k0_t3 : Fin (k0_t3_loop arg24).trips, ∀ (k0_h8 : k0_cond8 arg24 k0_t3 = 1#1), ∀ a, (k0_off456 arg24 k0_t3) a + S1.size a ≤ S2.size a) ∧
  (∀ k0_t3 : Fin (k0_t3_loop arg24).trips, ∀ (k0_h8 : k0_cond8 arg24 k0_t3 = 1#1), ∀ a, (k0_off458 arg24 k0_t3) a + S1x128x8960.size a ≤ S2x1024x8960.size a) ∧
  (∀ k0_t3 : Fin (k0_t3_loop arg24).trips, ∀ (k0_h8 : k0_cond8 arg24 k0_t3 = 1#1), ∀ (hinb : ∀ a, (k0_off458 arg24 k0_t3) a + S1x128x8960.size a ≤ S2x1024x8960.size a), (Rect.unit (s := S2x1024x8960) (k0_off458 arg24 k0_t3) S1x128x8960.size hinb).WholeWords (EltTy.packing .fp8e4m3)) ∧
  (∀ k0_t3 : Fin (k0_t3_loop arg24).trips, ∀ (k0_h8 : k0_cond8 arg24 k0_t3 = 1#1), ∀ a, (k0_off459 arg24 k0_t3) a + S1.size a ≤ S40.size a) ∧
  (∀ k0_t3 : Fin (k0_t3_loop arg24).trips, ∀ (k0_h8 : k0_cond8 arg24 k0_t3 = 1#1), ∀ a, (k0_off461 arg24 k0_t3) a + S1.size a ≤ S2.size a) ∧
  (∀ k0_t3 : Fin (k0_t3_loop arg24).trips, ∀ (k0_h8 : k0_cond8 arg24 k0_t3 = 1#1), ∀ a, (k0_off463 arg24 k0_t3) a + S1x128x8960.size a ≤ S2x1024x8960.size a) ∧
  (∀ k0_t3 : Fin (k0_t3_loop arg24).trips, ∀ (k0_h8 : k0_cond8 arg24 k0_t3 = 1#1), ∀ (hinb : ∀ a, (k0_off463 arg24 k0_t3) a + S1x128x8960.size a ≤ S2x1024x8960.size a), (Rect.unit (s := S2x1024x8960) (k0_off463 arg24 k0_t3) S1x128x8960.size hinb).WholeWords (EltTy.packing .fp8e4m3)) ∧
  (∀ k0_t3 : Fin (k0_t3_loop arg24).trips, ∀ (k0_h8 : k0_cond8 arg24 k0_t3 = 1#1), ∀ a, (k0_off464 arg24 k0_t3) a + S1.size a ≤ S40.size a) ∧
  (∀ k0_t3 : Fin (k0_t3_loop arg24).trips, ∀ (k0_h8 : k0_cond8 arg24 k0_t3 = 1#1), ∀ a, (k0_off466 arg24 k0_t3) a + S1.size a ≤ S2.size a)
def k0_chk49_13 (arg24 : BitVec 32) : Prop :=
  (∀ k0_t3 : Fin (k0_t3_loop arg24).trips, ∀ (k0_h8 : k0_cond8 arg24 k0_t3 = 1#1), ∀ a, (k0_off468 arg24 k0_t3) a + S1x128x8960.size a ≤ S2x1024x8960.size a) ∧
  (∀ k0_t3 : Fin (k0_t3_loop arg24).trips, ∀ (k0_h8 : k0_cond8 arg24 k0_t3 = 1#1), ∀ (hinb : ∀ a, (k0_off468 arg24 k0_t3) a + S1x128x8960.size a ≤ S2x1024x8960.size a), (Rect.unit (s := S2x1024x8960) (k0_off468 arg24 k0_t3) S1x128x8960.size hinb).WholeWords (EltTy.packing .fp8e4m3)) ∧
  (∀ k0_t3 : Fin (k0_t3_loop arg24).trips, ∀ (k0_h8 : k0_cond8 arg24 k0_t3 = 1#1), ∀ a, (k0_off469 arg24 k0_t3) a + S1.size a ≤ S40.size a) ∧
  (∀ k0_t3 : Fin (k0_t3_loop arg24).trips, ∀ (k0_h8 : k0_cond8 arg24 k0_t3 = 1#1), ∀ a, (k0_off471 arg24 k0_t3) a + S1.size a ≤ S2.size a) ∧
  (∀ k0_t3 : Fin (k0_t3_loop arg24).trips, ∀ (k0_h8 : k0_cond8 arg24 k0_t3 = 1#1), ∀ a, (k0_off473 arg24 k0_t3) a + S1x128x8960.size a ≤ S2x1024x8960.size a) ∧
  (∀ k0_t3 : Fin (k0_t3_loop arg24).trips, ∀ (k0_h8 : k0_cond8 arg24 k0_t3 = 1#1), ∀ (hinb : ∀ a, (k0_off473 arg24 k0_t3) a + S1x128x8960.size a ≤ S2x1024x8960.size a), (Rect.unit (s := S2x1024x8960) (k0_off473 arg24 k0_t3) S1x128x8960.size hinb).WholeWords (EltTy.packing .fp8e4m3)) ∧
  (∀ k0_t3 : Fin (k0_t3_loop arg24).trips, ∀ (k0_h8 : k0_cond8 arg24 k0_t3 = 1#1), ∀ a, (k0_off474 arg24 k0_t3) a + S1.size a ≤ S40.size a) ∧
  (∀ k0_t3 : Fin (k0_t3_loop arg24).trips, ∀ (k0_h8 : k0_cond8 arg24 k0_t3 = 1#1), ∀ a, (k0_off476 arg24 k0_t3) a + S1.size a ≤ S2.size a) ∧
  (∀ k0_t3 : Fin (k0_t3_loop arg24).trips, ∀ (k0_h8 : k0_cond8 arg24 k0_t3 = 1#1), ∀ a, (k0_off478 arg24 k0_t3) a + S1x128x8960.size a ≤ S2x1024x8960.size a) ∧
  (∀ k0_t3 : Fin (k0_t3_loop arg24).trips, ∀ (k0_h8 : k0_cond8 arg24 k0_t3 = 1#1), ∀ (hinb : ∀ a, (k0_off478 arg24 k0_t3) a + S1x128x8960.size a ≤ S2x1024x8960.size a), (Rect.unit (s := S2x1024x8960) (k0_off478 arg24 k0_t3) S1x128x8960.size hinb).WholeWords (EltTy.packing .fp8e4m3)) ∧
  (∀ k0_t3 : Fin (k0_t3_loop arg24).trips, ∀ (k0_h9 : k0_cond9 arg24 k0_t3 = 1#1), ∀ a, (k0_off479 arg24 k0_t3) a + S1.size a ≤ S40.size a) ∧
  (∀ k0_t3 : Fin (k0_t3_loop arg24).trips, ∀ (k0_h9 : k0_cond9 arg24 k0_t3 = 1#1), ∀ a, (k0_off481 arg24 k0_t3) a + S1.size a ≤ S2.size a) ∧
  (∀ k0_t3 : Fin (k0_t3_loop arg24).trips, ∀ (k0_h9 : k0_cond9 arg24 k0_t3 = 1#1), ∀ a, (k0_off482 arg24 k0_t3) a + S1x128x1536.size a ≤ S2x1024x1536.size a) ∧
  (∀ k0_t3 : Fin (k0_t3_loop arg24).trips, ∀ (k0_h9 : k0_cond9 arg24 k0_t3 = 1#1), ∀ (hinb : ∀ a, (k0_off482 arg24 k0_t3) a + S1x128x1536.size a ≤ S2x1024x1536.size a), (Rect.unit (s := S2x1024x1536) (k0_off482 arg24 k0_t3) S1x128x1536.size hinb).WholeWords (EltTy.packing .bf16)) ∧
  (∀ k0_t3 : Fin (k0_t3_loop arg24).trips, ∀ (k0_h9 : k0_cond9 arg24 k0_t3 = 1#1), ∀ a, (k0_off484 arg24 k0_t3) a + S1.size a ≤ S40.size a) ∧
  (∀ k0_t3 : Fin (k0_t3_loop arg24).trips, ∀ (k0_h9 : k0_cond9 arg24 k0_t3 = 1#1), ∀ a, (k0_off486 arg24 k0_t3) a + S1.size a ≤ S2.size a) ∧
  (∀ k0_t3 : Fin (k0_t3_loop arg24).trips, ∀ (k0_h9 : k0_cond9 arg24 k0_t3 = 1#1), ∀ a, (k0_off487 arg24 k0_t3) a + S1x128x1536.size a ≤ S2x1024x1536.size a) ∧
  (∀ k0_t3 : Fin (k0_t3_loop arg24).trips, ∀ (k0_h9 : k0_cond9 arg24 k0_t3 = 1#1), ∀ (hinb : ∀ a, (k0_off487 arg24 k0_t3) a + S1x128x1536.size a ≤ S2x1024x1536.size a), (Rect.unit (s := S2x1024x1536) (k0_off487 arg24 k0_t3) S1x128x1536.size hinb).WholeWords (EltTy.packing .bf16)) ∧
  (∀ k0_t3 : Fin (k0_t3_loop arg24).trips, ∀ (k0_h9 : k0_cond9 arg24 k0_t3 = 1#1), ∀ a, (k0_off489 arg24 k0_t3) a + S1.size a ≤ S40.size a) ∧
  (∀ k0_t3 : Fin (k0_t3_loop arg24).trips, ∀ (k0_h9 : k0_cond9 arg24 k0_t3 = 1#1), ∀ a, (k0_off491 arg24 k0_t3) a + S1.size a ≤ S2.size a) ∧
  (∀ k0_t3 : Fin (k0_t3_loop arg24).trips, ∀ (k0_h9 : k0_cond9 arg24 k0_t3 = 1#1), ∀ a, (k0_off492 arg24 k0_t3) a + S1x128x1536.size a ≤ S2x1024x1536.size a) ∧
  (∀ k0_t3 : Fin (k0_t3_loop arg24).trips, ∀ (k0_h9 : k0_cond9 arg24 k0_t3 = 1#1), ∀ (hinb : ∀ a, (k0_off492 arg24 k0_t3) a + S1x128x1536.size a ≤ S2x1024x1536.size a), (Rect.unit (s := S2x1024x1536) (k0_off492 arg24 k0_t3) S1x128x1536.size hinb).WholeWords (EltTy.packing .bf16)) ∧
  (∀ k0_t3 : Fin (k0_t3_loop arg24).trips, ∀ (k0_h9 : k0_cond9 arg24 k0_t3 = 1#1), ∀ a, (k0_off494 arg24 k0_t3) a + S1.size a ≤ S40.size a) ∧
  (∀ k0_t3 : Fin (k0_t3_loop arg24).trips, ∀ (k0_h9 : k0_cond9 arg24 k0_t3 = 1#1), ∀ a, (k0_off496 arg24 k0_t3) a + S1.size a ≤ S2.size a) ∧
  (∀ k0_t3 : Fin (k0_t3_loop arg24).trips, ∀ (k0_h9 : k0_cond9 arg24 k0_t3 = 1#1), ∀ a, (k0_off497 arg24 k0_t3) a + S1x128x1536.size a ≤ S2x1024x1536.size a) ∧
  (∀ k0_t3 : Fin (k0_t3_loop arg24).trips, ∀ (k0_h9 : k0_cond9 arg24 k0_t3 = 1#1), ∀ (hinb : ∀ a, (k0_off497 arg24 k0_t3) a + S1x128x1536.size a ≤ S2x1024x1536.size a), (Rect.unit (s := S2x1024x1536) (k0_off497 arg24 k0_t3) S1x128x1536.size hinb).WholeWords (EltTy.packing .bf16)) ∧
  (∀ k0_t3 : Fin (k0_t3_loop arg24).trips, ∀ (k0_h9 : k0_cond9 arg24 k0_t3 = 1#1), ∀ a, (k0_off499 arg24 k0_t3) a + S1.size a ≤ S40.size a) ∧
  (∀ k0_t3 : Fin (k0_t3_loop arg24).trips, ∀ (k0_h9 : k0_cond9 arg24 k0_t3 = 1#1), ∀ a, (k0_off501 arg24 k0_t3) a + S1.size a ≤ S2.size a) ∧
  (∀ k0_t3 : Fin (k0_t3_loop arg24).trips, ∀ (k0_h9 : k0_cond9 arg24 k0_t3 = 1#1), ∀ a, (k0_off502 arg24 k0_t3) a + S1x128x1536.size a ≤ S2x1024x1536.size a) ∧
  (∀ k0_t3 : Fin (k0_t3_loop arg24).trips, ∀ (k0_h9 : k0_cond9 arg24 k0_t3 = 1#1), ∀ (hinb : ∀ a, (k0_off502 arg24 k0_t3) a + S1x128x1536.size a ≤ S2x1024x1536.size a), (Rect.unit (s := S2x1024x1536) (k0_off502 arg24 k0_t3) S1x128x1536.size hinb).WholeWords (EltTy.packing .bf16)) ∧
  (∀ k0_t3 : Fin (k0_t3_loop arg24).trips, ∀ (k0_h9 : k0_cond9 arg24 k0_t3 = 1#1), ∀ a, (k0_off504 arg24 k0_t3) a + S1.size a ≤ S40.size a) ∧
  (∀ k0_t3 : Fin (k0_t3_loop arg24).trips, ∀ (k0_h9 : k0_cond9 arg24 k0_t3 = 1#1), ∀ a, (k0_off506 arg24 k0_t3) a + S1.size a ≤ S2.size a)
def k0_chk49_14 (arg24 : BitVec 32) : Prop :=
  (∀ k0_t3 : Fin (k0_t3_loop arg24).trips, ∀ (k0_h9 : k0_cond9 arg24 k0_t3 = 1#1), ∀ a, (k0_off507 arg24 k0_t3) a + S1x128x1536.size a ≤ S2x1024x1536.size a) ∧
  (∀ k0_t3 : Fin (k0_t3_loop arg24).trips, ∀ (k0_h9 : k0_cond9 arg24 k0_t3 = 1#1), ∀ (hinb : ∀ a, (k0_off507 arg24 k0_t3) a + S1x128x1536.size a ≤ S2x1024x1536.size a), (Rect.unit (s := S2x1024x1536) (k0_off507 arg24 k0_t3) S1x128x1536.size hinb).WholeWords (EltTy.packing .bf16)) ∧
  (∀ k0_t3 : Fin (k0_t3_loop arg24).trips, ∀ (k0_h9 : k0_cond9 arg24 k0_t3 = 1#1), ∀ a, (k0_off509 arg24 k0_t3) a + S1.size a ≤ S40.size a) ∧
  (∀ k0_t3 : Fin (k0_t3_loop arg24).trips, ∀ (k0_h9 : k0_cond9 arg24 k0_t3 = 1#1), ∀ a, (k0_off511 arg24 k0_t3) a + S1.size a ≤ S2.size a) ∧
  (∀ k0_t3 : Fin (k0_t3_loop arg24).trips, ∀ (k0_h9 : k0_cond9 arg24 k0_t3 = 1#1), ∀ a, (k0_off512 arg24 k0_t3) a + S1x128x1536.size a ≤ S2x1024x1536.size a) ∧
  (∀ k0_t3 : Fin (k0_t3_loop arg24).trips, ∀ (k0_h9 : k0_cond9 arg24 k0_t3 = 1#1), ∀ (hinb : ∀ a, (k0_off512 arg24 k0_t3) a + S1x128x1536.size a ≤ S2x1024x1536.size a), (Rect.unit (s := S2x1024x1536) (k0_off512 arg24 k0_t3) S1x128x1536.size hinb).WholeWords (EltTy.packing .bf16)) ∧
  (∀ k0_t3 : Fin (k0_t3_loop arg24).trips, ∀ (k0_h9 : k0_cond9 arg24 k0_t3 = 1#1), ∀ a, (k0_off514 arg24 k0_t3) a + S1.size a ≤ S40.size a) ∧
  (∀ k0_t3 : Fin (k0_t3_loop arg24).trips, ∀ (k0_h9 : k0_cond9 arg24 k0_t3 = 1#1), ∀ a, (k0_off516 arg24 k0_t3) a + S1.size a ≤ S2.size a) ∧
  (∀ k0_t3 : Fin (k0_t3_loop arg24).trips, ∀ (k0_h9 : k0_cond9 arg24 k0_t3 = 1#1), ∀ a, (k0_off517 arg24 k0_t3) a + S1x128x1536.size a ≤ S2x1024x1536.size a) ∧
  (∀ k0_t3 : Fin (k0_t3_loop arg24).trips, ∀ (k0_h9 : k0_cond9 arg24 k0_t3 = 1#1), ∀ (hinb : ∀ a, (k0_off517 arg24 k0_t3) a + S1x128x1536.size a ≤ S2x1024x1536.size a), (Rect.unit (s := S2x1024x1536) (k0_off517 arg24 k0_t3) S1x128x1536.size hinb).WholeWords (EltTy.packing .bf16)) ∧
  (∀ k0_t3 : Fin (k0_t3_loop arg24).trips, ∀ a, (k0_off519 arg24 k0_t3) a + S1.size a ≤ S40.size a) ∧
  (∀ k0_t3 : Fin (k0_t3_loop arg24).trips, ∀ a, (k0_off521 arg24 k0_t3) a + S1.size a ≤ S2.size a) ∧
  (∀ k0_t3 : Fin (k0_t3_loop arg24).trips, ∀ a, (k0_off523 arg24 k0_t3) a + S1x128x1536.size a ≤ S2x1024x1536.size a) ∧
  (∀ k0_t3 : Fin (k0_t3_loop arg24).trips, ∀ (hinb : ∀ a, (k0_off523 arg24 k0_t3) a + S1x128x1536.size a ≤ S2x1024x1536.size a), (Rect.unit (s := S2x1024x1536) (k0_off523 arg24 k0_t3) S1x128x1536.size hinb).WholeWords (EltTy.packing .fp8e4m3)) ∧
  (∀ k0_t3 : Fin (k0_t3_loop arg24).trips, ∀ a, (k0_off524 arg24 k0_t3) a + S1.size a ≤ S40.size a) ∧
  (∀ k0_t3 : Fin (k0_t3_loop arg24).trips, ∀ a, (k0_off526 arg24 k0_t3) a + S1.size a ≤ S2.size a) ∧
  (∀ k0_t3 : Fin (k0_t3_loop arg24).trips, ∀ a, (k0_off528 arg24 k0_t3) a + S1x128x1536.size a ≤ S2x1024x1536.size a) ∧
  (∀ k0_t3 : Fin (k0_t3_loop arg24).trips, ∀ (hinb : ∀ a, (k0_off528 arg24 k0_t3) a + S1x128x1536.size a ≤ S2x1024x1536.size a), (Rect.unit (s := S2x1024x1536) (k0_off528 arg24 k0_t3) S1x128x1536.size hinb).WholeWords (EltTy.packing .fp8e4m3)) ∧
  (∀ k0_t3 : Fin (k0_t3_loop arg24).trips, ∀ a, (k0_off529 arg24 k0_t3) a + S1.size a ≤ S40.size a) ∧
  (∀ k0_t3 : Fin (k0_t3_loop arg24).trips, ∀ a, (k0_off531 arg24 k0_t3) a + S1.size a ≤ S2.size a) ∧
  (∀ k0_t3 : Fin (k0_t3_loop arg24).trips, ∀ a, (k0_off533 arg24 k0_t3) a + S1x128x1536.size a ≤ S2x1024x1536.size a) ∧
  (∀ k0_t3 : Fin (k0_t3_loop arg24).trips, ∀ (hinb : ∀ a, (k0_off533 arg24 k0_t3) a + S1x128x1536.size a ≤ S2x1024x1536.size a), (Rect.unit (s := S2x1024x1536) (k0_off533 arg24 k0_t3) S1x128x1536.size hinb).WholeWords (EltTy.packing .fp8e4m3)) ∧
  (∀ k0_t3 : Fin (k0_t3_loop arg24).trips, ∀ a, (k0_off534 arg24 k0_t3) a + S1.size a ≤ S40.size a) ∧
  (∀ k0_t3 : Fin (k0_t3_loop arg24).trips, ∀ a, (k0_off536 arg24 k0_t3) a + S1.size a ≤ S2.size a) ∧
  (∀ k0_t3 : Fin (k0_t3_loop arg24).trips, ∀ a, (k0_off538 arg24 k0_t3) a + S1x128x1536.size a ≤ S2x1024x1536.size a) ∧
  (∀ k0_t3 : Fin (k0_t3_loop arg24).trips, ∀ (hinb : ∀ a, (k0_off538 arg24 k0_t3) a + S1x128x1536.size a ≤ S2x1024x1536.size a), (Rect.unit (s := S2x1024x1536) (k0_off538 arg24 k0_t3) S1x128x1536.size hinb).WholeWords (EltTy.packing .fp8e4m3)) ∧
  (∀ k0_t3 : Fin (k0_t3_loop arg24).trips, ∀ a, (k0_off539 arg24 k0_t3) a + S1.size a ≤ S40.size a) ∧
  (∀ k0_t3 : Fin (k0_t3_loop arg24).trips, ∀ a, (k0_off541 arg24 k0_t3) a + S1.size a ≤ S2.size a) ∧
  (∀ k0_t3 : Fin (k0_t3_loop arg24).trips, ∀ a, (k0_off543 arg24 k0_t3) a + S1x128x1536.size a ≤ S2x1024x1536.size a) ∧
  (∀ k0_t3 : Fin (k0_t3_loop arg24).trips, ∀ (hinb : ∀ a, (k0_off543 arg24 k0_t3) a + S1x128x1536.size a ≤ S2x1024x1536.size a), (Rect.unit (s := S2x1024x1536) (k0_off543 arg24 k0_t3) S1x128x1536.size hinb).WholeWords (EltTy.packing .fp8e4m3)) ∧
  (∀ k0_t3 : Fin (k0_t3_loop arg24).trips, ∀ a, (k0_off544 arg24 k0_t3) a + S1.size a ≤ S40.size a) ∧
  (∀ k0_t3 : Fin (k0_t3_loop arg24).trips, ∀ a, (k0_off546 arg24 k0_t3) a + S1.size a ≤ S2.size a)
def k0_chk49_15 (arg24 : BitVec 32) : Prop :=
  (∀ k0_t3 : Fin (k0_t3_loop arg24).trips, ∀ a, (k0_off548 arg24 k0_t3) a + S1x128x1536.size a ≤ S2x1024x1536.size a) ∧
  (∀ k0_t3 : Fin (k0_t3_loop arg24).trips, ∀ (hinb : ∀ a, (k0_off548 arg24 k0_t3) a + S1x128x1536.size a ≤ S2x1024x1536.size a), (Rect.unit (s := S2x1024x1536) (k0_off548 arg24 k0_t3) S1x128x1536.size hinb).WholeWords (EltTy.packing .fp8e4m3)) ∧
  (∀ k0_t3 : Fin (k0_t3_loop arg24).trips, ∀ a, (k0_off549 arg24 k0_t3) a + S1.size a ≤ S40.size a) ∧
  (∀ k0_t3 : Fin (k0_t3_loop arg24).trips, ∀ a, (k0_off551 arg24 k0_t3) a + S1.size a ≤ S2.size a) ∧
  (∀ k0_t3 : Fin (k0_t3_loop arg24).trips, ∀ a, (k0_off553 arg24 k0_t3) a + S1x128x1536.size a ≤ S2x1024x1536.size a) ∧
  (∀ k0_t3 : Fin (k0_t3_loop arg24).trips, ∀ (hinb : ∀ a, (k0_off553 arg24 k0_t3) a + S1x128x1536.size a ≤ S2x1024x1536.size a), (Rect.unit (s := S2x1024x1536) (k0_off553 arg24 k0_t3) S1x128x1536.size hinb).WholeWords (EltTy.packing .fp8e4m3)) ∧
  (∀ k0_t3 : Fin (k0_t3_loop arg24).trips, ∀ a, (k0_off554 arg24 k0_t3) a + S1.size a ≤ S40.size a) ∧
  (∀ k0_t3 : Fin (k0_t3_loop arg24).trips, ∀ a, (k0_off556 arg24 k0_t3) a + S1.size a ≤ S2.size a) ∧
  (∀ k0_t3 : Fin (k0_t3_loop arg24).trips, ∀ a, (k0_off558 arg24 k0_t3) a + S1x128x1536.size a ≤ S2x1024x1536.size a) ∧
  (∀ k0_t3 : Fin (k0_t3_loop arg24).trips, ∀ (hinb : ∀ a, (k0_off558 arg24 k0_t3) a + S1x128x1536.size a ≤ S2x1024x1536.size a), (Rect.unit (s := S2x1024x1536) (k0_off558 arg24 k0_t3) S1x128x1536.size hinb).WholeWords (EltTy.packing .fp8e4m3)) ∧
  (∀ k0_t3 : Fin (k0_t3_loop arg24).trips, ∀ (k0_h10 : k0_cond10 arg24 k0_t3 = 1#1), ∀ a, (k0_off559 arg24 k0_t3) a + S1.size a ≤ S40.size a) ∧
  (∀ k0_t3 : Fin (k0_t3_loop arg24).trips, ∀ (k0_h10 : k0_cond10 arg24 k0_t3 = 1#1), ∀ a, (k0_off561 arg24 k0_t3) a + S1.size a ≤ S2.size a) ∧
  (∀ k0_t3 : Fin (k0_t3_loop arg24).trips, ∀ (k0_h10 : k0_cond10 arg24 k0_t3 = 1#1), ∀ a, (k0_off563 arg24 k0_t3) a + S1x128x8960.size a ≤ S2x1024x8960.size a) ∧
  (∀ k0_t3 : Fin (k0_t3_loop arg24).trips, ∀ (k0_h10 : k0_cond10 arg24 k0_t3 = 1#1), ∀ (hinb : ∀ a, (k0_off563 arg24 k0_t3) a + S1x128x8960.size a ≤ S2x1024x8960.size a), (Rect.unit (s := S2x1024x8960) (k0_off563 arg24 k0_t3) S1x128x8960.size hinb).WholeWords (EltTy.packing .fp8e4m3)) ∧
  (∀ k0_t3 : Fin (k0_t3_loop arg24).trips, ∀ (k0_h10 : k0_cond10 arg24 k0_t3 = 1#1), ∀ a, (k0_off564 arg24 k0_t3) a + S1.size a ≤ S40.size a) ∧
  (∀ k0_t3 : Fin (k0_t3_loop arg24).trips, ∀ (k0_h10 : k0_cond10 arg24 k0_t3 = 1#1), ∀ a, (k0_off566 arg24 k0_t3) a + S1.size a ≤ S2.size a) ∧
  (∀ k0_t3 : Fin (k0_t3_loop arg24).trips, ∀ (k0_h10 : k0_cond10 arg24 k0_t3 = 1#1), ∀ a, (k0_off568 arg24 k0_t3) a + S1x128x8960.size a ≤ S2x1024x8960.size a) ∧
  (∀ k0_t3 : Fin (k0_t3_loop arg24).trips, ∀ (k0_h10 : k0_cond10 arg24 k0_t3 = 1#1), ∀ (hinb : ∀ a, (k0_off568 arg24 k0_t3) a + S1x128x8960.size a ≤ S2x1024x8960.size a), (Rect.unit (s := S2x1024x8960) (k0_off568 arg24 k0_t3) S1x128x8960.size hinb).WholeWords (EltTy.packing .fp8e4m3)) ∧
  (∀ k0_t3 : Fin (k0_t3_loop arg24).trips, ∀ (k0_h10 : k0_cond10 arg24 k0_t3 = 1#1), ∀ a, (k0_off569 arg24 k0_t3) a + S1.size a ≤ S40.size a) ∧
  (∀ k0_t3 : Fin (k0_t3_loop arg24).trips, ∀ (k0_h10 : k0_cond10 arg24 k0_t3 = 1#1), ∀ a, (k0_off571 arg24 k0_t3) a + S1.size a ≤ S2.size a) ∧
  (∀ k0_t3 : Fin (k0_t3_loop arg24).trips, ∀ (k0_h10 : k0_cond10 arg24 k0_t3 = 1#1), ∀ a, (k0_off573 arg24 k0_t3) a + S1x128x8960.size a ≤ S2x1024x8960.size a) ∧
  (∀ k0_t3 : Fin (k0_t3_loop arg24).trips, ∀ (k0_h10 : k0_cond10 arg24 k0_t3 = 1#1), ∀ (hinb : ∀ a, (k0_off573 arg24 k0_t3) a + S1x128x8960.size a ≤ S2x1024x8960.size a), (Rect.unit (s := S2x1024x8960) (k0_off573 arg24 k0_t3) S1x128x8960.size hinb).WholeWords (EltTy.packing .fp8e4m3)) ∧
  (∀ k0_t3 : Fin (k0_t3_loop arg24).trips, ∀ (k0_h10 : k0_cond10 arg24 k0_t3 = 1#1), ∀ a, (k0_off574 arg24 k0_t3) a + S1.size a ≤ S40.size a) ∧
  (∀ k0_t3 : Fin (k0_t3_loop arg24).trips, ∀ (k0_h10 : k0_cond10 arg24 k0_t3 = 1#1), ∀ a, (k0_off576 arg24 k0_t3) a + S1.size a ≤ S2.size a) ∧
  (∀ k0_t3 : Fin (k0_t3_loop arg24).trips, ∀ (k0_h10 : k0_cond10 arg24 k0_t3 = 1#1), ∀ a, (k0_off578 arg24 k0_t3) a + S1x128x8960.size a ≤ S2x1024x8960.size a) ∧
  (∀ k0_t3 : Fin (k0_t3_loop arg24).trips, ∀ (k0_h10 : k0_cond10 arg24 k0_t3 = 1#1), ∀ (hinb : ∀ a, (k0_off578 arg24 k0_t3) a + S1x128x8960.size a ≤ S2x1024x8960.size a), (Rect.unit (s := S2x1024x8960) (k0_off578 arg24 k0_t3) S1x128x8960.size hinb).WholeWords (EltTy.packing .fp8e4m3)) ∧
  (∀ k0_t3 : Fin (k0_t3_loop arg24).trips, ∀ (k0_h10 : k0_cond10 arg24 k0_t3 = 1#1), ∀ a, (k0_off579 arg24 k0_t3) a + S1.size a ≤ S40.size a) ∧
  (∀ k0_t3 : Fin (k0_t3_loop arg24).trips, ∀ (k0_h10 : k0_cond10 arg24 k0_t3 = 1#1), ∀ a, (k0_off581 arg24 k0_t3) a + S1.size a ≤ S2.size a) ∧
  (∀ k0_t3 : Fin (k0_t3_loop arg24).trips, ∀ (k0_h10 : k0_cond10 arg24 k0_t3 = 1#1), ∀ a, (k0_off583 arg24 k0_t3) a + S1x128x8960.size a ≤ S2x1024x8960.size a) ∧
  (∀ k0_t3 : Fin (k0_t3_loop arg24).trips, ∀ (k0_h10 : k0_cond10 arg24 k0_t3 = 1#1), ∀ (hinb : ∀ a, (k0_off583 arg24 k0_t3) a + S1x128x8960.size a ≤ S2x1024x8960.size a), (Rect.unit (s := S2x1024x8960) (k0_off583 arg24 k0_t3) S1x128x8960.size hinb).WholeWords (EltTy.packing .fp8e4m3)) ∧
  (∀ k0_t3 : Fin (k0_t3_loop arg24).trips, ∀ (k0_h10 : k0_cond10 arg24 k0_t3 = 1#1), ∀ a, (k0_off584 arg24 k0_t3) a + S1.size a ≤ S40.size a) ∧
  (∀ k0_t3 : Fin (k0_t3_loop arg24).trips, ∀ (k0_h10 : k0_cond10 arg24 k0_t3 = 1#1), ∀ a, (k0_off586 arg24 k0_t3) a + S1.size a ≤ S2.size a)
def k0_chk49_16 (arg24 : BitVec 32) : Prop :=
  (∀ k0_t3 : Fin (k0_t3_loop arg24).trips, ∀ (k0_h10 : k0_cond10 arg24 k0_t3 = 1#1), ∀ a, (k0_off588 arg24 k0_t3) a + S1x128x8960.size a ≤ S2x1024x8960.size a) ∧
  (∀ k0_t3 : Fin (k0_t3_loop arg24).trips, ∀ (k0_h10 : k0_cond10 arg24 k0_t3 = 1#1), ∀ (hinb : ∀ a, (k0_off588 arg24 k0_t3) a + S1x128x8960.size a ≤ S2x1024x8960.size a), (Rect.unit (s := S2x1024x8960) (k0_off588 arg24 k0_t3) S1x128x8960.size hinb).WholeWords (EltTy.packing .fp8e4m3)) ∧
  (∀ k0_t3 : Fin (k0_t3_loop arg24).trips, ∀ (k0_h10 : k0_cond10 arg24 k0_t3 = 1#1), ∀ a, (k0_off589 arg24 k0_t3) a + S1.size a ≤ S40.size a) ∧
  (∀ k0_t3 : Fin (k0_t3_loop arg24).trips, ∀ (k0_h10 : k0_cond10 arg24 k0_t3 = 1#1), ∀ a, (k0_off591 arg24 k0_t3) a + S1.size a ≤ S2.size a) ∧
  (∀ k0_t3 : Fin (k0_t3_loop arg24).trips, ∀ (k0_h10 : k0_cond10 arg24 k0_t3 = 1#1), ∀ a, (k0_off593 arg24 k0_t3) a + S1x128x8960.size a ≤ S2x1024x8960.size a) ∧
  (∀ k0_t3 : Fin (k0_t3_loop arg24).trips, ∀ (k0_h10 : k0_cond10 arg24 k0_t3 = 1#1), ∀ (hinb : ∀ a, (k0_off593 arg24 k0_t3) a + S1x128x8960.size a ≤ S2x1024x8960.size a), (Rect.unit (s := S2x1024x8960) (k0_off593 arg24 k0_t3) S1x128x8960.size hinb).WholeWords (EltTy.packing .fp8e4m3)) ∧
  (∀ k0_t3 : Fin (k0_t3_loop arg24).trips, ∀ (k0_h10 : k0_cond10 arg24 k0_t3 = 1#1), ∀ a, (k0_off594 arg24 k0_t3) a + S1.size a ≤ S40.size a) ∧
  (∀ k0_t3 : Fin (k0_t3_loop arg24).trips, ∀ (k0_h10 : k0_cond10 arg24 k0_t3 = 1#1), ∀ a, (k0_off596 arg24 k0_t3) a + S1.size a ≤ S2.size a) ∧
  (∀ k0_t3 : Fin (k0_t3_loop arg24).trips, ∀ (k0_h10 : k0_cond10 arg24 k0_t3 = 1#1), ∀ a, (k0_off598 arg24 k0_t3) a + S1x128x8960.size a ≤ S2x1024x8960.size a) ∧
  (∀ k0_t3 : Fin (k0_t3_loop arg24).trips, ∀ (k0_h10 : k0_cond10 arg24 k0_t3 = 1#1), ∀ (hinb : ∀ a, (k0_off598 arg24 k0_t3) a + S1x128x8960.size a ≤ S2x1024x8960.size a), (Rect.unit (s := S2x1024x8960) (k0_off598 arg24 k0_t3) S1x128x8960.size hinb).WholeWords (EltTy.packing .fp8e4m3)) ∧
  (∀ k0_t3 : Fin (k0_t3_loop arg24).trips, ∀ a, (k0_off599 arg24 k0_t3) a + S1.size a ≤ S40.size a) ∧
  (∀ k0_t3 : Fin (k0_t3_loop arg24).trips, ∀ a, (k0_off601 arg24 k0_t3) a + S1x1024x1536.size a ≤ S2x1024x1536.size a) ∧
  (∀ k0_t3 : Fin (k0_t3_loop arg24).trips, ∀ a, (k0_off602 arg24 k0_t3) a + S1x1024x256.size a ≤ S2x1024x8960.size a) ∧
  (∀ k0_t3 : Fin (k0_t3_loop arg24).trips, ∀ (hinb : ∀ a, (k0_off602 arg24 k0_t3) a + S1x1024x256.size a ≤ S2x1024x8960.size a), (Rect.unit (s := S2x1024x8960) (k0_off602 arg24 k0_t3) S1x1024x256.size hinb).PackedRows (EltTy.packing .fp8e4m3)) ∧
  (∀ k0_t3 : Fin (k0_t3_loop arg24).trips, ∀ a, (k0_off603 arg24 k0_t3) a + S1x32x1536.size a ≤ S2x1024x1536.size a) ∧
  (∀ k0_t3 : Fin (k0_t3_loop arg24).trips, ∀ (hinb : ∀ a, (k0_off603 arg24 k0_t3) a + S1x32x1536.size a ≤ S2x1024x1536.size a), (Rect.unit (s := S2x1024x1536) (k0_off603 arg24 k0_t3) S1x32x1536.size hinb).PackedRows (EltTy.packing .fp8e4m3)) ∧
  (∀ k0_t3 : Fin (k0_t3_loop arg24).trips, ∀ a, (k0_off604 arg24 k0_t3) a + S1x1024x256.size a ≤ S2x1024x8960.size a) ∧
  (∀ k0_t3 : Fin (k0_t3_loop arg24).trips, ∀ (hinb : ∀ a, (k0_off604 arg24 k0_t3) a + S1x1024x256.size a ≤ S2x1024x8960.size a), (Rect.unit (s := S2x1024x8960) (k0_off604 arg24 k0_t3) S1x1024x256.size hinb).PackedRows (EltTy.packing .fp8e4m3)) ∧
  (∀ k0_t3 : Fin (k0_t3_loop arg24).trips, ∀ a, (k0_off605 arg24 k0_t3) a + S1x32x1536.size a ≤ S2x1024x1536.size a) ∧
  (∀ k0_t3 : Fin (k0_t3_loop arg24).trips, ∀ (hinb : ∀ a, (k0_off605 arg24 k0_t3) a + S1x32x1536.size a ≤ S2x1024x1536.size a), (Rect.unit (s := S2x1024x1536) (k0_off605 arg24 k0_t3) S1x32x1536.size hinb).PackedRows (EltTy.packing .fp8e4m3)) ∧
  (∀ k0_t3 : Fin (k0_t3_loop arg24).trips, ∀ a, (k0_off606 arg24 k0_t3) a + S1x1024x256.size a ≤ S2x1024x8960.size a) ∧
  (∀ k0_t3 : Fin (k0_t3_loop arg24).trips, ∀ (hinb : ∀ a, (k0_off606 arg24 k0_t3) a + S1x1024x256.size a ≤ S2x1024x8960.size a), (Rect.unit (s := S2x1024x8960) (k0_off606 arg24 k0_t3) S1x1024x256.size hinb).PackedRows (EltTy.packing .fp8e4m3)) ∧
  (∀ k0_t3 : Fin (k0_t3_loop arg24).trips, ∀ a, (k0_off607 arg24 k0_t3) a + S1x32x1536.size a ≤ S2x1024x1536.size a) ∧
  (∀ k0_t3 : Fin (k0_t3_loop arg24).trips, ∀ (hinb : ∀ a, (k0_off607 arg24 k0_t3) a + S1x32x1536.size a ≤ S2x1024x1536.size a), (Rect.unit (s := S2x1024x1536) (k0_off607 arg24 k0_t3) S1x32x1536.size hinb).PackedRows (EltTy.packing .fp8e4m3)) ∧
  (∀ k0_t3 : Fin (k0_t3_loop arg24).trips, ∀ a, (k0_off608 arg24 k0_t3) a + S1x1024x256.size a ≤ S2x1024x8960.size a) ∧
  (∀ k0_t3 : Fin (k0_t3_loop arg24).trips, ∀ (hinb : ∀ a, (k0_off608 arg24 k0_t3) a + S1x1024x256.size a ≤ S2x1024x8960.size a), (Rect.unit (s := S2x1024x8960) (k0_off608 arg24 k0_t3) S1x1024x256.size hinb).PackedRows (EltTy.packing .fp8e4m3)) ∧
  (∀ k0_t3 : Fin (k0_t3_loop arg24).trips, ∀ a, (k0_off609 arg24 k0_t3) a + S1x32x1536.size a ≤ S2x1024x1536.size a) ∧
  (∀ k0_t3 : Fin (k0_t3_loop arg24).trips, ∀ (hinb : ∀ a, (k0_off609 arg24 k0_t3) a + S1x32x1536.size a ≤ S2x1024x1536.size a), (Rect.unit (s := S2x1024x1536) (k0_off609 arg24 k0_t3) S1x32x1536.size hinb).PackedRows (EltTy.packing .fp8e4m3)) ∧
  (∀ k0_t3 : Fin (k0_t3_loop arg24).trips, ∀ a, (k0_off610 arg24 k0_t3) a + S1x1024x256.size a ≤ S2x1024x8960.size a) ∧
  (∀ k0_t3 : Fin (k0_t3_loop arg24).trips, ∀ (hinb : ∀ a, (k0_off610 arg24 k0_t3) a + S1x1024x256.size a ≤ S2x1024x8960.size a), (Rect.unit (s := S2x1024x8960) (k0_off610 arg24 k0_t3) S1x1024x256.size hinb).PackedRows (EltTy.packing .fp8e4m3)) ∧
  (∀ k0_t3 : Fin (k0_t3_loop arg24).trips, ∀ a, (k0_off611 arg24 k0_t3) a + S1x32x1536.size a ≤ S2x1024x1536.size a) ∧
  (∀ k0_t3 : Fin (k0_t3_loop arg24).trips, ∀ (hinb : ∀ a, (k0_off611 arg24 k0_t3) a + S1x32x1536.size a ≤ S2x1024x1536.size a), (Rect.unit (s := S2x1024x1536) (k0_off611 arg24 k0_t3) S1x32x1536.size hinb).PackedRows (EltTy.packing .fp8e4m3))
def k0_chk49_17 (arg24 : BitVec 32) : Prop :=
  (∀ k0_t3 : Fin (k0_t3_loop arg24).trips, ∀ a, (k0_off612 arg24 k0_t3) a + S1x1024x256.size a ≤ S2x1024x8960.size a) ∧
  (∀ k0_t3 : Fin (k0_t3_loop arg24).trips, ∀ (hinb : ∀ a, (k0_off612 arg24 k0_t3) a + S1x1024x256.size a ≤ S2x1024x8960.size a), (Rect.unit (s := S2x1024x8960) (k0_off612 arg24 k0_t3) S1x1024x256.size hinb).PackedRows (EltTy.packing .fp8e4m3)) ∧
  (∀ k0_t3 : Fin (k0_t3_loop arg24).trips, ∀ a, (k0_off613 arg24 k0_t3) a + S1x32x1536.size a ≤ S2x1024x1536.size a) ∧
  (∀ k0_t3 : Fin (k0_t3_loop arg24).trips, ∀ (hinb : ∀ a, (k0_off613 arg24 k0_t3) a + S1x32x1536.size a ≤ S2x1024x1536.size a), (Rect.unit (s := S2x1024x1536) (k0_off613 arg24 k0_t3) S1x32x1536.size hinb).PackedRows (EltTy.packing .fp8e4m3)) ∧
  (∀ k0_t3 : Fin (k0_t3_loop arg24).trips, ∀ a, (k0_off614 arg24 k0_t3) a + S1x1024x256.size a ≤ S2x1024x8960.size a) ∧
  (∀ k0_t3 : Fin (k0_t3_loop arg24).trips, ∀ (hinb : ∀ a, (k0_off614 arg24 k0_t3) a + S1x1024x256.size a ≤ S2x1024x8960.size a), (Rect.unit (s := S2x1024x8960) (k0_off614 arg24 k0_t3) S1x1024x256.size hinb).PackedRows (EltTy.packing .fp8e4m3)) ∧
  (∀ k0_t3 : Fin (k0_t3_loop arg24).trips, ∀ a, (k0_off615 arg24 k0_t3) a + S1x32x1536.size a ≤ S2x1024x1536.size a) ∧
  (∀ k0_t3 : Fin (k0_t3_loop arg24).trips, ∀ (hinb : ∀ a, (k0_off615 arg24 k0_t3) a + S1x32x1536.size a ≤ S2x1024x1536.size a), (Rect.unit (s := S2x1024x1536) (k0_off615 arg24 k0_t3) S1x32x1536.size hinb).PackedRows (EltTy.packing .fp8e4m3)) ∧
  (∀ k0_t3 : Fin (k0_t3_loop arg24).trips, ∀ a, (k0_off616 arg24 k0_t3) a + S1x1024x256.size a ≤ S2x1024x8960.size a) ∧
  (∀ k0_t3 : Fin (k0_t3_loop arg24).trips, ∀ (hinb : ∀ a, (k0_off616 arg24 k0_t3) a + S1x1024x256.size a ≤ S2x1024x8960.size a), (Rect.unit (s := S2x1024x8960) (k0_off616 arg24 k0_t3) S1x1024x256.size hinb).PackedRows (EltTy.packing .fp8e4m3)) ∧
  (∀ k0_t3 : Fin (k0_t3_loop arg24).trips, ∀ a, (k0_off617 arg24 k0_t3) a + S1x32x1536.size a ≤ S2x1024x1536.size a) ∧
  (∀ k0_t3 : Fin (k0_t3_loop arg24).trips, ∀ (hinb : ∀ a, (k0_off617 arg24 k0_t3) a + S1x32x1536.size a ≤ S2x1024x1536.size a), (Rect.unit (s := S2x1024x1536) (k0_off617 arg24 k0_t3) S1x32x1536.size hinb).PackedRows (EltTy.packing .fp8e4m3)) ∧
  (∀ k0_t3 : Fin (k0_t3_loop arg24).trips, ∀ a, (k0_off618 arg24 k0_t3) a + S1x1024x256.size a ≤ S2x1024x8960.size a) ∧
  (∀ k0_t3 : Fin (k0_t3_loop arg24).trips, ∀ (hinb : ∀ a, (k0_off618 arg24 k0_t3) a + S1x1024x256.size a ≤ S2x1024x8960.size a), (Rect.unit (s := S2x1024x8960) (k0_off618 arg24 k0_t3) S1x1024x256.size hinb).PackedRows (EltTy.packing .fp8e4m3)) ∧
  (∀ k0_t3 : Fin (k0_t3_loop arg24).trips, ∀ a, (k0_off619 arg24 k0_t3) a + S1x32x1536.size a ≤ S2x1024x1536.size a) ∧
  (∀ k0_t3 : Fin (k0_t3_loop arg24).trips, ∀ (hinb : ∀ a, (k0_off619 arg24 k0_t3) a + S1x32x1536.size a ≤ S2x1024x1536.size a), (Rect.unit (s := S2x1024x1536) (k0_off619 arg24 k0_t3) S1x32x1536.size hinb).PackedRows (EltTy.packing .fp8e4m3)) ∧
  (∀ k0_t3 : Fin (k0_t3_loop arg24).trips, ∀ a, (k0_off620 arg24 k0_t3) a + S1x1024x256.size a ≤ S2x1024x8960.size a) ∧
  (∀ k0_t3 : Fin (k0_t3_loop arg24).trips, ∀ (hinb : ∀ a, (k0_off620 arg24 k0_t3) a + S1x1024x256.size a ≤ S2x1024x8960.size a), (Rect.unit (s := S2x1024x8960) (k0_off620 arg24 k0_t3) S1x1024x256.size hinb).PackedRows (EltTy.packing .fp8e4m3)) ∧
  (∀ k0_t3 : Fin (k0_t3_loop arg24).trips, ∀ a, (k0_off621 arg24 k0_t3) a + S1x32x1536.size a ≤ S2x1024x1536.size a) ∧
  (∀ k0_t3 : Fin (k0_t3_loop arg24).trips, ∀ (hinb : ∀ a, (k0_off621 arg24 k0_t3) a + S1x32x1536.size a ≤ S2x1024x1536.size a), (Rect.unit (s := S2x1024x1536) (k0_off621 arg24 k0_t3) S1x32x1536.size hinb).PackedRows (EltTy.packing .fp8e4m3)) ∧
  (∀ k0_t3 : Fin (k0_t3_loop arg24).trips, ∀ a, (k0_off622 arg24 k0_t3) a + S1x1024x256.size a ≤ S2x1024x8960.size a) ∧
  (∀ k0_t3 : Fin (k0_t3_loop arg24).trips, ∀ (hinb : ∀ a, (k0_off622 arg24 k0_t3) a + S1x1024x256.size a ≤ S2x1024x8960.size a), (Rect.unit (s := S2x1024x8960) (k0_off622 arg24 k0_t3) S1x1024x256.size hinb).PackedRows (EltTy.packing .fp8e4m3)) ∧
  (∀ k0_t3 : Fin (k0_t3_loop arg24).trips, ∀ a, (k0_off623 arg24 k0_t3) a + S1x32x1536.size a ≤ S2x1024x1536.size a) ∧
  (∀ k0_t3 : Fin (k0_t3_loop arg24).trips, ∀ (hinb : ∀ a, (k0_off623 arg24 k0_t3) a + S1x32x1536.size a ≤ S2x1024x1536.size a), (Rect.unit (s := S2x1024x1536) (k0_off623 arg24 k0_t3) S1x32x1536.size hinb).PackedRows (EltTy.packing .fp8e4m3)) ∧
  (∀ k0_t3 : Fin (k0_t3_loop arg24).trips, ∀ a, (k0_off624 arg24 k0_t3) a + S1x1024x256.size a ≤ S2x1024x8960.size a) ∧
  (∀ k0_t3 : Fin (k0_t3_loop arg24).trips, ∀ (hinb : ∀ a, (k0_off624 arg24 k0_t3) a + S1x1024x256.size a ≤ S2x1024x8960.size a), (Rect.unit (s := S2x1024x8960) (k0_off624 arg24 k0_t3) S1x1024x256.size hinb).PackedRows (EltTy.packing .fp8e4m3)) ∧
  (∀ k0_t3 : Fin (k0_t3_loop arg24).trips, ∀ a, (k0_off625 arg24 k0_t3) a + S1x32x1536.size a ≤ S2x1024x1536.size a) ∧
  (∀ k0_t3 : Fin (k0_t3_loop arg24).trips, ∀ (hinb : ∀ a, (k0_off625 arg24 k0_t3) a + S1x32x1536.size a ≤ S2x1024x1536.size a), (Rect.unit (s := S2x1024x1536) (k0_off625 arg24 k0_t3) S1x32x1536.size hinb).PackedRows (EltTy.packing .fp8e4m3)) ∧
  (∀ k0_t3 : Fin (k0_t3_loop arg24).trips, ∀ a, (k0_off626 arg24 k0_t3) a + S1x1024x256.size a ≤ S2x1024x8960.size a) ∧
  (∀ k0_t3 : Fin (k0_t3_loop arg24).trips, ∀ (hinb : ∀ a, (k0_off626 arg24 k0_t3) a + S1x1024x256.size a ≤ S2x1024x8960.size a), (Rect.unit (s := S2x1024x8960) (k0_off626 arg24 k0_t3) S1x1024x256.size hinb).PackedRows (EltTy.packing .fp8e4m3)) ∧
  (∀ k0_t3 : Fin (k0_t3_loop arg24).trips, ∀ a, (k0_off627 arg24 k0_t3) a + S1x32x1536.size a ≤ S2x1024x1536.size a) ∧
  (∀ k0_t3 : Fin (k0_t3_loop arg24).trips, ∀ (hinb : ∀ a, (k0_off627 arg24 k0_t3) a + S1x32x1536.size a ≤ S2x1024x1536.size a), (Rect.unit (s := S2x1024x1536) (k0_off627 arg24 k0_t3) S1x32x1536.size hinb).PackedRows (EltTy.packing .fp8e4m3))
def k0_chk49_18 (arg24 : BitVec 32) : Prop :=
  (∀ k0_t3 : Fin (k0_t3_loop arg24).trips, ∀ a, (k0_off628 arg24 k0_t3) a + S1x1024x256.size a ≤ S2x1024x8960.size a) ∧
  (∀ k0_t3 : Fin (k0_t3_loop arg24).trips, ∀ (hinb : ∀ a, (k0_off628 arg24 k0_t3) a + S1x1024x256.size a ≤ S2x1024x8960.size a), (Rect.unit (s := S2x1024x8960) (k0_off628 arg24 k0_t3) S1x1024x256.size hinb).PackedRows (EltTy.packing .fp8e4m3)) ∧
  (∀ k0_t3 : Fin (k0_t3_loop arg24).trips, ∀ a, (k0_off629 arg24 k0_t3) a + S1x32x1536.size a ≤ S2x1024x1536.size a) ∧
  (∀ k0_t3 : Fin (k0_t3_loop arg24).trips, ∀ (hinb : ∀ a, (k0_off629 arg24 k0_t3) a + S1x32x1536.size a ≤ S2x1024x1536.size a), (Rect.unit (s := S2x1024x1536) (k0_off629 arg24 k0_t3) S1x32x1536.size hinb).PackedRows (EltTy.packing .fp8e4m3)) ∧
  (∀ k0_t3 : Fin (k0_t3_loop arg24).trips, ∀ a, (k0_off630 arg24 k0_t3) a + S1x1024x256.size a ≤ S2x1024x8960.size a) ∧
  (∀ k0_t3 : Fin (k0_t3_loop arg24).trips, ∀ (hinb : ∀ a, (k0_off630 arg24 k0_t3) a + S1x1024x256.size a ≤ S2x1024x8960.size a), (Rect.unit (s := S2x1024x8960) (k0_off630 arg24 k0_t3) S1x1024x256.size hinb).PackedRows (EltTy.packing .fp8e4m3)) ∧
  (∀ k0_t3 : Fin (k0_t3_loop arg24).trips, ∀ a, (k0_off631 arg24 k0_t3) a + S1x32x1536.size a ≤ S2x1024x1536.size a) ∧
  (∀ k0_t3 : Fin (k0_t3_loop arg24).trips, ∀ (hinb : ∀ a, (k0_off631 arg24 k0_t3) a + S1x32x1536.size a ≤ S2x1024x1536.size a), (Rect.unit (s := S2x1024x1536) (k0_off631 arg24 k0_t3) S1x32x1536.size hinb).PackedRows (EltTy.packing .fp8e4m3)) ∧
  (∀ k0_t3 : Fin (k0_t3_loop arg24).trips, ∀ a, (k0_off632 arg24 k0_t3) a + S1x1024x256.size a ≤ S2x1024x8960.size a) ∧
  (∀ k0_t3 : Fin (k0_t3_loop arg24).trips, ∀ (hinb : ∀ a, (k0_off632 arg24 k0_t3) a + S1x1024x256.size a ≤ S2x1024x8960.size a), (Rect.unit (s := S2x1024x8960) (k0_off632 arg24 k0_t3) S1x1024x256.size hinb).PackedRows (EltTy.packing .fp8e4m3)) ∧
  (∀ k0_t3 : Fin (k0_t3_loop arg24).trips, ∀ a, (k0_off633 arg24 k0_t3) a + S1x32x1536.size a ≤ S2x1024x1536.size a) ∧
  (∀ k0_t3 : Fin (k0_t3_loop arg24).trips, ∀ (hinb : ∀ a, (k0_off633 arg24 k0_t3) a + S1x32x1536.size a ≤ S2x1024x1536.size a), (Rect.unit (s := S2x1024x1536) (k0_off633 arg24 k0_t3) S1x32x1536.size hinb).PackedRows (EltTy.packing .fp8e4m3)) ∧
  (∀ k0_t3 : Fin (k0_t3_loop arg24).trips, ∀ a, (k0_off634 arg24 k0_t3) a + S1x1024x256.size a ≤ S2x1024x8960.size a) ∧
  (∀ k0_t3 : Fin (k0_t3_loop arg24).trips, ∀ (hinb : ∀ a, (k0_off634 arg24 k0_t3) a + S1x1024x256.size a ≤ S2x1024x8960.size a), (Rect.unit (s := S2x1024x8960) (k0_off634 arg24 k0_t3) S1x1024x256.size hinb).PackedRows (EltTy.packing .fp8e4m3)) ∧
  (∀ k0_t3 : Fin (k0_t3_loop arg24).trips, ∀ a, (k0_off635 arg24 k0_t3) a + S1x32x1536.size a ≤ S2x1024x1536.size a) ∧
  (∀ k0_t3 : Fin (k0_t3_loop arg24).trips, ∀ (hinb : ∀ a, (k0_off635 arg24 k0_t3) a + S1x32x1536.size a ≤ S2x1024x1536.size a), (Rect.unit (s := S2x1024x1536) (k0_off635 arg24 k0_t3) S1x32x1536.size hinb).PackedRows (EltTy.packing .fp8e4m3)) ∧
  (∀ k0_t3 : Fin (k0_t3_loop arg24).trips, ∀ a, (k0_off636 arg24 k0_t3) a + S1x1024x256.size a ≤ S2x1024x8960.size a) ∧
  (∀ k0_t3 : Fin (k0_t3_loop arg24).trips, ∀ (hinb : ∀ a, (k0_off636 arg24 k0_t3) a + S1x1024x256.size a ≤ S2x1024x8960.size a), (Rect.unit (s := S2x1024x8960) (k0_off636 arg24 k0_t3) S1x1024x256.size hinb).PackedRows (EltTy.packing .fp8e4m3)) ∧
  (∀ k0_t3 : Fin (k0_t3_loop arg24).trips, ∀ a, (k0_off637 arg24 k0_t3) a + S1x32x1536.size a ≤ S2x1024x1536.size a) ∧
  (∀ k0_t3 : Fin (k0_t3_loop arg24).trips, ∀ (hinb : ∀ a, (k0_off637 arg24 k0_t3) a + S1x32x1536.size a ≤ S2x1024x1536.size a), (Rect.unit (s := S2x1024x1536) (k0_off637 arg24 k0_t3) S1x32x1536.size hinb).PackedRows (EltTy.packing .fp8e4m3)) ∧
  (∀ k0_t3 : Fin (k0_t3_loop arg24).trips, ∀ a, (k0_off638 arg24 k0_t3) a + S1x1024x256.size a ≤ S2x1024x8960.size a) ∧
  (∀ k0_t3 : Fin (k0_t3_loop arg24).trips, ∀ (hinb : ∀ a, (k0_off638 arg24 k0_t3) a + S1x1024x256.size a ≤ S2x1024x8960.size a), (Rect.unit (s := S2x1024x8960) (k0_off638 arg24 k0_t3) S1x1024x256.size hinb).PackedRows (EltTy.packing .fp8e4m3)) ∧
  (∀ k0_t3 : Fin (k0_t3_loop arg24).trips, ∀ a, (k0_off639 arg24 k0_t3) a + S1x32x1536.size a ≤ S2x1024x1536.size a) ∧
  (∀ k0_t3 : Fin (k0_t3_loop arg24).trips, ∀ (hinb : ∀ a, (k0_off639 arg24 k0_t3) a + S1x32x1536.size a ≤ S2x1024x1536.size a), (Rect.unit (s := S2x1024x1536) (k0_off639 arg24 k0_t3) S1x32x1536.size hinb).PackedRows (EltTy.packing .fp8e4m3)) ∧
  (∀ k0_t3 : Fin (k0_t3_loop arg24).trips, ∀ a, (k0_off640 arg24 k0_t3) a + S1x1024x256.size a ≤ S2x1024x8960.size a) ∧
  (∀ k0_t3 : Fin (k0_t3_loop arg24).trips, ∀ (hinb : ∀ a, (k0_off640 arg24 k0_t3) a + S1x1024x256.size a ≤ S2x1024x8960.size a), (Rect.unit (s := S2x1024x8960) (k0_off640 arg24 k0_t3) S1x1024x256.size hinb).PackedRows (EltTy.packing .fp8e4m3)) ∧
  (∀ k0_t3 : Fin (k0_t3_loop arg24).trips, ∀ a, (k0_off641 arg24 k0_t3) a + S1x32x1536.size a ≤ S2x1024x1536.size a) ∧
  (∀ k0_t3 : Fin (k0_t3_loop arg24).trips, ∀ (hinb : ∀ a, (k0_off641 arg24 k0_t3) a + S1x32x1536.size a ≤ S2x1024x1536.size a), (Rect.unit (s := S2x1024x1536) (k0_off641 arg24 k0_t3) S1x32x1536.size hinb).PackedRows (EltTy.packing .fp8e4m3)) ∧
  (∀ k0_t3 : Fin (k0_t3_loop arg24).trips, ∀ a, (k0_off642 arg24 k0_t3) a + S1x1024x256.size a ≤ S2x1024x8960.size a) ∧
  (∀ k0_t3 : Fin (k0_t3_loop arg24).trips, ∀ (hinb : ∀ a, (k0_off642 arg24 k0_t3) a + S1x1024x256.size a ≤ S2x1024x8960.size a), (Rect.unit (s := S2x1024x8960) (k0_off642 arg24 k0_t3) S1x1024x256.size hinb).PackedRows (EltTy.packing .fp8e4m3)) ∧
  (∀ k0_t3 : Fin (k0_t3_loop arg24).trips, ∀ a, (k0_off643 arg24 k0_t3) a + S1x32x1536.size a ≤ S2x1024x1536.size a) ∧
  (∀ k0_t3 : Fin (k0_t3_loop arg24).trips, ∀ (hinb : ∀ a, (k0_off643 arg24 k0_t3) a + S1x32x1536.size a ≤ S2x1024x1536.size a), (Rect.unit (s := S2x1024x1536) (k0_off643 arg24 k0_t3) S1x32x1536.size hinb).PackedRows (EltTy.packing .fp8e4m3))
def k0_chk49_19 (arg24 : BitVec 32) : Prop :=
  (∀ k0_t3 : Fin (k0_t3_loop arg24).trips, ∀ a, (k0_off644 arg24 k0_t3) a + S1x1024x256.size a ≤ S2x1024x8960.size a) ∧
  (∀ k0_t3 : Fin (k0_t3_loop arg24).trips, ∀ (hinb : ∀ a, (k0_off644 arg24 k0_t3) a + S1x1024x256.size a ≤ S2x1024x8960.size a), (Rect.unit (s := S2x1024x8960) (k0_off644 arg24 k0_t3) S1x1024x256.size hinb).PackedRows (EltTy.packing .fp8e4m3)) ∧
  (∀ k0_t3 : Fin (k0_t3_loop arg24).trips, ∀ a, (k0_off645 arg24 k0_t3) a + S1x32x1536.size a ≤ S2x1024x1536.size a) ∧
  (∀ k0_t3 : Fin (k0_t3_loop arg24).trips, ∀ (hinb : ∀ a, (k0_off645 arg24 k0_t3) a + S1x32x1536.size a ≤ S2x1024x1536.size a), (Rect.unit (s := S2x1024x1536) (k0_off645 arg24 k0_t3) S1x32x1536.size hinb).PackedRows (EltTy.packing .fp8e4m3)) ∧
  (∀ k0_t3 : Fin (k0_t3_loop arg24).trips, ∀ a, (k0_off646 arg24 k0_t3) a + S1x1024x256.size a ≤ S2x1024x8960.size a) ∧
  (∀ k0_t3 : Fin (k0_t3_loop arg24).trips, ∀ (hinb : ∀ a, (k0_off646 arg24 k0_t3) a + S1x1024x256.size a ≤ S2x1024x8960.size a), (Rect.unit (s := S2x1024x8960) (k0_off646 arg24 k0_t3) S1x1024x256.size hinb).PackedRows (EltTy.packing .fp8e4m3)) ∧
  (∀ k0_t3 : Fin (k0_t3_loop arg24).trips, ∀ a, (k0_off647 arg24 k0_t3) a + S1x32x1536.size a ≤ S2x1024x1536.size a) ∧
  (∀ k0_t3 : Fin (k0_t3_loop arg24).trips, ∀ (hinb : ∀ a, (k0_off647 arg24 k0_t3) a + S1x32x1536.size a ≤ S2x1024x1536.size a), (Rect.unit (s := S2x1024x1536) (k0_off647 arg24 k0_t3) S1x32x1536.size hinb).PackedRows (EltTy.packing .fp8e4m3)) ∧
  (∀ k0_t3 : Fin (k0_t3_loop arg24).trips, ∀ a, (k0_off648 arg24 k0_t3) a + S1x1024x256.size a ≤ S2x1024x8960.size a) ∧
  (∀ k0_t3 : Fin (k0_t3_loop arg24).trips, ∀ (hinb : ∀ a, (k0_off648 arg24 k0_t3) a + S1x1024x256.size a ≤ S2x1024x8960.size a), (Rect.unit (s := S2x1024x8960) (k0_off648 arg24 k0_t3) S1x1024x256.size hinb).PackedRows (EltTy.packing .fp8e4m3)) ∧
  (∀ k0_t3 : Fin (k0_t3_loop arg24).trips, ∀ a, (k0_off649 arg24 k0_t3) a + S1x32x1536.size a ≤ S2x1024x1536.size a) ∧
  (∀ k0_t3 : Fin (k0_t3_loop arg24).trips, ∀ (hinb : ∀ a, (k0_off649 arg24 k0_t3) a + S1x32x1536.size a ≤ S2x1024x1536.size a), (Rect.unit (s := S2x1024x1536) (k0_off649 arg24 k0_t3) S1x32x1536.size hinb).PackedRows (EltTy.packing .fp8e4m3)) ∧
  (∀ k0_t3 : Fin (k0_t3_loop arg24).trips, ∀ a, (k0_off650 arg24 k0_t3) a + S1x1024x256.size a ≤ S2x1024x8960.size a) ∧
  (∀ k0_t3 : Fin (k0_t3_loop arg24).trips, ∀ (hinb : ∀ a, (k0_off650 arg24 k0_t3) a + S1x1024x256.size a ≤ S2x1024x8960.size a), (Rect.unit (s := S2x1024x8960) (k0_off650 arg24 k0_t3) S1x1024x256.size hinb).PackedRows (EltTy.packing .fp8e4m3)) ∧
  (∀ k0_t3 : Fin (k0_t3_loop arg24).trips, ∀ a, (k0_off651 arg24 k0_t3) a + S1x32x1536.size a ≤ S2x1024x1536.size a) ∧
  (∀ k0_t3 : Fin (k0_t3_loop arg24).trips, ∀ (hinb : ∀ a, (k0_off651 arg24 k0_t3) a + S1x32x1536.size a ≤ S2x1024x1536.size a), (Rect.unit (s := S2x1024x1536) (k0_off651 arg24 k0_t3) S1x32x1536.size hinb).PackedRows (EltTy.packing .fp8e4m3)) ∧
  (∀ k0_t3 : Fin (k0_t3_loop arg24).trips, ∀ a, (k0_off652 arg24 k0_t3) a + S1x1024x256.size a ≤ S2x1024x8960.size a) ∧
  (∀ k0_t3 : Fin (k0_t3_loop arg24).trips, ∀ (hinb : ∀ a, (k0_off652 arg24 k0_t3) a + S1x1024x256.size a ≤ S2x1024x8960.size a), (Rect.unit (s := S2x1024x8960) (k0_off652 arg24 k0_t3) S1x1024x256.size hinb).PackedRows (EltTy.packing .fp8e4m3)) ∧
  (∀ k0_t3 : Fin (k0_t3_loop arg24).trips, ∀ a, (k0_off653 arg24 k0_t3) a + S1x32x1536.size a ≤ S2x1024x1536.size a) ∧
  (∀ k0_t3 : Fin (k0_t3_loop arg24).trips, ∀ (hinb : ∀ a, (k0_off653 arg24 k0_t3) a + S1x32x1536.size a ≤ S2x1024x1536.size a), (Rect.unit (s := S2x1024x1536) (k0_off653 arg24 k0_t3) S1x32x1536.size hinb).PackedRows (EltTy.packing .fp8e4m3)) ∧
  (∀ k0_t3 : Fin (k0_t3_loop arg24).trips, ∀ a, (k0_off654 arg24 k0_t3) a + S1x1024x256.size a ≤ S2x1024x8960.size a) ∧
  (∀ k0_t3 : Fin (k0_t3_loop arg24).trips, ∀ (hinb : ∀ a, (k0_off654 arg24 k0_t3) a + S1x1024x256.size a ≤ S2x1024x8960.size a), (Rect.unit (s := S2x1024x8960) (k0_off654 arg24 k0_t3) S1x1024x256.size hinb).PackedRows (EltTy.packing .fp8e4m3)) ∧
  (∀ k0_t3 : Fin (k0_t3_loop arg24).trips, ∀ a, (k0_off655 arg24 k0_t3) a + S1x32x1536.size a ≤ S2x1024x1536.size a) ∧
  (∀ k0_t3 : Fin (k0_t3_loop arg24).trips, ∀ (hinb : ∀ a, (k0_off655 arg24 k0_t3) a + S1x32x1536.size a ≤ S2x1024x1536.size a), (Rect.unit (s := S2x1024x1536) (k0_off655 arg24 k0_t3) S1x32x1536.size hinb).PackedRows (EltTy.packing .fp8e4m3)) ∧
  (∀ k0_t3 : Fin (k0_t3_loop arg24).trips, ∀ a, (k0_off656 arg24 k0_t3) a + S1x1024x256.size a ≤ S2x1024x8960.size a) ∧
  (∀ k0_t3 : Fin (k0_t3_loop arg24).trips, ∀ (hinb : ∀ a, (k0_off656 arg24 k0_t3) a + S1x1024x256.size a ≤ S2x1024x8960.size a), (Rect.unit (s := S2x1024x8960) (k0_off656 arg24 k0_t3) S1x1024x256.size hinb).PackedRows (EltTy.packing .fp8e4m3)) ∧
  (∀ k0_t3 : Fin (k0_t3_loop arg24).trips, ∀ a, (k0_off657 arg24 k0_t3) a + S1x32x1536.size a ≤ S2x1024x1536.size a) ∧
  (∀ k0_t3 : Fin (k0_t3_loop arg24).trips, ∀ (hinb : ∀ a, (k0_off657 arg24 k0_t3) a + S1x32x1536.size a ≤ S2x1024x1536.size a), (Rect.unit (s := S2x1024x1536) (k0_off657 arg24 k0_t3) S1x32x1536.size hinb).PackedRows (EltTy.packing .fp8e4m3)) ∧
  (∀ k0_t3 : Fin (k0_t3_loop arg24).trips, ∀ a, (k0_off658 arg24 k0_t3) a + S1x1024x256.size a ≤ S2x1024x8960.size a) ∧
  (∀ k0_t3 : Fin (k0_t3_loop arg24).trips, ∀ (hinb : ∀ a, (k0_off658 arg24 k0_t3) a + S1x1024x256.size a ≤ S2x1024x8960.size a), (Rect.unit (s := S2x1024x8960) (k0_off658 arg24 k0_t3) S1x1024x256.size hinb).PackedRows (EltTy.packing .fp8e4m3)) ∧
  (∀ k0_t3 : Fin (k0_t3_loop arg24).trips, ∀ a, (k0_off659 arg24 k0_t3) a + S1x32x1536.size a ≤ S2x1024x1536.size a) ∧
  (∀ k0_t3 : Fin (k0_t3_loop arg24).trips, ∀ (hinb : ∀ a, (k0_off659 arg24 k0_t3) a + S1x32x1536.size a ≤ S2x1024x1536.size a), (Rect.unit (s := S2x1024x1536) (k0_off659 arg24 k0_t3) S1x32x1536.size hinb).PackedRows (EltTy.packing .fp8e4m3))
def k0_chk49_20 (arg24 : BitVec 32) : Prop :=
  (∀ k0_t3 : Fin (k0_t3_loop arg24).trips, ∀ a, (k0_off660 arg24 k0_t3) a + S1x1024x256.size a ≤ S2x1024x8960.size a) ∧
  (∀ k0_t3 : Fin (k0_t3_loop arg24).trips, ∀ (hinb : ∀ a, (k0_off660 arg24 k0_t3) a + S1x1024x256.size a ≤ S2x1024x8960.size a), (Rect.unit (s := S2x1024x8960) (k0_off660 arg24 k0_t3) S1x1024x256.size hinb).PackedRows (EltTy.packing .fp8e4m3)) ∧
  (∀ k0_t3 : Fin (k0_t3_loop arg24).trips, ∀ a, (k0_off661 arg24 k0_t3) a + S1x32x1536.size a ≤ S2x1024x1536.size a) ∧
  (∀ k0_t3 : Fin (k0_t3_loop arg24).trips, ∀ (hinb : ∀ a, (k0_off661 arg24 k0_t3) a + S1x32x1536.size a ≤ S2x1024x1536.size a), (Rect.unit (s := S2x1024x1536) (k0_off661 arg24 k0_t3) S1x32x1536.size hinb).PackedRows (EltTy.packing .fp8e4m3)) ∧
  (∀ k0_t3 : Fin (k0_t3_loop arg24).trips, ∀ a, (k0_off662 arg24 k0_t3) a + S1x1024x256.size a ≤ S2x1024x8960.size a) ∧
  (∀ k0_t3 : Fin (k0_t3_loop arg24).trips, ∀ (hinb : ∀ a, (k0_off662 arg24 k0_t3) a + S1x1024x256.size a ≤ S2x1024x8960.size a), (Rect.unit (s := S2x1024x8960) (k0_off662 arg24 k0_t3) S1x1024x256.size hinb).PackedRows (EltTy.packing .fp8e4m3)) ∧
  (∀ k0_t3 : Fin (k0_t3_loop arg24).trips, ∀ a, (k0_off663 arg24 k0_t3) a + S1x32x1536.size a ≤ S2x1024x1536.size a) ∧
  (∀ k0_t3 : Fin (k0_t3_loop arg24).trips, ∀ (hinb : ∀ a, (k0_off663 arg24 k0_t3) a + S1x32x1536.size a ≤ S2x1024x1536.size a), (Rect.unit (s := S2x1024x1536) (k0_off663 arg24 k0_t3) S1x32x1536.size hinb).PackedRows (EltTy.packing .fp8e4m3)) ∧
  (∀ k0_t3 : Fin (k0_t3_loop arg24).trips, ∀ a, (k0_off664 arg24 k0_t3) a + S1x1024x256.size a ≤ S2x1024x8960.size a) ∧
  (∀ k0_t3 : Fin (k0_t3_loop arg24).trips, ∀ (hinb : ∀ a, (k0_off664 arg24 k0_t3) a + S1x1024x256.size a ≤ S2x1024x8960.size a), (Rect.unit (s := S2x1024x8960) (k0_off664 arg24 k0_t3) S1x1024x256.size hinb).PackedRows (EltTy.packing .fp8e4m3)) ∧
  (∀ k0_t3 : Fin (k0_t3_loop arg24).trips, ∀ a, (k0_off665 arg24 k0_t3) a + S1x32x1536.size a ≤ S2x1024x1536.size a) ∧
  (∀ k0_t3 : Fin (k0_t3_loop arg24).trips, ∀ (hinb : ∀ a, (k0_off665 arg24 k0_t3) a + S1x32x1536.size a ≤ S2x1024x1536.size a), (Rect.unit (s := S2x1024x1536) (k0_off665 arg24 k0_t3) S1x32x1536.size hinb).PackedRows (EltTy.packing .fp8e4m3)) ∧
  (∀ k0_t3 : Fin (k0_t3_loop arg24).trips, ∀ a, (k0_off666 arg24 k0_t3) a + S1x1024x256.size a ≤ S2x1024x8960.size a) ∧
  (∀ k0_t3 : Fin (k0_t3_loop arg24).trips, ∀ (hinb : ∀ a, (k0_off666 arg24 k0_t3) a + S1x1024x256.size a ≤ S2x1024x8960.size a), (Rect.unit (s := S2x1024x8960) (k0_off666 arg24 k0_t3) S1x1024x256.size hinb).PackedRows (EltTy.packing .fp8e4m3)) ∧
  (∀ k0_t3 : Fin (k0_t3_loop arg24).trips, ∀ a, (k0_off667 arg24 k0_t3) a + S1x1024x256.size a ≤ S2x1024x8960.size a) ∧
  (∀ k0_t3 : Fin (k0_t3_loop arg24).trips, ∀ (hinb : ∀ a, (k0_off667 arg24 k0_t3) a + S1x1024x256.size a ≤ S2x1024x8960.size a), (Rect.unit (s := S2x1024x8960) (k0_off667 arg24 k0_t3) S1x1024x256.size hinb).PackedRows (EltTy.packing .fp8e4m3)) ∧
  (∀ k0_t3 : Fin (k0_t3_loop arg24).trips, ∀ a, (k0_off668 arg24 k0_t3) a + S1x1024x256.size a ≤ S2x1024x8960.size a) ∧
  (∀ k0_t3 : Fin (k0_t3_loop arg24).trips, ∀ (hinb : ∀ a, (k0_off668 arg24 k0_t3) a + S1x1024x256.size a ≤ S2x1024x8960.size a), (Rect.unit (s := S2x1024x8960) (k0_off668 arg24 k0_t3) S1x1024x256.size hinb).PackedRows (EltTy.packing .fp8e4m3)) ∧
  (∀ (k0_h11 : k0_cond11 arg24 = 1#1), ∀ a, (k0_off669 arg24) a + S1.size a ≤ S40.size a) ∧
  (∀ (k0_h11 : k0_cond11 arg24 = 1#1), ∀ a, (k0_off671 arg24) a + S1.size a ≤ S2.size a) ∧
  (∀ (k0_h11 : k0_cond11 arg24 = 1#1), ∀ a, (k0_off673 arg24) a + S1x128x1536.size a ≤ S2x1024x1536.size a) ∧
  (∀ (k0_h11 : k0_cond11 arg24 = 1#1), ∀ (hinb : ∀ a, (k0_off673 arg24) a + S1x128x1536.size a ≤ S2x1024x1536.size a), (Rect.unit (s := S2x1024x1536) (k0_off673 arg24) S1x128x1536.size hinb).WholeWords (EltTy.packing .fp8e4m3)) ∧
  (∀ (k0_h11 : k0_cond11 arg24 = 1#1), ∀ a, (k0_off674 arg24) a + S1.size a ≤ S40.size a) ∧
  (∀ (k0_h11 : k0_cond11 arg24 = 1#1), ∀ a, (k0_off676 arg24) a + S1.size a ≤ S2.size a) ∧
  (∀ (k0_h11 : k0_cond11 arg24 = 1#1), ∀ a, (k0_off678 arg24) a + S1x128x1536.size a ≤ S2x1024x1536.size a) ∧
  (∀ (k0_h11 : k0_cond11 arg24 = 1#1), ∀ (hinb : ∀ a, (k0_off678 arg24) a + S1x128x1536.size a ≤ S2x1024x1536.size a), (Rect.unit (s := S2x1024x1536) (k0_off678 arg24) S1x128x1536.size hinb).WholeWords (EltTy.packing .fp8e4m3)) ∧
  (∀ (k0_h11 : k0_cond11 arg24 = 1#1), ∀ a, (k0_off679 arg24) a + S1.size a ≤ S40.size a) ∧
  (∀ (k0_h11 : k0_cond11 arg24 = 1#1), ∀ a, (k0_off681 arg24) a + S1.size a ≤ S2.size a) ∧
  (∀ (k0_h11 : k0_cond11 arg24 = 1#1), ∀ a, (k0_off683 arg24) a + S1x128x1536.size a ≤ S2x1024x1536.size a) ∧
  (∀ (k0_h11 : k0_cond11 arg24 = 1#1), ∀ (hinb : ∀ a, (k0_off683 arg24) a + S1x128x1536.size a ≤ S2x1024x1536.size a), (Rect.unit (s := S2x1024x1536) (k0_off683 arg24) S1x128x1536.size hinb).WholeWords (EltTy.packing .fp8e4m3)) ∧
  (∀ (k0_h11 : k0_cond11 arg24 = 1#1), ∀ a, (k0_off684 arg24) a + S1.size a ≤ S40.size a) ∧
  (∀ (k0_h11 : k0_cond11 arg24 = 1#1), ∀ a, (k0_off686 arg24) a + S1.size a ≤ S2.size a)
def k0_chk49_21 (arg24 : BitVec 32) : Prop :=
  (∀ (k0_h11 : k0_cond11 arg24 = 1#1), ∀ a, (k0_off688 arg24) a + S1x128x1536.size a ≤ S2x1024x1536.size a) ∧
  (∀ (k0_h11 : k0_cond11 arg24 = 1#1), ∀ (hinb : ∀ a, (k0_off688 arg24) a + S1x128x1536.size a ≤ S2x1024x1536.size a), (Rect.unit (s := S2x1024x1536) (k0_off688 arg24) S1x128x1536.size hinb).WholeWords (EltTy.packing .fp8e4m3)) ∧
  (∀ (k0_h11 : k0_cond11 arg24 = 1#1), ∀ a, (k0_off689 arg24) a + S1.size a ≤ S40.size a) ∧
  (∀ (k0_h11 : k0_cond11 arg24 = 1#1), ∀ a, (k0_off691 arg24) a + S1.size a ≤ S2.size a) ∧
  (∀ (k0_h11 : k0_cond11 arg24 = 1#1), ∀ a, (k0_off693 arg24) a + S1x128x1536.size a ≤ S2x1024x1536.size a) ∧
  (∀ (k0_h11 : k0_cond11 arg24 = 1#1), ∀ (hinb : ∀ a, (k0_off693 arg24) a + S1x128x1536.size a ≤ S2x1024x1536.size a), (Rect.unit (s := S2x1024x1536) (k0_off693 arg24) S1x128x1536.size hinb).WholeWords (EltTy.packing .fp8e4m3)) ∧
  (∀ (k0_h11 : k0_cond11 arg24 = 1#1), ∀ a, (k0_off694 arg24) a + S1.size a ≤ S40.size a) ∧
  (∀ (k0_h11 : k0_cond11 arg24 = 1#1), ∀ a, (k0_off696 arg24) a + S1.size a ≤ S2.size a) ∧
  (∀ (k0_h11 : k0_cond11 arg24 = 1#1), ∀ a, (k0_off698 arg24) a + S1x128x1536.size a ≤ S2x1024x1536.size a) ∧
  (∀ (k0_h11 : k0_cond11 arg24 = 1#1), ∀ (hinb : ∀ a, (k0_off698 arg24) a + S1x128x1536.size a ≤ S2x1024x1536.size a), (Rect.unit (s := S2x1024x1536) (k0_off698 arg24) S1x128x1536.size hinb).WholeWords (EltTy.packing .fp8e4m3)) ∧
  (∀ (k0_h11 : k0_cond11 arg24 = 1#1), ∀ a, (k0_off699 arg24) a + S1.size a ≤ S40.size a) ∧
  (∀ (k0_h11 : k0_cond11 arg24 = 1#1), ∀ a, (k0_off701 arg24) a + S1.size a ≤ S2.size a) ∧
  (∀ (k0_h11 : k0_cond11 arg24 = 1#1), ∀ a, (k0_off703 arg24) a + S1x128x1536.size a ≤ S2x1024x1536.size a) ∧
  (∀ (k0_h11 : k0_cond11 arg24 = 1#1), ∀ (hinb : ∀ a, (k0_off703 arg24) a + S1x128x1536.size a ≤ S2x1024x1536.size a), (Rect.unit (s := S2x1024x1536) (k0_off703 arg24) S1x128x1536.size hinb).WholeWords (EltTy.packing .fp8e4m3)) ∧
  (∀ (k0_h11 : k0_cond11 arg24 = 1#1), ∀ a, (k0_off704 arg24) a + S1.size a ≤ S40.size a) ∧
  (∀ (k0_h11 : k0_cond11 arg24 = 1#1), ∀ a, (k0_off706 arg24) a + S1.size a ≤ S2.size a) ∧
  (∀ (k0_h11 : k0_cond11 arg24 = 1#1), ∀ a, (k0_off708 arg24) a + S1x128x1536.size a ≤ S2x1024x1536.size a) ∧
  (∀ (k0_h11 : k0_cond11 arg24 = 1#1), ∀ (hinb : ∀ a, (k0_off708 arg24) a + S1x128x1536.size a ≤ S2x1024x1536.size a), (Rect.unit (s := S2x1024x1536) (k0_off708 arg24) S1x128x1536.size hinb).WholeWords (EltTy.packing .fp8e4m3)) ∧
  (∀ (k0_h11 : k0_cond11 arg24 = 1#1), ∀ a, (k0_off709 arg24) a + S1.size a ≤ S40.size a) ∧
  (∀ (k0_h11 : k0_cond11 arg24 = 1#1), ∀ a, (k0_off711 arg24) a + S1.size a ≤ S2.size a) ∧
  (∀ (k0_h11 : k0_cond11 arg24 = 1#1), ∀ a, (k0_off713 arg24) a + S1x128x8960.size a ≤ S2x1024x8960.size a) ∧
  (∀ (k0_h11 : k0_cond11 arg24 = 1#1), ∀ (hinb : ∀ a, (k0_off713 arg24) a + S1x128x8960.size a ≤ S2x1024x8960.size a), (Rect.unit (s := S2x1024x8960) (k0_off713 arg24) S1x128x8960.size hinb).WholeWords (EltTy.packing .fp8e4m3)) ∧
  (∀ (k0_h11 : k0_cond11 arg24 = 1#1), ∀ a, (k0_off714 arg24) a + S1.size a ≤ S40.size a) ∧
  (∀ (k0_h11 : k0_cond11 arg24 = 1#1), ∀ a, (k0_off716 arg24) a + S1.size a ≤ S2.size a) ∧
  (∀ (k0_h11 : k0_cond11 arg24 = 1#1), ∀ a, (k0_off718 arg24) a + S1x128x8960.size a ≤ S2x1024x8960.size a) ∧
  (∀ (k0_h11 : k0_cond11 arg24 = 1#1), ∀ (hinb : ∀ a, (k0_off718 arg24) a + S1x128x8960.size a ≤ S2x1024x8960.size a), (Rect.unit (s := S2x1024x8960) (k0_off718 arg24) S1x128x8960.size hinb).WholeWords (EltTy.packing .fp8e4m3)) ∧
  (∀ (k0_h11 : k0_cond11 arg24 = 1#1), ∀ a, (k0_off719 arg24) a + S1.size a ≤ S40.size a) ∧
  (∀ (k0_h11 : k0_cond11 arg24 = 1#1), ∀ a, (k0_off721 arg24) a + S1.size a ≤ S2.size a) ∧
  (∀ (k0_h11 : k0_cond11 arg24 = 1#1), ∀ a, (k0_off723 arg24) a + S1x128x8960.size a ≤ S2x1024x8960.size a) ∧
  (∀ (k0_h11 : k0_cond11 arg24 = 1#1), ∀ (hinb : ∀ a, (k0_off723 arg24) a + S1x128x8960.size a ≤ S2x1024x8960.size a), (Rect.unit (s := S2x1024x8960) (k0_off723 arg24) S1x128x8960.size hinb).WholeWords (EltTy.packing .fp8e4m3)) ∧
  (∀ (k0_h11 : k0_cond11 arg24 = 1#1), ∀ a, (k0_off724 arg24) a + S1.size a ≤ S40.size a) ∧
  (∀ (k0_h11 : k0_cond11 arg24 = 1#1), ∀ a, (k0_off726 arg24) a + S1.size a ≤ S2.size a)
def k0_chk49_22 (arg24 : BitVec 32) : Prop :=
  (∀ (k0_h11 : k0_cond11 arg24 = 1#1), ∀ a, (k0_off728 arg24) a + S1x128x8960.size a ≤ S2x1024x8960.size a) ∧
  (∀ (k0_h11 : k0_cond11 arg24 = 1#1), ∀ (hinb : ∀ a, (k0_off728 arg24) a + S1x128x8960.size a ≤ S2x1024x8960.size a), (Rect.unit (s := S2x1024x8960) (k0_off728 arg24) S1x128x8960.size hinb).WholeWords (EltTy.packing .fp8e4m3)) ∧
  (∀ (k0_h11 : k0_cond11 arg24 = 1#1), ∀ a, (k0_off729 arg24) a + S1.size a ≤ S40.size a) ∧
  (∀ (k0_h11 : k0_cond11 arg24 = 1#1), ∀ a, (k0_off731 arg24) a + S1.size a ≤ S2.size a) ∧
  (∀ (k0_h11 : k0_cond11 arg24 = 1#1), ∀ a, (k0_off733 arg24) a + S1x128x8960.size a ≤ S2x1024x8960.size a) ∧
  (∀ (k0_h11 : k0_cond11 arg24 = 1#1), ∀ (hinb : ∀ a, (k0_off733 arg24) a + S1x128x8960.size a ≤ S2x1024x8960.size a), (Rect.unit (s := S2x1024x8960) (k0_off733 arg24) S1x128x8960.size hinb).WholeWords (EltTy.packing .fp8e4m3)) ∧
  (∀ (k0_h11 : k0_cond11 arg24 = 1#1), ∀ a, (k0_off734 arg24) a + S1.size a ≤ S40.size a) ∧
  (∀ (k0_h11 : k0_cond11 arg24 = 1#1), ∀ a, (k0_off736 arg24) a + S1.size a ≤ S2.size a) ∧
  (∀ (k0_h11 : k0_cond11 arg24 = 1#1), ∀ a, (k0_off738 arg24) a + S1x128x8960.size a ≤ S2x1024x8960.size a) ∧
  (∀ (k0_h11 : k0_cond11 arg24 = 1#1), ∀ (hinb : ∀ a, (k0_off738 arg24) a + S1x128x8960.size a ≤ S2x1024x8960.size a), (Rect.unit (s := S2x1024x8960) (k0_off738 arg24) S1x128x8960.size hinb).WholeWords (EltTy.packing .fp8e4m3)) ∧
  (∀ (k0_h11 : k0_cond11 arg24 = 1#1), ∀ a, (k0_off739 arg24) a + S1.size a ≤ S40.size a) ∧
  (∀ (k0_h11 : k0_cond11 arg24 = 1#1), ∀ a, (k0_off741 arg24) a + S1.size a ≤ S2.size a) ∧
  (∀ (k0_h11 : k0_cond11 arg24 = 1#1), ∀ a, (k0_off743 arg24) a + S1x128x8960.size a ≤ S2x1024x8960.size a) ∧
  (∀ (k0_h11 : k0_cond11 arg24 = 1#1), ∀ (hinb : ∀ a, (k0_off743 arg24) a + S1x128x8960.size a ≤ S2x1024x8960.size a), (Rect.unit (s := S2x1024x8960) (k0_off743 arg24) S1x128x8960.size hinb).WholeWords (EltTy.packing .fp8e4m3)) ∧
  (∀ (k0_h11 : k0_cond11 arg24 = 1#1), ∀ a, (k0_off744 arg24) a + S1.size a ≤ S40.size a) ∧
  (∀ (k0_h11 : k0_cond11 arg24 = 1#1), ∀ a, (k0_off746 arg24) a + S1.size a ≤ S2.size a) ∧
  (∀ (k0_h11 : k0_cond11 arg24 = 1#1), ∀ a, (k0_off748 arg24) a + S1x128x8960.size a ≤ S2x1024x8960.size a) ∧
  (∀ (k0_h11 : k0_cond11 arg24 = 1#1), ∀ (hinb : ∀ a, (k0_off748 arg24) a + S1x128x8960.size a ≤ S2x1024x8960.size a), (Rect.unit (s := S2x1024x8960) (k0_off748 arg24) S1x128x8960.size hinb).WholeWords (EltTy.packing .fp8e4m3)) ∧
  (∀ (k0_h11 : k0_cond11 arg24 = 1#1), ∀ (k0_h12 : k0_cond12 arg24 = 1#1), ∀ a, (k0_off749 arg24) a + S1.size a ≤ S40.size a) ∧
  (∀ (k0_h11 : k0_cond11 arg24 = 1#1), ∀ (k0_h12 : k0_cond12 arg24 = 1#1), ∀ a, (k0_off751 arg24) a + S1.size a ≤ S2.size a) ∧
  (∀ (k0_h11 : k0_cond11 arg24 = 1#1), ∀ (k0_h12 : k0_cond12 arg24 = 1#1), ∀ a, (k0_off753 arg24) a + S1x128x8960.size a ≤ S2x1024x8960.size a) ∧
  (∀ (k0_h11 : k0_cond11 arg24 = 1#1), ∀ (k0_h12 : k0_cond12 arg24 = 1#1), ∀ (hinb : ∀ a, (k0_off753 arg24) a + S1x128x8960.size a ≤ S2x1024x8960.size a), (Rect.unit (s := S2x1024x8960) (k0_off753 arg24) S1x128x8960.size hinb).WholeWords (EltTy.packing .fp8e4m3)) ∧
  (∀ (k0_h11 : k0_cond11 arg24 = 1#1), ∀ (k0_h12 : k0_cond12 arg24 = 1#1), ∀ a, (k0_off754 arg24) a + S1.size a ≤ S40.size a) ∧
  (∀ (k0_h11 : k0_cond11 arg24 = 1#1), ∀ (k0_h12 : k0_cond12 arg24 = 1#1), ∀ a, (k0_off756 arg24) a + S1.size a ≤ S2.size a) ∧
  (∀ (k0_h11 : k0_cond11 arg24 = 1#1), ∀ (k0_h12 : k0_cond12 arg24 = 1#1), ∀ a, (k0_off758 arg24) a + S1x128x8960.size a ≤ S2x1024x8960.size a) ∧
  (∀ (k0_h11 : k0_cond11 arg24 = 1#1), ∀ (k0_h12 : k0_cond12 arg24 = 1#1), ∀ (hinb : ∀ a, (k0_off758 arg24) a + S1x128x8960.size a ≤ S2x1024x8960.size a), (Rect.unit (s := S2x1024x8960) (k0_off758 arg24) S1x128x8960.size hinb).WholeWords (EltTy.packing .fp8e4m3)) ∧
  (∀ (k0_h11 : k0_cond11 arg24 = 1#1), ∀ (k0_h12 : k0_cond12 arg24 = 1#1), ∀ a, (k0_off759 arg24) a + S1.size a ≤ S40.size a) ∧
  (∀ (k0_h11 : k0_cond11 arg24 = 1#1), ∀ (k0_h12 : k0_cond12 arg24 = 1#1), ∀ a, (k0_off761 arg24) a + S1.size a ≤ S2.size a) ∧
  (∀ (k0_h11 : k0_cond11 arg24 = 1#1), ∀ (k0_h12 : k0_cond12 arg24 = 1#1), ∀ a, (k0_off763 arg24) a + S1x128x8960.size a ≤ S2x1024x8960.size a) ∧
  (∀ (k0_h11 : k0_cond11 arg24 = 1#1), ∀ (k0_h12 : k0_cond12 arg24 = 1#1), ∀ (hinb : ∀ a, (k0_off763 arg24) a + S1x128x8960.size a ≤ S2x1024x8960.size a), (Rect.unit (s := S2x1024x8960) (k0_off763 arg24) S1x128x8960.size hinb).WholeWords (EltTy.packing .fp8e4m3)) ∧
  (∀ (k0_h11 : k0_cond11 arg24 = 1#1), ∀ (k0_h12 : k0_cond12 arg24 = 1#1), ∀ a, (k0_off764 arg24) a + S1.size a ≤ S40.size a) ∧
  (∀ (k0_h11 : k0_cond11 arg24 = 1#1), ∀ (k0_h12 : k0_cond12 arg24 = 1#1), ∀ a, (k0_off766 arg24) a + S1.size a ≤ S2.size a)
def k0_chk49_23 (arg24 : BitVec 32) : Prop :=
  (∀ (k0_h11 : k0_cond11 arg24 = 1#1), ∀ (k0_h12 : k0_cond12 arg24 = 1#1), ∀ a, (k0_off768 arg24) a + S1x128x8960.size a ≤ S2x1024x8960.size a) ∧
  (∀ (k0_h11 : k0_cond11 arg24 = 1#1), ∀ (k0_h12 : k0_cond12 arg24 = 1#1), ∀ (hinb : ∀ a, (k0_off768 arg24) a + S1x128x8960.size a ≤ S2x1024x8960.size a), (Rect.unit (s := S2x1024x8960) (k0_off768 arg24) S1x128x8960.size hinb).WholeWords (EltTy.packing .fp8e4m3)) ∧
  (∀ (k0_h11 : k0_cond11 arg24 = 1#1), ∀ (k0_h12 : k0_cond12 arg24 = 1#1), ∀ a, (k0_off769 arg24) a + S1.size a ≤ S40.size a) ∧
  (∀ (k0_h11 : k0_cond11 arg24 = 1#1), ∀ (k0_h12 : k0_cond12 arg24 = 1#1), ∀ a, (k0_off771 arg24) a + S1.size a ≤ S2.size a) ∧
  (∀ (k0_h11 : k0_cond11 arg24 = 1#1), ∀ (k0_h12 : k0_cond12 arg24 = 1#1), ∀ a, (k0_off773 arg24) a + S1x128x8960.size a ≤ S2x1024x8960.size a) ∧
  (∀ (k0_h11 : k0_cond11 arg24 = 1#1), ∀ (k0_h12 : k0_cond12 arg24 = 1#1), ∀ (hinb : ∀ a, (k0_off773 arg24) a + S1x128x8960.size a ≤ S2x1024x8960.size a), (Rect.unit (s := S2x1024x8960) (k0_off773 arg24) S1x128x8960.size hinb).WholeWords (EltTy.packing .fp8e4m3)) ∧
  (∀ (k0_h11 : k0_cond11 arg24 = 1#1), ∀ (k0_h12 : k0_cond12 arg24 = 1#1), ∀ a, (k0_off774 arg24) a + S1.size a ≤ S40.size a) ∧
  (∀ (k0_h11 : k0_cond11 arg24 = 1#1), ∀ (k0_h12 : k0_cond12 arg24 = 1#1), ∀ a, (k0_off776 arg24) a + S1.size a ≤ S2.size a) ∧
  (∀ (k0_h11 : k0_cond11 arg24 = 1#1), ∀ (k0_h12 : k0_cond12 arg24 = 1#1), ∀ a, (k0_off778 arg24) a + S1x128x8960.size a ≤ S2x1024x8960.size a) ∧
  (∀ (k0_h11 : k0_cond11 arg24 = 1#1), ∀ (k0_h12 : k0_cond12 arg24 = 1#1), ∀ (hinb : ∀ a, (k0_off778 arg24) a + S1x128x8960.size a ≤ S2x1024x8960.size a), (Rect.unit (s := S2x1024x8960) (k0_off778 arg24) S1x128x8960.size hinb).WholeWords (EltTy.packing .fp8e4m3)) ∧
  (∀ (k0_h11 : k0_cond11 arg24 = 1#1), ∀ (k0_h12 : k0_cond12 arg24 = 1#1), ∀ a, (k0_off779 arg24) a + S1.size a ≤ S40.size a) ∧
  (∀ (k0_h11 : k0_cond11 arg24 = 1#1), ∀ (k0_h12 : k0_cond12 arg24 = 1#1), ∀ a, (k0_off781 arg24) a + S1.size a ≤ S2.size a) ∧
  (∀ (k0_h11 : k0_cond11 arg24 = 1#1), ∀ (k0_h12 : k0_cond12 arg24 = 1#1), ∀ a, (k0_off783 arg24) a + S1x128x8960.size a ≤ S2x1024x8960.size a) ∧
  (∀ (k0_h11 : k0_cond11 arg24 = 1#1), ∀ (k0_h12 : k0_cond12 arg24 = 1#1), ∀ (hinb : ∀ a, (k0_off783 arg24) a + S1x128x8960.size a ≤ S2x1024x8960.size a), (Rect.unit (s := S2x1024x8960) (k0_off783 arg24) S1x128x8960.size hinb).WholeWords (EltTy.packing .fp8e4m3)) ∧
  (∀ (k0_h11 : k0_cond11 arg24 = 1#1), ∀ (k0_h12 : k0_cond12 arg24 = 1#1), ∀ a, (k0_off784 arg24) a + S1.size a ≤ S40.size a) ∧
  (∀ (k0_h11 : k0_cond11 arg24 = 1#1), ∀ (k0_h12 : k0_cond12 arg24 = 1#1), ∀ a, (k0_off786 arg24) a + S1.size a ≤ S2.size a) ∧
  (∀ (k0_h11 : k0_cond11 arg24 = 1#1), ∀ (k0_h12 : k0_cond12 arg24 = 1#1), ∀ a, (k0_off788 arg24) a + S1x128x8960.size a ≤ S2x1024x8960.size a) ∧
  (∀ (k0_h11 : k0_cond11 arg24 = 1#1), ∀ (k0_h12 : k0_cond12 arg24 = 1#1), ∀ (hinb : ∀ a, (k0_off788 arg24) a + S1x128x8960.size a ≤ S2x1024x8960.size a), (Rect.unit (s := S2x1024x8960) (k0_off788 arg24) S1x128x8960.size hinb).WholeWords (EltTy.packing .fp8e4m3)) ∧
  (∀ (k0_h11 : k0_cond11 arg24 = 1#1), ∀ a, (k0_off789 arg24) a + S1.size a ≤ S40.size a) ∧
  (∀ (k0_h11 : k0_cond11 arg24 = 1#1), ∀ a, (k0_off791 arg24) a + S1.size a ≤ S2.size a) ∧
  (∀ (k0_h11 : k0_cond11 arg24 = 1#1), ∀ a, (k0_off793 arg24) a + S1x128x8960.size a ≤ S2x1024x8960.size a) ∧
  (∀ (k0_h11 : k0_cond11 arg24 = 1#1), ∀ (hinb : ∀ a, (k0_off793 arg24) a + S1x128x8960.size a ≤ S2x1024x8960.size a), (Rect.unit (s := S2x1024x8960) (k0_off793 arg24) S1x128x8960.size hinb).WholeWords (EltTy.packing .fp8e4m3)) ∧
  (∀ (k0_h11 : k0_cond11 arg24 = 1#1), ∀ a, (k0_off794 arg24) a + S1.size a ≤ S40.size a) ∧
  (∀ (k0_h11 : k0_cond11 arg24 = 1#1), ∀ a, (k0_off796 arg24) a + S1.size a ≤ S2.size a) ∧
  (∀ (k0_h11 : k0_cond11 arg24 = 1#1), ∀ a, (k0_off798 arg24) a + S1x128x8960.size a ≤ S2x1024x8960.size a) ∧
  (∀ (k0_h11 : k0_cond11 arg24 = 1#1), ∀ (hinb : ∀ a, (k0_off798 arg24) a + S1x128x8960.size a ≤ S2x1024x8960.size a), (Rect.unit (s := S2x1024x8960) (k0_off798 arg24) S1x128x8960.size hinb).WholeWords (EltTy.packing .fp8e4m3)) ∧
  (∀ (k0_h11 : k0_cond11 arg24 = 1#1), ∀ a, (k0_off799 arg24) a + S1.size a ≤ S40.size a) ∧
  (∀ (k0_h11 : k0_cond11 arg24 = 1#1), ∀ a, (k0_off801 arg24) a + S1.size a ≤ S2.size a) ∧
  (∀ (k0_h11 : k0_cond11 arg24 = 1#1), ∀ a, (k0_off803 arg24) a + S1x128x8960.size a ≤ S2x1024x8960.size a) ∧
  (∀ (k0_h11 : k0_cond11 arg24 = 1#1), ∀ (hinb : ∀ a, (k0_off803 arg24) a + S1x128x8960.size a ≤ S2x1024x8960.size a), (Rect.unit (s := S2x1024x8960) (k0_off803 arg24) S1x128x8960.size hinb).WholeWords (EltTy.packing .fp8e4m3)) ∧
  (∀ (k0_h11 : k0_cond11 arg24 = 1#1), ∀ a, (k0_off804 arg24) a + S1.size a ≤ S40.size a) ∧
  (∀ (k0_h11 : k0_cond11 arg24 = 1#1), ∀ a, (k0_off806 arg24) a + S1.size a ≤ S2.size a)
def k0_chk49_24 (arg24 : BitVec 32) : Prop :=
  (∀ (k0_h11 : k0_cond11 arg24 = 1#1), ∀ a, (k0_off808 arg24) a + S1x128x8960.size a ≤ S2x1024x8960.size a) ∧
  (∀ (k0_h11 : k0_cond11 arg24 = 1#1), ∀ (hinb : ∀ a, (k0_off808 arg24) a + S1x128x8960.size a ≤ S2x1024x8960.size a), (Rect.unit (s := S2x1024x8960) (k0_off808 arg24) S1x128x8960.size hinb).WholeWords (EltTy.packing .fp8e4m3)) ∧
  (∀ (k0_h11 : k0_cond11 arg24 = 1#1), ∀ a, (k0_off809 arg24) a + S1.size a ≤ S40.size a) ∧
  (∀ (k0_h11 : k0_cond11 arg24 = 1#1), ∀ a, (k0_off811 arg24) a + S1.size a ≤ S2.size a) ∧
  (∀ (k0_h11 : k0_cond11 arg24 = 1#1), ∀ a, (k0_off813 arg24) a + S1x128x8960.size a ≤ S2x1024x8960.size a) ∧
  (∀ (k0_h11 : k0_cond11 arg24 = 1#1), ∀ (hinb : ∀ a, (k0_off813 arg24) a + S1x128x8960.size a ≤ S2x1024x8960.size a), (Rect.unit (s := S2x1024x8960) (k0_off813 arg24) S1x128x8960.size hinb).WholeWords (EltTy.packing .fp8e4m3)) ∧
  (∀ (k0_h11 : k0_cond11 arg24 = 1#1), ∀ a, (k0_off814 arg24) a + S1.size a ≤ S40.size a) ∧
  (∀ (k0_h11 : k0_cond11 arg24 = 1#1), ∀ a, (k0_off816 arg24) a + S1.size a ≤ S2.size a) ∧
  (∀ (k0_h11 : k0_cond11 arg24 = 1#1), ∀ a, (k0_off818 arg24) a + S1x128x8960.size a ≤ S2x1024x8960.size a) ∧
  (∀ (k0_h11 : k0_cond11 arg24 = 1#1), ∀ (hinb : ∀ a, (k0_off818 arg24) a + S1x128x8960.size a ≤ S2x1024x8960.size a), (Rect.unit (s := S2x1024x8960) (k0_off818 arg24) S1x128x8960.size hinb).WholeWords (EltTy.packing .fp8e4m3)) ∧
  (∀ (k0_h11 : k0_cond11 arg24 = 1#1), ∀ a, (k0_off819 arg24) a + S1.size a ≤ S40.size a) ∧
  (∀ (k0_h11 : k0_cond11 arg24 = 1#1), ∀ a, (k0_off821 arg24) a + S1.size a ≤ S2.size a) ∧
  (∀ (k0_h11 : k0_cond11 arg24 = 1#1), ∀ a, (k0_off823 arg24) a + S1x128x8960.size a ≤ S2x1024x8960.size a) ∧
  (∀ (k0_h11 : k0_cond11 arg24 = 1#1), ∀ (hinb : ∀ a, (k0_off823 arg24) a + S1x128x8960.size a ≤ S2x1024x8960.size a), (Rect.unit (s := S2x1024x8960) (k0_off823 arg24) S1x128x8960.size hinb).WholeWords (EltTy.packing .fp8e4m3)) ∧
  (∀ (k0_h11 : k0_cond11 arg24 = 1#1), ∀ a, (k0_off824 arg24) a + S1.size a ≤ S40.size a) ∧
  (∀ (k0_h11 : k0_cond11 arg24 = 1#1), ∀ a, (k0_off826 arg24) a + S1.size a ≤ S2.size a) ∧
  (∀ (k0_h11 : k0_cond11 arg24 = 1#1), ∀ a, (k0_off828 arg24) a + S1x128x8960.size a ≤ S2x1024x8960.size a) ∧
  (∀ (k0_h11 : k0_cond11 arg24 = 1#1), ∀ (hinb : ∀ a, (k0_off828 arg24) a + S1x128x8960.size a ≤ S2x1024x8960.size a), (Rect.unit (s := S2x1024x8960) (k0_off828 arg24) S1x128x8960.size hinb).WholeWords (EltTy.packing .fp8e4m3))
def k0_chk49 (arg24 : BitVec 32) : Prop :=
  k0_chk49_0 arg24 ∧
  k0_chk49_1 arg24 ∧
  k0_chk49_2 arg24 ∧
  k0_chk49_3 arg24 ∧
  k0_chk49_4 arg24 ∧
  k0_chk49_5 arg24 ∧
  k0_chk49_6 arg24 ∧
  k0_chk49_7 arg24 ∧
  k0_chk49_8 arg24 ∧
  k0_chk49_9 arg24 ∧
  k0_chk49_10 arg24 ∧
  k0_chk49_11 arg24 ∧
  k0_chk49_12 arg24 ∧
  k0_chk49_13 arg24 ∧
  k0_chk49_14 arg24 ∧
  k0_chk49_15 arg24 ∧
  k0_chk49_16 arg24 ∧
  k0_chk49_17 arg24 ∧
  k0_chk49_18 arg24 ∧
  k0_chk49_19 arg24 ∧
  k0_chk49_20 arg24 ∧
  k0_chk49_21 arg24 ∧
  k0_chk49_22 arg24 ∧
  k0_chk49_23 arg24 ∧
  k0_chk49_24 arg24
theorem k0_t2_ok : ∀ (arg24 : BitVec 32) (k0_hw49 : k0_chk49 arg24), (k0_t2_loop arg24).OK := fun arg24 k0_hw49 => k0_hw49.1.1
theorem k0_off49_inb : ∀ (arg24 : BitVec 32) (k0_hw49 : k0_chk49 arg24) (k0_t2 : Fin (k0_t2_loop arg24).trips), ∀ (k0_h3 : k0_cond3 arg24 k0_t2 = 1#1), ∀ a, (k0_off49 arg24 k0_t2) a + S1.size a ≤ S40.size a := fun arg24 k0_hw49 k0_t2 k0_h3 => k0_hw49.1.2.1 k0_t2 k0_h3
theorem k0_off51_inb : ∀ (arg24 : BitVec 32) (k0_hw49 : k0_chk49 arg24) (k0_t2 : Fin (k0_t2_loop arg24).trips), ∀ (k0_h3 : k0_cond3 arg24 k0_t2 = 1#1), ∀ a, (k0_off51 arg24 k0_t2) a + S1.size a ≤ S2.size a := fun arg24 k0_hw49 k0_t2 k0_h3 => k0_hw49.1.2.2.1 k0_t2 k0_h3
theorem k0_off52_inb : ∀ (arg24 : BitVec 32) (k0_hw49 : k0_chk49 arg24) (k0_t2 : Fin (k0_t2_loop arg24).trips), ∀ (k0_h3 : k0_cond3 arg24 k0_t2 = 1#1), ∀ a, (k0_off52 arg24 k0_t2) a + S1x128x1536.size a ≤ S2x1024x1536.size a := fun arg24 k0_hw49 k0_t2 k0_h3 => k0_hw49.1.2.2.2.1 k0_t2 k0_h3
theorem k0_off52_wordsbf16 : ∀ (arg24 : BitVec 32) (k0_hw49 : k0_chk49 arg24) (k0_t2 : Fin (k0_t2_loop arg24).trips), ∀ (k0_h3 : k0_cond3 arg24 k0_t2 = 1#1), (Rect.unit (s := S2x1024x1536) (k0_off52 arg24 k0_t2) S1x128x1536.size (k0_off52_inb arg24 k0_hw49 k0_t2 k0_h3)).WholeWords (EltTy.packing .bf16) := fun arg24 k0_hw49 k0_t2 k0_h3 => k0_hw49.1.2.2.2.2.1 k0_t2 k0_h3 (k0_off52_inb arg24 k0_hw49 k0_t2 k0_h3)
theorem k0_off54_inb : ∀ (arg24 : BitVec 32) (k0_hw49 : k0_chk49 arg24) (k0_t2 : Fin (k0_t2_loop arg24).trips), ∀ (k0_h3 : k0_cond3 arg24 k0_t2 = 1#1), ∀ a, (k0_off54 arg24 k0_t2) a + S1.size a ≤ S40.size a := fun arg24 k0_hw49 k0_t2 k0_h3 => k0_hw49.1.2.2.2.2.2.1 k0_t2 k0_h3
theorem k0_off56_inb : ∀ (arg24 : BitVec 32) (k0_hw49 : k0_chk49 arg24) (k0_t2 : Fin (k0_t2_loop arg24).trips), ∀ (k0_h3 : k0_cond3 arg24 k0_t2 = 1#1), ∀ a, (k0_off56 arg24 k0_t2) a + S1.size a ≤ S2.size a := fun arg24 k0_hw49 k0_t2 k0_h3 => k0_hw49.1.2.2.2.2.2.2.1 k0_t2 k0_h3
theorem k0_off57_inb : ∀ (arg24 : BitVec 32) (k0_hw49 : k0_chk49 arg24) (k0_t2 : Fin (k0_t2_loop arg24).trips), ∀ (k0_h3 : k0_cond3 arg24 k0_t2 = 1#1), ∀ a, (k0_off57 arg24 k0_t2) a + S1x128x1536.size a ≤ S2x1024x1536.size a := fun arg24 k0_hw49 k0_t2 k0_h3 => k0_hw49.1.2.2.2.2.2.2.2.1 k0_t2 k0_h3
theorem k0_off57_wordsbf16 : ∀ (arg24 : BitVec 32) (k0_hw49 : k0_chk49 arg24) (k0_t2 : Fin (k0_t2_loop arg24).trips), ∀ (k0_h3 : k0_cond3 arg24 k0_t2 = 1#1), (Rect.unit (s := S2x1024x1536) (k0_off57 arg24 k0_t2) S1x128x1536.size (k0_off57_inb arg24 k0_hw49 k0_t2 k0_h3)).WholeWords (EltTy.packing .bf16) := fun arg24 k0_hw49 k0_t2 k0_h3 => k0_hw49.1.2.2.2.2.2.2.2.2.1 k0_t2 k0_h3 (k0_off57_inb arg24 k0_hw49 k0_t2 k0_h3)
theorem k0_off59_inb : ∀ (arg24 : BitVec 32) (k0_hw49 : k0_chk49 arg24) (k0_t2 : Fin (k0_t2_loop arg24).trips), ∀ (k0_h3 : k0_cond3 arg24 k0_t2 = 1#1), ∀ a, (k0_off59 arg24 k0_t2) a + S1.size a ≤ S40.size a := fun arg24 k0_hw49 k0_t2 k0_h3 => k0_hw49.1.2.2.2.2.2.2.2.2.2.1 k0_t2 k0_h3
theorem k0_off61_inb : ∀ (arg24 : BitVec 32) (k0_hw49 : k0_chk49 arg24) (k0_t2 : Fin (k0_t2_loop arg24).trips), ∀ (k0_h3 : k0_cond3 arg24 k0_t2 = 1#1), ∀ a, (k0_off61 arg24 k0_t2) a + S1.size a ≤ S2.size a := fun arg24 k0_hw49 k0_t2 k0_h3 => k0_hw49.1.2.2.2.2.2.2.2.2.2.2.1 k0_t2 k0_h3
theorem k0_off62_inb : ∀ (arg24 : BitVec 32) (k0_hw49 : k0_chk49 arg24) (k0_t2 : Fin (k0_t2_loop arg24).trips), ∀ (k0_h3 : k0_cond3 arg24 k0_t2 = 1#1), ∀ a, (k0_off62 arg24 k0_t2) a + S1x128x1536.size a ≤ S2x1024x1536.size a := fun arg24 k0_hw49 k0_t2 k0_h3 => k0_hw49.1.2.2.2.2.2.2.2.2.2.2.2.1 k0_t2 k0_h3
theorem k0_off62_wordsbf16 : ∀ (arg24 : BitVec 32) (k0_hw49 : k0_chk49 arg24) (k0_t2 : Fin (k0_t2_loop arg24).trips), ∀ (k0_h3 : k0_cond3 arg24 k0_t2 = 1#1), (Rect.unit (s := S2x1024x1536) (k0_off62 arg24 k0_t2) S1x128x1536.size (k0_off62_inb arg24 k0_hw49 k0_t2 k0_h3)).WholeWords (EltTy.packing .bf16) := fun arg24 k0_hw49 k0_t2 k0_h3 => k0_hw49.1.2.2.2.2.2.2.2.2.2.2.2.2.1 k0_t2 k0_h3 (k0_off62_inb arg24 k0_hw49 k0_t2 k0_h3)
theorem k0_off64_inb : ∀ (arg24 : BitVec 32) (k0_hw49 : k0_chk49 arg24) (k0_t2 : Fin (k0_t2_loop arg24).trips), ∀ (k0_h3 : k0_cond3 arg24 k0_t2 = 1#1), ∀ a, (k0_off64 arg24 k0_t2) a + S1.size a ≤ S40.size a := fun arg24 k0_hw49 k0_t2 k0_h3 => k0_hw49.1.2.2.2.2.2.2.2.2.2.2.2.2.2.1 k0_t2 k0_h3
theorem k0_off66_inb : ∀ (arg24 : BitVec 32) (k0_hw49 : k0_chk49 arg24) (k0_t2 : Fin (k0_t2_loop arg24).trips), ∀ (k0_h3 : k0_cond3 arg24 k0_t2 = 1#1), ∀ a, (k0_off66 arg24 k0_t2) a + S1.size a ≤ S2.size a := fun arg24 k0_hw49 k0_t2 k0_h3 => k0_hw49.1.2.2.2.2.2.2.2.2.2.2.2.2.2.2.1 k0_t2 k0_h3
theorem k0_off67_inb : ∀ (arg24 : BitVec 32) (k0_hw49 : k0_chk49 arg24) (k0_t2 : Fin (k0_t2_loop arg24).trips), ∀ (k0_h3 : k0_cond3 arg24 k0_t2 = 1#1), ∀ a, (k0_off67 arg24 k0_t2) a + S1x128x1536.size a ≤ S2x1024x1536.size a := fun arg24 k0_hw49 k0_t2 k0_h3 => k0_hw49.1.2.2.2.2.2.2.2.2.2.2.2.2.2.2.2.1 k0_t2 k0_h3
theorem k0_off67_wordsbf16 : ∀ (arg24 : BitVec 32) (k0_hw49 : k0_chk49 arg24) (k0_t2 : Fin (k0_t2_loop arg24).trips), ∀ (k0_h3 : k0_cond3 arg24 k0_t2 = 1#1), (Rect.unit (s := S2x1024x1536) (k0_off67 arg24 k0_t2) S1x128x1536.size (k0_off67_inb arg24 k0_hw49 k0_t2 k0_h3)).WholeWords (EltTy.packing .bf16) := fun arg24 k0_hw49 k0_t2 k0_h3 => k0_hw49.1.2.2.2.2.2.2.2.2.2.2.2.2.2.2.2.2.1 k0_t2 k0_h3 (k0_off67_inb arg24 k0_hw49 k0_t2 k0_h3)
theorem k0_off69_inb : ∀ (arg24 : BitVec 32) (k0_hw49 : k0_chk49 arg24) (k0_t2 : Fin (k0_t2_loop arg24).trips), ∀ (k0_h3 : k0_cond3 arg24 k0_t2 = 1#1), ∀ a, (k0_off69 arg24 k0_t2) a + S1.size a ≤ S40.size a := fun arg24 k0_hw49 k0_t2 k0_h3 => k0_hw49.1.2.2.2.2.2.2.2.2.2.2.2.2.2.2.2.2.2.1 k0_t2 k0_h3
theorem k0_off71_inb : ∀ (arg24 : BitVec 32) (k0_hw49 : k0_chk49 arg24) (k0_t2 : Fin (k0_t2_loop arg24).trips), ∀ (k0_h3 : k0_cond3 arg24 k0_t2 = 1#1), ∀ a, (k0_off71 arg24 k0_t2) a + S1.size a ≤ S2.size a := fun arg24 k0_hw49 k0_t2 k0_h3 => k0_hw49.1.2.2.2.2.2.2.2.2.2.2.2.2.2.2.2.2.2.2.1 k0_t2 k0_h3
theorem k0_off72_inb : ∀ (arg24 : BitVec 32) (k0_hw49 : k0_chk49 arg24) (k0_t2 : Fin (k0_t2_loop arg24).trips), ∀ (k0_h3 : k0_cond3 arg24 k0_t2 = 1#1), ∀ a, (k0_off72 arg24 k0_t2) a + S1x128x1536.size a ≤ S2x1024x1536.size a := fun arg24 k0_hw49 k0_t2 k0_h3 => k0_hw49.1.2.2.2.2.2.2.2.2.2.2.2.2.2.2.2.2.2.2.2.1 k0_t2 k0_h3
theorem k0_off72_wordsbf16 : ∀ (arg24 : BitVec 32) (k0_hw49 : k0_chk49 arg24) (k0_t2 : Fin (k0_t2_loop arg24).trips), ∀ (k0_h3 : k0_cond3 arg24 k0_t2 = 1#1), (Rect.unit (s := S2x1024x1536) (k0_off72 arg24 k0_t2) S1x128x1536.size (k0_off72_inb arg24 k0_hw49 k0_t2 k0_h3)).WholeWords (EltTy.packing .bf16) := fun arg24 k0_hw49 k0_t2 k0_h3 => k0_hw49.1.2.2.2.2.2.2.2.2.2.2.2.2.2.2.2.2.2.2.2.2.1 k0_t2 k0_h3 (k0_off72_inb arg24 k0_hw49 k0_t2 k0_h3)
theorem k0_off74_inb : ∀ (arg24 : BitVec 32) (k0_hw49 : k0_chk49 arg24) (k0_t2 : Fin (k0_t2_loop arg24).trips), ∀ (k0_h3 : k0_cond3 arg24 k0_t2 = 1#1), ∀ a, (k0_off74 arg24 k0_t2) a + S1.size a ≤ S40.size a := fun arg24 k0_hw49 k0_t2 k0_h3 => k0_hw49.1.2.2.2.2.2.2.2.2.2.2.2.2.2.2.2.2.2.2.2.2.2.1 k0_t2 k0_h3
theorem k0_off76_inb : ∀ (arg24 : BitVec 32) (k0_hw49 : k0_chk49 arg24) (k0_t2 : Fin (k0_t2_loop arg24).trips), ∀ (k0_h3 : k0_cond3 arg24 k0_t2 = 1#1), ∀ a, (k0_off76 arg24 k0_t2) a + S1.size a ≤ S2.size a := fun arg24 k0_hw49 k0_t2 k0_h3 => k0_hw49.1.2.2.2.2.2.2.2.2.2.2.2.2.2.2.2.2.2.2.2.2.2.2.1 k0_t2 k0_h3
theorem k0_off77_inb : ∀ (arg24 : BitVec 32) (k0_hw49 : k0_chk49 arg24) (k0_t2 : Fin (k0_t2_loop arg24).trips), ∀ (k0_h3 : k0_cond3 arg24 k0_t2 = 1#1), ∀ a, (k0_off77 arg24 k0_t2) a + S1x128x1536.size a ≤ S2x1024x1536.size a := fun arg24 k0_hw49 k0_t2 k0_h3 => k0_hw49.1.2.2.2.2.2.2.2.2.2.2.2.2.2.2.2.2.2.2.2.2.2.2.2.1 k0_t2 k0_h3
theorem k0_off77_wordsbf16 : ∀ (arg24 : BitVec 32) (k0_hw49 : k0_chk49 arg24) (k0_t2 : Fin (k0_t2_loop arg24).trips), ∀ (k0_h3 : k0_cond3 arg24 k0_t2 = 1#1), (Rect.unit (s := S2x1024x1536) (k0_off77 arg24 k0_t2) S1x128x1536.size (k0_off77_inb arg24 k0_hw49 k0_t2 k0_h3)).WholeWords (EltTy.packing .bf16) := fun arg24 k0_hw49 k0_t2 k0_h3 => k0_hw49.1.2.2.2.2.2.2.2.2.2.2.2.2.2.2.2.2.2.2.2.2.2.2.2.2.1 k0_t2 k0_h3 (k0_off77_inb arg24 k0_hw49 k0_t2 k0_h3)
theorem k0_off79_inb : ∀ (arg24 : BitVec 32) (k0_hw49 : k0_chk49 arg24) (k0_t2 : Fin (k0_t2_loop arg24).trips), ∀ (k0_h3 : k0_cond3 arg24 k0_t2 = 1#1), ∀ a, (k0_off79 arg24 k0_t2) a + S1.size a ≤ S40.size a := fun arg24 k0_hw49 k0_t2 k0_h3 => k0_hw49.1.2.2.2.2.2.2.2.2.2.2.2.2.2.2.2.2.2.2.2.2.2.2.2.2.2.1 k0_t2 k0_h3
theorem k0_off81_inb : ∀ (arg24 : BitVec 32) (k0_hw49 : k0_chk49 arg24) (k0_t2 : Fin (k0_t2_loop arg24).trips), ∀ (k0_h3 : k0_cond3 arg24 k0_t2 = 1#1), ∀ a, (k0_off81 arg24 k0_t2) a + S1.size a ≤ S2.size a := fun arg24 k0_hw49 k0_t2 k0_h3 => k0_hw49.1.2.2.2.2.2.2.2.2.2.2.2.2.2.2.2.2.2.2.2.2.2.2.2.2.2.2.1 k0_t2 k0_h3
theorem k0_off82_inb : ∀ (arg24 : BitVec 32) (k0_hw49 : k0_chk49 arg24) (k0_t2 : Fin (k0_t2_loop arg24).trips), ∀ (k0_h3 : k0_cond3 arg24 k0_t2 = 1#1), ∀ a, (k0_off82 arg24 k0_t2) a + S1x128x1536.size a ≤ S2x1024x1536.size a := fun arg24 k0_hw49 k0_t2 k0_h3 => k0_hw49.1.2.2.2.2.2.2.2.2.2.2.2.2.2.2.2.2.2.2.2.2.2.2.2.2.2.2.2.1 k0_t2 k0_h3
theorem k0_off82_wordsbf16 : ∀ (arg24 : BitVec 32) (k0_hw49 : k0_chk49 arg24) (k0_t2 : Fin (k0_t2_loop arg24).trips), ∀ (k0_h3 : k0_cond3 arg24 k0_t2 = 1#1), (Rect.unit (s := S2x1024x1536) (k0_off82 arg24 k0_t2) S1x128x1536.size (k0_off82_inb arg24 k0_hw49 k0_t2 k0_h3)).WholeWords (EltTy.packing .bf16) := fun arg24 k0_hw49 k0_t2 k0_h3 => k0_hw49.1.2.2.2.2.2.2.2.2.2.2.2.2.2.2.2.2.2.2.2.2.2.2.2.2.2.2.2.2.1 k0_t2 k0_h3 (k0_off82_inb arg24 k0_hw49 k0_t2 k0_h3)
theorem k0_off84_inb : ∀ (arg24 : BitVec 32) (k0_hw49 : k0_chk49 arg24) (k0_t2 : Fin (k0_t2_loop arg24).trips), ∀ (k0_h3 : k0_cond3 arg24 k0_t2 = 1#1), ∀ a, (k0_off84 arg24 k0_t2) a + S1.size a ≤ S40.size a := fun arg24 k0_hw49 k0_t2 k0_h3 => k0_hw49.1.2.2.2.2.2.2.2.2.2.2.2.2.2.2.2.2.2.2.2.2.2.2.2.2.2.2.2.2.2.1 k0_t2 k0_h3
theorem k0_off86_inb : ∀ (arg24 : BitVec 32) (k0_hw49 : k0_chk49 arg24) (k0_t2 : Fin (k0_t2_loop arg24).trips), ∀ (k0_h3 : k0_cond3 arg24 k0_t2 = 1#1), ∀ a, (k0_off86 arg24 k0_t2) a + S1.size a ≤ S2.size a := fun arg24 k0_hw49 k0_t2 k0_h3 => k0_hw49.1.2.2.2.2.2.2.2.2.2.2.2.2.2.2.2.2.2.2.2.2.2.2.2.2.2.2.2.2.2.2.1 k0_t2 k0_h3
theorem k0_off87_inb : ∀ (arg24 : BitVec 32) (k0_hw49 : k0_chk49 arg24) (k0_t2 : Fin (k0_t2_loop arg24).trips), ∀ (k0_h3 : k0_cond3 arg24 k0_t2 = 1#1), ∀ a, (k0_off87 arg24 k0_t2) a + S1x128x1536.size a ≤ S2x1024x1536.size a := fun arg24 k0_hw49 k0_t2 k0_h3 => k0_hw49.1.2.2.2.2.2.2.2.2.2.2.2.2.2.2.2.2.2.2.2.2.2.2.2.2.2.2.2.2.2.2.2 k0_t2 k0_h3
theorem k0_off87_wordsbf16 : ∀ (arg24 : BitVec 32) (k0_hw49 : k0_chk49 arg24) (k0_t2 : Fin (k0_t2_loop arg24).trips), ∀ (k0_h3 : k0_cond3 arg24 k0_t2 = 1#1), (Rect.unit (s := S2x1024x1536) (k0_off87 arg24 k0_t2) S1x128x1536.size (k0_off87_inb arg24 k0_hw49 k0_t2 k0_h3)).WholeWords (EltTy.packing .bf16) := fun arg24 k0_hw49 k0_t2 k0_h3 => k0_hw49.2.1.1 k0_t2 k0_h3 (k0_off87_inb arg24 k0_hw49 k0_t2 k0_h3)
theorem k0_off89_inb : ∀ (arg24 : BitVec 32) (k0_hw49 : k0_chk49 arg24) (k0_t2 : Fin (k0_t2_loop arg24).trips), ∀ (k0_h4 : k0_cond4 arg24 k0_t2 = 1#1), ∀ a, (k0_off89 arg24 k0_t2) a + S1.size a ≤ S40.size a := fun arg24 k0_hw49 k0_t2 k0_h4 => k0_hw49.2.1.2.1 k0_t2 k0_h4
theorem k0_off91_inb : ∀ (arg24 : BitVec 32) (k0_hw49 : k0_chk49 arg24) (k0_t2 : Fin (k0_t2_loop arg24).trips), ∀ (k0_h4 : k0_cond4 arg24 k0_t2 = 1#1), ∀ a, (k0_off91 arg24 k0_t2) a + S1.size a ≤ S2.size a := fun arg24 k0_hw49 k0_t2 k0_h4 => k0_hw49.2.1.2.2.1 k0_t2 k0_h4
theorem k0_off93_inb : ∀ (arg24 : BitVec 32) (k0_hw49 : k0_chk49 arg24) (k0_t2 : Fin (k0_t2_loop arg24).trips), ∀ (k0_h4 : k0_cond4 arg24 k0_t2 = 1#1), ∀ a, (k0_off93 arg24 k0_t2) a + S1x128x1536.size a ≤ S2x1024x1536.size a := fun arg24 k0_hw49 k0_t2 k0_h4 => k0_hw49.2.1.2.2.2.1 k0_t2 k0_h4
theorem k0_off93_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x1536) (k0_off93 arg24 k0_t2) S1x128x1536.size (k0_off93_inb arg24 k0_hw49 k0_t2 k0_h4)).WholeWords (EltTy.packing .fp8e4m3) := fun arg24 k0_hw49 k0_t2 k0_h4 => k0_hw49.2.1.2.2.2.2.1 k0_t2 k0_h4 (k0_off93_inb arg24 k0_hw49 k0_t2 k0_h4)
theorem k0_off94_inb : ∀ (arg24 : BitVec 32) (k0_hw49 : k0_chk49 arg24) (k0_t2 : Fin (k0_t2_loop arg24).trips), ∀ (k0_h4 : k0_cond4 arg24 k0_t2 = 1#1), ∀ a, (k0_off94 arg24 k0_t2) a + S1.size a ≤ S40.size a := fun arg24 k0_hw49 k0_t2 k0_h4 => k0_hw49.2.1.2.2.2.2.2.1 k0_t2 k0_h4
theorem k0_off96_inb : ∀ (arg24 : BitVec 32) (k0_hw49 : k0_chk49 arg24) (k0_t2 : Fin (k0_t2_loop arg24).trips), ∀ (k0_h4 : k0_cond4 arg24 k0_t2 = 1#1), ∀ a, (k0_off96 arg24 k0_t2) a + S1.size a ≤ S2.size a := fun arg24 k0_hw49 k0_t2 k0_h4 => k0_hw49.2.1.2.2.2.2.2.2.1 k0_t2 k0_h4
theorem k0_off98_inb : ∀ (arg24 : BitVec 32) (k0_hw49 : k0_chk49 arg24) (k0_t2 : Fin (k0_t2_loop arg24).trips), ∀ (k0_h4 : k0_cond4 arg24 k0_t2 = 1#1), ∀ a, (k0_off98 arg24 k0_t2) a + S1x128x1536.size a ≤ S2x1024x1536.size a := fun arg24 k0_hw49 k0_t2 k0_h4 => k0_hw49.2.1.2.2.2.2.2.2.2.1 k0_t2 k0_h4
theorem k0_off98_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x1536) (k0_off98 arg24 k0_t2) S1x128x1536.size (k0_off98_inb arg24 k0_hw49 k0_t2 k0_h4)).WholeWords (EltTy.packing .fp8e4m3) := fun arg24 k0_hw49 k0_t2 k0_h4 => k0_hw49.2.1.2.2.2.2.2.2.2.2.1 k0_t2 k0_h4 (k0_off98_inb arg24 k0_hw49 k0_t2 k0_h4)
theorem k0_off99_inb : ∀ (arg24 : BitVec 32) (k0_hw49 : k0_chk49 arg24) (k0_t2 : Fin (k0_t2_loop arg24).trips), ∀ (k0_h4 : k0_cond4 arg24 k0_t2 = 1#1), ∀ a, (k0_off99 arg24 k0_t2) a + S1.size a ≤ S40.size a := fun arg24 k0_hw49 k0_t2 k0_h4 => k0_hw49.2.1.2.2.2.2.2.2.2.2.2.1 k0_t2 k0_h4
theorem k0_off101_inb : ∀ (arg24 : BitVec 32) (k0_hw49 : k0_chk49 arg24) (k0_t2 : Fin (k0_t2_loop arg24).trips), ∀ (k0_h4 : k0_cond4 arg24 k0_t2 = 1#1), ∀ a, (k0_off101 arg24 k0_t2) a + S1.size a ≤ S2.size a := fun arg24 k0_hw49 k0_t2 k0_h4 => k0_hw49.2.1.2.2.2.2.2.2.2.2.2.2.1 k0_t2 k0_h4
theorem k0_off103_inb : ∀ (arg24 : BitVec 32) (k0_hw49 : k0_chk49 arg24) (k0_t2 : Fin (k0_t2_loop arg24).trips), ∀ (k0_h4 : k0_cond4 arg24 k0_t2 = 1#1), ∀ a, (k0_off103 arg24 k0_t2) a + S1x128x1536.size a ≤ S2x1024x1536.size a := fun arg24 k0_hw49 k0_t2 k0_h4 => k0_hw49.2.1.2.2.2.2.2.2.2.2.2.2.2.1 k0_t2 k0_h4
theorem k0_off103_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x1536) (k0_off103 arg24 k0_t2) S1x128x1536.size (k0_off103_inb arg24 k0_hw49 k0_t2 k0_h4)).WholeWords (EltTy.packing .fp8e4m3) := fun arg24 k0_hw49 k0_t2 k0_h4 => k0_hw49.2.1.2.2.2.2.2.2.2.2.2.2.2.2.1 k0_t2 k0_h4 (k0_off103_inb arg24 k0_hw49 k0_t2 k0_h4)
theorem k0_off104_inb : ∀ (arg24 : BitVec 32) (k0_hw49 : k0_chk49 arg24) (k0_t2 : Fin (k0_t2_loop arg24).trips), ∀ (k0_h4 : k0_cond4 arg24 k0_t2 = 1#1), ∀ a, (k0_off104 arg24 k0_t2) a + S1.size a ≤ S40.size a := fun arg24 k0_hw49 k0_t2 k0_h4 => k0_hw49.2.1.2.2.2.2.2.2.2.2.2.2.2.2.2.1 k0_t2 k0_h4
theorem k0_off106_inb : ∀ (arg24 : BitVec 32) (k0_hw49 : k0_chk49 arg24) (k0_t2 : Fin (k0_t2_loop arg24).trips), ∀ (k0_h4 : k0_cond4 arg24 k0_t2 = 1#1), ∀ a, (k0_off106 arg24 k0_t2) a + S1.size a ≤ S2.size a := fun arg24 k0_hw49 k0_t2 k0_h4 => k0_hw49.2.1.2.2.2.2.2.2.2.2.2.2.2.2.2.2.1 k0_t2 k0_h4
theorem k0_off108_inb : ∀ (arg24 : BitVec 32) (k0_hw49 : k0_chk49 arg24) (k0_t2 : Fin (k0_t2_loop arg24).trips), ∀ (k0_h4 : k0_cond4 arg24 k0_t2 = 1#1), ∀ a, (k0_off108 arg24 k0_t2) a + S1x128x1536.size a ≤ S2x1024x1536.size a := fun arg24 k0_hw49 k0_t2 k0_h4 => k0_hw49.2.1.2.2.2.2.2.2.2.2.2.2.2.2.2.2.2.1 k0_t2 k0_h4
theorem k0_off108_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x1536) (k0_off108 arg24 k0_t2) S1x128x1536.size (k0_off108_inb arg24 k0_hw49 k0_t2 k0_h4)).WholeWords (EltTy.packing .fp8e4m3) := fun arg24 k0_hw49 k0_t2 k0_h4 => k0_hw49.2.1.2.2.2.2.2.2.2.2.2.2.2.2.2.2.2.2.1 k0_t2 k0_h4 (k0_off108_inb arg24 k0_hw49 k0_t2 k0_h4)
theorem k0_off109_inb : ∀ (arg24 : BitVec 32) (k0_hw49 : k0_chk49 arg24) (k0_t2 : Fin (k0_t2_loop arg24).trips), ∀ (k0_h4 : k0_cond4 arg24 k0_t2 = 1#1), ∀ a, (k0_off109 arg24 k0_t2) a + S1.size a ≤ S40.size a := fun arg24 k0_hw49 k0_t2 k0_h4 => k0_hw49.2.1.2.2.2.2.2.2.2.2.2.2.2.2.2.2.2.2.2.1 k0_t2 k0_h4
theorem k0_off111_inb : ∀ (arg24 : BitVec 32) (k0_hw49 : k0_chk49 arg24) (k0_t2 : Fin (k0_t2_loop arg24).trips), ∀ (k0_h4 : k0_cond4 arg24 k0_t2 = 1#1), ∀ a, (k0_off111 arg24 k0_t2) a + S1.size a ≤ S2.size a := fun arg24 k0_hw49 k0_t2 k0_h4 => k0_hw49.2.1.2.2.2.2.2.2.2.2.2.2.2.2.2.2.2.2.2.2.1 k0_t2 k0_h4
theorem k0_off113_inb : ∀ (arg24 : BitVec 32) (k0_hw49 : k0_chk49 arg24) (k0_t2 : Fin (k0_t2_loop arg24).trips), ∀ (k0_h4 : k0_cond4 arg24 k0_t2 = 1#1), ∀ a, (k0_off113 arg24 k0_t2) a + S1x128x1536.size a ≤ S2x1024x1536.size a := fun arg24 k0_hw49 k0_t2 k0_h4 => k0_hw49.2.1.2.2.2.2.2.2.2.2.2.2.2.2.2.2.2.2.2.2.2.1 k0_t2 k0_h4
theorem k0_off113_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x1536) (k0_off113 arg24 k0_t2) S1x128x1536.size (k0_off113_inb arg24 k0_hw49 k0_t2 k0_h4)).WholeWords (EltTy.packing .fp8e4m3) := fun arg24 k0_hw49 k0_t2 k0_h4 => k0_hw49.2.1.2.2.2.2.2.2.2.2.2.2.2.2.2.2.2.2.2.2.2.2.1 k0_t2 k0_h4 (k0_off113_inb arg24 k0_hw49 k0_t2 k0_h4)
theorem k0_off114_inb : ∀ (arg24 : BitVec 32) (k0_hw49 : k0_chk49 arg24) (k0_t2 : Fin (k0_t2_loop arg24).trips), ∀ (k0_h4 : k0_cond4 arg24 k0_t2 = 1#1), ∀ a, (k0_off114 arg24 k0_t2) a + S1.size a ≤ S40.size a := fun arg24 k0_hw49 k0_t2 k0_h4 => k0_hw49.2.1.2.2.2.2.2.2.2.2.2.2.2.2.2.2.2.2.2.2.2.2.2.1 k0_t2 k0_h4
theorem k0_off116_inb : ∀ (arg24 : BitVec 32) (k0_hw49 : k0_chk49 arg24) (k0_t2 : Fin (k0_t2_loop arg24).trips), ∀ (k0_h4 : k0_cond4 arg24 k0_t2 = 1#1), ∀ a, (k0_off116 arg24 k0_t2) a + S1.size a ≤ S2.size a := fun arg24 k0_hw49 k0_t2 k0_h4 => k0_hw49.2.1.2.2.2.2.2.2.2.2.2.2.2.2.2.2.2.2.2.2.2.2.2.2.1 k0_t2 k0_h4
theorem k0_off118_inb : ∀ (arg24 : BitVec 32) (k0_hw49 : k0_chk49 arg24) (k0_t2 : Fin (k0_t2_loop arg24).trips), ∀ (k0_h4 : k0_cond4 arg24 k0_t2 = 1#1), ∀ a, (k0_off118 arg24 k0_t2) a + S1x128x1536.size a ≤ S2x1024x1536.size a := fun arg24 k0_hw49 k0_t2 k0_h4 => k0_hw49.2.1.2.2.2.2.2.2.2.2.2.2.2.2.2.2.2.2.2.2.2.2.2.2.2.1 k0_t2 k0_h4
theorem k0_off118_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x1536) (k0_off118 arg24 k0_t2) S1x128x1536.size (k0_off118_inb arg24 k0_hw49 k0_t2 k0_h4)).WholeWords (EltTy.packing .fp8e4m3) := fun arg24 k0_hw49 k0_t2 k0_h4 => k0_hw49.2.1.2.2.2.2.2.2.2.2.2.2.2.2.2.2.2.2.2.2.2.2.2.2.2.2.1 k0_t2 k0_h4 (k0_off118_inb arg24 k0_hw49 k0_t2 k0_h4)
theorem k0_off119_inb : ∀ (arg24 : BitVec 32) (k0_hw49 : k0_chk49 arg24) (k0_t2 : Fin (k0_t2_loop arg24).trips), ∀ (k0_h4 : k0_cond4 arg24 k0_t2 = 1#1), ∀ a, (k0_off119 arg24 k0_t2) a + S1.size a ≤ S40.size a := fun arg24 k0_hw49 k0_t2 k0_h4 => k0_hw49.2.1.2.2.2.2.2.2.2.2.2.2.2.2.2.2.2.2.2.2.2.2.2.2.2.2.2.1 k0_t2 k0_h4
theorem k0_off121_inb : ∀ (arg24 : BitVec 32) (k0_hw49 : k0_chk49 arg24) (k0_t2 : Fin (k0_t2_loop arg24).trips), ∀ (k0_h4 : k0_cond4 arg24 k0_t2 = 1#1), ∀ a, (k0_off121 arg24 k0_t2) a + S1.size a ≤ S2.size a := fun arg24 k0_hw49 k0_t2 k0_h4 => k0_hw49.2.1.2.2.2.2.2.2.2.2.2.2.2.2.2.2.2.2.2.2.2.2.2.2.2.2.2.2.1 k0_t2 k0_h4
theorem k0_off123_inb : ∀ (arg24 : BitVec 32) (k0_hw49 : k0_chk49 arg24) (k0_t2 : Fin (k0_t2_loop arg24).trips), ∀ (k0_h4 : k0_cond4 arg24 k0_t2 = 1#1), ∀ a, (k0_off123 arg24 k0_t2) a + S1x128x1536.size a ≤ S2x1024x1536.size a := fun arg24 k0_hw49 k0_t2 k0_h4 => k0_hw49.2.1.2.2.2.2.2.2.2.2.2.2.2.2.2.2.2.2.2.2.2.2.2.2.2.2.2.2.2.1 k0_t2 k0_h4
theorem k0_off123_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x1536) (k0_off123 arg24 k0_t2) S1x128x1536.size (k0_off123_inb arg24 k0_hw49 k0_t2 k0_h4)).WholeWords (EltTy.packing .fp8e4m3) := fun arg24 k0_hw49 k0_t2 k0_h4 => k0_hw49.2.1.2.2.2.2.2.2.2.2.2.2.2.2.2.2.2.2.2.2.2.2.2.2.2.2.2.2.2.2.1 k0_t2 k0_h4 (k0_off123_inb arg24 k0_hw49 k0_t2 k0_h4)
theorem k0_off124_inb : ∀ (arg24 : BitVec 32) (k0_hw49 : k0_chk49 arg24) (k0_t2 : Fin (k0_t2_loop arg24).trips), ∀ (k0_h4 : k0_cond4 arg24 k0_t2 = 1#1), ∀ a, (k0_off124 arg24 k0_t2) a + S1.size a ≤ S40.size a := fun arg24 k0_hw49 k0_t2 k0_h4 => k0_hw49.2.1.2.2.2.2.2.2.2.2.2.2.2.2.2.2.2.2.2.2.2.2.2.2.2.2.2.2.2.2.2.1 k0_t2 k0_h4
theorem k0_off126_inb : ∀ (arg24 : BitVec 32) (k0_hw49 : k0_chk49 arg24) (k0_t2 : Fin (k0_t2_loop arg24).trips), ∀ (k0_h4 : k0_cond4 arg24 k0_t2 = 1#1), ∀ a, (k0_off126 arg24 k0_t2) a + S1.size a ≤ S2.size a := fun arg24 k0_hw49 k0_t2 k0_h4 => k0_hw49.2.1.2.2.2.2.2.2.2.2.2.2.2.2.2.2.2.2.2.2.2.2.2.2.2.2.2.2.2.2.2.2.1 k0_t2 k0_h4
theorem k0_off128_inb : ∀ (arg24 : BitVec 32) (k0_hw49 : k0_chk49 arg24) (k0_t2 : Fin (k0_t2_loop arg24).trips), ∀ (k0_h4 : k0_cond4 arg24 k0_t2 = 1#1), ∀ a, (k0_off128 arg24 k0_t2) a + S1x128x1536.size a ≤ S2x1024x1536.size a := fun arg24 k0_hw49 k0_t2 k0_h4 => k0_hw49.2.1.2.2.2.2.2.2.2.2.2.2.2.2.2.2.2.2.2.2.2.2.2.2.2.2.2.2.2.2.2.2.2 k0_t2 k0_h4
theorem k0_off128_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x1536) (k0_off128 arg24 k0_t2) S1x128x1536.size (k0_off128_inb arg24 k0_hw49 k0_t2 k0_h4)).WholeWords (EltTy.packing .fp8e4m3) := fun arg24 k0_hw49 k0_t2 k0_h4 => k0_hw49.2.2.1.1 k0_t2 k0_h4 (k0_off128_inb arg24 k0_hw49 k0_t2 k0_h4)
theorem k0_off129_inb : ∀ (arg24 : BitVec 32) (k0_hw49 : k0_chk49 arg24) (k0_t2 : Fin (k0_t2_loop arg24).trips), ∀ (k0_h4 : k0_cond4 arg24 k0_t2 = 1#1), ∀ a, (k0_off129 arg24 k0_t2) a + S1.size a ≤ S40.size a := fun arg24 k0_hw49 k0_t2 k0_h4 => k0_hw49.2.2.1.2.1 k0_t2 k0_h4
theorem k0_off131_inb : ∀ (arg24 : BitVec 32) (k0_hw49 : k0_chk49 arg24) (k0_t2 : Fin (k0_t2_loop arg24).trips), ∀ (k0_h4 : k0_cond4 arg24 k0_t2 = 1#1), ∀ a, (k0_off131 arg24 k0_t2) a + S1.size a ≤ S2.size a := fun arg24 k0_hw49 k0_t2 k0_h4 => k0_hw49.2.2.1.2.2.1 k0_t2 k0_h4
theorem k0_off133_inb : ∀ (arg24 : BitVec 32) (k0_hw49 : k0_chk49 arg24) (k0_t2 : Fin (k0_t2_loop arg24).trips), ∀ (k0_h4 : k0_cond4 arg24 k0_t2 = 1#1), ∀ a, (k0_off133 arg24 k0_t2) a + S1x128x8960.size a ≤ S2x1024x8960.size a := fun arg24 k0_hw49 k0_t2 k0_h4 => k0_hw49.2.2.1.2.2.2.1 k0_t2 k0_h4
theorem k0_off133_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x8960) (k0_off133 arg24 k0_t2) S1x128x8960.size (k0_off133_inb arg24 k0_hw49 k0_t2 k0_h4)).WholeWords (EltTy.packing .fp8e4m3) := fun arg24 k0_hw49 k0_t2 k0_h4 => k0_hw49.2.2.1.2.2.2.2.1 k0_t2 k0_h4 (k0_off133_inb arg24 k0_hw49 k0_t2 k0_h4)
theorem k0_off134_inb : ∀ (arg24 : BitVec 32) (k0_hw49 : k0_chk49 arg24) (k0_t2 : Fin (k0_t2_loop arg24).trips), ∀ (k0_h4 : k0_cond4 arg24 k0_t2 = 1#1), ∀ a, (k0_off134 arg24 k0_t2) a + S1.size a ≤ S40.size a := fun arg24 k0_hw49 k0_t2 k0_h4 => k0_hw49.2.2.1.2.2.2.2.2.1 k0_t2 k0_h4
theorem k0_off136_inb : ∀ (arg24 : BitVec 32) (k0_hw49 : k0_chk49 arg24) (k0_t2 : Fin (k0_t2_loop arg24).trips), ∀ (k0_h4 : k0_cond4 arg24 k0_t2 = 1#1), ∀ a, (k0_off136 arg24 k0_t2) a + S1.size a ≤ S2.size a := fun arg24 k0_hw49 k0_t2 k0_h4 => k0_hw49.2.2.1.2.2.2.2.2.2.1 k0_t2 k0_h4
theorem k0_off138_inb : ∀ (arg24 : BitVec 32) (k0_hw49 : k0_chk49 arg24) (k0_t2 : Fin (k0_t2_loop arg24).trips), ∀ (k0_h4 : k0_cond4 arg24 k0_t2 = 1#1), ∀ a, (k0_off138 arg24 k0_t2) a + S1x128x8960.size a ≤ S2x1024x8960.size a := fun arg24 k0_hw49 k0_t2 k0_h4 => k0_hw49.2.2.1.2.2.2.2.2.2.2.1 k0_t2 k0_h4
theorem k0_off138_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x8960) (k0_off138 arg24 k0_t2) S1x128x8960.size (k0_off138_inb arg24 k0_hw49 k0_t2 k0_h4)).WholeWords (EltTy.packing .fp8e4m3) := fun arg24 k0_hw49 k0_t2 k0_h4 => k0_hw49.2.2.1.2.2.2.2.2.2.2.2.1 k0_t2 k0_h4 (k0_off138_inb arg24 k0_hw49 k0_t2 k0_h4)
theorem k0_off139_inb : ∀ (arg24 : BitVec 32) (k0_hw49 : k0_chk49 arg24) (k0_t2 : Fin (k0_t2_loop arg24).trips), ∀ (k0_h4 : k0_cond4 arg24 k0_t2 = 1#1), ∀ a, (k0_off139 arg24 k0_t2) a + S1.size a ≤ S40.size a := fun arg24 k0_hw49 k0_t2 k0_h4 => k0_hw49.2.2.1.2.2.2.2.2.2.2.2.2.1 k0_t2 k0_h4
theorem k0_off141_inb : ∀ (arg24 : BitVec 32) (k0_hw49 : k0_chk49 arg24) (k0_t2 : Fin (k0_t2_loop arg24).trips), ∀ (k0_h4 : k0_cond4 arg24 k0_t2 = 1#1), ∀ a, (k0_off141 arg24 k0_t2) a + S1.size a ≤ S2.size a := fun arg24 k0_hw49 k0_t2 k0_h4 => k0_hw49.2.2.1.2.2.2.2.2.2.2.2.2.2.1 k0_t2 k0_h4
theorem k0_off143_inb : ∀ (arg24 : BitVec 32) (k0_hw49 : k0_chk49 arg24) (k0_t2 : Fin (k0_t2_loop arg24).trips), ∀ (k0_h4 : k0_cond4 arg24 k0_t2 = 1#1), ∀ a, (k0_off143 arg24 k0_t2) a + S1x128x8960.size a ≤ S2x1024x8960.size a := fun arg24 k0_hw49 k0_t2 k0_h4 => k0_hw49.2.2.1.2.2.2.2.2.2.2.2.2.2.2.1 k0_t2 k0_h4
theorem k0_off143_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x8960) (k0_off143 arg24 k0_t2) S1x128x8960.size (k0_off143_inb arg24 k0_hw49 k0_t2 k0_h4)).WholeWords (EltTy.packing .fp8e4m3) := fun arg24 k0_hw49 k0_t2 k0_h4 => k0_hw49.2.2.1.2.2.2.2.2.2.2.2.2.2.2.2.1 k0_t2 k0_h4 (k0_off143_inb arg24 k0_hw49 k0_t2 k0_h4)
theorem k0_off144_inb : ∀ (arg24 : BitVec 32) (k0_hw49 : k0_chk49 arg24) (k0_t2 : Fin (k0_t2_loop arg24).trips), ∀ (k0_h4 : k0_cond4 arg24 k0_t2 = 1#1), ∀ a, (k0_off144 arg24 k0_t2) a + S1.size a ≤ S40.size a := fun arg24 k0_hw49 k0_t2 k0_h4 => k0_hw49.2.2.1.2.2.2.2.2.2.2.2.2.2.2.2.2.1 k0_t2 k0_h4
theorem k0_off146_inb : ∀ (arg24 : BitVec 32) (k0_hw49 : k0_chk49 arg24) (k0_t2 : Fin (k0_t2_loop arg24).trips), ∀ (k0_h4 : k0_cond4 arg24 k0_t2 = 1#1), ∀ a, (k0_off146 arg24 k0_t2) a + S1.size a ≤ S2.size a := fun arg24 k0_hw49 k0_t2 k0_h4 => k0_hw49.2.2.1.2.2.2.2.2.2.2.2.2.2.2.2.2.2.1 k0_t2 k0_h4
theorem k0_off148_inb : ∀ (arg24 : BitVec 32) (k0_hw49 : k0_chk49 arg24) (k0_t2 : Fin (k0_t2_loop arg24).trips), ∀ (k0_h4 : k0_cond4 arg24 k0_t2 = 1#1), ∀ a, (k0_off148 arg24 k0_t2) a + S1x128x8960.size a ≤ S2x1024x8960.size a := fun arg24 k0_hw49 k0_t2 k0_h4 => k0_hw49.2.2.1.2.2.2.2.2.2.2.2.2.2.2.2.2.2.2.1 k0_t2 k0_h4
theorem k0_off148_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x8960) (k0_off148 arg24 k0_t2) S1x128x8960.size (k0_off148_inb arg24 k0_hw49 k0_t2 k0_h4)).WholeWords (EltTy.packing .fp8e4m3) := fun arg24 k0_hw49 k0_t2 k0_h4 => k0_hw49.2.2.1.2.2.2.2.2.2.2.2.2.2.2.2.2.2.2.2.1 k0_t2 k0_h4 (k0_off148_inb arg24 k0_hw49 k0_t2 k0_h4)
theorem k0_off149_inb : ∀ (arg24 : BitVec 32) (k0_hw49 : k0_chk49 arg24) (k0_t2 : Fin (k0_t2_loop arg24).trips), ∀ (k0_h4 : k0_cond4 arg24 k0_t2 = 1#1), ∀ a, (k0_off149 arg24 k0_t2) a + S1.size a ≤ S40.size a := fun arg24 k0_hw49 k0_t2 k0_h4 => k0_hw49.2.2.1.2.2.2.2.2.2.2.2.2.2.2.2.2.2.2.2.2.1 k0_t2 k0_h4
theorem k0_off151_inb : ∀ (arg24 : BitVec 32) (k0_hw49 : k0_chk49 arg24) (k0_t2 : Fin (k0_t2_loop arg24).trips), ∀ (k0_h4 : k0_cond4 arg24 k0_t2 = 1#1), ∀ a, (k0_off151 arg24 k0_t2) a + S1.size a ≤ S2.size a := fun arg24 k0_hw49 k0_t2 k0_h4 => k0_hw49.2.2.1.2.2.2.2.2.2.2.2.2.2.2.2.2.2.2.2.2.2.1 k0_t2 k0_h4
theorem k0_off153_inb : ∀ (arg24 : BitVec 32) (k0_hw49 : k0_chk49 arg24) (k0_t2 : Fin (k0_t2_loop arg24).trips), ∀ (k0_h4 : k0_cond4 arg24 k0_t2 = 1#1), ∀ a, (k0_off153 arg24 k0_t2) a + S1x128x8960.size a ≤ S2x1024x8960.size a := fun arg24 k0_hw49 k0_t2 k0_h4 => k0_hw49.2.2.1.2.2.2.2.2.2.2.2.2.2.2.2.2.2.2.2.2.2.2.1 k0_t2 k0_h4
theorem k0_off153_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x8960) (k0_off153 arg24 k0_t2) S1x128x8960.size (k0_off153_inb arg24 k0_hw49 k0_t2 k0_h4)).WholeWords (EltTy.packing .fp8e4m3) := fun arg24 k0_hw49 k0_t2 k0_h4 => k0_hw49.2.2.1.2.2.2.2.2.2.2.2.2.2.2.2.2.2.2.2.2.2.2.2.1 k0_t2 k0_h4 (k0_off153_inb arg24 k0_hw49 k0_t2 k0_h4)
theorem k0_off154_inb : ∀ (arg24 : BitVec 32) (k0_hw49 : k0_chk49 arg24) (k0_t2 : Fin (k0_t2_loop arg24).trips), ∀ (k0_h4 : k0_cond4 arg24 k0_t2 = 1#1), ∀ a, (k0_off154 arg24 k0_t2) a + S1.size a ≤ S40.size a := fun arg24 k0_hw49 k0_t2 k0_h4 => k0_hw49.2.2.1.2.2.2.2.2.2.2.2.2.2.2.2.2.2.2.2.2.2.2.2.2.1 k0_t2 k0_h4
theorem k0_off156_inb : ∀ (arg24 : BitVec 32) (k0_hw49 : k0_chk49 arg24) (k0_t2 : Fin (k0_t2_loop arg24).trips), ∀ (k0_h4 : k0_cond4 arg24 k0_t2 = 1#1), ∀ a, (k0_off156 arg24 k0_t2) a + S1.size a ≤ S2.size a := fun arg24 k0_hw49 k0_t2 k0_h4 => k0_hw49.2.2.1.2.2.2.2.2.2.2.2.2.2.2.2.2.2.2.2.2.2.2.2.2.2.1 k0_t2 k0_h4
theorem k0_off158_inb : ∀ (arg24 : BitVec 32) (k0_hw49 : k0_chk49 arg24) (k0_t2 : Fin (k0_t2_loop arg24).trips), ∀ (k0_h4 : k0_cond4 arg24 k0_t2 = 1#1), ∀ a, (k0_off158 arg24 k0_t2) a + S1x128x8960.size a ≤ S2x1024x8960.size a := fun arg24 k0_hw49 k0_t2 k0_h4 => k0_hw49.2.2.1.2.2.2.2.2.2.2.2.2.2.2.2.2.2.2.2.2.2.2.2.2.2.2.1 k0_t2 k0_h4
theorem k0_off158_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x8960) (k0_off158 arg24 k0_t2) S1x128x8960.size (k0_off158_inb arg24 k0_hw49 k0_t2 k0_h4)).WholeWords (EltTy.packing .fp8e4m3) := fun arg24 k0_hw49 k0_t2 k0_h4 => k0_hw49.2.2.1.2.2.2.2.2.2.2.2.2.2.2.2.2.2.2.2.2.2.2.2.2.2.2.2.1 k0_t2 k0_h4 (k0_off158_inb arg24 k0_hw49 k0_t2 k0_h4)
theorem k0_off159_inb : ∀ (arg24 : BitVec 32) (k0_hw49 : k0_chk49 arg24) (k0_t2 : Fin (k0_t2_loop arg24).trips), ∀ (k0_h4 : k0_cond4 arg24 k0_t2 = 1#1), ∀ a, (k0_off159 arg24 k0_t2) a + S1.size a ≤ S40.size a := fun arg24 k0_hw49 k0_t2 k0_h4 => k0_hw49.2.2.1.2.2.2.2.2.2.2.2.2.2.2.2.2.2.2.2.2.2.2.2.2.2.2.2.2.1 k0_t2 k0_h4
theorem k0_off161_inb : ∀ (arg24 : BitVec 32) (k0_hw49 : k0_chk49 arg24) (k0_t2 : Fin (k0_t2_loop arg24).trips), ∀ (k0_h4 : k0_cond4 arg24 k0_t2 = 1#1), ∀ a, (k0_off161 arg24 k0_t2) a + S1.size a ≤ S2.size a := fun arg24 k0_hw49 k0_t2 k0_h4 => k0_hw49.2.2.1.2.2.2.2.2.2.2.2.2.2.2.2.2.2.2.2.2.2.2.2.2.2.2.2.2.2.1 k0_t2 k0_h4
theorem k0_off163_inb : ∀ (arg24 : BitVec 32) (k0_hw49 : k0_chk49 arg24) (k0_t2 : Fin (k0_t2_loop arg24).trips), ∀ (k0_h4 : k0_cond4 arg24 k0_t2 = 1#1), ∀ a, (k0_off163 arg24 k0_t2) a + S1x128x8960.size a ≤ S2x1024x8960.size a := fun arg24 k0_hw49 k0_t2 k0_h4 => k0_hw49.2.2.1.2.2.2.2.2.2.2.2.2.2.2.2.2.2.2.2.2.2.2.2.2.2.2.2.2.2.2.1 k0_t2 k0_h4
theorem k0_off163_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x8960) (k0_off163 arg24 k0_t2) S1x128x8960.size (k0_off163_inb arg24 k0_hw49 k0_t2 k0_h4)).WholeWords (EltTy.packing .fp8e4m3) := fun arg24 k0_hw49 k0_t2 k0_h4 => k0_hw49.2.2.1.2.2.2.2.2.2.2.2.2.2.2.2.2.2.2.2.2.2.2.2.2.2.2.2.2.2.2.2.1 k0_t2 k0_h4 (k0_off163_inb arg24 k0_hw49 k0_t2 k0_h4)
theorem k0_off164_inb : ∀ (arg24 : BitVec 32) (k0_hw49 : k0_chk49 arg24) (k0_t2 : Fin (k0_t2_loop arg24).trips), ∀ (k0_h4 : k0_cond4 arg24 k0_t2 = 1#1), ∀ a, (k0_off164 arg24 k0_t2) a + S1.size a ≤ S40.size a := fun arg24 k0_hw49 k0_t2 k0_h4 => k0_hw49.2.2.1.2.2.2.2.2.2.2.2.2.2.2.2.2.2.2.2.2.2.2.2.2.2.2.2.2.2.2.2.2.1 k0_t2 k0_h4
theorem k0_off166_inb : ∀ (arg24 : BitVec 32) (k0_hw49 : k0_chk49 arg24) (k0_t2 : Fin (k0_t2_loop arg24).trips), ∀ (k0_h4 : k0_cond4 arg24 k0_t2 = 1#1), ∀ a, (k0_off166 arg24 k0_t2) a + S1.size a ≤ S2.size a := fun arg24 k0_hw49 k0_t2 k0_h4 => k0_hw49.2.2.1.2.2.2.2.2.2.2.2.2.2.2.2.2.2.2.2.2.2.2.2.2.2.2.2.2.2.2.2.2.2.1 k0_t2 k0_h4
theorem k0_off168_inb : ∀ (arg24 : BitVec 32) (k0_hw49 : k0_chk49 arg24) (k0_t2 : Fin (k0_t2_loop arg24).trips), ∀ (k0_h4 : k0_cond4 arg24 k0_t2 = 1#1), ∀ a, (k0_off168 arg24 k0_t2) a + S1x128x8960.size a ≤ S2x1024x8960.size a := fun arg24 k0_hw49 k0_t2 k0_h4 => k0_hw49.2.2.1.2.2.2.2.2.2.2.2.2.2.2.2.2.2.2.2.2.2.2.2.2.2.2.2.2.2.2.2.2.2.2 k0_t2 k0_h4
theorem k0_off168_wordsfp8e4m3 : ∀ (arg24 : BitVec 32) (k0_hw49 : k0_chk49 arg24) (k0_t2 : Fin (k0_t2_loop arg24).trips), ∀ (k0_h4 : k0_cond4 arg24 k0_t2 = 1#1), (Rect.unit (s := S2x1024x8960) (k0_off168 arg24 k0_t2) S1x128x8960.size (k0_off168_inb arg24 k0_hw49 k0_t2 k0_h4)).WholeWords (EltTy.packing .fp8e4m3) := fun arg24 k0_hw49 k0_t2 k0_h4 => k0_hw49.2.2.2.1.1 k0_t2 k0_h4 (k0_off168_inb arg24 k0_hw49 k0_t2 k0_h4)
theorem k0_off169_inb : ∀ (arg24 : BitVec 32) (k0_hw49 : k0_chk49 arg24) (k0_t2 : Fin (k0_t2_loop arg24).trips), ∀ (k0_h5 : k0_cond5 arg24 k0_t2 = 1#1), ∀ a, (k0_off169 arg24 k0_t2) a + S1.size a ≤ S40.size a := fun arg24 k0_hw49 k0_t2 k0_h5 => k0_hw49.2.2.2.1.2.1 k0_t2 k0_h5
theorem k0_off171_inb : ∀ (arg24 : BitVec 32) (k0_hw49 : k0_chk49 arg24) (k0_t2 : Fin (k0_t2_loop arg24).trips), ∀ (k0_h5 : k0_cond5 arg24 k0_t2 = 1#1), ∀ a, (k0_off171 arg24 k0_t2) a + S1.size a ≤ S2.size a := fun arg24 k0_hw49 k0_t2 k0_h5 => k0_hw49.2.2.2.1.2.2.1 k0_t2 k0_h5
theorem k0_off172_inb : ∀ (arg24 : BitVec 32) (k0_hw49 : k0_chk49 arg24) (k0_t2 : Fin (k0_t2_loop arg24).trips), ∀ (k0_h5 : k0_cond5 arg24 k0_t2 = 1#1), ∀ a, (k0_off172 arg24 k0_t2) a + S1x128x1536.size a ≤ S2x1024x1536.size a := fun arg24 k0_hw49 k0_t2 k0_h5 => k0_hw49.2.2.2.1.2.2.2.1 k0_t2 k0_h5
theorem k0_off172_wordsbf16 : ∀ (arg24 : BitVec 32) (k0_hw49 : k0_chk49 arg24) (k0_t2 : Fin (k0_t2_loop arg24).trips), ∀ (k0_h5 : k0_cond5 arg24 k0_t2 = 1#1), (Rect.unit (s := S2x1024x1536) (k0_off172 arg24 k0_t2) S1x128x1536.size (k0_off172_inb arg24 k0_hw49 k0_t2 k0_h5)).WholeWords (EltTy.packing .bf16) := fun arg24 k0_hw49 k0_t2 k0_h5 => k0_hw49.2.2.2.1.2.2.2.2.1 k0_t2 k0_h5 (k0_off172_inb arg24 k0_hw49 k0_t2 k0_h5)
theorem k0_off174_inb : ∀ (arg24 : BitVec 32) (k0_hw49 : k0_chk49 arg24) (k0_t2 : Fin (k0_t2_loop arg24).trips), ∀ (k0_h5 : k0_cond5 arg24 k0_t2 = 1#1), ∀ a, (k0_off174 arg24 k0_t2) a + S1.size a ≤ S40.size a := fun arg24 k0_hw49 k0_t2 k0_h5 => k0_hw49.2.2.2.1.2.2.2.2.2.1 k0_t2 k0_h5
theorem k0_off176_inb : ∀ (arg24 : BitVec 32) (k0_hw49 : k0_chk49 arg24) (k0_t2 : Fin (k0_t2_loop arg24).trips), ∀ (k0_h5 : k0_cond5 arg24 k0_t2 = 1#1), ∀ a, (k0_off176 arg24 k0_t2) a + S1.size a ≤ S2.size a := fun arg24 k0_hw49 k0_t2 k0_h5 => k0_hw49.2.2.2.1.2.2.2.2.2.2.1 k0_t2 k0_h5
theorem k0_off177_inb : ∀ (arg24 : BitVec 32) (k0_hw49 : k0_chk49 arg24) (k0_t2 : Fin (k0_t2_loop arg24).trips), ∀ (k0_h5 : k0_cond5 arg24 k0_t2 = 1#1), ∀ a, (k0_off177 arg24 k0_t2) a + S1x128x1536.size a ≤ S2x1024x1536.size a := fun arg24 k0_hw49 k0_t2 k0_h5 => k0_hw49.2.2.2.1.2.2.2.2.2.2.2.1 k0_t2 k0_h5
theorem k0_off177_wordsbf16 : ∀ (arg24 : BitVec 32) (k0_hw49 : k0_chk49 arg24) (k0_t2 : Fin (k0_t2_loop arg24).trips), ∀ (k0_h5 : k0_cond5 arg24 k0_t2 = 1#1), (Rect.unit (s := S2x1024x1536) (k0_off177 arg24 k0_t2) S1x128x1536.size (k0_off177_inb arg24 k0_hw49 k0_t2 k0_h5)).WholeWords (EltTy.packing .bf16) := fun arg24 k0_hw49 k0_t2 k0_h5 => k0_hw49.2.2.2.1.2.2.2.2.2.2.2.2.1 k0_t2 k0_h5 (k0_off177_inb arg24 k0_hw49 k0_t2 k0_h5)
theorem k0_off179_inb : ∀ (arg24 : BitVec 32) (k0_hw49 : k0_chk49 arg24) (k0_t2 : Fin (k0_t2_loop arg24).trips), ∀ (k0_h5 : k0_cond5 arg24 k0_t2 = 1#1), ∀ a, (k0_off179 arg24 k0_t2) a + S1.size a ≤ S40.size a := fun arg24 k0_hw49 k0_t2 k0_h5 => k0_hw49.2.2.2.1.2.2.2.2.2.2.2.2.2.1 k0_t2 k0_h5
theorem k0_off181_inb : ∀ (arg24 : BitVec 32) (k0_hw49 : k0_chk49 arg24) (k0_t2 : Fin (k0_t2_loop arg24).trips), ∀ (k0_h5 : k0_cond5 arg24 k0_t2 = 1#1), ∀ a, (k0_off181 arg24 k0_t2) a + S1.size a ≤ S2.size a := fun arg24 k0_hw49 k0_t2 k0_h5 => k0_hw49.2.2.2.1.2.2.2.2.2.2.2.2.2.2.1 k0_t2 k0_h5
theorem k0_off182_inb : ∀ (arg24 : BitVec 32) (k0_hw49 : k0_chk49 arg24) (k0_t2 : Fin (k0_t2_loop arg24).trips), ∀ (k0_h5 : k0_cond5 arg24 k0_t2 = 1#1), ∀ a, (k0_off182 arg24 k0_t2) a + S1x128x1536.size a ≤ S2x1024x1536.size a := fun arg24 k0_hw49 k0_t2 k0_h5 => k0_hw49.2.2.2.1.2.2.2.2.2.2.2.2.2.2.2.1 k0_t2 k0_h5
theorem k0_off182_wordsbf16 : ∀ (arg24 : BitVec 32) (k0_hw49 : k0_chk49 arg24) (k0_t2 : Fin (k0_t2_loop arg24).trips), ∀ (k0_h5 : k0_cond5 arg24 k0_t2 = 1#1), (Rect.unit (s := S2x1024x1536) (k0_off182 arg24 k0_t2) S1x128x1536.size (k0_off182_inb arg24 k0_hw49 k0_t2 k0_h5)).WholeWords (EltTy.packing .bf16) := fun arg24 k0_hw49 k0_t2 k0_h5 => k0_hw49.2.2.2.1.2.2.2.2.2.2.2.2.2.2.2.2.1 k0_t2 k0_h5 (k0_off182_inb arg24 k0_hw49 k0_t2 k0_h5)
theorem k0_off184_inb : ∀ (arg24 : BitVec 32) (k0_hw49 : k0_chk49 arg24) (k0_t2 : Fin (k0_t2_loop arg24).trips), ∀ (k0_h5 : k0_cond5 arg24 k0_t2 = 1#1), ∀ a, (k0_off184 arg24 k0_t2) a + S1.size a ≤ S40.size a := fun arg24 k0_hw49 k0_t2 k0_h5 => k0_hw49.2.2.2.1.2.2.2.2.2.2.2.2.2.2.2.2.2.1 k0_t2 k0_h5
theorem k0_off186_inb : ∀ (arg24 : BitVec 32) (k0_hw49 : k0_chk49 arg24) (k0_t2 : Fin (k0_t2_loop arg24).trips), ∀ (k0_h5 : k0_cond5 arg24 k0_t2 = 1#1), ∀ a, (k0_off186 arg24 k0_t2) a + S1.size a ≤ S2.size a := fun arg24 k0_hw49 k0_t2 k0_h5 => k0_hw49.2.2.2.1.2.2.2.2.2.2.2.2.2.2.2.2.2.2.1 k0_t2 k0_h5
theorem k0_off187_inb : ∀ (arg24 : BitVec 32) (k0_hw49 : k0_chk49 arg24) (k0_t2 : Fin (k0_t2_loop arg24).trips), ∀ (k0_h5 : k0_cond5 arg24 k0_t2 = 1#1), ∀ a, (k0_off187 arg24 k0_t2) a + S1x128x1536.size a ≤ S2x1024x1536.size a := fun arg24 k0_hw49 k0_t2 k0_h5 => k0_hw49.2.2.2.1.2.2.2.2.2.2.2.2.2.2.2.2.2.2.2.1 k0_t2 k0_h5
theorem k0_off187_wordsbf16 : ∀ (arg24 : BitVec 32) (k0_hw49 : k0_chk49 arg24) (k0_t2 : Fin (k0_t2_loop arg24).trips), ∀ (k0_h5 : k0_cond5 arg24 k0_t2 = 1#1), (Rect.unit (s := S2x1024x1536) (k0_off187 arg24 k0_t2) S1x128x1536.size (k0_off187_inb arg24 k0_hw49 k0_t2 k0_h5)).WholeWords (EltTy.packing .bf16) := fun arg24 k0_hw49 k0_t2 k0_h5 => k0_hw49.2.2.2.1.2.2.2.2.2.2.2.2.2.2.2.2.2.2.2.2.1 k0_t2 k0_h5 (k0_off187_inb arg24 k0_hw49 k0_t2 k0_h5)
theorem k0_off189_inb : ∀ (arg24 : BitVec 32) (k0_hw49 : k0_chk49 arg24) (k0_t2 : Fin (k0_t2_loop arg24).trips), ∀ (k0_h5 : k0_cond5 arg24 k0_t2 = 1#1), ∀ a, (k0_off189 arg24 k0_t2) a + S1.size a ≤ S40.size a := fun arg24 k0_hw49 k0_t2 k0_h5 => k0_hw49.2.2.2.1.2.2.2.2.2.2.2.2.2.2.2.2.2.2.2.2.2.1 k0_t2 k0_h5
theorem k0_off191_inb : ∀ (arg24 : BitVec 32) (k0_hw49 : k0_chk49 arg24) (k0_t2 : Fin (k0_t2_loop arg24).trips), ∀ (k0_h5 : k0_cond5 arg24 k0_t2 = 1#1), ∀ a, (k0_off191 arg24 k0_t2) a + S1.size a ≤ S2.size a := fun arg24 k0_hw49 k0_t2 k0_h5 => k0_hw49.2.2.2.1.2.2.2.2.2.2.2.2.2.2.2.2.2.2.2.2.2.2.1 k0_t2 k0_h5
theorem k0_off192_inb : ∀ (arg24 : BitVec 32) (k0_hw49 : k0_chk49 arg24) (k0_t2 : Fin (k0_t2_loop arg24).trips), ∀ (k0_h5 : k0_cond5 arg24 k0_t2 = 1#1), ∀ a, (k0_off192 arg24 k0_t2) a + S1x128x1536.size a ≤ S2x1024x1536.size a := fun arg24 k0_hw49 k0_t2 k0_h5 => k0_hw49.2.2.2.1.2.2.2.2.2.2.2.2.2.2.2.2.2.2.2.2.2.2.2.1 k0_t2 k0_h5
theorem k0_off192_wordsbf16 : ∀ (arg24 : BitVec 32) (k0_hw49 : k0_chk49 arg24) (k0_t2 : Fin (k0_t2_loop arg24).trips), ∀ (k0_h5 : k0_cond5 arg24 k0_t2 = 1#1), (Rect.unit (s := S2x1024x1536) (k0_off192 arg24 k0_t2) S1x128x1536.size (k0_off192_inb arg24 k0_hw49 k0_t2 k0_h5)).WholeWords (EltTy.packing .bf16) := fun arg24 k0_hw49 k0_t2 k0_h5 => k0_hw49.2.2.2.1.2.2.2.2.2.2.2.2.2.2.2.2.2.2.2.2.2.2.2.2.1 k0_t2 k0_h5 (k0_off192_inb arg24 k0_hw49 k0_t2 k0_h5)
theorem k0_off194_inb : ∀ (arg24 : BitVec 32) (k0_hw49 : k0_chk49 arg24) (k0_t2 : Fin (k0_t2_loop arg24).trips), ∀ (k0_h5 : k0_cond5 arg24 k0_t2 = 1#1), ∀ a, (k0_off194 arg24 k0_t2) a + S1.size a ≤ S40.size a := fun arg24 k0_hw49 k0_t2 k0_h5 => k0_hw49.2.2.2.1.2.2.2.2.2.2.2.2.2.2.2.2.2.2.2.2.2.2.2.2.2.1 k0_t2 k0_h5
theorem k0_off196_inb : ∀ (arg24 : BitVec 32) (k0_hw49 : k0_chk49 arg24) (k0_t2 : Fin (k0_t2_loop arg24).trips), ∀ (k0_h5 : k0_cond5 arg24 k0_t2 = 1#1), ∀ a, (k0_off196 arg24 k0_t2) a + S1.size a ≤ S2.size a := fun arg24 k0_hw49 k0_t2 k0_h5 => k0_hw49.2.2.2.1.2.2.2.2.2.2.2.2.2.2.2.2.2.2.2.2.2.2.2.2.2.2.1 k0_t2 k0_h5
theorem k0_off197_inb : ∀ (arg24 : BitVec 32) (k0_hw49 : k0_chk49 arg24) (k0_t2 : Fin (k0_t2_loop arg24).trips), ∀ (k0_h5 : k0_cond5 arg24 k0_t2 = 1#1), ∀ a, (k0_off197 arg24 k0_t2) a + S1x128x1536.size a ≤ S2x1024x1536.size a := fun arg24 k0_hw49 k0_t2 k0_h5 => k0_hw49.2.2.2.1.2.2.2.2.2.2.2.2.2.2.2.2.2.2.2.2.2.2.2.2.2.2.2.1 k0_t2 k0_h5
theorem k0_off197_wordsbf16 : ∀ (arg24 : BitVec 32) (k0_hw49 : k0_chk49 arg24) (k0_t2 : Fin (k0_t2_loop arg24).trips), ∀ (k0_h5 : k0_cond5 arg24 k0_t2 = 1#1), (Rect.unit (s := S2x1024x1536) (k0_off197 arg24 k0_t2) S1x128x1536.size (k0_off197_inb arg24 k0_hw49 k0_t2 k0_h5)).WholeWords (EltTy.packing .bf16) := fun arg24 k0_hw49 k0_t2 k0_h5 => k0_hw49.2.2.2.1.2.2.2.2.2.2.2.2.2.2.2.2.2.2.2.2.2.2.2.2.2.2.2.2.1 k0_t2 k0_h5 (k0_off197_inb arg24 k0_hw49 k0_t2 k0_h5)
theorem k0_off199_inb : ∀ (arg24 : BitVec 32) (k0_hw49 : k0_chk49 arg24) (k0_t2 : Fin (k0_t2_loop arg24).trips), ∀ (k0_h5 : k0_cond5 arg24 k0_t2 = 1#1), ∀ a, (k0_off199 arg24 k0_t2) a + S1.size a ≤ S40.size a := fun arg24 k0_hw49 k0_t2 k0_h5 => k0_hw49.2.2.2.1.2.2.2.2.2.2.2.2.2.2.2.2.2.2.2.2.2.2.2.2.2.2.2.2.2.1 k0_t2 k0_h5
theorem k0_off201_inb : ∀ (arg24 : BitVec 32) (k0_hw49 : k0_chk49 arg24) (k0_t2 : Fin (k0_t2_loop arg24).trips), ∀ (k0_h5 : k0_cond5 arg24 k0_t2 = 1#1), ∀ a, (k0_off201 arg24 k0_t2) a + S1.size a ≤ S2.size a := fun arg24 k0_hw49 k0_t2 k0_h5 => k0_hw49.2.2.2.1.2.2.2.2.2.2.2.2.2.2.2.2.2.2.2.2.2.2.2.2.2.2.2.2.2.2.1 k0_t2 k0_h5
theorem k0_off202_inb : ∀ (arg24 : BitVec 32) (k0_hw49 : k0_chk49 arg24) (k0_t2 : Fin (k0_t2_loop arg24).trips), ∀ (k0_h5 : k0_cond5 arg24 k0_t2 = 1#1), ∀ a, (k0_off202 arg24 k0_t2) a + S1x128x1536.size a ≤ S2x1024x1536.size a := fun arg24 k0_hw49 k0_t2 k0_h5 => k0_hw49.2.2.2.1.2.2.2.2.2.2.2.2.2.2.2.2.2.2.2.2.2.2.2.2.2.2.2.2.2.2.2.1 k0_t2 k0_h5
theorem k0_off202_wordsbf16 : ∀ (arg24 : BitVec 32) (k0_hw49 : k0_chk49 arg24) (k0_t2 : Fin (k0_t2_loop arg24).trips), ∀ (k0_h5 : k0_cond5 arg24 k0_t2 = 1#1), (Rect.unit (s := S2x1024x1536) (k0_off202 arg24 k0_t2) S1x128x1536.size (k0_off202_inb arg24 k0_hw49 k0_t2 k0_h5)).WholeWords (EltTy.packing .bf16) := fun arg24 k0_hw49 k0_t2 k0_h5 => k0_hw49.2.2.2.1.2.2.2.2.2.2.2.2.2.2.2.2.2.2.2.2.2.2.2.2.2.2.2.2.2.2.2.2.1 k0_t2 k0_h5 (k0_off202_inb arg24 k0_hw49 k0_t2 k0_h5)
theorem k0_off204_inb : ∀ (arg24 : BitVec 32) (k0_hw49 : k0_chk49 arg24) (k0_t2 : Fin (k0_t2_loop arg24).trips), ∀ (k0_h5 : k0_cond5 arg24 k0_t2 = 1#1), ∀ a, (k0_off204 arg24 k0_t2) a + S1.size a ≤ S40.size a := fun arg24 k0_hw49 k0_t2 k0_h5 => k0_hw49.2.2.2.1.2.2.2.2.2.2.2.2.2.2.2.2.2.2.2.2.2.2.2.2.2.2.2.2.2.2.2.2.2.1 k0_t2 k0_h5
theorem k0_off206_inb : ∀ (arg24 : BitVec 32) (k0_hw49 : k0_chk49 arg24) (k0_t2 : Fin (k0_t2_loop arg24).trips), ∀ (k0_h5 : k0_cond5 arg24 k0_t2 = 1#1), ∀ a, (k0_off206 arg24 k0_t2) a + S1.size a ≤ S2.size a := fun arg24 k0_hw49 k0_t2 k0_h5 => k0_hw49.2.2.2.1.2.2.2.2.2.2.2.2.2.2.2.2.2.2.2.2.2.2.2.2.2.2.2.2.2.2.2.2.2.2.1 k0_t2 k0_h5
theorem k0_off207_inb : ∀ (arg24 : BitVec 32) (k0_hw49 : k0_chk49 arg24) (k0_t2 : Fin (k0_t2_loop arg24).trips), ∀ (k0_h5 : k0_cond5 arg24 k0_t2 = 1#1), ∀ a, (k0_off207 arg24 k0_t2) a + S1x128x1536.size a ≤ S2x1024x1536.size a := fun arg24 k0_hw49 k0_t2 k0_h5 => k0_hw49.2.2.2.1.2.2.2.2.2.2.2.2.2.2.2.2.2.2.2.2.2.2.2.2.2.2.2.2.2.2.2.2.2.2.2 k0_t2 k0_h5
theorem k0_off207_wordsbf16 : ∀ (arg24 : BitVec 32) (k0_hw49 : k0_chk49 arg24) (k0_t2 : Fin (k0_t2_loop arg24).trips), ∀ (k0_h5 : k0_cond5 arg24 k0_t2 = 1#1), (Rect.unit (s := S2x1024x1536) (k0_off207 arg24 k0_t2) S1x128x1536.size (k0_off207_inb arg24 k0_hw49 k0_t2 k0_h5)).WholeWords (EltTy.packing .bf16) := fun arg24 k0_hw49 k0_t2 k0_h5 => k0_hw49.2.2.2.2.1.1 k0_t2 k0_h5 (k0_off207_inb arg24 k0_hw49 k0_t2 k0_h5)
theorem k0_off209_inb : ∀ (arg24 : BitVec 32) (k0_hw49 : k0_chk49 arg24) (k0_t2 : Fin (k0_t2_loop arg24).trips), ∀ a, (k0_off209 arg24 k0_t2) a + S1.size a ≤ S40.size a := fun arg24 k0_hw49 k0_t2 => k0_hw49.2.2.2.2.1.2.1 k0_t2
theorem k0_off211_inb : ∀ (arg24 : BitVec 32) (k0_hw49 : k0_chk49 arg24) (k0_t2 : Fin (k0_t2_loop arg24).trips), ∀ a, (k0_off211 arg24 k0_t2) a + S1.size a ≤ S2.size a := fun arg24 k0_hw49 k0_t2 => k0_hw49.2.2.2.2.1.2.2.1 k0_t2
theorem k0_off213_inb : ∀ (arg24 : BitVec 32) (k0_hw49 : k0_chk49 arg24) (k0_t2 : Fin (k0_t2_loop arg24).trips), ∀ a, (k0_off213 arg24 k0_t2) a + S1x128x1536.size a ≤ S2x1024x1536.size a := fun arg24 k0_hw49 k0_t2 => k0_hw49.2.2.2.2.1.2.2.2.1 k0_t2
theorem k0_off213_wordsfp8e4m3 : ∀ (arg24 : BitVec 32) (k0_hw49 : k0_chk49 arg24) (k0_t2 : Fin (k0_t2_loop arg24).trips), (Rect.unit (s := S2x1024x1536) (k0_off213 arg24 k0_t2) S1x128x1536.size (k0_off213_inb arg24 k0_hw49 k0_t2)).WholeWords (EltTy.packing .fp8e4m3) := fun arg24 k0_hw49 k0_t2 => k0_hw49.2.2.2.2.1.2.2.2.2.1 k0_t2 (k0_off213_inb arg24 k0_hw49 k0_t2)
theorem k0_off214_inb : ∀ (arg24 : BitVec 32) (k0_hw49 : k0_chk49 arg24) (k0_t2 : Fin (k0_t2_loop arg24).trips), ∀ a, (k0_off214 arg24 k0_t2) a + S1.size a ≤ S40.size a := fun arg24 k0_hw49 k0_t2 => k0_hw49.2.2.2.2.1.2.2.2.2.2.1 k0_t2
theorem k0_off216_inb : ∀ (arg24 : BitVec 32) (k0_hw49 : k0_chk49 arg24) (k0_t2 : Fin (k0_t2_loop arg24).trips), ∀ a, (k0_off216 arg24 k0_t2) a + S1.size a ≤ S2.size a := fun arg24 k0_hw49 k0_t2 => k0_hw49.2.2.2.2.1.2.2.2.2.2.2.1 k0_t2
theorem k0_off218_inb : ∀ (arg24 : BitVec 32) (k0_hw49 : k0_chk49 arg24) (k0_t2 : Fin (k0_t2_loop arg24).trips), ∀ a, (k0_off218 arg24 k0_t2) a + S1x128x1536.size a ≤ S2x1024x1536.size a := fun arg24 k0_hw49 k0_t2 => k0_hw49.2.2.2.2.1.2.2.2.2.2.2.2.1 k0_t2
theorem k0_off218_wordsfp8e4m3 : ∀ (arg24 : BitVec 32) (k0_hw49 : k0_chk49 arg24) (k0_t2 : Fin (k0_t2_loop arg24).trips), (Rect.unit (s := S2x1024x1536) (k0_off218 arg24 k0_t2) S1x128x1536.size (k0_off218_inb arg24 k0_hw49 k0_t2)).WholeWords (EltTy.packing .fp8e4m3) := fun arg24 k0_hw49 k0_t2 => k0_hw49.2.2.2.2.1.2.2.2.2.2.2.2.2.1 k0_t2 (k0_off218_inb arg24 k0_hw49 k0_t2)
theorem k0_off219_inb : ∀ (arg24 : BitVec 32) (k0_hw49 : k0_chk49 arg24) (k0_t2 : Fin (k0_t2_loop arg24).trips), ∀ a, (k0_off219 arg24 k0_t2) a + S1.size a ≤ S40.size a := fun arg24 k0_hw49 k0_t2 => k0_hw49.2.2.2.2.1.2.2.2.2.2.2.2.2.2.1 k0_t2
theorem k0_off221_inb : ∀ (arg24 : BitVec 32) (k0_hw49 : k0_chk49 arg24) (k0_t2 : Fin (k0_t2_loop arg24).trips), ∀ a, (k0_off221 arg24 k0_t2) a + S1.size a ≤ S2.size a := fun arg24 k0_hw49 k0_t2 => k0_hw49.2.2.2.2.1.2.2.2.2.2.2.2.2.2.2.1 k0_t2
theorem k0_off223_inb : ∀ (arg24 : BitVec 32) (k0_hw49 : k0_chk49 arg24) (k0_t2 : Fin (k0_t2_loop arg24).trips), ∀ a, (k0_off223 arg24 k0_t2) a + S1x128x1536.size a ≤ S2x1024x1536.size a := fun arg24 k0_hw49 k0_t2 => k0_hw49.2.2.2.2.1.2.2.2.2.2.2.2.2.2.2.2.1 k0_t2
theorem k0_off223_wordsfp8e4m3 : ∀ (arg24 : BitVec 32) (k0_hw49 : k0_chk49 arg24) (k0_t2 : Fin (k0_t2_loop arg24).trips), (Rect.unit (s := S2x1024x1536) (k0_off223 arg24 k0_t2) S1x128x1536.size (k0_off223_inb arg24 k0_hw49 k0_t2)).WholeWords (EltTy.packing .fp8e4m3) := fun arg24 k0_hw49 k0_t2 => k0_hw49.2.2.2.2.1.2.2.2.2.2.2.2.2.2.2.2.2.1 k0_t2 (k0_off223_inb arg24 k0_hw49 k0_t2)
theorem k0_off224_inb : ∀ (arg24 : BitVec 32) (k0_hw49 : k0_chk49 arg24) (k0_t2 : Fin (k0_t2_loop arg24).trips), ∀ a, (k0_off224 arg24 k0_t2) a + S1.size a ≤ S40.size a := fun arg24 k0_hw49 k0_t2 => k0_hw49.2.2.2.2.1.2.2.2.2.2.2.2.2.2.2.2.2.2.1 k0_t2
theorem k0_off226_inb : ∀ (arg24 : BitVec 32) (k0_hw49 : k0_chk49 arg24) (k0_t2 : Fin (k0_t2_loop arg24).trips), ∀ a, (k0_off226 arg24 k0_t2) a + S1.size a ≤ S2.size a := fun arg24 k0_hw49 k0_t2 => k0_hw49.2.2.2.2.1.2.2.2.2.2.2.2.2.2.2.2.2.2.2.1 k0_t2
theorem k0_off228_inb : ∀ (arg24 : BitVec 32) (k0_hw49 : k0_chk49 arg24) (k0_t2 : Fin (k0_t2_loop arg24).trips), ∀ a, (k0_off228 arg24 k0_t2) a + S1x128x1536.size a ≤ S2x1024x1536.size a := fun arg24 k0_hw49 k0_t2 => k0_hw49.2.2.2.2.1.2.2.2.2.2.2.2.2.2.2.2.2.2.2.2.1 k0_t2
theorem k0_off228_wordsfp8e4m3 : ∀ (arg24 : BitVec 32) (k0_hw49 : k0_chk49 arg24) (k0_t2 : Fin (k0_t2_loop arg24).trips), (Rect.unit (s := S2x1024x1536) (k0_off228 arg24 k0_t2) S1x128x1536.size (k0_off228_inb arg24 k0_hw49 k0_t2)).WholeWords (EltTy.packing .fp8e4m3) := fun arg24 k0_hw49 k0_t2 => k0_hw49.2.2.2.2.1.2.2.2.2.2.2.2.2.2.2.2.2.2.2.2.2.1 k0_t2 (k0_off228_inb arg24 k0_hw49 k0_t2)
theorem k0_off229_inb : ∀ (arg24 : BitVec 32) (k0_hw49 : k0_chk49 arg24) (k0_t2 : Fin (k0_t2_loop arg24).trips), ∀ a, (k0_off229 arg24 k0_t2) a + S1.size a ≤ S40.size a := fun arg24 k0_hw49 k0_t2 => k0_hw49.2.2.2.2.1.2.2.2.2.2.2.2.2.2.2.2.2.2.2.2.2.2.1 k0_t2
theorem k0_off231_inb : ∀ (arg24 : BitVec 32) (k0_hw49 : k0_chk49 arg24) (k0_t2 : Fin (k0_t2_loop arg24).trips), ∀ a, (k0_off231 arg24 k0_t2) a + S1.size a ≤ S2.size a := fun arg24 k0_hw49 k0_t2 => k0_hw49.2.2.2.2.1.2.2.2.2.2.2.2.2.2.2.2.2.2.2.2.2.2.2.1 k0_t2
theorem k0_off233_inb : ∀ (arg24 : BitVec 32) (k0_hw49 : k0_chk49 arg24) (k0_t2 : Fin (k0_t2_loop arg24).trips), ∀ a, (k0_off233 arg24 k0_t2) a + S1x128x1536.size a ≤ S2x1024x1536.size a := fun arg24 k0_hw49 k0_t2 => k0_hw49.2.2.2.2.1.2.2.2.2.2.2.2.2.2.2.2.2.2.2.2.2.2.2.2.1 k0_t2
theorem k0_off233_wordsfp8e4m3 : ∀ (arg24 : BitVec 32) (k0_hw49 : k0_chk49 arg24) (k0_t2 : Fin (k0_t2_loop arg24).trips), (Rect.unit (s := S2x1024x1536) (k0_off233 arg24 k0_t2) S1x128x1536.size (k0_off233_inb arg24 k0_hw49 k0_t2)).WholeWords (EltTy.packing .fp8e4m3) := fun arg24 k0_hw49 k0_t2 => k0_hw49.2.2.2.2.1.2.2.2.2.2.2.2.2.2.2.2.2.2.2.2.2.2.2.2.2.1 k0_t2 (k0_off233_inb arg24 k0_hw49 k0_t2)
theorem k0_off234_inb : ∀ (arg24 : BitVec 32) (k0_hw49 : k0_chk49 arg24) (k0_t2 : Fin (k0_t2_loop arg24).trips), ∀ a, (k0_off234 arg24 k0_t2) a + S1.size a ≤ S40.size a := fun arg24 k0_hw49 k0_t2 => k0_hw49.2.2.2.2.1.2.2.2.2.2.2.2.2.2.2.2.2.2.2.2.2.2.2.2.2.2.1 k0_t2
theorem k0_off236_inb : ∀ (arg24 : BitVec 32) (k0_hw49 : k0_chk49 arg24) (k0_t2 : Fin (k0_t2_loop arg24).trips), ∀ a, (k0_off236 arg24 k0_t2) a + S1.size a ≤ S2.size a := fun arg24 k0_hw49 k0_t2 => k0_hw49.2.2.2.2.1.2.2.2.2.2.2.2.2.2.2.2.2.2.2.2.2.2.2.2.2.2.2.1 k0_t2
theorem k0_off238_inb : ∀ (arg24 : BitVec 32) (k0_hw49 : k0_chk49 arg24) (k0_t2 : Fin (k0_t2_loop arg24).trips), ∀ a, (k0_off238 arg24 k0_t2) a + S1x128x1536.size a ≤ S2x1024x1536.size a := fun arg24 k0_hw49 k0_t2 => k0_hw49.2.2.2.2.1.2.2.2.2.2.2.2.2.2.2.2.2.2.2.2.2.2.2.2.2.2.2.2.1 k0_t2
theorem k0_off238_wordsfp8e4m3 : ∀ (arg24 : BitVec 32) (k0_hw49 : k0_chk49 arg24) (k0_t2 : Fin (k0_t2_loop arg24).trips), (Rect.unit (s := S2x1024x1536) (k0_off238 arg24 k0_t2) S1x128x1536.size (k0_off238_inb arg24 k0_hw49 k0_t2)).WholeWords (EltTy.packing .fp8e4m3) := fun arg24 k0_hw49 k0_t2 => k0_hw49.2.2.2.2.1.2.2.2.2.2.2.2.2.2.2.2.2.2.2.2.2.2.2.2.2.2.2.2.2.1 k0_t2 (k0_off238_inb arg24 k0_hw49 k0_t2)
theorem k0_off239_inb : ∀ (arg24 : BitVec 32) (k0_hw49 : k0_chk49 arg24) (k0_t2 : Fin (k0_t2_loop arg24).trips), ∀ a, (k0_off239 arg24 k0_t2) a + S1.size a ≤ S40.size a := fun arg24 k0_hw49 k0_t2 => k0_hw49.2.2.2.2.1.2.2.2.2.2.2.2.2.2.2.2.2.2.2.2.2.2.2.2.2.2.2.2.2.2.1 k0_t2
theorem k0_off241_inb : ∀ (arg24 : BitVec 32) (k0_hw49 : k0_chk49 arg24) (k0_t2 : Fin (k0_t2_loop arg24).trips), ∀ a, (k0_off241 arg24 k0_t2) a + S1.size a ≤ S2.size a := fun arg24 k0_hw49 k0_t2 => k0_hw49.2.2.2.2.1.2.2.2.2.2.2.2.2.2.2.2.2.2.2.2.2.2.2.2.2.2.2.2.2.2.2.1 k0_t2
theorem k0_off243_inb : ∀ (arg24 : BitVec 32) (k0_hw49 : k0_chk49 arg24) (k0_t2 : Fin (k0_t2_loop arg24).trips), ∀ a, (k0_off243 arg24 k0_t2) a + S1x128x1536.size a ≤ S2x1024x1536.size a := fun arg24 k0_hw49 k0_t2 => k0_hw49.2.2.2.2.1.2.2.2.2.2.2.2.2.2.2.2.2.2.2.2.2.2.2.2.2.2.2.2.2.2.2.2.1 k0_t2
theorem k0_off243_wordsfp8e4m3 : ∀ (arg24 : BitVec 32) (k0_hw49 : k0_chk49 arg24) (k0_t2 : Fin (k0_t2_loop arg24).trips), (Rect.unit (s := S2x1024x1536) (k0_off243 arg24 k0_t2) S1x128x1536.size (k0_off243_inb arg24 k0_hw49 k0_t2)).WholeWords (EltTy.packing .fp8e4m3) := fun arg24 k0_hw49 k0_t2 => k0_hw49.2.2.2.2.1.2.2.2.2.2.2.2.2.2.2.2.2.2.2.2.2.2.2.2.2.2.2.2.2.2.2.2.2.1 k0_t2 (k0_off243_inb arg24 k0_hw49 k0_t2)
theorem k0_off244_inb : ∀ (arg24 : BitVec 32) (k0_hw49 : k0_chk49 arg24) (k0_t2 : Fin (k0_t2_loop arg24).trips), ∀ a, (k0_off244 arg24 k0_t2) a + S1.size a ≤ S40.size a := fun arg24 k0_hw49 k0_t2 => k0_hw49.2.2.2.2.1.2.2.2.2.2.2.2.2.2.2.2.2.2.2.2.2.2.2.2.2.2.2.2.2.2.2.2.2.2.1 k0_t2
theorem k0_off246_inb : ∀ (arg24 : BitVec 32) (k0_hw49 : k0_chk49 arg24) (k0_t2 : Fin (k0_t2_loop arg24).trips), ∀ a, (k0_off246 arg24 k0_t2) a + S1.size a ≤ S2.size a := fun arg24 k0_hw49 k0_t2 => k0_hw49.2.2.2.2.1.2.2.2.2.2.2.2.2.2.2.2.2.2.2.2.2.2.2.2.2.2.2.2.2.2.2.2.2.2.2.1 k0_t2
theorem k0_off248_inb : ∀ (arg24 : BitVec 32) (k0_hw49 : k0_chk49 arg24) (k0_t2 : Fin (k0_t2_loop arg24).trips), ∀ a, (k0_off248 arg24 k0_t2) a + S1x128x1536.size a ≤ S2x1024x1536.size a := fun arg24 k0_hw49 k0_t2 => k0_hw49.2.2.2.2.1.2.2.2.2.2.2.2.2.2.2.2.2.2.2.2.2.2.2.2.2.2.2.2.2.2.2.2.2.2.2.2 k0_t2
theorem k0_off248_wordsfp8e4m3 : ∀ (arg24 : BitVec 32) (k0_hw49 : k0_chk49 arg24) (k0_t2 : Fin (k0_t2_loop arg24).trips), (Rect.unit (s := S2x1024x1536) (k0_off248 arg24 k0_t2) S1x128x1536.size (k0_off248_inb arg24 k0_hw49 k0_t2)).WholeWords (EltTy.packing .fp8e4m3) := fun arg24 k0_hw49 k0_t2 => k0_hw49.2.2.2.2.2.1.1 k0_t2 (k0_off248_inb arg24 k0_hw49 k0_t2)
theorem k0_off249_inb : ∀ (arg24 : BitVec 32) (k0_hw49 : k0_chk49 arg24) (k0_t2 : Fin (k0_t2_loop arg24).trips), ∀ (k0_h6 : k0_cond6 arg24 k0_t2 = 1#1), ∀ a, (k0_off249 arg24 k0_t2) a + S1.size a ≤ S40.size a := fun arg24 k0_hw49 k0_t2 k0_h6 => k0_hw49.2.2.2.2.2.1.2.1 k0_t2 k0_h6
theorem k0_off251_inb : ∀ (arg24 : BitVec 32) (k0_hw49 : k0_chk49 arg24) (k0_t2 : Fin (k0_t2_loop arg24).trips), ∀ (k0_h6 : k0_cond6 arg24 k0_t2 = 1#1), ∀ a, (k0_off251 arg24 k0_t2) a + S1.size a ≤ S2.size a := fun arg24 k0_hw49 k0_t2 k0_h6 => k0_hw49.2.2.2.2.2.1.2.2.1 k0_t2 k0_h6
theorem k0_off253_inb : ∀ (arg24 : BitVec 32) (k0_hw49 : k0_chk49 arg24) (k0_t2 : Fin (k0_t2_loop arg24).trips), ∀ (k0_h6 : k0_cond6 arg24 k0_t2 = 1#1), ∀ a, (k0_off253 arg24 k0_t2) a + S1x128x8960.size a ≤ S2x1024x8960.size a := fun arg24 k0_hw49 k0_t2 k0_h6 => k0_hw49.2.2.2.2.2.1.2.2.2.1 k0_t2 k0_h6
theorem k0_off253_wordsfp8e4m3 : ∀ (arg24 : BitVec 32) (k0_hw49 : k0_chk49 arg24) (k0_t2 : Fin (k0_t2_loop arg24).trips), ∀ (k0_h6 : k0_cond6 arg24 k0_t2 = 1#1), (Rect.unit (s := S2x1024x8960) (k0_off253 arg24 k0_t2) S1x128x8960.size (k0_off253_inb arg24 k0_hw49 k0_t2 k0_h6)).WholeWords (EltTy.packing .fp8e4m3) := fun arg24 k0_hw49 k0_t2 k0_h6 => k0_hw49.2.2.2.2.2.1.2.2.2.2.1 k0_t2 k0_h6 (k0_off253_inb arg24 k0_hw49 k0_t2 k0_h6)
theorem k0_off254_inb : ∀ (arg24 : BitVec 32) (k0_hw49 : k0_chk49 arg24) (k0_t2 : Fin (k0_t2_loop arg24).trips), ∀ (k0_h6 : k0_cond6 arg24 k0_t2 = 1#1), ∀ a, (k0_off254 arg24 k0_t2) a + S1.size a ≤ S40.size a := fun arg24 k0_hw49 k0_t2 k0_h6 => k0_hw49.2.2.2.2.2.1.2.2.2.2.2.1 k0_t2 k0_h6
theorem k0_off256_inb : ∀ (arg24 : BitVec 32) (k0_hw49 : k0_chk49 arg24) (k0_t2 : Fin (k0_t2_loop arg24).trips), ∀ (k0_h6 : k0_cond6 arg24 k0_t2 = 1#1), ∀ a, (k0_off256 arg24 k0_t2) a + S1.size a ≤ S2.size a := fun arg24 k0_hw49 k0_t2 k0_h6 => k0_hw49.2.2.2.2.2.1.2.2.2.2.2.2.1 k0_t2 k0_h6
theorem k0_off258_inb : ∀ (arg24 : BitVec 32) (k0_hw49 : k0_chk49 arg24) (k0_t2 : Fin (k0_t2_loop arg24).trips), ∀ (k0_h6 : k0_cond6 arg24 k0_t2 = 1#1), ∀ a, (k0_off258 arg24 k0_t2) a + S1x128x8960.size a ≤ S2x1024x8960.size a := fun arg24 k0_hw49 k0_t2 k0_h6 => k0_hw49.2.2.2.2.2.1.2.2.2.2.2.2.2.1 k0_t2 k0_h6
theorem k0_off258_wordsfp8e4m3 : ∀ (arg24 : BitVec 32) (k0_hw49 : k0_chk49 arg24) (k0_t2 : Fin (k0_t2_loop arg24).trips), ∀ (k0_h6 : k0_cond6 arg24 k0_t2 = 1#1), (Rect.unit (s := S2x1024x8960) (k0_off258 arg24 k0_t2) S1x128x8960.size (k0_off258_inb arg24 k0_hw49 k0_t2 k0_h6)).WholeWords (EltTy.packing .fp8e4m3) := fun arg24 k0_hw49 k0_t2 k0_h6 => k0_hw49.2.2.2.2.2.1.2.2.2.2.2.2.2.2.1 k0_t2 k0_h6 (k0_off258_inb arg24 k0_hw49 k0_t2 k0_h6)
theorem k0_off259_inb : ∀ (arg24 : BitVec 32) (k0_hw49 : k0_chk49 arg24) (k0_t2 : Fin (k0_t2_loop arg24).trips), ∀ (k0_h6 : k0_cond6 arg24 k0_t2 = 1#1), ∀ a, (k0_off259 arg24 k0_t2) a + S1.size a ≤ S40.size a := fun arg24 k0_hw49 k0_t2 k0_h6 => k0_hw49.2.2.2.2.2.1.2.2.2.2.2.2.2.2.2.1 k0_t2 k0_h6
theorem k0_off261_inb : ∀ (arg24 : BitVec 32) (k0_hw49 : k0_chk49 arg24) (k0_t2 : Fin (k0_t2_loop arg24).trips), ∀ (k0_h6 : k0_cond6 arg24 k0_t2 = 1#1), ∀ a, (k0_off261 arg24 k0_t2) a + S1.size a ≤ S2.size a := fun arg24 k0_hw49 k0_t2 k0_h6 => k0_hw49.2.2.2.2.2.1.2.2.2.2.2.2.2.2.2.2.1 k0_t2 k0_h6
theorem k0_off263_inb : ∀ (arg24 : BitVec 32) (k0_hw49 : k0_chk49 arg24) (k0_t2 : Fin (k0_t2_loop arg24).trips), ∀ (k0_h6 : k0_cond6 arg24 k0_t2 = 1#1), ∀ a, (k0_off263 arg24 k0_t2) a + S1x128x8960.size a ≤ S2x1024x8960.size a := fun arg24 k0_hw49 k0_t2 k0_h6 => k0_hw49.2.2.2.2.2.1.2.2.2.2.2.2.2.2.2.2.2.1 k0_t2 k0_h6
theorem k0_off263_wordsfp8e4m3 : ∀ (arg24 : BitVec 32) (k0_hw49 : k0_chk49 arg24) (k0_t2 : Fin (k0_t2_loop arg24).trips), ∀ (k0_h6 : k0_cond6 arg24 k0_t2 = 1#1), (Rect.unit (s := S2x1024x8960) (k0_off263 arg24 k0_t2) S1x128x8960.size (k0_off263_inb arg24 k0_hw49 k0_t2 k0_h6)).WholeWords (EltTy.packing .fp8e4m3) := fun arg24 k0_hw49 k0_t2 k0_h6 => k0_hw49.2.2.2.2.2.1.2.2.2.2.2.2.2.2.2.2.2.2.1 k0_t2 k0_h6 (k0_off263_inb arg24 k0_hw49 k0_t2 k0_h6)
theorem k0_off264_inb : ∀ (arg24 : BitVec 32) (k0_hw49 : k0_chk49 arg24) (k0_t2 : Fin (k0_t2_loop arg24).trips), ∀ (k0_h6 : k0_cond6 arg24 k0_t2 = 1#1), ∀ a, (k0_off264 arg24 k0_t2) a + S1.size a ≤ S40.size a := fun arg24 k0_hw49 k0_t2 k0_h6 => k0_hw49.2.2.2.2.2.1.2.2.2.2.2.2.2.2.2.2.2.2.2.1 k0_t2 k0_h6
theorem k0_off266_inb : ∀ (arg24 : BitVec 32) (k0_hw49 : k0_chk49 arg24) (k0_t2 : Fin (k0_t2_loop arg24).trips), ∀ (k0_h6 : k0_cond6 arg24 k0_t2 = 1#1), ∀ a, (k0_off266 arg24 k0_t2) a + S1.size a ≤ S2.size a := fun arg24 k0_hw49 k0_t2 k0_h6 => k0_hw49.2.2.2.2.2.1.2.2.2.2.2.2.2.2.2.2.2.2.2.2.1 k0_t2 k0_h6
theorem k0_off268_inb : ∀ (arg24 : BitVec 32) (k0_hw49 : k0_chk49 arg24) (k0_t2 : Fin (k0_t2_loop arg24).trips), ∀ (k0_h6 : k0_cond6 arg24 k0_t2 = 1#1), ∀ a, (k0_off268 arg24 k0_t2) a + S1x128x8960.size a ≤ S2x1024x8960.size a := fun arg24 k0_hw49 k0_t2 k0_h6 => k0_hw49.2.2.2.2.2.1.2.2.2.2.2.2.2.2.2.2.2.2.2.2.2.1 k0_t2 k0_h6
theorem k0_off268_wordsfp8e4m3 : ∀ (arg24 : BitVec 32) (k0_hw49 : k0_chk49 arg24) (k0_t2 : Fin (k0_t2_loop arg24).trips), ∀ (k0_h6 : k0_cond6 arg24 k0_t2 = 1#1), (Rect.unit (s := S2x1024x8960) (k0_off268 arg24 k0_t2) S1x128x8960.size (k0_off268_inb arg24 k0_hw49 k0_t2 k0_h6)).WholeWords (EltTy.packing .fp8e4m3) := fun arg24 k0_hw49 k0_t2 k0_h6 => k0_hw49.2.2.2.2.2.1.2.2.2.2.2.2.2.2.2.2.2.2.2.2.2.2.1 k0_t2 k0_h6 (k0_off268_inb arg24 k0_hw49 k0_t2 k0_h6)
theorem k0_off269_inb : ∀ (arg24 : BitVec 32) (k0_hw49 : k0_chk49 arg24) (k0_t2 : Fin (k0_t2_loop arg24).trips), ∀ (k0_h6 : k0_cond6 arg24 k0_t2 = 1#1), ∀ a, (k0_off269 arg24 k0_t2) a + S1.size a ≤ S40.size a := fun arg24 k0_hw49 k0_t2 k0_h6 => k0_hw49.2.2.2.2.2.1.2.2.2.2.2.2.2.2.2.2.2.2.2.2.2.2.2.1 k0_t2 k0_h6
theorem k0_off271_inb : ∀ (arg24 : BitVec 32) (k0_hw49 : k0_chk49 arg24) (k0_t2 : Fin (k0_t2_loop arg24).trips), ∀ (k0_h6 : k0_cond6 arg24 k0_t2 = 1#1), ∀ a, (k0_off271 arg24 k0_t2) a + S1.size a ≤ S2.size a := fun arg24 k0_hw49 k0_t2 k0_h6 => k0_hw49.2.2.2.2.2.1.2.2.2.2.2.2.2.2.2.2.2.2.2.2.2.2.2.2.1 k0_t2 k0_h6
theorem k0_off273_inb : ∀ (arg24 : BitVec 32) (k0_hw49 : k0_chk49 arg24) (k0_t2 : Fin (k0_t2_loop arg24).trips), ∀ (k0_h6 : k0_cond6 arg24 k0_t2 = 1#1), ∀ a, (k0_off273 arg24 k0_t2) a + S1x128x8960.size a ≤ S2x1024x8960.size a := fun arg24 k0_hw49 k0_t2 k0_h6 => k0_hw49.2.2.2.2.2.1.2.2.2.2.2.2.2.2.2.2.2.2.2.2.2.2.2.2.2.1 k0_t2 k0_h6
theorem k0_off273_wordsfp8e4m3 : ∀ (arg24 : BitVec 32) (k0_hw49 : k0_chk49 arg24) (k0_t2 : Fin (k0_t2_loop arg24).trips), ∀ (k0_h6 : k0_cond6 arg24 k0_t2 = 1#1), (Rect.unit (s := S2x1024x8960) (k0_off273 arg24 k0_t2) S1x128x8960.size (k0_off273_inb arg24 k0_hw49 k0_t2 k0_h6)).WholeWords (EltTy.packing .fp8e4m3) := fun arg24 k0_hw49 k0_t2 k0_h6 => k0_hw49.2.2.2.2.2.1.2.2.2.2.2.2.2.2.2.2.2.2.2.2.2.2.2.2.2.2.1 k0_t2 k0_h6 (k0_off273_inb arg24 k0_hw49 k0_t2 k0_h6)
theorem k0_off274_inb : ∀ (arg24 : BitVec 32) (k0_hw49 : k0_chk49 arg24) (k0_t2 : Fin (k0_t2_loop arg24).trips), ∀ (k0_h6 : k0_cond6 arg24 k0_t2 = 1#1), ∀ a, (k0_off274 arg24 k0_t2) a + S1.size a ≤ S40.size a := fun arg24 k0_hw49 k0_t2 k0_h6 => k0_hw49.2.2.2.2.2.1.2.2.2.2.2.2.2.2.2.2.2.2.2.2.2.2.2.2.2.2.2.1 k0_t2 k0_h6
theorem k0_off276_inb : ∀ (arg24 : BitVec 32) (k0_hw49 : k0_chk49 arg24) (k0_t2 : Fin (k0_t2_loop arg24).trips), ∀ (k0_h6 : k0_cond6 arg24 k0_t2 = 1#1), ∀ a, (k0_off276 arg24 k0_t2) a + S1.size a ≤ S2.size a := fun arg24 k0_hw49 k0_t2 k0_h6 => k0_hw49.2.2.2.2.2.1.2.2.2.2.2.2.2.2.2.2.2.2.2.2.2.2.2.2.2.2.2.2.1 k0_t2 k0_h6
theorem k0_off278_inb : ∀ (arg24 : BitVec 32) (k0_hw49 : k0_chk49 arg24) (k0_t2 : Fin (k0_t2_loop arg24).trips), ∀ (k0_h6 : k0_cond6 arg24 k0_t2 = 1#1), ∀ a, (k0_off278 arg24 k0_t2) a + S1x128x8960.size a ≤ S2x1024x8960.size a := fun arg24 k0_hw49 k0_t2 k0_h6 => k0_hw49.2.2.2.2.2.1.2.2.2.2.2.2.2.2.2.2.2.2.2.2.2.2.2.2.2.2.2.2.2.1 k0_t2 k0_h6
theorem k0_off278_wordsfp8e4m3 : ∀ (arg24 : BitVec 32) (k0_hw49 : k0_chk49 arg24) (k0_t2 : Fin (k0_t2_loop arg24).trips), ∀ (k0_h6 : k0_cond6 arg24 k0_t2 = 1#1), (Rect.unit (s := S2x1024x8960) (k0_off278 arg24 k0_t2) S1x128x8960.size (k0_off278_inb arg24 k0_hw49 k0_t2 k0_h6)).WholeWords (EltTy.packing .fp8e4m3) := fun arg24 k0_hw49 k0_t2 k0_h6 => k0_hw49.2.2.2.2.2.1.2.2.2.2.2.2.2.2.2.2.2.2.2.2.2.2.2.2.2.2.2.2.2.2.1 k0_t2 k0_h6 (k0_off278_inb arg24 k0_hw49 k0_t2 k0_h6)
theorem k0_off279_inb : ∀ (arg24 : BitVec 32) (k0_hw49 : k0_chk49 arg24) (k0_t2 : Fin (k0_t2_loop arg24).trips), ∀ (k0_h6 : k0_cond6 arg24 k0_t2 = 1#1), ∀ a, (k0_off279 arg24 k0_t2) a + S1.size a ≤ S40.size a := fun arg24 k0_hw49 k0_t2 k0_h6 => k0_hw49.2.2.2.2.2.1.2.2.2.2.2.2.2.2.2.2.2.2.2.2.2.2.2.2.2.2.2.2.2.2.2.1 k0_t2 k0_h6
theorem k0_off281_inb : ∀ (arg24 : BitVec 32) (k0_hw49 : k0_chk49 arg24) (k0_t2 : Fin (k0_t2_loop arg24).trips), ∀ (k0_h6 : k0_cond6 arg24 k0_t2 = 1#1), ∀ a, (k0_off281 arg24 k0_t2) a + S1.size a ≤ S2.size a := fun arg24 k0_hw49 k0_t2 k0_h6 => k0_hw49.2.2.2.2.2.1.2.2.2.2.2.2.2.2.2.2.2.2.2.2.2.2.2.2.2.2.2.2.2.2.2.2.1 k0_t2 k0_h6
theorem k0_off283_inb : ∀ (arg24 : BitVec 32) (k0_hw49 : k0_chk49 arg24) (k0_t2 : Fin (k0_t2_loop arg24).trips), ∀ (k0_h6 : k0_cond6 arg24 k0_t2 = 1#1), ∀ a, (k0_off283 arg24 k0_t2) a + S1x128x8960.size a ≤ S2x1024x8960.size a := fun arg24 k0_hw49 k0_t2 k0_h6 => k0_hw49.2.2.2.2.2.1.2.2.2.2.2.2.2.2.2.2.2.2.2.2.2.2.2.2.2.2.2.2.2.2.2.2.2.1 k0_t2 k0_h6
theorem k0_off283_wordsfp8e4m3 : ∀ (arg24 : BitVec 32) (k0_hw49 : k0_chk49 arg24) (k0_t2 : Fin (k0_t2_loop arg24).trips), ∀ (k0_h6 : k0_cond6 arg24 k0_t2 = 1#1), (Rect.unit (s := S2x1024x8960) (k0_off283 arg24 k0_t2) S1x128x8960.size (k0_off283_inb arg24 k0_hw49 k0_t2 k0_h6)).WholeWords (EltTy.packing .fp8e4m3) := fun arg24 k0_hw49 k0_t2 k0_h6 => k0_hw49.2.2.2.2.2.1.2.2.2.2.2.2.2.2.2.2.2.2.2.2.2.2.2.2.2.2.2.2.2.2.2.2.2.2.1 k0_t2 k0_h6 (k0_off283_inb arg24 k0_hw49 k0_t2 k0_h6)
theorem k0_off284_inb : ∀ (arg24 : BitVec 32) (k0_hw49 : k0_chk49 arg24) (k0_t2 : Fin (k0_t2_loop arg24).trips), ∀ (k0_h6 : k0_cond6 arg24 k0_t2 = 1#1), ∀ a, (k0_off284 arg24 k0_t2) a + S1.size a ≤ S40.size a := fun arg24 k0_hw49 k0_t2 k0_h6 => k0_hw49.2.2.2.2.2.1.2.2.2.2.2.2.2.2.2.2.2.2.2.2.2.2.2.2.2.2.2.2.2.2.2.2.2.2.2.1 k0_t2 k0_h6
theorem k0_off286_inb : ∀ (arg24 : BitVec 32) (k0_hw49 : k0_chk49 arg24) (k0_t2 : Fin (k0_t2_loop arg24).trips), ∀ (k0_h6 : k0_cond6 arg24 k0_t2 = 1#1), ∀ a, (k0_off286 arg24 k0_t2) a + S1.size a ≤ S2.size a := fun arg24 k0_hw49 k0_t2 k0_h6 => k0_hw49.2.2.2.2.2.1.2.2.2.2.2.2.2.2.2.2.2.2.2.2.2.2.2.2.2.2.2.2.2.2.2.2.2.2.2.2.1 k0_t2 k0_h6
theorem k0_off288_inb : ∀ (arg24 : BitVec 32) (k0_hw49 : k0_chk49 arg24) (k0_t2 : Fin (k0_t2_loop arg24).trips), ∀ (k0_h6 : k0_cond6 arg24 k0_t2 = 1#1), ∀ a, (k0_off288 arg24 k0_t2) a + S1x128x8960.size a ≤ S2x1024x8960.size a := fun arg24 k0_hw49 k0_t2 k0_h6 => k0_hw49.2.2.2.2.2.1.2.2.2.2.2.2.2.2.2.2.2.2.2.2.2.2.2.2.2.2.2.2.2.2.2.2.2.2.2.2.2 k0_t2 k0_h6
theorem k0_off288_wordsfp8e4m3 : ∀ (arg24 : BitVec 32) (k0_hw49 : k0_chk49 arg24) (k0_t2 : Fin (k0_t2_loop arg24).trips), ∀ (k0_h6 : k0_cond6 arg24 k0_t2 = 1#1), (Rect.unit (s := S2x1024x8960) (k0_off288 arg24 k0_t2) S1x128x8960.size (k0_off288_inb arg24 k0_hw49 k0_t2 k0_h6)).WholeWords (EltTy.packing .fp8e4m3) := fun arg24 k0_hw49 k0_t2 k0_h6 => k0_hw49.2.2.2.2.2.2.1.1 k0_t2 k0_h6 (k0_off288_inb arg24 k0_hw49 k0_t2 k0_h6)
theorem k0_off289_inb : ∀ (arg24 : BitVec 32) (k0_hw49 : k0_chk49 arg24) (k0_t2 : Fin (k0_t2_loop arg24).trips), ∀ a, (k0_off289 arg24 k0_t2) a + S1.size a ≤ S40.size a := fun arg24 k0_hw49 k0_t2 => k0_hw49.2.2.2.2.2.2.1.2.1 k0_t2
theorem k0_off291_inb : ∀ (arg24 : BitVec 32) (k0_hw49 : k0_chk49 arg24) (k0_t2 : Fin (k0_t2_loop arg24).trips), ∀ a, (k0_off291 arg24 k0_t2) a + S1x1024x1536.size a ≤ S2x1024x1536.size a := fun arg24 k0_hw49 k0_t2 => k0_hw49.2.2.2.2.2.2.1.2.2.1 k0_t2
theorem k0_off292_inb : ∀ (arg24 : BitVec 32) (k0_hw49 : k0_chk49 arg24) (k0_t2 : Fin (k0_t2_loop arg24).trips), ∀ a, (k0_off292 arg24 k0_t2) a + S1x1024x256.size a ≤ S2x1024x8960.size a := fun arg24 k0_hw49 k0_t2 => k0_hw49.2.2.2.2.2.2.1.2.2.2.1 k0_t2
theorem k0_off292_packedfp8e4m3 : ∀ (arg24 : BitVec 32) (k0_hw49 : k0_chk49 arg24) (k0_t2 : Fin (k0_t2_loop arg24).trips), (Rect.unit (s := S2x1024x8960) (k0_off292 arg24 k0_t2) S1x1024x256.size (k0_off292_inb arg24 k0_hw49 k0_t2)).PackedRows (EltTy.packing .fp8e4m3) := fun arg24 k0_hw49 k0_t2 => k0_hw49.2.2.2.2.2.2.1.2.2.2.2.1 k0_t2 (k0_off292_inb arg24 k0_hw49 k0_t2)
theorem k0_off293_inb : ∀ (arg24 : BitVec 32) (k0_hw49 : k0_chk49 arg24) (k0_t2 : Fin (k0_t2_loop arg24).trips), ∀ a, (k0_off293 arg24 k0_t2) a + S1x32x1536.size a ≤ S2x1024x1536.size a := fun arg24 k0_hw49 k0_t2 => k0_hw49.2.2.2.2.2.2.1.2.2.2.2.2.1 k0_t2
theorem k0_off293_packedfp8e4m3 : ∀ (arg24 : BitVec 32) (k0_hw49 : k0_chk49 arg24) (k0_t2 : Fin (k0_t2_loop arg24).trips), (Rect.unit (s := S2x1024x1536) (k0_off293 arg24 k0_t2) S1x32x1536.size (k0_off293_inb arg24 k0_hw49 k0_t2)).PackedRows (EltTy.packing .fp8e4m3) := fun arg24 k0_hw49 k0_t2 => k0_hw49.2.2.2.2.2.2.1.2.2.2.2.2.2.1 k0_t2 (k0_off293_inb arg24 k0_hw49 k0_t2)
theorem k0_off294_inb : ∀ (arg24 : BitVec 32) (k0_hw49 : k0_chk49 arg24) (k0_t2 : Fin (k0_t2_loop arg24).trips), ∀ a, (k0_off294 arg24 k0_t2) a + S1x1024x256.size a ≤ S2x1024x8960.size a := fun arg24 k0_hw49 k0_t2 => k0_hw49.2.2.2.2.2.2.1.2.2.2.2.2.2.2.1 k0_t2
theorem k0_off294_packedfp8e4m3 : ∀ (arg24 : BitVec 32) (k0_hw49 : k0_chk49 arg24) (k0_t2 : Fin (k0_t2_loop arg24).trips), (Rect.unit (s := S2x1024x8960) (k0_off294 arg24 k0_t2) S1x1024x256.size (k0_off294_inb arg24 k0_hw49 k0_t2)).PackedRows (EltTy.packing .fp8e4m3) := fun arg24 k0_hw49 k0_t2 => k0_hw49.2.2.2.2.2.2.1.2.2.2.2.2.2.2.2.1 k0_t2 (k0_off294_inb arg24 k0_hw49 k0_t2)
theorem k0_off295_inb : ∀ (arg24 : BitVec 32) (k0_hw49 : k0_chk49 arg24) (k0_t2 : Fin (k0_t2_loop arg24).trips), ∀ a, (k0_off295 arg24 k0_t2) a + S1x32x1536.size a ≤ S2x1024x1536.size a := fun arg24 k0_hw49 k0_t2 => k0_hw49.2.2.2.2.2.2.1.2.2.2.2.2.2.2.2.2.1 k0_t2
theorem k0_off295_packedfp8e4m3 : ∀ (arg24 : BitVec 32) (k0_hw49 : k0_chk49 arg24) (k0_t2 : Fin (k0_t2_loop arg24).trips), (Rect.unit (s := S2x1024x1536) (k0_off295 arg24 k0_t2) S1x32x1536.size (k0_off295_inb arg24 k0_hw49 k0_t2)).PackedRows (EltTy.packing .fp8e4m3) := fun arg24 k0_hw49 k0_t2 => k0_hw49.2.2.2.2.2.2.1.2.2.2.2.2.2.2.2.2.2.1 k0_t2 (k0_off295_inb arg24 k0_hw49 k0_t2)
theorem k0_off296_inb : ∀ (arg24 : BitVec 32) (k0_hw49 : k0_chk49 arg24) (k0_t2 : Fin (k0_t2_loop arg24).trips), ∀ a, (k0_off296 arg24 k0_t2) a + S1x1024x256.size a ≤ S2x1024x8960.size a := fun arg24 k0_hw49 k0_t2 => k0_hw49.2.2.2.2.2.2.1.2.2.2.2.2.2.2.2.2.2.2.1 k0_t2
theorem k0_off296_packedfp8e4m3 : ∀ (arg24 : BitVec 32) (k0_hw49 : k0_chk49 arg24) (k0_t2 : Fin (k0_t2_loop arg24).trips), (Rect.unit (s := S2x1024x8960) (k0_off296 arg24 k0_t2) S1x1024x256.size (k0_off296_inb arg24 k0_hw49 k0_t2)).PackedRows (EltTy.packing .fp8e4m3) := fun arg24 k0_hw49 k0_t2 => k0_hw49.2.2.2.2.2.2.1.2.2.2.2.2.2.2.2.2.2.2.2.1 k0_t2 (k0_off296_inb arg24 k0_hw49 k0_t2)
theorem k0_off297_inb : ∀ (arg24 : BitVec 32) (k0_hw49 : k0_chk49 arg24) (k0_t2 : Fin (k0_t2_loop arg24).trips), ∀ a, (k0_off297 arg24 k0_t2) a + S1x32x1536.size a ≤ S2x1024x1536.size a := fun arg24 k0_hw49 k0_t2 => k0_hw49.2.2.2.2.2.2.1.2.2.2.2.2.2.2.2.2.2.2.2.2.1 k0_t2
theorem k0_off297_packedfp8e4m3 : ∀ (arg24 : BitVec 32) (k0_hw49 : k0_chk49 arg24) (k0_t2 : Fin (k0_t2_loop arg24).trips), (Rect.unit (s := S2x1024x1536) (k0_off297 arg24 k0_t2) S1x32x1536.size (k0_off297_inb arg24 k0_hw49 k0_t2)).PackedRows (EltTy.packing .fp8e4m3) := fun arg24 k0_hw49 k0_t2 => k0_hw49.2.2.2.2.2.2.1.2.2.2.2.2.2.2.2.2.2.2.2.2.2.1 k0_t2 (k0_off297_inb arg24 k0_hw49 k0_t2)
theorem k0_off298_inb : ∀ (arg24 : BitVec 32) (k0_hw49 : k0_chk49 arg24) (k0_t2 : Fin (k0_t2_loop arg24).trips), ∀ a, (k0_off298 arg24 k0_t2) a + S1x1024x256.size a ≤ S2x1024x8960.size a := fun arg24 k0_hw49 k0_t2 => k0_hw49.2.2.2.2.2.2.1.2.2.2.2.2.2.2.2.2.2.2.2.2.2.2.1 k0_t2
theorem k0_off298_packedfp8e4m3 : ∀ (arg24 : BitVec 32) (k0_hw49 : k0_chk49 arg24) (k0_t2 : Fin (k0_t2_loop arg24).trips), (Rect.unit (s := S2x1024x8960) (k0_off298 arg24 k0_t2) S1x1024x256.size (k0_off298_inb arg24 k0_hw49 k0_t2)).PackedRows (EltTy.packing .fp8e4m3) := fun arg24 k0_hw49 k0_t2 => k0_hw49.2.2.2.2.2.2.1.2.2.2.2.2.2.2.2.2.2.2.2.2.2.2.2.1 k0_t2 (k0_off298_inb arg24 k0_hw49 k0_t2)
theorem k0_off299_inb : ∀ (arg24 : BitVec 32) (k0_hw49 : k0_chk49 arg24) (k0_t2 : Fin (k0_t2_loop arg24).trips), ∀ a, (k0_off299 arg24 k0_t2) a + S1x32x1536.size a ≤ S2x1024x1536.size a := fun arg24 k0_hw49 k0_t2 => k0_hw49.2.2.2.2.2.2.1.2.2.2.2.2.2.2.2.2.2.2.2.2.2.2.2.2.1 k0_t2
theorem k0_off299_packedfp8e4m3 : ∀ (arg24 : BitVec 32) (k0_hw49 : k0_chk49 arg24) (k0_t2 : Fin (k0_t2_loop arg24).trips), (Rect.unit (s := S2x1024x1536) (k0_off299 arg24 k0_t2) S1x32x1536.size (k0_off299_inb arg24 k0_hw49 k0_t2)).PackedRows (EltTy.packing .fp8e4m3) := fun arg24 k0_hw49 k0_t2 => k0_hw49.2.2.2.2.2.2.1.2.2.2.2.2.2.2.2.2.2.2.2.2.2.2.2.2.2.1 k0_t2 (k0_off299_inb arg24 k0_hw49 k0_t2)
theorem k0_off300_inb : ∀ (arg24 : BitVec 32) (k0_hw49 : k0_chk49 arg24) (k0_t2 : Fin (k0_t2_loop arg24).trips), ∀ a, (k0_off300 arg24 k0_t2) a + S1x1024x256.size a ≤ S2x1024x8960.size a := fun arg24 k0_hw49 k0_t2 => k0_hw49.2.2.2.2.2.2.1.2.2.2.2.2.2.2.2.2.2.2.2.2.2.2.2.2.2.2.1 k0_t2
theorem k0_off300_packedfp8e4m3 : ∀ (arg24 : BitVec 32) (k0_hw49 : k0_chk49 arg24) (k0_t2 : Fin (k0_t2_loop arg24).trips), (Rect.unit (s := S2x1024x8960) (k0_off300 arg24 k0_t2) S1x1024x256.size (k0_off300_inb arg24 k0_hw49 k0_t2)).PackedRows (EltTy.packing .fp8e4m3) := fun arg24 k0_hw49 k0_t2 => k0_hw49.2.2.2.2.2.2.1.2.2.2.2.2.2.2.2.2.2.2.2.2.2.2.2.2.2.2.2.1 k0_t2 (k0_off300_inb arg24 k0_hw49 k0_t2)
theorem k0_off301_inb : ∀ (arg24 : BitVec 32) (k0_hw49 : k0_chk49 arg24) (k0_t2 : Fin (k0_t2_loop arg24).trips), ∀ a, (k0_off301 arg24 k0_t2) a + S1x32x1536.size a ≤ S2x1024x1536.size a := fun arg24 k0_hw49 k0_t2 => k0_hw49.2.2.2.2.2.2.1.2.2.2.2.2.2.2.2.2.2.2.2.2.2.2.2.2.2.2.2.2.1 k0_t2
theorem k0_off301_packedfp8e4m3 : ∀ (arg24 : BitVec 32) (k0_hw49 : k0_chk49 arg24) (k0_t2 : Fin (k0_t2_loop arg24).trips), (Rect.unit (s := S2x1024x1536) (k0_off301 arg24 k0_t2) S1x32x1536.size (k0_off301_inb arg24 k0_hw49 k0_t2)).PackedRows (EltTy.packing .fp8e4m3) := fun arg24 k0_hw49 k0_t2 => k0_hw49.2.2.2.2.2.2.1.2.2.2.2.2.2.2.2.2.2.2.2.2.2.2.2.2.2.2.2.2.2.1 k0_t2 (k0_off301_inb arg24 k0_hw49 k0_t2)
theorem k0_off302_inb : ∀ (arg24 : BitVec 32) (k0_hw49 : k0_chk49 arg24) (k0_t2 : Fin (k0_t2_loop arg24).trips), ∀ a, (k0_off302 arg24 k0_t2) a + S1x1024x256.size a ≤ S2x1024x8960.size a := fun arg24 k0_hw49 k0_t2 => k0_hw49.2.2.2.2.2.2.1.2.2.2.2.2.2.2.2.2.2.2.2.2.2.2.2.2.2.2.2.2.2.2.1 k0_t2
theorem k0_off302_packedfp8e4m3 : ∀ (arg24 : BitVec 32) (k0_hw49 : k0_chk49 arg24) (k0_t2 : Fin (k0_t2_loop arg24).trips), (Rect.unit (s := S2x1024x8960) (k0_off302 arg24 k0_t2) S1x1024x256.size (k0_off302_inb arg24 k0_hw49 k0_t2)).PackedRows (EltTy.packing .fp8e4m3) := fun arg24 k0_hw49 k0_t2 => k0_hw49.2.2.2.2.2.2.1.2.2.2.2.2.2.2.2.2.2.2.2.2.2.2.2.2.2.2.2.2.2.2.2.1 k0_t2 (k0_off302_inb arg24 k0_hw49 k0_t2)
theorem k0_off303_inb : ∀ (arg24 : BitVec 32) (k0_hw49 : k0_chk49 arg24) (k0_t2 : Fin (k0_t2_loop arg24).trips), ∀ a, (k0_off303 arg24 k0_t2) a + S1x32x1536.size a ≤ S2x1024x1536.size a := fun arg24 k0_hw49 k0_t2 => k0_hw49.2.2.2.2.2.2.1.2.2.2.2.2.2.2.2.2.2.2.2.2.2.2.2.2.2.2.2.2.2.2.2.2.1 k0_t2
theorem k0_off303_packedfp8e4m3 : ∀ (arg24 : BitVec 32) (k0_hw49 : k0_chk49 arg24) (k0_t2 : Fin (k0_t2_loop arg24).trips), (Rect.unit (s := S2x1024x1536) (k0_off303 arg24 k0_t2) S1x32x1536.size (k0_off303_inb arg24 k0_hw49 k0_t2)).PackedRows (EltTy.packing .fp8e4m3) := fun arg24 k0_hw49 k0_t2 => k0_hw49.2.2.2.2.2.2.1.2.2.2.2.2.2.2.2.2.2.2.2.2.2.2.2.2.2.2.2.2.2.2.2.2.2.1 k0_t2 (k0_off303_inb arg24 k0_hw49 k0_t2)
theorem k0_off304_inb : ∀ (arg24 : BitVec 32) (k0_hw49 : k0_chk49 arg24) (k0_t2 : Fin (k0_t2_loop arg24).trips), ∀ a, (k0_off304 arg24 k0_t2) a + S1x1024x256.size a ≤ S2x1024x8960.size a := fun arg24 k0_hw49 k0_t2 => k0_hw49.2.2.2.2.2.2.1.2.2.2.2.2.2.2.2.2.2.2.2.2.2.2.2.2.2.2.2.2.2.2.2.2.2.2.1 k0_t2
theorem k0_off304_packedfp8e4m3 : ∀ (arg24 : BitVec 32) (k0_hw49 : k0_chk49 arg24) (k0_t2 : Fin (k0_t2_loop arg24).trips), (Rect.unit (s := S2x1024x8960) (k0_off304 arg24 k0_t2) S1x1024x256.size (k0_off304_inb arg24 k0_hw49 k0_t2)).PackedRows (EltTy.packing .fp8e4m3) := fun arg24 k0_hw49 k0_t2 => k0_hw49.2.2.2.2.2.2.1.2.2.2.2.2.2.2.2.2.2.2.2.2.2.2.2.2.2.2.2.2.2.2.2.2.2.2.2.1 k0_t2 (k0_off304_inb arg24 k0_hw49 k0_t2)
theorem k0_off305_inb : ∀ (arg24 : BitVec 32) (k0_hw49 : k0_chk49 arg24) (k0_t2 : Fin (k0_t2_loop arg24).trips), ∀ a, (k0_off305 arg24 k0_t2) a + S1x32x1536.size a ≤ S2x1024x1536.size a := fun arg24 k0_hw49 k0_t2 => k0_hw49.2.2.2.2.2.2.1.2.2.2.2.2.2.2.2.2.2.2.2.2.2.2.2.2.2.2.2.2.2.2.2.2.2.2.2.2.1 k0_t2
theorem k0_off305_packedfp8e4m3 : ∀ (arg24 : BitVec 32) (k0_hw49 : k0_chk49 arg24) (k0_t2 : Fin (k0_t2_loop arg24).trips), (Rect.unit (s := S2x1024x1536) (k0_off305 arg24 k0_t2) S1x32x1536.size (k0_off305_inb arg24 k0_hw49 k0_t2)).PackedRows (EltTy.packing .fp8e4m3) := fun arg24 k0_hw49 k0_t2 => k0_hw49.2.2.2.2.2.2.1.2.2.2.2.2.2.2.2.2.2.2.2.2.2.2.2.2.2.2.2.2.2.2.2.2.2.2.2.2.2.1 k0_t2 (k0_off305_inb arg24 k0_hw49 k0_t2)
theorem k0_off306_inb : ∀ (arg24 : BitVec 32) (k0_hw49 : k0_chk49 arg24) (k0_t2 : Fin (k0_t2_loop arg24).trips), ∀ a, (k0_off306 arg24 k0_t2) a + S1x1024x256.size a ≤ S2x1024x8960.size a := fun arg24 k0_hw49 k0_t2 => k0_hw49.2.2.2.2.2.2.1.2.2.2.2.2.2.2.2.2.2.2.2.2.2.2.2.2.2.2.2.2.2.2.2.2.2.2.2.2.2.2 k0_t2
theorem k0_off306_packedfp8e4m3 : ∀ (arg24 : BitVec 32) (k0_hw49 : k0_chk49 arg24) (k0_t2 : Fin (k0_t2_loop arg24).trips), (Rect.unit (s := S2x1024x8960) (k0_off306 arg24 k0_t2) S1x1024x256.size (k0_off306_inb arg24 k0_hw49 k0_t2)).PackedRows (EltTy.packing .fp8e4m3) := fun arg24 k0_hw49 k0_t2 => k0_hw49.2.2.2.2.2.2.2.1.1 k0_t2 (k0_off306_inb arg24 k0_hw49 k0_t2)
theorem k0_off307_inb : ∀ (arg24 : BitVec 32) (k0_hw49 : k0_chk49 arg24) (k0_t2 : Fin (k0_t2_loop arg24).trips), ∀ a, (k0_off307 arg24 k0_t2) a + S1x32x1536.size a ≤ S2x1024x1536.size a := fun arg24 k0_hw49 k0_t2 => k0_hw49.2.2.2.2.2.2.2.1.2.1 k0_t2
theorem k0_off307_packedfp8e4m3 : ∀ (arg24 : BitVec 32) (k0_hw49 : k0_chk49 arg24) (k0_t2 : Fin (k0_t2_loop arg24).trips), (Rect.unit (s := S2x1024x1536) (k0_off307 arg24 k0_t2) S1x32x1536.size (k0_off307_inb arg24 k0_hw49 k0_t2)).PackedRows (EltTy.packing .fp8e4m3) := fun arg24 k0_hw49 k0_t2 => k0_hw49.2.2.2.2.2.2.2.1.2.2.1 k0_t2 (k0_off307_inb arg24 k0_hw49 k0_t2)
theorem k0_off308_inb : ∀ (arg24 : BitVec 32) (k0_hw49 : k0_chk49 arg24) (k0_t2 : Fin (k0_t2_loop arg24).trips), ∀ a, (k0_off308 arg24 k0_t2) a + S1x1024x256.size a ≤ S2x1024x8960.size a := fun arg24 k0_hw49 k0_t2 => k0_hw49.2.2.2.2.2.2.2.1.2.2.2.1 k0_t2
theorem k0_off308_packedfp8e4m3 : ∀ (arg24 : BitVec 32) (k0_hw49 : k0_chk49 arg24) (k0_t2 : Fin (k0_t2_loop arg24).trips), (Rect.unit (s := S2x1024x8960) (k0_off308 arg24 k0_t2) S1x1024x256.size (k0_off308_inb arg24 k0_hw49 k0_t2)).PackedRows (EltTy.packing .fp8e4m3) := fun arg24 k0_hw49 k0_t2 => k0_hw49.2.2.2.2.2.2.2.1.2.2.2.2.1 k0_t2 (k0_off308_inb arg24 k0_hw49 k0_t2)
theorem k0_off309_inb : ∀ (arg24 : BitVec 32) (k0_hw49 : k0_chk49 arg24) (k0_t2 : Fin (k0_t2_loop arg24).trips), ∀ a, (k0_off309 arg24 k0_t2) a + S1x32x1536.size a ≤ S2x1024x1536.size a := fun arg24 k0_hw49 k0_t2 => k0_hw49.2.2.2.2.2.2.2.1.2.2.2.2.2.1 k0_t2
theorem k0_off309_packedfp8e4m3 : ∀ (arg24 : BitVec 32) (k0_hw49 : k0_chk49 arg24) (k0_t2 : Fin (k0_t2_loop arg24).trips), (Rect.unit (s := S2x1024x1536) (k0_off309 arg24 k0_t2) S1x32x1536.size (k0_off309_inb arg24 k0_hw49 k0_t2)).PackedRows (EltTy.packing .fp8e4m3) := fun arg24 k0_hw49 k0_t2 => k0_hw49.2.2.2.2.2.2.2.1.2.2.2.2.2.2.1 k0_t2 (k0_off309_inb arg24 k0_hw49 k0_t2)
theorem k0_off310_inb : ∀ (arg24 : BitVec 32) (k0_hw49 : k0_chk49 arg24) (k0_t2 : Fin (k0_t2_loop arg24).trips), ∀ a, (k0_off310 arg24 k0_t2) a + S1x1024x256.size a ≤ S2x1024x8960.size a := fun arg24 k0_hw49 k0_t2 => k0_hw49.2.2.2.2.2.2.2.1.2.2.2.2.2.2.2.1 k0_t2
theorem k0_off310_packedfp8e4m3 : ∀ (arg24 : BitVec 32) (k0_hw49 : k0_chk49 arg24) (k0_t2 : Fin (k0_t2_loop arg24).trips), (Rect.unit (s := S2x1024x8960) (k0_off310 arg24 k0_t2) S1x1024x256.size (k0_off310_inb arg24 k0_hw49 k0_t2)).PackedRows (EltTy.packing .fp8e4m3) := fun arg24 k0_hw49 k0_t2 => k0_hw49.2.2.2.2.2.2.2.1.2.2.2.2.2.2.2.2.1 k0_t2 (k0_off310_inb arg24 k0_hw49 k0_t2)
theorem k0_off311_inb : ∀ (arg24 : BitVec 32) (k0_hw49 : k0_chk49 arg24) (k0_t2 : Fin (k0_t2_loop arg24).trips), ∀ a, (k0_off311 arg24 k0_t2) a + S1x32x1536.size a ≤ S2x1024x1536.size a := fun arg24 k0_hw49 k0_t2 => k0_hw49.2.2.2.2.2.2.2.1.2.2.2.2.2.2.2.2.2.1 k0_t2
theorem k0_off311_packedfp8e4m3 : ∀ (arg24 : BitVec 32) (k0_hw49 : k0_chk49 arg24) (k0_t2 : Fin (k0_t2_loop arg24).trips), (Rect.unit (s := S2x1024x1536) (k0_off311 arg24 k0_t2) S1x32x1536.size (k0_off311_inb arg24 k0_hw49 k0_t2)).PackedRows (EltTy.packing .fp8e4m3) := fun arg24 k0_hw49 k0_t2 => k0_hw49.2.2.2.2.2.2.2.1.2.2.2.2.2.2.2.2.2.2.1 k0_t2 (k0_off311_inb arg24 k0_hw49 k0_t2)
theorem k0_off312_inb : ∀ (arg24 : BitVec 32) (k0_hw49 : k0_chk49 arg24) (k0_t2 : Fin (k0_t2_loop arg24).trips), ∀ a, (k0_off312 arg24 k0_t2) a + S1x1024x256.size a ≤ S2x1024x8960.size a := fun arg24 k0_hw49 k0_t2 => k0_hw49.2.2.2.2.2.2.2.1.2.2.2.2.2.2.2.2.2.2.2.1 k0_t2
theorem k0_off312_packedfp8e4m3 : ∀ (arg24 : BitVec 32) (k0_hw49 : k0_chk49 arg24) (k0_t2 : Fin (k0_t2_loop arg24).trips), (Rect.unit (s := S2x1024x8960) (k0_off312 arg24 k0_t2) S1x1024x256.size (k0_off312_inb arg24 k0_hw49 k0_t2)).PackedRows (EltTy.packing .fp8e4m3) := fun arg24 k0_hw49 k0_t2 => k0_hw49.2.2.2.2.2.2.2.1.2.2.2.2.2.2.2.2.2.2.2.2.1 k0_t2 (k0_off312_inb arg24 k0_hw49 k0_t2)
theorem k0_off313_inb : ∀ (arg24 : BitVec 32) (k0_hw49 : k0_chk49 arg24) (k0_t2 : Fin (k0_t2_loop arg24).trips), ∀ a, (k0_off313 arg24 k0_t2) a + S1x32x1536.size a ≤ S2x1024x1536.size a := fun arg24 k0_hw49 k0_t2 => k0_hw49.2.2.2.2.2.2.2.1.2.2.2.2.2.2.2.2.2.2.2.2.2.1 k0_t2
theorem k0_off313_packedfp8e4m3 : ∀ (arg24 : BitVec 32) (k0_hw49 : k0_chk49 arg24) (k0_t2 : Fin (k0_t2_loop arg24).trips), (Rect.unit (s := S2x1024x1536) (k0_off313 arg24 k0_t2) S1x32x1536.size (k0_off313_inb arg24 k0_hw49 k0_t2)).PackedRows (EltTy.packing .fp8e4m3) := fun arg24 k0_hw49 k0_t2 => k0_hw49.2.2.2.2.2.2.2.1.2.2.2.2.2.2.2.2.2.2.2.2.2.2.1 k0_t2 (k0_off313_inb arg24 k0_hw49 k0_t2)
theorem k0_off314_inb : ∀ (arg24 : BitVec 32) (k0_hw49 : k0_chk49 arg24) (k0_t2 : Fin (k0_t2_loop arg24).trips), ∀ a, (k0_off314 arg24 k0_t2) a + S1x1024x256.size a ≤ S2x1024x8960.size a := fun arg24 k0_hw49 k0_t2 => k0_hw49.2.2.2.2.2.2.2.1.2.2.2.2.2.2.2.2.2.2.2.2.2.2.2.1 k0_t2
theorem k0_off314_packedfp8e4m3 : ∀ (arg24 : BitVec 32) (k0_hw49 : k0_chk49 arg24) (k0_t2 : Fin (k0_t2_loop arg24).trips), (Rect.unit (s := S2x1024x8960) (k0_off314 arg24 k0_t2) S1x1024x256.size (k0_off314_inb arg24 k0_hw49 k0_t2)).PackedRows (EltTy.packing .fp8e4m3) := fun arg24 k0_hw49 k0_t2 => k0_hw49.2.2.2.2.2.2.2.1.2.2.2.2.2.2.2.2.2.2.2.2.2.2.2.2.1 k0_t2 (k0_off314_inb arg24 k0_hw49 k0_t2)
theorem k0_off315_inb : ∀ (arg24 : BitVec 32) (k0_hw49 : k0_chk49 arg24) (k0_t2 : Fin (k0_t2_loop arg24).trips), ∀ a, (k0_off315 arg24 k0_t2) a + S1x32x1536.size a ≤ S2x1024x1536.size a := fun arg24 k0_hw49 k0_t2 => k0_hw49.2.2.2.2.2.2.2.1.2.2.2.2.2.2.2.2.2.2.2.2.2.2.2.2.2.1 k0_t2
theorem k0_off315_packedfp8e4m3 : ∀ (arg24 : BitVec 32) (k0_hw49 : k0_chk49 arg24) (k0_t2 : Fin (k0_t2_loop arg24).trips), (Rect.unit (s := S2x1024x1536) (k0_off315 arg24 k0_t2) S1x32x1536.size (k0_off315_inb arg24 k0_hw49 k0_t2)).PackedRows (EltTy.packing .fp8e4m3) := fun arg24 k0_hw49 k0_t2 => k0_hw49.2.2.2.2.2.2.2.1.2.2.2.2.2.2.2.2.2.2.2.2.2.2.2.2.2.2.1 k0_t2 (k0_off315_inb arg24 k0_hw49 k0_t2)
theorem k0_off316_inb : ∀ (arg24 : BitVec 32) (k0_hw49 : k0_chk49 arg24) (k0_t2 : Fin (k0_t2_loop arg24).trips), ∀ a, (k0_off316 arg24 k0_t2) a + S1x1024x256.size a ≤ S2x1024x8960.size a := fun arg24 k0_hw49 k0_t2 => k0_hw49.2.2.2.2.2.2.2.1.2.2.2.2.2.2.2.2.2.2.2.2.2.2.2.2.2.2.2.1 k0_t2
theorem k0_off316_packedfp8e4m3 : ∀ (arg24 : BitVec 32) (k0_hw49 : k0_chk49 arg24) (k0_t2 : Fin (k0_t2_loop arg24).trips), (Rect.unit (s := S2x1024x8960) (k0_off316 arg24 k0_t2) S1x1024x256.size (k0_off316_inb arg24 k0_hw49 k0_t2)).PackedRows (EltTy.packing .fp8e4m3) := fun arg24 k0_hw49 k0_t2 => k0_hw49.2.2.2.2.2.2.2.1.2.2.2.2.2.2.2.2.2.2.2.2.2.2.2.2.2.2.2.2.1 k0_t2 (k0_off316_inb arg24 k0_hw49 k0_t2)
theorem k0_off317_inb : ∀ (arg24 : BitVec 32) (k0_hw49 : k0_chk49 arg24) (k0_t2 : Fin (k0_t2_loop arg24).trips), ∀ a, (k0_off317 arg24 k0_t2) a + S1x32x1536.size a ≤ S2x1024x1536.size a := fun arg24 k0_hw49 k0_t2 => k0_hw49.2.2.2.2.2.2.2.1.2.2.2.2.2.2.2.2.2.2.2.2.2.2.2.2.2.2.2.2.2.1 k0_t2
theorem k0_off317_packedfp8e4m3 : ∀ (arg24 : BitVec 32) (k0_hw49 : k0_chk49 arg24) (k0_t2 : Fin (k0_t2_loop arg24).trips), (Rect.unit (s := S2x1024x1536) (k0_off317 arg24 k0_t2) S1x32x1536.size (k0_off317_inb arg24 k0_hw49 k0_t2)).PackedRows (EltTy.packing .fp8e4m3) := fun arg24 k0_hw49 k0_t2 => k0_hw49.2.2.2.2.2.2.2.1.2.2.2.2.2.2.2.2.2.2.2.2.2.2.2.2.2.2.2.2.2.2.1 k0_t2 (k0_off317_inb arg24 k0_hw49 k0_t2)
theorem k0_off318_inb : ∀ (arg24 : BitVec 32) (k0_hw49 : k0_chk49 arg24) (k0_t2 : Fin (k0_t2_loop arg24).trips), ∀ a, (k0_off318 arg24 k0_t2) a + S1x1024x256.size a ≤ S2x1024x8960.size a := fun arg24 k0_hw49 k0_t2 => k0_hw49.2.2.2.2.2.2.2.1.2.2.2.2.2.2.2.2.2.2.2.2.2.2.2.2.2.2.2.2.2.2.2.1 k0_t2
theorem k0_off318_packedfp8e4m3 : ∀ (arg24 : BitVec 32) (k0_hw49 : k0_chk49 arg24) (k0_t2 : Fin (k0_t2_loop arg24).trips), (Rect.unit (s := S2x1024x8960) (k0_off318 arg24 k0_t2) S1x1024x256.size (k0_off318_inb arg24 k0_hw49 k0_t2)).PackedRows (EltTy.packing .fp8e4m3) := fun arg24 k0_hw49 k0_t2 => k0_hw49.2.2.2.2.2.2.2.1.2.2.2.2.2.2.2.2.2.2.2.2.2.2.2.2.2.2.2.2.2.2.2.2.1 k0_t2 (k0_off318_inb arg24 k0_hw49 k0_t2)
theorem k0_off319_inb : ∀ (arg24 : BitVec 32) (k0_hw49 : k0_chk49 arg24) (k0_t2 : Fin (k0_t2_loop arg24).trips), ∀ a, (k0_off319 arg24 k0_t2) a + S1x32x1536.size a ≤ S2x1024x1536.size a := fun arg24 k0_hw49 k0_t2 => k0_hw49.2.2.2.2.2.2.2.1.2.2.2.2.2.2.2.2.2.2.2.2.2.2.2.2.2.2.2.2.2.2.2.2.2.1 k0_t2
theorem k0_off319_packedfp8e4m3 : ∀ (arg24 : BitVec 32) (k0_hw49 : k0_chk49 arg24) (k0_t2 : Fin (k0_t2_loop arg24).trips), (Rect.unit (s := S2x1024x1536) (k0_off319 arg24 k0_t2) S1x32x1536.size (k0_off319_inb arg24 k0_hw49 k0_t2)).PackedRows (EltTy.packing .fp8e4m3) := fun arg24 k0_hw49 k0_t2 => k0_hw49.2.2.2.2.2.2.2.1.2.2.2.2.2.2.2.2.2.2.2.2.2.2.2.2.2.2.2.2.2.2.2.2.2.2.1 k0_t2 (k0_off319_inb arg24 k0_hw49 k0_t2)
theorem k0_off320_inb : ∀ (arg24 : BitVec 32) (k0_hw49 : k0_chk49 arg24) (k0_t2 : Fin (k0_t2_loop arg24).trips), ∀ a, (k0_off320 arg24 k0_t2) a + S1x1024x256.size a ≤ S2x1024x8960.size a := fun arg24 k0_hw49 k0_t2 => k0_hw49.2.2.2.2.2.2.2.1.2.2.2.2.2.2.2.2.2.2.2.2.2.2.2.2.2.2.2.2.2.2.2.2.2.2.2.1 k0_t2
theorem k0_off320_packedfp8e4m3 : ∀ (arg24 : BitVec 32) (k0_hw49 : k0_chk49 arg24) (k0_t2 : Fin (k0_t2_loop arg24).trips), (Rect.unit (s := S2x1024x8960) (k0_off320 arg24 k0_t2) S1x1024x256.size (k0_off320_inb arg24 k0_hw49 k0_t2)).PackedRows (EltTy.packing .fp8e4m3) := fun arg24 k0_hw49 k0_t2 => k0_hw49.2.2.2.2.2.2.2.1.2.2.2.2.2.2.2.2.2.2.2.2.2.2.2.2.2.2.2.2.2.2.2.2.2.2.2.2.1 k0_t2 (k0_off320_inb arg24 k0_hw49 k0_t2)
theorem k0_off321_inb : ∀ (arg24 : BitVec 32) (k0_hw49 : k0_chk49 arg24) (k0_t2 : Fin (k0_t2_loop arg24).trips), ∀ a, (k0_off321 arg24 k0_t2) a + S1x32x1536.size a ≤ S2x1024x1536.size a := fun arg24 k0_hw49 k0_t2 => k0_hw49.2.2.2.2.2.2.2.1.2.2.2.2.2.2.2.2.2.2.2.2.2.2.2.2.2.2.2.2.2.2.2.2.2.2.2.2.2.1 k0_t2
theorem k0_off321_packedfp8e4m3 : ∀ (arg24 : BitVec 32) (k0_hw49 : k0_chk49 arg24) (k0_t2 : Fin (k0_t2_loop arg24).trips), (Rect.unit (s := S2x1024x1536) (k0_off321 arg24 k0_t2) S1x32x1536.size (k0_off321_inb arg24 k0_hw49 k0_t2)).PackedRows (EltTy.packing .fp8e4m3) := fun arg24 k0_hw49 k0_t2 => k0_hw49.2.2.2.2.2.2.2.1.2.2.2.2.2.2.2.2.2.2.2.2.2.2.2.2.2.2.2.2.2.2.2.2.2.2.2.2.2.2.1 k0_t2 (k0_off321_inb arg24 k0_hw49 k0_t2)
theorem k0_off322_inb : ∀ (arg24 : BitVec 32) (k0_hw49 : k0_chk49 arg24) (k0_t2 : Fin (k0_t2_loop arg24).trips), ∀ a, (k0_off322 arg24 k0_t2) a + S1x1024x256.size a ≤ S2x1024x8960.size a := fun arg24 k0_hw49 k0_t2 => k0_hw49.2.2.2.2.2.2.2.1.2.2.2.2.2.2.2.2.2.2.2.2.2.2.2.2.2.2.2.2.2.2.2.2.2.2.2.2.2.2.2 k0_t2
theorem k0_off322_packedfp8e4m3 : ∀ (arg24 : BitVec 32) (k0_hw49 : k0_chk49 arg24) (k0_t2 : Fin (k0_t2_loop arg24).trips), (Rect.unit (s := S2x1024x8960) (k0_off322 arg24 k0_t2) S1x1024x256.size (k0_off322_inb arg24 k0_hw49 k0_t2)).PackedRows (EltTy.packing .fp8e4m3) := fun arg24 k0_hw49 k0_t2 => k0_hw49.2.2.2.2.2.2.2.2.1.1 k0_t2 (k0_off322_inb arg24 k0_hw49 k0_t2)
theorem k0_off323_inb : ∀ (arg24 : BitVec 32) (k0_hw49 : k0_chk49 arg24) (k0_t2 : Fin (k0_t2_loop arg24).trips), ∀ a, (k0_off323 arg24 k0_t2) a + S1x32x1536.size a ≤ S2x1024x1536.size a := fun arg24 k0_hw49 k0_t2 => k0_hw49.2.2.2.2.2.2.2.2.1.2.1 k0_t2
theorem k0_off323_packedfp8e4m3 : ∀ (arg24 : BitVec 32) (k0_hw49 : k0_chk49 arg24) (k0_t2 : Fin (k0_t2_loop arg24).trips), (Rect.unit (s := S2x1024x1536) (k0_off323 arg24 k0_t2) S1x32x1536.size (k0_off323_inb arg24 k0_hw49 k0_t2)).PackedRows (EltTy.packing .fp8e4m3) := fun arg24 k0_hw49 k0_t2 => k0_hw49.2.2.2.2.2.2.2.2.1.2.2.1 k0_t2 (k0_off323_inb arg24 k0_hw49 k0_t2)
theorem k0_off324_inb : ∀ (arg24 : BitVec 32) (k0_hw49 : k0_chk49 arg24) (k0_t2 : Fin (k0_t2_loop arg24).trips), ∀ a, (k0_off324 arg24 k0_t2) a + S1x1024x256.size a ≤ S2x1024x8960.size a := fun arg24 k0_hw49 k0_t2 => k0_hw49.2.2.2.2.2.2.2.2.1.2.2.2.1 k0_t2
theorem k0_off324_packedfp8e4m3 : ∀ (arg24 : BitVec 32) (k0_hw49 : k0_chk49 arg24) (k0_t2 : Fin (k0_t2_loop arg24).trips), (Rect.unit (s := S2x1024x8960) (k0_off324 arg24 k0_t2) S1x1024x256.size (k0_off324_inb arg24 k0_hw49 k0_t2)).PackedRows (EltTy.packing .fp8e4m3) := fun arg24 k0_hw49 k0_t2 => k0_hw49.2.2.2.2.2.2.2.2.1.2.2.2.2.1 k0_t2 (k0_off324_inb arg24 k0_hw49 k0_t2)
theorem k0_off325_inb : ∀ (arg24 : BitVec 32) (k0_hw49 : k0_chk49 arg24) (k0_t2 : Fin (k0_t2_loop arg24).trips), ∀ a, (k0_off325 arg24 k0_t2) a + S1x32x1536.size a ≤ S2x1024x1536.size a := fun arg24 k0_hw49 k0_t2 => k0_hw49.2.2.2.2.2.2.2.2.1.2.2.2.2.2.1 k0_t2
theorem k0_off325_packedfp8e4m3 : ∀ (arg24 : BitVec 32) (k0_hw49 : k0_chk49 arg24) (k0_t2 : Fin (k0_t2_loop arg24).trips), (Rect.unit (s := S2x1024x1536) (k0_off325 arg24 k0_t2) S1x32x1536.size (k0_off325_inb arg24 k0_hw49 k0_t2)).PackedRows (EltTy.packing .fp8e4m3) := fun arg24 k0_hw49 k0_t2 => k0_hw49.2.2.2.2.2.2.2.2.1.2.2.2.2.2.2.1 k0_t2 (k0_off325_inb arg24 k0_hw49 k0_t2)
theorem k0_off326_inb : ∀ (arg24 : BitVec 32) (k0_hw49 : k0_chk49 arg24) (k0_t2 : Fin (k0_t2_loop arg24).trips), ∀ a, (k0_off326 arg24 k0_t2) a + S1x1024x256.size a ≤ S2x1024x8960.size a := fun arg24 k0_hw49 k0_t2 => k0_hw49.2.2.2.2.2.2.2.2.1.2.2.2.2.2.2.2.1 k0_t2
theorem k0_off326_packedfp8e4m3 : ∀ (arg24 : BitVec 32) (k0_hw49 : k0_chk49 arg24) (k0_t2 : Fin (k0_t2_loop arg24).trips), (Rect.unit (s := S2x1024x8960) (k0_off326 arg24 k0_t2) S1x1024x256.size (k0_off326_inb arg24 k0_hw49 k0_t2)).PackedRows (EltTy.packing .fp8e4m3) := fun arg24 k0_hw49 k0_t2 => k0_hw49.2.2.2.2.2.2.2.2.1.2.2.2.2.2.2.2.2.1 k0_t2 (k0_off326_inb arg24 k0_hw49 k0_t2)
theorem k0_off327_inb : ∀ (arg24 : BitVec 32) (k0_hw49 : k0_chk49 arg24) (k0_t2 : Fin (k0_t2_loop arg24).trips), ∀ a, (k0_off327 arg24 k0_t2) a + S1x32x1536.size a ≤ S2x1024x1536.size a := fun arg24 k0_hw49 k0_t2 => k0_hw49.2.2.2.2.2.2.2.2.1.2.2.2.2.2.2.2.2.2.1 k0_t2
theorem k0_off327_packedfp8e4m3 : ∀ (arg24 : BitVec 32) (k0_hw49 : k0_chk49 arg24) (k0_t2 : Fin (k0_t2_loop arg24).trips), (Rect.unit (s := S2x1024x1536) (k0_off327 arg24 k0_t2) S1x32x1536.size (k0_off327_inb arg24 k0_hw49 k0_t2)).PackedRows (EltTy.packing .fp8e4m3) := fun arg24 k0_hw49 k0_t2 => k0_hw49.2.2.2.2.2.2.2.2.1.2.2.2.2.2.2.2.2.2.2.1 k0_t2 (k0_off327_inb arg24 k0_hw49 k0_t2)
theorem k0_off328_inb : ∀ (arg24 : BitVec 32) (k0_hw49 : k0_chk49 arg24) (k0_t2 : Fin (k0_t2_loop arg24).trips), ∀ a, (k0_off328 arg24 k0_t2) a + S1x1024x256.size a ≤ S2x1024x8960.size a := fun arg24 k0_hw49 k0_t2 => k0_hw49.2.2.2.2.2.2.2.2.1.2.2.2.2.2.2.2.2.2.2.2.1 k0_t2
theorem k0_off328_packedfp8e4m3 : ∀ (arg24 : BitVec 32) (k0_hw49 : k0_chk49 arg24) (k0_t2 : Fin (k0_t2_loop arg24).trips), (Rect.unit (s := S2x1024x8960) (k0_off328 arg24 k0_t2) S1x1024x256.size (k0_off328_inb arg24 k0_hw49 k0_t2)).PackedRows (EltTy.packing .fp8e4m3) := fun arg24 k0_hw49 k0_t2 => k0_hw49.2.2.2.2.2.2.2.2.1.2.2.2.2.2.2.2.2.2.2.2.2.1 k0_t2 (k0_off328_inb arg24 k0_hw49 k0_t2)
theorem k0_off329_inb : ∀ (arg24 : BitVec 32) (k0_hw49 : k0_chk49 arg24) (k0_t2 : Fin (k0_t2_loop arg24).trips), ∀ a, (k0_off329 arg24 k0_t2) a + S1x32x1536.size a ≤ S2x1024x1536.size a := fun arg24 k0_hw49 k0_t2 => k0_hw49.2.2.2.2.2.2.2.2.1.2.2.2.2.2.2.2.2.2.2.2.2.2.1 k0_t2
theorem k0_off329_packedfp8e4m3 : ∀ (arg24 : BitVec 32) (k0_hw49 : k0_chk49 arg24) (k0_t2 : Fin (k0_t2_loop arg24).trips), (Rect.unit (s := S2x1024x1536) (k0_off329 arg24 k0_t2) S1x32x1536.size (k0_off329_inb arg24 k0_hw49 k0_t2)).PackedRows (EltTy.packing .fp8e4m3) := fun arg24 k0_hw49 k0_t2 => k0_hw49.2.2.2.2.2.2.2.2.1.2.2.2.2.2.2.2.2.2.2.2.2.2.2.1 k0_t2 (k0_off329_inb arg24 k0_hw49 k0_t2)
theorem k0_off330_inb : ∀ (arg24 : BitVec 32) (k0_hw49 : k0_chk49 arg24) (k0_t2 : Fin (k0_t2_loop arg24).trips), ∀ a, (k0_off330 arg24 k0_t2) a + S1x1024x256.size a ≤ S2x1024x8960.size a := fun arg24 k0_hw49 k0_t2 => k0_hw49.2.2.2.2.2.2.2.2.1.2.2.2.2.2.2.2.2.2.2.2.2.2.2.2.1 k0_t2
theorem k0_off330_packedfp8e4m3 : ∀ (arg24 : BitVec 32) (k0_hw49 : k0_chk49 arg24) (k0_t2 : Fin (k0_t2_loop arg24).trips), (Rect.unit (s := S2x1024x8960) (k0_off330 arg24 k0_t2) S1x1024x256.size (k0_off330_inb arg24 k0_hw49 k0_t2)).PackedRows (EltTy.packing .fp8e4m3) := fun arg24 k0_hw49 k0_t2 => k0_hw49.2.2.2.2.2.2.2.2.1.2.2.2.2.2.2.2.2.2.2.2.2.2.2.2.2.1 k0_t2 (k0_off330_inb arg24 k0_hw49 k0_t2)
theorem k0_off331_inb : ∀ (arg24 : BitVec 32) (k0_hw49 : k0_chk49 arg24) (k0_t2 : Fin (k0_t2_loop arg24).trips), ∀ a, (k0_off331 arg24 k0_t2) a + S1x32x1536.size a ≤ S2x1024x1536.size a := fun arg24 k0_hw49 k0_t2 => k0_hw49.2.2.2.2.2.2.2.2.1.2.2.2.2.2.2.2.2.2.2.2.2.2.2.2.2.2.1 k0_t2
theorem k0_off331_packedfp8e4m3 : ∀ (arg24 : BitVec 32) (k0_hw49 : k0_chk49 arg24) (k0_t2 : Fin (k0_t2_loop arg24).trips), (Rect.unit (s := S2x1024x1536) (k0_off331 arg24 k0_t2) S1x32x1536.size (k0_off331_inb arg24 k0_hw49 k0_t2)).PackedRows (EltTy.packing .fp8e4m3) := fun arg24 k0_hw49 k0_t2 => k0_hw49.2.2.2.2.2.2.2.2.1.2.2.2.2.2.2.2.2.2.2.2.2.2.2.2.2.2.2.1 k0_t2 (k0_off331_inb arg24 k0_hw49 k0_t2)
theorem k0_off332_inb : ∀ (arg24 : BitVec 32) (k0_hw49 : k0_chk49 arg24) (k0_t2 : Fin (k0_t2_loop arg24).trips), ∀ a, (k0_off332 arg24 k0_t2) a + S1x1024x256.size a ≤ S2x1024x8960.size a := fun arg24 k0_hw49 k0_t2 => k0_hw49.2.2.2.2.2.2.2.2.1.2.2.2.2.2.2.2.2.2.2.2.2.2.2.2.2.2.2.2.1 k0_t2
theorem k0_off332_packedfp8e4m3 : ∀ (arg24 : BitVec 32) (k0_hw49 : k0_chk49 arg24) (k0_t2 : Fin (k0_t2_loop arg24).trips), (Rect.unit (s := S2x1024x8960) (k0_off332 arg24 k0_t2) S1x1024x256.size (k0_off332_inb arg24 k0_hw49 k0_t2)).PackedRows (EltTy.packing .fp8e4m3) := fun arg24 k0_hw49 k0_t2 => k0_hw49.2.2.2.2.2.2.2.2.1.2.2.2.2.2.2.2.2.2.2.2.2.2.2.2.2.2.2.2.2.1 k0_t2 (k0_off332_inb arg24 k0_hw49 k0_t2)
theorem k0_off333_inb : ∀ (arg24 : BitVec 32) (k0_hw49 : k0_chk49 arg24) (k0_t2 : Fin (k0_t2_loop arg24).trips), ∀ a, (k0_off333 arg24 k0_t2) a + S1x32x1536.size a ≤ S2x1024x1536.size a := fun arg24 k0_hw49 k0_t2 => k0_hw49.2.2.2.2.2.2.2.2.1.2.2.2.2.2.2.2.2.2.2.2.2.2.2.2.2.2.2.2.2.2.1 k0_t2
theorem k0_off333_packedfp8e4m3 : ∀ (arg24 : BitVec 32) (k0_hw49 : k0_chk49 arg24) (k0_t2 : Fin (k0_t2_loop arg24).trips), (Rect.unit (s := S2x1024x1536) (k0_off333 arg24 k0_t2) S1x32x1536.size (k0_off333_inb arg24 k0_hw49 k0_t2)).PackedRows (EltTy.packing .fp8e4m3) := fun arg24 k0_hw49 k0_t2 => k0_hw49.2.2.2.2.2.2.2.2.1.2.2.2.2.2.2.2.2.2.2.2.2.2.2.2.2.2.2.2.2.2.2.1 k0_t2 (k0_off333_inb arg24 k0_hw49 k0_t2)
theorem k0_off334_inb : ∀ (arg24 : BitVec 32) (k0_hw49 : k0_chk49 arg24) (k0_t2 : Fin (k0_t2_loop arg24).trips), ∀ a, (k0_off334 arg24 k0_t2) a + S1x1024x256.size a ≤ S2x1024x8960.size a := fun arg24 k0_hw49 k0_t2 => k0_hw49.2.2.2.2.2.2.2.2.1.2.2.2.2.2.2.2.2.2.2.2.2.2.2.2.2.2.2.2.2.2.2.2.1 k0_t2
theorem k0_off334_packedfp8e4m3 : ∀ (arg24 : BitVec 32) (k0_hw49 : k0_chk49 arg24) (k0_t2 : Fin (k0_t2_loop arg24).trips), (Rect.unit (s := S2x1024x8960) (k0_off334 arg24 k0_t2) S1x1024x256.size (k0_off334_inb arg24 k0_hw49 k0_t2)).PackedRows (EltTy.packing .fp8e4m3) := fun arg24 k0_hw49 k0_t2 => k0_hw49.2.2.2.2.2.2.2.2.1.2.2.2.2.2.2.2.2.2.2.2.2.2.2.2.2.2.2.2.2.2.2.2.2.1 k0_t2 (k0_off334_inb arg24 k0_hw49 k0_t2)
theorem k0_off335_inb : ∀ (arg24 : BitVec 32) (k0_hw49 : k0_chk49 arg24) (k0_t2 : Fin (k0_t2_loop arg24).trips), ∀ a, (k0_off335 arg24 k0_t2) a + S1x32x1536.size a ≤ S2x1024x1536.size a := fun arg24 k0_hw49 k0_t2 => k0_hw49.2.2.2.2.2.2.2.2.1.2.2.2.2.2.2.2.2.2.2.2.2.2.2.2.2.2.2.2.2.2.2.2.2.2.1 k0_t2
theorem k0_off335_packedfp8e4m3 : ∀ (arg24 : BitVec 32) (k0_hw49 : k0_chk49 arg24) (k0_t2 : Fin (k0_t2_loop arg24).trips), (Rect.unit (s := S2x1024x1536) (k0_off335 arg24 k0_t2) S1x32x1536.size (k0_off335_inb arg24 k0_hw49 k0_t2)).PackedRows (EltTy.packing .fp8e4m3) := fun arg24 k0_hw49 k0_t2 => k0_hw49.2.2.2.2.2.2.2.2.1.2.2.2.2.2.2.2.2.2.2.2.2.2.2.2.2.2.2.2.2.2.2.2.2.2.2.1 k0_t2 (k0_off335_inb arg24 k0_hw49 k0_t2)
theorem k0_off336_inb : ∀ (arg24 : BitVec 32) (k0_hw49 : k0_chk49 arg24) (k0_t2 : Fin (k0_t2_loop arg24).trips), ∀ a, (k0_off336 arg24 k0_t2) a + S1x1024x256.size a ≤ S2x1024x8960.size a := fun arg24 k0_hw49 k0_t2 => k0_hw49.2.2.2.2.2.2.2.2.1.2.2.2.2.2.2.2.2.2.2.2.2.2.2.2.2.2.2.2.2.2.2.2.2.2.2.2.1 k0_t2
theorem k0_off336_packedfp8e4m3 : ∀ (arg24 : BitVec 32) (k0_hw49 : k0_chk49 arg24) (k0_t2 : Fin (k0_t2_loop arg24).trips), (Rect.unit (s := S2x1024x8960) (k0_off336 arg24 k0_t2) S1x1024x256.size (k0_off336_inb arg24 k0_hw49 k0_t2)).PackedRows (EltTy.packing .fp8e4m3) := fun arg24 k0_hw49 k0_t2 => k0_hw49.2.2.2.2.2.2.2.2.1.2.2.2.2.2.2.2.2.2.2.2.2.2.2.2.2.2.2.2.2.2.2.2.2.2.2.2.2.1 k0_t2 (k0_off336_inb arg24 k0_hw49 k0_t2)
theorem k0_off337_inb : ∀ (arg24 : BitVec 32) (k0_hw49 : k0_chk49 arg24) (k0_t2 : Fin (k0_t2_loop arg24).trips), ∀ a, (k0_off337 arg24 k0_t2) a + S1x32x1536.size a ≤ S2x1024x1536.size a := fun arg24 k0_hw49 k0_t2 => k0_hw49.2.2.2.2.2.2.2.2.1.2.2.2.2.2.2.2.2.2.2.2.2.2.2.2.2.2.2.2.2.2.2.2.2.2.2.2.2.2.1 k0_t2
theorem k0_off337_packedfp8e4m3 : ∀ (arg24 : BitVec 32) (k0_hw49 : k0_chk49 arg24) (k0_t2 : Fin (k0_t2_loop arg24).trips), (Rect.unit (s := S2x1024x1536) (k0_off337 arg24 k0_t2) S1x32x1536.size (k0_off337_inb arg24 k0_hw49 k0_t2)).PackedRows (EltTy.packing .fp8e4m3) := fun arg24 k0_hw49 k0_t2 => k0_hw49.2.2.2.2.2.2.2.2.1.2.2.2.2.2.2.2.2.2.2.2.2.2.2.2.2.2.2.2.2.2.2.2.2.2.2.2.2.2.2.1 k0_t2 (k0_off337_inb arg24 k0_hw49 k0_t2)
theorem k0_off338_inb : ∀ (arg24 : BitVec 32) (k0_hw49 : k0_chk49 arg24) (k0_t2 : Fin (k0_t2_loop arg24).trips), ∀ a, (k0_off338 arg24 k0_t2) a + S1x1024x256.size a ≤ S2x1024x8960.size a := fun arg24 k0_hw49 k0_t2 => k0_hw49.2.2.2.2.2.2.2.2.1.2.2.2.2.2.2.2.2.2.2.2.2.2.2.2.2.2.2.2.2.2.2.2.2.2.2.2.2.2.2.2 k0_t2
theorem k0_off338_packedfp8e4m3 : ∀ (arg24 : BitVec 32) (k0_hw49 : k0_chk49 arg24) (k0_t2 : Fin (k0_t2_loop arg24).trips), (Rect.unit (s := S2x1024x8960) (k0_off338 arg24 k0_t2) S1x1024x256.size (k0_off338_inb arg24 k0_hw49 k0_t2)).PackedRows (EltTy.packing .fp8e4m3) := fun arg24 k0_hw49 k0_t2 => k0_hw49.2.2.2.2.2.2.2.2.2.1.1 k0_t2 (k0_off338_inb arg24 k0_hw49 k0_t2)
theorem k0_off339_inb : ∀ (arg24 : BitVec 32) (k0_hw49 : k0_chk49 arg24) (k0_t2 : Fin (k0_t2_loop arg24).trips), ∀ a, (k0_off339 arg24 k0_t2) a + S1x32x1536.size a ≤ S2x1024x1536.size a := fun arg24 k0_hw49 k0_t2 => k0_hw49.2.2.2.2.2.2.2.2.2.1.2.1 k0_t2
theorem k0_off339_packedfp8e4m3 : ∀ (arg24 : BitVec 32) (k0_hw49 : k0_chk49 arg24) (k0_t2 : Fin (k0_t2_loop arg24).trips), (Rect.unit (s := S2x1024x1536) (k0_off339 arg24 k0_t2) S1x32x1536.size (k0_off339_inb arg24 k0_hw49 k0_t2)).PackedRows (EltTy.packing .fp8e4m3) := fun arg24 k0_hw49 k0_t2 => k0_hw49.2.2.2.2.2.2.2.2.2.1.2.2.1 k0_t2 (k0_off339_inb arg24 k0_hw49 k0_t2)
theorem k0_off340_inb : ∀ (arg24 : BitVec 32) (k0_hw49 : k0_chk49 arg24) (k0_t2 : Fin (k0_t2_loop arg24).trips), ∀ a, (k0_off340 arg24 k0_t2) a + S1x1024x256.size a ≤ S2x1024x8960.size a := fun arg24 k0_hw49 k0_t2 => k0_hw49.2.2.2.2.2.2.2.2.2.1.2.2.2.1 k0_t2
theorem k0_off340_packedfp8e4m3 : ∀ (arg24 : BitVec 32) (k0_hw49 : k0_chk49 arg24) (k0_t2 : Fin (k0_t2_loop arg24).trips), (Rect.unit (s := S2x1024x8960) (k0_off340 arg24 k0_t2) S1x1024x256.size (k0_off340_inb arg24 k0_hw49 k0_t2)).PackedRows (EltTy.packing .fp8e4m3) := fun arg24 k0_hw49 k0_t2 => k0_hw49.2.2.2.2.2.2.2.2.2.1.2.2.2.2.1 k0_t2 (k0_off340_inb arg24 k0_hw49 k0_t2)
theorem k0_off341_inb : ∀ (arg24 : BitVec 32) (k0_hw49 : k0_chk49 arg24) (k0_t2 : Fin (k0_t2_loop arg24).trips), ∀ a, (k0_off341 arg24 k0_t2) a + S1x32x1536.size a ≤ S2x1024x1536.size a := fun arg24 k0_hw49 k0_t2 => k0_hw49.2.2.2.2.2.2.2.2.2.1.2.2.2.2.2.1 k0_t2
theorem k0_off341_packedfp8e4m3 : ∀ (arg24 : BitVec 32) (k0_hw49 : k0_chk49 arg24) (k0_t2 : Fin (k0_t2_loop arg24).trips), (Rect.unit (s := S2x1024x1536) (k0_off341 arg24 k0_t2) S1x32x1536.size (k0_off341_inb arg24 k0_hw49 k0_t2)).PackedRows (EltTy.packing .fp8e4m3) := fun arg24 k0_hw49 k0_t2 => k0_hw49.2.2.2.2.2.2.2.2.2.1.2.2.2.2.2.2.1 k0_t2 (k0_off341_inb arg24 k0_hw49 k0_t2)
theorem k0_off342_inb : ∀ (arg24 : BitVec 32) (k0_hw49 : k0_chk49 arg24) (k0_t2 : Fin (k0_t2_loop arg24).trips), ∀ a, (k0_off342 arg24 k0_t2) a + S1x1024x256.size a ≤ S2x1024x8960.size a := fun arg24 k0_hw49 k0_t2 => k0_hw49.2.2.2.2.2.2.2.2.2.1.2.2.2.2.2.2.2.1 k0_t2
theorem k0_off342_packedfp8e4m3 : ∀ (arg24 : BitVec 32) (k0_hw49 : k0_chk49 arg24) (k0_t2 : Fin (k0_t2_loop arg24).trips), (Rect.unit (s := S2x1024x8960) (k0_off342 arg24 k0_t2) S1x1024x256.size (k0_off342_inb arg24 k0_hw49 k0_t2)).PackedRows (EltTy.packing .fp8e4m3) := fun arg24 k0_hw49 k0_t2 => k0_hw49.2.2.2.2.2.2.2.2.2.1.2.2.2.2.2.2.2.2.1 k0_t2 (k0_off342_inb arg24 k0_hw49 k0_t2)
theorem k0_off343_inb : ∀ (arg24 : BitVec 32) (k0_hw49 : k0_chk49 arg24) (k0_t2 : Fin (k0_t2_loop arg24).trips), ∀ a, (k0_off343 arg24 k0_t2) a + S1x32x1536.size a ≤ S2x1024x1536.size a := fun arg24 k0_hw49 k0_t2 => k0_hw49.2.2.2.2.2.2.2.2.2.1.2.2.2.2.2.2.2.2.2.1 k0_t2
theorem k0_off343_packedfp8e4m3 : ∀ (arg24 : BitVec 32) (k0_hw49 : k0_chk49 arg24) (k0_t2 : Fin (k0_t2_loop arg24).trips), (Rect.unit (s := S2x1024x1536) (k0_off343 arg24 k0_t2) S1x32x1536.size (k0_off343_inb arg24 k0_hw49 k0_t2)).PackedRows (EltTy.packing .fp8e4m3) := fun arg24 k0_hw49 k0_t2 => k0_hw49.2.2.2.2.2.2.2.2.2.1.2.2.2.2.2.2.2.2.2.2.1 k0_t2 (k0_off343_inb arg24 k0_hw49 k0_t2)
theorem k0_off344_inb : ∀ (arg24 : BitVec 32) (k0_hw49 : k0_chk49 arg24) (k0_t2 : Fin (k0_t2_loop arg24).trips), ∀ a, (k0_off344 arg24 k0_t2) a + S1x1024x256.size a ≤ S2x1024x8960.size a := fun arg24 k0_hw49 k0_t2 => k0_hw49.2.2.2.2.2.2.2.2.2.1.2.2.2.2.2.2.2.2.2.2.2.1 k0_t2
theorem k0_off344_packedfp8e4m3 : ∀ (arg24 : BitVec 32) (k0_hw49 : k0_chk49 arg24) (k0_t2 : Fin (k0_t2_loop arg24).trips), (Rect.unit (s := S2x1024x8960) (k0_off344 arg24 k0_t2) S1x1024x256.size (k0_off344_inb arg24 k0_hw49 k0_t2)).PackedRows (EltTy.packing .fp8e4m3) := fun arg24 k0_hw49 k0_t2 => k0_hw49.2.2.2.2.2.2.2.2.2.1.2.2.2.2.2.2.2.2.2.2.2.2.1 k0_t2 (k0_off344_inb arg24 k0_hw49 k0_t2)
theorem k0_off345_inb : ∀ (arg24 : BitVec 32) (k0_hw49 : k0_chk49 arg24) (k0_t2 : Fin (k0_t2_loop arg24).trips), ∀ a, (k0_off345 arg24 k0_t2) a + S1x32x1536.size a ≤ S2x1024x1536.size a := fun arg24 k0_hw49 k0_t2 => k0_hw49.2.2.2.2.2.2.2.2.2.1.2.2.2.2.2.2.2.2.2.2.2.2.2.1 k0_t2
theorem k0_off345_packedfp8e4m3 : ∀ (arg24 : BitVec 32) (k0_hw49 : k0_chk49 arg24) (k0_t2 : Fin (k0_t2_loop arg24).trips), (Rect.unit (s := S2x1024x1536) (k0_off345 arg24 k0_t2) S1x32x1536.size (k0_off345_inb arg24 k0_hw49 k0_t2)).PackedRows (EltTy.packing .fp8e4m3) := fun arg24 k0_hw49 k0_t2 => k0_hw49.2.2.2.2.2.2.2.2.2.1.2.2.2.2.2.2.2.2.2.2.2.2.2.2.1 k0_t2 (k0_off345_inb arg24 k0_hw49 k0_t2)
theorem k0_off346_inb : ∀ (arg24 : BitVec 32) (k0_hw49 : k0_chk49 arg24) (k0_t2 : Fin (k0_t2_loop arg24).trips), ∀ a, (k0_off346 arg24 k0_t2) a + S1x1024x256.size a ≤ S2x1024x8960.size a := fun arg24 k0_hw49 k0_t2 => k0_hw49.2.2.2.2.2.2.2.2.2.1.2.2.2.2.2.2.2.2.2.2.2.2.2.2.2.1 k0_t2
theorem k0_off346_packedfp8e4m3 : ∀ (arg24 : BitVec 32) (k0_hw49 : k0_chk49 arg24) (k0_t2 : Fin (k0_t2_loop arg24).trips), (Rect.unit (s := S2x1024x8960) (k0_off346 arg24 k0_t2) S1x1024x256.size (k0_off346_inb arg24 k0_hw49 k0_t2)).PackedRows (EltTy.packing .fp8e4m3) := fun arg24 k0_hw49 k0_t2 => k0_hw49.2.2.2.2.2.2.2.2.2.1.2.2.2.2.2.2.2.2.2.2.2.2.2.2.2.2.1 k0_t2 (k0_off346_inb arg24 k0_hw49 k0_t2)
theorem k0_off347_inb : ∀ (arg24 : BitVec 32) (k0_hw49 : k0_chk49 arg24) (k0_t2 : Fin (k0_t2_loop arg24).trips), ∀ a, (k0_off347 arg24 k0_t2) a + S1x32x1536.size a ≤ S2x1024x1536.size a := fun arg24 k0_hw49 k0_t2 => k0_hw49.2.2.2.2.2.2.2.2.2.1.2.2.2.2.2.2.2.2.2.2.2.2.2.2.2.2.2.1 k0_t2
theorem k0_off347_packedfp8e4m3 : ∀ (arg24 : BitVec 32) (k0_hw49 : k0_chk49 arg24) (k0_t2 : Fin (k0_t2_loop arg24).trips), (Rect.unit (s := S2x1024x1536) (k0_off347 arg24 k0_t2) S1x32x1536.size (k0_off347_inb arg24 k0_hw49 k0_t2)).PackedRows (EltTy.packing .fp8e4m3) := fun arg24 k0_hw49 k0_t2 => k0_hw49.2.2.2.2.2.2.2.2.2.1.2.2.2.2.2.2.2.2.2.2.2.2.2.2.2.2.2.2.1 k0_t2 (k0_off347_inb arg24 k0_hw49 k0_t2)
theorem k0_off348_inb : ∀ (arg24 : BitVec 32) (k0_hw49 : k0_chk49 arg24) (k0_t2 : Fin (k0_t2_loop arg24).trips), ∀ a, (k0_off348 arg24 k0_t2) a + S1x1024x256.size a ≤ S2x1024x8960.size a := fun arg24 k0_hw49 k0_t2 => k0_hw49.2.2.2.2.2.2.2.2.2.1.2.2.2.2.2.2.2.2.2.2.2.2.2.2.2.2.2.2.2.1 k0_t2
theorem k0_off348_packedfp8e4m3 : ∀ (arg24 : BitVec 32) (k0_hw49 : k0_chk49 arg24) (k0_t2 : Fin (k0_t2_loop arg24).trips), (Rect.unit (s := S2x1024x8960) (k0_off348 arg24 k0_t2) S1x1024x256.size (k0_off348_inb arg24 k0_hw49 k0_t2)).PackedRows (EltTy.packing .fp8e4m3) := fun arg24 k0_hw49 k0_t2 => k0_hw49.2.2.2.2.2.2.2.2.2.1.2.2.2.2.2.2.2.2.2.2.2.2.2.2.2.2.2.2.2.2.1 k0_t2 (k0_off348_inb arg24 k0_hw49 k0_t2)
theorem k0_off349_inb : ∀ (arg24 : BitVec 32) (k0_hw49 : k0_chk49 arg24) (k0_t2 : Fin (k0_t2_loop arg24).trips), ∀ a, (k0_off349 arg24 k0_t2) a + S1x32x1536.size a ≤ S2x1024x1536.size a := fun arg24 k0_hw49 k0_t2 => k0_hw49.2.2.2.2.2.2.2.2.2.1.2.2.2.2.2.2.2.2.2.2.2.2.2.2.2.2.2.2.2.2.2.1 k0_t2
theorem k0_off349_packedfp8e4m3 : ∀ (arg24 : BitVec 32) (k0_hw49 : k0_chk49 arg24) (k0_t2 : Fin (k0_t2_loop arg24).trips), (Rect.unit (s := S2x1024x1536) (k0_off349 arg24 k0_t2) S1x32x1536.size (k0_off349_inb arg24 k0_hw49 k0_t2)).PackedRows (EltTy.packing .fp8e4m3) := fun arg24 k0_hw49 k0_t2 => k0_hw49.2.2.2.2.2.2.2.2.2.1.2.2.2.2.2.2.2.2.2.2.2.2.2.2.2.2.2.2.2.2.2.2.1 k0_t2 (k0_off349_inb arg24 k0_hw49 k0_t2)
theorem k0_off350_inb : ∀ (arg24 : BitVec 32) (k0_hw49 : k0_chk49 arg24) (k0_t2 : Fin (k0_t2_loop arg24).trips), ∀ a, (k0_off350 arg24 k0_t2) a + S1x1024x256.size a ≤ S2x1024x8960.size a := fun arg24 k0_hw49 k0_t2 => k0_hw49.2.2.2.2.2.2.2.2.2.1.2.2.2.2.2.2.2.2.2.2.2.2.2.2.2.2.2.2.2.2.2.2.2.1 k0_t2
theorem k0_off350_packedfp8e4m3 : ∀ (arg24 : BitVec 32) (k0_hw49 : k0_chk49 arg24) (k0_t2 : Fin (k0_t2_loop arg24).trips), (Rect.unit (s := S2x1024x8960) (k0_off350 arg24 k0_t2) S1x1024x256.size (k0_off350_inb arg24 k0_hw49 k0_t2)).PackedRows (EltTy.packing .fp8e4m3) := fun arg24 k0_hw49 k0_t2 => k0_hw49.2.2.2.2.2.2.2.2.2.1.2.2.2.2.2.2.2.2.2.2.2.2.2.2.2.2.2.2.2.2.2.2.2.2.1 k0_t2 (k0_off350_inb arg24 k0_hw49 k0_t2)
theorem k0_off351_inb : ∀ (arg24 : BitVec 32) (k0_hw49 : k0_chk49 arg24) (k0_t2 : Fin (k0_t2_loop arg24).trips), ∀ a, (k0_off351 arg24 k0_t2) a + S1x32x1536.size a ≤ S2x1024x1536.size a := fun arg24 k0_hw49 k0_t2 => k0_hw49.2.2.2.2.2.2.2.2.2.1.2.2.2.2.2.2.2.2.2.2.2.2.2.2.2.2.2.2.2.2.2.2.2.2.2.1 k0_t2
theorem k0_off351_packedfp8e4m3 : ∀ (arg24 : BitVec 32) (k0_hw49 : k0_chk49 arg24) (k0_t2 : Fin (k0_t2_loop arg24).trips), (Rect.unit (s := S2x1024x1536) (k0_off351 arg24 k0_t2) S1x32x1536.size (k0_off351_inb arg24 k0_hw49 k0_t2)).PackedRows (EltTy.packing .fp8e4m3) := fun arg24 k0_hw49 k0_t2 => k0_hw49.2.2.2.2.2.2.2.2.2.1.2.2.2.2.2.2.2.2.2.2.2.2.2.2.2.2.2.2.2.2.2.2.2.2.2.2.1 k0_t2 (k0_off351_inb arg24 k0_hw49 k0_t2)
theorem k0_off352_inb : ∀ (arg24 : BitVec 32) (k0_hw49 : k0_chk49 arg24) (k0_t2 : Fin (k0_t2_loop arg24).trips), ∀ a, (k0_off352 arg24 k0_t2) a + S1x1024x256.size a ≤ S2x1024x8960.size a := fun arg24 k0_hw49 k0_t2 => k0_hw49.2.2.2.2.2.2.2.2.2.1.2.2.2.2.2.2.2.2.2.2.2.2.2.2.2.2.2.2.2.2.2.2.2.2.2.2.2.1 k0_t2
theorem k0_off352_packedfp8e4m3 : ∀ (arg24 : BitVec 32) (k0_hw49 : k0_chk49 arg24) (k0_t2 : Fin (k0_t2_loop arg24).trips), (Rect.unit (s := S2x1024x8960) (k0_off352 arg24 k0_t2) S1x1024x256.size (k0_off352_inb arg24 k0_hw49 k0_t2)).PackedRows (EltTy.packing .fp8e4m3) := fun arg24 k0_hw49 k0_t2 => k0_hw49.2.2.2.2.2.2.2.2.2.1.2.2.2.2.2.2.2.2.2.2.2.2.2.2.2.2.2.2.2.2.2.2.2.2.2.2.2.2.1 k0_t2 (k0_off352_inb arg24 k0_hw49 k0_t2)
theorem k0_off353_inb : ∀ (arg24 : BitVec 32) (k0_hw49 : k0_chk49 arg24) (k0_t2 : Fin (k0_t2_loop arg24).trips), ∀ a, (k0_off353 arg24 k0_t2) a + S1x32x1536.size a ≤ S2x1024x1536.size a := fun arg24 k0_hw49 k0_t2 => k0_hw49.2.2.2.2.2.2.2.2.2.1.2.2.2.2.2.2.2.2.2.2.2.2.2.2.2.2.2.2.2.2.2.2.2.2.2.2.2.2.2.1 k0_t2
theorem k0_off353_packedfp8e4m3 : ∀ (arg24 : BitVec 32) (k0_hw49 : k0_chk49 arg24) (k0_t2 : Fin (k0_t2_loop arg24).trips), (Rect.unit (s := S2x1024x1536) (k0_off353 arg24 k0_t2) S1x32x1536.size (k0_off353_inb arg24 k0_hw49 k0_t2)).PackedRows (EltTy.packing .fp8e4m3) := fun arg24 k0_hw49 k0_t2 => k0_hw49.2.2.2.2.2.2.2.2.2.1.2.2.2.2.2.2.2.2.2.2.2.2.2.2.2.2.2.2.2.2.2.2.2.2.2.2.2.2.2.2.1 k0_t2 (k0_off353_inb arg24 k0_hw49 k0_t2)
theorem k0_off354_inb : ∀ (arg24 : BitVec 32) (k0_hw49 : k0_chk49 arg24) (k0_t2 : Fin (k0_t2_loop arg24).trips), ∀ a, (k0_off354 arg24 k0_t2) a + S1x1024x256.size a ≤ S2x1024x8960.size a := fun arg24 k0_hw49 k0_t2 => k0_hw49.2.2.2.2.2.2.2.2.2.1.2.2.2.2.2.2.2.2.2.2.2.2.2.2.2.2.2.2.2.2.2.2.2.2.2.2.2.2.2.2.2 k0_t2
theorem k0_off354_packedfp8e4m3 : ∀ (arg24 : BitVec 32) (k0_hw49 : k0_chk49 arg24) (k0_t2 : Fin (k0_t2_loop arg24).trips), (Rect.unit (s := S2x1024x8960) (k0_off354 arg24 k0_t2) S1x1024x256.size (k0_off354_inb arg24 k0_hw49 k0_t2)).PackedRows (EltTy.packing .fp8e4m3) := fun arg24 k0_hw49 k0_t2 => k0_hw49.2.2.2.2.2.2.2.2.2.2.1.1 k0_t2 (k0_off354_inb arg24 k0_hw49 k0_t2)
theorem k0_off355_inb : ∀ (arg24 : BitVec 32) (k0_hw49 : k0_chk49 arg24) (k0_t2 : Fin (k0_t2_loop arg24).trips), ∀ a, (k0_off355 arg24 k0_t2) a + S1x32x1536.size a ≤ S2x1024x1536.size a := fun arg24 k0_hw49 k0_t2 => k0_hw49.2.2.2.2.2.2.2.2.2.2.1.2.1 k0_t2
theorem k0_off355_packedfp8e4m3 : ∀ (arg24 : BitVec 32) (k0_hw49 : k0_chk49 arg24) (k0_t2 : Fin (k0_t2_loop arg24).trips), (Rect.unit (s := S2x1024x1536) (k0_off355 arg24 k0_t2) S1x32x1536.size (k0_off355_inb arg24 k0_hw49 k0_t2)).PackedRows (EltTy.packing .fp8e4m3) := fun arg24 k0_hw49 k0_t2 => k0_hw49.2.2.2.2.2.2.2.2.2.2.1.2.2.1 k0_t2 (k0_off355_inb arg24 k0_hw49 k0_t2)
theorem k0_off356_inb : ∀ (arg24 : BitVec 32) (k0_hw49 : k0_chk49 arg24) (k0_t2 : Fin (k0_t2_loop arg24).trips), ∀ a, (k0_off356 arg24 k0_t2) a + S1x1024x256.size a ≤ S2x1024x8960.size a := fun arg24 k0_hw49 k0_t2 => k0_hw49.2.2.2.2.2.2.2.2.2.2.1.2.2.2.1 k0_t2
theorem k0_off356_packedfp8e4m3 : ∀ (arg24 : BitVec 32) (k0_hw49 : k0_chk49 arg24) (k0_t2 : Fin (k0_t2_loop arg24).trips), (Rect.unit (s := S2x1024x8960) (k0_off356 arg24 k0_t2) S1x1024x256.size (k0_off356_inb arg24 k0_hw49 k0_t2)).PackedRows (EltTy.packing .fp8e4m3) := fun arg24 k0_hw49 k0_t2 => k0_hw49.2.2.2.2.2.2.2.2.2.2.1.2.2.2.2.1 k0_t2 (k0_off356_inb arg24 k0_hw49 k0_t2)
theorem k0_off357_inb : ∀ (arg24 : BitVec 32) (k0_hw49 : k0_chk49 arg24) (k0_t2 : Fin (k0_t2_loop arg24).trips), ∀ a, (k0_off357 arg24 k0_t2) a + S1x1024x256.size a ≤ S2x1024x8960.size a := fun arg24 k0_hw49 k0_t2 => k0_hw49.2.2.2.2.2.2.2.2.2.2.1.2.2.2.2.2.1 k0_t2
theorem k0_off357_packedfp8e4m3 : ∀ (arg24 : BitVec 32) (k0_hw49 : k0_chk49 arg24) (k0_t2 : Fin (k0_t2_loop arg24).trips), (Rect.unit (s := S2x1024x8960) (k0_off357 arg24 k0_t2) S1x1024x256.size (k0_off357_inb arg24 k0_hw49 k0_t2)).PackedRows (EltTy.packing .fp8e4m3) := fun arg24 k0_hw49 k0_t2 => k0_hw49.2.2.2.2.2.2.2.2.2.2.1.2.2.2.2.2.2.1 k0_t2 (k0_off357_inb arg24 k0_hw49 k0_t2)
theorem k0_off358_inb : ∀ (arg24 : BitVec 32) (k0_hw49 : k0_chk49 arg24) (k0_t2 : Fin (k0_t2_loop arg24).trips), ∀ a, (k0_off358 arg24 k0_t2) a + S1x1024x256.size a ≤ S2x1024x8960.size a := fun arg24 k0_hw49 k0_t2 => k0_hw49.2.2.2.2.2.2.2.2.2.2.1.2.2.2.2.2.2.2.1 k0_t2
theorem k0_off358_packedfp8e4m3 : ∀ (arg24 : BitVec 32) (k0_hw49 : k0_chk49 arg24) (k0_t2 : Fin (k0_t2_loop arg24).trips), (Rect.unit (s := S2x1024x8960) (k0_off358 arg24 k0_t2) S1x1024x256.size (k0_off358_inb arg24 k0_hw49 k0_t2)).PackedRows (EltTy.packing .fp8e4m3) := fun arg24 k0_hw49 k0_t2 => k0_hw49.2.2.2.2.2.2.2.2.2.2.1.2.2.2.2.2.2.2.2.1 k0_t2 (k0_off358_inb arg24 k0_hw49 k0_t2)
theorem k0_t3_ok : ∀ (arg24 : BitVec 32) (k0_hw49 : k0_chk49 arg24), (k0_t3_loop arg24).OK := fun arg24 k0_hw49 => k0_hw49.2.2.2.2.2.2.2.2.2.2.1.2.2.2.2.2.2.2.2.2.1
theorem k0_off359_inb : ∀ (arg24 : BitVec 32) (k0_hw49 : k0_chk49 arg24) (k0_t3 : Fin (k0_t3_loop arg24).trips), ∀ (k0_h7 : k0_cond7 arg24 k0_t3 = 1#1), ∀ a, (k0_off359 arg24 k0_t3) a + S1.size a ≤ S40.size a := fun arg24 k0_hw49 k0_t3 k0_h7 => k0_hw49.2.2.2.2.2.2.2.2.2.2.1.2.2.2.2.2.2.2.2.2.2.1 k0_t3 k0_h7
theorem k0_off361_inb : ∀ (arg24 : BitVec 32) (k0_hw49 : k0_chk49 arg24) (k0_t3 : Fin (k0_t3_loop arg24).trips), ∀ (k0_h7 : k0_cond7 arg24 k0_t3 = 1#1), ∀ a, (k0_off361 arg24 k0_t3) a + S1.size a ≤ S2.size a := fun arg24 k0_hw49 k0_t3 k0_h7 => k0_hw49.2.2.2.2.2.2.2.2.2.2.1.2.2.2.2.2.2.2.2.2.2.2.1 k0_t3 k0_h7
theorem k0_off362_inb : ∀ (arg24 : BitVec 32) (k0_hw49 : k0_chk49 arg24) (k0_t3 : Fin (k0_t3_loop arg24).trips), ∀ (k0_h7 : k0_cond7 arg24 k0_t3 = 1#1), ∀ a, (k0_off362 arg24 k0_t3) a + S1x128x1536.size a ≤ S2x1024x1536.size a := fun arg24 k0_hw49 k0_t3 k0_h7 => k0_hw49.2.2.2.2.2.2.2.2.2.2.1.2.2.2.2.2.2.2.2.2.2.2.2.1 k0_t3 k0_h7
theorem k0_off362_wordsbf16 : ∀ (arg24 : BitVec 32) (k0_hw49 : k0_chk49 arg24) (k0_t3 : Fin (k0_t3_loop arg24).trips), ∀ (k0_h7 : k0_cond7 arg24 k0_t3 = 1#1), (Rect.unit (s := S2x1024x1536) (k0_off362 arg24 k0_t3) S1x128x1536.size (k0_off362_inb arg24 k0_hw49 k0_t3 k0_h7)).WholeWords (EltTy.packing .bf16) := fun arg24 k0_hw49 k0_t3 k0_h7 => k0_hw49.2.2.2.2.2.2.2.2.2.2.1.2.2.2.2.2.2.2.2.2.2.2.2.2.1 k0_t3 k0_h7 (k0_off362_inb arg24 k0_hw49 k0_t3 k0_h7)
theorem k0_off364_inb : ∀ (arg24 : BitVec 32) (k0_hw49 : k0_chk49 arg24) (k0_t3 : Fin (k0_t3_loop arg24).trips), ∀ (k0_h7 : k0_cond7 arg24 k0_t3 = 1#1), ∀ a, (k0_off364 arg24 k0_t3) a + S1.size a ≤ S40.size a := fun arg24 k0_hw49 k0_t3 k0_h7 => k0_hw49.2.2.2.2.2.2.2.2.2.2.1.2.2.2.2.2.2.2.2.2.2.2.2.2.2.1 k0_t3 k0_h7
theorem k0_off366_inb : ∀ (arg24 : BitVec 32) (k0_hw49 : k0_chk49 arg24) (k0_t3 : Fin (k0_t3_loop arg24).trips), ∀ (k0_h7 : k0_cond7 arg24 k0_t3 = 1#1), ∀ a, (k0_off366 arg24 k0_t3) a + S1.size a ≤ S2.size a := fun arg24 k0_hw49 k0_t3 k0_h7 => k0_hw49.2.2.2.2.2.2.2.2.2.2.1.2.2.2.2.2.2.2.2.2.2.2.2.2.2.2.1 k0_t3 k0_h7
theorem k0_off367_inb : ∀ (arg24 : BitVec 32) (k0_hw49 : k0_chk49 arg24) (k0_t3 : Fin (k0_t3_loop arg24).trips), ∀ (k0_h7 : k0_cond7 arg24 k0_t3 = 1#1), ∀ a, (k0_off367 arg24 k0_t3) a + S1x128x1536.size a ≤ S2x1024x1536.size a := fun arg24 k0_hw49 k0_t3 k0_h7 => k0_hw49.2.2.2.2.2.2.2.2.2.2.1.2.2.2.2.2.2.2.2.2.2.2.2.2.2.2.2.1 k0_t3 k0_h7
theorem k0_off367_wordsbf16 : ∀ (arg24 : BitVec 32) (k0_hw49 : k0_chk49 arg24) (k0_t3 : Fin (k0_t3_loop arg24).trips), ∀ (k0_h7 : k0_cond7 arg24 k0_t3 = 1#1), (Rect.unit (s := S2x1024x1536) (k0_off367 arg24 k0_t3) S1x128x1536.size (k0_off367_inb arg24 k0_hw49 k0_t3 k0_h7)).WholeWords (EltTy.packing .bf16) := fun arg24 k0_hw49 k0_t3 k0_h7 => k0_hw49.2.2.2.2.2.2.2.2.2.2.1.2.2.2.2.2.2.2.2.2.2.2.2.2.2.2.2.2.1 k0_t3 k0_h7 (k0_off367_inb arg24 k0_hw49 k0_t3 k0_h7)
theorem k0_off369_inb : ∀ (arg24 : BitVec 32) (k0_hw49 : k0_chk49 arg24) (k0_t3 : Fin (k0_t3_loop arg24).trips), ∀ (k0_h7 : k0_cond7 arg24 k0_t3 = 1#1), ∀ a, (k0_off369 arg24 k0_t3) a + S1.size a ≤ S40.size a := fun arg24 k0_hw49 k0_t3 k0_h7 => k0_hw49.2.2.2.2.2.2.2.2.2.2.1.2.2.2.2.2.2.2.2.2.2.2.2.2.2.2.2.2.2.1 k0_t3 k0_h7
theorem k0_off371_inb : ∀ (arg24 : BitVec 32) (k0_hw49 : k0_chk49 arg24) (k0_t3 : Fin (k0_t3_loop arg24).trips), ∀ (k0_h7 : k0_cond7 arg24 k0_t3 = 1#1), ∀ a, (k0_off371 arg24 k0_t3) a + S1.size a ≤ S2.size a := fun arg24 k0_hw49 k0_t3 k0_h7 => k0_hw49.2.2.2.2.2.2.2.2.2.2.1.2.2.2.2.2.2.2.2.2.2.2.2.2.2.2.2.2.2.2.1 k0_t3 k0_h7
theorem k0_off372_inb : ∀ (arg24 : BitVec 32) (k0_hw49 : k0_chk49 arg24) (k0_t3 : Fin (k0_t3_loop arg24).trips), ∀ (k0_h7 : k0_cond7 arg24 k0_t3 = 1#1), ∀ a, (k0_off372 arg24 k0_t3) a + S1x128x1536.size a ≤ S2x1024x1536.size a := fun arg24 k0_hw49 k0_t3 k0_h7 => k0_hw49.2.2.2.2.2.2.2.2.2.2.1.2.2.2.2.2.2.2.2.2.2.2.2.2.2.2.2.2.2.2.2.1 k0_t3 k0_h7
theorem k0_off372_wordsbf16 : ∀ (arg24 : BitVec 32) (k0_hw49 : k0_chk49 arg24) (k0_t3 : Fin (k0_t3_loop arg24).trips), ∀ (k0_h7 : k0_cond7 arg24 k0_t3 = 1#1), (Rect.unit (s := S2x1024x1536) (k0_off372 arg24 k0_t3) S1x128x1536.size (k0_off372_inb arg24 k0_hw49 k0_t3 k0_h7)).WholeWords (EltTy.packing .bf16) := fun arg24 k0_hw49 k0_t3 k0_h7 => k0_hw49.2.2.2.2.2.2.2.2.2.2.1.2.2.2.2.2.2.2.2.2.2.2.2.2.2.2.2.2.2.2.2.2.1 k0_t3 k0_h7 (k0_off372_inb arg24 k0_hw49 k0_t3 k0_h7)
theorem k0_off374_inb : ∀ (arg24 : BitVec 32) (k0_hw49 : k0_chk49 arg24) (k0_t3 : Fin (k0_t3_loop arg24).trips), ∀ (k0_h7 : k0_cond7 arg24 k0_t3 = 1#1), ∀ a, (k0_off374 arg24 k0_t3) a + S1.size a ≤ S40.size a := fun arg24 k0_hw49 k0_t3 k0_h7 => k0_hw49.2.2.2.2.2.2.2.2.2.2.1.2.2.2.2.2.2.2.2.2.2.2.2.2.2.2.2.2.2.2.2.2.2.1 k0_t3 k0_h7
theorem k0_off376_inb : ∀ (arg24 : BitVec 32) (k0_hw49 : k0_chk49 arg24) (k0_t3 : Fin (k0_t3_loop arg24).trips), ∀ (k0_h7 : k0_cond7 arg24 k0_t3 = 1#1), ∀ a, (k0_off376 arg24 k0_t3) a + S1.size a ≤ S2.size a := fun arg24 k0_hw49 k0_t3 k0_h7 => k0_hw49.2.2.2.2.2.2.2.2.2.2.1.2.2.2.2.2.2.2.2.2.2.2.2.2.2.2.2.2.2.2.2.2.2.2.1 k0_t3 k0_h7
theorem k0_off377_inb : ∀ (arg24 : BitVec 32) (k0_hw49 : k0_chk49 arg24) (k0_t3 : Fin (k0_t3_loop arg24).trips), ∀ (k0_h7 : k0_cond7 arg24 k0_t3 = 1#1), ∀ a, (k0_off377 arg24 k0_t3) a + S1x128x1536.size a ≤ S2x1024x1536.size a := fun arg24 k0_hw49 k0_t3 k0_h7 => k0_hw49.2.2.2.2.2.2.2.2.2.2.1.2.2.2.2.2.2.2.2.2.2.2.2.2.2.2.2.2.2.2.2.2.2.2.2.1 k0_t3 k0_h7
theorem k0_off377_wordsbf16 : ∀ (arg24 : BitVec 32) (k0_hw49 : k0_chk49 arg24) (k0_t3 : Fin (k0_t3_loop arg24).trips), ∀ (k0_h7 : k0_cond7 arg24 k0_t3 = 1#1), (Rect.unit (s := S2x1024x1536) (k0_off377 arg24 k0_t3) S1x128x1536.size (k0_off377_inb arg24 k0_hw49 k0_t3 k0_h7)).WholeWords (EltTy.packing .bf16) := fun arg24 k0_hw49 k0_t3 k0_h7 => k0_hw49.2.2.2.2.2.2.2.2.2.2.1.2.2.2.2.2.2.2.2.2.2.2.2.2.2.2.2.2.2.2.2.2.2.2.2.2.1 k0_t3 k0_h7 (k0_off377_inb arg24 k0_hw49 k0_t3 k0_h7)
theorem k0_off379_inb : ∀ (arg24 : BitVec 32) (k0_hw49 : k0_chk49 arg24) (k0_t3 : Fin (k0_t3_loop arg24).trips), ∀ (k0_h7 : k0_cond7 arg24 k0_t3 = 1#1), ∀ a, (k0_off379 arg24 k0_t3) a + S1.size a ≤ S40.size a := fun arg24 k0_hw49 k0_t3 k0_h7 => k0_hw49.2.2.2.2.2.2.2.2.2.2.1.2.2.2.2.2.2.2.2.2.2.2.2.2.2.2.2.2.2.2.2.2.2.2.2.2.2.1 k0_t3 k0_h7
theorem k0_off381_inb : ∀ (arg24 : BitVec 32) (k0_hw49 : k0_chk49 arg24) (k0_t3 : Fin (k0_t3_loop arg24).trips), ∀ (k0_h7 : k0_cond7 arg24 k0_t3 = 1#1), ∀ a, (k0_off381 arg24 k0_t3) a + S1.size a ≤ S2.size a := fun arg24 k0_hw49 k0_t3 k0_h7 => k0_hw49.2.2.2.2.2.2.2.2.2.2.1.2.2.2.2.2.2.2.2.2.2.2.2.2.2.2.2.2.2.2.2.2.2.2.2.2.2.2.1 k0_t3 k0_h7
theorem k0_off382_inb : ∀ (arg24 : BitVec 32) (k0_hw49 : k0_chk49 arg24) (k0_t3 : Fin (k0_t3_loop arg24).trips), ∀ (k0_h7 : k0_cond7 arg24 k0_t3 = 1#1), ∀ a, (k0_off382 arg24 k0_t3) a + S1x128x1536.size a ≤ S2x1024x1536.size a := fun arg24 k0_hw49 k0_t3 k0_h7 => k0_hw49.2.2.2.2.2.2.2.2.2.2.1.2.2.2.2.2.2.2.2.2.2.2.2.2.2.2.2.2.2.2.2.2.2.2.2.2.2.2.2.1 k0_t3 k0_h7
theorem k0_off382_wordsbf16 : ∀ (arg24 : BitVec 32) (k0_hw49 : k0_chk49 arg24) (k0_t3 : Fin (k0_t3_loop arg24).trips), ∀ (k0_h7 : k0_cond7 arg24 k0_t3 = 1#1), (Rect.unit (s := S2x1024x1536) (k0_off382 arg24 k0_t3) S1x128x1536.size (k0_off382_inb arg24 k0_hw49 k0_t3 k0_h7)).WholeWords (EltTy.packing .bf16) := fun arg24 k0_hw49 k0_t3 k0_h7 => k0_hw49.2.2.2.2.2.2.2.2.2.2.1.2.2.2.2.2.2.2.2.2.2.2.2.2.2.2.2.2.2.2.2.2.2.2.2.2.2.2.2.2.1 k0_t3 k0_h7 (k0_off382_inb arg24 k0_hw49 k0_t3 k0_h7)
theorem k0_off384_inb : ∀ (arg24 : BitVec 32) (k0_hw49 : k0_chk49 arg24) (k0_t3 : Fin (k0_t3_loop arg24).trips), ∀ (k0_h7 : k0_cond7 arg24 k0_t3 = 1#1), ∀ a, (k0_off384 arg24 k0_t3) a + S1.size a ≤ S40.size a := fun arg24 k0_hw49 k0_t3 k0_h7 => k0_hw49.2.2.2.2.2.2.2.2.2.2.1.2.2.2.2.2.2.2.2.2.2.2.2.2.2.2.2.2.2.2.2.2.2.2.2.2.2.2.2.2.2.1 k0_t3 k0_h7
theorem k0_off386_inb : ∀ (arg24 : BitVec 32) (k0_hw49 : k0_chk49 arg24) (k0_t3 : Fin (k0_t3_loop arg24).trips), ∀ (k0_h7 : k0_cond7 arg24 k0_t3 = 1#1), ∀ a, (k0_off386 arg24 k0_t3) a + S1.size a ≤ S2.size a := fun arg24 k0_hw49 k0_t3 k0_h7 => k0_hw49.2.2.2.2.2.2.2.2.2.2.1.2.2.2.2.2.2.2.2.2.2.2.2.2.2.2.2.2.2.2.2.2.2.2.2.2.2.2.2.2.2.2 k0_t3 k0_h7
theorem k0_off387_inb : ∀ (arg24 : BitVec 32) (k0_hw49 : k0_chk49 arg24) (k0_t3 : Fin (k0_t3_loop arg24).trips), ∀ (k0_h7 : k0_cond7 arg24 k0_t3 = 1#1), ∀ a, (k0_off387 arg24 k0_t3) a + S1x128x1536.size a ≤ S2x1024x1536.size a := fun arg24 k0_hw49 k0_t3 k0_h7 => k0_hw49.2.2.2.2.2.2.2.2.2.2.2.1.1 k0_t3 k0_h7
theorem k0_off387_wordsbf16 : ∀ (arg24 : BitVec 32) (k0_hw49 : k0_chk49 arg24) (k0_t3 : Fin (k0_t3_loop arg24).trips), ∀ (k0_h7 : k0_cond7 arg24 k0_t3 = 1#1), (Rect.unit (s := S2x1024x1536) (k0_off387 arg24 k0_t3) S1x128x1536.size (k0_off387_inb arg24 k0_hw49 k0_t3 k0_h7)).WholeWords (EltTy.packing .bf16) := fun arg24 k0_hw49 k0_t3 k0_h7 => k0_hw49.2.2.2.2.2.2.2.2.2.2.2.1.2.1 k0_t3 k0_h7 (k0_off387_inb arg24 k0_hw49 k0_t3 k0_h7)
theorem k0_off389_inb : ∀ (arg24 : BitVec 32) (k0_hw49 : k0_chk49 arg24) (k0_t3 : Fin (k0_t3_loop arg24).trips), ∀ (k0_h7 : k0_cond7 arg24 k0_t3 = 1#1), ∀ a, (k0_off389 arg24 k0_t3) a + S1.size a ≤ S40.size a := fun arg24 k0_hw49 k0_t3 k0_h7 => k0_hw49.2.2.2.2.2.2.2.2.2.2.2.1.2.2.1 k0_t3 k0_h7
theorem k0_off391_inb : ∀ (arg24 : BitVec 32) (k0_hw49 : k0_chk49 arg24) (k0_t3 : Fin (k0_t3_loop arg24).trips), ∀ (k0_h7 : k0_cond7 arg24 k0_t3 = 1#1), ∀ a, (k0_off391 arg24 k0_t3) a + S1.size a ≤ S2.size a := fun arg24 k0_hw49 k0_t3 k0_h7 => k0_hw49.2.2.2.2.2.2.2.2.2.2.2.1.2.2.2.1 k0_t3 k0_h7
theorem k0_off392_inb : ∀ (arg24 : BitVec 32) (k0_hw49 : k0_chk49 arg24) (k0_t3 : Fin (k0_t3_loop arg24).trips), ∀ (k0_h7 : k0_cond7 arg24 k0_t3 = 1#1), ∀ a, (k0_off392 arg24 k0_t3) a + S1x128x1536.size a ≤ S2x1024x1536.size a := fun arg24 k0_hw49 k0_t3 k0_h7 => k0_hw49.2.2.2.2.2.2.2.2.2.2.2.1.2.2.2.2.1 k0_t3 k0_h7
theorem k0_off392_wordsbf16 : ∀ (arg24 : BitVec 32) (k0_hw49 : k0_chk49 arg24) (k0_t3 : Fin (k0_t3_loop arg24).trips), ∀ (k0_h7 : k0_cond7 arg24 k0_t3 = 1#1), (Rect.unit (s := S2x1024x1536) (k0_off392 arg24 k0_t3) S1x128x1536.size (k0_off392_inb arg24 k0_hw49 k0_t3 k0_h7)).WholeWords (EltTy.packing .bf16) := fun arg24 k0_hw49 k0_t3 k0_h7 => k0_hw49.2.2.2.2.2.2.2.2.2.2.2.1.2.2.2.2.2.1 k0_t3 k0_h7 (k0_off392_inb arg24 k0_hw49 k0_t3 k0_h7)
theorem k0_off394_inb : ∀ (arg24 : BitVec 32) (k0_hw49 : k0_chk49 arg24) (k0_t3 : Fin (k0_t3_loop arg24).trips), ∀ (k0_h7 : k0_cond7 arg24 k0_t3 = 1#1), ∀ a, (k0_off394 arg24 k0_t3) a + S1.size a ≤ S40.size a := fun arg24 k0_hw49 k0_t3 k0_h7 => k0_hw49.2.2.2.2.2.2.2.2.2.2.2.1.2.2.2.2.2.2.1 k0_t3 k0_h7
theorem k0_off396_inb : ∀ (arg24 : BitVec 32) (k0_hw49 : k0_chk49 arg24) (k0_t3 : Fin (k0_t3_loop arg24).trips), ∀ (k0_h7 : k0_cond7 arg24 k0_t3 = 1#1), ∀ a, (k0_off396 arg24 k0_t3) a + S1.size a ≤ S2.size a := fun arg24 k0_hw49 k0_t3 k0_h7 => k0_hw49.2.2.2.2.2.2.2.2.2.2.2.1.2.2.2.2.2.2.2.1 k0_t3 k0_h7
theorem k0_off397_inb : ∀ (arg24 : BitVec 32) (k0_hw49 : k0_chk49 arg24) (k0_t3 : Fin (k0_t3_loop arg24).trips), ∀ (k0_h7 : k0_cond7 arg24 k0_t3 = 1#1), ∀ a, (k0_off397 arg24 k0_t3) a + S1x128x1536.size a ≤ S2x1024x1536.size a := fun arg24 k0_hw49 k0_t3 k0_h7 => k0_hw49.2.2.2.2.2.2.2.2.2.2.2.1.2.2.2.2.2.2.2.2.1 k0_t3 k0_h7
theorem k0_off397_wordsbf16 : ∀ (arg24 : BitVec 32) (k0_hw49 : k0_chk49 arg24) (k0_t3 : Fin (k0_t3_loop arg24).trips), ∀ (k0_h7 : k0_cond7 arg24 k0_t3 = 1#1), (Rect.unit (s := S2x1024x1536) (k0_off397 arg24 k0_t3) S1x128x1536.size (k0_off397_inb arg24 k0_hw49 k0_t3 k0_h7)).WholeWords (EltTy.packing .bf16) := fun arg24 k0_hw49 k0_t3 k0_h7 => k0_hw49.2.2.2.2.2.2.2.2.2.2.2.1.2.2.2.2.2.2.2.2.2.1 k0_t3 k0_h7 (k0_off397_inb arg24 k0_hw49 k0_t3 k0_h7)
theorem k0_off399_inb : ∀ (arg24 : BitVec 32) (k0_hw49 : k0_chk49 arg24) (k0_t3 : Fin (k0_t3_loop arg24).trips), ∀ (k0_h8 : k0_cond8 arg24 k0_t3 = 1#1), ∀ a, (k0_off399 arg24 k0_t3) a + S1.size a ≤ S40.size a := fun arg24 k0_hw49 k0_t3 k0_h8 => k0_hw49.2.2.2.2.2.2.2.2.2.2.2.1.2.2.2.2.2.2.2.2.2.2.1 k0_t3 k0_h8
theorem k0_off401_inb : ∀ (arg24 : BitVec 32) (k0_hw49 : k0_chk49 arg24) (k0_t3 : Fin (k0_t3_loop arg24).trips), ∀ (k0_h8 : k0_cond8 arg24 k0_t3 = 1#1), ∀ a, (k0_off401 arg24 k0_t3) a + S1.size a ≤ S2.size a := fun arg24 k0_hw49 k0_t3 k0_h8 => k0_hw49.2.2.2.2.2.2.2.2.2.2.2.1.2.2.2.2.2.2.2.2.2.2.2.1 k0_t3 k0_h8
theorem k0_off403_inb : ∀ (arg24 : BitVec 32) (k0_hw49 : k0_chk49 arg24) (k0_t3 : Fin (k0_t3_loop arg24).trips), ∀ (k0_h8 : k0_cond8 arg24 k0_t3 = 1#1), ∀ a, (k0_off403 arg24 k0_t3) a + S1x128x1536.size a ≤ S2x1024x1536.size a := fun arg24 k0_hw49 k0_t3 k0_h8 => k0_hw49.2.2.2.2.2.2.2.2.2.2.2.1.2.2.2.2.2.2.2.2.2.2.2.2.1 k0_t3 k0_h8
theorem k0_off403_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x1536) (k0_off403 arg24 k0_t3) S1x128x1536.size (k0_off403_inb arg24 k0_hw49 k0_t3 k0_h8)).WholeWords (EltTy.packing .fp8e4m3) := fun arg24 k0_hw49 k0_t3 k0_h8 => k0_hw49.2.2.2.2.2.2.2.2.2.2.2.1.2.2.2.2.2.2.2.2.2.2.2.2.2.1 k0_t3 k0_h8 (k0_off403_inb arg24 k0_hw49 k0_t3 k0_h8)
theorem k0_off404_inb : ∀ (arg24 : BitVec 32) (k0_hw49 : k0_chk49 arg24) (k0_t3 : Fin (k0_t3_loop arg24).trips), ∀ (k0_h8 : k0_cond8 arg24 k0_t3 = 1#1), ∀ a, (k0_off404 arg24 k0_t3) a + S1.size a ≤ S40.size a := fun arg24 k0_hw49 k0_t3 k0_h8 => k0_hw49.2.2.2.2.2.2.2.2.2.2.2.1.2.2.2.2.2.2.2.2.2.2.2.2.2.2.1 k0_t3 k0_h8
theorem k0_off406_inb : ∀ (arg24 : BitVec 32) (k0_hw49 : k0_chk49 arg24) (k0_t3 : Fin (k0_t3_loop arg24).trips), ∀ (k0_h8 : k0_cond8 arg24 k0_t3 = 1#1), ∀ a, (k0_off406 arg24 k0_t3) a + S1.size a ≤ S2.size a := fun arg24 k0_hw49 k0_t3 k0_h8 => k0_hw49.2.2.2.2.2.2.2.2.2.2.2.1.2.2.2.2.2.2.2.2.2.2.2.2.2.2.2.1 k0_t3 k0_h8
theorem k0_off408_inb : ∀ (arg24 : BitVec 32) (k0_hw49 : k0_chk49 arg24) (k0_t3 : Fin (k0_t3_loop arg24).trips), ∀ (k0_h8 : k0_cond8 arg24 k0_t3 = 1#1), ∀ a, (k0_off408 arg24 k0_t3) a + S1x128x1536.size a ≤ S2x1024x1536.size a := fun arg24 k0_hw49 k0_t3 k0_h8 => k0_hw49.2.2.2.2.2.2.2.2.2.2.2.1.2.2.2.2.2.2.2.2.2.2.2.2.2.2.2.2.1 k0_t3 k0_h8
theorem k0_off408_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x1536) (k0_off408 arg24 k0_t3) S1x128x1536.size (k0_off408_inb arg24 k0_hw49 k0_t3 k0_h8)).WholeWords (EltTy.packing .fp8e4m3) := fun arg24 k0_hw49 k0_t3 k0_h8 => k0_hw49.2.2.2.2.2.2.2.2.2.2.2.1.2.2.2.2.2.2.2.2.2.2.2.2.2.2.2.2.2.1 k0_t3 k0_h8 (k0_off408_inb arg24 k0_hw49 k0_t3 k0_h8)
theorem k0_off409_inb : ∀ (arg24 : BitVec 32) (k0_hw49 : k0_chk49 arg24) (k0_t3 : Fin (k0_t3_loop arg24).trips), ∀ (k0_h8 : k0_cond8 arg24 k0_t3 = 1#1), ∀ a, (k0_off409 arg24 k0_t3) a + S1.size a ≤ S40.size a := fun arg24 k0_hw49 k0_t3 k0_h8 => k0_hw49.2.2.2.2.2.2.2.2.2.2.2.1.2.2.2.2.2.2.2.2.2.2.2.2.2.2.2.2.2.2.1 k0_t3 k0_h8
theorem k0_off411_inb : ∀ (arg24 : BitVec 32) (k0_hw49 : k0_chk49 arg24) (k0_t3 : Fin (k0_t3_loop arg24).trips), ∀ (k0_h8 : k0_cond8 arg24 k0_t3 = 1#1), ∀ a, (k0_off411 arg24 k0_t3) a + S1.size a ≤ S2.size a := fun arg24 k0_hw49 k0_t3 k0_h8 => k0_hw49.2.2.2.2.2.2.2.2.2.2.2.1.2.2.2.2.2.2.2.2.2.2.2.2.2.2.2.2.2.2.2.1 k0_t3 k0_h8
theorem k0_off413_inb : ∀ (arg24 : BitVec 32) (k0_hw49 : k0_chk49 arg24) (k0_t3 : Fin (k0_t3_loop arg24).trips), ∀ (k0_h8 : k0_cond8 arg24 k0_t3 = 1#1), ∀ a, (k0_off413 arg24 k0_t3) a + S1x128x1536.size a ≤ S2x1024x1536.size a := fun arg24 k0_hw49 k0_t3 k0_h8 => k0_hw49.2.2.2.2.2.2.2.2.2.2.2.1.2.2.2.2.2.2.2.2.2.2.2.2.2.2.2.2.2.2.2.2.1 k0_t3 k0_h8
theorem k0_off413_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x1536) (k0_off413 arg24 k0_t3) S1x128x1536.size (k0_off413_inb arg24 k0_hw49 k0_t3 k0_h8)).WholeWords (EltTy.packing .fp8e4m3) := fun arg24 k0_hw49 k0_t3 k0_h8 => k0_hw49.2.2.2.2.2.2.2.2.2.2.2.1.2.2.2.2.2.2.2.2.2.2.2.2.2.2.2.2.2.2.2.2.2.1 k0_t3 k0_h8 (k0_off413_inb arg24 k0_hw49 k0_t3 k0_h8)
theorem k0_off414_inb : ∀ (arg24 : BitVec 32) (k0_hw49 : k0_chk49 arg24) (k0_t3 : Fin (k0_t3_loop arg24).trips), ∀ (k0_h8 : k0_cond8 arg24 k0_t3 = 1#1), ∀ a, (k0_off414 arg24 k0_t3) a + S1.size a ≤ S40.size a := fun arg24 k0_hw49 k0_t3 k0_h8 => k0_hw49.2.2.2.2.2.2.2.2.2.2.2.1.2.2.2.2.2.2.2.2.2.2.2.2.2.2.2.2.2.2.2.2.2.2.1 k0_t3 k0_h8
theorem k0_off416_inb : ∀ (arg24 : BitVec 32) (k0_hw49 : k0_chk49 arg24) (k0_t3 : Fin (k0_t3_loop arg24).trips), ∀ (k0_h8 : k0_cond8 arg24 k0_t3 = 1#1), ∀ a, (k0_off416 arg24 k0_t3) a + S1.size a ≤ S2.size a := fun arg24 k0_hw49 k0_t3 k0_h8 => k0_hw49.2.2.2.2.2.2.2.2.2.2.2.1.2.2.2.2.2.2.2.2.2.2.2.2.2.2.2.2.2.2.2.2.2.2.2.1 k0_t3 k0_h8
theorem k0_off418_inb : ∀ (arg24 : BitVec 32) (k0_hw49 : k0_chk49 arg24) (k0_t3 : Fin (k0_t3_loop arg24).trips), ∀ (k0_h8 : k0_cond8 arg24 k0_t3 = 1#1), ∀ a, (k0_off418 arg24 k0_t3) a + S1x128x1536.size a ≤ S2x1024x1536.size a := fun arg24 k0_hw49 k0_t3 k0_h8 => k0_hw49.2.2.2.2.2.2.2.2.2.2.2.1.2.2.2.2.2.2.2.2.2.2.2.2.2.2.2.2.2.2.2.2.2.2.2.2.1 k0_t3 k0_h8
theorem k0_off418_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x1536) (k0_off418 arg24 k0_t3) S1x128x1536.size (k0_off418_inb arg24 k0_hw49 k0_t3 k0_h8)).WholeWords (EltTy.packing .fp8e4m3) := fun arg24 k0_hw49 k0_t3 k0_h8 => k0_hw49.2.2.2.2.2.2.2.2.2.2.2.1.2.2.2.2.2.2.2.2.2.2.2.2.2.2.2.2.2.2.2.2.2.2.2.2.2.1 k0_t3 k0_h8 (k0_off418_inb arg24 k0_hw49 k0_t3 k0_h8)
theorem k0_off419_inb : ∀ (arg24 : BitVec 32) (k0_hw49 : k0_chk49 arg24) (k0_t3 : Fin (k0_t3_loop arg24).trips), ∀ (k0_h8 : k0_cond8 arg24 k0_t3 = 1#1), ∀ a, (k0_off419 arg24 k0_t3) a + S1.size a ≤ S40.size a := fun arg24 k0_hw49 k0_t3 k0_h8 => k0_hw49.2.2.2.2.2.2.2.2.2.2.2.1.2.2.2.2.2.2.2.2.2.2.2.2.2.2.2.2.2.2.2.2.2.2.2.2.2.2.1 k0_t3 k0_h8
theorem k0_off421_inb : ∀ (arg24 : BitVec 32) (k0_hw49 : k0_chk49 arg24) (k0_t3 : Fin (k0_t3_loop arg24).trips), ∀ (k0_h8 : k0_cond8 arg24 k0_t3 = 1#1), ∀ a, (k0_off421 arg24 k0_t3) a + S1.size a ≤ S2.size a := fun arg24 k0_hw49 k0_t3 k0_h8 => k0_hw49.2.2.2.2.2.2.2.2.2.2.2.1.2.2.2.2.2.2.2.2.2.2.2.2.2.2.2.2.2.2.2.2.2.2.2.2.2.2.2.1 k0_t3 k0_h8
theorem k0_off423_inb : ∀ (arg24 : BitVec 32) (k0_hw49 : k0_chk49 arg24) (k0_t3 : Fin (k0_t3_loop arg24).trips), ∀ (k0_h8 : k0_cond8 arg24 k0_t3 = 1#1), ∀ a, (k0_off423 arg24 k0_t3) a + S1x128x1536.size a ≤ S2x1024x1536.size a := fun arg24 k0_hw49 k0_t3 k0_h8 => k0_hw49.2.2.2.2.2.2.2.2.2.2.2.1.2.2.2.2.2.2.2.2.2.2.2.2.2.2.2.2.2.2.2.2.2.2.2.2.2.2.2.2.1 k0_t3 k0_h8
theorem k0_off423_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x1536) (k0_off423 arg24 k0_t3) S1x128x1536.size (k0_off423_inb arg24 k0_hw49 k0_t3 k0_h8)).WholeWords (EltTy.packing .fp8e4m3) := fun arg24 k0_hw49 k0_t3 k0_h8 => k0_hw49.2.2.2.2.2.2.2.2.2.2.2.1.2.2.2.2.2.2.2.2.2.2.2.2.2.2.2.2.2.2.2.2.2.2.2.2.2.2.2.2.2.1 k0_t3 k0_h8 (k0_off423_inb arg24 k0_hw49 k0_t3 k0_h8)
theorem k0_off424_inb : ∀ (arg24 : BitVec 32) (k0_hw49 : k0_chk49 arg24) (k0_t3 : Fin (k0_t3_loop arg24).trips), ∀ (k0_h8 : k0_cond8 arg24 k0_t3 = 1#1), ∀ a, (k0_off424 arg24 k0_t3) a + S1.size a ≤ S40.size a := fun arg24 k0_hw49 k0_t3 k0_h8 => k0_hw49.2.2.2.2.2.2.2.2.2.2.2.1.2.2.2.2.2.2.2.2.2.2.2.2.2.2.2.2.2.2.2.2.2.2.2.2.2.2.2.2.2.2.1 k0_t3 k0_h8
theorem k0_off426_inb : ∀ (arg24 : BitVec 32) (k0_hw49 : k0_chk49 arg24) (k0_t3 : Fin (k0_t3_loop arg24).trips), ∀ (k0_h8 : k0_cond8 arg24 k0_t3 = 1#1), ∀ a, (k0_off426 arg24 k0_t3) a + S1.size a ≤ S2.size a := fun arg24 k0_hw49 k0_t3 k0_h8 => k0_hw49.2.2.2.2.2.2.2.2.2.2.2.1.2.2.2.2.2.2.2.2.2.2.2.2.2.2.2.2.2.2.2.2.2.2.2.2.2.2.2.2.2.2.2 k0_t3 k0_h8
theorem k0_off428_inb : ∀ (arg24 : BitVec 32) (k0_hw49 : k0_chk49 arg24) (k0_t3 : Fin (k0_t3_loop arg24).trips), ∀ (k0_h8 : k0_cond8 arg24 k0_t3 = 1#1), ∀ a, (k0_off428 arg24 k0_t3) a + S1x128x1536.size a ≤ S2x1024x1536.size a := fun arg24 k0_hw49 k0_t3 k0_h8 => k0_hw49.2.2.2.2.2.2.2.2.2.2.2.2.1.1 k0_t3 k0_h8
theorem k0_off428_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x1536) (k0_off428 arg24 k0_t3) S1x128x1536.size (k0_off428_inb arg24 k0_hw49 k0_t3 k0_h8)).WholeWords (EltTy.packing .fp8e4m3) := fun arg24 k0_hw49 k0_t3 k0_h8 => k0_hw49.2.2.2.2.2.2.2.2.2.2.2.2.1.2.1 k0_t3 k0_h8 (k0_off428_inb arg24 k0_hw49 k0_t3 k0_h8)
theorem k0_off429_inb : ∀ (arg24 : BitVec 32) (k0_hw49 : k0_chk49 arg24) (k0_t3 : Fin (k0_t3_loop arg24).trips), ∀ (k0_h8 : k0_cond8 arg24 k0_t3 = 1#1), ∀ a, (k0_off429 arg24 k0_t3) a + S1.size a ≤ S40.size a := fun arg24 k0_hw49 k0_t3 k0_h8 => k0_hw49.2.2.2.2.2.2.2.2.2.2.2.2.1.2.2.1 k0_t3 k0_h8
theorem k0_off431_inb : ∀ (arg24 : BitVec 32) (k0_hw49 : k0_chk49 arg24) (k0_t3 : Fin (k0_t3_loop arg24).trips), ∀ (k0_h8 : k0_cond8 arg24 k0_t3 = 1#1), ∀ a, (k0_off431 arg24 k0_t3) a + S1.size a ≤ S2.size a := fun arg24 k0_hw49 k0_t3 k0_h8 => k0_hw49.2.2.2.2.2.2.2.2.2.2.2.2.1.2.2.2.1 k0_t3 k0_h8
theorem k0_off433_inb : ∀ (arg24 : BitVec 32) (k0_hw49 : k0_chk49 arg24) (k0_t3 : Fin (k0_t3_loop arg24).trips), ∀ (k0_h8 : k0_cond8 arg24 k0_t3 = 1#1), ∀ a, (k0_off433 arg24 k0_t3) a + S1x128x1536.size a ≤ S2x1024x1536.size a := fun arg24 k0_hw49 k0_t3 k0_h8 => k0_hw49.2.2.2.2.2.2.2.2.2.2.2.2.1.2.2.2.2.1 k0_t3 k0_h8
theorem k0_off433_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x1536) (k0_off433 arg24 k0_t3) S1x128x1536.size (k0_off433_inb arg24 k0_hw49 k0_t3 k0_h8)).WholeWords (EltTy.packing .fp8e4m3) := fun arg24 k0_hw49 k0_t3 k0_h8 => k0_hw49.2.2.2.2.2.2.2.2.2.2.2.2.1.2.2.2.2.2.1 k0_t3 k0_h8 (k0_off433_inb arg24 k0_hw49 k0_t3 k0_h8)
theorem k0_off434_inb : ∀ (arg24 : BitVec 32) (k0_hw49 : k0_chk49 arg24) (k0_t3 : Fin (k0_t3_loop arg24).trips), ∀ (k0_h8 : k0_cond8 arg24 k0_t3 = 1#1), ∀ a, (k0_off434 arg24 k0_t3) a + S1.size a ≤ S40.size a := fun arg24 k0_hw49 k0_t3 k0_h8 => k0_hw49.2.2.2.2.2.2.2.2.2.2.2.2.1.2.2.2.2.2.2.1 k0_t3 k0_h8
theorem k0_off436_inb : ∀ (arg24 : BitVec 32) (k0_hw49 : k0_chk49 arg24) (k0_t3 : Fin (k0_t3_loop arg24).trips), ∀ (k0_h8 : k0_cond8 arg24 k0_t3 = 1#1), ∀ a, (k0_off436 arg24 k0_t3) a + S1.size a ≤ S2.size a := fun arg24 k0_hw49 k0_t3 k0_h8 => k0_hw49.2.2.2.2.2.2.2.2.2.2.2.2.1.2.2.2.2.2.2.2.1 k0_t3 k0_h8
theorem k0_off438_inb : ∀ (arg24 : BitVec 32) (k0_hw49 : k0_chk49 arg24) (k0_t3 : Fin (k0_t3_loop arg24).trips), ∀ (k0_h8 : k0_cond8 arg24 k0_t3 = 1#1), ∀ a, (k0_off438 arg24 k0_t3) a + S1x128x1536.size a ≤ S2x1024x1536.size a := fun arg24 k0_hw49 k0_t3 k0_h8 => k0_hw49.2.2.2.2.2.2.2.2.2.2.2.2.1.2.2.2.2.2.2.2.2.1 k0_t3 k0_h8
theorem k0_off438_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x1536) (k0_off438 arg24 k0_t3) S1x128x1536.size (k0_off438_inb arg24 k0_hw49 k0_t3 k0_h8)).WholeWords (EltTy.packing .fp8e4m3) := fun arg24 k0_hw49 k0_t3 k0_h8 => k0_hw49.2.2.2.2.2.2.2.2.2.2.2.2.1.2.2.2.2.2.2.2.2.2.1 k0_t3 k0_h8 (k0_off438_inb arg24 k0_hw49 k0_t3 k0_h8)
theorem k0_off439_inb : ∀ (arg24 : BitVec 32) (k0_hw49 : k0_chk49 arg24) (k0_t3 : Fin (k0_t3_loop arg24).trips), ∀ (k0_h8 : k0_cond8 arg24 k0_t3 = 1#1), ∀ a, (k0_off439 arg24 k0_t3) a + S1.size a ≤ S40.size a := fun arg24 k0_hw49 k0_t3 k0_h8 => k0_hw49.2.2.2.2.2.2.2.2.2.2.2.2.1.2.2.2.2.2.2.2.2.2.2.1 k0_t3 k0_h8
theorem k0_off441_inb : ∀ (arg24 : BitVec 32) (k0_hw49 : k0_chk49 arg24) (k0_t3 : Fin (k0_t3_loop arg24).trips), ∀ (k0_h8 : k0_cond8 arg24 k0_t3 = 1#1), ∀ a, (k0_off441 arg24 k0_t3) a + S1.size a ≤ S2.size a := fun arg24 k0_hw49 k0_t3 k0_h8 => k0_hw49.2.2.2.2.2.2.2.2.2.2.2.2.1.2.2.2.2.2.2.2.2.2.2.2.1 k0_t3 k0_h8
theorem k0_off443_inb : ∀ (arg24 : BitVec 32) (k0_hw49 : k0_chk49 arg24) (k0_t3 : Fin (k0_t3_loop arg24).trips), ∀ (k0_h8 : k0_cond8 arg24 k0_t3 = 1#1), ∀ a, (k0_off443 arg24 k0_t3) a + S1x128x8960.size a ≤ S2x1024x8960.size a := fun arg24 k0_hw49 k0_t3 k0_h8 => k0_hw49.2.2.2.2.2.2.2.2.2.2.2.2.1.2.2.2.2.2.2.2.2.2.2.2.2.1 k0_t3 k0_h8
theorem k0_off443_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x8960) (k0_off443 arg24 k0_t3) S1x128x8960.size (k0_off443_inb arg24 k0_hw49 k0_t3 k0_h8)).WholeWords (EltTy.packing .fp8e4m3) := fun arg24 k0_hw49 k0_t3 k0_h8 => k0_hw49.2.2.2.2.2.2.2.2.2.2.2.2.1.2.2.2.2.2.2.2.2.2.2.2.2.2.1 k0_t3 k0_h8 (k0_off443_inb arg24 k0_hw49 k0_t3 k0_h8)
theorem k0_off444_inb : ∀ (arg24 : BitVec 32) (k0_hw49 : k0_chk49 arg24) (k0_t3 : Fin (k0_t3_loop arg24).trips), ∀ (k0_h8 : k0_cond8 arg24 k0_t3 = 1#1), ∀ a, (k0_off444 arg24 k0_t3) a + S1.size a ≤ S40.size a := fun arg24 k0_hw49 k0_t3 k0_h8 => k0_hw49.2.2.2.2.2.2.2.2.2.2.2.2.1.2.2.2.2.2.2.2.2.2.2.2.2.2.2.1 k0_t3 k0_h8
theorem k0_off446_inb : ∀ (arg24 : BitVec 32) (k0_hw49 : k0_chk49 arg24) (k0_t3 : Fin (k0_t3_loop arg24).trips), ∀ (k0_h8 : k0_cond8 arg24 k0_t3 = 1#1), ∀ a, (k0_off446 arg24 k0_t3) a + S1.size a ≤ S2.size a := fun arg24 k0_hw49 k0_t3 k0_h8 => k0_hw49.2.2.2.2.2.2.2.2.2.2.2.2.1.2.2.2.2.2.2.2.2.2.2.2.2.2.2.2.1 k0_t3 k0_h8
theorem k0_off448_inb : ∀ (arg24 : BitVec 32) (k0_hw49 : k0_chk49 arg24) (k0_t3 : Fin (k0_t3_loop arg24).trips), ∀ (k0_h8 : k0_cond8 arg24 k0_t3 = 1#1), ∀ a, (k0_off448 arg24 k0_t3) a + S1x128x8960.size a ≤ S2x1024x8960.size a := fun arg24 k0_hw49 k0_t3 k0_h8 => k0_hw49.2.2.2.2.2.2.2.2.2.2.2.2.1.2.2.2.2.2.2.2.2.2.2.2.2.2.2.2.2.1 k0_t3 k0_h8
theorem k0_off448_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x8960) (k0_off448 arg24 k0_t3) S1x128x8960.size (k0_off448_inb arg24 k0_hw49 k0_t3 k0_h8)).WholeWords (EltTy.packing .fp8e4m3) := fun arg24 k0_hw49 k0_t3 k0_h8 => k0_hw49.2.2.2.2.2.2.2.2.2.2.2.2.1.2.2.2.2.2.2.2.2.2.2.2.2.2.2.2.2.2.1 k0_t3 k0_h8 (k0_off448_inb arg24 k0_hw49 k0_t3 k0_h8)
theorem k0_off449_inb : ∀ (arg24 : BitVec 32) (k0_hw49 : k0_chk49 arg24) (k0_t3 : Fin (k0_t3_loop arg24).trips), ∀ (k0_h8 : k0_cond8 arg24 k0_t3 = 1#1), ∀ a, (k0_off449 arg24 k0_t3) a + S1.size a ≤ S40.size a := fun arg24 k0_hw49 k0_t3 k0_h8 => k0_hw49.2.2.2.2.2.2.2.2.2.2.2.2.1.2.2.2.2.2.2.2.2.2.2.2.2.2.2.2.2.2.2.1 k0_t3 k0_h8
theorem k0_off451_inb : ∀ (arg24 : BitVec 32) (k0_hw49 : k0_chk49 arg24) (k0_t3 : Fin (k0_t3_loop arg24).trips), ∀ (k0_h8 : k0_cond8 arg24 k0_t3 = 1#1), ∀ a, (k0_off451 arg24 k0_t3) a + S1.size a ≤ S2.size a := fun arg24 k0_hw49 k0_t3 k0_h8 => k0_hw49.2.2.2.2.2.2.2.2.2.2.2.2.1.2.2.2.2.2.2.2.2.2.2.2.2.2.2.2.2.2.2.2.1 k0_t3 k0_h8
theorem k0_off453_inb : ∀ (arg24 : BitVec 32) (k0_hw49 : k0_chk49 arg24) (k0_t3 : Fin (k0_t3_loop arg24).trips), ∀ (k0_h8 : k0_cond8 arg24 k0_t3 = 1#1), ∀ a, (k0_off453 arg24 k0_t3) a + S1x128x8960.size a ≤ S2x1024x8960.size a := fun arg24 k0_hw49 k0_t3 k0_h8 => k0_hw49.2.2.2.2.2.2.2.2.2.2.2.2.1.2.2.2.2.2.2.2.2.2.2.2.2.2.2.2.2.2.2.2.2.1 k0_t3 k0_h8
theorem k0_off453_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x8960) (k0_off453 arg24 k0_t3) S1x128x8960.size (k0_off453_inb arg24 k0_hw49 k0_t3 k0_h8)).WholeWords (EltTy.packing .fp8e4m3) := fun arg24 k0_hw49 k0_t3 k0_h8 => k0_hw49.2.2.2.2.2.2.2.2.2.2.2.2.1.2.2.2.2.2.2.2.2.2.2.2.2.2.2.2.2.2.2.2.2.2.1 k0_t3 k0_h8 (k0_off453_inb arg24 k0_hw49 k0_t3 k0_h8)
theorem k0_off454_inb : ∀ (arg24 : BitVec 32) (k0_hw49 : k0_chk49 arg24) (k0_t3 : Fin (k0_t3_loop arg24).trips), ∀ (k0_h8 : k0_cond8 arg24 k0_t3 = 1#1), ∀ a, (k0_off454 arg24 k0_t3) a + S1.size a ≤ S40.size a := fun arg24 k0_hw49 k0_t3 k0_h8 => k0_hw49.2.2.2.2.2.2.2.2.2.2.2.2.1.2.2.2.2.2.2.2.2.2.2.2.2.2.2.2.2.2.2.2.2.2.2.1 k0_t3 k0_h8
theorem k0_off456_inb : ∀ (arg24 : BitVec 32) (k0_hw49 : k0_chk49 arg24) (k0_t3 : Fin (k0_t3_loop arg24).trips), ∀ (k0_h8 : k0_cond8 arg24 k0_t3 = 1#1), ∀ a, (k0_off456 arg24 k0_t3) a + S1.size a ≤ S2.size a := fun arg24 k0_hw49 k0_t3 k0_h8 => k0_hw49.2.2.2.2.2.2.2.2.2.2.2.2.1.2.2.2.2.2.2.2.2.2.2.2.2.2.2.2.2.2.2.2.2.2.2.2.1 k0_t3 k0_h8
theorem k0_off458_inb : ∀ (arg24 : BitVec 32) (k0_hw49 : k0_chk49 arg24) (k0_t3 : Fin (k0_t3_loop arg24).trips), ∀ (k0_h8 : k0_cond8 arg24 k0_t3 = 1#1), ∀ a, (k0_off458 arg24 k0_t3) a + S1x128x8960.size a ≤ S2x1024x8960.size a := fun arg24 k0_hw49 k0_t3 k0_h8 => k0_hw49.2.2.2.2.2.2.2.2.2.2.2.2.1.2.2.2.2.2.2.2.2.2.2.2.2.2.2.2.2.2.2.2.2.2.2.2.2.1 k0_t3 k0_h8
theorem k0_off458_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x8960) (k0_off458 arg24 k0_t3) S1x128x8960.size (k0_off458_inb arg24 k0_hw49 k0_t3 k0_h8)).WholeWords (EltTy.packing .fp8e4m3) := fun arg24 k0_hw49 k0_t3 k0_h8 => k0_hw49.2.2.2.2.2.2.2.2.2.2.2.2.1.2.2.2.2.2.2.2.2.2.2.2.2.2.2.2.2.2.2.2.2.2.2.2.2.2.1 k0_t3 k0_h8 (k0_off458_inb arg24 k0_hw49 k0_t3 k0_h8)
theorem k0_off459_inb : ∀ (arg24 : BitVec 32) (k0_hw49 : k0_chk49 arg24) (k0_t3 : Fin (k0_t3_loop arg24).trips), ∀ (k0_h8 : k0_cond8 arg24 k0_t3 = 1#1), ∀ a, (k0_off459 arg24 k0_t3) a + S1.size a ≤ S40.size a := fun arg24 k0_hw49 k0_t3 k0_h8 => k0_hw49.2.2.2.2.2.2.2.2.2.2.2.2.1.2.2.2.2.2.2.2.2.2.2.2.2.2.2.2.2.2.2.2.2.2.2.2.2.2.2.1 k0_t3 k0_h8
theorem k0_off461_inb : ∀ (arg24 : BitVec 32) (k0_hw49 : k0_chk49 arg24) (k0_t3 : Fin (k0_t3_loop arg24).trips), ∀ (k0_h8 : k0_cond8 arg24 k0_t3 = 1#1), ∀ a, (k0_off461 arg24 k0_t3) a + S1.size a ≤ S2.size a := fun arg24 k0_hw49 k0_t3 k0_h8 => k0_hw49.2.2.2.2.2.2.2.2.2.2.2.2.1.2.2.2.2.2.2.2.2.2.2.2.2.2.2.2.2.2.2.2.2.2.2.2.2.2.2.2.1 k0_t3 k0_h8
theorem k0_off463_inb : ∀ (arg24 : BitVec 32) (k0_hw49 : k0_chk49 arg24) (k0_t3 : Fin (k0_t3_loop arg24).trips), ∀ (k0_h8 : k0_cond8 arg24 k0_t3 = 1#1), ∀ a, (k0_off463 arg24 k0_t3) a + S1x128x8960.size a ≤ S2x1024x8960.size a := fun arg24 k0_hw49 k0_t3 k0_h8 => k0_hw49.2.2.2.2.2.2.2.2.2.2.2.2.1.2.2.2.2.2.2.2.2.2.2.2.2.2.2.2.2.2.2.2.2.2.2.2.2.2.2.2.2.1 k0_t3 k0_h8
theorem k0_off463_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x8960) (k0_off463 arg24 k0_t3) S1x128x8960.size (k0_off463_inb arg24 k0_hw49 k0_t3 k0_h8)).WholeWords (EltTy.packing .fp8e4m3) := fun arg24 k0_hw49 k0_t3 k0_h8 => k0_hw49.2.2.2.2.2.2.2.2.2.2.2.2.1.2.2.2.2.2.2.2.2.2.2.2.2.2.2.2.2.2.2.2.2.2.2.2.2.2.2.2.2.2.1 k0_t3 k0_h8 (k0_off463_inb arg24 k0_hw49 k0_t3 k0_h8)
theorem k0_off464_inb : ∀ (arg24 : BitVec 32) (k0_hw49 : k0_chk49 arg24) (k0_t3 : Fin (k0_t3_loop arg24).trips), ∀ (k0_h8 : k0_cond8 arg24 k0_t3 = 1#1), ∀ a, (k0_off464 arg24 k0_t3) a + S1.size a ≤ S40.size a := fun arg24 k0_hw49 k0_t3 k0_h8 => k0_hw49.2.2.2.2.2.2.2.2.2.2.2.2.1.2.2.2.2.2.2.2.2.2.2.2.2.2.2.2.2.2.2.2.2.2.2.2.2.2.2.2.2.2.2.1 k0_t3 k0_h8
theorem k0_off466_inb : ∀ (arg24 : BitVec 32) (k0_hw49 : k0_chk49 arg24) (k0_t3 : Fin (k0_t3_loop arg24).trips), ∀ (k0_h8 : k0_cond8 arg24 k0_t3 = 1#1), ∀ a, (k0_off466 arg24 k0_t3) a + S1.size a ≤ S2.size a := fun arg24 k0_hw49 k0_t3 k0_h8 => k0_hw49.2.2.2.2.2.2.2.2.2.2.2.2.1.2.2.2.2.2.2.2.2.2.2.2.2.2.2.2.2.2.2.2.2.2.2.2.2.2.2.2.2.2.2.2 k0_t3 k0_h8
theorem k0_off468_inb : ∀ (arg24 : BitVec 32) (k0_hw49 : k0_chk49 arg24) (k0_t3 : Fin (k0_t3_loop arg24).trips), ∀ (k0_h8 : k0_cond8 arg24 k0_t3 = 1#1), ∀ a, (k0_off468 arg24 k0_t3) a + S1x128x8960.size a ≤ S2x1024x8960.size a := fun arg24 k0_hw49 k0_t3 k0_h8 => k0_hw49.2.2.2.2.2.2.2.2.2.2.2.2.2.1.1 k0_t3 k0_h8
theorem k0_off468_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x8960) (k0_off468 arg24 k0_t3) S1x128x8960.size (k0_off468_inb arg24 k0_hw49 k0_t3 k0_h8)).WholeWords (EltTy.packing .fp8e4m3) := fun arg24 k0_hw49 k0_t3 k0_h8 => k0_hw49.2.2.2.2.2.2.2.2.2.2.2.2.2.1.2.1 k0_t3 k0_h8 (k0_off468_inb arg24 k0_hw49 k0_t3 k0_h8)
theorem k0_off469_inb : ∀ (arg24 : BitVec 32) (k0_hw49 : k0_chk49 arg24) (k0_t3 : Fin (k0_t3_loop arg24).trips), ∀ (k0_h8 : k0_cond8 arg24 k0_t3 = 1#1), ∀ a, (k0_off469 arg24 k0_t3) a + S1.size a ≤ S40.size a := fun arg24 k0_hw49 k0_t3 k0_h8 => k0_hw49.2.2.2.2.2.2.2.2.2.2.2.2.2.1.2.2.1 k0_t3 k0_h8
theorem k0_off471_inb : ∀ (arg24 : BitVec 32) (k0_hw49 : k0_chk49 arg24) (k0_t3 : Fin (k0_t3_loop arg24).trips), ∀ (k0_h8 : k0_cond8 arg24 k0_t3 = 1#1), ∀ a, (k0_off471 arg24 k0_t3) a + S1.size a ≤ S2.size a := fun arg24 k0_hw49 k0_t3 k0_h8 => k0_hw49.2.2.2.2.2.2.2.2.2.2.2.2.2.1.2.2.2.1 k0_t3 k0_h8
theorem k0_off473_inb : ∀ (arg24 : BitVec 32) (k0_hw49 : k0_chk49 arg24) (k0_t3 : Fin (k0_t3_loop arg24).trips), ∀ (k0_h8 : k0_cond8 arg24 k0_t3 = 1#1), ∀ a, (k0_off473 arg24 k0_t3) a + S1x128x8960.size a ≤ S2x1024x8960.size a := fun arg24 k0_hw49 k0_t3 k0_h8 => k0_hw49.2.2.2.2.2.2.2.2.2.2.2.2.2.1.2.2.2.2.1 k0_t3 k0_h8
theorem k0_off473_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x8960) (k0_off473 arg24 k0_t3) S1x128x8960.size (k0_off473_inb arg24 k0_hw49 k0_t3 k0_h8)).WholeWords (EltTy.packing .fp8e4m3) := fun arg24 k0_hw49 k0_t3 k0_h8 => k0_hw49.2.2.2.2.2.2.2.2.2.2.2.2.2.1.2.2.2.2.2.1 k0_t3 k0_h8 (k0_off473_inb arg24 k0_hw49 k0_t3 k0_h8)
theorem k0_off474_inb : ∀ (arg24 : BitVec 32) (k0_hw49 : k0_chk49 arg24) (k0_t3 : Fin (k0_t3_loop arg24).trips), ∀ (k0_h8 : k0_cond8 arg24 k0_t3 = 1#1), ∀ a, (k0_off474 arg24 k0_t3) a + S1.size a ≤ S40.size a := fun arg24 k0_hw49 k0_t3 k0_h8 => k0_hw49.2.2.2.2.2.2.2.2.2.2.2.2.2.1.2.2.2.2.2.2.1 k0_t3 k0_h8
theorem k0_off476_inb : ∀ (arg24 : BitVec 32) (k0_hw49 : k0_chk49 arg24) (k0_t3 : Fin (k0_t3_loop arg24).trips), ∀ (k0_h8 : k0_cond8 arg24 k0_t3 = 1#1), ∀ a, (k0_off476 arg24 k0_t3) a + S1.size a ≤ S2.size a := fun arg24 k0_hw49 k0_t3 k0_h8 => k0_hw49.2.2.2.2.2.2.2.2.2.2.2.2.2.1.2.2.2.2.2.2.2.1 k0_t3 k0_h8
theorem k0_off478_inb : ∀ (arg24 : BitVec 32) (k0_hw49 : k0_chk49 arg24) (k0_t3 : Fin (k0_t3_loop arg24).trips), ∀ (k0_h8 : k0_cond8 arg24 k0_t3 = 1#1), ∀ a, (k0_off478 arg24 k0_t3) a + S1x128x8960.size a ≤ S2x1024x8960.size a := fun arg24 k0_hw49 k0_t3 k0_h8 => k0_hw49.2.2.2.2.2.2.2.2.2.2.2.2.2.1.2.2.2.2.2.2.2.2.1 k0_t3 k0_h8
theorem k0_off478_wordsfp8e4m3 : ∀ (arg24 : BitVec 32) (k0_hw49 : k0_chk49 arg24) (k0_t3 : Fin (k0_t3_loop arg24).trips), ∀ (k0_h8 : k0_cond8 arg24 k0_t3 = 1#1), (Rect.unit (s := S2x1024x8960) (k0_off478 arg24 k0_t3) S1x128x8960.size (k0_off478_inb arg24 k0_hw49 k0_t3 k0_h8)).WholeWords (EltTy.packing .fp8e4m3) := fun arg24 k0_hw49 k0_t3 k0_h8 => k0_hw49.2.2.2.2.2.2.2.2.2.2.2.2.2.1.2.2.2.2.2.2.2.2.2.1 k0_t3 k0_h8 (k0_off478_inb arg24 k0_hw49 k0_t3 k0_h8)
theorem k0_off479_inb : ∀ (arg24 : BitVec 32) (k0_hw49 : k0_chk49 arg24) (k0_t3 : Fin (k0_t3_loop arg24).trips), ∀ (k0_h9 : k0_cond9 arg24 k0_t3 = 1#1), ∀ a, (k0_off479 arg24 k0_t3) a + S1.size a ≤ S40.size a := fun arg24 k0_hw49 k0_t3 k0_h9 => k0_hw49.2.2.2.2.2.2.2.2.2.2.2.2.2.1.2.2.2.2.2.2.2.2.2.2.1 k0_t3 k0_h9
theorem k0_off481_inb : ∀ (arg24 : BitVec 32) (k0_hw49 : k0_chk49 arg24) (k0_t3 : Fin (k0_t3_loop arg24).trips), ∀ (k0_h9 : k0_cond9 arg24 k0_t3 = 1#1), ∀ a, (k0_off481 arg24 k0_t3) a + S1.size a ≤ S2.size a := fun arg24 k0_hw49 k0_t3 k0_h9 => k0_hw49.2.2.2.2.2.2.2.2.2.2.2.2.2.1.2.2.2.2.2.2.2.2.2.2.2.1 k0_t3 k0_h9
theorem k0_off482_inb : ∀ (arg24 : BitVec 32) (k0_hw49 : k0_chk49 arg24) (k0_t3 : Fin (k0_t3_loop arg24).trips), ∀ (k0_h9 : k0_cond9 arg24 k0_t3 = 1#1), ∀ a, (k0_off482 arg24 k0_t3) a + S1x128x1536.size a ≤ S2x1024x1536.size a := fun arg24 k0_hw49 k0_t3 k0_h9 => k0_hw49.2.2.2.2.2.2.2.2.2.2.2.2.2.1.2.2.2.2.2.2.2.2.2.2.2.2.1 k0_t3 k0_h9
theorem k0_off482_wordsbf16 : ∀ (arg24 : BitVec 32) (k0_hw49 : k0_chk49 arg24) (k0_t3 : Fin (k0_t3_loop arg24).trips), ∀ (k0_h9 : k0_cond9 arg24 k0_t3 = 1#1), (Rect.unit (s := S2x1024x1536) (k0_off482 arg24 k0_t3) S1x128x1536.size (k0_off482_inb arg24 k0_hw49 k0_t3 k0_h9)).WholeWords (EltTy.packing .bf16) := fun arg24 k0_hw49 k0_t3 k0_h9 => k0_hw49.2.2.2.2.2.2.2.2.2.2.2.2.2.1.2.2.2.2.2.2.2.2.2.2.2.2.2.1 k0_t3 k0_h9 (k0_off482_inb arg24 k0_hw49 k0_t3 k0_h9)
theorem k0_off484_inb : ∀ (arg24 : BitVec 32) (k0_hw49 : k0_chk49 arg24) (k0_t3 : Fin (k0_t3_loop arg24).trips), ∀ (k0_h9 : k0_cond9 arg24 k0_t3 = 1#1), ∀ a, (k0_off484 arg24 k0_t3) a + S1.size a ≤ S40.size a := fun arg24 k0_hw49 k0_t3 k0_h9 => k0_hw49.2.2.2.2.2.2.2.2.2.2.2.2.2.1.2.2.2.2.2.2.2.2.2.2.2.2.2.2.1 k0_t3 k0_h9
theorem k0_off486_inb : ∀ (arg24 : BitVec 32) (k0_hw49 : k0_chk49 arg24) (k0_t3 : Fin (k0_t3_loop arg24).trips), ∀ (k0_h9 : k0_cond9 arg24 k0_t3 = 1#1), ∀ a, (k0_off486 arg24 k0_t3) a + S1.size a ≤ S2.size a := fun arg24 k0_hw49 k0_t3 k0_h9 => k0_hw49.2.2.2.2.2.2.2.2.2.2.2.2.2.1.2.2.2.2.2.2.2.2.2.2.2.2.2.2.2.1 k0_t3 k0_h9
theorem k0_off487_inb : ∀ (arg24 : BitVec 32) (k0_hw49 : k0_chk49 arg24) (k0_t3 : Fin (k0_t3_loop arg24).trips), ∀ (k0_h9 : k0_cond9 arg24 k0_t3 = 1#1), ∀ a, (k0_off487 arg24 k0_t3) a + S1x128x1536.size a ≤ S2x1024x1536.size a := fun arg24 k0_hw49 k0_t3 k0_h9 => k0_hw49.2.2.2.2.2.2.2.2.2.2.2.2.2.1.2.2.2.2.2.2.2.2.2.2.2.2.2.2.2.2.1 k0_t3 k0_h9
theorem k0_off487_wordsbf16 : ∀ (arg24 : BitVec 32) (k0_hw49 : k0_chk49 arg24) (k0_t3 : Fin (k0_t3_loop arg24).trips), ∀ (k0_h9 : k0_cond9 arg24 k0_t3 = 1#1), (Rect.unit (s := S2x1024x1536) (k0_off487 arg24 k0_t3) S1x128x1536.size (k0_off487_inb arg24 k0_hw49 k0_t3 k0_h9)).WholeWords (EltTy.packing .bf16) := fun arg24 k0_hw49 k0_t3 k0_h9 => k0_hw49.2.2.2.2.2.2.2.2.2.2.2.2.2.1.2.2.2.2.2.2.2.2.2.2.2.2.2.2.2.2.2.1 k0_t3 k0_h9 (k0_off487_inb arg24 k0_hw49 k0_t3 k0_h9)
theorem k0_off489_inb : ∀ (arg24 : BitVec 32) (k0_hw49 : k0_chk49 arg24) (k0_t3 : Fin (k0_t3_loop arg24).trips), ∀ (k0_h9 : k0_cond9 arg24 k0_t3 = 1#1), ∀ a, (k0_off489 arg24 k0_t3) a + S1.size a ≤ S40.size a := fun arg24 k0_hw49 k0_t3 k0_h9 => k0_hw49.2.2.2.2.2.2.2.2.2.2.2.2.2.1.2.2.2.2.2.2.2.2.2.2.2.2.2.2.2.2.2.2.1 k0_t3 k0_h9
theorem k0_off491_inb : ∀ (arg24 : BitVec 32) (k0_hw49 : k0_chk49 arg24) (k0_t3 : Fin (k0_t3_loop arg24).trips), ∀ (k0_h9 : k0_cond9 arg24 k0_t3 = 1#1), ∀ a, (k0_off491 arg24 k0_t3) a + S1.size a ≤ S2.size a := fun arg24 k0_hw49 k0_t3 k0_h9 => k0_hw49.2.2.2.2.2.2.2.2.2.2.2.2.2.1.2.2.2.2.2.2.2.2.2.2.2.2.2.2.2.2.2.2.2.1 k0_t3 k0_h9
theorem k0_off492_inb : ∀ (arg24 : BitVec 32) (k0_hw49 : k0_chk49 arg24) (k0_t3 : Fin (k0_t3_loop arg24).trips), ∀ (k0_h9 : k0_cond9 arg24 k0_t3 = 1#1), ∀ a, (k0_off492 arg24 k0_t3) a + S1x128x1536.size a ≤ S2x1024x1536.size a := fun arg24 k0_hw49 k0_t3 k0_h9 => k0_hw49.2.2.2.2.2.2.2.2.2.2.2.2.2.1.2.2.2.2.2.2.2.2.2.2.2.2.2.2.2.2.2.2.2.2.1 k0_t3 k0_h9
theorem k0_off492_wordsbf16 : ∀ (arg24 : BitVec 32) (k0_hw49 : k0_chk49 arg24) (k0_t3 : Fin (k0_t3_loop arg24).trips), ∀ (k0_h9 : k0_cond9 arg24 k0_t3 = 1#1), (Rect.unit (s := S2x1024x1536) (k0_off492 arg24 k0_t3) S1x128x1536.size (k0_off492_inb arg24 k0_hw49 k0_t3 k0_h9)).WholeWords (EltTy.packing .bf16) := fun arg24 k0_hw49 k0_t3 k0_h9 => k0_hw49.2.2.2.2.2.2.2.2.2.2.2.2.2.1.2.2.2.2.2.2.2.2.2.2.2.2.2.2.2.2.2.2.2.2.2.1 k0_t3 k0_h9 (k0_off492_inb arg24 k0_hw49 k0_t3 k0_h9)
theorem k0_off494_inb : ∀ (arg24 : BitVec 32) (k0_hw49 : k0_chk49 arg24) (k0_t3 : Fin (k0_t3_loop arg24).trips), ∀ (k0_h9 : k0_cond9 arg24 k0_t3 = 1#1), ∀ a, (k0_off494 arg24 k0_t3) a + S1.size a ≤ S40.size a := fun arg24 k0_hw49 k0_t3 k0_h9 => k0_hw49.2.2.2.2.2.2.2.2.2.2.2.2.2.1.2.2.2.2.2.2.2.2.2.2.2.2.2.2.2.2.2.2.2.2.2.2.1 k0_t3 k0_h9
theorem k0_off496_inb : ∀ (arg24 : BitVec 32) (k0_hw49 : k0_chk49 arg24) (k0_t3 : Fin (k0_t3_loop arg24).trips), ∀ (k0_h9 : k0_cond9 arg24 k0_t3 = 1#1), ∀ a, (k0_off496 arg24 k0_t3) a + S1.size a ≤ S2.size a := fun arg24 k0_hw49 k0_t3 k0_h9 => k0_hw49.2.2.2.2.2.2.2.2.2.2.2.2.2.1.2.2.2.2.2.2.2.2.2.2.2.2.2.2.2.2.2.2.2.2.2.2.2.1 k0_t3 k0_h9
theorem k0_off497_inb : ∀ (arg24 : BitVec 32) (k0_hw49 : k0_chk49 arg24) (k0_t3 : Fin (k0_t3_loop arg24).trips), ∀ (k0_h9 : k0_cond9 arg24 k0_t3 = 1#1), ∀ a, (k0_off497 arg24 k0_t3) a + S1x128x1536.size a ≤ S2x1024x1536.size a := fun arg24 k0_hw49 k0_t3 k0_h9 => k0_hw49.2.2.2.2.2.2.2.2.2.2.2.2.2.1.2.2.2.2.2.2.2.2.2.2.2.2.2.2.2.2.2.2.2.2.2.2.2.2.1 k0_t3 k0_h9
theorem k0_off497_wordsbf16 : ∀ (arg24 : BitVec 32) (k0_hw49 : k0_chk49 arg24) (k0_t3 : Fin (k0_t3_loop arg24).trips), ∀ (k0_h9 : k0_cond9 arg24 k0_t3 = 1#1), (Rect.unit (s := S2x1024x1536) (k0_off497 arg24 k0_t3) S1x128x1536.size (k0_off497_inb arg24 k0_hw49 k0_t3 k0_h9)).WholeWords (EltTy.packing .bf16) := fun arg24 k0_hw49 k0_t3 k0_h9 => k0_hw49.2.2.2.2.2.2.2.2.2.2.2.2.2.1.2.2.2.2.2.2.2.2.2.2.2.2.2.2.2.2.2.2.2.2.2.2.2.2.2.1 k0_t3 k0_h9 (k0_off497_inb arg24 k0_hw49 k0_t3 k0_h9)
theorem k0_off499_inb : ∀ (arg24 : BitVec 32) (k0_hw49 : k0_chk49 arg24) (k0_t3 : Fin (k0_t3_loop arg24).trips), ∀ (k0_h9 : k0_cond9 arg24 k0_t3 = 1#1), ∀ a, (k0_off499 arg24 k0_t3) a + S1.size a ≤ S40.size a := fun arg24 k0_hw49 k0_t3 k0_h9 => k0_hw49.2.2.2.2.2.2.2.2.2.2.2.2.2.1.2.2.2.2.2.2.2.2.2.2.2.2.2.2.2.2.2.2.2.2.2.2.2.2.2.2.1 k0_t3 k0_h9
theorem k0_off501_inb : ∀ (arg24 : BitVec 32) (k0_hw49 : k0_chk49 arg24) (k0_t3 : Fin (k0_t3_loop arg24).trips), ∀ (k0_h9 : k0_cond9 arg24 k0_t3 = 1#1), ∀ a, (k0_off501 arg24 k0_t3) a + S1.size a ≤ S2.size a := fun arg24 k0_hw49 k0_t3 k0_h9 => k0_hw49.2.2.2.2.2.2.2.2.2.2.2.2.2.1.2.2.2.2.2.2.2.2.2.2.2.2.2.2.2.2.2.2.2.2.2.2.2.2.2.2.2.1 k0_t3 k0_h9
theorem k0_off502_inb : ∀ (arg24 : BitVec 32) (k0_hw49 : k0_chk49 arg24) (k0_t3 : Fin (k0_t3_loop arg24).trips), ∀ (k0_h9 : k0_cond9 arg24 k0_t3 = 1#1), ∀ a, (k0_off502 arg24 k0_t3) a + S1x128x1536.size a ≤ S2x1024x1536.size a := fun arg24 k0_hw49 k0_t3 k0_h9 => k0_hw49.2.2.2.2.2.2.2.2.2.2.2.2.2.1.2.2.2.2.2.2.2.2.2.2.2.2.2.2.2.2.2.2.2.2.2.2.2.2.2.2.2.2.1 k0_t3 k0_h9
theorem k0_off502_wordsbf16 : ∀ (arg24 : BitVec 32) (k0_hw49 : k0_chk49 arg24) (k0_t3 : Fin (k0_t3_loop arg24).trips), ∀ (k0_h9 : k0_cond9 arg24 k0_t3 = 1#1), (Rect.unit (s := S2x1024x1536) (k0_off502 arg24 k0_t3) S1x128x1536.size (k0_off502_inb arg24 k0_hw49 k0_t3 k0_h9)).WholeWords (EltTy.packing .bf16) := fun arg24 k0_hw49 k0_t3 k0_h9 => k0_hw49.2.2.2.2.2.2.2.2.2.2.2.2.2.1.2.2.2.2.2.2.2.2.2.2.2.2.2.2.2.2.2.2.2.2.2.2.2.2.2.2.2.2.2.1 k0_t3 k0_h9 (k0_off502_inb arg24 k0_hw49 k0_t3 k0_h9)
theorem k0_off504_inb : ∀ (arg24 : BitVec 32) (k0_hw49 : k0_chk49 arg24) (k0_t3 : Fin (k0_t3_loop arg24).trips), ∀ (k0_h9 : k0_cond9 arg24 k0_t3 = 1#1), ∀ a, (k0_off504 arg24 k0_t3) a + S1.size a ≤ S40.size a := fun arg24 k0_hw49 k0_t3 k0_h9 => k0_hw49.2.2.2.2.2.2.2.2.2.2.2.2.2.1.2.2.2.2.2.2.2.2.2.2.2.2.2.2.2.2.2.2.2.2.2.2.2.2.2.2.2.2.2.2.1 k0_t3 k0_h9
theorem k0_off506_inb : ∀ (arg24 : BitVec 32) (k0_hw49 : k0_chk49 arg24) (k0_t3 : Fin (k0_t3_loop arg24).trips), ∀ (k0_h9 : k0_cond9 arg24 k0_t3 = 1#1), ∀ a, (k0_off506 arg24 k0_t3) a + S1.size a ≤ S2.size a := fun arg24 k0_hw49 k0_t3 k0_h9 => k0_hw49.2.2.2.2.2.2.2.2.2.2.2.2.2.1.2.2.2.2.2.2.2.2.2.2.2.2.2.2.2.2.2.2.2.2.2.2.2.2.2.2.2.2.2.2.2 k0_t3 k0_h9
theorem k0_off507_inb : ∀ (arg24 : BitVec 32) (k0_hw49 : k0_chk49 arg24) (k0_t3 : Fin (k0_t3_loop arg24).trips), ∀ (k0_h9 : k0_cond9 arg24 k0_t3 = 1#1), ∀ a, (k0_off507 arg24 k0_t3) a + S1x128x1536.size a ≤ S2x1024x1536.size a := fun arg24 k0_hw49 k0_t3 k0_h9 => k0_hw49.2.2.2.2.2.2.2.2.2.2.2.2.2.2.1.1 k0_t3 k0_h9
theorem k0_off507_wordsbf16 : ∀ (arg24 : BitVec 32) (k0_hw49 : k0_chk49 arg24) (k0_t3 : Fin (k0_t3_loop arg24).trips), ∀ (k0_h9 : k0_cond9 arg24 k0_t3 = 1#1), (Rect.unit (s := S2x1024x1536) (k0_off507 arg24 k0_t3) S1x128x1536.size (k0_off507_inb arg24 k0_hw49 k0_t3 k0_h9)).WholeWords (EltTy.packing .bf16) := fun arg24 k0_hw49 k0_t3 k0_h9 => k0_hw49.2.2.2.2.2.2.2.2.2.2.2.2.2.2.1.2.1 k0_t3 k0_h9 (k0_off507_inb arg24 k0_hw49 k0_t3 k0_h9)
theorem k0_off509_inb : ∀ (arg24 : BitVec 32) (k0_hw49 : k0_chk49 arg24) (k0_t3 : Fin (k0_t3_loop arg24).trips), ∀ (k0_h9 : k0_cond9 arg24 k0_t3 = 1#1), ∀ a, (k0_off509 arg24 k0_t3) a + S1.size a ≤ S40.size a := fun arg24 k0_hw49 k0_t3 k0_h9 => k0_hw49.2.2.2.2.2.2.2.2.2.2.2.2.2.2.1.2.2.1 k0_t3 k0_h9
theorem k0_off511_inb : ∀ (arg24 : BitVec 32) (k0_hw49 : k0_chk49 arg24) (k0_t3 : Fin (k0_t3_loop arg24).trips), ∀ (k0_h9 : k0_cond9 arg24 k0_t3 = 1#1), ∀ a, (k0_off511 arg24 k0_t3) a + S1.size a ≤ S2.size a := fun arg24 k0_hw49 k0_t3 k0_h9 => k0_hw49.2.2.2.2.2.2.2.2.2.2.2.2.2.2.1.2.2.2.1 k0_t3 k0_h9
theorem k0_off512_inb : ∀ (arg24 : BitVec 32) (k0_hw49 : k0_chk49 arg24) (k0_t3 : Fin (k0_t3_loop arg24).trips), ∀ (k0_h9 : k0_cond9 arg24 k0_t3 = 1#1), ∀ a, (k0_off512 arg24 k0_t3) a + S1x128x1536.size a ≤ S2x1024x1536.size a := fun arg24 k0_hw49 k0_t3 k0_h9 => k0_hw49.2.2.2.2.2.2.2.2.2.2.2.2.2.2.1.2.2.2.2.1 k0_t3 k0_h9
theorem k0_off512_wordsbf16 : ∀ (arg24 : BitVec 32) (k0_hw49 : k0_chk49 arg24) (k0_t3 : Fin (k0_t3_loop arg24).trips), ∀ (k0_h9 : k0_cond9 arg24 k0_t3 = 1#1), (Rect.unit (s := S2x1024x1536) (k0_off512 arg24 k0_t3) S1x128x1536.size (k0_off512_inb arg24 k0_hw49 k0_t3 k0_h9)).WholeWords (EltTy.packing .bf16) := fun arg24 k0_hw49 k0_t3 k0_h9 => k0_hw49.2.2.2.2.2.2.2.2.2.2.2.2.2.2.1.2.2.2.2.2.1 k0_t3 k0_h9 (k0_off512_inb arg24 k0_hw49 k0_t3 k0_h9)
theorem k0_off514_inb : ∀ (arg24 : BitVec 32) (k0_hw49 : k0_chk49 arg24) (k0_t3 : Fin (k0_t3_loop arg24).trips), ∀ (k0_h9 : k0_cond9 arg24 k0_t3 = 1#1), ∀ a, (k0_off514 arg24 k0_t3) a + S1.size a ≤ S40.size a := fun arg24 k0_hw49 k0_t3 k0_h9 => k0_hw49.2.2.2.2.2.2.2.2.2.2.2.2.2.2.1.2.2.2.2.2.2.1 k0_t3 k0_h9
theorem k0_off516_inb : ∀ (arg24 : BitVec 32) (k0_hw49 : k0_chk49 arg24) (k0_t3 : Fin (k0_t3_loop arg24).trips), ∀ (k0_h9 : k0_cond9 arg24 k0_t3 = 1#1), ∀ a, (k0_off516 arg24 k0_t3) a + S1.size a ≤ S2.size a := fun arg24 k0_hw49 k0_t3 k0_h9 => k0_hw49.2.2.2.2.2.2.2.2.2.2.2.2.2.2.1.2.2.2.2.2.2.2.1 k0_t3 k0_h9
theorem k0_off517_inb : ∀ (arg24 : BitVec 32) (k0_hw49 : k0_chk49 arg24) (k0_t3 : Fin (k0_t3_loop arg24).trips), ∀ (k0_h9 : k0_cond9 arg24 k0_t3 = 1#1), ∀ a, (k0_off517 arg24 k0_t3) a + S1x128x1536.size a ≤ S2x1024x1536.size a := fun arg24 k0_hw49 k0_t3 k0_h9 => k0_hw49.2.2.2.2.2.2.2.2.2.2.2.2.2.2.1.2.2.2.2.2.2.2.2.1 k0_t3 k0_h9
theorem k0_off517_wordsbf16 : ∀ (arg24 : BitVec 32) (k0_hw49 : k0_chk49 arg24) (k0_t3 : Fin (k0_t3_loop arg24).trips), ∀ (k0_h9 : k0_cond9 arg24 k0_t3 = 1#1), (Rect.unit (s := S2x1024x1536) (k0_off517 arg24 k0_t3) S1x128x1536.size (k0_off517_inb arg24 k0_hw49 k0_t3 k0_h9)).WholeWords (EltTy.packing .bf16) := fun arg24 k0_hw49 k0_t3 k0_h9 => k0_hw49.2.2.2.2.2.2.2.2.2.2.2.2.2.2.1.2.2.2.2.2.2.2.2.2.1 k0_t3 k0_h9 (k0_off517_inb arg24 k0_hw49 k0_t3 k0_h9)
theorem k0_off519_inb : ∀ (arg24 : BitVec 32) (k0_hw49 : k0_chk49 arg24) (k0_t3 : Fin (k0_t3_loop arg24).trips), ∀ a, (k0_off519 arg24 k0_t3) a + S1.size a ≤ S40.size a := fun arg24 k0_hw49 k0_t3 => k0_hw49.2.2.2.2.2.2.2.2.2.2.2.2.2.2.1.2.2.2.2.2.2.2.2.2.2.1 k0_t3
theorem k0_off521_inb : ∀ (arg24 : BitVec 32) (k0_hw49 : k0_chk49 arg24) (k0_t3 : Fin (k0_t3_loop arg24).trips), ∀ a, (k0_off521 arg24 k0_t3) a + S1.size a ≤ S2.size a := fun arg24 k0_hw49 k0_t3 => k0_hw49.2.2.2.2.2.2.2.2.2.2.2.2.2.2.1.2.2.2.2.2.2.2.2.2.2.2.1 k0_t3
theorem k0_off523_inb : ∀ (arg24 : BitVec 32) (k0_hw49 : k0_chk49 arg24) (k0_t3 : Fin (k0_t3_loop arg24).trips), ∀ a, (k0_off523 arg24 k0_t3) a + S1x128x1536.size a ≤ S2x1024x1536.size a := fun arg24 k0_hw49 k0_t3 => k0_hw49.2.2.2.2.2.2.2.2.2.2.2.2.2.2.1.2.2.2.2.2.2.2.2.2.2.2.2.1 k0_t3
theorem k0_off523_wordsfp8e4m3 : ∀ (arg24 : BitVec 32) (k0_hw49 : k0_chk49 arg24) (k0_t3 : Fin (k0_t3_loop arg24).trips), (Rect.unit (s := S2x1024x1536) (k0_off523 arg24 k0_t3) S1x128x1536.size (k0_off523_inb arg24 k0_hw49 k0_t3)).WholeWords (EltTy.packing .fp8e4m3) := fun arg24 k0_hw49 k0_t3 => k0_hw49.2.2.2.2.2.2.2.2.2.2.2.2.2.2.1.2.2.2.2.2.2.2.2.2.2.2.2.2.1 k0_t3 (k0_off523_inb arg24 k0_hw49 k0_t3)
theorem k0_off524_inb : ∀ (arg24 : BitVec 32) (k0_hw49 : k0_chk49 arg24) (k0_t3 : Fin (k0_t3_loop arg24).trips), ∀ a, (k0_off524 arg24 k0_t3) a + S1.size a ≤ S40.size a := fun arg24 k0_hw49 k0_t3 => k0_hw49.2.2.2.2.2.2.2.2.2.2.2.2.2.2.1.2.2.2.2.2.2.2.2.2.2.2.2.2.2.1 k0_t3
theorem k0_off526_inb : ∀ (arg24 : BitVec 32) (k0_hw49 : k0_chk49 arg24) (k0_t3 : Fin (k0_t3_loop arg24).trips), ∀ a, (k0_off526 arg24 k0_t3) a + S1.size a ≤ S2.size a := fun arg24 k0_hw49 k0_t3 => k0_hw49.2.2.2.2.2.2.2.2.2.2.2.2.2.2.1.2.2.2.2.2.2.2.2.2.2.2.2.2.2.2.1 k0_t3
theorem k0_off528_inb : ∀ (arg24 : BitVec 32) (k0_hw49 : k0_chk49 arg24) (k0_t3 : Fin (k0_t3_loop arg24).trips), ∀ a, (k0_off528 arg24 k0_t3) a + S1x128x1536.size a ≤ S2x1024x1536.size a := fun arg24 k0_hw49 k0_t3 => k0_hw49.2.2.2.2.2.2.2.2.2.2.2.2.2.2.1.2.2.2.2.2.2.2.2.2.2.2.2.2.2.2.2.1 k0_t3
theorem k0_off528_wordsfp8e4m3 : ∀ (arg24 : BitVec 32) (k0_hw49 : k0_chk49 arg24) (k0_t3 : Fin (k0_t3_loop arg24).trips), (Rect.unit (s := S2x1024x1536) (k0_off528 arg24 k0_t3) S1x128x1536.size (k0_off528_inb arg24 k0_hw49 k0_t3)).WholeWords (EltTy.packing .fp8e4m3) := fun arg24 k0_hw49 k0_t3 => k0_hw49.2.2.2.2.2.2.2.2.2.2.2.2.2.2.1.2.2.2.2.2.2.2.2.2.2.2.2.2.2.2.2.2.1 k0_t3 (k0_off528_inb arg24 k0_hw49 k0_t3)
theorem k0_off529_inb : ∀ (arg24 : BitVec 32) (k0_hw49 : k0_chk49 arg24) (k0_t3 : Fin (k0_t3_loop arg24).trips), ∀ a, (k0_off529 arg24 k0_t3) a + S1.size a ≤ S40.size a := fun arg24 k0_hw49 k0_t3 => k0_hw49.2.2.2.2.2.2.2.2.2.2.2.2.2.2.1.2.2.2.2.2.2.2.2.2.2.2.2.2.2.2.2.2.2.1 k0_t3
theorem k0_off531_inb : ∀ (arg24 : BitVec 32) (k0_hw49 : k0_chk49 arg24) (k0_t3 : Fin (k0_t3_loop arg24).trips), ∀ a, (k0_off531 arg24 k0_t3) a + S1.size a ≤ S2.size a := fun arg24 k0_hw49 k0_t3 => k0_hw49.2.2.2.2.2.2.2.2.2.2.2.2.2.2.1.2.2.2.2.2.2.2.2.2.2.2.2.2.2.2.2.2.2.2.1 k0_t3
theorem k0_off533_inb : ∀ (arg24 : BitVec 32) (k0_hw49 : k0_chk49 arg24) (k0_t3 : Fin (k0_t3_loop arg24).trips), ∀ a, (k0_off533 arg24 k0_t3) a + S1x128x1536.size a ≤ S2x1024x1536.size a := fun arg24 k0_hw49 k0_t3 => k0_hw49.2.2.2.2.2.2.2.2.2.2.2.2.2.2.1.2.2.2.2.2.2.2.2.2.2.2.2.2.2.2.2.2.2.2.2.1 k0_t3
theorem k0_off533_wordsfp8e4m3 : ∀ (arg24 : BitVec 32) (k0_hw49 : k0_chk49 arg24) (k0_t3 : Fin (k0_t3_loop arg24).trips), (Rect.unit (s := S2x1024x1536) (k0_off533 arg24 k0_t3) S1x128x1536.size (k0_off533_inb arg24 k0_hw49 k0_t3)).WholeWords (EltTy.packing .fp8e4m3) := fun arg24 k0_hw49 k0_t3 => k0_hw49.2.2.2.2.2.2.2.2.2.2.2.2.2.2.1.2.2.2.2.2.2.2.2.2.2.2.2.2.2.2.2.2.2.2.2.2.1 k0_t3 (k0_off533_inb arg24 k0_hw49 k0_t3)
theorem k0_off534_inb : ∀ (arg24 : BitVec 32) (k0_hw49 : k0_chk49 arg24) (k0_t3 : Fin (k0_t3_loop arg24).trips), ∀ a, (k0_off534 arg24 k0_t3) a + S1.size a ≤ S40.size a := fun arg24 k0_hw49 k0_t3 => k0_hw49.2.2.2.2.2.2.2.2.2.2.2.2.2.2.1.2.2.2.2.2.2.2.2.2.2.2.2.2.2.2.2.2.2.2.2.2.2.1 k0_t3
theorem k0_off536_inb : ∀ (arg24 : BitVec 32) (k0_hw49 : k0_chk49 arg24) (k0_t3 : Fin (k0_t3_loop arg24).trips), ∀ a, (k0_off536 arg24 k0_t3) a + S1.size a ≤ S2.size a := fun arg24 k0_hw49 k0_t3 => k0_hw49.2.2.2.2.2.2.2.2.2.2.2.2.2.2.1.2.2.2.2.2.2.2.2.2.2.2.2.2.2.2.2.2.2.2.2.2.2.2.1 k0_t3
theorem k0_off538_inb : ∀ (arg24 : BitVec 32) (k0_hw49 : k0_chk49 arg24) (k0_t3 : Fin (k0_t3_loop arg24).trips), ∀ a, (k0_off538 arg24 k0_t3) a + S1x128x1536.size a ≤ S2x1024x1536.size a := fun arg24 k0_hw49 k0_t3 => k0_hw49.2.2.2.2.2.2.2.2.2.2.2.2.2.2.1.2.2.2.2.2.2.2.2.2.2.2.2.2.2.2.2.2.2.2.2.2.2.2.2.1 k0_t3
theorem k0_off538_wordsfp8e4m3 : ∀ (arg24 : BitVec 32) (k0_hw49 : k0_chk49 arg24) (k0_t3 : Fin (k0_t3_loop arg24).trips), (Rect.unit (s := S2x1024x1536) (k0_off538 arg24 k0_t3) S1x128x1536.size (k0_off538_inb arg24 k0_hw49 k0_t3)).WholeWords (EltTy.packing .fp8e4m3) := fun arg24 k0_hw49 k0_t3 => k0_hw49.2.2.2.2.2.2.2.2.2.2.2.2.2.2.1.2.2.2.2.2.2.2.2.2.2.2.2.2.2.2.2.2.2.2.2.2.2.2.2.2.1 k0_t3 (k0_off538_inb arg24 k0_hw49 k0_t3)
theorem k0_off539_inb : ∀ (arg24 : BitVec 32) (k0_hw49 : k0_chk49 arg24) (k0_t3 : Fin (k0_t3_loop arg24).trips), ∀ a, (k0_off539 arg24 k0_t3) a + S1.size a ≤ S40.size a := fun arg24 k0_hw49 k0_t3 => k0_hw49.2.2.2.2.2.2.2.2.2.2.2.2.2.2.1.2.2.2.2.2.2.2.2.2.2.2.2.2.2.2.2.2.2.2.2.2.2.2.2.2.2.1 k0_t3
theorem k0_off541_inb : ∀ (arg24 : BitVec 32) (k0_hw49 : k0_chk49 arg24) (k0_t3 : Fin (k0_t3_loop arg24).trips), ∀ a, (k0_off541 arg24 k0_t3) a + S1.size a ≤ S2.size a := fun arg24 k0_hw49 k0_t3 => k0_hw49.2.2.2.2.2.2.2.2.2.2.2.2.2.2.1.2.2.2.2.2.2.2.2.2.2.2.2.2.2.2.2.2.2.2.2.2.2.2.2.2.2.2.1 k0_t3
theorem k0_off543_inb : ∀ (arg24 : BitVec 32) (k0_hw49 : k0_chk49 arg24) (k0_t3 : Fin (k0_t3_loop arg24).trips), ∀ a, (k0_off543 arg24 k0_t3) a + S1x128x1536.size a ≤ S2x1024x1536.size a := fun arg24 k0_hw49 k0_t3 => k0_hw49.2.2.2.2.2.2.2.2.2.2.2.2.2.2.1.2.2.2.2.2.2.2.2.2.2.2.2.2.2.2.2.2.2.2.2.2.2.2.2.2.2.2.2.1 k0_t3
theorem k0_off543_wordsfp8e4m3 : ∀ (arg24 : BitVec 32) (k0_hw49 : k0_chk49 arg24) (k0_t3 : Fin (k0_t3_loop arg24).trips), (Rect.unit (s := S2x1024x1536) (k0_off543 arg24 k0_t3) S1x128x1536.size (k0_off543_inb arg24 k0_hw49 k0_t3)).WholeWords (EltTy.packing .fp8e4m3) := fun arg24 k0_hw49 k0_t3 => k0_hw49.2.2.2.2.2.2.2.2.2.2.2.2.2.2.1.2.2.2.2.2.2.2.2.2.2.2.2.2.2.2.2.2.2.2.2.2.2.2.2.2.2.2.2.2.1 k0_t3 (k0_off543_inb arg24 k0_hw49 k0_t3)
theorem k0_off544_inb : ∀ (arg24 : BitVec 32) (k0_hw49 : k0_chk49 arg24) (k0_t3 : Fin (k0_t3_loop arg24).trips), ∀ a, (k0_off544 arg24 k0_t3) a + S1.size a ≤ S40.size a := fun arg24 k0_hw49 k0_t3 => k0_hw49.2.2.2.2.2.2.2.2.2.2.2.2.2.2.1.2.2.2.2.2.2.2.2.2.2.2.2.2.2.2.2.2.2.2.2.2.2.2.2.2.2.2.2.2.2.1 k0_t3
theorem k0_off546_inb : ∀ (arg24 : BitVec 32) (k0_hw49 : k0_chk49 arg24) (k0_t3 : Fin (k0_t3_loop arg24).trips), ∀ a, (k0_off546 arg24 k0_t3) a + S1.size a ≤ S2.size a := fun arg24 k0_hw49 k0_t3 => k0_hw49.2.2.2.2.2.2.2.2.2.2.2.2.2.2.1.2.2.2.2.2.2.2.2.2.2.2.2.2.2.2.2.2.2.2.2.2.2.2.2.2.2.2.2.2.2.2 k0_t3
theorem k0_off548_inb : ∀ (arg24 : BitVec 32) (k0_hw49 : k0_chk49 arg24) (k0_t3 : Fin (k0_t3_loop arg24).trips), ∀ a, (k0_off548 arg24 k0_t3) a + S1x128x1536.size a ≤ S2x1024x1536.size a := fun arg24 k0_hw49 k0_t3 => k0_hw49.2.2.2.2.2.2.2.2.2.2.2.2.2.2.2.1.1 k0_t3
theorem k0_off548_wordsfp8e4m3 : ∀ (arg24 : BitVec 32) (k0_hw49 : k0_chk49 arg24) (k0_t3 : Fin (k0_t3_loop arg24).trips), (Rect.unit (s := S2x1024x1536) (k0_off548 arg24 k0_t3) S1x128x1536.size (k0_off548_inb arg24 k0_hw49 k0_t3)).WholeWords (EltTy.packing .fp8e4m3) := fun arg24 k0_hw49 k0_t3 => k0_hw49.2.2.2.2.2.2.2.2.2.2.2.2.2.2.2.1.2.1 k0_t3 (k0_off548_inb arg24 k0_hw49 k0_t3)
theorem k0_off549_inb : ∀ (arg24 : BitVec 32) (k0_hw49 : k0_chk49 arg24) (k0_t3 : Fin (k0_t3_loop arg24).trips), ∀ a, (k0_off549 arg24 k0_t3) a + S1.size a ≤ S40.size a := fun arg24 k0_hw49 k0_t3 => k0_hw49.2.2.2.2.2.2.2.2.2.2.2.2.2.2.2.1.2.2.1 k0_t3
theorem k0_off551_inb : ∀ (arg24 : BitVec 32) (k0_hw49 : k0_chk49 arg24) (k0_t3 : Fin (k0_t3_loop arg24).trips), ∀ a, (k0_off551 arg24 k0_t3) a + S1.size a ≤ S2.size a := fun arg24 k0_hw49 k0_t3 => k0_hw49.2.2.2.2.2.2.2.2.2.2.2.2.2.2.2.1.2.2.2.1 k0_t3
theorem k0_off553_inb : ∀ (arg24 : BitVec 32) (k0_hw49 : k0_chk49 arg24) (k0_t3 : Fin (k0_t3_loop arg24).trips), ∀ a, (k0_off553 arg24 k0_t3) a + S1x128x1536.size a ≤ S2x1024x1536.size a := fun arg24 k0_hw49 k0_t3 => k0_hw49.2.2.2.2.2.2.2.2.2.2.2.2.2.2.2.1.2.2.2.2.1 k0_t3
theorem k0_off553_wordsfp8e4m3 : ∀ (arg24 : BitVec 32) (k0_hw49 : k0_chk49 arg24) (k0_t3 : Fin (k0_t3_loop arg24).trips), (Rect.unit (s := S2x1024x1536) (k0_off553 arg24 k0_t3) S1x128x1536.size (k0_off553_inb arg24 k0_hw49 k0_t3)).WholeWords (EltTy.packing .fp8e4m3) := fun arg24 k0_hw49 k0_t3 => k0_hw49.2.2.2.2.2.2.2.2.2.2.2.2.2.2.2.1.2.2.2.2.2.1 k0_t3 (k0_off553_inb arg24 k0_hw49 k0_t3)
theorem k0_off554_inb : ∀ (arg24 : BitVec 32) (k0_hw49 : k0_chk49 arg24) (k0_t3 : Fin (k0_t3_loop arg24).trips), ∀ a, (k0_off554 arg24 k0_t3) a + S1.size a ≤ S40.size a := fun arg24 k0_hw49 k0_t3 => k0_hw49.2.2.2.2.2.2.2.2.2.2.2.2.2.2.2.1.2.2.2.2.2.2.1 k0_t3
theorem k0_off556_inb : ∀ (arg24 : BitVec 32) (k0_hw49 : k0_chk49 arg24) (k0_t3 : Fin (k0_t3_loop arg24).trips), ∀ a, (k0_off556 arg24 k0_t3) a + S1.size a ≤ S2.size a := fun arg24 k0_hw49 k0_t3 => k0_hw49.2.2.2.2.2.2.2.2.2.2.2.2.2.2.2.1.2.2.2.2.2.2.2.1 k0_t3
theorem k0_off558_inb : ∀ (arg24 : BitVec 32) (k0_hw49 : k0_chk49 arg24) (k0_t3 : Fin (k0_t3_loop arg24).trips), ∀ a, (k0_off558 arg24 k0_t3) a + S1x128x1536.size a ≤ S2x1024x1536.size a := fun arg24 k0_hw49 k0_t3 => k0_hw49.2.2.2.2.2.2.2.2.2.2.2.2.2.2.2.1.2.2.2.2.2.2.2.2.1 k0_t3
theorem k0_off558_wordsfp8e4m3 : ∀ (arg24 : BitVec 32) (k0_hw49 : k0_chk49 arg24) (k0_t3 : Fin (k0_t3_loop arg24).trips), (Rect.unit (s := S2x1024x1536) (k0_off558 arg24 k0_t3) S1x128x1536.size (k0_off558_inb arg24 k0_hw49 k0_t3)).WholeWords (EltTy.packing .fp8e4m3) := fun arg24 k0_hw49 k0_t3 => k0_hw49.2.2.2.2.2.2.2.2.2.2.2.2.2.2.2.1.2.2.2.2.2.2.2.2.2.1 k0_t3 (k0_off558_inb arg24 k0_hw49 k0_t3)
theorem k0_off559_inb : ∀ (arg24 : BitVec 32) (k0_hw49 : k0_chk49 arg24) (k0_t3 : Fin (k0_t3_loop arg24).trips), ∀ (k0_h10 : k0_cond10 arg24 k0_t3 = 1#1), ∀ a, (k0_off559 arg24 k0_t3) a + S1.size a ≤ S40.size a := fun arg24 k0_hw49 k0_t3 k0_h10 => k0_hw49.2.2.2.2.2.2.2.2.2.2.2.2.2.2.2.1.2.2.2.2.2.2.2.2.2.2.1 k0_t3 k0_h10
theorem k0_off561_inb : ∀ (arg24 : BitVec 32) (k0_hw49 : k0_chk49 arg24) (k0_t3 : Fin (k0_t3_loop arg24).trips), ∀ (k0_h10 : k0_cond10 arg24 k0_t3 = 1#1), ∀ a, (k0_off561 arg24 k0_t3) a + S1.size a ≤ S2.size a := fun arg24 k0_hw49 k0_t3 k0_h10 => k0_hw49.2.2.2.2.2.2.2.2.2.2.2.2.2.2.2.1.2.2.2.2.2.2.2.2.2.2.2.1 k0_t3 k0_h10
theorem k0_off563_inb : ∀ (arg24 : BitVec 32) (k0_hw49 : k0_chk49 arg24) (k0_t3 : Fin (k0_t3_loop arg24).trips), ∀ (k0_h10 : k0_cond10 arg24 k0_t3 = 1#1), ∀ a, (k0_off563 arg24 k0_t3) a + S1x128x8960.size a ≤ S2x1024x8960.size a := fun arg24 k0_hw49 k0_t3 k0_h10 => k0_hw49.2.2.2.2.2.2.2.2.2.2.2.2.2.2.2.1.2.2.2.2.2.2.2.2.2.2.2.2.1 k0_t3 k0_h10
theorem k0_off563_wordsfp8e4m3 : ∀ (arg24 : BitVec 32) (k0_hw49 : k0_chk49 arg24) (k0_t3 : Fin (k0_t3_loop arg24).trips), ∀ (k0_h10 : k0_cond10 arg24 k0_t3 = 1#1), (Rect.unit (s := S2x1024x8960) (k0_off563 arg24 k0_t3) S1x128x8960.size (k0_off563_inb arg24 k0_hw49 k0_t3 k0_h10)).WholeWords (EltTy.packing .fp8e4m3) := fun arg24 k0_hw49 k0_t3 k0_h10 => k0_hw49.2.2.2.2.2.2.2.2.2.2.2.2.2.2.2.1.2.2.2.2.2.2.2.2.2.2.2.2.2.1 k0_t3 k0_h10 (k0_off563_inb arg24 k0_hw49 k0_t3 k0_h10)
theorem k0_off564_inb : ∀ (arg24 : BitVec 32) (k0_hw49 : k0_chk49 arg24) (k0_t3 : Fin (k0_t3_loop arg24).trips), ∀ (k0_h10 : k0_cond10 arg24 k0_t3 = 1#1), ∀ a, (k0_off564 arg24 k0_t3) a + S1.size a ≤ S40.size a := fun arg24 k0_hw49 k0_t3 k0_h10 => k0_hw49.2.2.2.2.2.2.2.2.2.2.2.2.2.2.2.1.2.2.2.2.2.2.2.2.2.2.2.2.2.2.1 k0_t3 k0_h10
theorem k0_off566_inb : ∀ (arg24 : BitVec 32) (k0_hw49 : k0_chk49 arg24) (k0_t3 : Fin (k0_t3_loop arg24).trips), ∀ (k0_h10 : k0_cond10 arg24 k0_t3 = 1#1), ∀ a, (k0_off566 arg24 k0_t3) a + S1.size a ≤ S2.size a := fun arg24 k0_hw49 k0_t3 k0_h10 => k0_hw49.2.2.2.2.2.2.2.2.2.2.2.2.2.2.2.1.2.2.2.2.2.2.2.2.2.2.2.2.2.2.2.1 k0_t3 k0_h10
theorem k0_off568_inb : ∀ (arg24 : BitVec 32) (k0_hw49 : k0_chk49 arg24) (k0_t3 : Fin (k0_t3_loop arg24).trips), ∀ (k0_h10 : k0_cond10 arg24 k0_t3 = 1#1), ∀ a, (k0_off568 arg24 k0_t3) a + S1x128x8960.size a ≤ S2x1024x8960.size a := fun arg24 k0_hw49 k0_t3 k0_h10 => k0_hw49.2.2.2.2.2.2.2.2.2.2.2.2.2.2.2.1.2.2.2.2.2.2.2.2.2.2.2.2.2.2.2.2.1 k0_t3 k0_h10
theorem k0_off568_wordsfp8e4m3 : ∀ (arg24 : BitVec 32) (k0_hw49 : k0_chk49 arg24) (k0_t3 : Fin (k0_t3_loop arg24).trips), ∀ (k0_h10 : k0_cond10 arg24 k0_t3 = 1#1), (Rect.unit (s := S2x1024x8960) (k0_off568 arg24 k0_t3) S1x128x8960.size (k0_off568_inb arg24 k0_hw49 k0_t3 k0_h10)).WholeWords (EltTy.packing .fp8e4m3) := fun arg24 k0_hw49 k0_t3 k0_h10 => k0_hw49.2.2.2.2.2.2.2.2.2.2.2.2.2.2.2.1.2.2.2.2.2.2.2.2.2.2.2.2.2.2.2.2.2.1 k0_t3 k0_h10 (k0_off568_inb arg24 k0_hw49 k0_t3 k0_h10)
theorem k0_off569_inb : ∀ (arg24 : BitVec 32) (k0_hw49 : k0_chk49 arg24) (k0_t3 : Fin (k0_t3_loop arg24).trips), ∀ (k0_h10 : k0_cond10 arg24 k0_t3 = 1#1), ∀ a, (k0_off569 arg24 k0_t3) a + S1.size a ≤ S40.size a := fun arg24 k0_hw49 k0_t3 k0_h10 => k0_hw49.2.2.2.2.2.2.2.2.2.2.2.2.2.2.2.1.2.2.2.2.2.2.2.2.2.2.2.2.2.2.2.2.2.2.1 k0_t3 k0_h10
theorem k0_off571_inb : ∀ (arg24 : BitVec 32) (k0_hw49 : k0_chk49 arg24) (k0_t3 : Fin (k0_t3_loop arg24).trips), ∀ (k0_h10 : k0_cond10 arg24 k0_t3 = 1#1), ∀ a, (k0_off571 arg24 k0_t3) a + S1.size a ≤ S2.size a := fun arg24 k0_hw49 k0_t3 k0_h10 => k0_hw49.2.2.2.2.2.2.2.2.2.2.2.2.2.2.2.1.2.2.2.2.2.2.2.2.2.2.2.2.2.2.2.2.2.2.2.1 k0_t3 k0_h10
theorem k0_off573_inb : ∀ (arg24 : BitVec 32) (k0_hw49 : k0_chk49 arg24) (k0_t3 : Fin (k0_t3_loop arg24).trips), ∀ (k0_h10 : k0_cond10 arg24 k0_t3 = 1#1), ∀ a, (k0_off573 arg24 k0_t3) a + S1x128x8960.size a ≤ S2x1024x8960.size a := fun arg24 k0_hw49 k0_t3 k0_h10 => k0_hw49.2.2.2.2.2.2.2.2.2.2.2.2.2.2.2.1.2.2.2.2.2.2.2.2.2.2.2.2.2.2.2.2.2.2.2.2.1 k0_t3 k0_h10
theorem k0_off573_wordsfp8e4m3 : ∀ (arg24 : BitVec 32) (k0_hw49 : k0_chk49 arg24) (k0_t3 : Fin (k0_t3_loop arg24).trips), ∀ (k0_h10 : k0_cond10 arg24 k0_t3 = 1#1), (Rect.unit (s := S2x1024x8960) (k0_off573 arg24 k0_t3) S1x128x8960.size (k0_off573_inb arg24 k0_hw49 k0_t3 k0_h10)).WholeWords (EltTy.packing .fp8e4m3) := fun arg24 k0_hw49 k0_t3 k0_h10 => k0_hw49.2.2.2.2.2.2.2.2.2.2.2.2.2.2.2.1.2.2.2.2.2.2.2.2.2.2.2.2.2.2.2.2.2.2.2.2.2.1 k0_t3 k0_h10 (k0_off573_inb arg24 k0_hw49 k0_t3 k0_h10)
theorem k0_off574_inb : ∀ (arg24 : BitVec 32) (k0_hw49 : k0_chk49 arg24) (k0_t3 : Fin (k0_t3_loop arg24).trips), ∀ (k0_h10 : k0_cond10 arg24 k0_t3 = 1#1), ∀ a, (k0_off574 arg24 k0_t3) a + S1.size a ≤ S40.size a := fun arg24 k0_hw49 k0_t3 k0_h10 => k0_hw49.2.2.2.2.2.2.2.2.2.2.2.2.2.2.2.1.2.2.2.2.2.2.2.2.2.2.2.2.2.2.2.2.2.2.2.2.2.2.1 k0_t3 k0_h10
theorem k0_off576_inb : ∀ (arg24 : BitVec 32) (k0_hw49 : k0_chk49 arg24) (k0_t3 : Fin (k0_t3_loop arg24).trips), ∀ (k0_h10 : k0_cond10 arg24 k0_t3 = 1#1), ∀ a, (k0_off576 arg24 k0_t3) a + S1.size a ≤ S2.size a := fun arg24 k0_hw49 k0_t3 k0_h10 => k0_hw49.2.2.2.2.2.2.2.2.2.2.2.2.2.2.2.1.2.2.2.2.2.2.2.2.2.2.2.2.2.2.2.2.2.2.2.2.2.2.2.1 k0_t3 k0_h10
theorem k0_off578_inb : ∀ (arg24 : BitVec 32) (k0_hw49 : k0_chk49 arg24) (k0_t3 : Fin (k0_t3_loop arg24).trips), ∀ (k0_h10 : k0_cond10 arg24 k0_t3 = 1#1), ∀ a, (k0_off578 arg24 k0_t3) a + S1x128x8960.size a ≤ S2x1024x8960.size a := fun arg24 k0_hw49 k0_t3 k0_h10 => k0_hw49.2.2.2.2.2.2.2.2.2.2.2.2.2.2.2.1.2.2.2.2.2.2.2.2.2.2.2.2.2.2.2.2.2.2.2.2.2.2.2.2.1 k0_t3 k0_h10
theorem k0_off578_wordsfp8e4m3 : ∀ (arg24 : BitVec 32) (k0_hw49 : k0_chk49 arg24) (k0_t3 : Fin (k0_t3_loop arg24).trips), ∀ (k0_h10 : k0_cond10 arg24 k0_t3 = 1#1), (Rect.unit (s := S2x1024x8960) (k0_off578 arg24 k0_t3) S1x128x8960.size (k0_off578_inb arg24 k0_hw49 k0_t3 k0_h10)).WholeWords (EltTy.packing .fp8e4m3) := fun arg24 k0_hw49 k0_t3 k0_h10 => k0_hw49.2.2.2.2.2.2.2.2.2.2.2.2.2.2.2.1.2.2.2.2.2.2.2.2.2.2.2.2.2.2.2.2.2.2.2.2.2.2.2.2.2.1 k0_t3 k0_h10 (k0_off578_inb arg24 k0_hw49 k0_t3 k0_h10)
theorem k0_off579_inb : ∀ (arg24 : BitVec 32) (k0_hw49 : k0_chk49 arg24) (k0_t3 : Fin (k0_t3_loop arg24).trips), ∀ (k0_h10 : k0_cond10 arg24 k0_t3 = 1#1), ∀ a, (k0_off579 arg24 k0_t3) a + S1.size a ≤ S40.size a := fun arg24 k0_hw49 k0_t3 k0_h10 => k0_hw49.2.2.2.2.2.2.2.2.2.2.2.2.2.2.2.1.2.2.2.2.2.2.2.2.2.2.2.2.2.2.2.2.2.2.2.2.2.2.2.2.2.2.1 k0_t3 k0_h10
theorem k0_off581_inb : ∀ (arg24 : BitVec 32) (k0_hw49 : k0_chk49 arg24) (k0_t3 : Fin (k0_t3_loop arg24).trips), ∀ (k0_h10 : k0_cond10 arg24 k0_t3 = 1#1), ∀ a, (k0_off581 arg24 k0_t3) a + S1.size a ≤ S2.size a := fun arg24 k0_hw49 k0_t3 k0_h10 => k0_hw49.2.2.2.2.2.2.2.2.2.2.2.2.2.2.2.1.2.2.2.2.2.2.2.2.2.2.2.2.2.2.2.2.2.2.2.2.2.2.2.2.2.2.2.1 k0_t3 k0_h10
theorem k0_off583_inb : ∀ (arg24 : BitVec 32) (k0_hw49 : k0_chk49 arg24) (k0_t3 : Fin (k0_t3_loop arg24).trips), ∀ (k0_h10 : k0_cond10 arg24 k0_t3 = 1#1), ∀ a, (k0_off583 arg24 k0_t3) a + S1x128x8960.size a ≤ S2x1024x8960.size a := fun arg24 k0_hw49 k0_t3 k0_h10 => k0_hw49.2.2.2.2.2.2.2.2.2.2.2.2.2.2.2.1.2.2.2.2.2.2.2.2.2.2.2.2.2.2.2.2.2.2.2.2.2.2.2.2.2.2.2.2.1 k0_t3 k0_h10
theorem k0_off583_wordsfp8e4m3 : ∀ (arg24 : BitVec 32) (k0_hw49 : k0_chk49 arg24) (k0_t3 : Fin (k0_t3_loop arg24).trips), ∀ (k0_h10 : k0_cond10 arg24 k0_t3 = 1#1), (Rect.unit (s := S2x1024x8960) (k0_off583 arg24 k0_t3) S1x128x8960.size (k0_off583_inb arg24 k0_hw49 k0_t3 k0_h10)).WholeWords (EltTy.packing .fp8e4m3) := fun arg24 k0_hw49 k0_t3 k0_h10 => k0_hw49.2.2.2.2.2.2.2.2.2.2.2.2.2.2.2.1.2.2.2.2.2.2.2.2.2.2.2.2.2.2.2.2.2.2.2.2.2.2.2.2.2.2.2.2.2.1 k0_t3 k0_h10 (k0_off583_inb arg24 k0_hw49 k0_t3 k0_h10)
theorem k0_off584_inb : ∀ (arg24 : BitVec 32) (k0_hw49 : k0_chk49 arg24) (k0_t3 : Fin (k0_t3_loop arg24).trips), ∀ (k0_h10 : k0_cond10 arg24 k0_t3 = 1#1), ∀ a, (k0_off584 arg24 k0_t3) a + S1.size a ≤ S40.size a := fun arg24 k0_hw49 k0_t3 k0_h10 => k0_hw49.2.2.2.2.2.2.2.2.2.2.2.2.2.2.2.1.2.2.2.2.2.2.2.2.2.2.2.2.2.2.2.2.2.2.2.2.2.2.2.2.2.2.2.2.2.2.1 k0_t3 k0_h10
theorem k0_off586_inb : ∀ (arg24 : BitVec 32) (k0_hw49 : k0_chk49 arg24) (k0_t3 : Fin (k0_t3_loop arg24).trips), ∀ (k0_h10 : k0_cond10 arg24 k0_t3 = 1#1), ∀ a, (k0_off586 arg24 k0_t3) a + S1.size a ≤ S2.size a := fun arg24 k0_hw49 k0_t3 k0_h10 => k0_hw49.2.2.2.2.2.2.2.2.2.2.2.2.2.2.2.1.2.2.2.2.2.2.2.2.2.2.2.2.2.2.2.2.2.2.2.2.2.2.2.2.2.2.2.2.2.2.2 k0_t3 k0_h10
theorem k0_off588_inb : ∀ (arg24 : BitVec 32) (k0_hw49 : k0_chk49 arg24) (k0_t3 : Fin (k0_t3_loop arg24).trips), ∀ (k0_h10 : k0_cond10 arg24 k0_t3 = 1#1), ∀ a, (k0_off588 arg24 k0_t3) a + S1x128x8960.size a ≤ S2x1024x8960.size a := fun arg24 k0_hw49 k0_t3 k0_h10 => k0_hw49.2.2.2.2.2.2.2.2.2.2.2.2.2.2.2.2.1.1 k0_t3 k0_h10
theorem k0_off588_wordsfp8e4m3 : ∀ (arg24 : BitVec 32) (k0_hw49 : k0_chk49 arg24) (k0_t3 : Fin (k0_t3_loop arg24).trips), ∀ (k0_h10 : k0_cond10 arg24 k0_t3 = 1#1), (Rect.unit (s := S2x1024x8960) (k0_off588 arg24 k0_t3) S1x128x8960.size (k0_off588_inb arg24 k0_hw49 k0_t3 k0_h10)).WholeWords (EltTy.packing .fp8e4m3) := fun arg24 k0_hw49 k0_t3 k0_h10 => k0_hw49.2.2.2.2.2.2.2.2.2.2.2.2.2.2.2.2.1.2.1 k0_t3 k0_h10 (k0_off588_inb arg24 k0_hw49 k0_t3 k0_h10)
theorem k0_off589_inb : ∀ (arg24 : BitVec 32) (k0_hw49 : k0_chk49 arg24) (k0_t3 : Fin (k0_t3_loop arg24).trips), ∀ (k0_h10 : k0_cond10 arg24 k0_t3 = 1#1), ∀ a, (k0_off589 arg24 k0_t3) a + S1.size a ≤ S40.size a := fun arg24 k0_hw49 k0_t3 k0_h10 => k0_hw49.2.2.2.2.2.2.2.2.2.2.2.2.2.2.2.2.1.2.2.1 k0_t3 k0_h10
theorem k0_off591_inb : ∀ (arg24 : BitVec 32) (k0_hw49 : k0_chk49 arg24) (k0_t3 : Fin (k0_t3_loop arg24).trips), ∀ (k0_h10 : k0_cond10 arg24 k0_t3 = 1#1), ∀ a, (k0_off591 arg24 k0_t3) a + S1.size a ≤ S2.size a := fun arg24 k0_hw49 k0_t3 k0_h10 => k0_hw49.2.2.2.2.2.2.2.2.2.2.2.2.2.2.2.2.1.2.2.2.1 k0_t3 k0_h10
theorem k0_off593_inb : ∀ (arg24 : BitVec 32) (k0_hw49 : k0_chk49 arg24) (k0_t3 : Fin (k0_t3_loop arg24).trips), ∀ (k0_h10 : k0_cond10 arg24 k0_t3 = 1#1), ∀ a, (k0_off593 arg24 k0_t3) a + S1x128x8960.size a ≤ S2x1024x8960.size a := fun arg24 k0_hw49 k0_t3 k0_h10 => k0_hw49.2.2.2.2.2.2.2.2.2.2.2.2.2.2.2.2.1.2.2.2.2.1 k0_t3 k0_h10
theorem k0_off593_wordsfp8e4m3 : ∀ (arg24 : BitVec 32) (k0_hw49 : k0_chk49 arg24) (k0_t3 : Fin (k0_t3_loop arg24).trips), ∀ (k0_h10 : k0_cond10 arg24 k0_t3 = 1#1), (Rect.unit (s := S2x1024x8960) (k0_off593 arg24 k0_t3) S1x128x8960.size (k0_off593_inb arg24 k0_hw49 k0_t3 k0_h10)).WholeWords (EltTy.packing .fp8e4m3) := fun arg24 k0_hw49 k0_t3 k0_h10 => k0_hw49.2.2.2.2.2.2.2.2.2.2.2.2.2.2.2.2.1.2.2.2.2.2.1 k0_t3 k0_h10 (k0_off593_inb arg24 k0_hw49 k0_t3 k0_h10)
theorem k0_off594_inb : ∀ (arg24 : BitVec 32) (k0_hw49 : k0_chk49 arg24) (k0_t3 : Fin (k0_t3_loop arg24).trips), ∀ (k0_h10 : k0_cond10 arg24 k0_t3 = 1#1), ∀ a, (k0_off594 arg24 k0_t3) a + S1.size a ≤ S40.size a := fun arg24 k0_hw49 k0_t3 k0_h10 => k0_hw49.2.2.2.2.2.2.2.2.2.2.2.2.2.2.2.2.1.2.2.2.2.2.2.1 k0_t3 k0_h10
theorem k0_off596_inb : ∀ (arg24 : BitVec 32) (k0_hw49 : k0_chk49 arg24) (k0_t3 : Fin (k0_t3_loop arg24).trips), ∀ (k0_h10 : k0_cond10 arg24 k0_t3 = 1#1), ∀ a, (k0_off596 arg24 k0_t3) a + S1.size a ≤ S2.size a := fun arg24 k0_hw49 k0_t3 k0_h10 => k0_hw49.2.2.2.2.2.2.2.2.2.2.2.2.2.2.2.2.1.2.2.2.2.2.2.2.1 k0_t3 k0_h10
theorem k0_off598_inb : ∀ (arg24 : BitVec 32) (k0_hw49 : k0_chk49 arg24) (k0_t3 : Fin (k0_t3_loop arg24).trips), ∀ (k0_h10 : k0_cond10 arg24 k0_t3 = 1#1), ∀ a, (k0_off598 arg24 k0_t3) a + S1x128x8960.size a ≤ S2x1024x8960.size a := fun arg24 k0_hw49 k0_t3 k0_h10 => k0_hw49.2.2.2.2.2.2.2.2.2.2.2.2.2.2.2.2.1.2.2.2.2.2.2.2.2.1 k0_t3 k0_h10
theorem k0_off598_wordsfp8e4m3 : ∀ (arg24 : BitVec 32) (k0_hw49 : k0_chk49 arg24) (k0_t3 : Fin (k0_t3_loop arg24).trips), ∀ (k0_h10 : k0_cond10 arg24 k0_t3 = 1#1), (Rect.unit (s := S2x1024x8960) (k0_off598 arg24 k0_t3) S1x128x8960.size (k0_off598_inb arg24 k0_hw49 k0_t3 k0_h10)).WholeWords (EltTy.packing .fp8e4m3) := fun arg24 k0_hw49 k0_t3 k0_h10 => k0_hw49.2.2.2.2.2.2.2.2.2.2.2.2.2.2.2.2.1.2.2.2.2.2.2.2.2.2.1 k0_t3 k0_h10 (k0_off598_inb arg24 k0_hw49 k0_t3 k0_h10)
theorem k0_off599_inb : ∀ (arg24 : BitVec 32) (k0_hw49 : k0_chk49 arg24) (k0_t3 : Fin (k0_t3_loop arg24).trips), ∀ a, (k0_off599 arg24 k0_t3) a + S1.size a ≤ S40.size a := fun arg24 k0_hw49 k0_t3 => k0_hw49.2.2.2.2.2.2.2.2.2.2.2.2.2.2.2.2.1.2.2.2.2.2.2.2.2.2.2.1 k0_t3
theorem k0_off601_inb : ∀ (arg24 : BitVec 32) (k0_hw49 : k0_chk49 arg24) (k0_t3 : Fin (k0_t3_loop arg24).trips), ∀ a, (k0_off601 arg24 k0_t3) a + S1x1024x1536.size a ≤ S2x1024x1536.size a := fun arg24 k0_hw49 k0_t3 => k0_hw49.2.2.2.2.2.2.2.2.2.2.2.2.2.2.2.2.1.2.2.2.2.2.2.2.2.2.2.2.1 k0_t3
theorem k0_off602_inb : ∀ (arg24 : BitVec 32) (k0_hw49 : k0_chk49 arg24) (k0_t3 : Fin (k0_t3_loop arg24).trips), ∀ a, (k0_off602 arg24 k0_t3) a + S1x1024x256.size a ≤ S2x1024x8960.size a := fun arg24 k0_hw49 k0_t3 => k0_hw49.2.2.2.2.2.2.2.2.2.2.2.2.2.2.2.2.1.2.2.2.2.2.2.2.2.2.2.2.2.1 k0_t3
theorem k0_off602_packedfp8e4m3 : ∀ (arg24 : BitVec 32) (k0_hw49 : k0_chk49 arg24) (k0_t3 : Fin (k0_t3_loop arg24).trips), (Rect.unit (s := S2x1024x8960) (k0_off602 arg24 k0_t3) S1x1024x256.size (k0_off602_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.1 k0_t3 (k0_off602_inb arg24 k0_hw49 k0_t3)
theorem k0_off603_inb : ∀ (arg24 : BitVec 32) (k0_hw49 : k0_chk49 arg24) (k0_t3 : Fin (k0_t3_loop arg24).trips), ∀ a, (k0_off603 arg24 k0_t3) a + S1x32x1536.size a ≤ S2x1024x1536.size a := fun arg24 k0_hw49 k0_t3 => k0_hw49.2.2.2.2.2.2.2.2.2.2.2.2.2.2.2.2.1.2.2.2.2.2.2.2.2.2.2.2.2.2.2.1 k0_t3
theorem k0_off603_packedfp8e4m3 : ∀ (arg24 : BitVec 32) (k0_hw49 : k0_chk49 arg24) (k0_t3 : Fin (k0_t3_loop arg24).trips), (Rect.unit (s := S2x1024x1536) (k0_off603 arg24 k0_t3) S1x32x1536.size (k0_off603_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.2.2.1 k0_t3 (k0_off603_inb arg24 k0_hw49 k0_t3)
theorem k0_off604_inb : ∀ (arg24 : BitVec 32) (k0_hw49 : k0_chk49 arg24) (k0_t3 : Fin (k0_t3_loop arg24).trips), ∀ a, (k0_off604 arg24 k0_t3) a + S1x1024x256.size a ≤ S2x1024x8960.size a := fun arg24 k0_hw49 k0_t3 => k0_hw49.2.2.2.2.2.2.2.2.2.2.2.2.2.2.2.2.1.2.2.2.2.2.2.2.2.2.2.2.2.2.2.2.2.1 k0_t3
theorem k0_off604_packedfp8e4m3 : ∀ (arg24 : BitVec 32) (k0_hw49 : k0_chk49 arg24) (k0_t3 : Fin (k0_t3_loop arg24).trips), (Rect.unit (s := S2x1024x8960) (k0_off604 arg24 k0_t3) S1x1024x256.size (k0_off604_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.2.2.2.2.1 k0_t3 (k0_off604_inb arg24 k0_hw49 k0_t3)
theorem k0_off605_inb : ∀ (arg24 : BitVec 32) (k0_hw49 : k0_chk49 arg24) (k0_t3 : Fin (k0_t3_loop arg24).trips), ∀ a, (k0_off605 arg24 k0_t3) a + S1x32x1536.size a ≤ S2x1024x1536.size a := fun arg24 k0_hw49 k0_t3 => k0_hw49.2.2.2.2.2.2.2.2.2.2.2.2.2.2.2.2.1.2.2.2.2.2.2.2.2.2.2.2.2.2.2.2.2.2.2.1 k0_t3
theorem k0_off605_packedfp8e4m3 : ∀ (arg24 : BitVec 32) (k0_hw49 : k0_chk49 arg24) (k0_t3 : Fin (k0_t3_loop arg24).trips), (Rect.unit (s := S2x1024x1536) (k0_off605 arg24 k0_t3) S1x32x1536.size (k0_off605_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.2.2.2.2.2.2.1 k0_t3 (k0_off605_inb arg24 k0_hw49 k0_t3)
theorem k0_off606_inb : ∀ (arg24 : BitVec 32) (k0_hw49 : k0_chk49 arg24) (k0_t3 : Fin (k0_t3_loop arg24).trips), ∀ a, (k0_off606 arg24 k0_t3) a + S1x1024x256.size a ≤ S2x1024x8960.size a := fun arg24 k0_hw49 k0_t3 => k0_hw49.2.2.2.2.2.2.2.2.2.2.2.2.2.2.2.2.1.2.2.2.2.2.2.2.2.2.2.2.2.2.2.2.2.2.2.2.2.1 k0_t3
theorem k0_off606_packedfp8e4m3 : ∀ (arg24 : BitVec 32) (k0_hw49 : k0_chk49 arg24) (k0_t3 : Fin (k0_t3_loop arg24).trips), (Rect.unit (s := S2x1024x8960) (k0_off606 arg24 k0_t3) S1x1024x256.size (k0_off606_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.2.2.2.2.2.2.2.2.1 k0_t3 (k0_off606_inb arg24 k0_hw49 k0_t3)
theorem k0_off607_inb : ∀ (arg24 : BitVec 32) (k0_hw49 : k0_chk49 arg24) (k0_t3 : Fin (k0_t3_loop arg24).trips), ∀ a, (k0_off607 arg24 k0_t3) a + S1x32x1536.size a ≤ S2x1024x1536.size a := fun arg24 k0_hw49 k0_t3 => k0_hw49.2.2.2.2.2.2.2.2.2.2.2.2.2.2.2.2.1.2.2.2.2.2.2.2.2.2.2.2.2.2.2.2.2.2.2.2.2.2.2.1 k0_t3
theorem k0_off607_packedfp8e4m3 : ∀ (arg24 : BitVec 32) (k0_hw49 : k0_chk49 arg24) (k0_t3 : Fin (k0_t3_loop arg24).trips), (Rect.unit (s := S2x1024x1536) (k0_off607 arg24 k0_t3) S1x32x1536.size (k0_off607_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.2.2.2.2.2.2.2.2.2.2.1 k0_t3 (k0_off607_inb arg24 k0_hw49 k0_t3)
theorem k0_off608_inb : ∀ (arg24 : BitVec 32) (k0_hw49 : k0_chk49 arg24) (k0_t3 : Fin (k0_t3_loop arg24).trips), ∀ a, (k0_off608 arg24 k0_t3) a + S1x1024x256.size a ≤ S2x1024x8960.size a := fun arg24 k0_hw49 k0_t3 => k0_hw49.2.2.2.2.2.2.2.2.2.2.2.2.2.2.2.2.1.2.2.2.2.2.2.2.2.2.2.2.2.2.2.2.2.2.2.2.2.2.2.2.2.1 k0_t3
theorem k0_off608_packedfp8e4m3 : ∀ (arg24 : BitVec 32) (k0_hw49 : k0_chk49 arg24) (k0_t3 : Fin (k0_t3_loop arg24).trips), (Rect.unit (s := S2x1024x8960) (k0_off608 arg24 k0_t3) S1x1024x256.size (k0_off608_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.2.2.2.2.2.2.2.2.2.2.2.2.1 k0_t3 (k0_off608_inb arg24 k0_hw49 k0_t3)
theorem k0_off609_inb : ∀ (arg24 : BitVec 32) (k0_hw49 : k0_chk49 arg24) (k0_t3 : Fin (k0_t3_loop arg24).trips), ∀ a, (k0_off609 arg24 k0_t3) a + S1x32x1536.size a ≤ S2x1024x1536.size a := fun arg24 k0_hw49 k0_t3 => k0_hw49.2.2.2.2.2.2.2.2.2.2.2.2.2.2.2.2.1.2.2.2.2.2.2.2.2.2.2.2.2.2.2.2.2.2.2.2.2.2.2.2.2.2.2.1 k0_t3
theorem k0_off609_packedfp8e4m3 : ∀ (arg24 : BitVec 32) (k0_hw49 : k0_chk49 arg24) (k0_t3 : Fin (k0_t3_loop arg24).trips), (Rect.unit (s := S2x1024x1536) (k0_off609 arg24 k0_t3) S1x32x1536.size (k0_off609_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.2.2.2.2.2.2.2.2.2.2.2.2.2.2.1 k0_t3 (k0_off609_inb arg24 k0_hw49 k0_t3)
theorem k0_off610_inb : ∀ (arg24 : BitVec 32) (k0_hw49 : k0_chk49 arg24) (k0_t3 : Fin (k0_t3_loop arg24).trips), ∀ a, (k0_off610 arg24 k0_t3) a + S1x1024x256.size a ≤ S2x1024x8960.size a := fun arg24 k0_hw49 k0_t3 => k0_hw49.2.2.2.2.2.2.2.2.2.2.2.2.2.2.2.2.1.2.2.2.2.2.2.2.2.2.2.2.2.2.2.2.2.2.2.2.2.2.2.2.2.2.2.2.2.1 k0_t3
theorem k0_off610_packedfp8e4m3 : ∀ (arg24 : BitVec 32) (k0_hw49 : k0_chk49 arg24) (k0_t3 : Fin (k0_t3_loop arg24).trips), (Rect.unit (s := S2x1024x8960) (k0_off610 arg24 k0_t3) S1x1024x256.size (k0_off610_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.2.2.2.2.2.2.2.2.2.2.2.2.2.2.2.2.1 k0_t3 (k0_off610_inb arg24 k0_hw49 k0_t3)
theorem k0_off611_inb : ∀ (arg24 : BitVec 32) (k0_hw49 : k0_chk49 arg24) (k0_t3 : Fin (k0_t3_loop arg24).trips), ∀ a, (k0_off611 arg24 k0_t3) a + S1x32x1536.size a ≤ S2x1024x1536.size a := fun arg24 k0_hw49 k0_t3 => k0_hw49.2.2.2.2.2.2.2.2.2.2.2.2.2.2.2.2.1.2.2.2.2.2.2.2.2.2.2.2.2.2.2.2.2.2.2.2.2.2.2.2.2.2.2.2.2.2.2.1 k0_t3
theorem k0_off611_packedfp8e4m3 : ∀ (arg24 : BitVec 32) (k0_hw49 : k0_chk49 arg24) (k0_t3 : Fin (k0_t3_loop arg24).trips), (Rect.unit (s := S2x1024x1536) (k0_off611 arg24 k0_t3) S1x32x1536.size (k0_off611_inb arg24 k0_hw49 k0_t3)).PackedRows (EltTy.packing .fp8e4m3) := fun arg24 k0_hw49 k0_t3 => k0_hw49.2.2.2.2.2.2.2.2.2.2.2.2.2.2.2.2.1.2.2.2.2.2.2.2.2.2.2.2.2.2.2.2.2.2.2.2.2.2.2.2.2.2.2.2.2.2.2.2 k0_t3 (k0_off611_inb arg24 k0_hw49 k0_t3)
theorem k0_off612_inb : ∀ (arg24 : BitVec 32) (k0_hw49 : k0_chk49 arg24) (k0_t3 : Fin (k0_t3_loop arg24).trips), ∀ a, (k0_off612 arg24 k0_t3) a + S1x1024x256.size a ≤ S2x1024x8960.size a := fun arg24 k0_hw49 k0_t3 => k0_hw49.2.2.2.2.2.2.2.2.2.2.2.2.2.2.2.2.2.1.1 k0_t3
theorem k0_off612_packedfp8e4m3 : ∀ (arg24 : BitVec 32) (k0_hw49 : k0_chk49 arg24) (k0_t3 : Fin (k0_t3_loop arg24).trips), (Rect.unit (s := S2x1024x8960) (k0_off612 arg24 k0_t3) S1x1024x256.size (k0_off612_inb arg24 k0_hw49 k0_t3)).PackedRows (EltTy.packing .fp8e4m3) := fun arg24 k0_hw49 k0_t3 => k0_hw49.2.2.2.2.2.2.2.2.2.2.2.2.2.2.2.2.2.1.2.1 k0_t3 (k0_off612_inb arg24 k0_hw49 k0_t3)
theorem k0_off613_inb : ∀ (arg24 : BitVec 32) (k0_hw49 : k0_chk49 arg24) (k0_t3 : Fin (k0_t3_loop arg24).trips), ∀ a, (k0_off613 arg24 k0_t3) a + S1x32x1536.size a ≤ S2x1024x1536.size a := fun arg24 k0_hw49 k0_t3 => k0_hw49.2.2.2.2.2.2.2.2.2.2.2.2.2.2.2.2.2.1.2.2.1 k0_t3
theorem k0_off613_packedfp8e4m3 : ∀ (arg24 : BitVec 32) (k0_hw49 : k0_chk49 arg24) (k0_t3 : Fin (k0_t3_loop arg24).trips), (Rect.unit (s := S2x1024x1536) (k0_off613 arg24 k0_t3) S1x32x1536.size (k0_off613_inb arg24 k0_hw49 k0_t3)).PackedRows (EltTy.packing .fp8e4m3) := fun arg24 k0_hw49 k0_t3 => k0_hw49.2.2.2.2.2.2.2.2.2.2.2.2.2.2.2.2.2.1.2.2.2.1 k0_t3 (k0_off613_inb arg24 k0_hw49 k0_t3)
theorem k0_off614_inb : ∀ (arg24 : BitVec 32) (k0_hw49 : k0_chk49 arg24) (k0_t3 : Fin (k0_t3_loop arg24).trips), ∀ a, (k0_off614 arg24 k0_t3) a + S1x1024x256.size a ≤ S2x1024x8960.size a := fun arg24 k0_hw49 k0_t3 => k0_hw49.2.2.2.2.2.2.2.2.2.2.2.2.2.2.2.2.2.1.2.2.2.2.1 k0_t3
theorem k0_off614_packedfp8e4m3 : ∀ (arg24 : BitVec 32) (k0_hw49 : k0_chk49 arg24) (k0_t3 : Fin (k0_t3_loop arg24).trips), (Rect.unit (s := S2x1024x8960) (k0_off614 arg24 k0_t3) S1x1024x256.size (k0_off614_inb arg24 k0_hw49 k0_t3)).PackedRows (EltTy.packing .fp8e4m3) := fun arg24 k0_hw49 k0_t3 => k0_hw49.2.2.2.2.2.2.2.2.2.2.2.2.2.2.2.2.2.1.2.2.2.2.2.1 k0_t3 (k0_off614_inb arg24 k0_hw49 k0_t3)
theorem k0_off615_inb : ∀ (arg24 : BitVec 32) (k0_hw49 : k0_chk49 arg24) (k0_t3 : Fin (k0_t3_loop arg24).trips), ∀ a, (k0_off615 arg24 k0_t3) a + S1x32x1536.size a ≤ S2x1024x1536.size a := fun arg24 k0_hw49 k0_t3 => k0_hw49.2.2.2.2.2.2.2.2.2.2.2.2.2.2.2.2.2.1.2.2.2.2.2.2.1 k0_t3
theorem k0_off615_packedfp8e4m3 : ∀ (arg24 : BitVec 32) (k0_hw49 : k0_chk49 arg24) (k0_t3 : Fin (k0_t3_loop arg24).trips), (Rect.unit (s := S2x1024x1536) (k0_off615 arg24 k0_t3) S1x32x1536.size (k0_off615_inb arg24 k0_hw49 k0_t3)).PackedRows (EltTy.packing .fp8e4m3) := fun arg24 k0_hw49 k0_t3 => k0_hw49.2.2.2.2.2.2.2.2.2.2.2.2.2.2.2.2.2.1.2.2.2.2.2.2.2.1 k0_t3 (k0_off615_inb arg24 k0_hw49 k0_t3)
theorem k0_off616_inb : ∀ (arg24 : BitVec 32) (k0_hw49 : k0_chk49 arg24) (k0_t3 : Fin (k0_t3_loop arg24).trips), ∀ a, (k0_off616 arg24 k0_t3) a + S1x1024x256.size a ≤ S2x1024x8960.size a := fun arg24 k0_hw49 k0_t3 => k0_hw49.2.2.2.2.2.2.2.2.2.2.2.2.2.2.2.2.2.1.2.2.2.2.2.2.2.2.1 k0_t3
theorem k0_off616_packedfp8e4m3 : ∀ (arg24 : BitVec 32) (k0_hw49 : k0_chk49 arg24) (k0_t3 : Fin (k0_t3_loop arg24).trips), (Rect.unit (s := S2x1024x8960) (k0_off616 arg24 k0_t3) S1x1024x256.size (k0_off616_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.1 k0_t3 (k0_off616_inb arg24 k0_hw49 k0_t3)
theorem k0_off617_inb : ∀ (arg24 : BitVec 32) (k0_hw49 : k0_chk49 arg24) (k0_t3 : Fin (k0_t3_loop arg24).trips), ∀ a, (k0_off617 arg24 k0_t3) a + S1x32x1536.size a ≤ S2x1024x1536.size a := fun arg24 k0_hw49 k0_t3 => k0_hw49.2.2.2.2.2.2.2.2.2.2.2.2.2.2.2.2.2.1.2.2.2.2.2.2.2.2.2.2.1 k0_t3
theorem k0_off617_packedfp8e4m3 : ∀ (arg24 : BitVec 32) (k0_hw49 : k0_chk49 arg24) (k0_t3 : Fin (k0_t3_loop arg24).trips), (Rect.unit (s := S2x1024x1536) (k0_off617 arg24 k0_t3) S1x32x1536.size (k0_off617_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.1 k0_t3 (k0_off617_inb arg24 k0_hw49 k0_t3)
theorem k0_off618_inb : ∀ (arg24 : BitVec 32) (k0_hw49 : k0_chk49 arg24) (k0_t3 : Fin (k0_t3_loop arg24).trips), ∀ a, (k0_off618 arg24 k0_t3) a + S1x1024x256.size a ≤ S2x1024x8960.size a := fun arg24 k0_hw49 k0_t3 => k0_hw49.2.2.2.2.2.2.2.2.2.2.2.2.2.2.2.2.2.1.2.2.2.2.2.2.2.2.2.2.2.2.1 k0_t3
theorem k0_off618_packedfp8e4m3 : ∀ (arg24 : BitVec 32) (k0_hw49 : k0_chk49 arg24) (k0_t3 : Fin (k0_t3_loop arg24).trips), (Rect.unit (s := S2x1024x8960) (k0_off618 arg24 k0_t3) S1x1024x256.size (k0_off618_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.1 k0_t3 (k0_off618_inb arg24 k0_hw49 k0_t3)
theorem k0_off619_inb : ∀ (arg24 : BitVec 32) (k0_hw49 : k0_chk49 arg24) (k0_t3 : Fin (k0_t3_loop arg24).trips), ∀ a, (k0_off619 arg24 k0_t3) a + S1x32x1536.size a ≤ S2x1024x1536.size a := fun arg24 k0_hw49 k0_t3 => k0_hw49.2.2.2.2.2.2.2.2.2.2.2.2.2.2.2.2.2.1.2.2.2.2.2.2.2.2.2.2.2.2.2.2.1 k0_t3
theorem k0_off619_packedfp8e4m3 : ∀ (arg24 : BitVec 32) (k0_hw49 : k0_chk49 arg24) (k0_t3 : Fin (k0_t3_loop arg24).trips), (Rect.unit (s := S2x1024x1536) (k0_off619 arg24 k0_t3) S1x32x1536.size (k0_off619_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.2.2.1 k0_t3 (k0_off619_inb arg24 k0_hw49 k0_t3)
theorem k0_off620_inb : ∀ (arg24 : BitVec 32) (k0_hw49 : k0_chk49 arg24) (k0_t3 : Fin (k0_t3_loop arg24).trips), ∀ a, (k0_off620 arg24 k0_t3) a + S1x1024x256.size a ≤ S2x1024x8960.size a := fun arg24 k0_hw49 k0_t3 => k0_hw49.2.2.2.2.2.2.2.2.2.2.2.2.2.2.2.2.2.1.2.2.2.2.2.2.2.2.2.2.2.2.2.2.2.2.1 k0_t3
theorem k0_off620_packedfp8e4m3 : ∀ (arg24 : BitVec 32) (k0_hw49 : k0_chk49 arg24) (k0_t3 : Fin (k0_t3_loop arg24).trips), (Rect.unit (s := S2x1024x8960) (k0_off620 arg24 k0_t3) S1x1024x256.size (k0_off620_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.2.2.2.2.1 k0_t3 (k0_off620_inb arg24 k0_hw49 k0_t3)
theorem k0_off621_inb : ∀ (arg24 : BitVec 32) (k0_hw49 : k0_chk49 arg24) (k0_t3 : Fin (k0_t3_loop arg24).trips), ∀ a, (k0_off621 arg24 k0_t3) a + S1x32x1536.size a ≤ S2x1024x1536.size a := fun arg24 k0_hw49 k0_t3 => k0_hw49.2.2.2.2.2.2.2.2.2.2.2.2.2.2.2.2.2.1.2.2.2.2.2.2.2.2.2.2.2.2.2.2.2.2.2.2.1 k0_t3
theorem k0_off621_packedfp8e4m3 : ∀ (arg24 : BitVec 32) (k0_hw49 : k0_chk49 arg24) (k0_t3 : Fin (k0_t3_loop arg24).trips), (Rect.unit (s := S2x1024x1536) (k0_off621 arg24 k0_t3) S1x32x1536.size (k0_off621_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.2.2.2.2.2.2.1 k0_t3 (k0_off621_inb arg24 k0_hw49 k0_t3)
theorem k0_off622_inb : ∀ (arg24 : BitVec 32) (k0_hw49 : k0_chk49 arg24) (k0_t3 : Fin (k0_t3_loop arg24).trips), ∀ a, (k0_off622 arg24 k0_t3) a + S1x1024x256.size a ≤ S2x1024x8960.size a := fun arg24 k0_hw49 k0_t3 => k0_hw49.2.2.2.2.2.2.2.2.2.2.2.2.2.2.2.2.2.1.2.2.2.2.2.2.2.2.2.2.2.2.2.2.2.2.2.2.2.2.1 k0_t3
theorem k0_off622_packedfp8e4m3 : ∀ (arg24 : BitVec 32) (k0_hw49 : k0_chk49 arg24) (k0_t3 : Fin (k0_t3_loop arg24).trips), (Rect.unit (s := S2x1024x8960) (k0_off622 arg24 k0_t3) S1x1024x256.size (k0_off622_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.2.2.2.2.2.2.2.2.1 k0_t3 (k0_off622_inb arg24 k0_hw49 k0_t3)
theorem k0_off623_inb : ∀ (arg24 : BitVec 32) (k0_hw49 : k0_chk49 arg24) (k0_t3 : Fin (k0_t3_loop arg24).trips), ∀ a, (k0_off623 arg24 k0_t3) a + S1x32x1536.size a ≤ S2x1024x1536.size a := fun arg24 k0_hw49 k0_t3 => k0_hw49.2.2.2.2.2.2.2.2.2.2.2.2.2.2.2.2.2.1.2.2.2.2.2.2.2.2.2.2.2.2.2.2.2.2.2.2.2.2.2.2.1 k0_t3
theorem k0_off623_packedfp8e4m3 : ∀ (arg24 : BitVec 32) (k0_hw49 : k0_chk49 arg24) (k0_t3 : Fin (k0_t3_loop arg24).trips), (Rect.unit (s := S2x1024x1536) (k0_off623 arg24 k0_t3) S1x32x1536.size (k0_off623_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.2.2.2.2.2.2.2.2.2.2.1 k0_t3 (k0_off623_inb arg24 k0_hw49 k0_t3)
theorem k0_off624_inb : ∀ (arg24 : BitVec 32) (k0_hw49 : k0_chk49 arg24) (k0_t3 : Fin (k0_t3_loop arg24).trips), ∀ a, (k0_off624 arg24 k0_t3) a + S1x1024x256.size a ≤ S2x1024x8960.size a := fun arg24 k0_hw49 k0_t3 => k0_hw49.2.2.2.2.2.2.2.2.2.2.2.2.2.2.2.2.2.1.2.2.2.2.2.2.2.2.2.2.2.2.2.2.2.2.2.2.2.2.2.2.2.2.1 k0_t3
theorem k0_off624_packedfp8e4m3 : ∀ (arg24 : BitVec 32) (k0_hw49 : k0_chk49 arg24) (k0_t3 : Fin (k0_t3_loop arg24).trips), (Rect.unit (s := S2x1024x8960) (k0_off624 arg24 k0_t3) S1x1024x256.size (k0_off624_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.2.2.2.2.2.2.2.2.2.2.2.2.1 k0_t3 (k0_off624_inb arg24 k0_hw49 k0_t3)
theorem k0_off625_inb : ∀ (arg24 : BitVec 32) (k0_hw49 : k0_chk49 arg24) (k0_t3 : Fin (k0_t3_loop arg24).trips), ∀ a, (k0_off625 arg24 k0_t3) a + S1x32x1536.size a ≤ S2x1024x1536.size a := fun arg24 k0_hw49 k0_t3 => k0_hw49.2.2.2.2.2.2.2.2.2.2.2.2.2.2.2.2.2.1.2.2.2.2.2.2.2.2.2.2.2.2.2.2.2.2.2.2.2.2.2.2.2.2.2.2.1 k0_t3
theorem k0_off625_packedfp8e4m3 : ∀ (arg24 : BitVec 32) (k0_hw49 : k0_chk49 arg24) (k0_t3 : Fin (k0_t3_loop arg24).trips), (Rect.unit (s := S2x1024x1536) (k0_off625 arg24 k0_t3) S1x32x1536.size (k0_off625_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.2.2.2.2.2.2.2.2.2.2.2.2.2.2.1 k0_t3 (k0_off625_inb arg24 k0_hw49 k0_t3)
theorem k0_off626_inb : ∀ (arg24 : BitVec 32) (k0_hw49 : k0_chk49 arg24) (k0_t3 : Fin (k0_t3_loop arg24).trips), ∀ a, (k0_off626 arg24 k0_t3) a + S1x1024x256.size a ≤ S2x1024x8960.size a := fun arg24 k0_hw49 k0_t3 => k0_hw49.2.2.2.2.2.2.2.2.2.2.2.2.2.2.2.2.2.1.2.2.2.2.2.2.2.2.2.2.2.2.2.2.2.2.2.2.2.2.2.2.2.2.2.2.2.2.1 k0_t3
theorem k0_off626_packedfp8e4m3 : ∀ (arg24 : BitVec 32) (k0_hw49 : k0_chk49 arg24) (k0_t3 : Fin (k0_t3_loop arg24).trips), (Rect.unit (s := S2x1024x8960) (k0_off626 arg24 k0_t3) S1x1024x256.size (k0_off626_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.2.2.2.2.2.2.2.2.2.2.2.2.2.2.2.2.1 k0_t3 (k0_off626_inb arg24 k0_hw49 k0_t3)
theorem k0_off627_inb : ∀ (arg24 : BitVec 32) (k0_hw49 : k0_chk49 arg24) (k0_t3 : Fin (k0_t3_loop arg24).trips), ∀ a, (k0_off627 arg24 k0_t3) a + S1x32x1536.size a ≤ S2x1024x1536.size a := fun arg24 k0_hw49 k0_t3 => k0_hw49.2.2.2.2.2.2.2.2.2.2.2.2.2.2.2.2.2.1.2.2.2.2.2.2.2.2.2.2.2.2.2.2.2.2.2.2.2.2.2.2.2.2.2.2.2.2.2.2.1 k0_t3
theorem k0_off627_packedfp8e4m3 : ∀ (arg24 : BitVec 32) (k0_hw49 : k0_chk49 arg24) (k0_t3 : Fin (k0_t3_loop arg24).trips), (Rect.unit (s := S2x1024x1536) (k0_off627 arg24 k0_t3) S1x32x1536.size (k0_off627_inb arg24 k0_hw49 k0_t3)).PackedRows (EltTy.packing .fp8e4m3) := fun arg24 k0_hw49 k0_t3 => k0_hw49.2.2.2.2.2.2.2.2.2.2.2.2.2.2.2.2.2.1.2.2.2.2.2.2.2.2.2.2.2.2.2.2.2.2.2.2.2.2.2.2.2.2.2.2.2.2.2.2.2 k0_t3 (k0_off627_inb arg24 k0_hw49 k0_t3)
theorem k0_off628_inb : ∀ (arg24 : BitVec 32) (k0_hw49 : k0_chk49 arg24) (k0_t3 : Fin (k0_t3_loop arg24).trips), ∀ a, (k0_off628 arg24 k0_t3) a + S1x1024x256.size a ≤ S2x1024x8960.size a := fun arg24 k0_hw49 k0_t3 => k0_hw49.2.2.2.2.2.2.2.2.2.2.2.2.2.2.2.2.2.2.1.1 k0_t3
theorem k0_off628_packedfp8e4m3 : ∀ (arg24 : BitVec 32) (k0_hw49 : k0_chk49 arg24) (k0_t3 : Fin (k0_t3_loop arg24).trips), (Rect.unit (s := S2x1024x8960) (k0_off628 arg24 k0_t3) S1x1024x256.size (k0_off628_inb arg24 k0_hw49 k0_t3)).PackedRows (EltTy.packing .fp8e4m3) := fun arg24 k0_hw49 k0_t3 => k0_hw49.2.2.2.2.2.2.2.2.2.2.2.2.2.2.2.2.2.2.1.2.1 k0_t3 (k0_off628_inb arg24 k0_hw49 k0_t3)
theorem k0_off629_inb : ∀ (arg24 : BitVec 32) (k0_hw49 : k0_chk49 arg24) (k0_t3 : Fin (k0_t3_loop arg24).trips), ∀ a, (k0_off629 arg24 k0_t3) a + S1x32x1536.size a ≤ S2x1024x1536.size a := fun arg24 k0_hw49 k0_t3 => k0_hw49.2.2.2.2.2.2.2.2.2.2.2.2.2.2.2.2.2.2.1.2.2.1 k0_t3
theorem k0_off629_packedfp8e4m3 : ∀ (arg24 : BitVec 32) (k0_hw49 : k0_chk49 arg24) (k0_t3 : Fin (k0_t3_loop arg24).trips), (Rect.unit (s := S2x1024x1536) (k0_off629 arg24 k0_t3) S1x32x1536.size (k0_off629_inb arg24 k0_hw49 k0_t3)).PackedRows (EltTy.packing .fp8e4m3) := fun arg24 k0_hw49 k0_t3 => k0_hw49.2.2.2.2.2.2.2.2.2.2.2.2.2.2.2.2.2.2.1.2.2.2.1 k0_t3 (k0_off629_inb arg24 k0_hw49 k0_t3)
theorem k0_off630_inb : ∀ (arg24 : BitVec 32) (k0_hw49 : k0_chk49 arg24) (k0_t3 : Fin (k0_t3_loop arg24).trips), ∀ a, (k0_off630 arg24 k0_t3) a + S1x1024x256.size a ≤ S2x1024x8960.size a := fun arg24 k0_hw49 k0_t3 => k0_hw49.2.2.2.2.2.2.2.2.2.2.2.2.2.2.2.2.2.2.1.2.2.2.2.1 k0_t3
theorem k0_off630_packedfp8e4m3 : ∀ (arg24 : BitVec 32) (k0_hw49 : k0_chk49 arg24) (k0_t3 : Fin (k0_t3_loop arg24).trips), (Rect.unit (s := S2x1024x8960) (k0_off630 arg24 k0_t3) S1x1024x256.size (k0_off630_inb arg24 k0_hw49 k0_t3)).PackedRows (EltTy.packing .fp8e4m3) := fun arg24 k0_hw49 k0_t3 => k0_hw49.2.2.2.2.2.2.2.2.2.2.2.2.2.2.2.2.2.2.1.2.2.2.2.2.1 k0_t3 (k0_off630_inb arg24 k0_hw49 k0_t3)
theorem k0_off631_inb : ∀ (arg24 : BitVec 32) (k0_hw49 : k0_chk49 arg24) (k0_t3 : Fin (k0_t3_loop arg24).trips), ∀ a, (k0_off631 arg24 k0_t3) a + S1x32x1536.size a ≤ S2x1024x1536.size a := fun arg24 k0_hw49 k0_t3 => k0_hw49.2.2.2.2.2.2.2.2.2.2.2.2.2.2.2.2.2.2.1.2.2.2.2.2.2.1 k0_t3
theorem k0_off631_packedfp8e4m3 : ∀ (arg24 : BitVec 32) (k0_hw49 : k0_chk49 arg24) (k0_t3 : Fin (k0_t3_loop arg24).trips), (Rect.unit (s := S2x1024x1536) (k0_off631 arg24 k0_t3) S1x32x1536.size (k0_off631_inb arg24 k0_hw49 k0_t3)).PackedRows (EltTy.packing .fp8e4m3) := fun arg24 k0_hw49 k0_t3 => k0_hw49.2.2.2.2.2.2.2.2.2.2.2.2.2.2.2.2.2.2.1.2.2.2.2.2.2.2.1 k0_t3 (k0_off631_inb arg24 k0_hw49 k0_t3)
theorem k0_off632_inb : ∀ (arg24 : BitVec 32) (k0_hw49 : k0_chk49 arg24) (k0_t3 : Fin (k0_t3_loop arg24).trips), ∀ a, (k0_off632 arg24 k0_t3) a + S1x1024x256.size a ≤ S2x1024x8960.size a := fun arg24 k0_hw49 k0_t3 => k0_hw49.2.2.2.2.2.2.2.2.2.2.2.2.2.2.2.2.2.2.1.2.2.2.2.2.2.2.2.1 k0_t3
theorem k0_off632_packedfp8e4m3 : ∀ (arg24 : BitVec 32) (k0_hw49 : k0_chk49 arg24) (k0_t3 : Fin (k0_t3_loop arg24).trips), (Rect.unit (s := S2x1024x8960) (k0_off632 arg24 k0_t3) S1x1024x256.size (k0_off632_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.1 k0_t3 (k0_off632_inb arg24 k0_hw49 k0_t3)
theorem k0_off633_inb : ∀ (arg24 : BitVec 32) (k0_hw49 : k0_chk49 arg24) (k0_t3 : Fin (k0_t3_loop arg24).trips), ∀ a, (k0_off633 arg24 k0_t3) a + S1x32x1536.size a ≤ S2x1024x1536.size a := fun arg24 k0_hw49 k0_t3 => k0_hw49.2.2.2.2.2.2.2.2.2.2.2.2.2.2.2.2.2.2.1.2.2.2.2.2.2.2.2.2.2.1 k0_t3
theorem k0_off633_packedfp8e4m3 : ∀ (arg24 : BitVec 32) (k0_hw49 : k0_chk49 arg24) (k0_t3 : Fin (k0_t3_loop arg24).trips), (Rect.unit (s := S2x1024x1536) (k0_off633 arg24 k0_t3) S1x32x1536.size (k0_off633_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.1 k0_t3 (k0_off633_inb arg24 k0_hw49 k0_t3)
theorem k0_off634_inb : ∀ (arg24 : BitVec 32) (k0_hw49 : k0_chk49 arg24) (k0_t3 : Fin (k0_t3_loop arg24).trips), ∀ a, (k0_off634 arg24 k0_t3) a + S1x1024x256.size a ≤ S2x1024x8960.size a := fun arg24 k0_hw49 k0_t3 => k0_hw49.2.2.2.2.2.2.2.2.2.2.2.2.2.2.2.2.2.2.1.2.2.2.2.2.2.2.2.2.2.2.2.1 k0_t3
theorem k0_off634_packedfp8e4m3 : ∀ (arg24 : BitVec 32) (k0_hw49 : k0_chk49 arg24) (k0_t3 : Fin (k0_t3_loop arg24).trips), (Rect.unit (s := S2x1024x8960) (k0_off634 arg24 k0_t3) S1x1024x256.size (k0_off634_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.1 k0_t3 (k0_off634_inb arg24 k0_hw49 k0_t3)
theorem k0_off635_inb : ∀ (arg24 : BitVec 32) (k0_hw49 : k0_chk49 arg24) (k0_t3 : Fin (k0_t3_loop arg24).trips), ∀ a, (k0_off635 arg24 k0_t3) a + S1x32x1536.size a ≤ S2x1024x1536.size a := fun arg24 k0_hw49 k0_t3 => k0_hw49.2.2.2.2.2.2.2.2.2.2.2.2.2.2.2.2.2.2.1.2.2.2.2.2.2.2.2.2.2.2.2.2.2.1 k0_t3
theorem k0_off635_packedfp8e4m3 : ∀ (arg24 : BitVec 32) (k0_hw49 : k0_chk49 arg24) (k0_t3 : Fin (k0_t3_loop arg24).trips), (Rect.unit (s := S2x1024x1536) (k0_off635 arg24 k0_t3) S1x32x1536.size (k0_off635_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.2.2.1 k0_t3 (k0_off635_inb arg24 k0_hw49 k0_t3)
theorem k0_off636_inb : ∀ (arg24 : BitVec 32) (k0_hw49 : k0_chk49 arg24) (k0_t3 : Fin (k0_t3_loop arg24).trips), ∀ a, (k0_off636 arg24 k0_t3) a + S1x1024x256.size a ≤ S2x1024x8960.size a := fun arg24 k0_hw49 k0_t3 => k0_hw49.2.2.2.2.2.2.2.2.2.2.2.2.2.2.2.2.2.2.1.2.2.2.2.2.2.2.2.2.2.2.2.2.2.2.2.1 k0_t3
theorem k0_off636_packedfp8e4m3 : ∀ (arg24 : BitVec 32) (k0_hw49 : k0_chk49 arg24) (k0_t3 : Fin (k0_t3_loop arg24).trips), (Rect.unit (s := S2x1024x8960) (k0_off636 arg24 k0_t3) S1x1024x256.size (k0_off636_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.2.2.2.2.1 k0_t3 (k0_off636_inb arg24 k0_hw49 k0_t3)
theorem k0_off637_inb : ∀ (arg24 : BitVec 32) (k0_hw49 : k0_chk49 arg24) (k0_t3 : Fin (k0_t3_loop arg24).trips), ∀ a, (k0_off637 arg24 k0_t3) a + S1x32x1536.size a ≤ S2x1024x1536.size a := fun arg24 k0_hw49 k0_t3 => k0_hw49.2.2.2.2.2.2.2.2.2.2.2.2.2.2.2.2.2.2.1.2.2.2.2.2.2.2.2.2.2.2.2.2.2.2.2.2.2.1 k0_t3
theorem k0_off637_packedfp8e4m3 : ∀ (arg24 : BitVec 32) (k0_hw49 : k0_chk49 arg24) (k0_t3 : Fin (k0_t3_loop arg24).trips), (Rect.unit (s := S2x1024x1536) (k0_off637 arg24 k0_t3) S1x32x1536.size (k0_off637_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.2.2.2.2.2.2.1 k0_t3 (k0_off637_inb arg24 k0_hw49 k0_t3)
theorem k0_off638_inb : ∀ (arg24 : BitVec 32) (k0_hw49 : k0_chk49 arg24) (k0_t3 : Fin (k0_t3_loop arg24).trips), ∀ a, (k0_off638 arg24 k0_t3) a + S1x1024x256.size a ≤ S2x1024x8960.size a := fun arg24 k0_hw49 k0_t3 => k0_hw49.2.2.2.2.2.2.2.2.2.2.2.2.2.2.2.2.2.2.1.2.2.2.2.2.2.2.2.2.2.2.2.2.2.2.2.2.2.2.2.1 k0_t3
theorem k0_off638_packedfp8e4m3 : ∀ (arg24 : BitVec 32) (k0_hw49 : k0_chk49 arg24) (k0_t3 : Fin (k0_t3_loop arg24).trips), (Rect.unit (s := S2x1024x8960) (k0_off638 arg24 k0_t3) S1x1024x256.size (k0_off638_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.2.2.2.2.2.2.2.2.1 k0_t3 (k0_off638_inb arg24 k0_hw49 k0_t3)
theorem k0_off639_inb : ∀ (arg24 : BitVec 32) (k0_hw49 : k0_chk49 arg24) (k0_t3 : Fin (k0_t3_loop arg24).trips), ∀ a, (k0_off639 arg24 k0_t3) a + S1x32x1536.size a ≤ S2x1024x1536.size a := fun arg24 k0_hw49 k0_t3 => k0_hw49.2.2.2.2.2.2.2.2.2.2.2.2.2.2.2.2.2.2.1.2.2.2.2.2.2.2.2.2.2.2.2.2.2.2.2.2.2.2.2.2.2.1 k0_t3
theorem k0_off639_packedfp8e4m3 : ∀ (arg24 : BitVec 32) (k0_hw49 : k0_chk49 arg24) (k0_t3 : Fin (k0_t3_loop arg24).trips), (Rect.unit (s := S2x1024x1536) (k0_off639 arg24 k0_t3) S1x32x1536.size (k0_off639_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.2.2.2.2.2.2.2.2.2.2.1 k0_t3 (k0_off639_inb arg24 k0_hw49 k0_t3)
theorem k0_off640_inb : ∀ (arg24 : BitVec 32) (k0_hw49 : k0_chk49 arg24) (k0_t3 : Fin (k0_t3_loop arg24).trips), ∀ a, (k0_off640 arg24 k0_t3) a + S1x1024x256.size a ≤ S2x1024x8960.size a := fun arg24 k0_hw49 k0_t3 => k0_hw49.2.2.2.2.2.2.2.2.2.2.2.2.2.2.2.2.2.2.1.2.2.2.2.2.2.2.2.2.2.2.2.2.2.2.2.2.2.2.2.2.2.2.2.1 k0_t3
theorem k0_off640_packedfp8e4m3 : ∀ (arg24 : BitVec 32) (k0_hw49 : k0_chk49 arg24) (k0_t3 : Fin (k0_t3_loop arg24).trips), (Rect.unit (s := S2x1024x8960) (k0_off640 arg24 k0_t3) S1x1024x256.size (k0_off640_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.2.2.2.2.2.2.2.2.2.2.2.2.1 k0_t3 (k0_off640_inb arg24 k0_hw49 k0_t3)
theorem k0_off641_inb : ∀ (arg24 : BitVec 32) (k0_hw49 : k0_chk49 arg24) (k0_t3 : Fin (k0_t3_loop arg24).trips), ∀ a, (k0_off641 arg24 k0_t3) a + S1x32x1536.size a ≤ S2x1024x1536.size a := fun arg24 k0_hw49 k0_t3 => k0_hw49.2.2.2.2.2.2.2.2.2.2.2.2.2.2.2.2.2.2.1.2.2.2.2.2.2.2.2.2.2.2.2.2.2.2.2.2.2.2.2.2.2.2.2.2.2.1 k0_t3
theorem k0_off641_packedfp8e4m3 : ∀ (arg24 : BitVec 32) (k0_hw49 : k0_chk49 arg24) (k0_t3 : Fin (k0_t3_loop arg24).trips), (Rect.unit (s := S2x1024x1536) (k0_off641 arg24 k0_t3) S1x32x1536.size (k0_off641_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.2.2.2.2.2.2.2.2.2.2.2.2.2.2.1 k0_t3 (k0_off641_inb arg24 k0_hw49 k0_t3)
theorem k0_off642_inb : ∀ (arg24 : BitVec 32) (k0_hw49 : k0_chk49 arg24) (k0_t3 : Fin (k0_t3_loop arg24).trips), ∀ a, (k0_off642 arg24 k0_t3) a + S1x1024x256.size a ≤ S2x1024x8960.size a := fun arg24 k0_hw49 k0_t3 => k0_hw49.2.2.2.2.2.2.2.2.2.2.2.2.2.2.2.2.2.2.1.2.2.2.2.2.2.2.2.2.2.2.2.2.2.2.2.2.2.2.2.2.2.2.2.2.2.2.2.1 k0_t3
theorem k0_off642_packedfp8e4m3 : ∀ (arg24 : BitVec 32) (k0_hw49 : k0_chk49 arg24) (k0_t3 : Fin (k0_t3_loop arg24).trips), (Rect.unit (s := S2x1024x8960) (k0_off642 arg24 k0_t3) S1x1024x256.size (k0_off642_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.2.2.2.2.2.2.2.2.2.2.2.2.2.2.2.2.1 k0_t3 (k0_off642_inb arg24 k0_hw49 k0_t3)
theorem k0_off643_inb : ∀ (arg24 : BitVec 32) (k0_hw49 : k0_chk49 arg24) (k0_t3 : Fin (k0_t3_loop arg24).trips), ∀ a, (k0_off643 arg24 k0_t3) a + S1x32x1536.size a ≤ S2x1024x1536.size a := fun arg24 k0_hw49 k0_t3 => k0_hw49.2.2.2.2.2.2.2.2.2.2.2.2.2.2.2.2.2.2.1.2.2.2.2.2.2.2.2.2.2.2.2.2.2.2.2.2.2.2.2.2.2.2.2.2.2.2.2.2.2.1 k0_t3
theorem k0_off643_packedfp8e4m3 : ∀ (arg24 : BitVec 32) (k0_hw49 : k0_chk49 arg24) (k0_t3 : Fin (k0_t3_loop arg24).trips), (Rect.unit (s := S2x1024x1536) (k0_off643 arg24 k0_t3) S1x32x1536.size (k0_off643_inb arg24 k0_hw49 k0_t3)).PackedRows (EltTy.packing .fp8e4m3) := fun arg24 k0_hw49 k0_t3 => k0_hw49.2.2.2.2.2.2.2.2.2.2.2.2.2.2.2.2.2.2.1.2.2.2.2.2.2.2.2.2.2.2.2.2.2.2.2.2.2.2.2.2.2.2.2.2.2.2.2.2.2.2 k0_t3 (k0_off643_inb arg24 k0_hw49 k0_t3)
theorem k0_off644_inb : ∀ (arg24 : BitVec 32) (k0_hw49 : k0_chk49 arg24) (k0_t3 : Fin (k0_t3_loop arg24).trips), ∀ a, (k0_off644 arg24 k0_t3) a + S1x1024x256.size a ≤ S2x1024x8960.size a := fun arg24 k0_hw49 k0_t3 => k0_hw49.2.2.2.2.2.2.2.2.2.2.2.2.2.2.2.2.2.2.2.1.1 k0_t3
theorem k0_off644_packedfp8e4m3 : ∀ (arg24 : BitVec 32) (k0_hw49 : k0_chk49 arg24) (k0_t3 : Fin (k0_t3_loop arg24).trips), (Rect.unit (s := S2x1024x8960) (k0_off644 arg24 k0_t3) S1x1024x256.size (k0_off644_inb arg24 k0_hw49 k0_t3)).PackedRows (EltTy.packing .fp8e4m3) := fun arg24 k0_hw49 k0_t3 => k0_hw49.2.2.2.2.2.2.2.2.2.2.2.2.2.2.2.2.2.2.2.1.2.1 k0_t3 (k0_off644_inb arg24 k0_hw49 k0_t3)
theorem k0_off645_inb : ∀ (arg24 : BitVec 32) (k0_hw49 : k0_chk49 arg24) (k0_t3 : Fin (k0_t3_loop arg24).trips), ∀ a, (k0_off645 arg24 k0_t3) a + S1x32x1536.size a ≤ S2x1024x1536.size a := fun arg24 k0_hw49 k0_t3 => k0_hw49.2.2.2.2.2.2.2.2.2.2.2.2.2.2.2.2.2.2.2.1.2.2.1 k0_t3
theorem k0_off645_packedfp8e4m3 : ∀ (arg24 : BitVec 32) (k0_hw49 : k0_chk49 arg24) (k0_t3 : Fin (k0_t3_loop arg24).trips), (Rect.unit (s := S2x1024x1536) (k0_off645 arg24 k0_t3) S1x32x1536.size (k0_off645_inb arg24 k0_hw49 k0_t3)).PackedRows (EltTy.packing .fp8e4m3) := fun arg24 k0_hw49 k0_t3 => k0_hw49.2.2.2.2.2.2.2.2.2.2.2.2.2.2.2.2.2.2.2.1.2.2.2.1 k0_t3 (k0_off645_inb arg24 k0_hw49 k0_t3)
theorem k0_off646_inb : ∀ (arg24 : BitVec 32) (k0_hw49 : k0_chk49 arg24) (k0_t3 : Fin (k0_t3_loop arg24).trips), ∀ a, (k0_off646 arg24 k0_t3) a + S1x1024x256.size a ≤ S2x1024x8960.size a := fun arg24 k0_hw49 k0_t3 => k0_hw49.2.2.2.2.2.2.2.2.2.2.2.2.2.2.2.2.2.2.2.1.2.2.2.2.1 k0_t3
theorem k0_off646_packedfp8e4m3 : ∀ (arg24 : BitVec 32) (k0_hw49 : k0_chk49 arg24) (k0_t3 : Fin (k0_t3_loop arg24).trips), (Rect.unit (s := S2x1024x8960) (k0_off646 arg24 k0_t3) S1x1024x256.size (k0_off646_inb arg24 k0_hw49 k0_t3)).PackedRows (EltTy.packing .fp8e4m3) := fun arg24 k0_hw49 k0_t3 => k0_hw49.2.2.2.2.2.2.2.2.2.2.2.2.2.2.2.2.2.2.2.1.2.2.2.2.2.1 k0_t3 (k0_off646_inb arg24 k0_hw49 k0_t3)
theorem k0_off647_inb : ∀ (arg24 : BitVec 32) (k0_hw49 : k0_chk49 arg24) (k0_t3 : Fin (k0_t3_loop arg24).trips), ∀ a, (k0_off647 arg24 k0_t3) a + S1x32x1536.size a ≤ S2x1024x1536.size a := fun arg24 k0_hw49 k0_t3 => k0_hw49.2.2.2.2.2.2.2.2.2.2.2.2.2.2.2.2.2.2.2.1.2.2.2.2.2.2.1 k0_t3
theorem k0_off647_packedfp8e4m3 : ∀ (arg24 : BitVec 32) (k0_hw49 : k0_chk49 arg24) (k0_t3 : Fin (k0_t3_loop arg24).trips), (Rect.unit (s := S2x1024x1536) (k0_off647 arg24 k0_t3) S1x32x1536.size (k0_off647_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.1 k0_t3 (k0_off647_inb arg24 k0_hw49 k0_t3)
theorem k0_off648_inb : ∀ (arg24 : BitVec 32) (k0_hw49 : k0_chk49 arg24) (k0_t3 : Fin (k0_t3_loop arg24).trips), ∀ a, (k0_off648 arg24 k0_t3) a + S1x1024x256.size a ≤ S2x1024x8960.size a := fun arg24 k0_hw49 k0_t3 => k0_hw49.2.2.2.2.2.2.2.2.2.2.2.2.2.2.2.2.2.2.2.1.2.2.2.2.2.2.2.2.1 k0_t3
theorem k0_off648_packedfp8e4m3 : ∀ (arg24 : BitVec 32) (k0_hw49 : k0_chk49 arg24) (k0_t3 : Fin (k0_t3_loop arg24).trips), (Rect.unit (s := S2x1024x8960) (k0_off648 arg24 k0_t3) S1x1024x256.size (k0_off648_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.1 k0_t3 (k0_off648_inb arg24 k0_hw49 k0_t3)
theorem k0_off649_inb : ∀ (arg24 : BitVec 32) (k0_hw49 : k0_chk49 arg24) (k0_t3 : Fin (k0_t3_loop arg24).trips), ∀ a, (k0_off649 arg24 k0_t3) a + S1x32x1536.size a ≤ S2x1024x1536.size a := fun arg24 k0_hw49 k0_t3 => k0_hw49.2.2.2.2.2.2.2.2.2.2.2.2.2.2.2.2.2.2.2.1.2.2.2.2.2.2.2.2.2.2.1 k0_t3
theorem k0_off649_packedfp8e4m3 : ∀ (arg24 : BitVec 32) (k0_hw49 : k0_chk49 arg24) (k0_t3 : Fin (k0_t3_loop arg24).trips), (Rect.unit (s := S2x1024x1536) (k0_off649 arg24 k0_t3) S1x32x1536.size (k0_off649_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.1 k0_t3 (k0_off649_inb arg24 k0_hw49 k0_t3)
theorem k0_off650_inb : ∀ (arg24 : BitVec 32) (k0_hw49 : k0_chk49 arg24) (k0_t3 : Fin (k0_t3_loop arg24).trips), ∀ a, (k0_off650 arg24 k0_t3) a + S1x1024x256.size a ≤ S2x1024x8960.size a := fun arg24 k0_hw49 k0_t3 => k0_hw49.2.2.2.2.2.2.2.2.2.2.2.2.2.2.2.2.2.2.2.1.2.2.2.2.2.2.2.2.2.2.2.2.1 k0_t3
theorem k0_off650_packedfp8e4m3 : ∀ (arg24 : BitVec 32) (k0_hw49 : k0_chk49 arg24) (k0_t3 : Fin (k0_t3_loop arg24).trips), (Rect.unit (s := S2x1024x8960) (k0_off650 arg24 k0_t3) S1x1024x256.size (k0_off650_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.1 k0_t3 (k0_off650_inb arg24 k0_hw49 k0_t3)
theorem k0_off651_inb : ∀ (arg24 : BitVec 32) (k0_hw49 : k0_chk49 arg24) (k0_t3 : Fin (k0_t3_loop arg24).trips), ∀ a, (k0_off651 arg24 k0_t3) a + S1x32x1536.size a ≤ S2x1024x1536.size a := fun arg24 k0_hw49 k0_t3 => k0_hw49.2.2.2.2.2.2.2.2.2.2.2.2.2.2.2.2.2.2.2.1.2.2.2.2.2.2.2.2.2.2.2.2.2.2.1 k0_t3
theorem k0_off651_packedfp8e4m3 : ∀ (arg24 : BitVec 32) (k0_hw49 : k0_chk49 arg24) (k0_t3 : Fin (k0_t3_loop arg24).trips), (Rect.unit (s := S2x1024x1536) (k0_off651 arg24 k0_t3) S1x32x1536.size (k0_off651_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.2.2.1 k0_t3 (k0_off651_inb arg24 k0_hw49 k0_t3)
theorem k0_off652_inb : ∀ (arg24 : BitVec 32) (k0_hw49 : k0_chk49 arg24) (k0_t3 : Fin (k0_t3_loop arg24).trips), ∀ a, (k0_off652 arg24 k0_t3) a + S1x1024x256.size a ≤ S2x1024x8960.size a := fun arg24 k0_hw49 k0_t3 => k0_hw49.2.2.2.2.2.2.2.2.2.2.2.2.2.2.2.2.2.2.2.1.2.2.2.2.2.2.2.2.2.2.2.2.2.2.2.2.1 k0_t3
theorem k0_off652_packedfp8e4m3 : ∀ (arg24 : BitVec 32) (k0_hw49 : k0_chk49 arg24) (k0_t3 : Fin (k0_t3_loop arg24).trips), (Rect.unit (s := S2x1024x8960) (k0_off652 arg24 k0_t3) S1x1024x256.size (k0_off652_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.2.2.2.2.1 k0_t3 (k0_off652_inb arg24 k0_hw49 k0_t3)
theorem k0_off653_inb : ∀ (arg24 : BitVec 32) (k0_hw49 : k0_chk49 arg24) (k0_t3 : Fin (k0_t3_loop arg24).trips), ∀ a, (k0_off653 arg24 k0_t3) a + S1x32x1536.size a ≤ S2x1024x1536.size a := fun arg24 k0_hw49 k0_t3 => k0_hw49.2.2.2.2.2.2.2.2.2.2.2.2.2.2.2.2.2.2.2.1.2.2.2.2.2.2.2.2.2.2.2.2.2.2.2.2.2.2.1 k0_t3
theorem k0_off653_packedfp8e4m3 : ∀ (arg24 : BitVec 32) (k0_hw49 : k0_chk49 arg24) (k0_t3 : Fin (k0_t3_loop arg24).trips), (Rect.unit (s := S2x1024x1536) (k0_off653 arg24 k0_t3) S1x32x1536.size (k0_off653_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.2.2.2.2.2.2.1 k0_t3 (k0_off653_inb arg24 k0_hw49 k0_t3)
theorem k0_off654_inb : ∀ (arg24 : BitVec 32) (k0_hw49 : k0_chk49 arg24) (k0_t3 : Fin (k0_t3_loop arg24).trips), ∀ a, (k0_off654 arg24 k0_t3) a + S1x1024x256.size a ≤ S2x1024x8960.size a := fun arg24 k0_hw49 k0_t3 => k0_hw49.2.2.2.2.2.2.2.2.2.2.2.2.2.2.2.2.2.2.2.1.2.2.2.2.2.2.2.2.2.2.2.2.2.2.2.2.2.2.2.2.1 k0_t3
theorem k0_off654_packedfp8e4m3 : ∀ (arg24 : BitVec 32) (k0_hw49 : k0_chk49 arg24) (k0_t3 : Fin (k0_t3_loop arg24).trips), (Rect.unit (s := S2x1024x8960) (k0_off654 arg24 k0_t3) S1x1024x256.size (k0_off654_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.2.2.2.2.2.2.2.2.1 k0_t3 (k0_off654_inb arg24 k0_hw49 k0_t3)
theorem k0_off655_inb : ∀ (arg24 : BitVec 32) (k0_hw49 : k0_chk49 arg24) (k0_t3 : Fin (k0_t3_loop arg24).trips), ∀ a, (k0_off655 arg24 k0_t3) a + S1x32x1536.size a ≤ S2x1024x1536.size a := fun arg24 k0_hw49 k0_t3 => k0_hw49.2.2.2.2.2.2.2.2.2.2.2.2.2.2.2.2.2.2.2.1.2.2.2.2.2.2.2.2.2.2.2.2.2.2.2.2.2.2.2.2.2.2.1 k0_t3
theorem k0_off655_packedfp8e4m3 : ∀ (arg24 : BitVec 32) (k0_hw49 : k0_chk49 arg24) (k0_t3 : Fin (k0_t3_loop arg24).trips), (Rect.unit (s := S2x1024x1536) (k0_off655 arg24 k0_t3) S1x32x1536.size (k0_off655_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.2.2.2.2.2.2.2.2.2.2.1 k0_t3 (k0_off655_inb arg24 k0_hw49 k0_t3)
theorem k0_off656_inb : ∀ (arg24 : BitVec 32) (k0_hw49 : k0_chk49 arg24) (k0_t3 : Fin (k0_t3_loop arg24).trips), ∀ a, (k0_off656 arg24 k0_t3) a + S1x1024x256.size a ≤ S2x1024x8960.size a := fun arg24 k0_hw49 k0_t3 => k0_hw49.2.2.2.2.2.2.2.2.2.2.2.2.2.2.2.2.2.2.2.1.2.2.2.2.2.2.2.2.2.2.2.2.2.2.2.2.2.2.2.2.2.2.2.2.1 k0_t3
theorem k0_off656_packedfp8e4m3 : ∀ (arg24 : BitVec 32) (k0_hw49 : k0_chk49 arg24) (k0_t3 : Fin (k0_t3_loop arg24).trips), (Rect.unit (s := S2x1024x8960) (k0_off656 arg24 k0_t3) S1x1024x256.size (k0_off656_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.2.2.2.2.2.2.2.2.2.2.2.2.1 k0_t3 (k0_off656_inb arg24 k0_hw49 k0_t3)
theorem k0_off657_inb : ∀ (arg24 : BitVec 32) (k0_hw49 : k0_chk49 arg24) (k0_t3 : Fin (k0_t3_loop arg24).trips), ∀ a, (k0_off657 arg24 k0_t3) a + S1x32x1536.size a ≤ S2x1024x1536.size a := fun arg24 k0_hw49 k0_t3 => k0_hw49.2.2.2.2.2.2.2.2.2.2.2.2.2.2.2.2.2.2.2.1.2.2.2.2.2.2.2.2.2.2.2.2.2.2.2.2.2.2.2.2.2.2.2.2.2.2.1 k0_t3
theorem k0_off657_packedfp8e4m3 : ∀ (arg24 : BitVec 32) (k0_hw49 : k0_chk49 arg24) (k0_t3 : Fin (k0_t3_loop arg24).trips), (Rect.unit (s := S2x1024x1536) (k0_off657 arg24 k0_t3) S1x32x1536.size (k0_off657_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.2.2.2.2.2.2.2.2.2.2.2.2.2.2.1 k0_t3 (k0_off657_inb arg24 k0_hw49 k0_t3)
theorem k0_off658_inb : ∀ (arg24 : BitVec 32) (k0_hw49 : k0_chk49 arg24) (k0_t3 : Fin (k0_t3_loop arg24).trips), ∀ a, (k0_off658 arg24 k0_t3) a + S1x1024x256.size a ≤ S2x1024x8960.size a := fun arg24 k0_hw49 k0_t3 => k0_hw49.2.2.2.2.2.2.2.2.2.2.2.2.2.2.2.2.2.2.2.1.2.2.2.2.2.2.2.2.2.2.2.2.2.2.2.2.2.2.2.2.2.2.2.2.2.2.2.2.1 k0_t3
theorem k0_off658_packedfp8e4m3 : ∀ (arg24 : BitVec 32) (k0_hw49 : k0_chk49 arg24) (k0_t3 : Fin (k0_t3_loop arg24).trips), (Rect.unit (s := S2x1024x8960) (k0_off658 arg24 k0_t3) S1x1024x256.size (k0_off658_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.2.2.2.2.2.2.2.2.2.2.2.2.2.2.2.2.1 k0_t3 (k0_off658_inb arg24 k0_hw49 k0_t3)
theorem k0_off659_inb : ∀ (arg24 : BitVec 32) (k0_hw49 : k0_chk49 arg24) (k0_t3 : Fin (k0_t3_loop arg24).trips), ∀ a, (k0_off659 arg24 k0_t3) a + S1x32x1536.size a ≤ S2x1024x1536.size a := fun arg24 k0_hw49 k0_t3 => k0_hw49.2.2.2.2.2.2.2.2.2.2.2.2.2.2.2.2.2.2.2.1.2.2.2.2.2.2.2.2.2.2.2.2.2.2.2.2.2.2.2.2.2.2.2.2.2.2.2.2.2.2.1 k0_t3
theorem k0_off659_packedfp8e4m3 : ∀ (arg24 : BitVec 32) (k0_hw49 : k0_chk49 arg24) (k0_t3 : Fin (k0_t3_loop arg24).trips), (Rect.unit (s := S2x1024x1536) (k0_off659 arg24 k0_t3) S1x32x1536.size (k0_off659_inb arg24 k0_hw49 k0_t3)).PackedRows (EltTy.packing .fp8e4m3) := fun arg24 k0_hw49 k0_t3 => k0_hw49.2.2.2.2.2.2.2.2.2.2.2.2.2.2.2.2.2.2.2.1.2.2.2.2.2.2.2.2.2.2.2.2.2.2.2.2.2.2.2.2.2.2.2.2.2.2.2.2.2.2.2 k0_t3 (k0_off659_inb arg24 k0_hw49 k0_t3)
theorem k0_off660_inb : ∀ (arg24 : BitVec 32) (k0_hw49 : k0_chk49 arg24) (k0_t3 : Fin (k0_t3_loop arg24).trips), ∀ a, (k0_off660 arg24 k0_t3) a + S1x1024x256.size a ≤ S2x1024x8960.size a := fun arg24 k0_hw49 k0_t3 => k0_hw49.2.2.2.2.2.2.2.2.2.2.2.2.2.2.2.2.2.2.2.2.1.1 k0_t3
theorem k0_off660_packedfp8e4m3 : ∀ (arg24 : BitVec 32) (k0_hw49 : k0_chk49 arg24) (k0_t3 : Fin (k0_t3_loop arg24).trips), (Rect.unit (s := S2x1024x8960) (k0_off660 arg24 k0_t3) S1x1024x256.size (k0_off660_inb arg24 k0_hw49 k0_t3)).PackedRows (EltTy.packing .fp8e4m3) := fun arg24 k0_hw49 k0_t3 => k0_hw49.2.2.2.2.2.2.2.2.2.2.2.2.2.2.2.2.2.2.2.2.1.2.1 k0_t3 (k0_off660_inb arg24 k0_hw49 k0_t3)
theorem k0_off661_inb : ∀ (arg24 : BitVec 32) (k0_hw49 : k0_chk49 arg24) (k0_t3 : Fin (k0_t3_loop arg24).trips), ∀ a, (k0_off661 arg24 k0_t3) a + S1x32x1536.size a ≤ S2x1024x1536.size a := fun arg24 k0_hw49 k0_t3 => k0_hw49.2.2.2.2.2.2.2.2.2.2.2.2.2.2.2.2.2.2.2.2.1.2.2.1 k0_t3
theorem k0_off661_packedfp8e4m3 : ∀ (arg24 : BitVec 32) (k0_hw49 : k0_chk49 arg24) (k0_t3 : Fin (k0_t3_loop arg24).trips), (Rect.unit (s := S2x1024x1536) (k0_off661 arg24 k0_t3) S1x32x1536.size (k0_off661_inb arg24 k0_hw49 k0_t3)).PackedRows (EltTy.packing .fp8e4m3) := fun arg24 k0_hw49 k0_t3 => k0_hw49.2.2.2.2.2.2.2.2.2.2.2.2.2.2.2.2.2.2.2.2.1.2.2.2.1 k0_t3 (k0_off661_inb arg24 k0_hw49 k0_t3)
theorem k0_off662_inb : ∀ (arg24 : BitVec 32) (k0_hw49 : k0_chk49 arg24) (k0_t3 : Fin (k0_t3_loop arg24).trips), ∀ a, (k0_off662 arg24 k0_t3) a + S1x1024x256.size a ≤ S2x1024x8960.size a := fun arg24 k0_hw49 k0_t3 => k0_hw49.2.2.2.2.2.2.2.2.2.2.2.2.2.2.2.2.2.2.2.2.1.2.2.2.2.1 k0_t3
theorem k0_off662_packedfp8e4m3 : ∀ (arg24 : BitVec 32) (k0_hw49 : k0_chk49 arg24) (k0_t3 : Fin (k0_t3_loop arg24).trips), (Rect.unit (s := S2x1024x8960) (k0_off662 arg24 k0_t3) S1x1024x256.size (k0_off662_inb arg24 k0_hw49 k0_t3)).PackedRows (EltTy.packing .fp8e4m3) := fun arg24 k0_hw49 k0_t3 => k0_hw49.2.2.2.2.2.2.2.2.2.2.2.2.2.2.2.2.2.2.2.2.1.2.2.2.2.2.1 k0_t3 (k0_off662_inb arg24 k0_hw49 k0_t3)
theorem k0_off663_inb : ∀ (arg24 : BitVec 32) (k0_hw49 : k0_chk49 arg24) (k0_t3 : Fin (k0_t3_loop arg24).trips), ∀ a, (k0_off663 arg24 k0_t3) a + S1x32x1536.size a ≤ S2x1024x1536.size a := fun arg24 k0_hw49 k0_t3 => k0_hw49.2.2.2.2.2.2.2.2.2.2.2.2.2.2.2.2.2.2.2.2.1.2.2.2.2.2.2.1 k0_t3
theorem k0_off663_packedfp8e4m3 : ∀ (arg24 : BitVec 32) (k0_hw49 : k0_chk49 arg24) (k0_t3 : Fin (k0_t3_loop arg24).trips), (Rect.unit (s := S2x1024x1536) (k0_off663 arg24 k0_t3) S1x32x1536.size (k0_off663_inb arg24 k0_hw49 k0_t3)).PackedRows (EltTy.packing .fp8e4m3) := fun arg24 k0_hw49 k0_t3 => k0_hw49.2.2.2.2.2.2.2.2.2.2.2.2.2.2.2.2.2.2.2.2.1.2.2.2.2.2.2.2.1 k0_t3 (k0_off663_inb arg24 k0_hw49 k0_t3)
theorem k0_off664_inb : ∀ (arg24 : BitVec 32) (k0_hw49 : k0_chk49 arg24) (k0_t3 : Fin (k0_t3_loop arg24).trips), ∀ a, (k0_off664 arg24 k0_t3) a + S1x1024x256.size a ≤ S2x1024x8960.size a := fun arg24 k0_hw49 k0_t3 => k0_hw49.2.2.2.2.2.2.2.2.2.2.2.2.2.2.2.2.2.2.2.2.1.2.2.2.2.2.2.2.2.1 k0_t3
theorem k0_off664_packedfp8e4m3 : ∀ (arg24 : BitVec 32) (k0_hw49 : k0_chk49 arg24) (k0_t3 : Fin (k0_t3_loop arg24).trips), (Rect.unit (s := S2x1024x8960) (k0_off664 arg24 k0_t3) S1x1024x256.size (k0_off664_inb arg24 k0_hw49 k0_t3)).PackedRows (EltTy.packing .fp8e4m3) := fun arg24 k0_hw49 k0_t3 => k0_hw49.2.2.2.2.2.2.2.2.2.2.2.2.2.2.2.2.2.2.2.2.1.2.2.2.2.2.2.2.2.2.1 k0_t3 (k0_off664_inb arg24 k0_hw49 k0_t3)
theorem k0_off665_inb : ∀ (arg24 : BitVec 32) (k0_hw49 : k0_chk49 arg24) (k0_t3 : Fin (k0_t3_loop arg24).trips), ∀ a, (k0_off665 arg24 k0_t3) a + S1x32x1536.size a ≤ S2x1024x1536.size a := fun arg24 k0_hw49 k0_t3 => k0_hw49.2.2.2.2.2.2.2.2.2.2.2.2.2.2.2.2.2.2.2.2.1.2.2.2.2.2.2.2.2.2.2.1 k0_t3
theorem k0_off665_packedfp8e4m3 : ∀ (arg24 : BitVec 32) (k0_hw49 : k0_chk49 arg24) (k0_t3 : Fin (k0_t3_loop arg24).trips), (Rect.unit (s := S2x1024x1536) (k0_off665 arg24 k0_t3) S1x32x1536.size (k0_off665_inb arg24 k0_hw49 k0_t3)).PackedRows (EltTy.packing .fp8e4m3) := fun arg24 k0_hw49 k0_t3 => k0_hw49.2.2.2.2.2.2.2.2.2.2.2.2.2.2.2.2.2.2.2.2.1.2.2.2.2.2.2.2.2.2.2.2.1 k0_t3 (k0_off665_inb arg24 k0_hw49 k0_t3)
theorem k0_off666_inb : ∀ (arg24 : BitVec 32) (k0_hw49 : k0_chk49 arg24) (k0_t3 : Fin (k0_t3_loop arg24).trips), ∀ a, (k0_off666 arg24 k0_t3) a + S1x1024x256.size a ≤ S2x1024x8960.size a := fun arg24 k0_hw49 k0_t3 => k0_hw49.2.2.2.2.2.2.2.2.2.2.2.2.2.2.2.2.2.2.2.2.1.2.2.2.2.2.2.2.2.2.2.2.2.1 k0_t3
theorem k0_off666_packedfp8e4m3 : ∀ (arg24 : BitVec 32) (k0_hw49 : k0_chk49 arg24) (k0_t3 : Fin (k0_t3_loop arg24).trips), (Rect.unit (s := S2x1024x8960) (k0_off666 arg24 k0_t3) S1x1024x256.size (k0_off666_inb arg24 k0_hw49 k0_t3)).PackedRows (EltTy.packing .fp8e4m3) := fun arg24 k0_hw49 k0_t3 => k0_hw49.2.2.2.2.2.2.2.2.2.2.2.2.2.2.2.2.2.2.2.2.1.2.2.2.2.2.2.2.2.2.2.2.2.2.1 k0_t3 (k0_off666_inb arg24 k0_hw49 k0_t3)
theorem k0_off667_inb : ∀ (arg24 : BitVec 32) (k0_hw49 : k0_chk49 arg24) (k0_t3 : Fin (k0_t3_loop arg24).trips), ∀ a, (k0_off667 arg24 k0_t3) a + S1x1024x256.size a ≤ S2x1024x8960.size a := fun arg24 k0_hw49 k0_t3 => k0_hw49.2.2.2.2.2.2.2.2.2.2.2.2.2.2.2.2.2.2.2.2.1.2.2.2.2.2.2.2.2.2.2.2.2.2.2.1 k0_t3
theorem k0_off667_packedfp8e4m3 : ∀ (arg24 : BitVec 32) (k0_hw49 : k0_chk49 arg24) (k0_t3 : Fin (k0_t3_loop arg24).trips), (Rect.unit (s := S2x1024x8960) (k0_off667 arg24 k0_t3) S1x1024x256.size (k0_off667_inb arg24 k0_hw49 k0_t3)).PackedRows (EltTy.packing .fp8e4m3) := fun arg24 k0_hw49 k0_t3 => k0_hw49.2.2.2.2.2.2.2.2.2.2.2.2.2.2.2.2.2.2.2.2.1.2.2.2.2.2.2.2.2.2.2.2.2.2.2.2.1 k0_t3 (k0_off667_inb arg24 k0_hw49 k0_t3)
theorem k0_off668_inb : ∀ (arg24 : BitVec 32) (k0_hw49 : k0_chk49 arg24) (k0_t3 : Fin (k0_t3_loop arg24).trips), ∀ a, (k0_off668 arg24 k0_t3) a + S1x1024x256.size a ≤ S2x1024x8960.size a := fun arg24 k0_hw49 k0_t3 => k0_hw49.2.2.2.2.2.2.2.2.2.2.2.2.2.2.2.2.2.2.2.2.1.2.2.2.2.2.2.2.2.2.2.2.2.2.2.2.2.1 k0_t3
theorem k0_off668_packedfp8e4m3 : ∀ (arg24 : BitVec 32) (k0_hw49 : k0_chk49 arg24) (k0_t3 : Fin (k0_t3_loop arg24).trips), (Rect.unit (s := S2x1024x8960) (k0_off668 arg24 k0_t3) S1x1024x256.size (k0_off668_inb arg24 k0_hw49 k0_t3)).PackedRows (EltTy.packing .fp8e4m3) := fun arg24 k0_hw49 k0_t3 => k0_hw49.2.2.2.2.2.2.2.2.2.2.2.2.2.2.2.2.2.2.2.2.1.2.2.2.2.2.2.2.2.2.2.2.2.2.2.2.2.2.1 k0_t3 (k0_off668_inb arg24 k0_hw49 k0_t3)
theorem k0_off669_inb : ∀ (arg24 : BitVec 32) (k0_hw49 : k0_chk49 arg24), ∀ (k0_h11 : k0_cond11 arg24 = 1#1), ∀ a, (k0_off669 arg24) a + S1.size a ≤ S40.size a := fun arg24 k0_hw49 k0_h11 => k0_hw49.2.2.2.2.2.2.2.2.2.2.2.2.2.2.2.2.2.2.2.2.1.2.2.2.2.2.2.2.2.2.2.2.2.2.2.2.2.2.2.1 k0_h11
theorem k0_off671_inb : ∀ (arg24 : BitVec 32) (k0_hw49 : k0_chk49 arg24), ∀ (k0_h11 : k0_cond11 arg24 = 1#1), ∀ a, (k0_off671 arg24) a + S1.size a ≤ S2.size a := fun arg24 k0_hw49 k0_h11 => k0_hw49.2.2.2.2.2.2.2.2.2.2.2.2.2.2.2.2.2.2.2.2.1.2.2.2.2.2.2.2.2.2.2.2.2.2.2.2.2.2.2.2.1 k0_h11
theorem k0_off673_inb : ∀ (arg24 : BitVec 32) (k0_hw49 : k0_chk49 arg24), ∀ (k0_h11 : k0_cond11 arg24 = 1#1), ∀ a, (k0_off673 arg24) a + S1x128x1536.size a ≤ S2x1024x1536.size a := fun arg24 k0_hw49 k0_h11 => k0_hw49.2.2.2.2.2.2.2.2.2.2.2.2.2.2.2.2.2.2.2.2.1.2.2.2.2.2.2.2.2.2.2.2.2.2.2.2.2.2.2.2.2.1 k0_h11
theorem k0_off673_wordsfp8e4m3 : ∀ (arg24 : BitVec 32) (k0_hw49 : k0_chk49 arg24), ∀ (k0_h11 : k0_cond11 arg24 = 1#1), (Rect.unit (s := S2x1024x1536) (k0_off673 arg24) S1x128x1536.size (k0_off673_inb arg24 k0_hw49 k0_h11)).WholeWords (EltTy.packing .fp8e4m3) := fun arg24 k0_hw49 k0_h11 => k0_hw49.2.2.2.2.2.2.2.2.2.2.2.2.2.2.2.2.2.2.2.2.1.2.2.2.2.2.2.2.2.2.2.2.2.2.2.2.2.2.2.2.2.2.1 k0_h11 (k0_off673_inb arg24 k0_hw49 k0_h11)
theorem k0_off674_inb : ∀ (arg24 : BitVec 32) (k0_hw49 : k0_chk49 arg24), ∀ (k0_h11 : k0_cond11 arg24 = 1#1), ∀ a, (k0_off674 arg24) a + S1.size a ≤ S40.size a := fun arg24 k0_hw49 k0_h11 => k0_hw49.2.2.2.2.2.2.2.2.2.2.2.2.2.2.2.2.2.2.2.2.1.2.2.2.2.2.2.2.2.2.2.2.2.2.2.2.2.2.2.2.2.2.2.1 k0_h11
theorem k0_off676_inb : ∀ (arg24 : BitVec 32) (k0_hw49 : k0_chk49 arg24), ∀ (k0_h11 : k0_cond11 arg24 = 1#1), ∀ a, (k0_off676 arg24) a + S1.size a ≤ S2.size a := fun arg24 k0_hw49 k0_h11 => k0_hw49.2.2.2.2.2.2.2.2.2.2.2.2.2.2.2.2.2.2.2.2.1.2.2.2.2.2.2.2.2.2.2.2.2.2.2.2.2.2.2.2.2.2.2.2.1 k0_h11
theorem k0_off678_inb : ∀ (arg24 : BitVec 32) (k0_hw49 : k0_chk49 arg24), ∀ (k0_h11 : k0_cond11 arg24 = 1#1), ∀ a, (k0_off678 arg24) a + S1x128x1536.size a ≤ S2x1024x1536.size a := fun arg24 k0_hw49 k0_h11 => k0_hw49.2.2.2.2.2.2.2.2.2.2.2.2.2.2.2.2.2.2.2.2.1.2.2.2.2.2.2.2.2.2.2.2.2.2.2.2.2.2.2.2.2.2.2.2.2.1 k0_h11
theorem k0_off678_wordsfp8e4m3 : ∀ (arg24 : BitVec 32) (k0_hw49 : k0_chk49 arg24), ∀ (k0_h11 : k0_cond11 arg24 = 1#1), (Rect.unit (s := S2x1024x1536) (k0_off678 arg24) S1x128x1536.size (k0_off678_inb arg24 k0_hw49 k0_h11)).WholeWords (EltTy.packing .fp8e4m3) := fun arg24 k0_hw49 k0_h11 => k0_hw49.2.2.2.2.2.2.2.2.2.2.2.2.2.2.2.2.2.2.2.2.1.2.2.2.2.2.2.2.2.2.2.2.2.2.2.2.2.2.2.2.2.2.2.2.2.2.1 k0_h11 (k0_off678_inb arg24 k0_hw49 k0_h11)
theorem k0_off679_inb : ∀ (arg24 : BitVec 32) (k0_hw49 : k0_chk49 arg24), ∀ (k0_h11 : k0_cond11 arg24 = 1#1), ∀ a, (k0_off679 arg24) a + S1.size a ≤ S40.size a := fun arg24 k0_hw49 k0_h11 => k0_hw49.2.2.2.2.2.2.2.2.2.2.2.2.2.2.2.2.2.2.2.2.1.2.2.2.2.2.2.2.2.2.2.2.2.2.2.2.2.2.2.2.2.2.2.2.2.2.2.1 k0_h11
theorem k0_off681_inb : ∀ (arg24 : BitVec 32) (k0_hw49 : k0_chk49 arg24), ∀ (k0_h11 : k0_cond11 arg24 = 1#1), ∀ a, (k0_off681 arg24) a + S1.size a ≤ S2.size a := fun arg24 k0_hw49 k0_h11 => k0_hw49.2.2.2.2.2.2.2.2.2.2.2.2.2.2.2.2.2.2.2.2.1.2.2.2.2.2.2.2.2.2.2.2.2.2.2.2.2.2.2.2.2.2.2.2.2.2.2.2.1 k0_h11
theorem k0_off683_inb : ∀ (arg24 : BitVec 32) (k0_hw49 : k0_chk49 arg24), ∀ (k0_h11 : k0_cond11 arg24 = 1#1), ∀ a, (k0_off683 arg24) a + S1x128x1536.size a ≤ S2x1024x1536.size a := fun arg24 k0_hw49 k0_h11 => k0_hw49.2.2.2.2.2.2.2.2.2.2.2.2.2.2.2.2.2.2.2.2.1.2.2.2.2.2.2.2.2.2.2.2.2.2.2.2.2.2.2.2.2.2.2.2.2.2.2.2.2.1 k0_h11
theorem k0_off683_wordsfp8e4m3 : ∀ (arg24 : BitVec 32) (k0_hw49 : k0_chk49 arg24), ∀ (k0_h11 : k0_cond11 arg24 = 1#1), (Rect.unit (s := S2x1024x1536) (k0_off683 arg24) S1x128x1536.size (k0_off683_inb arg24 k0_hw49 k0_h11)).WholeWords (EltTy.packing .fp8e4m3) := fun arg24 k0_hw49 k0_h11 => k0_hw49.2.2.2.2.2.2.2.2.2.2.2.2.2.2.2.2.2.2.2.2.1.2.2.2.2.2.2.2.2.2.2.2.2.2.2.2.2.2.2.2.2.2.2.2.2.2.2.2.2.2.1 k0_h11 (k0_off683_inb arg24 k0_hw49 k0_h11)
theorem k0_off684_inb : ∀ (arg24 : BitVec 32) (k0_hw49 : k0_chk49 arg24), ∀ (k0_h11 : k0_cond11 arg24 = 1#1), ∀ a, (k0_off684 arg24) a + S1.size a ≤ S40.size a := fun arg24 k0_hw49 k0_h11 => k0_hw49.2.2.2.2.2.2.2.2.2.2.2.2.2.2.2.2.2.2.2.2.1.2.2.2.2.2.2.2.2.2.2.2.2.2.2.2.2.2.2.2.2.2.2.2.2.2.2.2.2.2.2.1 k0_h11
theorem k0_off686_inb : ∀ (arg24 : BitVec 32) (k0_hw49 : k0_chk49 arg24), ∀ (k0_h11 : k0_cond11 arg24 = 1#1), ∀ a, (k0_off686 arg24) a + S1.size a ≤ S2.size a := fun arg24 k0_hw49 k0_h11 => k0_hw49.2.2.2.2.2.2.2.2.2.2.2.2.2.2.2.2.2.2.2.2.1.2.2.2.2.2.2.2.2.2.2.2.2.2.2.2.2.2.2.2.2.2.2.2.2.2.2.2.2.2.2.2 k0_h11
theorem k0_off688_inb : ∀ (arg24 : BitVec 32) (k0_hw49 : k0_chk49 arg24), ∀ (k0_h11 : k0_cond11 arg24 = 1#1), ∀ a, (k0_off688 arg24) a + S1x128x1536.size a ≤ S2x1024x1536.size a := fun arg24 k0_hw49 k0_h11 => k0_hw49.2.2.2.2.2.2.2.2.2.2.2.2.2.2.2.2.2.2.2.2.2.1.1 k0_h11
theorem k0_off688_wordsfp8e4m3 : ∀ (arg24 : BitVec 32) (k0_hw49 : k0_chk49 arg24), ∀ (k0_h11 : k0_cond11 arg24 = 1#1), (Rect.unit (s := S2x1024x1536) (k0_off688 arg24) S1x128x1536.size (k0_off688_inb arg24 k0_hw49 k0_h11)).WholeWords (EltTy.packing .fp8e4m3) := fun arg24 k0_hw49 k0_h11 => k0_hw49.2.2.2.2.2.2.2.2.2.2.2.2.2.2.2.2.2.2.2.2.2.1.2.1 k0_h11 (k0_off688_inb arg24 k0_hw49 k0_h11)
theorem k0_off689_inb : ∀ (arg24 : BitVec 32) (k0_hw49 : k0_chk49 arg24), ∀ (k0_h11 : k0_cond11 arg24 = 1#1), ∀ a, (k0_off689 arg24) a + S1.size a ≤ S40.size a := fun arg24 k0_hw49 k0_h11 => k0_hw49.2.2.2.2.2.2.2.2.2.2.2.2.2.2.2.2.2.2.2.2.2.1.2.2.1 k0_h11
theorem k0_off691_inb : ∀ (arg24 : BitVec 32) (k0_hw49 : k0_chk49 arg24), ∀ (k0_h11 : k0_cond11 arg24 = 1#1), ∀ a, (k0_off691 arg24) a + S1.size a ≤ S2.size a := fun arg24 k0_hw49 k0_h11 => k0_hw49.2.2.2.2.2.2.2.2.2.2.2.2.2.2.2.2.2.2.2.2.2.1.2.2.2.1 k0_h11
theorem k0_off693_inb : ∀ (arg24 : BitVec 32) (k0_hw49 : k0_chk49 arg24), ∀ (k0_h11 : k0_cond11 arg24 = 1#1), ∀ a, (k0_off693 arg24) a + S1x128x1536.size a ≤ S2x1024x1536.size a := fun arg24 k0_hw49 k0_h11 => k0_hw49.2.2.2.2.2.2.2.2.2.2.2.2.2.2.2.2.2.2.2.2.2.1.2.2.2.2.1 k0_h11
theorem k0_off693_wordsfp8e4m3 : ∀ (arg24 : BitVec 32) (k0_hw49 : k0_chk49 arg24), ∀ (k0_h11 : k0_cond11 arg24 = 1#1), (Rect.unit (s := S2x1024x1536) (k0_off693 arg24) S1x128x1536.size (k0_off693_inb arg24 k0_hw49 k0_h11)).WholeWords (EltTy.packing .fp8e4m3) := fun arg24 k0_hw49 k0_h11 => k0_hw49.2.2.2.2.2.2.2.2.2.2.2.2.2.2.2.2.2.2.2.2.2.1.2.2.2.2.2.1 k0_h11 (k0_off693_inb arg24 k0_hw49 k0_h11)
theorem k0_off694_inb : ∀ (arg24 : BitVec 32) (k0_hw49 : k0_chk49 arg24), ∀ (k0_h11 : k0_cond11 arg24 = 1#1), ∀ a, (k0_off694 arg24) a + S1.size a ≤ S40.size a := fun arg24 k0_hw49 k0_h11 => k0_hw49.2.2.2.2.2.2.2.2.2.2.2.2.2.2.2.2.2.2.2.2.2.1.2.2.2.2.2.2.1 k0_h11
theorem k0_off696_inb : ∀ (arg24 : BitVec 32) (k0_hw49 : k0_chk49 arg24), ∀ (k0_h11 : k0_cond11 arg24 = 1#1), ∀ a, (k0_off696 arg24) a + S1.size a ≤ S2.size a := fun arg24 k0_hw49 k0_h11 => k0_hw49.2.2.2.2.2.2.2.2.2.2.2.2.2.2.2.2.2.2.2.2.2.1.2.2.2.2.2.2.2.1 k0_h11
theorem k0_off698_inb : ∀ (arg24 : BitVec 32) (k0_hw49 : k0_chk49 arg24), ∀ (k0_h11 : k0_cond11 arg24 = 1#1), ∀ a, (k0_off698 arg24) a + S1x128x1536.size a ≤ S2x1024x1536.size a := fun arg24 k0_hw49 k0_h11 => k0_hw49.2.2.2.2.2.2.2.2.2.2.2.2.2.2.2.2.2.2.2.2.2.1.2.2.2.2.2.2.2.2.1 k0_h11
theorem k0_off698_wordsfp8e4m3 : ∀ (arg24 : BitVec 32) (k0_hw49 : k0_chk49 arg24), ∀ (k0_h11 : k0_cond11 arg24 = 1#1), (Rect.unit (s := S2x1024x1536) (k0_off698 arg24) S1x128x1536.size (k0_off698_inb arg24 k0_hw49 k0_h11)).WholeWords (EltTy.packing .fp8e4m3) := fun arg24 k0_hw49 k0_h11 => k0_hw49.2.2.2.2.2.2.2.2.2.2.2.2.2.2.2.2.2.2.2.2.2.1.2.2.2.2.2.2.2.2.2.1 k0_h11 (k0_off698_inb arg24 k0_hw49 k0_h11)
theorem k0_off699_inb : ∀ (arg24 : BitVec 32) (k0_hw49 : k0_chk49 arg24), ∀ (k0_h11 : k0_cond11 arg24 = 1#1), ∀ a, (k0_off699 arg24) a + S1.size a ≤ S40.size a := fun arg24 k0_hw49 k0_h11 => k0_hw49.2.2.2.2.2.2.2.2.2.2.2.2.2.2.2.2.2.2.2.2.2.1.2.2.2.2.2.2.2.2.2.2.1 k0_h11
theorem k0_off701_inb : ∀ (arg24 : BitVec 32) (k0_hw49 : k0_chk49 arg24), ∀ (k0_h11 : k0_cond11 arg24 = 1#1), ∀ a, (k0_off701 arg24) a + S1.size a ≤ S2.size a := fun arg24 k0_hw49 k0_h11 => k0_hw49.2.2.2.2.2.2.2.2.2.2.2.2.2.2.2.2.2.2.2.2.2.1.2.2.2.2.2.2.2.2.2.2.2.1 k0_h11
theorem k0_off703_inb : ∀ (arg24 : BitVec 32) (k0_hw49 : k0_chk49 arg24), ∀ (k0_h11 : k0_cond11 arg24 = 1#1), ∀ a, (k0_off703 arg24) a + S1x128x1536.size a ≤ S2x1024x1536.size a := fun arg24 k0_hw49 k0_h11 => k0_hw49.2.2.2.2.2.2.2.2.2.2.2.2.2.2.2.2.2.2.2.2.2.1.2.2.2.2.2.2.2.2.2.2.2.2.1 k0_h11
theorem k0_off703_wordsfp8e4m3 : ∀ (arg24 : BitVec 32) (k0_hw49 : k0_chk49 arg24), ∀ (k0_h11 : k0_cond11 arg24 = 1#1), (Rect.unit (s := S2x1024x1536) (k0_off703 arg24) S1x128x1536.size (k0_off703_inb arg24 k0_hw49 k0_h11)).WholeWords (EltTy.packing .fp8e4m3) := fun arg24 k0_hw49 k0_h11 => k0_hw49.2.2.2.2.2.2.2.2.2.2.2.2.2.2.2.2.2.2.2.2.2.1.2.2.2.2.2.2.2.2.2.2.2.2.2.1 k0_h11 (k0_off703_inb arg24 k0_hw49 k0_h11)
theorem k0_off704_inb : ∀ (arg24 : BitVec 32) (k0_hw49 : k0_chk49 arg24), ∀ (k0_h11 : k0_cond11 arg24 = 1#1), ∀ a, (k0_off704 arg24) a + S1.size a ≤ S40.size a := fun arg24 k0_hw49 k0_h11 => k0_hw49.2.2.2.2.2.2.2.2.2.2.2.2.2.2.2.2.2.2.2.2.2.1.2.2.2.2.2.2.2.2.2.2.2.2.2.2.1 k0_h11
theorem k0_off706_inb : ∀ (arg24 : BitVec 32) (k0_hw49 : k0_chk49 arg24), ∀ (k0_h11 : k0_cond11 arg24 = 1#1), ∀ a, (k0_off706 arg24) a + S1.size a ≤ S2.size a := fun arg24 k0_hw49 k0_h11 => k0_hw49.2.2.2.2.2.2.2.2.2.2.2.2.2.2.2.2.2.2.2.2.2.1.2.2.2.2.2.2.2.2.2.2.2.2.2.2.2.1 k0_h11
theorem k0_off708_inb : ∀ (arg24 : BitVec 32) (k0_hw49 : k0_chk49 arg24), ∀ (k0_h11 : k0_cond11 arg24 = 1#1), ∀ a, (k0_off708 arg24) a + S1x128x1536.size a ≤ S2x1024x1536.size a := fun arg24 k0_hw49 k0_h11 => k0_hw49.2.2.2.2.2.2.2.2.2.2.2.2.2.2.2.2.2.2.2.2.2.1.2.2.2.2.2.2.2.2.2.2.2.2.2.2.2.2.1 k0_h11
theorem k0_off708_wordsfp8e4m3 : ∀ (arg24 : BitVec 32) (k0_hw49 : k0_chk49 arg24), ∀ (k0_h11 : k0_cond11 arg24 = 1#1), (Rect.unit (s := S2x1024x1536) (k0_off708 arg24) S1x128x1536.size (k0_off708_inb arg24 k0_hw49 k0_h11)).WholeWords (EltTy.packing .fp8e4m3) := fun arg24 k0_hw49 k0_h11 => k0_hw49.2.2.2.2.2.2.2.2.2.2.2.2.2.2.2.2.2.2.2.2.2.1.2.2.2.2.2.2.2.2.2.2.2.2.2.2.2.2.2.1 k0_h11 (k0_off708_inb arg24 k0_hw49 k0_h11)
theorem k0_off709_inb : ∀ (arg24 : BitVec 32) (k0_hw49 : k0_chk49 arg24), ∀ (k0_h11 : k0_cond11 arg24 = 1#1), ∀ a, (k0_off709 arg24) a + S1.size a ≤ S40.size a := fun arg24 k0_hw49 k0_h11 => k0_hw49.2.2.2.2.2.2.2.2.2.2.2.2.2.2.2.2.2.2.2.2.2.1.2.2.2.2.2.2.2.2.2.2.2.2.2.2.2.2.2.2.1 k0_h11
theorem k0_off711_inb : ∀ (arg24 : BitVec 32) (k0_hw49 : k0_chk49 arg24), ∀ (k0_h11 : k0_cond11 arg24 = 1#1), ∀ a, (k0_off711 arg24) a + S1.size a ≤ S2.size a := fun arg24 k0_hw49 k0_h11 => k0_hw49.2.2.2.2.2.2.2.2.2.2.2.2.2.2.2.2.2.2.2.2.2.1.2.2.2.2.2.2.2.2.2.2.2.2.2.2.2.2.2.2.2.1 k0_h11
theorem k0_off713_inb : ∀ (arg24 : BitVec 32) (k0_hw49 : k0_chk49 arg24), ∀ (k0_h11 : k0_cond11 arg24 = 1#1), ∀ a, (k0_off713 arg24) a + S1x128x8960.size a ≤ S2x1024x8960.size a := fun arg24 k0_hw49 k0_h11 => k0_hw49.2.2.2.2.2.2.2.2.2.2.2.2.2.2.2.2.2.2.2.2.2.1.2.2.2.2.2.2.2.2.2.2.2.2.2.2.2.2.2.2.2.2.1 k0_h11
theorem k0_off713_wordsfp8e4m3 : ∀ (arg24 : BitVec 32) (k0_hw49 : k0_chk49 arg24), ∀ (k0_h11 : k0_cond11 arg24 = 1#1), (Rect.unit (s := S2x1024x8960) (k0_off713 arg24) S1x128x8960.size (k0_off713_inb arg24 k0_hw49 k0_h11)).WholeWords (EltTy.packing .fp8e4m3) := fun arg24 k0_hw49 k0_h11 => k0_hw49.2.2.2.2.2.2.2.2.2.2.2.2.2.2.2.2.2.2.2.2.2.1.2.2.2.2.2.2.2.2.2.2.2.2.2.2.2.2.2.2.2.2.2.1 k0_h11 (k0_off713_inb arg24 k0_hw49 k0_h11)
theorem k0_off714_inb : ∀ (arg24 : BitVec 32) (k0_hw49 : k0_chk49 arg24), ∀ (k0_h11 : k0_cond11 arg24 = 1#1), ∀ a, (k0_off714 arg24) a + S1.size a ≤ S40.size a := fun arg24 k0_hw49 k0_h11 => k0_hw49.2.2.2.2.2.2.2.2.2.2.2.2.2.2.2.2.2.2.2.2.2.1.2.2.2.2.2.2.2.2.2.2.2.2.2.2.2.2.2.2.2.2.2.2.1 k0_h11
theorem k0_off716_inb : ∀ (arg24 : BitVec 32) (k0_hw49 : k0_chk49 arg24), ∀ (k0_h11 : k0_cond11 arg24 = 1#1), ∀ a, (k0_off716 arg24) a + S1.size a ≤ S2.size a := fun arg24 k0_hw49 k0_h11 => k0_hw49.2.2.2.2.2.2.2.2.2.2.2.2.2.2.2.2.2.2.2.2.2.1.2.2.2.2.2.2.2.2.2.2.2.2.2.2.2.2.2.2.2.2.2.2.2.1 k0_h11
theorem k0_off718_inb : ∀ (arg24 : BitVec 32) (k0_hw49 : k0_chk49 arg24), ∀ (k0_h11 : k0_cond11 arg24 = 1#1), ∀ a, (k0_off718 arg24) a + S1x128x8960.size a ≤ S2x1024x8960.size a := fun arg24 k0_hw49 k0_h11 => k0_hw49.2.2.2.2.2.2.2.2.2.2.2.2.2.2.2.2.2.2.2.2.2.1.2.2.2.2.2.2.2.2.2.2.2.2.2.2.2.2.2.2.2.2.2.2.2.2.1 k0_h11
theorem k0_off718_wordsfp8e4m3 : ∀ (arg24 : BitVec 32) (k0_hw49 : k0_chk49 arg24), ∀ (k0_h11 : k0_cond11 arg24 = 1#1), (Rect.unit (s := S2x1024x8960) (k0_off718 arg24) S1x128x8960.size (k0_off718_inb arg24 k0_hw49 k0_h11)).WholeWords (EltTy.packing .fp8e4m3) := fun arg24 k0_hw49 k0_h11 => k0_hw49.2.2.2.2.2.2.2.2.2.2.2.2.2.2.2.2.2.2.2.2.2.1.2.2.2.2.2.2.2.2.2.2.2.2.2.2.2.2.2.2.2.2.2.2.2.2.2.1 k0_h11 (k0_off718_inb arg24 k0_hw49 k0_h11)
theorem k0_off719_inb : ∀ (arg24 : BitVec 32) (k0_hw49 : k0_chk49 arg24), ∀ (k0_h11 : k0_cond11 arg24 = 1#1), ∀ a, (k0_off719 arg24) a + S1.size a ≤ S40.size a := fun arg24 k0_hw49 k0_h11 => k0_hw49.2.2.2.2.2.2.2.2.2.2.2.2.2.2.2.2.2.2.2.2.2.1.2.2.2.2.2.2.2.2.2.2.2.2.2.2.2.2.2.2.2.2.2.2.2.2.2.2.1 k0_h11
theorem k0_off721_inb : ∀ (arg24 : BitVec 32) (k0_hw49 : k0_chk49 arg24), ∀ (k0_h11 : k0_cond11 arg24 = 1#1), ∀ a, (k0_off721 arg24) a + S1.size a ≤ S2.size a := fun arg24 k0_hw49 k0_h11 => k0_hw49.2.2.2.2.2.2.2.2.2.2.2.2.2.2.2.2.2.2.2.2.2.1.2.2.2.2.2.2.2.2.2.2.2.2.2.2.2.2.2.2.2.2.2.2.2.2.2.2.2.1 k0_h11
theorem k0_off723_inb : ∀ (arg24 : BitVec 32) (k0_hw49 : k0_chk49 arg24), ∀ (k0_h11 : k0_cond11 arg24 = 1#1), ∀ a, (k0_off723 arg24) a + S1x128x8960.size a ≤ S2x1024x8960.size a := fun arg24 k0_hw49 k0_h11 => k0_hw49.2.2.2.2.2.2.2.2.2.2.2.2.2.2.2.2.2.2.2.2.2.1.2.2.2.2.2.2.2.2.2.2.2.2.2.2.2.2.2.2.2.2.2.2.2.2.2.2.2.2.1 k0_h11
theorem k0_off723_wordsfp8e4m3 : ∀ (arg24 : BitVec 32) (k0_hw49 : k0_chk49 arg24), ∀ (k0_h11 : k0_cond11 arg24 = 1#1), (Rect.unit (s := S2x1024x8960) (k0_off723 arg24) S1x128x8960.size (k0_off723_inb arg24 k0_hw49 k0_h11)).WholeWords (EltTy.packing .fp8e4m3) := fun arg24 k0_hw49 k0_h11 => k0_hw49.2.2.2.2.2.2.2.2.2.2.2.2.2.2.2.2.2.2.2.2.2.1.2.2.2.2.2.2.2.2.2.2.2.2.2.2.2.2.2.2.2.2.2.2.2.2.2.2.2.2.2.1 k0_h11 (k0_off723_inb arg24 k0_hw49 k0_h11)
theorem k0_off724_inb : ∀ (arg24 : BitVec 32) (k0_hw49 : k0_chk49 arg24), ∀ (k0_h11 : k0_cond11 arg24 = 1#1), ∀ a, (k0_off724 arg24) a + S1.size a ≤ S40.size a := fun arg24 k0_hw49 k0_h11 => k0_hw49.2.2.2.2.2.2.2.2.2.2.2.2.2.2.2.2.2.2.2.2.2.1.2.2.2.2.2.2.2.2.2.2.2.2.2.2.2.2.2.2.2.2.2.2.2.2.2.2.2.2.2.2.1 k0_h11
theorem k0_off726_inb : ∀ (arg24 : BitVec 32) (k0_hw49 : k0_chk49 arg24), ∀ (k0_h11 : k0_cond11 arg24 = 1#1), ∀ a, (k0_off726 arg24) a + S1.size a ≤ S2.size a := fun arg24 k0_hw49 k0_h11 => k0_hw49.2.2.2.2.2.2.2.2.2.2.2.2.2.2.2.2.2.2.2.2.2.1.2.2.2.2.2.2.2.2.2.2.2.2.2.2.2.2.2.2.2.2.2.2.2.2.2.2.2.2.2.2.2 k0_h11
theorem k0_off728_inb : ∀ (arg24 : BitVec 32) (k0_hw49 : k0_chk49 arg24), ∀ (k0_h11 : k0_cond11 arg24 = 1#1), ∀ a, (k0_off728 arg24) a + S1x128x8960.size a ≤ S2x1024x8960.size a := fun arg24 k0_hw49 k0_h11 => k0_hw49.2.2.2.2.2.2.2.2.2.2.2.2.2.2.2.2.2.2.2.2.2.2.1.1 k0_h11
theorem k0_off728_wordsfp8e4m3 : ∀ (arg24 : BitVec 32) (k0_hw49 : k0_chk49 arg24), ∀ (k0_h11 : k0_cond11 arg24 = 1#1), (Rect.unit (s := S2x1024x8960) (k0_off728 arg24) S1x128x8960.size (k0_off728_inb arg24 k0_hw49 k0_h11)).WholeWords (EltTy.packing .fp8e4m3) := fun arg24 k0_hw49 k0_h11 => k0_hw49.2.2.2.2.2.2.2.2.2.2.2.2.2.2.2.2.2.2.2.2.2.2.1.2.1 k0_h11 (k0_off728_inb arg24 k0_hw49 k0_h11)
theorem k0_off729_inb : ∀ (arg24 : BitVec 32) (k0_hw49 : k0_chk49 arg24), ∀ (k0_h11 : k0_cond11 arg24 = 1#1), ∀ a, (k0_off729 arg24) a + S1.size a ≤ S40.size a := fun arg24 k0_hw49 k0_h11 => k0_hw49.2.2.2.2.2.2.2.2.2.2.2.2.2.2.2.2.2.2.2.2.2.2.1.2.2.1 k0_h11
theorem k0_off731_inb : ∀ (arg24 : BitVec 32) (k0_hw49 : k0_chk49 arg24), ∀ (k0_h11 : k0_cond11 arg24 = 1#1), ∀ a, (k0_off731 arg24) a + S1.size a ≤ S2.size a := fun arg24 k0_hw49 k0_h11 => k0_hw49.2.2.2.2.2.2.2.2.2.2.2.2.2.2.2.2.2.2.2.2.2.2.1.2.2.2.1 k0_h11
theorem k0_off733_inb : ∀ (arg24 : BitVec 32) (k0_hw49 : k0_chk49 arg24), ∀ (k0_h11 : k0_cond11 arg24 = 1#1), ∀ a, (k0_off733 arg24) a + S1x128x8960.size a ≤ S2x1024x8960.size a := fun arg24 k0_hw49 k0_h11 => k0_hw49.2.2.2.2.2.2.2.2.2.2.2.2.2.2.2.2.2.2.2.2.2.2.1.2.2.2.2.1 k0_h11
theorem k0_off733_wordsfp8e4m3 : ∀ (arg24 : BitVec 32) (k0_hw49 : k0_chk49 arg24), ∀ (k0_h11 : k0_cond11 arg24 = 1#1), (Rect.unit (s := S2x1024x8960) (k0_off733 arg24) S1x128x8960.size (k0_off733_inb arg24 k0_hw49 k0_h11)).WholeWords (EltTy.packing .fp8e4m3) := fun arg24 k0_hw49 k0_h11 => k0_hw49.2.2.2.2.2.2.2.2.2.2.2.2.2.2.2.2.2.2.2.2.2.2.1.2.2.2.2.2.1 k0_h11 (k0_off733_inb arg24 k0_hw49 k0_h11)
theorem k0_off734_inb : ∀ (arg24 : BitVec 32) (k0_hw49 : k0_chk49 arg24), ∀ (k0_h11 : k0_cond11 arg24 = 1#1), ∀ a, (k0_off734 arg24) a + S1.size a ≤ S40.size a := fun arg24 k0_hw49 k0_h11 => k0_hw49.2.2.2.2.2.2.2.2.2.2.2.2.2.2.2.2.2.2.2.2.2.2.1.2.2.2.2.2.2.1 k0_h11
theorem k0_off736_inb : ∀ (arg24 : BitVec 32) (k0_hw49 : k0_chk49 arg24), ∀ (k0_h11 : k0_cond11 arg24 = 1#1), ∀ a, (k0_off736 arg24) a + S1.size a ≤ S2.size a := fun arg24 k0_hw49 k0_h11 => k0_hw49.2.2.2.2.2.2.2.2.2.2.2.2.2.2.2.2.2.2.2.2.2.2.1.2.2.2.2.2.2.2.1 k0_h11
theorem k0_off738_inb : ∀ (arg24 : BitVec 32) (k0_hw49 : k0_chk49 arg24), ∀ (k0_h11 : k0_cond11 arg24 = 1#1), ∀ a, (k0_off738 arg24) a + S1x128x8960.size a ≤ S2x1024x8960.size a := fun arg24 k0_hw49 k0_h11 => k0_hw49.2.2.2.2.2.2.2.2.2.2.2.2.2.2.2.2.2.2.2.2.2.2.1.2.2.2.2.2.2.2.2.1 k0_h11
theorem k0_off738_wordsfp8e4m3 : ∀ (arg24 : BitVec 32) (k0_hw49 : k0_chk49 arg24), ∀ (k0_h11 : k0_cond11 arg24 = 1#1), (Rect.unit (s := S2x1024x8960) (k0_off738 arg24) S1x128x8960.size (k0_off738_inb arg24 k0_hw49 k0_h11)).WholeWords (EltTy.packing .fp8e4m3) := fun arg24 k0_hw49 k0_h11 => k0_hw49.2.2.2.2.2.2.2.2.2.2.2.2.2.2.2.2.2.2.2.2.2.2.1.2.2.2.2.2.2.2.2.2.1 k0_h11 (k0_off738_inb arg24 k0_hw49 k0_h11)
theorem k0_off739_inb : ∀ (arg24 : BitVec 32) (k0_hw49 : k0_chk49 arg24), ∀ (k0_h11 : k0_cond11 arg24 = 1#1), ∀ a, (k0_off739 arg24) a + S1.size a ≤ S40.size a := fun arg24 k0_hw49 k0_h11 => k0_hw49.2.2.2.2.2.2.2.2.2.2.2.2.2.2.2.2.2.2.2.2.2.2.1.2.2.2.2.2.2.2.2.2.2.1 k0_h11
theorem k0_off741_inb : ∀ (arg24 : BitVec 32) (k0_hw49 : k0_chk49 arg24), ∀ (k0_h11 : k0_cond11 arg24 = 1#1), ∀ a, (k0_off741 arg24) a + S1.size a ≤ S2.size a := fun arg24 k0_hw49 k0_h11 => k0_hw49.2.2.2.2.2.2.2.2.2.2.2.2.2.2.2.2.2.2.2.2.2.2.1.2.2.2.2.2.2.2.2.2.2.2.1 k0_h11
theorem k0_off743_inb : ∀ (arg24 : BitVec 32) (k0_hw49 : k0_chk49 arg24), ∀ (k0_h11 : k0_cond11 arg24 = 1#1), ∀ a, (k0_off743 arg24) a + S1x128x8960.size a ≤ S2x1024x8960.size a := fun arg24 k0_hw49 k0_h11 => k0_hw49.2.2.2.2.2.2.2.2.2.2.2.2.2.2.2.2.2.2.2.2.2.2.1.2.2.2.2.2.2.2.2.2.2.2.2.1 k0_h11
theorem k0_off743_wordsfp8e4m3 : ∀ (arg24 : BitVec 32) (k0_hw49 : k0_chk49 arg24), ∀ (k0_h11 : k0_cond11 arg24 = 1#1), (Rect.unit (s := S2x1024x8960) (k0_off743 arg24) S1x128x8960.size (k0_off743_inb arg24 k0_hw49 k0_h11)).WholeWords (EltTy.packing .fp8e4m3) := fun arg24 k0_hw49 k0_h11 => k0_hw49.2.2.2.2.2.2.2.2.2.2.2.2.2.2.2.2.2.2.2.2.2.2.1.2.2.2.2.2.2.2.2.2.2.2.2.2.1 k0_h11 (k0_off743_inb arg24 k0_hw49 k0_h11)
theorem k0_off744_inb : ∀ (arg24 : BitVec 32) (k0_hw49 : k0_chk49 arg24), ∀ (k0_h11 : k0_cond11 arg24 = 1#1), ∀ a, (k0_off744 arg24) a + S1.size a ≤ S40.size a := fun arg24 k0_hw49 k0_h11 => k0_hw49.2.2.2.2.2.2.2.2.2.2.2.2.2.2.2.2.2.2.2.2.2.2.1.2.2.2.2.2.2.2.2.2.2.2.2.2.2.1 k0_h11
theorem k0_off746_inb : ∀ (arg24 : BitVec 32) (k0_hw49 : k0_chk49 arg24), ∀ (k0_h11 : k0_cond11 arg24 = 1#1), ∀ a, (k0_off746 arg24) a + S1.size a ≤ S2.size a := fun arg24 k0_hw49 k0_h11 => k0_hw49.2.2.2.2.2.2.2.2.2.2.2.2.2.2.2.2.2.2.2.2.2.2.1.2.2.2.2.2.2.2.2.2.2.2.2.2.2.2.1 k0_h11
theorem k0_off748_inb : ∀ (arg24 : BitVec 32) (k0_hw49 : k0_chk49 arg24), ∀ (k0_h11 : k0_cond11 arg24 = 1#1), ∀ a, (k0_off748 arg24) a + S1x128x8960.size a ≤ S2x1024x8960.size a := fun arg24 k0_hw49 k0_h11 => k0_hw49.2.2.2.2.2.2.2.2.2.2.2.2.2.2.2.2.2.2.2.2.2.2.1.2.2.2.2.2.2.2.2.2.2.2.2.2.2.2.2.1 k0_h11
theorem k0_off748_wordsfp8e4m3 : ∀ (arg24 : BitVec 32) (k0_hw49 : k0_chk49 arg24), ∀ (k0_h11 : k0_cond11 arg24 = 1#1), (Rect.unit (s := S2x1024x8960) (k0_off748 arg24) S1x128x8960.size (k0_off748_inb arg24 k0_hw49 k0_h11)).WholeWords (EltTy.packing .fp8e4m3) := fun arg24 k0_hw49 k0_h11 => k0_hw49.2.2.2.2.2.2.2.2.2.2.2.2.2.2.2.2.2.2.2.2.2.2.1.2.2.2.2.2.2.2.2.2.2.2.2.2.2.2.2.2.1 k0_h11 (k0_off748_inb arg24 k0_hw49 k0_h11)
theorem k0_off749_inb : ∀ (arg24 : BitVec 32) (k0_hw49 : k0_chk49 arg24), ∀ (k0_h11 : k0_cond11 arg24 = 1#1), ∀ (k0_h12 : k0_cond12 arg24 = 1#1), ∀ a, (k0_off749 arg24) a + S1.size a ≤ S40.size a := fun arg24 k0_hw49 k0_h11 k0_h12 => k0_hw49.2.2.2.2.2.2.2.2.2.2.2.2.2.2.2.2.2.2.2.2.2.2.1.2.2.2.2.2.2.2.2.2.2.2.2.2.2.2.2.2.2.1 k0_h11 k0_h12
theorem k0_off751_inb : ∀ (arg24 : BitVec 32) (k0_hw49 : k0_chk49 arg24), ∀ (k0_h11 : k0_cond11 arg24 = 1#1), ∀ (k0_h12 : k0_cond12 arg24 = 1#1), ∀ a, (k0_off751 arg24) a + S1.size a ≤ S2.size a := fun arg24 k0_hw49 k0_h11 k0_h12 => k0_hw49.2.2.2.2.2.2.2.2.2.2.2.2.2.2.2.2.2.2.2.2.2.2.1.2.2.2.2.2.2.2.2.2.2.2.2.2.2.2.2.2.2.2.1 k0_h11 k0_h12
theorem k0_off753_inb : ∀ (arg24 : BitVec 32) (k0_hw49 : k0_chk49 arg24), ∀ (k0_h11 : k0_cond11 arg24 = 1#1), ∀ (k0_h12 : k0_cond12 arg24 = 1#1), ∀ a, (k0_off753 arg24) a + S1x128x8960.size a ≤ S2x1024x8960.size a := fun arg24 k0_hw49 k0_h11 k0_h12 => k0_hw49.2.2.2.2.2.2.2.2.2.2.2.2.2.2.2.2.2.2.2.2.2.2.1.2.2.2.2.2.2.2.2.2.2.2.2.2.2.2.2.2.2.2.2.1 k0_h11 k0_h12
theorem k0_off753_wordsfp8e4m3 : ∀ (arg24 : BitVec 32) (k0_hw49 : k0_chk49 arg24), ∀ (k0_h11 : k0_cond11 arg24 = 1#1), ∀ (k0_h12 : k0_cond12 arg24 = 1#1), (Rect.unit (s := S2x1024x8960) (k0_off753 arg24) S1x128x8960.size (k0_off753_inb arg24 k0_hw49 k0_h11 k0_h12)).WholeWords (EltTy.packing .fp8e4m3) := fun arg24 k0_hw49 k0_h11 k0_h12 => k0_hw49.2.2.2.2.2.2.2.2.2.2.2.2.2.2.2.2.2.2.2.2.2.2.1.2.2.2.2.2.2.2.2.2.2.2.2.2.2.2.2.2.2.2.2.2.1 k0_h11 k0_h12 (k0_off753_inb arg24 k0_hw49 k0_h11 k0_h12)
theorem k0_off754_inb : ∀ (arg24 : BitVec 32) (k0_hw49 : k0_chk49 arg24), ∀ (k0_h11 : k0_cond11 arg24 = 1#1), ∀ (k0_h12 : k0_cond12 arg24 = 1#1), ∀ a, (k0_off754 arg24) a + S1.size a ≤ S40.size a := fun arg24 k0_hw49 k0_h11 k0_h12 => k0_hw49.2.2.2.2.2.2.2.2.2.2.2.2.2.2.2.2.2.2.2.2.2.2.1.2.2.2.2.2.2.2.2.2.2.2.2.2.2.2.2.2.2.2.2.2.2.1 k0_h11 k0_h12
theorem k0_off756_inb : ∀ (arg24 : BitVec 32) (k0_hw49 : k0_chk49 arg24), ∀ (k0_h11 : k0_cond11 arg24 = 1#1), ∀ (k0_h12 : k0_cond12 arg24 = 1#1), ∀ a, (k0_off756 arg24) a + S1.size a ≤ S2.size a := fun arg24 k0_hw49 k0_h11 k0_h12 => k0_hw49.2.2.2.2.2.2.2.2.2.2.2.2.2.2.2.2.2.2.2.2.2.2.1.2.2.2.2.2.2.2.2.2.2.2.2.2.2.2.2.2.2.2.2.2.2.2.1 k0_h11 k0_h12
theorem k0_off758_inb : ∀ (arg24 : BitVec 32) (k0_hw49 : k0_chk49 arg24), ∀ (k0_h11 : k0_cond11 arg24 = 1#1), ∀ (k0_h12 : k0_cond12 arg24 = 1#1), ∀ a, (k0_off758 arg24) a + S1x128x8960.size a ≤ S2x1024x8960.size a := fun arg24 k0_hw49 k0_h11 k0_h12 => k0_hw49.2.2.2.2.2.2.2.2.2.2.2.2.2.2.2.2.2.2.2.2.2.2.1.2.2.2.2.2.2.2.2.2.2.2.2.2.2.2.2.2.2.2.2.2.2.2.2.1 k0_h11 k0_h12
theorem k0_off758_wordsfp8e4m3 : ∀ (arg24 : BitVec 32) (k0_hw49 : k0_chk49 arg24), ∀ (k0_h11 : k0_cond11 arg24 = 1#1), ∀ (k0_h12 : k0_cond12 arg24 = 1#1), (Rect.unit (s := S2x1024x8960) (k0_off758 arg24) S1x128x8960.size (k0_off758_inb arg24 k0_hw49 k0_h11 k0_h12)).WholeWords (EltTy.packing .fp8e4m3) := fun arg24 k0_hw49 k0_h11 k0_h12 => k0_hw49.2.2.2.2.2.2.2.2.2.2.2.2.2.2.2.2.2.2.2.2.2.2.1.2.2.2.2.2.2.2.2.2.2.2.2.2.2.2.2.2.2.2.2.2.2.2.2.2.1 k0_h11 k0_h12 (k0_off758_inb arg24 k0_hw49 k0_h11 k0_h12)
theorem k0_off759_inb : ∀ (arg24 : BitVec 32) (k0_hw49 : k0_chk49 arg24), ∀ (k0_h11 : k0_cond11 arg24 = 1#1), ∀ (k0_h12 : k0_cond12 arg24 = 1#1), ∀ a, (k0_off759 arg24) a + S1.size a ≤ S40.size a := fun arg24 k0_hw49 k0_h11 k0_h12 => k0_hw49.2.2.2.2.2.2.2.2.2.2.2.2.2.2.2.2.2.2.2.2.2.2.1.2.2.2.2.2.2.2.2.2.2.2.2.2.2.2.2.2.2.2.2.2.2.2.2.2.2.1 k0_h11 k0_h12
theorem k0_off761_inb : ∀ (arg24 : BitVec 32) (k0_hw49 : k0_chk49 arg24), ∀ (k0_h11 : k0_cond11 arg24 = 1#1), ∀ (k0_h12 : k0_cond12 arg24 = 1#1), ∀ a, (k0_off761 arg24) a + S1.size a ≤ S2.size a := fun arg24 k0_hw49 k0_h11 k0_h12 => k0_hw49.2.2.2.2.2.2.2.2.2.2.2.2.2.2.2.2.2.2.2.2.2.2.1.2.2.2.2.2.2.2.2.2.2.2.2.2.2.2.2.2.2.2.2.2.2.2.2.2.2.2.1 k0_h11 k0_h12
theorem k0_off763_inb : ∀ (arg24 : BitVec 32) (k0_hw49 : k0_chk49 arg24), ∀ (k0_h11 : k0_cond11 arg24 = 1#1), ∀ (k0_h12 : k0_cond12 arg24 = 1#1), ∀ a, (k0_off763 arg24) a + S1x128x8960.size a ≤ S2x1024x8960.size a := fun arg24 k0_hw49 k0_h11 k0_h12 => k0_hw49.2.2.2.2.2.2.2.2.2.2.2.2.2.2.2.2.2.2.2.2.2.2.1.2.2.2.2.2.2.2.2.2.2.2.2.2.2.2.2.2.2.2.2.2.2.2.2.2.2.2.2.1 k0_h11 k0_h12
theorem k0_off763_wordsfp8e4m3 : ∀ (arg24 : BitVec 32) (k0_hw49 : k0_chk49 arg24), ∀ (k0_h11 : k0_cond11 arg24 = 1#1), ∀ (k0_h12 : k0_cond12 arg24 = 1#1), (Rect.unit (s := S2x1024x8960) (k0_off763 arg24) S1x128x8960.size (k0_off763_inb arg24 k0_hw49 k0_h11 k0_h12)).WholeWords (EltTy.packing .fp8e4m3) := fun arg24 k0_hw49 k0_h11 k0_h12 => k0_hw49.2.2.2.2.2.2.2.2.2.2.2.2.2.2.2.2.2.2.2.2.2.2.1.2.2.2.2.2.2.2.2.2.2.2.2.2.2.2.2.2.2.2.2.2.2.2.2.2.2.2.2.2.1 k0_h11 k0_h12 (k0_off763_inb arg24 k0_hw49 k0_h11 k0_h12)
theorem k0_off764_inb : ∀ (arg24 : BitVec 32) (k0_hw49 : k0_chk49 arg24), ∀ (k0_h11 : k0_cond11 arg24 = 1#1), ∀ (k0_h12 : k0_cond12 arg24 = 1#1), ∀ a, (k0_off764 arg24) a + S1.size a ≤ S40.size a := fun arg24 k0_hw49 k0_h11 k0_h12 => k0_hw49.2.2.2.2.2.2.2.2.2.2.2.2.2.2.2.2.2.2.2.2.2.2.1.2.2.2.2.2.2.2.2.2.2.2.2.2.2.2.2.2.2.2.2.2.2.2.2.2.2.2.2.2.2.1 k0_h11 k0_h12
theorem k0_off766_inb : ∀ (arg24 : BitVec 32) (k0_hw49 : k0_chk49 arg24), ∀ (k0_h11 : k0_cond11 arg24 = 1#1), ∀ (k0_h12 : k0_cond12 arg24 = 1#1), ∀ a, (k0_off766 arg24) a + S1.size a ≤ S2.size a := fun arg24 k0_hw49 k0_h11 k0_h12 => k0_hw49.2.2.2.2.2.2.2.2.2.2.2.2.2.2.2.2.2.2.2.2.2.2.1.2.2.2.2.2.2.2.2.2.2.2.2.2.2.2.2.2.2.2.2.2.2.2.2.2.2.2.2.2.2.2 k0_h11 k0_h12
theorem k0_off768_inb : ∀ (arg24 : BitVec 32) (k0_hw49 : k0_chk49 arg24), ∀ (k0_h11 : k0_cond11 arg24 = 1#1), ∀ (k0_h12 : k0_cond12 arg24 = 1#1), ∀ a, (k0_off768 arg24) a + S1x128x8960.size a ≤ S2x1024x8960.size a := fun arg24 k0_hw49 k0_h11 k0_h12 => k0_hw49.2.2.2.2.2.2.2.2.2.2.2.2.2.2.2.2.2.2.2.2.2.2.2.1.1 k0_h11 k0_h12
theorem k0_off768_wordsfp8e4m3 : ∀ (arg24 : BitVec 32) (k0_hw49 : k0_chk49 arg24), ∀ (k0_h11 : k0_cond11 arg24 = 1#1), ∀ (k0_h12 : k0_cond12 arg24 = 1#1), (Rect.unit (s := S2x1024x8960) (k0_off768 arg24) S1x128x8960.size (k0_off768_inb arg24 k0_hw49 k0_h11 k0_h12)).WholeWords (EltTy.packing .fp8e4m3) := fun arg24 k0_hw49 k0_h11 k0_h12 => k0_hw49.2.2.2.2.2.2.2.2.2.2.2.2.2.2.2.2.2.2.2.2.2.2.2.1.2.1 k0_h11 k0_h12 (k0_off768_inb arg24 k0_hw49 k0_h11 k0_h12)
theorem k0_off769_inb : ∀ (arg24 : BitVec 32) (k0_hw49 : k0_chk49 arg24), ∀ (k0_h11 : k0_cond11 arg24 = 1#1), ∀ (k0_h12 : k0_cond12 arg24 = 1#1), ∀ a, (k0_off769 arg24) a + S1.size a ≤ S40.size a := fun arg24 k0_hw49 k0_h11 k0_h12 => k0_hw49.2.2.2.2.2.2.2.2.2.2.2.2.2.2.2.2.2.2.2.2.2.2.2.1.2.2.1 k0_h11 k0_h12
theorem k0_off771_inb : ∀ (arg24 : BitVec 32) (k0_hw49 : k0_chk49 arg24), ∀ (k0_h11 : k0_cond11 arg24 = 1#1), ∀ (k0_h12 : k0_cond12 arg24 = 1#1), ∀ a, (k0_off771 arg24) a + S1.size a ≤ S2.size a := fun arg24 k0_hw49 k0_h11 k0_h12 => k0_hw49.2.2.2.2.2.2.2.2.2.2.2.2.2.2.2.2.2.2.2.2.2.2.2.1.2.2.2.1 k0_h11 k0_h12
theorem k0_off773_inb : ∀ (arg24 : BitVec 32) (k0_hw49 : k0_chk49 arg24), ∀ (k0_h11 : k0_cond11 arg24 = 1#1), ∀ (k0_h12 : k0_cond12 arg24 = 1#1), ∀ a, (k0_off773 arg24) a + S1x128x8960.size a ≤ S2x1024x8960.size a := fun arg24 k0_hw49 k0_h11 k0_h12 => k0_hw49.2.2.2.2.2.2.2.2.2.2.2.2.2.2.2.2.2.2.2.2.2.2.2.1.2.2.2.2.1 k0_h11 k0_h12
theorem k0_off773_wordsfp8e4m3 : ∀ (arg24 : BitVec 32) (k0_hw49 : k0_chk49 arg24), ∀ (k0_h11 : k0_cond11 arg24 = 1#1), ∀ (k0_h12 : k0_cond12 arg24 = 1#1), (Rect.unit (s := S2x1024x8960) (k0_off773 arg24) S1x128x8960.size (k0_off773_inb arg24 k0_hw49 k0_h11 k0_h12)).WholeWords (EltTy.packing .fp8e4m3) := fun arg24 k0_hw49 k0_h11 k0_h12 => k0_hw49.2.2.2.2.2.2.2.2.2.2.2.2.2.2.2.2.2.2.2.2.2.2.2.1.2.2.2.2.2.1 k0_h11 k0_h12 (k0_off773_inb arg24 k0_hw49 k0_h11 k0_h12)
theorem k0_off774_inb : ∀ (arg24 : BitVec 32) (k0_hw49 : k0_chk49 arg24), ∀ (k0_h11 : k0_cond11 arg24 = 1#1), ∀ (k0_h12 : k0_cond12 arg24 = 1#1), ∀ a, (k0_off774 arg24) a + S1.size a ≤ S40.size a := fun arg24 k0_hw49 k0_h11 k0_h12 => k0_hw49.2.2.2.2.2.2.2.2.2.2.2.2.2.2.2.2.2.2.2.2.2.2.2.1.2.2.2.2.2.2.1 k0_h11 k0_h12
theorem k0_off776_inb : ∀ (arg24 : BitVec 32) (k0_hw49 : k0_chk49 arg24), ∀ (k0_h11 : k0_cond11 arg24 = 1#1), ∀ (k0_h12 : k0_cond12 arg24 = 1#1), ∀ a, (k0_off776 arg24) a + S1.size a ≤ S2.size a := fun arg24 k0_hw49 k0_h11 k0_h12 => k0_hw49.2.2.2.2.2.2.2.2.2.2.2.2.2.2.2.2.2.2.2.2.2.2.2.1.2.2.2.2.2.2.2.1 k0_h11 k0_h12
theorem k0_off778_inb : ∀ (arg24 : BitVec 32) (k0_hw49 : k0_chk49 arg24), ∀ (k0_h11 : k0_cond11 arg24 = 1#1), ∀ (k0_h12 : k0_cond12 arg24 = 1#1), ∀ a, (k0_off778 arg24) a + S1x128x8960.size a ≤ S2x1024x8960.size a := fun arg24 k0_hw49 k0_h11 k0_h12 => k0_hw49.2.2.2.2.2.2.2.2.2.2.2.2.2.2.2.2.2.2.2.2.2.2.2.1.2.2.2.2.2.2.2.2.1 k0_h11 k0_h12
theorem k0_off778_wordsfp8e4m3 : ∀ (arg24 : BitVec 32) (k0_hw49 : k0_chk49 arg24), ∀ (k0_h11 : k0_cond11 arg24 = 1#1), ∀ (k0_h12 : k0_cond12 arg24 = 1#1), (Rect.unit (s := S2x1024x8960) (k0_off778 arg24) S1x128x8960.size (k0_off778_inb arg24 k0_hw49 k0_h11 k0_h12)).WholeWords (EltTy.packing .fp8e4m3) := fun arg24 k0_hw49 k0_h11 k0_h12 => k0_hw49.2.2.2.2.2.2.2.2.2.2.2.2.2.2.2.2.2.2.2.2.2.2.2.1.2.2.2.2.2.2.2.2.2.1 k0_h11 k0_h12 (k0_off778_inb arg24 k0_hw49 k0_h11 k0_h12)
theorem k0_off779_inb : ∀ (arg24 : BitVec 32) (k0_hw49 : k0_chk49 arg24), ∀ (k0_h11 : k0_cond11 arg24 = 1#1), ∀ (k0_h12 : k0_cond12 arg24 = 1#1), ∀ a, (k0_off779 arg24) a + S1.size a ≤ S40.size a := fun arg24 k0_hw49 k0_h11 k0_h12 => k0_hw49.2.2.2.2.2.2.2.2.2.2.2.2.2.2.2.2.2.2.2.2.2.2.2.1.2.2.2.2.2.2.2.2.2.2.1 k0_h11 k0_h12
theorem k0_off781_inb : ∀ (arg24 : BitVec 32) (k0_hw49 : k0_chk49 arg24), ∀ (k0_h11 : k0_cond11 arg24 = 1#1), ∀ (k0_h12 : k0_cond12 arg24 = 1#1), ∀ a, (k0_off781 arg24) a + S1.size a ≤ S2.size a := fun arg24 k0_hw49 k0_h11 k0_h12 => k0_hw49.2.2.2.2.2.2.2.2.2.2.2.2.2.2.2.2.2.2.2.2.2.2.2.1.2.2.2.2.2.2.2.2.2.2.2.1 k0_h11 k0_h12
theorem k0_off783_inb : ∀ (arg24 : BitVec 32) (k0_hw49 : k0_chk49 arg24), ∀ (k0_h11 : k0_cond11 arg24 = 1#1), ∀ (k0_h12 : k0_cond12 arg24 = 1#1), ∀ a, (k0_off783 arg24) a + S1x128x8960.size a ≤ S2x1024x8960.size a := fun arg24 k0_hw49 k0_h11 k0_h12 => k0_hw49.2.2.2.2.2.2.2.2.2.2.2.2.2.2.2.2.2.2.2.2.2.2.2.1.2.2.2.2.2.2.2.2.2.2.2.2.1 k0_h11 k0_h12
theorem k0_off783_wordsfp8e4m3 : ∀ (arg24 : BitVec 32) (k0_hw49 : k0_chk49 arg24), ∀ (k0_h11 : k0_cond11 arg24 = 1#1), ∀ (k0_h12 : k0_cond12 arg24 = 1#1), (Rect.unit (s := S2x1024x8960) (k0_off783 arg24) S1x128x8960.size (k0_off783_inb arg24 k0_hw49 k0_h11 k0_h12)).WholeWords (EltTy.packing .fp8e4m3) := fun arg24 k0_hw49 k0_h11 k0_h12 => k0_hw49.2.2.2.2.2.2.2.2.2.2.2.2.2.2.2.2.2.2.2.2.2.2.2.1.2.2.2.2.2.2.2.2.2.2.2.2.2.1 k0_h11 k0_h12 (k0_off783_inb arg24 k0_hw49 k0_h11 k0_h12)
theorem k0_off784_inb : ∀ (arg24 : BitVec 32) (k0_hw49 : k0_chk49 arg24), ∀ (k0_h11 : k0_cond11 arg24 = 1#1), ∀ (k0_h12 : k0_cond12 arg24 = 1#1), ∀ a, (k0_off784 arg24) a + S1.size a ≤ S40.size a := fun arg24 k0_hw49 k0_h11 k0_h12 => k0_hw49.2.2.2.2.2.2.2.2.2.2.2.2.2.2.2.2.2.2.2.2.2.2.2.1.2.2.2.2.2.2.2.2.2.2.2.2.2.2.1 k0_h11 k0_h12
theorem k0_off786_inb : ∀ (arg24 : BitVec 32) (k0_hw49 : k0_chk49 arg24), ∀ (k0_h11 : k0_cond11 arg24 = 1#1), ∀ (k0_h12 : k0_cond12 arg24 = 1#1), ∀ a, (k0_off786 arg24) a + S1.size a ≤ S2.size a := fun arg24 k0_hw49 k0_h11 k0_h12 => k0_hw49.2.2.2.2.2.2.2.2.2.2.2.2.2.2.2.2.2.2.2.2.2.2.2.1.2.2.2.2.2.2.2.2.2.2.2.2.2.2.2.1 k0_h11 k0_h12
theorem k0_off788_inb : ∀ (arg24 : BitVec 32) (k0_hw49 : k0_chk49 arg24), ∀ (k0_h11 : k0_cond11 arg24 = 1#1), ∀ (k0_h12 : k0_cond12 arg24 = 1#1), ∀ a, (k0_off788 arg24) a + S1x128x8960.size a ≤ S2x1024x8960.size a := fun arg24 k0_hw49 k0_h11 k0_h12 => k0_hw49.2.2.2.2.2.2.2.2.2.2.2.2.2.2.2.2.2.2.2.2.2.2.2.1.2.2.2.2.2.2.2.2.2.2.2.2.2.2.2.2.1 k0_h11 k0_h12
theorem k0_off788_wordsfp8e4m3 : ∀ (arg24 : BitVec 32) (k0_hw49 : k0_chk49 arg24), ∀ (k0_h11 : k0_cond11 arg24 = 1#1), ∀ (k0_h12 : k0_cond12 arg24 = 1#1), (Rect.unit (s := S2x1024x8960) (k0_off788 arg24) S1x128x8960.size (k0_off788_inb arg24 k0_hw49 k0_h11 k0_h12)).WholeWords (EltTy.packing .fp8e4m3) := fun arg24 k0_hw49 k0_h11 k0_h12 => k0_hw49.2.2.2.2.2.2.2.2.2.2.2.2.2.2.2.2.2.2.2.2.2.2.2.1.2.2.2.2.2.2.2.2.2.2.2.2.2.2.2.2.2.1 k0_h11 k0_h12 (k0_off788_inb arg24 k0_hw49 k0_h11 k0_h12)
theorem k0_off789_inb : ∀ (arg24 : BitVec 32) (k0_hw49 : k0_chk49 arg24), ∀ (k0_h11 : k0_cond11 arg24 = 1#1), ∀ a, (k0_off789 arg24) a + S1.size a ≤ S40.size a := fun arg24 k0_hw49 k0_h11 => k0_hw49.2.2.2.2.2.2.2.2.2.2.2.2.2.2.2.2.2.2.2.2.2.2.2.1.2.2.2.2.2.2.2.2.2.2.2.2.2.2.2.2.2.2.1 k0_h11
theorem k0_off791_inb : ∀ (arg24 : BitVec 32) (k0_hw49 : k0_chk49 arg24), ∀ (k0_h11 : k0_cond11 arg24 = 1#1), ∀ a, (k0_off791 arg24) a + S1.size a ≤ S2.size a := fun arg24 k0_hw49 k0_h11 => k0_hw49.2.2.2.2.2.2.2.2.2.2.2.2.2.2.2.2.2.2.2.2.2.2.2.1.2.2.2.2.2.2.2.2.2.2.2.2.2.2.2.2.2.2.2.1 k0_h11
theorem k0_off793_inb : ∀ (arg24 : BitVec 32) (k0_hw49 : k0_chk49 arg24), ∀ (k0_h11 : k0_cond11 arg24 = 1#1), ∀ a, (k0_off793 arg24) a + S1x128x8960.size a ≤ S2x1024x8960.size a := fun arg24 k0_hw49 k0_h11 => k0_hw49.2.2.2.2.2.2.2.2.2.2.2.2.2.2.2.2.2.2.2.2.2.2.2.1.2.2.2.2.2.2.2.2.2.2.2.2.2.2.2.2.2.2.2.2.1 k0_h11
theorem k0_off793_wordsfp8e4m3 : ∀ (arg24 : BitVec 32) (k0_hw49 : k0_chk49 arg24), ∀ (k0_h11 : k0_cond11 arg24 = 1#1), (Rect.unit (s := S2x1024x8960) (k0_off793 arg24) S1x128x8960.size (k0_off793_inb arg24 k0_hw49 k0_h11)).WholeWords (EltTy.packing .fp8e4m3) := fun arg24 k0_hw49 k0_h11 => k0_hw49.2.2.2.2.2.2.2.2.2.2.2.2.2.2.2.2.2.2.2.2.2.2.2.1.2.2.2.2.2.2.2.2.2.2.2.2.2.2.2.2.2.2.2.2.2.1 k0_h11 (k0_off793_inb arg24 k0_hw49 k0_h11)
theorem k0_off794_inb : ∀ (arg24 : BitVec 32) (k0_hw49 : k0_chk49 arg24), ∀ (k0_h11 : k0_cond11 arg24 = 1#1), ∀ a, (k0_off794 arg24) a + S1.size a ≤ S40.size a := fun arg24 k0_hw49 k0_h11 => k0_hw49.2.2.2.2.2.2.2.2.2.2.2.2.2.2.2.2.2.2.2.2.2.2.2.1.2.2.2.2.2.2.2.2.2.2.2.2.2.2.2.2.2.2.2.2.2.2.1 k0_h11
theorem k0_off796_inb : ∀ (arg24 : BitVec 32) (k0_hw49 : k0_chk49 arg24), ∀ (k0_h11 : k0_cond11 arg24 = 1#1), ∀ a, (k0_off796 arg24) a + S1.size a ≤ S2.size a := fun arg24 k0_hw49 k0_h11 => k0_hw49.2.2.2.2.2.2.2.2.2.2.2.2.2.2.2.2.2.2.2.2.2.2.2.1.2.2.2.2.2.2.2.2.2.2.2.2.2.2.2.2.2.2.2.2.2.2.2.1 k0_h11
theorem k0_off798_inb : ∀ (arg24 : BitVec 32) (k0_hw49 : k0_chk49 arg24), ∀ (k0_h11 : k0_cond11 arg24 = 1#1), ∀ a, (k0_off798 arg24) a + S1x128x8960.size a ≤ S2x1024x8960.size a := fun arg24 k0_hw49 k0_h11 => k0_hw49.2.2.2.2.2.2.2.2.2.2.2.2.2.2.2.2.2.2.2.2.2.2.2.1.2.2.2.2.2.2.2.2.2.2.2.2.2.2.2.2.2.2.2.2.2.2.2.2.1 k0_h11
theorem k0_off798_wordsfp8e4m3 : ∀ (arg24 : BitVec 32) (k0_hw49 : k0_chk49 arg24), ∀ (k0_h11 : k0_cond11 arg24 = 1#1), (Rect.unit (s := S2x1024x8960) (k0_off798 arg24) S1x128x8960.size (k0_off798_inb arg24 k0_hw49 k0_h11)).WholeWords (EltTy.packing .fp8e4m3) := fun arg24 k0_hw49 k0_h11 => k0_hw49.2.2.2.2.2.2.2.2.2.2.2.2.2.2.2.2.2.2.2.2.2.2.2.1.2.2.2.2.2.2.2.2.2.2.2.2.2.2.2.2.2.2.2.2.2.2.2.2.2.1 k0_h11 (k0_off798_inb arg24 k0_hw49 k0_h11)
theorem k0_off799_inb : ∀ (arg24 : BitVec 32) (k0_hw49 : k0_chk49 arg24), ∀ (k0_h11 : k0_cond11 arg24 = 1#1), ∀ a, (k0_off799 arg24) a + S1.size a ≤ S40.size a := fun arg24 k0_hw49 k0_h11 => k0_hw49.2.2.2.2.2.2.2.2.2.2.2.2.2.2.2.2.2.2.2.2.2.2.2.1.2.2.2.2.2.2.2.2.2.2.2.2.2.2.2.2.2.2.2.2.2.2.2.2.2.2.1 k0_h11
theorem k0_off801_inb : ∀ (arg24 : BitVec 32) (k0_hw49 : k0_chk49 arg24), ∀ (k0_h11 : k0_cond11 arg24 = 1#1), ∀ a, (k0_off801 arg24) a + S1.size a ≤ S2.size a := fun arg24 k0_hw49 k0_h11 => k0_hw49.2.2.2.2.2.2.2.2.2.2.2.2.2.2.2.2.2.2.2.2.2.2.2.1.2.2.2.2.2.2.2.2.2.2.2.2.2.2.2.2.2.2.2.2.2.2.2.2.2.2.2.1 k0_h11
theorem k0_off803_inb : ∀ (arg24 : BitVec 32) (k0_hw49 : k0_chk49 arg24), ∀ (k0_h11 : k0_cond11 arg24 = 1#1), ∀ a, (k0_off803 arg24) a + S1x128x8960.size a ≤ S2x1024x8960.size a := fun arg24 k0_hw49 k0_h11 => k0_hw49.2.2.2.2.2.2.2.2.2.2.2.2.2.2.2.2.2.2.2.2.2.2.2.1.2.2.2.2.2.2.2.2.2.2.2.2.2.2.2.2.2.2.2.2.2.2.2.2.2.2.2.2.1 k0_h11
theorem k0_off803_wordsfp8e4m3 : ∀ (arg24 : BitVec 32) (k0_hw49 : k0_chk49 arg24), ∀ (k0_h11 : k0_cond11 arg24 = 1#1), (Rect.unit (s := S2x1024x8960) (k0_off803 arg24) S1x128x8960.size (k0_off803_inb arg24 k0_hw49 k0_h11)).WholeWords (EltTy.packing .fp8e4m3) := fun arg24 k0_hw49 k0_h11 => k0_hw49.2.2.2.2.2.2.2.2.2.2.2.2.2.2.2.2.2.2.2.2.2.2.2.1.2.2.2.2.2.2.2.2.2.2.2.2.2.2.2.2.2.2.2.2.2.2.2.2.2.2.2.2.2.1 k0_h11 (k0_off803_inb arg24 k0_hw49 k0_h11)
theorem k0_off804_inb : ∀ (arg24 : BitVec 32) (k0_hw49 : k0_chk49 arg24), ∀ (k0_h11 : k0_cond11 arg24 = 1#1), ∀ a, (k0_off804 arg24) a + S1.size a ≤ S40.size a := fun arg24 k0_hw49 k0_h11 => k0_hw49.2.2.2.2.2.2.2.2.2.2.2.2.2.2.2.2.2.2.2.2.2.2.2.1.2.2.2.2.2.2.2.2.2.2.2.2.2.2.2.2.2.2.2.2.2.2.2.2.2.2.2.2.2.2.1 k0_h11
theorem k0_off806_inb : ∀ (arg24 : BitVec 32) (k0_hw49 : k0_chk49 arg24), ∀ (k0_h11 : k0_cond11 arg24 = 1#1), ∀ a, (k0_off806 arg24) a + S1.size a ≤ S2.size a := fun arg24 k0_hw49 k0_h11 => k0_hw49.2.2.2.2.2.2.2.2.2.2.2.2.2.2.2.2.2.2.2.2.2.2.2.1.2.2.2.2.2.2.2.2.2.2.2.2.2.2.2.2.2.2.2.2.2.2.2.2.2.2.2.2.2.2.2 k0_h11
theorem k0_off808_inb : ∀ (arg24 : BitVec 32) (k0_hw49 : k0_chk49 arg24), ∀ (k0_h11 : k0_cond11 arg24 = 1#1), ∀ a, (k0_off808 arg24) a + S1x128x8960.size a ≤ S2x1024x8960.size a := fun arg24 k0_hw49 k0_h11 => k0_hw49.2.2.2.2.2.2.2.2.2.2.2.2.2.2.2.2.2.2.2.2.2.2.2.2.1 k0_h11
theorem k0_off808_wordsfp8e4m3 : ∀ (arg24 : BitVec 32) (k0_hw49 : k0_chk49 arg24), ∀ (k0_h11 : k0_cond11 arg24 = 1#1), (Rect.unit (s := S2x1024x8960) (k0_off808 arg24) S1x128x8960.size (k0_off808_inb arg24 k0_hw49 k0_h11)).WholeWords (EltTy.packing .fp8e4m3) := fun arg24 k0_hw49 k0_h11 => k0_hw49.2.2.2.2.2.2.2.2.2.2.2.2.2.2.2.2.2.2.2.2.2.2.2.2.2.1 k0_h11 (k0_off808_inb arg24 k0_hw49 k0_h11)
theorem k0_off809_inb : ∀ (arg24 : BitVec 32) (k0_hw49 : k0_chk49 arg24), ∀ (k0_h11 : k0_cond11 arg24 = 1#1), ∀ a, (k0_off809 arg24) a + S1.size a ≤ S40.size a := fun arg24 k0_hw49 k0_h11 => k0_hw49.2.2.2.2.2.2.2.2.2.2.2.2.2.2.2.2.2.2.2.2.2.2.2.2.2.2.1 k0_h11
theorem k0_off811_inb : ∀ (arg24 : BitVec 32) (k0_hw49 : k0_chk49 arg24), ∀ (k0_h11 : k0_cond11 arg24 = 1#1), ∀ a, (k0_off811 arg24) a + S1.size a ≤ S2.size a := fun arg24 k0_hw49 k0_h11 => k0_hw49.2.2.2.2.2.2.2.2.2.2.2.2.2.2.2.2.2.2.2.2.2.2.2.2.2.2.2.1 k0_h11
theorem k0_off813_inb : ∀ (arg24 : BitVec 32) (k0_hw49 : k0_chk49 arg24), ∀ (k0_h11 : k0_cond11 arg24 = 1#1), ∀ a, (k0_off813 arg24) a + S1x128x8960.size a ≤ S2x1024x8960.size a := fun arg24 k0_hw49 k0_h11 => k0_hw49.2.2.2.2.2.2.2.2.2.2.2.2.2.2.2.2.2.2.2.2.2.2.2.2.2.2.2.2.1 k0_h11
theorem k0_off813_wordsfp8e4m3 : ∀ (arg24 : BitVec 32) (k0_hw49 : k0_chk49 arg24), ∀ (k0_h11 : k0_cond11 arg24 = 1#1), (Rect.unit (s := S2x1024x8960) (k0_off813 arg24) S1x128x8960.size (k0_off813_inb arg24 k0_hw49 k0_h11)).WholeWords (EltTy.packing .fp8e4m3) := fun arg24 k0_hw49 k0_h11 => k0_hw49.2.2.2.2.2.2.2.2.2.2.2.2.2.2.2.2.2.2.2.2.2.2.2.2.2.2.2.2.2.1 k0_h11 (k0_off813_inb arg24 k0_hw49 k0_h11)
theorem k0_off814_inb : ∀ (arg24 : BitVec 32) (k0_hw49 : k0_chk49 arg24), ∀ (k0_h11 : k0_cond11 arg24 = 1#1), ∀ a, (k0_off814 arg24) a + S1.size a ≤ S40.size a := fun arg24 k0_hw49 k0_h11 => k0_hw49.2.2.2.2.2.2.2.2.2.2.2.2.2.2.2.2.2.2.2.2.2.2.2.2.2.2.2.2.2.2.1 k0_h11
theorem k0_off816_inb : ∀ (arg24 : BitVec 32) (k0_hw49 : k0_chk49 arg24), ∀ (k0_h11 : k0_cond11 arg24 = 1#1), ∀ a, (k0_off816 arg24) a + S1.size a ≤ S2.size a := fun arg24 k0_hw49 k0_h11 => k0_hw49.2.2.2.2.2.2.2.2.2.2.2.2.2.2.2.2.2.2.2.2.2.2.2.2.2.2.2.2.2.2.2.1 k0_h11
theorem k0_off818_inb : ∀ (arg24 : BitVec 32) (k0_hw49 : k0_chk49 arg24), ∀ (k0_h11 : k0_cond11 arg24 = 1#1), ∀ a, (k0_off818 arg24) a + S1x128x8960.size a ≤ S2x1024x8960.size a := fun arg24 k0_hw49 k0_h11 => k0_hw49.2.2.2.2.2.2.2.2.2.2.2.2.2.2.2.2.2.2.2.2.2.2.2.2.2.2.2.2.2.2.2.2.1 k0_h11
theorem k0_off818_wordsfp8e4m3 : ∀ (arg24 : BitVec 32) (k0_hw49 : k0_chk49 arg24), ∀ (k0_h11 : k0_cond11 arg24 = 1#1), (Rect.unit (s := S2x1024x8960) (k0_off818 arg24) S1x128x8960.size (k0_off818_inb arg24 k0_hw49 k0_h11)).WholeWords (EltTy.packing .fp8e4m3) := fun arg24 k0_hw49 k0_h11 => k0_hw49.2.2.2.2.2.2.2.2.2.2.2.2.2.2.2.2.2.2.2.2.2.2.2.2.2.2.2.2.2.2.2.2.2.1 k0_h11 (k0_off818_inb arg24 k0_hw49 k0_h11)
theorem k0_off819_inb : ∀ (arg24 : BitVec 32) (k0_hw49 : k0_chk49 arg24), ∀ (k0_h11 : k0_cond11 arg24 = 1#1), ∀ a, (k0_off819 arg24) a + S1.size a ≤ S40.size a := fun arg24 k0_hw49 k0_h11 => k0_hw49.2.2.2.2.2.2.2.2.2.2.2.2.2.2.2.2.2.2.2.2.2.2.2.2.2.2.2.2.2.2.2.2.2.2.1 k0_h11
theorem k0_off821_inb : ∀ (arg24 : BitVec 32) (k0_hw49 : k0_chk49 arg24), ∀ (k0_h11 : k0_cond11 arg24 = 1#1), ∀ a, (k0_off821 arg24) a + S1.size a ≤ S2.size a := fun arg24 k0_hw49 k0_h11 => k0_hw49.2.2.2.2.2.2.2.2.2.2.2.2.2.2.2.2.2.2.2.2.2.2.2.2.2.2.2.2.2.2.2.2.2.2.2.1 k0_h11
theorem k0_off823_inb : ∀ (arg24 : BitVec 32) (k0_hw49 : k0_chk49 arg24), ∀ (k0_h11 : k0_cond11 arg24 = 1#1), ∀ a, (k0_off823 arg24) a + S1x128x8960.size a ≤ S2x1024x8960.size a := fun arg24 k0_hw49 k0_h11 => k0_hw49.2.2.2.2.2.2.2.2.2.2.2.2.2.2.2.2.2.2.2.2.2.2.2.2.2.2.2.2.2.2.2.2.2.2.2.2.1 k0_h11
theorem k0_off823_wordsfp8e4m3 : ∀ (arg24 : BitVec 32) (k0_hw49 : k0_chk49 arg24), ∀ (k0_h11 : k0_cond11 arg24 = 1#1), (Rect.unit (s := S2x1024x8960) (k0_off823 arg24) S1x128x8960.size (k0_off823_inb arg24 k0_hw49 k0_h11)).WholeWords (EltTy.packing .fp8e4m3) := fun arg24 k0_hw49 k0_h11 => k0_hw49.2.2.2.2.2.2.2.2.2.2.2.2.2.2.2.2.2.2.2.2.2.2.2.2.2.2.2.2.2.2.2.2.2.2.2.2.2.1 k0_h11 (k0_off823_inb arg24 k0_hw49 k0_h11)
theorem k0_off824_inb : ∀ (arg24 : BitVec 32) (k0_hw49 : k0_chk49 arg24), ∀ (k0_h11 : k0_cond11 arg24 = 1#1), ∀ a, (k0_off824 arg24) a + S1.size a ≤ S40.size a := fun arg24 k0_hw49 k0_h11 => k0_hw49.2.2.2.2.2.2.2.2.2.2.2.2.2.2.2.2.2.2.2.2.2.2.2.2.2.2.2.2.2.2.2.2.2.2.2.2.2.2.1 k0_h11
theorem k0_off826_inb : ∀ (arg24 : BitVec 32) (k0_hw49 : k0_chk49 arg24), ∀ (k0_h11 : k0_cond11 arg24 = 1#1), ∀ a, (k0_off826 arg24) a + S1.size a ≤ S2.size a := fun arg24 k0_hw49 k0_h11 => k0_hw49.2.2.2.2.2.2.2.2.2.2.2.2.2.2.2.2.2.2.2.2.2.2.2.2.2.2.2.2.2.2.2.2.2.2.2.2.2.2.2.1 k0_h11
theorem k0_off828_inb : ∀ (arg24 : BitVec 32) (k0_hw49 : k0_chk49 arg24), ∀ (k0_h11 : k0_cond11 arg24 = 1#1), ∀ a, (k0_off828 arg24) a + S1x128x8960.size a ≤ S2x1024x8960.size a := fun arg24 k0_hw49 k0_h11 => k0_hw49.2.2.2.2.2.2.2.2.2.2.2.2.2.2.2.2.2.2.2.2.2.2.2.2.2.2.2.2.2.2.2.2.2.2.2.2.2.2.2.2.1 k0_h11
theorem k0_off828_wordsfp8e4m3 : ∀ (arg24 : BitVec 32) (k0_hw49 : k0_chk49 arg24), ∀ (k0_h11 : k0_cond11 arg24 = 1#1), (Rect.unit (s := S2x1024x8960) (k0_off828 arg24) S1x128x8960.size (k0_off828_inb arg24 k0_hw49 k0_h11)).WholeWords (EltTy.packing .fp8e4m3) := fun arg24 k0_hw49 k0_h11 => k0_hw49.2.2.2.2.2.2.2.2.2.2.2.2.2.2.2.2.2.2.2.2.2.2.2.2.2.2.2.2.2.2.2.2.2.2.2.2.2.2.2.2.2 k0_h11 (k0_off828_inb arg24 k0_hw49 k0_h11)

def k0_chk307 (arg24 : BitVec 32) (v675 : BitVec 32) : Prop :=
  (∀ (k0_h11 : k0_cond11 arg24 = 1#1), ∀ a, (k0_off827 v675) a + S128x8960.size a ≤ S40960x8960.size a) ∧
  (∀ (k0_h11 : k0_cond11 arg24 = 1#1), ∀ (hinb : ∀ a, (k0_off827 v675) a + S128x8960.size a ≤ S40960x8960.size a), (Rect.unit (s := S40960x8960) (k0_off827 v675) S128x8960.size hinb).WholeWords (EltTy.packing .fp8e4m3))
theorem k0_off827_inb : ∀ (arg24 : BitVec 32) (v675 : BitVec 32) (k0_hw307 : k0_chk307 arg24 v675), ∀ (k0_h11 : k0_cond11 arg24 = 1#1), ∀ a, (k0_off827 v675) a + S128x8960.size a ≤ S40960x8960.size a := fun arg24 v675 k0_hw307 k0_h11 => k0_hw307.1 k0_h11
theorem k0_off827_wordsfp8e4m3 : ∀ (arg24 : BitVec 32) (v675 : BitVec 32) (k0_hw307 : k0_chk307 arg24 v675), ∀ (k0_h11 : k0_cond11 arg24 = 1#1), (Rect.unit (s := S40960x8960) (k0_off827 v675) S128x8960.size (k0_off827_inb arg24 v675 k0_hw307 k0_h11)).WholeWords (EltTy.packing .fp8e4m3) := fun arg24 v675 k0_hw307 k0_h11 => k0_hw307.2 k0_h11 (k0_off827_inb arg24 v675 k0_hw307 k0_h11)

@[reducible] def k0_t4_loop : Scf.Loop 32 :=
  let c0_i32_95 : BitVec 32 := 0#32
  let c40_i32_96 : BitVec 32 := 40#32
  let v268 : BitVec 32 := Scalar.addi c0_i32_95 c40_i32_96
  let c1_i32_97 : BitVec 32 := 1#32
  ⟨c0_i32_95, v268, c1_i32_97⟩
def k0_off829 (k0_t4 : Fin k0_t4_loop.trips) : Fin 1 → Nat :=
  let c0_i32_95 : BitVec 32 := 0#32
  let c1_i32_97 : BitVec 32 := 1#32
  let arg25 : BitVec 32 := Scf.iv c0_i32_95 c1_i32_97 k0_t4
  let v270 : Index := Scalar.indexCast arg25
  ![v270.toNat]
def k0_off830 (arg26 : BitVec 32) : Fin 1 → Nat :=
  let v277 : Index := Scalar.indexCast arg26
  ![v277.toNat]
def k0_cond13 (v267 : BitVec 32) (v271 : BitVec 32) : BitVec 1 :=
  let v272 : BitVec 1 := Scalar.cmpi .ne v271 v267
  let v273 : BitVec 32 := Scalar.extui v272
  let c0_i32_99 : BitVec 32 := 0#32
  let v274 : BitVec 1 := Scalar.cmpi .ne v273 c0_i32_99
  v274

def k0_chk308 (v267 : BitVec 32) (arg26 : BitVec 32) (v271 : BitVec 32) : Prop :=
  (∀ (k0_h13 : k0_cond13 v267 v271 = 1#1), ∀ a, (k0_off830 arg26) a + S1.size a ≤ S40.size a)
theorem k0_off830_inb : ∀ (v267 : BitVec 32) (arg26 : BitVec 32) (v271 : BitVec 32) (k0_hw308 : k0_chk308 v267 arg26 v271), ∀ (k0_h13 : k0_cond13 v267 v271 = 1#1), ∀ a, (k0_off830 arg26) a + S1.size a ≤ S40.size a := fun v267 arg26 v271 k0_hw308 k0_h13 => k0_hw308 k0_h13

abbrev stage0_0 : Fin 1 → Memref sig .tc .vmem S320x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S320x128 : Shape := ⟨2, ![320, 128]⟩
abbrev S1x1 : Shape := ⟨2, ![1, 1]⟩
abbrev S40960x1536 : Shape := ⟨2, ![40960, 1536]⟩
abbrev S1536x8960 : Shape := ⟨2, ![1536, 8960]⟩
abbrev S40960x8960 : Shape := ⟨2, ![40960, 8960]⟩
abbrev S1x256 : Shape := ⟨2, ![1, 256]⟩
abbrev S1x320x128 : Shape := ⟨3, ![1, 320, 128]⟩
abbrev S1 : Shape := ⟨1, ![1]⟩
abbrev S1x1x1 : Shape := ⟨3, ![1, 1, 1]⟩
abbrev S1x1x256 : Shape := ⟨3, ![1, 1, 256]⟩
abbrev S1x40960x8960 : Shape := ⟨3, ![1, 40960, 8960]⟩

abbrev nBuf : Space → Nat
  | .hbm => 9
  | .vmem => 5
  | .smem => 4
  | _ => 0

abbrev bufTy : (tb : Table) → Fin (tcTables nBuf tb) → BufTy
  | .hbm, ⟨0, _⟩ => ⟨S320x128, .f32⟩
  | .hbm, ⟨1, _⟩ => ⟨S1x1, .f32⟩
  | .hbm, ⟨2, _⟩ => ⟨S40960x1536, .bf16⟩
  | .hbm, ⟨3, _⟩ => ⟨S1536x8960, .fp8e4m3⟩
  | .hbm, ⟨4, _⟩ => ⟨S40960x8960, .fp8e4m3⟩
  | .hbm, ⟨5, _⟩ => ⟨S40960x1536, .fp8e4m3⟩
  | .hbm, ⟨6, _⟩ => ⟨S1x1, .f32⟩
  | .hbm, ⟨7, _⟩ => ⟨S1x1, .f32⟩
  | .hbm, ⟨8, _⟩ => ⟨S1x1, .f32⟩
  | .local _ .vmem, ⟨0, _⟩ => ⟨S320x128, .f32⟩
  | .local _ .vmem, ⟨1, _⟩ => ⟨S40960x1536, .bf16⟩
  | .local _ .vmem, ⟨2, _⟩ => ⟨S1536x8960, .fp8e4m3⟩
  | .local _ .vmem, ⟨3, _⟩ => ⟨S40960x8960, .fp8e4m3⟩
  | .local _ .vmem, ⟨4, _⟩ => ⟨S40960x1536, .fp8e4m3⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | _, _ => ⟨S320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg1_0 : Ref sig .tc := ⟨.smem, 0, rfl⟩
abbrev cc0_stg6_0 : Ref sig .tc := ⟨.smem, 1, rfl⟩
abbrev cc0_stg7_0 : Ref sig .tc := ⟨.smem, 2, rfl⟩
abbrev cc0_stg8_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S320x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40960x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x8960 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40960x8960 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S40960x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.H1.lean ====
module
public import proofs.«01_k».proof.Proof.Gen.ReferenceIdeal.Value
public import Idealize.ShloMosaic.Lib.Pointwise
public import Idealize.ShloMosaic.Lib.ValueIdxCore
public import Idealize.ShloMosaic.Lib.Pipeline.ValueKit
public import Idealize.ShloMosaic.Lib.VecWindow
@[expose] public section
set_option maxRecDepth 65536
noncomputable section
namespace Cert.Proof.ReferenceIdeal
open Cert.ReferenceIdeal Cert.ReferenceIdeal.Gen
open Idealize.ShloMosaic

variable (m : (ℓ : Loc nD τ sig) → Buf (Elt Ideal) ℓ) (c : Dev nD) (t : Fin cfg0.N)
theorem blk0 : iblk m c 0 t = m (c.tc.loc main_arg0) := by
  have h0 : ∀ t : Fin cfg0.N, win0_0.index t 0 = 0 ∧ win0_0.index t 1 = 0 := (by decide +kernel : ∀ t : Fin grid0.N, win0_0.index t 0 = 0 ∧ win0_0.index t 1 = 0)
  have h0 := h0 t
  funext i
  blk_ext [iblk, V]
theorem blk1 : iblk m c 1 t = m (c.tc.loc main_arg1) := by
  have h0 : ∀ t : Fin cfg0.N, win0_1.index t 0 = 0 ∧ win0_1.index t 1 = 0 := (by decide +kernel : ∀ t : Fin grid0.N, win0_1.index t 0 = 0 ∧ win0_1.index t 1 = 0)
  have h0 := h0 t
  funext i
  blk_ext [iblk, V]
theorem blk2 : iblk m c 2 t = m (c.tc.loc main_arg2) := by
  have h0 : ∀ t : Fin cfg0.N, win0_2.index t 0 = 0 ∧ win0_2.index t 1 = 0 := (by decide +kernel : ∀ t : Fin grid0.N, win0_2.index t 0 = 0 ∧ win0_2.index t 1 = 0)
  have h0 := h0 t
  funext i
  blk_ext [iblk, V]
theorem blk3 : iblk m c 3 t = m (c.tc.loc main_arg3) := by
  have h0 : ∀ t : Fin cfg0.N, win0_3.index t 0 = 0 ∧ win0_3.index t 1 = 0 := (by decide +kernel : ∀ t : Fin grid0.N, win0_3.index t 0 = 0 ∧ win0_3.index t 1 = 0)
  have h0 := h0 t
  funext i
  blk_ext [iblk, V]
section
variable (gm : Vec Ideal S320x128 .f32) (ws : Vec Ideal S1x1 .f32) (x : Vec Ideal S40960x1536 .bf16) (w : Vec Ideal S1536x8960 .fp8e4m3)
theorem ws_read : kernelRun0_A.sl.r c (ms0_1 t) (hs0_1 t) ws = ws (ValueIdx.ix2 0 0) := by
  unfold kernelRun0_A.sl.r
  rw [View.readAt_full, (hs0_1 t).read_unread]
  exact congrArg ws ((ValueIdx.eq_ix2 _).trans (congrArg₂ ValueIdx.ix2 (Subsingleton.elim (α := Fin 1) _ _) (Subsingleton.elim (α := Fin 1) _ _)))
theorem e0 : View.readAt (Elt Ideal) (ms0_0 t).view (Rect.unit (s := S320x128) ![0, 0] S320x128.size inb_S320x128_S320x128_0_0).toLoadRect ((hs0_0 t).unread gm) = gm := (View.readAt_full _ _ _).trans ((hs0_0 t).read_unread gm)
theorem e2 : View.readAt (Elt Ideal) (ms0_2 t).view (Rect.unit (s := S40960x1536) ![0, 0] S40960x1536.size inb_S40960x1536_S40960x1536_0_0).toLoadRect ((hs0_2 t).unread x) = x := (View.readAt_full _ _ _).trans ((hs0_2 t).read_unread x)
theorem e3 : View.readAt (Elt Ideal) (ms0_3 t).view (Rect.unit (s := S1536x8960) ![0, 0] S1536x8960.size inb_S1536x8960_S1536x8960_0_0).toLoadRect ((hs0_3 t).unread w) = w := (View.readAt_full _ _ _).trans ((hs0_3 t).read_unread w)
theorem o4 : out0_A_4 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) gm ws x w = k0_pay3 k0_pay4 (k0_pay7 gm x w (ws (ValueIdx.ix2 0 0))) (k0_pay8 gm x w (ws (ValueIdx.ix2 0 0))) := by
  unfold out0_A_4 kernelRun0_A
  dsimp only
  rw [View.read_writes_full]
  unfold kernelRun0_A.sl.r_3 kernelRun0_A.sl.r_4
  rw [e0, e2, e3, ws_read]
theorem o5 : out0_A_5 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) gm ws x w = k0_pay6 gm x := by
  unfold out0_A_5 kernelRun0_A
  dsimp only
  rw [View.read_writes_full]
  unfold kernelRun0_A.sl.r_2
  rw [e0, e2]
theorem o6 : out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) gm ws x w = fun _ => k0_pay2 k0_pay4 (k0_pay8 gm x w (ws (ValueIdx.ix2 0 0))) := by
  unfold out0_A_6 kernelRun0_A
  dsimp only
  rw [View.read_writes_full]
  unfold kernelRun0_A.sl.r_4
  rw [e0, e2, e3, ws_read]
  exact funext fun _ => rfl
theorem o7 : out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) gm ws x w = fun _ => k0_pay1 (k0_pay8 gm x w (ws (ValueIdx.ix2 0 0))) := by
  unfold out0_A_7 kernelRun0_A
  dsimp only
  rw [View.read_writes_full]
  unfold kernelRun0_A.sl.r_4
  rw [e0, e2, e3, ws_read]
  exact funext fun _ => rfl
theorem o8 : out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) gm ws x w = fun _ => k0_pay5 gm := by
  unfold out0_A_8 kernelRun0_A
  dsimp only
  rw [View.read_writes_full]
  unfold kernelRun0_A.sl.r_1
  rw [e0]
  exact funext fun _ => rfl
end
/-- The group maxima. -/
def GM : Vec Ideal S320x128 .f32 := m (c.tc.loc main_arg0)
/-- The scale of `w`. -/
def WS : Ideal .f32 := (m (c.tc.loc main_arg1) : Vec Ideal S1x1 .f32) (ValueIdx.ix2 0 0)
/-- The array `x`. -/
def XX : Vec Ideal S40960x1536 .bf16 := m (c.tc.loc main_arg2)
/-- The codes of `w`. -/
def WW : Vec Ideal S1536x8960 .fp8e4m3 := m (c.tc.loc main_arg3)
/-- Result 0. -/
def G4 : Vec Ideal S40960x8960 .fp8e4m3 := k0_pay3 k0_pay4 (k0_pay7 (GM m c) (XX m c) (WW m c) (WS m c)) (k0_pay8 (GM m c) (XX m c) (WW m c) (WS m c))
/-- Result 1. -/
def G5 : Vec Ideal S40960x1536 .fp8e4m3 := k0_pay6 (GM m c) (XX m c)
/-- Result 2. -/
def G6 : Vec Ideal S1x1 .f32 := fun _ => k0_pay2 k0_pay4 (k0_pay8 (GM m c) (XX m c) (WW m c) (WS m c))
/-- Result 3. -/
def G7 : Vec Ideal S1x1 .f32 := fun _ => k0_pay1 (k0_pay8 (GM m c) (XX m c) (WW m c) (WS m c))
/-- Result 4. -/
def G8 : Vec Ideal S1x1 .f32 := fun _ => k0_pay5 (GM m c)
end Cert.Proof.ReferenceIdeal
end
-- ==== Proof.A0.lean ====
module
public import proofs.«01_k».proof.KernelIdeal
@[expose] public section
namespace Cert.Proof.KernelIdeal
open Cert.KernelIdeal
open Idealize.ShloMosaic

theorem ar_shr {a : BitVec 32} : (Scalar.indexCast (Scalar.shrui a 7#32)).toNat = a.toNat / 128 := by
  show (Scalar.shrui a 7#32).toNat = _
  unfold Scalar.shrui IntOp.shrui
  rw [if_pos (by decide)]
  simp [BitVec.toNat_ushiftRight, Nat.shiftRight_eq_div_pow]

theorem ar_and {a : BitVec 32} : (Scalar.indexCast (Scalar.andi a 127#32)).toNat = a.toNat % 128 := by
  show (a &&& 127#32).toNat = _
  rw [BitVec.toNat_and]
  exact Nat.and_two_pow_sub_one_eq_mod _ 7

theorem ar_and1 {a : BitVec 32} : (Scalar.indexCast (Scalar.andi a 1#32)).toNat = a.toNat % 2 := by
  show (a &&& 1#32).toNat = _
  rw [BitVec.toNat_and]
  exact Nat.and_two_pow_sub_one_eq_mod _ 1

theorem ar_and1' {a : BitVec 32} : (Scalar.andi a 1#32).toNat = a.toNat % 2 := ar_and1

theorem ar_k {s g : ℕ} (hs : s < 40) (hg : g < 8) :
    (Scalar.addi (Scalar.muli (BitVec.ofNat 32 s) 8#32) (BitVec.ofNat 32 g)).toNat = 8 * s + g := by
  show (BitVec.ofNat 32 s * 8#32 + BitVec.ofNat 32 g).toNat = _
  simp [BitVec.toNat_add, BitVec.toNat_mul]; omega

theorem ar_row {r : ℕ} (hr : r < 320) : (Scalar.muli (BitVec.ofNat 32 r) 128#32).toNat = 128 * r := by
  show (BitVec.ofNat 32 r * 128#32).toNat = _
  simp [BitVec.toNat_mul]; omega

theorem ar_iv {i : ℕ} (hi : i < 40) : (Scf.iv (0#32) (1#32) i).toNat = i := by
  unfold Scf.iv; simp; omega

theorem ar_ivadd {i c : ℕ} (hi : i < 40) (hc : c < 40) : (Scalar.addi (Scf.iv (0#32) (1#32) i) (BitVec.ofNat 32 c)).toNat = i + c := by
  show (Scf.iv (0#32) (1#32) i + BitVec.ofNat 32 c).toNat = _
  rw [BitVec.toNat_add, ar_iv hi]; simp; omega

theorem ar_ivsub {i c : ℕ} (hi : i < 40) (hc : c ≤ i) : (Scalar.subi (Scf.iv (0#32) (1#32) i) (BitVec.ofNat 32 c)).toNat = i - c := by
  show (Scf.iv (0#32) (1#32) i - BitVec.ofNat 32 c).toNat = _
  rw [BitVec.toNat_sub, ar_iv hi]; simp; omega

theorem ar_nsub {n c : ℕ} (hn : n ≤ 40) (hc : c ≤ n) : (Scalar.subi (BitVec.ofNat 32 n) (BitVec.ofNat 32 c)).toNat = n - c := by
  show (BitVec.ofNat 32 n - BitVec.ofNat 32 c).toNat = _
  rw [BitVec.toNat_sub]; simp; omega

/-- In bounds: one cell of the permutation. -/
theorem inb_perm {off : Fin 2 → ℕ} {s g : ℕ} (hs : s < 40) (hg : g < 8) (h0 : off 0 = (8 * s + g) / 128) (h1 : off 1 = (8 * s + g) % 128) :
    ∀ a, off a + S1x1.size a ≤ S8x128.size a := by
  intro a; fin_cases a
  · show off 0 + 1 ≤ 8; omega
  · show off 1 + 1 ≤ 128; omega

theorem inb_x {off : Fin 2 → ℕ} {r : ℕ} (hr : r < 320) (h0 : off 0 = 128 * r) (h1 : off 1 = 0) :
    ∀ a, off a + S128x1536.size a ≤ S40960x1536.size a := by
  intro a; fin_cases a
  · show off 0 + 128 ≤ 40960; omega
  · show off 1 + 1536 ≤ 1536; omega

theorem inb_y {off : Fin 2 → ℕ} {r : ℕ} (hr : r < 320) (h0 : off 0 = 128 * r) (h1 : off 1 = 0) :
    ∀ a, off a + S128x8960.size a ≤ S40960x8960.size a := by
  intro a; fin_cases a
  · show off 0 + 128 ≤ 40960; omega
  · show off 1 + 8960 ≤ 8960; omega

theorem ww_x {off : Fin 2 → ℕ} {r : ℕ} (h0 : off 0 = 128 * r) {p : ℕ} (hp : p ∣ 128) (h : ∀ a, off a + S128x1536.size a ≤ S40960x1536.size a) :
    (Rect.unit (s := S40960x1536) off S128x1536.size h).WholeWords p :=
  .inl (.inr ⟨le_refl 2, rfl, .inl ⟨(show p ∣ off 0 from h0 ▸ hp.mul_right _), hp⟩⟩)

theorem ww_y {off : Fin 2 → ℕ} {r : ℕ} (h0 : off 0 = 128 * r) {p : ℕ} (hp : p ∣ 128) (h : ∀ a, off a + S128x8960.size a ≤ S40960x8960.size a) :
    (Rect.unit (s := S40960x8960) off S128x8960.size h).WholeWords p :=
  .inl (.inr ⟨le_refl 2, rfl, .inl ⟨(show p ∣ off 0 from h0 ▸ hp.mul_right _), hp⟩⟩)

theorem inb_used {off : Fin 1 → ℕ} {s : ℕ} (hs : s < 40) (h0 : off 0 = s) :
    ∀ a, off a + S1.size a ≤ S40.size a := by
  intro a; fin_cases a
  show off 0 + 1 ≤ 40; omega

end Cert.Proof.KernelIdeal
-- ==== Proof.A1.lean ====
module
public import proofs.«01_k».proof.Proof.Gen.KernelIdeal.Frame
public import Idealize.ShloMosaic.Lib.Batch
public import Idealize.ShloMosaic.Lib.Pipeline.FrameValue
@[expose] public section
noncomputable section
namespace Cert.Proof.KernelIdeal
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ
abbrev 𝒱₀ : Variants := Variants.none

/-- The counters' place in the certificate's resources. -/
abbrev EC : UEmb Counters (MT nD τ sig Unit (Elt F) ℕ (UD sig nD τ) ℕ) := countersEmb (U := UD sig nD τ)

/-- Eight transfers on one semaphore: `j` issued, `u` units waited for, `L g` kept for each one not yet issued. -/
def Fl (c : Dev nD) (sem : DmaSem sig) (N : ℕ) (D L : Fin 8 → sProp 𝕄) (j u : ℕ) : sProp 𝕄 :=
  iprop(Transfers.Batch (EC (F := F)) (c : Thread nD τ) (.dma sem) () N D j (N * u) ∗ bigSep (Transfers.pending j) L)

/-- The core's waits so far. -/
def Ow (c : Dev nD) : sProp 𝕄 := iprop(∃ W, owes (c : Thread nD τ) (0 : CellTallies nD τ sig Unit) W)

theorem fl_alloc (c : Dev nD) {sem : DmaSem sig} {N : ℕ} {D L : Fin 8 → sProp 𝕄} [∀ t, Storable (upEmb : UEmb _ 𝕄) (D t)] :
    iprop(semVal ((c : Thread nD τ), SemLoc.dma sem) 0 ∗ bigSep Finset.univ L) ⊢ |={Set.univ}=> Fl c sem N D L 0 0 := by
  iintro ⟨H, HL⟩
  imod (Transfers.batch_alloc' (Lvl := ℕ) (EC (F := F)) (c : Thread nD τ) () N D (sm := .dma sem) (E := Set.univ)) $$ H with HB
  imodintro
  unfold Fl
  rw [Nat.mul_zero, Transfers.pending_zero]
  isplitl [HB]; · iexact HB
  iexact HL

theorem fl_start {c : Dev nD} {α : Type} {Q : α → sProp 𝕄} {sp sp' : Space} {s : Shape} {e : EltTy} {src : Memref sig .tc sp s e} {dst : Memref sig .tc sp' s e}
    {sem : DmaSem sig} {N : ℕ} {D L : Fin 8 → sProp 𝕄} {j : ℕ} (hj : j < 8)
    {h1 : src.view.WordExact} {h2 : dst.view.WordExact} {h3 : DmaTarget.Typed (nD := nD) (p := (Proc.tc : Proc τ)) sp (SemLoc.dma sem) (.here dst)}
    {k : PUnit → Prog (TpuEff nD τ sig (Elt F) Λ₀ .tc) α} (q : PosShare TreeShare) (fs : Buf (Elt F) (src.view.loc (c : Thread nD τ)))
    (fd : Buf (Elt F) (dst.view.loc (c : Thread nD τ))) (put : sProp 𝕄) (hN : dst.view.amount (SemLoc.dma (sig := sig) sem) = N)
    (hL : L ⟨j, hj⟩ ⊢ iprop((src.view.loc (c : Thread nD τ) ↦[src.view.set]{q} fs) ∗ (dst.view.loc (c : Thread nD τ) ↦[dst.view.set]{fullShare} fd) ∗ put))
    (hD : iprop(put ∗ ((dst.view.loc (c : Thread nD τ) ↦[dst.view.set]{fullShare} (dst.view.write (Elt F) fd (ReadAs.same.apply (src.view.read (Elt F) fs)) Finset.univ))
              ∗ (src.view.loc (c : Thread nD τ) ↦[src.view.set]{q} fs))) ⊢ D ⟨j, hj⟩) :
    Fl c sem N D L j 0 ⊢ iprop((Fl c sem N D L (j + 1) 0 -∗ wp frame (wpE defs₀ 𝒱₀ (c : Thread nD τ) none) Set.univ (k ⟨⟩) Q)
      -∗ wp frame (wpE defs₀ 𝒱₀ (c : Thread nD τ) none) Set.univ (Prog.lift (.enqueueDma src (.here dst) (.dma sem) h1 h2 h3) >>= k) Q) := by
  unfold Fl Transfers.Batch
  rw [Nat.mul_zero]
  iintro ⟨⟨%γ, %γ₀, %κ, #Hinv, HI, H0, Hcred⟩, HL⟩ Hk
  ihave HI' := (show bigSep (Transfers.pending j) (fun t => Idealize.SL.ExclCount.count (EC (F := F)) (γ t) 0) ⊢ iprop(Idealize.SL.ExclCount.count (EC (F := F)) (γ ⟨j, hj⟩) 0 ∗ bigSep (Transfers.pending (j + 1)) (fun t => Idealize.SL.ExclCount.count (EC (F := F)) (γ t) 0))
    from Entails.of_eq (by rw [Transfers.pending_succ hj, bigSep_insert (Transfers.not_mem_pending_succ hj)]; rfl)) $$ HI
  icases HI' with ⟨Ht, HI⟩
  ihave HL' := (show bigSep (Transfers.pending j) L ⊢ iprop(L ⟨j, hj⟩ ∗ bigSep (Transfers.pending (j + 1)) L)
    from Entails.of_eq (by rw [Transfers.pending_succ hj, bigSep_insert (Transfers.not_mem_pending_succ hj)]; rfl)) $$ HL
  icases HL' with ⟨HLj, HL⟩
  ihave HLj := hL $$ HLj
  icases HLj with ⟨Hs, Hd, Hp⟩
  iapply (wp_enqueueDmaAs (Γ := .empty) 𝒱₀ (c : Thread nD τ) none Set.univ () N hN) $$ [Hs Hd] [Ht Hp]
  · isplitl [Hs]; · iexact Hs
    iapply (pointsTo_writeUpdate (c : Thread nD τ) (v := dst.view) subset_rfl) $$ Hd
  · iapply (Transfers.batch_creditUpdate_with (EC (F := F)) ⟨j, hj⟩ hD)
    isplitr; · iexact Hinv
    isplitl [Ht]; · iexact Ht
    iexact Hp
  iintro Hcred'
  iapply Hk
  isplitr [HL]
  · iexists γ, γ₀, κ
    isplitr; · iexact Hinv
    isplitl [HI]; · iexact HI
    isplitl [H0]; · iexact H0
    rw [show (j + 1) * N - 0 = (j * N - 0) + N by rw [Nat.succ_mul]; omega, ← tallyAt_add]
    icombine Hcred Hcred' as H
    iexact H
  · iexact HL

theorem fl_wait {c : Dev nD} {α : Type} {Q : α → sProp 𝕄} {sp sp' : Space} {s s' : Shape} {e e' : EltTy} {src : Memref sig .tc sp' s' e'} {dst : Memref sig .tc sp s e}
    {sem : DmaSem sig} {N : ℕ} {D L : Fin 8 → sProp 𝕄} {u : ℕ} (hu : u < 7)
    {h1 : src.view.WordExact} {h2 : dst.view.WordExact}
    {k : PUnit → Prog (TpuEff nD τ sig (Elt F) Λ₀ .tc) α} (hN : dst.view.dmaCredit = N) (hN0 : 0 < N) :
    iprop(Fl c sem N D L 8 u ∗ Ow c) ⊢ iprop((iprop(Fl c sem N D L 8 (u + 1) ∗ Ow c) -∗ wp frame (wpE defs₀ 𝒱₀ (c : Thread nD τ) none) Set.univ (k ⟨⟩) Q)
      -∗ wp frame (wpE defs₀ 𝒱₀ (c : Thread nD τ) none) Set.univ (Prog.lift (.waitDma2 sem src dst h1 h2) >>= k) Q) := by
  unfold Fl Ow
  iintro ⟨⟨HB, HL⟩, ⟨%W, HO⟩⟩ Hk
  iapply (Transfers.wp_waitBatch (EC (F := F)) 𝒱₀ (c : Thread nD τ) none (hsrc := h1) (hdst := h2) () hN (D := D) (u := N * u) (by have := Nat.mul_le_mul_left N (show u + 2 ≤ 8 by omega); rw [Nat.mul_add] at this; omega)) $$ [HB HO]
  · isplitl [HB]; · iexact HB
    iexact HO
  iintro ⟨HB, HO⟩
  iapply Hk
  isplitl [HB HL]
  · rw [show N * (u + 1) = N * u + N from Nat.mul_succ _ _]
    isplitl [HB]; · iexact HB
    iexact HL
  · iexists _; iexact HO

theorem fl_last {c : Dev nD} {α : Type} {Q : α → sProp 𝕄} {sp sp' : Space} {s s' : Shape} {e e' : EltTy} {src : Memref sig .tc sp' s' e'} {dst : Memref sig .tc sp s e}
    {sem : DmaSem sig} {N : ℕ} {D L : Fin 8 → sProp 𝕄}
    {h1 : src.view.WordExact} {h2 : dst.view.WordExact}
    {k : PUnit → Prog (TpuEff nD τ sig (Elt F) Λ₀ .tc) α} (hN : dst.view.dmaCredit = N) (hN0 : 0 < N) :
    iprop(Fl c sem N D L 8 7 ∗ Ow c) ⊢ iprop((iprop((bigSep Finset.univ D ∗ semVal ((c : Thread nD τ), SemLoc.dma sem) 0) ∗ Ow c) -∗ wp frame (wpE defs₀ 𝒱₀ (c : Thread nD τ) none) Set.univ (k ⟨⟩) Q)
      -∗ wp frame (wpE defs₀ 𝒱₀ (c : Thread nD τ) none) Set.univ (Prog.lift (.waitDma2 sem src dst h1 h2) >>= k) Q) := by
  unfold Fl Ow
  iintro ⟨⟨HB, HL⟩, ⟨%W, HO⟩⟩ Hk
  iclear HL
  iapply (Transfers.wp_waitBatchLast (EC (F := F)) 𝒱₀ (c : Thread nD τ) none (hsrc := h1) (hdst := h2) () hN hN0 (D := D) (u := N * 7) (Nat.mul_succ N 7).symm) $$ [HB HO]
  · isplitl [HB]; · iexact HB
    iexact HO
  iintro ⟨HD, HS, HO⟩
  iapply Hk
  isplitl [HD HS]
  · isplitl [HD]; · iexact HD
    iexact HS
  · iexists _; iexact HO
end Cert.Proof.KernelIdeal
end
-- ==== Proof.A2.lean ====
module
public import proofs.«01_k».proof.Proof.A0
public import proofs.«01_k».proof.Proof.A1
public import Idealize.ShloMosaic.Lib.ValueIdx
@[expose] public section
noncomputable section
namespace Cert.Proof.KernelIdeal
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- What a run of the main call works with: the core, the order of the groups, the rows of `x`, the weights, the two factors. -/
structure Env (F : FTy → Type) [FloatOps F] where
  c : Dev nD
  P : ℕ → ℕ
  hP : ∀ k, P k < 320
  inj : ∀ a, a < 320 → ∀ b, b < 320 → P a = P b → a = b
  X : S40960x1536.Idx → Elt F .bf16
  W : S1536x8960.Idx → Elt F .fp8e4m3
  ym : F .f32
  xi : FVec F S1x1 .bf16

/-- Entry `(r, b)` of `x`. -/
def Env.x (E : Env F) (r b : ℕ) : Elt F .bf16 := E.X (ValueIdx.ix2 (Fin.ofNat 40960 r) (Fin.ofNat 1536 b))
/-- Row `a` of item `s` of `x`. -/
def Env.XV (E : Env F) (s a b : ℕ) : Elt F .bf16 := E.x (128 * E.P (8 * s + a / 128) + a % 128) b

def gX (p g : ℕ) : Finset S2x1024x1536.Idx := Finset.univ.filter fun i => (i 0).val = p ∧ (i 1).val / 128 = g
def slX (p : ℕ) : Finset S2x1024x1536.Idx := Finset.univ.filter fun i => (i 0).val = p
def gY (p g : ℕ) : Finset S2x1024x8960.Idx := Finset.univ.filter fun i => (i 0).val = p ∧ (i 1).val / 128 = g
def slY (p : ℕ) : Finset S2x1024x8960.Idx := Finset.univ.filter fun i => (i 0).val = p
def rwX (r : ℕ) : Finset S40960x1536.Idx := Finset.univ.filter fun i => (i 0).val / 128 = r
def rwY (r : ℕ) : Finset S40960x8960.Idx := Finset.univ.filter fun i => (i 0).val / 128 = r
/-- A slot's contents. -/
abbrev sv {α : Type} {C : ℕ} (f : ℕ → ℕ → α) : (⟨3, ![2, 1024, C]⟩ : Shape).Idx → α := fun i => f (i 1).val (i 2).val
/-- The rows of a group, at the item's contents `f`. -/
abbrev rv {α : Type} {C : ℕ} (f : ℕ → ℕ → α) (r g : ℕ) : (⟨2, ![40960, C]⟩ : Shape).Idx → α := fun i => f (128 * g + ((i 0).val - 128 * r)) (i 1).val

/-- The semaphore of a slot. -/
def semX (p : ℕ) : DmaSem sig := cc0_scratch10.ix fun a => ⟨p % S2.size a, Nat.mod_lt _ (by fin_cases a; decide)⟩
def semC (p : ℕ) : DmaSem sig := cc0_scratch11.ix fun a => ⟨p % S2.size a, Nat.mod_lt _ (by fin_cases a; decide)⟩
def semY (p : ℕ) : DmaSem sig := cc0_scratch12.ix fun a => ⟨p % S2.size a, Nat.mod_lt _ (by fin_cases a; decide)⟩
abbrev hl : PosShare TreeShare := (fullShare : PosShare TreeShare).left
abbrev hr : PosShare TreeShare := (fullShare : PosShare TreeShare).right
abbrev shX (p g : ℕ) : PosShare TreeShare := Transfers.shareTokN fullShare (8 * p + g)

section geometry
variable {off : Fin 3 → ℕ} {p g : ℕ}

theorem set_gx {h hs hq} (h0 : off 0 = p) (h1 : off 1 = 128 * g) (h2 : off 2 = 0) :
    (((Memref.whole cc0_scratch1).slice (Rect.unit (s := S2x1024x1536) off S1x128x1536.size h) hs).squeeze S128x1536 hq).view.set = gX p g := by
  rw [Memref.set_view_squeeze, View.set_slice_whole]
  ext i
  rw [Rect.mem_set_unit]
  have i0 := (i 0).isLt; have i1 := (i 1).isLt; have i2 := (i 2).isLt
  change (i 0).val < 2 at i0; change (i 1).val < 1024 at i1; change (i 2).val < 1536 at i2
  constructor
  · intro H
    have H0 := H 0; have H1 := H 1
    change off 0 ≤ (i 0).val ∧ (i 0).val < off 0 + 1 at H0; change off 1 ≤ (i 1).val ∧ (i 1).val < off 1 + 128 at H1
    exact Finset.mem_filter.mpr ⟨Finset.mem_univ _, by omega, by omega⟩
  · intro H
    obtain ⟨-, H0, H1⟩ := Finset.mem_filter.mp H
    intro a; fin_cases a
    · show off 0 ≤ (i 0).val ∧ (i 0).val < off 0 + 1; omega
    · show off 1 ≤ (i 1).val ∧ (i 1).val < off 1 + 128; omega
    · show off 2 ≤ (i 2).val ∧ (i 2).val < off 2 + 1536; omega
theorem set_rx {off : Fin 2 → ℕ} {r : ℕ} {h hs} (h0 : off 0 = 128 * r) (h1 : off 1 = 0) :
    ((Memref.whole main_arg2).slice (Rect.unit (s := S40960x1536) off S128x1536.size h) hs).view.set = rwX r := by
  rw [View.set_slice_whole]
  ext i
  rw [Rect.mem_set_unit]
  have i0 := (i 0).isLt; have i1 := (i 1).isLt
  change (i 0).val < 40960 at i0; change (i 1).val < 1536 at i1
  constructor
  · intro H
    have H0 := H 0
    change off 0 ≤ (i 0).val ∧ (i 0).val < off 0 + 128 at H0
    exact Finset.mem_filter.mpr ⟨Finset.mem_univ _, by omega⟩
  · intro H
    obtain ⟨-, H0⟩ := Finset.mem_filter.mp H
    intro a; fin_cases a
    · show off 0 ≤ (i 0).val ∧ (i 0).val < off 0 + 128; omega
    · show off 1 ≤ (i 1).val ∧ (i 1).val < off 1 + 1536; omega
theorem emb_gx {h hs hq} (j : S128x1536.Idx) :
    (((((Memref.whole cc0_scratch1).slice (Rect.unit (s := S2x1024x1536) off S1x128x1536.size h) hs).squeeze S128x1536 hq).view.emb j : S2x1024x1536.Idx) 0).val = off 0
    ∧ (((((Memref.whole cc0_scratch1).slice (Rect.unit (s := S2x1024x1536) off S1x128x1536.size h) hs).squeeze S128x1536 hq).view.emb j : S2x1024x1536.Idx) 1).val = off 1 + (j 0).val
    ∧ (((((Memref.whole cc0_scratch1).slice (Rect.unit (s := S2x1024x1536) off S1x128x1536.size h) hs).squeeze S128x1536 hq).view.emb j : S2x1024x1536.Idx) 2).val = off 2 + (j 1).val := by
  have e : (((Memref.whole cc0_scratch1).slice (Rect.unit (s := S2x1024x1536) off S1x128x1536.size h) hs).squeeze S128x1536 hq).view.emb j
      = (Rect.unit (s := S2x1024x1536) off S1x128x1536.size h).emb (Shape.reshapeEquiv hq.numel_eq j) := rfl
  rw [e, Shape.reshapeEquiv_cons_one (n := 2) (d := ![128, 1536])]
  refine ⟨?_, ?_, ?_⟩
  · show off 0 + 1 * 0 = off 0; omega
  · show off 1 + 1 * (j 0).val = off 1 + (j 0).val; omega
  · show off 2 + 1 * (j 1).val = off 2 + (j 1).val; omega
theorem emb_rx {off : Fin 2 → ℕ} {h hs} (j : S128x1536.Idx) :
    ((((Memref.whole main_arg2).slice (Rect.unit (s := S40960x1536) off S128x1536.size h) hs).view.emb j : S40960x1536.Idx) 0).val = off 0 + (j 0).val
    ∧ ((((Memref.whole main_arg2).slice (Rect.unit (s := S40960x1536) off S128x1536.size h) hs).view.emb j : S40960x1536.Idx) 1).val = off 1 + (j 1).val := by
  refine ⟨?_, ?_⟩
  · show off 0 + 1 * (j 0).val = off 0 + (j 0).val; omega
  · show off 1 + 1 * (j 1).val = off 1 + (j 1).val; omega

theorem set_gc {h hs hq} (h0 : off 0 = p) (h1 : off 1 = 128 * g) (h2 : off 2 = 0) :
    (((Memref.whole cc0_scratch2).slice (Rect.unit (s := S2x1024x1536) off S1x128x1536.size h) hs).squeeze S128x1536 hq).view.set = gX p g := by
  rw [Memref.set_view_squeeze, View.set_slice_whole]
  ext i
  rw [Rect.mem_set_unit]
  have i0 := (i 0).isLt; have i1 := (i 1).isLt; have i2 := (i 2).isLt
  change (i 0).val < 2 at i0; change (i 1).val < 1024 at i1; change (i 2).val < 1536 at i2
  constructor
  · intro H
    have H0 := H 0; have H1 := H 1
    change off 0 ≤ (i 0).val ∧ (i 0).val < off 0 + 1 at H0; change off 1 ≤ (i 1).val ∧ (i 1).val < off 1 + 128 at H1
    exact Finset.mem_filter.mpr ⟨Finset.mem_univ _, by omega, by omega⟩
  · intro H
    obtain ⟨-, H0, H1⟩ := Finset.mem_filter.mp H
    intro a; fin_cases a
    · show off 0 ≤ (i 0).val ∧ (i 0).val < off 0 + 1; omega
    · show off 1 ≤ (i 1).val ∧ (i 1).val < off 1 + 128; omega
    · show off 2 ≤ (i 2).val ∧ (i 2).val < off 2 + 1536; omega
theorem set_rc {off : Fin 2 → ℕ} {r : ℕ} {h hs} (h0 : off 0 = 128 * r) (h1 : off 1 = 0) :
    ((Memref.whole main_v0_1).slice (Rect.unit (s := S40960x1536) off S128x1536.size h) hs).view.set = rwX r := by
  rw [View.set_slice_whole]
  ext i
  rw [Rect.mem_set_unit]
  have i0 := (i 0).isLt; have i1 := (i 1).isLt
  change (i 0).val < 40960 at i0; change (i 1).val < 1536 at i1
  constructor
  · intro H
    have H0 := H 0
    change off 0 ≤ (i 0).val ∧ (i 0).val < off 0 + 128 at H0
    exact Finset.mem_filter.mpr ⟨Finset.mem_univ _, by omega⟩
  · intro H
    obtain ⟨-, H0⟩ := Finset.mem_filter.mp H
    intro a; fin_cases a
    · show off 0 ≤ (i 0).val ∧ (i 0).val < off 0 + 128; omega
    · show off 1 ≤ (i 1).val ∧ (i 1).val < off 1 + 1536; omega
theorem emb_gc {h hs hq} (j : S128x1536.Idx) :
    (((((Memref.whole cc0_scratch2).slice (Rect.unit (s := S2x1024x1536) off S1x128x1536.size h) hs).squeeze S128x1536 hq).view.emb j : S2x1024x1536.Idx) 0).val = off 0
    ∧ (((((Memref.whole cc0_scratch2).slice (Rect.unit (s := S2x1024x1536) off S1x128x1536.size h) hs).squeeze S128x1536 hq).view.emb j : S2x1024x1536.Idx) 1).val = off 1 + (j 0).val
    ∧ (((((Memref.whole cc0_scratch2).slice (Rect.unit (s := S2x1024x1536) off S1x128x1536.size h) hs).squeeze S128x1536 hq).view.emb j : S2x1024x1536.Idx) 2).val = off 2 + (j 1).val := by
  have e : (((Memref.whole cc0_scratch2).slice (Rect.unit (s := S2x1024x1536) off S1x128x1536.size h) hs).squeeze S128x1536 hq).view.emb j
      = (Rect.unit (s := S2x1024x1536) off S1x128x1536.size h).emb (Shape.reshapeEquiv hq.numel_eq j) := rfl
  rw [e, Shape.reshapeEquiv_cons_one (n := 2) (d := ![128, 1536])]
  refine ⟨?_, ?_, ?_⟩
  · show off 0 + 1 * 0 = off 0; omega
  · show off 1 + 1 * (j 0).val = off 1 + (j 0).val; omega
  · show off 2 + 1 * (j 1).val = off 2 + (j 1).val; omega
theorem emb_rc {off : Fin 2 → ℕ} {h hs} (j : S128x1536.Idx) :
    ((((Memref.whole main_v0_1).slice (Rect.unit (s := S40960x1536) off S128x1536.size h) hs).view.emb j : S40960x1536.Idx) 0).val = off 0 + (j 0).val
    ∧ ((((Memref.whole main_v0_1).slice (Rect.unit (s := S40960x1536) off S128x1536.size h) hs).view.emb j : S40960x1536.Idx) 1).val = off 1 + (j 1).val := by
  refine ⟨?_, ?_⟩
  · show off 0 + 1 * (j 0).val = off 0 + (j 0).val; omega
  · show off 1 + 1 * (j 1).val = off 1 + (j 1).val; omega

theorem set_gy {h hs hq} (h0 : off 0 = p) (h1 : off 1 = 128 * g) (h2 : off 2 = 0) :
    (((Memref.whole cc0_scratch3).slice (Rect.unit (s := S2x1024x8960) off S1x128x8960.size h) hs).squeeze S128x8960 hq).view.set = gY p g := by
  rw [Memref.set_view_squeeze, View.set_slice_whole]
  ext i
  rw [Rect.mem_set_unit]
  have i0 := (i 0).isLt; have i1 := (i 1).isLt; have i2 := (i 2).isLt
  change (i 0).val < 2 at i0; change (i 1).val < 1024 at i1; change (i 2).val < 8960 at i2
  constructor
  · intro H
    have H0 := H 0; have H1 := H 1
    change off 0 ≤ (i 0).val ∧ (i 0).val < off 0 + 1 at H0; change off 1 ≤ (i 1).val ∧ (i 1).val < off 1 + 128 at H1
    exact Finset.mem_filter.mpr ⟨Finset.mem_univ _, by omega, by omega⟩
  · intro H
    obtain ⟨-, H0, H1⟩ := Finset.mem_filter.mp H
    intro a; fin_cases a
    · show off 0 ≤ (i 0).val ∧ (i 0).val < off 0 + 1; omega
    · show off 1 ≤ (i 1).val ∧ (i 1).val < off 1 + 128; omega
    · show off 2 ≤ (i 2).val ∧ (i 2).val < off 2 + 8960; omega
theorem set_ry {off : Fin 2 → ℕ} {r : ℕ} {h hs} (h0 : off 0 = 128 * r) (h1 : off 1 = 0) :
    ((Memref.whole main_v0_0).slice (Rect.unit (s := S40960x8960) off S128x8960.size h) hs).view.set = rwY r := by
  rw [View.set_slice_whole]
  ext i
  rw [Rect.mem_set_unit]
  have i0 := (i 0).isLt; have i1 := (i 1).isLt
  change (i 0).val < 40960 at i0; change (i 1).val < 8960 at i1
  constructor
  · intro H
    have H0 := H 0
    change off 0 ≤ (i 0).val ∧ (i 0).val < off 0 + 128 at H0
    exact Finset.mem_filter.mpr ⟨Finset.mem_univ _, by omega⟩
  · intro H
    obtain ⟨-, H0⟩ := Finset.mem_filter.mp H
    intro a; fin_cases a
    · show off 0 ≤ (i 0).val ∧ (i 0).val < off 0 + 128; omega
    · show off 1 ≤ (i 1).val ∧ (i 1).val < off 1 + 8960; omega
theorem emb_gy {h hs hq} (j : S128x8960.Idx) :
    (((((Memref.whole cc0_scratch3).slice (Rect.unit (s := S2x1024x8960) off S1x128x8960.size h) hs).squeeze S128x8960 hq).view.emb j : S2x1024x8960.Idx) 0).val = off 0
    ∧ (((((Memref.whole cc0_scratch3).slice (Rect.unit (s := S2x1024x8960) off S1x128x8960.size h) hs).squeeze S128x8960 hq).view.emb j : S2x1024x8960.Idx) 1).val = off 1 + (j 0).val
    ∧ (((((Memref.whole cc0_scratch3).slice (Rect.unit (s := S2x1024x8960) off S1x128x8960.size h) hs).squeeze S128x8960 hq).view.emb j : S2x1024x8960.Idx) 2).val = off 2 + (j 1).val := by
  have e : (((Memref.whole cc0_scratch3).slice (Rect.unit (s := S2x1024x8960) off S1x128x8960.size h) hs).squeeze S128x8960 hq).view.emb j
      = (Rect.unit (s := S2x1024x8960) off S1x128x8960.size h).emb (Shape.reshapeEquiv hq.numel_eq j) := rfl
  rw [e, Shape.reshapeEquiv_cons_one (n := 2) (d := ![128, 8960])]
  refine ⟨?_, ?_, ?_⟩
  · show off 0 + 1 * 0 = off 0; omega
  · show off 1 + 1 * (j 0).val = off 1 + (j 0).val; omega
  · show off 2 + 1 * (j 1).val = off 2 + (j 1).val; omega
theorem emb_ry {off : Fin 2 → ℕ} {h hs} (j : S128x8960.Idx) :
    ((((Memref.whole main_v0_0).slice (Rect.unit (s := S40960x8960) off S128x8960.size h) hs).view.emb j : S40960x8960.Idx) 0).val = off 0 + (j 0).val
    ∧ ((((Memref.whole main_v0_0).slice (Rect.unit (s := S40960x8960) off S128x8960.size h) hs).view.emb j : S40960x8960.Idx) 1).val = off 1 + (j 1).val := by
  refine ⟨?_, ?_⟩
  · show off 0 + 1 * (j 0).val = off 0 + (j 0).val; omega
  · show off 1 + 1 * (j 1).val = off 1 + (j 1).val; omega

end geometry

theorem sem_x {off : Fin 1 → ℕ} {p : ℕ} {h hq} (h0 : off 0 = p) : ((cc0_scratch10.slice (Rect.unit (s := S2) off S1.size h)).squeeze S_ hq).sem = semX p := by
  have := h 0
  change off 0 + 1 ≤ 2 at this
  refine congrArg cc0_scratch10.ix (funext fun a => Fin.ext ?_)
  obtain rfl : a = 0 := Subsingleton.elim _ _
  generalize (Shape.reshapeEquiv hq.numel_eq (fun i => i.elim0) : S1.Idx) = y
  have hy0 := (y 0).isLt
  change (y 0).val < 1 at hy0
  show off 0 + 1 * (y 0).val = p % 2
  omega
theorem sem_c {off : Fin 1 → ℕ} {p : ℕ} {h hq} (h0 : off 0 = p) : ((cc0_scratch11.slice (Rect.unit (s := S2) off S1.size h)).squeeze S_ hq).sem = semC p := by
  have := h 0
  change off 0 + 1 ≤ 2 at this
  refine congrArg cc0_scratch11.ix (funext fun a => Fin.ext ?_)
  obtain rfl : a = 0 := Subsingleton.elim _ _
  generalize (Shape.reshapeEquiv hq.numel_eq (fun i => i.elim0) : S1.Idx) = y
  have hy0 := (y 0).isLt
  change (y 0).val < 1 at hy0
  show off 0 + 1 * (y 0).val = p % 2
  omega
theorem sem_y {off : Fin 1 → ℕ} {p : ℕ} {h hq} (h0 : off 0 = p) : ((cc0_scratch12.slice (Rect.unit (s := S2) off S1.size h)).squeeze S_ hq).sem = semY p := by
  have := h 0
  change off 0 + 1 ≤ 2 at this
  refine congrArg cc0_scratch12.ix (funext fun a => Fin.ext ?_)
  obtain rfl : a = 0 := Subsingleton.elim _ _
  generalize (Shape.reshapeEquiv hq.numel_eq (fun i => i.elim0) : S1.Idx) = y
  have hy0 := (y 0).isLt
  change (y 0).val < 1 at hy0
  show off 0 + 1 * (y 0).val = p % 2
  omega
end Cert.Proof.KernelIdeal
end
-- ==== Proof.A3.lean ====
module
public import proofs.«01_k».proof.Proof.A2
@[expose] public section
noncomputable section
namespace Cert.Proof.KernelIdeal
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable (E : Env F)
theorem am_x : Ref.dmaCredit cc0_scratch1 S128x1536 .bf16 = 12288 := by decide +kernel
theorem am_c : Ref.dmaCredit main_v0_1 S128x1536 .fp8e4m3 = 6144 := by decide +kernel
theorem am_y : Ref.dmaCredit main_v0_0 S128x8960 .fp8e4m3 = 35840 := by decide +kernel
/-- The place of a buffer on the run's core. -/
abbrev Env.l (b : Ref sig .tc) : Loc nD τ sig := (E.c : Thread nD τ).loc b
/-- The weakest precondition on the run's core. -/
abbrev Env.wp {α : Type} (p : Prog (TpuEff nD τ sig (Elt F) Λ₀ .tc) α) (Q : α → sProp 𝕄) : sProp 𝕄 := Idealize.SL.Sem.wp frame (wpE defs₀ 𝒱₀ (E.c : Thread nD τ) none) Set.univ p Q

theorem slX_eq (p : ℕ) : slX p = (Finset.univ : Finset (Fin 8)).biUnion fun g => gX p g := by
  ext i
  have i1 := (i 1).isLt
  change (i 1).val < 1024 at i1
  simp only [slX, gX, Finset.mem_filter, Finset.mem_univ, true_and, Finset.mem_biUnion]
  exact ⟨fun h => ⟨⟨(i 1).val / 128, by omega⟩, h, rfl⟩, fun ⟨_, h, _⟩ => h⟩
theorem gX_disj (p : ℕ) : ∀ t ∈ (Finset.univ : Finset (Fin 8)), ∀ t' ∈ (Finset.univ : Finset (Fin 8)), t ≠ t' → Disjoint (gX p t) (gX p t') := by
  intro t _ t' _ h
  rw [Finset.disjoint_left]
  intro i hi hi'
  exact h (Fin.ext ((Finset.mem_filter.mp hi).2.2.symm.trans (Finset.mem_filter.mp hi').2.2))

theorem slY_eq (p : ℕ) : slY p = (Finset.univ : Finset (Fin 8)).biUnion fun g => gY p g := by
  ext i
  have i1 := (i 1).isLt
  change (i 1).val < 1024 at i1
  simp only [slY, gY, Finset.mem_filter, Finset.mem_univ, true_and, Finset.mem_biUnion]
  exact ⟨fun h => ⟨⟨(i 1).val / 128, by omega⟩, h, rfl⟩, fun ⟨_, h, _⟩ => h⟩
theorem gY_disj (p : ℕ) : ∀ t ∈ (Finset.univ : Finset (Fin 8)), ∀ t' ∈ (Finset.univ : Finset (Fin 8)), t ≠ t' → Disjoint (gY p t) (gY p t') := by
  intro t _ t' _ h
  rw [Finset.disjoint_left]
  intro i hi hi'
  exact h (Fin.ext ((Finset.mem_filter.mp hi).2.2.symm.trans (Finset.mem_filter.mp hi').2.2))

def Lx (p : ℕ) (f : ℕ → ℕ → Elt F .bf16) (g : Fin 8) : sProp 𝕄 := iprop((E.l cc0_scratch1 ↦[gX p g]{fullShare} sv f) ∗ (E.l main_arg2 ↦[Finset.univ]{shX p g} E.X))
/-- Slot `p` of the row buffer at rest. -/
def XIdle (p : ℕ) (f : ℕ → ℕ → Elt F .bf16) : sProp 𝕄 :=
  iprop((E.l cc0_scratch1 ↦[slX p]{fullShare} sv f) ∗ semVal ((E.c : Thread nD τ), SemLoc.dma (semX p)) 0 ∗ bigSep Finset.univ (fun g : Fin 8 => (E.l main_arg2 ↦[Finset.univ]{shX p g} E.X)))
/-- Slot `p` of the row buffer while item `s` is being copied into it. -/
def XFly (p : ℕ) (f : ℕ → ℕ → Elt F .bf16) (s j u : ℕ) : sProp 𝕄 := Fl E.c (semX p) 12288 (Lx E p (E.XV s)) (Lx E p f) j u

def Lc (p : ℕ) (f v : ℕ → ℕ → Elt F .fp8e4m3) (s : ℕ) (g : Fin 8) : sProp 𝕄 := iprop((E.l cc0_scratch2 ↦[gX p g]{hl} sv f) ∗ (E.l main_v0_1 ↦[rwX (E.P (8 * s + g))]{fullShare} rv v (E.P (8 * s + g)) g))
/-- Slot `p` of the code buffer at rest. -/
def CIdle (p : ℕ) (f : ℕ → ℕ → Elt F .fp8e4m3) : sProp 𝕄 :=
  iprop((E.l cc0_scratch2 ↦[slX p]{fullShare} sv f) ∗ semVal ((E.c : Thread nD τ), SemLoc.dma (semC p)) 0)
/-- Item `s` of the codes. -/
def CItem (v : ℕ → ℕ → Elt F .fp8e4m3) (s : ℕ) : sProp 𝕄 := bigSep Finset.univ (fun g : Fin 8 => (E.l main_v0_1 ↦[rwX (E.P (8 * s + g))]{fullShare} rv v (E.P (8 * s + g)) g))
/-- Slot `p` of the code buffer while it is being copied to item `s`; a half share of it stays readable. -/
def CFly (p : ℕ) (f v : ℕ → ℕ → Elt F .fp8e4m3) (s j u : ℕ) : sProp 𝕄 :=
  iprop(Fl E.c (semC p) 6144 (Lc E p f f s) (Lc E p f v s) j u ∗ (E.l cc0_scratch2 ↦[slX p]{hr} sv f))

def Ly (p : ℕ) (f v : ℕ → ℕ → Elt F .fp8e4m3) (s : ℕ) (g : Fin 8) : sProp 𝕄 := iprop((E.l cc0_scratch3 ↦[gY p g]{fullShare} sv f) ∗ (E.l main_v0_0 ↦[rwY (E.P (8 * s + g))]{fullShare} rv v (E.P (8 * s + g)) g))
/-- Slot `p` of the result buffer at rest. -/
def YIdle (p : ℕ) (f : ℕ → ℕ → Elt F .fp8e4m3) : sProp 𝕄 :=
  iprop((E.l cc0_scratch3 ↦[slY p]{fullShare} sv f) ∗ semVal ((E.c : Thread nD τ), SemLoc.dma (semY p)) 0)
/-- Item `s` of the result. -/
def YItem (v : ℕ → ℕ → Elt F .fp8e4m3) (s : ℕ) : sProp 𝕄 := bigSep Finset.univ (fun g : Fin 8 => (E.l main_v0_0 ↦[rwY (E.P (8 * s + g))]{fullShare} rv v (E.P (8 * s + g)) g))
/-- Slot `p` of the result buffer while it is being copied to item `s`. -/
def YFly (p : ℕ) (f v : ℕ → ℕ → Elt F .fp8e4m3) (s j u : ℕ) : sProp 𝕄 := Fl E.c (semY p) 35840 (Ly E p f f s) (Ly E p f v s) j u

/-- The items of `S`. -/
def CH (S : Finset ℕ) (cv : ℕ → ℕ → ℕ → Elt F .fp8e4m3) : sProp 𝕄 := bigSep S fun s => CItem E (cv s) s
def YH (S : Finset ℕ) (yv : ℕ → ℕ → ℕ → Elt F .fp8e4m3) : sProp 𝕄 := bigSep S fun s => YItem E (yv s) s

variable {E} {α : Type} {Q : α → sProp (MT nD τ sig Unit (Elt F) ℕ (UD sig nD τ) ℕ)}
theorem fupd_step {A B : sProp 𝕄} {e : Prog (TpuEff nD τ sig (Elt F) Λ₀ .tc) α} (h : A ⊢ |={Set.univ}=> B) : A ⊢ iprop((B -∗ E.wp e Q) -∗ E.wp e Q) := by
  iintro H Hk
  iapply (Idealize.SL.Sem.fupd_wp frame)
  imod h $$ H with H
  imodintro
  iapply Hk $$ H

theorem x_slot {p : ℕ} {q : PosShare TreeShare} {f : Buf (Elt F) (E.l cc0_scratch1)} : (E.l cc0_scratch1 ↦[slX p]{q} f : sProp 𝕄) = bigSep Finset.univ fun g : Fin 8 => (E.l cc0_scratch1 ↦[gX p g]{q} f) := by
  rw [slX_eq, pointsTo_biUnion _ _ (gX_disj p)]
theorem c_slot {p : ℕ} {q : PosShare TreeShare} {f : Buf (Elt F) (E.l cc0_scratch2)} : (E.l cc0_scratch2 ↦[slX p]{q} f : sProp 𝕄) = bigSep Finset.univ fun g : Fin 8 => (E.l cc0_scratch2 ↦[gX p g]{q} f) := by
  rw [slX_eq, pointsTo_biUnion _ _ (gX_disj p)]
theorem y_slot {p : ℕ} {q : PosShare TreeShare} {f : Buf (Elt F) (E.l cc0_scratch3)} : (E.l cc0_scratch3 ↦[slY p]{q} f : sProp 𝕄) = bigSep Finset.univ fun g : Fin 8 => (E.l cc0_scratch3 ↦[gY p g]{q} f) := by
  rw [slY_eq, pointsTo_biUnion _ _ (gY_disj p)]
theorem bs_out {I : Type} (s : Finset I) (Φ Ψ : I → sProp 𝕄) : bigSep s (fun i => iprop(Φ i ∗ Ψ i)) ⊢ iprop(bigSep s Φ ∗ bigSep s Ψ) :=
  Entails.of_eq (bigSep_sep s Φ Ψ)
theorem bs_in {I : Type} (s : Finset I) (Φ Ψ : I → sProp 𝕄) : iprop(bigSep s Φ ∗ bigSep s Ψ) ⊢ bigSep s (fun i => iprop(Φ i ∗ Ψ i)) :=
  Entails.of_eq (bigSep_sep s Φ Ψ).symm
theorem bs_ins {S : Finset ℕ} {s : ℕ} (hs : s ∈ S) (Φ : ℕ → sProp 𝕄) : bigSep S Φ ⊢ iprop(Φ s ∗ bigSep (S.erase s) Φ) :=
  Entails.of_eq ((congrArg (fun T => bigSep T Φ) (Finset.insert_erase hs).symm).trans (bigSep_insert (Finset.notMem_erase _ _)))
theorem bs_upd {S : Finset ℕ} {s : ℕ} {β : Type} (hs : s ∉ S) (Φ : β → ℕ → sProp 𝕄) (w : ℕ → β) (f : β) :
    iprop(Φ f s ∗ bigSep S (fun s' => Φ (w s') s')) ⊢ bigSep (insert s S) (fun s' => Φ (Function.update w s f s') s') := by
  refine Entails.of_eq (Eq.trans ?_ (bigSep_insert hs).symm)
  rw [Function.update_self, bigSep_congr (Φ := fun s' => Φ (Function.update w s f s') s') (Ψ := fun s' => Φ (w s') s') fun s' h' => by rw [Function.update_of_ne (fun e => hs (by rw [← e]; exact h'))]]
  rfl

instance (p f g) : Storable (upEmb : UEmb _ 𝕄) (Lx E p f g) := by unfold Lx; infer_instance
instance (p f v s g) : Storable (upEmb : UEmb _ 𝕄) (Lc E p f v s g) := by unfold Lc; infer_instance
instance (p f v s g) : Storable (upEmb : UEmb _ 𝕄) (Ly E p f v s g) := by unfold Ly; infer_instance

theorem x_alloc (s : ℕ) {p : ℕ} {f : ℕ → ℕ → Elt F .bf16} {e : Prog (TpuEff nD τ sig (Elt F) Λ₀ .tc) α} :
    XIdle E p f ⊢ iprop((XFly E p f s 0 0 -∗ E.wp e Q) -∗ E.wp e Q) := by
  refine fupd_step ?_
  unfold XIdle XFly
  iintro ⟨H, HS, HX⟩
  iapply (fl_alloc (F := F) E.c)
  isplitl [HS]; · iexact HS
  ihave H := (Entails.of_eq x_slot) $$ H
  unfold Lx
  iapply (bs_in _ _ _)
  isplitl [H]; · iexact H
  iexact HX
theorem c_alloc {s : ℕ} {p : ℕ} {f : ℕ → ℕ → Elt F .fp8e4m3} {S : Finset ℕ} {cv : ℕ → ℕ → ℕ → Elt F .fp8e4m3} {e : Prog (TpuEff nD τ sig (Elt F) Λ₀ .tc) α} (hs : s ∈ S) :
    iprop(CIdle E p f ∗ CH E S cv) ⊢ iprop((iprop(CFly E p f (cv s) s 0 0 ∗ CH E (S.erase s) cv) -∗ E.wp e Q) -∗ E.wp e Q) := by
  refine fupd_step ?_
  unfold CIdle CFly CH
  iintro ⟨⟨H, HS⟩, HC⟩
  ihave HC := (bs_ins hs _) $$ HC
  icases HC with ⟨HI, HC⟩
  unfold CItem
  ihave H := (pointsTo_share (PosShare.mem_left_op_right _)).1 $$ H
  icases H with ⟨H, Hr⟩
  ihave H := (Entails.of_eq c_slot) $$ H
  imod (fl_alloc (F := F) E.c (sem := semC p) (N := 6144) (D := Lc E p f f s) (L := Lc E p f (cv s) s)) $$ [HS H HI] with HF
  · isplitl [HS]; · iexact HS
    unfold Lc
    iapply (bs_in _ _ _)
    isplitl [H]; · iexact H
    iexact HI
  imodintro
  isplitl [HF Hr]
  · isplitl [HF]; · iexact HF
    iexact Hr
  iexact HC
theorem y_alloc {s : ℕ} {p : ℕ} {f : ℕ → ℕ → Elt F .fp8e4m3} {S : Finset ℕ} {yv : ℕ → ℕ → ℕ → Elt F .fp8e4m3} {e : Prog (TpuEff nD τ sig (Elt F) Λ₀ .tc) α} (hs : s ∈ S) :
    iprop(YIdle E p f ∗ YH E S yv) ⊢ iprop((iprop(YFly E p f (yv s) s 0 0 ∗ YH E (S.erase s) yv) -∗ E.wp e Q) -∗ E.wp e Q) := by
  refine fupd_step ?_
  unfold YIdle YFly YH
  iintro ⟨⟨H, HS⟩, HC⟩
  ihave HC := (bs_ins hs _) $$ HC
  icases HC with ⟨HI, HC⟩
  unfold YItem
  ihave H := (Entails.of_eq y_slot) $$ H
  imod (fl_alloc (F := F) E.c (sem := semY p) (N := 35840) (D := Ly E p f f s) (L := Ly E p f (yv s) s)) $$ [HS H HI] with HF
  · isplitl [HS]; · iexact HS
    unfold Ly
    iapply (bs_in _ _ _)
    isplitl [H]; · iexact H
    iexact HI
  imodintro
  isplitl [HF]; · iexact HF
  iexact HC

theorem x_start {s p : ℕ} (g : ℕ) (hg : g < 8) {f : ℕ → ℕ → Elt F .bf16} {k : PUnit → Prog (TpuEff nD τ sig (Elt F) Λ₀ .tc) α} {offR : Fin 2 → ℕ} {offS : Fin 3 → ℕ} {offM : Fin 1 → ℕ} {hR hRs hS hSs hSq hM hMq}
    {h1 h2 h3} (h0 : offM 0 = p) (hS0 : offS 0 = p) (hS1 : offS 1 = 128 * g) (hS2 : offS 2 = 0) (hR0 : offR 0 = 128 * E.P (8 * s + g)) (hR1 : offR 1 = 0) :
    XFly E p f s g 0 ⊢ iprop((XFly E p f s (g + 1) 0 -∗ E.wp (k ⟨⟩) Q)
      -∗ E.wp (Prog.lift (.enqueueDma ((Memref.whole main_arg2).slice (Rect.unit (s := S40960x1536) offR S128x1536.size hR) hRs) (.here (((Memref.whole cc0_scratch1).slice (Rect.unit (s := S2x1024x1536) offS S1x128x1536.size hS) hSs).squeeze S128x1536 hSq)) (.dma ((cc0_scratch10.slice (Rect.unit (s := S2) offM S1.size hM)).squeeze S_ hMq).sem) h1 h2 h3) >>= k) Q) := by
  have hP := E.hP (8 * s + g)
  have hs := set_gx (h := hS) (hs := hSs) (hq := hSq) hS0 hS1 hS2
  have hr' := set_rx (h := hR) (hs := hRs) hR0 hR1
  unfold XFly
  rw [← sem_x (h := hM) (hq := hMq) h0]
  refine fl_start (src := ((Memref.whole main_arg2).slice (Rect.unit (s := S40960x1536) offR S128x1536.size hR) hRs)) (dst := (((Memref.whole cc0_scratch1).slice (Rect.unit (s := S2x1024x1536) offS S1x128x1536.size hS) hSs).squeeze S128x1536 hSq)) hg (shX p g) E.X (sv f) (E.l main_arg2 ↦[Finset.univ \ rwX (E.P (8 * s + g))]{shX p g} E.X) am_x ?_ ?_
  · unfold Lx
    iintro ⟨H, HX⟩
    ihave HX := (pointsTo_split_subset (Finset.subset_univ (rwX (E.P (8 * s + g))))).1 $$ HX
    icases HX with ⟨HX, HC⟩
    isplitl [HX]
    · iapply (Entails.of_eq (congrArg (fun S => (E.l main_arg2 ↦[S]{shX p g} E.X : sProp 𝕄)) hr'.symm)) $$ HX
    isplitl [H]
    · iapply (Entails.of_eq (congrArg (fun S => (E.l cc0_scratch1 ↦[S]{fullShare} (sv f : Buf (Elt F) (E.l cc0_scratch1)) : sProp 𝕄)) hs.symm)) $$ H
    iexact HC
  · unfold Lx
    iintro ⟨HC, HD, HX⟩
    isplitl [HD]
    · iapply (Entails.of_eq ((pointsTo_congr (fun i hi => ?_)).trans (congrArg (fun S => (E.l cc0_scratch1 ↦[S]{fullShare} (sv (E.XV s) : Buf (Elt F) (E.l cc0_scratch1)) : sProp 𝕄)) hs))) $$ HD
      obtain ⟨j, -, rfl⟩ := Finset.mem_map.mp hi
      obtain ⟨e0, e1, e2⟩ := emb_gx (off := offS) (h := hS) (hs := hSs) (hq := hSq) j
      obtain ⟨r0, r1⟩ := emb_rx (off := offR) (h := hR) (hs := hRs) j
      have j0 := (j 0).isLt; have j1 := (j 1).isLt
      change (j 0).val < 128 at j0; change (j 1).val < 1536 at j1
      refine (View.write_emb_of_mem _ _ (Finset.mem_univ _)).trans ?_
      refine congrArg E.X (funext fun a => Fin.ext ?_)
      fin_cases a
      · refine r0.trans ?_
        show offR 0 + (j 0).val = (128 * E.P (8 * s + _ / 128) + _ % 128) % 40960
        rw [e1, hS1, hR0, show (128 * g + (j 0).val) / 128 = g by omega]
        omega
      · refine r1.trans ?_
        show offR 1 + (j 1).val = _ % 1536
        rw [e2, hS2, hR1]
        omega
    · iapply (pointsTo_split_subset (Finset.subset_univ (rwX (E.P (8 * s + g))))).2
      isplitl [HX]
      · iapply (Entails.of_eq (congrArg (fun S => (E.l main_arg2 ↦[S]{shX p g} E.X : sProp 𝕄)) hr')) $$ HX
      iexact HC

theorem c_start' {s p : ℕ} (g : ℕ) (hg : g < 8) {f v : ℕ → ℕ → Elt F .fp8e4m3} {k : PUnit → Prog (TpuEff nD τ sig (Elt F) Λ₀ .tc) α} {offR : Fin 2 → ℕ} {offS : Fin 3 → ℕ} {offM : Fin 1 → ℕ} {hR hRs hS hSs hSq hM hMq}
    {h1 h2 h3} (h0 : offM 0 = p) (hS0 : offS 0 = p) (hS1 : offS 1 = 128 * g) (hS2 : offS 2 = 0) (hR0 : offR 0 = 128 * E.P (8 * s + g)) (hR1 : offR 1 = 0) :
    Fl E.c (semC p) 6144 (Lc E p f f s) (Lc E p f v s) g 0 ⊢ iprop((Fl E.c (semC p) 6144 (Lc E p f f s) (Lc E p f v s) (g + 1) 0 -∗ E.wp (k ⟨⟩) Q)
      -∗ E.wp (Prog.lift (.enqueueDma (((Memref.whole cc0_scratch2).slice (Rect.unit (s := S2x1024x1536) offS S1x128x1536.size hS) hSs).squeeze S128x1536 hSq) (.here ((Memref.whole main_v0_1).slice (Rect.unit (s := S40960x1536) offR S128x1536.size hR) hRs)) (.dma ((cc0_scratch11.slice (Rect.unit (s := S2) offM S1.size hM)).squeeze S_ hMq).sem) h1 h2 h3) >>= k) Q) := by
  have hP := E.hP (8 * s + g)
  have hs := set_gc (h := hS) (hs := hSs) (hq := hSq) hS0 hS1 hS2
  have hr' := set_rc (h := hR) (hs := hRs) hR0 hR1
  rw [← sem_c (h := hM) (hq := hMq) h0]
  refine fl_start (src := (((Memref.whole cc0_scratch2).slice (Rect.unit (s := S2x1024x1536) offS S1x128x1536.size hS) hSs).squeeze S128x1536 hSq)) (dst := ((Memref.whole main_v0_1).slice (Rect.unit (s := S40960x1536) offR S128x1536.size hR) hRs)) hg hl (sv f) (rv v (E.P (8 * s + g)) g) (BIBase.emp : sProp 𝕄) am_c ?_ ?_
  · unfold Lc
    iintro ⟨H, HX⟩
    isplitl [H]
    · iapply (Entails.of_eq (congrArg (fun S => (E.l cc0_scratch2 ↦[S]{hl} (sv f : Buf (Elt F) (E.l cc0_scratch2)) : sProp 𝕄)) hs.symm)) $$ H
    isplitl [HX]
    · iapply (Entails.of_eq (congrArg (fun S => (E.l main_v0_1 ↦[S]{fullShare} (rv v (E.P (8 * s + g)) g : Buf (Elt F) (E.l main_v0_1)) : sProp 𝕄)) hr'.symm)) $$ HX
    iempintro
  · unfold Lc
    iintro ⟨He, HD, HX⟩
    iclear He
    isplitl [HX]
    · iapply (Entails.of_eq (congrArg (fun S => (E.l cc0_scratch2 ↦[S]{hl} (sv f : Buf (Elt F) (E.l cc0_scratch2)) : sProp 𝕄)) hs)) $$ HX
    · iapply (Entails.of_eq ((pointsTo_congr (fun i hi => ?_)).trans (congrArg (fun S => (E.l main_v0_1 ↦[S]{fullShare} (rv f (E.P (8 * s + g)) g : Buf (Elt F) (E.l main_v0_1)) : sProp 𝕄)) hr'))) $$ HD
      obtain ⟨j, -, rfl⟩ := Finset.mem_map.mp hi
      obtain ⟨e0, e1, e2⟩ := emb_gc (off := offS) (h := hS) (hs := hSs) (hq := hSq) j
      obtain ⟨r0, r1⟩ := emb_rc (off := offR) (h := hR) (hs := hRs) j
      have j0 := (j 0).isLt; have j1 := (j 1).isLt
      change (j 0).val < 128 at j0; change (j 1).val < 1536 at j1
      refine (View.write_emb_of_mem _ _ (Finset.mem_univ _)).trans ?_
      refine congr (congrArg f ?_) ?_
      · refine e1.trans ?_
        show offS 1 + (j 0).val = 128 * g + (_ - 128 * E.P (8 * s + g))
        rw [r0, hS1, hR0]
        omega
      · refine e2.trans ?_
        refine Eq.trans ?_ r1.symm
        rw [hS2, hR1]

theorem c_start {s p : ℕ} (g : ℕ) (hg : g < 8) {f v : ℕ → ℕ → Elt F .fp8e4m3} {k : PUnit → Prog (TpuEff nD τ sig (Elt F) Λ₀ .tc) α} {offR : Fin 2 → ℕ} {offS : Fin 3 → ℕ} {offM : Fin 1 → ℕ} {hR hRs hS hSs hSq hM hMq}
    {h1 h2 h3} (h0 : offM 0 = p) (hS0 : offS 0 = p) (hS1 : offS 1 = 128 * g) (hS2 : offS 2 = 0) (hR0 : offR 0 = 128 * E.P (8 * s + g)) (hR1 : offR 1 = 0) :
    CFly E p f v s g 0 ⊢ iprop((CFly E p f v s (g + 1) 0 -∗ E.wp (k ⟨⟩) Q)
      -∗ E.wp (Prog.lift (.enqueueDma (((Memref.whole cc0_scratch2).slice (Rect.unit (s := S2x1024x1536) offS S1x128x1536.size hS) hSs).squeeze S128x1536 hSq) (.here ((Memref.whole main_v0_1).slice (Rect.unit (s := S40960x1536) offR S128x1536.size hR) hRs)) (.dma ((cc0_scratch11.slice (Rect.unit (s := S2) offM S1.size hM)).squeeze S_ hMq).sem) h1 h2 h3) >>= k) Q) := by
  unfold CFly
  iintro ⟨HF, HR⟩ Hk
  iapply (c_start' g hg h0 hS0 hS1 hS2 hR0 hR1) $$ HF
  iintro HF
  iapply Hk
  isplitl [HF]; · iexact HF
  iexact HR

theorem y_start {s p : ℕ} (g : ℕ) (hg : g < 8) {f v : ℕ → ℕ → Elt F .fp8e4m3} {k : PUnit → Prog (TpuEff nD τ sig (Elt F) Λ₀ .tc) α} {offR : Fin 2 → ℕ} {offS : Fin 3 → ℕ} {offM : Fin 1 → ℕ} {hR hRs hS hSs hSq hM hMq}
    {h1 h2 h3} (h0 : offM 0 = p) (hS0 : offS 0 = p) (hS1 : offS 1 = 128 * g) (hS2 : offS 2 = 0) (hR0 : offR 0 = 128 * E.P (8 * s + g)) (hR1 : offR 1 = 0) :
    YFly E p f v s g 0 ⊢ iprop((YFly E p f v s (g + 1) 0 -∗ E.wp (k ⟨⟩) Q)
      -∗ E.wp (Prog.lift (.enqueueDma (((Memref.whole cc0_scratch3).slice (Rect.unit (s := S2x1024x8960) offS S1x128x8960.size hS) hSs).squeeze S128x8960 hSq) (.here ((Memref.whole main_v0_0).slice (Rect.unit (s := S40960x8960) offR S128x8960.size hR) hRs)) (.dma ((cc0_scratch12.slice (Rect.unit (s := S2) offM S1.size hM)).squeeze S_ hMq).sem) h1 h2 h3) >>= k) Q) := by
  have hP := E.hP (8 * s + g)
  have hs := set_gy (h := hS) (hs := hSs) (hq := hSq) hS0 hS1 hS2
  have hr' := set_ry (h := hR) (hs := hRs) hR0 hR1
  unfold YFly
  rw [← sem_y (h := hM) (hq := hMq) h0]
  refine fl_start (src := (((Memref.whole cc0_scratch3).slice (Rect.unit (s := S2x1024x8960) offS S1x128x8960.size hS) hSs).squeeze S128x8960 hSq)) (dst := ((Memref.whole main_v0_0).slice (Rect.unit (s := S40960x8960) offR S128x8960.size hR) hRs)) hg fullShare (sv f) (rv v (E.P (8 * s + g)) g) (BIBase.emp : sProp 𝕄) am_y ?_ ?_
  · unfold Ly
    iintro ⟨H, HX⟩
    isplitl [H]
    · iapply (Entails.of_eq (congrArg (fun S => (E.l cc0_scratch3 ↦[S]{fullShare} (sv f : Buf (Elt F) (E.l cc0_scratch3)) : sProp 𝕄)) hs.symm)) $$ H
    isplitl [HX]
    · iapply (Entails.of_eq (congrArg (fun S => (E.l main_v0_0 ↦[S]{fullShare} (rv v (E.P (8 * s + g)) g : Buf (Elt F) (E.l main_v0_0)) : sProp 𝕄)) hr'.symm)) $$ HX
    iempintro
  · unfold Ly
    iintro ⟨He, HD, HX⟩
    iclear He
    isplitl [HX]
    · iapply (Entails.of_eq (congrArg (fun S => (E.l cc0_scratch3 ↦[S]{fullShare} (sv f : Buf (Elt F) (E.l cc0_scratch3)) : sProp 𝕄)) hs)) $$ HX
    · iapply (Entails.of_eq ((pointsTo_congr (fun i hi => ?_)).trans (congrArg (fun S => (E.l main_v0_0 ↦[S]{fullShare} (rv f (E.P (8 * s + g)) g : Buf (Elt F) (E.l main_v0_0)) : sProp 𝕄)) hr'))) $$ HD
      obtain ⟨j, -, rfl⟩ := Finset.mem_map.mp hi
      obtain ⟨e0, e1, e2⟩ := emb_gy (off := offS) (h := hS) (hs := hSs) (hq := hSq) j
      obtain ⟨r0, r1⟩ := emb_ry (off := offR) (h := hR) (hs := hRs) j
      have j0 := (j 0).isLt; have j1 := (j 1).isLt
      change (j 0).val < 128 at j0; change (j 1).val < 8960 at j1
      refine (View.write_emb_of_mem _ _ (Finset.mem_univ _)).trans ?_
      refine congr (congrArg f ?_) ?_
      · refine e1.trans ?_
        show offS 1 + (j 0).val = 128 * g + (_ - 128 * E.P (8 * s + g))
        rw [r0, hS1, hR0]
        omega
      · refine e2.trans ?_
        refine Eq.trans ?_ r1.symm
        rw [hS2, hR1]

theorem c_deliv {p : ℕ} {f : ℕ → ℕ → Elt F .fp8e4m3} {s : ℕ} : bigSep Finset.univ (Lc E p f f s) ⊢ iprop((E.l cc0_scratch2 ↦[slX p]{hl} sv f) ∗ CItem E f s) := by
  rw [c_slot]
  unfold CItem Lc
  exact bs_out _ _ _
theorem y_deliv {p : ℕ} {f : ℕ → ℕ → Elt F .fp8e4m3} {s : ℕ} : bigSep Finset.univ (Ly E p f f s) ⊢ iprop((E.l cc0_scratch3 ↦[slY p]{fullShare} sv f) ∗ YItem E f s) := by
  rw [y_slot]
  unfold YItem Ly
  exact bs_out _ _ _
section waits
variable {offM : Fin 1 → ℕ} {hM hMq} {sp sp' : Space} {sh sh' : Shape} {e e' : EltTy} {src : Memref sig .tc sp' sh' e'} {dst : Memref sig .tc sp sh e} {h1 : src.view.WordExact} {h2 : dst.view.WordExact} {s p : ℕ}
  {k : PUnit → Prog (TpuEff nD τ sig (Elt F) Λ₀ .tc) α}

theorem x_wait (u : ℕ) (hu : u < 7) {f : ℕ → ℕ → Elt F .bf16} (h0 : offM 0 = p) (hN : dst.view.dmaCredit = 12288) :
    iprop(XFly E p f s 8 u ∗ Ow E.c) ⊢ iprop((iprop(XFly E p f s 8 (u + 1) ∗ Ow E.c) -∗ E.wp (k ⟨⟩) Q)
      -∗ E.wp (Prog.lift (.waitDma2 ((cc0_scratch10.slice (Rect.unit (s := S2) offM S1.size hM)).squeeze S_ hMq).sem src dst h1 h2) >>= k) Q) := by
  rw [sem_x (h := hM) (hq := hMq) h0]
  unfold XFly
  exact fl_wait hu hN (by decide)

theorem x_last {f : ℕ → ℕ → Elt F .bf16} (h0 : offM 0 = p) (hN : dst.view.dmaCredit = 12288) :
    iprop(XFly E p f s 8 7 ∗ Ow E.c) ⊢ iprop((iprop(XIdle E p (E.XV s) ∗ Ow E.c) -∗ E.wp (k ⟨⟩) Q)
      -∗ E.wp (Prog.lift (.waitDma2 ((cc0_scratch10.slice (Rect.unit (s := S2) offM S1.size hM)).squeeze S_ hMq).sem src dst h1 h2) >>= k) Q) := by
  rw [sem_x (h := hM) (hq := hMq) h0]
  unfold XFly XIdle
  iintro H Hk
  iapply (fl_last hN (by decide)) $$ H
  iintro ⟨⟨HD, HS⟩, HO⟩
  iapply Hk
  unfold Lx
  ihave HD := (bs_out _ _ _) $$ HD
  icases HD with ⟨HD, HX⟩
  isplitr [HO]
  · isplitl [HD]
    · iapply (Entails.of_eq x_slot.symm) $$ HD
    isplitl [HS]; · iexact HS
    iexact HX
  iexact HO

theorem c_wait (u : ℕ) (hu : u < 7) {f v : ℕ → ℕ → Elt F .fp8e4m3} (h0 : offM 0 = p) (hN : dst.view.dmaCredit = 6144) :
    iprop(CFly E p f v s 8 u ∗ Ow E.c) ⊢ iprop((iprop(CFly E p f v s 8 (u + 1) ∗ Ow E.c) -∗ E.wp (k ⟨⟩) Q)
      -∗ E.wp (Prog.lift (.waitDma2 ((cc0_scratch11.slice (Rect.unit (s := S2) offM S1.size hM)).squeeze S_ hMq).sem src dst h1 h2) >>= k) Q) := by
  rw [sem_c (h := hM) (hq := hMq) h0]
  unfold CFly
  iintro ⟨⟨HF, HR⟩, HO⟩ Hk
  iapply (fl_wait hu hN (by decide)) $$ [HF HO]
  · isplitl [HF]; · iexact HF
    iexact HO
  iintro ⟨HF, HO⟩
  iapply Hk
  isplitr [HO]
  · isplitl [HF]; · iexact HF
    iexact HR
  iexact HO

theorem c_last {f v : ℕ → ℕ → Elt F .fp8e4m3} {S : Finset ℕ} {w : ℕ → ℕ → ℕ → Elt F .fp8e4m3} (hs : s ∉ S) (h0 : offM 0 = p) (hN : dst.view.dmaCredit = 6144) :
    iprop(CFly E p f v s 8 7 ∗ CH E S w ∗ Ow E.c) ⊢ iprop((iprop(CIdle E p f ∗ CH E (insert s S) (Function.update w s f) ∗ Ow E.c) -∗ E.wp (k ⟨⟩) Q)
      -∗ E.wp (Prog.lift (.waitDma2 ((cc0_scratch11.slice (Rect.unit (s := S2) offM S1.size hM)).squeeze S_ hMq).sem src dst h1 h2) >>= k) Q) := by
  rw [sem_c (h := hM) (hq := hMq) h0]
  unfold CFly CIdle CH
  iintro ⟨⟨HF, HR⟩, HC, HO⟩ Hk
  iapply (fl_last hN (by decide)) $$ [HF HO]
  · isplitl [HF]; · iexact HF
    iexact HO
  iintro ⟨⟨HD, HS⟩, HO⟩
  iapply Hk
  ihave HD := c_deliv $$ HD
  icases HD with ⟨HD, HX⟩
  isplitl [HD HR HS]
  · isplitr [HS]
    · iapply (pointsTo_share (PosShare.mem_left_op_right _)).2
      isplitl [HD]; · iexact HD
      iexact HR
    iexact HS
  isplitr [HO]
  · iapply (bs_upd hs (CItem E) w f)
    isplitl [HX]; · iexact HX
    iexact HC
  iexact HO

theorem y_wait (u : ℕ) (hu : u < 7) {f v : ℕ → ℕ → Elt F .fp8e4m3} (h0 : offM 0 = p) (hN : dst.view.dmaCredit = 35840) :
    iprop(YFly E p f v s 8 u ∗ Ow E.c) ⊢ iprop((iprop(YFly E p f v s 8 (u + 1) ∗ Ow E.c) -∗ E.wp (k ⟨⟩) Q)
      -∗ E.wp (Prog.lift (.waitDma2 ((cc0_scratch12.slice (Rect.unit (s := S2) offM S1.size hM)).squeeze S_ hMq).sem src dst h1 h2) >>= k) Q) := by
  rw [sem_y (h := hM) (hq := hMq) h0]
  unfold YFly
  exact fl_wait hu hN (by decide)

theorem y_last {f v : ℕ → ℕ → Elt F .fp8e4m3} {S : Finset ℕ} {w : ℕ → ℕ → ℕ → Elt F .fp8e4m3} (hs : s ∉ S) (h0 : offM 0 = p) (hN : dst.view.dmaCredit = 35840) :
    iprop(YFly E p f v s 8 7 ∗ YH E S w ∗ Ow E.c) ⊢ iprop((iprop(YIdle E p f ∗ YH E (insert s S) (Function.update w s f) ∗ Ow E.c) -∗ E.wp (k ⟨⟩) Q)
      -∗ E.wp (Prog.lift (.waitDma2 ((cc0_scratch12.slice (Rect.unit (s := S2) offM S1.size hM)).squeeze S_ hMq).sem src dst h1 h2) >>= k) Q) := by
  rw [sem_y (h := hM) (hq := hMq) h0]
  unfold YFly YIdle YH
  iintro ⟨HF, HC, HO⟩ Hk
  iapply (fl_last hN (by decide)) $$ [HF HO]
  · isplitl [HF]; · iexact HF
    iexact HO
  iintro ⟨⟨HD, HS⟩, HO⟩
  iapply Hk
  ihave HD := y_deliv $$ HD
  icases HD with ⟨HD, HX⟩
  isplitl [HD HS]
  · isplitl [HD]; · iexact HD
    iexact HS
  isplitr [HO]
  · iapply (bs_upd hs (YItem E) w f)
    isplitl [HX]; · iexact HX
    iexact HC
  iexact HO
end waits
end Cert.Proof.KernelIdeal
end
-- ==== Proof.A4.lean ====
module
public import proofs.«01_k».proof.Proof.A3
public import proofs.«01_k».proof.Proof.Gen.KernelIdeal.Skeleton
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable {E : Env F} {α : Type}

/-- The list of items. -/
def Items (E : Env F) (w : ℕ → BitVec 32) : sProp 𝕄 := E.l cc0_scratch7 ↦{fullShare} (fun i => w (i 0).val : Buf (Elt F) (E.l cc0_scratch7))
/-- The order of the groups. -/
def Perm (E : Env F) : sProp 𝕄 :=
  iprop(∃ f : Buf (Elt F) (E.l cc0_scratch6), ⌜∀ i : S8x128.Idx, 128 * (i 0).val + (i 1).val < 320 → (f i : BitVec 32) = BitVec.ofNat 32 (E.P (128 * (i 0).val + (i 1).val))⌝ ∗ E.l cc0_scratch6 ↦{fullShare} f)
/-- The exponents used. -/
def Used (E : Env F) (w : ℕ → BitVec 32) : sProp 𝕄 := E.l cc0_scratch8 ↦{fullShare} (fun i => w (i 0).val : Buf (Elt F) (E.l cc0_scratch8))
/-- The running maxima. -/
def Mb (E : Env F) (v : Vec F S8x128 .f32) : sProp 𝕄 := E.l cc0_scratch4 ↦{fullShare} (v : Buf (Elt F) (E.l cc0_scratch4))
/-- The weights. -/
def Wb (E : Env F) : sProp 𝕄 := E.l cc0_scratch0 ↦{fullShare} (E.W : Buf (Elt F) (E.l cc0_scratch0))

/-- Columns `o` to `o + 255` of the weights. -/
def wl (E : Env F) (o : ℕ) : Vec F S1536x256 .fp8e4m3 := fun i => E.W (ValueIdx.ix2 (i 0) (Fin.ofNat 8960 (o + (i 1).val)))
/-- A slot of codes as a vector. -/
def cvec (f : ℕ → ℕ → Elt F .fp8e4m3) : Vec F S1x1024x1536 .fp8e4m3 := fun i => f (i 1).val (i 2).val
/-- Rows `o` to `o + 31` of a slot. -/
def xst (f : ℕ → ℕ → Elt F .bf16) (o : ℕ) : Vec F S1x32x1536 .bf16 := fun i => f (o + (i 1).val) (i 2).val
/-- The codes of a slot. -/
def cqv (E : Env F) (x : ℕ → ℕ → Elt F .bf16) (a b : ℕ) : Elt F .fp8e4m3 := k0_pay62 E.xi (xst x (32 * (a / 32))) (ValueIdx.ix3 0 (Fin.ofNat 32 a) (Fin.ofNat 1536 b))
def Cq (E : Env F) (x : ℕ → ℕ → Elt F .bf16) (t : ℕ) (f : ℕ → ℕ → Elt F .fp8e4m3) (a b : ℕ) : Elt F .fp8e4m3 := if a < 32 * t then cqv E x a b else f a b
/-- The results of a slot at the factor `yi`. -/
def ytv (E : Env F) (yi : FVec F S1x1 .f32) (cf : ℕ → ℕ → Elt F .fp8e4m3) (a b : ℕ) : Elt F .fp8e4m3 := k0_pay65 E.ym yi (cvec cf) (wl E (256 * (b / 256))) (ValueIdx.ix3 0 (Fin.ofNat 1024 a) (Fin.ofNat 256 b))
def Yq (E : Env F) (yi : FVec F S1x1 .f32) (cf : ℕ → ℕ → Elt F .fp8e4m3) (t : ℕ) (f : ℕ → ℕ → Elt F .fp8e4m3) (a b : ℕ) : Elt F .fp8e4m3 := if b < 256 * t then ytv E yi cf a b else f a b

theorem Cq_zero {x f} : Cq E x 0 f = f := by funext a b; unfold Cq; rw [if_neg (by omega)]
theorem Yq_zero {yi cf f} : Yq E yi cf 0 f = f := by funext a b; unfold Yq; rw [if_neg (by omega)]
theorem CIdle_full {p x f} : CIdle E p (Cq E x 32 f) = CIdle E p (cqv E x) := by
  unfold CIdle
  refine congrArg (fun A : sProp 𝕄 => iprop(A ∗ _)) (pointsTo_congr fun i _ => ?_)
  have i1 := (i 1).isLt
  change (i 1).val < 1024 at i1
  exact if_pos (by omega)
theorem YIdle_full {p yi cf f} : YIdle E p (Yq E yi cf 35 f) = YIdle E p (ytv E yi cf) := by
  unfold YIdle
  refine congrArg (fun A : sProp 𝕄 => iprop(A ∗ _)) (pointsTo_congr fun i _ => ?_)
  have i1 := (i 2).isLt
  change (i 2).val < 8960 at i1
  exact if_pos (by omega)

section ops
variable {Q : α → sProp (MT nD τ sig Unit (Elt F) ℕ (UD sig nD τ) ℕ)} {k : Elt F .i32 → Prog (TpuEff nD τ sig (Elt F) Λ₀ .tc) α}
theorem it_load {w : ℕ → BitVec 32} {off : Fin 1 → ℕ} {h : ∀ a, off a + S1.size a ≤ S40.size a} {h1 : S1.numel = 1} {hp : EltTy.packing .i32 = 1} (i : ℕ) (hi : off 0 = i) :
    Items E w ⊢ iprop((Items E w -∗ E.wp (k (w i)) Q) -∗ E.wp (smemLoad (Memref.whole cc0_scratch7) (Rect.unit (s := S40) off S1.size h) h1 hp >>= k) Q) := by
  have hh := wp_load (defs := defs₀ (F := F)) 𝒱₀ (E.c : Thread nD τ) none Set.univ (Γ := .empty) (Q := Q) (m := Memref.whole cc0_scratch7)
    (r := (Rect.unit (s := S40) off S1.size h).toLoadRect) (hl := View.loadsAt_rect (View.loads_smem_one hp h1))
    (k := fun f => k (f (Shape.Idx.first (h1.symm ▸ Nat.one_pos)))) (q := fullShare) (f := (fun i => w (i 0).val : Buf (Elt F) (E.l cc0_scratch7))) (S := Finset.univ) (Finset.subset_univ _)
  subst hi; exact hh
theorem us_load {w : ℕ → BitVec 32} {off : Fin 1 → ℕ} {h : ∀ a, off a + S1.size a ≤ S40.size a} {h1 : S1.numel = 1} {hp : EltTy.packing .i32 = 1} (i : ℕ) (hi : off 0 = i) :
    Used E w ⊢ iprop((Used E w -∗ E.wp (k (w i)) Q) -∗ E.wp (smemLoad (Memref.whole cc0_scratch8) (Rect.unit (s := S40) off S1.size h) h1 hp >>= k) Q) := by
  have hh := wp_load (defs := defs₀ (F := F)) 𝒱₀ (E.c : Thread nD τ) none Set.univ (Γ := .empty) (Q := Q) (m := Memref.whole cc0_scratch8)
    (r := (Rect.unit (s := S40) off S1.size h).toLoadRect) (hl := View.loadsAt_rect (View.loads_smem_one hp h1))
    (k := fun f => k (f (Shape.Idx.first (h1.symm ▸ Nat.one_pos)))) (q := fullShare) (f := (fun i => w (i 0).val : Buf (Elt F) (E.l cc0_scratch8))) (S := Finset.univ) (Finset.subset_univ _)
  subst hi; exact hh
theorem pm_load {off : Fin 2 → ℕ} {h : ∀ a, off a + S1x1.size a ≤ S8x128.size a} {h1 : S1x1.numel = 1} {hp : EltTy.packing .i32 = 1} (s g : ℕ) (hs : s < 40) (hg : g < 8)
    (h0 : off 0 = (8 * s + g) / 128) (h0' : off 1 = (8 * s + g) % 128) :
    Perm E ⊢ iprop((Perm E -∗ E.wp (k (BitVec.ofNat 32 (E.P (8 * s + g)))) Q) -∗ E.wp (smemLoad (Memref.whole cc0_scratch6) (Rect.unit (s := S8x128) off S1x1.size h) h1 hp >>= k) Q) := by
  unfold Perm
  iintro ⟨%f, %hf, H⟩ Hk
  have hh := wp_load (defs := defs₀ (F := F)) 𝒱₀ (E.c : Thread nD τ) none Set.univ (Γ := .empty) (Q := Q) (m := Memref.whole cc0_scratch6)
    (r := (Rect.unit (s := S8x128) off S1x1.size h).toLoadRect) (hl := View.loadsAt_rect (View.loads_smem_one hp h1))
    (k := fun f => k (f (Shape.Idx.first (h1.symm ▸ Nat.one_pos)))) (q := fullShare) (f := f) (S := Finset.univ) (Finset.subset_univ _)
  have e : ((Memref.whole cc0_scratch6).view.readAt (Elt F) (Rect.unit (s := S8x128) off S1x1.size h).toLoadRect f (Shape.Idx.first (h1.symm ▸ Nat.one_pos)) : BitVec 32)
      = BitVec.ofNat 32 (E.P (8 * s + g)) := by
    have := hf ((Rect.unit (s := S8x128) off S1x1.size h).emb (Shape.Idx.first (h1.symm ▸ Nat.one_pos)))
      (show 128 * (off 0 + 1 * 0) + (off 1 + 1 * 0) < 320 by omega)
    refine Eq.trans this ?_
    refine congrArg (fun z => BitVec.ofNat 32 (E.P z)) ?_
    show 128 * (off 0 + 1 * 0) + (off 1 + 1 * 0) = _
    omega
  rw [e] at hh
  iapply hh $$ H
  iintro H
  iapply Hk
  iexists f
  isplitr; · ipureintro; exact hf
  iexact H
end ops
section ops
variable {Q : α → sProp (MT nD τ sig Unit (Elt F) ℕ (UD sig nD τ) ℕ)} {k : PUnit → Prog (TpuEff nD τ sig (Elt F) Λ₀ .tc) α}
/-- A cell of a list of forty is stored. -/
theorem us_cell {w : ℕ → BitVec 32} {off : Fin 1 → ℕ} {h : ∀ a, off a + S1.size a ≤ S40.size a} {v : BitVec 32} (i : ℕ) (hi : off 0 = i) (j : S40.Idx) :
    ((((View.whole (sig := sig) cc0_scratch8).slice (Rect.unit (s := S40) off S1.size h)).write (Elt F) (fun i => w (i 0).val) (fun _ => v) Finset.univ j : BitVec 32)) = Function.update w i v (j 0).val := by
  subst hi
  by_cases e : (j 0).val = off 0
  · have : j = (Rect.unit (s := S40) off S1.size h).emb (Shape.Idx.first (s := S1) (by decide)) := by
      funext a
      obtain rfl : a = 0 := Subsingleton.elim _ _
      exact Fin.ext (e.trans (show off 0 = off 0 + 1 * 0 by omega))
    rw [this]
    refine (View.write_emb_of_mem (v := (View.whole (sig := sig) cc0_scratch8).slice (Rect.unit (s := S40) off S1.size h)) (x := (Shape.Idx.first (s := S1) (by decide))) _ _ (Finset.mem_univ _)).trans ?_
    rw [← this, e, Function.update_self]
    rfl
  · rw [Function.update_of_ne e]
    refine View.write_of_not_mem _ _ _ (fun hc => e ?_)
    have hc := View.setOn_subset_set _ _ hc
    rw [View.set_slice_whole, Rect.mem_set_unit] at hc
    have := hc 0
    change off 0 ≤ (j 0).val ∧ (j 0).val < off 0 + 1 at this
    omega
/-- A cell of a list of forty is stored. -/
theorem it_cell {w : ℕ → BitVec 32} {off : Fin 1 → ℕ} {h : ∀ a, off a + S1.size a ≤ S40.size a} {v : BitVec 32} (i : ℕ) (hi : off 0 = i) (j : S40.Idx) :
    ((((View.whole (sig := sig) cc0_scratch7).slice (Rect.unit (s := S40) off S1.size h)).write (Elt F) (fun i => w (i 0).val) (fun _ => v) Finset.univ j : BitVec 32)) = Function.update w i v (j 0).val := by
  subst hi
  by_cases e : (j 0).val = off 0
  · have : j = (Rect.unit (s := S40) off S1.size h).emb (Shape.Idx.first (s := S1) (by decide)) := by
      funext a
      obtain rfl : a = 0 := Subsingleton.elim _ _
      exact Fin.ext (e.trans (show off 0 = off 0 + 1 * 0 by omega))
    rw [this]
    refine (View.write_emb_of_mem (v := (View.whole (sig := sig) cc0_scratch7).slice (Rect.unit (s := S40) off S1.size h)) (x := (Shape.Idx.first (s := S1) (by decide))) _ _ (Finset.mem_univ _)).trans ?_
    rw [← this, e, Function.update_self]
    rfl
  · rw [Function.update_of_ne e]
    refine View.write_of_not_mem _ _ _ (fun hc => e ?_)
    have hc := View.setOn_subset_set _ _ hc
    rw [View.set_slice_whole, Rect.mem_set_unit] at hc
    have := hc 0
    change off 0 ≤ (j 0).val ∧ (j 0).val < off 0 + 1 at this
    omega
theorem us_store {w : ℕ → BitVec 32} {off : Fin 1 → ℕ} {h : ∀ a, off a + S1.size a ≤ S40.size a} {v : BitVec 32} {hx hm} (i : ℕ) (hi : off 0 = i) :
    Used E w ⊢ iprop((Used E (Function.update w i v) -∗ E.wp (k ⟨⟩) Q)
      -∗ E.wp (Prog.lift (.store (Memref.whole cc0_scratch8) (Rect.unit (s := S40) off S1.size h) (fun _ => v) Finset.univ hx hm) >>= k) Q) := by
  have hh := wp_store (defs := defs₀ (F := F)) 𝒱₀ (E.c : Thread nD τ) none Set.univ (Γ := .empty) (Q := Q) (m := Memref.whole cc0_scratch8) (r := Rect.unit (s := S40) off S1.size h)
    (w := fun _ => v) (Mk := Finset.univ) (hx := hx) (hm := hm) (k := k) (f := (fun i => w (i 0).val : Buf (Elt F) (E.l cc0_scratch8))) (S := Finset.univ) (Finset.subset_univ _)
  refine BIBase.Entails.trans hh ?_
  refine wand_mono_left (wand_mono_left (Entails.of_eq (pointsTo_congr fun j _ => ?_)))
  exact (us_cell (F := F) (w := w) (h := h) (v := v) i hi j)
theorem it_store {w : ℕ → BitVec 32} {off : Fin 1 → ℕ} {h : ∀ a, off a + S1.size a ≤ S40.size a} {v : BitVec 32} {hx hm} (i : ℕ) (hi : off 0 = i) :
    Items E w ⊢ iprop((Items E (Function.update w i v) -∗ E.wp (k ⟨⟩) Q)
      -∗ E.wp (Prog.lift (.store (Memref.whole cc0_scratch7) (Rect.unit (s := S40) off S1.size h) (fun _ => v) Finset.univ hx hm) >>= k) Q) := by
  have hh := wp_store (defs := defs₀ (F := F)) 𝒱₀ (E.c : Thread nD τ) none Set.univ (Γ := .empty) (Q := Q) (m := Memref.whole cc0_scratch7) (r := Rect.unit (s := S40) off S1.size h)
    (w := fun _ => v) (Mk := Finset.univ) (hx := hx) (hm := hm) (k := k) (f := (fun i => w (i 0).val : Buf (Elt F) (E.l cc0_scratch7))) (S := Finset.univ) (Finset.subset_univ _)
  refine BIBase.Entails.trans hh ?_
  refine wand_mono_left (wand_mono_left (Entails.of_eq (pointsTo_congr fun j _ => ?_)))
  exact (it_cell (F := F) (w := w) (h := h) (v := v) i hi j)

/-- The running maxima are stored. -/
theorem m_store {v v' : Vec F S8x128 .f32} {h hx hm} :
    Mb E v ⊢ iprop((Mb E v' -∗ E.wp (k ⟨⟩) Q)
      -∗ E.wp (Prog.lift (.store (Memref.whole cc0_scratch4) (Rect.unit (s := S8x128) ![0, 0] S8x128.size h) v' Finset.univ hx hm) >>= k) Q) := by
  have hh := wp_store (defs := defs₀ (F := F)) 𝒱₀ (E.c : Thread nD τ) none Set.univ (Γ := .empty) (Q := Q) (m := Memref.whole cc0_scratch4) (r := Rect.unit (s := S8x128) ![0, 0] S8x128.size h)
    (w := v') (Mk := Finset.univ) (hx := hx) (hm := hm) (k := k) (f := (v : Buf (Elt F) (E.l cc0_scratch4))) (S := Finset.univ) (Finset.subset_univ _)
  refine BIBase.Entails.trans hh ?_
  refine wand_mono_left (wand_mono_left (Entails.of_eq (pointsTo_congr fun j _ => ?_)))
  have e : j = (Rect.unit (s := S8x128) ![0, 0] S8x128.size h).emb j := by
    funext a
    refine Fin.ext ?_
    fin_cases a
    · exact (show (j 0).val = 0 + 1 * (j 0).val by omega)
    · exact (show (j 1).val = 0 + 1 * (j 1).val by omega)
  exact ((congrArg _ e).trans ((View.write_emb_of_mem (v := (View.whole (sig := sig) cc0_scratch4).slice (Rect.unit (s := S8x128) ![0, 0] S8x128.size h)) (x := j) _ _ (Finset.mem_univ _))))

/-- A strip of codes is stored. -/
theorem cs_store {p t : ℕ} {x : ℕ → ℕ → Elt F .bf16} {f : ℕ → ℕ → Elt F .fp8e4m3} {off : Fin 3 → ℕ} {h : ∀ a, off a + S1x32x1536.size a ≤ S2x1024x1536.size a} {v : Vec F S1x32x1536 .fp8e4m3} {hx hm}
    (h0 : off 0 = p) (h1 : off 1 = 32 * t) (h2 : off 2 = 0) (hv : v = k0_pay62 E.xi (xst x (32 * t))) :
    CIdle E p (Cq E x t f) ⊢ iprop((CIdle E p (Cq E x (t + 1) f) -∗ E.wp (k ⟨⟩) Q)
      -∗ E.wp (Prog.lift (.store (Memref.whole cc0_scratch2) (Rect.unit (s := S2x1024x1536) off S1x32x1536.size h) v Finset.univ hx hm) >>= k) Q) := by
  unfold CIdle
  iintro ⟨H, HS⟩ Hk
  have hh := wp_store (defs := defs₀ (F := F)) 𝒱₀ (E.c : Thread nD τ) none Set.univ (Γ := .empty) (Q := Q) (m := Memref.whole cc0_scratch2) (r := Rect.unit (s := S2x1024x1536) off S1x32x1536.size h)
    (w := v) (Mk := Finset.univ) (hx := hx) (hm := hm) (k := k) (f := (sv (Cq E x t f) : Buf (Elt F) (E.l cc0_scratch2))) (S := slX p) (fun i hi => ?_)
  · iapply hh $$ H
    iintro H
    iapply Hk
    isplitl [H]
    · iapply (Entails.of_eq (pointsTo_congr fun j hj => ?_)) $$ H
      have j0 : (j 0).val = p := (Finset.mem_filter.mp hj).2
      have j1 := (j 1).isLt; have j2 := (j 2).isLt
      change (j 1).val < 1024 at j1; change (j 2).val < 1536 at j2
      show _ = if (j 1).val < 32 * (t + 1) then cqv E x (j 1).val (j 2).val else f (j 1).val (j 2).val
      by_cases e : 32 * t ≤ (j 1).val ∧ (j 1).val < 32 * (t + 1)
      · have ej : j = (Rect.unit (s := S2x1024x1536) off S1x32x1536.size h).emb (ValueIdx.ix3 0 (Fin.ofNat 32 (j 1).val) (Fin.ofNat 1536 (j 2).val)) := by
          funext a
          refine Fin.ext ?_
          fin_cases a
          · exact (show (j 0).val = off 0 + 1 * 0 by omega)
          · exact (show (j 1).val = off 1 + 1 * ((j 1).val % 32) by omega)
          · exact (show (j 2).val = off 2 + 1 * ((j 2).val % 1536) by omega)
        rw [if_pos e.2]
        refine (congrArg _ ej).trans ((View.write_emb_of_mem (v := (View.whole (sig := sig) cc0_scratch2).slice (Rect.unit (s := S2x1024x1536) off S1x32x1536.size h)) _ _ (Finset.mem_univ _)).trans ?_)
        subst hv
        unfold cqv
        rw [show (j 1).val / 32 = t by omega]
        rfl
      · refine (View.write_of_not_mem _ _ _ (fun hc => e ?_)).trans ?_
        · have hc := View.setOn_subset_set _ _ hc
          rw [View.set_slice_whole, Rect.mem_set_unit] at hc
          have := hc 1
          change off 1 ≤ (j 1).val ∧ (j 1).val < off 1 + 32 at this
          omega
        · show (if (j 1).val < 32 * t then cqv E x (j 1).val (j 2).val else f (j 1).val (j 2).val) = _
          by_cases e1 : (j 1).val < 32 * t
          · rw [if_pos e1, if_pos (by omega)]
          · rw [if_neg e1, if_neg (by omega)]
    · iexact HS
  · have hc := View.setOn_subset_set _ _ hi
    rw [View.set_slice_whole, Rect.mem_set_unit] at hc
    have := hc 0
    change off 0 ≤ (i 0).val ∧ (i 0).val < off 0 + 1 at this
    exact Finset.mem_filter.mpr ⟨Finset.mem_univ _, by omega⟩

/-- A tile of the result is stored. -/
theorem ys_store {p t : ℕ} {yi : FVec F S1x1 .f32} {cf : ℕ → ℕ → Elt F .fp8e4m3} {f : ℕ → ℕ → Elt F .fp8e4m3} {off : Fin 3 → ℕ} {h : ∀ a, off a + S1x1024x256.size a ≤ S2x1024x8960.size a} {v : Vec F S1x1024x256 .fp8e4m3} {hx hm}
    (h0 : off 0 = p) (h1 : off 1 = 0) (h2 : off 2 = 256 * t) (hv : v = k0_pay65 E.ym yi (cvec cf) (wl E (256 * t))) :
    YIdle E p (Yq E yi cf t f) ⊢ iprop((YIdle E p (Yq E yi cf (t + 1) f) -∗ E.wp (k ⟨⟩) Q)
      -∗ E.wp (Prog.lift (.store (Memref.whole cc0_scratch3) (Rect.unit (s := S2x1024x8960) off S1x1024x256.size h) v Finset.univ hx hm) >>= k) Q) := by
  unfold YIdle
  iintro ⟨H, HS⟩ Hk
  have hh := wp_store (defs := defs₀ (F := F)) 𝒱₀ (E.c : Thread nD τ) none Set.univ (Γ := .empty) (Q := Q) (m := Memref.whole cc0_scratch3) (r := Rect.unit (s := S2x1024x8960) off S1x1024x256.size h)
    (w := v) (Mk := Finset.univ) (hx := hx) (hm := hm) (k := k) (f := (sv (Yq E yi cf t f) : Buf (Elt F) (E.l cc0_scratch3))) (S := slY p) (fun i hi => ?_)
  · iapply hh $$ H
    iintro H
    iapply Hk
    isplitl [H]
    · iapply (Entails.of_eq (pointsTo_congr fun j hj => ?_)) $$ H
      have j0 : (j 0).val = p := (Finset.mem_filter.mp hj).2
      have j1 := (j 1).isLt; have j2 := (j 2).isLt
      change (j 1).val < 1024 at j1; change (j 2).val < 8960 at j2
      show _ = if (j 2).val < 256 * (t + 1) then ytv E yi cf (j 1).val (j 2).val else f (j 1).val (j 2).val
      by_cases e : 256 * t ≤ (j 2).val ∧ (j 2).val < 256 * (t + 1)
      · have ej : j = (Rect.unit (s := S2x1024x8960) off S1x1024x256.size h).emb (ValueIdx.ix3 0 (Fin.ofNat 1024 (j 1).val) (Fin.ofNat 256 (j 2).val)) := by
          funext a
          refine Fin.ext ?_
          fin_cases a
          · exact (show (j 0).val = off 0 + 1 * 0 by omega)
          · exact (show (j 1).val = off 1 + 1 * ((j 1).val % 1024) by omega)
          · exact (show (j 2).val = off 2 + 1 * ((j 2).val % 256) by omega)
        rw [if_pos e.2]
        refine (congrArg _ ej).trans ((View.write_emb_of_mem (v := (View.whole (sig := sig) cc0_scratch3).slice (Rect.unit (s := S2x1024x8960) off S1x1024x256.size h)) _ _ (Finset.mem_univ _)).trans ?_)
        subst hv
        unfold ytv
        rw [show (j 2).val / 256 = t by omega]
        rfl
      · refine (View.write_of_not_mem _ _ _ (fun hc => e ?_)).trans ?_
        · have hc := View.setOn_subset_set _ _ hc
          rw [View.set_slice_whole, Rect.mem_set_unit] at hc
          have := hc 2
          change off 2 ≤ (j 2).val ∧ (j 2).val < off 2 + 256 at this
          omega
        · show (if (j 2).val < 256 * t then ytv E yi cf (j 1).val (j 2).val else f (j 1).val (j 2).val) = _
          by_cases e1 : (j 2).val < 256 * t
          · rw [if_pos e1, if_pos (by omega)]
          · rw [if_neg e1, if_neg (by omega)]
    · iexact HS
  · have hc := View.setOn_subset_set _ _ hi
    rw [View.set_slice_whole, Rect.mem_set_unit] at hc
    have := hc 0
    change off 0 ≤ (i 0).val ∧ (i 0).val < off 0 + 1 at this
    exact Finset.mem_filter.mpr ⟨Finset.mem_univ _, by omega⟩
end ops
section ops
variable {Q : α → sProp (MT nD τ sig Unit (Elt F) ℕ (UD sig nD τ) ℕ)}
/-- The running maxima are read. -/
theorem m_load {v : Vec F S8x128 .f32} {k : Vec F S8x128 .f32 → Prog (TpuEff nD τ sig (Elt F) Λ₀ .tc) α} {h hl} :
    Mb E v ⊢ iprop((Mb E v -∗ E.wp (k v) Q) -∗ E.wp (Prog.lift (.load (Memref.whole cc0_scratch4) (Rect.unit (s := S8x128) ![0, 0] S8x128.size h).toLoadRect hl) >>= k) Q) := by
  have hh := wp_load (defs := defs₀ (F := F)) 𝒱₀ (E.c : Thread nD τ) none Set.univ (Γ := .empty) (Q := Q) (m := Memref.whole cc0_scratch4)
    (r := (Rect.unit (s := S8x128) ![0, 0] S8x128.size h).toLoadRect) (hl := hl) (k := k) (q := fullShare) (f := (v : Buf (Elt F) (E.l cc0_scratch4))) (S := Finset.univ) (Finset.subset_univ _)
  have e : (Memref.whole cc0_scratch4).view.readAt (Elt F) (Rect.unit (s := S8x128) ![0, 0] S8x128.size h).toLoadRect v = v := by
    funext j
    refine congrArg v (funext fun a => Fin.ext ?_)
    fin_cases a
    · exact (show 0 + 1 * (j 0).val = (j 0).val by omega)
    · exact (show 0 + 1 * (j 1).val = (j 1).val by omega)
  rw [e] at hh
  exact hh
/-- A tile of the weights is read. -/
theorem w_load (o : ℕ) {k : Vec F S1536x256 .fp8e4m3 → Prog (TpuEff nD τ sig (Elt F) Λ₀ .tc) α} {off : Fin 2 → ℕ} {h hl} (h0 : off 0 = 0) (h1 : off 1 = o) :
    Wb E ⊢ iprop((Wb E -∗ E.wp (k (wl E o)) Q) -∗ E.wp (Prog.lift (.load (Memref.whole cc0_scratch0) (Rect.unit (s := S1536x8960) off S1536x256.size h).toLoadRect hl) >>= k) Q) := by
  have hh := wp_load (defs := defs₀ (F := F)) 𝒱₀ (E.c : Thread nD τ) none Set.univ (Γ := .empty) (Q := Q) (m := Memref.whole cc0_scratch0)
    (r := (Rect.unit (s := S1536x8960) off S1536x256.size h).toLoadRect) (hl := hl) (k := k) (q := fullShare) (f := (E.W : Buf (Elt F) (E.l cc0_scratch0))) (S := Finset.univ) (Finset.subset_univ _)
  have e : (Memref.whole cc0_scratch0).view.readAt (Elt F) (Rect.unit (s := S1536x8960) off S1536x256.size h).toLoadRect E.W = wl E o := by
    funext j
    refine congrArg E.W (funext fun a => Fin.ext ?_)
    have := h 1
    change off 1 + 256 ≤ 8960 at this
    have j1 := (j 1).isLt
    change (j 1).val < 256 at j1
    fin_cases a
    · exact (show off 0 + 1 * (j 0).val = (j 0).val by omega)
    · exact (show off 1 + 1 * (j 1).val = (o + (j 1).val) % 8960 by omega)
  rw [e] at hh
  exact hh

theorem cv_pt {p : ℕ} {q : PosShare TreeShare} {f : ℕ → ℕ → Elt F .fp8e4m3} {k : Vec F S1x1024x1536 .fp8e4m3 → Prog (TpuEff nD τ sig (Elt F) Λ₀ .tc) α} {off : Fin 3 → ℕ} {h hl} (h0 : off 0 = p) (h1 : off 1 = 0) (h2 : off 2 = 0) :
    (E.l cc0_scratch2 ↦[slX p]{q} sv f) ⊢ iprop(((E.l cc0_scratch2 ↦[slX p]{q} sv f) -∗ E.wp (k (cvec f)) Q) -∗ E.wp (Prog.lift (.load (Memref.whole cc0_scratch2) (Rect.unit (s := S2x1024x1536) off S1x1024x1536.size h).toLoadRect hl) >>= k) Q) := by
  have hh := wp_load (defs := defs₀ (F := F)) 𝒱₀ (E.c : Thread nD τ) none Set.univ (Γ := .empty) (Q := Q) (m := Memref.whole cc0_scratch2)
    (r := (Rect.unit (s := S2x1024x1536) off S1x1024x1536.size h).toLoadRect) (hl := hl) (k := k) (q := q) (f := (sv f : Buf (Elt F) (E.l cc0_scratch2))) (S := slX p) (fun i hi => ?_)
  · have e : (Memref.whole cc0_scratch2).view.readAt (Elt F) (Rect.unit (s := S2x1024x1536) off S1x1024x1536.size h).toLoadRect (sv f : Buf (Elt F) (E.l cc0_scratch2)) = cvec f := by
      funext j
      show f (off 1 + 1 * (j 1).val) (off 2 + 1 * (j 2).val) = f (j 1).val (j 2).val
      rw [show off 1 + 1 * (j 1).val = (j 1).val by omega, show off 2 + 1 * (j 2).val = (j 2).val by omega]
    rw [e] at hh
    exact hh
  · obtain ⟨j, hj, rfl⟩ := Finset.mem_map.mp hi
    have hc := (Rect.mem_set_unit (i := j)).mp hj 0
    change off 0 ≤ (j 0).val ∧ (j 0).val < off 0 + 1 at hc
    exact Finset.mem_filter.mpr ⟨Finset.mem_univ _, (show (j 0).val = p by omega)⟩
/-- The codes are read while they are being copied. -/
theorem cf_load {p s j u : ℕ} {f v : ℕ → ℕ → Elt F .fp8e4m3} {k : Vec F S1x1024x1536 .fp8e4m3 → Prog (TpuEff nD τ sig (Elt F) Λ₀ .tc) α} {off : Fin 3 → ℕ} {h hl} (h0 : off 0 = p) (h1 : off 1 = 0) (h2 : off 2 = 0) :
    CFly E p f v s j u ⊢ iprop((CFly E p f v s j u -∗ E.wp (k (cvec f)) Q) -∗ E.wp (Prog.lift (.load (Memref.whole cc0_scratch2) (Rect.unit (s := S2x1024x1536) off S1x1024x1536.size h).toLoadRect hl) >>= k) Q) := by
  unfold CFly
  iintro ⟨HF, H⟩ Hk
  iapply (cv_pt h0 h1 h2) $$ H
  iintro H
  iapply Hk
  isplitl [HF]; · iexact HF
  iexact H
/-- A strip of rows is read. -/
theorem x_load {p : ℕ} (o : ℕ) {f : ℕ → ℕ → Elt F .bf16} {k : Vec F S1x32x1536 .bf16 → Prog (TpuEff nD τ sig (Elt F) Λ₀ .tc) α} {off : Fin 3 → ℕ} {h hl} (h0 : off 0 = p) (h1 : off 1 = o) (h2 : off 2 = 0) :
    XIdle E p f ⊢ iprop((XIdle E p f -∗ E.wp (k (xst f o)) Q) -∗ E.wp (Prog.lift (.load (Memref.whole cc0_scratch1) (Rect.unit (s := S2x1024x1536) off S1x32x1536.size h).toLoadRect hl) >>= k) Q) := by
  unfold XIdle
  iintro ⟨H, HS⟩ Hk
  have hh := wp_load (defs := defs₀ (F := F)) 𝒱₀ (E.c : Thread nD τ) none Set.univ (Γ := .empty) (Q := Q) (m := Memref.whole cc0_scratch1)
    (r := (Rect.unit (s := S2x1024x1536) off S1x32x1536.size h).toLoadRect) (hl := hl) (k := k) (q := fullShare) (f := (sv f : Buf (Elt F) (E.l cc0_scratch1))) (S := slX p) (fun i hi => ?_)
  · have e : (Memref.whole cc0_scratch1).view.readAt (Elt F) (Rect.unit (s := S2x1024x1536) off S1x32x1536.size h).toLoadRect (sv f : Buf (Elt F) (E.l cc0_scratch1)) = xst f o := by
      funext j
      show f (off 1 + 1 * (j 1).val) (off 2 + 1 * (j 2).val) = f (o + (j 1).val) (j 2).val
      rw [show off 1 + 1 * (j 1).val = o + (j 1).val by omega, show off 2 + 1 * (j 2).val = (j 2).val by omega]
    rw [e] at hh
    iapply hh $$ H
    iintro H
    iapply Hk
    isplitl [H]; · iexact H
    iexact HS
  · obtain ⟨j, hj, rfl⟩ := Finset.mem_map.mp hi
    have hc := (Rect.mem_set_unit (i := j)).mp hj 0
    change off 0 ≤ (j 0).val ∧ (j 0).val < off 0 + 1 at hc
    exact Finset.mem_filter.mpr ⟨Finset.mem_univ _, (show (j 0).val = p by omega)⟩

/-- A read whose value is not used. -/
theorem cd_load {p : ℕ} {f : ℕ → ℕ → Elt F .fp8e4m3} {e : Prog (TpuEff nD τ sig (Elt F) Λ₀ .tc) α} {off : Fin 3 → ℕ} {h hl} (h0 : off 0 = p) :
    CIdle E p f ⊢ iprop((CIdle E p f -∗ E.wp e Q) -∗ E.wp (Prog.lift (.load (Memref.whole cc0_scratch2) (Rect.unit (s := S2x1024x1536) off S1x32x1536.size h).toLoadRect hl) >>= fun _ => e) Q) := by
  unfold CIdle
  iintro ⟨H, HS⟩ Hk
  have hh := wp_load (defs := defs₀ (F := F)) 𝒱₀ (E.c : Thread nD τ) none Set.univ (Γ := .empty) (Q := Q) (m := Memref.whole cc0_scratch2)
    (r := (Rect.unit (s := S2x1024x1536) off S1x32x1536.size h).toLoadRect) (hl := hl) (k := fun _ => e) (q := fullShare) (f := (sv f : Buf (Elt F) (E.l cc0_scratch2))) (S := slX p) (fun i hi => ?_)
  · iapply hh $$ H
    iintro H
    iapply Hk
    isplitl [H]; · iexact H
    iexact HS
  · obtain ⟨j, hj, rfl⟩ := Finset.mem_map.mp hi
    have hc := (Rect.mem_set_unit (i := j)).mp hj 0
    change off 0 ≤ (j 0).val ∧ (j 0).val < off 0 + 1 at hc
    exact Finset.mem_filter.mpr ⟨Finset.mem_univ _, (show (j 0).val = p by omega)⟩

/-- A read whose value is not used. -/
theorem yd_load {p : ℕ} {f : ℕ → ℕ → Elt F .fp8e4m3} {e : Prog (TpuEff nD τ sig (Elt F) Λ₀ .tc) α} {off : Fin 3 → ℕ} {h hl} (h0 : off 0 = p) :
    YIdle E p f ⊢ iprop((YIdle E p f -∗ E.wp e Q) -∗ E.wp (Prog.lift (.load (Memref.whole cc0_scratch3) (Rect.unit (s := S2x1024x8960) off S1x1024x256.size h).toLoadRect hl) >>= fun _ => e) Q) := by
  unfold YIdle
  iintro ⟨H, HS⟩ Hk
  have hh := wp_load (defs := defs₀ (F := F)) 𝒱₀ (E.c : Thread nD τ) none Set.univ (Γ := .empty) (Q := Q) (m := Memref.whole cc0_scratch3)
    (r := (Rect.unit (s := S2x1024x8960) off S1x1024x256.size h).toLoadRect) (hl := hl) (k := fun _ => e) (q := fullShare) (f := (sv f : Buf (Elt F) (E.l cc0_scratch3))) (S := slY p) (fun i hi => ?_)
  · iapply hh $$ H
    iintro H
    iapply Hk
    isplitl [H]; · iexact H
    iexact HS
  · obtain ⟨j, hj, rfl⟩ := Finset.mem_map.mp hi
    have hc := (Rect.mem_set_unit (i := j)).mp hj 0
    change off 0 ≤ (j 0).val ∧ (j 0).val < off 0 + 1 at hc
    exact Finset.mem_filter.mpr ⟨Finset.mem_univ _, (show (j 0).val = p by omega)⟩
end ops
end Cert.Proof.KernelIdeal
end
-- ==== Proof.A5.lean ====
module
public import proofs.«01_k».proof.Proof.A4
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

instance sepComm {M : Type} [RA M] : _root_.Std.Commutative (α := sProp M) BIBase.sep :=
  ⟨fun P Q => _root_.Std.Commutative.comm (op := fun P Q : sProp M => BI.sep P Q) P Q⟩
instance sepAssoc {M : Type} [RA M] : _root_.Std.Associative (α := sProp M) BIBase.sep :=
  ⟨fun P Q R => _root_.Std.Associative.assoc (op := fun P Q : sProp M => BI.sep P Q) P Q R⟩
variable {E : Env F} {α : Type}
section
variable {Γ : sProp (MT nD τ sig Unit (Elt F) ℕ (UD sig nD τ) ℕ)} {Q : α → sProp (MT nD τ sig Unit (Elt F) ℕ (UD sig nD τ) ℕ)}
/-- A run of two programs is a run of the first and then of the second. -/
theorem bd {β : Type} {p : Prog (TpuEff nD τ sig (Elt F) Λ₀ .tc) β} {k : β → Prog (TpuEff nD τ sig (Elt F) Λ₀ .tc) α} (h : Γ ⊢ E.wp p (fun a => E.wp (k a) Q)) : Γ ⊢ E.wp (p >>= k) Q := by
  unfold Env.wp
  rw [wp_bind]
  exact h
/-- A program that only returns a value. -/
theorem ret {E : Env F} {a : α} (h : Γ ⊢ Q a) : Γ ⊢ E.wp (pure a) Q := by
  exact exec_ret 𝒱₀ (E.c : Thread nD τ) none Set.univ a h
/-- A last operation. -/
theorem tl {p : Prog (TpuEff nD τ sig (Elt F) Λ₀ .tc) α} (h : Γ ⊢ E.wp (p >>= pure) Q) : Γ ⊢ E.wp p Q := by
  rw [bind_pure] at h
  exact h
/-- A side condition that holds. -/
theorem as_ {E : Env F} {P : Prop} {d : Decidable P} {k : PLift P → Prog (TpuEff nD τ sig (Elt F) Λ₀ .tc) α} (hP : P) (h : Γ ⊢ E.wp (k ⟨hP⟩) Q) : Γ ⊢ E.wp (Prog.lift (TpuEff.assume P d) >>= k) Q :=
  h.trans (wp_assume 𝒱₀ (E.c : Thread nD τ) none Set.univ hP)
theorem dp {c : Prop} {d : Decidable c} {a : c → Prog (TpuEff nD τ sig (Elt F) Λ₀ .tc) α} {b : ¬ c → Prog (TpuEff nD τ sig (Elt F) Λ₀ .tc) α} (hc : c) (h : Γ ⊢ E.wp (a hc) Q) : Γ ⊢ E.wp (dite c a b) Q := by
  rw [dif_pos hc]; exact h
theorem dn {c : Prop} {d : Decidable c} {a : c → Prog (TpuEff nD τ sig (Elt F) Λ₀ .tc) α} {b : ¬ c → Prog (TpuEff nD τ sig (Elt F) Λ₀ .tc) α} (hc : ¬ c) (h : Γ ⊢ E.wp (b hc) Q) : Γ ⊢ E.wp (dite c a b) Q := by
  rw [dif_neg hc]; exact h
end

/-- The state of a run: the buffers, the slots in flight, the items done. -/
def St (A1 A2 A3 A4 A5 A6 A7 A8 A9 A10 A11 A12 A13 A14 A15 : sProp 𝕄) : sProp 𝕄 := iprop(A1 ∗ A2 ∗ A3 ∗ A4 ∗ A5 ∗ A6 ∗ A7 ∗ A8 ∗ A9 ∗ A10 ∗ A11 ∗ A12 ∗ A13 ∗ A14 ∗ A15)
theorem foc {S S' A B R U T : sProp 𝕄} (e1 : S = iprop(A ∗ R)) (e2 : S' = iprop(B ∗ R)) (h : A ⊢ iprop((B -∗ T) -∗ U)) (h2 : S' ⊢ T) : S ⊢ U := by
  rw [e1]; rw [e2] at h2
  iintro ⟨HA, HR⟩
  iapply h $$ HA
  iintro HB
  iapply h2
  isplitl [HB]; · iexact HB
  iexact HR
variable {A1 A2 A3 A4 A5 A6 A7 A8 A9 A10 A11 A12 A13 A14 A15 U T : sProp (MT nD τ sig Unit (Elt F) ℕ (UD sig nD τ) ℕ)}
theorem f1 {B1 : sProp 𝕄} (h : iprop(A1) ⊢ iprop((iprop(B1) -∗ T) -∗ U)) (h2 : St B1 A2 A3 A4 A5 A6 A7 A8 A9 A10 A11 A12 A13 A14 A15 ⊢ T) : St A1 A2 A3 A4 A5 A6 A7 A8 A9 A10 A11 A12 A13 A14 A15 ⊢ U :=
  foc (R := iprop(A2 ∗ A3 ∗ A4 ∗ A5 ∗ A6 ∗ A7 ∗ A8 ∗ A9 ∗ A10 ∗ A11 ∗ A12 ∗ A13 ∗ A14 ∗ A15)) (by unfold St; ac_rfl) (by unfold St; ac_rfl) h h2
theorem f2 {B2 : sProp 𝕄} (h : iprop(A2) ⊢ iprop((iprop(B2) -∗ T) -∗ U)) (h2 : St A1 B2 A3 A4 A5 A6 A7 A8 A9 A10 A11 A12 A13 A14 A15 ⊢ T) : St A1 A2 A3 A4 A5 A6 A7 A8 A9 A10 A11 A12 A13 A14 A15 ⊢ U :=
  foc (R := iprop(A1 ∗ A3 ∗ A4 ∗ A5 ∗ A6 ∗ A7 ∗ A8 ∗ A9 ∗ A10 ∗ A11 ∗ A12 ∗ A13 ∗ A14 ∗ A15)) (by unfold St; ac_rfl) (by unfold St; ac_rfl) h h2
theorem f3 {B3 : sProp 𝕄} (h : iprop(A3) ⊢ iprop((iprop(B3) -∗ T) -∗ U)) (h2 : St A1 A2 B3 A4 A5 A6 A7 A8 A9 A10 A11 A12 A13 A14 A15 ⊢ T) : St A1 A2 A3 A4 A5 A6 A7 A8 A9 A10 A11 A12 A13 A14 A15 ⊢ U :=
  foc (R := iprop(A1 ∗ A2 ∗ A4 ∗ A5 ∗ A6 ∗ A7 ∗ A8 ∗ A9 ∗ A10 ∗ A11 ∗ A12 ∗ A13 ∗ A14 ∗ A15)) (by unfold St; ac_rfl) (by unfold St; ac_rfl) h h2
theorem f4 {B4 : sProp 𝕄} (h : iprop(A4) ⊢ iprop((iprop(B4) -∗ T) -∗ U)) (h2 : St A1 A2 A3 B4 A5 A6 A7 A8 A9 A10 A11 A12 A13 A14 A15 ⊢ T) : St A1 A2 A3 A4 A5 A6 A7 A8 A9 A10 A11 A12 A13 A14 A15 ⊢ U :=
  foc (R := iprop(A1 ∗ A2 ∗ A3 ∗ A5 ∗ A6 ∗ A7 ∗ A8 ∗ A9 ∗ A10 ∗ A11 ∗ A12 ∗ A13 ∗ A14 ∗ A15)) (by unfold St; ac_rfl) (by unfold St; ac_rfl) h h2
theorem f5 {B5 : sProp 𝕄} (h : iprop(A5) ⊢ iprop((iprop(B5) -∗ T) -∗ U)) (h2 : St A1 A2 A3 A4 B5 A6 A7 A8 A9 A10 A11 A12 A13 A14 A15 ⊢ T) : St A1 A2 A3 A4 A5 A6 A7 A8 A9 A10 A11 A12 A13 A14 A15 ⊢ U :=
  foc (R := iprop(A1 ∗ A2 ∗ A3 ∗ A4 ∗ A6 ∗ A7 ∗ A8 ∗ A9 ∗ A10 ∗ A11 ∗ A12 ∗ A13 ∗ A14 ∗ A15)) (by unfold St; ac_rfl) (by unfold St; ac_rfl) h h2
theorem f6 {B6 : sProp 𝕄} (h : iprop(A6) ⊢ iprop((iprop(B6) -∗ T) -∗ U)) (h2 : St A1 A2 A3 A4 A5 B6 A7 A8 A9 A10 A11 A12 A13 A14 A15 ⊢ T) : St A1 A2 A3 A4 A5 A6 A7 A8 A9 A10 A11 A12 A13 A14 A15 ⊢ U :=
  foc (R := iprop(A1 ∗ A2 ∗ A3 ∗ A4 ∗ A5 ∗ A7 ∗ A8 ∗ A9 ∗ A10 ∗ A11 ∗ A12 ∗ A13 ∗ A14 ∗ A15)) (by unfold St; ac_rfl) (by unfold St; ac_rfl) h h2
theorem f7 {B7 : sProp 𝕄} (h : iprop(A7) ⊢ iprop((iprop(B7) -∗ T) -∗ U)) (h2 : St A1 A2 A3 A4 A5 A6 B7 A8 A9 A10 A11 A12 A13 A14 A15 ⊢ T) : St A1 A2 A3 A4 A5 A6 A7 A8 A9 A10 A11 A12 A13 A14 A15 ⊢ U :=
  foc (R := iprop(A1 ∗ A2 ∗ A3 ∗ A4 ∗ A5 ∗ A6 ∗ A8 ∗ A9 ∗ A10 ∗ A11 ∗ A12 ∗ A13 ∗ A14 ∗ A15)) (by unfold St; ac_rfl) (by unfold St; ac_rfl) h h2
theorem f8 {B8 : sProp 𝕄} (h : iprop(A8) ⊢ iprop((iprop(B8) -∗ T) -∗ U)) (h2 : St A1 A2 A3 A4 A5 A6 A7 B8 A9 A10 A11 A12 A13 A14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A9 ∗ A10 ∗ A11 ∗ A12 ∗ A13 ∗ A14 ∗ A15)) (by unfold St; ac_rfl) (by unfold St; ac_rfl) h h2
theorem f9 {B9 : sProp 𝕄} (h : iprop(A9) ⊢ iprop((iprop(B9) -∗ T) -∗ U)) (h2 : St A1 A2 A3 A4 A5 A6 A7 A8 B9 A10 A11 A12 A13 A14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A8 ∗ A10 ∗ A11 ∗ A12 ∗ A13 ∗ A14 ∗ A15)) (by unfold St; ac_rfl) (by unfold St; ac_rfl) h h2
theorem f10 {B10 : sProp 𝕄} (h : iprop(A10) ⊢ iprop((iprop(B10) -∗ T) -∗ U)) (h2 : St A1 A2 A3 A4 A5 A6 A7 A8 A9 B10 A11 A12 A13 A14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A8 ∗ A9 ∗ A11 ∗ A12 ∗ A13 ∗ A14 ∗ A15)) (by unfold St; ac_rfl) (by unfold St; ac_rfl) h h2
theorem f11 {B11 : sProp 𝕄} (h : iprop(A11) ⊢ iprop((iprop(B11) -∗ T) -∗ U)) (h2 : St A1 A2 A3 A4 A5 A6 A7 A8 A9 A10 B11 A12 A13 A14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A8 ∗ A9 ∗ A10 ∗ A12 ∗ A13 ∗ A14 ∗ A15)) (by unfold St; ac_rfl) (by unfold St; ac_rfl) h h2
theorem f12 {B12 : sProp 𝕄} (h : iprop(A12) ⊢ iprop((iprop(B12) -∗ T) -∗ U)) (h2 : St A1 A2 A3 A4 A5 A6 A7 A8 A9 A10 A11 B12 A13 A14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A8 ∗ A9 ∗ A10 ∗ A11 ∗ A13 ∗ A14 ∗ A15)) (by unfold St; ac_rfl) (by unfold St; ac_rfl) h h2
theorem f13 {B13 : sProp 𝕄} (h : iprop(A13) ⊢ iprop((iprop(B13) -∗ T) -∗ U)) (h2 : St A1 A2 A3 A4 A5 A6 A7 A8 A9 A10 A11 A12 B13 A14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A8 ∗ A9 ∗ A10 ∗ A11 ∗ A12 ∗ A14 ∗ A15)) (by unfold St; ac_rfl) (by unfold St; ac_rfl) h h2
theorem f14 {B14 : sProp 𝕄} (h : iprop(A14) ⊢ iprop((iprop(B14) -∗ T) -∗ U)) (h2 : St A1 A2 A3 A4 A5 A6 A7 A8 A9 A10 A11 A12 A13 B14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A8 ∗ A9 ∗ A10 ∗ A11 ∗ A12 ∗ A13 ∗ A15)) (by unfold St; ac_rfl) (by unfold St; ac_rfl) h h2
theorem f7_6 {B7 B6 : sProp 𝕄} (h : iprop(A7 ∗ A6) ⊢ iprop((iprop(B7 ∗ B6) -∗ T) -∗ U)) (h2 : St A1 A2 A3 A4 A5 B6 B7 A8 A9 A10 A11 A12 A13 A14 A15 ⊢ T) : St A1 A2 A3 A4 A5 A6 A7 A8 A9 A10 A11 A12 A13 A14 A15 ⊢ U :=
  foc (R := iprop(A1 ∗ A2 ∗ A3 ∗ A4 ∗ A5 ∗ A8 ∗ A9 ∗ A10 ∗ A11 ∗ A12 ∗ A13 ∗ A14 ∗ A15)) (by unfold St; ac_rfl) (by unfold St; ac_rfl) h h2
theorem f8_6 {B8 B6 : sProp 𝕄} (h : iprop(A8 ∗ A6) ⊢ iprop((iprop(B8 ∗ B6) -∗ T) -∗ U)) (h2 : St A1 A2 A3 A4 A5 B6 A7 B8 A9 A10 A11 A12 A13 A14 A15 ⊢ T) : St A1 A2 A3 A4 A5 A6 A7 A8 A9 A10 A11 A12 A13 A14 A15 ⊢ U :=
  foc (R := iprop(A1 ∗ A2 ∗ A3 ∗ A4 ∗ A5 ∗ A7 ∗ A9 ∗ A10 ∗ A11 ∗ A12 ∗ A13 ∗ A14 ∗ A15)) (by unfold St; ac_rfl) (by unfold St; ac_rfl) h h2
theorem f9_6 {B9 B6 : sProp 𝕄} (h : iprop(A9 ∗ A6) ⊢ iprop((iprop(B9 ∗ B6) -∗ T) -∗ U)) (h2 : St A1 A2 A3 A4 A5 B6 A7 A8 B9 A10 A11 A12 A13 A14 A15 ⊢ T) : St A1 A2 A3 A4 A5 A6 A7 A8 A9 A10 A11 A12 A13 A14 A15 ⊢ U :=
  foc (R := iprop(A1 ∗ A2 ∗ A3 ∗ A4 ∗ A5 ∗ A7 ∗ A8 ∗ A10 ∗ A11 ∗ A12 ∗ A13 ∗ A14 ∗ A15)) (by unfold St; ac_rfl) (by unfold St; ac_rfl) h h2
theorem f10_6 {B10 B6 : sProp 𝕄} (h : iprop(A10 ∗ A6) ⊢ iprop((iprop(B10 ∗ B6) -∗ T) -∗ U)) (h2 : St A1 A2 A3 A4 A5 B6 A7 A8 A9 B10 A11 A12 A13 A14 A15 ⊢ T) : St A1 A2 A3 A4 A5 A6 A7 A8 A9 A10 A11 A12 A13 A14 A15 ⊢ U :=
  foc (R := iprop(A1 ∗ A2 ∗ A3 ∗ A4 ∗ A5 ∗ A7 ∗ A8 ∗ A9 ∗ A11 ∗ A12 ∗ A13 ∗ A14 ∗ A15)) (by unfold St; ac_rfl) (by unfold St; ac_rfl) h h2
theorem f11_6 {B11 B6 : sProp 𝕄} (h : iprop(A11 ∗ A6) ⊢ iprop((iprop(B11 ∗ B6) -∗ T) -∗ U)) (h2 : St A1 A2 A3 A4 A5 B6 A7 A8 A9 A10 B11 A12 A13 A14 A15 ⊢ T) : St A1 A2 A3 A4 A5 A6 A7 A8 A9 A10 A11 A12 A13 A14 A15 ⊢ U :=
  foc (R := iprop(A1 ∗ A2 ∗ A3 ∗ A4 ∗ A5 ∗ A7 ∗ A8 ∗ A9 ∗ A10 ∗ A12 ∗ A13 ∗ A14 ∗ A15)) (by unfold St; ac_rfl) (by unfold St; ac_rfl) h h2
theorem f12_6 {B12 B6 : sProp 𝕄} (h : iprop(A12 ∗ A6) ⊢ iprop((iprop(B12 ∗ B6) -∗ T) -∗ U)) (h2 : St A1 A2 A3 A4 A5 B6 A7 A8 A9 A10 A11 B12 A13 A14 A15 ⊢ T) : St A1 A2 A3 A4 A5 A6 A7 A8 A9 A10 A11 A12 A13 A14 A15 ⊢ U :=
  foc (R := iprop(A1 ∗ A2 ∗ A3 ∗ A4 ∗ A5 ∗ A7 ∗ A8 ∗ A9 ∗ A10 ∗ A11 ∗ A13 ∗ A14 ∗ A15)) (by unfold St; ac_rfl) (by unfold St; ac_rfl) h h2
theorem f8_13 {B8 B13 : sProp 𝕄} (h : iprop(A8 ∗ A13) ⊢ iprop((iprop(B8 ∗ B13) -∗ T) -∗ U)) (h2 : St A1 A2 A3 A4 A5 A6 A7 B8 A9 A10 A11 A12 B13 A14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A9 ∗ A10 ∗ A11 ∗ A12 ∗ A14 ∗ A15)) (by unfold St; ac_rfl) (by unfold St; ac_rfl) h h2
theorem f11_13 {B11 B13 : sProp 𝕄} (h : iprop(A11 ∗ A13) ⊢ iprop((iprop(B11 ∗ B13) -∗ T) -∗ U)) (h2 : St A1 A2 A3 A4 A5 A6 A7 A8 A9 A10 B11 A12 B13 A14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A8 ∗ A9 ∗ A10 ∗ A12 ∗ A14 ∗ A15)) (by unfold St; ac_rfl) (by unfold St; ac_rfl) h h2
theorem f9_14 {B9 B14 : sProp 𝕄} (h : iprop(A9 ∗ A14) ⊢ iprop((iprop(B9 ∗ B14) -∗ T) -∗ U)) (h2 : St A1 A2 A3 A4 A5 A6 A7 A8 B9 A10 A11 A12 A13 B14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A8 ∗ A10 ∗ A11 ∗ A12 ∗ A13 ∗ A15)) (by unfold St; ac_rfl) (by unfold St; ac_rfl) h h2
theorem f12_14 {B12 B14 : sProp 𝕄} (h : iprop(A12 ∗ A14) ⊢ iprop((iprop(B12 ∗ B14) -∗ T) -∗ U)) (h2 : St A1 A2 A3 A4 A5 A6 A7 A8 A9 A10 A11 B12 A13 B14 A15 ⊢ T) : St A1 A2 A3 A4 A5 A6 A7 A8 A9 A10 A11 A12 A13 A14 A15 ⊢ U :=
  foc (R := iprop(A1 ∗ A2 ∗ A3 ∗ A4 ∗ A5 ∗ A6 ∗ A7 ∗ A8 ∗ A9 ∗ A10 ∗ A11 ∗ A13 ∗ A15)) (by unfold St; ac_rfl) (by unfold St; ac_rfl) h h2
theorem f8_13_6 {B8 B13 B6 : sProp 𝕄} (h : iprop(A8 ∗ A13 ∗ A6) ⊢ iprop((iprop(B8 ∗ B13 ∗ B6) -∗ T) -∗ U)) (h2 : St A1 A2 A3 A4 A5 B6 A7 B8 A9 A10 A11 A12 B13 A14 A15 ⊢ T) : St A1 A2 A3 A4 A5 A6 A7 A8 A9 A10 A11 A12 A13 A14 A15 ⊢ U :=
  foc (R := iprop(A1 ∗ A2 ∗ A3 ∗ A4 ∗ A5 ∗ A7 ∗ A9 ∗ A10 ∗ A11 ∗ A12 ∗ A14 ∗ A15)) (by unfold St; ac_rfl) (by unfold St; ac_rfl) h h2
theorem f11_13_6 {B11 B13 B6 : sProp 𝕄} (h : iprop(A11 ∗ A13 ∗ A6) ⊢ iprop((iprop(B11 ∗ B13 ∗ B6) -∗ T) -∗ U)) (h2 : St A1 A2 A3 A4 A5 B6 A7 A8 A9 A10 B11 A12 B13 A14 A15 ⊢ T) : St A1 A2 A3 A4 A5 A6 A7 A8 A9 A10 A11 A12 A13 A14 A15 ⊢ U :=
  foc (R := iprop(A1 ∗ A2 ∗ A3 ∗ A4 ∗ A5 ∗ A7 ∗ A8 ∗ A9 ∗ A10 ∗ A12 ∗ A14 ∗ A15)) (by unfold St; ac_rfl) (by unfold St; ac_rfl) h h2
theorem f9_14_6 {B9 B14 B6 : sProp 𝕄} (h : iprop(A9 ∗ A14 ∗ A6) ⊢ iprop((iprop(B9 ∗ B14 ∗ B6) -∗ T) -∗ U)) (h2 : St A1 A2 A3 A4 A5 B6 A7 A8 B9 A10 A11 A12 A13 B14 A15 ⊢ T) : St A1 A2 A3 A4 A5 A6 A7 A8 A9 A10 A11 A12 A13 A14 A15 ⊢ U :=
  foc (R := iprop(A1 ∗ A2 ∗ A3 ∗ A4 ∗ A5 ∗ A7 ∗ A8 ∗ A10 ∗ A11 ∗ A12 ∗ A13 ∗ A15)) (by unfold St; ac_rfl) (by unfold St; ac_rfl) h h2
theorem f12_14_6 {B12 B14 B6 : sProp 𝕄} (h : iprop(A12 ∗ A14 ∗ A6) ⊢ iprop((iprop(B12 ∗ B14 ∗ B6) -∗ T) -∗ U)) (h2 : St A1 A2 A3 A4 A5 B6 A7 A8 A9 A10 A11 B12 A13 B14 A15 ⊢ T) : St A1 A2 A3 A4 A5 A6 A7 A8 A9 A10 A11 A12 A13 A14 A15 ⊢ U :=
  foc (R := iprop(A1 ∗ A2 ∗ A3 ∗ A4 ∗ A5 ∗ A7 ∗ A8 ∗ A9 ∗ A10 ∗ A11 ∗ A13 ∗ A15)) (by unfold St; ac_rfl) (by unfold St; ac_rfl) h h2
end Cert.Proof.KernelIdeal
end
-- ==== Proof.A6.lean ====
module
public import proofs.«01_k».proof.Proof.A0
@[expose] public section
namespace Cert.Proof.KernelIdeal
open Cert.KernelIdeal
open Idealize.ShloMosaic

/-- The cell of the order of the groups that is read lies in it. -/
theorem t1 {arg24 : BitVec 32} {s : ℕ} (hs : s < 40) : k0_chk1 arg24 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t2 {arg24 : BitVec 32} {r : ℕ} (hs : r < 320) : k0_chk2 arg24 (BitVec.ofNat 32 r) :=
  ⟨fun _ => inb_x hs (ar_row hs) rfl, fun _ => ww_x (ar_row hs) (by decide)⟩

/-- The cell of the order of the groups that is read lies in it. -/
theorem t3 {arg24 : BitVec 32} {s : ℕ} (hs : s < 40) : k0_chk3 arg24 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t4 {arg24 : BitVec 32} {r : ℕ} (hs : r < 320) : k0_chk4 arg24 (BitVec.ofNat 32 r) :=
  ⟨fun _ => inb_x hs (ar_row hs) rfl, fun _ => ww_x (ar_row hs) (by decide)⟩

/-- The cell of the order of the groups that is read lies in it. -/
theorem t5 {arg24 : BitVec 32} {s : ℕ} (hs : s < 40) : k0_chk5 arg24 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t6 {arg24 : BitVec 32} {r : ℕ} (hs : r < 320) : k0_chk6 arg24 (BitVec.ofNat 32 r) :=
  ⟨fun _ => inb_x hs (ar_row hs) rfl, fun _ => ww_x (ar_row hs) (by decide)⟩

/-- The cell of the order of the groups that is read lies in it. -/
theorem t7 {arg24 : BitVec 32} {s : ℕ} (hs : s < 40) : k0_chk7 arg24 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t8 {arg24 : BitVec 32} {r : ℕ} (hs : r < 320) : k0_chk8 arg24 (BitVec.ofNat 32 r) :=
  ⟨fun _ => inb_x hs (ar_row hs) rfl, fun _ => ww_x (ar_row hs) (by decide)⟩

/-- The cell of the order of the groups that is read lies in it. -/
theorem t9 {arg24 : BitVec 32} {s : ℕ} (hs : s < 40) : k0_chk9 arg24 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t10 {arg24 : BitVec 32} {r : ℕ} (hs : r < 320) : k0_chk10 arg24 (BitVec.ofNat 32 r) :=
  ⟨fun _ => inb_x hs (ar_row hs) rfl, fun _ => ww_x (ar_row hs) (by decide)⟩

/-- The cell of the order of the groups that is read lies in it. -/
theorem t11 {arg24 : BitVec 32} {s : ℕ} (hs : s < 40) : k0_chk11 arg24 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t12 {arg24 : BitVec 32} {r : ℕ} (hs : r < 320) : k0_chk12 arg24 (BitVec.ofNat 32 r) :=
  ⟨fun _ => inb_x hs (ar_row hs) rfl, fun _ => ww_x (ar_row hs) (by decide)⟩

/-- The cell of the order of the groups that is read lies in it. -/
theorem t13 {arg24 : BitVec 32} {s : ℕ} (hs : s < 40) : k0_chk13 arg24 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t14 {arg24 : BitVec 32} {r : ℕ} (hs : r < 320) : k0_chk14 arg24 (BitVec.ofNat 32 r) :=
  ⟨fun _ => inb_x hs (ar_row hs) rfl, fun _ => ww_x (ar_row hs) (by decide)⟩

/-- The cell of the order of the groups that is read lies in it. -/
theorem t15 {arg24 : BitVec 32} {s : ℕ} (hs : s < 40) : k0_chk15 arg24 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t16 {arg24 : BitVec 32} {r : ℕ} (hs : r < 320) : k0_chk16 arg24 (BitVec.ofNat 32 r) :=
  ⟨fun _ => inb_x hs (ar_row hs) rfl, fun _ => ww_x (ar_row hs) (by decide)⟩

/-- The cell of the order of the groups that is read lies in it. -/
theorem t17 {arg24 : BitVec 32} {s : ℕ} (hs : s < 40) : k0_chk17 arg24 (BitVec.ofNat 32 s) :=
  fun _ _ => inb_perm (g := 0) hs (by decide) (ar_shr.trans (congrArg (· / 128) (ar_k hs (by decide)))) (ar_and.trans (congrArg (· % 128) (ar_k hs (by decide))))

/-- The rows that are copied lie in the array, on whole words. -/
theorem t18 {arg24 : BitVec 32} {r : ℕ} (hs : r < 320) : k0_chk18 arg24 (BitVec.ofNat 32 r) :=
  ⟨fun _ _ => inb_x hs (ar_row hs) rfl, fun _ _ => ww_x (ar_row hs) (by decide)⟩

/-- The cell of the order of the groups that is read lies in it. -/
theorem t19 {arg24 : BitVec 32} {s : ℕ} (hs : s < 40) : k0_chk19 arg24 (BitVec.ofNat 32 s) :=
  fun _ _ => inb_perm (g := 1) hs (by decide) (ar_shr.trans (congrArg (· / 128) (ar_k hs (by decide)))) (ar_and.trans (congrArg (· % 128) (ar_k hs (by decide))))

/-- The rows that are copied lie in the array, on whole words. -/
theorem t20 {arg24 : BitVec 32} {r : ℕ} (hs : r < 320) : k0_chk20 arg24 (BitVec.ofNat 32 r) :=
  ⟨fun _ _ => inb_x hs (ar_row hs) rfl, fun _ _ => ww_x (ar_row hs) (by decide)⟩

/-- The cell of the order of the groups that is read lies in it. -/
theorem t21 {arg24 : BitVec 32} {s : ℕ} (hs : s < 40) : k0_chk21 arg24 (BitVec.ofNat 32 s) :=
  fun _ _ => inb_perm (g := 2) hs (by decide) (ar_shr.trans (congrArg (· / 128) (ar_k hs (by decide)))) (ar_and.trans (congrArg (· % 128) (ar_k hs (by decide))))

/-- The rows that are copied lie in the array, on whole words. -/
theorem t22 {arg24 : BitVec 32} {r : ℕ} (hs : r < 320) : k0_chk22 arg24 (BitVec.ofNat 32 r) :=
  ⟨fun _ _ => inb_x hs (ar_row hs) rfl, fun _ _ => ww_x (ar_row hs) (by decide)⟩

/-- The cell of the order of the groups that is read lies in it. -/
theorem t23 {arg24 : BitVec 32} {s : ℕ} (hs : s < 40) : k0_chk23 arg24 (BitVec.ofNat 32 s) :=
  fun _ _ => inb_perm (g := 3) hs (by decide) (ar_shr.trans (congrArg (· / 128) (ar_k hs (by decide)))) (ar_and.trans (congrArg (· % 128) (ar_k hs (by decide))))

/-- The rows that are copied lie in the array, on whole words. -/
theorem t24 {arg24 : BitVec 32} {r : ℕ} (hs : r < 320) : k0_chk24 arg24 (BitVec.ofNat 32 r) :=
  ⟨fun _ _ => inb_x hs (ar_row hs) rfl, fun _ _ => ww_x (ar_row hs) (by decide)⟩

/-- The cell of the order of the groups that is read lies in it. -/
theorem t25 {arg24 : BitVec 32} {s : ℕ} (hs : s < 40) : k0_chk25 arg24 (BitVec.ofNat 32 s) :=
  fun _ _ => inb_perm (g := 4) hs (by decide) (ar_shr.trans (congrArg (· / 128) (ar_k hs (by decide)))) (ar_and.trans (congrArg (· % 128) (ar_k hs (by decide))))

/-- The rows that are copied lie in the array, on whole words. -/
theorem t26 {arg24 : BitVec 32} {r : ℕ} (hs : r < 320) : k0_chk26 arg24 (BitVec.ofNat 32 r) :=
  ⟨fun _ _ => inb_x hs (ar_row hs) rfl, fun _ _ => ww_x (ar_row hs) (by decide)⟩

/-- The cell of the order of the groups that is read lies in it. -/
theorem t27 {arg24 : BitVec 32} {s : ℕ} (hs : s < 40) : k0_chk27 arg24 (BitVec.ofNat 32 s) :=
  fun _ _ => inb_perm (g := 5) hs (by decide) (ar_shr.trans (congrArg (· / 128) (ar_k hs (by decide)))) (ar_and.trans (congrArg (· % 128) (ar_k hs (by decide))))

/-- The rows that are copied lie in the array, on whole words. -/
theorem t28 {arg24 : BitVec 32} {r : ℕ} (hs : r < 320) : k0_chk28 arg24 (BitVec.ofNat 32 r) :=
  ⟨fun _ _ => inb_x hs (ar_row hs) rfl, fun _ _ => ww_x (ar_row hs) (by decide)⟩

/-- The cell of the order of the groups that is read lies in it. -/
theorem t29 {arg24 : BitVec 32} {s : ℕ} (hs : s < 40) : k0_chk29 arg24 (BitVec.ofNat 32 s) :=
  fun _ _ => inb_perm (g := 6) hs (by decide) (ar_shr.trans (congrArg (· / 128) (ar_k hs (by decide)))) (ar_and.trans (congrArg (· % 128) (ar_k hs (by decide))))

/-- The rows that are copied lie in the array, on whole words. -/
theorem t30 {arg24 : BitVec 32} {r : ℕ} (hs : r < 320) : k0_chk30 arg24 (BitVec.ofNat 32 r) :=
  ⟨fun _ _ => inb_x hs (ar_row hs) rfl, fun _ _ => ww_x (ar_row hs) (by decide)⟩

/-- The cell of the order of the groups that is read lies in it. -/
theorem t31 {arg24 : BitVec 32} {s : ℕ} (hs : s < 40) : k0_chk31 arg24 (BitVec.ofNat 32 s) :=
  fun _ _ => inb_perm (g := 7) hs (by decide) (ar_shr.trans (congrArg (· / 128) (ar_k hs (by decide)))) (ar_and.trans (congrArg (· % 128) (ar_k hs (by decide))))

/-- The rows that are copied lie in the array, on whole words. -/
theorem t32 {arg24 : BitVec 32} {r : ℕ} (hs : r < 320) : k0_chk32 arg24 (BitVec.ofNat 32 r) :=
  ⟨fun _ _ => inb_x hs (ar_row hs) rfl, fun _ _ => ww_x (ar_row hs) (by decide)⟩

/-- The cell of the order of the groups that is read lies in it. -/
theorem t33 {arg24 : BitVec 32} {s : ℕ} (hs : s < 40) : k0_chk33 arg24 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t34 {arg24 : BitVec 32} {r : ℕ} (hs : r < 320) : k0_chk34 arg24 (BitVec.ofNat 32 r) :=
  ⟨fun _ => inb_x hs (ar_row hs) rfl, fun _ => ww_x (ar_row hs) (by decide)⟩

/-- The cell of the order of the groups that is read lies in it. -/
theorem t35 {arg24 : BitVec 32} {s : ℕ} (hs : s < 40) : k0_chk35 arg24 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t36 {arg24 : BitVec 32} {r : ℕ} (hs : r < 320) : k0_chk36 arg24 (BitVec.ofNat 32 r) :=
  ⟨fun _ => inb_x hs (ar_row hs) rfl, fun _ => ww_x (ar_row hs) (by decide)⟩

/-- The cell of the order of the groups that is read lies in it. -/
theorem t37 {arg24 : BitVec 32} {s : ℕ} (hs : s < 40) : k0_chk37 arg24 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t38 {arg24 : BitVec 32} {r : ℕ} (hs : r < 320) : k0_chk38 arg24 (BitVec.ofNat 32 r) :=
  ⟨fun _ => inb_x hs (ar_row hs) rfl, fun _ => ww_x (ar_row hs) (by decide)⟩

/-- The cell of the order of the groups that is read lies in it. -/
theorem t39 {arg24 : BitVec 32} {s : ℕ} (hs : s < 40) : k0_chk39 arg24 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t40 {arg24 : BitVec 32} {r : ℕ} (hs : r < 320) : k0_chk40 arg24 (BitVec.ofNat 32 r) :=
  ⟨fun _ => inb_x hs (ar_row hs) rfl, fun _ => ww_x (ar_row hs) (by decide)⟩

/-- The cell of the order of the groups that is read lies in it. -/
theorem t41 {arg24 : BitVec 32} {s : ℕ} (hs : s < 40) : k0_chk41 arg24 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t42 {arg24 : BitVec 32} {r : ℕ} (hs : r < 320) : k0_chk42 arg24 (BitVec.ofNat 32 r) :=
  ⟨fun _ => inb_x hs (ar_row hs) rfl, fun _ => ww_x (ar_row hs) (by decide)⟩

/-- The cell of the order of the groups that is read lies in it. -/
theorem t43 {arg24 : BitVec 32} {s : ℕ} (hs : s < 40) : k0_chk43 arg24 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t44 {arg24 : BitVec 32} {r : ℕ} (hs : r < 320) : k0_chk44 arg24 (BitVec.ofNat 32 r) :=
  ⟨fun _ => inb_x hs (ar_row hs) rfl, fun _ => ww_x (ar_row hs) (by decide)⟩

/-- The cell of the order of the groups that is read lies in it. -/
theorem t45 {arg24 : BitVec 32} {s : ℕ} (hs : s < 40) : k0_chk45 arg24 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t46 {arg24 : BitVec 32} {r : ℕ} (hs : r < 320) : k0_chk46 arg24 (BitVec.ofNat 32 r) :=
  ⟨fun _ => inb_x hs (ar_row hs) rfl, fun _ => ww_x (ar_row hs) (by decide)⟩

/-- The cell of the order of the groups that is read lies in it. -/
theorem t47 {arg24 : BitVec 32} {s : ℕ} (hs : s < 40) : k0_chk47 arg24 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t48 {arg24 : BitVec 32} {r : ℕ} (hs : r < 320) : k0_chk48 arg24 (BitVec.ofNat 32 r) :=
  ⟨fun _ => inb_x hs (ar_row hs) rfl, fun _ => ww_x (ar_row hs) (by decide)⟩

/-- The cell of the order of the groups that is read lies in it. -/
theorem t50 {arg24 : BitVec 32} {k0_t2 : Fin (k0_t2_loop arg24).trips} {s : ℕ} (hs : s < 40) : k0_chk50 arg24 k0_t2 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t51 {arg24 : BitVec 32} {k0_t2 : Fin (k0_t2_loop arg24).trips} {r : ℕ} (hs : r < 320) : k0_chk51 arg24 k0_t2 (BitVec.ofNat 32 r) :=
  ⟨fun _ => inb_x hs (ar_row hs) rfl, fun _ => ww_x (ar_row hs) (by decide)⟩

/-- The cell of the order of the groups that is read lies in it. -/
theorem t52 {arg24 : BitVec 32} {k0_t2 : Fin (k0_t2_loop arg24).trips} {s : ℕ} (hs : s < 40) : k0_chk52 arg24 k0_t2 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t53 {arg24 : BitVec 32} {k0_t2 : Fin (k0_t2_loop arg24).trips} {r : ℕ} (hs : r < 320) : k0_chk53 arg24 k0_t2 (BitVec.ofNat 32 r) :=
  ⟨fun _ => inb_x hs (ar_row hs) rfl, fun _ => ww_x (ar_row hs) (by decide)⟩

/-- The cell of the order of the groups that is read lies in it. -/
theorem t54 {arg24 : BitVec 32} {k0_t2 : Fin (k0_t2_loop arg24).trips} {s : ℕ} (hs : s < 40) : k0_chk54 arg24 k0_t2 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t55 {arg24 : BitVec 32} {k0_t2 : Fin (k0_t2_loop arg24).trips} {r : ℕ} (hs : r < 320) : k0_chk55 arg24 k0_t2 (BitVec.ofNat 32 r) :=
  ⟨fun _ => inb_x hs (ar_row hs) rfl, fun _ => ww_x (ar_row hs) (by decide)⟩

/-- The cell of the order of the groups that is read lies in it. -/
theorem t56 {arg24 : BitVec 32} {k0_t2 : Fin (k0_t2_loop arg24).trips} {s : ℕ} (hs : s < 40) : k0_chk56 arg24 k0_t2 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t57 {arg24 : BitVec 32} {k0_t2 : Fin (k0_t2_loop arg24).trips} {r : ℕ} (hs : r < 320) : k0_chk57 arg24 k0_t2 (BitVec.ofNat 32 r) :=
  ⟨fun _ => inb_x hs (ar_row hs) rfl, fun _ => ww_x (ar_row hs) (by decide)⟩

/-- The cell of the order of the groups that is read lies in it. -/
theorem t58 {arg24 : BitVec 32} {k0_t2 : Fin (k0_t2_loop arg24).trips} {s : ℕ} (hs : s < 40) : k0_chk58 arg24 k0_t2 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t59 {arg24 : BitVec 32} {k0_t2 : Fin (k0_t2_loop arg24).trips} {r : ℕ} (hs : r < 320) : k0_chk59 arg24 k0_t2 (BitVec.ofNat 32 r) :=
  ⟨fun _ => inb_x hs (ar_row hs) rfl, fun _ => ww_x (ar_row hs) (by decide)⟩

/-- The cell of the order of the groups that is read lies in it. -/
theorem t60 {arg24 : BitVec 32} {k0_t2 : Fin (k0_t2_loop arg24).trips} {s : ℕ} (hs : s < 40) : k0_chk60 arg24 k0_t2 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t61 {arg24 : BitVec 32} {k0_t2 : Fin (k0_t2_loop arg24).trips} {r : ℕ} (hs : r < 320) : k0_chk61 arg24 k0_t2 (BitVec.ofNat 32 r) :=
  ⟨fun _ => inb_x hs (ar_row hs) rfl, fun _ => ww_x (ar_row hs) (by decide)⟩

/-- The cell of the order of the groups that is read lies in it. -/
theorem t62 {arg24 : BitVec 32} {k0_t2 : Fin (k0_t2_loop arg24).trips} {s : ℕ} (hs : s < 40) : k0_chk62 arg24 k0_t2 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t63 {arg24 : BitVec 32} {k0_t2 : Fin (k0_t2_loop arg24).trips} {r : ℕ} (hs : r < 320) : k0_chk63 arg24 k0_t2 (BitVec.ofNat 32 r) :=
  ⟨fun _ => inb_x hs (ar_row hs) rfl, fun _ => ww_x (ar_row hs) (by decide)⟩

/-- The cell of the order of the groups that is read lies in it. -/
theorem t64 {arg24 : BitVec 32} {k0_t2 : Fin (k0_t2_loop arg24).trips} {s : ℕ} (hs : s < 40) : k0_chk64 arg24 k0_t2 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t65 {arg24 : BitVec 32} {k0_t2 : Fin (k0_t2_loop arg24).trips} {r : ℕ} (hs : r < 320) : k0_chk65 arg24 k0_t2 (BitVec.ofNat 32 r) :=
  ⟨fun _ => inb_x hs (ar_row hs) rfl, fun _ => ww_x (ar_row hs) (by decide)⟩

/-- The cell of the order of the groups that is read lies in it. -/
theorem t66 {arg24 : BitVec 32} {k0_t2 : Fin (k0_t2_loop arg24).trips} {s : ℕ} (hs : s < 40) : k0_chk66 arg24 k0_t2 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t67 {arg24 : BitVec 32} {k0_t2 : Fin (k0_t2_loop arg24).trips} {r : ℕ} (hs : r < 320) : k0_chk67 arg24 k0_t2 (BitVec.ofNat 32 r) :=
  ⟨fun _ => inb_x hs (ar_row hs) rfl, fun _ => ww_x (ar_row hs) (by decide)⟩

/-- The cell of the order of the groups that is read lies in it. -/
theorem t68 {arg24 : BitVec 32} {k0_t2 : Fin (k0_t2_loop arg24).trips} {s : ℕ} (hs : s < 40) : k0_chk68 arg24 k0_t2 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t69 {arg24 : BitVec 32} {k0_t2 : Fin (k0_t2_loop arg24).trips} {r : ℕ} (hs : r < 320) : k0_chk69 arg24 k0_t2 (BitVec.ofNat 32 r) :=
  ⟨fun _ => inb_x hs (ar_row hs) rfl, fun _ => ww_x (ar_row hs) (by decide)⟩

/-- The cell of the order of the groups that is read lies in it. -/
theorem t70 {arg24 : BitVec 32} {k0_t2 : Fin (k0_t2_loop arg24).trips} {s : ℕ} (hs : s < 40) : k0_chk70 arg24 k0_t2 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t71 {arg24 : BitVec 32} {k0_t2 : Fin (k0_t2_loop arg24).trips} {r : ℕ} (hs : r < 320) : k0_chk71 arg24 k0_t2 (BitVec.ofNat 32 r) :=
  ⟨fun _ => inb_x hs (ar_row hs) rfl, fun _ => ww_x (ar_row hs) (by decide)⟩

/-- The cell of the order of the groups that is read lies in it. -/
theorem t72 {arg24 : BitVec 32} {k0_t2 : Fin (k0_t2_loop arg24).trips} {s : ℕ} (hs : s < 40) : k0_chk72 arg24 k0_t2 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t73 {arg24 : BitVec 32} {k0_t2 : Fin (k0_t2_loop arg24).trips} {r : ℕ} (hs : r < 320) : k0_chk73 arg24 k0_t2 (BitVec.ofNat 32 r) :=
  ⟨fun _ => inb_x hs (ar_row hs) rfl, fun _ => ww_x (ar_row hs) (by decide)⟩

/-- The cell of the order of the groups that is read lies in it. -/
theorem t74 {arg24 : BitVec 32} {k0_t2 : Fin (k0_t2_loop arg24).trips} {s : ℕ} (hs : s < 40) : k0_chk74 arg24 k0_t2 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t75 {arg24 : BitVec 32} {k0_t2 : Fin (k0_t2_loop arg24).trips} {r : ℕ} (hs : r < 320) : k0_chk75 arg24 k0_t2 (BitVec.ofNat 32 r) :=
  ⟨fun _ => inb_x hs (ar_row hs) rfl, fun _ => ww_x (ar_row hs) (by decide)⟩

/-- The cell of the order of the groups that is read lies in it. -/
theorem t76 {arg24 : BitVec 32} {k0_t2 : Fin (k0_t2_loop arg24).trips} {s : ℕ} (hs : s < 40) : k0_chk76 arg24 k0_t2 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t77 {arg24 : BitVec 32} {k0_t2 : Fin (k0_t2_loop arg24).trips} {r : ℕ} (hs : r < 320) : k0_chk77 arg24 k0_t2 (BitVec.ofNat 32 r) :=
  ⟨fun _ => inb_x hs (ar_row hs) rfl, fun _ => ww_x (ar_row hs) (by decide)⟩

/-- The cell of the order of the groups that is read lies in it. -/
theorem t78 {arg24 : BitVec 32} {k0_t2 : Fin (k0_t2_loop arg24).trips} {s : ℕ} (hs : s < 40) : k0_chk78 arg24 k0_t2 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t79 {arg24 : BitVec 32} {k0_t2 : Fin (k0_t2_loop arg24).trips} {r : ℕ} (hs : r < 320) : k0_chk79 arg24 k0_t2 (BitVec.ofNat 32 r) :=
  ⟨fun _ => inb_x hs (ar_row hs) rfl, fun _ => ww_x (ar_row hs) (by decide)⟩

/-- The cell of the order of the groups that is read lies in it. -/
theorem t80 {arg24 : BitVec 32} {k0_t2 : Fin (k0_t2_loop arg24).trips} {s : ℕ} (hs : s < 40) : k0_chk80 arg24 k0_t2 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t81 {arg24 : BitVec 32} {k0_t2 : Fin (k0_t2_loop arg24).trips} {r : ℕ} (hs : r < 320) : k0_chk81 arg24 k0_t2 (BitVec.ofNat 32 r) :=
  ⟨fun _ => inb_x hs (ar_row hs) rfl, fun _ => ww_x (ar_row hs) (by decide)⟩

/-- The cell of the order of the groups that is read lies in it. -/
theorem t82 {arg24 : BitVec 32} {k0_t2 : Fin (k0_t2_loop arg24).trips} {s : ℕ} (hs : s < 40) : k0_chk82 arg24 k0_t2 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t83 {arg24 : BitVec 32} {k0_t2 : Fin (k0_t2_loop arg24).trips} {r : ℕ} (hs : r < 320) : k0_chk83 arg24 k0_t2 (BitVec.ofNat 32 r) :=
  ⟨fun _ => inb_y hs (ar_row hs) rfl, fun _ => ww_y (ar_row hs) (by decide)⟩

/-- The cell of the order of the groups that is read lies in it. -/
theorem t84 {arg24 : BitVec 32} {k0_t2 : Fin (k0_t2_loop arg24).trips} {s : ℕ} (hs : s < 40) : k0_chk84 arg24 k0_t2 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t85 {arg24 : BitVec 32} {k0_t2 : Fin (k0_t2_loop arg24).trips} {r : ℕ} (hs : r < 320) : k0_chk85 arg24 k0_t2 (BitVec.ofNat 32 r) :=
  ⟨fun _ => inb_y hs (ar_row hs) rfl, fun _ => ww_y (ar_row hs) (by decide)⟩

/-- The cell of the order of the groups that is read lies in it. -/
theorem t86 {arg24 : BitVec 32} {k0_t2 : Fin (k0_t2_loop arg24).trips} {s : ℕ} (hs : s < 40) : k0_chk86 arg24 k0_t2 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t87 {arg24 : BitVec 32} {k0_t2 : Fin (k0_t2_loop arg24).trips} {r : ℕ} (hs : r < 320) : k0_chk87 arg24 k0_t2 (BitVec.ofNat 32 r) :=
  ⟨fun _ => inb_y hs (ar_row hs) rfl, fun _ => ww_y (ar_row hs) (by decide)⟩

/-- The cell of the order of the groups that is read lies in it. -/
theorem t88 {arg24 : BitVec 32} {k0_t2 : Fin (k0_t2_loop arg24).trips} {s : ℕ} (hs : s < 40) : k0_chk88 arg24 k0_t2 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t89 {arg24 : BitVec 32} {k0_t2 : Fin (k0_t2_loop arg24).trips} {r : ℕ} (hs : r < 320) : k0_chk89 arg24 k0_t2 (BitVec.ofNat 32 r) :=
  ⟨fun _ => inb_y hs (ar_row hs) rfl, fun _ => ww_y (ar_row hs) (by decide)⟩

/-- The cell of the order of the groups that is read lies in it. -/
theorem t90 {arg24 : BitVec 32} {k0_t2 : Fin (k0_t2_loop arg24).trips} {s : ℕ} (hs : s < 40) : k0_chk90 arg24 k0_t2 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t91 {arg24 : BitVec 32} {k0_t2 : Fin (k0_t2_loop arg24).trips} {r : ℕ} (hs : r < 320) : k0_chk91 arg24 k0_t2 (BitVec.ofNat 32 r) :=
  ⟨fun _ => inb_y hs (ar_row hs) rfl, fun _ => ww_y (ar_row hs) (by decide)⟩

/-- The cell of the order of the groups that is read lies in it. -/
theorem t92 {arg24 : BitVec 32} {k0_t2 : Fin (k0_t2_loop arg24).trips} {s : ℕ} (hs : s < 40) : k0_chk92 arg24 k0_t2 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t93 {arg24 : BitVec 32} {k0_t2 : Fin (k0_t2_loop arg24).trips} {r : ℕ} (hs : r < 320) : k0_chk93 arg24 k0_t2 (BitVec.ofNat 32 r) :=
  ⟨fun _ => inb_y hs (ar_row hs) rfl, fun _ => ww_y (ar_row hs) (by decide)⟩

/-- The cell of the order of the groups that is read lies in it. -/
theorem t94 {arg24 : BitVec 32} {k0_t2 : Fin (k0_t2_loop arg24).trips} {s : ℕ} (hs : s < 40) : k0_chk94 arg24 k0_t2 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t95 {arg24 : BitVec 32} {k0_t2 : Fin (k0_t2_loop arg24).trips} {r : ℕ} (hs : r < 320) : k0_chk95 arg24 k0_t2 (BitVec.ofNat 32 r) :=
  ⟨fun _ => inb_y hs (ar_row hs) rfl, fun _ => ww_y (ar_row hs) (by decide)⟩

/-- The cell of the order of the groups that is read lies in it. -/
theorem t96 {arg24 : BitVec 32} {k0_t2 : Fin (k0_t2_loop arg24).trips} {s : ℕ} (hs : s < 40) : k0_chk96 arg24 k0_t2 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t97 {arg24 : BitVec 32} {k0_t2 : Fin (k0_t2_loop arg24).trips} {r : ℕ} (hs : r < 320) : k0_chk97 arg24 k0_t2 (BitVec.ofNat 32 r) :=
  ⟨fun _ => inb_y hs (ar_row hs) rfl, fun _ => ww_y (ar_row hs) (by decide)⟩

/-- The cell of the order of the groups that is read lies in it. -/
theorem t98 {arg24 : BitVec 32} {k0_t2 : Fin (k0_t2_loop arg24).trips} {s : ℕ} (hs : s < 40) : k0_chk98 arg24 k0_t2 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t99 {arg24 : BitVec 32} {k0_t2 : Fin (k0_t2_loop arg24).trips} {r : ℕ} (hs : r < 320) : k0_chk99 arg24 k0_t2 (BitVec.ofNat 32 r) :=
  ⟨fun _ => inb_x hs (ar_row hs) rfl, fun _ => ww_x (ar_row hs) (by decide)⟩

/-- The cell of the order of the groups that is read lies in it. -/
theorem t100 {arg24 : BitVec 32} {k0_t2 : Fin (k0_t2_loop arg24).trips} {s : ℕ} (hs : s < 40) : k0_chk100 arg24 k0_t2 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t101 {arg24 : BitVec 32} {k0_t2 : Fin (k0_t2_loop arg24).trips} {r : ℕ} (hs : r < 320) : k0_chk101 arg24 k0_t2 (BitVec.ofNat 32 r) :=
  ⟨fun _ => inb_x hs (ar_row hs) rfl, fun _ => ww_x (ar_row hs) (by decide)⟩

/-- The cell of the order of the groups that is read lies in it. -/
theorem t102 {arg24 : BitVec 32} {k0_t2 : Fin (k0_t2_loop arg24).trips} {s : ℕ} (hs : s < 40) : k0_chk102 arg24 k0_t2 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t103 {arg24 : BitVec 32} {k0_t2 : Fin (k0_t2_loop arg24).trips} {r : ℕ} (hs : r < 320) : k0_chk103 arg24 k0_t2 (BitVec.ofNat 32 r) :=
  ⟨fun _ => inb_x hs (ar_row hs) rfl, fun _ => ww_x (ar_row hs) (by decide)⟩

/-- The cell of the order of the groups that is read lies in it. -/
theorem t104 {arg24 : BitVec 32} {k0_t2 : Fin (k0_t2_loop arg24).trips} {s : ℕ} (hs : s < 40) : k0_chk104 arg24 k0_t2 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t105 {arg24 : BitVec 32} {k0_t2 : Fin (k0_t2_loop arg24).trips} {r : ℕ} (hs : r < 320) : k0_chk105 arg24 k0_t2 (BitVec.ofNat 32 r) :=
  ⟨fun _ => inb_x hs (ar_row hs) rfl, fun _ => ww_x (ar_row hs) (by decide)⟩

/-- The cell of the order of the groups that is read lies in it. -/
theorem t106 {arg24 : BitVec 32} {k0_t2 : Fin (k0_t2_loop arg24).trips} {s : ℕ} (hs : s < 40) : k0_chk106 arg24 k0_t2 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t107 {arg24 : BitVec 32} {k0_t2 : Fin (k0_t2_loop arg24).trips} {r : ℕ} (hs : r < 320) : k0_chk107 arg24 k0_t2 (BitVec.ofNat 32 r) :=
  ⟨fun _ => inb_x hs (ar_row hs) rfl, fun _ => ww_x (ar_row hs) (by decide)⟩

/-- The cell of the order of the groups that is read lies in it. -/
theorem t108 {arg24 : BitVec 32} {k0_t2 : Fin (k0_t2_loop arg24).trips} {s : ℕ} (hs : s < 40) : k0_chk108 arg24 k0_t2 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t109 {arg24 : BitVec 32} {k0_t2 : Fin (k0_t2_loop arg24).trips} {r : ℕ} (hs : r < 320) : k0_chk109 arg24 k0_t2 (BitVec.ofNat 32 r) :=
  ⟨fun _ => inb_x hs (ar_row hs) rfl, fun _ => ww_x (ar_row hs) (by decide)⟩

/-- The cell of the order of the groups that is read lies in it. -/
theorem t110 {arg24 : BitVec 32} {k0_t2 : Fin (k0_t2_loop arg24).trips} {s : ℕ} (hs : s < 40) : k0_chk110 arg24 k0_t2 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t111 {arg24 : BitVec 32} {k0_t2 : Fin (k0_t2_loop arg24).trips} {r : ℕ} (hs : r < 320) : k0_chk111 arg24 k0_t2 (BitVec.ofNat 32 r) :=
  ⟨fun _ => inb_x hs (ar_row hs) rfl, fun _ => ww_x (ar_row hs) (by decide)⟩

/-- The cell of the order of the groups that is read lies in it. -/
theorem t112 {arg24 : BitVec 32} {k0_t2 : Fin (k0_t2_loop arg24).trips} {s : ℕ} (hs : s < 40) : k0_chk112 arg24 k0_t2 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t113 {arg24 : BitVec 32} {k0_t2 : Fin (k0_t2_loop arg24).trips} {r : ℕ} (hs : r < 320) : k0_chk113 arg24 k0_t2 (BitVec.ofNat 32 r) :=
  ⟨fun _ => inb_x hs (ar_row hs) rfl, fun _ => ww_x (ar_row hs) (by decide)⟩

/-- The cell of the order of the groups that is read lies in it. -/
theorem t114  {s : ℕ} (hs : s < 40) : k0_chk114  (BitVec.ofNat 32 s) :=
  inb_perm (g := 0) hs (by decide) (ar_shr.trans (congrArg (· / 128) (ar_k hs (by decide)))) (ar_and.trans (congrArg (· % 128) (ar_k hs (by decide))))

/-- The rows that are copied lie in the array, on whole words. -/
theorem t115  {r : ℕ} (hs : r < 320) : k0_chk115  (BitVec.ofNat 32 r) :=
  ⟨inb_x hs (ar_row hs) rfl, ww_x (ar_row hs) (by decide)⟩

/-- The cell of the order of the groups that is read lies in it. -/
theorem t116  {s : ℕ} (hs : s < 40) : k0_chk116  (BitVec.ofNat 32 s) :=
  inb_perm (g := 1) hs (by decide) (ar_shr.trans (congrArg (· / 128) (ar_k hs (by decide)))) (ar_and.trans (congrArg (· % 128) (ar_k hs (by decide))))

/-- The rows that are copied lie in the array, on whole words. -/
theorem t117  {r : ℕ} (hs : r < 320) : k0_chk117  (BitVec.ofNat 32 r) :=
  ⟨inb_x hs (ar_row hs) rfl, ww_x (ar_row hs) (by decide)⟩

/-- The cell of the order of the groups that is read lies in it. -/
theorem t118  {s : ℕ} (hs : s < 40) : k0_chk118  (BitVec.ofNat 32 s) :=
  inb_perm (g := 2) hs (by decide) (ar_shr.trans (congrArg (· / 128) (ar_k hs (by decide)))) (ar_and.trans (congrArg (· % 128) (ar_k hs (by decide))))

/-- The rows that are copied lie in the array, on whole words. -/
theorem t119  {r : ℕ} (hs : r < 320) : k0_chk119  (BitVec.ofNat 32 r) :=
  ⟨inb_x hs (ar_row hs) rfl, ww_x (ar_row hs) (by decide)⟩

/-- The cell of the order of the groups that is read lies in it. -/
theorem t120  {s : ℕ} (hs : s < 40) : k0_chk120  (BitVec.ofNat 32 s) :=
  inb_perm (g := 3) hs (by decide) (ar_shr.trans (congrArg (· / 128) (ar_k hs (by decide)))) (ar_and.trans (congrArg (· % 128) (ar_k hs (by decide))))

/-- The rows that are copied lie in the array, on whole words. -/
theorem t121  {r : ℕ} (hs : r < 320) : k0_chk121  (BitVec.ofNat 32 r) :=
  ⟨inb_x hs (ar_row hs) rfl, ww_x (ar_row hs) (by decide)⟩

/-- The cell of the order of the groups that is read lies in it. -/
theorem t122  {s : ℕ} (hs : s < 40) : k0_chk122  (BitVec.ofNat 32 s) :=
  inb_perm (g := 4) hs (by decide) (ar_shr.trans (congrArg (· / 128) (ar_k hs (by decide)))) (ar_and.trans (congrArg (· % 128) (ar_k hs (by decide))))

/-- The rows that are copied lie in the array, on whole words. -/
theorem t123  {r : ℕ} (hs : r < 320) : k0_chk123  (BitVec.ofNat 32 r) :=
  ⟨inb_x hs (ar_row hs) rfl, ww_x (ar_row hs) (by decide)⟩

/-- The cell of the order of the groups that is read lies in it. -/
theorem t124  {s : ℕ} (hs : s < 40) : k0_chk124  (BitVec.ofNat 32 s) :=
  inb_perm (g := 5) hs (by decide) (ar_shr.trans (congrArg (· / 128) (ar_k hs (by decide)))) (ar_and.trans (congrArg (· % 128) (ar_k hs (by decide))))

/-- The rows that are copied lie in the array, on whole words. -/
theorem t125  {r : ℕ} (hs : r < 320) : k0_chk125  (BitVec.ofNat 32 r) :=
  ⟨inb_x hs (ar_row hs) rfl, ww_x (ar_row hs) (by decide)⟩

/-- The cell of the order of the groups that is read lies in it. -/
theorem t126  {s : ℕ} (hs : s < 40) : k0_chk126  (BitVec.ofNat 32 s) :=
  inb_perm (g := 6) hs (by decide) (ar_shr.trans (congrArg (· / 128) (ar_k hs (by decide)))) (ar_and.trans (congrArg (· % 128) (ar_k hs (by decide))))

/-- The rows that are copied lie in the array, on whole words. -/
theorem t127  {r : ℕ} (hs : r < 320) : k0_chk127  (BitVec.ofNat 32 r) :=
  ⟨inb_x hs (ar_row hs) rfl, ww_x (ar_row hs) (by decide)⟩

/-- The cell of the order of the groups that is read lies in it. -/
theorem t128  {s : ℕ} (hs : s < 40) : k0_chk128  (BitVec.ofNat 32 s) :=
  inb_perm (g := 7) hs (by decide) (ar_shr.trans (congrArg (· / 128) (ar_k hs (by decide)))) (ar_and.trans (congrArg (· % 128) (ar_k hs (by decide))))

/-- The rows that are copied lie in the array, on whole words. -/
theorem t129  {r : ℕ} (hs : r < 320) : k0_chk129  (BitVec.ofNat 32 r) :=
  ⟨inb_x hs (ar_row hs) rfl, ww_x (ar_row hs) (by decide)⟩

/-- The cell of the order of the groups that is read lies in it. -/
theorem t130 {arg24 : BitVec 32} {k0_t2 : Fin (k0_t2_loop arg24).trips} {s : ℕ} (hs : s < 40) : k0_chk130 arg24 k0_t2 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t131 {arg24 : BitVec 32} {k0_t2 : Fin (k0_t2_loop arg24).trips} {r : ℕ} (hs : r < 320) : k0_chk131 arg24 k0_t2 (BitVec.ofNat 32 r) :=
  ⟨fun _ => inb_y hs (ar_row hs) rfl, fun _ => ww_y (ar_row hs) (by decide)⟩

/-- The cell of the order of the groups that is read lies in it. -/
theorem t132 {arg24 : BitVec 32} {k0_t2 : Fin (k0_t2_loop arg24).trips} {s : ℕ} (hs : s < 40) : k0_chk132 arg24 k0_t2 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t133 {arg24 : BitVec 32} {k0_t2 : Fin (k0_t2_loop arg24).trips} {r : ℕ} (hs : r < 320) : k0_chk133 arg24 k0_t2 (BitVec.ofNat 32 r) :=
  ⟨fun _ => inb_y hs (ar_row hs) rfl, fun _ => ww_y (ar_row hs) (by decide)⟩

/-- The cell of the order of the groups that is read lies in it. -/
theorem t134 {arg24 : BitVec 32} {k0_t2 : Fin (k0_t2_loop arg24).trips} {s : ℕ} (hs : s < 40) : k0_chk134 arg24 k0_t2 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t135 {arg24 : BitVec 32} {k0_t2 : Fin (k0_t2_loop arg24).trips} {r : ℕ} (hs : r < 320) : k0_chk135 arg24 k0_t2 (BitVec.ofNat 32 r) :=
  ⟨fun _ => inb_y hs (ar_row hs) rfl, fun _ => ww_y (ar_row hs) (by decide)⟩

/-- The cell of the order of the groups that is read lies in it. -/
theorem t136 {arg24 : BitVec 32} {k0_t2 : Fin (k0_t2_loop arg24).trips} {s : ℕ} (hs : s < 40) : k0_chk136 arg24 k0_t2 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t137 {arg24 : BitVec 32} {k0_t2 : Fin (k0_t2_loop arg24).trips} {r : ℕ} (hs : r < 320) : k0_chk137 arg24 k0_t2 (BitVec.ofNat 32 r) :=
  ⟨fun _ => inb_y hs (ar_row hs) rfl, fun _ => ww_y (ar_row hs) (by decide)⟩

/-- The cell of the order of the groups that is read lies in it. -/
theorem t138 {arg24 : BitVec 32} {k0_t2 : Fin (k0_t2_loop arg24).trips} {s : ℕ} (hs : s < 40) : k0_chk138 arg24 k0_t2 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t139 {arg24 : BitVec 32} {k0_t2 : Fin (k0_t2_loop arg24).trips} {r : ℕ} (hs : r < 320) : k0_chk139 arg24 k0_t2 (BitVec.ofNat 32 r) :=
  ⟨fun _ => inb_y hs (ar_row hs) rfl, fun _ => ww_y (ar_row hs) (by decide)⟩

/-- The cell of the order of the groups that is read lies in it. -/
theorem t140 {arg24 : BitVec 32} {k0_t2 : Fin (k0_t2_loop arg24).trips} {s : ℕ} (hs : s < 40) : k0_chk140 arg24 k0_t2 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t141 {arg24 : BitVec 32} {k0_t2 : Fin (k0_t2_loop arg24).trips} {r : ℕ} (hs : r < 320) : k0_chk141 arg24 k0_t2 (BitVec.ofNat 32 r) :=
  ⟨fun _ => inb_y hs (ar_row hs) rfl, fun _ => ww_y (ar_row hs) (by decide)⟩

/-- The cell of the order of the groups that is read lies in it. -/
theorem t142 {arg24 : BitVec 32} {k0_t2 : Fin (k0_t2_loop arg24).trips} {s : ℕ} (hs : s < 40) : k0_chk142 arg24 k0_t2 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t143 {arg24 : BitVec 32} {k0_t2 : Fin (k0_t2_loop arg24).trips} {r : ℕ} (hs : r < 320) : k0_chk143 arg24 k0_t2 (BitVec.ofNat 32 r) :=
  ⟨fun _ => inb_y hs (ar_row hs) rfl, fun _ => ww_y (ar_row hs) (by decide)⟩

/-- The cell of the order of the groups that is read lies in it. -/
theorem t144 {arg24 : BitVec 32} {k0_t2 : Fin (k0_t2_loop arg24).trips} {s : ℕ} (hs : s < 40) : k0_chk144 arg24 k0_t2 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t145 {arg24 : BitVec 32} {k0_t2 : Fin (k0_t2_loop arg24).trips} {r : ℕ} (hs : r < 320) : k0_chk145 arg24 k0_t2 (BitVec.ofNat 32 r) :=
  ⟨fun _ => inb_y hs (ar_row hs) rfl, fun _ => ww_y (ar_row hs) (by decide)⟩

/-- The cell of the exponents that is written lies in them. -/
theorem t146  {s : ℕ} (hs : s < 40) : k0_chk146  (BitVec.ofNat 32 s) :=
  inb_used hs (by show (BitVec.ofNat 32 s).toNat = s; simp; omega)

/-- The cell of the order of the groups that is read lies in it. -/
theorem t244 {arg24 : BitVec 32} {s : ℕ} (hs : s < 40) : k0_chk244 arg24 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t245 {arg24 : BitVec 32} {r : ℕ} (hs : r < 320) : k0_chk245 arg24 (BitVec.ofNat 32 r) :=
  ⟨fun _ => inb_x hs (ar_row hs) rfl, fun _ => ww_x (ar_row hs) (by decide)⟩

/-- The cell of the order of the groups that is read lies in it. -/
theorem t246 {arg24 : BitVec 32} {s : ℕ} (hs : s < 40) : k0_chk246 arg24 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t247 {arg24 : BitVec 32} {r : ℕ} (hs : r < 320) : k0_chk247 arg24 (BitVec.ofNat 32 r) :=
  ⟨fun _ => inb_x hs (ar_row hs) rfl, fun _ => ww_x (ar_row hs) (by decide)⟩

/-- The cell of the order of the groups that is read lies in it. -/
theorem t248 {arg24 : BitVec 32} {s : ℕ} (hs : s < 40) : k0_chk248 arg24 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t249 {arg24 : BitVec 32} {r : ℕ} (hs : r < 320) : k0_chk249 arg24 (BitVec.ofNat 32 r) :=
  ⟨fun _ => inb_x hs (ar_row hs) rfl, fun _ => ww_x (ar_row hs) (by decide)⟩

/-- The cell of the order of the groups that is read lies in it. -/
theorem t250 {arg24 : BitVec 32} {s : ℕ} (hs : s < 40) : k0_chk250 arg24 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t251 {arg24 : BitVec 32} {r : ℕ} (hs : r < 320) : k0_chk251 arg24 (BitVec.ofNat 32 r) :=
  ⟨fun _ => inb_x hs (ar_row hs) rfl, fun _ => ww_x (ar_row hs) (by decide)⟩

/-- The cell of the order of the groups that is read lies in it. -/
theorem t252 {arg24 : BitVec 32} {s : ℕ} (hs : s < 40) : k0_chk252 arg24 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t253 {arg24 : BitVec 32} {r : ℕ} (hs : r < 320) : k0_chk253 arg24 (BitVec.ofNat 32 r) :=
  ⟨fun _ => inb_x hs (ar_row hs) rfl, fun _ => ww_x (ar_row hs) (by decide)⟩

/-- The cell of the order of the groups that is read lies in it. -/
theorem t254 {arg24 : BitVec 32} {s : ℕ} (hs : s < 40) : k0_chk254 arg24 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t255 {arg24 : BitVec 32} {r : ℕ} (hs : r < 320) : k0_chk255 arg24 (BitVec.ofNat 32 r) :=
  ⟨fun _ => inb_x hs (ar_row hs) rfl, fun _ => ww_x (ar_row hs) (by decide)⟩

/-- The cell of the order of the groups that is read lies in it. -/
theorem t256 {arg24 : BitVec 32} {s : ℕ} (hs : s < 40) : k0_chk256 arg24 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t257 {arg24 : BitVec 32} {r : ℕ} (hs : r < 320) : k0_chk257 arg24 (BitVec.ofNat 32 r) :=
  ⟨fun _ => inb_x hs (ar_row hs) rfl, fun _ => ww_x (ar_row hs) (by decide)⟩

/-- The cell of the order of the groups that is read lies in it. -/
theorem t258 {arg24 : BitVec 32} {s : ℕ} (hs : s < 40) : k0_chk258 arg24 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t259 {arg24 : BitVec 32} {r : ℕ} (hs : r < 320) : k0_chk259 arg24 (BitVec.ofNat 32 r) :=
  ⟨fun _ => inb_x hs (ar_row hs) rfl, fun _ => ww_x (ar_row hs) (by decide)⟩

/-- The cell of the order of the groups that is read lies in it. -/
theorem t260 {arg24 : BitVec 32} {s : ℕ} (hs : s < 40) : k0_chk260 arg24 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t261 {arg24 : BitVec 32} {r : ℕ} (hs : r < 320) : k0_chk261 arg24 (BitVec.ofNat 32 r) :=
  ⟨fun _ => inb_y hs (ar_row hs) rfl, fun _ => ww_y (ar_row hs) (by decide)⟩

/-- The cell of the order of the groups that is read lies in it. -/
theorem t262 {arg24 : BitVec 32} {s : ℕ} (hs : s < 40) : k0_chk262 arg24 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t263 {arg24 : BitVec 32} {r : ℕ} (hs : r < 320) : k0_chk263 arg24 (BitVec.ofNat 32 r) :=
  ⟨fun _ => inb_y hs (ar_row hs) rfl, fun _ => ww_y (ar_row hs) (by decide)⟩

/-- The cell of the order of the groups that is read lies in it. -/
theorem t264 {arg24 : BitVec 32} {s : ℕ} (hs : s < 40) : k0_chk264 arg24 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t265 {arg24 : BitVec 32} {r : ℕ} (hs : r < 320) : k0_chk265 arg24 (BitVec.ofNat 32 r) :=
  ⟨fun _ => inb_y hs (ar_row hs) rfl, fun _ => ww_y (ar_row hs) (by decide)⟩

/-- The cell of the order of the groups that is read lies in it. -/
theorem t266 {arg24 : BitVec 32} {s : ℕ} (hs : s < 40) : k0_chk266 arg24 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t267 {arg24 : BitVec 32} {r : ℕ} (hs : r < 320) : k0_chk267 arg24 (BitVec.ofNat 32 r) :=
  ⟨fun _ => inb_y hs (ar_row hs) rfl, fun _ => ww_y (ar_row hs) (by decide)⟩

/-- The cell of the order of the groups that is read lies in it. -/
theorem t268 {arg24 : BitVec 32} {s : ℕ} (hs : s < 40) : k0_chk268 arg24 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t269 {arg24 : BitVec 32} {r : ℕ} (hs : r < 320) : k0_chk269 arg24 (BitVec.ofNat 32 r) :=
  ⟨fun _ => inb_y hs (ar_row hs) rfl, fun _ => ww_y (ar_row hs) (by decide)⟩

/-- The cell of the order of the groups that is read lies in it. -/
theorem t270 {arg24 : BitVec 32} {s : ℕ} (hs : s < 40) : k0_chk270 arg24 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t271 {arg24 : BitVec 32} {r : ℕ} (hs : r < 320) : k0_chk271 arg24 (BitVec.ofNat 32 r) :=
  ⟨fun _ => inb_y hs (ar_row hs) rfl, fun _ => ww_y (ar_row hs) (by decide)⟩

/-- The cell of the order of the groups that is read lies in it. -/
theorem t272 {arg24 : BitVec 32} {s : ℕ} (hs : s < 40) : k0_chk272 arg24 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t273 {arg24 : BitVec 32} {r : ℕ} (hs : r < 320) : k0_chk273 arg24 (BitVec.ofNat 32 r) :=
  ⟨fun _ => inb_y hs (ar_row hs) rfl, fun _ => ww_y (ar_row hs) (by decide)⟩

/-- The cell of the order of the groups that is read lies in it. -/
theorem t274 {arg24 : BitVec 32} {s : ℕ} (hs : s < 40) : k0_chk274 arg24 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t275 {arg24 : BitVec 32} {r : ℕ} (hs : r < 320) : k0_chk275 arg24 (BitVec.ofNat 32 r) :=
  ⟨fun _ => inb_y hs (ar_row hs) rfl, fun _ => ww_y (ar_row hs) (by decide)⟩

/-- The cell of the order of the groups that is read lies in it. -/
theorem t276 {arg24 : BitVec 32} {s : ℕ} (hs : s < 40) : k0_chk276 arg24 (BitVec.ofNat 32 s) :=
  fun _ _ => inb_perm (g := 0) hs (by decide) (ar_shr.trans (congrArg (· / 128) (ar_k hs (by decide)))) (ar_and.trans (congrArg (· % 128) (ar_k hs (by decide))))

/-- The rows that are copied lie in the array, on whole words. -/
theorem t277 {arg24 : BitVec 32} {r : ℕ} (hs : r < 320) : k0_chk277 arg24 (BitVec.ofNat 32 r) :=
  ⟨fun _ _ => inb_y hs (ar_row hs) rfl, fun _ _ => ww_y (ar_row hs) (by decide)⟩

/-- The cell of the order of the groups that is read lies in it. -/
theorem t278 {arg24 : BitVec 32} {s : ℕ} (hs : s < 40) : k0_chk278 arg24 (BitVec.ofNat 32 s) :=
  fun _ _ => inb_perm (g := 1) hs (by decide) (ar_shr.trans (congrArg (· / 128) (ar_k hs (by decide)))) (ar_and.trans (congrArg (· % 128) (ar_k hs (by decide))))

/-- The rows that are copied lie in the array, on whole words. -/
theorem t279 {arg24 : BitVec 32} {r : ℕ} (hs : r < 320) : k0_chk279 arg24 (BitVec.ofNat 32 r) :=
  ⟨fun _ _ => inb_y hs (ar_row hs) rfl, fun _ _ => ww_y (ar_row hs) (by decide)⟩

/-- The cell of the order of the groups that is read lies in it. -/
theorem t280 {arg24 : BitVec 32} {s : ℕ} (hs : s < 40) : k0_chk280 arg24 (BitVec.ofNat 32 s) :=
  fun _ _ => inb_perm (g := 2) hs (by decide) (ar_shr.trans (congrArg (· / 128) (ar_k hs (by decide)))) (ar_and.trans (congrArg (· % 128) (ar_k hs (by decide))))

/-- The rows that are copied lie in the array, on whole words. -/
theorem t281 {arg24 : BitVec 32} {r : ℕ} (hs : r < 320) : k0_chk281 arg24 (BitVec.ofNat 32 r) :=
  ⟨fun _ _ => inb_y hs (ar_row hs) rfl, fun _ _ => ww_y (ar_row hs) (by decide)⟩

/-- The cell of the order of the groups that is read lies in it. -/
theorem t282 {arg24 : BitVec 32} {s : ℕ} (hs : s < 40) : k0_chk282 arg24 (BitVec.ofNat 32 s) :=
  fun _ _ => inb_perm (g := 3) hs (by decide) (ar_shr.trans (congrArg (· / 128) (ar_k hs (by decide)))) (ar_and.trans (congrArg (· % 128) (ar_k hs (by decide))))

/-- The rows that are copied lie in the array, on whole words. -/
theorem t283 {arg24 : BitVec 32} {r : ℕ} (hs : r < 320) : k0_chk283 arg24 (BitVec.ofNat 32 r) :=
  ⟨fun _ _ => inb_y hs (ar_row hs) rfl, fun _ _ => ww_y (ar_row hs) (by decide)⟩

/-- The cell of the order of the groups that is read lies in it. -/
theorem t284 {arg24 : BitVec 32} {s : ℕ} (hs : s < 40) : k0_chk284 arg24 (BitVec.ofNat 32 s) :=
  fun _ _ => inb_perm (g := 4) hs (by decide) (ar_shr.trans (congrArg (· / 128) (ar_k hs (by decide)))) (ar_and.trans (congrArg (· % 128) (ar_k hs (by decide))))

/-- The rows that are copied lie in the array, on whole words. -/
theorem t285 {arg24 : BitVec 32} {r : ℕ} (hs : r < 320) : k0_chk285 arg24 (BitVec.ofNat 32 r) :=
  ⟨fun _ _ => inb_y hs (ar_row hs) rfl, fun _ _ => ww_y (ar_row hs) (by decide)⟩

/-- The cell of the order of the groups that is read lies in it. -/
theorem t286 {arg24 : BitVec 32} {s : ℕ} (hs : s < 40) : k0_chk286 arg24 (BitVec.ofNat 32 s) :=
  fun _ _ => inb_perm (g := 5) hs (by decide) (ar_shr.trans (congrArg (· / 128) (ar_k hs (by decide)))) (ar_and.trans (congrArg (· % 128) (ar_k hs (by decide))))

/-- The rows that are copied lie in the array, on whole words. -/
theorem t287 {arg24 : BitVec 32} {r : ℕ} (hs : r < 320) : k0_chk287 arg24 (BitVec.ofNat 32 r) :=
  ⟨fun _ _ => inb_y hs (ar_row hs) rfl, fun _ _ => ww_y (ar_row hs) (by decide)⟩

/-- The cell of the order of the groups that is read lies in it. -/
theorem t288 {arg24 : BitVec 32} {s : ℕ} (hs : s < 40) : k0_chk288 arg24 (BitVec.ofNat 32 s) :=
  fun _ _ => inb_perm (g := 6) hs (by decide) (ar_shr.trans (congrArg (· / 128) (ar_k hs (by decide)))) (ar_and.trans (congrArg (· % 128) (ar_k hs (by decide))))

/-- The rows that are copied lie in the array, on whole words. -/
theorem t289 {arg24 : BitVec 32} {r : ℕ} (hs : r < 320) : k0_chk289 arg24 (BitVec.ofNat 32 r) :=
  ⟨fun _ _ => inb_y hs (ar_row hs) rfl, fun _ _ => ww_y (ar_row hs) (by decide)⟩

/-- The cell of the order of the groups that is read lies in it. -/
theorem t290 {arg24 : BitVec 32} {s : ℕ} (hs : s < 40) : k0_chk290 arg24 (BitVec.ofNat 32 s) :=
  fun _ _ => inb_perm (g := 7) hs (by decide) (ar_shr.trans (congrArg (· / 128) (ar_k hs (by decide)))) (ar_and.trans (congrArg (· % 128) (ar_k hs (by decide))))

/-- The rows that are copied lie in the array, on whole words. -/
theorem t291 {arg24 : BitVec 32} {r : ℕ} (hs : r < 320) : k0_chk291 arg24 (BitVec.ofNat 32 r) :=
  ⟨fun _ _ => inb_y hs (ar_row hs) rfl, fun _ _ => ww_y (ar_row hs) (by decide)⟩

/-- The cell of the order of the groups that is read lies in it. -/
theorem t292 {arg24 : BitVec 32} {s : ℕ} (hs : s < 40) : k0_chk292 arg24 (BitVec.ofNat 32 s) :=
  fun _ => inb_perm (g := 0) hs (by decide) (ar_shr.trans (congrArg (· / 128) (ar_k hs (by decide)))) (ar_and.trans (congrArg (· % 128) (ar_k hs (by decide))))

/-- The rows that are copied lie in the array, on whole words. -/
theorem t293 {arg24 : BitVec 32} {r : ℕ} (hs : r < 320) : k0_chk293 arg24 (BitVec.ofNat 32 r) :=
  ⟨fun _ => inb_y hs (ar_row hs) rfl, fun _ => ww_y (ar_row hs) (by decide)⟩

/-- The cell of the order of the groups that is read lies in it. -/
theorem t294 {arg24 : BitVec 32} {s : ℕ} (hs : s < 40) : k0_chk294 arg24 (BitVec.ofNat 32 s) :=
  fun _ => inb_perm (g := 1) hs (by decide) (ar_shr.trans (congrArg (· / 128) (ar_k hs (by decide)))) (ar_and.trans (congrArg (· % 128) (ar_k hs (by decide))))

/-- The rows that are copied lie in the array, on whole words. -/
theorem t295 {arg24 : BitVec 32} {r : ℕ} (hs : r < 320) : k0_chk295 arg24 (BitVec.ofNat 32 r) :=
  ⟨fun _ => inb_y hs (ar_row hs) rfl, fun _ => ww_y (ar_row hs) (by decide)⟩

/-- The cell of the order of the groups that is read lies in it. -/
theorem t296 {arg24 : BitVec 32} {s : ℕ} (hs : s < 40) : k0_chk296 arg24 (BitVec.ofNat 32 s) :=
  fun _ => inb_perm (g := 2) hs (by decide) (ar_shr.trans (congrArg (· / 128) (ar_k hs (by decide)))) (ar_and.trans (congrArg (· % 128) (ar_k hs (by decide))))

/-- The rows that are copied lie in the array, on whole words. -/
theorem t297 {arg24 : BitVec 32} {r : ℕ} (hs : r < 320) : k0_chk297 arg24 (BitVec.ofNat 32 r) :=
  ⟨fun _ => inb_y hs (ar_row hs) rfl, fun _ => ww_y (ar_row hs) (by decide)⟩

/-- The cell of the order of the groups that is read lies in it. -/
theorem t298 {arg24 : BitVec 32} {s : ℕ} (hs : s < 40) : k0_chk298 arg24 (BitVec.ofNat 32 s) :=
  fun _ => inb_perm (g := 3) hs (by decide) (ar_shr.trans (congrArg (· / 128) (ar_k hs (by decide)))) (ar_and.trans (congrArg (· % 128) (ar_k hs (by decide))))

/-- The rows that are copied lie in the array, on whole words. -/
theorem t299 {arg24 : BitVec 32} {r : ℕ} (hs : r < 320) : k0_chk299 arg24 (BitVec.ofNat 32 r) :=
  ⟨fun _ => inb_y hs (ar_row hs) rfl, fun _ => ww_y (ar_row hs) (by decide)⟩

/-- The cell of the order of the groups that is read lies in it. -/
theorem t300 {arg24 : BitVec 32} {s : ℕ} (hs : s < 40) : k0_chk300 arg24 (BitVec.ofNat 32 s) :=
  fun _ => inb_perm (g := 4) hs (by decide) (ar_shr.trans (congrArg (· / 128) (ar_k hs (by decide)))) (ar_and.trans (congrArg (· % 128) (ar_k hs (by decide))))

/-- The rows that are copied lie in the array, on whole words. -/
theorem t301 {arg24 : BitVec 32} {r : ℕ} (hs : r < 320) : k0_chk301 arg24 (BitVec.ofNat 32 r) :=
  ⟨fun _ => inb_y hs (ar_row hs) rfl, fun _ => ww_y (ar_row hs) (by decide)⟩

/-- The cell of the order of the groups that is read lies in it. -/
theorem t302 {arg24 : BitVec 32} {s : ℕ} (hs : s < 40) : k0_chk302 arg24 (BitVec.ofNat 32 s) :=
  fun _ => inb_perm (g := 5) hs (by decide) (ar_shr.trans (congrArg (· / 128) (ar_k hs (by decide)))) (ar_and.trans (congrArg (· % 128) (ar_k hs (by decide))))

/-- The rows that are copied lie in the array, on whole words. -/
theorem t303 {arg24 : BitVec 32} {r : ℕ} (hs : r < 320) : k0_chk303 arg24 (BitVec.ofNat 32 r) :=
  ⟨fun _ => inb_y hs (ar_row hs) rfl, fun _ => ww_y (ar_row hs) (by decide)⟩

/-- The cell of the order of the groups that is read lies in it. -/
theorem t304 {arg24 : BitVec 32} {s : ℕ} (hs : s < 40) : k0_chk304 arg24 (BitVec.ofNat 32 s) :=
  fun _ => inb_perm (g := 6) hs (by decide) (ar_shr.trans (congrArg (· / 128) (ar_k hs (by decide)))) (ar_and.trans (congrArg (· % 128) (ar_k hs (by decide))))

/-- The rows that are copied lie in the array, on whole words. -/
theorem t305 {arg24 : BitVec 32} {r : ℕ} (hs : r < 320) : k0_chk305 arg24 (BitVec.ofNat 32 r) :=
  ⟨fun _ => inb_y hs (ar_row hs) rfl, fun _ => ww_y (ar_row hs) (by decide)⟩

/-- The cell of the order of the groups that is read lies in it. -/
theorem t306 {arg24 : BitVec 32} {s : ℕ} (hs : s < 40) : k0_chk306 arg24 (BitVec.ofNat 32 s) :=
  fun _ => inb_perm (g := 7) hs (by decide) (ar_shr.trans (congrArg (· / 128) (ar_k hs (by decide)))) (ar_and.trans (congrArg (· % 128) (ar_k hs (by decide))))

/-- The rows that are copied lie in the array, on whole words. -/
theorem t307 {arg24 : BitVec 32} {r : ℕ} (hs : r < 320) : k0_chk307 arg24 (BitVec.ofNat 32 r) :=
  ⟨fun _ => inb_y hs (ar_row hs) rfl, fun _ => ww_y (ar_row hs) (by decide)⟩

end Cert.Proof.KernelIdeal
-- ==== Proof.A7.lean ====
module
public import proofs.«01_k».proof.Proof.A5
public import proofs.«01_k».proof.Proof.A6
@[expose] public section
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- The row of the table of groups. -/
theorem e0 {s g : ℕ} (hs : s < 40) (hg : g < 8) : (Scalar.indexCast (Scalar.shrui (Scalar.addi (Scalar.muli (BitVec.ofNat 32 s) 8#32) (BitVec.ofNat 32 g)) 7#32)).toNat = (8 * s + g) / 128 :=
  ar_shr.trans (congrArg (· / 128) (ar_k hs hg))
/-- The column of the table of groups. -/
theorem e1 {s g : ℕ} (hs : s < 40) (hg : g < 8) : (Scalar.indexCast (Scalar.andi (Scalar.addi (Scalar.muli (BitVec.ofNat 32 s) 8#32) (BitVec.ofNat 32 g)) 127#32)).toNat = (8 * s + g) % 128 :=
  ar_and.trans (congrArg (· % 128) (ar_k hs hg))

theorem par2 {i : ℕ} : (i + 2) % 2 = i % 2 := by omega
theorem par1 {i : ℕ} (h : 1 ≤ i) : (i - 1) % 2 = (i + 1) % 2 := by omega
theorem parm2 {i : ℕ} (h : 2 ≤ i) : (i - 2) % 2 = i % 2 := by omega

theorem ne_ext {b : Prop} [Decidable b] : Scalar.cmpi .ne (Scalar.extui (if b then 1#1 else 0#1)) (0#32) = 1#1 ↔ b := by
  by_cases h : b
  · simp only [h, if_true, iff_true]; decide
  · simp only [h, if_false, iff_false]; decide
/-- A signed comparison of small numbers. -/
theorem c_slt {a b : BitVec 32} (ha : a.toNat < 2 ^ 31) (hb : b.toNat < 2 ^ 31) : Scalar.cmpi .ne (Scalar.extui (Scalar.cmpi .slt a b)) (0#32) = 1#1 ↔ a.toNat < b.toNat := by
  have hh : Scalar.cmpi .slt a b = if a.toNat < b.toNat then 1#1 else 0#1 := by
    show BitVec.ofBool (a.slt b) = _
    rw [BitVec.slt_eq_decide, BitVec.toInt_eq_toNat_of_lt (by omega), BitVec.toInt_eq_toNat_of_lt (by omega)]
    by_cases h : a.toNat < b.toNat <;> simp [h]
  rw [hh]; exact ne_ext
theorem c_sgt {a b : BitVec 32} (ha : a.toNat < 2 ^ 31) (hb : b.toNat < 2 ^ 31) : Scalar.cmpi .ne (Scalar.extui (Scalar.cmpi .sgt a b)) (0#32) = 1#1 ↔ b.toNat < a.toNat := by
  exact c_slt hb ha
section
variable {a : BitVec 32} {t : Fin (k0_t2_loop a).trips} {n : ℕ}
theorem d1 (ha : a.toNat = n) (hn : n ≤ 40) : k0_cond1 a = 1#1 ↔ 0 < n := by
  unfold k0_cond1; refine (c_sgt (by omega) (by decide)).trans ?_; simp; omega
theorem d2 (ha : a.toNat = n) (hn : n ≤ 40) : k0_cond2 a = 1#1 ↔ 1 < n := by
  unfold k0_cond2; refine (c_sgt (by omega) (by decide)).trans ?_; simp; omega
theorem d11 (ha : a.toNat = n) (hn : n ≤ 40) : k0_cond11 a = 1#1 ↔ 0 < n := by
  unfold k0_cond11; refine (c_sgt (by omega) (by decide)).trans ?_; simp; omega
theorem d12 (ha : a.toNat = n) (hn : n ≤ 40) : k0_cond12 a = 1#1 ↔ 1 < n := by
  unfold k0_cond12; refine (c_sgt (by omega) (by decide)).trans ?_; simp; omega
theorem d3 (ha : a.toNat = n) (hn : n ≤ 40) (hi : t.val < 40) : k0_cond3 a t = 1#1 ↔ t.val + 1 < n := by
  have h := ar_ivadd (c := 1) hi (by decide)
  unfold k0_cond3; refine (c_slt (by rw [h]; omega) (by omega)).trans ?_; rw [h, ha]
theorem d5 (ha : a.toNat = n) (hn : n ≤ 40) (hi : t.val < 40) : k0_cond5 a t = 1#1 ↔ t.val + 2 < n := by
  have h := ar_ivadd (c := 2) hi (by decide)
  unfold k0_cond5; refine (c_slt (by rw [h]; omega) (by omega)).trans ?_; rw [h, ha]
theorem d4 (hi : t.val < 40) : k0_cond4 a t = 1#1 ↔ 0 < t.val := by
  have h := ar_iv hi
  unfold k0_cond4; refine (c_sgt (by rw [h]; omega) (by decide)).trans ?_; rw [h]; rfl
theorem d6 (hi : t.val < 40) : k0_cond6 a t = 1#1 ↔ 1 < t.val := by
  have h := ar_iv hi
  unfold k0_cond6; refine (c_sgt (by rw [h]; omega) (by decide)).trans ?_; rw [h]; rfl
end

end Cert.Proof.KernelIdeal
-- ==== Proof.B1.lean ====
module
public import proofs.«01_k».proof.Proof.A7
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable {E : Env F} {arg24 : BitVec 32} {k0_hw49 : k0_chk49 arg24} {k0_t2 : Fin (k0_t2_loop arg24).trips} {i n : ℕ} {It : ℕ → ℕ}
  {A3 A4 A5 A7 A8 A9 A10 A11 A12 A13 A14 A15 B14 : sProp (MT nD τ sig Unit (Elt F) ℕ (UD sig nD τ) ℕ)}

/-- The copies of one step up to the first start of the codes. -/
theorem p44 (ht : k0_t2.val = i) (ha : arg24.toNat = n) (hn : n ≤ 40) (hi : i < 40) (hIt : ∀ k, It k < 40) {a b : BitVec 32} {xc xn : ℕ → ℕ → Elt F .bf16} {cc cp : ℕ → ℕ → Elt F .fp8e4m3} {yp : ℕ → ℕ → Elt F .fp8e4m3} {yv cv : ℕ → ℕ → ℕ → Elt F .fp8e4m3} {S0 : Finset ℕ} {B7 B12 : sProp 𝕄} {Q : _ → sProp 𝕄}
    (h10 : i + 1 < n → ∃ f, A10 = XFly E ((i + 1) % 2) f (It (i + 1)) 8 0 ∧ E.XV (It (i + 1)) = xn) (h10' : ¬ i + 1 < n → A10 = XIdle E ((i + 1) % 2) xn)
    (h11 : 0 < i → ∃ cw v, A11 = CFly E ((i + 1) % 2) cp v (It (i - 1)) 8 0 ∧ A13 = CH E ((Finset.range 40).erase (It (i - 1))) cw ∧ Function.update cw (It (i - 1)) cp = cv ∧ It (i - 1) ∈ S0 ∧ B12 = YFly E ((i + 1) % 2) yp (yv (It (i - 1))) (It (i - 1)) 8 0 ∧ B14 = YH E (S0.erase (It (i - 1))) yv)
    (h11' : ¬ 0 < i → A11 = CIdle E ((i + 1) % 2) cp ∧ A13 = CH E (Finset.range 40) cv ∧ B12 = YIdle E ((i + 1) % 2) yp ∧ B14 = YH E S0 yv)
    (h7 : i + 2 < n → B7 = XFly E (i % 2) xc (It (i + 2)) 8 0) (h7' : ¬ i + 2 < n → B7 = XIdle E (i % 2) xc)
    (hQ : St (Items E (fun k => BitVec.ofNat 32 (It k))) (Perm E) A3 A4 A5 (Ow E.c) B7 (CFly E (i % 2) cc (cv (It i)) (It i) 1 0) A9 (XIdle E ((i + 1) % 2) xn) (CIdle E ((i + 1) % 2) cp) B12 (CH E ((Finset.range 40).erase (It i)) cv) B14 A15 ⊢ Q ⟨(Scf.iv a b k0_t2), (BitVec.ofNat 32 (It i)), (t116 (hIt _)), (Scalar.addi (Scalar.muli (BitVec.ofNat 32 (It i)) 8#32) 1#32), (Scalar.shrui (Scalar.addi (Scalar.muli (BitVec.ofNat 32 (It i)) 8#32) 1#32) 7#32)⟩) :
    St (Items E (fun k => BitVec.ofNat 32 (It k))) (Perm E) A3 A4 A5 (Ow E.c) (XIdle E (i % 2) xc) (CIdle E (i % 2) cc) A9 A10 A11 (YIdle E ((i + 1) % 2) yp) A13 (YH E S0 yv) A15 ⊢ E.wp (k0_part44 (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 arg24 k0_hw49 a b k0_t2) Q := by
  subst ht
  rw [k0_part44_eq_skeleton]
  unfold k0_part44_skel
  beta_reduce
  extract_lets -underBinder -merge _ jp1
  have hj : St (Items E (fun k => BitVec.ofNat 32 (It k))) (Perm E) A3 A4 A5 (Ow E.c) (XIdle E (k0_t2.val % 2) xc) (CIdle E (k0_t2.val % 2) cc) A9 (XIdle E ((k0_t2.val + 1) % 2) xn) A11 (YIdle E ((k0_t2.val + 1) % 2) yp) A13 (YH E S0 yv) A15 ⊢ E.wp (jp1 ⟨⟩) Q := ?_
  swap
  · subst jp1
    beta_reduce
    extract_lets -underBinder -merge jp2
    have hj : St (Items E (fun k => BitVec.ofNat 32 (It k))) (Perm E) A3 A4 A5 (Ow E.c) (XIdle E (k0_t2.val % 2) xc) (CIdle E (k0_t2.val % 2) cc) A9 (XIdle E ((k0_t2.val + 1) % 2) xn) (CIdle E ((k0_t2.val + 1) % 2) cp) B12 (CH E (Finset.range 40) cv) B14 A15 ⊢ E.wp (jp2 ⟨⟩) Q := ?_
    swap
    · subst jp2
      beta_reduce
      extract_lets -underBinder -merge jp3
      have hj : St (Items E (fun k => BitVec.ofNat 32 (It k))) (Perm E) A3 A4 A5 (Ow E.c) B7 (CIdle E (k0_t2.val % 2) cc) A9 (XIdle E ((k0_t2.val + 1) % 2) xn) (CIdle E ((k0_t2.val + 1) % 2) cp) B12 (CH E (Finset.range 40) cv) B14 A15 ⊢ E.wp (jp3 ⟨⟩) Q := ?_
      swap
      · subst jp3
        refine f1 (it_load k0_t2.val (ar_iv hi)) ?_
        refine as_ (t114 (hIt _)) ?_
        refine f2 (pm_load (It k0_t2.val) 0 (hIt _) (by decide) (e0 (hIt _) (by decide)) (e1 (hIt _) (by decide))) ?_
        refine as_ (t115 (E.hP _)) ?_
        refine f8_13 (c_alloc (s := It k0_t2.val) (Finset.mem_range.mpr (hIt _))) ?_
        refine f8 (c_start (s := It k0_t2.val) 0 (by decide) (ar_and1.trans (congrArg (· % 2) (ar_iv hi))) (ar_and1.trans (congrArg (· % 2) (ar_iv hi))) rfl rfl (ar_row (E.hP _)) rfl) ?_
        refine f1 (it_load k0_t2.val (ar_iv hi)) ?_
        refine as_ (t116 (hIt _)) ?_
        exact ret hQ
      clear_value jp3
      by_cases hh : k0_t2.val + 2 < n
      · refine dp ((d5 ha hn hi).2 hh) ?_
        rw [h7 hh] at hj
        refine bd ?_
        rw [k0_part36_eq_skeleton]
        unfold k0_part36_skel
        refine f1 (it_load (k0_t2.val + 2) (ar_ivadd hi (by decide))) ?_
        refine as_ (t98 (hIt _)) ?_
        refine f2 (pm_load (It (k0_t2.val + 2)) 0 (hIt _) (by decide) (e0 (hIt _) (by decide)) (e1 (hIt _) (by decide))) ?_
        refine as_ (t99 (E.hP _)) ?_
        refine f7 (x_alloc (It (k0_t2.val + 2))) ?_
        refine f7 (x_start (s := It (k0_t2.val + 2)) 0 (by decide) ((ar_and1.trans (congrArg (· % 2) (ar_ivadd hi (by decide)))).trans par2) ((ar_and1.trans (congrArg (· % 2) (ar_ivadd hi (by decide)))).trans par2) rfl rfl (ar_row (E.hP _)) rfl) ?_
        refine f1 (it_load (k0_t2.val + 2) (ar_ivadd hi (by decide))) ?_
        refine as_ (t100 (hIt _)) ?_
        refine f2 (pm_load (It (k0_t2.val + 2)) 1 (hIt _) (by decide) (e0 (hIt _) (by decide)) (e1 (hIt _) (by decide))) ?_
        refine as_ (t101 (E.hP _)) ?_
        refine ret ?_
        refine bd ?_
        rw [k0_part37_eq_skeleton]
        unfold k0_part37_skel
        refine f7 (x_start (s := It (k0_t2.val + 2)) 1 (by decide) ((ar_and1.trans (congrArg (· % 2) (ar_ivadd hi (by decide)))).trans par2) ((ar_and1.trans (congrArg (· % 2) (ar_ivadd hi (by decide)))).trans par2) rfl rfl (ar_row (E.hP _)) rfl) ?_
        refine f1 (it_load (k0_t2.val + 2) (ar_ivadd hi (by decide))) ?_
        refine as_ (t102 (hIt _)) ?_
        refine f2 (pm_load (It (k0_t2.val + 2)) 2 (hIt _) (by decide) (e0 (hIt _) (by decide)) (e1 (hIt _) (by decide))) ?_
        refine as_ (t103 (E.hP _)) ?_
        refine f7 (x_start (s := It (k0_t2.val + 2)) 2 (by decide) ((ar_and1.trans (congrArg (· % 2) (ar_ivadd hi (by decide)))).trans par2) ((ar_and1.trans (congrArg (· % 2) (ar_ivadd hi (by decide)))).trans par2) rfl rfl (ar_row (E.hP _)) rfl) ?_
        refine f1 (it_load (k0_t2.val + 2) (ar_ivadd hi (by decide))) ?_
        refine as_ (t104 (hIt _)) ?_
        refine f2 (pm_load (It (k0_t2.val + 2)) 3 (hIt _) (by decide) (e0 (hIt _) (by decide)) (e1 (hIt _) (by decide))) ?_
        refine as_ (t105 (E.hP _)) ?_
        refine ret ?_
        refine bd ?_
        rw [k0_part38_eq_skeleton]
        unfold k0_part38_skel
        refine f7 (x_start (s := It (k0_t2.val + 2)) 3 (by decide) ((ar_and1.trans (congrArg (· % 2) (ar_ivadd hi (by decide)))).trans par2) ((ar_and1.trans (congrArg (· % 2) (ar_ivadd hi (by decide)))).trans par2) rfl rfl (ar_row (E.hP _)) rfl) ?_
        refine f1 (it_load (k0_t2.val + 2) (ar_ivadd hi (by decide))) ?_
        refine as_ (t106 (hIt _)) ?_
        refine f2 (pm_load (It (k0_t2.val + 2)) 4 (hIt _) (by decide) (e0 (hIt _) (by decide)) (e1 (hIt _) (by decide))) ?_
        refine as_ (t107 (E.hP _)) ?_
        refine f7 (x_start (s := It (k0_t2.val + 2)) 4 (by decide) ((ar_and1.trans (congrArg (· % 2) (ar_ivadd hi (by decide)))).trans par2) ((ar_and1.trans (congrArg (· % 2) (ar_ivadd hi (by decide)))).trans par2) rfl rfl (ar_row (E.hP _)) rfl) ?_
        refine f1 (it_load (k0_t2.val + 2) (ar_ivadd hi (by decide))) ?_
        refine as_ (t108 (hIt _)) ?_
        refine f2 (pm_load (It (k0_t2.val + 2)) 5 (hIt _) (by decide) (e0 (hIt _) (by decide)) (e1 (hIt _) (by decide))) ?_
        refine as_ (t109 (E.hP _)) ?_
        refine ret ?_
        refine bd ?_
        rw [k0_part39_eq_skeleton]
        unfold k0_part39_skel
        refine f7 (x_start (s := It (k0_t2.val + 2)) 5 (by decide) ((ar_and1.trans (congrArg (· % 2) (ar_ivadd hi (by decide)))).trans par2) ((ar_and1.trans (congrArg (· % 2) (ar_ivadd hi (by decide)))).trans par2) rfl rfl (ar_row (E.hP _)) rfl) ?_
        refine f1 (it_load (k0_t2.val + 2) (ar_ivadd hi (by decide))) ?_
        refine as_ (t110 (hIt _)) ?_
        refine f2 (pm_load (It (k0_t2.val + 2)) 6 (hIt _) (by decide) (e0 (hIt _) (by decide)) (e1 (hIt _) (by decide))) ?_
        refine as_ (t111 (E.hP _)) ?_
        refine f7 (x_start (s := It (k0_t2.val + 2)) 6 (by decide) ((ar_and1.trans (congrArg (· % 2) (ar_ivadd hi (by decide)))).trans par2) ((ar_and1.trans (congrArg (· % 2) (ar_ivadd hi (by decide)))).trans par2) rfl rfl (ar_row (E.hP _)) rfl) ?_
        refine f1 (it_load (k0_t2.val + 2) (ar_ivadd hi (by decide))) ?_
        refine as_ (t112 (hIt _)) ?_
        refine f2 (pm_load (It (k0_t2.val + 2)) 7 (hIt _) (by decide) (e0 (hIt _) (by decide)) (e1 (hIt _) (by decide))) ?_
        refine as_ (t113 (E.hP _)) ?_
        refine ret ?_
        refine f7 (x_start (s := It (k0_t2.val + 2)) 7 (by decide) ((ar_and1.trans (congrArg (· % 2) (ar_ivadd hi (by decide)))).trans par2) ((ar_and1.trans (congrArg (· % 2) (ar_ivadd hi (by decide)))).trans par2) rfl rfl (ar_row (E.hP _)) rfl) ?_
        exact hj
      · refine dn (fun h => hh ((d5 ha hn hi).1 h)) ?_
        rw [h7' hh] at hj
        exact hj
    clear_value jp2
    by_cases hh : 0 < k0_t2.val
    · refine dp ((d4 hi).2 hh) ?_
      have h1 : 1 ≤ k0_t2.val := hh
      obtain ⟨cw, v, hx, hc, hv, hs1, hy1, hy2⟩ := h11 hh
      rw [hx, hc]
      rw [hy1, hy2] at hj
      refine bd ?_
      rw [k0_part28_eq_skeleton]
      unfold k0_part28_skel
      refine f1 (it_load (k0_t2.val - 1) (ar_ivsub hi h1)) ?_
      refine as_ (t66 (hIt _)) ?_
      refine f2 (pm_load (It (k0_t2.val - 1)) 0 (hIt _) (by decide) (e0 (hIt _) (by decide)) (e1 (hIt _) (by decide))) ?_
      refine as_ (t67 (E.hP _)) ?_
      refine f11_6 (c_wait 0 (by decide) ((ar_and1.trans (congrArg (· % 2) (ar_ivsub hi h1))).trans (par1 h1)) am_c) ?_
      refine f1 (it_load (k0_t2.val - 1) (ar_ivsub hi h1)) ?_
      refine as_ (t68 (hIt _)) ?_
      refine f2 (pm_load (It (k0_t2.val - 1)) 1 (hIt _) (by decide) (e0 (hIt _) (by decide)) (e1 (hIt _) (by decide))) ?_
      refine as_ (t69 (E.hP _)) ?_
      refine ret ?_
      refine bd ?_
      rw [k0_part29_eq_skeleton]
      unfold k0_part29_skel
      refine f11_6 (c_wait 1 (by decide) ((ar_and1.trans (congrArg (· % 2) (ar_ivsub hi h1))).trans (par1 h1)) am_c) ?_
      refine f1 (it_load (k0_t2.val - 1) (ar_ivsub hi h1)) ?_
      refine as_ (t70 (hIt _)) ?_
      refine f2 (pm_load (It (k0_t2.val - 1)) 2 (hIt _) (by decide) (e0 (hIt _) (by decide)) (e1 (hIt _) (by decide))) ?_
      refine as_ (t71 (E.hP _)) ?_
      refine f11_6 (c_wait 2 (by decide) ((ar_and1.trans (congrArg (· % 2) (ar_ivsub hi h1))).trans (par1 h1)) am_c) ?_
      refine f1 (it_load (k0_t2.val - 1) (ar_ivsub hi h1)) ?_
      refine as_ (t72 (hIt _)) ?_
      refine f2 (pm_load (It (k0_t2.val - 1)) 3 (hIt _) (by decide) (e0 (hIt _) (by decide)) (e1 (hIt _) (by decide))) ?_
      refine as_ (t73 (E.hP _)) ?_
      refine ret ?_
      refine bd ?_
      rw [k0_part30_eq_skeleton]
      unfold k0_part30_skel
      refine f11_6 (c_wait 3 (by decide) ((ar_and1.trans (congrArg (· % 2) (ar_ivsub hi h1))).trans (par1 h1)) am_c) ?_
      refine f1 (it_load (k0_t2.val - 1) (ar_ivsub hi h1)) ?_
      refine as_ (t74 (hIt _)) ?_
      refine f2 (pm_load (It (k0_t2.val - 1)) 4 (hIt _) (by decide) (e0 (hIt _) (by decide)) (e1 (hIt _) (by decide))) ?_
      refine as_ (t75 (E.hP _)) ?_
      refine f11_6 (c_wait 4 (by decide) ((ar_and1.trans (congrArg (· % 2) (ar_ivsub hi h1))).trans (par1 h1)) am_c) ?_
      refine f1 (it_load (k0_t2.val - 1) (ar_ivsub hi h1)) ?_
      refine as_ (t76 (hIt _)) ?_
      refine f2 (pm_load (It (k0_t2.val - 1)) 5 (hIt _) (by decide) (e0 (hIt _) (by decide)) (e1 (hIt _) (by decide))) ?_
      refine as_ (t77 (E.hP _)) ?_
      refine ret ?_
      refine bd ?_
      rw [k0_part31_eq_skeleton]
      unfold k0_part31_skel
      refine f11_6 (c_wait 5 (by decide) ((ar_and1.trans (congrArg (· % 2) (ar_ivsub hi h1))).trans (par1 h1)) am_c) ?_
      refine f1 (it_load (k0_t2.val - 1) (ar_ivsub hi h1)) ?_
      refine as_ (t78 (hIt _)) ?_
      refine f2 (pm_load (It (k0_t2.val - 1)) 6 (hIt _) (by decide) (e0 (hIt _) (by decide)) (e1 (hIt _) (by decide))) ?_
      refine as_ (t79 (E.hP _)) ?_
      refine f11_6 (c_wait 6 (by decide) ((ar_and1.trans (congrArg (· % 2) (ar_ivsub hi h1))).trans (par1 h1)) am_c) ?_
      refine f1 (it_load (k0_t2.val - 1) (ar_ivsub hi h1)) ?_
      refine as_ (t80 (hIt _)) ?_
      refine f2 (pm_load (It (k0_t2.val - 1)) 7 (hIt _) (by decide) (e0 (hIt _) (by decide)) (e1 (hIt _) (by decide))) ?_
      refine as_ (t81 (E.hP _)) ?_
      refine ret ?_
      refine bd ?_
      rw [k0_part32_eq_skeleton]
      unfold k0_part32_skel
      refine f11_13_6 (c_last (Finset.notMem_erase _ _) ((ar_and1.trans (congrArg (· % 2) (ar_ivsub hi h1))).trans (par1 h1)) am_c) ?_
      refine f1 (it_load (k0_t2.val - 1) (ar_ivsub hi h1)) ?_
      refine as_ (t82 (hIt _)) ?_
      refine f2 (pm_load (It (k0_t2.val - 1)) 0 (hIt _) (by decide) (e0 (hIt _) (by decide)) (e1 (hIt _) (by decide))) ?_
      refine as_ (t83 (E.hP _)) ?_
      refine f12_14 (y_alloc (s := It (k0_t2.val - 1)) hs1) ?_
      refine f12 (y_start (s := It (k0_t2.val - 1)) 0 (by decide) ((ar_and1.trans (congrArg (· % 2) (ar_ivsub hi h1))).trans (par1 h1)) ((ar_and1.trans (congrArg (· % 2) (ar_ivsub hi h1))).trans (par1 h1)) rfl rfl (ar_row (E.hP _)) rfl) ?_
      refine f1 (it_load (k0_t2.val - 1) (ar_ivsub hi h1)) ?_
      refine as_ (t84 (hIt _)) ?_
      refine f2 (pm_load (It (k0_t2.val - 1)) 1 (hIt _) (by decide) (e0 (hIt _) (by decide)) (e1 (hIt _) (by decide))) ?_
      refine as_ (t85 (E.hP _)) ?_
      refine ret ?_
      refine bd ?_
      rw [k0_part33_eq_skeleton]
      unfold k0_part33_skel
      refine f12 (y_start (s := It (k0_t2.val - 1)) 1 (by decide) ((ar_and1.trans (congrArg (· % 2) (ar_ivsub hi h1))).trans (par1 h1)) ((ar_and1.trans (congrArg (· % 2) (ar_ivsub hi h1))).trans (par1 h1)) rfl rfl (ar_row (E.hP _)) rfl) ?_
      refine f1 (it_load (k0_t2.val - 1) (ar_ivsub hi h1)) ?_
      refine as_ (t86 (hIt _)) ?_
      refine f2 (pm_load (It (k0_t2.val - 1)) 2 (hIt _) (by decide) (e0 (hIt _) (by decide)) (e1 (hIt _) (by decide))) ?_
      refine as_ (t87 (E.hP _)) ?_
      refine f12 (y_start (s := It (k0_t2.val - 1)) 2 (by decide) ((ar_and1.trans (congrArg (· % 2) (ar_ivsub hi h1))).trans (par1 h1)) ((ar_and1.trans (congrArg (· % 2) (ar_ivsub hi h1))).trans (par1 h1)) rfl rfl (ar_row (E.hP _)) rfl) ?_
      refine f1 (it_load (k0_t2.val - 1) (ar_ivsub hi h1)) ?_
      refine as_ (t88 (hIt _)) ?_
      refine f2 (pm_load (It (k0_t2.val - 1)) 3 (hIt _) (by decide) (e0 (hIt _) (by decide)) (e1 (hIt _) (by decide))) ?_
      refine as_ (t89 (E.hP _)) ?_
      refine ret ?_
      refine bd ?_
      rw [k0_part34_eq_skeleton]
      unfold k0_part34_skel
      refine f12 (y_start (s := It (k0_t2.val - 1)) 3 (by decide) ((ar_and1.trans (congrArg (· % 2) (ar_ivsub hi h1))).trans (par1 h1)) ((ar_and1.trans (congrArg (· % 2) (ar_ivsub hi h1))).trans (par1 h1)) rfl rfl (ar_row (E.hP _)) rfl) ?_
      refine f1 (it_load (k0_t2.val - 1) (ar_ivsub hi h1)) ?_
      refine as_ (t90 (hIt _)) ?_
      refine f2 (pm_load (It (k0_t2.val - 1)) 4 (hIt _) (by decide) (e0 (hIt _) (by decide)) (e1 (hIt _) (by decide))) ?_
      refine as_ (t91 (E.hP _)) ?_
      refine f12 (y_start (s := It (k0_t2.val - 1)) 4 (by decide) ((ar_and1.trans (congrArg (· % 2) (ar_ivsub hi h1))).trans (par1 h1)) ((ar_and1.trans (congrArg (· % 2) (ar_ivsub hi h1))).trans (par1 h1)) rfl rfl (ar_row (E.hP _)) rfl) ?_
      refine f1 (it_load (k0_t2.val - 1) (ar_ivsub hi h1)) ?_
      refine as_ (t92 (hIt _)) ?_
      refine f2 (pm_load (It (k0_t2.val - 1)) 5 (hIt _) (by decide) (e0 (hIt _) (by decide)) (e1 (hIt _) (by decide))) ?_
      refine as_ (t93 (E.hP _)) ?_
      refine ret ?_
      refine bd ?_
      rw [k0_part35_eq_skeleton]
      unfold k0_part35_skel
      refine f12 (y_start (s := It (k0_t2.val - 1)) 5 (by decide) ((ar_and1.trans (congrArg (· % 2) (ar_ivsub hi h1))).trans (par1 h1)) ((ar_and1.trans (congrArg (· % 2) (ar_ivsub hi h1))).trans (par1 h1)) rfl rfl (ar_row (E.hP _)) rfl) ?_
      refine f1 (it_load (k0_t2.val - 1) (ar_ivsub hi h1)) ?_
      refine as_ (t94 (hIt _)) ?_
      refine f2 (pm_load (It (k0_t2.val - 1)) 6 (hIt _) (by decide) (e0 (hIt _) (by decide)) (e1 (hIt _) (by decide))) ?_
      refine as_ (t95 (E.hP _)) ?_
      refine f12 (y_start (s := It (k0_t2.val - 1)) 6 (by decide) ((ar_and1.trans (congrArg (· % 2) (ar_ivsub hi h1))).trans (par1 h1)) ((ar_and1.trans (congrArg (· % 2) (ar_ivsub hi h1))).trans (par1 h1)) rfl rfl (ar_row (E.hP _)) rfl) ?_
      refine f1 (it_load (k0_t2.val - 1) (ar_ivsub hi h1)) ?_
      refine as_ (t96 (hIt _)) ?_
      refine f2 (pm_load (It (k0_t2.val - 1)) 7 (hIt _) (by decide) (e0 (hIt _) (by decide)) (e1 (hIt _) (by decide))) ?_
      refine as_ (t97 (E.hP _)) ?_
      refine ret ?_
      refine f12 (y_start (s := It (k0_t2.val - 1)) 7 (by decide) ((ar_and1.trans (congrArg (· % 2) (ar_ivsub hi h1))).trans (par1 h1)) ((ar_and1.trans (congrArg (· % 2) (ar_ivsub hi h1))).trans (par1 h1)) rfl rfl (ar_row (E.hP _)) rfl) ?_
      rw [Finset.insert_erase (Finset.mem_range.mpr (hIt _)), hv]
      exact hj
    · refine dn (fun h => hh ((d4 hi).1 h)) ?_
      obtain ⟨hx, hc, hy1, hy2⟩ := h11' hh
      rw [hx, hc]
      rw [hy1, hy2] at hj
      exact hj
  clear_value jp1
  by_cases hh : k0_t2.val + 1 < n
  · refine dp ((d3 ha hn hi).2 hh) ?_
    obtain ⟨f, hx, rfl⟩ := h10 hh
    rw [hx]
    refine bd ?_
    rw [k0_part24_eq_skeleton]
    unfold k0_part24_skel
    refine f1 (it_load (k0_t2.val + 1) (ar_ivadd hi (by decide))) ?_
    refine as_ (t50 (hIt _)) ?_
    refine f2 (pm_load (It (k0_t2.val + 1)) 0 (hIt _) (by decide) (e0 (hIt _) (by decide)) (e1 (hIt _) (by decide))) ?_
    refine as_ (t51 (E.hP _)) ?_
    refine f10_6 (x_wait 0 (by decide) (ar_and1.trans (congrArg (· % 2) (ar_ivadd hi (by decide)))) am_x) ?_
    refine f1 (it_load (k0_t2.val + 1) (ar_ivadd hi (by decide))) ?_
    refine as_ (t52 (hIt _)) ?_
    refine f2 (pm_load (It (k0_t2.val + 1)) 1 (hIt _) (by decide) (e0 (hIt _) (by decide)) (e1 (hIt _) (by decide))) ?_
    refine as_ (t53 (E.hP _)) ?_
    refine ret ?_
    refine bd ?_
    rw [k0_part25_eq_skeleton]
    unfold k0_part25_skel
    refine f10_6 (x_wait 1 (by decide) (ar_and1.trans (congrArg (· % 2) (ar_ivadd hi (by decide)))) am_x) ?_
    refine f1 (it_load (k0_t2.val + 1) (ar_ivadd hi (by decide))) ?_
    refine as_ (t54 (hIt _)) ?_
    refine f2 (pm_load (It (k0_t2.val + 1)) 2 (hIt _) (by decide) (e0 (hIt _) (by decide)) (e1 (hIt _) (by decide))) ?_
    refine as_ (t55 (E.hP _)) ?_
    refine f10_6 (x_wait 2 (by decide) (ar_and1.trans (congrArg (· % 2) (ar_ivadd hi (by decide)))) am_x) ?_
    refine f1 (it_load (k0_t2.val + 1) (ar_ivadd hi (by decide))) ?_
    refine as_ (t56 (hIt _)) ?_
    refine f2 (pm_load (It (k0_t2.val + 1)) 3 (hIt _) (by decide) (e0 (hIt _) (by decide)) (e1 (hIt _) (by decide))) ?_
    refine as_ (t57 (E.hP _)) ?_
    refine ret ?_
    refine bd ?_
    rw [k0_part26_eq_skeleton]
    unfold k0_part26_skel
    refine f10_6 (x_wait 3 (by decide) (ar_and1.trans (congrArg (· % 2) (ar_ivadd hi (by decide)))) am_x) ?_
    refine f1 (it_load (k0_t2.val + 1) (ar_ivadd hi (by decide))) ?_
    refine as_ (t58 (hIt _)) ?_
    refine f2 (pm_load (It (k0_t2.val + 1)) 4 (hIt _) (by decide) (e0 (hIt _) (by decide)) (e1 (hIt _) (by decide))) ?_
    refine as_ (t59 (E.hP _)) ?_
    refine f10_6 (x_wait 4 (by decide) (ar_and1.trans (congrArg (· % 2) (ar_ivadd hi (by decide)))) am_x) ?_
    refine f1 (it_load (k0_t2.val + 1) (ar_ivadd hi (by decide))) ?_
    refine as_ (t60 (hIt _)) ?_
    refine f2 (pm_load (It (k0_t2.val + 1)) 5 (hIt _) (by decide) (e0 (hIt _) (by decide)) (e1 (hIt _) (by decide))) ?_
    refine as_ (t61 (E.hP _)) ?_
    refine ret ?_
    refine bd ?_
    rw [k0_part27_eq_skeleton]
    unfold k0_part27_skel
    refine f10_6 (x_wait 5 (by decide) (ar_and1.trans (congrArg (· % 2) (ar_ivadd hi (by decide)))) am_x) ?_
    refine f1 (it_load (k0_t2.val + 1) (ar_ivadd hi (by decide))) ?_
    refine as_ (t62 (hIt _)) ?_
    refine f2 (pm_load (It (k0_t2.val + 1)) 6 (hIt _) (by decide) (e0 (hIt _) (by decide)) (e1 (hIt _) (by decide))) ?_
    refine as_ (t63 (E.hP _)) ?_
    refine f10_6 (x_wait 6 (by decide) (ar_and1.trans (congrArg (· % 2) (ar_ivadd hi (by decide)))) am_x) ?_
    refine f1 (it_load (k0_t2.val + 1) (ar_ivadd hi (by decide))) ?_
    refine as_ (t64 (hIt _)) ?_
    refine f2 (pm_load (It (k0_t2.val + 1)) 7 (hIt _) (by decide) (e0 (hIt _) (by decide)) (e1 (hIt _) (by decide))) ?_
    refine as_ (t65 (E.hP _)) ?_
    refine ret ?_
    refine f10_6 (x_last (ar_and1.trans (congrArg (· % 2) (ar_ivadd hi (by decide)))) am_x) ?_
    exact hj
  · refine dn (fun h => hh ((d3 ha hn hi).1 h)) ?_
    rw [h10' hh]
    exact hj

end Cert.Proof.KernelIdeal
-- ==== Proof.A8.lean ====
module
public import proofs.«01_k».proof.Proof.A7
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable {E : Env F} {α : Type}
/-- The factor of the results at the running maxima `m`. -/
def yiOf (m : Vec F S8x128 .f32) : FVec F S1x1 .f32 := k0_pay55 (k0_pay49 m) k0_pay51 k0_pay52 (k0_pay53 m)
/-- The exponent at the running maxima `m`. -/
def exOf (m : Vec F S8x128 .f32) : BitVec 32 := extractAt ![0, 0, 0] (k0_pay56 (k0_pay49 m) (k0_pay51 (F := F)) k0_pay52 (k0_pay53 m)) inpos_S1x1x1_p0_0_0
/-- The running maxima after `t` tiles. -/
def mT (E : Env F) (cf : ℕ → ℕ → Elt F .fp8e4m3) (m : Vec F S8x128 .f32) : ℕ → Vec F S8x128 .f32
  | 0 => m
  | t + 1 => k0_pay64 E.ym (mT E cf m t) (cvec cf) (wl E (256 * t))
/-- The running maxima after a step. -/
def mF (E : Env F) (cf : ℕ → ℕ → Elt F .fp8e4m3) (m : Vec F S8x128 .f32) : Vec F S8x128 .f32 :=
  k0_pay414 (k0_pay228 E.ym (mT E cf m 34) (cvec cf) (wl E (256 * 34))) (k0_pay229 E.ym (cvec cf) (wl E (256 * 34)))

section
variable {Q : α → sProp (MT nD τ sig Unit (Elt F) ℕ (UD sig nD τ) ℕ)}
variable {A1 A2 A3 A4 A5 A6 A7 A8 A9 A10 A11 A12 A13 A14 A15 U T : sProp (MT nD τ sig Unit (Elt F) ℕ (UD sig nD τ) ℕ)}
theorem yd_pt {p : ℕ} {f : ℕ → ℕ → Elt F .fp8e4m3} {k : Vec F S1x1024x256 .fp8e4m3 → Prog (TpuEff nD τ sig (Elt F) Λ₀ .tc) α} {off : Fin 3 → ℕ} {h hl} (h0 : off 0 = p) :
    ∃ v, (YIdle E p f ⊢ iprop((YIdle E p f -∗ E.wp (k v) Q) -∗ E.wp (Prog.lift (.load (Memref.whole cc0_scratch3) (Rect.unit (s := S2x1024x8960) off S1x1024x256.size h).toLoadRect hl) >>= k) Q)) := by
  have hh : ∃ v, ((E.l cc0_scratch3 ↦[slY p]{fullShare} (sv f : Buf (Elt F) (E.l cc0_scratch3))) ⊢ iprop(((E.l cc0_scratch3 ↦[slY p]{fullShare} (sv f : Buf (Elt F) (E.l cc0_scratch3))) -∗ E.wp (k v) Q) -∗ E.wp (Prog.lift (.load (Memref.whole cc0_scratch3) (Rect.unit (s := S2x1024x8960) off S1x1024x256.size h).toLoadRect hl) >>= k) Q)) := ⟨_, wp_load (defs := defs₀ (F := F)) 𝒱₀ (E.c : Thread nD τ) none Set.univ (Γ := .empty) (Q := Q) (m := Memref.whole cc0_scratch3)
    (r := (Rect.unit (s := S2x1024x8960) off S1x1024x256.size h).toLoadRect) (hl := hl) (k := k) (q := fullShare) (f := (sv f : Buf (Elt F) (E.l cc0_scratch3))) (S := slY p) (fun i hi => ?_)⟩
  · obtain ⟨v, hh⟩ := hh
    refine ⟨v, ?_⟩
    unfold YIdle
    iintro ⟨H, HS⟩ Hk
    iapply hh $$ H
    iintro H
    iapply Hk
    isplitl [H]; · iexact H
    iexact HS
  · obtain ⟨j, hj, rfl⟩ := Finset.mem_map.mp hi
    have hc := (Rect.mem_set_unit (i := j)).mp hj 0
    change off 0 ≤ (j 0).val ∧ (j 0).val < off 0 + 1 at hc
    exact Finset.mem_filter.mpr ⟨Finset.mem_univ _, (show (j 0).val = p by omega)⟩
theorem cd_pt {p : ℕ} {f : ℕ → ℕ → Elt F .fp8e4m3} {k : Vec F S1x32x1536 .fp8e4m3 → Prog (TpuEff nD τ sig (Elt F) Λ₀ .tc) α} {off : Fin 3 → ℕ} {h hl} (h0 : off 0 = p) :
    ∃ v, (CIdle E p f ⊢ iprop((CIdle E p f -∗ E.wp (k v) Q) -∗ E.wp (Prog.lift (.load (Memref.whole cc0_scratch2) (Rect.unit (s := S2x1024x1536) off S1x32x1536.size h).toLoadRect hl) >>= k) Q)) := by
  have hh : ∃ v, ((E.l cc0_scratch2 ↦[slX p]{fullShare} (sv f : Buf (Elt F) (E.l cc0_scratch2))) ⊢ iprop(((E.l cc0_scratch2 ↦[slX p]{fullShare} (sv f : Buf (Elt F) (E.l cc0_scratch2))) -∗ E.wp (k v) Q) -∗ E.wp (Prog.lift (.load (Memref.whole cc0_scratch2) (Rect.unit (s := S2x1024x1536) off S1x32x1536.size h).toLoadRect hl) >>= k) Q)) := ⟨_, wp_load (defs := defs₀ (F := F)) 𝒱₀ (E.c : Thread nD τ) none Set.univ (Γ := .empty) (Q := Q) (m := Memref.whole cc0_scratch2)
    (r := (Rect.unit (s := S2x1024x1536) off S1x32x1536.size h).toLoadRect) (hl := hl) (k := k) (q := fullShare) (f := (sv f : Buf (Elt F) (E.l cc0_scratch2))) (S := slX p) (fun i hi => ?_)⟩
  · obtain ⟨v, hh⟩ := hh
    refine ⟨v, ?_⟩
    unfold CIdle
    iintro ⟨H, HS⟩ Hk
    iapply hh $$ H
    iintro H
    iapply Hk
    isplitl [H]; · iexact H
    iexact HS
  · obtain ⟨j, hj, rfl⟩ := Finset.mem_map.mp hi
    have hc := (Rect.mem_set_unit (i := j)).mp hj 0
    change off 0 ≤ (j 0).val ∧ (j 0).val < off 0 + 1 at hc
    exact Finset.mem_filter.mpr ⟨Finset.mem_univ _, (show (j 0).val = p by omega)⟩
/-- A read of the results' buffer whose value does not matter. -/
theorem yd9 {p : ℕ} {f : ℕ → ℕ → Elt F .fp8e4m3} {k : Vec F S1x1024x256 .fp8e4m3 → Prog (TpuEff nD τ sig (Elt F) Λ₀ .tc) α} {off : Fin 3 → ℕ} {h hl} (h0 : off 0 = p)
    (hk : ∀ v, St A1 A2 A3 A4 A5 A6 A7 A8 (YIdle E p f) A10 A11 A12 A13 A14 A15 ⊢ E.wp (k v) Q) :
    St A1 A2 A3 A4 A5 A6 A7 A8 (YIdle E p f) A10 A11 A12 A13 A14 A15 ⊢ E.wp (Prog.lift (.load (Memref.whole cc0_scratch3) (Rect.unit (s := S2x1024x8960) off S1x1024x256.size h).toLoadRect hl) >>= k) Q := by
  obtain ⟨v, hv⟩ := yd_pt (E := E) (f := f) (k := k) (h := h) (hl := hl) (Q := Q) h0
  exact f9 hv (hk v)
/-- A read of the codes' buffer whose value does not matter. -/
theorem cd11 {p : ℕ} {f : ℕ → ℕ → Elt F .fp8e4m3} {k : Vec F S1x32x1536 .fp8e4m3 → Prog (TpuEff nD τ sig (Elt F) Λ₀ .tc) α} {off : Fin 3 → ℕ} {h hl} (h0 : off 0 = p)
    (hk : ∀ v, St A1 A2 A3 A4 A5 A6 A7 A8 A9 A10 (CIdle E p f) A12 A13 A14 A15 ⊢ E.wp (k v) Q) :
    St A1 A2 A3 A4 A5 A6 A7 A8 A9 A10 (CIdle E p f) A12 A13 A14 A15 ⊢ E.wp (Prog.lift (.load (Memref.whole cc0_scratch2) (Rect.unit (s := S2x1024x1536) off S1x32x1536.size h).toLoadRect hl) >>= k) Q := by
  obtain ⟨v, hv⟩ := cd_pt (E := E) (f := f) (k := k) (h := h) (hl := hl) (Q := Q) h0
  exact f11 hv (hk v)
end

end Cert.Proof.KernelIdeal
-- ==== Proof.B2.lean ====
module
public import proofs.«01_k».proof.Proof.A8
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable {E : Env F} {arg24 : BitVec 32} {k0_hw49 : k0_chk49 arg24} {k0_t2 : Fin (k0_t2_loop arg24).trips} {i n : ℕ} {It : ℕ → ℕ}
  {A3 A4 A5 A7 A8 A9 A10 A11 A12 A13 A14 A15 B14 : sProp (MT nD τ sig Unit (Elt F) ℕ (UD sig nD τ) ℕ)}

/-- Part 45 of a step: copies started and awaited. -/
theorem p45 (ht : k0_t2.val = i) (ha : arg24.toNat = n) (hn : n ≤ 40) (hi : i < 40) (hIt : ∀ k, It k < 40) {arg25 : BitVec 32} {cc cv : ℕ → ℕ → Elt F .fp8e4m3} {k0_hw116 : k0_chk116 (BitVec.ofNat 32 (It i))} {v301 v302 : BitVec 32} {Q : _ → sProp 𝕄}
    (hQ : St (Items E (fun k => BitVec.ofNat 32 (It k))) (Perm E) A3 A4 A5 (Ow E.c) A7 (CFly E (i % 2) cc cv (It i) 3 0) A9 A10 A11 A12 A13 A14 A15 ⊢ Q ⟨(BitVec.ofNat 32 (It i)), (t120 (hIt _)), (Scalar.addi (Scalar.muli (BitVec.ofNat 32 (It i)) 8#32) 3#32), (Scalar.shrui (Scalar.addi (Scalar.muli (BitVec.ofNat 32 (It i)) 8#32) 3#32) 7#32)⟩) :
    St (Items E (fun k => BitVec.ofNat 32 (It k))) (Perm E) A3 A4 A5 (Ow E.c) A7 (CFly E (i % 2) cc cv (It i) 1 0) A9 A10 A11 A12 A13 A14 A15 ⊢ E.wp (k0_part45 (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 arg24 k0_hw49 k0_t2 arg25 (BitVec.ofNat 32 (It i)) k0_hw116 v301 v302) Q := by
  subst ht
  rw [k0_part45_eq_skeleton]
  unfold k0_part45_skel
  refine f2 (pm_load (It k0_t2.val) 1 (hIt _) (by decide) (e0 (hIt _) (by decide)) (e1 (hIt _) (by decide))) ?_
  refine as_ (t117 (E.hP _)) ?_
  refine f8 (c_start (s := It k0_t2.val) 1 (by decide) (ar_and1.trans (congrArg (· % 2) (ar_iv hi))) (ar_and1.trans (congrArg (· % 2) (ar_iv hi))) rfl rfl (ar_row (E.hP _)) rfl) ?_
  refine f1 (it_load k0_t2.val (ar_iv hi)) ?_
  refine as_ (t118 (hIt _)) ?_
  refine f2 (pm_load (It k0_t2.val) 2 (hIt _) (by decide) (e0 (hIt _) (by decide)) (e1 (hIt _) (by decide))) ?_
  refine as_ (t119 (E.hP _)) ?_
  refine f8 (c_start (s := It k0_t2.val) 2 (by decide) (ar_and1.trans (congrArg (· % 2) (ar_iv hi))) (ar_and1.trans (congrArg (· % 2) (ar_iv hi))) rfl rfl (ar_row (E.hP _)) rfl) ?_
  refine f1 (it_load k0_t2.val (ar_iv hi)) ?_
  refine as_ (t120 (hIt _)) ?_
  exact ret hQ

/-- Part 46 of a step: copies started and awaited. -/
theorem p46 (ht : k0_t2.val = i) (ha : arg24.toNat = n) (hn : n ≤ 40) (hi : i < 40) (hIt : ∀ k, It k < 40) {arg25 : BitVec 32} {cc cv : ℕ → ℕ → Elt F .fp8e4m3} {k0_hw120 : k0_chk120 (BitVec.ofNat 32 (It i))} {v335 v336 : BitVec 32} {Q : _ → sProp 𝕄}
    (hQ : St (Items E (fun k => BitVec.ofNat 32 (It k))) (Perm E) A3 A4 A5 (Ow E.c) A7 (CFly E (i % 2) cc cv (It i) 5 0) A9 A10 A11 A12 A13 A14 A15 ⊢ Q ⟨(BitVec.ofNat 32 (It i)), (t124 (hIt _)), (Scalar.addi (Scalar.muli (BitVec.ofNat 32 (It i)) 8#32) 5#32), (Scalar.shrui (Scalar.addi (Scalar.muli (BitVec.ofNat 32 (It i)) 8#32) 5#32) 7#32)⟩) :
    St (Items E (fun k => BitVec.ofNat 32 (It k))) (Perm E) A3 A4 A5 (Ow E.c) A7 (CFly E (i % 2) cc cv (It i) 3 0) A9 A10 A11 A12 A13 A14 A15 ⊢ E.wp (k0_part46 (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 arg24 k0_hw49 k0_t2 arg25 (BitVec.ofNat 32 (It i)) k0_hw120 v335 v336) Q := by
  subst ht
  rw [k0_part46_eq_skeleton]
  unfold k0_part46_skel
  refine f2 (pm_load (It k0_t2.val) 3 (hIt _) (by decide) (e0 (hIt _) (by decide)) (e1 (hIt _) (by decide))) ?_
  refine as_ (t121 (E.hP _)) ?_
  refine f8 (c_start (s := It k0_t2.val) 3 (by decide) (ar_and1.trans (congrArg (· % 2) (ar_iv hi))) (ar_and1.trans (congrArg (· % 2) (ar_iv hi))) rfl rfl (ar_row (E.hP _)) rfl) ?_
  refine f1 (it_load k0_t2.val (ar_iv hi)) ?_
  refine as_ (t122 (hIt _)) ?_
  refine f2 (pm_load (It k0_t2.val) 4 (hIt _) (by decide) (e0 (hIt _) (by decide)) (e1 (hIt _) (by decide))) ?_
  refine as_ (t123 (E.hP _)) ?_
  refine f8 (c_start (s := It k0_t2.val) 4 (by decide) (ar_and1.trans (congrArg (· % 2) (ar_iv hi))) (ar_and1.trans (congrArg (· % 2) (ar_iv hi))) rfl rfl (ar_row (E.hP _)) rfl) ?_
  refine f1 (it_load k0_t2.val (ar_iv hi)) ?_
  refine as_ (t124 (hIt _)) ?_
  exact ret hQ

/-- Part 47 of a step: copies started and awaited. -/
theorem p47 (ht : k0_t2.val = i) (ha : arg24.toNat = n) (hn : n ≤ 40) (hi : i < 40) (hIt : ∀ k, It k < 40) {arg25 : BitVec 32} {cc cv : ℕ → ℕ → Elt F .fp8e4m3} {k0_hw124 : k0_chk124 (BitVec.ofNat 32 (It i))} {v369 v370 : BitVec 32} {Q : _ → sProp 𝕄}
    (hQ : St (Items E (fun k => BitVec.ofNat 32 (It k))) (Perm E) A3 A4 A5 (Ow E.c) A7 (CFly E (i % 2) cc cv (It i) 7 0) A9 A10 A11 A12 A13 A14 A15 ⊢ Q ⟨(BitVec.ofNat 32 (It i)), (t128 (hIt _)), (Scalar.addi (Scalar.muli (BitVec.ofNat 32 (It i)) 8#32) 7#32), (Scalar.shrui (Scalar.addi (Scalar.muli (BitVec.ofNat 32 (It i)) 8#32) 7#32) 7#32)⟩) :
    St (Items E (fun k => BitVec.ofNat 32 (It k))) (Perm E) A3 A4 A5 (Ow E.c) A7 (CFly E (i % 2) cc cv (It i) 5 0) A9 A10 A11 A12 A13 A14 A15 ⊢ E.wp (k0_part47 (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 arg24 k0_hw49 k0_t2 arg25 (BitVec.ofNat 32 (It i)) k0_hw124 v369 v370) Q := by
  subst ht
  rw [k0_part47_eq_skeleton]
  unfold k0_part47_skel
  refine f2 (pm_load (It k0_t2.val) 5 (hIt _) (by decide) (e0 (hIt _) (by decide)) (e1 (hIt _) (by decide))) ?_
  refine as_ (t125 (E.hP _)) ?_
  refine f8 (c_start (s := It k0_t2.val) 5 (by decide) (ar_and1.trans (congrArg (· % 2) (ar_iv hi))) (ar_and1.trans (congrArg (· % 2) (ar_iv hi))) rfl rfl (ar_row (E.hP _)) rfl) ?_
  refine f1 (it_load k0_t2.val (ar_iv hi)) ?_
  refine as_ (t126 (hIt _)) ?_
  refine f2 (pm_load (It k0_t2.val) 6 (hIt _) (by decide) (e0 (hIt _) (by decide)) (e1 (hIt _) (by decide))) ?_
  refine as_ (t127 (E.hP _)) ?_
  refine f8 (c_start (s := It k0_t2.val) 6 (by decide) (ar_and1.trans (congrArg (· % 2) (ar_iv hi))) (ar_and1.trans (congrArg (· % 2) (ar_iv hi))) rfl rfl (ar_row (E.hP _)) rfl) ?_
  refine f1 (it_load k0_t2.val (ar_iv hi)) ?_
  refine as_ (t128 (hIt _)) ?_
  exact ret hQ

/-- Part 48 of a step: copies started and awaited. -/
theorem p48 (ht : k0_t2.val = i) (ha : arg24.toNat = n) (hn : n ≤ 40) (hi : i < 40) (hIt : ∀ k, It k < 40) {arg25 : BitVec 32} {cc cv : ℕ → ℕ → Elt F .fp8e4m3} {k0_hw128 : k0_chk128 (BitVec.ofNat 32 (It i))} {v403 v404 : BitVec 32} {m : Vec F S8x128 .f32} {yb : ℕ → ℕ → Elt F .fp8e4m3} {Q : _ → sProp 𝕄}
  (h9 : 1 < i → ∃ v S1 yw, A9 = YFly E (i % 2) yb v (It (i - 2)) 8 0 ∧ A14 = YH E S1 yw ∧ It (i - 2) ∉ S1 ∧ B14 = YH E (insert (It (i - 2)) S1) (Function.update yw (It (i - 2)) yb))
  (h9' : ¬ 1 < i → A9 = YIdle E (i % 2) yb ∧ A14 = B14)
    (hQ : St (Items E (fun k => BitVec.ofNat 32 (It k))) (Perm E) A3 (Mb E m) A5 (Ow E.c) A7 (CFly E (i % 2) cc cv (It i) 8 0) (YIdle E (i % 2) yb) A10 A11 A12 A13 B14 A15 ⊢ Q ⟨k0_pay49 m, k0_pay51 (F := F), k0_pay52, k0_pay53 m⟩) :
    St (Items E (fun k => BitVec.ofNat 32 (It k))) (Perm E) A3 (Mb E m) A5 (Ow E.c) A7 (CFly E (i % 2) cc cv (It i) 7 0) A9 A10 A11 A12 A13 A14 A15 ⊢ E.wp (k0_part48 (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 arg24 k0_hw49 k0_t2 arg25 (BitVec.ofNat 32 (It i)) k0_hw128 v403 v404) Q := by
  subst ht
  rw [k0_part48_eq_skeleton]
  unfold k0_part48_skel
  refine f2 (pm_load (It k0_t2.val) 7 (hIt _) (by decide) (e0 (hIt _) (by decide)) (e1 (hIt _) (by decide))) ?_
  refine as_ (t129 (E.hP _)) ?_
  refine f8 (c_start (s := It k0_t2.val) 7 (by decide) (ar_and1.trans (congrArg (· % 2) (ar_iv hi))) (ar_and1.trans (congrArg (· % 2) (ar_iv hi))) rfl rfl (ar_row (E.hP _)) rfl) ?_
  beta_reduce
  extract_lets -underBinder -merge jp1
  have hj : St (Items E (fun k => BitVec.ofNat 32 (It k))) (Perm E) A3 (Mb E m) A5 (Ow E.c) A7 (CFly E (k0_t2.val % 2) cc cv (It k0_t2.val) 8 0) (YIdle E (k0_t2.val % 2) yb) A10 A11 A12 A13 B14 A15 ⊢ E.wp (jp1 ⟨⟩) Q := ?_
  swap
  · subst jp1
    refine f4 m_load ?_
    exact ret hQ
  clear_value jp1
  by_cases hh : 1 < k0_t2.val
  · refine dp ((d6 hi).2 hh) ?_
    have h2 : 2 ≤ k0_t2.val := hh
    obtain ⟨v, S1, yw, hx, hs, hs2, hy⟩ := h9 hh
    rw [hx, hs]
    refine bd ?_
    rw [k0_part40_eq_skeleton]
    unfold k0_part40_skel
    refine f1 (it_load (k0_t2.val - 2) (ar_ivsub hi h2)) ?_
    refine as_ (t130 (hIt _)) ?_
    refine f2 (pm_load (It (k0_t2.val - 2)) 0 (hIt _) (by decide) (e0 (hIt _) (by decide)) (e1 (hIt _) (by decide))) ?_
    refine as_ (t131 (E.hP _)) ?_
    refine f9_6 (y_wait 0 (by decide) ((ar_and1.trans (congrArg (· % 2) (ar_ivsub hi h2))).trans (parm2 h2)) am_y) ?_
    refine f1 (it_load (k0_t2.val - 2) (ar_ivsub hi h2)) ?_
    refine as_ (t132 (hIt _)) ?_
    refine f2 (pm_load (It (k0_t2.val - 2)) 1 (hIt _) (by decide) (e0 (hIt _) (by decide)) (e1 (hIt _) (by decide))) ?_
    refine as_ (t133 (E.hP _)) ?_
    refine ret ?_
    refine bd ?_
    rw [k0_part41_eq_skeleton]
    unfold k0_part41_skel
    refine f9_6 (y_wait 1 (by decide) ((ar_and1.trans (congrArg (· % 2) (ar_ivsub hi h2))).trans (parm2 h2)) am_y) ?_
    refine f1 (it_load (k0_t2.val - 2) (ar_ivsub hi h2)) ?_
    refine as_ (t134 (hIt _)) ?_
    refine f2 (pm_load (It (k0_t2.val - 2)) 2 (hIt _) (by decide) (e0 (hIt _) (by decide)) (e1 (hIt _) (by decide))) ?_
    refine as_ (t135 (E.hP _)) ?_
    refine f9_6 (y_wait 2 (by decide) ((ar_and1.trans (congrArg (· % 2) (ar_ivsub hi h2))).trans (parm2 h2)) am_y) ?_
    refine f1 (it_load (k0_t2.val - 2) (ar_ivsub hi h2)) ?_
    refine as_ (t136 (hIt _)) ?_
    refine f2 (pm_load (It (k0_t2.val - 2)) 3 (hIt _) (by decide) (e0 (hIt _) (by decide)) (e1 (hIt _) (by decide))) ?_
    refine as_ (t137 (E.hP _)) ?_
    refine ret ?_
    refine bd ?_
    rw [k0_part42_eq_skeleton]
    unfold k0_part42_skel
    refine f9_6 (y_wait 3 (by decide) ((ar_and1.trans (congrArg (· % 2) (ar_ivsub hi h2))).trans (parm2 h2)) am_y) ?_
    refine f1 (it_load (k0_t2.val - 2) (ar_ivsub hi h2)) ?_
    refine as_ (t138 (hIt _)) ?_
    refine f2 (pm_load (It (k0_t2.val - 2)) 4 (hIt _) (by decide) (e0 (hIt _) (by decide)) (e1 (hIt _) (by decide))) ?_
    refine as_ (t139 (E.hP _)) ?_
    refine f9_6 (y_wait 4 (by decide) ((ar_and1.trans (congrArg (· % 2) (ar_ivsub hi h2))).trans (parm2 h2)) am_y) ?_
    refine f1 (it_load (k0_t2.val - 2) (ar_ivsub hi h2)) ?_
    refine as_ (t140 (hIt _)) ?_
    refine f2 (pm_load (It (k0_t2.val - 2)) 5 (hIt _) (by decide) (e0 (hIt _) (by decide)) (e1 (hIt _) (by decide))) ?_
    refine as_ (t141 (E.hP _)) ?_
    refine ret ?_
    refine bd ?_
    rw [k0_part43_eq_skeleton]
    unfold k0_part43_skel
    refine f9_6 (y_wait 5 (by decide) ((ar_and1.trans (congrArg (· % 2) (ar_ivsub hi h2))).trans (parm2 h2)) am_y) ?_
    refine f1 (it_load (k0_t2.val - 2) (ar_ivsub hi h2)) ?_
    refine as_ (t142 (hIt _)) ?_
    refine f2 (pm_load (It (k0_t2.val - 2)) 6 (hIt _) (by decide) (e0 (hIt _) (by decide)) (e1 (hIt _) (by decide))) ?_
    refine as_ (t143 (E.hP _)) ?_
    refine f9_6 (y_wait 6 (by decide) ((ar_and1.trans (congrArg (· % 2) (ar_ivsub hi h2))).trans (parm2 h2)) am_y) ?_
    refine f1 (it_load (k0_t2.val - 2) (ar_ivsub hi h2)) ?_
    refine as_ (t144 (hIt _)) ?_
    refine f2 (pm_load (It (k0_t2.val - 2)) 7 (hIt _) (by decide) (e0 (hIt _) (by decide)) (e1 (hIt _) (by decide))) ?_
    refine as_ (t145 (E.hP _)) ?_
    refine ret ?_
    refine f9_14_6 (y_last hs2 ((ar_and1.trans (congrArg (· % 2) (ar_ivsub hi h2))).trans (parm2 h2)) am_y) ?_
    rw [hy] at hj
    exact hj
  · refine dn (fun h => hh ((d6 hi).1 h)) ?_
    obtain ⟨hx, hs⟩ := h9' hh
    rw [hx, hs]
    exact hj

end Cert.Proof.KernelIdeal
-- ==== Proof.B3.lean ====
module
public import proofs.«01_k».proof.Proof.B1
public import proofs.«01_k».proof.Proof.B2
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable {E : Env F} {arg24 : BitVec 32} {k0_hw49 : k0_chk49 arg24} {k0_t2 : Fin (k0_t2_loop arg24).trips} {i n : ℕ} {It : ℕ → ℕ}
  {A3 A4 A5 A7 A8 A9 A10 A11 A12 A13 A14 A15 B14 : sProp (MT nD τ sig Unit (Elt F) ℕ (UD sig nD τ) ℕ)}

/-- One step: the tiles of the results and the codes of the next item. -/
theorem step (ht : k0_t2.val = i) (ha : arg24.toNat = n) (hn : n ≤ 40) (hi : i < 40) (hIt : ∀ k, It k < 40) {us : ℕ → BitVec 32} {m : Vec F S8x128 .f32} {xc xn : ℕ → ℕ → Elt F .bf16} {cc cp yp yb : ℕ → ℕ → Elt F .fp8e4m3} {yv cv : ℕ → ℕ → ℕ → Elt F .fp8e4m3} {S0 : Finset ℕ} {B7 B12 C14 : sProp 𝕄} {k0_t1 : Fin k0_t1_loop.trips} {a b : BitVec 32} {Q : _ → sProp 𝕄}
    (h10 : i + 1 < n → ∃ f, A10 = XFly E ((i + 1) % 2) f (It (i + 1)) 8 0 ∧ E.XV (It (i + 1)) = xn) (h10' : ¬ i + 1 < n → A10 = XIdle E ((i + 1) % 2) xn)
    (h11 : 0 < i → ∃ cw v, A11 = CFly E ((i + 1) % 2) cp v (It (i - 1)) 8 0 ∧ A13 = CH E ((Finset.range 40).erase (It (i - 1))) cw ∧ Function.update cw (It (i - 1)) cp = cv ∧ It (i - 1) ∈ S0 ∧ B12 = YFly E ((i + 1) % 2) yp (yv (It (i - 1))) (It (i - 1)) 8 0 ∧ B14 = YH E (S0.erase (It (i - 1))) yv)
    (h11' : ¬ 0 < i → A11 = CIdle E ((i + 1) % 2) cp ∧ A13 = CH E (Finset.range 40) cv ∧ B12 = YIdle E ((i + 1) % 2) yp ∧ B14 = YH E S0 yv)
    (h7 : i + 2 < n → B7 = XFly E (i % 2) xc (It (i + 2)) 8 0) (h7' : ¬ i + 2 < n → B7 = XIdle E (i % 2) xc)
    (h9 : 1 < i → ∃ v S1 yw, A9 = YFly E (i % 2) yb v (It (i - 2)) 8 0 ∧ B14 = YH E S1 yw ∧ It (i - 2) ∉ S1 ∧ C14 = YH E (insert (It (i - 2)) S1) (Function.update yw (It (i - 2)) yb))
    (h9' : ¬ 1 < i → A9 = YIdle E (i % 2) yb ∧ B14 = C14)
    (hQ : St (Items E (fun k => BitVec.ofNat 32 (It k))) (Perm E) (Used E (Function.update us (It i) (exOf m))) (Mb E (mF E cc m)) (Wb E) (Ow E.c) B7 (CFly E (i % 2) cc (cv (It i)) (It i) 8 0) (YIdle E (i % 2) (ytv E (yiOf m) cc)) (XIdle E ((i + 1) % 2) xn) (CIdle E ((i + 1) % 2) (cqv E xn)) B12 (CH E ((Finset.range 40).erase (It i)) cv) C14 A15 ⊢ Q ⟨⟩) :
    St (Items E (fun k => BitVec.ofNat 32 (It k))) (Perm E) (Used E us) (Mb E m) (Wb E) (Ow E.c) (XIdle E (i % 2) xc) (CIdle E (i % 2) cc) A9 A10 A11 (YIdle E ((i + 1) % 2) yp) A13 (YH E S0 yv) A15 ⊢ E.wp (k0_t2_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.ym E.xi a b k0_t1 arg24 k0_hw49 k0_t2 ⟨⟩) Q := by
  subst ht
  rw [← Yq_zero (E := E) (yi := yiOf m) (cf := cc) (f := yb)] at h9 h9'
  rw [← Cq_zero (E := E) (x := xn) (f := cp)] at h11 h11'
  rw [← YIdle_full (yi := yiOf m) (cf := cc) (f := yb), ← CIdle_full (x := xn) (f := cp)] at hQ
  unfold k0_t2_body
  refine bd ?_
  rw [k0_part88_eq_skeleton]
  unfold k0_part88_skel
  refine bd (p44 rfl ha hn hi hIt h10 h10' h11 h11' h7 h7' ?_)
  beta_reduce
  refine bd (p45 rfl ha hn hi hIt ?_)
  refine bd (p46 rfl ha hn hi hIt ?_)
  refine bd (p47 rfl ha hn hi hIt ?_)
  refine bd (p48 rfl ha hn hi hIt h9 h9' ?_)
  refine bd ?_
  rw [k0_part49_eq_skeleton]
  unfold k0_part49_skel
  refine f1 (it_load k0_t2.val (ar_iv hi)) ?_
  refine as_ (t146 (hIt _)) ?_
  refine f3 (us_load (It k0_t2.val) (by show (BitVec.ofNat 32 (It _)).toNat = _; have := hIt k0_t2.val; simp; omega)) ?_
  refine f3 (us_store (It k0_t2.val) (by show (BitVec.ofNat 32 (It _)).toNat = _; have := hIt k0_t2.val; simp; omega)) ?_
  refine f4 m_load ?_
  refine f8 (cf_load (ar_and1.trans (congrArg (· % 2) (ar_iv hi))) rfl rfl) ?_
  refine f5 (w_load (256 * 0) rfl rfl) ?_
  refine ret ?_
  refine bd ?_
  rw [k0_part50_eq_skeleton]
  unfold k0_part50_skel
  refine yd9 (ar_and1.trans (congrArg (· % 2) (ar_iv hi))) (fun _ => ?_)
  refine f9 (ys_store (t := 0) (ar_and1.trans (congrArg (· % 2) (ar_iv hi))) rfl rfl rfl) ?_
  refine f10 (x_load (32 * 0) (ar_and1.trans (congrArg (· % 2) (ar_ivadd hi (by decide)))) rfl rfl) ?_
  refine cd11 (ar_and1.trans (congrArg (· % 2) (ar_ivadd hi (by decide)))) (fun _ => ?_)
  refine f11 (cs_store (t := 0) (ar_and1.trans (congrArg (· % 2) (ar_ivadd hi (by decide)))) rfl rfl rfl) ?_
  refine ret ?_
  refine bd ?_
  rw [k0_part51_eq_skeleton]
  unfold k0_part51_skel
  refine f8 (cf_load (ar_and1.trans (congrArg (· % 2) (ar_iv hi))) rfl rfl) ?_
  refine f5 (w_load (256 * 1) rfl rfl) ?_
  refine yd9 (ar_and1.trans (congrArg (· % 2) (ar_iv hi))) (fun _ => ?_)
  refine f9 (ys_store (t := 1) (ar_and1.trans (congrArg (· % 2) (ar_iv hi))) rfl rfl rfl) ?_
  refine f10 (x_load (32 * 1) (ar_and1.trans (congrArg (· % 2) (ar_ivadd hi (by decide)))) rfl rfl) ?_
  refine ret ?_
  refine bd ?_
  rw [k0_part52_eq_skeleton]
  unfold k0_part52_skel
  refine cd11 (ar_and1.trans (congrArg (· % 2) (ar_ivadd hi (by decide)))) (fun _ => ?_)
  refine f11 (cs_store (t := 1) (ar_and1.trans (congrArg (· % 2) (ar_ivadd hi (by decide)))) rfl rfl rfl) ?_
  refine f8 (cf_load (ar_and1.trans (congrArg (· % 2) (ar_iv hi))) rfl rfl) ?_
  refine f5 (w_load (256 * 2) rfl rfl) ?_
  refine yd9 (ar_and1.trans (congrArg (· % 2) (ar_iv hi))) (fun _ => ?_)
  refine f9 (ys_store (t := 2) (ar_and1.trans (congrArg (· % 2) (ar_iv hi))) rfl rfl rfl) ?_
  refine f10 (x_load (32 * 2) (ar_and1.trans (congrArg (· % 2) (ar_ivadd hi (by decide)))) rfl rfl) ?_
  refine ret ?_
  refine bd ?_
  rw [k0_part53_eq_skeleton]
  unfold k0_part53_skel
  refine cd11 (ar_and1.trans (congrArg (· % 2) (ar_ivadd hi (by decide)))) (fun _ => ?_)
  refine f11 (cs_store (t := 2) (ar_and1.trans (congrArg (· % 2) (ar_ivadd hi (by decide)))) rfl rfl rfl) ?_
  refine f8 (cf_load (ar_and1.trans (congrArg (· % 2) (ar_iv hi))) rfl rfl) ?_
  refine f5 (w_load (256 * 3) rfl rfl) ?_
  refine yd9 (ar_and1.trans (congrArg (· % 2) (ar_iv hi))) (fun _ => ?_)
  refine f9 (ys_store (t := 3) (ar_and1.trans (congrArg (· % 2) (ar_iv hi))) rfl rfl rfl) ?_
  refine ret ?_
  refine bd ?_
  rw [k0_part54_eq_skeleton]
  unfold k0_part54_skel
  refine f10 (x_load (32 * 3) (ar_and1.trans (congrArg (· % 2) (ar_ivadd hi (by decide)))) rfl rfl) ?_
  refine cd11 (ar_and1.trans (congrArg (· % 2) (ar_ivadd hi (by decide)))) (fun _ => ?_)
  refine f11 (cs_store (t := 3) (ar_and1.trans (congrArg (· % 2) (ar_ivadd hi (by decide)))) rfl rfl rfl) ?_
  refine f8 (cf_load (ar_and1.trans (congrArg (· % 2) (ar_iv hi))) rfl rfl) ?_
  refine f5 (w_load (256 * 4) rfl rfl) ?_
  refine yd9 (ar_and1.trans (congrArg (· % 2) (ar_iv hi))) (fun _ => ?_)
  refine ret ?_
  refine bd ?_
  rw [k0_part55_eq_skeleton]
  unfold k0_part55_skel
  refine f9 (ys_store (t := 4) (ar_and1.trans (congrArg (· % 2) (ar_iv hi))) rfl rfl rfl) ?_
  refine f10 (x_load (32 * 4) (ar_and1.trans (congrArg (· % 2) (ar_ivadd hi (by decide)))) rfl rfl) ?_
  refine cd11 (ar_and1.trans (congrArg (· % 2) (ar_ivadd hi (by decide)))) (fun _ => ?_)
  refine f11 (cs_store (t := 4) (ar_and1.trans (congrArg (· % 2) (ar_ivadd hi (by decide)))) rfl rfl rfl) ?_
  refine f8 (cf_load (ar_and1.trans (congrArg (· % 2) (ar_iv hi))) rfl rfl) ?_
  refine f5 (w_load (256 * 5) rfl rfl) ?_
  refine ret ?_
  refine bd ?_
  rw [k0_part56_eq_skeleton]
  unfold k0_part56_skel
  refine yd9 (ar_and1.trans (congrArg (· % 2) (ar_iv hi))) (fun _ => ?_)
  refine f9 (ys_store (t := 5) (ar_and1.trans (congrArg (· % 2) (ar_iv hi))) rfl rfl rfl) ?_
  refine f10 (x_load (32 * 5) (ar_and1.trans (congrArg (· % 2) (ar_ivadd hi (by decide)))) rfl rfl) ?_
  refine cd11 (ar_and1.trans (congrArg (· % 2) (ar_ivadd hi (by decide)))) (fun _ => ?_)
  refine f11 (cs_store (t := 5) (ar_and1.trans (congrArg (· % 2) (ar_ivadd hi (by decide)))) rfl rfl rfl) ?_
  refine f8 (cf_load (ar_and1.trans (congrArg (· % 2) (ar_iv hi))) rfl rfl) ?_
  refine f5 (w_load (256 * 6) rfl rfl) ?_
  refine ret ?_
  refine bd ?_
  rw [k0_part57_eq_skeleton]
  unfold k0_part57_skel
  refine yd9 (ar_and1.trans (congrArg (· % 2) (ar_iv hi))) (fun _ => ?_)
  refine f9 (ys_store (t := 6) (ar_and1.trans (congrArg (· % 2) (ar_iv hi))) rfl rfl rfl) ?_
  refine f10 (x_load (32 * 6) (ar_and1.trans (congrArg (· % 2) (ar_ivadd hi (by decide)))) rfl rfl) ?_
  refine cd11 (ar_and1.trans (congrArg (· % 2) (ar_ivadd hi (by decide)))) (fun _ => ?_)
  refine f11 (cs_store (t := 6) (ar_and1.trans (congrArg (· % 2) (ar_ivadd hi (by decide)))) rfl rfl rfl) ?_
  refine f8 (cf_load (ar_and1.trans (congrArg (· % 2) (ar_iv hi))) rfl rfl) ?_
  refine f5 (w_load (256 * 7) rfl rfl) ?_
  refine ret ?_
  refine bd ?_
  rw [k0_part58_eq_skeleton]
  unfold k0_part58_skel
  refine yd9 (ar_and1.trans (congrArg (· % 2) (ar_iv hi))) (fun _ => ?_)
  refine f9 (ys_store (t := 7) (ar_and1.trans (congrArg (· % 2) (ar_iv hi))) rfl rfl rfl) ?_
  refine f10 (x_load (32 * 7) (ar_and1.trans (congrArg (· % 2) (ar_ivadd hi (by decide)))) rfl rfl) ?_
  refine cd11 (ar_and1.trans (congrArg (· % 2) (ar_ivadd hi (by decide)))) (fun _ => ?_)
  refine f11 (cs_store (t := 7) (ar_and1.trans (congrArg (· % 2) (ar_ivadd hi (by decide)))) rfl rfl rfl) ?_
  refine ret ?_
  refine bd ?_
  rw [k0_part59_eq_skeleton]
  unfold k0_part59_skel
  refine f8 (cf_load (ar_and1.trans (congrArg (· % 2) (ar_iv hi))) rfl rfl) ?_
  refine f5 (w_load (256 * 8) rfl rfl) ?_
  refine yd9 (ar_and1.trans (congrArg (· % 2) (ar_iv hi))) (fun _ => ?_)
  refine f9 (ys_store (t := 8) (ar_and1.trans (congrArg (· % 2) (ar_iv hi))) rfl rfl rfl) ?_
  refine f10 (x_load (32 * 8) (ar_and1.trans (congrArg (· % 2) (ar_ivadd hi (by decide)))) rfl rfl) ?_
  refine ret ?_
  refine bd ?_
  rw [k0_part60_eq_skeleton]
  unfold k0_part60_skel
  refine cd11 (ar_and1.trans (congrArg (· % 2) (ar_ivadd hi (by decide)))) (fun _ => ?_)
  refine f11 (cs_store (t := 8) (ar_and1.trans (congrArg (· % 2) (ar_ivadd hi (by decide)))) rfl rfl rfl) ?_
  refine f8 (cf_load (ar_and1.trans (congrArg (· % 2) (ar_iv hi))) rfl rfl) ?_
  refine f5 (w_load (256 * 9) rfl rfl) ?_
  refine yd9 (ar_and1.trans (congrArg (· % 2) (ar_iv hi))) (fun _ => ?_)
  refine f9 (ys_store (t := 9) (ar_and1.trans (congrArg (· % 2) (ar_iv hi))) rfl rfl rfl) ?_
  refine f10 (x_load (32 * 9) (ar_and1.trans (congrArg (· % 2) (ar_ivadd hi (by decide)))) rfl rfl) ?_
  refine ret ?_
  refine bd ?_
  rw [k0_part61_eq_skeleton]
  unfold k0_part61_skel
  refine cd11 (ar_and1.trans (congrArg (· % 2) (ar_ivadd hi (by decide)))) (fun _ => ?_)
  refine f11 (cs_store (t := 9) (ar_and1.trans (congrArg (· % 2) (ar_ivadd hi (by decide)))) rfl rfl rfl) ?_
  refine f8 (cf_load (ar_and1.trans (congrArg (· % 2) (ar_iv hi))) rfl rfl) ?_
  refine f5 (w_load (256 * 10) rfl rfl) ?_
  refine yd9 (ar_and1.trans (congrArg (· % 2) (ar_iv hi))) (fun _ => ?_)
  refine f9 (ys_store (t := 10) (ar_and1.trans (congrArg (· % 2) (ar_iv hi))) rfl rfl rfl) ?_
  refine ret ?_
  refine bd ?_
  rw [k0_part62_eq_skeleton]
  unfold k0_part62_skel
  refine f10 (x_load (32 * 10) (ar_and1.trans (congrArg (· % 2) (ar_ivadd hi (by decide)))) rfl rfl) ?_
  refine cd11 (ar_and1.trans (congrArg (· % 2) (ar_ivadd hi (by decide)))) (fun _ => ?_)
  refine f11 (cs_store (t := 10) (ar_and1.trans (congrArg (· % 2) (ar_ivadd hi (by decide)))) rfl rfl rfl) ?_
  refine f8 (cf_load (ar_and1.trans (congrArg (· % 2) (ar_iv hi))) rfl rfl) ?_
  refine f5 (w_load (256 * 11) rfl rfl) ?_
  refine ret ?_
  refine bd ?_
  rw [k0_part63_eq_skeleton]
  unfold k0_part63_skel
  refine yd9 (ar_and1.trans (congrArg (· % 2) (ar_iv hi))) (fun _ => ?_)
  refine f9 (ys_store (t := 11) (ar_and1.trans (congrArg (· % 2) (ar_iv hi))) rfl rfl rfl) ?_
  refine f10 (x_load (32 * 11) (ar_and1.trans (congrArg (· % 2) (ar_ivadd hi (by decide)))) rfl rfl) ?_
  refine cd11 (ar_and1.trans (congrArg (· % 2) (ar_ivadd hi (by decide)))) (fun _ => ?_)
  refine f11 (cs_store (t := 11) (ar_and1.trans (congrArg (· % 2) (ar_ivadd hi (by decide)))) rfl rfl rfl) ?_
  refine f8 (cf_load (ar_and1.trans (congrArg (· % 2) (ar_iv hi))) rfl rfl) ?_
  refine f5 (w_load (256 * 12) rfl rfl) ?_
  refine ret ?_
  refine bd ?_
  rw [k0_part64_eq_skeleton]
  unfold k0_part64_skel
  refine yd9 (ar_and1.trans (congrArg (· % 2) (ar_iv hi))) (fun _ => ?_)
  refine f9 (ys_store (t := 12) (ar_and1.trans (congrArg (· % 2) (ar_iv hi))) rfl rfl rfl) ?_
  refine f10 (x_load (32 * 12) (ar_and1.trans (congrArg (· % 2) (ar_ivadd hi (by decide)))) rfl rfl) ?_
  refine cd11 (ar_and1.trans (congrArg (· % 2) (ar_ivadd hi (by decide)))) (fun _ => ?_)
  refine f11 (cs_store (t := 12) (ar_and1.trans (congrArg (· % 2) (ar_ivadd hi (by decide)))) rfl rfl rfl) ?_
  refine f8 (cf_load (ar_and1.trans (congrArg (· % 2) (ar_iv hi))) rfl rfl) ?_
  refine f5 (w_load (256 * 13) rfl rfl) ?_
  refine ret ?_
  refine bd ?_
  rw [k0_part65_eq_skeleton]
  unfold k0_part65_skel
  refine yd9 (ar_and1.trans (congrArg (· % 2) (ar_iv hi))) (fun _ => ?_)
  refine f9 (ys_store (t := 13) (ar_and1.trans (congrArg (· % 2) (ar_iv hi))) rfl rfl rfl) ?_
  refine f10 (x_load (32 * 13) (ar_and1.trans (congrArg (· % 2) (ar_ivadd hi (by decide)))) rfl rfl) ?_
  refine cd11 (ar_and1.trans (congrArg (· % 2) (ar_ivadd hi (by decide)))) (fun _ => ?_)
  refine f11 (cs_store (t := 13) (ar_and1.trans (congrArg (· % 2) (ar_ivadd hi (by decide)))) rfl rfl rfl) ?_
  refine f8 (cf_load (ar_and1.trans (congrArg (· % 2) (ar_iv hi))) rfl rfl) ?_
  refine ret ?_
  refine bd ?_
  rw [k0_part66_eq_skeleton]
  unfold k0_part66_skel
  refine f5 (w_load (256 * 14) rfl rfl) ?_
  refine yd9 (ar_and1.trans (congrArg (· % 2) (ar_iv hi))) (fun _ => ?_)
  refine f9 (ys_store (t := 14) (ar_and1.trans (congrArg (· % 2) (ar_iv hi))) rfl rfl rfl) ?_
  refine f10 (x_load (32 * 14) (ar_and1.trans (congrArg (· % 2) (ar_ivadd hi (by decide)))) rfl rfl) ?_
  refine cd11 (ar_and1.trans (congrArg (· % 2) (ar_ivadd hi (by decide)))) (fun _ => ?_)
  refine ret ?_
  refine bd ?_
  rw [k0_part67_eq_skeleton]
  unfold k0_part67_skel
  refine f11 (cs_store (t := 14) (ar_and1.trans (congrArg (· % 2) (ar_ivadd hi (by decide)))) rfl rfl rfl) ?_
  refine f8 (cf_load (ar_and1.trans (congrArg (· % 2) (ar_iv hi))) rfl rfl) ?_
  refine f5 (w_load (256 * 15) rfl rfl) ?_
  refine yd9 (ar_and1.trans (congrArg (· % 2) (ar_iv hi))) (fun _ => ?_)
  refine f9 (ys_store (t := 15) (ar_and1.trans (congrArg (· % 2) (ar_iv hi))) rfl rfl rfl) ?_
  refine f10 (x_load (32 * 15) (ar_and1.trans (congrArg (· % 2) (ar_ivadd hi (by decide)))) rfl rfl) ?_
  refine ret ?_
  refine bd ?_
  rw [k0_part68_eq_skeleton]
  unfold k0_part68_skel
  refine cd11 (ar_and1.trans (congrArg (· % 2) (ar_ivadd hi (by decide)))) (fun _ => ?_)
  refine f11 (cs_store (t := 15) (ar_and1.trans (congrArg (· % 2) (ar_ivadd hi (by decide)))) rfl rfl rfl) ?_
  refine f8 (cf_load (ar_and1.trans (congrArg (· % 2) (ar_iv hi))) rfl rfl) ?_
  refine f5 (w_load (256 * 16) rfl rfl) ?_
  refine yd9 (ar_and1.trans (congrArg (· % 2) (ar_iv hi))) (fun _ => ?_)
  refine f9 (ys_store (t := 16) (ar_and1.trans (congrArg (· % 2) (ar_iv hi))) rfl rfl rfl) ?_
  refine f10 (x_load (32 * 16) (ar_and1.trans (congrArg (· % 2) (ar_ivadd hi (by decide)))) rfl rfl) ?_
  refine ret ?_
  refine bd ?_
  rw [k0_part69_eq_skeleton]
  unfold k0_part69_skel
  refine cd11 (ar_and1.trans (congrArg (· % 2) (ar_ivadd hi (by decide)))) (fun _ => ?_)
  refine f11 (cs_store (t := 16) (ar_and1.trans (congrArg (· % 2) (ar_ivadd hi (by decide)))) rfl rfl rfl) ?_
  refine f8 (cf_load (ar_and1.trans (congrArg (· % 2) (ar_iv hi))) rfl rfl) ?_
  refine f5 (w_load (256 * 17) rfl rfl) ?_
  refine yd9 (ar_and1.trans (congrArg (· % 2) (ar_iv hi))) (fun _ => ?_)
  refine f9 (ys_store (t := 17) (ar_and1.trans (congrArg (· % 2) (ar_iv hi))) rfl rfl rfl) ?_
  refine ret ?_
  refine bd ?_
  rw [k0_part70_eq_skeleton]
  unfold k0_part70_skel
  refine f10 (x_load (32 * 17) (ar_and1.trans (congrArg (· % 2) (ar_ivadd hi (by decide)))) rfl rfl) ?_
  refine cd11 (ar_and1.trans (congrArg (· % 2) (ar_ivadd hi (by decide)))) (fun _ => ?_)
  refine f11 (cs_store (t := 17) (ar_and1.trans (congrArg (· % 2) (ar_ivadd hi (by decide)))) rfl rfl rfl) ?_
  refine f8 (cf_load (ar_and1.trans (congrArg (· % 2) (ar_iv hi))) rfl rfl) ?_
  refine f5 (w_load (256 * 18) rfl rfl) ?_
  refine ret ?_
  refine bd ?_
  rw [k0_part71_eq_skeleton]
  unfold k0_part71_skel
  refine yd9 (ar_and1.trans (congrArg (· % 2) (ar_iv hi))) (fun _ => ?_)
  refine f9 (ys_store (t := 18) (ar_and1.trans (congrArg (· % 2) (ar_iv hi))) rfl rfl rfl) ?_
  refine f10 (x_load (32 * 18) (ar_and1.trans (congrArg (· % 2) (ar_ivadd hi (by decide)))) rfl rfl) ?_
  refine cd11 (ar_and1.trans (congrArg (· % 2) (ar_ivadd hi (by decide)))) (fun _ => ?_)
  refine f11 (cs_store (t := 18) (ar_and1.trans (congrArg (· % 2) (ar_ivadd hi (by decide)))) rfl rfl rfl) ?_
  refine f8 (cf_load (ar_and1.trans (congrArg (· % 2) (ar_iv hi))) rfl rfl) ?_
  refine f5 (w_load (256 * 19) rfl rfl) ?_
  refine ret ?_
  refine bd ?_
  rw [k0_part72_eq_skeleton]
  unfold k0_part72_skel
  refine yd9 (ar_and1.trans (congrArg (· % 2) (ar_iv hi))) (fun _ => ?_)
  refine f9 (ys_store (t := 19) (ar_and1.trans (congrArg (· % 2) (ar_iv hi))) rfl rfl rfl) ?_
  refine f10 (x_load (32 * 19) (ar_and1.trans (congrArg (· % 2) (ar_ivadd hi (by decide)))) rfl rfl) ?_
  refine cd11 (ar_and1.trans (congrArg (· % 2) (ar_ivadd hi (by decide)))) (fun _ => ?_)
  refine f11 (cs_store (t := 19) (ar_and1.trans (congrArg (· % 2) (ar_ivadd hi (by decide)))) rfl rfl rfl) ?_
  refine f8 (cf_load (ar_and1.trans (congrArg (· % 2) (ar_iv hi))) rfl rfl) ?_
  refine f5 (w_load (256 * 20) rfl rfl) ?_
  refine ret ?_
  refine bd ?_
  rw [k0_part73_eq_skeleton]
  unfold k0_part73_skel
  refine yd9 (ar_and1.trans (congrArg (· % 2) (ar_iv hi))) (fun _ => ?_)
  refine f9 (ys_store (t := 20) (ar_and1.trans (congrArg (· % 2) (ar_iv hi))) rfl rfl rfl) ?_
  refine f10 (x_load (32 * 20) (ar_and1.trans (congrArg (· % 2) (ar_ivadd hi (by decide)))) rfl rfl) ?_
  refine cd11 (ar_and1.trans (congrArg (· % 2) (ar_ivadd hi (by decide)))) (fun _ => ?_)
  refine f11 (cs_store (t := 20) (ar_and1.trans (congrArg (· % 2) (ar_ivadd hi (by decide)))) rfl rfl rfl) ?_
  refine ret ?_
  refine bd ?_
  rw [k0_part74_eq_skeleton]
  unfold k0_part74_skel
  refine f8 (cf_load (ar_and1.trans (congrArg (· % 2) (ar_iv hi))) rfl rfl) ?_
  refine f5 (w_load (256 * 21) rfl rfl) ?_
  refine yd9 (ar_and1.trans (congrArg (· % 2) (ar_iv hi))) (fun _ => ?_)
  refine f9 (ys_store (t := 21) (ar_and1.trans (congrArg (· % 2) (ar_iv hi))) rfl rfl rfl) ?_
  refine f10 (x_load (32 * 21) (ar_and1.trans (congrArg (· % 2) (ar_ivadd hi (by decide)))) rfl rfl) ?_
  refine ret ?_
  refine bd ?_
  rw [k0_part75_eq_skeleton]
  unfold k0_part75_skel
  refine cd11 (ar_and1.trans (congrArg (· % 2) (ar_ivadd hi (by decide)))) (fun _ => ?_)
  refine f11 (cs_store (t := 21) (ar_and1.trans (congrArg (· % 2) (ar_ivadd hi (by decide)))) rfl rfl rfl) ?_
  refine f8 (cf_load (ar_and1.trans (congrArg (· % 2) (ar_iv hi))) rfl rfl) ?_
  refine f5 (w_load (256 * 22) rfl rfl) ?_
  refine yd9 (ar_and1.trans (congrArg (· % 2) (ar_iv hi))) (fun _ => ?_)
  refine f9 (ys_store (t := 22) (ar_and1.trans (congrArg (· % 2) (ar_iv hi))) rfl rfl rfl) ?_
  refine f10 (x_load (32 * 22) (ar_and1.trans (congrArg (· % 2) (ar_ivadd hi (by decide)))) rfl rfl) ?_
  refine ret ?_
  refine bd ?_
  rw [k0_part76_eq_skeleton]
  unfold k0_part76_skel
  refine cd11 (ar_and1.trans (congrArg (· % 2) (ar_ivadd hi (by decide)))) (fun _ => ?_)
  refine f11 (cs_store (t := 22) (ar_and1.trans (congrArg (· % 2) (ar_ivadd hi (by decide)))) rfl rfl rfl) ?_
  refine f8 (cf_load (ar_and1.trans (congrArg (· % 2) (ar_iv hi))) rfl rfl) ?_
  refine f5 (w_load (256 * 23) rfl rfl) ?_
  refine yd9 (ar_and1.trans (congrArg (· % 2) (ar_iv hi))) (fun _ => ?_)
  refine f9 (ys_store (t := 23) (ar_and1.trans (congrArg (· % 2) (ar_iv hi))) rfl rfl rfl) ?_
  refine ret ?_
  refine bd ?_
  rw [k0_part77_eq_skeleton]
  unfold k0_part77_skel
  refine f10 (x_load (32 * 23) (ar_and1.trans (congrArg (· % 2) (ar_ivadd hi (by decide)))) rfl rfl) ?_
  refine cd11 (ar_and1.trans (congrArg (· % 2) (ar_ivadd hi (by decide)))) (fun _ => ?_)
  refine f11 (cs_store (t := 23) (ar_and1.trans (congrArg (· % 2) (ar_ivadd hi (by decide)))) rfl rfl rfl) ?_
  refine f8 (cf_load (ar_and1.trans (congrArg (· % 2) (ar_iv hi))) rfl rfl) ?_
  refine f5 (w_load (256 * 24) rfl rfl) ?_
  refine yd9 (ar_and1.trans (congrArg (· % 2) (ar_iv hi))) (fun _ => ?_)
  refine ret ?_
  refine bd ?_
  rw [k0_part78_eq_skeleton]
  unfold k0_part78_skel
  refine f9 (ys_store (t := 24) (ar_and1.trans (congrArg (· % 2) (ar_iv hi))) rfl rfl rfl) ?_
  refine f10 (x_load (32 * 24) (ar_and1.trans (congrArg (· % 2) (ar_ivadd hi (by decide)))) rfl rfl) ?_
  refine cd11 (ar_and1.trans (congrArg (· % 2) (ar_ivadd hi (by decide)))) (fun _ => ?_)
  refine f11 (cs_store (t := 24) (ar_and1.trans (congrArg (· % 2) (ar_ivadd hi (by decide)))) rfl rfl rfl) ?_
  refine f8 (cf_load (ar_and1.trans (congrArg (· % 2) (ar_iv hi))) rfl rfl) ?_
  refine f5 (w_load (256 * 25) rfl rfl) ?_
  refine ret ?_
  refine bd ?_
  rw [k0_part79_eq_skeleton]
  unfold k0_part79_skel
  refine yd9 (ar_and1.trans (congrArg (· % 2) (ar_iv hi))) (fun _ => ?_)
  refine f9 (ys_store (t := 25) (ar_and1.trans (congrArg (· % 2) (ar_iv hi))) rfl rfl rfl) ?_
  refine f10 (x_load (32 * 25) (ar_and1.trans (congrArg (· % 2) (ar_ivadd hi (by decide)))) rfl rfl) ?_
  refine cd11 (ar_and1.trans (congrArg (· % 2) (ar_ivadd hi (by decide)))) (fun _ => ?_)
  refine f11 (cs_store (t := 25) (ar_and1.trans (congrArg (· % 2) (ar_ivadd hi (by decide)))) rfl rfl rfl) ?_
  refine f8 (cf_load (ar_and1.trans (congrArg (· % 2) (ar_iv hi))) rfl rfl) ?_
  refine f5 (w_load (256 * 26) rfl rfl) ?_
  refine ret ?_
  refine bd ?_
  rw [k0_part80_eq_skeleton]
  unfold k0_part80_skel
  refine yd9 (ar_and1.trans (congrArg (· % 2) (ar_iv hi))) (fun _ => ?_)
  refine f9 (ys_store (t := 26) (ar_and1.trans (congrArg (· % 2) (ar_iv hi))) rfl rfl rfl) ?_
  refine f10 (x_load (32 * 26) (ar_and1.trans (congrArg (· % 2) (ar_ivadd hi (by decide)))) rfl rfl) ?_
  refine cd11 (ar_and1.trans (congrArg (· % 2) (ar_ivadd hi (by decide)))) (fun _ => ?_)
  refine f11 (cs_store (t := 26) (ar_and1.trans (congrArg (· % 2) (ar_ivadd hi (by decide)))) rfl rfl rfl) ?_
  refine f8 (cf_load (ar_and1.trans (congrArg (· % 2) (ar_iv hi))) rfl rfl) ?_
  refine f5 (w_load (256 * 27) rfl rfl) ?_
  refine ret ?_
  refine bd ?_
  rw [k0_part81_eq_skeleton]
  unfold k0_part81_skel
  refine yd9 (ar_and1.trans (congrArg (· % 2) (ar_iv hi))) (fun _ => ?_)
  refine f9 (ys_store (t := 27) (ar_and1.trans (congrArg (· % 2) (ar_iv hi))) rfl rfl rfl) ?_
  refine f10 (x_load (32 * 27) (ar_and1.trans (congrArg (· % 2) (ar_ivadd hi (by decide)))) rfl rfl) ?_
  refine cd11 (ar_and1.trans (congrArg (· % 2) (ar_ivadd hi (by decide)))) (fun _ => ?_)
  refine f11 (cs_store (t := 27) (ar_and1.trans (congrArg (· % 2) (ar_ivadd hi (by decide)))) rfl rfl rfl) ?_
  refine ret ?_
  refine bd ?_
  rw [k0_part82_eq_skeleton]
  unfold k0_part82_skel
  refine f8 (cf_load (ar_and1.trans (congrArg (· % 2) (ar_iv hi))) rfl rfl) ?_
  refine f5 (w_load (256 * 28) rfl rfl) ?_
  refine yd9 (ar_and1.trans (congrArg (· % 2) (ar_iv hi))) (fun _ => ?_)
  refine f9 (ys_store (t := 28) (ar_and1.trans (congrArg (· % 2) (ar_iv hi))) rfl rfl rfl) ?_
  refine f10 (x_load (32 * 28) (ar_and1.trans (congrArg (· % 2) (ar_ivadd hi (by decide)))) rfl rfl) ?_
  refine ret ?_
  refine bd ?_
  rw [k0_part83_eq_skeleton]
  unfold k0_part83_skel
  refine cd11 (ar_and1.trans (congrArg (· % 2) (ar_ivadd hi (by decide)))) (fun _ => ?_)
  refine f11 (cs_store (t := 28) (ar_and1.trans (congrArg (· % 2) (ar_ivadd hi (by decide)))) rfl rfl rfl) ?_
  refine f8 (cf_load (ar_and1.trans (congrArg (· % 2) (ar_iv hi))) rfl rfl) ?_
  refine f5 (w_load (256 * 29) rfl rfl) ?_
  refine yd9 (ar_and1.trans (congrArg (· % 2) (ar_iv hi))) (fun _ => ?_)
  refine f9 (ys_store (t := 29) (ar_and1.trans (congrArg (· % 2) (ar_iv hi))) rfl rfl rfl) ?_
  refine f10 (x_load (32 * 29) (ar_and1.trans (congrArg (· % 2) (ar_ivadd hi (by decide)))) rfl rfl) ?_
  refine ret ?_
  refine bd ?_
  rw [k0_part84_eq_skeleton]
  unfold k0_part84_skel
  refine cd11 (ar_and1.trans (congrArg (· % 2) (ar_ivadd hi (by decide)))) (fun _ => ?_)
  refine f11 (cs_store (t := 29) (ar_and1.trans (congrArg (· % 2) (ar_ivadd hi (by decide)))) rfl rfl rfl) ?_
  refine f8 (cf_load (ar_and1.trans (congrArg (· % 2) (ar_iv hi))) rfl rfl) ?_
  refine f5 (w_load (256 * 30) rfl rfl) ?_
  refine yd9 (ar_and1.trans (congrArg (· % 2) (ar_iv hi))) (fun _ => ?_)
  refine f9 (ys_store (t := 30) (ar_and1.trans (congrArg (· % 2) (ar_iv hi))) rfl rfl rfl) ?_
  refine ret ?_
  refine bd ?_
  rw [k0_part85_eq_skeleton]
  unfold k0_part85_skel
  refine f10 (x_load (32 * 30) (ar_and1.trans (congrArg (· % 2) (ar_ivadd hi (by decide)))) rfl rfl) ?_
  refine cd11 (ar_and1.trans (congrArg (· % 2) (ar_ivadd hi (by decide)))) (fun _ => ?_)
  refine f11 (cs_store (t := 30) (ar_and1.trans (congrArg (· % 2) (ar_ivadd hi (by decide)))) rfl rfl rfl) ?_
  refine f8 (cf_load (ar_and1.trans (congrArg (· % 2) (ar_iv hi))) rfl rfl) ?_
  refine f5 (w_load (256 * 31) rfl rfl) ?_
  refine ret ?_
  refine bd ?_
  rw [k0_part86_eq_skeleton]
  unfold k0_part86_skel
  refine yd9 (ar_and1.trans (congrArg (· % 2) (ar_iv hi))) (fun _ => ?_)
  refine f9 (ys_store (t := 31) (ar_and1.trans (congrArg (· % 2) (ar_iv hi))) rfl rfl rfl) ?_
  refine f10 (x_load (32 * 31) (ar_and1.trans (congrArg (· % 2) (ar_ivadd hi (by decide)))) rfl rfl) ?_
  refine cd11 (ar_and1.trans (congrArg (· % 2) (ar_ivadd hi (by decide)))) (fun _ => ?_)
  refine f11 (cs_store (t := 31) (ar_and1.trans (congrArg (· % 2) (ar_ivadd hi (by decide)))) rfl rfl rfl) ?_
  refine f8 (cf_load (ar_and1.trans (congrArg (· % 2) (ar_iv hi))) rfl rfl) ?_
  refine f5 (w_load (256 * 32) rfl rfl) ?_
  refine ret ?_
  refine bd ?_
  rw [k0_part87_eq_skeleton]
  unfold k0_part87_skel
  refine yd9 (ar_and1.trans (congrArg (· % 2) (ar_iv hi))) (fun _ => ?_)
  refine f9 (ys_store (t := 32) (ar_and1.trans (congrArg (· % 2) (ar_iv hi))) rfl rfl rfl) ?_
  refine f8 (cf_load (ar_and1.trans (congrArg (· % 2) (ar_iv hi))) rfl rfl) ?_
  refine f5 (w_load (256 * 33) rfl rfl) ?_
  refine yd9 (ar_and1.trans (congrArg (· % 2) (ar_iv hi))) (fun _ => ?_)
  refine f9 (ys_store (t := 33) (ar_and1.trans (congrArg (· % 2) (ar_iv hi))) rfl rfl rfl) ?_
  refine ret ?_
  refine f8 (cf_load (ar_and1.trans (congrArg (· % 2) (ar_iv hi))) rfl rfl) ?_
  refine f5 (w_load (256 * 34) rfl rfl) ?_
  refine ret ?_
  refine yd9 (ar_and1.trans (congrArg (· % 2) (ar_iv hi))) (fun _ => ?_)
  refine f9 (ys_store (t := 34) (ar_and1.trans (congrArg (· % 2) (ar_iv hi))) rfl rfl rfl) ?_
  refine f4 m_load ?_
  refine f4 m_store ?_
  exact ret hQ

end Cert.Proof.KernelIdeal
-- ==== Proof.C1.lean ====
module
public import proofs.«01_k».proof.Proof.B3
public import Idealize.ShloMosaic.Lib.LoopRemainder
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- What a slot holds while its contents do not matter. -/
structure Gb (F : FTy → Type) [FloatOps F] where
  xc : ℕ → ℕ → Elt F .bf16
  x1 : ℕ → ℕ → Elt F .bf16
  c0 : ℕ → ℕ → Elt F .fp8e4m3
  c1 : ℕ → ℕ → Elt F .fp8e4m3
  y0 : ℕ → ℕ → Elt F .fp8e4m3
  y1 : ℕ → ℕ → Elt F .fp8e4m3
  v0 : ℕ → ℕ → Elt F .fp8e4m3
  v1 : ℕ → ℕ → Elt F .fp8e4m3

section
variable (E : Env F) (It : ℕ → ℕ) (n : ℕ) (m0 : Vec F S8x128 .f32) (us0 : ℕ → BitVec 32) (cv0 yv0 : ℕ → ℕ → ℕ → Elt F .fp8e4m3)
/-- The codes of the item of step `i`. -/
def co (i : ℕ) : ℕ → ℕ → Elt F .fp8e4m3 := cqv E (E.XV (It i))
/-- The running maxima before step `i`. -/
def mR : ℕ → Vec F S8x128 .f32
  | 0 => m0
  | i + 1 => mF E (co E It i) (mR i)
/-- The exponents used before step `i`. -/
def usR : ℕ → ℕ → BitVec 32
  | 0 => us0
  | i + 1 => Function.update (usR i) (It i) (exOf (mR E It m0 i))
/-- The results of the item of step `i`. -/
def yR (i : ℕ) : ℕ → ℕ → Elt F .fp8e4m3 := ytv E (yiOf (mR E It m0 i)) (co E It i)
/-- The codes of all items, after the first `i` steps. -/
def cvR : ℕ → ℕ → ℕ → ℕ → Elt F .fp8e4m3
  | 0 => cv0
  | i + 1 => Function.update (cvR i) (It i) (co E It i)
/-- The results of all items, after the first `i` steps. -/
def yvR : ℕ → ℕ → ℕ → ℕ → Elt F .fp8e4m3
  | 0 => yv0
  | i + 1 => Function.update (yvR i) (It i) (yR E It m0 i)
/-- The state before step `i` of a pass of `n` steps. -/
def InvG (R : sProp (MT nD τ sig Unit (Elt F) ℕ (UD sig nD τ) ℕ)) (i : ℕ) (g : Gb F) : sProp 𝕄 :=
  St (Items E (fun k => BitVec.ofNat 32 (It k))) (Perm E) (Used E (usR E It m0 us0 i)) (Mb E (mR E It m0 i)) (Wb E) (Ow E.c)
    (XIdle E (i % 2) g.xc) (CIdle E (i % 2) (if i < n then co E It i else g.c0))
    (if 1 < i then YFly E (i % 2) (yR E It m0 (i - 2)) g.v0 (It (i - 2)) 8 0 else YIdle E (i % 2) g.y0)
    (if i + 1 < n then XFly E ((i + 1) % 2) g.x1 (It (i + 1)) 8 0 else XIdle E ((i + 1) % 2) g.x1)
    (if 0 < i then CFly E ((i + 1) % 2) (co E It (i - 1)) g.v1 (It (i - 1)) 8 0 else CIdle E ((i + 1) % 2) g.c1)
    (YIdle E ((i + 1) % 2) (if 0 < i then yR E It m0 (i - 1) else g.y1))
    (CH E (if 0 < i then (Finset.range 40).erase (It (i - 1)) else Finset.range 40) (cvR E It cv0 (i - 1)))
    (YH E (if 1 < i then (Finset.range 40).erase (It (i - 2)) else Finset.range 40) (yvR E It m0 yv0 (i - 2))) R
/-- The same with the unknown contents hidden. -/
def Inv (R : sProp (MT nD τ sig Unit (Elt F) ℕ (UD sig nD τ) ℕ)) (i : ℕ) : sProp 𝕄 := iprop(∃ g : Gb F, InvG E It n m0 us0 cv0 yv0 R i g)
end
variable {E : Env F} {It : ℕ → ℕ} {n : ℕ} {m0 : Vec F S8x128 .f32} {us0 : ℕ → BitVec 32} {cv0 yv0 : ℕ → ℕ → ℕ → Elt F .fp8e4m3}
theorem cvR_pred {i : ℕ} (h : 0 < i) : Function.update (cvR E It cv0 (i - 1)) (It (i - 1)) (co E It (i - 1)) = cvR E It cv0 i := by
  obtain ⟨j, rfl⟩ : ∃ j, i = j + 1 := ⟨i - 1, by omega⟩
  rfl
theorem yvR_pred {i : ℕ} (h : 1 < i) : yvR E It m0 yv0 (i - 1) = Function.update (yvR E It m0 yv0 (i - 2)) (It (i - 2)) (yR E It m0 (i - 2)) := by
  obtain ⟨j, rfl⟩ : ∃ j, i = j + 2 := ⟨i - 2, by omega⟩
  rfl
section
variable {A1 A2 A3 A4 A5 A6 A7 A8 A9 A10 A11 A12 A13 A14 A15 B1 B2 B3 B4 B5 B6 B7 B8 B9 B10 B11 B12 B13 B14 B15 : sProp (MT nD τ sig Unit (Elt F) ℕ (UD sig nD τ) ℕ)}
theorem St_eq (h1 : A1 = B1) (h2 : A2 = B2) (h3 : A3 = B3) (h4 : A4 = B4) (h5 : A5 = B5) (h6 : A6 = B6) (h7 : A10 = B7) (h8 : A11 = B8) (h9 : A12 = B9) (h10 : A7 = B10) (h11 : A8 = B11) (h12 : A9 = B12) (h13 : A13 = B13) (h14 : A14 = B14) (h15 : A15 = B15) :
    St A1 A2 A3 A4 A5 A6 A7 A8 A9 A10 A11 A12 A13 A14 A15 = St B1 B2 B3 B4 B5 B6 B7 B8 B9 B10 B11 B12 B13 B14 B15 := by
  subst h1 h2 h3 h4 h5 h6 h7 h8 h9 h10 h11 h12 h13 h14 h15
  unfold St; ac_rfl
end
theorem trips2 {arg24 : BitVec 32} (ha : arg24.toNat = n) (hn : n ≤ 40) : (k0_t2_loop arg24).trips = n := by
  have h1 : (1#32 : BitVec 32).toInt = 1 := by decide
  have h0 : (0#32 : BitVec 32).toInt = 0 := by decide
  have hs : Scalar.subi arg24 0#32 = arg24 := by show arg24 - 0#32 = arg24; simp
  have hz : Scalar.addi 0#32 arg24 = arg24 := by show 0#32 + arg24 = arg24; simp
  have hi : arg24.toInt = n := by rw [BitVec.toInt_eq_toNat_cond, if_pos (by omega), ha]
  show Scf.trips 0#32 (Scalar.addi 0#32 (Scalar.muli (Scalar.divsi (Scalar.subi arg24 0#32) 1#32) 1#32)) 1#32 = n
  rw [Scalar.muli_divsi_one, hs, hz]
  unfold Scf.trips
  rw [h0, h1, hi]
  omega
variable {arg24 : BitVec 32} {k0_hw49 : k0_chk49 arg24} {k0_t1 : Fin k0_t1_loop.trips} {a b : BitVec 32}
theorem stepInv (ha : arg24.toNat = n) (hn : n ≤ 40) (hIt : ∀ k, It k < 40) (hInj : ∀ a < n, ∀ b < n, It a = It b → a = b) {R : sProp 𝕄} (k : Fin (k0_t2_loop arg24).trips) (i : ℕ) (hk : k.val = i) :
    Inv E It n m0 us0 cv0 yv0 R i ⊢ E.wp (k0_t2_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.ym E.xi a b k0_t1 arg24 k0_hw49 k ⟨⟩) (fun _ => Inv E It n m0 us0 cv0 yv0 R (i + 1)) := by
  have hin : i < n := by have := k.isLt; have h2 := trips2 ha hn; omega
  unfold Inv
  refine exists_elim fun g => ?_
  unfold InvG
  rw [if_pos hin]
  refine step (yv := yvR E It m0 yv0 (i - 2)) (S0 := if 1 < i then (Finset.range 40).erase (It (i - 2)) else Finset.range 40)
    (B7 := if i + 2 < n then XFly E (i % 2) g.xc (It (i + 2)) 8 0 else XIdle E (i % 2) g.xc)
    (B12 := if 0 < i then YFly E ((i + 1) % 2) (yR E It m0 (i - 1)) (yvR E It m0 yv0 (i - 2) (It (i - 1))) (It (i - 1)) 8 0 else YIdle E ((i + 1) % 2) g.y1)
    (B14 := if 0 < i then YH E ((if 1 < i then (Finset.range 40).erase (It (i - 2)) else Finset.range 40).erase (It (i - 1))) (yvR E It m0 yv0 (i - 2)) else YH E (if 1 < i then (Finset.range 40).erase (It (i - 2)) else Finset.range 40) (yvR E It m0 yv0 (i - 2)))
    (C14 := YH E (if 0 < i then (Finset.range 40).erase (It (i - 1)) else Finset.range 40) (yvR E It m0 yv0 (i - 1)))
    (cp := if 0 < i then co E It (i - 1) else g.c1) (cv := cvR E It cv0 i) (yb := if 1 < i then yR E It m0 (i - 2) else g.y0)
    (xn := if i + 1 < n then E.XV (It (i + 1)) else g.x1)
    hk ha hn (by omega) hIt ?_ ?_ ?_ ?_ ?_ ?_ ?_ ?_ ?_
  · intro h; exact ⟨g.x1, if_pos h, (if_pos h).symm⟩
  · intro h; rw [if_neg h, if_neg h]
  · intro h
    refine ⟨cvR E It cv0 (i - 1), g.v1, ?_, ?_, ?_, ?_, ?_, ?_⟩
    · rw [if_pos h, if_pos h]
    · rw [if_pos h]
    · rw [if_pos h]; exact cvR_pred h
    · by_cases h1 : 1 < i
      · rw [if_pos h1]
        exact Finset.mem_erase.mpr ⟨fun e => absurd (hInj _ (by omega) _ (by omega) e) (by omega), Finset.mem_range.mpr (hIt _)⟩
      · rw [if_neg h1]; exact Finset.mem_range.mpr (hIt _)
    · rw [if_pos h, if_pos h]
    · rw [if_pos h]
  · intro h
    obtain rfl : i = 0 := by omega
    exact ⟨rfl, rfl, rfl, rfl⟩
  · intro h; rw [if_pos h]
  · intro h; rw [if_neg h]
  · intro h
    have h0 : 0 < i := by omega
    refine ⟨g.v0, _, _, ?_, if_pos h0, ?_, ?_⟩
    · rw [if_pos h, if_pos h]
    · rw [if_pos h]; intro hm; exact Finset.notMem_erase _ _ (Finset.mem_of_mem_erase hm)
    · rw [if_pos h0, if_pos h, if_pos h, yvR_pred h]
      congr 1
      ext x
      have hne : It (i - 2) ≠ It (i - 1) := fun e => absurd (hInj _ (by omega) _ (by omega) e) (by omega)
      simp only [Finset.mem_erase, Finset.mem_insert]
      constructor
      · rintro ⟨h1, h2⟩
        by_cases h3 : x = It (i - 2)
        · exact .inl h3
        · exact .inr ⟨h1, h3, h2⟩
      · rintro (h1 | ⟨h1, h2, h3⟩)
        · subst h1; exact ⟨hne, Finset.mem_range.mpr (hIt _)⟩
        · exact ⟨h1, h3⟩
  · intro h
    rcases (show i = 0 ∨ i = 1 by omega) with rfl | rfl
    · exact ⟨rfl, rfl⟩
    · exact ⟨rfl, rfl⟩
  · show _ ⊢ (iprop(∃ g : Gb F, InvG E It n m0 us0 cv0 yv0 R (i + 1) g) : sProp 𝕄)
    refine BIBase.Entails.trans (Entails.of_eq (Q := InvG E It n m0 us0 cv0 yv0 R (i + 1) _) ?_) (exists_intro (Φ := fun g => InvG E It n m0 us0 cv0 yv0 R (i + 1) g) (⟨if i + 1 < n then E.XV (It (i + 1)) else g.x1, g.xc, cqv E (if i + 1 < n then E.XV (It (i + 1)) else g.x1), g.c1, g.y1, g.y1, yvR E It m0 yv0 (i - 2) (It (i - 1)), cvR E It cv0 i (It i)⟩ : Gb F))
    have e2 : i + 1 - 2 = i - 1 := by omega
    have e3 : (i + 1 + 1) % 2 = i % 2 := by omega
    unfold InvG
    refine St_eq rfl rfl rfl rfl rfl rfl rfl ?_ ?_ ?_ ?_ ?_ ?_ ?_ rfl
    · by_cases h : i + 1 < n
      · rw [if_pos h, if_pos h]; rfl
      · rw [if_neg h, if_neg h]
    · rw [e2]
      by_cases h : 0 < i
      · rw [if_pos h, if_pos (by omega)]
      · rw [if_neg h, if_neg (by omega)]
    · rw [e3]
    · rw [e3, if_pos (by omega)]; rfl
    · rw [e3, if_pos (by omega)]; rfl
    · rw [if_pos (by omega)]; rfl
    · rw [e2]
      by_cases h : 0 < i
      · rw [if_pos h, if_pos (by omega)]
      · rw [if_neg h, if_neg (by omega)]

/-- The loop over the items of a pass. -/
theorem loop2 (ha : arg24.toNat = n) (hn : n ≤ 40) (hIt : ∀ k, It k < 40) (hInj : ∀ a < n, ∀ b < n, It a = It b → a = b) {R : sProp 𝕄} {α : Type} {Q : α → sProp 𝕄} {k : Unit → Prog (TpuEff nD τ sig (Elt F) Λ₀ .tc) α}
    (hQ : Inv E It n m0 us0 cv0 yv0 R n ⊢ E.wp (k ⟨⟩) Q) :
    Inv E It n m0 us0 cv0 yv0 R 0 ⊢ E.wp (Scf.Loop.for (k0_t2_loop arg24) (k0_t2_ok arg24 k0_hw49) ⟨⟩ (k0_t2_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.ym E.xi a b k0_t1 arg24 k0_hw49) >>= k) Q := by
  have h := Scf.wp_for_bind frame (wpE (defs₀ (F := F)) 𝒱₀ (E.c : Thread nD τ) none) Set.univ (k0_t2_loop arg24).lb (k0_t2_loop arg24).ub (k0_t2_loop arg24).st (k0_t2_ok arg24 k0_hw49) ()
    (k0_t2_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.ym E.xi a b k0_t1 arg24 k0_hw49) (fun i _ => Inv E It n m0 us0 cv0 yv0 R i)
    (fun i _ => stepInv ha hn hIt hInj i i.val rfl) (kk := k) (Q := Q)
  iintro H
  iapply h $$ H
  iintro %acc H
  iapply hQ
  iapply (Entails.of_eq (congrArg (Inv E It n m0 us0 cv0 yv0 R) (trips2 ha hn))) $$ H

end Cert.Proof.KernelIdeal
-- ==== Proof.B4.lean ====
module
public import proofs.«01_k».proof.Proof.A8
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable {E : Env F} {arg24 : BitVec 32} {k0_hw49 : k0_chk49 arg24} {n : ℕ} {It : ℕ → ℕ}
  {A3 A4 A5 A7 A8 A9 A10 A11 A12 A13 A14 A15 B14 : sProp (MT nD τ sig Unit (Elt F) ℕ (UD sig nD τ) ℕ)}

section
variable {α : Type} {Q : α → sProp (MT nD τ sig Unit (Elt F) ℕ (UD sig nD τ) ℕ)} {A1 A2 A6 : sProp (MT nD τ sig Unit (Elt F) ℕ (UD sig nD τ) ℕ)}
/-- A read of the codes' first buffer whose value does not matter. -/
theorem cd8 {p : ℕ} {f : ℕ → ℕ → Elt F .fp8e4m3} {k : Vec F S1x32x1536 .fp8e4m3 → Prog (TpuEff nD τ sig (Elt F) Λ₀ .tc) α} {off : Fin 3 → ℕ} {h hl} (h0 : off 0 = p)
    (hk : ∀ v, St A1 A2 A3 A4 A5 A6 A7 (CIdle E p f) A9 A10 A11 A12 A13 A14 A15 ⊢ E.wp (k v) Q) :
    St A1 A2 A3 A4 A5 A6 A7 (CIdle E p f) A9 A10 A11 A12 A13 A14 A15 ⊢ E.wp (Prog.lift (.load (Memref.whole cc0_scratch2) (Rect.unit (s := S2x1024x1536) off S1x32x1536.size h).toLoadRect hl) >>= k) Q := by
  obtain ⟨v, hv⟩ := cd_pt (E := E) (f := f) (k := k) (h := h) (hl := hl) (Q := Q) h0
  exact f8 hv (hk v)
end

/-- The first items of a pass: the last copy of item 0 and the copies of item 1. -/
theorem p7 (ha : arg24.toNat = n) (hn : n ≤ 40) (hIt : ∀ k, It k < 40) {x0 x1 : ℕ → ℕ → Elt F .bf16} {B10 : sProp 𝕄} {k0_h1 : k0_cond1 arg24 = 1#1} {k0_hw13 : k0_chk13 arg24 (BitVec.ofNat 32 (It 0))} {v358 : BitVec 32} {Q : _ → sProp 𝕄}
    (h10 : 1 < n → B10 = XFly E 1 x1 (It 1) 8 0) (h10' : ¬ 1 < n → B10 = XIdle E 1 x1)
    (hQ : St (Items E (fun k => BitVec.ofNat 32 (It k))) (Perm E) A3 A4 A5 (Ow E.c) (XFly E 0 x0 (It 0) 8 0) A8 A9 B10 A11 A12 A13 A14 A15 ⊢ Q ⟨(BitVec.ofNat 32 (It 0)), (t33 (hIt _)), (Scalar.addi (Scalar.muli (BitVec.ofNat 32 (It 0)) 8#32) 0#32), (Scalar.shrui (Scalar.addi (Scalar.muli (BitVec.ofNat 32 (It 0)) 8#32) 0#32) 7#32), 127#32⟩) :
    St (Items E (fun k => BitVec.ofNat 32 (It k))) (Perm E) A3 A4 A5 (Ow E.c) (XFly E 0 x0 (It 0) 6 0) A8 A9 (XIdle E 1 x1) A11 A12 A13 A14 A15 ⊢ E.wp (k0_part7 (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 arg24 k0_h1 (BitVec.ofNat 32 (It 0)) k0_hw13 v358) Q := by
  rw [k0_part7_eq_skeleton]
  unfold k0_part7_skel
  refine f2 (pm_load (It 0) 6 (hIt _) (by decide) (e0 (hIt _) (by decide)) (e1 (hIt _) (by decide))) ?_
  refine as_ (t14 (E.hP _)) ?_
  refine f7 (x_start (s := It 0) 6 (by decide) rfl rfl rfl rfl (ar_row (E.hP _)) rfl) ?_
  refine f1 (it_load 0 rfl) ?_
  refine as_ (t15 (hIt _)) ?_
  refine f2 (pm_load (It 0) 7 (hIt _) (by decide) (e0 (hIt _) (by decide)) (e1 (hIt _) (by decide))) ?_
  refine as_ (t16 (E.hP _)) ?_
  refine f7 (x_start (s := It 0) 7 (by decide) rfl rfl rfl rfl (ar_row (E.hP _)) rfl) ?_
  beta_reduce
  extract_lets -underBinder -merge jp1
  have hj : St (Items E (fun k => BitVec.ofNat 32 (It k))) (Perm E) A3 A4 A5 (Ow E.c) (XFly E 0 x0 (It 0) 8 0) A8 A9 B10 A11 A12 A13 A14 A15 ⊢ E.wp (jp1 ⟨⟩) Q := ?_
  swap
  · subst jp1
    refine f1 (it_load 0 rfl) ?_
    refine as_ (t33 (hIt _)) ?_
    exact ret hQ
  clear_value jp1
  by_cases hh : 1 < n
  · refine dp ((d2 ha hn).2 hh) ?_
    rw [h10 hh] at hj
    refine bd ?_
    rw [k0_part1_eq_skeleton]
    unfold k0_part1_skel
    refine f1 (it_load 1 rfl) ?_
    refine as_ (t17 (hIt _)) ?_
    refine f2 (pm_load (It 1) 0 (hIt _) (by decide) (e0 (hIt _) (by decide)) (e1 (hIt _) (by decide))) ?_
    refine as_ (t18 (E.hP _)) ?_
    refine f10 (x_alloc (It 1)) ?_
    refine f10 (x_start (s := It 1) 0 (by decide) rfl rfl rfl rfl (ar_row (E.hP _)) rfl) ?_
    refine f1 (it_load 1 rfl) ?_
    refine as_ (t19 (hIt _)) ?_
    refine f2 (pm_load (It 1) 1 (hIt _) (by decide) (e0 (hIt _) (by decide)) (e1 (hIt _) (by decide))) ?_
    refine as_ (t20 (E.hP _)) ?_
    refine f10 (x_start (s := It 1) 1 (by decide) rfl rfl rfl rfl (ar_row (E.hP _)) rfl) ?_
    refine f1 (it_load 1 rfl) ?_
    refine as_ (t21 (hIt _)) ?_
    refine ret ?_
    refine bd ?_
    rw [k0_part2_eq_skeleton]
    unfold k0_part2_skel
    refine f2 (pm_load (It 1) 2 (hIt _) (by decide) (e0 (hIt _) (by decide)) (e1 (hIt _) (by decide))) ?_
    refine as_ (t22 (E.hP _)) ?_
    refine f10 (x_start (s := It 1) 2 (by decide) rfl rfl rfl rfl (ar_row (E.hP _)) rfl) ?_
    refine f1 (it_load 1 rfl) ?_
    refine as_ (t23 (hIt _)) ?_
    refine f2 (pm_load (It 1) 3 (hIt _) (by decide) (e0 (hIt _) (by decide)) (e1 (hIt _) (by decide))) ?_
    refine as_ (t24 (E.hP _)) ?_
    refine f10 (x_start (s := It 1) 3 (by decide) rfl rfl rfl rfl (ar_row (E.hP _)) rfl) ?_
    refine f1 (it_load 1 rfl) ?_
    refine as_ (t25 (hIt _)) ?_
    refine ret ?_
    refine bd ?_
    rw [k0_part3_eq_skeleton]
    unfold k0_part3_skel
    refine f2 (pm_load (It 1) 4 (hIt _) (by decide) (e0 (hIt _) (by decide)) (e1 (hIt _) (by decide))) ?_
    refine as_ (t26 (E.hP _)) ?_
    refine f10 (x_start (s := It 1) 4 (by decide) rfl rfl rfl rfl (ar_row (E.hP _)) rfl) ?_
    refine f1 (it_load 1 rfl) ?_
    refine as_ (t27 (hIt _)) ?_
    refine f2 (pm_load (It 1) 5 (hIt _) (by decide) (e0 (hIt _) (by decide)) (e1 (hIt _) (by decide))) ?_
    refine as_ (t28 (E.hP _)) ?_
    refine f10 (x_start (s := It 1) 5 (by decide) rfl rfl rfl rfl (ar_row (E.hP _)) rfl) ?_
    refine f1 (it_load 1 rfl) ?_
    refine as_ (t29 (hIt _)) ?_
    refine ret ?_
    refine f2 (pm_load (It 1) 6 (hIt _) (by decide) (e0 (hIt _) (by decide)) (e1 (hIt _) (by decide))) ?_
    refine as_ (t30 (E.hP _)) ?_
    refine f10 (x_start (s := It 1) 6 (by decide) rfl rfl rfl rfl (ar_row (E.hP _)) rfl) ?_
    refine f1 (it_load 1 rfl) ?_
    refine as_ (t31 (hIt _)) ?_
    refine f2 (pm_load (It 1) 7 (hIt _) (by decide) (e0 (hIt _) (by decide)) (e1 (hIt _) (by decide))) ?_
    refine as_ (t32 (E.hP _)) ?_
    refine f10 (x_start (s := It 1) 7 (by decide) rfl rfl rfl rfl (ar_row (E.hP _)) rfl) ?_
    exact hj
  · refine dn (fun h => hh ((d2 ha hn).1 h)) ?_
    rw [h10' hh] at hj
    exact hj

/-- The first items of a pass: item 0 is fetched and its codes are made, item 1 is on its way. -/
theorem pro (ha : arg24.toNat = n) (hn : n ≤ 40) (hIt : ∀ k, It k < 40) {x0 x1 : ℕ → ℕ → Elt F .bf16} {c0 : ℕ → ℕ → Elt F .fp8e4m3} {B10 : sProp 𝕄} {k0_h1 : k0_cond1 arg24 = 1#1} {α : Type} {Q : α → sProp 𝕄} {k : (_ : FVec F S32x1536 .bf16) ×' FVec F S32x1536 .bf16 → Prog (TpuEff nD τ sig (Elt F) Λ₀ .tc) α}
    (h10 : 1 < n → B10 = XFly E 1 x1 (It 1) 8 0) (h10' : ¬ 1 < n → B10 = XIdle E 1 x1)
    (hQ : St (Items E (fun k => BitVec.ofNat 32 (It k))) (Perm E) A3 A4 A5 (Ow E.c) (XIdle E 0 (E.XV (It 0))) (CIdle E 0 (Cq E (E.XV (It 0)) 31 c0)) A9 B10 A11 A12 A13 A14 A15 ⊢ E.wp (k ⟨k0_pay46 E.xi (xst (E.XV (It 0)) (32 * 31)), k0_pay47 (F := F)⟩) Q) :
    St (Items E (fun k => BitVec.ofNat 32 (It k))) (Perm E) A3 A4 A5 (Ow E.c) (XIdle E 0 x0) (CIdle E 0 c0) A9 (XIdle E 1 x1) A11 A12 A13 A14 A15 ⊢ E.wp (k0_part23 (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.xi arg24 k0_h1 >>= k) Q := by
  rw [← Cq_zero (E := E) (x := E.XV (It 0)) (f := c0)]
  refine bd ?_
  rw [k0_part23_eq_skeleton]
  unfold k0_part23_skel
  refine bd ?_
  rw [k0_part4_eq_skeleton]
  unfold k0_part4_skel
  refine f1 (it_load 0 rfl) ?_
  refine as_ (t1 (hIt _)) ?_
  refine f2 (pm_load (It 0) 0 (hIt _) (by decide) (e0 (hIt _) (by decide)) (e1 (hIt _) (by decide))) ?_
  refine as_ (t2 (E.hP _)) ?_
  refine f7 (x_alloc (It 0)) ?_
  refine f7 (x_start (s := It 0) 0 (by decide) rfl rfl rfl rfl (ar_row (E.hP _)) rfl) ?_
  refine f1 (it_load 0 rfl) ?_
  refine as_ (t3 (hIt _)) ?_
  refine f2 (pm_load (It 0) 1 (hIt _) (by decide) (e0 (hIt _) (by decide)) (e1 (hIt _) (by decide))) ?_
  refine as_ (t4 (E.hP _)) ?_
  refine f7 (x_start (s := It 0) 1 (by decide) rfl rfl rfl rfl (ar_row (E.hP _)) rfl) ?_
  refine f1 (it_load 0 rfl) ?_
  refine as_ (t5 (hIt _)) ?_
  refine ret ?_
  refine bd ?_
  rw [k0_part5_eq_skeleton]
  unfold k0_part5_skel
  refine f2 (pm_load (It 0) 2 (hIt _) (by decide) (e0 (hIt _) (by decide)) (e1 (hIt _) (by decide))) ?_
  refine as_ (t6 (E.hP _)) ?_
  refine f7 (x_start (s := It 0) 2 (by decide) rfl rfl rfl rfl (ar_row (E.hP _)) rfl) ?_
  refine f1 (it_load 0 rfl) ?_
  refine as_ (t7 (hIt _)) ?_
  refine f2 (pm_load (It 0) 3 (hIt _) (by decide) (e0 (hIt _) (by decide)) (e1 (hIt _) (by decide))) ?_
  refine as_ (t8 (E.hP _)) ?_
  refine f7 (x_start (s := It 0) 3 (by decide) rfl rfl rfl rfl (ar_row (E.hP _)) rfl) ?_
  refine f1 (it_load 0 rfl) ?_
  refine as_ (t9 (hIt _)) ?_
  refine ret ?_
  refine bd ?_
  rw [k0_part6_eq_skeleton]
  unfold k0_part6_skel
  refine f2 (pm_load (It 0) 4 (hIt _) (by decide) (e0 (hIt _) (by decide)) (e1 (hIt _) (by decide))) ?_
  refine as_ (t10 (E.hP _)) ?_
  refine f7 (x_start (s := It 0) 4 (by decide) rfl rfl rfl rfl (ar_row (E.hP _)) rfl) ?_
  refine f1 (it_load 0 rfl) ?_
  refine as_ (t11 (hIt _)) ?_
  refine f2 (pm_load (It 0) 5 (hIt _) (by decide) (e0 (hIt _) (by decide)) (e1 (hIt _) (by decide))) ?_
  refine as_ (t12 (E.hP _)) ?_
  refine f7 (x_start (s := It 0) 5 (by decide) rfl rfl rfl rfl (ar_row (E.hP _)) rfl) ?_
  refine f1 (it_load 0 rfl) ?_
  refine as_ (t13 (hIt _)) ?_
  refine ret ?_
  refine bd (p7 ha hn hIt h10 h10' ?_)
  refine bd ?_
  rw [k0_part8_eq_skeleton]
  unfold k0_part8_skel
  refine f2 (pm_load (It 0) 0 (hIt _) (by decide) (e0 (hIt _) (by decide)) (e1 (hIt _) (by decide))) ?_
  refine as_ (t34 (E.hP _)) ?_
  refine f7_6 (x_wait 0 (by decide) rfl am_x) ?_
  refine f1 (it_load 0 rfl) ?_
  refine as_ (t35 (hIt _)) ?_
  refine f2 (pm_load (It 0) 1 (hIt _) (by decide) (e0 (hIt _) (by decide)) (e1 (hIt _) (by decide))) ?_
  refine as_ (t36 (E.hP _)) ?_
  refine f7_6 (x_wait 1 (by decide) rfl am_x) ?_
  refine f1 (it_load 0 rfl) ?_
  refine as_ (t37 (hIt _)) ?_
  refine tl ?_
  refine f2 (pm_load (It 0) 2 (hIt _) (by decide) (e0 (hIt _) (by decide)) (e1 (hIt _) (by decide))) ?_
  refine ret ?_
  refine bd ?_
  rw [k0_part9_eq_skeleton]
  unfold k0_part9_skel
  refine as_ (t38 (E.hP _)) ?_
  refine f7_6 (x_wait 2 (by decide) rfl am_x) ?_
  refine f1 (it_load 0 rfl) ?_
  refine as_ (t39 (hIt _)) ?_
  refine f2 (pm_load (It 0) 3 (hIt _) (by decide) (e0 (hIt _) (by decide)) (e1 (hIt _) (by decide))) ?_
  refine as_ (t40 (E.hP _)) ?_
  refine f7_6 (x_wait 3 (by decide) rfl am_x) ?_
  refine f1 (it_load 0 rfl) ?_
  refine as_ (t41 (hIt _)) ?_
  refine f2 (pm_load (It 0) 4 (hIt _) (by decide) (e0 (hIt _) (by decide)) (e1 (hIt _) (by decide))) ?_
  refine as_ (t42 (E.hP _)) ?_
  refine ret ?_
  refine bd ?_
  rw [k0_part10_eq_skeleton]
  unfold k0_part10_skel
  refine f7_6 (x_wait 4 (by decide) rfl am_x) ?_
  refine f1 (it_load 0 rfl) ?_
  refine as_ (t43 (hIt _)) ?_
  refine f2 (pm_load (It 0) 5 (hIt _) (by decide) (e0 (hIt _) (by decide)) (e1 (hIt _) (by decide))) ?_
  refine as_ (t44 (E.hP _)) ?_
  refine f7_6 (x_wait 5 (by decide) rfl am_x) ?_
  refine f1 (it_load 0 rfl) ?_
  refine as_ (t45 (hIt _)) ?_
  refine f2 (pm_load (It 0) 6 (hIt _) (by decide) (e0 (hIt _) (by decide)) (e1 (hIt _) (by decide))) ?_
  refine as_ (t46 (E.hP _)) ?_
  refine ret ?_
  refine bd ?_
  rw [k0_part11_eq_skeleton]
  unfold k0_part11_skel
  refine f7_6 (x_wait 6 (by decide) rfl am_x) ?_
  refine f1 (it_load 0 rfl) ?_
  refine as_ (t47 (hIt _)) ?_
  refine f2 (pm_load (It 0) 7 (hIt _) (by decide) (e0 (hIt _) (by decide)) (e1 (hIt _) (by decide))) ?_
  refine as_ (t48 (E.hP _)) ?_
  refine f7_6 (x_last rfl am_x) ?_
  refine f7 (x_load (32 * 0) rfl rfl rfl) ?_
  refine cd8 rfl (fun _ => ?_)
  refine f8 (cs_store (t := 0) rfl rfl rfl rfl) ?_
  refine ret ?_
  refine bd ?_
  rw [k0_part12_eq_skeleton]
  unfold k0_part12_skel
  refine f7 (x_load (32 * 1) rfl rfl rfl) ?_
  refine cd8 rfl (fun _ => ?_)
  refine f8 (cs_store (t := 1) rfl rfl rfl rfl) ?_
  refine f7 (x_load (32 * 2) rfl rfl rfl) ?_
  refine cd8 rfl (fun _ => ?_)
  refine f8 (cs_store (t := 2) rfl rfl rfl rfl) ?_
  refine f7 (x_load (32 * 3) rfl rfl rfl) ?_
  refine ret ?_
  refine bd ?_
  rw [k0_part13_eq_skeleton]
  unfold k0_part13_skel
  refine cd8 rfl (fun _ => ?_)
  refine f8 (cs_store (t := 3) rfl rfl rfl rfl) ?_
  refine f7 (x_load (32 * 4) rfl rfl rfl) ?_
  refine cd8 rfl (fun _ => ?_)
  refine f8 (cs_store (t := 4) rfl rfl rfl rfl) ?_
  refine f7 (x_load (32 * 5) rfl rfl rfl) ?_
  refine cd8 rfl (fun _ => ?_)
  refine f8 (cs_store (t := 5) rfl rfl rfl rfl) ?_
  refine f7 (x_load (32 * 6) rfl rfl rfl) ?_
  refine ret ?_
  refine bd ?_
  rw [k0_part14_eq_skeleton]
  unfold k0_part14_skel
  refine cd8 rfl (fun _ => ?_)
  refine f8 (cs_store (t := 6) rfl rfl rfl rfl) ?_
  refine f7 (x_load (32 * 7) rfl rfl rfl) ?_
  refine cd8 rfl (fun _ => ?_)
  refine f8 (cs_store (t := 7) rfl rfl rfl rfl) ?_
  refine f7 (x_load (32 * 8) rfl rfl rfl) ?_
  refine cd8 rfl (fun _ => ?_)
  refine ret ?_
  refine bd ?_
  rw [k0_part15_eq_skeleton]
  unfold k0_part15_skel
  refine f8 (cs_store (t := 8) rfl rfl rfl rfl) ?_
  refine f7 (x_load (32 * 9) rfl rfl rfl) ?_
  refine cd8 rfl (fun _ => ?_)
  refine f8 (cs_store (t := 9) rfl rfl rfl rfl) ?_
  refine f7 (x_load (32 * 10) rfl rfl rfl) ?_
  refine cd8 rfl (fun _ => ?_)
  refine f8 (cs_store (t := 10) rfl rfl rfl rfl) ?_
  refine f7 (x_load (32 * 11) rfl rfl rfl) ?_
  refine ret ?_
  refine bd ?_
  rw [k0_part16_eq_skeleton]
  unfold k0_part16_skel
  refine cd8 rfl (fun _ => ?_)
  refine f8 (cs_store (t := 11) rfl rfl rfl rfl) ?_
  refine f7 (x_load (32 * 12) rfl rfl rfl) ?_
  refine cd8 rfl (fun _ => ?_)
  refine f8 (cs_store (t := 12) rfl rfl rfl rfl) ?_
  refine f7 (x_load (32 * 13) rfl rfl rfl) ?_
  refine cd8 rfl (fun _ => ?_)
  refine f8 (cs_store (t := 13) rfl rfl rfl rfl) ?_
  refine tl ?_
  refine f7 (x_load (32 * 14) rfl rfl rfl) ?_
  refine ret ?_
  refine bd ?_
  rw [k0_part17_eq_skeleton]
  unfold k0_part17_skel
  refine cd8 rfl (fun _ => ?_)
  refine f8 (cs_store (t := 14) rfl rfl rfl rfl) ?_
  refine f7 (x_load (32 * 15) rfl rfl rfl) ?_
  refine cd8 rfl (fun _ => ?_)
  refine f8 (cs_store (t := 15) rfl rfl rfl rfl) ?_
  refine f7 (x_load (32 * 16) rfl rfl rfl) ?_
  refine ret ?_
  refine bd ?_
  rw [k0_part18_eq_skeleton]
  unfold k0_part18_skel
  refine cd8 rfl (fun _ => ?_)
  refine f8 (cs_store (t := 16) rfl rfl rfl rfl) ?_
  refine f7 (x_load (32 * 17) rfl rfl rfl) ?_
  refine cd8 rfl (fun _ => ?_)
  refine f8 (cs_store (t := 17) rfl rfl rfl rfl) ?_
  refine f7 (x_load (32 * 18) rfl rfl rfl) ?_
  refine cd8 rfl (fun _ => ?_)
  refine f8 (cs_store (t := 18) rfl rfl rfl rfl) ?_
  refine f7 (x_load (32 * 19) rfl rfl rfl) ?_
  refine ret ?_
  refine bd ?_
  rw [k0_part19_eq_skeleton]
  unfold k0_part19_skel
  refine cd8 rfl (fun _ => ?_)
  refine f8 (cs_store (t := 19) rfl rfl rfl rfl) ?_
  refine f7 (x_load (32 * 20) rfl rfl rfl) ?_
  refine cd8 rfl (fun _ => ?_)
  refine f8 (cs_store (t := 20) rfl rfl rfl rfl) ?_
  refine f7 (x_load (32 * 21) rfl rfl rfl) ?_
  refine cd8 rfl (fun _ => ?_)
  refine f8 (cs_store (t := 21) rfl rfl rfl rfl) ?_
  refine ret ?_
  refine bd ?_
  rw [k0_part20_eq_skeleton]
  unfold k0_part20_skel
  refine f7 (x_load (32 * 22) rfl rfl rfl) ?_
  refine cd8 rfl (fun _ => ?_)
  refine f8 (cs_store (t := 22) rfl rfl rfl rfl) ?_
  refine f7 (x_load (32 * 23) rfl rfl rfl) ?_
  refine cd8 rfl (fun _ => ?_)
  refine f8 (cs_store (t := 23) rfl rfl rfl rfl) ?_
  refine f7 (x_load (32 * 24) rfl rfl rfl) ?_
  refine ret ?_
  refine bd ?_
  rw [k0_part21_eq_skeleton]
  unfold k0_part21_skel
  refine cd8 rfl (fun _ => ?_)
  refine f8 (cs_store (t := 24) rfl rfl rfl rfl) ?_
  refine f7 (x_load (32 * 25) rfl rfl rfl) ?_
  refine cd8 rfl (fun _ => ?_)
  refine f8 (cs_store (t := 25) rfl rfl rfl rfl) ?_
  refine f7 (x_load (32 * 26) rfl rfl rfl) ?_
  refine cd8 rfl (fun _ => ?_)
  refine f8 (cs_store (t := 26) rfl rfl rfl rfl) ?_
  refine f7 (x_load (32 * 27) rfl rfl rfl) ?_
  refine ret ?_
  refine bd ?_
  rw [k0_part22_eq_skeleton]
  unfold k0_part22_skel
  refine cd8 rfl (fun _ => ?_)
  refine f8 (cs_store (t := 27) rfl rfl rfl rfl) ?_
  refine f7 (x_load (32 * 28) rfl rfl rfl) ?_
  refine cd8 rfl (fun _ => ?_)
  refine f8 (cs_store (t := 28) rfl rfl rfl rfl) ?_
  refine f7 (x_load (32 * 29) rfl rfl rfl) ?_
  refine ret ?_
  refine cd8 rfl (fun _ => ?_)
  refine f8 (cs_store (t := 29) rfl rfl rfl rfl) ?_
  refine f7 (x_load (32 * 30) rfl rfl rfl) ?_
  refine cd8 rfl (fun _ => ?_)
  refine f8 (cs_store (t := 30) rfl rfl rfl rfl) ?_
  refine f7 (x_load (32 * 31) rfl rfl rfl) ?_
  exact ret hQ

end Cert.Proof.KernelIdeal
-- ==== Proof.B5.lean ====
module
public import proofs.«01_k».proof.Proof.C1
public import proofs.«01_k».proof.Proof.B4
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable {E : Env F} {arg24 : BitVec 32} {k0_hw49 : k0_chk49 arg24} {n : ℕ} {It : ℕ → ℕ}
  {A3 A4 A5 A7 A8 A9 A10 A11 A12 A13 A14 A15 B14 : sProp (MT nD τ sig Unit (Elt F) ℕ (UD sig nD τ) ℕ)}
theorem ar_ns {a : BitVec 32} {c : ℕ} (ha : a.toNat = n) (hn : n ≤ 40) (hc : c ≤ n) : (Scalar.subi a (BitVec.ofNat 32 c)).toNat = n - c := by
  have h : a = BitVec.ofNat 32 n := by rw [← ha]; simp
  rw [h]; exact ar_nsub hn hc
/-- The end of a pass: the last copy out of the last item, the copies of the item before it awaited. -/
theorem p166 (ha : arg24.toNat = n) (hn : n ≤ 40) (hIt : ∀ k, It k < 40) (h1 : 1 ≤ n) {yp yb v : ℕ → ℕ → Elt F .fp8e4m3} {k0_h11 : k0_cond11 arg24 = 1#1} {k0_hw275 : k0_chk275 arg24 (BitVec.ofNat 32 (E.P (8 * It (n - 1) + 7)))} {Q : _ → sProp 𝕄}
  (h9 : 1 < n → ∃ v S1 yw, A9 = YFly E (n % 2) yb v (It (n - 2)) 8 0 ∧ A14 = YH E S1 yw ∧ It (n - 2) ∉ S1 ∧ B14 = YH E (insert (It (n - 2)) S1) (Function.update yw (It (n - 2)) yb))
  (h9' : ¬ 1 < n → A9 = YIdle E (n % 2) yb ∧ A14 = B14)
    (hQ : St (Items E (fun k => BitVec.ofNat 32 (It k))) (Perm E) A3 A4 A5 (Ow E.c) A7 A8 (YIdle E (n % 2) yb) A10 A11 (YFly E ((n + 1) % 2) yp v (It (n - 1)) 8 1) A13 B14 A15 ⊢ Q ⟨(Scalar.subi arg24 1#32), (BitVec.ofNat 32 (E.P (8 * It (n - 1) + 1))), (t295 (E.hP _)), 1#32⟩) :
    St (Items E (fun k => BitVec.ofNat 32 (It k))) (Perm E) A3 A4 A5 (Ow E.c) A7 A8 A9 A10 A11 (YFly E ((n + 1) % 2) yp v (It (n - 1)) 7 0) A13 A14 A15 ⊢ E.wp (k0_part166 (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 arg24 k0_hw49 k0_h11 (BitVec.ofNat 32 (E.P (8 * It (n - 1) + 7))) k0_hw275) Q := by
  rw [k0_part166_eq_skeleton]
  unfold k0_part166_skel
  refine f12 (y_start (s := It (n - 1)) 7 (by decide) ((ar_and1.trans (congrArg (· % 2) (ar_ns ha hn h1))).trans (par1 h1)) ((ar_and1.trans (congrArg (· % 2) (ar_ns ha hn h1))).trans (par1 h1)) rfl rfl (ar_row (E.hP _)) rfl) ?_
  beta_reduce
  extract_lets -underBinder -merge jp1
  have hj : St (Items E (fun k => BitVec.ofNat 32 (It k))) (Perm E) A3 A4 A5 (Ow E.c) A7 A8 (YIdle E (n % 2) yb) A10 A11 (YFly E ((n + 1) % 2) yp v (It (n - 1)) 8 0) A13 B14 A15 ⊢ E.wp (jp1 ⟨⟩) Q := ?_
  swap
  · subst jp1
    refine f1 (it_load (n - 1) (ar_ns ha hn h1)) ?_
    refine as_ (t292 (hIt _)) ?_
    refine f2 (pm_load (It (n - 1)) 0 (hIt _) (by decide) (e0 (hIt _) (by decide)) (e1 (hIt _) (by decide))) ?_
    refine as_ (t293 (E.hP _)) ?_
    refine f12_6 (y_wait 0 (by decide) ((ar_and1.trans (congrArg (· % 2) (ar_ns ha hn h1))).trans (par1 h1)) am_y) ?_
    refine f1 (it_load (n - 1) (ar_ns ha hn h1)) ?_
    refine as_ (t294 (hIt _)) ?_
    refine f2 (pm_load (It (n - 1)) 1 (hIt _) (by decide) (e0 (hIt _) (by decide)) (e1 (hIt _) (by decide))) ?_
    refine as_ (t295 (E.hP _)) ?_
    exact ret hQ
  clear_value jp1
  by_cases hh : 1 < n
  · refine dp ((d12 ha hn).2 hh) ?_
    have h2 : 2 ≤ n := hh
    obtain ⟨v, S1, yw, hx, hs, hs2, hy⟩ := h9 hh
    rw [hx, hs]
    refine bd ?_
    rw [k0_part154_eq_skeleton]
    unfold k0_part154_skel
    refine f1 (it_load (n - 2) (ar_ns ha hn h2)) ?_
    refine as_ (t276 (hIt _)) ?_
    refine f2 (pm_load (It (n - 2)) 0 (hIt _) (by decide) (e0 (hIt _) (by decide)) (e1 (hIt _) (by decide))) ?_
    refine as_ (t277 (E.hP _)) ?_
    refine f9_6 (y_wait 0 (by decide) ((ar_and1.trans (congrArg (· % 2) (ar_ns ha hn h2))).trans (parm2 h2)) am_y) ?_
    refine f1 (it_load (n - 2) (ar_ns ha hn h2)) ?_
    refine as_ (t278 (hIt _)) ?_
    refine f2 (pm_load (It (n - 2)) 1 (hIt _) (by decide) (e0 (hIt _) (by decide)) (e1 (hIt _) (by decide))) ?_
    refine as_ (t279 (E.hP _)) ?_
    refine ret ?_
    refine bd ?_
    rw [k0_part155_eq_skeleton]
    unfold k0_part155_skel
    refine f9_6 (y_wait 1 (by decide) ((ar_and1.trans (congrArg (· % 2) (ar_ns ha hn h2))).trans (parm2 h2)) am_y) ?_
    refine f1 (it_load (n - 2) (ar_ns ha hn h2)) ?_
    refine as_ (t280 (hIt _)) ?_
    refine f2 (pm_load (It (n - 2)) 2 (hIt _) (by decide) (e0 (hIt _) (by decide)) (e1 (hIt _) (by decide))) ?_
    refine as_ (t281 (E.hP _)) ?_
    refine f9_6 (y_wait 2 (by decide) ((ar_and1.trans (congrArg (· % 2) (ar_ns ha hn h2))).trans (parm2 h2)) am_y) ?_
    refine f1 (it_load (n - 2) (ar_ns ha hn h2)) ?_
    refine as_ (t282 (hIt _)) ?_
    refine f2 (pm_load (It (n - 2)) 3 (hIt _) (by decide) (e0 (hIt _) (by decide)) (e1 (hIt _) (by decide))) ?_
    refine as_ (t283 (E.hP _)) ?_
    refine ret ?_
    refine bd ?_
    rw [k0_part156_eq_skeleton]
    unfold k0_part156_skel
    refine f9_6 (y_wait 3 (by decide) ((ar_and1.trans (congrArg (· % 2) (ar_ns ha hn h2))).trans (parm2 h2)) am_y) ?_
    refine f1 (it_load (n - 2) (ar_ns ha hn h2)) ?_
    refine as_ (t284 (hIt _)) ?_
    refine f2 (pm_load (It (n - 2)) 4 (hIt _) (by decide) (e0 (hIt _) (by decide)) (e1 (hIt _) (by decide))) ?_
    refine as_ (t285 (E.hP _)) ?_
    refine f9_6 (y_wait 4 (by decide) ((ar_and1.trans (congrArg (· % 2) (ar_ns ha hn h2))).trans (parm2 h2)) am_y) ?_
    refine f1 (it_load (n - 2) (ar_ns ha hn h2)) ?_
    refine as_ (t286 (hIt _)) ?_
    refine f2 (pm_load (It (n - 2)) 5 (hIt _) (by decide) (e0 (hIt _) (by decide)) (e1 (hIt _) (by decide))) ?_
    refine as_ (t287 (E.hP _)) ?_
    refine ret ?_
    refine bd ?_
    rw [k0_part157_eq_skeleton]
    unfold k0_part157_skel
    refine f9_6 (y_wait 5 (by decide) ((ar_and1.trans (congrArg (· % 2) (ar_ns ha hn h2))).trans (parm2 h2)) am_y) ?_
    refine f1 (it_load (n - 2) (ar_ns ha hn h2)) ?_
    refine as_ (t288 (hIt _)) ?_
    refine f2 (pm_load (It (n - 2)) 6 (hIt _) (by decide) (e0 (hIt _) (by decide)) (e1 (hIt _) (by decide))) ?_
    refine as_ (t289 (E.hP _)) ?_
    refine f9_6 (y_wait 6 (by decide) ((ar_and1.trans (congrArg (· % 2) (ar_ns ha hn h2))).trans (parm2 h2)) am_y) ?_
    refine f1 (it_load (n - 2) (ar_ns ha hn h2)) ?_
    refine as_ (t290 (hIt _)) ?_
    refine f2 (pm_load (It (n - 2)) 7 (hIt _) (by decide) (e0 (hIt _) (by decide)) (e1 (hIt _) (by decide))) ?_
    refine as_ (t291 (E.hP _)) ?_
    refine ret ?_
    refine f9_14_6 (y_last hs2 ((ar_and1.trans (congrArg (· % 2) (ar_ns ha hn h2))).trans (parm2 h2)) am_y) ?_
    rw [hy] at hj
    exact hj
  · refine dn (fun h => hh ((d12 ha hn).1 h)) ?_
    obtain ⟨hx, hs⟩ := h9' hh
    rw [hx, hs]
    exact hj

section
variable (E : Env F) (It : ℕ → ℕ) (m : Vec F S8x128 .f32) (us : ℕ → BitVec 32) (cv yv : ℕ → ℕ → ℕ → Elt F .fp8e4m3) (R : sProp (MT nD τ sig Unit (Elt F) ℕ (UD sig nD τ) ℕ))
/-- The state between two passes, slots by parity. -/
def IdlP (n : ℕ) : sProp 𝕄 := iprop(∃ g : Gb F, St (Items E (fun k => BitVec.ofNat 32 (It k))) (Perm E) (Used E us) (Mb E m) (Wb E) (Ow E.c) (XIdle E (n % 2) g.xc) (CIdle E (n % 2) g.c0) (YIdle E (n % 2) g.y0) (XIdle E ((n + 1) % 2) g.x1) (CIdle E ((n + 1) % 2) g.c1) (YIdle E ((n + 1) % 2) g.y1) (CH E (Finset.range 40) cv) (YH E (Finset.range 40) yv) R)
/-- The state between two passes. -/
def Idl : sProp 𝕄 := iprop(∃ g : Gb F, St (Items E (fun k => BitVec.ofNat 32 (It k))) (Perm E) (Used E us) (Mb E m) (Wb E) (Ow E.c) (XIdle E 0 g.xc) (CIdle E 0 g.c0) (YIdle E 0 g.y0) (XIdle E 1 g.x1) (CIdle E 1 g.c1) (YIdle E 1 g.y1) (CH E (Finset.range 40) cv) (YH E (Finset.range 40) yv) R)
end
variable {m0 m : Vec F S8x128 .f32} {us0 us : ℕ → BitVec 32} {cv0 yv0 cv yv : ℕ → ℕ → ℕ → Elt F .fp8e4m3}
theorem IdlP_Idl {R : sProp 𝕄} : IdlP E It m us cv yv R n ⊢ Idl E It m us cv yv R := by
  unfold IdlP Idl
  refine exists_elim fun g => ?_
  rcases (show n % 2 = 0 ∧ (n + 1) % 2 = 1 ∨ n % 2 = 1 ∧ (n + 1) % 2 = 0 by omega) with ⟨h1, h2⟩ | ⟨h1, h2⟩
  · rw [h1, h2]; exact exists_intro (Φ := fun g : Gb F => St (Items E (fun k => BitVec.ofNat 32 (It k))) (Perm E) (Used E us) (Mb E m) (Wb E) (Ow E.c) (XIdle E 0 g.xc) (CIdle E 0 g.c0) (YIdle E 0 g.y0) (XIdle E 1 g.x1) (CIdle E 1 g.c1) (YIdle E 1 g.y1) (CH E (Finset.range 40) cv) (YH E (Finset.range 40) yv) R) g
  · rw [h1, h2]
    exact BIBase.Entails.trans (Entails.of_eq (St_eq rfl rfl rfl rfl rfl rfl rfl rfl rfl rfl rfl rfl rfl rfl rfl)) (exists_intro (Φ := fun g : Gb F => St (Items E (fun k => BitVec.ofNat 32 (It k))) (Perm E) (Used E us) (Mb E m) (Wb E) (Ow E.c) (XIdle E 0 g.xc) (CIdle E 0 g.c0) (YIdle E 0 g.y0) (XIdle E 1 g.x1) (CIdle E 1 g.c1) (YIdle E 1 g.y1) (CH E (Finset.range 40) cv) (YH E (Finset.range 40) yv) R) ⟨g.x1, g.xc, g.c1, g.c0, g.y1, g.y0, g.v0, g.v1⟩)
theorem trips3 {arg24 : BitVec 32} : (k0_t3_loop arg24).trips = 0 := by
  have h1 : (1#32 : BitVec 32).toInt = 1 := by decide
  show Scf.trips (Scalar.addi 0#32 (Scalar.muli (Scalar.divsi (Scalar.subi arg24 0#32) 1#32) 1#32)) (Scalar.addi 0#32 (Scalar.subi arg24 0#32)) 1#32 = 0
  rw [Scalar.muli_divsi_one]
  unfold Scf.trips
  rw [h1]
  generalize BitVec.toInt _ = z
  omega
variable {arg24 : BitVec 32} {k0_t1 : Fin k0_t1_loop.trips} {a b : BitVec 32}
theorem loop3 {P : sProp 𝕄} {α : Type} {Q : α → sProp 𝕄} {ok} {body : Fin (k0_t3_loop arg24).trips → Unit → Prog (TpuEff nD τ sig (Elt F) Λ₀ .tc) Unit} {k : Unit → Prog (TpuEff nD τ sig (Elt F) Λ₀ .tc) α}
    (hQ : P ⊢ E.wp (k ⟨⟩) Q) : P ⊢ E.wp (Scf.Loop.for (k0_t3_loop arg24) ok ⟨⟩ body >>= k) Q := by
  have h := Scf.wp_for_bind frame (wpE (defs₀ (F := F)) 𝒱₀ (E.c : Thread nD τ) none) Set.univ (k0_t3_loop arg24).lb (k0_t3_loop arg24).ub (k0_t3_loop arg24).st ok ()
    body (fun i _ => P) (fun i _ => absurd i.isLt (by have := trips3 (arg24 := arg24); unfold Scf.Loop.trips at this; omega)) (kk := k) (Q := Q)
  iintro H
  iapply h $$ H
  iintro %acc H
  iapply hQ $$ H
/-- One pass over its items. -/
theorem p170 (ha : arg24.toNat = n) (hn : n ≤ 40) (h49 : k0_chk49 arg24) (hIt : ∀ k, It k < 40) (hInj : ∀ a < n, ∀ b < n, It a = It b → a = b) {R : sProp 𝕄} {Q : _ → sProp 𝕄}
    (hQ : Idl E It (mR E It m0 n) (usR E It m0 us0 n) (cvR E It cv0 n) (yvR E It m0 yv0 n) R ⊢ Q ⟨k0_pay417 (mR E It m0 n), k0_pay419 (mR E It m0 n), k0_pay421, k0_pay422 (mR E It m0 n)⟩) :
    Idl E It m0 us0 cv0 yv0 R ⊢ E.wp (k0_part170 (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.ym E.xi a b k0_t1 arg24) Q := by
  rw [k0_part170_eq_skeleton]
  unfold k0_part170_skel
  unfold Idl
  refine exists_elim fun g => ?_
  refine as_ h49 ?_
  beta_reduce
  extract_lets -underBinder -merge _ jp1
  have hj : Inv E It n m0 us0 cv0 yv0 R 0 ⊢ E.wp (jp1 ⟨⟩) Q := ?_
  swap
  · subst jp1
    refine loop2 ha hn hIt hInj ?_
    refine loop3 ?_
    unfold Inv
    refine exists_elim fun g => ?_
    beta_reduce
    extract_lets -underBinder -merge jp2
    have hj : IdlP E It (mR E It m0 n) (usR E It m0 us0 n) (cvR E It cv0 n) (yvR E It m0 yv0 n) R n ⊢ E.wp (jp2 ⟨⟩) Q := ?_
    swap
    · subst jp2
      refine BIBase.Entails.trans IdlP_Idl ?_
      have hQ' := fun g : Gb F => BIBase.Entails.trans (exists_intro (Φ := fun g : Gb F => St (Items E (fun k => BitVec.ofNat 32 (It k))) (Perm E) (Used E (usR E It m0 us0 n)) (Mb E (mR E It m0 n)) (Wb E) (Ow E.c) (XIdle E 0 g.xc) (CIdle E 0 g.c0) (YIdle E 0 g.y0) (XIdle E 1 g.x1) (CIdle E 1 g.c1) (YIdle E 1 g.y1) (CH E (Finset.range 40) (cvR E It cv0 n)) (YH E (Finset.range 40) (yvR E It m0 yv0 n)) R) g) hQ
      unfold Idl
      refine exists_elim fun g => ?_
      refine f4 m_load ?_
      exact ret (hQ' g)
    clear_value jp2
    unfold InvG
    have e8 : ¬ n < n := by omega
    have e10 : ¬ n + 1 < n := by omega
    rw [if_neg e8, if_neg e10]
    by_cases hh : 0 < n
    · refine dp ((d11 ha hn).2 hh) ?_
      have h1 : 1 ≤ n := hh
      rw [if_pos hh, if_pos hh, if_pos hh]
      have hs1 : It (n - 1) ∈ (if 1 < n then (Finset.range 40).erase (It (n - 2)) else Finset.range 40) := by
        by_cases h1 : 1 < n
        · rw [if_pos h1]
          exact Finset.mem_erase.mpr ⟨fun e => absurd (hInj _ (by omega) _ (by omega) e) (by omega), Finset.mem_range.mpr (hIt _)⟩
        · rw [if_neg h1]; exact Finset.mem_range.mpr (hIt _)
      refine bd ?_
      rw [k0_part158_eq_skeleton]
      unfold k0_part158_skel
      refine f1 (it_load (n - 1) (ar_ns ha hn h1)) ?_
      refine as_ (t244 (hIt _)) ?_
      refine f2 (pm_load (It (n - 1)) 0 (hIt _) (by decide) (e0 (hIt _) (by decide)) (e1 (hIt _) (by decide))) ?_
      refine as_ (t245 (E.hP _)) ?_
      refine f11_6 (c_wait 0 (by decide) ((ar_and1.trans (congrArg (· % 2) (ar_ns ha hn h1))).trans (par1 h1)) am_c) ?_
      refine f1 (it_load (n - 1) (ar_ns ha hn h1)) ?_
      refine as_ (t246 (hIt _)) ?_
      refine f2 (pm_load (It (n - 1)) 1 (hIt _) (by decide) (e0 (hIt _) (by decide)) (e1 (hIt _) (by decide))) ?_
      refine as_ (t247 (E.hP _)) ?_
      refine ret ?_
      refine bd ?_
      rw [k0_part159_eq_skeleton]
      unfold k0_part159_skel
      refine f11_6 (c_wait 1 (by decide) ((ar_and1.trans (congrArg (· % 2) (ar_ns ha hn h1))).trans (par1 h1)) am_c) ?_
      refine f1 (it_load (n - 1) (ar_ns ha hn h1)) ?_
      refine as_ (t248 (hIt _)) ?_
      refine f2 (pm_load (It (n - 1)) 2 (hIt _) (by decide) (e0 (hIt _) (by decide)) (e1 (hIt _) (by decide))) ?_
      refine as_ (t249 (E.hP _)) ?_
      refine f11_6 (c_wait 2 (by decide) ((ar_and1.trans (congrArg (· % 2) (ar_ns ha hn h1))).trans (par1 h1)) am_c) ?_
      refine f1 (it_load (n - 1) (ar_ns ha hn h1)) ?_
      refine as_ (t250 (hIt _)) ?_
      refine f2 (pm_load (It (n - 1)) 3 (hIt _) (by decide) (e0 (hIt _) (by decide)) (e1 (hIt _) (by decide))) ?_
      refine as_ (t251 (E.hP _)) ?_
      refine ret ?_
      refine bd ?_
      rw [k0_part160_eq_skeleton]
      unfold k0_part160_skel
      refine f11_6 (c_wait 3 (by decide) ((ar_and1.trans (congrArg (· % 2) (ar_ns ha hn h1))).trans (par1 h1)) am_c) ?_
      refine f1 (it_load (n - 1) (ar_ns ha hn h1)) ?_
      refine as_ (t252 (hIt _)) ?_
      refine f2 (pm_load (It (n - 1)) 4 (hIt _) (by decide) (e0 (hIt _) (by decide)) (e1 (hIt _) (by decide))) ?_
      refine as_ (t253 (E.hP _)) ?_
      refine f11_6 (c_wait 4 (by decide) ((ar_and1.trans (congrArg (· % 2) (ar_ns ha hn h1))).trans (par1 h1)) am_c) ?_
      refine f1 (it_load (n - 1) (ar_ns ha hn h1)) ?_
      refine as_ (t254 (hIt _)) ?_
      refine f2 (pm_load (It (n - 1)) 5 (hIt _) (by decide) (e0 (hIt _) (by decide)) (e1 (hIt _) (by decide))) ?_
      refine as_ (t255 (E.hP _)) ?_
      refine ret ?_
      refine bd ?_
      rw [k0_part161_eq_skeleton]
      unfold k0_part161_skel
      refine f11_6 (c_wait 5 (by decide) ((ar_and1.trans (congrArg (· % 2) (ar_ns ha hn h1))).trans (par1 h1)) am_c) ?_
      refine f1 (it_load (n - 1) (ar_ns ha hn h1)) ?_
      refine as_ (t256 (hIt _)) ?_
      refine f2 (pm_load (It (n - 1)) 6 (hIt _) (by decide) (e0 (hIt _) (by decide)) (e1 (hIt _) (by decide))) ?_
      refine as_ (t257 (E.hP _)) ?_
      refine f11_6 (c_wait 6 (by decide) ((ar_and1.trans (congrArg (· % 2) (ar_ns ha hn h1))).trans (par1 h1)) am_c) ?_
      refine f1 (it_load (n - 1) (ar_ns ha hn h1)) ?_
      refine as_ (t258 (hIt _)) ?_
      refine f2 (pm_load (It (n - 1)) 7 (hIt _) (by decide) (e0 (hIt _) (by decide)) (e1 (hIt _) (by decide))) ?_
      refine as_ (t259 (E.hP _)) ?_
      refine ret ?_
      refine bd ?_
      rw [k0_part162_eq_skeleton]
      unfold k0_part162_skel
      refine f11_13_6 (c_last (Finset.notMem_erase _ _) ((ar_and1.trans (congrArg (· % 2) (ar_ns ha hn h1))).trans (par1 h1)) am_c) ?_
      refine f1 (it_load (n - 1) (ar_ns ha hn h1)) ?_
      refine as_ (t260 (hIt _)) ?_
      refine f2 (pm_load (It (n - 1)) 0 (hIt _) (by decide) (e0 (hIt _) (by decide)) (e1 (hIt _) (by decide))) ?_
      refine as_ (t261 (E.hP _)) ?_
      refine f12_14 (y_alloc (s := It (n - 1)) hs1) ?_
      refine f12 (y_start (s := It (n - 1)) 0 (by decide) ((ar_and1.trans (congrArg (· % 2) (ar_ns ha hn h1))).trans (par1 h1)) ((ar_and1.trans (congrArg (· % 2) (ar_ns ha hn h1))).trans (par1 h1)) rfl rfl (ar_row (E.hP _)) rfl) ?_
      refine f1 (it_load (n - 1) (ar_ns ha hn h1)) ?_
      refine as_ (t262 (hIt _)) ?_
      refine f2 (pm_load (It (n - 1)) 1 (hIt _) (by decide) (e0 (hIt _) (by decide)) (e1 (hIt _) (by decide))) ?_
      refine as_ (t263 (E.hP _)) ?_
      refine ret ?_
      refine bd ?_
      rw [k0_part163_eq_skeleton]
      unfold k0_part163_skel
      refine f12 (y_start (s := It (n - 1)) 1 (by decide) ((ar_and1.trans (congrArg (· % 2) (ar_ns ha hn h1))).trans (par1 h1)) ((ar_and1.trans (congrArg (· % 2) (ar_ns ha hn h1))).trans (par1 h1)) rfl rfl (ar_row (E.hP _)) rfl) ?_
      refine f1 (it_load (n - 1) (ar_ns ha hn h1)) ?_
      refine as_ (t264 (hIt _)) ?_
      refine f2 (pm_load (It (n - 1)) 2 (hIt _) (by decide) (e0 (hIt _) (by decide)) (e1 (hIt _) (by decide))) ?_
      refine as_ (t265 (E.hP _)) ?_
      refine f12 (y_start (s := It (n - 1)) 2 (by decide) ((ar_and1.trans (congrArg (· % 2) (ar_ns ha hn h1))).trans (par1 h1)) ((ar_and1.trans (congrArg (· % 2) (ar_ns ha hn h1))).trans (par1 h1)) rfl rfl (ar_row (E.hP _)) rfl) ?_
      refine f1 (it_load (n - 1) (ar_ns ha hn h1)) ?_
      refine as_ (t266 (hIt _)) ?_
      refine f2 (pm_load (It (n - 1)) 3 (hIt _) (by decide) (e0 (hIt _) (by decide)) (e1 (hIt _) (by decide))) ?_
      refine as_ (t267 (E.hP _)) ?_
      refine ret ?_
      refine bd ?_
      rw [k0_part164_eq_skeleton]
      unfold k0_part164_skel
      refine f12 (y_start (s := It (n - 1)) 3 (by decide) ((ar_and1.trans (congrArg (· % 2) (ar_ns ha hn h1))).trans (par1 h1)) ((ar_and1.trans (congrArg (· % 2) (ar_ns ha hn h1))).trans (par1 h1)) rfl rfl (ar_row (E.hP _)) rfl) ?_
      refine f1 (it_load (n - 1) (ar_ns ha hn h1)) ?_
      refine as_ (t268 (hIt _)) ?_
      refine f2 (pm_load (It (n - 1)) 4 (hIt _) (by decide) (e0 (hIt _) (by decide)) (e1 (hIt _) (by decide))) ?_
      refine as_ (t269 (E.hP _)) ?_
      refine f12 (y_start (s := It (n - 1)) 4 (by decide) ((ar_and1.trans (congrArg (· % 2) (ar_ns ha hn h1))).trans (par1 h1)) ((ar_and1.trans (congrArg (· % 2) (ar_ns ha hn h1))).trans (par1 h1)) rfl rfl (ar_row (E.hP _)) rfl) ?_
      refine f1 (it_load (n - 1) (ar_ns ha hn h1)) ?_
      refine as_ (t270 (hIt _)) ?_
      refine f2 (pm_load (It (n - 1)) 5 (hIt _) (by decide) (e0 (hIt _) (by decide)) (e1 (hIt _) (by decide))) ?_
      refine as_ (t271 (E.hP _)) ?_
      refine ret ?_
      refine bd ?_
      rw [k0_part165_eq_skeleton]
      unfold k0_part165_skel
      refine f12 (y_start (s := It (n - 1)) 5 (by decide) ((ar_and1.trans (congrArg (· % 2) (ar_ns ha hn h1))).trans (par1 h1)) ((ar_and1.trans (congrArg (· % 2) (ar_ns ha hn h1))).trans (par1 h1)) rfl rfl (ar_row (E.hP _)) rfl) ?_
      refine f1 (it_load (n - 1) (ar_ns ha hn h1)) ?_
      refine as_ (t272 (hIt _)) ?_
      refine f2 (pm_load (It (n - 1)) 6 (hIt _) (by decide) (e0 (hIt _) (by decide)) (e1 (hIt _) (by decide))) ?_
      refine as_ (t273 (E.hP _)) ?_
      refine f12 (y_start (s := It (n - 1)) 6 (by decide) ((ar_and1.trans (congrArg (· % 2) (ar_ns ha hn h1))).trans (par1 h1)) ((ar_and1.trans (congrArg (· % 2) (ar_ns ha hn h1))).trans (par1 h1)) rfl rfl (ar_row (E.hP _)) rfl) ?_
      refine f1 (it_load (n - 1) (ar_ns ha hn h1)) ?_
      refine as_ (t274 (hIt _)) ?_
      refine f2 (pm_load (It (n - 1)) 7 (hIt _) (by decide) (e0 (hIt _) (by decide)) (e1 (hIt _) (by decide))) ?_
      refine as_ (t275 (E.hP _)) ?_
      refine ret ?_
      refine bd (p166 ha hn hIt h1 (yb := if 1 < n then yR E It m0 (n - 2) else g.y0) (B14 := YH E ((Finset.range 40).erase (It (n - 1))) (yvR E It m0 yv0 (n - 1))) ?_ ?_ ?_)
      · intro h
        refine ⟨g.v0, _, _, by rw [if_pos h, if_pos h], rfl, ?_, ?_⟩
        · rw [if_pos h]; intro hm; exact Finset.notMem_erase _ _ (Finset.mem_of_mem_erase hm)
        · rw [if_pos h, if_pos h, yvR_pred h]
          congr 1
          ext x
          have hne : It (n - 2) ≠ It (n - 1) := fun e => absurd (hInj _ (by omega) _ (by omega) e) (by omega)
          simp only [Finset.mem_erase, Finset.mem_insert]
          constructor
          · rintro ⟨h1, h2⟩
            by_cases h3 : x = It (n - 2)
            · exact .inl h3
            · exact .inr ⟨h1, h3, h2⟩
          · rintro (h1 | ⟨h1, h2, h3⟩)
            · subst h1; exact ⟨hne, Finset.mem_range.mpr (hIt _)⟩
            · exact ⟨h1, h3⟩
      · intro h
        obtain rfl : n = 1 := by omega
        exact ⟨rfl, rfl⟩
      refine bd ?_
      rw [k0_part167_eq_skeleton]
      unfold k0_part167_skel
      refine f12_6 (y_wait 1 (by decide) ((ar_and1.trans (congrArg (· % 2) (ar_ns ha hn h1))).trans (par1 h1)) am_y) ?_
      refine f1 (it_load (n - 1) (ar_ns ha hn h1)) ?_
      refine as_ (t296 (hIt _)) ?_
      refine f2 (pm_load (It (n - 1)) 2 (hIt _) (by decide) (e0 (hIt _) (by decide)) (e1 (hIt _) (by decide))) ?_
      refine as_ (t297 (E.hP _)) ?_
      refine f12_6 (y_wait 2 (by decide) ((ar_and1.trans (congrArg (· % 2) (ar_ns ha hn h1))).trans (par1 h1)) am_y) ?_
      refine f1 (it_load (n - 1) (ar_ns ha hn h1)) ?_
      refine as_ (t298 (hIt _)) ?_
      refine f2 (pm_load (It (n - 1)) 3 (hIt _) (by decide) (e0 (hIt _) (by decide)) (e1 (hIt _) (by decide))) ?_
      refine as_ (t299 (E.hP _)) ?_
      refine ret ?_
      refine bd ?_
      rw [k0_part168_eq_skeleton]
      unfold k0_part168_skel
      refine f12_6 (y_wait 3 (by decide) ((ar_and1.trans (congrArg (· % 2) (ar_ns ha hn h1))).trans (par1 h1)) am_y) ?_
      refine f1 (it_load (n - 1) (ar_ns ha hn h1)) ?_
      refine as_ (t300 (hIt _)) ?_
      refine f2 (pm_load (It (n - 1)) 4 (hIt _) (by decide) (e0 (hIt _) (by decide)) (e1 (hIt _) (by decide))) ?_
      refine as_ (t301 (E.hP _)) ?_
      refine f12_6 (y_wait 4 (by decide) ((ar_and1.trans (congrArg (· % 2) (ar_ns ha hn h1))).trans (par1 h1)) am_y) ?_
      refine f1 (it_load (n - 1) (ar_ns ha hn h1)) ?_
      refine as_ (t302 (hIt _)) ?_
      refine f2 (pm_load (It (n - 1)) 5 (hIt _) (by decide) (e0 (hIt _) (by decide)) (e1 (hIt _) (by decide))) ?_
      refine as_ (t303 (E.hP _)) ?_
      refine ret ?_
      refine bd ?_
      rw [k0_part169_eq_skeleton]
      unfold k0_part169_skel
      refine f12_6 (y_wait 5 (by decide) ((ar_and1.trans (congrArg (· % 2) (ar_ns ha hn h1))).trans (par1 h1)) am_y) ?_
      refine f1 (it_load (n - 1) (ar_ns ha hn h1)) ?_
      refine as_ (t304 (hIt _)) ?_
      refine f2 (pm_load (It (n - 1)) 6 (hIt _) (by decide) (e0 (hIt _) (by decide)) (e1 (hIt _) (by decide))) ?_
      refine as_ (t305 (E.hP _)) ?_
      refine f12_6 (y_wait 6 (by decide) ((ar_and1.trans (congrArg (· % 2) (ar_ns ha hn h1))).trans (par1 h1)) am_y) ?_
      refine f1 (it_load (n - 1) (ar_ns ha hn h1)) ?_
      refine as_ (t306 (hIt _)) ?_
      refine f2 (pm_load (It (n - 1)) 7 (hIt _) (by decide) (e0 (hIt _) (by decide)) (e1 (hIt _) (by decide))) ?_
      refine as_ (t307 (E.hP _)) ?_
      refine ret ?_
      refine f12_14_6 (y_last (Finset.notMem_erase _ _) ((ar_and1.trans (congrArg (· % 2) (ar_ns ha hn h1))).trans (par1 h1)) am_y) ?_
      refine BIBase.Entails.trans ?_ hj
      rw [Finset.insert_erase (Finset.mem_range.mpr (hIt _)), cvR_pred hh]
      have hy : Function.update (yvR E It m0 yv0 (n - 1)) (It (n - 1)) (yR E It m0 (n - 1)) = yvR E It m0 yv0 n := by
        obtain ⟨j, rfl⟩ : ∃ j, n = j + 1 := ⟨n - 1, by omega⟩
        rfl
      rw [hy]
      unfold IdlP
      exact exists_intro (Φ := fun g : Gb F => St (Items E (fun k => BitVec.ofNat 32 (It k))) (Perm E) (Used E (usR E It m0 us0 n)) (Mb E (mR E It m0 n)) (Wb E) (Ow E.c) (XIdle E (n % 2) g.xc) (CIdle E (n % 2) g.c0) (YIdle E (n % 2) g.y0) (XIdle E ((n + 1) % 2) g.x1) (CIdle E ((n + 1) % 2) g.c1) (YIdle E ((n + 1) % 2) g.y1) (CH E (Finset.range 40) (cvR E It cv0 n)) (YH E (Finset.range 40) (yvR E It m0 yv0 n)) R) ⟨g.xc, g.x1, g.c0, co E It (n - 1), if 1 < n then yR E It m0 (n - 2) else g.y0, yR E It m0 (n - 1), g.v0, g.v1⟩
    · refine dn (fun h => hh ((d11 ha hn).1 h)) ?_
      refine BIBase.Entails.trans ?_ hj
      obtain rfl : n = 0 := by omega
      unfold IdlP
      exact exists_intro (Φ := fun g : Gb F => St (Items E (fun k => BitVec.ofNat 32 (It k))) (Perm E) (Used E us0) (Mb E m0) (Wb E) (Ow E.c) (XIdle E (0 % 2) g.xc) (CIdle E (0 % 2) g.c0) (YIdle E (0 % 2) g.y0) (XIdle E ((0 + 1) % 2) g.x1) (CIdle E ((0 + 1) % 2) g.c1) (YIdle E ((0 + 1) % 2) g.y1) (CH E (Finset.range 40) cv0) (YH E (Finset.range 40) yv0) R) g
  clear_value jp1
  by_cases hh : 0 < n
  · refine dp ((d1 ha hn).2 hh) ?_
    refine pro ha hn hIt (B10 := if 1 < n then XFly E 1 g.x1 (It 1) 8 0 else XIdle E 1 g.x1) (fun h => if_pos h) (fun h => if_neg h) ?_
    refine cd8 rfl (fun _ => ?_)
    refine f8 (cs_store (t := 31) rfl rfl rfl rfl) ?_
    rw [CIdle_full]
    refine BIBase.Entails.trans ?_ hj
    unfold Inv
    refine BIBase.Entails.trans (Entails.of_eq (Q := InvG E It n m0 us0 cv0 yv0 R 0 ⟨E.XV (It 0), g.x1, g.c0, g.c1, g.y0, g.y1, g.v0, g.v1⟩) ?_) (exists_intro (Φ := fun g => InvG E It n m0 us0 cv0 yv0 R 0 g) _)
    unfold InvG
    rw [if_pos hh]
    rfl
  · refine dn (fun h => hh ((d1 ha hn).1 h)) ?_
    refine BIBase.Entails.trans ?_ hj
    unfold Inv
    refine BIBase.Entails.trans (Entails.of_eq (Q := InvG E It n m0 us0 cv0 yv0 R 0 g) ?_) (exists_intro (Φ := fun g => InvG E It n m0 us0 cv0 yv0 R 0 g) _)
    unfold InvG
    rw [if_neg hh, if_neg (show ¬ 0 + 1 < n by omega)]
    rfl

end Cert.Proof.KernelIdeal
-- ==== Proof.C2.lean ====
module
public import proofs.«01_k».proof.Proof.B5
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

section
variable (us : ℕ → BitVec 32) (e : BitVec 32) (It : ℕ → ℕ)
/-- How many of the first `k` items used another exponent than `e`. -/
def cN : ℕ → ℕ
  | 0 => 0
  | k + 1 => cN k + if us k ≠ e then 1 else 0
/-- The list of those items, put over the old list. -/
def cI : ℕ → ℕ → ℕ
  | 0 => It
  | k + 1 => if us k ≠ e then Function.update (cI k) (cN us e k) k else cI k
theorem cN_le (k : ℕ) : cN us e k ≤ k := by
  induction k with
  | zero => exact Nat.le_refl _
  | succ k ih => show cN us e k + _ ≤ _; split <;> omega
theorem cI_lt (hIt : ∀ j, It j < 40) (k : ℕ) (hk : k ≤ 40) (j : ℕ) : cI us e It k j < 40 := by
  induction k with
  | zero => exact hIt j
  | succ k ih =>
    show (if us k ≠ e then Function.update (cI us e It k) (cN us e k) k else cI us e It k) j < 40
    split
    · by_cases h : j = cN us e k
      · subst h; rw [Function.update_self]; omega
      · rw [Function.update_of_ne h]; exact ih (by omega)
    · exact ih (by omega)
/-- What the list holds: the items that used another exponent, in order. -/
theorem cI_spec (k : ℕ) : ∀ j < cN us e k, cI us e It k j < k ∧ us (cI us e It k j) ≠ e := by
  induction k with
  | zero => intro j hj; exact absurd hj (Nat.not_lt_zero _)
  | succ k ih =>
    intro j hj
    by_cases h : us k ≠ e
    · have e1 : cN us e (k + 1) = cN us e k + 1 := by show cN us e k + (if us k ≠ e then 1 else 0) = _; rw [if_pos h]
      have e2 : cI us e It (k + 1) = Function.update (cI us e It k) (cN us e k) k := if_pos h
      rw [e2]
      by_cases h1 : j = cN us e k
      · subst h1; rw [Function.update_self]; exact ⟨by omega, h⟩
      · rw [Function.update_of_ne h1]
        have h2 := ih j (by omega)
        exact ⟨by omega, h2.2⟩
    · have e1 : cN us e (k + 1) = cN us e k := by show cN us e k + (if us k ≠ e then 1 else 0) = _; rw [if_neg h]; rfl
      have e2 : cI us e It (k + 1) = cI us e It k := if_neg h
      rw [e2]
      have h2 := ih j (by omega)
      exact ⟨by omega, h2.2⟩
theorem cI_inj (k : ℕ) : ∀ a < cN us e k, ∀ b < cN us e k, cI us e It k a = cI us e It k b → a = b := by
  induction k with
  | zero => intro j hj; exact absurd hj (Nat.not_lt_zero _)
  | succ k ih =>
    intro a ha b hb
    by_cases h : us k ≠ e
    · have e1 : cN us e (k + 1) = cN us e k + 1 := by show cN us e k + (if us k ≠ e then 1 else 0) = _; rw [if_pos h]
      have e2 : cI us e It (k + 1) = Function.update (cI us e It k) (cN us e k) k := if_pos h
      rw [e2]
      by_cases h1 : a = cN us e k
      · by_cases h2 : b = cN us e k
        · intro _; omega
        · have h3 := cI_spec us e It k b (by omega)
          rw [h1, Function.update_self, Function.update_of_ne h2]; omega
      · have h3 := cI_spec us e It k a (by omega)
        by_cases h2 : b = cN us e k
        · rw [h2, Function.update_self, Function.update_of_ne h1]; omega
        · rw [Function.update_of_ne h1, Function.update_of_ne h2]; exact ih a (by omega) b (by omega)
    · have e1 : cN us e (k + 1) = cN us e k := by show cN us e k + (if us k ≠ e then 1 else 0) = _; rw [if_neg h]; rfl
      have e2 : cI us e It (k + 1) = cI us e It k := if_neg h
      rw [e2]; exact ih a (by omega) b (by omega)
theorem cI_all (k : ℕ) (s : ℕ) (hs : s < k) (h0 : us s ≠ e) : ∃ j < cN us e k, cI us e It k j = s := by
  induction k with
  | zero => exact absurd hs (Nat.not_lt_zero _)
  | succ k ih =>
    by_cases h : us k ≠ e
    · have e1 : cN us e (k + 1) = cN us e k + 1 := by show cN us e k + (if us k ≠ e then 1 else 0) = _; rw [if_pos h]
      have e2 : cI us e It (k + 1) = Function.update (cI us e It k) (cN us e k) k := if_pos h
      rw [e2]
      by_cases h1 : s = k
      · subst h1; exact ⟨cN us e s, by omega, by rw [Function.update_self]⟩
      · obtain ⟨j, hj, h2⟩ := ih (by omega)
        exact ⟨j, by omega, by rw [Function.update_of_ne (by omega)]; exact h2⟩
    · have e1 : cN us e (k + 1) = cN us e k := by show cN us e k + (if us k ≠ e then 1 else 0) = _; rw [if_neg h]; rfl
      have e2 : cI us e It (k + 1) = cI us e It k := if_neg h
      have h1 : s ≠ k := fun h1 => h (h1 ▸ h0)
      rw [e2, e1]; exact ih (by omega)
end
variable {E : Env F} {It : ℕ → ℕ} {us : ℕ → BitVec 32} {e : BitVec 32}
  {A2 A4 A5 A6 A7 A8 A9 A10 A11 A12 A13 A14 A15 : sProp (MT nD τ sig Unit (Elt F) ℕ (UD sig nD τ) ℕ)}
theorem trips4 : k0_t4_loop.trips = 40 := by decide
theorem ne_iff {a b : BitVec 32} : Scalar.cmpi .ne (Scalar.extui (Scalar.cmpi .ne a b)) (0#32) = 1#1 ↔ a ≠ b := by
  have hh : Scalar.cmpi .ne a b = if a ≠ b then 1#1 else 0#1 := by
    show BitVec.ofBool (a != b) = _
    by_cases h : a = b
    · simp [h]
    · rw [bne_iff_ne.mpr h, if_pos h]; rfl
  rw [hh]; exact ne_ext
theorem coll (hIt : ∀ j, It j < 40) (k : Fin k0_t4_loop.trips) {Q : BitVec 32 → sProp 𝕄}
    (hQ : St (Items E (fun j => BitVec.ofNat 32 (cI us e It (k.val + 1) j))) A2 (Used E us) A4 A5 A6 A7 A8 A9 A10 A11 A12 A13 A14 A15 ⊢ Q (BitVec.ofNat 32 (cN us e (k.val + 1)))) :
    St (Items E (fun j => BitVec.ofNat 32 (cI us e It k.val j))) A2 (Used E us) A4 A5 A6 A7 A8 A9 A10 A11 A12 A13 A14 A15 ⊢ E.wp (k0_t4_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 e k (BitVec.ofNat 32 (cN us e k.val))) Q := by
  have hk : k.val < 40 := Nat.lt_of_lt_of_eq k.isLt trips4
  have hc := cN_le us e k.val
  have hn : (BitVec.ofNat 32 (cN us e k.val)).toNat = cN us e k.val := by simp; omega
  have hiv : Scf.iv 0#32 1#32 k.val = BitVec.ofNat 32 k.val := BitVec.eq_of_toNat_eq (by rw [ar_iv hk]; simp; omega)
  have hb : k0_chk308 e (BitVec.ofNat 32 (cN us e k.val)) (us k.val) := by
    intro _ a
    obtain ⟨a, ha⟩ := a
    have ha : a = 0 := by change a < 1 at ha; omega
    subst ha
    show (BitVec.ofNat 32 (cN us e k.val)).toNat + 1 ≤ 40
    omega
  unfold k0_t4_body
  refine f3 (us_load k.val (ar_iv hk)) ?_
  refine as_ hb ?_
  beta_reduce
  extract_lets -underBinder -merge _ _ jp1
  have hj : St (Items E (fun j => BitVec.ofNat 32 (cI us e It (k.val + 1) j))) A2 (Used E us) A4 A5 A6 A7 A8 A9 A10 A11 A12 A13 A14 A15 ⊢ E.wp (jp1 ⟨⟩) Q := ?_
  swap
  · subst jp1
    refine ret ?_
    refine hQ.trans (Entails.of_eq (congrArg Q ?_))
    show BitVec.ofNat 32 (cN us e k.val + if us k.val ≠ e then 1 else 0) = Scalar.addi (BitVec.ofNat 32 (cN us e k.val)) (Scalar.select (Scalar.cmpi .ne (us k.val) e) 1#32 0#32)
    have hh : Scalar.cmpi .ne (us k.val) e = if us k.val ≠ e then 1#1 else 0#1 := by
      show BitVec.ofBool (us k.val != e) = _
      by_cases h : us k.val = e
      · simp [h]
      · rw [bne_iff_ne.mpr h, if_pos h]; rfl
    rw [hh]
    refine BitVec.eq_of_toNat_eq ?_
    show _ = (BitVec.ofNat 32 (cN us e k.val) + _).toNat
    by_cases h : us k.val ≠ e
    · rw [if_pos h, if_pos h]
      show _ = (BitVec.ofNat 32 (cN us e k.val) + 1#32).toNat
      simp
    · rw [if_neg h, if_neg h]
      show _ = (BitVec.ofNat 32 (cN us e k.val) + 0#32).toNat
      simp
  clear_value jp1
  by_cases h : us k.val ≠ e
  · refine dp (ne_iff.2 h) ?_
    have e2 : cI us e It (k.val + 1) = Function.update (cI us e It k.val) (cN us e k.val) k.val := if_pos h
    have e3 : Function.update (fun j => BitVec.ofNat 32 (cI us e It k.val j)) (cN us e k.val) (Scf.iv 0#32 1#32 k.val) = fun j => BitVec.ofNat 32 (cI us e It (k.val + 1) j) := by
      funext j
      rw [e2, hiv]
      by_cases h1 : j = cN us e k.val
      · subst h1; rw [Function.update_self, Function.update_self]
      · rw [Function.update_of_ne h1, Function.update_of_ne h1]
    rw [← e3] at hj
    refine f1 (it_load (cN us e k.val) hn) ?_
    refine f1 (it_store (cN us e k.val) hn) ?_
    exact hj
  · refine dn (fun h1 => h (ne_iff.1 h1)) ?_
    have e2 : cI us e It (k.val + 1) = cI us e It k.val := if_neg h
    rw [e2] at hj
    exact hj
/-- The loop that collects the items to do again. -/
theorem loop4 (hIt : ∀ j, It j < 40) {α : Type} {Q : α → sProp 𝕄} {kk : BitVec 32 → Prog (TpuEff nD τ sig (Elt F) Λ₀ .tc) α}
    (hQ : St (Items E (fun j => BitVec.ofNat 32 (cI us e It 40 j))) A2 (Used E us) A4 A5 A6 A7 A8 A9 A10 A11 A12 A13 A14 A15 ⊢ E.wp (kk (BitVec.ofNat 32 (cN us e 40))) Q) :
    St (Items E (fun k => BitVec.ofNat 32 (It k))) A2 (Used E us) A4 A5 A6 A7 A8 A9 A10 A11 A12 A13 A14 A15 ⊢ E.wp (Scf.Loop.for k0_t4_loop k0_t4_ok 0#32 (k0_t4_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 e) >>= kk) Q := by
  have h := Scf.wp_for_bind frame (wpE (defs₀ (F := F)) 𝒱₀ (E.c : Thread nD τ) none) Set.univ k0_t4_loop.lb k0_t4_loop.ub k0_t4_loop.st k0_t4_ok (0#32)
    (k0_t4_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 e) (fun i acc => iprop(⌜acc = BitVec.ofNat 32 (cN us e i)⌝ ∗ St (Items E (fun j => BitVec.ofNat 32 (cI us e It i j))) A2 (Used E us) A4 A5 A6 A7 A8 A9 A10 A11 A12 A13 A14 A15))
    (fun i acc => by
      iintro ⟨%ha, H⟩
      subst ha
      iapply (coll (A2 := A2) (A4 := A4) (A5 := A5) (A6 := A6) (A7 := A7) (A8 := A8) (A9 := A9) (A10 := A10) (A11 := A11) (A12 := A12) (A13 := A13) (A14 := A14) (A15 := A15) hIt i (Q := fun acc => iprop(⌜acc = BitVec.ofNat 32 (cN us e (i.val + 1))⌝ ∗ St (Items E (fun j => BitVec.ofNat 32 (cI us e It (i.val + 1) j))) A2 (Used E us) A4 A5 A6 A7 A8 A9 A10 A11 A12 A13 A14 A15)) (by
        iintro H
        isplitr; · ipureintro; rfl
        iexact H)) $$ H) (kk := kk) (Q := Q)
  have ht : Scf.trips k0_t4_loop.lb k0_t4_loop.ub k0_t4_loop.st = 40 := trips4
  rw [ht] at h
  have h0 : St (Items E (fun j => BitVec.ofNat 32 (cI us e It 0 j))) A2 (Used E us) A4 A5 A6 A7 A8 A9 A10 A11 A12 A13 A14 A15 ⊢ iprop(⌜(0#32 : BitVec 32) = BitVec.ofNat 32 (cN us e 0)⌝ ∗ St (Items E (fun j => BitVec.ofNat 32 (cI us e It 0 j))) A2 (Used E us) A4 A5 A6 A7 A8 A9 A10 A11 A12 A13 A14 A15) := by
    iintro H
    isplitr; · ipureintro; rfl
    iexact H
  refine BIBase.Entails.trans h0 ?_
  iintro H
  iapply h $$ H
  iintro %acc ⟨%ha, H⟩
  subst ha
  iapply hQ $$ H

end Cert.Proof.KernelIdeal
-- ==== Proof.D0.lean ====
module
public import proofs.«01_k».proof.Proof.A1
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- The bounds of a pass hold for every number of items (part 0). -/
theorem z49_0 : ∀ n : Fin 41, k0_chk49_0 (BitVec.ofNat 32 n.val) := by
  decide +kernel
/-- The bounds of a pass hold for every number of items (part 5). -/
theorem z49_5 : ∀ n : Fin 41, k0_chk49_5 (BitVec.ofNat 32 n.val) := by
  decide +kernel
/-- The bounds of a pass hold for every number of items (part 10). -/
theorem z49_10 : ∀ n : Fin 41, k0_chk49_10 (BitVec.ofNat 32 n.val) := by
  decide +kernel
/-- The bounds of a pass hold for every number of items (part 15). -/
theorem z49_15 : ∀ n : Fin 41, k0_chk49_15 (BitVec.ofNat 32 n.val) := by
  decide +kernel
/-- The bounds of a pass hold for every number of items (part 20). -/
theorem z49_20 : ∀ n : Fin 41, k0_chk49_20 (BitVec.ofNat 32 n.val) := by
  decide +kernel

end Cert.Proof.KernelIdeal
-- ==== Proof.D1.lean ====
module
public import proofs.«01_k».proof.Proof.A1
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- The bounds of a pass hold for every number of items (part 1). -/
theorem z49_1 : ∀ n : Fin 41, k0_chk49_1 (BitVec.ofNat 32 n.val) := by
  decide +kernel
/-- The bounds of a pass hold for every number of items (part 6). -/
theorem z49_6 : ∀ n : Fin 41, k0_chk49_6 (BitVec.ofNat 32 n.val) := by
  decide +kernel
/-- The bounds of a pass hold for every number of items (part 11). -/
theorem z49_11 : ∀ n : Fin 41, k0_chk49_11 (BitVec.ofNat 32 n.val) := by
  decide +kernel
/-- The bounds of a pass hold for every number of items (part 16). -/
theorem z49_16 : ∀ n : Fin 41, k0_chk49_16 (BitVec.ofNat 32 n.val) := by
  decide +kernel
/-- The bounds of a pass hold for every number of items (part 21). -/
theorem z49_21 : ∀ n : Fin 41, k0_chk49_21 (BitVec.ofNat 32 n.val) := by
  decide +kernel

end Cert.Proof.KernelIdeal
-- ==== Proof.D2.lean ====
module
public import proofs.«01_k».proof.Proof.A1
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- The bounds of a pass hold for every number of items (part 2). -/
theorem z49_2 : ∀ n : Fin 41, k0_chk49_2 (BitVec.ofNat 32 n.val) := by
  decide +kernel
/-- The bounds of a pass hold for every number of items (part 7). -/
theorem z49_7 : ∀ n : Fin 41, k0_chk49_7 (BitVec.ofNat 32 n.val) := by
  decide +kernel
/-- The bounds of a pass hold for every number of items (part 12). -/
theorem z49_12 : ∀ n : Fin 41, k0_chk49_12 (BitVec.ofNat 32 n.val) := by
  decide +kernel
/-- The bounds of a pass hold for every number of items (part 17). -/
theorem z49_17 : ∀ n : Fin 41, k0_chk49_17 (BitVec.ofNat 32 n.val) := by
  decide +kernel
/-- The bounds of a pass hold for every number of items (part 22). -/
theorem z49_22 : ∀ n : Fin 41, k0_chk49_22 (BitVec.ofNat 32 n.val) := by
  decide +kernel

end Cert.Proof.KernelIdeal
-- ==== Proof.D3.lean ====
module
public import proofs.«01_k».proof.Proof.A1
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- The bounds of a pass hold for every number of items (part 3). -/
theorem z49_3 : ∀ n : Fin 41, k0_chk49_3 (BitVec.ofNat 32 n.val) := by
  decide +kernel
/-- The bounds of a pass hold for every number of items (part 8). -/
theorem z49_8 : ∀ n : Fin 41, k0_chk49_8 (BitVec.ofNat 32 n.val) := by
  decide +kernel
/-- The bounds of a pass hold for every number of items (part 13). -/
theorem z49_13 : ∀ n : Fin 41, k0_chk49_13 (BitVec.ofNat 32 n.val) := by
  decide +kernel
/-- The bounds of a pass hold for every number of items (part 18). -/
theorem z49_18 : ∀ n : Fin 41, k0_chk49_18 (BitVec.ofNat 32 n.val) := by
  decide +kernel
/-- The bounds of a pass hold for every number of items (part 23). -/
theorem z49_23 : ∀ n : Fin 41, k0_chk49_23 (BitVec.ofNat 32 n.val) := by
  decide +kernel

end Cert.Proof.KernelIdeal
-- ==== Proof.D4.lean ====
module
public import proofs.«01_k».proof.Proof.A1
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- The bounds of a pass hold for every number of items (part 4). -/
theorem z49_4 : ∀ n : Fin 41, k0_chk49_4 (BitVec.ofNat 32 n.val) := by
  decide +kernel
/-- The bounds of a pass hold for every number of items (part 9). -/
theorem z49_9 : ∀ n : Fin 41, k0_chk49_9 (BitVec.ofNat 32 n.val) := by
  decide +kernel
/-- The bounds of a pass hold for every number of items (part 14). -/
theorem z49_14 : ∀ n : Fin 41, k0_chk49_14 (BitVec.ofNat 32 n.val) := by
  decide +kernel
/-- The bounds of a pass hold for every number of items (part 19). -/
theorem z49_19 : ∀ n : Fin 41, k0_chk49_19 (BitVec.ofNat 32 n.val) := by
  decide +kernel
/-- The bounds of a pass hold for every number of items (part 24). -/
theorem z49_24 : ∀ n : Fin 41, k0_chk49_24 (BitVec.ofNat 32 n.val) := by
  decide +kernel

end Cert.Proof.KernelIdeal
-- ==== Proof.D5.lean ====
module
public import proofs.«01_k».proof.Proof.D0
public import proofs.«01_k».proof.Proof.D1
public import proofs.«01_k».proof.Proof.D2
public import proofs.«01_k».proof.Proof.D3
public import proofs.«01_k».proof.Proof.D4
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- The bounds of a pass hold for every number of items. -/
theorem z49 {a : BitVec 32} {n : ℕ} (ha : a.toNat = n) (hn : n ≤ 40) : k0_chk49 a := by
  have h : a = BitVec.ofNat 32 (⟨n, by omega⟩ : Fin 41).val := by show a = BitVec.ofNat 32 n; rw [← ha]; simp
  rw [h]
  exact ⟨z49_0 _, z49_1 _, z49_2 _, z49_3 _, z49_4 _, z49_5 _, z49_6 _, z49_7 _, z49_8 _, z49_9 _, z49_10 _, z49_11 _, z49_12 _, z49_13 _, z49_14 _, z49_15 _, z49_16 _, z49_17 _, z49_18 _, z49_19 _, z49_20 _, z49_21 _, z49_22 _, z49_23 _, z49_24 _⟩

end Cert.Proof.KernelIdeal
-- ==== Proof.C3.lean ====
module
public import proofs.«01_k».proof.Proof.C2
public import proofs.«01_k».proof.Proof.D5
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- The one element of window 2's buffer, whatever it is. -/
def wE2 (E : Env F) : sProp 𝕄 := iprop(∃ f : Buf (Elt F) (E.l cc0_stg2_0), E.l cc0_stg2_0 ↦{fullShare} f)
/-- The one element of window 2's buffer. -/
def wV2 (E : Env F) (v : F .f32) : sProp 𝕄 := E.l cc0_stg2_0 ↦{fullShare} (fun _ => v : Buf (Elt F) (E.l cc0_stg2_0))
theorem wV2_wE {E : Env F} {v : F .f32} : wV2 E v ⊢ wE2 E := by
  unfold wE2 wV2
  exact exists_intro (Φ := fun f : Buf (Elt F) (E.l cc0_stg2_0) => (E.l cc0_stg2_0 ↦{fullShare} f : sProp 𝕄)) _
theorem wS2 {E : Env F} {v : F .f32} {α : Type} {Q : α → sProp 𝕄} {k : Elt F .f32 → Prog (TpuEff nD τ sig (Elt F) Λ₀ .tc) α} {kk : Unit → Prog (TpuEff nD τ sig (Elt F) Λ₀ .tc) α} {h h2 : ∀ a, (![0, 0] : Fin 2 → ℕ) a + S1x1.size a ≤ S1x1.size a} {h1 : S1x1.numel = 1} {hp : EltTy.packing .f32 = 1} {hx hm}
    (hk : ∀ w, k w = Prog.lift (.store (win0_2.stage 0) (Rect.unit (s := S1x1) ![0, 0] S1x1.size h) (fun _ => v) Finset.univ hx hm) >>= kk) :
    wE2 E ⊢ iprop((wV2 E v -∗ E.wp (kk ⟨⟩) Q) -∗ E.wp (smemLoad (win0_2.stage 0) (Rect.unit (s := S1x1) ![0, 0] S1x1.size h2) h1 hp >>= k) Q) := by
  unfold wE2
  iintro ⟨%f, H⟩ Hk
  have hh := wp_load (defs := defs₀ (F := F)) 𝒱₀ (E.c : Thread nD τ) none Set.univ (Γ := .empty) (Q := Q) (m := Memref.whole cc0_stg2_0)
    (r := (Rect.unit (s := S1x1) ![0, 0] S1x1.size h2).toLoadRect) (hl := View.loadsAt_rect (View.loads_smem_one hp h1))
    (k := fun f => k (f (Shape.Idx.first (h1.symm ▸ Nat.one_pos)))) (q := fullShare) (f := f) (S := Finset.univ) (Finset.subset_univ _)
  iapply hh $$ H
  iintro H
  beta_reduce
  rw [hk]
  have h3 := wp_store (defs := defs₀ (F := F)) 𝒱₀ (E.c : Thread nD τ) none Set.univ (Γ := .empty) (Q := Q) (m := Memref.whole cc0_stg2_0) (r := Rect.unit (s := S1x1) ![0, 0] S1x1.size h)
    (w := fun _ => v) (Mk := Finset.univ) (hx := hx) (hm := hm) (k := kk) (f := f) (S := Finset.univ) (Finset.subset_univ _)
  have h4 := BIBase.Entails.trans h3 (wand_mono_left (wand_mono_left (Entails.of_eq (Q := wV2 E v) (pointsTo_congr fun j _ => by
    have e : j = (Rect.unit (s := S1x1) ![0, 0] S1x1.size h).emb j := by
      funext a
      refine Fin.ext ?_
      fin_cases a
      · exact (show (j 0).val = 0 + 1 * (j 0).val by omega)
      · exact (show (j 1).val = 0 + 1 * (j 1).val by omega)
    exact ((congrArg _ e).trans ((View.write_emb_of_mem (v := (View.whole (sig := sig) cc0_stg2_0).slice (Rect.unit (s := S1x1) ![0, 0] S1x1.size h)) (x := j) _ _ (Finset.mem_univ _))))))))
  iapply h4 $$ H
  iexact Hk

/-- The one element of window 3's buffer, whatever it is. -/
def wE3 (E : Env F) : sProp 𝕄 := iprop(∃ f : Buf (Elt F) (E.l cc0_stg3_0), E.l cc0_stg3_0 ↦{fullShare} f)
/-- The one element of window 3's buffer. -/
def wV3 (E : Env F) (v : F .f32) : sProp 𝕄 := E.l cc0_stg3_0 ↦{fullShare} (fun _ => v : Buf (Elt F) (E.l cc0_stg3_0))
theorem wV3_wE {E : Env F} {v : F .f32} : wV3 E v ⊢ wE3 E := by
  unfold wE3 wV3
  exact exists_intro (Φ := fun f : Buf (Elt F) (E.l cc0_stg3_0) => (E.l cc0_stg3_0 ↦{fullShare} f : sProp 𝕄)) _
theorem wS3 {E : Env F} {v : F .f32} {α : Type} {Q : α → sProp 𝕄} {k : Elt F .f32 → Prog (TpuEff nD τ sig (Elt F) Λ₀ .tc) α} {kk : Unit → Prog (TpuEff nD τ sig (Elt F) Λ₀ .tc) α} {h h2 : ∀ a, (![0, 0] : Fin 2 → ℕ) a + S1x1.size a ≤ S1x1.size a} {h1 : S1x1.numel = 1} {hp : EltTy.packing .f32 = 1} {hx hm}
    (hk : ∀ w, k w = Prog.lift (.store (win0_3.stage 0) (Rect.unit (s := S1x1) ![0, 0] S1x1.size h) (fun _ => v) Finset.univ hx hm) >>= kk) :
    wE3 E ⊢ iprop((wV3 E v -∗ E.wp (kk ⟨⟩) Q) -∗ E.wp (smemLoad (win0_3.stage 0) (Rect.unit (s := S1x1) ![0, 0] S1x1.size h2) h1 hp >>= k) Q) := by
  unfold wE3
  iintro ⟨%f, H⟩ Hk
  have hh := wp_load (defs := defs₀ (F := F)) 𝒱₀ (E.c : Thread nD τ) none Set.univ (Γ := .empty) (Q := Q) (m := Memref.whole cc0_stg3_0)
    (r := (Rect.unit (s := S1x1) ![0, 0] S1x1.size h2).toLoadRect) (hl := View.loadsAt_rect (View.loads_smem_one hp h1))
    (k := fun f => k (f (Shape.Idx.first (h1.symm ▸ Nat.one_pos)))) (q := fullShare) (f := f) (S := Finset.univ) (Finset.subset_univ _)
  iapply hh $$ H
  iintro H
  beta_reduce
  rw [hk]
  have h3 := wp_store (defs := defs₀ (F := F)) 𝒱₀ (E.c : Thread nD τ) none Set.univ (Γ := .empty) (Q := Q) (m := Memref.whole cc0_stg3_0) (r := Rect.unit (s := S1x1) ![0, 0] S1x1.size h)
    (w := fun _ => v) (Mk := Finset.univ) (hx := hx) (hm := hm) (k := kk) (f := f) (S := Finset.univ) (Finset.subset_univ _)
  have h4 := BIBase.Entails.trans h3 (wand_mono_left (wand_mono_left (Entails.of_eq (Q := wV3 E v) (pointsTo_congr fun j _ => by
    have e : j = (Rect.unit (s := S1x1) ![0, 0] S1x1.size h).emb j := by
      funext a
      refine Fin.ext ?_
      fin_cases a
      · exact (show (j 0).val = 0 + 1 * (j 0).val by omega)
      · exact (show (j 1).val = 0 + 1 * (j 1).val by omega)
    exact ((congrArg _ e).trans ((View.write_emb_of_mem (v := (View.whole (sig := sig) cc0_stg3_0).slice (Rect.unit (s := S1x1) ![0, 0] S1x1.size h)) (x := j) _ _ (Finset.mem_univ _))))))))
  iapply h4 $$ H
  iexact Hk

/-- The one element of window 4's buffer, whatever it is. -/
def wE4 (E : Env F) : sProp 𝕄 := iprop(∃ f : Buf (Elt F) (E.l cc0_stg4_0), E.l cc0_stg4_0 ↦{fullShare} f)
/-- The one element of window 4's buffer. -/
def wV4 (E : Env F) (v : F .f32) : sProp 𝕄 := E.l cc0_stg4_0 ↦{fullShare} (fun _ => v : Buf (Elt F) (E.l cc0_stg4_0))
theorem wV4_wE {E : Env F} {v : F .f32} : wV4 E v ⊢ wE4 E := by
  unfold wE4 wV4
  exact exists_intro (Φ := fun f : Buf (Elt F) (E.l cc0_stg4_0) => (E.l cc0_stg4_0 ↦{fullShare} f : sProp 𝕄)) _
theorem wS4 {E : Env F} {v : F .f32} {α : Type} {Q : α → sProp 𝕄} {k : Elt F .f32 → Prog (TpuEff nD τ sig (Elt F) Λ₀ .tc) α} {kk : Unit → Prog (TpuEff nD τ sig (Elt F) Λ₀ .tc) α} {h h2 : ∀ a, (![0, 0] : Fin 2 → ℕ) a + S1x1.size a ≤ S1x1.size a} {h1 : S1x1.numel = 1} {hp : EltTy.packing .f32 = 1} {hx hm}
    (hk : ∀ w, k w = Prog.lift (.store (win0_4.stage 0) (Rect.unit (s := S1x1) ![0, 0] S1x1.size h) (fun _ => v) Finset.univ hx hm) >>= kk) :
    wE4 E ⊢ iprop((wV4 E v -∗ E.wp (kk ⟨⟩) Q) -∗ E.wp (smemLoad (win0_4.stage 0) (Rect.unit (s := S1x1) ![0, 0] S1x1.size h2) h1 hp >>= k) Q) := by
  unfold wE4
  iintro ⟨%f, H⟩ Hk
  have hh := wp_load (defs := defs₀ (F := F)) 𝒱₀ (E.c : Thread nD τ) none Set.univ (Γ := .empty) (Q := Q) (m := Memref.whole cc0_stg4_0)
    (r := (Rect.unit (s := S1x1) ![0, 0] S1x1.size h2).toLoadRect) (hl := View.loadsAt_rect (View.loads_smem_one hp h1))
    (k := fun f => k (f (Shape.Idx.first (h1.symm ▸ Nat.one_pos)))) (q := fullShare) (f := f) (S := Finset.univ) (Finset.subset_univ _)
  iapply hh $$ H
  iintro H
  beta_reduce
  rw [hk]
  have h3 := wp_store (defs := defs₀ (F := F)) 𝒱₀ (E.c : Thread nD τ) none Set.univ (Γ := .empty) (Q := Q) (m := Memref.whole cc0_stg4_0) (r := Rect.unit (s := S1x1) ![0, 0] S1x1.size h)
    (w := fun _ => v) (Mk := Finset.univ) (hx := hx) (hm := hm) (k := kk) (f := f) (S := Finset.univ) (Finset.subset_univ _)
  have h4 := BIBase.Entails.trans h3 (wand_mono_left (wand_mono_left (Entails.of_eq (Q := wV4 E v) (pointsTo_congr fun j _ => by
    have e : j = (Rect.unit (s := S1x1) ![0, 0] S1x1.size h).emb j := by
      funext a
      refine Fin.ext ?_
      fin_cases a
      · exact (show (j 0).val = 0 + 1 * (j 0).val by omega)
      · exact (show (j 1).val = 0 + 1 * (j 1).val by omega)
    exact ((congrArg _ e).trans ((View.write_emb_of_mem (v := (View.whole (sig := sig) cc0_stg4_0).slice (Rect.unit (s := S1x1) ![0, 0] S1x1.size h)) (x := j) _ _ (Finset.mem_univ _))))))))
  iapply h4 $$ H
  iexact Hk

/-- The scale written at running maxima `m`. -/
def ysv (m : Vec F S8x128 .f32) : F .f32 := k0_pay2 (k0_pay419 m) k0_pay421 (k0_pay422 m)
/-- The maximum written at running maxima `m`. -/
def yav (m : Vec F S8x128 .f32) : F .f32 := k0_pay3 (k0_pay417 m)
/-- The exponent at the running maxima `m`, as the collection computes it. -/
def exv (m : Vec F S8x128 .f32) : BitVec 32 := extractAt ![0, 0, 0] (k0_pay4 (k0_pay419 m) k0_pay421 (k0_pay422 m)) inpos_S1x1x1_p0_0_0
section
variable {E : Env F} {A1 A2 A3 A4 A5 A6 A7 A8 A9 A10 A11 A12 A13 A14 A15 B15 C15 U T : sProp (MT nD τ sig Unit (Elt F) ℕ (UD sig nD τ) ℕ)}
theorem f15a {X : sProp 𝕄} (h : iprop(B15) ⊢ iprop((iprop(X) -∗ T) -∗ U)) (h2 : St A1 A2 A3 A4 A5 A6 A7 A8 A9 A10 A11 A12 A13 A14 iprop(X ∗ C15 ∗ A15) ⊢ T) : St A1 A2 A3 A4 A5 A6 A7 A8 A9 A10 A11 A12 A13 A14 iprop(B15 ∗ C15 ∗ A15) ⊢ U :=
  foc (R := iprop(A1 ∗ A2 ∗ A3 ∗ A4 ∗ A5 ∗ A6 ∗ A7 ∗ A8 ∗ A9 ∗ A10 ∗ A11 ∗ A12 ∗ A13 ∗ A14 ∗ C15 ∗ A15)) (by unfold St; ac_rfl) (by unfold St; ac_rfl) h h2
theorem f15b {X : sProp 𝕄} (h : iprop(C15) ⊢ iprop((iprop(X) -∗ T) -∗ U)) (h2 : St A1 A2 A3 A4 A5 A6 A7 A8 A9 A10 A11 A12 A13 A14 iprop(B15 ∗ X ∗ A15) ⊢ T) : St A1 A2 A3 A4 A5 A6 A7 A8 A9 A10 A11 A12 A13 A14 iprop(B15 ∗ C15 ∗ A15) ⊢ U :=
  foc (R := iprop(A1 ∗ A2 ∗ A3 ∗ A4 ∗ A5 ∗ A6 ∗ A7 ∗ A8 ∗ A9 ∗ A10 ∗ A11 ∗ A12 ∗ A13 ∗ A14 ∗ B15 ∗ A15)) (by unfold St; ac_rfl) (by unfold St; ac_rfl) h h2
end
variable {E : Env F} {It : ℕ → ℕ} {n : ℕ} {m0 m : Vec F S8x128 .f32} {us0 us : ℕ → BitVec 32} {cv0 yv0 cv yv : ℕ → ℕ → ℕ → Elt F .fp8e4m3} {R R' : sProp (MT nD τ sig Unit (Elt F) ℕ (UD sig nD τ) ℕ)}
theorem Idl_mono (h : R ⊢ R') : Idl E It m us cv yv R ⊢ Idl E It m us cv yv R' := by
  unfold Idl St
  refine exists_elim fun g => BIBase.Entails.trans ?_ (exists_intro g)
  iintro ⟨H1, H2, H3, H4, H5, H6, H7, H8, H9, H10, H11, H12, H13, H14, H⟩
  ihave H := h $$ H
  iframe
/-- One pass: its items, the scale, the list of the items to do again. -/
theorem passT {arg24 : BitVec 32} (t1 : Fin k0_t1_loop.trips) (ha : arg24.toNat = n) (hn : n ≤ 40) (hIt : ∀ k, It k < 40) (hInj : ∀ a < n, ∀ b < n, It a = It b → a = b) :
    Idl E It m0 us0 cv0 yv0 iprop(wE2 E ∗ wE3 E ∗ R) ⊢ E.wp (k0_t1_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.ym E.xi t1 arg24)
      (fun acc => iprop(⌜acc = BitVec.ofNat 32 (cN (usR E It m0 us0 n) (exv (mR E It m0 n)) 40)⌝ ∗ Idl E (cI (usR E It m0 us0 n) (exv (mR E It m0 n)) It 40) (mR E It m0 n) (usR E It m0 us0 n) (cvR E It cv0 n) (yvR E It m0 yv0 n) iprop(wV2 E (ysv (mR E It m0 n)) ∗ wV3 E (yav (mR E It m0 n)) ∗ R))) := by
  unfold k0_t1_body
  refine bd (p170 ha hn (z49 ha hn) hIt hInj ?_)
  generalize mR E It m0 n = m
  generalize usR E It m0 us0 n = us
  generalize cvR E It cv0 n = cv
  generalize yvR E It m0 yv0 n = yv
  unfold Idl
  refine exists_elim fun g => ?_
  beta_reduce
  refine f15a (wS2 (v := ysv m) fun _ => rfl) ?_
  refine f15b (wS3 (v := yav m) fun _ => rfl) ?_
  refine loop4 (e := exv m) (us := us) hIt ?_
  refine ret ?_
  iintro H
  isplitr; · ipureintro; rfl
  iexists g
  iexact H

end Cert.Proof.KernelIdeal
-- ==== Proof.C4.lean ====
module
public import proofs.«01_k».proof.Proof.C3
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

/-- The contents after both passes: maxima, exponents, codes and results. -/
structure Fin2 (F : FTy → Type) [FloatOps F] where
  m : Vec F S8x128 .f32
  us : ℕ → BitVec 32
  cv : ℕ → ℕ → ℕ → Elt F .fp8e4m3
  yv : ℕ → ℕ → ℕ → Elt F .fp8e4m3
/-- The items of the first pass. -/
def it0 (k : ℕ) : ℕ := if k < 40 then k else 0
section
variable (E : Env F) (m0 : Vec F S8x128 .f32) (us0 : ℕ → BitVec 32) (cv0 yv0 : ℕ → ℕ → ℕ → Elt F .fp8e4m3)
/-- The maxima after the first pass. -/
def m1 : Vec F S8x128 .f32 := mR E it0 m0 40
/-- The exponents after the first pass. -/
def us1 : ℕ → BitVec 32 := usR E it0 m0 us0 40
/-- The codes after the first pass. -/
def cv1 : ℕ → ℕ → ℕ → Elt F .fp8e4m3 := cvR E it0 cv0 40
/-- The results after the first pass. -/
def yv1 : ℕ → ℕ → ℕ → Elt F .fp8e4m3 := yvR E it0 m0 yv0 40
/-- How many items the second pass does again. -/
def n1 : ℕ := cN (us1 E m0 us0) (exv (m1 E m0)) 40
/-- The items of the second pass. -/
def it1 : ℕ → ℕ := cI (us1 E m0 us0) (exv (m1 E m0)) it0 40
/-- The maxima after the second pass. -/
def m2 : Vec F S8x128 .f32 := mR E (it1 E m0 us0) (m1 E m0) (n1 E m0 us0)
/-- The codes after the second pass. -/
def cv2 : ℕ → ℕ → ℕ → Elt F .fp8e4m3 := cvR E (it1 E m0 us0) (cv1 E cv0) (n1 E m0 us0)
/-- The results after the second pass. -/
def yv2 : ℕ → ℕ → ℕ → Elt F .fp8e4m3 := yvR E (it1 E m0 us0) (m1 E m0) (yv1 E m0 yv0) (n1 E m0 us0)
end
theorem it0_lt (k : ℕ) : it0 k < 40 := by unfold it0; split <;> omega
theorem it0_inj : ∀ a < 40, ∀ b < 40, it0 a = it0 b → a = b := by
  intro a ha b hb h
  unfold it0 at h
  rw [if_pos ha, if_pos hb] at h
  exact h
variable {E : Env F} {m0 : Vec F S8x128 .f32} {us0 : ℕ → BitVec 32} {cv0 yv0 : ℕ → ℕ → ℕ → Elt F .fp8e4m3} {R : sProp (MT nD τ sig Unit (Elt F) ℕ (UD sig nD τ) ℕ)}
theorem trips1 : k0_t1_loop.trips = 2 := by decide
theorem n1_le : n1 E m0 us0 ≤ 40 := cN_le _ _ _
theorem it1_lt (k : ℕ) : it1 E m0 us0 k < 40 := cI_lt _ _ _ it0_lt 40 (Nat.le_refl _) _
theorem it1_inj : ∀ a < n1 E m0 us0, ∀ b < n1 E m0 us0, it1 E m0 us0 a = it1 E m0 us0 b → a = b := cI_inj _ _ _ 40
variable (E m0 us0 cv0 yv0 R) in
/-- The state before pass `i`. -/
def pst : ℕ → BitVec 32 → sProp 𝕄
  | 0, acc => iprop(⌜acc = 40#32⌝ ∗ Idl E it0 m0 us0 cv0 yv0 iprop(wE2 E ∗ wE3 E ∗ R))
  | 1, acc => iprop(⌜acc = BitVec.ofNat 32 (n1 E m0 us0)⌝ ∗ Idl E (it1 E m0 us0) (m1 E m0) (us1 E m0 us0) (cv1 E cv0) (yv1 E m0 yv0) iprop(wV2 E (ysv (m1 E m0)) ∗ wV3 E (yav (m1 E m0)) ∗ R))
  | _ + 2, _ => iprop(∃ It us, Idl E It (m2 E m0 us0) us (cv2 E m0 us0 cv0) (yv2 E m0 us0 yv0) iprop(wV2 E (ysv (m2 E m0 us0)) ∗ wV3 E (yav (m2 E m0 us0)) ∗ R))
theorem pst_2 {acc : BitVec 32} : pst E m0 us0 cv0 yv0 R 2 acc = iprop(∃ It us, Idl E It (m2 E m0 us0) us (cv2 E m0 us0 cv0) (yv2 E m0 us0 yv0) iprop(wV2 E (ysv (m2 E m0 us0)) ∗ wV3 E (yav (m2 E m0 us0)) ∗ R)) := rfl
/-- Both passes. -/
theorem loop1 {α : Type} {Q : α → sProp 𝕄} {kk : BitVec 32 → Prog (TpuEff nD τ sig (Elt F) Λ₀ .tc) α}
    (hQ : ∀ acc, iprop(∃ It us, Idl E It (m2 E m0 us0) us (cv2 E m0 us0 cv0) (yv2 E m0 us0 yv0) iprop(wV2 E (ysv (m2 E m0 us0)) ∗ wV3 E (yav (m2 E m0 us0)) ∗ R)) ⊢ E.wp (kk acc) Q) :
    Idl E it0 m0 us0 cv0 yv0 iprop(wE2 E ∗ wE3 E ∗ R) ⊢ E.wp (Scf.Loop.for k0_t1_loop k0_t1_ok 40#32 (k0_t1_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.ym E.xi) >>= kk) Q := by
  have h := Scf.wp_for_bind frame (wpE (defs₀ (F := F)) 𝒱₀ (E.c : Thread nD τ) none) Set.univ k0_t1_loop.lb k0_t1_loop.ub k0_t1_loop.st k0_t1_ok (40#32)
    (k0_t1_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.ym E.xi) (pst E m0 us0 cv0 yv0 R)
    (fun i acc => by
      have hi : i.val < 2 := Nat.lt_of_lt_of_eq i.isLt trips1
      rcases (show i.val = 0 ∨ i.val = 1 by omega) with h | h
      · rw [h]
        show iprop(⌜acc = 40#32⌝ ∗ Idl E it0 m0 us0 cv0 yv0 iprop(wE2 E ∗ wE3 E ∗ R)) ⊢ _
        iintro ⟨%ha, H⟩
        subst ha
        have hp := passT (E := E) (It := it0) (n := 40) (m0 := m0) (us0 := us0) (cv0 := cv0) (yv0 := yv0) (R := R) (arg24 := 40#32) i (by decide) (by omega) it0_lt it0_inj
        have hp2 := BIBase.Entails.trans hp (Idealize.SL.Sem.wp_mono (Fr := frame) (wpE := wpE defs₀ 𝒱₀ (E.c : Thread nD τ) none) (E := Set.univ) (Q' := pst E m0 us0 cv0 yv0 R 1) fun acc => .rfl)
        iapply hp2 $$ H
      · rw [h]
        show iprop(⌜acc = BitVec.ofNat 32 (n1 E m0 us0)⌝ ∗ Idl E (it1 E m0 us0) (m1 E m0) (us1 E m0 us0) (cv1 E cv0) (yv1 E m0 yv0) iprop(wV2 E (ysv (m1 E m0)) ∗ wV3 E (yav (m1 E m0)) ∗ R)) ⊢ _
        iintro ⟨%ha, H⟩
        subst ha
        have hm := Idl_mono (E := E) (It := it1 E m0 us0) (m := m1 E m0) (us := us1 E m0 us0) (cv := cv1 E cv0) (yv := yv1 E m0 yv0)
          (show iprop(wV2 E (ysv (m1 E m0)) ∗ wV3 E (yav (m1 E m0)) ∗ R) ⊢ iprop(wE2 E ∗ wE3 E ∗ R) from BIClass.sep_mono (wV2_wE) (BIClass.sep_mono wV3_wE BIBase.Entails.rfl))
        ihave H := hm $$ H
        have hp := passT (E := E) (It := it1 E m0 us0) (n := n1 E m0 us0) (m0 := m1 E m0) (us0 := us1 E m0 us0) (cv0 := cv1 E cv0) (yv0 := yv1 E m0 yv0) (R := R) (arg24 := BitVec.ofNat 32 (n1 E m0 us0)) i
          (by rw [BitVec.toNat_ofNat]; exact Nat.mod_eq_of_lt (by have := n1_le (E := E) (m0 := m0) (us0 := us0); omega)) n1_le it1_lt it1_inj
        have hp2 := BIBase.Entails.trans hp (Idealize.SL.Sem.wp_mono (Fr := frame) (wpE := wpE defs₀ 𝒱₀ (E.c : Thread nD τ) none) (E := Set.univ) fun acc => show iprop(⌜_⌝ ∗ Idl E _ _ _ _ _ _) ⊢ pst E m0 us0 cv0 yv0 R 2 acc from by
          rw [pst_2]
          iintro ⟨%_, H⟩
          iexists _, _
          iexact H)
        iapply hp2 $$ H) (kk := kk) (Q := Q)
  have ht : Scf.trips k0_t1_loop.lb k0_t1_loop.ub k0_t1_loop.st = 2 := trips1
  rw [ht] at h
  have h0 : Idl E it0 m0 us0 cv0 yv0 iprop(wE2 E ∗ wE3 E ∗ R) ⊢ pst E m0 us0 cv0 yv0 R 0 (40#32) := by
    show _ ⊢ iprop(⌜(40#32 : BitVec 32) = 40#32⌝ ∗ Idl E it0 m0 us0 cv0 yv0 iprop(wE2 E ∗ wE3 E ∗ R))
    iintro H
    isplitr; · ipureintro; rfl
    iexact H
  refine BIBase.Entails.trans h0 ?_
  iintro H
  iapply h $$ H
  iintro %acc H
  ihave H := (Entails.of_eq pst_2) $$ H
  iapply (hQ acc) $$ H

end Cert.Proof.KernelIdeal
-- ==== Proof.C5.lean ====
module
public import proofs.«01_k».proof.Proof.C4
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable {E : Env F} {α : Type} {Q : α → sProp (MT nD τ sig Unit (Elt F) ℕ (UD sig nD τ) ℕ)}
/-- The items after `k` stores. -/
def iw (w : ℕ → BitVec 32) (k j : ℕ) : BitVec 32 := if j < k then BitVec.ofNat 32 j else w j
theorem it_put (k : ℕ) {w : ℕ → BitVec 32} {v : BitVec 32} {off off2 : Fin 1 → ℕ} {h : ∀ a, off a + S1.size a ≤ S40.size a} {h2 : ∀ a, off2 a + S1.size a ≤ S40.size a} {h1 : S1.numel = 1} {hp : EltTy.packing .i32 = 1} {hx hm}
    {kk : PUnit → Prog (TpuEff nD τ sig (Elt F) Λ₀ .tc) α} (h0 : off 0 = k) (h02 : off2 0 = k) (hv : v = BitVec.ofNat 32 k) :
    Items E (iw w k) ⊢ iprop((Items E (iw w (k + 1)) -∗ E.wp (kk ⟨⟩) Q) -∗ E.wp (smemLoad (Memref.whole cc0_scratch7) (Rect.unit (s := S40) off S1.size h) h1 hp >>= fun _ =>
      Prog.lift (.store (Memref.whole cc0_scratch7) (Rect.unit (s := S40) off2 S1.size h2) (fun _ => v) Finset.univ hx hm) >>= kk) Q) := by
  have e : Function.update (iw w k) k v = iw w (k + 1) := by
    funext j
    unfold iw
    by_cases hj : j = k
    · subst hj; rw [Function.update_self, if_pos (by omega), hv]
    · rw [Function.update_of_ne hj]
      by_cases h' : j < k
      · rw [if_pos h', if_pos (by omega)]
      · rw [if_neg h', if_neg (by omega)]
  iintro H Hk
  iapply (it_load (E := E) k h0) $$ H
  iintro H
  have h2' := it_store (E := E) (w := iw w k) (v := v) (hx := hx) (hm := hm) (h := h2) (k := kk) (Q := Q) k h02
  rw [e] at h2'
  iapply h2' $$ H
  iexact Hk
theorem iw_full {w : ℕ → BitVec 32} : Items E (iw w 40) ⊢ Items E (fun k => BitVec.ofNat 32 (it0 k)) := by
  refine Entails.of_eq (Q := Items E (fun k => BitVec.ofNat 32 (it0 k))) (pointsTo_congr fun i _ => ?_)
  have i0 := (i 0).isLt
  change (i 0).val < 40 at i0
  show iw w 40 (i 0).val = BitVec.ofNat 32 (it0 (i 0).val)
  unfold iw it0
  rw [if_pos i0, if_pos i0]
/-- One row of the order replaced. -/
def pvU (f : S8x128.Idx → BitVec 32) (r : ℕ) (v : S1x128.Idx → BitVec 32) : S8x128.Idx → BitVec 32 := fun i => if (i 0).val = r then v (ValueIdx.ix2 0 (i 1)) else f i
/-- The order's vector buffer. -/
def Pv (E : Env F) (f : S8x128.Idx → BitVec 32) : sProp 𝕄 := E.l cc0_scratch5 ↦{fullShare} (f : Buf (Elt F) (E.l cc0_scratch5))
theorem pv_put (r : ℕ) {f : S8x128.Idx → BitVec 32} {v : S1x128.Idx → BitVec 32} {off : Fin 2 → ℕ} {h h2 : ∀ a, off a + S1x128.size a ≤ S8x128.size a} {hl hx hm}
    {kk : PUnit → Prog (TpuEff nD τ sig (Elt F) Λ₀ .tc) α} (h0 : off 0 = r) (h1 : off 1 = 0) :
    Pv E f ⊢ iprop((Pv E (pvU f r v) -∗ E.wp (kk ⟨⟩) Q) -∗ E.wp (Prog.lift (.load (Memref.whole cc0_scratch5) (Rect.unit (s := S8x128) off S1x128.size h).toLoadRect hl) >>= fun _ =>
      Prog.lift (.store (Memref.whole cc0_scratch5) (Rect.unit (s := S8x128) off S1x128.size h2) v Finset.univ hx hm) >>= kk) Q) := by
  unfold Pv
  iintro H Hk
  have hh := wp_load (defs := defs₀ (F := F)) 𝒱₀ (E.c : Thread nD τ) none Set.univ (Γ := .empty) (Q := Q) (m := Memref.whole cc0_scratch5)
    (r := (Rect.unit (s := S8x128) off S1x128.size h).toLoadRect) (hl := hl)
    (k := fun _ => Prog.lift (.store (Memref.whole cc0_scratch5) (Rect.unit (s := S8x128) off S1x128.size h2) v Finset.univ hx hm) >>= kk) (q := fullShare) (f := (f : Buf (Elt F) (E.l cc0_scratch5))) (S := Finset.univ) (Finset.subset_univ _)
  iapply hh $$ H
  iintro H
  have h3 := wp_store (defs := defs₀ (F := F)) 𝒱₀ (E.c : Thread nD τ) none Set.univ (Γ := .empty) (Q := Q) (m := Memref.whole cc0_scratch5) (r := Rect.unit (s := S8x128) off S1x128.size h2)
    (w := v) (Mk := Finset.univ) (hx := hx) (hm := hm) (k := kk) (f := (f : Buf (Elt F) (E.l cc0_scratch5))) (S := Finset.univ) (Finset.subset_univ _)
  have h4 := BIBase.Entails.trans h3 (wand_mono_left (wand_mono_left (Entails.of_eq (Q := (E.l cc0_scratch5 ↦{fullShare} (pvU f r v : Buf (Elt F) (E.l cc0_scratch5)) : sProp 𝕄)) (pointsTo_congr fun j _ => by
    show _ = pvU f r v j
    unfold pvU
    by_cases hj : (j 0).val = r
    · rw [if_pos hj]
      have e : j = (Rect.unit (s := S8x128) off S1x128.size h2).emb (ValueIdx.ix2 0 (j 1)) := by
        funext a
        refine Fin.ext ?_
        fin_cases a
        · exact (show (j 0).val = off 0 + 1 * 0 by omega)
        · exact (show (j 1).val = off 1 + 1 * (j 1).val by omega)
      exact (congrArg _ e).trans (View.write_emb_of_mem (v := (View.whole (sig := sig) cc0_scratch5).slice (Rect.unit (s := S8x128) off S1x128.size h2)) (x := (ValueIdx.ix2 0 (j 1) : S1x128.Idx)) _ _ (Finset.mem_univ _))
    · rw [if_neg hj]
      refine View.write_of_not_mem (v := (View.whole (sig := sig) cc0_scratch5).slice (Rect.unit (s := S8x128) off S1x128.size h2)) _ _ _ fun hc => ?_
      have hc := View.setOn_subset_set _ _ hc
      rw [View.set_slice_whole, Rect.mem_set_unit] at hc
      have := hc 0
      change off 0 ≤ (j 0).val ∧ (j 0).val < off 0 + 1 at this
      exact hj (by omega)))))
  iapply h4 $$ H
  iexact Hk
/-- The weights on their way. -/
def WF (E : Env F) : sProp 𝕄 := Transfers.Flight (EC (F := F)) (E.c : Thread nD τ) (.dma cc0_scratch9.sem) () ((Memref.whole cc0_scratch0).view.amount (SemLoc.dma (sig := sig) cc0_scratch9.sem))
  iprop((E.l cc0_scratch0 ↦{fullShare} ((Memref.whole cc0_scratch0).view.write (Elt F) (E.W : Buf (Elt F) (E.l cc0_scratch0)) ((Memref.whole main_arg3).view.read (Elt F) (E.W : Buf (Elt F) (E.l main_arg3))) Finset.univ)) ∗ (E.l main_arg3 ↦[(Memref.whole main_arg3).view.set]{fullShare} (E.W : Buf (Elt F) (E.l main_arg3))))
theorem ww_eq {f : Buf (Elt F) (E.l cc0_scratch0)} : (Memref.whole cc0_scratch0).view.write (Elt F) f ((Memref.whole main_arg3).view.read (Elt F) (E.W : Buf (Elt F) (E.l main_arg3))) Finset.univ = (E.W : Buf (Elt F) (E.l cc0_scratch0)) := View.write_whole_univ _ _ _
theorem am_w : 0 < (Memref.whole cc0_scratch0 : Memref sig .tc _ _ _).view.amount (SemLoc.dma (sig := sig) cc0_scratch9.sem) := by decide +kernel
theorem am_p : 0 < (Memref.whole cc0_scratch6 : Memref sig .tc _ _ _).view.amount (SemLoc.dma (sig := sig) cc0_scratch13.sem) := by decide +kernel
theorem w_start {w0 : Buf (Elt F) (E.l cc0_scratch0)} {k : PUnit → Prog (TpuEff nD τ sig (Elt F) Λ₀ .tc) α} {h1 h2 h3} :
    iprop((E.l main_arg3 ↦{fullShare} (E.W : Buf (Elt F) (E.l main_arg3))) ∗ (E.l cc0_scratch0 ↦{fullShare} w0) ∗ semVal ((E.c : Thread nD τ), SemLoc.dma cc0_scratch9.sem) 0) ⊢
      iprop((WF E -∗ E.wp (k ⟨⟩) Q) -∗ E.wp (Prog.lift (.enqueueDma (Memref.whole main_arg3) (.here (Memref.whole cc0_scratch0)) (.dma cc0_scratch9.sem) h1 h2 h3) >>= k) Q) := by
  have hh := Transfers.wp_dmaLocal (defs := defs₀ (F := F)) (EC (F := F)) 𝒱₀ (E.c : Thread nD τ) none (src := Memref.whole main_arg3) (via := .same) (dst := Memref.whole cc0_scratch0) (sm := .dma cc0_scratch9.sem) (hsrc := h1) (hdst := h2) (hsem := h3) (k := k) (Q := Q)
    (q := fullShare) (fs := (E.W : Buf (Elt F) (E.l main_arg3))) (Sd := Finset.univ) (fd := w0) () _ rfl am_w (Finset.subset_univ _)
  unfold WF
  rw [ww_eq]
  have e := ww_eq (E := E) (f := w0)
  have hh2 := hh
  rw [show ((Memref.whole cc0_scratch0).view.write (Elt F) w0 (ReadAs.same.apply ((Memref.whole main_arg3).view.read (Elt F) (E.W : Buf (Elt F) (E.l main_arg3)))) Finset.univ) = (E.W : Buf (Elt F) (E.l cc0_scratch0)) from e] at hh2
  have hs : (Memref.whole main_arg3).view.set = Finset.univ := View.set_whole _
  rw [hs] at hh2 ⊢
  exact hh2
theorem w_wait {k : PUnit → Prog (TpuEff nD τ sig (Elt F) Λ₀ .tc) α} {h1 h2} :
    iprop(WF E ∗ Ow E.c) ⊢ iprop((iprop(Wb E ∗ (E.l main_arg3 ↦{fullShare} (E.W : Buf (Elt F) (E.l main_arg3))) ∗ semVal ((E.c : Thread nD τ), SemLoc.dma cc0_scratch9.sem) 0 ∗ Ow E.c) -∗ E.wp (k ⟨⟩) Q)
      -∗ E.wp (Prog.lift (.waitDma2 cc0_scratch9.sem (Memref.whole main_arg3) (Memref.whole cc0_scratch0) h1 h2) >>= k) Q) := by
  have hs : (Memref.whole main_arg3).view.set = Finset.univ := View.set_whole _
  unfold WF Ow
  rw [ww_eq, hs]
  iintro ⟨H, ⟨%W, HO⟩⟩ Hk
  iapply (Transfers.wp_waitLocal (EC (F := F)) 𝒱₀ (E.c : Thread nD τ) none (sem := cc0_scratch9.sem) (srcw := Memref.whole main_arg3) (dstw := Memref.whole cc0_scratch0) (hsrc := h1) (hdst := h2) () rfl) $$ [H HO]
  · isplitl [H]; · iexact H
    iexact HO
  iintro ⟨⟨H1, H2⟩, H3, HO⟩
  iapply Hk
  isplitl [H1]; · unfold Wb; iexact H1
  isplitl [H2]; · iexact H2
  isplitl [H3]; · iexact H3
  iexists _; iexact HO
/-- The order on its way to scalar memory. -/
def PF (E : Env F) (f : S8x128.Idx → BitVec 32) : sProp 𝕄 := Transfers.Flight (EC (F := F)) (E.c : Thread nD τ) (.dma cc0_scratch13.sem) () ((Memref.whole cc0_scratch6).view.amount (SemLoc.dma (sig := sig) cc0_scratch13.sem))
  iprop((E.l cc0_scratch6 ↦{fullShare} (f : Buf (Elt F) (E.l cc0_scratch6))) ∗ Pv E f)
theorem p_start {f : S8x128.Idx → BitVec 32} {w0 : Buf (Elt F) (E.l cc0_scratch6)} {k : PUnit → Prog (TpuEff nD τ sig (Elt F) Λ₀ .tc) α} {h1 h2 h3} :
    iprop(Pv E f ∗ (E.l cc0_scratch6 ↦{fullShare} w0) ∗ semVal ((E.c : Thread nD τ), SemLoc.dma cc0_scratch13.sem) 0) ⊢
      iprop((PF E f -∗ E.wp (k ⟨⟩) Q) -∗ E.wp (Prog.lift (.enqueueDma (Memref.whole cc0_scratch5) (.here (Memref.whole cc0_scratch6)) (.dma cc0_scratch13.sem) h1 h2 h3) >>= k) Q) := by
  have hh := Transfers.wp_dmaLocal (defs := defs₀ (F := F)) (EC (F := F)) 𝒱₀ (E.c : Thread nD τ) none (src := Memref.whole cc0_scratch5) (via := .same) (dst := Memref.whole cc0_scratch6) (sm := .dma cc0_scratch13.sem) (hsrc := h1) (hdst := h2) (hsem := h3) (k := k) (Q := Q)
    (q := fullShare) (fs := (f : Buf (Elt F) (E.l cc0_scratch5))) (Sd := Finset.univ) (fd := w0) () _ rfl am_p (Finset.subset_univ _)
  unfold PF Pv
  have e : ((Memref.whole cc0_scratch6).view.write (Elt F) w0 (ReadAs.same.apply ((Memref.whole cc0_scratch5).view.read (Elt F) (f : Buf (Elt F) (E.l cc0_scratch5)))) Finset.univ) = (f : Buf (Elt F) (E.l cc0_scratch6)) := View.write_whole_univ _ _ _
  rw [e] at hh
  have hs : (Memref.whole cc0_scratch5).view.set = Finset.univ := View.set_whole _
  rw [hs] at hh
  exact hh
theorem p_wait {f : S8x128.Idx → BitVec 32} {k : PUnit → Prog (TpuEff nD τ sig (Elt F) Λ₀ .tc) α} {h1 h2} (hf : ∀ i : S8x128.Idx, 128 * (i 0).val + (i 1).val < 320 → f i = BitVec.ofNat 32 (E.P (128 * (i 0).val + (i 1).val))) :
    iprop(PF E f ∗ Ow E.c) ⊢ iprop((iprop(Perm E ∗ Pv E f ∗ semVal ((E.c : Thread nD τ), SemLoc.dma cc0_scratch13.sem) 0 ∗ Ow E.c) -∗ E.wp (k ⟨⟩) Q)
      -∗ E.wp (Prog.lift (.waitDma2 cc0_scratch13.sem (Memref.whole cc0_scratch5) (Memref.whole cc0_scratch6) h1 h2) >>= k) Q) := by
  unfold PF Ow
  iintro ⟨H, ⟨%W, HO⟩⟩ Hk
  iapply (Transfers.wp_waitLocal (EC (F := F)) 𝒱₀ (E.c : Thread nD τ) none (sem := cc0_scratch13.sem) (srcw := Memref.whole cc0_scratch5) (dstw := Memref.whole cc0_scratch6) (hsrc := h1) (hdst := h2) () rfl) $$ [H HO]
  · isplitl [H]; · iexact H
    iexact HO
  iintro ⟨⟨H1, H2⟩, H3, HO⟩
  iapply Hk
  isplitl [H1]
  · unfold Perm
    iexists f
    isplitr; · ipureintro; exact hf
    iexact H1
  isplitl [H2]; · iexact H2
  isplitl [H3]; · iexact H3
  iexists _; iexact HO
/-- The group maxima and the factor, in their blocks. -/
def Gm (E : Env F) (gm : Vec F S320x128 .f32) : sProp 𝕄 := E.l cc0_stg0_0 ↦{fullShare} (gm : Buf (Elt F) (E.l cc0_stg0_0))
def Ws (E : Env F) (ws : S1x1.Idx → F .f32) : sProp 𝕄 := E.l cc0_stg1_0 ↦{fullShare} (ws : Buf (Elt F) (E.l cc0_stg1_0))
theorem gm_load {v : Vec F S320x128 .f32} {k : Vec F S320x128 .f32 → Prog (TpuEff nD τ sig (Elt F) Λ₀ .tc) α} {h hl} :
    Gm E v ⊢ iprop((Gm E v -∗ E.wp (k v) Q) -∗ E.wp (Prog.lift (.load (win0_0.stage 0) (Rect.unit (s := S320x128) ![0, 0] S320x128.size h).toLoadRect hl) >>= k) Q) := by
  have hh := wp_load (defs := defs₀ (F := F)) 𝒱₀ (E.c : Thread nD τ) none Set.univ (Γ := .empty) (Q := Q) (m := Memref.whole cc0_stg0_0)
    (r := (Rect.unit (s := S320x128) ![0, 0] S320x128.size h).toLoadRect) (hl := hl) (k := k) (q := fullShare) (f := (v : Buf (Elt F) (E.l cc0_stg0_0))) (S := Finset.univ) (Finset.subset_univ _)
  have e : (Memref.whole cc0_stg0_0).view.readAt (Elt F) (Rect.unit (s := S320x128) ![0, 0] S320x128.size h).toLoadRect v = v := by
    funext j
    refine congrArg v (funext fun a => Fin.ext ?_)
    fin_cases a
    · exact (show 0 + 1 * (j 0).val = (j 0).val by omega)
    · exact (show 0 + 1 * (j 1).val = (j 1).val by omega)
  rw [e] at hh
  exact hh
theorem ws_load {w : S1x1.Idx → F .f32} {k : F .f32 → Prog (TpuEff nD τ sig (Elt F) Λ₀ .tc) α} {h : ∀ a, (![0, 0] : Fin 2 → ℕ) a + S1x1.size a ≤ S1x1.size a} {h1 : S1x1.numel = 1} {hp : EltTy.packing .f32 = 1} :
    Ws E w ⊢ iprop((Ws E w -∗ E.wp (k (w (ValueIdx.ix2 0 0))) Q) -∗ E.wp (smemLoad (win0_1.stage 0) (Rect.unit (s := S1x1) ![0, 0] S1x1.size h) h1 hp >>= k) Q) := by
  have hh := wp_load (defs := defs₀ (F := F)) 𝒱₀ (E.c : Thread nD τ) none Set.univ (Γ := .empty) (Q := Q) (m := Memref.whole cc0_stg1_0)
    (r := (Rect.unit (s := S1x1) ![0, 0] S1x1.size h).toLoadRect) (hl := View.loadsAt_rect (View.loads_smem_one hp h1))
    (k := fun f => k (f (Shape.Idx.first (h1.symm ▸ Nat.one_pos)))) (q := fullShare) (f := (w : Buf (Elt F) (E.l cc0_stg1_0))) (S := Finset.univ) (Finset.subset_univ _)
  have e : ((Memref.whole cc0_stg1_0).view.readAt (Elt F) (Rect.unit (s := S1x1) ![0, 0] S1x1.size h).toLoadRect w (Shape.Idx.first (h1.symm ▸ Nat.one_pos)) : F .f32)
      = w (ValueIdx.ix2 0 0) := by
    refine congrArg w (funext fun a => Fin.ext ?_)
    fin_cases a
    · exact (show 0 + 1 * _ = 0 from rfl)
    · exact (show 0 + 1 * _ = 0 from rfl)
  rw [e] at hh
  exact hh

/-- The ranks of the groups. -/
def rkV (gm : Vec F S320x128 .f32) : IVec S320x1 32 := k0_pay432 (k0_pay429 (k0_pay423 gm)) (iota .tc S320x128 32 [0] iota_S320x128_d0_w32) (iota .tc S320x128 32 [1] iota_S320x128_d1_w32) (k0_pay430 (k0_pay423 gm)) k0_pay431
/-- The three rows of the order. -/
def rowP (gm : Vec F S320x128 .f32) : ℕ → IVec S1x128 32
  | 0 => k0_pay434 (k0_pay433 (k0_pay429 (k0_pay423 gm)) (iota .tc S320x128 32 [0] iota_S320x128_d0_w32) (iota .tc S320x128 32 [1] iota_S320x128_d1_w32) (k0_pay430 (k0_pay423 gm)) k0_pay431)
  | 1 => k0_pay435 (iota .tc S320x128 32 [0] iota_S320x128_d0_w32) (iota .tc S320x128 32 [1] iota_S320x128_d1_w32) (rkV gm)
  | _ + 2 => k0_pay436 (iota .tc S320x128 32 [0] iota_S320x128_d0_w32) (iota .tc S320x128 32 [1] iota_S320x128_d1_w32) (rkV gm)
/-- The scale of the rows. -/
def xsv (gm : Vec F S320x128 .f32) : F .f32 := k0_pay426 (k0_pay425 gm)
/-- The run's values are those of the group maxima `gm` and the factor `ws`. -/
structure Env.Ok (E : Env F) (gm : Vec F S320x128 .f32) (ws : S1x1.Idx → F .f32) : Prop where
  ym : E.ym = k0_pay427 (k0_pay425 gm) (ws (ValueIdx.ix2 0 0))
  xi : E.xi = k0_pay428 (k0_pay424 gm)
  perm : ∀ r < 3, ∀ l : Fin 128, 128 * r + l.val < 320 → rowP gm r (ValueIdx.ix2 0 l) = BitVec.ofNat 32 (E.P (128 * r + l.val))

variable {R : sProp (MT nD τ sig Unit (Elt F) ℕ (UD sig nD τ) ℕ)}
/-- The body up to the passes. -/
theorem prol {Q : PUnit → sProp 𝕄} {gm : Vec F S320x128 .f32} {ws : S1x1.Idx → F .f32} {w0 : Buf (Elt F) (E.l cc0_scratch0)} {pv : S8x128.Idx → BitVec 32} {ps : Buf (Elt F) (E.l cc0_scratch6)} {mm : Vec F S8x128 .f32} {w : ℕ → BitVec 32} (hE : E.Ok gm ws)
    (hQ : iprop((R) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Mb E k0_pay437) ∗ (Items E (iw w 40)) ∗ (Wb E) ∗ (E.l main_arg3 ↦{fullShare} (E.W : Buf (Elt F) (E.l main_arg3))) ∗ (semVal ((E.c : Thread nD τ), SemLoc.dma cc0_scratch9.sem) 0) ∗ (Ow E.c)) ⊢ E.wp (Scf.Loop.for k0_t1_loop k0_t1_ok 40#32 (k0_t1_body (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 E.ym E.xi) >>= fun _ => pure ⟨⟩) Q) :
    iprop((Gm E gm) ∗ (Ws E ws) ∗ (wE4 E) ∗ (E.l cc0_scratch0 ↦{fullShare} w0) ∗ (E.l main_arg3 ↦{fullShare} (E.W : Buf (Elt F) (E.l main_arg3))) ∗ (semVal ((E.c : Thread nD τ), SemLoc.dma cc0_scratch9.sem) 0) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R)) ⊢ E.wp (cc0_fp8_linear (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) Q := by
  have hf : ∀ i : S8x128.Idx, 128 * (i 0).val + (i 1).val < 320 → (pvU (pvU (pvU pv 0 (rowP gm 0)) 1 (rowP gm 1)) 2 (rowP gm 2)) i = BitVec.ofNat 32 (E.P (128 * (i 0).val + (i 1).val)) := by
    intro i hi
    have hr : (i 0).val = 0 ∨ (i 0).val = 1 ∨ (i 0).val = 2 := by omega
    rcases hr with h | h | h
    · rw [h] at hi ⊢
      unfold pvU
      rw [if_neg (by omega), if_neg (by omega), if_pos (by omega)]
      exact hE.perm 0 (by omega) (i 1) hi
    · rw [h] at hi ⊢
      unfold pvU
      rw [if_neg (by omega), if_pos (by omega)]
      exact hE.perm 1 (by omega) (i 1) hi
    · rw [h] at hi ⊢
      unfold pvU
      rw [if_pos (by omega)]
      exact hE.perm 2 (by omega) (i 1) hi
  rw [cc0_fp8_linear_eq_skeleton]
  unfold cc0_fp8_linear_skel
  refine bd ?_
  rw [k0_part171_eq_skeleton]; unfold k0_part171_skel
  refine foc (S := iprop((Gm E gm) ∗ (Ws E ws) ∗ (wE4 E) ∗ (E.l cc0_scratch0 ↦{fullShare} w0) ∗ (E.l main_arg3 ↦{fullShare} (E.W : Buf (Elt F) (E.l main_arg3))) ∗ (semVal ((E.c : Thread nD τ), SemLoc.dma cc0_scratch9.sem) 0) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R))) (S' := iprop((Gm E gm) ∗ (Ws E ws) ∗ (wE4 E) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E))) (A := iprop((E.l main_arg3 ↦{fullShare} (E.W : Buf (Elt F) (E.l main_arg3))) ∗ (E.l cc0_scratch0 ↦{fullShare} w0) ∗ (semVal ((E.c : Thread nD τ), SemLoc.dma cc0_scratch9.sem) 0))) (B := iprop((WF E))) (R := iprop((Gm E gm) ∗ (Ws E ws) ∗ (wE4 E) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R))) (by ac_rfl) (by ac_rfl) (w_start) ?_
  refine foc (S := iprop((Gm E gm) ∗ (Ws E ws) ∗ (wE4 E) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E))) (S' := iprop((Ws E ws) ∗ (wE4 E) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E) ∗ (Gm E gm))) (A := iprop((Gm E gm))) (B := iprop((Gm E gm))) (R := iprop((Ws E ws) ∗ (wE4 E) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E))) (by ac_rfl) (by ac_rfl) (gm_load) ?_
  refine ret ?_
  refine bd ?_
  rw [k0_part172_eq_skeleton]; unfold k0_part172_skel
  refine foc (S := iprop((Ws E ws) ∗ (wE4 E) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E) ∗ (Gm E gm))) (S' := iprop((Ws E ws) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E) ∗ (Gm E gm) ∗ (wV4 E (xsv gm)))) (A := iprop((wE4 E))) (B := iprop((wV4 E (xsv gm)))) (R := iprop((Ws E ws) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E) ∗ (Gm E gm))) (by ac_rfl) (by ac_rfl) (wS4 (v := xsv gm) fun _ => rfl) ?_
  refine foc (S := iprop((Ws E ws) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E) ∗ (Gm E gm) ∗ (wV4 E (xsv gm)))) (S' := iprop((semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws))) (A := iprop((Ws E ws))) (B := iprop((Ws E ws))) (R := iprop((semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E) ∗ (Gm E gm) ∗ (wV4 E (xsv gm)))) (by ac_rfl) (by ac_rfl) (ws_load) ?_
  refine ret ?_
  beta_reduce
  rw [← hE.ym, ← hE.xi]
  refine bd ?_
  rw [k0_part173_eq_skeleton]; unfold k0_part173_skel
  refine ret ?_
  refine bd ?_
  rw [k0_part174_eq_skeleton]; unfold k0_part174_skel
  refine foc (S := iprop((semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws))) (S' := iprop((semVal ((E.c : Thread nD τ), SemLoc.dma cc0_scratch13.sem) 0) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws) ∗ (Pv E (pvU pv 0 (rowP gm 0))))) (A := iprop((Pv E pv))) (B := iprop((Pv E (pvU pv 0 (rowP gm 0))))) (R := iprop((semVal ((E.c : Thread nD τ), SemLoc.dma cc0_scratch13.sem) 0) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws))) (by ac_rfl) (by ac_rfl) (pv_put (v := rowP gm 0) 0 rfl rfl) ?_
  refine foc (S := iprop((semVal ((E.c : Thread nD τ), SemLoc.dma cc0_scratch13.sem) 0) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws) ∗ (Pv E (pvU pv 0 (rowP gm 0))))) (S' := iprop((semVal ((E.c : Thread nD τ), SemLoc.dma cc0_scratch13.sem) 0) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws) ∗ (Pv E (pvU (pvU pv 0 (rowP gm 0)) 1 (rowP gm 1))))) (A := iprop((Pv E (pvU pv 0 (rowP gm 0))))) (B := iprop((Pv E (pvU (pvU pv 0 (rowP gm 0)) 1 (rowP gm 1))))) (R := iprop((semVal ((E.c : Thread nD τ), SemLoc.dma cc0_scratch13.sem) 0) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws))) (by ac_rfl) (by ac_rfl) (pv_put (v := rowP gm 1) 1 rfl rfl) ?_
  refine foc (S := iprop((semVal ((E.c : Thread nD τ), SemLoc.dma cc0_scratch13.sem) 0) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws) ∗ (Pv E (pvU (pvU pv 0 (rowP gm 0)) 1 (rowP gm 1))))) (S' := iprop((semVal ((E.c : Thread nD τ), SemLoc.dma cc0_scratch13.sem) 0) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws) ∗ (Pv E (pvU (pvU (pvU pv 0 (rowP gm 0)) 1 (rowP gm 1)) 2 (rowP gm 2))))) (A := iprop((Pv E (pvU (pvU pv 0 (rowP gm 0)) 1 (rowP gm 1))))) (B := iprop((Pv E (pvU (pvU (pvU pv 0 (rowP gm 0)) 1 (rowP gm 1)) 2 (rowP gm 2))))) (R := iprop((semVal ((E.c : Thread nD τ), SemLoc.dma cc0_scratch13.sem) 0) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws))) (by ac_rfl) (by ac_rfl) (pv_put (v := rowP gm 2) 2 rfl rfl) ?_
  refine foc (S := iprop((semVal ((E.c : Thread nD τ), SemLoc.dma cc0_scratch13.sem) 0) ∗ (E.l cc0_scratch6 ↦{fullShare} ps) ∗ (Mb E mm) ∗ (Items E (iw w 0)) ∗ (Ow E.c) ∗ (R) ∗ (WF E) ∗ (Gm E gm) ∗ (wV4 E (xsv gm)) ∗ (Ws E ws) ∗ (Pv E (pvU (pvU (pvU pv 0 (rowP gm 0)) 1 (rowP gm 1)) 2 (rowP gm 2))))) (S' := iprop((Mb E mm) ∗ (Items E (iw w 0)) ∗ (Ow E.c) ∗ (R) ∗ (WF E) ∗ (Gm E gm) ∗ (wV4 E (xsv gm)) ∗ (Ws E ws) ∗ (PF E (pvU (pvU (pvU pv 0 (rowP gm 0)) 1 (rowP gm 1)) 2 (rowP gm 2))))) (A := iprop((Pv E (pvU (pvU (pvU pv 0 (rowP gm 0)) 1 (rowP gm 1)) 2 (rowP gm 2))) ∗ (E.l cc0_scratch6 ↦{fullShare} ps) ∗ (semVal ((E.c : Thread nD τ), SemLoc.dma cc0_scratch13.sem) 0))) (B := iprop((PF E (pvU (pvU (pvU pv 0 (rowP gm 0)) 1 (rowP gm 1)) 2 (rowP gm 2))))) (R := iprop((Mb E mm) ∗ (Items E (iw w 0)) ∗ (Ow E.c) ∗ (R) ∗ (WF E) ∗ (Gm E gm) ∗ (wV4 E (xsv gm)) ∗ (Ws E ws))) (by ac_rfl) (by ac_rfl) (p_start) ?_
  refine foc (S := iprop((Mb E mm) ∗ (Items E (iw w 0)) ∗ (Ow E.c) ∗ (R) ∗ (WF E) ∗ (Gm E gm) ∗ (wV4 E (xsv gm)) ∗ (Ws E ws) ∗ (PF E (pvU (pvU (pvU pv 0 (rowP gm 0)) 1 (rowP gm 1)) 2 (rowP gm 2))))) (S' := iprop((Mb E mm) ∗ (Items E (iw w 0)) ∗ (R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c))) (A := iprop((PF E (pvU (pvU (pvU pv 0 (rowP gm 0)) 1 (rowP gm 1)) 2 (rowP gm 2))) ∗ (Ow E.c))) (B := iprop((Perm E) ∗ (Pv E (pvU (pvU (pvU pv 0 (rowP gm 0)) 1 (rowP gm 1)) 2 (rowP gm 2))) ∗ (semVal ((E.c : Thread nD τ), SemLoc.dma cc0_scratch13.sem) 0) ∗ (Ow E.c))) (R := iprop((Mb E mm) ∗ (Items E (iw w 0)) ∗ (R) ∗ (WF E) ∗ (Gm E gm) ∗ (wV4 E (xsv gm)) ∗ (Ws E ws))) (by ac_rfl) (by ac_rfl) (p_wait hf) ?_
  refine foc (S := iprop((Mb E mm) ∗ (Items E (iw w 0)) ∗ (R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c))) (S' := iprop((Items E (iw w 0)) ∗ (R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E mm))) (A := iprop((Mb E mm))) (B := iprop((Mb E mm))) (R := iprop((Items E (iw w 0)) ∗ (R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c))) (by ac_rfl) (by ac_rfl) (m_load) ?_
  refine foc (S := iprop((Items E (iw w 0)) ∗ (R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E mm))) (S' := iprop((Items E (iw w 0)) ∗ (R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (A := iprop((Mb E mm))) (B := iprop((Mb E k0_pay437))) (R := iprop((Items E (iw w 0)) ∗ (R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c))) (by ac_rfl) (by ac_rfl) (m_store) ?_
  refine foc (S := iprop((Items E (iw w 0)) ∗ (R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 1)))) (A := iprop((Items E (iw w 0)))) (B := iprop((Items E (iw w 1)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 0 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 1)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 2)))) (A := iprop((Items E (iw w 1)))) (B := iprop((Items E (iw w 2)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 1 rfl rfl rfl) ?_
  refine ret ?_
  refine bd ?_
  rw [k0_part175_eq_skeleton]; unfold k0_part175_skel
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 2)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 3)))) (A := iprop((Items E (iw w 2)))) (B := iprop((Items E (iw w 3)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 2 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 3)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 4)))) (A := iprop((Items E (iw w 3)))) (B := iprop((Items E (iw w 4)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 3 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 4)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 5)))) (A := iprop((Items E (iw w 4)))) (B := iprop((Items E (iw w 5)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 4 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 5)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 6)))) (A := iprop((Items E (iw w 5)))) (B := iprop((Items E (iw w 6)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 5 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 6)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 7)))) (A := iprop((Items E (iw w 6)))) (B := iprop((Items E (iw w 7)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 6 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 7)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 8)))) (A := iprop((Items E (iw w 7)))) (B := iprop((Items E (iw w 8)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 7 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 8)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 9)))) (A := iprop((Items E (iw w 8)))) (B := iprop((Items E (iw w 9)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 8 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 9)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 10)))) (A := iprop((Items E (iw w 9)))) (B := iprop((Items E (iw w 10)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 9 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 10)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 11)))) (A := iprop((Items E (iw w 10)))) (B := iprop((Items E (iw w 11)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 10 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 11)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 12)))) (A := iprop((Items E (iw w 11)))) (B := iprop((Items E (iw w 12)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 11 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 12)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 13)))) (A := iprop((Items E (iw w 12)))) (B := iprop((Items E (iw w 13)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 12 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 13)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 14)))) (A := iprop((Items E (iw w 13)))) (B := iprop((Items E (iw w 14)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 13 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 14)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 15)))) (A := iprop((Items E (iw w 14)))) (B := iprop((Items E (iw w 15)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 14 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 15)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 16)))) (A := iprop((Items E (iw w 15)))) (B := iprop((Items E (iw w 16)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 15 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 16)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 17)))) (A := iprop((Items E (iw w 16)))) (B := iprop((Items E (iw w 17)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 16 rfl rfl rfl) ?_
  refine ret ?_
  refine bd ?_
  rw [k0_part176_eq_skeleton]; unfold k0_part176_skel
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 17)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 18)))) (A := iprop((Items E (iw w 17)))) (B := iprop((Items E (iw w 18)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 17 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 18)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 19)))) (A := iprop((Items E (iw w 18)))) (B := iprop((Items E (iw w 19)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 18 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 19)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 20)))) (A := iprop((Items E (iw w 19)))) (B := iprop((Items E (iw w 20)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 19 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 20)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 21)))) (A := iprop((Items E (iw w 20)))) (B := iprop((Items E (iw w 21)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 20 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 21)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 22)))) (A := iprop((Items E (iw w 21)))) (B := iprop((Items E (iw w 22)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 21 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 22)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 23)))) (A := iprop((Items E (iw w 22)))) (B := iprop((Items E (iw w 23)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 22 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 23)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 24)))) (A := iprop((Items E (iw w 23)))) (B := iprop((Items E (iw w 24)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 23 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 24)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 25)))) (A := iprop((Items E (iw w 24)))) (B := iprop((Items E (iw w 25)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 24 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 25)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 26)))) (A := iprop((Items E (iw w 25)))) (B := iprop((Items E (iw w 26)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 25 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 26)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 27)))) (A := iprop((Items E (iw w 26)))) (B := iprop((Items E (iw w 27)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 26 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 27)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 28)))) (A := iprop((Items E (iw w 27)))) (B := iprop((Items E (iw w 28)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 27 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 28)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 29)))) (A := iprop((Items E (iw w 28)))) (B := iprop((Items E (iw w 29)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 28 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 29)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 30)))) (A := iprop((Items E (iw w 29)))) (B := iprop((Items E (iw w 30)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 29 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 30)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 31)))) (A := iprop((Items E (iw w 30)))) (B := iprop((Items E (iw w 31)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 30 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 31)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 32)))) (A := iprop((Items E (iw w 31)))) (B := iprop((Items E (iw w 32)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 31 rfl rfl rfl) ?_
  refine ret ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 32)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 33)))) (A := iprop((Items E (iw w 32)))) (B := iprop((Items E (iw w 33)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 32 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 33)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 34)))) (A := iprop((Items E (iw w 33)))) (B := iprop((Items E (iw w 34)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 33 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 34)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 35)))) (A := iprop((Items E (iw w 34)))) (B := iprop((Items E (iw w 35)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 34 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 35)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 36)))) (A := iprop((Items E (iw w 35)))) (B := iprop((Items E (iw w 36)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 35 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 36)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 37)))) (A := iprop((Items E (iw w 36)))) (B := iprop((Items E (iw w 37)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 36 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 37)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 38)))) (A := iprop((Items E (iw w 37)))) (B := iprop((Items E (iw w 38)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 37 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 38)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 39)))) (A := iprop((Items E (iw w 38)))) (B := iprop((Items E (iw w 39)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 38 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 39)))) (S' := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 40)))) (A := iprop((Items E (iw w 39)))) (B := iprop((Items E (iw w 40)))) (R := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437))) (by ac_rfl) (by ac_rfl) (it_put 39 rfl rfl rfl) ?_
  refine foc (S := iprop((R) ∗ (WF E) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Ow E.c) ∗ (Mb E k0_pay437) ∗ (Items E (iw w 40)))) (S' := iprop((R) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Mb E k0_pay437) ∗ (Items E (iw w 40)) ∗ (Wb E) ∗ (E.l main_arg3 ↦{fullShare} (E.W : Buf (Elt F) (E.l main_arg3))) ∗ (semVal ((E.c : Thread nD τ), SemLoc.dma cc0_scratch9.sem) 0) ∗ (Ow E.c))) (A := iprop((WF E) ∗ (Ow E.c))) (B := iprop((Wb E) ∗ (E.l main_arg3 ↦{fullShare} (E.W : Buf (Elt F) (E.l main_arg3))) ∗ (semVal ((E.c : Thread nD τ), SemLoc.dma cc0_scratch9.sem) 0) ∗ (Ow E.c))) (R := iprop((R) ∗ (Gm E gm) ∗ (wV4 E (xsv gm)) ∗ (Ws E ws) ∗ (Perm E) ∗ (Pv E (pvU (pvU (pvU pv 0 (rowP gm 0)) 1 (rowP gm 1)) 2 (rowP gm 2))) ∗ (semVal ((E.c : Thread nD τ), SemLoc.dma cc0_scratch13.sem) 0) ∗ (Mb E k0_pay437) ∗ (Items E (iw w 40)))) (by ac_rfl) (by ac_rfl) (w_wait) ?_
  exact hQ

end Cert.Proof.KernelIdeal
-- ==== Proof.C6.lean ====
module
public import proofs.«01_k».proof.Proof.C5
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

section pure
variable {E : Env F} {It : ℕ → ℕ} {m0 : Vec F S8x128 .f32} {us0 : ℕ → BitVec 32} {cv0 yv0 : ℕ → ℕ → ℕ → Elt F .fp8e4m3}
/-- What a step's item got as its exponent. -/
theorem usR_hit {n j : ℕ} (hj : j < n) (hInj : ∀ a < n, ∀ b < n, It a = It b → a = b) : usR E It m0 us0 n (It j) = exOf (mR E It m0 j) := by
  induction n with
  | zero => omega
  | succ n ih =>
    show Function.update (usR E It m0 us0 n) (It n) (exOf (mR E It m0 n)) (It j) = _
    by_cases h : j = n
    · subst h; rw [Function.update_self]
    · rw [Function.update_of_ne (fun e => h (hInj _ hj _ (by omega) e))]
      exact ih (by omega) fun a ha b hb => hInj a (by omega) b (by omega)
theorem usR_miss {n k : ℕ} (hk : ∀ j < n, It j ≠ k) : usR E It m0 us0 n k = us0 k := by
  induction n with
  | zero => rfl
  | succ n ih =>
    show Function.update (usR E It m0 us0 n) (It n) (exOf (mR E It m0 n)) k = _
    rw [Function.update_of_ne (fun e => hk n (by omega) e.symm)]
    exact ih fun j hj => hk j (by omega)
/-- What a step's item got as its codes. -/
theorem cvR_hit {n j : ℕ} (hj : j < n) (hInj : ∀ a < n, ∀ b < n, It a = It b → a = b) : cvR E It cv0 n (It j) = cqv E (E.XV (It j)) := by
  induction n with
  | zero => omega
  | succ n ih =>
    show Function.update (cvR E It cv0 n) (It n) (co E It n) (It j) = _
    by_cases h : j = n
    · subst h; rw [Function.update_self]; rfl
    · rw [Function.update_of_ne (fun e => h (hInj _ hj _ (by omega) e))]
      exact ih (by omega) fun a ha b hb => hInj a (by omega) b (by omega)
theorem cvR_miss {n k : ℕ} (hk : ∀ j < n, It j ≠ k) : cvR E It cv0 n k = cv0 k := by
  induction n with
  | zero => rfl
  | succ n ih =>
    show Function.update (cvR E It cv0 n) (It n) (co E It n) k = _
    rw [Function.update_of_ne (fun e => hk n (by omega) e.symm)]
    exact ih fun j hj => hk j (by omega)
/-- What a step's item got as its results. -/
theorem yvR_hit {n j : ℕ} (hj : j < n) (hInj : ∀ a < n, ∀ b < n, It a = It b → a = b) : yvR E It m0 yv0 n (It j) = yR E It m0 j := by
  induction n with
  | zero => omega
  | succ n ih =>
    show Function.update (yvR E It m0 yv0 n) (It n) (yR E It m0 n) (It j) = _
    by_cases h : j = n
    · subst h; rw [Function.update_self]
    · rw [Function.update_of_ne (fun e => h (hInj _ hj _ (by omega) e))]
      exact ih (by omega) fun a ha b hb => hInj a (by omega) b (by omega)
theorem yvR_miss {n k : ℕ} (hk : ∀ j < n, It j ≠ k) : yvR E It m0 yv0 n k = yv0 k := by
  induction n with
  | zero => rfl
  | succ n ih =>
    show Function.update (yvR E It m0 yv0 n) (It n) (yR E It m0 n) k = _
    rw [Function.update_of_ne (fun e => hk n (by omega) e.symm)]
    exact ih fun j hj => hk j (by omega)
theorem cN_congr {us us' : ℕ → BitVec 32} {e : BitVec 32} {k : ℕ} (h : ∀ s < k, us s = us' s) : cN us e k = cN us' e k := by
  induction k with
  | zero => rfl
  | succ k ih =>
    show cN us e k + (if us k ≠ e then 1 else 0) = cN us' e k + (if us' k ≠ e then 1 else 0)
    rw [ih fun s hs => h s (by omega), h k (by omega)]
theorem cI_congr {us us' : ℕ → BitVec 32} {e : BitVec 32} {k : ℕ} (h : ∀ s < k, us s = us' s) : cI us e It k = cI us' e It k := by
  induction k with
  | zero => rfl
  | succ k ih =>
    show (if us k ≠ e then Function.update (cI us e It k) (cN us e k) k else cI us e It k) = (if us' k ≠ e then Function.update (cI us' e It k) (cN us' e k) k else cI us' e It k)
    rw [ih fun s hs => h s (by omega), h k (by omega), cN_congr fun s hs => h s (by omega)]
theorem it0_at {k : ℕ} (h : k < 40) : it0 k = k := if_pos h
/-- The exponents after the first pass. -/
theorem us1_at {k : ℕ} (h : k < 40) : us1 E m0 us0 k = exOf (mR E it0 m0 k) := by
  have := usR_hit (E := E) (m0 := m0) (us0 := us0) h it0_inj
  rw [it0_at h] at this
  exact this
theorem us1_ind {us0' : ℕ → BitVec 32} : ∀ k < 40, us1 E m0 us0 k = us1 E m0 us0' k := fun k h => (us1_at h).trans (us1_at h).symm
theorem n1_ind {us0' : ℕ → BitVec 32} : n1 E m0 us0 = n1 E m0 us0' := cN_congr us1_ind
theorem it1_ind {us0' : ℕ → BitVec 32} : it1 E m0 us0 = it1 E m0 us0' := cI_congr us1_ind
theorem m2_ind {us0' : ℕ → BitVec 32} : m2 E m0 us0 = m2 E m0 us0' := by unfold m2; rw [n1_ind (us0' := us0'), it1_ind (us0' := us0')]
/-- The codes at the end. -/
theorem cv2_at {k : ℕ} (h : k < 40) : cv2 E m0 us0 cv0 k = cqv E (E.XV k) := by
  unfold cv2
  by_cases hh : ∃ j < n1 E m0 us0, it1 E m0 us0 j = k
  · obtain ⟨j, hj, e⟩ := hh
    rw [← e]
    exact cvR_hit hj it1_inj
  · rw [cvR_miss fun j hj e => hh ⟨j, hj, e⟩]
    have := cvR_hit (E := E) (cv0 := cv0) h it0_inj
    rw [it0_at h] at this
    exact this
end pure
open Classical in
/-- The results of item `k` at the end. -/
def yfin (E : Env F) (m0 : Vec F S8x128 .f32) (k : ℕ) : ℕ → ℕ → Elt F .fp8e4m3 :=
  if h : ∃ j, j < n1 E m0 (fun _ => 0#32) ∧ it1 E m0 (fun _ => 0#32) j = k then yR E (it1 E m0 (fun _ => 0#32)) (m1 E m0) h.choose else yR E it0 m0 k
theorem yv2_at {E : Env F} {m0 : Vec F S8x128 .f32} {us0 : ℕ → BitVec 32} {yv0 : ℕ → ℕ → ℕ → Elt F .fp8e4m3} {k : ℕ} (h : k < 40) : yv2 E m0 us0 yv0 k = yfin E m0 k := by
  unfold yv2 yfin
  rw [n1_ind (us0' := fun _ => 0#32), it1_ind (us0' := fun _ => 0#32)]
  by_cases hh : ∃ j, j < n1 E m0 (fun _ => 0#32) ∧ it1 E m0 (fun _ => 0#32) j = k
  · rw [dif_pos hh]
    have h2 := hh.choose_spec
    have := yvR_hit (E := E) (m0 := m1 E m0) (yv0 := yv1 E m0 yv0) h2.1 it1_inj
    rw [h2.2] at this
    exact this
  · rw [dif_neg hh, yvR_miss fun j hj e => hh ⟨j, hj, e⟩]
    have := yvR_hit (E := E) (m0 := m0) (yv0 := yv0) h it0_inj
    rw [it0_at h] at this
    exact this
section perm
variable (E : Env F)
theorem Env.surj (r : ℕ) (hr : r < 320) : ∃ k, k < 320 ∧ E.P k = r := by
  have hi : Function.Injective (fun k : Fin 320 => (⟨E.P k.val, E.hP k.val⟩ : Fin 320)) := fun a b h => Fin.ext (E.inj _ a.isLt _ b.isLt (congrArg Fin.val h))
  obtain ⟨k, hk⟩ := Finite.surjective_of_injective hi ⟨r, hr⟩
  exact ⟨k.val, k.isLt, congrArg Fin.val hk⟩
open Classical in
/-- Where a group stands in the order. -/
def Env.Pi (r : ℕ) : ℕ := if h : ∃ k, k < 320 ∧ E.P k = r then h.choose else 0
theorem Env.Pi_P {k : ℕ} (hk : k < 320) : E.Pi (E.P k) = k := by
  have h : ∃ j, j < 320 ∧ E.P j = E.P k := ⟨k, hk, rfl⟩
  unfold Env.Pi
  rw [dif_pos h]
  exact E.inj _ h.choose_spec.1 _ hk h.choose_spec.2
/-- The codes as an array. -/
def cG : S40960x1536.Idx → Elt F .fp8e4m3 := fun i => cqv E (E.XV (E.Pi ((i 0).val / 128) / 8)) (128 * (E.Pi ((i 0).val / 128) % 8) + (i 0).val % 128) (i 1).val
/-- The results as an array. -/
def yG (m0 : Vec F S8x128 .f32) : S40960x8960.Idx → Elt F .fp8e4m3 := fun i => yfin E m0 (E.Pi ((i 0).val / 128) / 8) (128 * (E.Pi ((i 0).val / 128) % 8) + (i 0).val % 128) (i 1).val
end perm

theorem ch_eq {E : Env F} {G : S40960x1536.Idx → Elt F .fp8e4m3} {cv : ℕ → ℕ → ℕ → Elt F .fp8e4m3}
    (hG : ∀ s < 40, ∀ g < 8, ∀ i : S40960x1536.Idx, (i 0).val / 128 = E.P (8 * s + g) → G i = cv s (128 * g + ((i 0).val - 128 * E.P (8 * s + g))) (i 1).val) :
    CH E (Finset.range 40) cv = (E.l main_v0_1 ↦{fullShare} (G : Buf (Elt F) (E.l main_v0_1)) : sProp 𝕄) := by
  have h1 : (Finset.univ : Finset S40960x1536.Idx) = (Finset.range 40).biUnion fun s => (Finset.univ : Finset (Fin 8)).biUnion fun g => rwX (E.P (8 * s + g)) := by
    ext i
    have i0 := (i 0).isLt
    change (i 0).val < 40960 at i0
    obtain ⟨k, hk, e⟩ := E.surj ((i 0).val / 128) (by omega)
    simp only [rwX, Finset.mem_univ, true_iff, Finset.mem_biUnion, Finset.mem_range, Finset.mem_filter, true_and]
    refine ⟨k / 8, by omega, ⟨k % 8, by omega⟩, ?_⟩
    rw [← e]
    exact congrArg E.P (show k = 8 * (k / 8) + k % 8 by omega)
  have d2 : ∀ s < 40, ∀ g ∈ (Finset.univ : Finset (Fin 8)), ∀ g' ∈ (Finset.univ : Finset (Fin 8)), g ≠ g' → Disjoint (rwX (E.P (8 * s + g))) (rwX (E.P (8 * s + g'))) := by
    intro s hs g _ g' _ h
    rw [Finset.disjoint_left]
    intro i hi hi'
    have := E.inj _ (by omega) _ (by omega) ((Finset.mem_filter.mp hi).2.symm.trans (Finset.mem_filter.mp hi').2)
    exact h (Fin.ext (by omega))
  have d1 : ∀ s ∈ Finset.range 40, ∀ s' ∈ Finset.range 40, s ≠ s' → Disjoint ((Finset.univ : Finset (Fin 8)).biUnion fun g => rwX (E.P (8 * s + g))) ((Finset.univ : Finset (Fin 8)).biUnion fun g => rwX (E.P (8 * s' + g))) := by
    intro s hs s' hs' h
    have hs := Finset.mem_range.mp hs
    have hs' := Finset.mem_range.mp hs'
    rw [Finset.disjoint_left]
    intro i hi hi'
    obtain ⟨g, -, hi⟩ := Finset.mem_biUnion.mp hi
    obtain ⟨g', -, hi'⟩ := Finset.mem_biUnion.mp hi'
    have := E.inj _ (by omega) _ (by omega) ((Finset.mem_filter.mp hi).2.symm.trans (Finset.mem_filter.mp hi').2)
    exact h (by omega)
  refine Eq.trans ?_ (congrArg (fun S => (E.l main_v0_1 ↦[S]{fullShare} (G : Buf (Elt F) (E.l main_v0_1)) : sProp 𝕄)) h1).symm
  rw [pointsTo_biUnion _ _ d1]
  unfold CH CItem
  refine bigSep_congr fun s hs => ?_
  rw [pointsTo_biUnion _ _ (d2 s (Finset.mem_range.mp hs))]
  exact bigSep_congr fun g _ => pointsTo_congr fun i hi => (hG s (Finset.mem_range.mp hs) g.val g.isLt i (Finset.mem_filter.mp hi).2).symm
theorem ch_in {E : Env F} (V : S40960x1536.Idx → Elt F .fp8e4m3) :
    (E.l main_v0_1 ↦{fullShare} (V : Buf (Elt F) (E.l main_v0_1)) : sProp 𝕄) ⊢ CH E (Finset.range 40) (fun s a b => V (ValueIdx.ix2 (Fin.ofNat 40960 (128 * E.P (8 * s + a / 128) + a % 128)) (Fin.ofNat 1536 b))) := by
  refine Entails.of_eq (ch_eq (G := V) (cv := fun s a b => V (ValueIdx.ix2 (Fin.ofNat 40960 (128 * E.P (8 * s + a / 128) + a % 128)) (Fin.ofNat 1536 b))) fun s hs g hg i hi => ?_).symm
  have i0 := (i 0).isLt
  change (i 0).val < 40960 at i0
  have i1 := (i 1).isLt
  change (i 1).val < 1536 at i1
  have e : 8 * s + (128 * g + ((i 0).val - 128 * E.P (8 * s + g))) / 128 = 8 * s + g := by omega
  refine congrArg V (funext fun a => Fin.ext ?_)
  fin_cases a
  · show (i 0).val = (128 * E.P (8 * s + (128 * g + ((i 0).val - 128 * E.P (8 * s + g))) / 128) + (128 * g + ((i 0).val - 128 * E.P (8 * s + g))) % 128) % 40960
    rw [e]
    omega
  · exact (show (i 1).val = (i 1).val % 1536 by omega)

theorem yh_eq {E : Env F} {G : S40960x8960.Idx → Elt F .fp8e4m3} {cv : ℕ → ℕ → ℕ → Elt F .fp8e4m3}
    (hG : ∀ s < 40, ∀ g < 8, ∀ i : S40960x8960.Idx, (i 0).val / 128 = E.P (8 * s + g) → G i = cv s (128 * g + ((i 0).val - 128 * E.P (8 * s + g))) (i 1).val) :
    YH E (Finset.range 40) cv = (E.l main_v0_0 ↦{fullShare} (G : Buf (Elt F) (E.l main_v0_0)) : sProp 𝕄) := by
  have h1 : (Finset.univ : Finset S40960x8960.Idx) = (Finset.range 40).biUnion fun s => (Finset.univ : Finset (Fin 8)).biUnion fun g => rwY (E.P (8 * s + g)) := by
    ext i
    have i0 := (i 0).isLt
    change (i 0).val < 40960 at i0
    obtain ⟨k, hk, e⟩ := E.surj ((i 0).val / 128) (by omega)
    simp only [rwY, Finset.mem_univ, true_iff, Finset.mem_biUnion, Finset.mem_range, Finset.mem_filter, true_and]
    refine ⟨k / 8, by omega, ⟨k % 8, by omega⟩, ?_⟩
    rw [← e]
    exact congrArg E.P (show k = 8 * (k / 8) + k % 8 by omega)
  have d2 : ∀ s < 40, ∀ g ∈ (Finset.univ : Finset (Fin 8)), ∀ g' ∈ (Finset.univ : Finset (Fin 8)), g ≠ g' → Disjoint (rwY (E.P (8 * s + g))) (rwY (E.P (8 * s + g'))) := by
    intro s hs g _ g' _ h
    rw [Finset.disjoint_left]
    intro i hi hi'
    have := E.inj _ (by omega) _ (by omega) ((Finset.mem_filter.mp hi).2.symm.trans (Finset.mem_filter.mp hi').2)
    exact h (Fin.ext (by omega))
  have d1 : ∀ s ∈ Finset.range 40, ∀ s' ∈ Finset.range 40, s ≠ s' → Disjoint ((Finset.univ : Finset (Fin 8)).biUnion fun g => rwY (E.P (8 * s + g))) ((Finset.univ : Finset (Fin 8)).biUnion fun g => rwY (E.P (8 * s' + g))) := by
    intro s hs s' hs' h
    have hs := Finset.mem_range.mp hs
    have hs' := Finset.mem_range.mp hs'
    rw [Finset.disjoint_left]
    intro i hi hi'
    obtain ⟨g, -, hi⟩ := Finset.mem_biUnion.mp hi
    obtain ⟨g', -, hi'⟩ := Finset.mem_biUnion.mp hi'
    have := E.inj _ (by omega) _ (by omega) ((Finset.mem_filter.mp hi).2.symm.trans (Finset.mem_filter.mp hi').2)
    exact h (by omega)
  refine Eq.trans ?_ (congrArg (fun S => (E.l main_v0_0 ↦[S]{fullShare} (G : Buf (Elt F) (E.l main_v0_0)) : sProp 𝕄)) h1).symm
  rw [pointsTo_biUnion _ _ d1]
  unfold YH YItem
  refine bigSep_congr fun s hs => ?_
  rw [pointsTo_biUnion _ _ (d2 s (Finset.mem_range.mp hs))]
  exact bigSep_congr fun g _ => pointsTo_congr fun i hi => (hG s (Finset.mem_range.mp hs) g.val g.isLt i (Finset.mem_filter.mp hi).2).symm
theorem yh_in {E : Env F} (V : S40960x8960.Idx → Elt F .fp8e4m3) :
    (E.l main_v0_0 ↦{fullShare} (V : Buf (Elt F) (E.l main_v0_0)) : sProp 𝕄) ⊢ YH E (Finset.range 40) (fun s a b => V (ValueIdx.ix2 (Fin.ofNat 40960 (128 * E.P (8 * s + a / 128) + a % 128)) (Fin.ofNat 8960 b))) := by
  refine Entails.of_eq (yh_eq (G := V) (cv := fun s a b => V (ValueIdx.ix2 (Fin.ofNat 40960 (128 * E.P (8 * s + a / 128) + a % 128)) (Fin.ofNat 8960 b))) fun s hs g hg i hi => ?_).symm
  have i0 := (i 0).isLt
  change (i 0).val < 40960 at i0
  have i1 := (i 1).isLt
  change (i 1).val < 8960 at i1
  have e : 8 * s + (128 * g + ((i 0).val - 128 * E.P (8 * s + g))) / 128 = 8 * s + g := by omega
  refine congrArg V (funext fun a => Fin.ext ?_)
  fin_cases a
  · show (i 0).val = (128 * E.P (8 * s + (128 * g + ((i 0).val - 128 * E.P (8 * s + g))) / 128) + (128 * g + ((i 0).val - 128 * E.P (8 * s + g))) % 128) % 40960
    rw [e]
    omega
  · exact (show (i 1).val = (i 1).val % 8960 by omega)

theorem ch_out {E : Env F} {m0 : Vec F S8x128 .f32} {us0 : ℕ → BitVec 32} {cv0 : ℕ → ℕ → ℕ → Elt F .fp8e4m3} : CH E (Finset.range 40) (cv2 E m0 us0 cv0) ⊢ (E.l main_v0_1 ↦{fullShare} (cG E : Buf (Elt F) (E.l main_v0_1)) : sProp 𝕄) := by
  refine Entails.of_eq (ch_eq (G := cG E) fun s hs g hg i hi => ?_)
  unfold cG
  rw [cv2_at hs, hi, E.Pi_P (by omega), show (8 * s + g) / 8 = s by omega]
  exact congrArg (fun z => cqv E (E.XV s) z (i 1).val) (by omega)
theorem yh_out {E : Env F} {m0 : Vec F S8x128 .f32} {us0 : ℕ → BitVec 32} {yv0 : ℕ → ℕ → ℕ → Elt F .fp8e4m3} : YH E (Finset.range 40) (yv2 E m0 us0 yv0) ⊢ (E.l main_v0_0 ↦{fullShare} (yG E m0 : Buf (Elt F) (E.l main_v0_0)) : sProp 𝕄) := by
  refine Entails.of_eq (yh_eq (G := yG E m0) fun s hs g hg i hi => ?_)
  unfold yG
  rw [yv2_at hs, hi, E.Pi_P (by omega), show (8 * s + g) / 8 = s by omega]
  exact congrArg (fun z => yfin E m0 s z (i 1).val) (by omega)

theorem sx_join {E : Env F} {x0 x1 : ℕ → ℕ → Elt F .bf16} : (E.l cc0_scratch1 ↦{fullShare} ((fun i => if (i 0).val = 0 then x0 (i 1).val (i 2).val else x1 (i 1).val (i 2).val : S2x1024x1536.Idx → Elt F .bf16) : Buf (Elt F) (E.l cc0_scratch1)) : sProp 𝕄)
    ⊣⊢ iprop((E.l cc0_scratch1 ↦[slX 0]{fullShare} sv x0) ∗ (E.l cc0_scratch1 ↦[slX 1]{fullShare} sv x1)) := by
  have h1 : (Finset.univ : Finset S2x1024x1536.Idx) = slX 0 ∪ slX 1 := by
    ext i
    have i0 := (i 0).isLt
    change (i 0).val < 2 at i0
    simp only [slX, Finset.mem_univ, true_iff, Finset.mem_union, Finset.mem_filter, true_and]
    omega
  have d : Disjoint (slX 0) (slX 1) := by
    rw [Finset.disjoint_left]
    intro i hi hi'
    have a := (Finset.mem_filter.mp hi).2
    have b := (Finset.mem_filter.mp hi').2
    omega
  have e : (E.l cc0_scratch1 ↦{fullShare} ((fun i => if (i 0).val = 0 then x0 (i 1).val (i 2).val else x1 (i 1).val (i 2).val : S2x1024x1536.Idx → Elt F .bf16) : Buf (Elt F) (E.l cc0_scratch1)) : sProp 𝕄)
      = (E.l cc0_scratch1 ↦[slX 0 ∪ slX 1]{fullShare} ((fun i => if (i 0).val = 0 then x0 (i 1).val (i 2).val else x1 (i 1).val (i 2).val : S2x1024x1536.Idx → Elt F .bf16) : Buf (Elt F) (E.l cc0_scratch1))) :=
    congrArg (fun S => (E.l cc0_scratch1 ↦[S]{fullShare} ((fun i => if (i 0).val = 0 then x0 (i 1).val (i 2).val else x1 (i 1).val (i 2).val : S2x1024x1536.Idx → Elt F .bf16) : Buf (Elt F) (E.l cc0_scratch1)) : sProp 𝕄)) h1
  have e0 : (E.l cc0_scratch1 ↦[slX 0]{fullShare} sv x0 : sProp 𝕄) = (E.l cc0_scratch1 ↦[slX 0]{fullShare} ((fun i => if (i 0).val = 0 then x0 (i 1).val (i 2).val else x1 (i 1).val (i 2).val : S2x1024x1536.Idx → Elt F .bf16) : Buf (Elt F) (E.l cc0_scratch1))) :=
    pointsTo_congr fun i hi => (if_pos (Finset.mem_filter.mp hi).2).symm
  have e1 : (E.l cc0_scratch1 ↦[slX 1]{fullShare} sv x1 : sProp 𝕄) = (E.l cc0_scratch1 ↦[slX 1]{fullShare} ((fun i => if (i 0).val = 0 then x0 (i 1).val (i 2).val else x1 (i 1).val (i 2).val : S2x1024x1536.Idx → Elt F .bf16) : Buf (Elt F) (E.l cc0_scratch1))) :=
    pointsTo_congr fun i hi => (if_neg (by have := (Finset.mem_filter.mp hi).2; omega)).symm
  rw [e, e0, e1]
  exact pointsTo_union d
theorem sx_in {E : Env F} (f : S2x1024x1536.Idx → Elt F .bf16) : (E.l cc0_scratch1 ↦{fullShare} (f : Buf (Elt F) (E.l cc0_scratch1)) : sProp 𝕄)
    ⊢ iprop((E.l cc0_scratch1 ↦[slX 0]{fullShare} sv (fun a b => f (ValueIdx.ix3 0 (Fin.ofNat 1024 a) (Fin.ofNat 1536 b)))) ∗ (E.l cc0_scratch1 ↦[slX 1]{fullShare} sv (fun a b => f (ValueIdx.ix3 1 (Fin.ofNat 1024 a) (Fin.ofNat 1536 b))))) := by
  refine BIBase.Entails.trans (Entails.of_eq (pointsTo_congr fun i _ => ?_)) sx_join.1
  have i0 := (i 0).isLt
  change (i 0).val < 2 at i0
  have i1 := (i 1).isLt
  change (i 1).val < 1024 at i1
  have i2 := (i 2).isLt
  change (i 2).val < 1536 at i2
  show f i = if (i 0).val = 0 then f (ValueIdx.ix3 0 (Fin.ofNat 1024 (i 1).val) (Fin.ofNat 1536 (i 2).val)) else f (ValueIdx.ix3 1 (Fin.ofNat 1024 (i 1).val) (Fin.ofNat 1536 (i 2).val))
  split
  · refine congrArg f (funext fun a => Fin.ext ?_)
    fin_cases a
    · assumption
    · exact (show (i 1).val = (i 1).val % 1024 by omega)
    · exact (show (i 2).val = (i 2).val % 1536 by omega)
  · refine congrArg f (funext fun a => Fin.ext ?_)
    fin_cases a
    · exact (show (i 0).val = 1 by omega)
    · exact (show (i 1).val = (i 1).val % 1024 by omega)
    · exact (show (i 2).val = (i 2).val % 1536 by omega)
theorem sx_out {E : Env F} {x0 x1 : ℕ → ℕ → Elt F .bf16} : iprop((E.l cc0_scratch1 ↦[slX 0]{fullShare} sv x0) ∗ (E.l cc0_scratch1 ↦[slX 1]{fullShare} sv x1))
    ⊢ (iprop(∃ f : Buf (Elt F) (E.l cc0_scratch1), E.l cc0_scratch1 ↦{fullShare} f) : sProp 𝕄) :=
  BIBase.Entails.trans sx_join.2 (exists_intro (Φ := fun f : Buf (Elt F) (E.l cc0_scratch1) => (E.l cc0_scratch1 ↦{fullShare} f : sProp 𝕄)) _)

theorem sc_join {E : Env F} {x0 x1 : ℕ → ℕ → Elt F .fp8e4m3} : (E.l cc0_scratch2 ↦{fullShare} ((fun i => if (i 0).val = 0 then x0 (i 1).val (i 2).val else x1 (i 1).val (i 2).val : S2x1024x1536.Idx → Elt F .fp8e4m3) : Buf (Elt F) (E.l cc0_scratch2)) : sProp 𝕄)
    ⊣⊢ iprop((E.l cc0_scratch2 ↦[slX 0]{fullShare} sv x0) ∗ (E.l cc0_scratch2 ↦[slX 1]{fullShare} sv x1)) := by
  have h1 : (Finset.univ : Finset S2x1024x1536.Idx) = slX 0 ∪ slX 1 := by
    ext i
    have i0 := (i 0).isLt
    change (i 0).val < 2 at i0
    simp only [slX, Finset.mem_univ, true_iff, Finset.mem_union, Finset.mem_filter, true_and]
    omega
  have d : Disjoint (slX 0) (slX 1) := by
    rw [Finset.disjoint_left]
    intro i hi hi'
    have a := (Finset.mem_filter.mp hi).2
    have b := (Finset.mem_filter.mp hi').2
    omega
  have e : (E.l cc0_scratch2 ↦{fullShare} ((fun i => if (i 0).val = 0 then x0 (i 1).val (i 2).val else x1 (i 1).val (i 2).val : S2x1024x1536.Idx → Elt F .fp8e4m3) : Buf (Elt F) (E.l cc0_scratch2)) : sProp 𝕄)
      = (E.l cc0_scratch2 ↦[slX 0 ∪ slX 1]{fullShare} ((fun i => if (i 0).val = 0 then x0 (i 1).val (i 2).val else x1 (i 1).val (i 2).val : S2x1024x1536.Idx → Elt F .fp8e4m3) : Buf (Elt F) (E.l cc0_scratch2))) :=
    congrArg (fun S => (E.l cc0_scratch2 ↦[S]{fullShare} ((fun i => if (i 0).val = 0 then x0 (i 1).val (i 2).val else x1 (i 1).val (i 2).val : S2x1024x1536.Idx → Elt F .fp8e4m3) : Buf (Elt F) (E.l cc0_scratch2)) : sProp 𝕄)) h1
  have e0 : (E.l cc0_scratch2 ↦[slX 0]{fullShare} sv x0 : sProp 𝕄) = (E.l cc0_scratch2 ↦[slX 0]{fullShare} ((fun i => if (i 0).val = 0 then x0 (i 1).val (i 2).val else x1 (i 1).val (i 2).val : S2x1024x1536.Idx → Elt F .fp8e4m3) : Buf (Elt F) (E.l cc0_scratch2))) :=
    pointsTo_congr fun i hi => (if_pos (Finset.mem_filter.mp hi).2).symm
  have e1 : (E.l cc0_scratch2 ↦[slX 1]{fullShare} sv x1 : sProp 𝕄) = (E.l cc0_scratch2 ↦[slX 1]{fullShare} ((fun i => if (i 0).val = 0 then x0 (i 1).val (i 2).val else x1 (i 1).val (i 2).val : S2x1024x1536.Idx → Elt F .fp8e4m3) : Buf (Elt F) (E.l cc0_scratch2))) :=
    pointsTo_congr fun i hi => (if_neg (by have := (Finset.mem_filter.mp hi).2; omega)).symm
  rw [e, e0, e1]
  exact pointsTo_union d
theorem sc_in {E : Env F} (f : S2x1024x1536.Idx → Elt F .fp8e4m3) : (E.l cc0_scratch2 ↦{fullShare} (f : Buf (Elt F) (E.l cc0_scratch2)) : sProp 𝕄)
    ⊢ iprop((E.l cc0_scratch2 ↦[slX 0]{fullShare} sv (fun a b => f (ValueIdx.ix3 0 (Fin.ofNat 1024 a) (Fin.ofNat 1536 b)))) ∗ (E.l cc0_scratch2 ↦[slX 1]{fullShare} sv (fun a b => f (ValueIdx.ix3 1 (Fin.ofNat 1024 a) (Fin.ofNat 1536 b))))) := by
  refine BIBase.Entails.trans (Entails.of_eq (pointsTo_congr fun i _ => ?_)) sc_join.1
  have i0 := (i 0).isLt
  change (i 0).val < 2 at i0
  have i1 := (i 1).isLt
  change (i 1).val < 1024 at i1
  have i2 := (i 2).isLt
  change (i 2).val < 1536 at i2
  show f i = if (i 0).val = 0 then f (ValueIdx.ix3 0 (Fin.ofNat 1024 (i 1).val) (Fin.ofNat 1536 (i 2).val)) else f (ValueIdx.ix3 1 (Fin.ofNat 1024 (i 1).val) (Fin.ofNat 1536 (i 2).val))
  split
  · refine congrArg f (funext fun a => Fin.ext ?_)
    fin_cases a
    · assumption
    · exact (show (i 1).val = (i 1).val % 1024 by omega)
    · exact (show (i 2).val = (i 2).val % 1536 by omega)
  · refine congrArg f (funext fun a => Fin.ext ?_)
    fin_cases a
    · exact (show (i 0).val = 1 by omega)
    · exact (show (i 1).val = (i 1).val % 1024 by omega)
    · exact (show (i 2).val = (i 2).val % 1536 by omega)
theorem sc_out {E : Env F} {x0 x1 : ℕ → ℕ → Elt F .fp8e4m3} : iprop((E.l cc0_scratch2 ↦[slX 0]{fullShare} sv x0) ∗ (E.l cc0_scratch2 ↦[slX 1]{fullShare} sv x1))
    ⊢ (iprop(∃ f : Buf (Elt F) (E.l cc0_scratch2), E.l cc0_scratch2 ↦{fullShare} f) : sProp 𝕄) :=
  BIBase.Entails.trans sc_join.2 (exists_intro (Φ := fun f : Buf (Elt F) (E.l cc0_scratch2) => (E.l cc0_scratch2 ↦{fullShare} f : sProp 𝕄)) _)

theorem sy_join {E : Env F} {x0 x1 : ℕ → ℕ → Elt F .fp8e4m3} : (E.l cc0_scratch3 ↦{fullShare} ((fun i => if (i 0).val = 0 then x0 (i 1).val (i 2).val else x1 (i 1).val (i 2).val : S2x1024x8960.Idx → Elt F .fp8e4m3) : Buf (Elt F) (E.l cc0_scratch3)) : sProp 𝕄)
    ⊣⊢ iprop((E.l cc0_scratch3 ↦[slY 0]{fullShare} sv x0) ∗ (E.l cc0_scratch3 ↦[slY 1]{fullShare} sv x1)) := by
  have h1 : (Finset.univ : Finset S2x1024x8960.Idx) = slY 0 ∪ slY 1 := by
    ext i
    have i0 := (i 0).isLt
    change (i 0).val < 2 at i0
    simp only [slY, Finset.mem_univ, true_iff, Finset.mem_union, Finset.mem_filter, true_and]
    omega
  have d : Disjoint (slY 0) (slY 1) := by
    rw [Finset.disjoint_left]
    intro i hi hi'
    have a := (Finset.mem_filter.mp hi).2
    have b := (Finset.mem_filter.mp hi').2
    omega
  have e : (E.l cc0_scratch3 ↦{fullShare} ((fun i => if (i 0).val = 0 then x0 (i 1).val (i 2).val else x1 (i 1).val (i 2).val : S2x1024x8960.Idx → Elt F .fp8e4m3) : Buf (Elt F) (E.l cc0_scratch3)) : sProp 𝕄)
      = (E.l cc0_scratch3 ↦[slY 0 ∪ slY 1]{fullShare} ((fun i => if (i 0).val = 0 then x0 (i 1).val (i 2).val else x1 (i 1).val (i 2).val : S2x1024x8960.Idx → Elt F .fp8e4m3) : Buf (Elt F) (E.l cc0_scratch3))) :=
    congrArg (fun S => (E.l cc0_scratch3 ↦[S]{fullShare} ((fun i => if (i 0).val = 0 then x0 (i 1).val (i 2).val else x1 (i 1).val (i 2).val : S2x1024x8960.Idx → Elt F .fp8e4m3) : Buf (Elt F) (E.l cc0_scratch3)) : sProp 𝕄)) h1
  have e0 : (E.l cc0_scratch3 ↦[slY 0]{fullShare} sv x0 : sProp 𝕄) = (E.l cc0_scratch3 ↦[slY 0]{fullShare} ((fun i => if (i 0).val = 0 then x0 (i 1).val (i 2).val else x1 (i 1).val (i 2).val : S2x1024x8960.Idx → Elt F .fp8e4m3) : Buf (Elt F) (E.l cc0_scratch3))) :=
    pointsTo_congr fun i hi => (if_pos (Finset.mem_filter.mp hi).2).symm
  have e1 : (E.l cc0_scratch3 ↦[slY 1]{fullShare} sv x1 : sProp 𝕄) = (E.l cc0_scratch3 ↦[slY 1]{fullShare} ((fun i => if (i 0).val = 0 then x0 (i 1).val (i 2).val else x1 (i 1).val (i 2).val : S2x1024x8960.Idx → Elt F .fp8e4m3) : Buf (Elt F) (E.l cc0_scratch3))) :=
    pointsTo_congr fun i hi => (if_neg (by have := (Finset.mem_filter.mp hi).2; omega)).symm
  rw [e, e0, e1]
  exact pointsTo_union d
theorem sy_in {E : Env F} (f : S2x1024x8960.Idx → Elt F .fp8e4m3) : (E.l cc0_scratch3 ↦{fullShare} (f : Buf (Elt F) (E.l cc0_scratch3)) : sProp 𝕄)
    ⊢ iprop((E.l cc0_scratch3 ↦[slY 0]{fullShare} sv (fun a b => f (ValueIdx.ix3 0 (Fin.ofNat 1024 a) (Fin.ofNat 8960 b)))) ∗ (E.l cc0_scratch3 ↦[slY 1]{fullShare} sv (fun a b => f (ValueIdx.ix3 1 (Fin.ofNat 1024 a) (Fin.ofNat 8960 b))))) := by
  refine BIBase.Entails.trans (Entails.of_eq (pointsTo_congr fun i _ => ?_)) sy_join.1
  have i0 := (i 0).isLt
  change (i 0).val < 2 at i0
  have i1 := (i 1).isLt
  change (i 1).val < 1024 at i1
  have i2 := (i 2).isLt
  change (i 2).val < 8960 at i2
  show f i = if (i 0).val = 0 then f (ValueIdx.ix3 0 (Fin.ofNat 1024 (i 1).val) (Fin.ofNat 8960 (i 2).val)) else f (ValueIdx.ix3 1 (Fin.ofNat 1024 (i 1).val) (Fin.ofNat 8960 (i 2).val))
  split
  · refine congrArg f (funext fun a => Fin.ext ?_)
    fin_cases a
    · assumption
    · exact (show (i 1).val = (i 1).val % 1024 by omega)
    · exact (show (i 2).val = (i 2).val % 8960 by omega)
  · refine congrArg f (funext fun a => Fin.ext ?_)
    fin_cases a
    · exact (show (i 0).val = 1 by omega)
    · exact (show (i 1).val = (i 1).val % 1024 by omega)
    · exact (show (i 2).val = (i 2).val % 8960 by omega)
theorem sy_out {E : Env F} {x0 x1 : ℕ → ℕ → Elt F .fp8e4m3} : iprop((E.l cc0_scratch3 ↦[slY 0]{fullShare} sv x0) ∗ (E.l cc0_scratch3 ↦[slY 1]{fullShare} sv x1))
    ⊢ (iprop(∃ f : Buf (Elt F) (E.l cc0_scratch3), E.l cc0_scratch3 ↦{fullShare} f) : sProp 𝕄) :=
  BIBase.Entails.trans sy_join.2 (exists_intro (Φ := fun f : Buf (Elt F) (E.l cc0_scratch3) => (E.l cc0_scratch3 ↦{fullShare} f : sProp 𝕄)) _)

/-- What stays of the rows of `x` beside the sixteen shares the copies use. -/
def Xr (E : Env F) : sProp 𝕄 := E.l main_arg2 ↦{Transfers.shareDrop fullShare 16} (E.X : Buf (Elt F) (E.l main_arg2))
/-- The eight shares of a slot. -/
def Xs (E : Env F) (p : ℕ) : sProp 𝕄 := bigSep Finset.univ (fun g : Fin 8 => (E.l main_arg2 ↦[Finset.univ]{shX p g} E.X))
theorem xs_eq {E : Env F} : (E.l main_arg2 ↦{fullShare} (E.X : Buf (Elt F) (E.l main_arg2)) : sProp 𝕄) ⊣⊢ iprop(Xr E ∗ Xs E 0 ∗ Xs E 1) := by
  have h := Transfers.pointsTo_toks_range (ℓ := E.l main_arg2) (S := Finset.univ) (f := (E.X : Buf (Elt F) (E.l main_arg2))) (Ix := Unit) (Name := ℕ) (U := UD sig nD τ) (Lvl := ℕ) fullShare 16
  have hu : Finset.range 16 = (Finset.univ : Finset (Fin 8)).map ⟨fun g => 8 * 0 + g.val, fun a b h => Fin.ext (by simpa using h)⟩ ∪ (Finset.univ : Finset (Fin 8)).map ⟨fun g => 8 * 1 + g.val, fun a b h => Fin.ext (by simpa using h)⟩ := by decide
  have hd : Disjoint ((Finset.univ : Finset (Fin 8)).map ⟨fun g => 8 * 0 + g.val, fun a b h => Fin.ext (by simpa using h)⟩) ((Finset.univ : Finset (Fin 8)).map ⟨fun g => 8 * 1 + g.val, fun a b h => Fin.ext (by simpa using h)⟩) := by decide
  rw [hu, bigSep_union hd, bigSep_map, bigSep_map] at h
  exact h

end Cert.Proof.KernelIdeal
-- ==== Proof.C7.lean ====
module
public import proofs.«01_k».proof.Proof.C6
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

variable {E : Env F}
/-- The scratch buffers, each at some contents. -/
def Sc (E : Env F) : sProp 𝕄 := iprop((∃ f : Buf (Elt F) (E.l cc0_scratch0), E.l cc0_scratch0 ↦{fullShare} f) ∗ (∃ f : Buf (Elt F) (E.l cc0_scratch1), E.l cc0_scratch1 ↦{fullShare} f) ∗ (∃ f : Buf (Elt F) (E.l cc0_scratch2), E.l cc0_scratch2 ↦{fullShare} f) ∗ (∃ f : Buf (Elt F) (E.l cc0_scratch3), E.l cc0_scratch3 ↦{fullShare} f) ∗ (∃ f : Buf (Elt F) (E.l cc0_scratch4), E.l cc0_scratch4 ↦{fullShare} f) ∗ (∃ f : Buf (Elt F) (E.l cc0_scratch5), E.l cc0_scratch5 ↦{fullShare} f) ∗ (∃ f : Buf (Elt F) (E.l cc0_scratch6), E.l cc0_scratch6 ↦{fullShare} f) ∗ (∃ f : Buf (Elt F) (E.l cc0_scratch7), E.l cc0_scratch7 ↦{fullShare} f) ∗ (∃ f : Buf (Elt F) (E.l cc0_scratch8), E.l cc0_scratch8 ↦{fullShare} f))
/-- The kernel's own semaphores. -/
def osem : Fin 8 → SemLoc sig := ![.dma cc0_scratch9.sem, .dma (semX 0), .dma (semX 1), .dma (semC 0), .dma (semC 1), .dma (semY 0), .dma (semY 1), .dma cc0_scratch13.sem]
/-- They are at zero. -/
def Sm (E : Env F) : sProp 𝕄 := iprop((semVal ((E.c : Thread nD τ), SemLoc.dma (cc0_scratch9.sem)) 0) ∗ (semVal ((E.c : Thread nD τ), SemLoc.dma (semX 0)) 0) ∗ (semVal ((E.c : Thread nD τ), SemLoc.dma (semX 1)) 0) ∗ (semVal ((E.c : Thread nD τ), SemLoc.dma (semC 0)) 0) ∗ (semVal ((E.c : Thread nD τ), SemLoc.dma (semC 1)) 0) ∗ (semVal ((E.c : Thread nD τ), SemLoc.dma (semY 0)) 0) ∗ (semVal ((E.c : Thread nD τ), SemLoc.dma (semY 1)) 0) ∗ (semVal ((E.c : Thread nD τ), SemLoc.dma (cc0_scratch13.sem)) 0))
/-- What the prologue leaves alone. -/
def Rst (E : Env F) (us : ℕ → BitVec 32) (g : Gb F) (cv yv : ℕ → ℕ → ℕ → Elt F .fp8e4m3) : sProp 𝕄 := iprop((wE2 E) ∗ (wE3 E) ∗ (Used E us) ∗ (XIdle E 0 g.xc) ∗ (CIdle E 0 g.c0) ∗ (YIdle E 0 g.y0) ∗ (XIdle E 1 g.x1) ∗ (CIdle E 1 g.c1) ∗ (YIdle E 1 g.y1) ∗ (CH E (Finset.range 40) cv) ∗ (YH E (Finset.range 40) yv) ∗ (Xr E))
/-- What the passes leave alone. -/
def Rl (E : Env F) (gm : Vec F S320x128 .f32) (ws : S1x1.Idx → F .f32) (pv : S8x128.Idx → BitVec 32) : sProp 𝕄 := iprop((Gm E gm) ∗ (wV4 E (xsv gm)) ∗ (Ws E ws) ∗ (Pv E pv) ∗ (semVal ((E.c : Thread nD τ), SemLoc.dma cc0_scratch13.sem) 0) ∗ (E.l main_arg3 ↦{fullShare} (E.W : Buf (Elt F) (E.l main_arg3))) ∗ (semVal ((E.c : Thread nD τ), SemLoc.dma cc0_scratch9.sem) 0) ∗ (Xr E))
/-- The running maxima at the end. -/
def mEnd (E : Env F) : Vec F S8x128 .f32 := m2 E k0_pay437 (fun _ => 0#32)
/-- What the body leaves. -/
def Post (E : Env F) (gm : Vec F S320x128 .f32) (ws : S1x1.Idx → F .f32) : sProp 𝕄 := iprop((Gm E gm) ∗ (Ws E ws) ∗ (wV2 E (ysv (mEnd E))) ∗ (wV3 E (yav (mEnd E))) ∗ (wV4 E (xsv gm)) ∗ (Ow E.c) ∗ (Sc E) ∗ (Sm E) ∗ (E.l main_arg2 ↦{fullShare} (E.X : Buf (Elt F) (E.l main_arg2))) ∗ (E.l main_arg3 ↦{fullShare} (E.W : Buf (Elt F) (E.l main_arg3))) ∗ (E.l main_v0_0 ↦{fullShare} (yG E k0_pay437 : Buf (Elt F) (E.l main_v0_0))) ∗ (E.l main_v0_1 ↦{fullShare} (cG E : Buf (Elt F) (E.l main_v0_1))))
theorem Items_ex {w : ℕ → BitVec 32} : Items E w ⊢ iprop(∃ f : Buf (Elt F) (E.l cc0_scratch7), E.l cc0_scratch7 ↦{fullShare} f) := exists_intro (Φ := fun f : Buf (Elt F) (E.l cc0_scratch7) => (E.l cc0_scratch7 ↦{fullShare} f : sProp 𝕄)) _
theorem Used_ex {w : ℕ → BitVec 32} : Used E w ⊢ iprop(∃ f : Buf (Elt F) (E.l cc0_scratch8), E.l cc0_scratch8 ↦{fullShare} f) := exists_intro (Φ := fun f : Buf (Elt F) (E.l cc0_scratch8) => (E.l cc0_scratch8 ↦{fullShare} f : sProp 𝕄)) _
theorem Mb_ex {w : Vec F S8x128 .f32} : Mb E w ⊢ iprop(∃ f : Buf (Elt F) (E.l cc0_scratch4), E.l cc0_scratch4 ↦{fullShare} f) := exists_intro (Φ := fun f : Buf (Elt F) (E.l cc0_scratch4) => (E.l cc0_scratch4 ↦{fullShare} f : sProp 𝕄)) _
theorem Wb_ex : Wb E ⊢ iprop(∃ f : Buf (Elt F) (E.l cc0_scratch0), E.l cc0_scratch0 ↦{fullShare} f) := exists_intro (Φ := fun f : Buf (Elt F) (E.l cc0_scratch0) => (E.l cc0_scratch0 ↦{fullShare} f : sProp 𝕄)) _
theorem Pv_ex {w : S8x128.Idx → BitVec 32} : Pv E w ⊢ iprop(∃ f : Buf (Elt F) (E.l cc0_scratch5), E.l cc0_scratch5 ↦{fullShare} f) := exists_intro (Φ := fun f : Buf (Elt F) (E.l cc0_scratch5) => (E.l cc0_scratch5 ↦{fullShare} f : sProp 𝕄)) _
theorem Perm_ex : Perm E ⊢ iprop(∃ f : Buf (Elt F) (E.l cc0_scratch6), E.l cc0_scratch6 ↦{fullShare} f) := by
  unfold Perm
  iintro ⟨%f, -, H⟩
  iexists f
  iexact H
/-- The state after the passes gives what the body leaves. -/
theorem fin_post {gm : Vec F S320x128 .f32} {ws : S1x1.Idx → F .f32} {pv : S8x128.Idx → BitVec 32} {us0 : ℕ → BitVec 32} {cv0 yv0 : ℕ → ℕ → ℕ → Elt F .fp8e4m3} :
    iprop(∃ It us, Idl E It (m2 E k0_pay437 us0) us (cv2 E k0_pay437 us0 cv0) (yv2 E k0_pay437 us0 yv0) iprop(wV2 E (ysv (m2 E k0_pay437 us0)) ∗ wV3 E (yav (m2 E k0_pay437 us0)) ∗ Rl E gm ws pv)) ⊢ Post E gm ws := by
  refine exists_elim fun It => exists_elim fun us => ?_
  unfold Idl
  refine exists_elim fun g => ?_
  unfold St Post Rl Sc Sm XIdle CIdle YIdle
  rw [m2_ind (us0' := fun _ => 0#32)]
  change _ ⊢ iprop((Gm E gm) ∗ (Ws E ws) ∗ (wV2 E (ysv (m2 E k0_pay437 (fun _ => 0#32)))) ∗ (wV3 E (yav (m2 E k0_pay437 (fun _ => 0#32)))) ∗ _)
  iintro ⟨Hit, Hpm, Hus, Hm, Hw, How, ⟨Hx0, Hsx0, Hs0⟩, ⟨Hc0, Hsc0⟩, ⟨Hy0, Hsy0⟩, ⟨Hx1, Hsx1, Hs1⟩, ⟨Hc1, Hsc1⟩, ⟨Hy1, Hsy1⟩, Hch, Hyh, Hw2, Hw3, Hgm, Hw4, Hws, Hpv, Hsp, Ha3, Hsw, Hxr⟩
  ihave Hit := Items_ex $$ Hit
  ihave Hus := Used_ex $$ Hus
  ihave Hm := Mb_ex $$ Hm
  ihave Hw := Wb_ex $$ Hw
  ihave Hpv := Pv_ex $$ Hpv
  ihave Hpm := Perm_ex $$ Hpm
  ihave Hch := ch_out $$ Hch
  ihave Hyh := yh_out $$ Hyh
  ihave Hx := sx_out $$ [Hx0 Hx1]
  · iframe
  ihave Hc := sc_out $$ [Hc0 Hc1]
  · iframe
  ihave Hy := sy_out $$ [Hy0 Hy1]
  · iframe
  ihave Ha2 := xs_eq.2 $$ [Hxr Hs0 Hs1]
  · unfold Xs; iframe
  iframe
variable {R : sProp 𝕄}
theorem mid {gm : Vec F S320x128 .f32} {ws : S1x1.Idx → F .f32} {pv : S8x128.Idx → BitVec 32} {us0 w : ℕ → BitVec 32} {g : Gb F} {cv0 yv0 : ℕ → ℕ → ℕ → Elt F .fp8e4m3} :
    iprop((Rst E us0 g cv0 yv0) ∗ (Gm E gm) ∗ (wV4 E (xsv gm)) ∗ (Ws E ws) ∗ (Perm E) ∗ (Pv E pv) ∗ (semVal ((E.c : Thread nD τ), SemLoc.dma cc0_scratch13.sem) 0) ∗ (Mb E k0_pay437) ∗ (Items E (iw w 40)) ∗ (Wb E) ∗ (E.l main_arg3 ↦{fullShare} (E.W : Buf (Elt F) (E.l main_arg3))) ∗ (semVal ((E.c : Thread nD τ), SemLoc.dma cc0_scratch9.sem) 0) ∗ (Ow E.c))
      ⊢ Idl E it0 k0_pay437 us0 cv0 yv0 iprop(wE2 E ∗ wE3 E ∗ Rl E gm ws pv) := by
  refine BIBase.Entails.trans ?_ (exists_intro (Φ := fun g : Gb F => St (Items E (fun k => BitVec.ofNat 32 (it0 k))) (Perm E) (Used E us0) (Mb E k0_pay437) (Wb E) (Ow E.c) (XIdle E 0 g.xc) (CIdle E 0 g.c0) (YIdle E 0 g.y0) (XIdle E 1 g.x1) (CIdle E 1 g.c1) (YIdle E 1 g.y1) (CH E (Finset.range 40) cv0) (YH E (Finset.range 40) yv0) iprop(wE2 E ∗ wE3 E ∗ Rl E gm ws pv)) g)
  unfold St Rst Rl
  iintro ⟨⟨Hw2, Hw3, Hus, Hx0, Hc0, Hy0, Hx1, Hc1, Hy1, Hch, Hyh, Hxr⟩, Hgm, Hw4, Hws, Hpm, Hpv, Hsp, Hm, Hit, Hw, Ha3, Hsw, How⟩
  ihave Hit := iw_full $$ Hit
  iframe
/-- The body, from the prologue's start. -/
theorem run1 {Q : PUnit → sProp 𝕄} {gm : Vec F S320x128 .f32} {ws : S1x1.Idx → F .f32} {w0 : Buf (Elt F) (E.l cc0_scratch0)} {pv : S8x128.Idx → BitVec 32} {ps : Buf (Elt F) (E.l cc0_scratch6)} {mm : Vec F S8x128 .f32} {us0 w : ℕ → BitVec 32} {g : Gb F} {cv0 yv0 : ℕ → ℕ → ℕ → Elt F .fp8e4m3} (hE : E.Ok gm ws) (hQ : Post E gm ws ⊢ Q ⟨⟩) :
    iprop((Gm E gm) ∗ (Ws E ws) ∗ (wE4 E) ∗ (E.l cc0_scratch0 ↦{fullShare} w0) ∗ (E.l main_arg3 ↦{fullShare} (E.W : Buf (Elt F) (E.l main_arg3))) ∗ (semVal ((E.c : Thread nD τ), SemLoc.dma cc0_scratch9.sem) 0) ∗ (semVal ((E.c : Thread nD τ), SemLoc.dma cc0_scratch13.sem) 0) ∗ (Pv E pv) ∗ (E.l cc0_scratch6 ↦{fullShare} ps) ∗ (Mb E mm) ∗ (Items E (iw w 0)) ∗ (Ow E.c) ∗ (Rst E us0 g cv0 yv0)) ⊢ E.wp (cc0_fp8_linear (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) Q := by
  refine prol hE ?_
  refine BIBase.Entails.trans mid (loop1 (m0 := k0_pay437) (us0 := us0) (cv0 := cv0) (yv0 := yv0) fun acc => ?_)
  exact ret (BIBase.Entails.trans fin_post hQ)
/-- Element `k` of forty words. -/
def rd (f : S40.Idx → BitVec 32) (k : ℕ) : BitVec 32 := f fun a => ⟨k % 40, by fin_cases a; exact Nat.mod_lt _ (by decide)⟩
theorem rd_at (f : S40.Idx → BitVec 32) (i : S40.Idx) : f i = rd f (i 0).val := by
  have i0 := (i 0).isLt
  change (i 0).val < 40 at i0
  refine congrArg f (funext fun a => Fin.ext ?_)
  fin_cases a
  exact (show (i 0).val = (i 0).val % 40 by omega)
/-- THE BODY. -/
theorem bodyT {gm : Vec F S320x128 .f32} {ws : S1x1.Idx → F .f32} {yb : Buf (Elt F) (E.l main_v0_0)} {cb : Buf (Elt F) (E.l main_v0_1)} (hE : E.Ok gm ws) :
    iprop((Gm E gm) ∗ (Ws E ws) ∗ (wE2 E) ∗ (wE3 E) ∗ (wE4 E) ∗ (Ow E.c) ∗ (Sc E) ∗ (Sm E) ∗ (E.l main_arg2 ↦{fullShare} (E.X : Buf (Elt F) (E.l main_arg2))) ∗ (E.l main_arg3 ↦{fullShare} (E.W : Buf (Elt F) (E.l main_arg3))) ∗ (E.l main_v0_0 ↦{fullShare} yb) ∗ (E.l main_v0_1 ↦{fullShare} cb))
      ⊢ E.wp (cc0_fp8_linear (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) fun _ => Post E gm ws := by
  unfold Sc Sm
  iintro ⟨Hgm, Hws, Hw2, Hw3, Hw4, How, ⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩⟩, ⟨Hs9, Hx0, Hx1, Hc0, Hc1, Hy0, Hy1, Hs13⟩, Ha2, Ha3, Hyb, Hcb⟩
  ihave H1 := (sx_in f1) $$ H1
  icases H1 with ⟨Hb0, Hb1⟩
  ihave H2 := (sc_in f2) $$ H2
  icases H2 with ⟨Hd0, Hd1⟩
  ihave H3 := (sy_in f3) $$ H3
  icases H3 with ⟨He0, He1⟩
  ihave Ha2 := xs_eq.1 $$ Ha2
  icases Ha2 with ⟨Hxr, Ht0, Ht1⟩
  ihave Hcb := (ch_in cb) $$ Hcb
  ihave Hyb := (yh_in yb) $$ Hyb
  iapply (run1 (us0 := rd f8) (w := rd f7) (pv := f5) (mm := f4) (ps := f6) (w0 := f0)
    (g := ⟨(fun a b => f1 (ValueIdx.ix3 0 (Fin.ofNat 1024 a) (Fin.ofNat 1536 b))), (fun a b => f1 (ValueIdx.ix3 1 (Fin.ofNat 1024 a) (Fin.ofNat 1536 b))),
      (fun a b => f2 (ValueIdx.ix3 0 (Fin.ofNat 1024 a) (Fin.ofNat 1536 b))), (fun a b => f2 (ValueIdx.ix3 1 (Fin.ofNat 1024 a) (Fin.ofNat 1536 b))),
      (fun a b => f3 (ValueIdx.ix3 0 (Fin.ofNat 1024 a) (Fin.ofNat 8960 b))), (fun a b => f3 (ValueIdx.ix3 1 (Fin.ofNat 1024 a) (Fin.ofNat 8960 b))), (fun a b => f3 (ValueIdx.ix3 0 (Fin.ofNat 1024 a) (Fin.ofNat 8960 b))), (fun a b => f3 (ValueIdx.ix3 0 (Fin.ofNat 1024 a) (Fin.ofNat 8960 b)))⟩) hE BIBase.Entails.rfl)
  unfold Rst XIdle CIdle YIdle Pv Mb Items Used Xs
  have e7 : (f7 : S40.Idx → BitVec 32) = fun i => iw (rd f7) 0 (i 0).val := funext fun i => rd_at f7 i
  have e8 : (f8 : S40.Idx → BitVec 32) = fun i => (rd f8) (i 0).val := funext fun i => rd_at f8 i
  ihave H7 := (Entails.of_eq (congrArg (fun f : Buf (Elt F) (E.l cc0_scratch7) => (E.l cc0_scratch7 ↦{fullShare} f : sProp 𝕄)) e7)) $$ H7
  ihave H8 := (Entails.of_eq (congrArg (fun f : Buf (Elt F) (E.l cc0_scratch8) => (E.l cc0_scratch8 ↦{fullShare} f : sProp 𝕄)) e8)) $$ H8
  iframe

end Cert.Proof.KernelIdeal
-- ==== Proof.C8.lean ====
module
public import proofs.«01_k».proof.Proof.C7
public import proofs.«01_k».proof.Proof.Gen.KernelIdeal.Frame
public import Idealize.ShloMosaic.Lib.Pipeline.FrameValue
@[expose] public section
set_option pp.maxSteps 150
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (UD)
variable {F : FTy → Type} [FloatOps F]
local notation "𝕄" => MT nD τ sig Unit (Elt F) ℕ (UD sig nD τ) ℕ

open Idealize.ShloMosaic.Pipeline (Dat Cfg)
/-- The `k`th group in the order, as the run computes it. -/
def pmN (gm : Vec F S320x128 .f32) (k : ℕ) : ℕ := (rowP gm (k / 128) (ValueIdx.ix2 0 (Fin.ofNat 128 k))).toNat
/-- The order is a permutation of the groups. -/
structure PermOk (gm : Vec F S320x128 .f32) : Prop where
  lt : ∀ k < 320, pmN gm k < 320
  inj : ∀ a < 320, ∀ b < 320, pmN gm a = pmN gm b → a = b
/-- The values of a run. -/
def mkE (c : Dev nD) (gm : Vec F S320x128 .f32) (ws : S1x1.Idx → F .f32) (X : S40960x1536.Idx → Elt F .bf16) (W : S1536x8960.Idx → Elt F .fp8e4m3) (h : PermOk gm) : Env F where
  c := c
  P := fun k => if k < 320 then pmN gm k else 0
  hP := fun k => by
    split
    · exact h.lt _ (by assumption)
    · decide
  inj := fun a ha b hb e => by
    rw [if_pos ha, if_pos hb] at e
    exact h.inj a ha b hb e
  X := X
  W := W
  ym := k0_pay427 (k0_pay425 gm) (ws (ValueIdx.ix2 0 0))
  xi := k0_pay428 (k0_pay424 gm)
theorem mkE_ok {c : Dev nD} {gm : Vec F S320x128 .f32} {ws : S1x1.Idx → F .f32} {X : S40960x1536.Idx → Elt F .bf16} {W : S1536x8960.Idx → Elt F .fp8e4m3} {h : PermOk gm} : (mkE c gm ws X W h).Ok gm ws where
  ym := rfl
  xi := rfl
  perm := fun r hr l hl => by
    show _ = BitVec.ofNat 32 (if 128 * r + l.val < 320 then pmN gm (128 * r + l.val) else 0)
    rw [if_pos hl]
    unfold pmN
    rw [show (128 * r + l.val) / 128 = r by omega, show (Fin.ofNat 128 (128 * r + l.val) : Fin 128) = l from Fin.ext (show (128 * r + l.val) % 128 = l.val by omega), BitVec.ofNat_toNat, BitVec.setWidth_eq]
section
variable (m : (ℓ : Loc nD τ sig) → Buf (Elt F) ℓ)
/-- The group maxima, as staged. -/
def gmOf (c : Dev nD) : Vec F S320x128 .f32 := iblk m c 0 t0_0
/-- The weights' factor, as staged. -/
def wsOf (c : Dev nD) : S1x1.Idx → F .f32 := iblk m c 1 t0_0
variable (h : ∀ c, PermOk (gmOf m c))
/-- A core's run. -/
def En (c : Dev nD) : Env F := mkE c (gmOf m c) (wsOf m c) (m ((c.tc : Thread nD τ).loc main_arg2)) (m ((c.tc : Thread nD τ).loc main_arg3)) (h c)
/-- What the run leaves in the buffers its copies write. -/
def Gf (c : Dev nD) : (b : Ref sig .tc) → Buf (Elt F) ((c.tc : Thread nD τ).loc b) :=
  Function.update (Function.update (V m c) main_v0_0 (yG (En m h c) k0_pay437)) main_v0_1 (cG (En m h c))
/-- The buffers the copies read. -/
abbrev Hs : Finset (Ref sig .tc) := {main_arg2, main_arg3}
/-- The buffers the copies write. -/
abbrev Rs : Finset (Ref sig .tc) := {main_v0_0, main_v0_1}
def dats (p : Fin 1) (c : Dev nD) : Dat τ (Elt F) Unit ℕ (UD sig nD τ) ℕ (cfgs p) c :=
  match p with
  | 0 => {
    A := fun w => V m c (Pipeline.arrRef spec0 w)
    after := fun w t => match w with
      | 0 => iblk m c 0 t
      | 1 => iblk m c 1 t
      | 2 => fun _ => ysv (mEnd (En m h c))
      | 3 => fun _ => yav (mEnd (En m h c))
      | 4 => fun _ => xsv (gmOf m c)
    Φ := fun t => if t.val = 0 then Pipeline.ΦDRG osem spec0 Hs Rs (V m) (V m) c else Pipeline.ΦDRG osem spec0 Hs Rs (V m) (Gf m h) c
    q := fun _ => fullShare
    owed := fun _ => 0 }
theorem hs_eq (c : Dev nD) : (bigSep Hs fun b => ((c.tc : Thread nD τ).loc b) ↦{fullShare} V m c b : sProp 𝕄) = iprop((((c.tc : Thread nD τ).loc main_arg2) ↦{fullShare} V m c main_arg2) ∗ (((c.tc : Thread nD τ).loc main_arg3) ↦{fullShare} V m c main_arg3)) := by
  rw [show (Hs : Finset (Ref sig .tc)) = insert main_arg2 {main_arg3} from rfl, bigSep_insert (by decide), bigSep_singleton]
  rfl
theorem rs_eq (c : Dev nD) (f : (b : Ref sig .tc) → Buf (Elt F) ((c.tc : Thread nD τ).loc b)) : (Pipeline.routed Rs c f : sProp 𝕄) = iprop((((c.tc : Thread nD τ).loc main_v0_0) ↦{fullShare} f main_v0_0) ∗ (((c.tc : Thread nD τ).loc main_v0_1) ↦{fullShare} f main_v0_1)) := by
  unfold Pipeline.routed
  rw [show (Rs : Finset (Ref sig .tc)) = insert main_v0_0 {main_v0_1} from rfl, bigSep_insert (by decide), bigSep_singleton]
  rfl
theorem os_eq (c : Dev nD) : (Pipeline.ownSems0 (Ix := Unit) (Name := ℕ) (U := UD sig nD τ) (Lvl := ℕ) (Val := Elt F) (τ := τ) osem c : sProp 𝕄) = Sm (En m h c) := by
  unfold Pipeline.ownSems0
  rw [bigSep_univ_eq_bigSepL [(0 : Fin 8), 1, 2, 3, 4, 5, 6, 7] (by decide) (by decide)]
  rfl
/-- The invariant, conjunct by conjunct. -/
theorem inv_eq (c : Dev nD) (f : (c : Dev nD) → (b : Ref sig .tc) → Buf (Elt F) ((c.tc : Thread nD τ).loc b)) : (Pipeline.ΦDRG osem spec0 Hs Rs (V m) f c : sProp 𝕄)
    = iprop(Sc (En m h c) ∗ (∃ r, prngReg c r) ∗ Sm (En m h c) ∗ (((c.tc : Thread nD τ).loc main_arg2) ↦{fullShare} V m c main_arg2) ∗ (((c.tc : Thread nD τ).loc main_arg3) ↦{fullShare} V m c main_arg3) ∗ (((c.tc : Thread nD τ).loc main_v0_0) ↦{fullShare} f c main_v0_0) ∗ (((c.tc : Thread nD τ).loc main_v0_1) ↦{fullShare} f c main_v0_1)) := by
  rw [Pipeline.ΦDRG_eq, hs_eq, rs_eq, os_eq m h, show (Pipeline.scopedRest (Ix := Unit) (Name := ℕ) (U := UD sig nD τ) (Lvl := ℕ) (Val := Elt F) spec0 c : sProp 𝕄) = Sc (En m h c) from scopedRest0_eq c]
  exact congrArg (fun Z => iprop(Sc (En m h c) ∗ (∃ r, prngReg c r) ∗ Sm (En m h c) ∗ Z)) (Idealize.SL.BI.Entails.antisymm Idealize.SL.BI.sep_assoc Idealize.SL.BI.sep_assoc')
theorem Gf_0 (c : Dev nD) : Gf m h c main_v0_0 = yG (En m h c) k0_pay437 := by
  unfold Gf
  rw [Function.update_of_ne (by decide), Function.update_self]
theorem Gf_1 (c : Dev nD) : Gf m h c main_v0_1 = cG (En m h c) := by
  unfold Gf
  rw [Function.update_self]
theorem bef0 (c : Dev nD) (t : Fin cfg0.N) (d) : (dats m h 0 c).before 0 t d = iblk m c 0 t :=
  ((dats m h 0 c).before_in_eq_fetched 0 rfl (fun _ => rfl) (fun _ _ _ => rfl) (fun t => rfl) t d).trans rfl
theorem bef1 (c : Dev nD) (t : Fin cfg0.N) (d) : (dats m h 0 c).before 1 t d = iblk m c 1 t :=
  ((dats m h 0 c).before_in_eq_fetched 1 rfl (fun _ => rfl) (fun _ _ _ => rfl) (fun t => rfl) t d).trans rfl
theorem hmainD : Pipeline.HMain (Ix := Unit) (Name := ℕ) (U := UD sig nD τ) (Lvl := ℕ) cfgs 0 defs₀ 𝒱₀ m (main (F := F)) (V m) :=
  Pipeline.hmain_region cfgs 0 defs₀ 𝒱₀ m main fun c => (main_chain c).trans rfl
theorem ow_of {c : Dev nD} {B : Set (SemLoc sig × Unit)} : (Pipeline.owesWithin c (0 : CellTallies nD τ sig Unit) B : sProp 𝕄) ⊢ Ow c := by
  unfold Pipeline.owesWithin Ow
  iintro ⟨%W, -, H⟩
  iexists W
  iexact H
theorem ow_to {c : Dev nD} {B : Set (SemLoc sig × Unit)} : Ow c ⊢ (Pipeline.owesWithin c (0 : CellTallies nD τ sig Unit) (Set.univ ∪ B) : sProp 𝕄) := by
  unfold Pipeline.owesWithin Ow
  iintro ⟨%W, H⟩
  iexists W
  isplitr
  · ipureintro; exact fun _ _ => Or.inl trivial
  iexact H
/-- The body at the one point. -/
theorem bodyOb (c : Dev nD) : Pipeline.BodyObligationLoose (dats m h 0 c) defs₀ 𝒱₀ () Set.univ := by
  intro t
  obtain rfl := fin_N0 t
  rw [bigSep_W0, bigSep_W0]
  simp only [bef0, bef1]
  change iprop(Pipeline.ΦDRG osem spec0 Hs Rs (V m) (V m) c ∗ Pipeline.owesWithin c (0 : CellTallies nD τ sig Unit) (Set.univ ∪ _) ∗ (∃ d : S320x128.Idx → Elt F .f32, owns c (Memref.whole cc0_stg0_0) fullShare (gmOf m c))
      ∗ (∃ d : S1x1.Idx → Elt F .f32, owns c (Memref.whole cc0_stg1_0) fullShare (wsOf m c)) ∗ (∃ d, owns c (Memref.whole cc0_stg2_0) fullShare _) ∗ (∃ d, owns c (Memref.whole cc0_stg3_0) fullShare _) ∗ (∃ d, owns c (Memref.whole cc0_stg4_0) fullShare _))
    ⊢ (En m h c).wp (cc0_fp8_linear (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) fun _ => iprop(Pipeline.ΦDRG osem spec0 Hs Rs (V m) (Gf m h) c ∗ Pipeline.owesWithin c (0 : CellTallies nD τ sig Unit) (Set.univ ∪ _) ∗ owns c (Memref.whole cc0_stg0_0) fullShare (gmOf m c)
      ∗ owns c (Memref.whole cc0_stg1_0) fullShare (wsOf m c) ∗ owns c (Memref.whole cc0_stg2_0) fullShare (fun _ => ysv (mEnd (En m h c))) ∗ owns c (Memref.whole cc0_stg3_0) fullShare (fun _ => yav (mEnd (En m h c))) ∗ owns c (Memref.whole cc0_stg4_0) fullShare (fun _ => xsv (gmOf m c)))
  simp only [owns_whole]
  rw [inv_eq m h, inv_eq m h, Gf_0, Gf_1]
  refine BIBase.Entails.trans (Q := iprop((∃ r, prngReg c r) ∗ (Gm (En m h c) (gmOf m c)) ∗ (Ws (En m h c) (wsOf m c)) ∗ (wE2 (En m h c)) ∗ (wE3 (En m h c)) ∗ (wE4 (En m h c)) ∗ (Ow c) ∗ (Sc (En m h c)) ∗ (Sm (En m h c)) ∗ (((c.tc : Thread nD τ).loc main_arg2) ↦{fullShare} V m c main_arg2) ∗ (((c.tc : Thread nD τ).loc main_arg3) ↦{fullShare} V m c main_arg3) ∗ (((c.tc : Thread nD τ).loc main_v0_0) ↦{fullShare} V m c main_v0_0) ∗ (((c.tc : Thread nD τ).loc main_v0_1) ↦{fullShare} V m c main_v0_1))) ?_ ?_
  · unfold Gm Ws wE2 wE3 wE4
    iintro ⟨⟨Hsc, Hpr, Hsm, H2, H3, Hy, Hc⟩, How, ⟨%d0, Hw0⟩, ⟨%d1, Hw1⟩, ⟨%d2, Hw2⟩, ⟨%d3, Hw3⟩, ⟨%d4, Hw4⟩⟩
    ihave How := ow_of $$ How
    isplitl [Hpr]
    · iexact Hpr
    isplitl [Hw0]
    · iexact Hw0
    isplitl [Hw1]
    · iexact Hw1
    isplitl [Hw2]
    · iexists _; iexact Hw2
    isplitl [Hw3]
    · iexists _; iexact Hw3
    isplitl [Hw4]
    · iexists _; iexact Hw4
    iframe
  · have hb : iprop((Gm (En m h c) (gmOf m c)) ∗ (Ws (En m h c) (wsOf m c)) ∗ (wE2 (En m h c)) ∗ (wE3 (En m h c)) ∗ (wE4 (En m h c)) ∗ (Ow c) ∗ (Sc (En m h c)) ∗ (Sm (En m h c)) ∗ (((c.tc : Thread nD τ).loc main_arg2) ↦{fullShare} V m c main_arg2) ∗ (((c.tc : Thread nD τ).loc main_arg3) ↦{fullShare} V m c main_arg3) ∗ (((c.tc : Thread nD τ).loc main_v0_0) ↦{fullShare} V m c main_v0_0) ∗ (((c.tc : Thread nD τ).loc main_v0_1) ↦{fullShare} V m c main_v0_1))
        ⊢ Idealize.SL.Sem.wp frame (wpE defs₀ 𝒱₀ (c : Thread nD τ) none) Set.univ (cc0_fp8_linear (F := F) (win0_0.stage 0) (hstage0_0 0) (win0_1.stage 0) (hstage0_1 0) (Memref.whole main_arg2) (Memref.isWhole_whole _) (Memref.whole main_arg3) (Memref.isWhole_whole _) (Memref.whole main_v0_0) (Memref.isWhole_whole _) (Memref.whole main_v0_1) (Memref.isWhole_whole _) (win0_2.stage 0) (hstage0_2 0) (win0_3.stage 0) (hstage0_3 0) (win0_4.stage 0) (hstage0_4 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13) fun _ => Post (En m h c) (gmOf m c) (wsOf m c) := bodyT (E := En m h c) (gm := gmOf m c) (ws := wsOf m c) (yb := V m c main_v0_0) (cb := V m c main_v0_1) mkE_ok
    refine BIBase.Entails.trans (BIClass.sep_mono BIBase.Entails.rfl hb) (BIBase.Entails.trans (wp_frame_l frame (wpE defs₀ 𝒱₀ (c : Thread nD τ) none) Set.univ) (Idealize.SL.Sem.wp_mono (Fr := frame) (wpE := wpE defs₀ 𝒱₀ (c : Thread nD τ) none) (E := Set.univ) fun _ => ?_))
    unfold Post Gm Ws wV2 wV3 wV4
    iintro ⟨Hpr, H0, H1, H2, H3, H4, How, Hsc, Hsm, Ha2, Ha3, Hy, Hc⟩
    ihave How := ow_to $$ How
    isplitl [Hpr Hsc Hsm Ha2 Ha3 Hy Hc]
    · iframe
      isplitl [Ha2]
      · iexact Ha2
      isplitl [Ha3]
      · iexact Ha3
      isplitl [Hy]
      · iexact Hy
      iexact Hc
    isplitl [How]
    · iexact How
    isplitl [H0]
    · iexact H0
    isplitl [H1]
    · iexact H1
    isplitl [H2]
    · iexact H2
    isplitl [H3]
    · iexact H3
    iexact H4
theorem osem_facts : Pipeline.OwnSemFacts spec0 osem := by decide
/-- THE RUN: every result named, every semaphore at zero again. -/
theorem run (g : Dev nD → PrngReg) : θ_run (defs (F := F)) (onTc (τ := τ) (main (F := F))) ⟨m, fun _ => 0, g⟩ (fun r => Pipeline.FramePostRG cfgs (dats m h) 0 Rs (V m) (Gf m h) r ∧ r.2.sem = fun _ => 0) :=
  Pipeline.θ_run_frame_dmaRG cfgs (dats m h) 0 launch0 osem defs₀ 𝒱₀ osem_facts Hs Rs (by decide) (by decide) m g main
    (fun c => bodyOb m h c) (fun c w => by fin_cases w <;> rfl) (fun _ _ => rfl) (V m) (hmainD m) (fun _ _ => rfl) (Gf m h) (fun c => BIBase.Entails.rfl) (fun c => BIBase.Entails.rfl)
    (Q' := fun r => Pipeline.FramePostRG cfgs (dats m h) 0 Rs (V m) (Gf m h) r ∧ r.2.sem = fun _ => 0) (fun _ h => h)
end

end Cert.Proof.KernelIdeal
-- ==== Proof.E1.lean ====
module
public import proofs.«01_k».proof.Proof.C8
public import Idealize.ShloMosaic.Lib.Pointwise
@[expose] public section
set_option maxRecDepth 65536
noncomputable section
namespace Cert.Proof.KernelIdeal
open Cert.KernelIdeal Cert.KernelIdeal.Gen
open Idealize.ShloMosaic
variable {F : FTy → Type} [FloatOps F]

/-- A sum of words is the word of the sum. -/
theorem fold_addi {ι : Type} [DecidableEq ι] (s : Finset ι) (f : ι → BitVec 32) : s.fold IntOp.addi 0#32 f = BitVec.ofNat 32 (∑ x ∈ s, (f x).toNat) := by
  induction s using Finset.induction_on with
  | empty => rfl
  | insert a s h ih =>
    rw [Finset.fold_insert h, ih, Finset.sum_insert h, BitVec.ofNat_add, BitVec.ofNat_toNat, BitVec.setWidth_eq]
    rfl
section rank
variable {α : Type} [LinearOrder α] (κ : ℕ → α)
/-- Group `k` stands before group `i`: the larger key first, the lower number first among equals. -/
def Ahead (k i : ℕ) : Prop := κ i < κ k ∨ (κ k = κ i ∧ k < i)
open Classical in
/-- How many groups stand before group `i`. -/
def rankN (i : ℕ) : ℕ := ((Finset.range 320).filter fun k => Ahead κ k i).card
theorem ahead_irrefl (i : ℕ) : ¬ Ahead κ i i := by
  rintro (h | ⟨-, h⟩)
  · exact lt_irrefl _ h
  · exact Nat.lt_irrefl _ h
theorem ahead_trans {a b c : ℕ} (h : Ahead κ a b) (h' : Ahead κ b c) : Ahead κ a c := by
  rcases h with h | ⟨h, h2⟩ <;> rcases h' with h' | ⟨h', h2'⟩
  · exact .inl (h'.trans h)
  · exact .inl (h' ▸ h)
  · exact .inl (h ▸ h')
  · exact .inr ⟨h.trans h', h2.trans h2'⟩
theorem ahead_total {a b : ℕ} (h : a ≠ b) : Ahead κ a b ∨ Ahead κ b a := by
  rcases lt_trichotomy (κ a) (κ b) with h1 | h1 | h1
  · exact .inr (.inl h1)
  · rcases Nat.lt_or_gt_of_ne h with h2 | h2
    · exact .inl (.inr ⟨h1, h2⟩)
    · exact .inr (.inr ⟨h1.symm, h2⟩)
  · exact .inl (.inl h1)
theorem rankN_lt {i : ℕ} (hi : i < 320) : rankN κ i < 320 := by
  classical
  have h : ((Finset.range 320).filter fun k => Ahead κ k i) ⊂ Finset.range 320 :=
    Finset.filter_ssubset.mpr ⟨i, Finset.mem_range.mpr hi, ahead_irrefl κ i⟩
  have := Finset.card_lt_card h
  rw [Finset.card_range] at this
  unfold rankN
  convert this
theorem rankN_mono {a b : ℕ} (ha : a < 320) (h : Ahead κ a b) : rankN κ a < rankN κ b := by
  classical
  unfold rankN
  refine Finset.card_lt_card ⟨fun x hx => ?_, fun hs => ?_⟩
  · rw [Finset.mem_filter] at hx ⊢
    exact ⟨hx.1, ahead_trans κ hx.2 h⟩
  · have := hs (Finset.mem_filter.mpr ⟨Finset.mem_range.mpr ha, h⟩)
    exact ahead_irrefl κ a (Finset.mem_filter.mp this).2
theorem rankN_inj {a b : ℕ} (ha : a < 320) (hb : b < 320) (h : rankN κ a = rankN κ b) : a = b := by
  by_contra hn
  rcases ahead_total κ hn with h' | h'
  · exact Nat.lt_irrefl _ (h ▸ rankN_mono κ ha h')
  · exact Nat.lt_irrefl _ (h.symm ▸ rankN_mono κ hb h')
theorem rankN_surj {k : ℕ} (hk : k < 320) : ∃ i, i < 320 ∧ rankN κ i = k := by
  have hi : Function.Injective (fun k : Fin 320 => (⟨rankN κ k.val, rankN_lt κ k.isLt⟩ : Fin 320)) := fun a b h => Fin.ext (rankN_inj κ a.isLt b.isLt (congrArg Fin.val h))
  obtain ⟨i, e⟩ := Finite.surjective_of_injective hi ⟨k, hk⟩
  exact ⟨i.val, i.isLt, congrArg Fin.val e⟩
end rank
/-- The maximum of group `i`. -/
def gcol (gm : Vec F S320x128 .f32) (i : Fin 320) : F .f32 := k0_pay423 gm (ValueIdx.ix2 i 0)
/-- Lane `x` of the row that holds the maxima of groups `o` and on. -/
def rwv (gm : Vec F S320x128 .f32) (o : BitVec 32) (x : Fin 128) : F .f32 :=
  reduceFold reduces_S320x128_S128 FloatOps.maximumf (FloatOps.ofBits FTy.f32 4286578688#32)
    (select (cmpi CmpIPredicate.eq (iota Kind.tc S320x128 32 [0] iota_S320x128_d0_w32) (addi (iota Kind.tc S320x128 32 [1] iota_S320x128_d1_w32) (broadcast S320x128 o)))
      (k0_pay429 (k0_pay423 gm)) (broadcast S320x128 (FloatOps.ofBits FTy.f32 3212836864#32))) (ValueIdx.ix1 x)
/-- The comparisons are those of keys in a linear order. -/
structure KeyOk (gm : Vec F S320x128 .f32) {α : Type} [LinearOrder α] (κ : ℕ → α) : Prop where
  gt : ∀ o, (o = 0 ∨ o = 128 ∨ o = 256) → ∀ x : Fin 128, o + x.val < 320 → ∀ i : Fin 320, FloatOps.cmpf CmpFPredicate.ogt (rwv gm (BitVec.ofNat 32 o) x) (gcol gm i) = 1#1 ↔ κ i.val < κ (o + x.val)
  eq : ∀ o, (o = 0 ∨ o = 128 ∨ o = 256) → ∀ x : Fin 128, o + x.val < 320 → ∀ i : Fin 320, FloatOps.cmpf CmpFPredicate.oeq (rwv gm (BitVec.ofNat 32 o) x) (gcol gm i) = 1#1 ↔ κ (o + x.val) = κ i.val
  fill : ∀ x : Fin 128, 320 ≤ 256 + x.val → ∀ i : Fin 320, FloatOps.cmpf CmpFPredicate.ogt (rwv gm 256#32 x) (gcol gm i) ≠ 1#1
theorem pay429_at (gm : Vec F S320x128 .f32) (i : Fin 320) (x : Fin 128) : k0_pay429 (k0_pay423 gm) (ValueIdx.ix2 i x) = gcol gm i := by
  unfold k0_pay429 gcol
  pointwise
  rfl
open Classical in
/-- One comparison's contribution. -/
theorem contrib {gm : Vec F S320x128 .f32} {α : Type} [LinearOrder α] {κ : ℕ → α} (h : KeyOk gm κ) (o : ℕ) (ho : o = 0 ∨ o = 128 ∨ o = 256) (i : Fin 320) (x : Fin 128) :
    (Scalar.select (IntOp.ori (FloatOps.cmpf CmpFPredicate.ogt (rwv gm (BitVec.ofNat 32 o) x) (gcol gm i)) (IntOp.andi (FloatOps.cmpf CmpFPredicate.oeq (rwv gm (BitVec.ofNat 32 o) x) (gcol gm i))
      (IntOp.cmpi CmpIPredicate.slt (IntOp.addi (BitVec.ofNat 32 x.val) (BitVec.ofNat 32 o)) (BitVec.ofNat 32 i.val)))) 1#32 0#32 : BitVec 32).toNat
      = if o + x.val < 320 ∧ Ahead κ (o + x.val) i.val then 1 else 0 := by
  have hx := x.isLt
  have hi := i.isLt
  have e3 : IntOp.cmpi CmpIPredicate.slt (IntOp.addi (BitVec.ofNat 32 x.val) (BitVec.ofNat 32 o)) (BitVec.ofNat 32 i.val) = BitVec.ofBool (decide (o + x.val < i.val)) := by
    show BitVec.ofBool (BitVec.slt (BitVec.ofNat 32 x.val + BitVec.ofNat 32 o) (BitVec.ofNat 32 i.val)) = _
    congr 1
    rw [← BitVec.ofNat_add, BitVec.slt_eq_decide]
    congr 1
    rw [BitVec.toInt_eq_toNat_of_lt, BitVec.toInt_eq_toNat_of_lt, BitVec.toNat_ofNat, BitVec.toNat_ofNat]
    · apply propext; omega
    · rw [BitVec.toNat_ofNat]; omega
    · rw [BitVec.toNat_ofNat]; omega
  rw [e3]
  generalize hA : FloatOps.cmpf CmpFPredicate.ogt (rwv gm (BitVec.ofNat 32 o) x) (gcol gm i) = a
  generalize hB : FloatOps.cmpf CmpFPredicate.oeq (rwv gm (BitVec.ofNat 32 o) x) (gcol gm i) = b
  have key : (IntOp.ori a (IntOp.andi b (BitVec.ofBool (decide (o + x.val < i.val)))) = 1#1) ↔ (a = 1#1 ∨ (b = 1#1 ∧ o + x.val < i.val)) := by
    by_cases hlt : o + x.val < i.val
    · simp only [hlt, decide_true, BitVec.ofBool_true]
      have : ∀ a b : BitVec 1, IntOp.ori a (IntOp.andi b 1#1) = 1#1 ↔ (a = 1#1 ∨ (b = 1#1 ∧ True)) := by decide
      exact this a b
    · simp only [hlt, decide_false, BitVec.ofBool_false]
      have : ∀ a b : BitVec 1, IntOp.ori a (IntOp.andi b 0#1) = 1#1 ↔ (a = 1#1 ∨ (b = 1#1 ∧ False)) := by decide
      exact this a b
  have hs : ∀ c : BitVec 1, (Scalar.select c 1#32 0#32 : BitVec 32).toNat = if c = 1#1 then 1 else 0 := by decide
  rw [hs]
  refine if_congr (key.trans ?_) rfl rfl
  subst hA hB
  by_cases hk : o + x.val < 320
  · rw [h.gt o ho x hk i, h.eq o ho x hk i]
    exact ⟨fun hh => ⟨hk, hh⟩, fun hh => hh.2⟩
  · have ho2 : o = 256 := by omega
    subst ho2
    refine ⟨fun hh => ?_, fun hh => absurd hh.1 hk⟩
    rcases hh with hh | hh
    · exact absurd hh (h.fill x (by omega) i)
    · omega
/-- The run's ranks are the ranks. -/
theorem rkV_at {gm : Vec F S320x128 .f32} {α : Type} [LinearOrder α] {κ : ℕ → α} (h : KeyOk gm κ) (i : Fin 320) : rkV gm (ValueIdx.ix2 i 0) = BitVec.ofNat 32 (rankN κ i.val) := by
  classical
  have e : rkV gm (ValueIdx.ix2 i 0) = BitVec.ofNat 32 ((∑ x : Fin 128, if 0 + x.val < 320 ∧ Ahead κ (0 + x.val) i.val then 1 else 0) + (∑ x : Fin 128, if 128 + x.val < 320 ∧ Ahead κ (128 + x.val) i.val then 1 else 0) + (∑ x : Fin 128, if 256 + x.val < 320 ∧ Ahead κ (256 + x.val) i.val then 1 else 0)) := by
    simp only [← contrib h 0 (by decide) i, ← contrib h 128 (by decide) i, ← contrib h 256 (by decide) i]
    rw [BitVec.ofNat_add, BitVec.ofNat_add, ← fold_addi, ← fold_addi, ← fold_addi]
    unfold rkV k0_pay432 k0_pay430
    dsimp only
    pointwise
    show (0#32 + _) + _ + _ = _
    rw [BitVec.zero_add]
    refine congrArg₂ (fun a b : BitVec 32 => a + b) (congrArg₂ (fun a b : BitVec 32 => a + b) ?_ ?_) ?_ <;> refine Finset.fold_congr fun x _ => ?_ <;> rw [← pay429_at gm i x] <;> rfl
  refine e.trans (congrArg (BitVec.ofNat 32) ?_)
  unfold rankN
  refine Eq.trans ?_ (Finset.card_filter _ _).symm
  have hs : ∀ f : ℕ → ℕ, (∑ x : Fin 128, f (0 + x.val)) + (∑ x : Fin 128, f (128 + x.val)) + (∑ x : Fin 128, f (256 + x.val)) = ∑ k ∈ Finset.range 384, f k := by
    intro f
    rw [show (384 : ℕ) = 128 + 128 + 128 from rfl, Finset.sum_range_add, Finset.sum_range_add, Finset.sum_range (fun x => f x), Finset.sum_range (fun x => f (128 + x)), Finset.sum_range (fun x => f (128 + 128 + x))]
    simp only [Nat.zero_add]
  refine (hs (fun k => if k < 320 ∧ Ahead κ k i.val then 1 else 0)).trans ?_
  rw [show (384 : ℕ) = 320 + 64 from rfl, Finset.sum_range_add]
  rw [show (∑ x ∈ Finset.range 64, if 320 + x < 320 ∧ Ahead κ (320 + x) i.val then 1 else 0) = 0 from Finset.sum_eq_zero fun x _ => if_neg fun hh => by omega, Nat.add_zero]
  exact Finset.sum_congr rfl fun k hk => if_congr ⟨fun hh => hh.2, fun hh => ⟨Finset.mem_range.mp hk, hh⟩⟩ rfl rfl
/-- One row of the order. -/
theorem row_at {gm : Vec F S320x128 .f32} {α : Type} [LinearOrder α] {κ : ℕ → α} (h : KeyOk gm κ) (o : ℕ) (ho : o ≤ 256) (l : Fin 128) {j : ℕ} (hj : j < 320) (hr : rankN κ j = o + l.val) :
    Finset.fold IntOp.addi (0#32) (fun x : Fin 320 => Scalar.select (IntOp.cmpi CmpIPredicate.eq (rkV gm (ValueIdx.ix2 x 0)) (IntOp.addi (BitVec.ofNat 32 l.val) (BitVec.ofNat 32 o))) (BitVec.ofNat 32 x.val) 0#32) Finset.univ = BitVec.ofNat 32 j := by
  refine (fold_addi _ _).trans (congrArg (BitVec.ofNat 32) ?_)
  have hl := l.isLt
  rw [Finset.sum_eq_single (⟨j, hj⟩ : Fin 320)]
  · rw [rkV_at h, hr]
    show (Scalar.select (BitVec.ofBool (BitVec.ofNat 32 (o + l.val) == BitVec.ofNat 32 l.val + BitVec.ofNat 32 o)) (BitVec.ofNat 32 j) 0#32 : BitVec 32).toNat = j
    rw [← BitVec.ofNat_add, Nat.add_comm o, beq_self_eq_true]
    show (BitVec.ofNat 32 j).toNat = j
    rw [BitVec.toNat_ofNat]
    omega
  · intro x _ hx
    rw [rkV_at h]
    show (Scalar.select (BitVec.ofBool (BitVec.ofNat 32 (rankN κ x.val) == BitVec.ofNat 32 l.val + BitVec.ofNat 32 o)) (BitVec.ofNat 32 x.val) 0#32 : BitVec 32).toNat = 0
    rw [← BitVec.ofNat_add, beq_eq_false_iff_ne.mpr]
    · rfl
    · intro he
      have he := congrArg BitVec.toNat he
      rw [BitVec.toNat_ofNat, BitVec.toNat_ofNat] at he
      have := rankN_lt κ x.isLt
      have e : x.val = j := rankN_inj κ x.isLt hj (by omega)
      exact hx (Fin.ext e)
  · intro hn; exact absurd (Finset.mem_univ _) hn
theorem rowP_at {gm : Vec F S320x128 .f32} {α : Type} [LinearOrder α] {κ : ℕ → α} (h : KeyOk gm κ) (r : ℕ) (hr : r < 3) (l : Fin 128) {j : ℕ} (hj : j < 320) (hk : rankN κ j = 128 * r + l.val) :
    rowP gm r (ValueIdx.ix2 0 l) = BitVec.ofNat 32 j := by
  rcases (show r = 0 ∨ r = 1 ∨ r = 2 by omega) with rfl | rfl | rfl
  · refine Eq.trans ?_ (row_at h 0 (by decide) l hj hk)
    show k0_pay434 (k0_pay433 _ _ _ _ _) _ = _
    unfold k0_pay434 k0_pay433
    dsimp only
    pointwise
    rfl
  · refine Eq.trans ?_ (row_at h 128 (by decide) l hj hk)
    show k0_pay435 _ _ _ _ = _
    unfold k0_pay435
    dsimp only
    pointwise
    rfl
  · refine Eq.trans ?_ (row_at h 256 (by decide) l hj hk)
    show k0_pay436 _ _ _ _ = _
    unfold k0_pay436
    dsimp only
    pointwise
    rfl
/-- THE ORDER IS A PERMUTATION. -/
theorem permOk {gm : Vec F S320x128 .f32} {α : Type} [LinearOrder α] {κ : ℕ → α} (h : KeyOk gm κ) : PermOk gm := by
  have key : ∀ k < 320, pmN gm k < 320 ∧ rankN κ (pmN gm k) = k := by
    intro k hk
    obtain ⟨j, hj, e⟩ := rankN_surj κ hk
    have : pmN gm k = j := by
      unfold pmN
      rw [rowP_at h (k / 128) (by omega) (Fin.ofNat 128 k) hj (by rw [e]; show k = 128 * (k / 128) + k % 128; omega), BitVec.toNat_ofNat]
      omega
    rw [this]
    exact ⟨hj, e⟩
  exact ⟨fun k hk => (key k hk).1, fun a ha b hb e => (key a ha).2.symm.trans ((congrArg (rankN κ) e).trans (key b hb).2)⟩
end Cert.Proof.KernelIdeal
end
-- ==== Proof.F1.lean ====
module
public import proofs.«01_k».proof.Proof.E1
@[expose] public section
set_option maxRecDepth 65536
noncomputable section
namespace Cert.Proof.KernelIdeal
open Idealize.ShloMosaic
/-- The power `2 ^ (n - 126)`. -/
def pw (n : ℕ) : EReal := (((2 : ℝ) ^ ((n : ℤ) - 126) : ℝ) : EReal)
/-- The powers grow. -/
theorem pw_mono {a b : ℕ} (h : a ≤ b) : pw a ≤ pw b := by
  unfold pw
  exact EReal.coe_le_coe_iff.mpr (zpow_le_zpow_right₀ one_le_two (by omega))
/-- The power `2 ^ 0`. -/
theorem pw_one : pw 126 = 1 := by
  unfold pw
  simp
/-- A power is not zero. -/
theorem pw_ne (n : ℕ) : pw n ≠ 0 := by
  unfold pw
  rw [Ne, EReal.coe_eq_zero]
  exact zpow_ne_zero _ two_ne_zero
/-- A biased exponent's bits with no fraction are a power. -/
theorem bits_pw {n : ℕ} (h : n < 254) : Ideal.ofBits .f32 (BitVec.ofNat 32 ((n + 1) * 8388608)) = pw n := by
  have e1 : ((BitVec.ofNat 32 ((n + 1) * 8388608)).extractLsb' 23 8).toNat = n + 1 := by
    rw [BitVec.extractLsb'_toNat, BitVec.toNat_ofNat, Nat.shiftRight_eq_div_pow]; omega
  have e2 : ((BitVec.ofNat 32 ((n + 1) * 8388608)).extractLsb' 0 23).toNat = 0 := by
    rw [BitVec.extractLsb'_toNat, BitVec.toNat_ofNat, Nat.shiftRight_eq_div_pow]; omega
  have e3 : ((BitVec.ofNat 32 ((n + 1) * 8388608)).extractLsb' (8 + 23) 1 == 1#1) = false := by
    rw [beq_eq_false_iff_ne]
    intro hh
    have := congrArg BitVec.toNat hh
    rw [BitVec.extractLsb'_toNat, BitVec.toNat_ofNat, Nat.shiftRight_eq_div_pow] at this
    have e : (1#1 : BitVec 1).toNat = 1 := rfl
    omega
  show Ideal.ieee 8 23 _ = _
  dsimp only [Ideal.ieee]
  rw [e1, e2, e3, if_neg (by omega), if_neg (by omega)]
  unfold pw
  refine congrArg Real.toEReal ?_
  have e4 : (((2 ^ 23 + 0 : ℕ) : ℕ) : ℝ) = (2 : ℝ) ^ (23 : ℤ) := by
    rw [Nat.add_zero, Nat.cast_pow]
    exact (zpow_natCast (2 : ℝ) 23).symm
  rw [if_neg (by decide), one_mul, e4, ← zpow_add₀ two_ne_zero]
  refine congrArg (fun z : ℤ => (2 : ℝ) ^ z) ?_
  push_cast
  omega
/-- How many of the powers lie at or below a value. -/
theorem cut_ex (T : EReal) (N : ℕ) : ∃ c, c ≤ N ∧ ∀ n < N, (pw n ≤ T ↔ n < c) := by
  induction N with
  | zero => exact ⟨0, Nat.le_refl _, fun n h => absurd h (Nat.not_lt_zero _)⟩
  | succ N ih =>
    obtain ⟨c, hc, hh⟩ := ih
    by_cases h : pw N ≤ T
    · exact ⟨N + 1, Nat.le_refl _, fun n hn => ⟨fun _ => hn, fun _ => (pw_mono (by omega)).trans h⟩⟩
    · refine ⟨c, by omega, fun n hn => ?_⟩
      by_cases e : n = N
      · subst e
        exact ⟨fun a => absurd a h, fun a => by omega⟩
      · exact hh n (by omega)
/-- That number. -/
def cc (T : EReal) : ℕ := (cut_ex T 246).choose
theorem cc_le (T : EReal) : cc T ≤ 246 := (cut_ex T 246).choose_spec.1
theorem cc_iff (T : EReal) {n : ℕ} (h : n < 246) : pw n ≤ T ↔ n < cc T := (cut_ex T 246).choose_spec.2 n h
/-- A sum of words. -/
theorem fold_ofNat {ι : Type} [DecidableEq ι] (s : Finset ι) (f : ι → ℕ) : s.fold IntOp.addi 0#32 (fun x => BitVec.ofNat 32 (f x)) = BitVec.ofNat 32 (∑ x ∈ s, f x) := by
  induction s using Finset.induction_on with
  | empty => rfl
  | insert a s h ih =>
    rw [Finset.fold_insert h, ih, Finset.sum_insert h, BitVec.ofNat_add]
    rfl
theorem hb : ∀ (x : Fin 2) (l : Fin 128), IntOp.addi (IntOp.muli (BitVec.ofNat 32 x.val) 128#32) (BitVec.ofNat 32 l.val) = BitVec.ofNat 32 (128 * x.val + l.val) := by decide +kernel
theorem hsh : ∀ k : Fin 256, IntOp.shli ArithUnit.vector (BitVec.ofNat 32 k.val) 23#32 = BitVec.ofNat 32 (k.val * 8388608) := by decide +kernel
theorem hcm : ∀ k : Fin 256, IntOp.andi (IntOp.cmpi CmpIPredicate.sge (BitVec.ofNat 32 k.val) 1#32) (IntOp.cmpi CmpIPredicate.sle (BitVec.ofNat 32 k.val) 246#32) = BitVec.ofBool (decide (1 ≤ k.val ∧ k.val ≤ 246)) := by decide +kernel
theorem hs1 : ∀ c : Fin 247, IntOp.shli ArithUnit.vector (IntOp.addi (IntOp.subi (BitVec.ofNat 32 c.val) 126#32) 127#32) 23#32 = BitVec.ofNat 32 ((c.val + 1) * 8388608) := by decide +kernel
theorem hs2 : ∀ c : Fin 247, IntOp.shli ArithUnit.vector (IntOp.subi 127#32 (IntOp.subi (BitVec.ofNat 32 c.val) 126#32)) 23#32 = BitVec.ofNat 32 ((252 - c.val + 1) * 8388608) := by decide +kernel
theorem hti : ∀ i : Fin 256, (IntOp.minsi (IntOp.subi (BitVec.ofNat 32 i.val) 126#32) 120#32).toInt = ((min i.val 246 : ℕ) : ℤ) - 126 := by decide +kernel
/-- The count, as the kernel computes it. -/
def CNT (T : EReal) : BitVec 32 :=
  Finset.fold IntOp.addi (0#32) (fun x : Fin 2 => Finset.fold IntOp.addi (0#32) (fun x_1 : Fin 128 =>
    Scalar.select (IntOp.andi (IntOp.andi (IntOp.cmpi CmpIPredicate.sge (IntOp.addi (IntOp.muli (BitVec.ofNat 32 ↑x) 128#32) (BitVec.ofNat 32 ↑x_1)) 1#32)
      (IntOp.cmpi CmpIPredicate.sle (IntOp.addi (IntOp.muli (BitVec.ofNat 32 ↑x) 128#32) (BitVec.ofNat 32 ↑x_1)) 246#32))
      (BitVec.ofBool (decide (Ideal.ofBits FTy.f32 (IntOp.shli ArithUnit.vector (IntOp.addi (IntOp.muli (BitVec.ofNat 32 ↑x) 128#32) (BitVec.ofNat 32 ↑x_1)) 23#32) ≤ T)))) 1#32 0#32) Finset.univ) Finset.univ
theorem CNT_eq (T : EReal) : CNT T = BitVec.ofNat 32 (cc T) := by
  classical
  have key : ∀ (x : Fin 2) (l : Fin 128), Scalar.select (IntOp.andi (IntOp.andi (IntOp.cmpi CmpIPredicate.sge (IntOp.addi (IntOp.muli (BitVec.ofNat 32 x.val) 128#32) (BitVec.ofNat 32 l.val)) 1#32)
      (IntOp.cmpi CmpIPredicate.sle (IntOp.addi (IntOp.muli (BitVec.ofNat 32 x.val) 128#32) (BitVec.ofNat 32 l.val)) 246#32))
      (BitVec.ofBool (decide (Ideal.ofBits FTy.f32 (IntOp.shli ArithUnit.vector (IntOp.addi (IntOp.muli (BitVec.ofNat 32 x.val) 128#32) (BitVec.ofNat 32 l.val)) 23#32) ≤ T)))) 1#32 0#32
      = BitVec.ofNat 32 (if 1 ≤ 128 * x.val + l.val ∧ 128 * x.val + l.val ≤ cc T then 1 else 0) := by
    intro x l
    rw [hb x l]
    have hx := x.isLt
    have hl := l.isLt
    have hk : 128 * x.val + l.val < 256 := by omega
    generalize 128 * x.val + l.val = k at hk
    rw [hsh ⟨k, hk⟩, hcm ⟨k, hk⟩]
    have hc := cc_le T
    by_cases h : 1 ≤ k ∧ k ≤ 246
    · obtain ⟨n, rfl⟩ : ∃ n, k = n + 1 := ⟨k - 1, by omega⟩
      have := cc_iff T (n := n) (by omega)
      rw [show ((⟨n + 1, hk⟩ : Fin 256).val) = n + 1 from rfl, bits_pw (by omega), decide_eq_true h]
      by_cases hp : pw n ≤ T
      · rw [decide_eq_true hp, if_pos ⟨by omega, by have := this.mp hp; omega⟩]
        rfl
      · rw [decide_eq_false hp, if_neg fun hh => hp (this.mpr (by omega))]
        rfl
    · rw [show ((⟨k, hk⟩ : Fin 256).val) = k from rfl, decide_eq_false h, if_neg fun hh => h ⟨hh.1, by omega⟩]
      generalize BitVec.ofBool (decide (Ideal.ofBits FTy.f32 (BitVec.ofNat 32 (k * 8388608)) ≤ T)) = v
      revert v
      decide
  unfold CNT
  refine (Finset.fold_congr fun x _ => (Finset.fold_congr fun l _ => key x l).trans (fold_ofNat _ _)).trans ((fold_ofNat _ _).trans (congrArg (BitVec.ofNat 32) ?_))
  rw [Fin.sum_univ_two]
  have hs : ∀ f : ℕ → ℕ, (∑ l : Fin 128, f (128 * 0 + l.val)) + (∑ l : Fin 128, f (128 * 1 + l.val)) = ∑ k ∈ Finset.range 256, f k := by
    intro f
    rw [show (256 : ℕ) = 128 + 128 from rfl, Finset.sum_range_add, Finset.sum_range (fun x => f x), Finset.sum_range (fun x => f (128 + x))]
    simp only [Nat.mul_zero, Nat.zero_add, Nat.mul_one]
  refine (hs (fun k => if 1 ≤ k ∧ k ≤ cc T then 1 else 0)).trans ?_
  rw [← Finset.card_filter]
  have hc := cc_le T
  rw [show (Finset.range 256).filter (fun k => 1 ≤ k ∧ k ≤ cc T) = Finset.Ico 1 (cc T + 1) from Finset.ext fun k => by
    rw [Finset.mem_filter, Finset.mem_range, Finset.mem_Ico]; omega, Nat.card_Ico]
  omega
/-- The factor `1 / 448` in float32. -/
abbrev K448 : EReal := Ideal.ofBits FTy.f32 991054117#32
theorem K448_ne : K448 ≠ 0 := by
  simp [K448, Ideal.ofBits, Ideal.ieee]
/-- The exponent of a maximum. -/
def EX (a : EReal) : BitVec 32 := if a * K448 = 0 then 0#32 else IntOp.subi (CNT (a * K448)) 126#32
/-- The scale of a maximum. -/
def SC (a : EReal) : EReal := if a * K448 = 0 then 1 else pw (cc (a * K448))
/-- The inverse scale of a maximum. -/
def IV (a : EReal) : EReal := if a * K448 = 0 then 1 else pw (252 - cc (a * K448))
theorem sc_bits (a : EReal) : Ideal.ofBits FTy.f32 (IntOp.shli ArithUnit.vector (IntOp.addi (EX a) 127#32) 23#32) = SC a := by
  unfold EX SC
  split
  · exact (bits_pw (n := 126) (by decide)).trans pw_one
  · rw [CNT_eq, hs1 ⟨cc (a * K448), Nat.lt_succ_of_le (cc_le _)⟩]
    exact bits_pw (Nat.lt_of_le_of_lt (cc_le _) (by decide))
theorem iv_bits (a : EReal) : Ideal.ofBits FTy.f32 (IntOp.shli ArithUnit.vector (IntOp.subi 127#32 (EX a)) 23#32) = IV a := by
  unfold EX IV
  split
  · exact (bits_pw (n := 126) (by decide)).trans pw_one
  · rw [CNT_eq, hs2 ⟨cc (a * K448), Nat.lt_succ_of_le (cc_le _)⟩]
    exact bits_pw (by omega)
theorem div_SC (a : EReal) : Ideal.div 1 (SC a) = IV a := by
  unfold SC IV
  have hc := cc_le (a * K448)
  split
  · unfold Ideal.div
    rw [if_neg one_ne_zero, one_mul]
    simp
  · unfold Ideal.div
    rw [if_neg (pw_ne _), one_mul]
    unfold pw
    rw [← EReal.coe_inv, ← zpow_neg]
    refine congrArg (fun z : ℤ => (((2 : ℝ) ^ z : ℝ) : EReal)) ?_
    omega
/-- A power, as the reference computes it. -/
theorem p4_at (i : Fin 256) : (FloatOps.exp2 (FloatOps.sitofp (F := Ideal) FTy.f32 (IntOp.minsi (IntOp.subi (BitVec.ofNat 32 i.val) 126#32) 120#32)) : Ideal .f32) = pw (min i.val 246) := by
  show Ideal.exp2 ((((IntOp.minsi (IntOp.subi (BitVec.ofNat 32 i.val) 126#32) 120#32).toInt : ℝ)) : EReal) = _
  rw [hti i, Ideal.exp2_coe]
  unfold pw
  exact congrArg Real.toEReal (Real.rpow_intCast 2 _)
/-- The scale, as the reference computes it. -/
theorem ref_SC (a : EReal) (p : Fin 256 → EReal) (hp : ∀ i, p i = pw (min i.val 246)) :
    (if a = 0 then (1 : EReal) else Finset.fold min (Ideal.ofBits FTy.f32 2139095040#32) (fun x : Fin 1 × Fin 256 => if a * K448 < p x.2 then p x.2 else Ideal.ofBits FTy.f32 2071986176#32) Finset.univ) = SC a := by
  unfold SC
  have e0 : a = 0 ↔ a * K448 = 0 := ⟨fun h => by rw [h, zero_mul], fun h => (mul_eq_zero.mp h).resolve_right K448_ne⟩
  by_cases h : a = 0
  · rw [if_pos h, if_pos (e0.mp h)]
  · rw [if_neg h, if_neg (e0.not.mp h)]
    have hc := cc_le (a * K448)
    generalize a * K448 = T at hc ⊢
    have hinf : Ideal.ofBits FTy.f32 2139095040#32 = ⊤ := by simp [Ideal.ofBits, Ideal.ieee]
    have hbig : Ideal.ofBits FTy.f32 2071986176#32 = pw 246 := bits_pw (n := 246) (by decide)
    rw [hinf, hbig]
    refine eq_of_forall_le_iff fun b => ?_
    rw [Finset.le_fold_min]
    constructor
    · intro hh
      have := hh.2 (0, ⟨cc T, by omega⟩) (Finset.mem_univ _)
      simp only [hp] at this
      rw [Nat.min_eq_left hc] at this
      split at this
      · exact this
      · rename_i hn
        by_cases e : cc T = 246
        · rw [e]; exact this
        · exact absurd (lt_of_not_ge fun hle => absurd ((cc_iff T (n := cc T) (by omega)).mp hle) (Nat.lt_irrefl _)) hn
    · intro hh
      refine ⟨le_top, fun x _ => hh.trans ?_⟩
      simp only [hp]
      split
      · rename_i hlt
        refine pw_mono ?_
        by_contra hn
        exact absurd ((cc_iff T (n := min x.2.val 246) (by omega)).mpr (by omega)) (not_le_of_gt hlt)
      · exact pw_mono hc
end Cert.Proof.KernelIdeal
end
-- ==== Proof.F3.lean ====
module
public import proofs.«01_k».proof.Proof.F1
public import Idealize.ShloMosaic.Lib.Pointwise
@[expose] public section
set_option maxRecDepth 65536
noncomputable section
namespace Cert.Proof.KernelIdeal
open Cert.KernelIdeal Cert.KernelIdeal.Gen
open Idealize.ShloMosaic
/-- A code. -/
def cod (v s : EReal) : EReal := min (Ideal.ofBits FTy.f32 1138753536#32) (max (Ideal.ofBits FTy.f32 3286237184#32) (v * s))
theorem cqv_at (E : Env Ideal) (x : ℕ → ℕ → Ideal .bf16) {a b : ℕ} (hb : b < 1536) : cqv E x a b = cod (x a b) (E.xi (ValueIdx.ix2 0 0)) := by
  have e : k0_pay62 E.xi (xst x (32 * (a / 32))) (ValueIdx.ix3 0 (Fin.ofNat 32 a) (Fin.ofNat 1536 b)) = cod (xst (F := Ideal) x (32 * (a / 32)) (ValueIdx.ix3 0 (Fin.ofNat 32 a) (Fin.ofNat 1536 b))) (E.xi (ValueIdx.ix2 0 0)) := by
    unfold k0_pay62
    pointwise
    rfl
  unfold cqv
  rw [e]
  refine congrArg (fun z => cod z _) ?_
  show x (32 * (a / 32) + a % 32) (b % 1536) = x a b
  rw [Nat.div_add_mod, Nat.mod_eq_of_lt hb]
/-- An entry of the product, before the codes. -/
def yval (E : Env Ideal) (cf : ℕ → ℕ → Ideal .fp8e4m3) (a j : ℕ) : EReal := (∑ x : Fin 1536, (cf a x.val : EReal) * E.W (ValueIdx.ix2 x (Fin.ofNat 8960 j))) * E.ym
theorem ytv_at (E : Env Ideal) (yi : FVec Ideal S1x1 .f32) (cf : ℕ → ℕ → Ideal .fp8e4m3) {a j : ℕ} (ha : a < 1024) : ytv E yi cf a j = cod (yval E cf a j) (yi (ValueIdx.ix2 0 0)) := by
  have e : k0_pay65 E.ym yi (cvec cf) (wl E (256 * (j / 256))) (ValueIdx.ix3 0 (Fin.ofNat 1024 a) (Fin.ofNat 256 j)) = cod ((∑ x : Fin 1536, (cvec (F := Ideal) cf (ValueIdx.ix3 0 (Fin.ofNat 1024 a) x) : EReal) * wl E (256 * (j / 256)) (ValueIdx.ix2 x (Fin.ofNat 256 j))) * E.ym) (yi (ValueIdx.ix2 0 0)) := by
    unfold k0_pay65 k0_pay63
    pointwise
    rfl
  unfold ytv
  rw [e]
  unfold yval
  refine congrArg (fun z => cod (z * E.ym) _) (Finset.sum_congr rfl fun x _ => ?_)
  show cf (a % 1024) x.val * E.W (ValueIdx.ix2 x (Fin.ofNat 8960 (256 * (j / 256) + j % 256))) = _
  rw [Nat.div_add_mod, Nat.mod_eq_of_lt ha]
/-- The size of an entry. -/
def yab (E : Env Ideal) (cf : ℕ → ℕ → Ideal .fp8e4m3) (a j : ℕ) : EReal := FloatOps.absf (F := Ideal) (φ := .f32) (yval E cf a j)
theorem pay64_at (E : Env Ideal) (cf : ℕ → ℕ → Ideal .fp8e4m3) (m : Vec Ideal S8x128 .f32) (t : ℕ) (r : Fin 8) (l : Fin 128) :
    k0_pay64 E.ym m (cvec cf) (wl E (256 * t)) (ValueIdx.ix2 r l) = (max (max (m (ValueIdx.ix2 r l)) (Finset.fold max (Ideal.ofBits FTy.f32 4286578688#32) (fun x : Fin 128 => yab E cf (x.val * 8 + r.val) (256 * t + l.val)) Finset.univ))
      (Finset.fold max (Ideal.ofBits FTy.f32 4286578688#32) (fun x : Fin 128 => yab E cf (x.val * 8 + r.val) (256 * t + (128 + l.val))) Finset.univ) : EReal) := by
  unfold k0_pay64 k0_pay63
  pointwise
  rfl
/-- The last tile, as the step's end computes it. -/
theorem last_at (E : Env Ideal) (cf : ℕ → ℕ → Ideal .fp8e4m3) (m : Vec Ideal S8x128 .f32) (t : ℕ) (r : Fin 8) (l : Fin 128) :
    k0_pay414 (k0_pay228 E.ym m (cvec cf) (wl E (256 * t))) (k0_pay229 E.ym (cvec cf) (wl E (256 * t))) (ValueIdx.ix2 r l) = (max (max (m (ValueIdx.ix2 r l)) (Finset.fold max (Ideal.ofBits FTy.f32 4286578688#32) (fun x : Fin 128 => yab E cf (x.val * 8 + r.val) (256 * t + l.val)) Finset.univ))
      (Finset.fold max (Ideal.ofBits FTy.f32 4286578688#32) (fun x : Fin 128 => yab E cf (x.val * 8 + r.val) (256 * t + (128 + l.val))) Finset.univ) : EReal) := by
  unfold k0_pay414 k0_pay228 k0_pay229 k0_pay227 k0_pay226
  pointwise
  rfl
end Cert.Proof.KernelIdeal
end
-- ==== Proof.E2.lean ====
module
public import proofs.«01_k».proof.Proof.E1
public import proofs.«01_k».proof.Pre_pre
public import Idealize.ShloMosaic.Lib.ReduceAll
public import Idealize.ShloMosaic.Lib.Pointwise
public import Idealize.ShloMosaic.Lib.Pipeline.ValueKit
@[expose] public section
set_option maxRecDepth 65536
noncomputable section
namespace Cert.Proof.KernelIdeal
open Cert.KernelIdeal Cert.KernelIdeal.Gen
open Idealize.ShloMosaic
/-- The pattern of minus infinity. -/
theorem bot_bits : Ideal.ofBits FTy.f32 4286578688#32 = ⊥ := by simp [Ideal.ofBits, Ideal.ieee]
/-- The largest entry of a group. -/
theorem gcol_at (gm : Vec Ideal S320x128 .f32) (i : Fin 320) : gcol gm i = Finset.fold max (⊥ : EReal) (fun x : Fin 128 => (gm (ValueIdx.ix2 i x) : EReal)) Finset.univ := by
  rw [← bot_bits]
  unfold gcol k0_pay423
  pointwise
  rfl
/-- Lane `x` of a row of group maxima. -/
theorem rwv_at (gm : Vec Ideal S320x128 .f32) (o : BitVec 32) (x : Fin 128) : rwv gm o x = Finset.fold max (⊥ : EReal)
    (fun i : Fin 320 => (Scalar.select (IntOp.cmpi CmpIPredicate.eq (BitVec.ofNat 32 i.val) (IntOp.addi (BitVec.ofNat 32 x.val) o)) (gcol gm i : EReal) (Ideal.ofBits FTy.f32 3212836864#32))) Finset.univ := by
  rw [← bot_bits]
  simp only [← pay429_at gm _ x]
  unfold rwv
  pointwise
  rfl
/-- The fill is below zero. -/
theorem fill_neg : Ideal.ofBits FTy.f32 3212836864#32 < 0 := by
  show Ideal.ieee 8 23 (3212836864#32 : BitVec 32) < 0
  dsimp only [Ideal.ieee]
  rw [if_neg (by decide), if_neg (by decide), if_pos (by decide)]
  exact EReal.coe_neg'.mpr (mul_neg_of_neg_of_pos (mul_neg_of_neg_of_pos neg_one_lt_zero (Nat.cast_pos.mpr (by decide))) (zpow_pos two_pos _))
theorem gcol_nn {gm : Vec Ideal S320x128 .f32} (h : ∀ i, (0 : EReal) ≤ gm i) (i : Fin 320) : (0 : EReal) ≤ gcol gm i := by
  rw [gcol_at, Finset.le_fold_max]
  exact Or.inr ⟨0, Finset.mem_univ _, h _⟩
theorem rwv_in {gm : Vec Ideal S320x128 .f32} (h : ∀ i, (0 : EReal) ≤ gm i) {o : ℕ} (ho : o ≤ 256) (x : Fin 128) (hx : o + x.val < 320) : rwv gm (BitVec.ofNat 32 o) x = gcol gm ⟨o + x.val, hx⟩ := by
  rw [rwv_at]
  refine eq_of_forall_ge_iff (α := EReal) fun b => ?_
  rw [Finset.fold_max_le]
  have sel : ∀ i : Fin 320, Scalar.select (IntOp.cmpi CmpIPredicate.eq (BitVec.ofNat 32 i.val) (IntOp.addi (BitVec.ofNat 32 x.val) (BitVec.ofNat 32 o))) (gcol gm i : EReal) (Ideal.ofBits FTy.f32 3212836864#32)
      = if i.val = o + x.val then (gcol gm i : EReal) else Ideal.ofBits FTy.f32 3212836864#32 := by
    intro i
    have hi := i.isLt
    have hl := x.isLt
    show Scalar.select (BitVec.ofBool (BitVec.ofNat 32 i.val == BitVec.ofNat 32 x.val + BitVec.ofNat 32 o)) _ _ = _
    rw [← BitVec.ofNat_add]
    split
    · rename_i e
      rw [e, Nat.add_comm, beq_self_eq_true]
      rfl
    · rename_i e
      rw [beq_eq_false_iff_ne.mpr]
      · rfl
      · intro he
        have he := congrArg BitVec.toNat he
        rw [BitVec.toNat_ofNat, BitVec.toNat_ofNat] at he
        omega
  constructor
  · intro hh
    have := hh.2 ⟨o + x.val, hx⟩ (Finset.mem_univ _)
    rwa [sel, if_pos rfl] at this
  · intro hh
    refine ⟨bot_le, fun i _ => ?_⟩
    rw [sel]
    split
    · rename_i e
      rw [show i = ⟨o + x.val, hx⟩ from Fin.ext e]
      exact hh
    · exact fill_neg.le.trans ((gcol_nn h _).trans hh)
theorem rwv_out {gm : Vec Ideal S320x128 .f32} (x : Fin 128) (hx : 320 ≤ 256 + x.val) : (rwv gm 256#32 x : EReal) < 0 := by
  refine lt_of_le_of_lt (b := Ideal.ofBits FTy.f32 3212836864#32) ?_ fill_neg
  rw [rwv_at, Finset.fold_max_le]
  refine ⟨bot_le, fun i _ => le_of_eq ?_⟩
  have hi := i.isLt
  have hl := x.isLt
  show Scalar.select (BitVec.ofBool (BitVec.ofNat 32 i.val == BitVec.ofNat 32 x.val + BitVec.ofNat 32 256)) _ _ = _
  rw [← BitVec.ofNat_add, beq_eq_false_iff_ne.mpr]
  · rfl
  · intro he
    have he := congrArg BitVec.toNat he
    rw [BitVec.toNat_ofNat, BitVec.toNat_ofNat] at he
    omega
/-- The keys of the order: the groups' maxima. -/
def kap (gm : Vec Ideal S320x128 .f32) (k : ℕ) : EReal := if h : k < 320 then gcol gm ⟨k, h⟩ else 0
theorem ofBool_one {p : Prop} [Decidable p] : BitVec.ofBool (decide p) = 1#1 ↔ p := by
  by_cases h : p
  · rw [decide_eq_true h]; exact ⟨fun _ => h, fun _ => rfl⟩
  · rw [decide_eq_false h]; exact ⟨fun e => absurd e (by decide), fun e => absurd e h⟩
/-- At the ideal instance the comparisons are those of the maxima. -/
theorem keyOk {gm : Vec Ideal S320x128 .f32} (h : ∀ i, (0 : EReal) ≤ gm i) : KeyOk gm (kap gm) where
  gt := fun o ho x hx i => by
    rw [rwv_in h (by omega) x hx]
    unfold kap
    rw [dif_pos i.isLt, dif_pos hx]
    exact ofBool_one
  eq := fun o ho x hx i => by
    rw [rwv_in h (by omega) x hx]
    unfold kap
    rw [dif_pos i.isLt, dif_pos hx]
    exact ofBool_one
  fill := fun x hx i => by
    intro e
    have e2 : (gcol gm i : EReal) < rwv gm 256#32 x := ofBool_one.mp e
    exact absurd (e2.trans (rwv_out x hx)) (not_lt_of_ge (gcol_nn h i))
/-- The order is a permutation. -/
theorem permI {gm : Vec Ideal S320x128 .f32} (h : ∀ i, (0 : EReal) ≤ gm i) : PermOk gm := permOk (keyOk h)
/-- The group maxima are staged whole. -/
theorem gmOf_eq {F : FTy → Type} [FloatOps F] (m : (ℓ : Loc nD τ sig) → Buf (Elt F) ℓ) (c : Dev nD) : gmOf m c = m ((c.tc : Thread nD τ).loc main_arg0) := by
  funext i
  unfold gmOf
  have h0 : win0_0.index t0_0 0 = 0 ∧ win0_0.index t0_0 1 = 0 := by decide +kernel
  blk_ext [iblk, V]
/-- The weights' factor is staged whole. -/
theorem wsOf_eq {F : FTy → Type} [FloatOps F] (m : (ℓ : Loc nD τ sig) → Buf (Elt F) ℓ) (c : Dev nD) : wsOf m c = m ((c.tc : Thread nD τ).loc main_arg1) := by
  funext i
  unfold wsOf
  have h0 : win0_1.index t0_0 0 = 0 ∧ win0_1.index t0_0 1 = 0 := by decide +kernel
  blk_ext [iblk, V]
/-- The precondition says no group maximum is negative. -/
theorem pre_nn [Cert.Pre_pre.Facts] {a : FVec Ideal S320x128 .f32} {b : FVec Ideal S1x1 .f32} {c : FVec Ideal S40960x1536 .bf16} {d : FVec Ideal S1536x8960 .fp8e4m3} (h : Cert.Pre_pre.fn (F := Ideal) a b c d = fun _ => 1#1) (i) : (0 : EReal) ≤ a i := by
  have h := congrFun h (fun a => a.elim0)
  unfold Cert.Pre_pre.fn at h
  dsimp only at h
  haveI : Subsingleton Cert.Pre_pre.S_.Idx := ⟨fun a b => funext fun k => k.elim0⟩
  have e := Host.reduce_andi_all _ _ _ _ _ h i
  have e2 : Ideal.ofBits FTy.f32 0#32 ≤ a i := ofBool_one.mp e
  have z : Ideal.ofBits FTy.f32 0#32 = 0 := by simp [Ideal.ofBits, Ideal.ieee]
  rwa [z] at e2
end Cert.Proof.KernelIdeal
end
-- ==== Proof.F4.lean ====
module
public import proofs.«01_k».proof.Proof.F3
public import proofs.«01_k».proof.Proof.E2
@[expose] public section
noncomputable section
namespace Cert.Proof.KernelIdeal
open Cert.KernelIdeal Cert.KernelIdeal.Gen
open Idealize.ShloMosaic
/-- Every running maximum is at most `b`. -/
def Ub (m : Vec Ideal S8x128 .f32) (b : EReal) : Prop := ∀ (r : Fin 8) (l : Fin 128), (m (ValueIdx.ix2 r l) : EReal) ≤ b
/-- The sizes of the first `n` columns of an item are at most `b`. -/
def Yb (E : Env Ideal) (cf : ℕ → ℕ → Ideal .fp8e4m3) (n : ℕ) (b : EReal) : Prop := ∀ a < 1024, ∀ j < n, yab E cf a j ≤ b
/-- One tile raises the maxima to the sizes of its columns. -/
theorem step_le {E : Env Ideal} {cf : ℕ → ℕ → Ideal .fp8e4m3} {m m' : Vec Ideal S8x128 .f32} {t : ℕ}
    (h : ∀ (r : Fin 8) (l : Fin 128), m' (ValueIdx.ix2 r l) = (max (max (m (ValueIdx.ix2 r l)) (Finset.fold max (Ideal.ofBits FTy.f32 4286578688#32) (fun x : Fin 128 => yab E cf (x.val * 8 + r.val) (256 * t + l.val)) Finset.univ))
      (Finset.fold max (Ideal.ofBits FTy.f32 4286578688#32) (fun x : Fin 128 => yab E cf (x.val * 8 + r.val) (256 * t + (128 + l.val))) Finset.univ) : EReal)) (b : EReal) :
    Ub m' b ↔ Ub m b ∧ ∀ a < 1024, ∀ j < 256, yab E cf a (256 * t + j) ≤ b := by
  unfold Ub
  simp only [h, max_le_iff, Finset.fold_max_le, bot_bits, bot_le, true_and, Finset.mem_univ, forall_const]
  constructor
  · intro H
    refine ⟨fun r l => (H r l).1.1, fun a ha j hj => ?_⟩
    have e : a / 8 * 8 + a % 8 = a := by omega
    by_cases hj' : j < 128
    · have := (H ⟨a % 8, by omega⟩ ⟨j, hj'⟩).1.2 ⟨a / 8, by omega⟩
      dsimp only at this
      rwa [e] at this
    · have := (H ⟨a % 8, by omega⟩ ⟨j - 128, by omega⟩).2 ⟨a / 8, by omega⟩
      dsimp only at this
      rwa [e, show 128 + (j - 128) = j by omega] at this
  · rintro ⟨H1, H2⟩ r l
    have hr := r.isLt
    have hl := l.isLt
    exact ⟨⟨H1 r l, fun x => H2 _ (by have := x.isLt; omega) _ (by omega)⟩, fun x => H2 _ (by have := x.isLt; omega) _ (by omega)⟩
theorem ext_le {E : Env Ideal} {cf : ℕ → ℕ → Ideal .fp8e4m3} {t n : ℕ} (hn : n = 256 * t + 256) (b : EReal) (A : Prop) :
    (A ∧ Yb E cf (256 * t) b) ∧ (∀ a < 1024, ∀ j < 256, yab E cf a (256 * t + j) ≤ b) ↔ A ∧ Yb E cf n b := by
  constructor
  · rintro ⟨⟨h1, h2⟩, h3⟩
    refine ⟨h1, fun a ha j hj => ?_⟩
    by_cases hj' : j < 256 * t
    · exact h2 a ha j hj'
    · have := h3 a ha (j - 256 * t) (by omega)
      rwa [show 256 * t + (j - 256 * t) = j by omega] at this
  · rintro ⟨h1, h2⟩
    exact ⟨⟨h1, fun a ha j hj => h2 a ha j (by omega)⟩, fun a ha j hj => h2 a ha _ (by omega)⟩
theorem mT_le (E : Env Ideal) (cf : ℕ → ℕ → Ideal .fp8e4m3) (m : Vec Ideal S8x128 .f32) (b : EReal) (t : ℕ) : Ub (mT E cf m t) b ↔ Ub m b ∧ Yb E cf (256 * t) b := by
  induction t with
  | zero => exact ⟨fun h => ⟨h, fun a _ j hj => absurd hj (by omega)⟩, fun h => h.1⟩
  | succ t ih =>
    refine (step_le (E := E) (cf := cf) (m' := mT E cf m (t + 1)) (m := mT E cf m t) (t := t) (fun r l => ?_) b).trans ?_
    · exact pay64_at E cf (mT E cf m t) t r l
    · rw [ih]
      exact ext_le (by omega) b _
theorem mF_le (E : Env Ideal) (cf : ℕ → ℕ → Ideal .fp8e4m3) (m : Vec Ideal S8x128 .f32) (b : EReal) : Ub (mF E cf m) b ↔ Ub m b ∧ Yb E cf 8960 b := by
  refine (step_le (E := E) (cf := cf) (m' := mF E cf m) (m := mT E cf m 34) (t := 34) (fun r l => ?_) b).trans ?_
  · unfold mF
    exact last_at E cf (mT E cf m 34) 34 r l
  · rw [mT_le]
    exact ext_le (by omega) b _
theorem mR_le (E : Env Ideal) (It : ℕ → ℕ) (m0 : Vec Ideal S8x128 .f32) (b : EReal) (i : ℕ) : Ub (mR E It m0 i) b ↔ Ub m0 b ∧ ∀ k < i, Yb E (co E It k) 8960 b := by
  induction i with
  | zero => exact ⟨fun h => ⟨h, fun k hk => absurd hk (by omega)⟩, fun h => h.1⟩
  | succ i ih =>
    refine (mF_le E (co E It i) (mR E It m0 i) b).trans ?_
    rw [ih]
    constructor
    · rintro ⟨⟨h1, h2⟩, h3⟩
      refine ⟨h1, fun k hk => ?_⟩
      by_cases hk' : k < i
      · exact h2 k hk'
      · have : k = i := by omega
        rw [this]; exact h3
    · rintro ⟨h1, h2⟩
      exact ⟨⟨h1, fun k hk => h2 k (by omega)⟩, h2 i (by omega)⟩
/-- An entry of the product with rows of `x` in their own order. -/
def yrow (E : Env Ideal) (r : Fin 40960) (j : Fin 8960) : EReal := (∑ x : Fin 1536, cod (E.X (ValueIdx.ix2 r x)) (E.xi (ValueIdx.ix2 0 0)) * E.W (ValueIdx.ix2 x j)) * E.ym
theorem xv_at (E : Env Ideal) (s a : ℕ) (x : Fin 1536) (r : Fin 40960) (hr : 128 * E.P (8 * s + a / 128) + a % 128 = r.val) : E.XV s a x.val = E.X (ValueIdx.ix2 r x) := by
  unfold Env.XV Env.x
  rw [hr]
  have h1 : Fin.ofNat 40960 r.val = r := Fin.ext (Nat.mod_eq_of_lt r.isLt)
  have h2 : Fin.ofNat 1536 x.val = x := Fin.ext (Nat.mod_eq_of_lt x.isLt)
  rw [h1, h2]
theorem yval_row (E : Env Ideal) (s a : ℕ) (j : Fin 8960) (r : Fin 40960) (hr : 128 * E.P (8 * s + a / 128) + a % 128 = r.val) : yval E (cqv E (E.XV s)) a j.val = yrow E r j := by
  unfold yval yrow
  have h2 : Fin.ofNat 8960 j.val = j := Fin.ext (Nat.mod_eq_of_lt j.isLt)
  rw [h2]
  refine congrArg (fun z : EReal => z * E.ym) (Finset.sum_congr rfl fun x _ => ?_)
  rw [cqv_at E (E.XV s) x.isLt, xv_at E s a x r hr]
theorem pi_lt (E : Env Ideal) {R : ℕ} (h : R < 320) : E.Pi R < 320 := by
  obtain ⟨k, hk, e⟩ := E.surj R h
  rw [← e, E.Pi_P hk]; exact hk
theorem p_pi (E : Env Ideal) {R : ℕ} (h : R < 320) : E.P (E.Pi R) = R := by
  obtain ⟨k, hk, e⟩ := E.surj R h
  rw [← e, E.Pi_P hk]
theorem place (E : Env Ideal) (r : Fin 40960) : 128 * E.P (8 * (E.Pi (r.val / 128) / 8) + (128 * (E.Pi (r.val / 128) % 8) + r.val % 128) / 128) + (128 * (E.Pi (r.val / 128) % 8) + r.val % 128) % 128 = r.val := by
  have hr := r.isLt
  have h := p_pi E (R := r.val / 128) (by omega)
  rw [show 8 * (E.Pi (r.val / 128) / 8) + (128 * (E.Pi (r.val / 128) % 8) + r.val % 128) / 128 = E.Pi (r.val / 128) by omega, h]
  omega
end Cert.Proof.KernelIdeal
end
-- ==== Proof.F2.lean ====
module
public import proofs.«01_k».proof.Proof.F1
public import Idealize.ShloMosaic.Lib.Pointwise
@[expose] public section
set_option maxRecDepth 65536
noncomputable section
namespace Cert.Proof.KernelIdeal
open Cert.KernelIdeal Cert.KernelIdeal.Gen
open Idealize.ShloMosaic
/-- The largest of the running maxima. -/
def MX (m : Vec Ideal S8x128 .f32) : EReal := Finset.fold max (Ideal.ofBits FTy.f32 4286578688#32) (fun r : Fin 8 => Finset.fold max (Ideal.ofBits FTy.f32 4286578688#32) (fun l : Fin 128 => (m (ValueIdx.ix2 r l) : EReal)) Finset.univ) Finset.univ
/-- The largest of the group maxima. -/
def MG (gm : Vec Ideal S320x128 .f32) : EReal := Finset.fold max (Ideal.ofBits FTy.f32 4286578688#32) (fun r : Fin 320 => Finset.fold max (Ideal.ofBits FTy.f32 4286578688#32) (fun l : Fin 128 => (gm (ValueIdx.ix2 r l) : EReal)) Finset.univ) Finset.univ
theorem minf_bits : Ideal.ofBits FTy.f32 4286578688#32 = ⊥ := by simp [Ideal.ofBits, Ideal.ieee]
theorem MX_le (m : Vec Ideal S8x128 .f32) (b : EReal) : MX m ≤ b ↔ ∀ r l, (m (ValueIdx.ix2 r l) : EReal) ≤ b := by
  unfold MX
  simp only [Finset.fold_max_le, minf_bits, bot_le, true_and, Finset.mem_univ, forall_const]
theorem MG_le (m : Vec Ideal S320x128 .f32) (b : EReal) : MG m ≤ b ↔ ∀ r l, (m (ValueIdx.ix2 r l) : EReal) ≤ b := by
  unfold MG
  simp only [Finset.fold_max_le, minf_bits, bot_le, true_and, Finset.mem_univ, forall_const]
theorem fold_unit {ι : Type} [Fintype ι] [Subsingleton ι] [Inhabited ι] (v : EReal) : Finset.fold max (Ideal.ofBits FTy.f32 4286578688#32) (fun _ : ι => v) Finset.univ = v := by
  letI := Unique.mk' ι
  rw [Finset.univ_unique, Finset.fold_singleton, minf_bits, max_eq_left bot_le]
theorem maxsi_min (v : BitVec 32) : IntOp.maxsi v 2147483648#32 = v := by
  unfold IntOp.maxsi
  have h : (2147483648#32 : BitVec 32).sle v = true := by
    rw [BitVec.sle_iff_toInt_le]
    have := BitVec.le_toInt v
    have e : (2147483648#32 : BitVec 32).toInt = -2147483648 := by decide
    omega
  split
  · rfl
  · rename_i hn
    rw [BitVec.slt_iff_toInt_lt] at hn
    rw [BitVec.sle_iff_toInt_le] at h
    exact BitVec.eq_of_toInt_eq (by omega)
theorem fold_unitI {ι : Type} [Fintype ι] [Subsingleton ι] [Inhabited ι] (v : BitVec 32) : Finset.fold IntOp.maxsi 2147483648#32 (fun _ : ι => v) Finset.univ = v := by
  letI := Unique.mk' ι
  rw [Finset.univ_unique, Finset.fold_singleton]
  exact maxsi_min v
theorem pay424_at (gm : Vec Ideal S320x128 .f32) : k0_pay424 gm (ValueIdx.ix2 0 0) = EX (MG gm) := by
  unfold k0_pay424 k0_pay423
  pointwise
  rfl
theorem pay425_at (gm : Vec Ideal S320x128 .f32) : k0_pay425 gm (ValueIdx.ix2 0 0) = SC (MG gm) := by
  rw [← sc_bits, ← pay424_at]
  unfold k0_pay425
  pointwise
theorem pay428_at (gm : Vec Ideal S320x128 .f32) : k0_pay428 (F := Ideal) (k0_pay424 gm) (ValueIdx.ix2 0 0) = IV (MG gm) := by
  rw [← iv_bits, ← pay424_at]
  unfold k0_pay428
  pointwise
theorem xsv_at (gm : Vec Ideal S320x128 .f32) : xsv gm = SC (MG gm) := by
  rw [← pay425_at]
  unfold xsv k0_pay426
  pointwise
  exact fold_unit _
theorem pay427_at (gm : Vec Ideal S320x128 .f32) (w : Ideal .f32) : k0_pay427 (k0_pay425 gm) w = (SC (MG gm) * w : EReal) := by
  rw [← pay425_at]
  unfold k0_pay427
  pointwise
  exact congrArg (fun z : EReal => z * w) (fold_unit _)
theorem yav_at (m : Vec Ideal S8x128 .f32) : yav m = MX m := by
  unfold yav k0_pay3 k0_pay417
  pointwise
  exact fold_unit _
theorem ysv_at (m : Vec Ideal S8x128 .f32) : ysv m = SC (MX m) := by
  rw [← sc_bits]
  unfold ysv k0_pay2 k0_pay1 k0_pay419 k0_pay421 k0_pay422 k0_pay418 k0_pay420 k0_pay417
  pointwise
  exact fold_unit _
theorem exOf_at (m : Vec Ideal S8x128 .f32) : exOf m = EX (MX m) := by
  unfold exOf k0_pay56 k0_pay54 k0_pay49 k0_pay48 k0_pay51 k0_pay52 k0_pay53 k0_pay50 k0_pay48
  pointwise
  exact fold_unitI _
theorem exv_at (m : Vec Ideal S8x128 .f32) : exv m = EX (MX m) := exOf_at m
theorem yiOf_at (m : Vec Ideal S8x128 .f32) : yiOf m (ValueIdx.ix2 0 0) = Ideal.ofBits FTy.f32 (IntOp.shli ArithUnit.vector (IntOp.subi 127#32 (EX (MX m))) 23#32) := by
  unfold yiOf k0_pay55 k0_pay54 k0_pay49 k0_pay48 k0_pay51 k0_pay52 k0_pay53 k0_pay50 k0_pay48
  pointwise
  rfl
end Cert.Proof.KernelIdeal
end
-- ==== Proof.F5.lean ====
module
public import proofs.«01_k».proof.Proof.F4
public import proofs.«01_k».proof.Proof.F2
@[expose] public section
noncomputable section
namespace Cert.Proof.KernelIdeal
open Cert.KernelIdeal Cert.KernelIdeal.Gen
open Idealize.ShloMosaic
theorem MX_ub (m : Vec Ideal S8x128 .f32) (b : EReal) : MX m ≤ b ↔ Ub m b := MX_le m b
section
variable (E : Env Ideal) (m0 : Vec Ideal S8x128 .f32)
theorem co_it0 {k : ℕ} (h : k < 40) : co E it0 k = cqv E (E.XV k) := by
  unfold co
  rw [it0_at h]
/-- The second pass adds nothing to the running maxima. -/
theorem pass2 (us0 : ℕ → BitVec 32) (i : ℕ) : MX (mR E (it1 E m0 us0) (m1 E m0) i) = MX (m1 E m0) := by
  refine eq_of_forall_ge_iff (α := EReal) fun b => ?_
  rw [MX_ub, MX_ub, mR_le]
  refine ⟨fun h => h.1, fun h => ⟨h, fun k _ => ?_⟩⟩
  have h2 := ((mR_le E it0 m0 b 40).mp h).2 (it1 E m0 us0 k) (it1_lt k)
  rw [co_it0 E (it1_lt k)] at h2
  exact h2
theorem mx_end : MX (mEnd E) = MX (m1 E (k0_pay437 (F := Ideal))) := pass2 E (k0_pay437 (F := Ideal)) _ _
/-- Every item ends with the codes of the last scale. -/
theorem yfin_at {k a : ℕ} (hk : k < 40) (ha : a < 1024) (j : ℕ) : yfin E m0 k a j = cod (yval E (cqv E (E.XV k)) a j) (IV (MX (m1 E m0))) := by
  unfold yfin
  by_cases hh : ∃ j, j < n1 E m0 (fun _ => 0#32) ∧ it1 E m0 (fun _ => 0#32) j = k
  · rw [dif_pos hh]
    have e := hh.choose_spec.2
    unfold yR
    rw [ytv_at _ _ _ ha, yiOf_at, iv_bits, pass2]
    unfold co
    rw [e]
  · rw [dif_neg hh]
    have hu : us1 E m0 (fun _ => 0#32) k = exv (m1 E m0) := by
      refine Classical.byContradiction fun hne => ?_
      obtain ⟨q, h1, h2⟩ := cI_all (us1 E m0 (fun _ => 0#32)) (exv (m1 E m0)) it0 40 k hk hne
      exact hh ⟨q, h1, h2⟩
    rw [us1_at hk, exOf_at, exv_at] at hu
    unfold yR
    rw [ytv_at _ _ _ ha, yiOf_at, hu, iv_bits, co_it0 E hk]
end
theorem absf_nn (v : EReal) : (0 : EReal) ≤ FloatOps.absf (F := Ideal) (φ := .f32) v := by
  show (0 : EReal) ≤ max v (-v)
  rw [le_max_iff]
  rcases le_total 0 v with h | h
  · exact Or.inl h
  · right
    have := EReal.neg_le_neg_iff.mpr h
    rwa [neg_zero] at this
theorem m0_at (r : Fin 8) (l : Fin 128) : (k0_pay437 (F := Ideal) (ValueIdx.ix2 r l) : EReal) = 0 := by
  unfold k0_pay437
  pointwise
theorem mx_le (E : Env Ideal) (b : EReal) : MX (m1 E (k0_pay437 (F := Ideal))) ≤ b ↔ ∀ (r : Fin 40960) (j : Fin 8960), (FloatOps.absf (F := Ideal) (φ := .f32) (yrow E r j) : EReal) ≤ b := by
  rw [MX_ub]
  refine (mR_le E it0 (k0_pay437 (F := Ideal)) b 40).trans ⟨fun h r j => ?_, fun h => ⟨fun r l => ?_, fun k hk a ha j hj => ?_⟩⟩
  · have hr := r.isLt
    have hp := pi_lt E (R := r.val / 128) (by omega)
    have h2 := h.2 (E.Pi (r.val / 128) / 8) (by omega) (128 * (E.Pi (r.val / 128) % 8) + r.val % 128) (by omega) j.val j.isLt
    unfold yab at h2
    rwa [co_it0 E (by omega), yval_row E _ _ j r (place E r)] at h2
  · rw [m0_at]
    exact (absf_nn _).trans (h 0 0)
  · have hp := E.hP (8 * k + a / 128)
    have h2 := h ⟨128 * E.P (8 * k + a / 128) + a % 128, by omega⟩ ⟨j, hj⟩
    unfold yab
    rw [co_it0 E hk, yval_row E k a ⟨j, hj⟩ ⟨128 * E.P (8 * k + a / 128) + a % 128, by omega⟩ rfl]
    exact h2
/-- The codes of `x`. -/
theorem cG_at (E : Env Ideal) (r : Fin 40960) (x : Fin 1536) : cG E (ValueIdx.ix2 r x) = cod (E.X (ValueIdx.ix2 r x)) (E.xi (ValueIdx.ix2 0 0)) := by
  show cqv E (E.XV (E.Pi (r.val / 128) / 8)) (128 * (E.Pi (r.val / 128) % 8) + r.val % 128) x.val = _
  rw [cqv_at E _ x.isLt, xv_at E _ _ x r (place E r)]
/-- The codes of the product. -/
theorem yG_at (E : Env Ideal) (r : Fin 40960) (j : Fin 8960) : yG E (k0_pay437 (F := Ideal)) (ValueIdx.ix2 r j) = cod (yrow E r j) (IV (MX (m1 E (k0_pay437 (F := Ideal))))) := by
  have hr := r.isLt
  have hp := pi_lt E (R := r.val / 128) (by omega)
  show yfin E (k0_pay437 (F := Ideal)) (E.Pi (r.val / 128) / 8) (128 * (E.Pi (r.val / 128) % 8) + r.val % 128) j.val = _
  rw [yfin_at E (k0_pay437 (F := Ideal)) (by omega) (by omega), yval_row E _ _ j r (place E r)]
end Cert.Proof.KernelIdeal
end
-- ==== Proof.H2.lean ====
module
public import proofs.«01_k».proof.Proof.H1
public import proofs.«01_k».proof.Proof.F5
public import Idealize.ShloMosaic.Lib.MatmulPlain
public import Idealize.ShloMosaic.Lib.Pointwise
@[expose] public section
noncomputable section
namespace Cert.Proof.ReferenceIdeal
open Cert.ReferenceIdeal Cert.ReferenceIdeal.Gen
open Idealize.ShloMosaic
open Cert.Proof.KernelIdeal (cod SC IV MG pw K448)
theorem p4_ix (i : Fin 256) : (k0_pay4 (F := Ideal) (ValueIdx.ix2 0 i) : EReal) = pw (min i.val 246) := by
  refine Eq.trans ?_ (Cert.Proof.KernelIdeal.p4_at i)
  unfold k0_pay4
  pointwise
/-- The largest of the group maxima, taken over pairs. -/
theorem mg_pairs (gm : Vec Ideal S320x128 .f32) : Finset.fold max (Ideal.ofBits FTy.f32 4286578688#32) (fun x : Fin 320 × Fin 128 => (gm (ValueIdx.ix2 x.1 x.2) : EReal)) Finset.univ = MG gm := by
  refine eq_of_forall_ge_iff (α := EReal) fun b => ?_
  rw [Cert.Proof.KernelIdeal.MG_le, Finset.fold_max_le, Cert.Proof.KernelIdeal.minf_bits]
  exact ⟨fun h r l => h.2 (r, l) (Finset.mem_univ _), fun h => ⟨bot_le, fun x _ => h x.1 x.2⟩⟩
theorem pay5_at (gm : Vec Ideal S320x128 .f32) : k0_pay5 gm = SC (MG gm) := by
  refine Eq.trans ?_ (Cert.Proof.KernelIdeal.ref_SC (MG gm) (fun i => k0_pay4 (F := Ideal) (ValueIdx.ix2 0 i)) p4_ix)
  rw [← mg_pairs]
  unfold k0_pay5
  pointwise
  rfl
/-- The choice of the smallest power of two above a size, for any list of powers. -/
theorem sel_gen (p : FVec Ideal S1x256 .f32) (a : Ideal .f32) (h1 : S1x256.ShapeCasts S1x1x256) (h2 : S1x1x256.Reduces [1, 2] S1) (h3) (h4) (h5) (h6) :
    (Scalar.select (Scalar.cmpf .oeq a (Scalar.ofBits (F := Ideal) .f32 0x00000000#32)) (Scalar.ofBits (F := Ideal) .f32 0x3F800000#32)
      (extractAt ![0, 0, 0] (shapeCast S1x1x1 (multiReduction .minimumf [1, 2] S1 (shapeCast S1x1x256 (select (cmpf .ogt p (broadcast S1x256 (Scalar.mulf a (Scalar.ofBits (F := Ideal) .f32 0x3B124925#32)))) p (broadcast S1x256 (Scalar.ofBits (F := Ideal) .f32 0x7B800000#32))) h1) 0x7F800000#32 h2 h3 h4) h5) h6) : EReal)
    = if (a : EReal) = 0 then 1 else Finset.fold min (Ideal.ofBits FTy.f32 2139095040#32) (fun x : Fin 1 × Fin 256 => if (a : EReal) * K448 < p (ValueIdx.ix2 0 x.2) then (p (ValueIdx.ix2 0 x.2) : EReal) else Ideal.ofBits FTy.f32 2071986176#32) Finset.univ := by
  pointwise
  rfl
theorem pay2_at (v : FVec Ideal S40960x8960 .f32) : k0_pay2 k0_pay4 v = SC (k0_pay1 v) := by
  unfold k0_pay2
  generalize k0_pay1 v = a
  clear v
  exact (sel_gen _ a _ _ _ _ _ _).trans (Cert.Proof.KernelIdeal.ref_SC a (fun i => k0_pay4 (F := Ideal) (ValueIdx.ix2 0 i)) p4_ix)
/-- A largest element over a whole array, for any two sizes. -/
theorem red_le {a b : ℕ} (v : FVec Ideal ⟨2, ![a, b]⟩ .f32) (h1 : (⟨2, ![a, b]⟩ : Shape).ShapeCasts ⟨3, ![1, a, b]⟩) (h2 : (⟨3, ![1, a, b]⟩ : Shape).Reduces [1, 2] S1) (h3) (h4) (h5) (h6) (u : EReal) :
   (extractAt ![0, 0, 0] (shapeCast S1x1x1 (multiReduction .maximumf [1, 2] S1 (shapeCast ⟨3, ![1, a, b]⟩ v h1) 0xFF800000#32 h2 h3 h4) h5) h6 : Ideal .f32) ≤ u ↔ ∀ (r : Fin a) (j : Fin b), (v (ValueIdx.ix2 r j) : EReal) ≤ u := by
  have e : (extractAt ![0, 0, 0] (shapeCast S1x1x1 (multiReduction .maximumf [1, 2] S1 (shapeCast ⟨3, ![1, a, b]⟩ v h1) 0xFF800000#32 h2 h3 h4) h5) h6 : Ideal .f32) = (Finset.fold max (Ideal.ofBits FTy.f32 4286578688#32) (fun x : Fin a × Fin b => (v ((Shape.reshapeEquiv h1) (ValueIdx.ix3 0 x.1 x.2)) : EReal)) Finset.univ : EReal) := by
    pointwise
    rfl
  rw [e, Finset.fold_max_le, Cert.Proof.KernelIdeal.minf_bits]
  constructor
  · intro h r j
    have k := (Shape.reshapeEquiv h1).apply_symm_apply (ValueIdx.ix2 r j)
    generalize (Shape.reshapeEquiv h1).symm (ValueIdx.ix2 r j) = q at k
    obtain ⟨q0, q1, q2, rfl⟩ : ∃ (q0 : Fin 1) (q1 : Fin a) (q2 : Fin b), q = ValueIdx.ix3 q0 q1 q2 := ⟨q 0, q 1, q 2, ValueIdx.eq_ix3 q⟩
    obtain rfl : q0 = 0 := Subsingleton.elim _ _
    rw [← k]
    exact h.2 (q1, q2) (Finset.mem_univ _)
  · intro h
    refine ⟨bot_le, fun x _ => ?_⟩
    generalize (Shape.reshapeEquiv h1) (ValueIdx.ix3 0 x.1 x.2) = q
    rw [ValueIdx.eq_ix2 q]
    exact h _ _
theorem pay1_le (v : FVec Ideal S40960x8960 .f32) (b : EReal) : k0_pay1 v ≤ b ↔ ∀ (r : Fin 40960) (j : Fin 8960), (v (ValueIdx.ix2 r j) : EReal) ≤ b := by
  unfold k0_pay1
  exact red_le v _ _ _ _ _ _ b
/-- A code of one element of a 16-bit array, for any shape. -/
theorem el6 {S : Shape} (x : FVec Ideal S .bf16) (s : Ideal .f32) (h1) (h2) (i : S.Idx) : truncf .fp8e4m3 (minimumf (broadcast S (Scalar.ofBits (F := Ideal) .f32 0x43E00000#32)) (maximumf (broadcast S (Scalar.ofBits (F := Ideal) .f32 0xC3E00000#32)) (mulf (extf .f32 x h1) (broadcast S (Scalar.divf (Scalar.ofBits (F := Ideal) .f32 0x3F800000#32) s))))) h2 i = cod (x i) (Ideal.div (Ideal.ofBits FTy.f32 1065353216#32) s) := rfl
/-- A code of one element of a 32-bit array, for any shape. -/
theorem el3 {S : Shape} (x : FVec Ideal S .f32) (s : Ideal .f32) (h2) (i : S.Idx) : truncf .fp8e4m3 (minimumf (broadcast S (Scalar.ofBits (F := Ideal) .f32 0x43E00000#32)) (maximumf (broadcast S (Scalar.ofBits (F := Ideal) .f32 0xC3E00000#32)) (mulf x (broadcast S (Scalar.divf (Scalar.ofBits (F := Ideal) .f32 0x3F800000#32) s))))) h2 i = cod (x i) (Ideal.div (Ideal.ofBits FTy.f32 1065353216#32) s) := rfl
theorem one_bits : (Ideal.ofBits FTy.f32 1065353216#32 : EReal) = 1 := by
  have e : (Scalar.ofBits (F := Ideal) .f32 0x3F800000#32 : EReal) = 1 := by pointwise
  exact e
theorem pay6_at (gm : Vec Ideal S320x128 .f32) (x : Vec Ideal S40960x1536 .bf16) (r : Fin 40960) (k : Fin 1536) : k0_pay6 gm x (ValueIdx.ix2 r k) = cod (x (ValueIdx.ix2 r k)) (IV (MG gm)) := by
  rw [← Cert.Proof.KernelIdeal.div_SC, ← pay5_at, ← one_bits]
  unfold k0_pay6
  exact el6 x _ _ _ _
theorem pay3_at (v u : FVec Ideal S40960x8960 .f32) (r : Fin 40960) (j : Fin 8960) : k0_pay3 k0_pay4 v u (ValueIdx.ix2 r j) = cod (v (ValueIdx.ix2 r j)) (IV (k0_pay1 u)) := by
  rw [← Cert.Proof.KernelIdeal.div_SC, ← pay2_at, ← one_bits]
  unfold k0_pay3
  exact el3 v _ _ _
/-- A product of two arrays times a number, for any sizes. -/
theorem dot_gen {M K N : ℕ} (u : FVec Ideal ⟨2, ![M, K]⟩ .fp8e4m3) (w : FVec Ideal ⟨2, ![K, N]⟩ .fp8e4m3) (s ws : Ideal .f32) (wf) (r : Fin M) (j : Fin N) :
    mulf (matmul (⟨[1], [0], [0], [1], [], [], wf⟩ : DotDims ⟨2, ![M, K]⟩ ⟨2, ![K, N]⟩ ⟨2, ![M, N]⟩) none u w (constant (F := Ideal) ⟨2, ![M, N]⟩ .f32 0x00000000#32)) (broadcast ⟨2, ![M, N]⟩ (Scalar.mulf s ws)) (ValueIdx.ix2 r j) = ((∑ k : Fin K, u (ValueIdx.ix2 r k) * w (ValueIdx.ix2 k j)) * (s * ws) : EReal) := by
  have e := Ideal.matmul_plain_apply none u w (constant (F := Ideal) ⟨2, ![M, N]⟩ .f32 0x00000000#32) r j
  have z : (constant (F := Ideal) ⟨2, ![M, N]⟩ .f32 0x00000000#32 (ValueIdx.ix2 r j) : EReal) = 0 := by pointwise
  rw [z, zero_add] at e
  exact congrArg (fun y : EReal => y * ((s : EReal) * ws)) e
theorem pay7_at (gm : Vec Ideal S320x128 .f32) (x : Vec Ideal S40960x1536 .bf16) (w : Vec Ideal S1536x8960 .fp8e4m3) (ws : Ideal .f32) (r : Fin 40960) (j : Fin 8960) :
    k0_pay7 gm x w ws (ValueIdx.ix2 r j) = ((∑ k : Fin 1536, cod (x (ValueIdx.ix2 r k)) (IV (MG gm)) * w (ValueIdx.ix2 k j)) * (SC (MG gm) * ws) : EReal) := by
  simp only [← pay6_at]
  rw [← pay5_at]
  unfold k0_pay7
  generalize k0_pay6 gm x = u
  generalize k0_pay5 gm = s
  exact dot_gen u w s ws _ r j
end Cert.Proof.ReferenceIdeal
end
-- ==== Proof.K0.lean ====
module
public import proofs.«01_k».proof.Proof.F5
public import Idealize.ShloMosaic.Lib.Pipeline.ValueKit
@[expose] public section

noncomputable section
namespace Cert.Proof.KernelIdeal
open Cert.KernelIdeal Cert.KernelIdeal.Gen
open Idealize.ShloMosaic Idealize.SL.Sem
section
variable (m : (ℓ : Loc nD τ sig) → Buf (Elt Ideal) ℓ) (h : ∀ c, PermOk (gmOf m c)) (c : Dev nD)
/-- The scale of the result. -/
def K2 : Vec Ideal S1x1 .f32 := fun _ => SC (MX (m1 (En m h c) (k0_pay437 (F := Ideal))))
/-- The largest size of the result. -/
def K3 : Vec Ideal S1x1 .f32 := fun _ => MX (m1 (En m h c) (k0_pay437 (F := Ideal)))
/-- The scale of `x`. -/
def K4 : Vec Ideal S1x1 .f32 := fun _ => SC (MG (gmOf m c))
theorem v2 : ysv (mEnd (En m h c)) = SC (MX (m1 (En m h c) (k0_pay437 (F := Ideal)))) := (ysv_at _).trans (congrArg SC (mx_end _))
theorem v3 : yav (mEnd (En m h c)) = MX (m1 (En m h c) (k0_pay437 (F := Ideal))) := (yav_at _).trans (mx_end _)
attribute [local irreducible] ysv yav xsv mEnd SC MX m1 MG En
theorem after2 (t : Fin cfg0.N) : (dats m h 0 c).after 2 t = fun _ => ysv (mEnd (En m h c)) := by
  unfold dats
  rfl
theorem karr2 : (dats m h 0 c).arrAt 2 cfg0.N = K2 m h c := by
  refine (dats m h 0 c).arrAt_eq_of_covers 2 _ (by decide +kernel) fun t hf y => ?_
  have e := after2 m h c t
  rw [show ysv (mEnd (En m h c)) = SC (MX (m1 (En m h c) (k0_pay437 (F := Ideal)))) from v2 m h c] at e
  generalize (dats m h 0 c).after 2 t = f at e ⊢
  subst e
  unfold K2
  generalize SC (MX (m1 (En m h c) (k0_pay437 (F := Ideal)))) = z
  exact eq_of_heq (cast_heq _ _)
theorem after3 (t : Fin cfg0.N) : (dats m h 0 c).after 3 t = fun _ => yav (mEnd (En m h c)) := by
  unfold dats
  rfl
theorem karr3 : (dats m h 0 c).arrAt 3 cfg0.N = K3 m h c := by
  refine (dats m h 0 c).arrAt_eq_of_covers 3 _ (by decide +kernel) fun t hf y => ?_
  have e := after3 m h c t
  rw [show yav (mEnd (En m h c)) = MX (m1 (En m h c) (k0_pay437 (F := Ideal))) from v3 m h c] at e
  generalize (dats m h 0 c).after 3 t = f at e ⊢
  subst e
  unfold K3
  generalize MX (m1 (En m h c) (k0_pay437 (F := Ideal))) = z
  exact eq_of_heq (cast_heq _ _)
theorem after4 (t : Fin cfg0.N) : (dats m h 0 c).after 4 t = fun _ => xsv (gmOf m c) := by
  unfold dats
  rfl
theorem karr4 : (dats m h 0 c).arrAt 4 cfg0.N = K4 m c := by
  refine (dats m h 0 c).arrAt_eq_of_covers 4 _ (by decide +kernel) fun t hf y => ?_
  have e := after4 m h c t
  rw [show xsv (gmOf m c) = SC (MG (gmOf m c)) from xsv_at _] at e
  generalize (dats m h 0 c).after 4 t = f at e ⊢
  subst e
  unfold K4
  generalize SC (MG (gmOf m c)) = z
  exact eq_of_heq (cast_heq _ _)
end
end Cert.Proof.KernelIdeal
end
-- ==== Proof.K1.lean ====
module
public import proofs.«01_k».proof.Proof.K0
public import Idealize.ShloMosaic.Lib.Pipeline.ValueKit
@[expose] public section
set_option maxRecDepth 65536
noncomputable section
namespace Cert.Proof.KernelIdeal
open Cert.KernelIdeal Cert.KernelIdeal.Gen
open Idealize.ShloMosaic Idealize.SL.Sem
section
variable (m : (ℓ : Loc nD τ sig) → Buf (Elt Ideal) ℓ) (h : ∀ c, PermOk (gmOf m c)) (c : Dev nD)
/-- What a run leaves, argument by argument and result by result. -/
theorem post {r : PUnit × MemSt nD τ sig (Elt Ideal)} (hr : Pipeline.FramePostRG cfgs (dats m h) 0 Rs (V m) (Gf m h) r) :
    r.2.mem ((c.tc : Thread nD τ).loc main_v0_0) = yG (En m h c) (k0_pay437 (F := Ideal))
    ∧ r.2.mem ((c.tc : Thread nD τ).loc main_v0_1) = cG (En m h c)
    ∧ r.2.mem ((c.tc : Thread nD τ).loc main_v0_2) = K2 m h c
    ∧ r.2.mem ((c.tc : Thread nD τ).loc main_v0_3) = K3 m h c
    ∧ r.2.mem ((c.tc : Thread nD τ).loc main_v0_4) = K4 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  have a := (hr.1 c).1
  refine ⟨(hr.2 c main_v0_0 (by decide)).trans (Gf_0 m h c), (hr.2 c main_v0_1 (by decide)).trans (Gf_1 m h c), (a 2).trans (karr2 m h c), (a 3).trans (karr3 m h c), (a 4).trans (karr4 m h c),
    (a 0).trans ((dats m h 0 c).arrAt_in 0 rfl _), (a 1).trans ((dats m h 0 c).arrAt_in 1 rfl _), ?_, ?_⟩
  · exact (hr.1 c).2 main_arg2 (Finset.mem_sdiff.mpr ⟨Pipeline.mem_restRefs_of main_arg2 (by decide) (by decide), by decide⟩)
  · exact (hr.1 c).2 main_arg3 (Finset.mem_sdiff.mpr ⟨Pipeline.mem_restRefs_of main_arg3 (by decide) (by decide), by decide⟩)
end
end Cert.Proof.KernelIdeal
end
-- ==== Proof.M1.lean ====
module
public import proofs.«01_k».proof.Proof.H2
public import proofs.«01_k».proof.Proof.K1
@[expose] public section
noncomputable section
namespace Cert.Proof
open Idealize.ShloMosaic
open Cert.Proof.KernelIdeal (Env yrow MX MG SC IV m1 yG cG PermOk gmOf wsOf En K2 K3 K4)
/-- The size of one element, for any shape. -/
theorem absf_i {S : Shape} (u : FVec Ideal S .f32) (i : S.Idx) : absf u i = FloatOps.absf (F := Ideal) (φ := .f32) (u i) := rfl
theorem pay8_i (gm : Vec Ideal Cert.ReferenceIdeal.S320x128 .f32) (x : Vec Ideal Cert.ReferenceIdeal.S40960x1536 .bf16) (w : Vec Ideal Cert.ReferenceIdeal.S1536x8960 .fp8e4m3) (ws : Ideal .f32) (i : Cert.ReferenceIdeal.S40960x8960.Idx) :
    Cert.ReferenceIdeal.Gen.k0_pay8 gm x w ws i = FloatOps.absf (F := Ideal) (φ := .f32) (Cert.ReferenceIdeal.Gen.k0_pay7 gm x w ws i) := by
  unfold Cert.ReferenceIdeal.Gen.k0_pay8
  exact absf_i _ i
section
variable {E : Env Ideal} {gm : Vec Ideal Cert.KernelIdeal.S320x128 .f32} {ws : Ideal .f32} {x : Vec Ideal Cert.KernelIdeal.S40960x1536 .bf16} {w : Vec Ideal Cert.KernelIdeal.S1536x8960 .fp8e4m3}
variable (hX : E.X = x) (hW : E.W = w) (hxi : E.xi (ValueIdx.ix2 0 0) = IV (MG gm)) (hym : E.ym = (SC (MG gm) * ws : EReal))
include hX hW hxi hym
theorem row_eq (r : Fin 40960) (j : Fin 8960) : yrow E r j = Cert.ReferenceIdeal.Gen.k0_pay7 gm x w ws (ValueIdx.ix2 r j) := by
  rw [ReferenceIdeal.pay7_at]
  unfold yrow
  rw [hX, hW, hxi, hym]
theorem max_eq : MX (m1 E (Cert.KernelIdeal.Gen.k0_pay437 (F := Ideal))) = Cert.ReferenceIdeal.Gen.k0_pay1 (Cert.ReferenceIdeal.Gen.k0_pay8 gm x w ws) := by
  refine eq_of_forall_ge_iff (α := EReal) fun b => ?_
  rw [KernelIdeal.mx_le, ReferenceIdeal.pay1_le]
  refine forall_congr' fun r => forall_congr' fun j => ?_
  rw [row_eq hX hW hxi hym, pay8_i]
theorem y_eq : yG E (Cert.KernelIdeal.Gen.k0_pay437 (F := Ideal)) = Cert.ReferenceIdeal.Gen.k0_pay3 Cert.ReferenceIdeal.Gen.k0_pay4 (Cert.ReferenceIdeal.Gen.k0_pay7 gm x w ws) (Cert.ReferenceIdeal.Gen.k0_pay8 gm x w ws) := by
  funext i
  obtain ⟨r, j, rfl⟩ : ∃ (r : Fin 40960) (j : Fin 8960), i = ValueIdx.ix2 r j := ⟨i 0, i 1, ValueIdx.eq_ix2 i⟩
  rw [KernelIdeal.yG_at, row_eq hX hW hxi hym, max_eq hX hW hxi hym]
  exact (ReferenceIdeal.pay3_at _ _ r j).symm
end
theorem c_eq {E : Env Ideal} {gm : Vec Ideal Cert.KernelIdeal.S320x128 .f32} {x : Vec Ideal Cert.KernelIdeal.S40960x1536 .bf16} (hX : E.X = x) (hxi : E.xi (ValueIdx.ix2 0 0) = IV (MG gm)) : cG E = Cert.ReferenceIdeal.Gen.k0_pay6 gm x := by
  funext i
  obtain ⟨r, k, rfl⟩ : ∃ (r : Fin 40960) (k : Fin 1536), i = ValueIdx.ix2 r k := ⟨i 0, i 1, ValueIdx.eq_ix2 i⟩
  rw [KernelIdeal.cG_at, hX, hxi]
  exact (ReferenceIdeal.pay6_at gm x r k).symm
end Cert.Proof
end
-- ==== Proof.H3.lean ====
module
public import proofs.«01_k».proof.Proof.H1
@[expose] public section
noncomputable section
namespace Cert.Proof.ReferenceIdeal
open Cert.ReferenceIdeal Cert.ReferenceIdeal.Gen
open Idealize.ShloMosaic

variable (m : (ℓ : Loc nD τ sig) → Buf (Elt Ideal) ℓ) (c : Dev nD)
theorem arr6 : (dats m 0 c).arrAt 6 cfg0.N = G6 m c := by
  refine (dats m 0 c).arrAt_eq_of_covers 6 _ (by decide +kernel) fun t hf y => ?_
  have h0 : ∀ t : Fin cfg0.N, win0_6.index t 0 = 0 ∧ win0_6.index t 1 = 0 := (by decide +kernel : ∀ t : Fin grid0.N, win0_6.index t 0 = 0 ∧ win0_6.index t 1 = 0)
  have h0 := h0 t
  have e : (dats m 0 c).after 6 t y = G6 m c y := by
    show out0_A_6 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) y = _
    rw [o6, blk0, blk1, blk2, blk3]
    unfold G6 GM XX WW WS
    rfl
  refine e.trans ?_
  refine congrArg (G6 m c) ?_
  blk_ext [V]
theorem arr7 : (dats m 0 c).arrAt 7 cfg0.N = G7 m c := by
  refine (dats m 0 c).arrAt_eq_of_covers 7 _ (by decide +kernel) fun t hf y => ?_
  have h0 : ∀ t : Fin cfg0.N, win0_7.index t 0 = 0 ∧ win0_7.index t 1 = 0 := (by decide +kernel : ∀ t : Fin grid0.N, win0_7.index t 0 = 0 ∧ win0_7.index t 1 = 0)
  have h0 := h0 t
  have e : (dats m 0 c).after 7 t y = G7 m c y := by
    show out0_A_7 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) y = _
    rw [o7, blk0, blk1, blk2, blk3]
    unfold G7 GM XX WW WS
    rfl
  refine e.trans ?_
  refine congrArg (G7 m c) ?_
  blk_ext [V]
theorem arr8 : (dats m 0 c).arrAt 8 cfg0.N = G8 m c := by
  refine (dats m 0 c).arrAt_eq_of_covers 8 _ (by decide +kernel) fun t hf y => ?_
  have h0 : ∀ t : Fin cfg0.N, win0_8.index t 0 = 0 ∧ win0_8.index t 1 = 0 := (by decide +kernel : ∀ t : Fin grid0.N, win0_8.index t 0 = 0 ∧ win0_8.index t 1 = 0)
  have h0 := h0 t
  have e : (dats m 0 c).after 8 t y = G8 m c y := by
    show out0_A_8 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) y = _
    rw [o8, blk0]
    unfold G8 GM
    rfl
  refine e.trans ?_
  refine congrArg (G8 m c) ?_
  blk_ext [V]
end Cert.Proof.ReferenceIdeal
end
-- ==== Proof.H4.lean ====
module
public import proofs.«01_k».proof.Proof.H1
@[expose] public section
noncomputable section
namespace Cert.Proof.ReferenceIdeal
open Cert.ReferenceIdeal Cert.ReferenceIdeal.Gen
open Idealize.ShloMosaic

variable (m : (ℓ : Loc nD τ sig) → Buf (Elt Ideal) ℓ) (c : Dev nD)
theorem arr4 : (dats m 0 c).arrAt 4 cfg0.N = G4 m c := by
  refine (dats m 0 c).arrAt_eq_of_covers 4 _ (by decide +kernel) fun t hf y => ?_
  have h0 : ∀ t : Fin cfg0.N, win0_4.index t 0 = 0 ∧ win0_4.index t 1 = 0 := (by decide +kernel : ∀ t : Fin grid0.N, win0_4.index t 0 = 0 ∧ win0_4.index t 1 = 0)
  have h0 := h0 t
  blk_simp
  simp only [after0_4, outsAt0]
  rw [o4, blk0, blk1, blk2, blk3]
  blk_ext [V]
theorem arr5 : (dats m 0 c).arrAt 5 cfg0.N = G5 m c := by
  refine (dats m 0 c).arrAt_eq_of_covers 5 _ (by decide +kernel) fun t hf y => ?_
  have h0 : ∀ t : Fin cfg0.N, win0_5.index t 0 = 0 ∧ win0_5.index t 1 = 0 := (by decide +kernel : ∀ t : Fin grid0.N, win0_5.index t 0 = 0 ∧ win0_5.index t 1 = 0)
  have h0 := h0 t
  blk_simp
  simp only [after0_5, outsAt0]
  rw [o5, blk0, blk2]
  blk_ext [V]
end Cert.Proof.ReferenceIdeal
end
-- ==== Proof.lean ====
module
public import proofs.«01_k».proof.Defs
public import proofs.«01_k».proof.Proof.M1
public import proofs.«01_k».proof.Proof.H3
public import proofs.«01_k».proof.Proof.H4
public import proofs.«01_k».proof.Proof.Gen.Pre_pre
public import Idealize.ShloMosaic.Lib.Claim

@[expose] public section

noncomputable section

namespace Cert.Proof

open Idealize.ShloMosaic Idealize.ShloMosaic.TcCoe Idealize.SL.Sem
open Cert.Proof.KernelIdeal (PermOk gmOf wsOf En K2 K3 K4)

/-- Under the precondition the order the kernel computes is a permutation on every device. -/
theorem perm {m : (ℓ : Loc Cert.KernelIdeal.nD Cert.KernelIdeal.τ Cert.KernelIdeal.sig) → Buf (Elt Ideal) ℓ} (hp : Cert.Pre_KernelIdeal (hPre_pre := Cert.Pre_pre.Gen.facts) m) (c : Dev Cert.KernelIdeal.nD) : PermOk (gmOf m c) := by
  rw [KernelIdeal.gmOf_eq]
  exact KernelIdeal.permI (KernelIdeal.pre_nn (hp c))

/-- The kernel's values of a device, in the terms of the reference's arguments. -/
theorem agree {m : (ℓ : Loc Cert.KernelIdeal.nD Cert.KernelIdeal.τ Cert.KernelIdeal.sig) → Buf (Elt Ideal) ℓ} {m' : (ℓ : Loc Cert.ReferenceIdeal.nD Cert.ReferenceIdeal.τ Cert.ReferenceIdeal.sig) → Buf (Elt Ideal) ℓ}
    (h : ∀ c, PermOk (gmOf m c)) (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (ReferenceIdeal.G4 m' c : Vec Ideal Cert.KernelIdeal.S40960x8960 .fp8e4m3) = KernelIdeal.yG (En m h c) (Cert.KernelIdeal.Gen.k0_pay437 (F := Ideal))
    ∧ (ReferenceIdeal.G5 m' c : Vec Ideal Cert.KernelIdeal.S40960x1536 .fp8e4m3) = KernelIdeal.cG (En m h c)
    ∧ (ReferenceIdeal.G6 m' c : Vec Ideal Cert.KernelIdeal.S1x1 .f32) = K2 m h c
    ∧ (ReferenceIdeal.G7 m' c : Vec Ideal Cert.KernelIdeal.S1x1 .f32) = K3 m h c
    ∧ (ReferenceIdeal.G8 m' c : Vec Ideal Cert.KernelIdeal.S1x1 .f32) = K4 m c := by
  have g0 : ReferenceIdeal.GM m' c = gmOf m c := a0.trans (KernelIdeal.gmOf_eq m c).symm
  have g1 : ReferenceIdeal.WS m' c = wsOf m c (ValueIdx.ix2 0 0) := congrFun (a1.trans (KernelIdeal.wsOf_eq m c).symm) (ValueIdx.ix2 0 0)
  have hX : (En m h c).X = ReferenceIdeal.XX m' c := a2.symm
  have hW : (En m h c).W = ReferenceIdeal.WW m' c := a3.symm
  have hxi : (En m h c).xi (ValueIdx.ix2 0 0) = KernelIdeal.IV (KernelIdeal.MG (ReferenceIdeal.GM m' c)) := by
    rw [g0]; exact KernelIdeal.pay428_at (gmOf m c)
  have hym : (En m h c).ym = (KernelIdeal.SC (KernelIdeal.MG (ReferenceIdeal.GM m' c)) * ReferenceIdeal.WS m' c : EReal) := by
    rw [g0, g1]; exact KernelIdeal.pay427_at (gmOf m c) _
  have hm := max_eq hX hW hxi hym
  refine ⟨(y_eq hX hW hxi hym).symm, (c_eq hX hxi).symm, ?_, ?_, ?_⟩
  · unfold ReferenceIdeal.G6 K2
    rw [hm]
    exact funext fun _ => ReferenceIdeal.pay2_at _
  · unfold ReferenceIdeal.G7 K3
    rw [hm]
  · unfold ReferenceIdeal.G8 K4
    rw [g0]
    exact funext fun _ => ReferenceIdeal.pay5_at _

/-- The main call's claims. -/
theorem claim : Cert.Claim := ⟨Cert.KernelIdeal.Gen.facts, Cert.ReferenceIdeal.Gen.facts, Cert.Pre_pre.Gen.facts, by
  refine ⟨?_, ?_, ?_⟩
  · intro m g hp
    refine (θ_run _ _ _).mono (fun r hr => ?_) (KernelIdeal.run m (perm hp) g)
    exact ⟨fun c => (KernelIdeal.post m (perm hp) c hr.1).2.2.2.2.2, hr.2⟩
  · intro m g _
    exact Cert.ReferenceIdeal.Gen.frame m g
  · intro m g m' g' hp ha
    refine ⟨fun c => KernelIdeal.yG (En m (perm hp) c) (Cert.KernelIdeal.Gen.k0_pay437 (F := Ideal)), fun c => KernelIdeal.cG (En m (perm hp) c), K2 m (perm hp), K3 m (perm hp), K4 m, ?_, ?_⟩
    · exact (θ_run _ _ _).mono (fun r hr c => KernelIdeal.post m (perm hp) c hr.1) (KernelIdeal.run m (perm hp) g)
    · refine (θ_run _ _ _).mono (fun r hr c => ?_) (Cert.ReferenceIdeal.Value.run_blocks m' g')
      have ag := agree (m' := m') (perm hp) c (ha c).1 (ha c).2.1 (ha c).2.2.1 (ha c).2.2.2
      have h := hr c
      exact ⟨h.1.trans ((ReferenceIdeal.arr4 m' c).trans ag.1), h.2.1.trans ((ReferenceIdeal.arr5 m' c).trans ag.2.1), h.2.2.1.trans ((ReferenceIdeal.arr6 m' c).trans ag.2.2.1),
        h.2.2.2.1.trans ((ReferenceIdeal.arr7 m' c).trans ag.2.2.2.1), h.2.2.2.2.1.trans ((ReferenceIdeal.arr8 m' c).trans ag.2.2.2.2), h.2.2.2.2.2⟩⟩

end Cert.Proof

end
